-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_BranchOut (m : (ℓ : Loc Cert.BranchOut.nD Cert.BranchOut.τ Cert.BranchOut.sig) → Buf (Elt Bits) ℓ) : Prop :=
  True

def Pre_BranchOutIdeal (m : (ℓ : Loc Cert.BranchOutIdeal.nD Cert.BranchOutIdeal.τ Cert.BranchOutIdeal.sig) → Buf (Elt Ideal) ℓ) : Prop :=
  True

def Pre_BranchOutReferenceIdeal (m : (ℓ : Loc Cert.BranchOutReferenceIdeal.nD Cert.BranchOutReferenceIdeal.τ Cert.BranchOutReferenceIdeal.sig) → Buf (Elt Ideal) ℓ) : Prop :=
  True

def Pre_BranchWeight (m : (ℓ : Loc Cert.BranchWeight.nD Cert.BranchWeight.τ Cert.BranchWeight.sig) → Buf (Elt Bits) ℓ) : Prop :=
  True

def Pre_BranchWeightIdeal (m : (ℓ : Loc Cert.BranchWeightIdeal.nD Cert.BranchWeightIdeal.τ Cert.BranchWeightIdeal.sig) → Buf (Elt Ideal) ℓ) : Prop :=
  True

def Pre_BranchWeightReferenceIdeal (m : (ℓ : Loc Cert.BranchWeightReferenceIdeal.nD Cert.BranchWeightReferenceIdeal.τ Cert.BranchWeightReferenceIdeal.sig) → Buf (Elt Ideal) ℓ) : Prop :=
  True

def Pre_GateWeight (m : (ℓ : Loc Cert.GateWeight.nD Cert.GateWeight.τ Cert.GateWeight.sig) → Buf (Elt Bits) ℓ) : Prop :=
  True

def Pre_GateWeightIdeal (m : (ℓ : Loc Cert.GateWeightIdeal.nD Cert.GateWeightIdeal.τ Cert.GateWeightIdeal.sig) → Buf (Elt Ideal) ℓ) : Prop :=
  True

def Pre_GateWeightReferenceIdeal (m : (ℓ : Loc Cert.GateWeightReferenceIdeal.nD Cert.GateWeightReferenceIdeal.τ Cert.GateWeightReferenceIdeal.sig) → Buf (Elt Ideal) ℓ) : Prop :=
  True

def Pre_GateInput (m : (ℓ : Loc Cert.GateInput.nD Cert.GateInput.τ Cert.GateInput.sig) → Buf (Elt Bits) ℓ) : Prop :=
  True

def Pre_GateInputIdeal (m : (ℓ : Loc Cert.GateInputIdeal.nD Cert.GateInputIdeal.τ Cert.GateInputIdeal.sig) → Buf (Elt Ideal) ℓ) : Prop :=
  True

def Pre_GateInputReferenceIdeal (m : (ℓ : Loc Cert.GateInputReferenceIdeal.nD Cert.GateInputReferenceIdeal.τ Cert.GateInputReferenceIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightReferenceIdeal (m : (ℓ : Loc Cert.OutWeightReferenceIdeal.nD Cert.OutWeightReferenceIdeal.τ Cert.OutWeightReferenceIdeal.sig) → Buf (Elt Ideal) ℓ) : Prop :=
  True

def Pre_MergedGradient (m : (ℓ : Loc Cert.MergedGradient.nD Cert.MergedGradient.τ Cert.MergedGradient.sig) → Buf (Elt Bits) ℓ) : Prop :=
  True

def Pre_MergedGradientIdeal (m : (ℓ : Loc Cert.MergedGradientIdeal.nD Cert.MergedGradientIdeal.τ Cert.MergedGradientIdeal.sig) → Buf (Elt Ideal) ℓ) : Prop :=
  True

def Pre_MergedGradientReferenceIdeal (m : (ℓ : Loc Cert.MergedGradientReferenceIdeal.nD Cert.MergedGradientReferenceIdeal.τ Cert.MergedGradientReferenceIdeal.sig) → Buf (Elt Ideal) ℓ) : Prop :=
  True

def Pre_OutProjection (m : (ℓ : Loc Cert.OutProjection.nD Cert.OutProjection.τ Cert.OutProjection.sig) → Buf (Elt Bits) ℓ) : Prop :=
  True

def Pre_OutProjectionIdeal (m : (ℓ : Loc Cert.OutProjectionIdeal.nD Cert.OutProjectionIdeal.τ Cert.OutProjectionIdeal.sig) → Buf (Elt Ideal) ℓ) : Prop :=
  True

def Pre_OutProjectionReferenceIdeal (m : (ℓ : Loc Cert.OutProjectionReferenceIdeal.nD Cert.OutProjectionReferenceIdeal.τ Cert.OutProjectionReferenceIdeal.sig) → Buf (Elt Ideal) ℓ) : Prop :=
  True

def Pre_InProjection (m : (ℓ : Loc Cert.InProjection.nD Cert.InProjection.τ Cert.InProjection.sig) → Buf (Elt Bits) ℓ) : Prop :=
  True

def Pre_InProjectionIdeal (m : (ℓ : Loc Cert.InProjectionIdeal.nD Cert.InProjectionIdeal.τ Cert.InProjectionIdeal.sig) → Buf (Elt Ideal) ℓ) : Prop :=
  True

def Pre_InProjectionReferenceIdeal (m : (ℓ : Loc Cert.InProjectionReferenceIdeal.nD Cert.InProjectionReferenceIdeal.τ Cert.InProjectionReferenceIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightReferenceIdeal (m : (ℓ : Loc Cert.InWeightReferenceIdeal.nD Cert.InWeightReferenceIdeal.τ Cert.InWeightReferenceIdeal.sig) → Buf (Elt Ideal) ℓ) : Prop :=
  True

def Pre_HiddenGradient (m : (ℓ : Loc Cert.HiddenGradient.nD Cert.HiddenGradient.τ Cert.HiddenGradient.sig) → Buf (Elt Bits) ℓ) : Prop :=
  True

def Pre_HiddenGradientIdeal (m : (ℓ : Loc Cert.HiddenGradientIdeal.nD Cert.HiddenGradientIdeal.τ Cert.HiddenGradientIdeal.sig) → Buf (Elt Ideal) ℓ) : Prop :=
  True

def Pre_HiddenGradientReferenceIdeal (m : (ℓ : Loc Cert.HiddenGradientReferenceIdeal.nD Cert.HiddenGradientReferenceIdeal.τ Cert.HiddenGradientReferenceIdeal.sig) → Buf (Elt Ideal) ℓ) : Prop :=
  True

def Pre_MemoryKeys (m : (ℓ : Loc Cert.MemoryKeys.nD Cert.MemoryKeys.τ Cert.MemoryKeys.sig) → Buf (Elt Bits) ℓ) : Prop :=
  True

def Pre_MemoryKeysIdeal (m : (ℓ : Loc Cert.MemoryKeysIdeal.nD Cert.MemoryKeysIdeal.τ Cert.MemoryKeysIdeal.sig) → Buf (Elt Ideal) ℓ) : Prop :=
  True

def Pre_MemoryKeysReferenceIdeal (m : (ℓ : Loc Cert.MemoryKeysReferenceIdeal.nD Cert.MemoryKeysReferenceIdeal.τ Cert.MemoryKeysReferenceIdeal.sig) → Buf (Elt Ideal) ℓ) : Prop :=
  True

def Pre_MemoryWeight (m : (ℓ : Loc Cert.MemoryWeight.nD Cert.MemoryWeight.τ Cert.MemoryWeight.sig) → Buf (Elt Bits) ℓ) : Prop :=
  True

def Pre_MemoryWeightIdeal (m : (ℓ : Loc Cert.MemoryWeightIdeal.nD Cert.MemoryWeightIdeal.τ Cert.MemoryWeightIdeal.sig) → Buf (Elt Ideal) ℓ) : Prop :=
  True

def Pre_MemoryWeightReferenceIdeal (m : (ℓ : Loc Cert.MemoryWeightReferenceIdeal.nD Cert.MemoryWeightReferenceIdeal.τ Cert.MemoryWeightReferenceIdeal.sig) → Buf (Elt Ideal) ℓ) : Prop :=
  True

def Pre_MemoryGradient (m : (ℓ : Loc Cert.MemoryGradient.nD Cert.MemoryGradient.τ Cert.MemoryGradient.sig) → Buf (Elt Bits) ℓ) : Prop :=
  True

def Pre_MemoryGradientIdeal (m : (ℓ : Loc Cert.MemoryGradientIdeal.nD Cert.MemoryGradientIdeal.τ Cert.MemoryGradientIdeal.sig) → Buf (Elt Ideal) ℓ) : Prop :=
  True

def Pre_MemoryGradientReferenceIdeal (m : (ℓ : Loc Cert.MemoryGradientReferenceIdeal.nD Cert.MemoryGradientReferenceIdeal.τ Cert.MemoryGradientReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_GluWeight (m : (ℓ : Loc Cert.GluWeight.nD Cert.GluWeight.τ Cert.GluWeight.sig) → Buf (Elt Bits) ℓ) : Prop :=
  True

def Pre_GluWeightIdeal (m : (ℓ : Loc Cert.GluWeightIdeal.nD Cert.GluWeightIdeal.τ Cert.GluWeightIdeal.sig) → Buf (Elt Ideal) ℓ) : Prop :=
  True

def Pre_GluWeightReferenceIdeal (m : (ℓ : Loc Cert.GluWeightReferenceIdeal.nD Cert.GluWeightReferenceIdeal.τ Cert.GluWeightReferenceIdeal.sig) → Buf (Elt Ideal) ℓ) : Prop :=
  True

def Pre_GluInput (m : (ℓ : Loc Cert.GluInput.nD Cert.GluInput.τ Cert.GluInput.sig) → Buf (Elt Bits) ℓ) : Prop :=
  True

def Pre_GluInputIdeal (m : (ℓ : Loc Cert.GluInputIdeal.nD Cert.GluInputIdeal.τ Cert.GluInputIdeal.sig) → Buf (Elt Ideal) ℓ) : Prop :=
  True

def Pre_GluInputReferenceIdeal (m : (ℓ : Loc Cert.GluInputReferenceIdeal.nD Cert.GluInputReferenceIdeal.τ Cert.GluInputReferenceIdeal.sig) → Buf (Elt Ideal) ℓ) : Prop :=
  True

def Pre_GluGate (m : (ℓ : Loc Cert.GluGate.nD Cert.GluGate.τ Cert.GluGate.sig) → Buf (Elt Bits) ℓ) : Prop :=
  True

def Pre_GluGateIdeal (m : (ℓ : Loc Cert.GluGateIdeal.nD Cert.GluGateIdeal.τ Cert.GluGateIdeal.sig) → Buf (Elt Ideal) ℓ) : Prop :=
  True

def Pre_GluGateReferenceIdeal (m : (ℓ : Loc Cert.GluGateReferenceIdeal.nD Cert.GluGateReferenceIdeal.τ Cert.GluGateReferenceIdeal.sig) → Buf (Elt Ideal) ℓ) : Prop :=
  True

def Pre_SkipGelu (m : (ℓ : Loc Cert.SkipGelu.nD Cert.SkipGelu.τ Cert.SkipGelu.sig) → Buf (Elt Bits) ℓ) : Prop :=
  True

def Pre_SkipGeluIdeal (m : (ℓ : Loc Cert.SkipGeluIdeal.nD Cert.SkipGeluIdeal.τ Cert.SkipGeluIdeal.sig) → Buf (Elt Ideal) ℓ) : Prop :=
  True

def Pre_SkipGeluReferenceIdeal (m : (ℓ : Loc Cert.SkipGeluReferenceIdeal.nD Cert.SkipGeluReferenceIdeal.τ Cert.SkipGeluReferenceIdeal.sig) → Buf (Elt Ideal) ℓ) : Prop :=
  True

def Pre_RecurrenceGate (m : (ℓ : Loc Cert.RecurrenceGate.nD Cert.RecurrenceGate.τ Cert.RecurrenceGate.sig) → Buf (Elt Bits) ℓ) : Prop :=
  True

def Pre_RecurrenceGateIdeal (m : (ℓ : Loc Cert.RecurrenceGateIdeal.nD Cert.RecurrenceGateIdeal.τ Cert.RecurrenceGateIdeal.sig) → Buf (Elt Ideal) ℓ) : Prop :=
  True

def Pre_RecurrenceGateReferenceIdeal (m : (ℓ : Loc Cert.RecurrenceGateReferenceIdeal.nD Cert.RecurrenceGateReferenceIdeal.τ Cert.RecurrenceGateReferenceIdeal.sig) → Buf (Elt Ideal) ℓ) : Prop :=
  True

def Pre_DeltaOutput (m : (ℓ : Loc Cert.DeltaOutput.nD Cert.DeltaOutput.τ Cert.DeltaOutput.sig) → Buf (Elt Bits) ℓ) : Prop :=
  True

def Pre_DeltaOutputIdeal (m : (ℓ : Loc Cert.DeltaOutputIdeal.nD Cert.DeltaOutputIdeal.τ Cert.DeltaOutputIdeal.sig) → Buf (Elt Ideal) ℓ) : Prop :=
  True

def Pre_DeltaOutputReferenceIdeal (m : (ℓ : Loc Cert.DeltaOutputReferenceIdeal.nD Cert.DeltaOutputReferenceIdeal.τ Cert.DeltaOutputReferenceIdeal.sig) → Buf (Elt Ideal) ℓ) : Prop :=
  True

def Pre_NormGradient (m : (ℓ : Loc Cert.NormGradient.nD Cert.NormGradient.τ Cert.NormGradient.sig) → Buf (Elt Bits) ℓ) : Prop :=
  True

def Pre_NormGradientIdeal (m : (ℓ : Loc Cert.NormGradientIdeal.nD Cert.NormGradientIdeal.τ Cert.NormGradientIdeal.sig) → Buf (Elt Ideal) ℓ) : Prop :=
  True

def Pre_NormGradientReferenceIdeal (m : (ℓ : Loc Cert.NormGradientReferenceIdeal.nD Cert.NormGradientReferenceIdeal.τ Cert.NormGradientReferenceIdeal.sig) → Buf (Elt Ideal) ℓ) : Prop :=
  True

def Pre_MemoryNorm (m : (ℓ : Loc Cert.MemoryNorm.nD Cert.MemoryNorm.τ Cert.MemoryNorm.sig) → Buf (Elt Bits) ℓ) : Prop :=
  True

def Pre_MemoryNormIdeal (m : (ℓ : Loc Cert.MemoryNormIdeal.nD Cert.MemoryNormIdeal.τ Cert.MemoryNormIdeal.sig) → Buf (Elt Ideal) ℓ) : Prop :=
  True

def Pre_MemoryNormReferenceIdeal (m : (ℓ : Loc Cert.MemoryNormReferenceIdeal.nD Cert.MemoryNormReferenceIdeal.τ Cert.MemoryNormReferenceIdeal.sig) → Buf (Elt Ideal) ℓ) : Prop :=
  True

def Pre_MergeForward (m : (ℓ : Loc Cert.MergeForward.nD Cert.MergeForward.τ Cert.MergeForward.sig) → Buf (Elt Bits) ℓ) : Prop :=
  True

def Pre_MergeForwardIdeal (m : (ℓ : Loc Cert.MergeForwardIdeal.nD Cert.MergeForwardIdeal.τ Cert.MergeForwardIdeal.sig) → Buf (Elt Ideal) ℓ) : Prop :=
  True

def Pre_MergeForwardReferenceIdeal (m : (ℓ : Loc Cert.MergeForwardReferenceIdeal.nD Cert.MergeForwardReferenceIdeal.τ Cert.MergeForwardReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_DeltaGates (m : (ℓ : Loc Cert.DeltaGates.nD Cert.DeltaGates.τ Cert.DeltaGates.sig) → Buf (Elt Bits) ℓ) : Prop :=
  True

def Pre_DeltaGatesIdeal (m : (ℓ : Loc Cert.DeltaGatesIdeal.nD Cert.DeltaGatesIdeal.τ Cert.DeltaGatesIdeal.sig) → Buf (Elt Ideal) ℓ) : Prop :=
  True

def Pre_DeltaGatesReferenceIdeal (m : (ℓ : Loc Cert.DeltaGatesReferenceIdeal.nD Cert.DeltaGatesReferenceIdeal.τ Cert.DeltaGatesReferenceIdeal.sig) → Buf (Elt Ideal) ℓ) : Prop :=
  True

def Pre_DeltaKeys (m : (ℓ : Loc Cert.DeltaKeys.nD Cert.DeltaKeys.τ Cert.DeltaKeys.sig) → Buf (Elt Bits) ℓ) : Prop :=
  True

def Pre_DeltaKeysIdeal (m : (ℓ : Loc Cert.DeltaKeysIdeal.nD Cert.DeltaKeysIdeal.τ Cert.DeltaKeysIdeal.sig) → Buf (Elt Ideal) ℓ) : Prop :=
  True

def Pre_DeltaKeysReferenceIdeal (m : (ℓ : Loc Cert.DeltaKeysReferenceIdeal.nD Cert.DeltaKeysReferenceIdeal.τ Cert.DeltaKeysReferenceIdeal.sig) → Buf (Elt Ideal) ℓ) : Prop :=
  True

def Pre_DeltaValues (m : (ℓ : Loc Cert.DeltaValues.nD Cert.DeltaValues.τ Cert.DeltaValues.sig) → Buf (Elt Bits) ℓ) : Prop :=
  True

def Pre_DeltaValuesIdeal (m : (ℓ : Loc Cert.DeltaValuesIdeal.nD Cert.DeltaValuesIdeal.τ Cert.DeltaValuesIdeal.sig) → Buf (Elt Ideal) ℓ) : Prop :=
  True

def Pre_DeltaValuesReferenceIdeal (m : (ℓ : Loc Cert.DeltaValuesReferenceIdeal.nD Cert.DeltaValuesReferenceIdeal.τ Cert.DeltaValuesReferenceIdeal.sig) → Buf (Elt Ideal) ℓ) : Prop :=
  True

def Pre_Discretise (m : (ℓ : Loc Cert.Discretise.nD Cert.Discretise.τ Cert.Discretise.sig) → Buf (Elt Bits) ℓ) : Prop :=
  True

def Pre_DiscretiseIdeal (m : (ℓ : Loc Cert.DiscretiseIdeal.nD Cert.DiscretiseIdeal.τ Cert.DiscretiseIdeal.sig) → Buf (Elt Ideal) ℓ) : Prop :=
  True

def Pre_DiscretiseReferenceIdeal (m : (ℓ : Loc Cert.DiscretiseReferenceIdeal.nD Cert.DiscretiseReferenceIdeal.τ Cert.DiscretiseReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamDeltaConv (m : (ℓ : Loc Cert.AdamDeltaConv.nD Cert.AdamDeltaConv.τ Cert.AdamDeltaConv.sig) → Buf (Elt Bits) ℓ) : Prop :=
  True

def Pre_AdamDeltaConvIdeal (m : (ℓ : Loc Cert.AdamDeltaConvIdeal.nD Cert.AdamDeltaConvIdeal.τ Cert.AdamDeltaConvIdeal.sig) → Buf (Elt Ideal) ℓ) : Prop :=
  True

def Pre_AdamDeltaConvReferenceIdeal (m : (ℓ : Loc Cert.AdamDeltaConvReferenceIdeal.nD Cert.AdamDeltaConvReferenceIdeal.τ Cert.AdamDeltaConvReferenceIdeal.sig) → Buf (Elt Ideal) ℓ) : Prop :=
  True

def Pre_AdamRecurrenceConv (m : (ℓ : Loc Cert.AdamRecurrenceConv.nD Cert.AdamRecurrenceConv.τ Cert.AdamRecurrenceConv.sig) → Buf (Elt Bits) ℓ) : Prop :=
  True

def Pre_AdamRecurrenceConvIdeal (m : (ℓ : Loc Cert.AdamRecurrenceConvIdeal.nD Cert.AdamRecurrenceConvIdeal.τ Cert.AdamRecurrenceConvIdeal.sig) → Buf (Elt Ideal) ℓ) : Prop :=
  True

def Pre_AdamRecurrenceConvReferenceIdeal (m : (ℓ : Loc Cert.AdamRecurrenceConvReferenceIdeal.nD Cert.AdamRecurrenceConvReferenceIdeal.τ Cert.AdamRecurrenceConvReferenceIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluReferenceIdeal (m : (ℓ : Loc Cert.AdamGluReferenceIdeal.nD Cert.AdamGluReferenceIdeal.τ Cert.AdamGluReferenceIdeal.sig) → Buf (Elt Ideal) ℓ) : Prop :=
  True

def Pre_AdamMemory (m : (ℓ : Loc Cert.AdamMemory.nD Cert.AdamMemory.τ Cert.AdamMemory.sig) → Buf (Elt Bits) ℓ) : Prop :=
  True

def Pre_AdamMemoryIdeal (m : (ℓ : Loc Cert.AdamMemoryIdeal.nD Cert.AdamMemoryIdeal.τ Cert.AdamMemoryIdeal.sig) → Buf (Elt Ideal) ℓ) : Prop :=
  True

def Pre_AdamMemoryReferenceIdeal (m : (ℓ : Loc Cert.AdamMemoryReferenceIdeal.nD Cert.AdamMemoryReferenceIdeal.τ Cert.AdamMemoryReferenceIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateReferenceIdeal (m : (ℓ : Loc Cert.AdamGateReferenceIdeal.nD Cert.AdamGateReferenceIdeal.τ Cert.AdamGateReferenceIdeal.sig) → Buf (Elt Ideal) ℓ) : Prop :=
  True

def Pre_AdamGateBias (m : (ℓ : Loc Cert.AdamGateBias.nD Cert.AdamGateBias.τ Cert.AdamGateBias.sig) → Buf (Elt Bits) ℓ) : Prop :=
  True

def Pre_AdamGateBiasIdeal (m : (ℓ : Loc Cert.AdamGateBiasIdeal.nD Cert.AdamGateBiasIdeal.τ Cert.AdamGateBiasIdeal.sig) → Buf (Elt Ideal) ℓ) : Prop :=
  True

def Pre_AdamGateBiasReferenceIdeal (m : (ℓ : Loc Cert.AdamGateBiasReferenceIdeal.nD Cert.AdamGateBiasReferenceIdeal.τ Cert.AdamGateBiasReferenceIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchReferenceIdeal (m : (ℓ : Loc Cert.AdamBranchReferenceIdeal.nD Cert.AdamBranchReferenceIdeal.τ Cert.AdamBranchReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamRest (m : (ℓ : Loc Cert.AdamRest.nD Cert.AdamRest.τ Cert.AdamRest.sig) → Buf (Elt Bits) ℓ) : Prop :=
  True

def Pre_AdamRestIdeal (m : (ℓ : Loc Cert.AdamRestIdeal.nD Cert.AdamRestIdeal.τ Cert.AdamRestIdeal.sig) → Buf (Elt Ideal) ℓ) : Prop :=
  True

def Pre_AdamRestReferenceIdeal (m : (ℓ : Loc Cert.AdamRestReferenceIdeal.nD Cert.AdamRestReferenceIdeal.τ Cert.AdamRestReferenceIdeal.sig) → Buf (Elt Ideal) ℓ) : Prop :=
  True

def Pre_StateWeight (m : (ℓ : Loc Cert.StateWeight.nD Cert.StateWeight.τ Cert.StateWeight.sig) → Buf (Elt Bits) ℓ) : Prop :=
  True

def Pre_StateWeightIdeal (m : (ℓ : Loc Cert.StateWeightIdeal.nD Cert.StateWeightIdeal.τ Cert.StateWeightIdeal.sig) → Buf (Elt Ideal) ℓ) : Prop :=
  True

def Pre_StateWeightReferenceIdeal (m : (ℓ : Loc Cert.StateWeightReferenceIdeal.nD Cert.StateWeightReferenceIdeal.τ Cert.StateWeightReferenceIdeal.sig) → Buf (Elt Ideal) ℓ) : Prop :=
  True

def Pre_RecurrenceInput (m : (ℓ : Loc Cert.RecurrenceInput.nD Cert.RecurrenceInput.τ Cert.RecurrenceInput.sig) → Buf (Elt Bits) ℓ) : Prop :=
  True

def Pre_RecurrenceInputIdeal (m : (ℓ : Loc Cert.RecurrenceInputIdeal.nD Cert.RecurrenceInputIdeal.τ Cert.RecurrenceInputIdeal.sig) → Buf (Elt Ideal) ℓ) : Prop :=
  True

def Pre_RecurrenceInputReferenceIdeal (m : (ℓ : Loc Cert.RecurrenceInputReferenceIdeal.nD Cert.RecurrenceInputReferenceIdeal.τ Cert.RecurrenceInputReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_BranchOut [hBranchOut : Cert.BranchOut.Facts] : Prop :=
  ∀ (m : (ℓ : Loc Cert.BranchOut.nD Cert.BranchOut.τ Cert.BranchOut.sig) → Buf (Elt Bits) ℓ) (g : Dev Cert.BranchOut.nD → PrngReg), Pre_BranchOut m →
    θ_run (Cert.BranchOut.defs (F := Bits)) (onTc (τ := Cert.BranchOut.τ) (Cert.BranchOut.main (F := Bits))) ⟨m, fun _ => 0, g⟩ (fun r => (∀ c : Dev Cert.BranchOut.nD,
      r.2.mem ((c.tc : Thread Cert.BranchOut.nD Cert.BranchOut.τ).loc Cert.BranchOut.main_arg0) = m ((c.tc : Thread Cert.BranchOut.nD Cert.BranchOut.τ).loc Cert.BranchOut.main_arg0)
      ∧ r.2.mem ((c.tc : Thread Cert.BranchOut.nD Cert.BranchOut.τ).loc Cert.BranchOut.main_arg1) = m ((c.tc : Thread Cert.BranchOut.nD Cert.BranchOut.τ).loc Cert.BranchOut.main_arg1))
      ∧ r.2.sem = fun _ => 0)

def quiescent_BranchOutIdeal [hBranchOutIdeal : Cert.BranchOutIdeal.Facts] : Prop :=
  ∀ (m : (ℓ : Loc Cert.BranchOutIdeal.nD Cert.BranchOutIdeal.τ Cert.BranchOutIdeal.sig) → Buf (Elt Ideal) ℓ) (g : Dev Cert.BranchOutIdeal.nD → PrngReg), Pre_BranchOutIdeal m →
    θ_run (Cert.BranchOutIdeal.defs (F := Ideal)) (onTc (τ := Cert.BranchOutIdeal.τ) (Cert.BranchOutIdeal.main (F := Ideal))) ⟨m, fun _ => 0, g⟩ (fun r => (∀ c : Dev Cert.BranchOutIdeal.nD,
      r.2.mem ((c.tc : Thread Cert.BranchOutIdeal.nD Cert.BranchOutIdeal.τ).loc Cert.BranchOutIdeal.main_arg0) = m ((c.tc : Thread Cert.BranchOutIdeal.nD Cert.BranchOutIdeal.τ).loc Cert.BranchOutIdeal.main_arg0)
      ∧ r.2.mem ((c.tc : Thread Cert.BranchOutIdeal.nD Cert.BranchOutIdeal.τ).loc Cert.BranchOutIdeal.main_arg1) = m ((c.tc : Thread Cert.BranchOutIdeal.nD Cert.BranchOutIdeal.τ).loc Cert.BranchOutIdeal.main_arg1))
      ∧ r.2.sem = fun _ => 0)

def quiescent_BranchOutReferenceIdeal [hBranchOutReferenceIdeal : Cert.BranchOutReferenceIdeal.Facts] : Prop :=
  ∀ (m : (ℓ : Loc Cert.BranchOutReferenceIdeal.nD Cert.BranchOutReferenceIdeal.τ Cert.BranchOutReferenceIdeal.sig) → Buf (Elt Ideal) ℓ) (g : Dev Cert.BranchOutReferenceIdeal.nD → PrngReg), Pre_BranchOutReferenceIdeal m →
    θ_run (Cert.BranchOutReferenceIdeal.defs (F := Ideal)) (onTc (τ := Cert.BranchOutReferenceIdeal.τ) (Cert.BranchOutReferenceIdeal.main (F := Ideal))) ⟨m, fun _ => 0, g⟩ (fun r => (∀ c : Dev Cert.BranchOutReferenceIdeal.nD,
      r.2.mem ((c.tc : Thread Cert.BranchOutReferenceIdeal.nD Cert.BranchOutReferenceIdeal.τ).loc Cert.BranchOutReferenceIdeal.main_arg0) = m ((c.tc : Thread Cert.BranchOutReferenceIdeal.nD Cert.BranchOutReferenceIdeal.τ).loc Cert.BranchOutReferenceIdeal.main_arg0)
      ∧ r.2.mem ((c.tc : Thread Cert.BranchOutReferenceIdeal.nD Cert.BranchOutReferenceIdeal.τ).loc Cert.BranchOutReferenceIdeal.main_arg1) = m ((c.tc : Thread Cert.BranchOutReferenceIdeal.nD Cert.BranchOutReferenceIdeal.τ).loc Cert.BranchOutReferenceIdeal.main_arg1))
      ∧ r.2.sem = fun _ => 0)

def quiescent_BranchWeight [hBranchWeight : Cert.BranchWeight.Facts] : Prop :=
  ∀ (m : (ℓ : Loc Cert.BranchWeight.nD Cert.BranchWeight.τ Cert.BranchWeight.sig) → Buf (Elt Bits) ℓ) (g : Dev Cert.BranchWeight.nD → PrngReg), Pre_BranchWeight m →
    θ_run (Cert.BranchWeight.defs (F := Bits)) (onTc (τ := Cert.BranchWeight.τ) (Cert.BranchWeight.main (F := Bits))) ⟨m, fun _ => 0, g⟩ (fun r => (∀ c : Dev Cert.BranchWeight.nD,
      r.2.mem ((c.tc : Thread Cert.BranchWeight.nD Cert.BranchWeight.τ).loc Cert.BranchWeight.main_arg0) = m ((c.tc : Thread Cert.BranchWeight.nD Cert.BranchWeight.τ).loc Cert.BranchWeight.main_arg0)
      ∧ r.2.mem ((c.tc : Thread Cert.BranchWeight.nD Cert.BranchWeight.τ).loc Cert.BranchWeight.main_arg1) = m ((c.tc : Thread Cert.BranchWeight.nD Cert.BranchWeight.τ).loc Cert.BranchWeight.main_arg1))
      ∧ r.2.sem = fun _ => 0)

def quiescent_BranchWeightIdeal [hBranchWeightIdeal : Cert.BranchWeightIdeal.Facts] : Prop :=
  ∀ (m : (ℓ : Loc Cert.BranchWeightIdeal.nD Cert.BranchWeightIdeal.τ Cert.BranchWeightIdeal.sig) → Buf (Elt Ideal) ℓ) (g : Dev Cert.BranchWeightIdeal.nD → PrngReg), Pre_BranchWeightIdeal m →
    θ_run (Cert.BranchWeightIdeal.defs (F := Ideal)) (onTc (τ := Cert.BranchWeightIdeal.τ) (Cert.BranchWeightIdeal.main (F := Ideal))) ⟨m, fun _ => 0, g⟩ (fun r => (∀ c : Dev Cert.BranchWeightIdeal.nD,
      r.2.mem ((c.tc : Thread Cert.BranchWeightIdeal.nD Cert.BranchWeightIdeal.τ).loc Cert.BranchWeightIdeal.main_arg0) = m ((c.tc : Thread Cert.BranchWeightIdeal.nD Cert.BranchWeightIdeal.τ).loc Cert.BranchWeightIdeal.main_arg0)
      ∧ r.2.mem ((c.tc : Thread Cert.BranchWeightIdeal.nD Cert.BranchWeightIdeal.τ).loc Cert.BranchWeightIdeal.main_arg1) = m ((c.tc : Thread Cert.BranchWeightIdeal.nD Cert.BranchWeightIdeal.τ).loc Cert.BranchWeightIdeal.main_arg1))
      ∧ r.2.sem = fun _ => 0)

def quiescent_BranchWeightReferenceIdeal [hBranchWeightReferenceIdeal : Cert.BranchWeightReferenceIdeal.Facts] : Prop :=
  ∀ (m : (ℓ : Loc Cert.BranchWeightReferenceIdeal.nD Cert.BranchWeightReferenceIdeal.τ Cert.BranchWeightReferenceIdeal.sig) → Buf (Elt Ideal) ℓ) (g : Dev Cert.BranchWeightReferenceIdeal.nD → PrngReg), Pre_BranchWeightReferenceIdeal m →
    θ_run (Cert.BranchWeightReferenceIdeal.defs (F := Ideal)) (onTc (τ := Cert.BranchWeightReferenceIdeal.τ) (Cert.BranchWeightReferenceIdeal.main (F := Ideal))) ⟨m, fun _ => 0, g⟩ (fun r => (∀ c : Dev Cert.BranchWeightReferenceIdeal.nD,
      r.2.mem ((c.tc : Thread Cert.BranchWeightReferenceIdeal.nD Cert.BranchWeightReferenceIdeal.τ).loc Cert.BranchWeightReferenceIdeal.main_arg0) = m ((c.tc : Thread Cert.BranchWeightReferenceIdeal.nD Cert.BranchWeightReferenceIdeal.τ).loc Cert.BranchWeightReferenceIdeal.main_arg0)
      ∧ r.2.mem ((c.tc : Thread Cert.BranchWeightReferenceIdeal.nD Cert.BranchWeightReferenceIdeal.τ).loc Cert.BranchWeightReferenceIdeal.main_arg1) = m ((c.tc : Thread Cert.BranchWeightReferenceIdeal.nD Cert.BranchWeightReferenceIdeal.τ).loc Cert.BranchWeightReferenceIdeal.main_arg1))
      ∧ r.2.sem = fun _ => 0)

def quiescent_GateWeight [hGateWeight : Cert.GateWeight.Facts] : Prop :=
  ∀ (m : (ℓ : Loc Cert.GateWeight.nD Cert.GateWeight.τ Cert.GateWeight.sig) → Buf (Elt Bits) ℓ) (g : Dev Cert.GateWeight.nD → PrngReg), Pre_GateWeight m →
    θ_run (Cert.GateWeight.defs (F := Bits)) (onTc (τ := Cert.GateWeight.τ) (Cert.GateWeight.main (F := Bits))) ⟨m, fun _ => 0, g⟩ (fun r => (∀ c : Dev Cert.GateWeight.nD,
      r.2.mem ((c.tc : Thread Cert.GateWeight.nD Cert.GateWeight.τ).loc Cert.GateWeight.main_arg0) = m ((c.tc : Thread Cert.GateWeight.nD Cert.GateWeight.τ).loc Cert.GateWeight.main_arg0)
      ∧ r.2.mem ((c.tc : Thread Cert.GateWeight.nD Cert.GateWeight.τ).loc Cert.GateWeight.main_arg1) = m ((c.tc : Thread Cert.GateWeight.nD Cert.GateWeight.τ).loc Cert.GateWeight.main_arg1))
      ∧ r.2.sem = fun _ => 0)

def quiescent_GateWeightIdeal [hGateWeightIdeal : Cert.GateWeightIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg), Pre_GateWeightIdeal m →
    θ_run (Cert.GateWeightIdeal.defs (F := Ideal)) (onTc (τ := Cert.GateWeightIdeal.τ) (Cert.GateWeightIdeal.main (F := Ideal))) ⟨m, fun _ => 0, g⟩ (fun r => (∀ c : Dev Cert.GateWeightIdeal.nD,
      r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
      ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ r.2.sem = fun _ => 0)

def quiescent_GateWeightReferenceIdeal [hGateWeightReferenceIdeal : Cert.GateWeightReferenceIdeal.Facts] : Prop :=
  ∀ (m : (ℓ : Loc Cert.GateWeightReferenceIdeal.nD Cert.GateWeightReferenceIdeal.τ Cert.GateWeightReferenceIdeal.sig) → Buf (Elt Ideal) ℓ) (g : Dev Cert.GateWeightReferenceIdeal.nD → PrngReg), Pre_GateWeightReferenceIdeal m →
    θ_run (Cert.GateWeightReferenceIdeal.defs (F := Ideal)) (onTc (τ := Cert.GateWeightReferenceIdeal.τ) (Cert.GateWeightReferenceIdeal.main (F := Ideal))) ⟨m, fun _ => 0, g⟩ (fun r => (∀ c : Dev Cert.GateWeightReferenceIdeal.nD,
      r.2.mem ((c.tc : Thread Cert.GateWeightReferenceIdeal.nD Cert.GateWeightReferenceIdeal.τ).loc Cert.GateWeightReferenceIdeal.main_arg0) = m ((c.tc : Thread Cert.GateWeightReferenceIdeal.nD Cert.GateWeightReferenceIdeal.τ).loc Cert.GateWeightReferenceIdeal.main_arg0)
      ∧ r.2.mem ((c.tc : Thread Cert.GateWeightReferenceIdeal.nD Cert.GateWeightReferenceIdeal.τ).loc Cert.GateWeightReferenceIdeal.main_arg1) = m ((c.tc : Thread Cert.GateWeightReferenceIdeal.nD Cert.GateWeightReferenceIdeal.τ).loc Cert.GateWeightReferenceIdeal.main_arg1))
      ∧ r.2.sem = fun _ => 0)

def quiescent_GateInput [hGateInput : Cert.GateInput.Facts] : Prop :=
  ∀ (m : (ℓ : Loc Cert.GateInput.nD Cert.GateInput.τ Cert.GateInput.sig) → Buf (Elt Bits) ℓ) (g : Dev Cert.GateInput.nD → PrngReg), Pre_GateInput m →
    θ_run (Cert.GateInput.defs (F := Bits)) (onTc (τ := Cert.GateInput.τ) (Cert.GateInput.main (F := Bits))) ⟨m, fun _ => 0, g⟩ (fun r => (∀ c : Dev Cert.GateInput.nD,
      r.2.mem ((c.tc : Thread Cert.GateInput.nD Cert.GateInput.τ).loc Cert.GateInput.main_arg0) = m ((c.tc : Thread Cert.GateInput.nD Cert.GateInput.τ).loc Cert.GateInput.main_arg0)
      ∧ r.2.mem ((c.tc : Thread Cert.GateInput.nD Cert.GateInput.τ).loc Cert.GateInput.main_arg1) = m ((c.tc : Thread Cert.GateInput.nD Cert.GateInput.τ).loc Cert.GateInput.main_arg1))
      ∧ r.2.sem = fun _ => 0)

def quiescent_GateInputIdeal [hGateInputIdeal : Cert.GateInputIdeal.Facts] : Prop :=
  ∀ (m : (ℓ : Loc Cert.GateInputIdeal.nD Cert.GateInputIdeal.τ Cert.GateInputIdeal.sig) → Buf (Elt Ideal) ℓ) (g : Dev Cert.GateInputIdeal.nD → PrngReg), Pre_GateInputIdeal m →
    θ_run (Cert.GateInputIdeal.defs (F := Ideal)) (onTc (τ := Cert.GateInputIdeal.τ) (Cert.GateInputIdeal.main (F := Ideal))) ⟨m, fun _ => 0, g⟩ (fun r => (∀ c : Dev Cert.GateInputIdeal.nD,
      r.2.mem ((c.tc : Thread Cert.GateInputIdeal.nD Cert.GateInputIdeal.τ).loc Cert.GateInputIdeal.main_arg0) = m ((c.tc : Thread Cert.GateInputIdeal.nD Cert.GateInputIdeal.τ).loc Cert.GateInputIdeal.main_arg0)
      ∧ r.2.mem ((c.tc : Thread Cert.GateInputIdeal.nD Cert.GateInputIdeal.τ).loc Cert.GateInputIdeal.main_arg1) = m ((c.tc : Thread Cert.GateInputIdeal.nD Cert.GateInputIdeal.τ).loc Cert.GateInputIdeal.main_arg1))
      ∧ r.2.sem = fun _ => 0)

def quiescent_GateInputReferenceIdeal [hGateInputReferenceIdeal : Cert.GateInputReferenceIdeal.Facts] : Prop :=
  ∀ (m : (ℓ : Loc Cert.GateInputReferenceIdeal.nD Cert.GateInputReferenceIdeal.τ Cert.GateInputReferenceIdeal.sig) → Buf (Elt Ideal) ℓ) (g : Dev Cert.GateInputReferenceIdeal.nD → PrngReg), Pre_GateInputReferenceIdeal m →
    θ_run (Cert.GateInputReferenceIdeal.defs (F := Ideal)) (onTc (τ := Cert.GateInputReferenceIdeal.τ) (Cert.GateInputReferenceIdeal.main (F := Ideal))) ⟨m, fun _ => 0, g⟩ (fun r => (∀ c : Dev Cert.GateInputReferenceIdeal.nD,
      r.2.mem ((c.tc : Thread Cert.GateInputReferenceIdeal.nD Cert.GateInputReferenceIdeal.τ).loc Cert.GateInputReferenceIdeal.main_arg0) = m ((c.tc : Thread Cert.GateInputReferenceIdeal.nD Cert.GateInputReferenceIdeal.τ).loc Cert.GateInputReferenceIdeal.main_arg0)
      ∧ r.2.mem ((c.tc : Thread Cert.GateInputReferenceIdeal.nD Cert.GateInputReferenceIdeal.τ).loc Cert.GateInputReferenceIdeal.main_arg1) = m ((c.tc : Thread Cert.GateInputReferenceIdeal.nD Cert.GateInputReferenceIdeal.τ).loc Cert.GateInputReferenceIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightReferenceIdeal [hOutWeightReferenceIdeal : Cert.OutWeightReferenceIdeal.Facts] : Prop :=
  ∀ (m : (ℓ : Loc Cert.OutWeightReferenceIdeal.nD Cert.OutWeightReferenceIdeal.τ Cert.OutWeightReferenceIdeal.sig) → Buf (Elt Ideal) ℓ) (g : Dev Cert.OutWeightReferenceIdeal.nD → PrngReg), Pre_OutWeightReferenceIdeal m →
    θ_run (Cert.OutWeightReferenceIdeal.defs (F := Ideal)) (onTc (τ := Cert.OutWeightReferenceIdeal.τ) (Cert.OutWeightReferenceIdeal.main (F := Ideal))) ⟨m, fun _ => 0, g⟩ (fun r => (∀ c : Dev Cert.OutWeightReferenceIdeal.nD,
      r.2.mem ((c.tc : Thread Cert.OutWeightReferenceIdeal.nD Cert.OutWeightReferenceIdeal.τ).loc Cert.OutWeightReferenceIdeal.main_arg0) = m ((c.tc : Thread Cert.OutWeightReferenceIdeal.nD Cert.OutWeightReferenceIdeal.τ).loc Cert.OutWeightReferenceIdeal.main_arg0)
      ∧ r.2.mem ((c.tc : Thread Cert.OutWeightReferenceIdeal.nD Cert.OutWeightReferenceIdeal.τ).loc Cert.OutWeightReferenceIdeal.main_arg1) = m ((c.tc : Thread Cert.OutWeightReferenceIdeal.nD Cert.OutWeightReferenceIdeal.τ).loc Cert.OutWeightReferenceIdeal.main_arg1))
      ∧ r.2.sem = fun _ => 0)

def quiescent_MergedGradient [hMergedGradient : Cert.MergedGradient.Facts] : Prop :=
  ∀ (m : (ℓ : Loc Cert.MergedGradient.nD Cert.MergedGradient.τ Cert.MergedGradient.sig) → Buf (Elt Bits) ℓ) (g : Dev Cert.MergedGradient.nD → PrngReg), Pre_MergedGradient m →
    θ_run (Cert.MergedGradient.defs (F := Bits)) (onTc (τ := Cert.MergedGradient.τ) (Cert.MergedGradient.main (F := Bits))) ⟨m, fun _ => 0, g⟩ (fun r => (∀ c : Dev Cert.MergedGradient.nD,
      r.2.mem ((c.tc : Thread Cert.MergedGradient.nD Cert.MergedGradient.τ).loc Cert.MergedGradient.main_arg0) = m ((c.tc : Thread Cert.MergedGradient.nD Cert.MergedGradient.τ).loc Cert.MergedGradient.main_arg0)
      ∧ r.2.mem ((c.tc : Thread Cert.MergedGradient.nD Cert.MergedGradient.τ).loc Cert.MergedGradient.main_arg1) = m ((c.tc : Thread Cert.MergedGradient.nD Cert.MergedGradient.τ).loc Cert.MergedGradient.main_arg1))
      ∧ r.2.sem = fun _ => 0)

def quiescent_MergedGradientIdeal [hMergedGradientIdeal : Cert.MergedGradientIdeal.Facts] : Prop :=
  ∀ (m : (ℓ : Loc Cert.MergedGradientIdeal.nD Cert.MergedGradientIdeal.τ Cert.MergedGradientIdeal.sig) → Buf (Elt Ideal) ℓ) (g : Dev Cert.MergedGradientIdeal.nD → PrngReg), Pre_MergedGradientIdeal m →
    θ_run (Cert.MergedGradientIdeal.defs (F := Ideal)) (onTc (τ := Cert.MergedGradientIdeal.τ) (Cert.MergedGradientIdeal.main (F := Ideal))) ⟨m, fun _ => 0, g⟩ (fun r => (∀ c : Dev Cert.MergedGradientIdeal.nD,
      r.2.mem ((c.tc : Thread Cert.MergedGradientIdeal.nD Cert.MergedGradientIdeal.τ).loc Cert.MergedGradientIdeal.main_arg0) = m ((c.tc : Thread Cert.MergedGradientIdeal.nD Cert.MergedGradientIdeal.τ).loc Cert.MergedGradientIdeal.main_arg0)
      ∧ r.2.mem ((c.tc : Thread Cert.MergedGradientIdeal.nD Cert.MergedGradientIdeal.τ).loc Cert.MergedGradientIdeal.main_arg1) = m ((c.tc : Thread Cert.MergedGradientIdeal.nD Cert.MergedGradientIdeal.τ).loc Cert.MergedGradientIdeal.main_arg1))
      ∧ r.2.sem = fun _ => 0)

def quiescent_MergedGradientReferenceIdeal [hMergedGradientReferenceIdeal : Cert.MergedGradientReferenceIdeal.Facts] : Prop :=
  ∀ (m : (ℓ : Loc Cert.MergedGradientReferenceIdeal.nD Cert.MergedGradientReferenceIdeal.τ Cert.MergedGradientReferenceIdeal.sig) → Buf (Elt Ideal) ℓ) (g : Dev Cert.MergedGradientReferenceIdeal.nD → PrngReg), Pre_MergedGradientReferenceIdeal m →
    θ_run (Cert.MergedGradientReferenceIdeal.defs (F := Ideal)) (onTc (τ := Cert.MergedGradientReferenceIdeal.τ) (Cert.MergedGradientReferenceIdeal.main (F := Ideal))) ⟨m, fun _ => 0, g⟩ (fun r => (∀ c : Dev Cert.MergedGradientReferenceIdeal.nD,
      r.2.mem ((c.tc : Thread Cert.MergedGradientReferenceIdeal.nD Cert.MergedGradientReferenceIdeal.τ).loc Cert.MergedGradientReferenceIdeal.main_arg0) = m ((c.tc : Thread Cert.MergedGradientReferenceIdeal.nD Cert.MergedGradientReferenceIdeal.τ).loc Cert.MergedGradientReferenceIdeal.main_arg0)
      ∧ r.2.mem ((c.tc : Thread Cert.MergedGradientReferenceIdeal.nD Cert.MergedGradientReferenceIdeal.τ).loc Cert.MergedGradientReferenceIdeal.main_arg1) = m ((c.tc : Thread Cert.MergedGradientReferenceIdeal.nD Cert.MergedGradientReferenceIdeal.τ).loc Cert.MergedGradientReferenceIdeal.main_arg1))
      ∧ r.2.sem = fun _ => 0)

def quiescent_OutProjection [hOutProjection : Cert.OutProjection.Facts] : Prop :=
  ∀ (m : (ℓ : Loc Cert.OutProjection.nD Cert.OutProjection.τ Cert.OutProjection.sig) → Buf (Elt Bits) ℓ) (g : Dev Cert.OutProjection.nD → PrngReg), Pre_OutProjection m →
    θ_run (Cert.OutProjection.defs (F := Bits)) (onTc (τ := Cert.OutProjection.τ) (Cert.OutProjection.main (F := Bits))) ⟨m, fun _ => 0, g⟩ (fun r => (∀ c : Dev Cert.OutProjection.nD,
      r.2.mem ((c.tc : Thread Cert.OutProjection.nD Cert.OutProjection.τ).loc Cert.OutProjection.main_arg0) = m ((c.tc : Thread Cert.OutProjection.nD Cert.OutProjection.τ).loc Cert.OutProjection.main_arg0)
      ∧ r.2.mem ((c.tc : Thread Cert.OutProjection.nD Cert.OutProjection.τ).loc Cert.OutProjection.main_arg1) = m ((c.tc : Thread Cert.OutProjection.nD Cert.OutProjection.τ).loc Cert.OutProjection.main_arg1)
      ∧ r.2.mem ((c.tc : Thread Cert.OutProjection.nD Cert.OutProjection.τ).loc Cert.OutProjection.main_arg2) = m ((c.tc : Thread Cert.OutProjection.nD Cert.OutProjection.τ).loc Cert.OutProjection.main_arg2))
      ∧ r.2.sem = fun _ => 0)

def quiescent_OutProjectionIdeal [hOutProjectionIdeal : Cert.OutProjectionIdeal.Facts] : Prop :=
  ∀ (m : (ℓ : Loc Cert.OutProjectionIdeal.nD Cert.OutProjectionIdeal.τ Cert.OutProjectionIdeal.sig) → Buf (Elt Ideal) ℓ) (g : Dev Cert.OutProjectionIdeal.nD → PrngReg), Pre_OutProjectionIdeal m →
    θ_run (Cert.OutProjectionIdeal.defs (F := Ideal)) (onTc (τ := Cert.OutProjectionIdeal.τ) (Cert.OutProjectionIdeal.main (F := Ideal))) ⟨m, fun _ => 0, g⟩ (fun r => (∀ c : Dev Cert.OutProjectionIdeal.nD,
      r.2.mem ((c.tc : Thread Cert.OutProjectionIdeal.nD Cert.OutProjectionIdeal.τ).loc Cert.OutProjectionIdeal.main_arg0) = m ((c.tc : Thread Cert.OutProjectionIdeal.nD Cert.OutProjectionIdeal.τ).loc Cert.OutProjectionIdeal.main_arg0)
      ∧ r.2.mem ((c.tc : Thread Cert.OutProjectionIdeal.nD Cert.OutProjectionIdeal.τ).loc Cert.OutProjectionIdeal.main_arg1) = m ((c.tc : Thread Cert.OutProjectionIdeal.nD Cert.OutProjectionIdeal.τ).loc Cert.OutProjectionIdeal.main_arg1)
      ∧ r.2.mem ((c.tc : Thread Cert.OutProjectionIdeal.nD Cert.OutProjectionIdeal.τ).loc Cert.OutProjectionIdeal.main_arg2) = m ((c.tc : Thread Cert.OutProjectionIdeal.nD Cert.OutProjectionIdeal.τ).loc Cert.OutProjectionIdeal.main_arg2))
      ∧ r.2.sem = fun _ => 0)

def quiescent_OutProjectionReferenceIdeal [hOutProjectionReferenceIdeal : Cert.OutProjectionReferenceIdeal.Facts] : Prop :=
  ∀ (m : (ℓ : Loc Cert.OutProjectionReferenceIdeal.nD Cert.OutProjectionReferenceIdeal.τ Cert.OutProjectionReferenceIdeal.sig) → Buf (Elt Ideal) ℓ) (g : Dev Cert.OutProjectionReferenceIdeal.nD → PrngReg), Pre_OutProjectionReferenceIdeal m →
    θ_run (Cert.OutProjectionReferenceIdeal.defs (F := Ideal)) (onTc (τ := Cert.OutProjectionReferenceIdeal.τ) (Cert.OutProjectionReferenceIdeal.main (F := Ideal))) ⟨m, fun _ => 0, g⟩ (fun r => (∀ c : Dev Cert.OutProjectionReferenceIdeal.nD,
      r.2.mem ((c.tc : Thread Cert.OutProjectionReferenceIdeal.nD Cert.OutProjectionReferenceIdeal.τ).loc Cert.OutProjectionReferenceIdeal.main_arg0) = m ((c.tc : Thread Cert.OutProjectionReferenceIdeal.nD Cert.OutProjectionReferenceIdeal.τ).loc Cert.OutProjectionReferenceIdeal.main_arg0)
      ∧ r.2.mem ((c.tc : Thread Cert.OutProjectionReferenceIdeal.nD Cert.OutProjectionReferenceIdeal.τ).loc Cert.OutProjectionReferenceIdeal.main_arg1) = m ((c.tc : Thread Cert.OutProjectionReferenceIdeal.nD Cert.OutProjectionReferenceIdeal.τ).loc Cert.OutProjectionReferenceIdeal.main_arg1)
      ∧ r.2.mem ((c.tc : Thread Cert.OutProjectionReferenceIdeal.nD Cert.OutProjectionReferenceIdeal.τ).loc Cert.OutProjectionReferenceIdeal.main_arg2) = m ((c.tc : Thread Cert.OutProjectionReferenceIdeal.nD Cert.OutProjectionReferenceIdeal.τ).loc Cert.OutProjectionReferenceIdeal.main_arg2))
      ∧ r.2.sem = fun _ => 0)

def quiescent_InProjection [hInProjection : Cert.InProjection.Facts] : Prop :=
  ∀ (m : (ℓ : Loc Cert.InProjection.nD Cert.InProjection.τ Cert.InProjection.sig) → Buf (Elt Bits) ℓ) (g : Dev Cert.InProjection.nD → PrngReg), Pre_InProjection m →
    θ_run (Cert.InProjection.defs (F := Bits)) (onTc (τ := Cert.InProjection.τ) (Cert.InProjection.main (F := Bits))) ⟨m, fun _ => 0, g⟩ (fun r => (∀ c : Dev Cert.InProjection.nD,
      r.2.mem ((c.tc : Thread Cert.InProjection.nD Cert.InProjection.τ).loc Cert.InProjection.main_arg0) = m ((c.tc : Thread Cert.InProjection.nD Cert.InProjection.τ).loc Cert.InProjection.main_arg0)
      ∧ r.2.mem ((c.tc : Thread Cert.InProjection.nD Cert.InProjection.τ).loc Cert.InProjection.main_arg1) = m ((c.tc : Thread Cert.InProjection.nD Cert.InProjection.τ).loc Cert.InProjection.main_arg1))
      ∧ r.2.sem = fun _ => 0)

def quiescent_InProjectionIdeal [hInProjectionIdeal : Cert.InProjectionIdeal.Facts] : Prop :=
  ∀ (m : (ℓ : Loc Cert.InProjectionIdeal.nD Cert.InProjectionIdeal.τ Cert.InProjectionIdeal.sig) → Buf (Elt Ideal) ℓ) (g : Dev Cert.InProjectionIdeal.nD → PrngReg), Pre_InProjectionIdeal m →
    θ_run (Cert.InProjectionIdeal.defs (F := Ideal)) (onTc (τ := Cert.InProjectionIdeal.τ) (Cert.InProjectionIdeal.main (F := Ideal))) ⟨m, fun _ => 0, g⟩ (fun r => (∀ c : Dev Cert.InProjectionIdeal.nD,
      r.2.mem ((c.tc : Thread Cert.InProjectionIdeal.nD Cert.InProjectionIdeal.τ).loc Cert.InProjectionIdeal.main_arg0) = m ((c.tc : Thread Cert.InProjectionIdeal.nD Cert.InProjectionIdeal.τ).loc Cert.InProjectionIdeal.main_arg0)
      ∧ r.2.mem ((c.tc : Thread Cert.InProjectionIdeal.nD Cert.InProjectionIdeal.τ).loc Cert.InProjectionIdeal.main_arg1) = m ((c.tc : Thread Cert.InProjectionIdeal.nD Cert.InProjectionIdeal.τ).loc Cert.InProjectionIdeal.main_arg1))
      ∧ r.2.sem = fun _ => 0)

def quiescent_InProjectionReferenceIdeal [hInProjectionReferenceIdeal : Cert.InProjectionReferenceIdeal.Facts] : Prop :=
  ∀ (m : (ℓ : Loc Cert.InProjectionReferenceIdeal.nD Cert.InProjectionReferenceIdeal.τ Cert.InProjectionReferenceIdeal.sig) → Buf (Elt Ideal) ℓ) (g : Dev Cert.InProjectionReferenceIdeal.nD → PrngReg), Pre_InProjectionReferenceIdeal m →
    θ_run (Cert.InProjectionReferenceIdeal.defs (F := Ideal)) (onTc (τ := Cert.InProjectionReferenceIdeal.τ) (Cert.InProjectionReferenceIdeal.main (F := Ideal))) ⟨m, fun _ => 0, g⟩ (fun r => (∀ c : Dev Cert.InProjectionReferenceIdeal.nD,
      r.2.mem ((c.tc : Thread Cert.InProjectionReferenceIdeal.nD Cert.InProjectionReferenceIdeal.τ).loc Cert.InProjectionReferenceIdeal.main_arg0) = m ((c.tc : Thread Cert.InProjectionReferenceIdeal.nD Cert.InProjectionReferenceIdeal.τ).loc Cert.InProjectionReferenceIdeal.main_arg0)
      ∧ r.2.mem ((c.tc : Thread Cert.InProjectionReferenceIdeal.nD Cert.InProjectionReferenceIdeal.τ).loc Cert.InProjectionReferenceIdeal.main_arg1) = m ((c.tc : Thread Cert.InProjectionReferenceIdeal.nD Cert.InProjectionReferenceIdeal.τ).loc Cert.InProjectionReferenceIdeal.main_arg1))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1)
      ∧ r.2.mem ((c.tc : Thread Cert.InWeight.nD Cert.InWeight.τ).loc Cert.InWeight.main_arg2) = m ((c.tc : Thread Cert.InWeight.nD Cert.InWeight.τ).loc Cert.InWeight.main_arg2)
      ∧ r.2.mem ((c.tc : Thread Cert.InWeight.nD Cert.InWeight.τ).loc Cert.InWeight.main_arg3) = m ((c.tc : Thread Cert.InWeight.nD Cert.InWeight.τ).loc Cert.InWeight.main_arg3)
      ∧ r.2.mem ((c.tc : Thread Cert.InWeight.nD Cert.InWeight.τ).loc Cert.InWeight.main_arg4) = m ((c.tc : Thread Cert.InWeight.nD Cert.InWeight.τ).loc Cert.InWeight.main_arg4)
      ∧ r.2.mem ((c.tc : Thread Cert.InWeight.nD Cert.InWeight.τ).loc Cert.InWeight.main_arg5) = m ((c.tc : Thread Cert.InWeight.nD Cert.InWeight.τ).loc Cert.InWeight.main_arg5)
      ∧ r.2.mem ((c.tc : Thread Cert.InWeight.nD Cert.InWeight.τ).loc Cert.InWeight.main_arg6) = m ((c.tc : Thread Cert.InWeight.nD Cert.InWeight.τ).loc Cert.InWeight.main_arg6)
      ∧ r.2.mem ((c.tc : Thread Cert.InWeight.nD Cert.InWeight.τ).loc Cert.InWeight.main_arg7) = m ((c.tc : Thread Cert.InWeight.nD Cert.InWeight.τ).loc Cert.InWeight.main_arg7)
      ∧ r.2.mem ((c.tc : Thread Cert.InWeight.nD Cert.InWeight.τ).loc Cert.InWeight.main_arg8) = m ((c.tc : Thread Cert.InWeight.nD Cert.InWeight.τ).loc Cert.InWeight.main_arg8)
      ∧ r.2.mem ((c.tc : Thread Cert.InWeight.nD Cert.InWeight.τ).loc Cert.InWeight.main_arg9) = m ((c.tc : Thread Cert.InWeight.nD Cert.InWeight.τ).loc Cert.InWeight.main_arg9)
      ∧ r.2.mem ((c.tc : Thread Cert.InWeight.nD Cert.InWeight.τ).loc Cert.InWeight.main_arg10) = m ((c.tc : Thread Cert.InWeight.nD Cert.InWeight.τ).loc Cert.InWeight.main_arg10)
      ∧ r.2.mem ((c.tc : Thread Cert.InWeight.nD Cert.InWeight.τ).loc Cert.InWeight.main_arg11) = m ((c.tc : Thread Cert.InWeight.nD Cert.InWeight.τ).loc Cert.InWeight.main_arg11)
      ∧ r.2.mem ((c.tc : Thread Cert.InWeight.nD Cert.InWeight.τ).loc Cert.InWeight.main_arg12) = m ((c.tc : Thread Cert.InWeight.nD Cert.InWeight.τ).loc Cert.InWeight.main_arg12))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1)
      ∧ r.2.mem ((c.tc : Thread Cert.InWeightIdeal.nD Cert.InWeightIdeal.τ).loc Cert.InWeightIdeal.main_arg2) = m ((c.tc : Thread Cert.InWeightIdeal.nD Cert.InWeightIdeal.τ).loc Cert.InWeightIdeal.main_arg2)
      ∧ r.2.mem ((c.tc : Thread Cert.InWeightIdeal.nD Cert.InWeightIdeal.τ).loc Cert.InWeightIdeal.main_arg3) = m ((c.tc : Thread Cert.InWeightIdeal.nD Cert.InWeightIdeal.τ).loc Cert.InWeightIdeal.main_arg3)
      ∧ r.2.mem ((c.tc : Thread Cert.InWeightIdeal.nD Cert.InWeightIdeal.τ).loc Cert.InWeightIdeal.main_arg4) = m ((c.tc : Thread Cert.InWeightIdeal.nD Cert.InWeightIdeal.τ).loc Cert.InWeightIdeal.main_arg4)
      ∧ r.2.mem ((c.tc : Thread Cert.InWeightIdeal.nD Cert.InWeightIdeal.τ).loc Cert.InWeightIdeal.main_arg5) = m ((c.tc : Thread Cert.InWeightIdeal.nD Cert.InWeightIdeal.τ).loc Cert.InWeightIdeal.main_arg5)
      ∧ r.2.mem ((c.tc : Thread Cert.InWeightIdeal.nD Cert.InWeightIdeal.τ).loc Cert.InWeightIdeal.main_arg6) = m ((c.tc : Thread Cert.InWeightIdeal.nD Cert.InWeightIdeal.τ).loc Cert.InWeightIdeal.main_arg6)
      ∧ r.2.mem ((c.tc : Thread Cert.InWeightIdeal.nD Cert.InWeightIdeal.τ).loc Cert.InWeightIdeal.main_arg7) = m ((c.tc : Thread Cert.InWeightIdeal.nD Cert.InWeightIdeal.τ).loc Cert.InWeightIdeal.main_arg7)
      ∧ r.2.mem ((c.tc : Thread Cert.InWeightIdeal.nD Cert.InWeightIdeal.τ).loc Cert.InWeightIdeal.main_arg8) = m ((c.tc : Thread Cert.InWeightIdeal.nD Cert.InWeightIdeal.τ).loc Cert.InWeightIdeal.main_arg8)
      ∧ r.2.mem ((c.tc : Thread Cert.InWeightIdeal.nD Cert.InWeightIdeal.τ).loc Cert.InWeightIdeal.main_arg9) = m ((c.tc : Thread Cert.InWeightIdeal.nD Cert.InWeightIdeal.τ).loc Cert.InWeightIdeal.main_arg9)
      ∧ r.2.mem ((c.tc : Thread Cert.InWeightIdeal.nD Cert.InWeightIdeal.τ).loc Cert.InWeightIdeal.main_arg10) = m ((c.tc : Thread Cert.InWeightIdeal.nD Cert.InWeightIdeal.τ).loc Cert.InWeightIdeal.main_arg10)
      ∧ r.2.mem ((c.tc : Thread Cert.InWeightIdeal.nD Cert.InWeightIdeal.τ).loc Cert.InWeightIdeal.main_arg11) = m ((c.tc : Thread Cert.InWeightIdeal.nD Cert.InWeightIdeal.τ).loc Cert.InWeightIdeal.main_arg11)
      ∧ r.2.mem ((c.tc : Thread Cert.InWeightIdeal.nD Cert.InWeightIdeal.τ).loc Cert.InWeightIdeal.main_arg12) = m ((c.tc : Thread Cert.InWeightIdeal.nD Cert.InWeightIdeal.τ).loc Cert.InWeightIdeal.main_arg12))
      ∧ r.2.sem = fun _ => 0)

def quiescent_InWeightReferenceIdeal [hInWeightReferenceIdeal : Cert.InWeightReferenceIdeal.Facts] : Prop :=
  ∀ (m : (ℓ : Loc Cert.InWeightReferenceIdeal.nD Cert.InWeightReferenceIdeal.τ Cert.InWeightReferenceIdeal.sig) → Buf (Elt Ideal) ℓ) (g : Dev Cert.InWeightReferenceIdeal.nD → PrngReg), Pre_InWeightReferenceIdeal m →
    θ_run (Cert.InWeightReferenceIdeal.defs (F := Ideal)) (onTc (τ := Cert.InWeightReferenceIdeal.τ) (Cert.InWeightReferenceIdeal.main (F := Ideal))) ⟨m, fun _ => 0, g⟩ (fun r => (∀ c : Dev Cert.InWeightReferenceIdeal.nD,
      r.2.mem ((c.tc : Thread Cert.InWeightReferenceIdeal.nD Cert.InWeightReferenceIdeal.τ).loc Cert.InWeightReferenceIdeal.main_arg0) = m ((c.tc : Thread Cert.InWeightReferenceIdeal.nD Cert.InWeightReferenceIdeal.τ).loc Cert.InWeightReferenceIdeal.main_arg0)
      ∧ r.2.mem ((c.tc : Thread Cert.InWeightReferenceIdeal.nD Cert.InWeightReferenceIdeal.τ).loc Cert.InWeightReferenceIdeal.main_arg1) = m ((c.tc : Thread Cert.InWeightReferenceIdeal.nD Cert.InWeightReferenceIdeal.τ).loc Cert.InWeightReferenceIdeal.main_arg1)
      ∧ r.2.mem ((c.tc : Thread Cert.InWeightReferenceIdeal.nD Cert.InWeightReferenceIdeal.τ).loc Cert.InWeightReferenceIdeal.main_arg2) = m ((c.tc : Thread Cert.InWeightReferenceIdeal.nD Cert.InWeightReferenceIdeal.τ).loc Cert.InWeightReferenceIdeal.main_arg2)
      ∧ r.2.mem ((c.tc : Thread Cert.InWeightReferenceIdeal.nD Cert.InWeightReferenceIdeal.τ).loc Cert.InWeightReferenceIdeal.main_arg3) = m ((c.tc : Thread Cert.InWeightReferenceIdeal.nD Cert.InWeightReferenceIdeal.τ).loc Cert.InWeightReferenceIdeal.main_arg3)
      ∧ r.2.mem ((c.tc : Thread Cert.InWeightReferenceIdeal.nD Cert.InWeightReferenceIdeal.τ).loc Cert.InWeightReferenceIdeal.main_arg4) = m ((c.tc : Thread Cert.InWeightReferenceIdeal.nD Cert.InWeightReferenceIdeal.τ).loc Cert.InWeightReferenceIdeal.main_arg4)
      ∧ r.2.mem ((c.tc : Thread Cert.InWeightReferenceIdeal.nD Cert.InWeightReferenceIdeal.τ).loc Cert.InWeightReferenceIdeal.main_arg5) = m ((c.tc : Thread Cert.InWeightReferenceIdeal.nD Cert.InWeightReferenceIdeal.τ).loc Cert.InWeightReferenceIdeal.main_arg5)
      ∧ r.2.mem ((c.tc : Thread Cert.InWeightReferenceIdeal.nD Cert.InWeightReferenceIdeal.τ).loc Cert.InWeightReferenceIdeal.main_arg6) = m ((c.tc : Thread Cert.InWeightReferenceIdeal.nD Cert.InWeightReferenceIdeal.τ).loc Cert.InWeightReferenceIdeal.main_arg6)
      ∧ r.2.mem ((c.tc : Thread Cert.InWeightReferenceIdeal.nD Cert.InWeightReferenceIdeal.τ).loc Cert.InWeightReferenceIdeal.main_arg7) = m ((c.tc : Thread Cert.InWeightReferenceIdeal.nD Cert.InWeightReferenceIdeal.τ).loc Cert.InWeightReferenceIdeal.main_arg7)
      ∧ r.2.mem ((c.tc : Thread Cert.InWeightReferenceIdeal.nD Cert.InWeightReferenceIdeal.τ).loc Cert.InWeightReferenceIdeal.main_arg8) = m ((c.tc : Thread Cert.InWeightReferenceIdeal.nD Cert.InWeightReferenceIdeal.τ).loc Cert.InWeightReferenceIdeal.main_arg8)
      ∧ r.2.mem ((c.tc : Thread Cert.InWeightReferenceIdeal.nD Cert.InWeightReferenceIdeal.τ).loc Cert.InWeightReferenceIdeal.main_arg9) = m ((c.tc : Thread Cert.InWeightReferenceIdeal.nD Cert.InWeightReferenceIdeal.τ).loc Cert.InWeightReferenceIdeal.main_arg9)
      ∧ r.2.mem ((c.tc : Thread Cert.InWeightReferenceIdeal.nD Cert.InWeightReferenceIdeal.τ).loc Cert.InWeightReferenceIdeal.main_arg10) = m ((c.tc : Thread Cert.InWeightReferenceIdeal.nD Cert.InWeightReferenceIdeal.τ).loc Cert.InWeightReferenceIdeal.main_arg10)
      ∧ r.2.mem ((c.tc : Thread Cert.InWeightReferenceIdeal.nD Cert.InWeightReferenceIdeal.τ).loc Cert.InWeightReferenceIdeal.main_arg11) = m ((c.tc : Thread Cert.InWeightReferenceIdeal.nD Cert.InWeightReferenceIdeal.τ).loc Cert.InWeightReferenceIdeal.main_arg11)
      ∧ r.2.mem ((c.tc : Thread Cert.InWeightReferenceIdeal.nD Cert.InWeightReferenceIdeal.τ).loc Cert.InWeightReferenceIdeal.main_arg12) = m ((c.tc : Thread Cert.InWeightReferenceIdeal.nD Cert.InWeightReferenceIdeal.τ).loc Cert.InWeightReferenceIdeal.main_arg12))
      ∧ r.2.sem = fun _ => 0)

def quiescent_HiddenGradient [hHiddenGradient : Cert.HiddenGradient.Facts] : Prop :=
  ∀ (m : (ℓ : Loc Cert.HiddenGradient.nD Cert.HiddenGradient.τ Cert.HiddenGradient.sig) → Buf (Elt Bits) ℓ) (g : Dev Cert.HiddenGradient.nD → PrngReg), Pre_HiddenGradient m →
    θ_run (Cert.HiddenGradient.defs (F := Bits)) (onTc (τ := Cert.HiddenGradient.τ) (Cert.HiddenGradient.main (F := Bits))) ⟨m, fun _ => 0, g⟩ (fun r => (∀ c : Dev Cert.HiddenGradient.nD,
      r.2.mem ((c.tc : Thread Cert.HiddenGradient.nD Cert.HiddenGradient.τ).loc Cert.HiddenGradient.main_arg0) = m ((c.tc : Thread Cert.HiddenGradient.nD Cert.HiddenGradient.τ).loc Cert.HiddenGradient.main_arg0)
      ∧ r.2.mem ((c.tc : Thread Cert.HiddenGradient.nD Cert.HiddenGradient.τ).loc Cert.HiddenGradient.main_arg1) = m ((c.tc : Thread Cert.HiddenGradient.nD Cert.HiddenGradient.τ).loc Cert.HiddenGradient.main_arg1)
      ∧ r.2.mem ((c.tc : Thread Cert.HiddenGradient.nD Cert.HiddenGradient.τ).loc Cert.HiddenGradient.main_arg2) = m ((c.tc : Thread Cert.HiddenGradient.nD Cert.HiddenGradient.τ).loc Cert.HiddenGradient.main_arg2)
      ∧ r.2.mem ((c.tc : Thread Cert.HiddenGradient.nD Cert.HiddenGradient.τ).loc Cert.HiddenGradient.main_arg3) = m ((c.tc : Thread Cert.HiddenGradient.nD Cert.HiddenGradient.τ).loc Cert.HiddenGradient.main_arg3)
      ∧ r.2.mem ((c.tc : Thread Cert.HiddenGradient.nD Cert.HiddenGradient.τ).loc Cert.HiddenGradient.main_arg4) = m ((c.tc : Thread Cert.HiddenGradient.nD Cert.HiddenGradient.τ).loc Cert.HiddenGradient.main_arg4)
      ∧ r.2.mem ((c.tc : Thread Cert.HiddenGradient.nD Cert.HiddenGradient.τ).loc Cert.HiddenGradient.main_arg5) = m ((c.tc : Thread Cert.HiddenGradient.nD Cert.HiddenGradient.τ).loc Cert.HiddenGradient.main_arg5)
      ∧ r.2.mem ((c.tc : Thread Cert.HiddenGradient.nD Cert.HiddenGradient.τ).loc Cert.HiddenGradient.main_arg6) = m ((c.tc : Thread Cert.HiddenGradient.nD Cert.HiddenGradient.τ).loc Cert.HiddenGradient.main_arg6)
      ∧ r.2.mem ((c.tc : Thread Cert.HiddenGradient.nD Cert.HiddenGradient.τ).loc Cert.HiddenGradient.main_arg7) = m ((c.tc : Thread Cert.HiddenGradient.nD Cert.HiddenGradient.τ).loc Cert.HiddenGradient.main_arg7)
      ∧ r.2.mem ((c.tc : Thread Cert.HiddenGradient.nD Cert.HiddenGradient.τ).loc Cert.HiddenGradient.main_arg8) = m ((c.tc : Thread Cert.HiddenGradient.nD Cert.HiddenGradient.τ).loc Cert.HiddenGradient.main_arg8)
      ∧ r.2.mem ((c.tc : Thread Cert.HiddenGradient.nD Cert.HiddenGradient.τ).loc Cert.HiddenGradient.main_arg9) = m ((c.tc : Thread Cert.HiddenGradient.nD Cert.HiddenGradient.τ).loc Cert.HiddenGradient.main_arg9)
      ∧ r.2.mem ((c.tc : Thread Cert.HiddenGradient.nD Cert.HiddenGradient.τ).loc Cert.HiddenGradient.main_arg10) = m ((c.tc : Thread Cert.HiddenGradient.nD Cert.HiddenGradient.τ).loc Cert.HiddenGradient.main_arg10)
      ∧ r.2.mem ((c.tc : Thread Cert.HiddenGradient.nD Cert.HiddenGradient.τ).loc Cert.HiddenGradient.main_arg11) = m ((c.tc : Thread Cert.HiddenGradient.nD Cert.HiddenGradient.τ).loc Cert.HiddenGradient.main_arg11)
      ∧ r.2.mem ((c.tc : Thread Cert.HiddenGradient.nD Cert.HiddenGradient.τ).loc Cert.HiddenGradient.main_arg12) = m ((c.tc : Thread Cert.HiddenGradient.nD Cert.HiddenGradient.τ).loc Cert.HiddenGradient.main_arg12))
      ∧ r.2.sem = fun _ => 0)

def quiescent_HiddenGradientIdeal [hHiddenGradientIdeal : Cert.HiddenGradientIdeal.Facts] : Prop :=
  ∀ (m : (ℓ : Loc Cert.HiddenGradientIdeal.nD Cert.HiddenGradientIdeal.τ Cert.HiddenGradientIdeal.sig) → Buf (Elt Ideal) ℓ) (g : Dev Cert.HiddenGradientIdeal.nD → PrngReg), Pre_HiddenGradientIdeal m →
    θ_run (Cert.HiddenGradientIdeal.defs (F := Ideal)) (onTc (τ := Cert.HiddenGradientIdeal.τ) (Cert.HiddenGradientIdeal.main (F := Ideal))) ⟨m, fun _ => 0, g⟩ (fun r => (∀ c : Dev Cert.HiddenGradientIdeal.nD,
      r.2.mem ((c.tc : Thread Cert.HiddenGradientIdeal.nD Cert.HiddenGradientIdeal.τ).loc Cert.HiddenGradientIdeal.main_arg0) = m ((c.tc : Thread Cert.HiddenGradientIdeal.nD Cert.HiddenGradientIdeal.τ).loc Cert.HiddenGradientIdeal.main_arg0)
      ∧ r.2.mem ((c.tc : Thread Cert.HiddenGradientIdeal.nD Cert.HiddenGradientIdeal.τ).loc Cert.HiddenGradientIdeal.main_arg1) = m ((c.tc : Thread Cert.HiddenGradientIdeal.nD Cert.HiddenGradientIdeal.τ).loc Cert.HiddenGradientIdeal.main_arg1)
      ∧ r.2.mem ((c.tc : Thread Cert.HiddenGradientIdeal.nD Cert.HiddenGradientIdeal.τ).loc Cert.HiddenGradientIdeal.main_arg2) = m ((c.tc : Thread Cert.HiddenGradientIdeal.nD Cert.HiddenGradientIdeal.τ).loc Cert.HiddenGradientIdeal.main_arg2)
      ∧ r.2.mem ((c.tc : Thread Cert.HiddenGradientIdeal.nD Cert.HiddenGradientIdeal.τ).loc Cert.HiddenGradientIdeal.main_arg3) = m ((c.tc : Thread Cert.HiddenGradientIdeal.nD Cert.HiddenGradientIdeal.τ).loc Cert.HiddenGradientIdeal.main_arg3)
      ∧ r.2.mem ((c.tc : Thread Cert.HiddenGradientIdeal.nD Cert.HiddenGradientIdeal.τ).loc Cert.HiddenGradientIdeal.main_arg4) = m ((c.tc : Thread Cert.HiddenGradientIdeal.nD Cert.HiddenGradientIdeal.τ).loc Cert.HiddenGradientIdeal.main_arg4)
      ∧ r.2.mem ((c.tc : Thread Cert.HiddenGradientIdeal.nD Cert.HiddenGradientIdeal.τ).loc Cert.HiddenGradientIdeal.main_arg5) = m ((c.tc : Thread Cert.HiddenGradientIdeal.nD Cert.HiddenGradientIdeal.τ).loc Cert.HiddenGradientIdeal.main_arg5)
      ∧ r.2.mem ((c.tc : Thread Cert.HiddenGradientIdeal.nD Cert.HiddenGradientIdeal.τ).loc Cert.HiddenGradientIdeal.main_arg6) = m ((c.tc : Thread Cert.HiddenGradientIdeal.nD Cert.HiddenGradientIdeal.τ).loc Cert.HiddenGradientIdeal.main_arg6)
      ∧ r.2.mem ((c.tc : Thread Cert.HiddenGradientIdeal.nD Cert.HiddenGradientIdeal.τ).loc Cert.HiddenGradientIdeal.main_arg7) = m ((c.tc : Thread Cert.HiddenGradientIdeal.nD Cert.HiddenGradientIdeal.τ).loc Cert.HiddenGradientIdeal.main_arg7)
      ∧ r.2.mem ((c.tc : Thread Cert.HiddenGradientIdeal.nD Cert.HiddenGradientIdeal.τ).loc Cert.HiddenGradientIdeal.main_arg8) = m ((c.tc : Thread Cert.HiddenGradientIdeal.nD Cert.HiddenGradientIdeal.τ).loc Cert.HiddenGradientIdeal.main_arg8)
      ∧ r.2.mem ((c.tc : Thread Cert.HiddenGradientIdeal.nD Cert.HiddenGradientIdeal.τ).loc Cert.HiddenGradientIdeal.main_arg9) = m ((c.tc : Thread Cert.HiddenGradientIdeal.nD Cert.HiddenGradientIdeal.τ).loc Cert.HiddenGradientIdeal.main_arg9)
      ∧ r.2.mem ((c.tc : Thread Cert.HiddenGradientIdeal.nD Cert.HiddenGradientIdeal.τ).loc Cert.HiddenGradientIdeal.main_arg10) = m ((c.tc : Thread Cert.HiddenGradientIdeal.nD Cert.HiddenGradientIdeal.τ).loc Cert.HiddenGradientIdeal.main_arg10)
      ∧ r.2.mem ((c.tc : Thread Cert.HiddenGradientIdeal.nD Cert.HiddenGradientIdeal.τ).loc Cert.HiddenGradientIdeal.main_arg11) = m ((c.tc : Thread Cert.HiddenGradientIdeal.nD Cert.HiddenGradientIdeal.τ).loc Cert.HiddenGradientIdeal.main_arg11)
      ∧ r.2.mem ((c.tc : Thread Cert.HiddenGradientIdeal.nD Cert.HiddenGradientIdeal.τ).loc Cert.HiddenGradientIdeal.main_arg12) = m ((c.tc : Thread Cert.HiddenGradientIdeal.nD Cert.HiddenGradientIdeal.τ).loc Cert.HiddenGradientIdeal.main_arg12))
      ∧ r.2.sem = fun _ => 0)

def quiescent_HiddenGradientReferenceIdeal [hHiddenGradientReferenceIdeal : Cert.HiddenGradientReferenceIdeal.Facts] : Prop :=
  ∀ (m : (ℓ : Loc Cert.HiddenGradientReferenceIdeal.nD Cert.HiddenGradientReferenceIdeal.τ Cert.HiddenGradientReferenceIdeal.sig) → Buf (Elt Ideal) ℓ) (g : Dev Cert.HiddenGradientReferenceIdeal.nD → PrngReg), Pre_HiddenGradientReferenceIdeal m →
    θ_run (Cert.HiddenGradientReferenceIdeal.defs (F := Ideal)) (onTc (τ := Cert.HiddenGradientReferenceIdeal.τ) (Cert.HiddenGradientReferenceIdeal.main (F := Ideal))) ⟨m, fun _ => 0, g⟩ (fun r => (∀ c : Dev Cert.HiddenGradientReferenceIdeal.nD,
      r.2.mem ((c.tc : Thread Cert.HiddenGradientReferenceIdeal.nD Cert.HiddenGradientReferenceIdeal.τ).loc Cert.HiddenGradientReferenceIdeal.main_arg0) = m ((c.tc : Thread Cert.HiddenGradientReferenceIdeal.nD Cert.HiddenGradientReferenceIdeal.τ).loc Cert.HiddenGradientReferenceIdeal.main_arg0)
      ∧ r.2.mem ((c.tc : Thread Cert.HiddenGradientReferenceIdeal.nD Cert.HiddenGradientReferenceIdeal.τ).loc Cert.HiddenGradientReferenceIdeal.main_arg1) = m ((c.tc : Thread Cert.HiddenGradientReferenceIdeal.nD Cert.HiddenGradientReferenceIdeal.τ).loc Cert.HiddenGradientReferenceIdeal.main_arg1)
      ∧ r.2.mem ((c.tc : Thread Cert.HiddenGradientReferenceIdeal.nD Cert.HiddenGradientReferenceIdeal.τ).loc Cert.HiddenGradientReferenceIdeal.main_arg2) = m ((c.tc : Thread Cert.HiddenGradientReferenceIdeal.nD Cert.HiddenGradientReferenceIdeal.τ).loc Cert.HiddenGradientReferenceIdeal.main_arg2)
      ∧ r.2.mem ((c.tc : Thread Cert.HiddenGradientReferenceIdeal.nD Cert.HiddenGradientReferenceIdeal.τ).loc Cert.HiddenGradientReferenceIdeal.main_arg3) = m ((c.tc : Thread Cert.HiddenGradientReferenceIdeal.nD Cert.HiddenGradientReferenceIdeal.τ).loc Cert.HiddenGradientReferenceIdeal.main_arg3)
      ∧ r.2.mem ((c.tc : Thread Cert.HiddenGradientReferenceIdeal.nD Cert.HiddenGradientReferenceIdeal.τ).loc Cert.HiddenGradientReferenceIdeal.main_arg4) = m ((c.tc : Thread Cert.HiddenGradientReferenceIdeal.nD Cert.HiddenGradientReferenceIdeal.τ).loc Cert.HiddenGradientReferenceIdeal.main_arg4)
      ∧ r.2.mem ((c.tc : Thread Cert.HiddenGradientReferenceIdeal.nD Cert.HiddenGradientReferenceIdeal.τ).loc Cert.HiddenGradientReferenceIdeal.main_arg5) = m ((c.tc : Thread Cert.HiddenGradientReferenceIdeal.nD Cert.HiddenGradientReferenceIdeal.τ).loc Cert.HiddenGradientReferenceIdeal.main_arg5)
      ∧ r.2.mem ((c.tc : Thread Cert.HiddenGradientReferenceIdeal.nD Cert.HiddenGradientReferenceIdeal.τ).loc Cert.HiddenGradientReferenceIdeal.main_arg6) = m ((c.tc : Thread Cert.HiddenGradientReferenceIdeal.nD Cert.HiddenGradientReferenceIdeal.τ).loc Cert.HiddenGradientReferenceIdeal.main_arg6)
      ∧ r.2.mem ((c.tc : Thread Cert.HiddenGradientReferenceIdeal.nD Cert.HiddenGradientReferenceIdeal.τ).loc Cert.HiddenGradientReferenceIdeal.main_arg7) = m ((c.tc : Thread Cert.HiddenGradientReferenceIdeal.nD Cert.HiddenGradientReferenceIdeal.τ).loc Cert.HiddenGradientReferenceIdeal.main_arg7)
      ∧ r.2.mem ((c.tc : Thread Cert.HiddenGradientReferenceIdeal.nD Cert.HiddenGradientReferenceIdeal.τ).loc Cert.HiddenGradientReferenceIdeal.main_arg8) = m ((c.tc : Thread Cert.HiddenGradientReferenceIdeal.nD Cert.HiddenGradientReferenceIdeal.τ).loc Cert.HiddenGradientReferenceIdeal.main_arg8)
      ∧ r.2.mem ((c.tc : Thread Cert.HiddenGradientReferenceIdeal.nD Cert.HiddenGradientReferenceIdeal.τ).loc Cert.HiddenGradientReferenceIdeal.main_arg9) = m ((c.tc : Thread Cert.HiddenGradientReferenceIdeal.nD Cert.HiddenGradientReferenceIdeal.τ).loc Cert.HiddenGradientReferenceIdeal.main_arg9)
      ∧ r.2.mem ((c.tc : Thread Cert.HiddenGradientReferenceIdeal.nD Cert.HiddenGradientReferenceIdeal.τ).loc Cert.HiddenGradientReferenceIdeal.main_arg10) = m ((c.tc : Thread Cert.HiddenGradientReferenceIdeal.nD Cert.HiddenGradientReferenceIdeal.τ).loc Cert.HiddenGradientReferenceIdeal.main_arg10)
      ∧ r.2.mem ((c.tc : Thread Cert.HiddenGradientReferenceIdeal.nD Cert.HiddenGradientReferenceIdeal.τ).loc Cert.HiddenGradientReferenceIdeal.main_arg11) = m ((c.tc : Thread Cert.HiddenGradientReferenceIdeal.nD Cert.HiddenGradientReferenceIdeal.τ).loc Cert.HiddenGradientReferenceIdeal.main_arg11)
      ∧ r.2.mem ((c.tc : Thread Cert.HiddenGradientReferenceIdeal.nD Cert.HiddenGradientReferenceIdeal.τ).loc Cert.HiddenGradientReferenceIdeal.main_arg12) = m ((c.tc : Thread Cert.HiddenGradientReferenceIdeal.nD Cert.HiddenGradientReferenceIdeal.τ).loc Cert.HiddenGradientReferenceIdeal.main_arg12))
      ∧ r.2.sem = fun _ => 0)

def quiescent_MemoryKeys [hMemoryKeys : Cert.MemoryKeys.Facts] : Prop :=
  ∀ (m : (ℓ : Loc Cert.MemoryKeys.nD Cert.MemoryKeys.τ Cert.MemoryKeys.sig) → Buf (Elt Bits) ℓ) (g : Dev Cert.MemoryKeys.nD → PrngReg), Pre_MemoryKeys m →
    θ_run (Cert.MemoryKeys.defs (F := Bits)) (onTc (τ := Cert.MemoryKeys.τ) (Cert.MemoryKeys.main (F := Bits))) ⟨m, fun _ => 0, g⟩ (fun r => (∀ c : Dev Cert.MemoryKeys.nD,
      r.2.mem ((c.tc : Thread Cert.MemoryKeys.nD Cert.MemoryKeys.τ).loc Cert.MemoryKeys.main_arg0) = m ((c.tc : Thread Cert.MemoryKeys.nD Cert.MemoryKeys.τ).loc Cert.MemoryKeys.main_arg0)
      ∧ r.2.mem ((c.tc : Thread Cert.MemoryKeys.nD Cert.MemoryKeys.τ).loc Cert.MemoryKeys.main_arg1) = m ((c.tc : Thread Cert.MemoryKeys.nD Cert.MemoryKeys.τ).loc Cert.MemoryKeys.main_arg1))
      ∧ r.2.sem = fun _ => 0)

def quiescent_MemoryKeysIdeal [hMemoryKeysIdeal : Cert.MemoryKeysIdeal.Facts] : Prop :=
  ∀ (m : (ℓ : Loc Cert.MemoryKeysIdeal.nD Cert.MemoryKeysIdeal.τ Cert.MemoryKeysIdeal.sig) → Buf (Elt Ideal) ℓ) (g : Dev Cert.MemoryKeysIdeal.nD → PrngReg), Pre_MemoryKeysIdeal m →
    θ_run (Cert.MemoryKeysIdeal.defs (F := Ideal)) (onTc (τ := Cert.MemoryKeysIdeal.τ) (Cert.MemoryKeysIdeal.main (F := Ideal))) ⟨m, fun _ => 0, g⟩ (fun r => (∀ c : Dev Cert.MemoryKeysIdeal.nD,
      r.2.mem ((c.tc : Thread Cert.MemoryKeysIdeal.nD Cert.MemoryKeysIdeal.τ).loc Cert.MemoryKeysIdeal.main_arg0) = m ((c.tc : Thread Cert.MemoryKeysIdeal.nD Cert.MemoryKeysIdeal.τ).loc Cert.MemoryKeysIdeal.main_arg0)
      ∧ r.2.mem ((c.tc : Thread Cert.MemoryKeysIdeal.nD Cert.MemoryKeysIdeal.τ).loc Cert.MemoryKeysIdeal.main_arg1) = m ((c.tc : Thread Cert.MemoryKeysIdeal.nD Cert.MemoryKeysIdeal.τ).loc Cert.MemoryKeysIdeal.main_arg1))
      ∧ r.2.sem = fun _ => 0)

def quiescent_MemoryKeysReferenceIdeal [hMemoryKeysReferenceIdeal : Cert.MemoryKeysReferenceIdeal.Facts] : Prop :=
  ∀ (m : (ℓ : Loc Cert.MemoryKeysReferenceIdeal.nD Cert.MemoryKeysReferenceIdeal.τ Cert.MemoryKeysReferenceIdeal.sig) → Buf (Elt Ideal) ℓ) (g : Dev Cert.MemoryKeysReferenceIdeal.nD → PrngReg), Pre_MemoryKeysReferenceIdeal m →
    θ_run (Cert.MemoryKeysReferenceIdeal.defs (F := Ideal)) (onTc (τ := Cert.MemoryKeysReferenceIdeal.τ) (Cert.MemoryKeysReferenceIdeal.main (F := Ideal))) ⟨m, fun _ => 0, g⟩ (fun r => (∀ c : Dev Cert.MemoryKeysReferenceIdeal.nD,
      r.2.mem ((c.tc : Thread Cert.MemoryKeysReferenceIdeal.nD Cert.MemoryKeysReferenceIdeal.τ).loc Cert.MemoryKeysReferenceIdeal.main_arg0) = m ((c.tc : Thread Cert.MemoryKeysReferenceIdeal.nD Cert.MemoryKeysReferenceIdeal.τ).loc Cert.MemoryKeysReferenceIdeal.main_arg0)
      ∧ r.2.mem ((c.tc : Thread Cert.MemoryKeysReferenceIdeal.nD Cert.MemoryKeysReferenceIdeal.τ).loc Cert.MemoryKeysReferenceIdeal.main_arg1) = m ((c.tc : Thread Cert.MemoryKeysReferenceIdeal.nD Cert.MemoryKeysReferenceIdeal.τ).loc Cert.MemoryKeysReferenceIdeal.main_arg1))
      ∧ r.2.sem = fun _ => 0)

def quiescent_MemoryWeight [hMemoryWeight : Cert.MemoryWeight.Facts] : Prop :=
  ∀ (m : (ℓ : Loc Cert.MemoryWeight.nD Cert.MemoryWeight.τ Cert.MemoryWeight.sig) → Buf (Elt Bits) ℓ) (g : Dev Cert.MemoryWeight.nD → PrngReg), Pre_MemoryWeight m →
    θ_run (Cert.MemoryWeight.defs (F := Bits)) (onTc (τ := Cert.MemoryWeight.τ) (Cert.MemoryWeight.main (F := Bits))) ⟨m, fun _ => 0, g⟩ (fun r => (∀ c : Dev Cert.MemoryWeight.nD,
      r.2.mem ((c.tc : Thread Cert.MemoryWeight.nD Cert.MemoryWeight.τ).loc Cert.MemoryWeight.main_arg0) = m ((c.tc : Thread Cert.MemoryWeight.nD Cert.MemoryWeight.τ).loc Cert.MemoryWeight.main_arg0)
      ∧ r.2.mem ((c.tc : Thread Cert.MemoryWeight.nD Cert.MemoryWeight.τ).loc Cert.MemoryWeight.main_arg1) = m ((c.tc : Thread Cert.MemoryWeight.nD Cert.MemoryWeight.τ).loc Cert.MemoryWeight.main_arg1)
      ∧ r.2.mem ((c.tc : Thread Cert.MemoryWeight.nD Cert.MemoryWeight.τ).loc Cert.MemoryWeight.main_arg2) = m ((c.tc : Thread Cert.MemoryWeight.nD Cert.MemoryWeight.τ).loc Cert.MemoryWeight.main_arg2))
      ∧ r.2.sem = fun _ => 0)

def quiescent_MemoryWeightIdeal [hMemoryWeightIdeal : Cert.MemoryWeightIdeal.Facts] : Prop :=
  ∀ (m : (ℓ : Loc Cert.MemoryWeightIdeal.nD Cert.MemoryWeightIdeal.τ Cert.MemoryWeightIdeal.sig) → Buf (Elt Ideal) ℓ) (g : Dev Cert.MemoryWeightIdeal.nD → PrngReg), Pre_MemoryWeightIdeal m →
    θ_run (Cert.MemoryWeightIdeal.defs (F := Ideal)) (onTc (τ := Cert.MemoryWeightIdeal.τ) (Cert.MemoryWeightIdeal.main (F := Ideal))) ⟨m, fun _ => 0, g⟩ (fun r => (∀ c : Dev Cert.MemoryWeightIdeal.nD,
      r.2.mem ((c.tc : Thread Cert.MemoryWeightIdeal.nD Cert.MemoryWeightIdeal.τ).loc Cert.MemoryWeightIdeal.main_arg0) = m ((c.tc : Thread Cert.MemoryWeightIdeal.nD Cert.MemoryWeightIdeal.τ).loc Cert.MemoryWeightIdeal.main_arg0)
      ∧ r.2.mem ((c.tc : Thread Cert.MemoryWeightIdeal.nD Cert.MemoryWeightIdeal.τ).loc Cert.MemoryWeightIdeal.main_arg1) = m ((c.tc : Thread Cert.MemoryWeightIdeal.nD Cert.MemoryWeightIdeal.τ).loc Cert.MemoryWeightIdeal.main_arg1)
      ∧ r.2.mem ((c.tc : Thread Cert.MemoryWeightIdeal.nD Cert.MemoryWeightIdeal.τ).loc Cert.MemoryWeightIdeal.main_arg2) = m ((c.tc : Thread Cert.MemoryWeightIdeal.nD Cert.MemoryWeightIdeal.τ).loc Cert.MemoryWeightIdeal.main_arg2))
      ∧ r.2.sem = fun _ => 0)

def quiescent_MemoryWeightReferenceIdeal [hMemoryWeightReferenceIdeal : Cert.MemoryWeightReferenceIdeal.Facts] : Prop :=
  ∀ (m : (ℓ : Loc Cert.MemoryWeightReferenceIdeal.nD Cert.MemoryWeightReferenceIdeal.τ Cert.MemoryWeightReferenceIdeal.sig) → Buf (Elt Ideal) ℓ) (g : Dev Cert.MemoryWeightReferenceIdeal.nD → PrngReg), Pre_MemoryWeightReferenceIdeal m →
    θ_run (Cert.MemoryWeightReferenceIdeal.defs (F := Ideal)) (onTc (τ := Cert.MemoryWeightReferenceIdeal.τ) (Cert.MemoryWeightReferenceIdeal.main (F := Ideal))) ⟨m, fun _ => 0, g⟩ (fun r => (∀ c : Dev Cert.MemoryWeightReferenceIdeal.nD,
      r.2.mem ((c.tc : Thread Cert.MemoryWeightReferenceIdeal.nD Cert.MemoryWeightReferenceIdeal.τ).loc Cert.MemoryWeightReferenceIdeal.main_arg0) = m ((c.tc : Thread Cert.MemoryWeightReferenceIdeal.nD Cert.MemoryWeightReferenceIdeal.τ).loc Cert.MemoryWeightReferenceIdeal.main_arg0)
      ∧ r.2.mem ((c.tc : Thread Cert.MemoryWeightReferenceIdeal.nD Cert.MemoryWeightReferenceIdeal.τ).loc Cert.MemoryWeightReferenceIdeal.main_arg1) = m ((c.tc : Thread Cert.MemoryWeightReferenceIdeal.nD Cert.MemoryWeightReferenceIdeal.τ).loc Cert.MemoryWeightReferenceIdeal.main_arg1)
      ∧ r.2.mem ((c.tc : Thread Cert.MemoryWeightReferenceIdeal.nD Cert.MemoryWeightReferenceIdeal.τ).loc Cert.MemoryWeightReferenceIdeal.main_arg2) = m ((c.tc : Thread Cert.MemoryWeightReferenceIdeal.nD Cert.MemoryWeightReferenceIdeal.τ).loc Cert.MemoryWeightReferenceIdeal.main_arg2))
      ∧ r.2.sem = fun _ => 0)

def quiescent_MemoryGradient [hMemoryGradient : Cert.MemoryGradient.Facts] : Prop :=
  ∀ (m : (ℓ : Loc Cert.MemoryGradient.nD Cert.MemoryGradient.τ Cert.MemoryGradient.sig) → Buf (Elt Bits) ℓ) (g : Dev Cert.MemoryGradient.nD → PrngReg), Pre_MemoryGradient m →
    θ_run (Cert.MemoryGradient.defs (F := Bits)) (onTc (τ := Cert.MemoryGradient.τ) (Cert.MemoryGradient.main (F := Bits))) ⟨m, fun _ => 0, g⟩ (fun r => (∀ c : Dev Cert.MemoryGradient.nD,
      r.2.mem ((c.tc : Thread Cert.MemoryGradient.nD Cert.MemoryGradient.τ).loc Cert.MemoryGradient.main_arg0) = m ((c.tc : Thread Cert.MemoryGradient.nD Cert.MemoryGradient.τ).loc Cert.MemoryGradient.main_arg0)
      ∧ r.2.mem ((c.tc : Thread Cert.MemoryGradient.nD Cert.MemoryGradient.τ).loc Cert.MemoryGradient.main_arg1) = m ((c.tc : Thread Cert.MemoryGradient.nD Cert.MemoryGradient.τ).loc Cert.MemoryGradient.main_arg1)
      ∧ r.2.mem ((c.tc : Thread Cert.MemoryGradient.nD Cert.MemoryGradient.τ).loc Cert.MemoryGradient.main_arg2) = m ((c.tc : Thread Cert.MemoryGradient.nD Cert.MemoryGradient.τ).loc Cert.MemoryGradient.main_arg2))
      ∧ r.2.sem = fun _ => 0)

def quiescent_MemoryGradientIdeal [hMemoryGradientIdeal : Cert.MemoryGradientIdeal.Facts] : Prop :=
  ∀ (m : (ℓ : Loc Cert.MemoryGradientIdeal.nD Cert.MemoryGradientIdeal.τ Cert.MemoryGradientIdeal.sig) → Buf (Elt Ideal) ℓ) (g : Dev Cert.MemoryGradientIdeal.nD → PrngReg), Pre_MemoryGradientIdeal m →
    θ_run (Cert.MemoryGradientIdeal.defs (F := Ideal)) (onTc (τ := Cert.MemoryGradientIdeal.τ) (Cert.MemoryGradientIdeal.main (F := Ideal))) ⟨m, fun _ => 0, g⟩ (fun r => (∀ c : Dev Cert.MemoryGradientIdeal.nD,
      r.2.mem ((c.tc : Thread Cert.MemoryGradientIdeal.nD Cert.MemoryGradientIdeal.τ).loc Cert.MemoryGradientIdeal.main_arg0) = m ((c.tc : Thread Cert.MemoryGradientIdeal.nD Cert.MemoryGradientIdeal.τ).loc Cert.MemoryGradientIdeal.main_arg0)
      ∧ r.2.mem ((c.tc : Thread Cert.MemoryGradientIdeal.nD Cert.MemoryGradientIdeal.τ).loc Cert.MemoryGradientIdeal.main_arg1) = m ((c.tc : Thread Cert.MemoryGradientIdeal.nD Cert.MemoryGradientIdeal.τ).loc Cert.MemoryGradientIdeal.main_arg1)
      ∧ r.2.mem ((c.tc : Thread Cert.MemoryGradientIdeal.nD Cert.MemoryGradientIdeal.τ).loc Cert.MemoryGradientIdeal.main_arg2) = m ((c.tc : Thread Cert.MemoryGradientIdeal.nD Cert.MemoryGradientIdeal.τ).loc Cert.MemoryGradientIdeal.main_arg2))
      ∧ r.2.sem = fun _ => 0)

def quiescent_MemoryGradientReferenceIdeal [hMemoryGradientReferenceIdeal : Cert.MemoryGradientReferenceIdeal.Facts] : Prop :=
  ∀ (m : (ℓ : Loc Cert.MemoryGradientReferenceIdeal.nD Cert.MemoryGradientReferenceIdeal.τ Cert.MemoryGradientReferenceIdeal.sig) → Buf (Elt Ideal) ℓ) (g : Dev Cert.MemoryGradientReferenceIdeal.nD → PrngReg), Pre_MemoryGradientReferenceIdeal m →
    θ_run (Cert.MemoryGradientReferenceIdeal.defs (F := Ideal)) (onTc (τ := Cert.MemoryGradientReferenceIdeal.τ) (Cert.MemoryGradientReferenceIdeal.main (F := Ideal))) ⟨m, fun _ => 0, g⟩ (fun r => (∀ c : Dev Cert.MemoryGradientReferenceIdeal.nD,
      r.2.mem ((c.tc : Thread Cert.MemoryGradientReferenceIdeal.nD Cert.MemoryGradientReferenceIdeal.τ).loc Cert.MemoryGradientReferenceIdeal.main_arg0) = m ((c.tc : Thread Cert.MemoryGradientReferenceIdeal.nD Cert.MemoryGradientReferenceIdeal.τ).loc Cert.MemoryGradientReferenceIdeal.main_arg0)
      ∧ r.2.mem ((c.tc : Thread Cert.MemoryGradientReferenceIdeal.nD Cert.MemoryGradientReferenceIdeal.τ).loc Cert.MemoryGradientReferenceIdeal.main_arg1) = m ((c.tc : Thread Cert.MemoryGradientReferenceIdeal.nD Cert.MemoryGradientReferenceIdeal.τ).loc Cert.MemoryGradientReferenceIdeal.main_arg1)
      ∧ r.2.mem ((c.tc : Thread Cert.MemoryGradientReferenceIdeal.nD Cert.MemoryGradientReferenceIdeal.τ).loc Cert.MemoryGradientReferenceIdeal.main_arg2) = m ((c.tc : Thread Cert.MemoryGradientReferenceIdeal.nD Cert.MemoryGradientReferenceIdeal.τ).loc Cert.MemoryGradientReferenceIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1))
      ∧ r.2.sem = fun _ => 0)

def quiescent_GluWeight [hGluWeight : Cert.GluWeight.Facts] : Prop :=
  ∀ (m : (ℓ : Loc Cert.GluWeight.nD Cert.GluWeight.τ Cert.GluWeight.sig) → Buf (Elt Bits) ℓ) (g : Dev Cert.GluWeight.nD → PrngReg), Pre_GluWeight m →
    θ_run (Cert.GluWeight.defs (F := Bits)) (onTc (τ := Cert.GluWeight.τ) (Cert.GluWeight.main (F := Bits))) ⟨m, fun _ => 0, g⟩ (fun r => (∀ c : Dev Cert.GluWeight.nD,
      r.2.mem ((c.tc : Thread Cert.GluWeight.nD Cert.GluWeight.τ).loc Cert.GluWeight.main_arg0) = m ((c.tc : Thread Cert.GluWeight.nD Cert.GluWeight.τ).loc Cert.GluWeight.main_arg0)
      ∧ r.2.mem ((c.tc : Thread Cert.GluWeight.nD Cert.GluWeight.τ).loc Cert.GluWeight.main_arg1) = m ((c.tc : Thread Cert.GluWeight.nD Cert.GluWeight.τ).loc Cert.GluWeight.main_arg1))
      ∧ r.2.sem = fun _ => 0)

def quiescent_GluWeightIdeal [hGluWeightIdeal : Cert.GluWeightIdeal.Facts] : Prop :=
  ∀ (m : (ℓ : Loc Cert.GluWeightIdeal.nD Cert.GluWeightIdeal.τ Cert.GluWeightIdeal.sig) → Buf (Elt Ideal) ℓ) (g : Dev Cert.GluWeightIdeal.nD → PrngReg), Pre_GluWeightIdeal m →
    θ_run (Cert.GluWeightIdeal.defs (F := Ideal)) (onTc (τ := Cert.GluWeightIdeal.τ) (Cert.GluWeightIdeal.main (F := Ideal))) ⟨m, fun _ => 0, g⟩ (fun r => (∀ c : Dev Cert.GluWeightIdeal.nD,
      r.2.mem ((c.tc : Thread Cert.GluWeightIdeal.nD Cert.GluWeightIdeal.τ).loc Cert.GluWeightIdeal.main_arg0) = m ((c.tc : Thread Cert.GluWeightIdeal.nD Cert.GluWeightIdeal.τ).loc Cert.GluWeightIdeal.main_arg0)
      ∧ r.2.mem ((c.tc : Thread Cert.GluWeightIdeal.nD Cert.GluWeightIdeal.τ).loc Cert.GluWeightIdeal.main_arg1) = m ((c.tc : Thread Cert.GluWeightIdeal.nD Cert.GluWeightIdeal.τ).loc Cert.GluWeightIdeal.main_arg1))
      ∧ r.2.sem = fun _ => 0)

def quiescent_GluWeightReferenceIdeal [hGluWeightReferenceIdeal : Cert.GluWeightReferenceIdeal.Facts] : Prop :=
  ∀ (m : (ℓ : Loc Cert.GluWeightReferenceIdeal.nD Cert.GluWeightReferenceIdeal.τ Cert.GluWeightReferenceIdeal.sig) → Buf (Elt Ideal) ℓ) (g : Dev Cert.GluWeightReferenceIdeal.nD → PrngReg), Pre_GluWeightReferenceIdeal m →
    θ_run (Cert.GluWeightReferenceIdeal.defs (F := Ideal)) (onTc (τ := Cert.GluWeightReferenceIdeal.τ) (Cert.GluWeightReferenceIdeal.main (F := Ideal))) ⟨m, fun _ => 0, g⟩ (fun r => (∀ c : Dev Cert.GluWeightReferenceIdeal.nD,
      r.2.mem ((c.tc : Thread Cert.GluWeightReferenceIdeal.nD Cert.GluWeightReferenceIdeal.τ).loc Cert.GluWeightReferenceIdeal.main_arg0) = m ((c.tc : Thread Cert.GluWeightReferenceIdeal.nD Cert.GluWeightReferenceIdeal.τ).loc Cert.GluWeightReferenceIdeal.main_arg0)
      ∧ r.2.mem ((c.tc : Thread Cert.GluWeightReferenceIdeal.nD Cert.GluWeightReferenceIdeal.τ).loc Cert.GluWeightReferenceIdeal.main_arg1) = m ((c.tc : Thread Cert.GluWeightReferenceIdeal.nD Cert.GluWeightReferenceIdeal.τ).loc Cert.GluWeightReferenceIdeal.main_arg1))
      ∧ r.2.sem = fun _ => 0)

def quiescent_GluInput [hGluInput : Cert.GluInput.Facts] : Prop :=
  ∀ (m : (ℓ : Loc Cert.GluInput.nD Cert.GluInput.τ Cert.GluInput.sig) → Buf (Elt Bits) ℓ) (g : Dev Cert.GluInput.nD → PrngReg), Pre_GluInput m →
    θ_run (Cert.GluInput.defs (F := Bits)) (onTc (τ := Cert.GluInput.τ) (Cert.GluInput.main (F := Bits))) ⟨m, fun _ => 0, g⟩ (fun r => (∀ c : Dev Cert.GluInput.nD,
      r.2.mem ((c.tc : Thread Cert.GluInput.nD Cert.GluInput.τ).loc Cert.GluInput.main_arg0) = m ((c.tc : Thread Cert.GluInput.nD Cert.GluInput.τ).loc Cert.GluInput.main_arg0)
      ∧ r.2.mem ((c.tc : Thread Cert.GluInput.nD Cert.GluInput.τ).loc Cert.GluInput.main_arg1) = m ((c.tc : Thread Cert.GluInput.nD Cert.GluInput.τ).loc Cert.GluInput.main_arg1))
      ∧ r.2.sem = fun _ => 0)

def quiescent_GluInputIdeal [hGluInputIdeal : Cert.GluInputIdeal.Facts] : Prop :=
  ∀ (m : (ℓ : Loc Cert.GluInputIdeal.nD Cert.GluInputIdeal.τ Cert.GluInputIdeal.sig) → Buf (Elt Ideal) ℓ) (g : Dev Cert.GluInputIdeal.nD → PrngReg), Pre_GluInputIdeal m →
    θ_run (Cert.GluInputIdeal.defs (F := Ideal)) (onTc (τ := Cert.GluInputIdeal.τ) (Cert.GluInputIdeal.main (F := Ideal))) ⟨m, fun _ => 0, g⟩ (fun r => (∀ c : Dev Cert.GluInputIdeal.nD,
      r.2.mem ((c.tc : Thread Cert.GluInputIdeal.nD Cert.GluInputIdeal.τ).loc Cert.GluInputIdeal.main_arg0) = m ((c.tc : Thread Cert.GluInputIdeal.nD Cert.GluInputIdeal.τ).loc Cert.GluInputIdeal.main_arg0)
      ∧ r.2.mem ((c.tc : Thread Cert.GluInputIdeal.nD Cert.GluInputIdeal.τ).loc Cert.GluInputIdeal.main_arg1) = m ((c.tc : Thread Cert.GluInputIdeal.nD Cert.GluInputIdeal.τ).loc Cert.GluInputIdeal.main_arg1))
      ∧ r.2.sem = fun _ => 0)

def quiescent_GluInputReferenceIdeal [hGluInputReferenceIdeal : Cert.GluInputReferenceIdeal.Facts] : Prop :=
  ∀ (m : (ℓ : Loc Cert.GluInputReferenceIdeal.nD Cert.GluInputReferenceIdeal.τ Cert.GluInputReferenceIdeal.sig) → Buf (Elt Ideal) ℓ) (g : Dev Cert.GluInputReferenceIdeal.nD → PrngReg), Pre_GluInputReferenceIdeal m →
    θ_run (Cert.GluInputReferenceIdeal.defs (F := Ideal)) (onTc (τ := Cert.GluInputReferenceIdeal.τ) (Cert.GluInputReferenceIdeal.main (F := Ideal))) ⟨m, fun _ => 0, g⟩ (fun r => (∀ c : Dev Cert.GluInputReferenceIdeal.nD,
      r.2.mem ((c.tc : Thread Cert.GluInputReferenceIdeal.nD Cert.GluInputReferenceIdeal.τ).loc Cert.GluInputReferenceIdeal.main_arg0) = m ((c.tc : Thread Cert.GluInputReferenceIdeal.nD Cert.GluInputReferenceIdeal.τ).loc Cert.GluInputReferenceIdeal.main_arg0)
      ∧ r.2.mem ((c.tc : Thread Cert.GluInputReferenceIdeal.nD Cert.GluInputReferenceIdeal.τ).loc Cert.GluInputReferenceIdeal.main_arg1) = m ((c.tc : Thread Cert.GluInputReferenceIdeal.nD Cert.GluInputReferenceIdeal.τ).loc Cert.GluInputReferenceIdeal.main_arg1))
      ∧ r.2.sem = fun _ => 0)

def quiescent_GluGate [hGluGate : Cert.GluGate.Facts] : Prop :=
  ∀ (m : (ℓ : Loc Cert.GluGate.nD Cert.GluGate.τ Cert.GluGate.sig) → Buf (Elt Bits) ℓ) (g : Dev Cert.GluGate.nD → PrngReg), Pre_GluGate m →
    θ_run (Cert.GluGate.defs (F := Bits)) (onTc (τ := Cert.GluGate.τ) (Cert.GluGate.main (F := Bits))) ⟨m, fun _ => 0, g⟩ (fun r => (∀ c : Dev Cert.GluGate.nD,
      r.2.mem ((c.tc : Thread Cert.GluGate.nD Cert.GluGate.τ).loc Cert.GluGate.main_arg0) = m ((c.tc : Thread Cert.GluGate.nD Cert.GluGate.τ).loc Cert.GluGate.main_arg0)
      ∧ r.2.mem ((c.tc : Thread Cert.GluGate.nD Cert.GluGate.τ).loc Cert.GluGate.main_arg1) = m ((c.tc : Thread Cert.GluGate.nD Cert.GluGate.τ).loc Cert.GluGate.main_arg1)
      ∧ r.2.mem ((c.tc : Thread Cert.GluGate.nD Cert.GluGate.τ).loc Cert.GluGate.main_arg2) = m ((c.tc : Thread Cert.GluGate.nD Cert.GluGate.τ).loc Cert.GluGate.main_arg2)
      ∧ r.2.mem ((c.tc : Thread Cert.GluGate.nD Cert.GluGate.τ).loc Cert.GluGate.main_arg3) = m ((c.tc : Thread Cert.GluGate.nD Cert.GluGate.τ).loc Cert.GluGate.main_arg3))
      ∧ r.2.sem = fun _ => 0)

def quiescent_GluGateIdeal [hGluGateIdeal : Cert.GluGateIdeal.Facts] : Prop :=
  ∀ (m : (ℓ : Loc Cert.GluGateIdeal.nD Cert.GluGateIdeal.τ Cert.GluGateIdeal.sig) → Buf (Elt Ideal) ℓ) (g : Dev Cert.GluGateIdeal.nD → PrngReg), Pre_GluGateIdeal m →
    θ_run (Cert.GluGateIdeal.defs (F := Ideal)) (onTc (τ := Cert.GluGateIdeal.τ) (Cert.GluGateIdeal.main (F := Ideal))) ⟨m, fun _ => 0, g⟩ (fun r => (∀ c : Dev Cert.GluGateIdeal.nD,
      r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
      ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1)
      ∧ r.2.mem ((c.tc : Thread Cert.GluGateIdeal.nD Cert.GluGateIdeal.τ).loc Cert.GluGateIdeal.main_arg2) = m ((c.tc : Thread Cert.GluGateIdeal.nD Cert.GluGateIdeal.τ).loc Cert.GluGateIdeal.main_arg2)
      ∧ r.2.mem ((c.tc : Thread Cert.GluGateIdeal.nD Cert.GluGateIdeal.τ).loc Cert.GluGateIdeal.main_arg3) = m ((c.tc : Thread Cert.GluGateIdeal.nD Cert.GluGateIdeal.τ).loc Cert.GluGateIdeal.main_arg3))
      ∧ r.2.sem = fun _ => 0)

def quiescent_GluGateReferenceIdeal [hGluGateReferenceIdeal : Cert.GluGateReferenceIdeal.Facts] : Prop :=
  ∀ (m : (ℓ : Loc Cert.GluGateReferenceIdeal.nD Cert.GluGateReferenceIdeal.τ Cert.GluGateReferenceIdeal.sig) → Buf (Elt Ideal) ℓ) (g : Dev Cert.GluGateReferenceIdeal.nD → PrngReg), Pre_GluGateReferenceIdeal m →
    θ_run (Cert.GluGateReferenceIdeal.defs (F := Ideal)) (onTc (τ := Cert.GluGateReferenceIdeal.τ) (Cert.GluGateReferenceIdeal.main (F := Ideal))) ⟨m, fun _ => 0, g⟩ (fun r => (∀ c : Dev Cert.GluGateReferenceIdeal.nD,
      r.2.mem ((c.tc : Thread Cert.GluGateReferenceIdeal.nD Cert.GluGateReferenceIdeal.τ).loc Cert.GluGateReferenceIdeal.main_arg0) = m ((c.tc : Thread Cert.GluGateReferenceIdeal.nD Cert.GluGateReferenceIdeal.τ).loc Cert.GluGateReferenceIdeal.main_arg0)
      ∧ r.2.mem ((c.tc : Thread Cert.GluGateReferenceIdeal.nD Cert.GluGateReferenceIdeal.τ).loc Cert.GluGateReferenceIdeal.main_arg1) = m ((c.tc : Thread Cert.GluGateReferenceIdeal.nD Cert.GluGateReferenceIdeal.τ).loc Cert.GluGateReferenceIdeal.main_arg1)
      ∧ r.2.mem ((c.tc : Thread Cert.GluGateReferenceIdeal.nD Cert.GluGateReferenceIdeal.τ).loc Cert.GluGateReferenceIdeal.main_arg2) = m ((c.tc : Thread Cert.GluGateReferenceIdeal.nD Cert.GluGateReferenceIdeal.τ).loc Cert.GluGateReferenceIdeal.main_arg2)
      ∧ r.2.mem ((c.tc : Thread Cert.GluGateReferenceIdeal.nD Cert.GluGateReferenceIdeal.τ).loc Cert.GluGateReferenceIdeal.main_arg3) = m ((c.tc : Thread Cert.GluGateReferenceIdeal.nD Cert.GluGateReferenceIdeal.τ).loc Cert.GluGateReferenceIdeal.main_arg3))
      ∧ r.2.sem = fun _ => 0)

def quiescent_SkipGelu [hSkipGelu : Cert.SkipGelu.Facts] : Prop :=
  ∀ (m : (ℓ : Loc Cert.SkipGelu.nD Cert.SkipGelu.τ Cert.SkipGelu.sig) → Buf (Elt Bits) ℓ) (g : Dev Cert.SkipGelu.nD → PrngReg), Pre_SkipGelu m →
    θ_run (Cert.SkipGelu.defs (F := Bits)) (onTc (τ := Cert.SkipGelu.τ) (Cert.SkipGelu.main (F := Bits))) ⟨m, fun _ => 0, g⟩ (fun r => (∀ c : Dev Cert.SkipGelu.nD,
      r.2.mem ((c.tc : Thread Cert.SkipGelu.nD Cert.SkipGelu.τ).loc Cert.SkipGelu.main_arg0) = m ((c.tc : Thread Cert.SkipGelu.nD Cert.SkipGelu.τ).loc Cert.SkipGelu.main_arg0)
      ∧ r.2.mem ((c.tc : Thread Cert.SkipGelu.nD Cert.SkipGelu.τ).loc Cert.SkipGelu.main_arg1) = m ((c.tc : Thread Cert.SkipGelu.nD Cert.SkipGelu.τ).loc Cert.SkipGelu.main_arg1)
      ∧ r.2.mem ((c.tc : Thread Cert.SkipGelu.nD Cert.SkipGelu.τ).loc Cert.SkipGelu.main_arg2) = m ((c.tc : Thread Cert.SkipGelu.nD Cert.SkipGelu.τ).loc Cert.SkipGelu.main_arg2)
      ∧ r.2.mem ((c.tc : Thread Cert.SkipGelu.nD Cert.SkipGelu.τ).loc Cert.SkipGelu.main_arg3) = m ((c.tc : Thread Cert.SkipGelu.nD Cert.SkipGelu.τ).loc Cert.SkipGelu.main_arg3))
      ∧ r.2.sem = fun _ => 0)

def quiescent_SkipGeluIdeal [hSkipGeluIdeal : Cert.SkipGeluIdeal.Facts] : Prop :=
  ∀ (m : (ℓ : Loc Cert.SkipGeluIdeal.nD Cert.SkipGeluIdeal.τ Cert.SkipGeluIdeal.sig) → Buf (Elt Ideal) ℓ) (g : Dev Cert.SkipGeluIdeal.nD → PrngReg), Pre_SkipGeluIdeal m →
    θ_run (Cert.SkipGeluIdeal.defs (F := Ideal)) (onTc (τ := Cert.SkipGeluIdeal.τ) (Cert.SkipGeluIdeal.main (F := Ideal))) ⟨m, fun _ => 0, g⟩ (fun r => (∀ c : Dev Cert.SkipGeluIdeal.nD,
      r.2.mem ((c.tc : Thread Cert.SkipGeluIdeal.nD Cert.SkipGeluIdeal.τ).loc Cert.SkipGeluIdeal.main_arg0) = m ((c.tc : Thread Cert.SkipGeluIdeal.nD Cert.SkipGeluIdeal.τ).loc Cert.SkipGeluIdeal.main_arg0)
      ∧ r.2.mem ((c.tc : Thread Cert.SkipGeluIdeal.nD Cert.SkipGeluIdeal.τ).loc Cert.SkipGeluIdeal.main_arg1) = m ((c.tc : Thread Cert.SkipGeluIdeal.nD Cert.SkipGeluIdeal.τ).loc Cert.SkipGeluIdeal.main_arg1)
      ∧ r.2.mem ((c.tc : Thread Cert.SkipGeluIdeal.nD Cert.SkipGeluIdeal.τ).loc Cert.SkipGeluIdeal.main_arg2) = m ((c.tc : Thread Cert.SkipGeluIdeal.nD Cert.SkipGeluIdeal.τ).loc Cert.SkipGeluIdeal.main_arg2)
      ∧ r.2.mem ((c.tc : Thread Cert.SkipGeluIdeal.nD Cert.SkipGeluIdeal.τ).loc Cert.SkipGeluIdeal.main_arg3) = m ((c.tc : Thread Cert.SkipGeluIdeal.nD Cert.SkipGeluIdeal.τ).loc Cert.SkipGeluIdeal.main_arg3))
      ∧ r.2.sem = fun _ => 0)

def quiescent_SkipGeluReferenceIdeal [hSkipGeluReferenceIdeal : Cert.SkipGeluReferenceIdeal.Facts] : Prop :=
  ∀ (m : (ℓ : Loc Cert.SkipGeluReferenceIdeal.nD Cert.SkipGeluReferenceIdeal.τ Cert.SkipGeluReferenceIdeal.sig) → Buf (Elt Ideal) ℓ) (g : Dev Cert.SkipGeluReferenceIdeal.nD → PrngReg), Pre_SkipGeluReferenceIdeal m →
    θ_run (Cert.SkipGeluReferenceIdeal.defs (F := Ideal)) (onTc (τ := Cert.SkipGeluReferenceIdeal.τ) (Cert.SkipGeluReferenceIdeal.main (F := Ideal))) ⟨m, fun _ => 0, g⟩ (fun r => (∀ c : Dev Cert.SkipGeluReferenceIdeal.nD,
      r.2.mem ((c.tc : Thread Cert.SkipGeluReferenceIdeal.nD Cert.SkipGeluReferenceIdeal.τ).loc Cert.SkipGeluReferenceIdeal.main_arg0) = m ((c.tc : Thread Cert.SkipGeluReferenceIdeal.nD Cert.SkipGeluReferenceIdeal.τ).loc Cert.SkipGeluReferenceIdeal.main_arg0)
      ∧ r.2.mem ((c.tc : Thread Cert.SkipGeluReferenceIdeal.nD Cert.SkipGeluReferenceIdeal.τ).loc Cert.SkipGeluReferenceIdeal.main_arg1) = m ((c.tc : Thread Cert.SkipGeluReferenceIdeal.nD Cert.SkipGeluReferenceIdeal.τ).loc Cert.SkipGeluReferenceIdeal.main_arg1)
      ∧ r.2.mem ((c.tc : Thread Cert.SkipGeluReferenceIdeal.nD Cert.SkipGeluReferenceIdeal.τ).loc Cert.SkipGeluReferenceIdeal.main_arg2) = m ((c.tc : Thread Cert.SkipGeluReferenceIdeal.nD Cert.SkipGeluReferenceIdeal.τ).loc Cert.SkipGeluReferenceIdeal.main_arg2)
      ∧ r.2.mem ((c.tc : Thread Cert.SkipGeluReferenceIdeal.nD Cert.SkipGeluReferenceIdeal.τ).loc Cert.SkipGeluReferenceIdeal.main_arg3) = m ((c.tc : Thread Cert.SkipGeluReferenceIdeal.nD Cert.SkipGeluReferenceIdeal.τ).loc Cert.SkipGeluReferenceIdeal.main_arg3))
      ∧ r.2.sem = fun _ => 0)

def quiescent_RecurrenceGate [hRecurrenceGate : Cert.RecurrenceGate.Facts] : Prop :=
  ∀ (m : (ℓ : Loc Cert.RecurrenceGate.nD Cert.RecurrenceGate.τ Cert.RecurrenceGate.sig) → Buf (Elt Bits) ℓ) (g : Dev Cert.RecurrenceGate.nD → PrngReg), Pre_RecurrenceGate m →
    θ_run (Cert.RecurrenceGate.defs (F := Bits)) (onTc (τ := Cert.RecurrenceGate.τ) (Cert.RecurrenceGate.main (F := Bits))) ⟨m, fun _ => 0, g⟩ (fun r => (∀ c : Dev Cert.RecurrenceGate.nD,
      r.2.mem ((c.tc : Thread Cert.RecurrenceGate.nD Cert.RecurrenceGate.τ).loc Cert.RecurrenceGate.main_arg0) = m ((c.tc : Thread Cert.RecurrenceGate.nD Cert.RecurrenceGate.τ).loc Cert.RecurrenceGate.main_arg0)
      ∧ r.2.mem ((c.tc : Thread Cert.RecurrenceGate.nD Cert.RecurrenceGate.τ).loc Cert.RecurrenceGate.main_arg1) = m ((c.tc : Thread Cert.RecurrenceGate.nD Cert.RecurrenceGate.τ).loc Cert.RecurrenceGate.main_arg1)
      ∧ r.2.mem ((c.tc : Thread Cert.RecurrenceGate.nD Cert.RecurrenceGate.τ).loc Cert.RecurrenceGate.main_arg2) = m ((c.tc : Thread Cert.RecurrenceGate.nD Cert.RecurrenceGate.τ).loc Cert.RecurrenceGate.main_arg2))
      ∧ r.2.sem = fun _ => 0)

def quiescent_RecurrenceGateIdeal [hRecurrenceGateIdeal : Cert.RecurrenceGateIdeal.Facts] : Prop :=
  ∀ (m : (ℓ : Loc Cert.RecurrenceGateIdeal.nD Cert.RecurrenceGateIdeal.τ Cert.RecurrenceGateIdeal.sig) → Buf (Elt Ideal) ℓ) (g : Dev Cert.RecurrenceGateIdeal.nD → PrngReg), Pre_RecurrenceGateIdeal m →
    θ_run (Cert.RecurrenceGateIdeal.defs (F := Ideal)) (onTc (τ := Cert.RecurrenceGateIdeal.τ) (Cert.RecurrenceGateIdeal.main (F := Ideal))) ⟨m, fun _ => 0, g⟩ (fun r => (∀ c : Dev Cert.RecurrenceGateIdeal.nD,
      r.2.mem ((c.tc : Thread Cert.RecurrenceGateIdeal.nD Cert.RecurrenceGateIdeal.τ).loc Cert.RecurrenceGateIdeal.main_arg0) = m ((c.tc : Thread Cert.RecurrenceGateIdeal.nD Cert.RecurrenceGateIdeal.τ).loc Cert.RecurrenceGateIdeal.main_arg0)
      ∧ r.2.mem ((c.tc : Thread Cert.RecurrenceGateIdeal.nD Cert.RecurrenceGateIdeal.τ).loc Cert.RecurrenceGateIdeal.main_arg1) = m ((c.tc : Thread Cert.RecurrenceGateIdeal.nD Cert.RecurrenceGateIdeal.τ).loc Cert.RecurrenceGateIdeal.main_arg1)
      ∧ r.2.mem ((c.tc : Thread Cert.RecurrenceGateIdeal.nD Cert.RecurrenceGateIdeal.τ).loc Cert.RecurrenceGateIdeal.main_arg2) = m ((c.tc : Thread Cert.RecurrenceGateIdeal.nD Cert.RecurrenceGateIdeal.τ).loc Cert.RecurrenceGateIdeal.main_arg2))
      ∧ r.2.sem = fun _ => 0)

def quiescent_RecurrenceGateReferenceIdeal [hRecurrenceGateReferenceIdeal : Cert.RecurrenceGateReferenceIdeal.Facts] : Prop :=
  ∀ (m : (ℓ : Loc Cert.RecurrenceGateReferenceIdeal.nD Cert.RecurrenceGateReferenceIdeal.τ Cert.RecurrenceGateReferenceIdeal.sig) → Buf (Elt Ideal) ℓ) (g : Dev Cert.RecurrenceGateReferenceIdeal.nD → PrngReg), Pre_RecurrenceGateReferenceIdeal m →
    θ_run (Cert.RecurrenceGateReferenceIdeal.defs (F := Ideal)) (onTc (τ := Cert.RecurrenceGateReferenceIdeal.τ) (Cert.RecurrenceGateReferenceIdeal.main (F := Ideal))) ⟨m, fun _ => 0, g⟩ (fun r => (∀ c : Dev Cert.RecurrenceGateReferenceIdeal.nD,
      r.2.mem ((c.tc : Thread Cert.RecurrenceGateReferenceIdeal.nD Cert.RecurrenceGateReferenceIdeal.τ).loc Cert.RecurrenceGateReferenceIdeal.main_arg0) = m ((c.tc : Thread Cert.RecurrenceGateReferenceIdeal.nD Cert.RecurrenceGateReferenceIdeal.τ).loc Cert.RecurrenceGateReferenceIdeal.main_arg0)
      ∧ r.2.mem ((c.tc : Thread Cert.RecurrenceGateReferenceIdeal.nD Cert.RecurrenceGateReferenceIdeal.τ).loc Cert.RecurrenceGateReferenceIdeal.main_arg1) = m ((c.tc : Thread Cert.RecurrenceGateReferenceIdeal.nD Cert.RecurrenceGateReferenceIdeal.τ).loc Cert.RecurrenceGateReferenceIdeal.main_arg1)
      ∧ r.2.mem ((c.tc : Thread Cert.RecurrenceGateReferenceIdeal.nD Cert.RecurrenceGateReferenceIdeal.τ).loc Cert.RecurrenceGateReferenceIdeal.main_arg2) = m ((c.tc : Thread Cert.RecurrenceGateReferenceIdeal.nD Cert.RecurrenceGateReferenceIdeal.τ).loc Cert.RecurrenceGateReferenceIdeal.main_arg2))
      ∧ r.2.sem = fun _ => 0)

def quiescent_DeltaOutput [hDeltaOutput : Cert.DeltaOutput.Facts] : Prop :=
  ∀ (m : (ℓ : Loc Cert.DeltaOutput.nD Cert.DeltaOutput.τ Cert.DeltaOutput.sig) → Buf (Elt Bits) ℓ) (g : Dev Cert.DeltaOutput.nD → PrngReg), Pre_DeltaOutput m →
    θ_run (Cert.DeltaOutput.defs (F := Bits)) (onTc (τ := Cert.DeltaOutput.τ) (Cert.DeltaOutput.main (F := Bits))) ⟨m, fun _ => 0, g⟩ (fun r => (∀ c : Dev Cert.DeltaOutput.nD,
      r.2.mem ((c.tc : Thread Cert.DeltaOutput.nD Cert.DeltaOutput.τ).loc Cert.DeltaOutput.main_arg0) = m ((c.tc : Thread Cert.DeltaOutput.nD Cert.DeltaOutput.τ).loc Cert.DeltaOutput.main_arg0)
      ∧ r.2.mem ((c.tc : Thread Cert.DeltaOutput.nD Cert.DeltaOutput.τ).loc Cert.DeltaOutput.main_arg1) = m ((c.tc : Thread Cert.DeltaOutput.nD Cert.DeltaOutput.τ).loc Cert.DeltaOutput.main_arg1)
      ∧ r.2.mem ((c.tc : Thread Cert.DeltaOutput.nD Cert.DeltaOutput.τ).loc Cert.DeltaOutput.main_arg2) = m ((c.tc : Thread Cert.DeltaOutput.nD Cert.DeltaOutput.τ).loc Cert.DeltaOutput.main_arg2)
      ∧ r.2.mem ((c.tc : Thread Cert.DeltaOutput.nD Cert.DeltaOutput.τ).loc Cert.DeltaOutput.main_arg3) = m ((c.tc : Thread Cert.DeltaOutput.nD Cert.DeltaOutput.τ).loc Cert.DeltaOutput.main_arg3))
      ∧ r.2.sem = fun _ => 0)

def quiescent_DeltaOutputIdeal [hDeltaOutputIdeal : Cert.DeltaOutputIdeal.Facts] : Prop :=
  ∀ (m : (ℓ : Loc Cert.DeltaOutputIdeal.nD Cert.DeltaOutputIdeal.τ Cert.DeltaOutputIdeal.sig) → Buf (Elt Ideal) ℓ) (g : Dev Cert.DeltaOutputIdeal.nD → PrngReg), Pre_DeltaOutputIdeal m →
    θ_run (Cert.DeltaOutputIdeal.defs (F := Ideal)) (onTc (τ := Cert.DeltaOutputIdeal.τ) (Cert.DeltaOutputIdeal.main (F := Ideal))) ⟨m, fun _ => 0, g⟩ (fun r => (∀ c : Dev Cert.DeltaOutputIdeal.nD,
      r.2.mem ((c.tc : Thread Cert.DeltaOutputIdeal.nD Cert.DeltaOutputIdeal.τ).loc Cert.DeltaOutputIdeal.main_arg0) = m ((c.tc : Thread Cert.DeltaOutputIdeal.nD Cert.DeltaOutputIdeal.τ).loc Cert.DeltaOutputIdeal.main_arg0)
      ∧ r.2.mem ((c.tc : Thread Cert.DeltaOutputIdeal.nD Cert.DeltaOutputIdeal.τ).loc Cert.DeltaOutputIdeal.main_arg1) = m ((c.tc : Thread Cert.DeltaOutputIdeal.nD Cert.DeltaOutputIdeal.τ).loc Cert.DeltaOutputIdeal.main_arg1)
      ∧ r.2.mem ((c.tc : Thread Cert.DeltaOutputIdeal.nD Cert.DeltaOutputIdeal.τ).loc Cert.DeltaOutputIdeal.main_arg2) = m ((c.tc : Thread Cert.DeltaOutputIdeal.nD Cert.DeltaOutputIdeal.τ).loc Cert.DeltaOutputIdeal.main_arg2)
      ∧ r.2.mem ((c.tc : Thread Cert.DeltaOutputIdeal.nD Cert.DeltaOutputIdeal.τ).loc Cert.DeltaOutputIdeal.main_arg3) = m ((c.tc : Thread Cert.DeltaOutputIdeal.nD Cert.DeltaOutputIdeal.τ).loc Cert.DeltaOutputIdeal.main_arg3))
      ∧ r.2.sem = fun _ => 0)

def quiescent_DeltaOutputReferenceIdeal [hDeltaOutputReferenceIdeal : Cert.DeltaOutputReferenceIdeal.Facts] : Prop :=
  ∀ (m : (ℓ : Loc Cert.DeltaOutputReferenceIdeal.nD Cert.DeltaOutputReferenceIdeal.τ Cert.DeltaOutputReferenceIdeal.sig) → Buf (Elt Ideal) ℓ) (g : Dev Cert.DeltaOutputReferenceIdeal.nD → PrngReg), Pre_DeltaOutputReferenceIdeal m →
    θ_run (Cert.DeltaOutputReferenceIdeal.defs (F := Ideal)) (onTc (τ := Cert.DeltaOutputReferenceIdeal.τ) (Cert.DeltaOutputReferenceIdeal.main (F := Ideal))) ⟨m, fun _ => 0, g⟩ (fun r => (∀ c : Dev Cert.DeltaOutputReferenceIdeal.nD,
      r.2.mem ((c.tc : Thread Cert.DeltaOutputReferenceIdeal.nD Cert.DeltaOutputReferenceIdeal.τ).loc Cert.DeltaOutputReferenceIdeal.main_arg0) = m ((c.tc : Thread Cert.DeltaOutputReferenceIdeal.nD Cert.DeltaOutputReferenceIdeal.τ).loc Cert.DeltaOutputReferenceIdeal.main_arg0)
      ∧ r.2.mem ((c.tc : Thread Cert.DeltaOutputReferenceIdeal.nD Cert.DeltaOutputReferenceIdeal.τ).loc Cert.DeltaOutputReferenceIdeal.main_arg1) = m ((c.tc : Thread Cert.DeltaOutputReferenceIdeal.nD Cert.DeltaOutputReferenceIdeal.τ).loc Cert.DeltaOutputReferenceIdeal.main_arg1)
      ∧ r.2.mem ((c.tc : Thread Cert.DeltaOutputReferenceIdeal.nD Cert.DeltaOutputReferenceIdeal.τ).loc Cert.DeltaOutputReferenceIdeal.main_arg2) = m ((c.tc : Thread Cert.DeltaOutputReferenceIdeal.nD Cert.DeltaOutputReferenceIdeal.τ).loc Cert.DeltaOutputReferenceIdeal.main_arg2)
      ∧ r.2.mem ((c.tc : Thread Cert.DeltaOutputReferenceIdeal.nD Cert.DeltaOutputReferenceIdeal.τ).loc Cert.DeltaOutputReferenceIdeal.main_arg3) = m ((c.tc : Thread Cert.DeltaOutputReferenceIdeal.nD Cert.DeltaOutputReferenceIdeal.τ).loc Cert.DeltaOutputReferenceIdeal.main_arg3))
      ∧ r.2.sem = fun _ => 0)

def quiescent_NormGradient [hNormGradient : Cert.NormGradient.Facts] : Prop :=
  ∀ (m : (ℓ : Loc Cert.NormGradient.nD Cert.NormGradient.τ Cert.NormGradient.sig) → Buf (Elt Bits) ℓ) (g : Dev Cert.NormGradient.nD → PrngReg), Pre_NormGradient m →
    θ_run (Cert.NormGradient.defs (F := Bits)) (onTc (τ := Cert.NormGradient.τ) (Cert.NormGradient.main (F := Bits))) ⟨m, fun _ => 0, g⟩ (fun r => (∀ c : Dev Cert.NormGradient.nD,
      r.2.mem ((c.tc : Thread Cert.NormGradient.nD Cert.NormGradient.τ).loc Cert.NormGradient.main_arg0) = m ((c.tc : Thread Cert.NormGradient.nD Cert.NormGradient.τ).loc Cert.NormGradient.main_arg0)
      ∧ r.2.mem ((c.tc : Thread Cert.NormGradient.nD Cert.NormGradient.τ).loc Cert.NormGradient.main_arg1) = m ((c.tc : Thread Cert.NormGradient.nD Cert.NormGradient.τ).loc Cert.NormGradient.main_arg1)
      ∧ r.2.mem ((c.tc : Thread Cert.NormGradient.nD Cert.NormGradient.τ).loc Cert.NormGradient.main_arg2) = m ((c.tc : Thread Cert.NormGradient.nD Cert.NormGradient.τ).loc Cert.NormGradient.main_arg2)
      ∧ r.2.mem ((c.tc : Thread Cert.NormGradient.nD Cert.NormGradient.τ).loc Cert.NormGradient.main_arg3) = m ((c.tc : Thread Cert.NormGradient.nD Cert.NormGradient.τ).loc Cert.NormGradient.main_arg3))
      ∧ r.2.sem = fun _ => 0)

def quiescent_NormGradientIdeal [hNormGradientIdeal : Cert.NormGradientIdeal.Facts] : Prop :=
  ∀ (m : (ℓ : Loc Cert.NormGradientIdeal.nD Cert.NormGradientIdeal.τ Cert.NormGradientIdeal.sig) → Buf (Elt Ideal) ℓ) (g : Dev Cert.NormGradientIdeal.nD → PrngReg), Pre_NormGradientIdeal m →
    θ_run (Cert.NormGradientIdeal.defs (F := Ideal)) (onTc (τ := Cert.NormGradientIdeal.τ) (Cert.NormGradientIdeal.main (F := Ideal))) ⟨m, fun _ => 0, g⟩ (fun r => (∀ c : Dev Cert.NormGradientIdeal.nD,
      r.2.mem ((c.tc : Thread Cert.NormGradientIdeal.nD Cert.NormGradientIdeal.τ).loc Cert.NormGradientIdeal.main_arg0) = m ((c.tc : Thread Cert.NormGradientIdeal.nD Cert.NormGradientIdeal.τ).loc Cert.NormGradientIdeal.main_arg0)
      ∧ r.2.mem ((c.tc : Thread Cert.NormGradientIdeal.nD Cert.NormGradientIdeal.τ).loc Cert.NormGradientIdeal.main_arg1) = m ((c.tc : Thread Cert.NormGradientIdeal.nD Cert.NormGradientIdeal.τ).loc Cert.NormGradientIdeal.main_arg1)
      ∧ r.2.mem ((c.tc : Thread Cert.NormGradientIdeal.nD Cert.NormGradientIdeal.τ).loc Cert.NormGradientIdeal.main_arg2) = m ((c.tc : Thread Cert.NormGradientIdeal.nD Cert.NormGradientIdeal.τ).loc Cert.NormGradientIdeal.main_arg2)
      ∧ r.2.mem ((c.tc : Thread Cert.NormGradientIdeal.nD Cert.NormGradientIdeal.τ).loc Cert.NormGradientIdeal.main_arg3) = m ((c.tc : Thread Cert.NormGradientIdeal.nD Cert.NormGradientIdeal.τ).loc Cert.NormGradientIdeal.main_arg3))
      ∧ r.2.sem = fun _ => 0)

def quiescent_NormGradientReferenceIdeal [hNormGradientReferenceIdeal : Cert.NormGradientReferenceIdeal.Facts] : Prop :=
  ∀ (m : (ℓ : Loc Cert.NormGradientReferenceIdeal.nD Cert.NormGradientReferenceIdeal.τ Cert.NormGradientReferenceIdeal.sig) → Buf (Elt Ideal) ℓ) (g : Dev Cert.NormGradientReferenceIdeal.nD → PrngReg), Pre_NormGradientReferenceIdeal m →
    θ_run (Cert.NormGradientReferenceIdeal.defs (F := Ideal)) (onTc (τ := Cert.NormGradientReferenceIdeal.τ) (Cert.NormGradientReferenceIdeal.main (F := Ideal))) ⟨m, fun _ => 0, g⟩ (fun r => (∀ c : Dev Cert.NormGradientReferenceIdeal.nD,
      r.2.mem ((c.tc : Thread Cert.NormGradientReferenceIdeal.nD Cert.NormGradientReferenceIdeal.τ).loc Cert.NormGradientReferenceIdeal.main_arg0) = m ((c.tc : Thread Cert.NormGradientReferenceIdeal.nD Cert.NormGradientReferenceIdeal.τ).loc Cert.NormGradientReferenceIdeal.main_arg0)
      ∧ r.2.mem ((c.tc : Thread Cert.NormGradientReferenceIdeal.nD Cert.NormGradientReferenceIdeal.τ).loc Cert.NormGradientReferenceIdeal.main_arg1) = m ((c.tc : Thread Cert.NormGradientReferenceIdeal.nD Cert.NormGradientReferenceIdeal.τ).loc Cert.NormGradientReferenceIdeal.main_arg1)
      ∧ r.2.mem ((c.tc : Thread Cert.NormGradientReferenceIdeal.nD Cert.NormGradientReferenceIdeal.τ).loc Cert.NormGradientReferenceIdeal.main_arg2) = m ((c.tc : Thread Cert.NormGradientReferenceIdeal.nD Cert.NormGradientReferenceIdeal.τ).loc Cert.NormGradientReferenceIdeal.main_arg2)
      ∧ r.2.mem ((c.tc : Thread Cert.NormGradientReferenceIdeal.nD Cert.NormGradientReferenceIdeal.τ).loc Cert.NormGradientReferenceIdeal.main_arg3) = m ((c.tc : Thread Cert.NormGradientReferenceIdeal.nD Cert.NormGradientReferenceIdeal.τ).loc Cert.NormGradientReferenceIdeal.main_arg3))
      ∧ r.2.sem = fun _ => 0)

def quiescent_MemoryNorm [hMemoryNorm : Cert.MemoryNorm.Facts] : Prop :=
  ∀ (m : (ℓ : Loc Cert.MemoryNorm.nD Cert.MemoryNorm.τ Cert.MemoryNorm.sig) → Buf (Elt Bits) ℓ) (g : Dev Cert.MemoryNorm.nD → PrngReg), Pre_MemoryNorm m →
    θ_run (Cert.MemoryNorm.defs (F := Bits)) (onTc (τ := Cert.MemoryNorm.τ) (Cert.MemoryNorm.main (F := Bits))) ⟨m, fun _ => 0, g⟩ (fun r => (∀ c : Dev Cert.MemoryNorm.nD,
      r.2.mem ((c.tc : Thread Cert.MemoryNorm.nD Cert.MemoryNorm.τ).loc Cert.MemoryNorm.main_arg0) = m ((c.tc : Thread Cert.MemoryNorm.nD Cert.MemoryNorm.τ).loc Cert.MemoryNorm.main_arg0)
      ∧ r.2.mem ((c.tc : Thread Cert.MemoryNorm.nD Cert.MemoryNorm.τ).loc Cert.MemoryNorm.main_arg1) = m ((c.tc : Thread Cert.MemoryNorm.nD Cert.MemoryNorm.τ).loc Cert.MemoryNorm.main_arg1)
      ∧ r.2.mem ((c.tc : Thread Cert.MemoryNorm.nD Cert.MemoryNorm.τ).loc Cert.MemoryNorm.main_arg2) = m ((c.tc : Thread Cert.MemoryNorm.nD Cert.MemoryNorm.τ).loc Cert.MemoryNorm.main_arg2))
      ∧ r.2.sem = fun _ => 0)

def quiescent_MemoryNormIdeal [hMemoryNormIdeal : Cert.MemoryNormIdeal.Facts] : Prop :=
  ∀ (m : (ℓ : Loc Cert.MemoryNormIdeal.nD Cert.MemoryNormIdeal.τ Cert.MemoryNormIdeal.sig) → Buf (Elt Ideal) ℓ) (g : Dev Cert.MemoryNormIdeal.nD → PrngReg), Pre_MemoryNormIdeal m →
    θ_run (Cert.MemoryNormIdeal.defs (F := Ideal)) (onTc (τ := Cert.MemoryNormIdeal.τ) (Cert.MemoryNormIdeal.main (F := Ideal))) ⟨m, fun _ => 0, g⟩ (fun r => (∀ c : Dev Cert.MemoryNormIdeal.nD,
      r.2.mem ((c.tc : Thread Cert.MemoryNormIdeal.nD Cert.MemoryNormIdeal.τ).loc Cert.MemoryNormIdeal.main_arg0) = m ((c.tc : Thread Cert.MemoryNormIdeal.nD Cert.MemoryNormIdeal.τ).loc Cert.MemoryNormIdeal.main_arg0)
      ∧ r.2.mem ((c.tc : Thread Cert.MemoryNormIdeal.nD Cert.MemoryNormIdeal.τ).loc Cert.MemoryNormIdeal.main_arg1) = m ((c.tc : Thread Cert.MemoryNormIdeal.nD Cert.MemoryNormIdeal.τ).loc Cert.MemoryNormIdeal.main_arg1)
      ∧ r.2.mem ((c.tc : Thread Cert.MemoryNormIdeal.nD Cert.MemoryNormIdeal.τ).loc Cert.MemoryNormIdeal.main_arg2) = m ((c.tc : Thread Cert.MemoryNormIdeal.nD Cert.MemoryNormIdeal.τ).loc Cert.MemoryNormIdeal.main_arg2))
      ∧ r.2.sem = fun _ => 0)

def quiescent_MemoryNormReferenceIdeal [hMemoryNormReferenceIdeal : Cert.MemoryNormReferenceIdeal.Facts] : Prop :=
  ∀ (m : (ℓ : Loc Cert.MemoryNormReferenceIdeal.nD Cert.MemoryNormReferenceIdeal.τ Cert.MemoryNormReferenceIdeal.sig) → Buf (Elt Ideal) ℓ) (g : Dev Cert.MemoryNormReferenceIdeal.nD → PrngReg), Pre_MemoryNormReferenceIdeal m →
    θ_run (Cert.MemoryNormReferenceIdeal.defs (F := Ideal)) (onTc (τ := Cert.MemoryNormReferenceIdeal.τ) (Cert.MemoryNormReferenceIdeal.main (F := Ideal))) ⟨m, fun _ => 0, g⟩ (fun r => (∀ c : Dev Cert.MemoryNormReferenceIdeal.nD,
      r.2.mem ((c.tc : Thread Cert.MemoryNormReferenceIdeal.nD Cert.MemoryNormReferenceIdeal.τ).loc Cert.MemoryNormReferenceIdeal.main_arg0) = m ((c.tc : Thread Cert.MemoryNormReferenceIdeal.nD Cert.MemoryNormReferenceIdeal.τ).loc Cert.MemoryNormReferenceIdeal.main_arg0)
      ∧ r.2.mem ((c.tc : Thread Cert.MemoryNormReferenceIdeal.nD Cert.MemoryNormReferenceIdeal.τ).loc Cert.MemoryNormReferenceIdeal.main_arg1) = m ((c.tc : Thread Cert.MemoryNormReferenceIdeal.nD Cert.MemoryNormReferenceIdeal.τ).loc Cert.MemoryNormReferenceIdeal.main_arg1)
      ∧ r.2.mem ((c.tc : Thread Cert.MemoryNormReferenceIdeal.nD Cert.MemoryNormReferenceIdeal.τ).loc Cert.MemoryNormReferenceIdeal.main_arg2) = m ((c.tc : Thread Cert.MemoryNormReferenceIdeal.nD Cert.MemoryNormReferenceIdeal.τ).loc Cert.MemoryNormReferenceIdeal.main_arg2))
      ∧ r.2.sem = fun _ => 0)

def quiescent_MergeForward [hMergeForward : Cert.MergeForward.Facts] : Prop :=
  ∀ (m : (ℓ : Loc Cert.MergeForward.nD Cert.MergeForward.τ Cert.MergeForward.sig) → Buf (Elt Bits) ℓ) (g : Dev Cert.MergeForward.nD → PrngReg), Pre_MergeForward m →
    θ_run (Cert.MergeForward.defs (F := Bits)) (onTc (τ := Cert.MergeForward.τ) (Cert.MergeForward.main (F := Bits))) ⟨m, fun _ => 0, g⟩ (fun r => (∀ c : Dev Cert.MergeForward.nD,
      r.2.mem ((c.tc : Thread Cert.MergeForward.nD Cert.MergeForward.τ).loc Cert.MergeForward.main_arg0) = m ((c.tc : Thread Cert.MergeForward.nD Cert.MergeForward.τ).loc Cert.MergeForward.main_arg0)
      ∧ r.2.mem ((c.tc : Thread Cert.MergeForward.nD Cert.MergeForward.τ).loc Cert.MergeForward.main_arg1) = m ((c.tc : Thread Cert.MergeForward.nD Cert.MergeForward.τ).loc Cert.MergeForward.main_arg1)
      ∧ r.2.mem ((c.tc : Thread Cert.MergeForward.nD Cert.MergeForward.τ).loc Cert.MergeForward.main_arg2) = m ((c.tc : Thread Cert.MergeForward.nD Cert.MergeForward.τ).loc Cert.MergeForward.main_arg2)
      ∧ r.2.mem ((c.tc : Thread Cert.MergeForward.nD Cert.MergeForward.τ).loc Cert.MergeForward.main_arg3) = m ((c.tc : Thread Cert.MergeForward.nD Cert.MergeForward.τ).loc Cert.MergeForward.main_arg3)
      ∧ r.2.mem ((c.tc : Thread Cert.MergeForward.nD Cert.MergeForward.τ).loc Cert.MergeForward.main_arg4) = m ((c.tc : Thread Cert.MergeForward.nD Cert.MergeForward.τ).loc Cert.MergeForward.main_arg4))
      ∧ r.2.sem = fun _ => 0)

def quiescent_MergeForwardIdeal [hMergeForwardIdeal : Cert.MergeForwardIdeal.Facts] : Prop :=
  ∀ (m : (ℓ : Loc Cert.MergeForwardIdeal.nD Cert.MergeForwardIdeal.τ Cert.MergeForwardIdeal.sig) → Buf (Elt Ideal) ℓ) (g : Dev Cert.MergeForwardIdeal.nD → PrngReg), Pre_MergeForwardIdeal m →
    θ_run (Cert.MergeForwardIdeal.defs (F := Ideal)) (onTc (τ := Cert.MergeForwardIdeal.τ) (Cert.MergeForwardIdeal.main (F := Ideal))) ⟨m, fun _ => 0, g⟩ (fun r => (∀ c : Dev Cert.MergeForwardIdeal.nD,
      r.2.mem ((c.tc : Thread Cert.MergeForwardIdeal.nD Cert.MergeForwardIdeal.τ).loc Cert.MergeForwardIdeal.main_arg0) = m ((c.tc : Thread Cert.MergeForwardIdeal.nD Cert.MergeForwardIdeal.τ).loc Cert.MergeForwardIdeal.main_arg0)
      ∧ r.2.mem ((c.tc : Thread Cert.MergeForwardIdeal.nD Cert.MergeForwardIdeal.τ).loc Cert.MergeForwardIdeal.main_arg1) = m ((c.tc : Thread Cert.MergeForwardIdeal.nD Cert.MergeForwardIdeal.τ).loc Cert.MergeForwardIdeal.main_arg1)
      ∧ r.2.mem ((c.tc : Thread Cert.MergeForwardIdeal.nD Cert.MergeForwardIdeal.τ).loc Cert.MergeForwardIdeal.main_arg2) = m ((c.tc : Thread Cert.MergeForwardIdeal.nD Cert.MergeForwardIdeal.τ).loc Cert.MergeForwardIdeal.main_arg2)
      ∧ r.2.mem ((c.tc : Thread Cert.MergeForwardIdeal.nD Cert.MergeForwardIdeal.τ).loc Cert.MergeForwardIdeal.main_arg3) = m ((c.tc : Thread Cert.MergeForwardIdeal.nD Cert.MergeForwardIdeal.τ).loc Cert.MergeForwardIdeal.main_arg3)
      ∧ r.2.mem ((c.tc : Thread Cert.MergeForwardIdeal.nD Cert.MergeForwardIdeal.τ).loc Cert.MergeForwardIdeal.main_arg4) = m ((c.tc : Thread Cert.MergeForwardIdeal.nD Cert.MergeForwardIdeal.τ).loc Cert.MergeForwardIdeal.main_arg4))
      ∧ r.2.sem = fun _ => 0)

def quiescent_MergeForwardReferenceIdeal [hMergeForwardReferenceIdeal : Cert.MergeForwardReferenceIdeal.Facts] : Prop :=
  ∀ (m : (ℓ : Loc Cert.MergeForwardReferenceIdeal.nD Cert.MergeForwardReferenceIdeal.τ Cert.MergeForwardReferenceIdeal.sig) → Buf (Elt Ideal) ℓ) (g : Dev Cert.MergeForwardReferenceIdeal.nD → PrngReg), Pre_MergeForwardReferenceIdeal m →
    θ_run (Cert.MergeForwardReferenceIdeal.defs (F := Ideal)) (onTc (τ := Cert.MergeForwardReferenceIdeal.τ) (Cert.MergeForwardReferenceIdeal.main (F := Ideal))) ⟨m, fun _ => 0, g⟩ (fun r => (∀ c : Dev Cert.MergeForwardReferenceIdeal.nD,
      r.2.mem ((c.tc : Thread Cert.MergeForwardReferenceIdeal.nD Cert.MergeForwardReferenceIdeal.τ).loc Cert.MergeForwardReferenceIdeal.main_arg0) = m ((c.tc : Thread Cert.MergeForwardReferenceIdeal.nD Cert.MergeForwardReferenceIdeal.τ).loc Cert.MergeForwardReferenceIdeal.main_arg0)
      ∧ r.2.mem ((c.tc : Thread Cert.MergeForwardReferenceIdeal.nD Cert.MergeForwardReferenceIdeal.τ).loc Cert.MergeForwardReferenceIdeal.main_arg1) = m ((c.tc : Thread Cert.MergeForwardReferenceIdeal.nD Cert.MergeForwardReferenceIdeal.τ).loc Cert.MergeForwardReferenceIdeal.main_arg1)
      ∧ r.2.mem ((c.tc : Thread Cert.MergeForwardReferenceIdeal.nD Cert.MergeForwardReferenceIdeal.τ).loc Cert.MergeForwardReferenceIdeal.main_arg2) = m ((c.tc : Thread Cert.MergeForwardReferenceIdeal.nD Cert.MergeForwardReferenceIdeal.τ).loc Cert.MergeForwardReferenceIdeal.main_arg2)
      ∧ r.2.mem ((c.tc : Thread Cert.MergeForwardReferenceIdeal.nD Cert.MergeForwardReferenceIdeal.τ).loc Cert.MergeForwardReferenceIdeal.main_arg3) = m ((c.tc : Thread Cert.MergeForwardReferenceIdeal.nD Cert.MergeForwardReferenceIdeal.τ).loc Cert.MergeForwardReferenceIdeal.main_arg3)
      ∧ r.2.mem ((c.tc : Thread Cert.MergeForwardReferenceIdeal.nD Cert.MergeForwardReferenceIdeal.τ).loc Cert.MergeForwardReferenceIdeal.main_arg4) = m ((c.tc : Thread Cert.MergeForwardReferenceIdeal.nD Cert.MergeForwardReferenceIdeal.τ).loc Cert.MergeForwardReferenceIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2))
      ∧ r.2.sem = fun _ => 0)

def quiescent_DeltaGates [hDeltaGates : Cert.DeltaGates.Facts] : Prop :=
  ∀ (m : (ℓ : Loc Cert.DeltaGates.nD Cert.DeltaGates.τ Cert.DeltaGates.sig) → Buf (Elt Bits) ℓ) (g : Dev Cert.DeltaGates.nD → PrngReg), Pre_DeltaGates m →
    θ_run (Cert.DeltaGates.defs (F := Bits)) (onTc (τ := Cert.DeltaGates.τ) (Cert.DeltaGates.main (F := Bits))) ⟨m, fun _ => 0, g⟩ (fun r => (∀ c : Dev Cert.DeltaGates.nD,
      r.2.mem ((c.tc : Thread Cert.DeltaGates.nD Cert.DeltaGates.τ).loc Cert.DeltaGates.main_arg0) = m ((c.tc : Thread Cert.DeltaGates.nD Cert.DeltaGates.τ).loc Cert.DeltaGates.main_arg0)
      ∧ r.2.mem ((c.tc : Thread Cert.DeltaGates.nD Cert.DeltaGates.τ).loc Cert.DeltaGates.main_arg1) = m ((c.tc : Thread Cert.DeltaGates.nD Cert.DeltaGates.τ).loc Cert.DeltaGates.main_arg1)
      ∧ r.2.mem ((c.tc : Thread Cert.DeltaGates.nD Cert.DeltaGates.τ).loc Cert.DeltaGates.main_arg2) = m ((c.tc : Thread Cert.DeltaGates.nD Cert.DeltaGates.τ).loc Cert.DeltaGates.main_arg2)
      ∧ r.2.mem ((c.tc : Thread Cert.DeltaGates.nD Cert.DeltaGates.τ).loc Cert.DeltaGates.main_arg3) = m ((c.tc : Thread Cert.DeltaGates.nD Cert.DeltaGates.τ).loc Cert.DeltaGates.main_arg3)
      ∧ r.2.mem ((c.tc : Thread Cert.DeltaGates.nD Cert.DeltaGates.τ).loc Cert.DeltaGates.main_arg4) = m ((c.tc : Thread Cert.DeltaGates.nD Cert.DeltaGates.τ).loc Cert.DeltaGates.main_arg4)
      ∧ r.2.mem ((c.tc : Thread Cert.DeltaGates.nD Cert.DeltaGates.τ).loc Cert.DeltaGates.main_arg5) = m ((c.tc : Thread Cert.DeltaGates.nD Cert.DeltaGates.τ).loc Cert.DeltaGates.main_arg5)
      ∧ r.2.mem ((c.tc : Thread Cert.DeltaGates.nD Cert.DeltaGates.τ).loc Cert.DeltaGates.main_arg6) = m ((c.tc : Thread Cert.DeltaGates.nD Cert.DeltaGates.τ).loc Cert.DeltaGates.main_arg6))
      ∧ r.2.sem = fun _ => 0)

def quiescent_DeltaGatesIdeal [hDeltaGatesIdeal : Cert.DeltaGatesIdeal.Facts] : Prop :=
  ∀ (m : (ℓ : Loc Cert.DeltaGatesIdeal.nD Cert.DeltaGatesIdeal.τ Cert.DeltaGatesIdeal.sig) → Buf (Elt Ideal) ℓ) (g : Dev Cert.DeltaGatesIdeal.nD → PrngReg), Pre_DeltaGatesIdeal m →
    θ_run (Cert.DeltaGatesIdeal.defs (F := Ideal)) (onTc (τ := Cert.DeltaGatesIdeal.τ) (Cert.DeltaGatesIdeal.main (F := Ideal))) ⟨m, fun _ => 0, g⟩ (fun r => (∀ c : Dev Cert.DeltaGatesIdeal.nD,
      r.2.mem ((c.tc : Thread Cert.DeltaGatesIdeal.nD Cert.DeltaGatesIdeal.τ).loc Cert.DeltaGatesIdeal.main_arg0) = m ((c.tc : Thread Cert.DeltaGatesIdeal.nD Cert.DeltaGatesIdeal.τ).loc Cert.DeltaGatesIdeal.main_arg0)
      ∧ r.2.mem ((c.tc : Thread Cert.DeltaGatesIdeal.nD Cert.DeltaGatesIdeal.τ).loc Cert.DeltaGatesIdeal.main_arg1) = m ((c.tc : Thread Cert.DeltaGatesIdeal.nD Cert.DeltaGatesIdeal.τ).loc Cert.DeltaGatesIdeal.main_arg1)
      ∧ r.2.mem ((c.tc : Thread Cert.DeltaGatesIdeal.nD Cert.DeltaGatesIdeal.τ).loc Cert.DeltaGatesIdeal.main_arg2) = m ((c.tc : Thread Cert.DeltaGatesIdeal.nD Cert.DeltaGatesIdeal.τ).loc Cert.DeltaGatesIdeal.main_arg2)
      ∧ r.2.mem ((c.tc : Thread Cert.DeltaGatesIdeal.nD Cert.DeltaGatesIdeal.τ).loc Cert.DeltaGatesIdeal.main_arg3) = m ((c.tc : Thread Cert.DeltaGatesIdeal.nD Cert.DeltaGatesIdeal.τ).loc Cert.DeltaGatesIdeal.main_arg3)
      ∧ r.2.mem ((c.tc : Thread Cert.DeltaGatesIdeal.nD Cert.DeltaGatesIdeal.τ).loc Cert.DeltaGatesIdeal.main_arg4) = m ((c.tc : Thread Cert.DeltaGatesIdeal.nD Cert.DeltaGatesIdeal.τ).loc Cert.DeltaGatesIdeal.main_arg4)
      ∧ r.2.mem ((c.tc : Thread Cert.DeltaGatesIdeal.nD Cert.DeltaGatesIdeal.τ).loc Cert.DeltaGatesIdeal.main_arg5) = m ((c.tc : Thread Cert.DeltaGatesIdeal.nD Cert.DeltaGatesIdeal.τ).loc Cert.DeltaGatesIdeal.main_arg5)
      ∧ r.2.mem ((c.tc : Thread Cert.DeltaGatesIdeal.nD Cert.DeltaGatesIdeal.τ).loc Cert.DeltaGatesIdeal.main_arg6) = m ((c.tc : Thread Cert.DeltaGatesIdeal.nD Cert.DeltaGatesIdeal.τ).loc Cert.DeltaGatesIdeal.main_arg6))
      ∧ r.2.sem = fun _ => 0)

def quiescent_DeltaGatesReferenceIdeal [hDeltaGatesReferenceIdeal : Cert.DeltaGatesReferenceIdeal.Facts] : Prop :=
  ∀ (m : (ℓ : Loc Cert.DeltaGatesReferenceIdeal.nD Cert.DeltaGatesReferenceIdeal.τ Cert.DeltaGatesReferenceIdeal.sig) → Buf (Elt Ideal) ℓ) (g : Dev Cert.DeltaGatesReferenceIdeal.nD → PrngReg), Pre_DeltaGatesReferenceIdeal m →
    θ_run (Cert.DeltaGatesReferenceIdeal.defs (F := Ideal)) (onTc (τ := Cert.DeltaGatesReferenceIdeal.τ) (Cert.DeltaGatesReferenceIdeal.main (F := Ideal))) ⟨m, fun _ => 0, g⟩ (fun r => (∀ c : Dev Cert.DeltaGatesReferenceIdeal.nD,
      r.2.mem ((c.tc : Thread Cert.DeltaGatesReferenceIdeal.nD Cert.DeltaGatesReferenceIdeal.τ).loc Cert.DeltaGatesReferenceIdeal.main_arg0) = m ((c.tc : Thread Cert.DeltaGatesReferenceIdeal.nD Cert.DeltaGatesReferenceIdeal.τ).loc Cert.DeltaGatesReferenceIdeal.main_arg0)
      ∧ r.2.mem ((c.tc : Thread Cert.DeltaGatesReferenceIdeal.nD Cert.DeltaGatesReferenceIdeal.τ).loc Cert.DeltaGatesReferenceIdeal.main_arg1) = m ((c.tc : Thread Cert.DeltaGatesReferenceIdeal.nD Cert.DeltaGatesReferenceIdeal.τ).loc Cert.DeltaGatesReferenceIdeal.main_arg1)
      ∧ r.2.mem ((c.tc : Thread Cert.DeltaGatesReferenceIdeal.nD Cert.DeltaGatesReferenceIdeal.τ).loc Cert.DeltaGatesReferenceIdeal.main_arg2) = m ((c.tc : Thread Cert.DeltaGatesReferenceIdeal.nD Cert.DeltaGatesReferenceIdeal.τ).loc Cert.DeltaGatesReferenceIdeal.main_arg2)
      ∧ r.2.mem ((c.tc : Thread Cert.DeltaGatesReferenceIdeal.nD Cert.DeltaGatesReferenceIdeal.τ).loc Cert.DeltaGatesReferenceIdeal.main_arg3) = m ((c.tc : Thread Cert.DeltaGatesReferenceIdeal.nD Cert.DeltaGatesReferenceIdeal.τ).loc Cert.DeltaGatesReferenceIdeal.main_arg3)
      ∧ r.2.mem ((c.tc : Thread Cert.DeltaGatesReferenceIdeal.nD Cert.DeltaGatesReferenceIdeal.τ).loc Cert.DeltaGatesReferenceIdeal.main_arg4) = m ((c.tc : Thread Cert.DeltaGatesReferenceIdeal.nD Cert.DeltaGatesReferenceIdeal.τ).loc Cert.DeltaGatesReferenceIdeal.main_arg4)
      ∧ r.2.mem ((c.tc : Thread Cert.DeltaGatesReferenceIdeal.nD Cert.DeltaGatesReferenceIdeal.τ).loc Cert.DeltaGatesReferenceIdeal.main_arg5) = m ((c.tc : Thread Cert.DeltaGatesReferenceIdeal.nD Cert.DeltaGatesReferenceIdeal.τ).loc Cert.DeltaGatesReferenceIdeal.main_arg5)
      ∧ r.2.mem ((c.tc : Thread Cert.DeltaGatesReferenceIdeal.nD Cert.DeltaGatesReferenceIdeal.τ).loc Cert.DeltaGatesReferenceIdeal.main_arg6) = m ((c.tc : Thread Cert.DeltaGatesReferenceIdeal.nD Cert.DeltaGatesReferenceIdeal.τ).loc Cert.DeltaGatesReferenceIdeal.main_arg6))
      ∧ r.2.sem = fun _ => 0)

def quiescent_DeltaKeys [hDeltaKeys : Cert.DeltaKeys.Facts] : Prop :=
  ∀ (m : (ℓ : Loc Cert.DeltaKeys.nD Cert.DeltaKeys.τ Cert.DeltaKeys.sig) → Buf (Elt Bits) ℓ) (g : Dev Cert.DeltaKeys.nD → PrngReg), Pre_DeltaKeys m →
    θ_run (Cert.DeltaKeys.defs (F := Bits)) (onTc (τ := Cert.DeltaKeys.τ) (Cert.DeltaKeys.main (F := Bits))) ⟨m, fun _ => 0, g⟩ (fun r => (∀ c : Dev Cert.DeltaKeys.nD,
      r.2.mem ((c.tc : Thread Cert.DeltaKeys.nD Cert.DeltaKeys.τ).loc Cert.DeltaKeys.main_arg0) = m ((c.tc : Thread Cert.DeltaKeys.nD Cert.DeltaKeys.τ).loc Cert.DeltaKeys.main_arg0)
      ∧ r.2.mem ((c.tc : Thread Cert.DeltaKeys.nD Cert.DeltaKeys.τ).loc Cert.DeltaKeys.main_arg1) = m ((c.tc : Thread Cert.DeltaKeys.nD Cert.DeltaKeys.τ).loc Cert.DeltaKeys.main_arg1)
      ∧ r.2.mem ((c.tc : Thread Cert.DeltaKeys.nD Cert.DeltaKeys.τ).loc Cert.DeltaKeys.main_arg2) = m ((c.tc : Thread Cert.DeltaKeys.nD Cert.DeltaKeys.τ).loc Cert.DeltaKeys.main_arg2))
      ∧ r.2.sem = fun _ => 0)

def quiescent_DeltaKeysIdeal [hDeltaKeysIdeal : Cert.DeltaKeysIdeal.Facts] : Prop :=
  ∀ (m : (ℓ : Loc Cert.DeltaKeysIdeal.nD Cert.DeltaKeysIdeal.τ Cert.DeltaKeysIdeal.sig) → Buf (Elt Ideal) ℓ) (g : Dev Cert.DeltaKeysIdeal.nD → PrngReg), Pre_DeltaKeysIdeal m →
    θ_run (Cert.DeltaKeysIdeal.defs (F := Ideal)) (onTc (τ := Cert.DeltaKeysIdeal.τ) (Cert.DeltaKeysIdeal.main (F := Ideal))) ⟨m, fun _ => 0, g⟩ (fun r => (∀ c : Dev Cert.DeltaKeysIdeal.nD,
      r.2.mem ((c.tc : Thread Cert.DeltaKeysIdeal.nD Cert.DeltaKeysIdeal.τ).loc Cert.DeltaKeysIdeal.main_arg0) = m ((c.tc : Thread Cert.DeltaKeysIdeal.nD Cert.DeltaKeysIdeal.τ).loc Cert.DeltaKeysIdeal.main_arg0)
      ∧ r.2.mem ((c.tc : Thread Cert.DeltaKeysIdeal.nD Cert.DeltaKeysIdeal.τ).loc Cert.DeltaKeysIdeal.main_arg1) = m ((c.tc : Thread Cert.DeltaKeysIdeal.nD Cert.DeltaKeysIdeal.τ).loc Cert.DeltaKeysIdeal.main_arg1)
      ∧ r.2.mem ((c.tc : Thread Cert.DeltaKeysIdeal.nD Cert.DeltaKeysIdeal.τ).loc Cert.DeltaKeysIdeal.main_arg2) = m ((c.tc : Thread Cert.DeltaKeysIdeal.nD Cert.DeltaKeysIdeal.τ).loc Cert.DeltaKeysIdeal.main_arg2))
      ∧ r.2.sem = fun _ => 0)

def quiescent_DeltaKeysReferenceIdeal [hDeltaKeysReferenceIdeal : Cert.DeltaKeysReferenceIdeal.Facts] : Prop :=
  ∀ (m : (ℓ : Loc Cert.DeltaKeysReferenceIdeal.nD Cert.DeltaKeysReferenceIdeal.τ Cert.DeltaKeysReferenceIdeal.sig) → Buf (Elt Ideal) ℓ) (g : Dev Cert.DeltaKeysReferenceIdeal.nD → PrngReg), Pre_DeltaKeysReferenceIdeal m →
    θ_run (Cert.DeltaKeysReferenceIdeal.defs (F := Ideal)) (onTc (τ := Cert.DeltaKeysReferenceIdeal.τ) (Cert.DeltaKeysReferenceIdeal.main (F := Ideal))) ⟨m, fun _ => 0, g⟩ (fun r => (∀ c : Dev Cert.DeltaKeysReferenceIdeal.nD,
      r.2.mem ((c.tc : Thread Cert.DeltaKeysReferenceIdeal.nD Cert.DeltaKeysReferenceIdeal.τ).loc Cert.DeltaKeysReferenceIdeal.main_arg0) = m ((c.tc : Thread Cert.DeltaKeysReferenceIdeal.nD Cert.DeltaKeysReferenceIdeal.τ).loc Cert.DeltaKeysReferenceIdeal.main_arg0)
      ∧ r.2.mem ((c.tc : Thread Cert.DeltaKeysReferenceIdeal.nD Cert.DeltaKeysReferenceIdeal.τ).loc Cert.DeltaKeysReferenceIdeal.main_arg1) = m ((c.tc : Thread Cert.DeltaKeysReferenceIdeal.nD Cert.DeltaKeysReferenceIdeal.τ).loc Cert.DeltaKeysReferenceIdeal.main_arg1)
      ∧ r.2.mem ((c.tc : Thread Cert.DeltaKeysReferenceIdeal.nD Cert.DeltaKeysReferenceIdeal.τ).loc Cert.DeltaKeysReferenceIdeal.main_arg2) = m ((c.tc : Thread Cert.DeltaKeysReferenceIdeal.nD Cert.DeltaKeysReferenceIdeal.τ).loc Cert.DeltaKeysReferenceIdeal.main_arg2))
      ∧ r.2.sem = fun _ => 0)

def quiescent_DeltaValues [hDeltaValues : Cert.DeltaValues.Facts] : Prop :=
  ∀ (m : (ℓ : Loc Cert.DeltaValues.nD Cert.DeltaValues.τ Cert.DeltaValues.sig) → Buf (Elt Bits) ℓ) (g : Dev Cert.DeltaValues.nD → PrngReg), Pre_DeltaValues m →
    θ_run (Cert.DeltaValues.defs (F := Bits)) (onTc (τ := Cert.DeltaValues.τ) (Cert.DeltaValues.main (F := Bits))) ⟨m, fun _ => 0, g⟩ (fun r => (∀ c : Dev Cert.DeltaValues.nD,
      r.2.mem ((c.tc : Thread Cert.DeltaValues.nD Cert.DeltaValues.τ).loc Cert.DeltaValues.main_arg0) = m ((c.tc : Thread Cert.DeltaValues.nD Cert.DeltaValues.τ).loc Cert.DeltaValues.main_arg0)
      ∧ r.2.mem ((c.tc : Thread Cert.DeltaValues.nD Cert.DeltaValues.τ).loc Cert.DeltaValues.main_arg1) = m ((c.tc : Thread Cert.DeltaValues.nD Cert.DeltaValues.τ).loc Cert.DeltaValues.main_arg1)
      ∧ r.2.mem ((c.tc : Thread Cert.DeltaValues.nD Cert.DeltaValues.τ).loc Cert.DeltaValues.main_arg2) = m ((c.tc : Thread Cert.DeltaValues.nD Cert.DeltaValues.τ).loc Cert.DeltaValues.main_arg2))
      ∧ r.2.sem = fun _ => 0)

def quiescent_DeltaValuesIdeal [hDeltaValuesIdeal : Cert.DeltaValuesIdeal.Facts] : Prop :=
  ∀ (m : (ℓ : Loc Cert.DeltaValuesIdeal.nD Cert.DeltaValuesIdeal.τ Cert.DeltaValuesIdeal.sig) → Buf (Elt Ideal) ℓ) (g : Dev Cert.DeltaValuesIdeal.nD → PrngReg), Pre_DeltaValuesIdeal m →
    θ_run (Cert.DeltaValuesIdeal.defs (F := Ideal)) (onTc (τ := Cert.DeltaValuesIdeal.τ) (Cert.DeltaValuesIdeal.main (F := Ideal))) ⟨m, fun _ => 0, g⟩ (fun r => (∀ c : Dev Cert.DeltaValuesIdeal.nD,
      r.2.mem ((c.tc : Thread Cert.DeltaValuesIdeal.nD Cert.DeltaValuesIdeal.τ).loc Cert.DeltaValuesIdeal.main_arg0) = m ((c.tc : Thread Cert.DeltaValuesIdeal.nD Cert.DeltaValuesIdeal.τ).loc Cert.DeltaValuesIdeal.main_arg0)
      ∧ r.2.mem ((c.tc : Thread Cert.DeltaValuesIdeal.nD Cert.DeltaValuesIdeal.τ).loc Cert.DeltaValuesIdeal.main_arg1) = m ((c.tc : Thread Cert.DeltaValuesIdeal.nD Cert.DeltaValuesIdeal.τ).loc Cert.DeltaValuesIdeal.main_arg1)
      ∧ r.2.mem ((c.tc : Thread Cert.DeltaValuesIdeal.nD Cert.DeltaValuesIdeal.τ).loc Cert.DeltaValuesIdeal.main_arg2) = m ((c.tc : Thread Cert.DeltaValuesIdeal.nD Cert.DeltaValuesIdeal.τ).loc Cert.DeltaValuesIdeal.main_arg2))
      ∧ r.2.sem = fun _ => 0)

def quiescent_DeltaValuesReferenceIdeal [hDeltaValuesReferenceIdeal : Cert.DeltaValuesReferenceIdeal.Facts] : Prop :=
  ∀ (m : (ℓ : Loc Cert.DeltaValuesReferenceIdeal.nD Cert.DeltaValuesReferenceIdeal.τ Cert.DeltaValuesReferenceIdeal.sig) → Buf (Elt Ideal) ℓ) (g : Dev Cert.DeltaValuesReferenceIdeal.nD → PrngReg), Pre_DeltaValuesReferenceIdeal m →
    θ_run (Cert.DeltaValuesReferenceIdeal.defs (F := Ideal)) (onTc (τ := Cert.DeltaValuesReferenceIdeal.τ) (Cert.DeltaValuesReferenceIdeal.main (F := Ideal))) ⟨m, fun _ => 0, g⟩ (fun r => (∀ c : Dev Cert.DeltaValuesReferenceIdeal.nD,
      r.2.mem ((c.tc : Thread Cert.DeltaValuesReferenceIdeal.nD Cert.DeltaValuesReferenceIdeal.τ).loc Cert.DeltaValuesReferenceIdeal.main_arg0) = m ((c.tc : Thread Cert.DeltaValuesReferenceIdeal.nD Cert.DeltaValuesReferenceIdeal.τ).loc Cert.DeltaValuesReferenceIdeal.main_arg0)
      ∧ r.2.mem ((c.tc : Thread Cert.DeltaValuesReferenceIdeal.nD Cert.DeltaValuesReferenceIdeal.τ).loc Cert.DeltaValuesReferenceIdeal.main_arg1) = m ((c.tc : Thread Cert.DeltaValuesReferenceIdeal.nD Cert.DeltaValuesReferenceIdeal.τ).loc Cert.DeltaValuesReferenceIdeal.main_arg1)
      ∧ r.2.mem ((c.tc : Thread Cert.DeltaValuesReferenceIdeal.nD Cert.DeltaValuesReferenceIdeal.τ).loc Cert.DeltaValuesReferenceIdeal.main_arg2) = m ((c.tc : Thread Cert.DeltaValuesReferenceIdeal.nD Cert.DeltaValuesReferenceIdeal.τ).loc Cert.DeltaValuesReferenceIdeal.main_arg2))
      ∧ r.2.sem = fun _ => 0)

def quiescent_Discretise [hDiscretise : Cert.Discretise.Facts] : Prop :=
  ∀ (m : (ℓ : Loc Cert.Discretise.nD Cert.Discretise.τ Cert.Discretise.sig) → Buf (Elt Bits) ℓ) (g : Dev Cert.Discretise.nD → PrngReg), Pre_Discretise m →
    θ_run (Cert.Discretise.defs (F := Bits)) (onTc (τ := Cert.Discretise.τ) (Cert.Discretise.main (F := Bits))) ⟨m, fun _ => 0, g⟩ (fun r => (∀ c : Dev Cert.Discretise.nD,
      r.2.mem ((c.tc : Thread Cert.Discretise.nD Cert.Discretise.τ).loc Cert.Discretise.main_arg0) = m ((c.tc : Thread Cert.Discretise.nD Cert.Discretise.τ).loc Cert.Discretise.main_arg0)
      ∧ r.2.mem ((c.tc : Thread Cert.Discretise.nD Cert.Discretise.τ).loc Cert.Discretise.main_arg1) = m ((c.tc : Thread Cert.Discretise.nD Cert.Discretise.τ).loc Cert.Discretise.main_arg1)
      ∧ r.2.mem ((c.tc : Thread Cert.Discretise.nD Cert.Discretise.τ).loc Cert.Discretise.main_arg2) = m ((c.tc : Thread Cert.Discretise.nD Cert.Discretise.τ).loc Cert.Discretise.main_arg2)
      ∧ r.2.mem ((c.tc : Thread Cert.Discretise.nD Cert.Discretise.τ).loc Cert.Discretise.main_arg3) = m ((c.tc : Thread Cert.Discretise.nD Cert.Discretise.τ).loc Cert.Discretise.main_arg3)
      ∧ r.2.mem ((c.tc : Thread Cert.Discretise.nD Cert.Discretise.τ).loc Cert.Discretise.main_arg4) = m ((c.tc : Thread Cert.Discretise.nD Cert.Discretise.τ).loc Cert.Discretise.main_arg4)
      ∧ r.2.mem ((c.tc : Thread Cert.Discretise.nD Cert.Discretise.τ).loc Cert.Discretise.main_arg5) = m ((c.tc : Thread Cert.Discretise.nD Cert.Discretise.τ).loc Cert.Discretise.main_arg5)
      ∧ r.2.mem ((c.tc : Thread Cert.Discretise.nD Cert.Discretise.τ).loc Cert.Discretise.main_arg6) = m ((c.tc : Thread Cert.Discretise.nD Cert.Discretise.τ).loc Cert.Discretise.main_arg6)
      ∧ r.2.mem ((c.tc : Thread Cert.Discretise.nD Cert.Discretise.τ).loc Cert.Discretise.main_arg7) = m ((c.tc : Thread Cert.Discretise.nD Cert.Discretise.τ).loc Cert.Discretise.main_arg7)
      ∧ r.2.mem ((c.tc : Thread Cert.Discretise.nD Cert.Discretise.τ).loc Cert.Discretise.main_arg8) = m ((c.tc : Thread Cert.Discretise.nD Cert.Discretise.τ).loc Cert.Discretise.main_arg8))
      ∧ r.2.sem = fun _ => 0)

def quiescent_DiscretiseIdeal [hDiscretiseIdeal : Cert.DiscretiseIdeal.Facts] : Prop :=
  ∀ (m : (ℓ : Loc Cert.DiscretiseIdeal.nD Cert.DiscretiseIdeal.τ Cert.DiscretiseIdeal.sig) → Buf (Elt Ideal) ℓ) (g : Dev Cert.DiscretiseIdeal.nD → PrngReg), Pre_DiscretiseIdeal m →
    θ_run (Cert.DiscretiseIdeal.defs (F := Ideal)) (onTc (τ := Cert.DiscretiseIdeal.τ) (Cert.DiscretiseIdeal.main (F := Ideal))) ⟨m, fun _ => 0, g⟩ (fun r => (∀ c : Dev Cert.DiscretiseIdeal.nD,
      r.2.mem ((c.tc : Thread Cert.DiscretiseIdeal.nD Cert.DiscretiseIdeal.τ).loc Cert.DiscretiseIdeal.main_arg0) = m ((c.tc : Thread Cert.DiscretiseIdeal.nD Cert.DiscretiseIdeal.τ).loc Cert.DiscretiseIdeal.main_arg0)
      ∧ r.2.mem ((c.tc : Thread Cert.DiscretiseIdeal.nD Cert.DiscretiseIdeal.τ).loc Cert.DiscretiseIdeal.main_arg1) = m ((c.tc : Thread Cert.DiscretiseIdeal.nD Cert.DiscretiseIdeal.τ).loc Cert.DiscretiseIdeal.main_arg1)
      ∧ r.2.mem ((c.tc : Thread Cert.DiscretiseIdeal.nD Cert.DiscretiseIdeal.τ).loc Cert.DiscretiseIdeal.main_arg2) = m ((c.tc : Thread Cert.DiscretiseIdeal.nD Cert.DiscretiseIdeal.τ).loc Cert.DiscretiseIdeal.main_arg2)
      ∧ r.2.mem ((c.tc : Thread Cert.DiscretiseIdeal.nD Cert.DiscretiseIdeal.τ).loc Cert.DiscretiseIdeal.main_arg3) = m ((c.tc : Thread Cert.DiscretiseIdeal.nD Cert.DiscretiseIdeal.τ).loc Cert.DiscretiseIdeal.main_arg3)
      ∧ r.2.mem ((c.tc : Thread Cert.DiscretiseIdeal.nD Cert.DiscretiseIdeal.τ).loc Cert.DiscretiseIdeal.main_arg4) = m ((c.tc : Thread Cert.DiscretiseIdeal.nD Cert.DiscretiseIdeal.τ).loc Cert.DiscretiseIdeal.main_arg4)
      ∧ r.2.mem ((c.tc : Thread Cert.DiscretiseIdeal.nD Cert.DiscretiseIdeal.τ).loc Cert.DiscretiseIdeal.main_arg5) = m ((c.tc : Thread Cert.DiscretiseIdeal.nD Cert.DiscretiseIdeal.τ).loc Cert.DiscretiseIdeal.main_arg5)
      ∧ r.2.mem ((c.tc : Thread Cert.DiscretiseIdeal.nD Cert.DiscretiseIdeal.τ).loc Cert.DiscretiseIdeal.main_arg6) = m ((c.tc : Thread Cert.DiscretiseIdeal.nD Cert.DiscretiseIdeal.τ).loc Cert.DiscretiseIdeal.main_arg6)
      ∧ r.2.mem ((c.tc : Thread Cert.DiscretiseIdeal.nD Cert.DiscretiseIdeal.τ).loc Cert.DiscretiseIdeal.main_arg7) = m ((c.tc : Thread Cert.DiscretiseIdeal.nD Cert.DiscretiseIdeal.τ).loc Cert.DiscretiseIdeal.main_arg7)
      ∧ r.2.mem ((c.tc : Thread Cert.DiscretiseIdeal.nD Cert.DiscretiseIdeal.τ).loc Cert.DiscretiseIdeal.main_arg8) = m ((c.tc : Thread Cert.DiscretiseIdeal.nD Cert.DiscretiseIdeal.τ).loc Cert.DiscretiseIdeal.main_arg8))
      ∧ r.2.sem = fun _ => 0)

def quiescent_DiscretiseReferenceIdeal [hDiscretiseReferenceIdeal : Cert.DiscretiseReferenceIdeal.Facts] : Prop :=
  ∀ (m : (ℓ : Loc Cert.DiscretiseReferenceIdeal.nD Cert.DiscretiseReferenceIdeal.τ Cert.DiscretiseReferenceIdeal.sig) → Buf (Elt Ideal) ℓ) (g : Dev Cert.DiscretiseReferenceIdeal.nD → PrngReg), Pre_DiscretiseReferenceIdeal m →
    θ_run (Cert.DiscretiseReferenceIdeal.defs (F := Ideal)) (onTc (τ := Cert.DiscretiseReferenceIdeal.τ) (Cert.DiscretiseReferenceIdeal.main (F := Ideal))) ⟨m, fun _ => 0, g⟩ (fun r => (∀ c : Dev Cert.DiscretiseReferenceIdeal.nD,
      r.2.mem ((c.tc : Thread Cert.DiscretiseReferenceIdeal.nD Cert.DiscretiseReferenceIdeal.τ).loc Cert.DiscretiseReferenceIdeal.main_arg0) = m ((c.tc : Thread Cert.DiscretiseReferenceIdeal.nD Cert.DiscretiseReferenceIdeal.τ).loc Cert.DiscretiseReferenceIdeal.main_arg0)
      ∧ r.2.mem ((c.tc : Thread Cert.DiscretiseReferenceIdeal.nD Cert.DiscretiseReferenceIdeal.τ).loc Cert.DiscretiseReferenceIdeal.main_arg1) = m ((c.tc : Thread Cert.DiscretiseReferenceIdeal.nD Cert.DiscretiseReferenceIdeal.τ).loc Cert.DiscretiseReferenceIdeal.main_arg1)
      ∧ r.2.mem ((c.tc : Thread Cert.DiscretiseReferenceIdeal.nD Cert.DiscretiseReferenceIdeal.τ).loc Cert.DiscretiseReferenceIdeal.main_arg2) = m ((c.tc : Thread Cert.DiscretiseReferenceIdeal.nD Cert.DiscretiseReferenceIdeal.τ).loc Cert.DiscretiseReferenceIdeal.main_arg2)
      ∧ r.2.mem ((c.tc : Thread Cert.DiscretiseReferenceIdeal.nD Cert.DiscretiseReferenceIdeal.τ).loc Cert.DiscretiseReferenceIdeal.main_arg3) = m ((c.tc : Thread Cert.DiscretiseReferenceIdeal.nD Cert.DiscretiseReferenceIdeal.τ).loc Cert.DiscretiseReferenceIdeal.main_arg3)
      ∧ r.2.mem ((c.tc : Thread Cert.DiscretiseReferenceIdeal.nD Cert.DiscretiseReferenceIdeal.τ).loc Cert.DiscretiseReferenceIdeal.main_arg4) = m ((c.tc : Thread Cert.DiscretiseReferenceIdeal.nD Cert.DiscretiseReferenceIdeal.τ).loc Cert.DiscretiseReferenceIdeal.main_arg4)
      ∧ r.2.mem ((c.tc : Thread Cert.DiscretiseReferenceIdeal.nD Cert.DiscretiseReferenceIdeal.τ).loc Cert.DiscretiseReferenceIdeal.main_arg5) = m ((c.tc : Thread Cert.DiscretiseReferenceIdeal.nD Cert.DiscretiseReferenceIdeal.τ).loc Cert.DiscretiseReferenceIdeal.main_arg5)
      ∧ r.2.mem ((c.tc : Thread Cert.DiscretiseReferenceIdeal.nD Cert.DiscretiseReferenceIdeal.τ).loc Cert.DiscretiseReferenceIdeal.main_arg6) = m ((c.tc : Thread Cert.DiscretiseReferenceIdeal.nD Cert.DiscretiseReferenceIdeal.τ).loc Cert.DiscretiseReferenceIdeal.main_arg6)
      ∧ r.2.mem ((c.tc : Thread Cert.DiscretiseReferenceIdeal.nD Cert.DiscretiseReferenceIdeal.τ).loc Cert.DiscretiseReferenceIdeal.main_arg7) = m ((c.tc : Thread Cert.DiscretiseReferenceIdeal.nD Cert.DiscretiseReferenceIdeal.τ).loc Cert.DiscretiseReferenceIdeal.main_arg7)
      ∧ r.2.mem ((c.tc : Thread Cert.DiscretiseReferenceIdeal.nD Cert.DiscretiseReferenceIdeal.τ).loc Cert.DiscretiseReferenceIdeal.main_arg8) = m ((c.tc : Thread Cert.DiscretiseReferenceIdeal.nD Cert.DiscretiseReferenceIdeal.τ).loc Cert.DiscretiseReferenceIdeal.main_arg8))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6)
      ∧ r.2.mem ((c.tc : Thread Cert.AdamIn.nD Cert.AdamIn.τ).loc Cert.AdamIn.main_arg7) = m ((c.tc : Thread Cert.AdamIn.nD Cert.AdamIn.τ).loc Cert.AdamIn.main_arg7))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
      ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4)
      ∧ r.2.mem ((c.tc : Thread Cert.AdamInReferenceIdeal.nD Cert.AdamInReferenceIdeal.τ).loc Cert.AdamInReferenceIdeal.main_arg5) = m ((c.tc : Thread Cert.AdamInReferenceIdeal.nD Cert.AdamInReferenceIdeal.τ).loc Cert.AdamInReferenceIdeal.main_arg5)
      ∧ r.2.mem ((c.tc : Thread Cert.AdamInReferenceIdeal.nD Cert.AdamInReferenceIdeal.τ).loc Cert.AdamInReferenceIdeal.main_arg6) = m ((c.tc : Thread Cert.AdamInReferenceIdeal.nD Cert.AdamInReferenceIdeal.τ).loc Cert.AdamInReferenceIdeal.main_arg6)
      ∧ r.2.mem ((c.tc : Thread Cert.AdamInReferenceIdeal.nD Cert.AdamInReferenceIdeal.τ).loc Cert.AdamInReferenceIdeal.main_arg7) = m ((c.tc : Thread Cert.AdamInReferenceIdeal.nD Cert.AdamInReferenceIdeal.τ).loc Cert.AdamInReferenceIdeal.main_arg7))
      ∧ r.2.sem = fun _ => 0)

def quiescent_AdamDeltaConv [hAdamDeltaConv : Cert.AdamDeltaConv.Facts] : Prop :=
  ∀ (m : (ℓ : Loc Cert.AdamDeltaConv.nD Cert.AdamDeltaConv.τ Cert.AdamDeltaConv.sig) → Buf (Elt Bits) ℓ) (g : Dev Cert.AdamDeltaConv.nD → PrngReg), Pre_AdamDeltaConv m →
    θ_run (Cert.AdamDeltaConv.defs (F := Bits)) (onTc (τ := Cert.AdamDeltaConv.τ) (Cert.AdamDeltaConv.main (F := Bits))) ⟨m, fun _ => 0, g⟩ (fun r => (∀ c : Dev Cert.AdamDeltaConv.nD,
      r.2.mem ((c.tc : Thread Cert.AdamDeltaConv.nD Cert.AdamDeltaConv.τ).loc Cert.AdamDeltaConv.main_arg0) = m ((c.tc : Thread Cert.AdamDeltaConv.nD Cert.AdamDeltaConv.τ).loc Cert.AdamDeltaConv.main_arg0)
      ∧ r.2.mem ((c.tc : Thread Cert.AdamDeltaConv.nD Cert.AdamDeltaConv.τ).loc Cert.AdamDeltaConv.main_arg1) = m ((c.tc : Thread Cert.AdamDeltaConv.nD Cert.AdamDeltaConv.τ).loc Cert.AdamDeltaConv.main_arg1)
      ∧ r.2.mem ((c.tc : Thread Cert.AdamDeltaConv.nD Cert.AdamDeltaConv.τ).loc Cert.AdamDeltaConv.main_arg2) = m ((c.tc : Thread Cert.AdamDeltaConv.nD Cert.AdamDeltaConv.τ).loc Cert.AdamDeltaConv.main_arg2)
      ∧ r.2.mem ((c.tc : Thread Cert.AdamDeltaConv.nD Cert.AdamDeltaConv.τ).loc Cert.AdamDeltaConv.main_arg3) = m ((c.tc : Thread Cert.AdamDeltaConv.nD Cert.AdamDeltaConv.τ).loc Cert.AdamDeltaConv.main_arg3)
      ∧ r.2.mem ((c.tc : Thread Cert.AdamDeltaConv.nD Cert.AdamDeltaConv.τ).loc Cert.AdamDeltaConv.main_arg4) = m ((c.tc : Thread Cert.AdamDeltaConv.nD Cert.AdamDeltaConv.τ).loc Cert.AdamDeltaConv.main_arg4)
      ∧ r.2.mem ((c.tc : Thread Cert.AdamDeltaConv.nD Cert.AdamDeltaConv.τ).loc Cert.AdamDeltaConv.main_arg5) = m ((c.tc : Thread Cert.AdamDeltaConv.nD Cert.AdamDeltaConv.τ).loc Cert.AdamDeltaConv.main_arg5)
      ∧ r.2.mem ((c.tc : Thread Cert.AdamDeltaConv.nD Cert.AdamDeltaConv.τ).loc Cert.AdamDeltaConv.main_arg6) = m ((c.tc : Thread Cert.AdamDeltaConv.nD Cert.AdamDeltaConv.τ).loc Cert.AdamDeltaConv.main_arg6)
      ∧ r.2.mem ((c.tc : Thread Cert.AdamDeltaConv.nD Cert.AdamDeltaConv.τ).loc Cert.AdamDeltaConv.main_arg7) = m ((c.tc : Thread Cert.AdamDeltaConv.nD Cert.AdamDeltaConv.τ).loc Cert.AdamDeltaConv.main_arg7))
      ∧ r.2.sem = fun _ => 0)

def quiescent_AdamDeltaConvIdeal [hAdamDeltaConvIdeal : Cert.AdamDeltaConvIdeal.Facts] : Prop :=
  ∀ (m : (ℓ : Loc Cert.AdamDeltaConvIdeal.nD Cert.AdamDeltaConvIdeal.τ Cert.AdamDeltaConvIdeal.sig) → Buf (Elt Ideal) ℓ) (g : Dev Cert.AdamDeltaConvIdeal.nD → PrngReg), Pre_AdamDeltaConvIdeal m →
    θ_run (Cert.AdamDeltaConvIdeal.defs (F := Ideal)) (onTc (τ := Cert.AdamDeltaConvIdeal.τ) (Cert.AdamDeltaConvIdeal.main (F := Ideal))) ⟨m, fun _ => 0, g⟩ (fun r => (∀ c : Dev Cert.AdamDeltaConvIdeal.nD,
      r.2.mem ((c.tc : Thread Cert.AdamDeltaConvIdeal.nD Cert.AdamDeltaConvIdeal.τ).loc Cert.AdamDeltaConvIdeal.main_arg0) = m ((c.tc : Thread Cert.AdamDeltaConvIdeal.nD Cert.AdamDeltaConvIdeal.τ).loc Cert.AdamDeltaConvIdeal.main_arg0)
      ∧ r.2.mem ((c.tc : Thread Cert.AdamDeltaConvIdeal.nD Cert.AdamDeltaConvIdeal.τ).loc Cert.AdamDeltaConvIdeal.main_arg1) = m ((c.tc : Thread Cert.AdamDeltaConvIdeal.nD Cert.AdamDeltaConvIdeal.τ).loc Cert.AdamDeltaConvIdeal.main_arg1)
      ∧ r.2.mem ((c.tc : Thread Cert.AdamDeltaConvIdeal.nD Cert.AdamDeltaConvIdeal.τ).loc Cert.AdamDeltaConvIdeal.main_arg2) = m ((c.tc : Thread Cert.AdamDeltaConvIdeal.nD Cert.AdamDeltaConvIdeal.τ).loc Cert.AdamDeltaConvIdeal.main_arg2)
      ∧ r.2.mem ((c.tc : Thread Cert.AdamDeltaConvIdeal.nD Cert.AdamDeltaConvIdeal.τ).loc Cert.AdamDeltaConvIdeal.main_arg3) = m ((c.tc : Thread Cert.AdamDeltaConvIdeal.nD Cert.AdamDeltaConvIdeal.τ).loc Cert.AdamDeltaConvIdeal.main_arg3)
      ∧ r.2.mem ((c.tc : Thread Cert.AdamDeltaConvIdeal.nD Cert.AdamDeltaConvIdeal.τ).loc Cert.AdamDeltaConvIdeal.main_arg4) = m ((c.tc : Thread Cert.AdamDeltaConvIdeal.nD Cert.AdamDeltaConvIdeal.τ).loc Cert.AdamDeltaConvIdeal.main_arg4)
      ∧ r.2.mem ((c.tc : Thread Cert.AdamDeltaConvIdeal.nD Cert.AdamDeltaConvIdeal.τ).loc Cert.AdamDeltaConvIdeal.main_arg5) = m ((c.tc : Thread Cert.AdamDeltaConvIdeal.nD Cert.AdamDeltaConvIdeal.τ).loc Cert.AdamDeltaConvIdeal.main_arg5)
      ∧ r.2.mem ((c.tc : Thread Cert.AdamDeltaConvIdeal.nD Cert.AdamDeltaConvIdeal.τ).loc Cert.AdamDeltaConvIdeal.main_arg6) = m ((c.tc : Thread Cert.AdamDeltaConvIdeal.nD Cert.AdamDeltaConvIdeal.τ).loc Cert.AdamDeltaConvIdeal.main_arg6)
      ∧ r.2.mem ((c.tc : Thread Cert.AdamDeltaConvIdeal.nD Cert.AdamDeltaConvIdeal.τ).loc Cert.AdamDeltaConvIdeal.main_arg7) = m ((c.tc : Thread Cert.AdamDeltaConvIdeal.nD Cert.AdamDeltaConvIdeal.τ).loc Cert.AdamDeltaConvIdeal.main_arg7))
      ∧ r.2.sem = fun _ => 0)

def quiescent_AdamDeltaConvReferenceIdeal [hAdamDeltaConvReferenceIdeal : Cert.AdamDeltaConvReferenceIdeal.Facts] : Prop :=
  ∀ (m : (ℓ : Loc Cert.AdamDeltaConvReferenceIdeal.nD Cert.AdamDeltaConvReferenceIdeal.τ Cert.AdamDeltaConvReferenceIdeal.sig) → Buf (Elt Ideal) ℓ) (g : Dev Cert.AdamDeltaConvReferenceIdeal.nD → PrngReg), Pre_AdamDeltaConvReferenceIdeal m →
    θ_run (Cert.AdamDeltaConvReferenceIdeal.defs (F := Ideal)) (onTc (τ := Cert.AdamDeltaConvReferenceIdeal.τ) (Cert.AdamDeltaConvReferenceIdeal.main (F := Ideal))) ⟨m, fun _ => 0, g⟩ (fun r => (∀ c : Dev Cert.AdamDeltaConvReferenceIdeal.nD,
      r.2.mem ((c.tc : Thread Cert.AdamDeltaConvReferenceIdeal.nD Cert.AdamDeltaConvReferenceIdeal.τ).loc Cert.AdamDeltaConvReferenceIdeal.main_arg0) = m ((c.tc : Thread Cert.AdamDeltaConvReferenceIdeal.nD Cert.AdamDeltaConvReferenceIdeal.τ).loc Cert.AdamDeltaConvReferenceIdeal.main_arg0)
      ∧ r.2.mem ((c.tc : Thread Cert.AdamDeltaConvReferenceIdeal.nD Cert.AdamDeltaConvReferenceIdeal.τ).loc Cert.AdamDeltaConvReferenceIdeal.main_arg1) = m ((c.tc : Thread Cert.AdamDeltaConvReferenceIdeal.nD Cert.AdamDeltaConvReferenceIdeal.τ).loc Cert.AdamDeltaConvReferenceIdeal.main_arg1)
      ∧ r.2.mem ((c.tc : Thread Cert.AdamDeltaConvReferenceIdeal.nD Cert.AdamDeltaConvReferenceIdeal.τ).loc Cert.AdamDeltaConvReferenceIdeal.main_arg2) = m ((c.tc : Thread Cert.AdamDeltaConvReferenceIdeal.nD Cert.AdamDeltaConvReferenceIdeal.τ).loc Cert.AdamDeltaConvReferenceIdeal.main_arg2)
      ∧ r.2.mem ((c.tc : Thread Cert.AdamDeltaConvReferenceIdeal.nD Cert.AdamDeltaConvReferenceIdeal.τ).loc Cert.AdamDeltaConvReferenceIdeal.main_arg3) = m ((c.tc : Thread Cert.AdamDeltaConvReferenceIdeal.nD Cert.AdamDeltaConvReferenceIdeal.τ).loc Cert.AdamDeltaConvReferenceIdeal.main_arg3)
      ∧ r.2.mem ((c.tc : Thread Cert.AdamDeltaConvReferenceIdeal.nD Cert.AdamDeltaConvReferenceIdeal.τ).loc Cert.AdamDeltaConvReferenceIdeal.main_arg4) = m ((c.tc : Thread Cert.AdamDeltaConvReferenceIdeal.nD Cert.AdamDeltaConvReferenceIdeal.τ).loc Cert.AdamDeltaConvReferenceIdeal.main_arg4)
      ∧ r.2.mem ((c.tc : Thread Cert.AdamDeltaConvReferenceIdeal.nD Cert.AdamDeltaConvReferenceIdeal.τ).loc Cert.AdamDeltaConvReferenceIdeal.main_arg5) = m ((c.tc : Thread Cert.AdamDeltaConvReferenceIdeal.nD Cert.AdamDeltaConvReferenceIdeal.τ).loc Cert.AdamDeltaConvReferenceIdeal.main_arg5)
      ∧ r.2.mem ((c.tc : Thread Cert.AdamDeltaConvReferenceIdeal.nD Cert.AdamDeltaConvReferenceIdeal.τ).loc Cert.AdamDeltaConvReferenceIdeal.main_arg6) = m ((c.tc : Thread Cert.AdamDeltaConvReferenceIdeal.nD Cert.AdamDeltaConvReferenceIdeal.τ).loc Cert.AdamDeltaConvReferenceIdeal.main_arg6)
      ∧ r.2.mem ((c.tc : Thread Cert.AdamDeltaConvReferenceIdeal.nD Cert.AdamDeltaConvReferenceIdeal.τ).loc Cert.AdamDeltaConvReferenceIdeal.main_arg7) = m ((c.tc : Thread Cert.AdamDeltaConvReferenceIdeal.nD Cert.AdamDeltaConvReferenceIdeal.τ).loc Cert.AdamDeltaConvReferenceIdeal.main_arg7))
      ∧ r.2.sem = fun _ => 0)

def quiescent_AdamRecurrenceConv [hAdamRecurrenceConv : Cert.AdamRecurrenceConv.Facts] : Prop :=
  ∀ (m : (ℓ : Loc Cert.AdamRecurrenceConv.nD Cert.AdamRecurrenceConv.τ Cert.AdamRecurrenceConv.sig) → Buf (Elt Bits) ℓ) (g : Dev Cert.AdamRecurrenceConv.nD → PrngReg), Pre_AdamRecurrenceConv m →
    θ_run (Cert.AdamRecurrenceConv.defs (F := Bits)) (onTc (τ := Cert.AdamRecurrenceConv.τ) (Cert.AdamRecurrenceConv.main (F := Bits))) ⟨m, fun _ => 0, g⟩ (fun r => (∀ c : Dev Cert.AdamRecurrenceConv.nD,
      r.2.mem ((c.tc : Thread Cert.AdamRecurrenceConv.nD Cert.AdamRecurrenceConv.τ).loc Cert.AdamRecurrenceConv.main_arg0) = m ((c.tc : Thread Cert.AdamRecurrenceConv.nD Cert.AdamRecurrenceConv.τ).loc Cert.AdamRecurrenceConv.main_arg0)
      ∧ r.2.mem ((c.tc : Thread Cert.AdamRecurrenceConv.nD Cert.AdamRecurrenceConv.τ).loc Cert.AdamRecurrenceConv.main_arg1) = m ((c.tc : Thread Cert.AdamRecurrenceConv.nD Cert.AdamRecurrenceConv.τ).loc Cert.AdamRecurrenceConv.main_arg1)
      ∧ r.2.mem ((c.tc : Thread Cert.AdamRecurrenceConv.nD Cert.AdamRecurrenceConv.τ).loc Cert.AdamRecurrenceConv.main_arg2) = m ((c.tc : Thread Cert.AdamRecurrenceConv.nD Cert.AdamRecurrenceConv.τ).loc Cert.AdamRecurrenceConv.main_arg2)
      ∧ r.2.mem ((c.tc : Thread Cert.AdamRecurrenceConv.nD Cert.AdamRecurrenceConv.τ).loc Cert.AdamRecurrenceConv.main_arg3) = m ((c.tc : Thread Cert.AdamRecurrenceConv.nD Cert.AdamRecurrenceConv.τ).loc Cert.AdamRecurrenceConv.main_arg3)
      ∧ r.2.mem ((c.tc : Thread Cert.AdamRecurrenceConv.nD Cert.AdamRecurrenceConv.τ).loc Cert.AdamRecurrenceConv.main_arg4) = m ((c.tc : Thread Cert.AdamRecurrenceConv.nD Cert.AdamRecurrenceConv.τ).loc Cert.AdamRecurrenceConv.main_arg4)
      ∧ r.2.mem ((c.tc : Thread Cert.AdamRecurrenceConv.nD Cert.AdamRecurrenceConv.τ).loc Cert.AdamRecurrenceConv.main_arg5) = m ((c.tc : Thread Cert.AdamRecurrenceConv.nD Cert.AdamRecurrenceConv.τ).loc Cert.AdamRecurrenceConv.main_arg5)
      ∧ r.2.mem ((c.tc : Thread Cert.AdamRecurrenceConv.nD Cert.AdamRecurrenceConv.τ).loc Cert.AdamRecurrenceConv.main_arg6) = m ((c.tc : Thread Cert.AdamRecurrenceConv.nD Cert.AdamRecurrenceConv.τ).loc Cert.AdamRecurrenceConv.main_arg6)
      ∧ r.2.mem ((c.tc : Thread Cert.AdamRecurrenceConv.nD Cert.AdamRecurrenceConv.τ).loc Cert.AdamRecurrenceConv.main_arg7) = m ((c.tc : Thread Cert.AdamRecurrenceConv.nD Cert.AdamRecurrenceConv.τ).loc Cert.AdamRecurrenceConv.main_arg7))
      ∧ r.2.sem = fun _ => 0)

def quiescent_AdamRecurrenceConvIdeal [hAdamRecurrenceConvIdeal : Cert.AdamRecurrenceConvIdeal.Facts] : Prop :=
  ∀ (m : (ℓ : Loc Cert.AdamRecurrenceConvIdeal.nD Cert.AdamRecurrenceConvIdeal.τ Cert.AdamRecurrenceConvIdeal.sig) → Buf (Elt Ideal) ℓ) (g : Dev Cert.AdamRecurrenceConvIdeal.nD → PrngReg), Pre_AdamRecurrenceConvIdeal m →
    θ_run (Cert.AdamRecurrenceConvIdeal.defs (F := Ideal)) (onTc (τ := Cert.AdamRecurrenceConvIdeal.τ) (Cert.AdamRecurrenceConvIdeal.main (F := Ideal))) ⟨m, fun _ => 0, g⟩ (fun r => (∀ c : Dev Cert.AdamRecurrenceConvIdeal.nD,
      r.2.mem ((c.tc : Thread Cert.AdamRecurrenceConvIdeal.nD Cert.AdamRecurrenceConvIdeal.τ).loc Cert.AdamRecurrenceConvIdeal.main_arg0) = m ((c.tc : Thread Cert.AdamRecurrenceConvIdeal.nD Cert.AdamRecurrenceConvIdeal.τ).loc Cert.AdamRecurrenceConvIdeal.main_arg0)
      ∧ r.2.mem ((c.tc : Thread Cert.AdamRecurrenceConvIdeal.nD Cert.AdamRecurrenceConvIdeal.τ).loc Cert.AdamRecurrenceConvIdeal.main_arg1) = m ((c.tc : Thread Cert.AdamRecurrenceConvIdeal.nD Cert.AdamRecurrenceConvIdeal.τ).loc Cert.AdamRecurrenceConvIdeal.main_arg1)
      ∧ r.2.mem ((c.tc : Thread Cert.AdamRecurrenceConvIdeal.nD Cert.AdamRecurrenceConvIdeal.τ).loc Cert.AdamRecurrenceConvIdeal.main_arg2) = m ((c.tc : Thread Cert.AdamRecurrenceConvIdeal.nD Cert.AdamRecurrenceConvIdeal.τ).loc Cert.AdamRecurrenceConvIdeal.main_arg2)
      ∧ r.2.mem ((c.tc : Thread Cert.AdamRecurrenceConvIdeal.nD Cert.AdamRecurrenceConvIdeal.τ).loc Cert.AdamRecurrenceConvIdeal.main_arg3) = m ((c.tc : Thread Cert.AdamRecurrenceConvIdeal.nD Cert.AdamRecurrenceConvIdeal.τ).loc Cert.AdamRecurrenceConvIdeal.main_arg3)
      ∧ r.2.mem ((c.tc : Thread Cert.AdamRecurrenceConvIdeal.nD Cert.AdamRecurrenceConvIdeal.τ).loc Cert.AdamRecurrenceConvIdeal.main_arg4) = m ((c.tc : Thread Cert.AdamRecurrenceConvIdeal.nD Cert.AdamRecurrenceConvIdeal.τ).loc Cert.AdamRecurrenceConvIdeal.main_arg4)
      ∧ r.2.mem ((c.tc : Thread Cert.AdamRecurrenceConvIdeal.nD Cert.AdamRecurrenceConvIdeal.τ).loc Cert.AdamRecurrenceConvIdeal.main_arg5) = m ((c.tc : Thread Cert.AdamRecurrenceConvIdeal.nD Cert.AdamRecurrenceConvIdeal.τ).loc Cert.AdamRecurrenceConvIdeal.main_arg5)
      ∧ r.2.mem ((c.tc : Thread Cert.AdamRecurrenceConvIdeal.nD Cert.AdamRecurrenceConvIdeal.τ).loc Cert.AdamRecurrenceConvIdeal.main_arg6) = m ((c.tc : Thread Cert.AdamRecurrenceConvIdeal.nD Cert.AdamRecurrenceConvIdeal.τ).loc Cert.AdamRecurrenceConvIdeal.main_arg6)
      ∧ r.2.mem ((c.tc : Thread Cert.AdamRecurrenceConvIdeal.nD Cert.AdamRecurrenceConvIdeal.τ).loc Cert.AdamRecurrenceConvIdeal.main_arg7) = m ((c.tc : Thread Cert.AdamRecurrenceConvIdeal.nD Cert.AdamRecurrenceConvIdeal.τ).loc Cert.AdamRecurrenceConvIdeal.main_arg7))
      ∧ r.2.sem = fun _ => 0)

def quiescent_AdamRecurrenceConvReferenceIdeal [hAdamRecurrenceConvReferenceIdeal : Cert.AdamRecurrenceConvReferenceIdeal.Facts] : Prop :=
  ∀ (m : (ℓ : Loc Cert.AdamRecurrenceConvReferenceIdeal.nD Cert.AdamRecurrenceConvReferenceIdeal.τ Cert.AdamRecurrenceConvReferenceIdeal.sig) → Buf (Elt Ideal) ℓ) (g : Dev Cert.AdamRecurrenceConvReferenceIdeal.nD → PrngReg), Pre_AdamRecurrenceConvReferenceIdeal m →
    θ_run (Cert.AdamRecurrenceConvReferenceIdeal.defs (F := Ideal)) (onTc (τ := Cert.AdamRecurrenceConvReferenceIdeal.τ) (Cert.AdamRecurrenceConvReferenceIdeal.main (F := Ideal))) ⟨m, fun _ => 0, g⟩ (fun r => (∀ c : Dev Cert.AdamRecurrenceConvReferenceIdeal.nD,
      r.2.mem ((c.tc : Thread Cert.AdamRecurrenceConvReferenceIdeal.nD Cert.AdamRecurrenceConvReferenceIdeal.τ).loc Cert.AdamRecurrenceConvReferenceIdeal.main_arg0) = m ((c.tc : Thread Cert.AdamRecurrenceConvReferenceIdeal.nD Cert.AdamRecurrenceConvReferenceIdeal.τ).loc Cert.AdamRecurrenceConvReferenceIdeal.main_arg0)
      ∧ r.2.mem ((c.tc : Thread Cert.AdamRecurrenceConvReferenceIdeal.nD Cert.AdamRecurrenceConvReferenceIdeal.τ).loc Cert.AdamRecurrenceConvReferenceIdeal.main_arg1) = m ((c.tc : Thread Cert.AdamRecurrenceConvReferenceIdeal.nD Cert.AdamRecurrenceConvReferenceIdeal.τ).loc Cert.AdamRecurrenceConvReferenceIdeal.main_arg1)
      ∧ r.2.mem ((c.tc : Thread Cert.AdamRecurrenceConvReferenceIdeal.nD Cert.AdamRecurrenceConvReferenceIdeal.τ).loc Cert.AdamRecurrenceConvReferenceIdeal.main_arg2) = m ((c.tc : Thread Cert.AdamRecurrenceConvReferenceIdeal.nD Cert.AdamRecurrenceConvReferenceIdeal.τ).loc Cert.AdamRecurrenceConvReferenceIdeal.main_arg2)
      ∧ r.2.mem ((c.tc : Thread Cert.AdamRecurrenceConvReferenceIdeal.nD Cert.AdamRecurrenceConvReferenceIdeal.τ).loc Cert.AdamRecurrenceConvReferenceIdeal.main_arg3) = m ((c.tc : Thread Cert.AdamRecurrenceConvReferenceIdeal.nD Cert.AdamRecurrenceConvReferenceIdeal.τ).loc Cert.AdamRecurrenceConvReferenceIdeal.main_arg3)
      ∧ r.2.mem ((c.tc : Thread Cert.AdamRecurrenceConvReferenceIdeal.nD Cert.AdamRecurrenceConvReferenceIdeal.τ).loc Cert.AdamRecurrenceConvReferenceIdeal.main_arg4) = m ((c.tc : Thread Cert.AdamRecurrenceConvReferenceIdeal.nD Cert.AdamRecurrenceConvReferenceIdeal.τ).loc Cert.AdamRecurrenceConvReferenceIdeal.main_arg4)
      ∧ r.2.mem ((c.tc : Thread Cert.AdamRecurrenceConvReferenceIdeal.nD Cert.AdamRecurrenceConvReferenceIdeal.τ).loc Cert.AdamRecurrenceConvReferenceIdeal.main_arg5) = m ((c.tc : Thread Cert.AdamRecurrenceConvReferenceIdeal.nD Cert.AdamRecurrenceConvReferenceIdeal.τ).loc Cert.AdamRecurrenceConvReferenceIdeal.main_arg5)
      ∧ r.2.mem ((c.tc : Thread Cert.AdamRecurrenceConvReferenceIdeal.nD Cert.AdamRecurrenceConvReferenceIdeal.τ).loc Cert.AdamRecurrenceConvReferenceIdeal.main_arg6) = m ((c.tc : Thread Cert.AdamRecurrenceConvReferenceIdeal.nD Cert.AdamRecurrenceConvReferenceIdeal.τ).loc Cert.AdamRecurrenceConvReferenceIdeal.main_arg6)
      ∧ r.2.mem ((c.tc : Thread Cert.AdamRecurrenceConvReferenceIdeal.nD Cert.AdamRecurrenceConvReferenceIdeal.τ).loc Cert.AdamRecurrenceConvReferenceIdeal.main_arg7) = m ((c.tc : Thread Cert.AdamRecurrenceConvReferenceIdeal.nD Cert.AdamRecurrenceConvReferenceIdeal.τ).loc Cert.AdamRecurrenceConvReferenceIdeal.main_arg7))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3)
      ∧ r.2.mem ((c.tc : Thread Cert.AdamGlu.nD Cert.AdamGlu.τ).loc Cert.AdamGlu.main_arg4) = m ((c.tc : Thread Cert.AdamGlu.nD Cert.AdamGlu.τ).loc Cert.AdamGlu.main_arg4)
      ∧ r.2.mem ((c.tc : Thread Cert.AdamGlu.nD Cert.AdamGlu.τ).loc Cert.AdamGlu.main_arg5) = m ((c.tc : Thread Cert.AdamGlu.nD Cert.AdamGlu.τ).loc Cert.AdamGlu.main_arg5)
      ∧ r.2.mem ((c.tc : Thread Cert.AdamGlu.nD Cert.AdamGlu.τ).loc Cert.AdamGlu.main_arg6) = m ((c.tc : Thread Cert.AdamGlu.nD Cert.AdamGlu.τ).loc Cert.AdamGlu.main_arg6)
      ∧ r.2.mem ((c.tc : Thread Cert.AdamGlu.nD Cert.AdamGlu.τ).loc Cert.AdamGlu.main_arg7) = m ((c.tc : Thread Cert.AdamGlu.nD Cert.AdamGlu.τ).loc Cert.AdamGlu.main_arg7))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
      ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4)
      ∧ r.2.mem ((c.tc : Thread Cert.AdamGluIdeal.nD Cert.AdamGluIdeal.τ).loc Cert.AdamGluIdeal.main_arg5) = m ((c.tc : Thread Cert.AdamGluIdeal.nD Cert.AdamGluIdeal.τ).loc Cert.AdamGluIdeal.main_arg5)
      ∧ r.2.mem ((c.tc : Thread Cert.AdamGluIdeal.nD Cert.AdamGluIdeal.τ).loc Cert.AdamGluIdeal.main_arg6) = m ((c.tc : Thread Cert.AdamGluIdeal.nD Cert.AdamGluIdeal.τ).loc Cert.AdamGluIdeal.main_arg6)
      ∧ r.2.mem ((c.tc : Thread Cert.AdamGluIdeal.nD Cert.AdamGluIdeal.τ).loc Cert.AdamGluIdeal.main_arg7) = m ((c.tc : Thread Cert.AdamGluIdeal.nD Cert.AdamGluIdeal.τ).loc Cert.AdamGluIdeal.main_arg7))
      ∧ r.2.sem = fun _ => 0)

def quiescent_AdamGluReferenceIdeal [hAdamGluReferenceIdeal : Cert.AdamGluReferenceIdeal.Facts] : Prop :=
  ∀ (m : (ℓ : Loc Cert.AdamGluReferenceIdeal.nD Cert.AdamGluReferenceIdeal.τ Cert.AdamGluReferenceIdeal.sig) → Buf (Elt Ideal) ℓ) (g : Dev Cert.AdamGluReferenceIdeal.nD → PrngReg), Pre_AdamGluReferenceIdeal m →
    θ_run (Cert.AdamGluReferenceIdeal.defs (F := Ideal)) (onTc (τ := Cert.AdamGluReferenceIdeal.τ) (Cert.AdamGluReferenceIdeal.main (F := Ideal))) ⟨m, fun _ => 0, g⟩ (fun r => (∀ c : Dev Cert.AdamGluReferenceIdeal.nD,
      r.2.mem ((c.tc : Thread Cert.AdamGluReferenceIdeal.nD Cert.AdamGluReferenceIdeal.τ).loc Cert.AdamGluReferenceIdeal.main_arg0) = m ((c.tc : Thread Cert.AdamGluReferenceIdeal.nD Cert.AdamGluReferenceIdeal.τ).loc Cert.AdamGluReferenceIdeal.main_arg0)
      ∧ r.2.mem ((c.tc : Thread Cert.AdamGluReferenceIdeal.nD Cert.AdamGluReferenceIdeal.τ).loc Cert.AdamGluReferenceIdeal.main_arg1) = m ((c.tc : Thread Cert.AdamGluReferenceIdeal.nD Cert.AdamGluReferenceIdeal.τ).loc Cert.AdamGluReferenceIdeal.main_arg1)
      ∧ r.2.mem ((c.tc : Thread Cert.AdamGluReferenceIdeal.nD Cert.AdamGluReferenceIdeal.τ).loc Cert.AdamGluReferenceIdeal.main_arg2) = m ((c.tc : Thread Cert.AdamGluReferenceIdeal.nD Cert.AdamGluReferenceIdeal.τ).loc Cert.AdamGluReferenceIdeal.main_arg2)
      ∧ r.2.mem ((c.tc : Thread Cert.AdamGluReferenceIdeal.nD Cert.AdamGluReferenceIdeal.τ).loc Cert.AdamGluReferenceIdeal.main_arg3) = m ((c.tc : Thread Cert.AdamGluReferenceIdeal.nD Cert.AdamGluReferenceIdeal.τ).loc Cert.AdamGluReferenceIdeal.main_arg3)
      ∧ r.2.mem ((c.tc : Thread Cert.AdamGluReferenceIdeal.nD Cert.AdamGluReferenceIdeal.τ).loc Cert.AdamGluReferenceIdeal.main_arg4) = m ((c.tc : Thread Cert.AdamGluReferenceIdeal.nD Cert.AdamGluReferenceIdeal.τ).loc Cert.AdamGluReferenceIdeal.main_arg4)
      ∧ r.2.mem ((c.tc : Thread Cert.AdamGluReferenceIdeal.nD Cert.AdamGluReferenceIdeal.τ).loc Cert.AdamGluReferenceIdeal.main_arg5) = m ((c.tc : Thread Cert.AdamGluReferenceIdeal.nD Cert.AdamGluReferenceIdeal.τ).loc Cert.AdamGluReferenceIdeal.main_arg5)
      ∧ r.2.mem ((c.tc : Thread Cert.AdamGluReferenceIdeal.nD Cert.AdamGluReferenceIdeal.τ).loc Cert.AdamGluReferenceIdeal.main_arg6) = m ((c.tc : Thread Cert.AdamGluReferenceIdeal.nD Cert.AdamGluReferenceIdeal.τ).loc Cert.AdamGluReferenceIdeal.main_arg6)
      ∧ r.2.mem ((c.tc : Thread Cert.AdamGluReferenceIdeal.nD Cert.AdamGluReferenceIdeal.τ).loc Cert.AdamGluReferenceIdeal.main_arg7) = m ((c.tc : Thread Cert.AdamGluReferenceIdeal.nD Cert.AdamGluReferenceIdeal.τ).loc Cert.AdamGluReferenceIdeal.main_arg7))
      ∧ r.2.sem = fun _ => 0)

def quiescent_AdamMemory [hAdamMemory : Cert.AdamMemory.Facts] : Prop :=
  ∀ (m : (ℓ : Loc Cert.AdamMemory.nD Cert.AdamMemory.τ Cert.AdamMemory.sig) → Buf (Elt Bits) ℓ) (g : Dev Cert.AdamMemory.nD → PrngReg), Pre_AdamMemory m →
    θ_run (Cert.AdamMemory.defs (F := Bits)) (onTc (τ := Cert.AdamMemory.τ) (Cert.AdamMemory.main (F := Bits))) ⟨m, fun _ => 0, g⟩ (fun r => (∀ c : Dev Cert.AdamMemory.nD,
      r.2.mem ((c.tc : Thread Cert.AdamMemory.nD Cert.AdamMemory.τ).loc Cert.AdamMemory.main_arg0) = m ((c.tc : Thread Cert.AdamMemory.nD Cert.AdamMemory.τ).loc Cert.AdamMemory.main_arg0)
      ∧ r.2.mem ((c.tc : Thread Cert.AdamMemory.nD Cert.AdamMemory.τ).loc Cert.AdamMemory.main_arg1) = m ((c.tc : Thread Cert.AdamMemory.nD Cert.AdamMemory.τ).loc Cert.AdamMemory.main_arg1)
      ∧ r.2.mem ((c.tc : Thread Cert.AdamMemory.nD Cert.AdamMemory.τ).loc Cert.AdamMemory.main_arg2) = m ((c.tc : Thread Cert.AdamMemory.nD Cert.AdamMemory.τ).loc Cert.AdamMemory.main_arg2)
      ∧ r.2.mem ((c.tc : Thread Cert.AdamMemory.nD Cert.AdamMemory.τ).loc Cert.AdamMemory.main_arg3) = m ((c.tc : Thread Cert.AdamMemory.nD Cert.AdamMemory.τ).loc Cert.AdamMemory.main_arg3)
      ∧ r.2.mem ((c.tc : Thread Cert.AdamMemory.nD Cert.AdamMemory.τ).loc Cert.AdamMemory.main_arg4) = m ((c.tc : Thread Cert.AdamMemory.nD Cert.AdamMemory.τ).loc Cert.AdamMemory.main_arg4)
      ∧ r.2.mem ((c.tc : Thread Cert.AdamMemory.nD Cert.AdamMemory.τ).loc Cert.AdamMemory.main_arg5) = m ((c.tc : Thread Cert.AdamMemory.nD Cert.AdamMemory.τ).loc Cert.AdamMemory.main_arg5)
      ∧ r.2.mem ((c.tc : Thread Cert.AdamMemory.nD Cert.AdamMemory.τ).loc Cert.AdamMemory.main_arg6) = m ((c.tc : Thread Cert.AdamMemory.nD Cert.AdamMemory.τ).loc Cert.AdamMemory.main_arg6)
      ∧ r.2.mem ((c.tc : Thread Cert.AdamMemory.nD Cert.AdamMemory.τ).loc Cert.AdamMemory.main_arg7) = m ((c.tc : Thread Cert.AdamMemory.nD Cert.AdamMemory.τ).loc Cert.AdamMemory.main_arg7))
      ∧ r.2.sem = fun _ => 0)

def quiescent_AdamMemoryIdeal [hAdamMemoryIdeal : Cert.AdamMemoryIdeal.Facts] : Prop :=
  ∀ (m : (ℓ : Loc Cert.AdamMemoryIdeal.nD Cert.AdamMemoryIdeal.τ Cert.AdamMemoryIdeal.sig) → Buf (Elt Ideal) ℓ) (g : Dev Cert.AdamMemoryIdeal.nD → PrngReg), Pre_AdamMemoryIdeal m →
    θ_run (Cert.AdamMemoryIdeal.defs (F := Ideal)) (onTc (τ := Cert.AdamMemoryIdeal.τ) (Cert.AdamMemoryIdeal.main (F := Ideal))) ⟨m, fun _ => 0, g⟩ (fun r => (∀ c : Dev Cert.AdamMemoryIdeal.nD,
      r.2.mem ((c.tc : Thread Cert.AdamMemoryIdeal.nD Cert.AdamMemoryIdeal.τ).loc Cert.AdamMemoryIdeal.main_arg0) = m ((c.tc : Thread Cert.AdamMemoryIdeal.nD Cert.AdamMemoryIdeal.τ).loc Cert.AdamMemoryIdeal.main_arg0)
      ∧ r.2.mem ((c.tc : Thread Cert.AdamMemoryIdeal.nD Cert.AdamMemoryIdeal.τ).loc Cert.AdamMemoryIdeal.main_arg1) = m ((c.tc : Thread Cert.AdamMemoryIdeal.nD Cert.AdamMemoryIdeal.τ).loc Cert.AdamMemoryIdeal.main_arg1)
      ∧ r.2.mem ((c.tc : Thread Cert.AdamMemoryIdeal.nD Cert.AdamMemoryIdeal.τ).loc Cert.AdamMemoryIdeal.main_arg2) = m ((c.tc : Thread Cert.AdamMemoryIdeal.nD Cert.AdamMemoryIdeal.τ).loc Cert.AdamMemoryIdeal.main_arg2)
      ∧ r.2.mem ((c.tc : Thread Cert.AdamMemoryIdeal.nD Cert.AdamMemoryIdeal.τ).loc Cert.AdamMemoryIdeal.main_arg3) = m ((c.tc : Thread Cert.AdamMemoryIdeal.nD Cert.AdamMemoryIdeal.τ).loc Cert.AdamMemoryIdeal.main_arg3)
      ∧ r.2.mem ((c.tc : Thread Cert.AdamMemoryIdeal.nD Cert.AdamMemoryIdeal.τ).loc Cert.AdamMemoryIdeal.main_arg4) = m ((c.tc : Thread Cert.AdamMemoryIdeal.nD Cert.AdamMemoryIdeal.τ).loc Cert.AdamMemoryIdeal.main_arg4)
      ∧ r.2.mem ((c.tc : Thread Cert.AdamMemoryIdeal.nD Cert.AdamMemoryIdeal.τ).loc Cert.AdamMemoryIdeal.main_arg5) = m ((c.tc : Thread Cert.AdamMemoryIdeal.nD Cert.AdamMemoryIdeal.τ).loc Cert.AdamMemoryIdeal.main_arg5)
      ∧ r.2.mem ((c.tc : Thread Cert.AdamMemoryIdeal.nD Cert.AdamMemoryIdeal.τ).loc Cert.AdamMemoryIdeal.main_arg6) = m ((c.tc : Thread Cert.AdamMemoryIdeal.nD Cert.AdamMemoryIdeal.τ).loc Cert.AdamMemoryIdeal.main_arg6)
      ∧ r.2.mem ((c.tc : Thread Cert.AdamMemoryIdeal.nD Cert.AdamMemoryIdeal.τ).loc Cert.AdamMemoryIdeal.main_arg7) = m ((c.tc : Thread Cert.AdamMemoryIdeal.nD Cert.AdamMemoryIdeal.τ).loc Cert.AdamMemoryIdeal.main_arg7))
      ∧ r.2.sem = fun _ => 0)

def quiescent_AdamMemoryReferenceIdeal [hAdamMemoryReferenceIdeal : Cert.AdamMemoryReferenceIdeal.Facts] : Prop :=
  ∀ (m : (ℓ : Loc Cert.AdamMemoryReferenceIdeal.nD Cert.AdamMemoryReferenceIdeal.τ Cert.AdamMemoryReferenceIdeal.sig) → Buf (Elt Ideal) ℓ) (g : Dev Cert.AdamMemoryReferenceIdeal.nD → PrngReg), Pre_AdamMemoryReferenceIdeal m →
    θ_run (Cert.AdamMemoryReferenceIdeal.defs (F := Ideal)) (onTc (τ := Cert.AdamMemoryReferenceIdeal.τ) (Cert.AdamMemoryReferenceIdeal.main (F := Ideal))) ⟨m, fun _ => 0, g⟩ (fun r => (∀ c : Dev Cert.AdamMemoryReferenceIdeal.nD,
      r.2.mem ((c.tc : Thread Cert.AdamMemoryReferenceIdeal.nD Cert.AdamMemoryReferenceIdeal.τ).loc Cert.AdamMemoryReferenceIdeal.main_arg0) = m ((c.tc : Thread Cert.AdamMemoryReferenceIdeal.nD Cert.AdamMemoryReferenceIdeal.τ).loc Cert.AdamMemoryReferenceIdeal.main_arg0)
      ∧ r.2.mem ((c.tc : Thread Cert.AdamMemoryReferenceIdeal.nD Cert.AdamMemoryReferenceIdeal.τ).loc Cert.AdamMemoryReferenceIdeal.main_arg1) = m ((c.tc : Thread Cert.AdamMemoryReferenceIdeal.nD Cert.AdamMemoryReferenceIdeal.τ).loc Cert.AdamMemoryReferenceIdeal.main_arg1)
      ∧ r.2.mem ((c.tc : Thread Cert.AdamMemoryReferenceIdeal.nD Cert.AdamMemoryReferenceIdeal.τ).loc Cert.AdamMemoryReferenceIdeal.main_arg2) = m ((c.tc : Thread Cert.AdamMemoryReferenceIdeal.nD Cert.AdamMemoryReferenceIdeal.τ).loc Cert.AdamMemoryReferenceIdeal.main_arg2)
      ∧ r.2.mem ((c.tc : Thread Cert.AdamMemoryReferenceIdeal.nD Cert.AdamMemoryReferenceIdeal.τ).loc Cert.AdamMemoryReferenceIdeal.main_arg3) = m ((c.tc : Thread Cert.AdamMemoryReferenceIdeal.nD Cert.AdamMemoryReferenceIdeal.τ).loc Cert.AdamMemoryReferenceIdeal.main_arg3)
      ∧ r.2.mem ((c.tc : Thread Cert.AdamMemoryReferenceIdeal.nD Cert.AdamMemoryReferenceIdeal.τ).loc Cert.AdamMemoryReferenceIdeal.main_arg4) = m ((c.tc : Thread Cert.AdamMemoryReferenceIdeal.nD Cert.AdamMemoryReferenceIdeal.τ).loc Cert.AdamMemoryReferenceIdeal.main_arg4)
      ∧ r.2.mem ((c.tc : Thread Cert.AdamMemoryReferenceIdeal.nD Cert.AdamMemoryReferenceIdeal.τ).loc Cert.AdamMemoryReferenceIdeal.main_arg5) = m ((c.tc : Thread Cert.AdamMemoryReferenceIdeal.nD Cert.AdamMemoryReferenceIdeal.τ).loc Cert.AdamMemoryReferenceIdeal.main_arg5)
      ∧ r.2.mem ((c.tc : Thread Cert.AdamMemoryReferenceIdeal.nD Cert.AdamMemoryReferenceIdeal.τ).loc Cert.AdamMemoryReferenceIdeal.main_arg6) = m ((c.tc : Thread Cert.AdamMemoryReferenceIdeal.nD Cert.AdamMemoryReferenceIdeal.τ).loc Cert.AdamMemoryReferenceIdeal.main_arg6)
      ∧ r.2.mem ((c.tc : Thread Cert.AdamMemoryReferenceIdeal.nD Cert.AdamMemoryReferenceIdeal.τ).loc Cert.AdamMemoryReferenceIdeal.main_arg7) = m ((c.tc : Thread Cert.AdamMemoryReferenceIdeal.nD Cert.AdamMemoryReferenceIdeal.τ).loc Cert.AdamMemoryReferenceIdeal.main_arg7))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3)
      ∧ r.2.mem ((c.tc : Thread Cert.AdamGate.nD Cert.AdamGate.τ).loc Cert.AdamGate.main_arg4) = m ((c.tc : Thread Cert.AdamGate.nD Cert.AdamGate.τ).loc Cert.AdamGate.main_arg4)
      ∧ r.2.mem ((c.tc : Thread Cert.AdamGate.nD Cert.AdamGate.τ).loc Cert.AdamGate.main_arg5) = m ((c.tc : Thread Cert.AdamGate.nD Cert.AdamGate.τ).loc Cert.AdamGate.main_arg5)
      ∧ r.2.mem ((c.tc : Thread Cert.AdamGate.nD Cert.AdamGate.τ).loc Cert.AdamGate.main_arg6) = m ((c.tc : Thread Cert.AdamGate.nD Cert.AdamGate.τ).loc Cert.AdamGate.main_arg6)
      ∧ r.2.mem ((c.tc : Thread Cert.AdamGate.nD Cert.AdamGate.τ).loc Cert.AdamGate.main_arg7) = m ((c.tc : Thread Cert.AdamGate.nD Cert.AdamGate.τ).loc Cert.AdamGate.main_arg7))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
      ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
      ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5)
      ∧ r.2.mem ((c.tc : Thread Cert.AdamGateIdeal.nD Cert.AdamGateIdeal.τ).loc Cert.AdamGateIdeal.main_arg6) = m ((c.tc : Thread Cert.AdamGateIdeal.nD Cert.AdamGateIdeal.τ).loc Cert.AdamGateIdeal.main_arg6)
      ∧ r.2.mem ((c.tc : Thread Cert.AdamGateIdeal.nD Cert.AdamGateIdeal.τ).loc Cert.AdamGateIdeal.main_arg7) = m ((c.tc : Thread Cert.AdamGateIdeal.nD Cert.AdamGateIdeal.τ).loc Cert.AdamGateIdeal.main_arg7))
      ∧ r.2.sem = fun _ => 0)

def quiescent_AdamGateReferenceIdeal [hAdamGateReferenceIdeal : Cert.AdamGateReferenceIdeal.Facts] : Prop :=
  ∀ (m : (ℓ : Loc Cert.AdamGateReferenceIdeal.nD Cert.AdamGateReferenceIdeal.τ Cert.AdamGateReferenceIdeal.sig) → Buf (Elt Ideal) ℓ) (g : Dev Cert.AdamGateReferenceIdeal.nD → PrngReg), Pre_AdamGateReferenceIdeal m →
    θ_run (Cert.AdamGateReferenceIdeal.defs (F := Ideal)) (onTc (τ := Cert.AdamGateReferenceIdeal.τ) (Cert.AdamGateReferenceIdeal.main (F := Ideal))) ⟨m, fun _ => 0, g⟩ (fun r => (∀ c : Dev Cert.AdamGateReferenceIdeal.nD,
      r.2.mem ((c.tc : Thread Cert.AdamGateReferenceIdeal.nD Cert.AdamGateReferenceIdeal.τ).loc Cert.AdamGateReferenceIdeal.main_arg0) = m ((c.tc : Thread Cert.AdamGateReferenceIdeal.nD Cert.AdamGateReferenceIdeal.τ).loc Cert.AdamGateReferenceIdeal.main_arg0)
      ∧ r.2.mem ((c.tc : Thread Cert.AdamGateReferenceIdeal.nD Cert.AdamGateReferenceIdeal.τ).loc Cert.AdamGateReferenceIdeal.main_arg1) = m ((c.tc : Thread Cert.AdamGateReferenceIdeal.nD Cert.AdamGateReferenceIdeal.τ).loc Cert.AdamGateReferenceIdeal.main_arg1)
      ∧ r.2.mem ((c.tc : Thread Cert.AdamGateReferenceIdeal.nD Cert.AdamGateReferenceIdeal.τ).loc Cert.AdamGateReferenceIdeal.main_arg2) = m ((c.tc : Thread Cert.AdamGateReferenceIdeal.nD Cert.AdamGateReferenceIdeal.τ).loc Cert.AdamGateReferenceIdeal.main_arg2)
      ∧ r.2.mem ((c.tc : Thread Cert.AdamGateReferenceIdeal.nD Cert.AdamGateReferenceIdeal.τ).loc Cert.AdamGateReferenceIdeal.main_arg3) = m ((c.tc : Thread Cert.AdamGateReferenceIdeal.nD Cert.AdamGateReferenceIdeal.τ).loc Cert.AdamGateReferenceIdeal.main_arg3)
      ∧ r.2.mem ((c.tc : Thread Cert.AdamGateReferenceIdeal.nD Cert.AdamGateReferenceIdeal.τ).loc Cert.AdamGateReferenceIdeal.main_arg4) = m ((c.tc : Thread Cert.AdamGateReferenceIdeal.nD Cert.AdamGateReferenceIdeal.τ).loc Cert.AdamGateReferenceIdeal.main_arg4)
      ∧ r.2.mem ((c.tc : Thread Cert.AdamGateReferenceIdeal.nD Cert.AdamGateReferenceIdeal.τ).loc Cert.AdamGateReferenceIdeal.main_arg5) = m ((c.tc : Thread Cert.AdamGateReferenceIdeal.nD Cert.AdamGateReferenceIdeal.τ).loc Cert.AdamGateReferenceIdeal.main_arg5)
      ∧ r.2.mem ((c.tc : Thread Cert.AdamGateReferenceIdeal.nD Cert.AdamGateReferenceIdeal.τ).loc Cert.AdamGateReferenceIdeal.main_arg6) = m ((c.tc : Thread Cert.AdamGateReferenceIdeal.nD Cert.AdamGateReferenceIdeal.τ).loc Cert.AdamGateReferenceIdeal.main_arg6)
      ∧ r.2.mem ((c.tc : Thread Cert.AdamGateReferenceIdeal.nD Cert.AdamGateReferenceIdeal.τ).loc Cert.AdamGateReferenceIdeal.main_arg7) = m ((c.tc : Thread Cert.AdamGateReferenceIdeal.nD Cert.AdamGateReferenceIdeal.τ).loc Cert.AdamGateReferenceIdeal.main_arg7))
      ∧ r.2.sem = fun _ => 0)

def quiescent_AdamGateBias [hAdamGateBias : Cert.AdamGateBias.Facts] : Prop :=
  ∀ (m : (ℓ : Loc Cert.AdamGateBias.nD Cert.AdamGateBias.τ Cert.AdamGateBias.sig) → Buf (Elt Bits) ℓ) (g : Dev Cert.AdamGateBias.nD → PrngReg), Pre_AdamGateBias m →
    θ_run (Cert.AdamGateBias.defs (F := Bits)) (onTc (τ := Cert.AdamGateBias.τ) (Cert.AdamGateBias.main (F := Bits))) ⟨m, fun _ => 0, g⟩ (fun r => (∀ c : Dev Cert.AdamGateBias.nD,
      r.2.mem ((c.tc : Thread Cert.AdamGateBias.nD Cert.AdamGateBias.τ).loc Cert.AdamGateBias.main_arg0) = m ((c.tc : Thread Cert.AdamGateBias.nD Cert.AdamGateBias.τ).loc Cert.AdamGateBias.main_arg0)
      ∧ r.2.mem ((c.tc : Thread Cert.AdamGateBias.nD Cert.AdamGateBias.τ).loc Cert.AdamGateBias.main_arg1) = m ((c.tc : Thread Cert.AdamGateBias.nD Cert.AdamGateBias.τ).loc Cert.AdamGateBias.main_arg1)
      ∧ r.2.mem ((c.tc : Thread Cert.AdamGateBias.nD Cert.AdamGateBias.τ).loc Cert.AdamGateBias.main_arg2) = m ((c.tc : Thread Cert.AdamGateBias.nD Cert.AdamGateBias.τ).loc Cert.AdamGateBias.main_arg2)
      ∧ r.2.mem ((c.tc : Thread Cert.AdamGateBias.nD Cert.AdamGateBias.τ).loc Cert.AdamGateBias.main_arg3) = m ((c.tc : Thread Cert.AdamGateBias.nD Cert.AdamGateBias.τ).loc Cert.AdamGateBias.main_arg3)
      ∧ r.2.mem ((c.tc : Thread Cert.AdamGateBias.nD Cert.AdamGateBias.τ).loc Cert.AdamGateBias.main_arg4) = m ((c.tc : Thread Cert.AdamGateBias.nD Cert.AdamGateBias.τ).loc Cert.AdamGateBias.main_arg4)
      ∧ r.2.mem ((c.tc : Thread Cert.AdamGateBias.nD Cert.AdamGateBias.τ).loc Cert.AdamGateBias.main_arg5) = m ((c.tc : Thread Cert.AdamGateBias.nD Cert.AdamGateBias.τ).loc Cert.AdamGateBias.main_arg5)
      ∧ r.2.mem ((c.tc : Thread Cert.AdamGateBias.nD Cert.AdamGateBias.τ).loc Cert.AdamGateBias.main_arg6) = m ((c.tc : Thread Cert.AdamGateBias.nD Cert.AdamGateBias.τ).loc Cert.AdamGateBias.main_arg6)
      ∧ r.2.mem ((c.tc : Thread Cert.AdamGateBias.nD Cert.AdamGateBias.τ).loc Cert.AdamGateBias.main_arg7) = m ((c.tc : Thread Cert.AdamGateBias.nD Cert.AdamGateBias.τ).loc Cert.AdamGateBias.main_arg7))
      ∧ r.2.sem = fun _ => 0)

def quiescent_AdamGateBiasIdeal [hAdamGateBiasIdeal : Cert.AdamGateBiasIdeal.Facts] : Prop :=
  ∀ (m : (ℓ : Loc Cert.AdamGateBiasIdeal.nD Cert.AdamGateBiasIdeal.τ Cert.AdamGateBiasIdeal.sig) → Buf (Elt Ideal) ℓ) (g : Dev Cert.AdamGateBiasIdeal.nD → PrngReg), Pre_AdamGateBiasIdeal m →
    θ_run (Cert.AdamGateBiasIdeal.defs (F := Ideal)) (onTc (τ := Cert.AdamGateBiasIdeal.τ) (Cert.AdamGateBiasIdeal.main (F := Ideal))) ⟨m, fun _ => 0, g⟩ (fun r => (∀ c : Dev Cert.AdamGateBiasIdeal.nD,
      r.2.mem ((c.tc : Thread Cert.AdamGateBiasIdeal.nD Cert.AdamGateBiasIdeal.τ).loc Cert.AdamGateBiasIdeal.main_arg0) = m ((c.tc : Thread Cert.AdamGateBiasIdeal.nD Cert.AdamGateBiasIdeal.τ).loc Cert.AdamGateBiasIdeal.main_arg0)
      ∧ r.2.mem ((c.tc : Thread Cert.AdamGateBiasIdeal.nD Cert.AdamGateBiasIdeal.τ).loc Cert.AdamGateBiasIdeal.main_arg1) = m ((c.tc : Thread Cert.AdamGateBiasIdeal.nD Cert.AdamGateBiasIdeal.τ).loc Cert.AdamGateBiasIdeal.main_arg1)
      ∧ r.2.mem ((c.tc : Thread Cert.AdamGateBiasIdeal.nD Cert.AdamGateBiasIdeal.τ).loc Cert.AdamGateBiasIdeal.main_arg2) = m ((c.tc : Thread Cert.AdamGateBiasIdeal.nD Cert.AdamGateBiasIdeal.τ).loc Cert.AdamGateBiasIdeal.main_arg2)
      ∧ r.2.mem ((c.tc : Thread Cert.AdamGateBiasIdeal.nD Cert.AdamGateBiasIdeal.τ).loc Cert.AdamGateBiasIdeal.main_arg3) = m ((c.tc : Thread Cert.AdamGateBiasIdeal.nD Cert.AdamGateBiasIdeal.τ).loc Cert.AdamGateBiasIdeal.main_arg3)
      ∧ r.2.mem ((c.tc : Thread Cert.AdamGateBiasIdeal.nD Cert.AdamGateBiasIdeal.τ).loc Cert.AdamGateBiasIdeal.main_arg4) = m ((c.tc : Thread Cert.AdamGateBiasIdeal.nD Cert.AdamGateBiasIdeal.τ).loc Cert.AdamGateBiasIdeal.main_arg4)
      ∧ r.2.mem ((c.tc : Thread Cert.AdamGateBiasIdeal.nD Cert.AdamGateBiasIdeal.τ).loc Cert.AdamGateBiasIdeal.main_arg5) = m ((c.tc : Thread Cert.AdamGateBiasIdeal.nD Cert.AdamGateBiasIdeal.τ).loc Cert.AdamGateBiasIdeal.main_arg5)
      ∧ r.2.mem ((c.tc : Thread Cert.AdamGateBiasIdeal.nD Cert.AdamGateBiasIdeal.τ).loc Cert.AdamGateBiasIdeal.main_arg6) = m ((c.tc : Thread Cert.AdamGateBiasIdeal.nD Cert.AdamGateBiasIdeal.τ).loc Cert.AdamGateBiasIdeal.main_arg6)
      ∧ r.2.mem ((c.tc : Thread Cert.AdamGateBiasIdeal.nD Cert.AdamGateBiasIdeal.τ).loc Cert.AdamGateBiasIdeal.main_arg7) = m ((c.tc : Thread Cert.AdamGateBiasIdeal.nD Cert.AdamGateBiasIdeal.τ).loc Cert.AdamGateBiasIdeal.main_arg7))
      ∧ r.2.sem = fun _ => 0)

def quiescent_AdamGateBiasReferenceIdeal [hAdamGateBiasReferenceIdeal : Cert.AdamGateBiasReferenceIdeal.Facts] : Prop :=
  ∀ (m : (ℓ : Loc Cert.AdamGateBiasReferenceIdeal.nD Cert.AdamGateBiasReferenceIdeal.τ Cert.AdamGateBiasReferenceIdeal.sig) → Buf (Elt Ideal) ℓ) (g : Dev Cert.AdamGateBiasReferenceIdeal.nD → PrngReg), Pre_AdamGateBiasReferenceIdeal m →
    θ_run (Cert.AdamGateBiasReferenceIdeal.defs (F := Ideal)) (onTc (τ := Cert.AdamGateBiasReferenceIdeal.τ) (Cert.AdamGateBiasReferenceIdeal.main (F := Ideal))) ⟨m, fun _ => 0, g⟩ (fun r => (∀ c : Dev Cert.AdamGateBiasReferenceIdeal.nD,
      r.2.mem ((c.tc : Thread Cert.AdamGateBiasReferenceIdeal.nD Cert.AdamGateBiasReferenceIdeal.τ).loc Cert.AdamGateBiasReferenceIdeal.main_arg0) = m ((c.tc : Thread Cert.AdamGateBiasReferenceIdeal.nD Cert.AdamGateBiasReferenceIdeal.τ).loc Cert.AdamGateBiasReferenceIdeal.main_arg0)
      ∧ r.2.mem ((c.tc : Thread Cert.AdamGateBiasReferenceIdeal.nD Cert.AdamGateBiasReferenceIdeal.τ).loc Cert.AdamGateBiasReferenceIdeal.main_arg1) = m ((c.tc : Thread Cert.AdamGateBiasReferenceIdeal.nD Cert.AdamGateBiasReferenceIdeal.τ).loc Cert.AdamGateBiasReferenceIdeal.main_arg1)
      ∧ r.2.mem ((c.tc : Thread Cert.AdamGateBiasReferenceIdeal.nD Cert.AdamGateBiasReferenceIdeal.τ).loc Cert.AdamGateBiasReferenceIdeal.main_arg2) = m ((c.tc : Thread Cert.AdamGateBiasReferenceIdeal.nD Cert.AdamGateBiasReferenceIdeal.τ).loc Cert.AdamGateBiasReferenceIdeal.main_arg2)
      ∧ r.2.mem ((c.tc : Thread Cert.AdamGateBiasReferenceIdeal.nD Cert.AdamGateBiasReferenceIdeal.τ).loc Cert.AdamGateBiasReferenceIdeal.main_arg3) = m ((c.tc : Thread Cert.AdamGateBiasReferenceIdeal.nD Cert.AdamGateBiasReferenceIdeal.τ).loc Cert.AdamGateBiasReferenceIdeal.main_arg3)
      ∧ r.2.mem ((c.tc : Thread Cert.AdamGateBiasReferenceIdeal.nD Cert.AdamGateBiasReferenceIdeal.τ).loc Cert.AdamGateBiasReferenceIdeal.main_arg4) = m ((c.tc : Thread Cert.AdamGateBiasReferenceIdeal.nD Cert.AdamGateBiasReferenceIdeal.τ).loc Cert.AdamGateBiasReferenceIdeal.main_arg4)
      ∧ r.2.mem ((c.tc : Thread Cert.AdamGateBiasReferenceIdeal.nD Cert.AdamGateBiasReferenceIdeal.τ).loc Cert.AdamGateBiasReferenceIdeal.main_arg5) = m ((c.tc : Thread Cert.AdamGateBiasReferenceIdeal.nD Cert.AdamGateBiasReferenceIdeal.τ).loc Cert.AdamGateBiasReferenceIdeal.main_arg5)
      ∧ r.2.mem ((c.tc : Thread Cert.AdamGateBiasReferenceIdeal.nD Cert.AdamGateBiasReferenceIdeal.τ).loc Cert.AdamGateBiasReferenceIdeal.main_arg6) = m ((c.tc : Thread Cert.AdamGateBiasReferenceIdeal.nD Cert.AdamGateBiasReferenceIdeal.τ).loc Cert.AdamGateBiasReferenceIdeal.main_arg6)
      ∧ r.2.mem ((c.tc : Thread Cert.AdamGateBiasReferenceIdeal.nD Cert.AdamGateBiasReferenceIdeal.τ).loc Cert.AdamGateBiasReferenceIdeal.main_arg7) = m ((c.tc : Thread Cert.AdamGateBiasReferenceIdeal.nD Cert.AdamGateBiasReferenceIdeal.τ).loc Cert.AdamGateBiasReferenceIdeal.main_arg7))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3)
      ∧ r.2.mem ((c.tc : Thread Cert.AdamBranch.nD Cert.AdamBranch.τ).loc Cert.AdamBranch.main_arg4) = m ((c.tc : Thread Cert.AdamBranch.nD Cert.AdamBranch.τ).loc Cert.AdamBranch.main_arg4)
      ∧ r.2.mem ((c.tc : Thread Cert.AdamBranch.nD Cert.AdamBranch.τ).loc Cert.AdamBranch.main_arg5) = m ((c.tc : Thread Cert.AdamBranch.nD Cert.AdamBranch.τ).loc Cert.AdamBranch.main_arg5)
      ∧ r.2.mem ((c.tc : Thread Cert.AdamBranch.nD Cert.AdamBranch.τ).loc Cert.AdamBranch.main_arg6) = m ((c.tc : Thread Cert.AdamBranch.nD Cert.AdamBranch.τ).loc Cert.AdamBranch.main_arg6)
      ∧ r.2.mem ((c.tc : Thread Cert.AdamBranch.nD Cert.AdamBranch.τ).loc Cert.AdamBranch.main_arg7) = m ((c.tc : Thread Cert.AdamBranch.nD Cert.AdamBranch.τ).loc Cert.AdamBranch.main_arg7))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
      ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
      ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5)
      ∧ r.2.mem ((c.tc : Thread Cert.AdamBranchIdeal.nD Cert.AdamBranchIdeal.τ).loc Cert.AdamBranchIdeal.main_arg6) = m ((c.tc : Thread Cert.AdamBranchIdeal.nD Cert.AdamBranchIdeal.τ).loc Cert.AdamBranchIdeal.main_arg6)
      ∧ r.2.mem ((c.tc : Thread Cert.AdamBranchIdeal.nD Cert.AdamBranchIdeal.τ).loc Cert.AdamBranchIdeal.main_arg7) = m ((c.tc : Thread Cert.AdamBranchIdeal.nD Cert.AdamBranchIdeal.τ).loc Cert.AdamBranchIdeal.main_arg7))
      ∧ r.2.sem = fun _ => 0)

def quiescent_AdamBranchReferenceIdeal [hAdamBranchReferenceIdeal : Cert.AdamBranchReferenceIdeal.Facts] : Prop :=
  ∀ (m : (ℓ : Loc Cert.AdamBranchReferenceIdeal.nD Cert.AdamBranchReferenceIdeal.τ Cert.AdamBranchReferenceIdeal.sig) → Buf (Elt Ideal) ℓ) (g : Dev Cert.AdamBranchReferenceIdeal.nD → PrngReg), Pre_AdamBranchReferenceIdeal m →
    θ_run (Cert.AdamBranchReferenceIdeal.defs (F := Ideal)) (onTc (τ := Cert.AdamBranchReferenceIdeal.τ) (Cert.AdamBranchReferenceIdeal.main (F := Ideal))) ⟨m, fun _ => 0, g⟩ (fun r => (∀ c : Dev Cert.AdamBranchReferenceIdeal.nD,
      r.2.mem ((c.tc : Thread Cert.AdamBranchReferenceIdeal.nD Cert.AdamBranchReferenceIdeal.τ).loc Cert.AdamBranchReferenceIdeal.main_arg0) = m ((c.tc : Thread Cert.AdamBranchReferenceIdeal.nD Cert.AdamBranchReferenceIdeal.τ).loc Cert.AdamBranchReferenceIdeal.main_arg0)
      ∧ r.2.mem ((c.tc : Thread Cert.AdamBranchReferenceIdeal.nD Cert.AdamBranchReferenceIdeal.τ).loc Cert.AdamBranchReferenceIdeal.main_arg1) = m ((c.tc : Thread Cert.AdamBranchReferenceIdeal.nD Cert.AdamBranchReferenceIdeal.τ).loc Cert.AdamBranchReferenceIdeal.main_arg1)
      ∧ r.2.mem ((c.tc : Thread Cert.AdamBranchReferenceIdeal.nD Cert.AdamBranchReferenceIdeal.τ).loc Cert.AdamBranchReferenceIdeal.main_arg2) = m ((c.tc : Thread Cert.AdamBranchReferenceIdeal.nD Cert.AdamBranchReferenceIdeal.τ).loc Cert.AdamBranchReferenceIdeal.main_arg2)
      ∧ r.2.mem ((c.tc : Thread Cert.AdamBranchReferenceIdeal.nD Cert.AdamBranchReferenceIdeal.τ).loc Cert.AdamBranchReferenceIdeal.main_arg3) = m ((c.tc : Thread Cert.AdamBranchReferenceIdeal.nD Cert.AdamBranchReferenceIdeal.τ).loc Cert.AdamBranchReferenceIdeal.main_arg3)
      ∧ r.2.mem ((c.tc : Thread Cert.AdamBranchReferenceIdeal.nD Cert.AdamBranchReferenceIdeal.τ).loc Cert.AdamBranchReferenceIdeal.main_arg4) = m ((c.tc : Thread Cert.AdamBranchReferenceIdeal.nD Cert.AdamBranchReferenceIdeal.τ).loc Cert.AdamBranchReferenceIdeal.main_arg4)
      ∧ r.2.mem ((c.tc : Thread Cert.AdamBranchReferenceIdeal.nD Cert.AdamBranchReferenceIdeal.τ).loc Cert.AdamBranchReferenceIdeal.main_arg5) = m ((c.tc : Thread Cert.AdamBranchReferenceIdeal.nD Cert.AdamBranchReferenceIdeal.τ).loc Cert.AdamBranchReferenceIdeal.main_arg5)
      ∧ r.2.mem ((c.tc : Thread Cert.AdamBranchReferenceIdeal.nD Cert.AdamBranchReferenceIdeal.τ).loc Cert.AdamBranchReferenceIdeal.main_arg6) = m ((c.tc : Thread Cert.AdamBranchReferenceIdeal.nD Cert.AdamBranchReferenceIdeal.τ).loc Cert.AdamBranchReferenceIdeal.main_arg6)
      ∧ r.2.mem ((c.tc : Thread Cert.AdamBranchReferenceIdeal.nD Cert.AdamBranchReferenceIdeal.τ).loc Cert.AdamBranchReferenceIdeal.main_arg7) = m ((c.tc : Thread Cert.AdamBranchReferenceIdeal.nD Cert.AdamBranchReferenceIdeal.τ).loc Cert.AdamBranchReferenceIdeal.main_arg7))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6)
      ∧ r.2.mem ((c.tc : Thread Cert.AdamOut.nD Cert.AdamOut.τ).loc Cert.AdamOut.main_arg7) = m ((c.tc : Thread Cert.AdamOut.nD Cert.AdamOut.τ).loc Cert.AdamOut.main_arg7))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
      ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4)
      ∧ r.2.mem ((c.tc : Thread Cert.AdamOutReferenceIdeal.nD Cert.AdamOutReferenceIdeal.τ).loc Cert.AdamOutReferenceIdeal.main_arg5) = m ((c.tc : Thread Cert.AdamOutReferenceIdeal.nD Cert.AdamOutReferenceIdeal.τ).loc Cert.AdamOutReferenceIdeal.main_arg5)
      ∧ r.2.mem ((c.tc : Thread Cert.AdamOutReferenceIdeal.nD Cert.AdamOutReferenceIdeal.τ).loc Cert.AdamOutReferenceIdeal.main_arg6) = m ((c.tc : Thread Cert.AdamOutReferenceIdeal.nD Cert.AdamOutReferenceIdeal.τ).loc Cert.AdamOutReferenceIdeal.main_arg6)
      ∧ r.2.mem ((c.tc : Thread Cert.AdamOutReferenceIdeal.nD Cert.AdamOutReferenceIdeal.τ).loc Cert.AdamOutReferenceIdeal.main_arg7) = m ((c.tc : Thread Cert.AdamOutReferenceIdeal.nD Cert.AdamOutReferenceIdeal.τ).loc Cert.AdamOutReferenceIdeal.main_arg7))
      ∧ r.2.sem = fun _ => 0)

def quiescent_AdamRest [hAdamRest : Cert.AdamRest.Facts] : Prop :=
  ∀ (m : (ℓ : Loc Cert.AdamRest.nD Cert.AdamRest.τ Cert.AdamRest.sig) → Buf (Elt Bits) ℓ) (g : Dev Cert.AdamRest.nD → PrngReg), Pre_AdamRest m →
    θ_run (Cert.AdamRest.defs (F := Bits)) (onTc (τ := Cert.AdamRest.τ) (Cert.AdamRest.main (F := Bits))) ⟨m, fun _ => 0, g⟩ (fun r => (∀ c : Dev Cert.AdamRest.nD,
      r.2.mem ((c.tc : Thread Cert.AdamRest.nD Cert.AdamRest.τ).loc Cert.AdamRest.main_arg0) = m ((c.tc : Thread Cert.AdamRest.nD Cert.AdamRest.τ).loc Cert.AdamRest.main_arg0)
      ∧ r.2.mem ((c.tc : Thread Cert.AdamRest.nD Cert.AdamRest.τ).loc Cert.AdamRest.main_arg1) = m ((c.tc : Thread Cert.AdamRest.nD Cert.AdamRest.τ).loc Cert.AdamRest.main_arg1)
      ∧ r.2.mem ((c.tc : Thread Cert.AdamRest.nD Cert.AdamRest.τ).loc Cert.AdamRest.main_arg2) = m ((c.tc : Thread Cert.AdamRest.nD Cert.AdamRest.τ).loc Cert.AdamRest.main_arg2)
      ∧ r.2.mem ((c.tc : Thread Cert.AdamRest.nD Cert.AdamRest.τ).loc Cert.AdamRest.main_arg3) = m ((c.tc : Thread Cert.AdamRest.nD Cert.AdamRest.τ).loc Cert.AdamRest.main_arg3)
      ∧ r.2.mem ((c.tc : Thread Cert.AdamRest.nD Cert.AdamRest.τ).loc Cert.AdamRest.main_arg4) = m ((c.tc : Thread Cert.AdamRest.nD Cert.AdamRest.τ).loc Cert.AdamRest.main_arg4)
      ∧ r.2.mem ((c.tc : Thread Cert.AdamRest.nD Cert.AdamRest.τ).loc Cert.AdamRest.main_arg5) = m ((c.tc : Thread Cert.AdamRest.nD Cert.AdamRest.τ).loc Cert.AdamRest.main_arg5)
      ∧ r.2.mem ((c.tc : Thread Cert.AdamRest.nD Cert.AdamRest.τ).loc Cert.AdamRest.main_arg6) = m ((c.tc : Thread Cert.AdamRest.nD Cert.AdamRest.τ).loc Cert.AdamRest.main_arg6)
      ∧ r.2.mem ((c.tc : Thread Cert.AdamRest.nD Cert.AdamRest.τ).loc Cert.AdamRest.main_arg7) = m ((c.tc : Thread Cert.AdamRest.nD Cert.AdamRest.τ).loc Cert.AdamRest.main_arg7)
      ∧ r.2.mem ((c.tc : Thread Cert.AdamRest.nD Cert.AdamRest.τ).loc Cert.AdamRest.main_arg8) = m ((c.tc : Thread Cert.AdamRest.nD Cert.AdamRest.τ).loc Cert.AdamRest.main_arg8)
      ∧ r.2.mem ((c.tc : Thread Cert.AdamRest.nD Cert.AdamRest.τ).loc Cert.AdamRest.main_arg9) = m ((c.tc : Thread Cert.AdamRest.nD Cert.AdamRest.τ).loc Cert.AdamRest.main_arg9)
      ∧ r.2.mem ((c.tc : Thread Cert.AdamRest.nD Cert.AdamRest.τ).loc Cert.AdamRest.main_arg10) = m ((c.tc : Thread Cert.AdamRest.nD Cert.AdamRest.τ).loc Cert.AdamRest.main_arg10)
      ∧ r.2.mem ((c.tc : Thread Cert.AdamRest.nD Cert.AdamRest.τ).loc Cert.AdamRest.main_arg11) = m ((c.tc : Thread Cert.AdamRest.nD Cert.AdamRest.τ).loc Cert.AdamRest.main_arg11)
      ∧ r.2.mem ((c.tc : Thread Cert.AdamRest.nD Cert.AdamRest.τ).loc Cert.AdamRest.main_arg12) = m ((c.tc : Thread Cert.AdamRest.nD Cert.AdamRest.τ).loc Cert.AdamRest.main_arg12)
      ∧ r.2.mem ((c.tc : Thread Cert.AdamRest.nD Cert.AdamRest.τ).loc Cert.AdamRest.main_arg13) = m ((c.tc : Thread Cert.AdamRest.nD Cert.AdamRest.τ).loc Cert.AdamRest.main_arg13)
      ∧ r.2.mem ((c.tc : Thread Cert.AdamRest.nD Cert.AdamRest.τ).loc Cert.AdamRest.main_arg14) = m ((c.tc : Thread Cert.AdamRest.nD Cert.AdamRest.τ).loc Cert.AdamRest.main_arg14)
      ∧ r.2.mem ((c.tc : Thread Cert.AdamRest.nD Cert.AdamRest.τ).loc Cert.AdamRest.main_arg15) = m ((c.tc : Thread Cert.AdamRest.nD Cert.AdamRest.τ).loc Cert.AdamRest.main_arg15)
      ∧ r.2.mem ((c.tc : Thread Cert.AdamRest.nD Cert.AdamRest.τ).loc Cert.AdamRest.main_arg16) = m ((c.tc : Thread Cert.AdamRest.nD Cert.AdamRest.τ).loc Cert.AdamRest.main_arg16)
      ∧ r.2.mem ((c.tc : Thread Cert.AdamRest.nD Cert.AdamRest.τ).loc Cert.AdamRest.main_arg17) = m ((c.tc : Thread Cert.AdamRest.nD Cert.AdamRest.τ).loc Cert.AdamRest.main_arg17)
      ∧ r.2.mem ((c.tc : Thread Cert.AdamRest.nD Cert.AdamRest.τ).loc Cert.AdamRest.main_arg18) = m ((c.tc : Thread Cert.AdamRest.nD Cert.AdamRest.τ).loc Cert.AdamRest.main_arg18)
      ∧ r.2.mem ((c.tc : Thread Cert.AdamRest.nD Cert.AdamRest.τ).loc Cert.AdamRest.main_arg19) = m ((c.tc : Thread Cert.AdamRest.nD Cert.AdamRest.τ).loc Cert.AdamRest.main_arg19)
      ∧ r.2.mem ((c.tc : Thread Cert.AdamRest.nD Cert.AdamRest.τ).loc Cert.AdamRest.main_arg20) = m ((c.tc : Thread Cert.AdamRest.nD Cert.AdamRest.τ).loc Cert.AdamRest.main_arg20)
      ∧ r.2.mem ((c.tc : Thread Cert.AdamRest.nD Cert.AdamRest.τ).loc Cert.AdamRest.main_arg21) = m ((c.tc : Thread Cert.AdamRest.nD Cert.AdamRest.τ).loc Cert.AdamRest.main_arg21)
      ∧ r.2.mem ((c.tc : Thread Cert.AdamRest.nD Cert.AdamRest.τ).loc Cert.AdamRest.main_arg22) = m ((c.tc : Thread Cert.AdamRest.nD Cert.AdamRest.τ).loc Cert.AdamRest.main_arg22)
      ∧ r.2.mem ((c.tc : Thread Cert.AdamRest.nD Cert.AdamRest.τ).loc Cert.AdamRest.main_arg23) = m ((c.tc : Thread Cert.AdamRest.nD Cert.AdamRest.τ).loc Cert.AdamRest.main_arg23)
      ∧ r.2.mem ((c.tc : Thread Cert.AdamRest.nD Cert.AdamRest.τ).loc Cert.AdamRest.main_arg24) = m ((c.tc : Thread Cert.AdamRest.nD Cert.AdamRest.τ).loc Cert.AdamRest.main_arg24)
      ∧ r.2.mem ((c.tc : Thread Cert.AdamRest.nD Cert.AdamRest.τ).loc Cert.AdamRest.main_arg25) = m ((c.tc : Thread Cert.AdamRest.nD Cert.AdamRest.τ).loc Cert.AdamRest.main_arg25)
      ∧ r.2.mem ((c.tc : Thread Cert.AdamRest.nD Cert.AdamRest.τ).loc Cert.AdamRest.main_arg26) = m ((c.tc : Thread Cert.AdamRest.nD Cert.AdamRest.τ).loc Cert.AdamRest.main_arg26)
      ∧ r.2.mem ((c.tc : Thread Cert.AdamRest.nD Cert.AdamRest.τ).loc Cert.AdamRest.main_arg27) = m ((c.tc : Thread Cert.AdamRest.nD Cert.AdamRest.τ).loc Cert.AdamRest.main_arg27)
      ∧ r.2.mem ((c.tc : Thread Cert.AdamRest.nD Cert.AdamRest.τ).loc Cert.AdamRest.main_arg28) = m ((c.tc : Thread Cert.AdamRest.nD Cert.AdamRest.τ).loc Cert.AdamRest.main_arg28)
      ∧ r.2.mem ((c.tc : Thread Cert.AdamRest.nD Cert.AdamRest.τ).loc Cert.AdamRest.main_arg29) = m ((c.tc : Thread Cert.AdamRest.nD Cert.AdamRest.τ).loc Cert.AdamRest.main_arg29)
      ∧ r.2.mem ((c.tc : Thread Cert.AdamRest.nD Cert.AdamRest.τ).loc Cert.AdamRest.main_arg30) = m ((c.tc : Thread Cert.AdamRest.nD Cert.AdamRest.τ).loc Cert.AdamRest.main_arg30)
      ∧ r.2.mem ((c.tc : Thread Cert.AdamRest.nD Cert.AdamRest.τ).loc Cert.AdamRest.main_arg31) = m ((c.tc : Thread Cert.AdamRest.nD Cert.AdamRest.τ).loc Cert.AdamRest.main_arg31)
      ∧ r.2.mem ((c.tc : Thread Cert.AdamRest.nD Cert.AdamRest.τ).loc Cert.AdamRest.main_arg32) = m ((c.tc : Thread Cert.AdamRest.nD Cert.AdamRest.τ).loc Cert.AdamRest.main_arg32)
      ∧ r.2.mem ((c.tc : Thread Cert.AdamRest.nD Cert.AdamRest.τ).loc Cert.AdamRest.main_arg33) = m ((c.tc : Thread Cert.AdamRest.nD Cert.AdamRest.τ).loc Cert.AdamRest.main_arg33)
      ∧ r.2.mem ((c.tc : Thread Cert.AdamRest.nD Cert.AdamRest.τ).loc Cert.AdamRest.main_arg34) = m ((c.tc : Thread Cert.AdamRest.nD Cert.AdamRest.τ).loc Cert.AdamRest.main_arg34)
      ∧ r.2.mem ((c.tc : Thread Cert.AdamRest.nD Cert.AdamRest.τ).loc Cert.AdamRest.main_arg35) = m ((c.tc : Thread Cert.AdamRest.nD Cert.AdamRest.τ).loc Cert.AdamRest.main_arg35)
      ∧ r.2.mem ((c.tc : Thread Cert.AdamRest.nD Cert.AdamRest.τ).loc Cert.AdamRest.main_arg36) = m ((c.tc : Thread Cert.AdamRest.nD Cert.AdamRest.τ).loc Cert.AdamRest.main_arg36)
      ∧ r.2.mem ((c.tc : Thread Cert.AdamRest.nD Cert.AdamRest.τ).loc Cert.AdamRest.main_arg37) = m ((c.tc : Thread Cert.AdamRest.nD Cert.AdamRest.τ).loc Cert.AdamRest.main_arg37)
      ∧ r.2.mem ((c.tc : Thread Cert.AdamRest.nD Cert.AdamRest.τ).loc Cert.AdamRest.main_arg38) = m ((c.tc : Thread Cert.AdamRest.nD Cert.AdamRest.τ).loc Cert.AdamRest.main_arg38)
      ∧ r.2.mem ((c.tc : Thread Cert.AdamRest.nD Cert.AdamRest.τ).loc Cert.AdamRest.main_arg39) = m ((c.tc : Thread Cert.AdamRest.nD Cert.AdamRest.τ).loc Cert.AdamRest.main_arg39)
      ∧ r.2.mem ((c.tc : Thread Cert.AdamRest.nD Cert.AdamRest.τ).loc Cert.AdamRest.main_arg40) = m ((c.tc : Thread Cert.AdamRest.nD Cert.AdamRest.τ).loc Cert.AdamRest.main_arg40)
      ∧ r.2.mem ((c.tc : Thread Cert.AdamRest.nD Cert.AdamRest.τ).loc Cert.AdamRest.main_arg41) = m ((c.tc : Thread Cert.AdamRest.nD Cert.AdamRest.τ).loc Cert.AdamRest.main_arg41)
      ∧ r.2.mem ((c.tc : Thread Cert.AdamRest.nD Cert.AdamRest.τ).loc Cert.AdamRest.main_arg42) = m ((c.tc : Thread Cert.AdamRest.nD Cert.AdamRest.τ).loc Cert.AdamRest.main_arg42)
      ∧ r.2.mem ((c.tc : Thread Cert.AdamRest.nD Cert.AdamRest.τ).loc Cert.AdamRest.main_arg43) = m ((c.tc : Thread Cert.AdamRest.nD Cert.AdamRest.τ).loc Cert.AdamRest.main_arg43)
      ∧ r.2.mem ((c.tc : Thread Cert.AdamRest.nD Cert.AdamRest.τ).loc Cert.AdamRest.main_arg44) = m ((c.tc : Thread Cert.AdamRest.nD Cert.AdamRest.τ).loc Cert.AdamRest.main_arg44)
      ∧ r.2.mem ((c.tc : Thread Cert.AdamRest.nD Cert.AdamRest.τ).loc Cert.AdamRest.main_arg45) = m ((c.tc : Thread Cert.AdamRest.nD Cert.AdamRest.τ).loc Cert.AdamRest.main_arg45)
      ∧ r.2.mem ((c.tc : Thread Cert.AdamRest.nD Cert.AdamRest.τ).loc Cert.AdamRest.main_arg46) = m ((c.tc : Thread Cert.AdamRest.nD Cert.AdamRest.τ).loc Cert.AdamRest.main_arg46)
      ∧ r.2.mem ((c.tc : Thread Cert.AdamRest.nD Cert.AdamRest.τ).loc Cert.AdamRest.main_arg47) = m ((c.tc : Thread Cert.AdamRest.nD Cert.AdamRest.τ).loc Cert.AdamRest.main_arg47)
      ∧ r.2.mem ((c.tc : Thread Cert.AdamRest.nD Cert.AdamRest.τ).loc Cert.AdamRest.main_arg48) = m ((c.tc : Thread Cert.AdamRest.nD Cert.AdamRest.τ).loc Cert.AdamRest.main_arg48)
      ∧ r.2.mem ((c.tc : Thread Cert.AdamRest.nD Cert.AdamRest.τ).loc Cert.AdamRest.main_arg49) = m ((c.tc : Thread Cert.AdamRest.nD Cert.AdamRest.τ).loc Cert.AdamRest.main_arg49)
      ∧ r.2.mem ((c.tc : Thread Cert.AdamRest.nD Cert.AdamRest.τ).loc Cert.AdamRest.main_arg50) = m ((c.tc : Thread Cert.AdamRest.nD Cert.AdamRest.τ).loc Cert.AdamRest.main_arg50)
      ∧ r.2.mem ((c.tc : Thread Cert.AdamRest.nD Cert.AdamRest.τ).loc Cert.AdamRest.main_arg51) = m ((c.tc : Thread Cert.AdamRest.nD Cert.AdamRest.τ).loc Cert.AdamRest.main_arg51)
      ∧ r.2.mem ((c.tc : Thread Cert.AdamRest.nD Cert.AdamRest.τ).loc Cert.AdamRest.main_arg52) = m ((c.tc : Thread Cert.AdamRest.nD Cert.AdamRest.τ).loc Cert.AdamRest.main_arg52)
      ∧ r.2.mem ((c.tc : Thread Cert.AdamRest.nD Cert.AdamRest.τ).loc Cert.AdamRest.main_arg53) = m ((c.tc : Thread Cert.AdamRest.nD Cert.AdamRest.τ).loc Cert.AdamRest.main_arg53)
      ∧ r.2.mem ((c.tc : Thread Cert.AdamRest.nD Cert.AdamRest.τ).loc Cert.AdamRest.main_arg54) = m ((c.tc : Thread Cert.AdamRest.nD Cert.AdamRest.τ).loc Cert.AdamRest.main_arg54)
      ∧ r.2.mem ((c.tc : Thread Cert.AdamRest.nD Cert.AdamRest.τ).loc Cert.AdamRest.main_arg55) = m ((c.tc : Thread Cert.AdamRest.nD Cert.AdamRest.τ).loc Cert.AdamRest.main_arg55)
      ∧ r.2.mem ((c.tc : Thread Cert.AdamRest.nD Cert.AdamRest.τ).loc Cert.AdamRest.main_arg56) = m ((c.tc : Thread Cert.AdamRest.nD Cert.AdamRest.τ).loc Cert.AdamRest.main_arg56)
      ∧ r.2.mem ((c.tc : Thread Cert.AdamRest.nD Cert.AdamRest.τ).loc Cert.AdamRest.main_arg57) = m ((c.tc : Thread Cert.AdamRest.nD Cert.AdamRest.τ).loc Cert.AdamRest.main_arg57)
      ∧ r.2.mem ((c.tc : Thread Cert.AdamRest.nD Cert.AdamRest.τ).loc Cert.AdamRest.main_arg58) = m ((c.tc : Thread Cert.AdamRest.nD Cert.AdamRest.τ).loc Cert.AdamRest.main_arg58)
      ∧ r.2.mem ((c.tc : Thread Cert.AdamRest.nD Cert.AdamRest.τ).loc Cert.AdamRest.main_arg59) = m ((c.tc : Thread Cert.AdamRest.nD Cert.AdamRest.τ).loc Cert.AdamRest.main_arg59)
      ∧ r.2.mem ((c.tc : Thread Cert.AdamRest.nD Cert.AdamRest.τ).loc Cert.AdamRest.main_arg60) = m ((c.tc : Thread Cert.AdamRest.nD Cert.AdamRest.τ).loc Cert.AdamRest.main_arg60)
      ∧ r.2.mem ((c.tc : Thread Cert.AdamRest.nD Cert.AdamRest.τ).loc Cert.AdamRest.main_arg61) = m ((c.tc : Thread Cert.AdamRest.nD Cert.AdamRest.τ).loc Cert.AdamRest.main_arg61)
      ∧ r.2.mem ((c.tc : Thread Cert.AdamRest.nD Cert.AdamRest.τ).loc Cert.AdamRest.main_arg62) = m ((c.tc : Thread Cert.AdamRest.nD Cert.AdamRest.τ).loc Cert.AdamRest.main_arg62)
      ∧ r.2.mem ((c.tc : Thread Cert.AdamRest.nD Cert.AdamRest.τ).loc Cert.AdamRest.main_arg63) = m ((c.tc : Thread Cert.AdamRest.nD Cert.AdamRest.τ).loc Cert.AdamRest.main_arg63)
      ∧ r.2.mem ((c.tc : Thread Cert.AdamRest.nD Cert.AdamRest.τ).loc Cert.AdamRest.main_arg64) = m ((c.tc : Thread Cert.AdamRest.nD Cert.AdamRest.τ).loc Cert.AdamRest.main_arg64)
      ∧ r.2.mem ((c.tc : Thread Cert.AdamRest.nD Cert.AdamRest.τ).loc Cert.AdamRest.main_arg65) = m ((c.tc : Thread Cert.AdamRest.nD Cert.AdamRest.τ).loc Cert.AdamRest.main_arg65)
      ∧ r.2.mem ((c.tc : Thread Cert.AdamRest.nD Cert.AdamRest.τ).loc Cert.AdamRest.main_arg66) = m ((c.tc : Thread Cert.AdamRest.nD Cert.AdamRest.τ).loc Cert.AdamRest.main_arg66)
      ∧ r.2.mem ((c.tc : Thread Cert.AdamRest.nD Cert.AdamRest.τ).loc Cert.AdamRest.main_arg67) = m ((c.tc : Thread Cert.AdamRest.nD Cert.AdamRest.τ).loc Cert.AdamRest.main_arg67)
      ∧ r.2.mem ((c.tc : Thread Cert.AdamRest.nD Cert.AdamRest.τ).loc Cert.AdamRest.main_arg68) = m ((c.tc : Thread Cert.AdamRest.nD Cert.AdamRest.τ).loc Cert.AdamRest.main_arg68)
      ∧ r.2.mem ((c.tc : Thread Cert.AdamRest.nD Cert.AdamRest.τ).loc Cert.AdamRest.main_arg69) = m ((c.tc : Thread Cert.AdamRest.nD Cert.AdamRest.τ).loc Cert.AdamRest.main_arg69)
      ∧ r.2.mem ((c.tc : Thread Cert.AdamRest.nD Cert.AdamRest.τ).loc Cert.AdamRest.main_arg70) = m ((c.tc : Thread Cert.AdamRest.nD Cert.AdamRest.τ).loc Cert.AdamRest.main_arg70)
      ∧ r.2.mem ((c.tc : Thread Cert.AdamRest.nD Cert.AdamRest.τ).loc Cert.AdamRest.main_arg71) = m ((c.tc : Thread Cert.AdamRest.nD Cert.AdamRest.τ).loc Cert.AdamRest.main_arg71)
      ∧ r.2.mem ((c.tc : Thread Cert.AdamRest.nD Cert.AdamRest.τ).loc Cert.AdamRest.main_arg72) = m ((c.tc : Thread Cert.AdamRest.nD Cert.AdamRest.τ).loc Cert.AdamRest.main_arg72)
      ∧ r.2.mem ((c.tc : Thread Cert.AdamRest.nD Cert.AdamRest.τ).loc Cert.AdamRest.main_arg73) = m ((c.tc : Thread Cert.AdamRest.nD Cert.AdamRest.τ).loc Cert.AdamRest.main_arg73)
      ∧ r.2.mem ((c.tc : Thread Cert.AdamRest.nD Cert.AdamRest.τ).loc Cert.AdamRest.main_arg74) = m ((c.tc : Thread Cert.AdamRest.nD Cert.AdamRest.τ).loc Cert.AdamRest.main_arg74)
      ∧ r.2.mem ((c.tc : Thread Cert.AdamRest.nD Cert.AdamRest.τ).loc Cert.AdamRest.main_arg75) = m ((c.tc : Thread Cert.AdamRest.nD Cert.AdamRest.τ).loc Cert.AdamRest.main_arg75)
      ∧ r.2.mem ((c.tc : Thread Cert.AdamRest.nD Cert.AdamRest.τ).loc Cert.AdamRest.main_arg76) = m ((c.tc : Thread Cert.AdamRest.nD Cert.AdamRest.τ).loc Cert.AdamRest.main_arg76)
      ∧ r.2.mem ((c.tc : Thread Cert.AdamRest.nD Cert.AdamRest.τ).loc Cert.AdamRest.main_arg77) = m ((c.tc : Thread Cert.AdamRest.nD Cert.AdamRest.τ).loc Cert.AdamRest.main_arg77)
      ∧ r.2.mem ((c.tc : Thread Cert.AdamRest.nD Cert.AdamRest.τ).loc Cert.AdamRest.main_arg78) = m ((c.tc : Thread Cert.AdamRest.nD Cert.AdamRest.τ).loc Cert.AdamRest.main_arg78)
      ∧ r.2.mem ((c.tc : Thread Cert.AdamRest.nD Cert.AdamRest.τ).loc Cert.AdamRest.main_arg79) = m ((c.tc : Thread Cert.AdamRest.nD Cert.AdamRest.τ).loc Cert.AdamRest.main_arg79)
      ∧ r.2.mem ((c.tc : Thread Cert.AdamRest.nD Cert.AdamRest.τ).loc Cert.AdamRest.main_arg80) = m ((c.tc : Thread Cert.AdamRest.nD Cert.AdamRest.τ).loc Cert.AdamRest.main_arg80)
      ∧ r.2.mem ((c.tc : Thread Cert.AdamRest.nD Cert.AdamRest.τ).loc Cert.AdamRest.main_arg81) = m ((c.tc : Thread Cert.AdamRest.nD Cert.AdamRest.τ).loc Cert.AdamRest.main_arg81)
      ∧ r.2.mem ((c.tc : Thread Cert.AdamRest.nD Cert.AdamRest.τ).loc Cert.AdamRest.main_arg82) = m ((c.tc : Thread Cert.AdamRest.nD Cert.AdamRest.τ).loc Cert.AdamRest.main_arg82)
      ∧ r.2.mem ((c.tc : Thread Cert.AdamRest.nD Cert.AdamRest.τ).loc Cert.AdamRest.main_arg83) = m ((c.tc : Thread Cert.AdamRest.nD Cert.AdamRest.τ).loc Cert.AdamRest.main_arg83))
      ∧ r.2.sem = fun _ => 0)

def quiescent_AdamRestIdeal [hAdamRestIdeal : Cert.AdamRestIdeal.Facts] : Prop :=
  ∀ (m : (ℓ : Loc Cert.AdamRestIdeal.nD Cert.AdamRestIdeal.τ Cert.AdamRestIdeal.sig) → Buf (Elt Ideal) ℓ) (g : Dev Cert.AdamRestIdeal.nD → PrngReg), Pre_AdamRestIdeal m →
    θ_run (Cert.AdamRestIdeal.defs (F := Ideal)) (onTc (τ := Cert.AdamRestIdeal.τ) (Cert.AdamRestIdeal.main (F := Ideal))) ⟨m, fun _ => 0, g⟩ (fun r => (∀ c : Dev Cert.AdamRestIdeal.nD,
      r.2.mem ((c.tc : Thread Cert.AdamRestIdeal.nD Cert.AdamRestIdeal.τ).loc Cert.AdamRestIdeal.main_arg0) = m ((c.tc : Thread Cert.AdamRestIdeal.nD Cert.AdamRestIdeal.τ).loc Cert.AdamRestIdeal.main_arg0)
      ∧ r.2.mem ((c.tc : Thread Cert.AdamRestIdeal.nD Cert.AdamRestIdeal.τ).loc Cert.AdamRestIdeal.main_arg1) = m ((c.tc : Thread Cert.AdamRestIdeal.nD Cert.AdamRestIdeal.τ).loc Cert.AdamRestIdeal.main_arg1)
      ∧ r.2.mem ((c.tc : Thread Cert.AdamRestIdeal.nD Cert.AdamRestIdeal.τ).loc Cert.AdamRestIdeal.main_arg2) = m ((c.tc : Thread Cert.AdamRestIdeal.nD Cert.AdamRestIdeal.τ).loc Cert.AdamRestIdeal.main_arg2)
      ∧ r.2.mem ((c.tc : Thread Cert.AdamRestIdeal.nD Cert.AdamRestIdeal.τ).loc Cert.AdamRestIdeal.main_arg3) = m ((c.tc : Thread Cert.AdamRestIdeal.nD Cert.AdamRestIdeal.τ).loc Cert.AdamRestIdeal.main_arg3)
      ∧ r.2.mem ((c.tc : Thread Cert.AdamRestIdeal.nD Cert.AdamRestIdeal.τ).loc Cert.AdamRestIdeal.main_arg4) = m ((c.tc : Thread Cert.AdamRestIdeal.nD Cert.AdamRestIdeal.τ).loc Cert.AdamRestIdeal.main_arg4)
      ∧ r.2.mem ((c.tc : Thread Cert.AdamRestIdeal.nD Cert.AdamRestIdeal.τ).loc Cert.AdamRestIdeal.main_arg5) = m ((c.tc : Thread Cert.AdamRestIdeal.nD Cert.AdamRestIdeal.τ).loc Cert.AdamRestIdeal.main_arg5)
      ∧ r.2.mem ((c.tc : Thread Cert.AdamRestIdeal.nD Cert.AdamRestIdeal.τ).loc Cert.AdamRestIdeal.main_arg6) = m ((c.tc : Thread Cert.AdamRestIdeal.nD Cert.AdamRestIdeal.τ).loc Cert.AdamRestIdeal.main_arg6)
      ∧ r.2.mem ((c.tc : Thread Cert.AdamRestIdeal.nD Cert.AdamRestIdeal.τ).loc Cert.AdamRestIdeal.main_arg7) = m ((c.tc : Thread Cert.AdamRestIdeal.nD Cert.AdamRestIdeal.τ).loc Cert.AdamRestIdeal.main_arg7)
      ∧ r.2.mem ((c.tc : Thread Cert.AdamRestIdeal.nD Cert.AdamRestIdeal.τ).loc Cert.AdamRestIdeal.main_arg8) = m ((c.tc : Thread Cert.AdamRestIdeal.nD Cert.AdamRestIdeal.τ).loc Cert.AdamRestIdeal.main_arg8)
      ∧ r.2.mem ((c.tc : Thread Cert.AdamRestIdeal.nD Cert.AdamRestIdeal.τ).loc Cert.AdamRestIdeal.main_arg9) = m ((c.tc : Thread Cert.AdamRestIdeal.nD Cert.AdamRestIdeal.τ).loc Cert.AdamRestIdeal.main_arg9)
      ∧ r.2.mem ((c.tc : Thread Cert.AdamRestIdeal.nD Cert.AdamRestIdeal.τ).loc Cert.AdamRestIdeal.main_arg10) = m ((c.tc : Thread Cert.AdamRestIdeal.nD Cert.AdamRestIdeal.τ).loc Cert.AdamRestIdeal.main_arg10)
      ∧ r.2.mem ((c.tc : Thread Cert.AdamRestIdeal.nD Cert.AdamRestIdeal.τ).loc Cert.AdamRestIdeal.main_arg11) = m ((c.tc : Thread Cert.AdamRestIdeal.nD Cert.AdamRestIdeal.τ).loc Cert.AdamRestIdeal.main_arg11)
      ∧ r.2.mem ((c.tc : Thread Cert.AdamRestIdeal.nD Cert.AdamRestIdeal.τ).loc Cert.AdamRestIdeal.main_arg12) = m ((c.tc : Thread Cert.AdamRestIdeal.nD Cert.AdamRestIdeal.τ).loc Cert.AdamRestIdeal.main_arg12)
      ∧ r.2.mem ((c.tc : Thread Cert.AdamRestIdeal.nD Cert.AdamRestIdeal.τ).loc Cert.AdamRestIdeal.main_arg13) = m ((c.tc : Thread Cert.AdamRestIdeal.nD Cert.AdamRestIdeal.τ).loc Cert.AdamRestIdeal.main_arg13)
      ∧ r.2.mem ((c.tc : Thread Cert.AdamRestIdeal.nD Cert.AdamRestIdeal.τ).loc Cert.AdamRestIdeal.main_arg14) = m ((c.tc : Thread Cert.AdamRestIdeal.nD Cert.AdamRestIdeal.τ).loc Cert.AdamRestIdeal.main_arg14)
      ∧ r.2.mem ((c.tc : Thread Cert.AdamRestIdeal.nD Cert.AdamRestIdeal.τ).loc Cert.AdamRestIdeal.main_arg15) = m ((c.tc : Thread Cert.AdamRestIdeal.nD Cert.AdamRestIdeal.τ).loc Cert.AdamRestIdeal.main_arg15)
      ∧ r.2.mem ((c.tc : Thread Cert.AdamRestIdeal.nD Cert.AdamRestIdeal.τ).loc Cert.AdamRestIdeal.main_arg16) = m ((c.tc : Thread Cert.AdamRestIdeal.nD Cert.AdamRestIdeal.τ).loc Cert.AdamRestIdeal.main_arg16)
      ∧ r.2.mem ((c.tc : Thread Cert.AdamRestIdeal.nD Cert.AdamRestIdeal.τ).loc Cert.AdamRestIdeal.main_arg17) = m ((c.tc : Thread Cert.AdamRestIdeal.nD Cert.AdamRestIdeal.τ).loc Cert.AdamRestIdeal.main_arg17)
      ∧ r.2.mem ((c.tc : Thread Cert.AdamRestIdeal.nD Cert.AdamRestIdeal.τ).loc Cert.AdamRestIdeal.main_arg18) = m ((c.tc : Thread Cert.AdamRestIdeal.nD Cert.AdamRestIdeal.τ).loc Cert.AdamRestIdeal.main_arg18)
      ∧ r.2.mem ((c.tc : Thread Cert.AdamRestIdeal.nD Cert.AdamRestIdeal.τ).loc Cert.AdamRestIdeal.main_arg19) = m ((c.tc : Thread Cert.AdamRestIdeal.nD Cert.AdamRestIdeal.τ).loc Cert.AdamRestIdeal.main_arg19)
      ∧ r.2.mem ((c.tc : Thread Cert.AdamRestIdeal.nD Cert.AdamRestIdeal.τ).loc Cert.AdamRestIdeal.main_arg20) = m ((c.tc : Thread Cert.AdamRestIdeal.nD Cert.AdamRestIdeal.τ).loc Cert.AdamRestIdeal.main_arg20)
      ∧ r.2.mem ((c.tc : Thread Cert.AdamRestIdeal.nD Cert.AdamRestIdeal.τ).loc Cert.AdamRestIdeal.main_arg21) = m ((c.tc : Thread Cert.AdamRestIdeal.nD Cert.AdamRestIdeal.τ).loc Cert.AdamRestIdeal.main_arg21)
      ∧ r.2.mem ((c.tc : Thread Cert.AdamRestIdeal.nD Cert.AdamRestIdeal.τ).loc Cert.AdamRestIdeal.main_arg22) = m ((c.tc : Thread Cert.AdamRestIdeal.nD Cert.AdamRestIdeal.τ).loc Cert.AdamRestIdeal.main_arg22)
      ∧ r.2.mem ((c.tc : Thread Cert.AdamRestIdeal.nD Cert.AdamRestIdeal.τ).loc Cert.AdamRestIdeal.main_arg23) = m ((c.tc : Thread Cert.AdamRestIdeal.nD Cert.AdamRestIdeal.τ).loc Cert.AdamRestIdeal.main_arg23)
      ∧ r.2.mem ((c.tc : Thread Cert.AdamRestIdeal.nD Cert.AdamRestIdeal.τ).loc Cert.AdamRestIdeal.main_arg24) = m ((c.tc : Thread Cert.AdamRestIdeal.nD Cert.AdamRestIdeal.τ).loc Cert.AdamRestIdeal.main_arg24)
      ∧ r.2.mem ((c.tc : Thread Cert.AdamRestIdeal.nD Cert.AdamRestIdeal.τ).loc Cert.AdamRestIdeal.main_arg25) = m ((c.tc : Thread Cert.AdamRestIdeal.nD Cert.AdamRestIdeal.τ).loc Cert.AdamRestIdeal.main_arg25)
      ∧ r.2.mem ((c.tc : Thread Cert.AdamRestIdeal.nD Cert.AdamRestIdeal.τ).loc Cert.AdamRestIdeal.main_arg26) = m ((c.tc : Thread Cert.AdamRestIdeal.nD Cert.AdamRestIdeal.τ).loc Cert.AdamRestIdeal.main_arg26)
      ∧ r.2.mem ((c.tc : Thread Cert.AdamRestIdeal.nD Cert.AdamRestIdeal.τ).loc Cert.AdamRestIdeal.main_arg27) = m ((c.tc : Thread Cert.AdamRestIdeal.nD Cert.AdamRestIdeal.τ).loc Cert.AdamRestIdeal.main_arg27)
      ∧ r.2.mem ((c.tc : Thread Cert.AdamRestIdeal.nD Cert.AdamRestIdeal.τ).loc Cert.AdamRestIdeal.main_arg28) = m ((c.tc : Thread Cert.AdamRestIdeal.nD Cert.AdamRestIdeal.τ).loc Cert.AdamRestIdeal.main_arg28)
      ∧ r.2.mem ((c.tc : Thread Cert.AdamRestIdeal.nD Cert.AdamRestIdeal.τ).loc Cert.AdamRestIdeal.main_arg29) = m ((c.tc : Thread Cert.AdamRestIdeal.nD Cert.AdamRestIdeal.τ).loc Cert.AdamRestIdeal.main_arg29)
      ∧ r.2.mem ((c.tc : Thread Cert.AdamRestIdeal.nD Cert.AdamRestIdeal.τ).loc Cert.AdamRestIdeal.main_arg30) = m ((c.tc : Thread Cert.AdamRestIdeal.nD Cert.AdamRestIdeal.τ).loc Cert.AdamRestIdeal.main_arg30)
      ∧ r.2.mem ((c.tc : Thread Cert.AdamRestIdeal.nD Cert.AdamRestIdeal.τ).loc Cert.AdamRestIdeal.main_arg31) = m ((c.tc : Thread Cert.AdamRestIdeal.nD Cert.AdamRestIdeal.τ).loc Cert.AdamRestIdeal.main_arg31)
      ∧ r.2.mem ((c.tc : Thread Cert.AdamRestIdeal.nD Cert.AdamRestIdeal.τ).loc Cert.AdamRestIdeal.main_arg32) = m ((c.tc : Thread Cert.AdamRestIdeal.nD Cert.AdamRestIdeal.τ).loc Cert.AdamRestIdeal.main_arg32)
      ∧ r.2.mem ((c.tc : Thread Cert.AdamRestIdeal.nD Cert.AdamRestIdeal.τ).loc Cert.AdamRestIdeal.main_arg33) = m ((c.tc : Thread Cert.AdamRestIdeal.nD Cert.AdamRestIdeal.τ).loc Cert.AdamRestIdeal.main_arg33)
      ∧ r.2.mem ((c.tc : Thread Cert.AdamRestIdeal.nD Cert.AdamRestIdeal.τ).loc Cert.AdamRestIdeal.main_arg34) = m ((c.tc : Thread Cert.AdamRestIdeal.nD Cert.AdamRestIdeal.τ).loc Cert.AdamRestIdeal.main_arg34)
      ∧ r.2.mem ((c.tc : Thread Cert.AdamRestIdeal.nD Cert.AdamRestIdeal.τ).loc Cert.AdamRestIdeal.main_arg35) = m ((c.tc : Thread Cert.AdamRestIdeal.nD Cert.AdamRestIdeal.τ).loc Cert.AdamRestIdeal.main_arg35)
      ∧ r.2.mem ((c.tc : Thread Cert.AdamRestIdeal.nD Cert.AdamRestIdeal.τ).loc Cert.AdamRestIdeal.main_arg36) = m ((c.tc : Thread Cert.AdamRestIdeal.nD Cert.AdamRestIdeal.τ).loc Cert.AdamRestIdeal.main_arg36)
      ∧ r.2.mem ((c.tc : Thread Cert.AdamRestIdeal.nD Cert.AdamRestIdeal.τ).loc Cert.AdamRestIdeal.main_arg37) = m ((c.tc : Thread Cert.AdamRestIdeal.nD Cert.AdamRestIdeal.τ).loc Cert.AdamRestIdeal.main_arg37)
      ∧ r.2.mem ((c.tc : Thread Cert.AdamRestIdeal.nD Cert.AdamRestIdeal.τ).loc Cert.AdamRestIdeal.main_arg38) = m ((c.tc : Thread Cert.AdamRestIdeal.nD Cert.AdamRestIdeal.τ).loc Cert.AdamRestIdeal.main_arg38)
      ∧ r.2.mem ((c.tc : Thread Cert.AdamRestIdeal.nD Cert.AdamRestIdeal.τ).loc Cert.AdamRestIdeal.main_arg39) = m ((c.tc : Thread Cert.AdamRestIdeal.nD Cert.AdamRestIdeal.τ).loc Cert.AdamRestIdeal.main_arg39)
      ∧ r.2.mem ((c.tc : Thread Cert.AdamRestIdeal.nD Cert.AdamRestIdeal.τ).loc Cert.AdamRestIdeal.main_arg40) = m ((c.tc : Thread Cert.AdamRestIdeal.nD Cert.AdamRestIdeal.τ).loc Cert.AdamRestIdeal.main_arg40)
      ∧ r.2.mem ((c.tc : Thread Cert.AdamRestIdeal.nD Cert.AdamRestIdeal.τ).loc Cert.AdamRestIdeal.main_arg41) = m ((c.tc : Thread Cert.AdamRestIdeal.nD Cert.AdamRestIdeal.τ).loc Cert.AdamRestIdeal.main_arg41)
      ∧ r.2.mem ((c.tc : Thread Cert.AdamRestIdeal.nD Cert.AdamRestIdeal.τ).loc Cert.AdamRestIdeal.main_arg42) = m ((c.tc : Thread Cert.AdamRestIdeal.nD Cert.AdamRestIdeal.τ).loc Cert.AdamRestIdeal.main_arg42)
      ∧ r.2.mem ((c.tc : Thread Cert.AdamRestIdeal.nD Cert.AdamRestIdeal.τ).loc Cert.AdamRestIdeal.main_arg43) = m ((c.tc : Thread Cert.AdamRestIdeal.nD Cert.AdamRestIdeal.τ).loc Cert.AdamRestIdeal.main_arg43)
      ∧ r.2.mem ((c.tc : Thread Cert.AdamRestIdeal.nD Cert.AdamRestIdeal.τ).loc Cert.AdamRestIdeal.main_arg44) = m ((c.tc : Thread Cert.AdamRestIdeal.nD Cert.AdamRestIdeal.τ).loc Cert.AdamRestIdeal.main_arg44)
      ∧ r.2.mem ((c.tc : Thread Cert.AdamRestIdeal.nD Cert.AdamRestIdeal.τ).loc Cert.AdamRestIdeal.main_arg45) = m ((c.tc : Thread Cert.AdamRestIdeal.nD Cert.AdamRestIdeal.τ).loc Cert.AdamRestIdeal.main_arg45)
      ∧ r.2.mem ((c.tc : Thread Cert.AdamRestIdeal.nD Cert.AdamRestIdeal.τ).loc Cert.AdamRestIdeal.main_arg46) = m ((c.tc : Thread Cert.AdamRestIdeal.nD Cert.AdamRestIdeal.τ).loc Cert.AdamRestIdeal.main_arg46)
      ∧ r.2.mem ((c.tc : Thread Cert.AdamRestIdeal.nD Cert.AdamRestIdeal.τ).loc Cert.AdamRestIdeal.main_arg47) = m ((c.tc : Thread Cert.AdamRestIdeal.nD Cert.AdamRestIdeal.τ).loc Cert.AdamRestIdeal.main_arg47)
      ∧ r.2.mem ((c.tc : Thread Cert.AdamRestIdeal.nD Cert.AdamRestIdeal.τ).loc Cert.AdamRestIdeal.main_arg48) = m ((c.tc : Thread Cert.AdamRestIdeal.nD Cert.AdamRestIdeal.τ).loc Cert.AdamRestIdeal.main_arg48)
      ∧ r.2.mem ((c.tc : Thread Cert.AdamRestIdeal.nD Cert.AdamRestIdeal.τ).loc Cert.AdamRestIdeal.main_arg49) = m ((c.tc : Thread Cert.AdamRestIdeal.nD Cert.AdamRestIdeal.τ).loc Cert.AdamRestIdeal.main_arg49)
      ∧ r.2.mem ((c.tc : Thread Cert.AdamRestIdeal.nD Cert.AdamRestIdeal.τ).loc Cert.AdamRestIdeal.main_arg50) = m ((c.tc : Thread Cert.AdamRestIdeal.nD Cert.AdamRestIdeal.τ).loc Cert.AdamRestIdeal.main_arg50)
      ∧ r.2.mem ((c.tc : Thread Cert.AdamRestIdeal.nD Cert.AdamRestIdeal.τ).loc Cert.AdamRestIdeal.main_arg51) = m ((c.tc : Thread Cert.AdamRestIdeal.nD Cert.AdamRestIdeal.τ).loc Cert.AdamRestIdeal.main_arg51)
      ∧ r.2.mem ((c.tc : Thread Cert.AdamRestIdeal.nD Cert.AdamRestIdeal.τ).loc Cert.AdamRestIdeal.main_arg52) = m ((c.tc : Thread Cert.AdamRestIdeal.nD Cert.AdamRestIdeal.τ).loc Cert.AdamRestIdeal.main_arg52)
      ∧ r.2.mem ((c.tc : Thread Cert.AdamRestIdeal.nD Cert.AdamRestIdeal.τ).loc Cert.AdamRestIdeal.main_arg53) = m ((c.tc : Thread Cert.AdamRestIdeal.nD Cert.AdamRestIdeal.τ).loc Cert.AdamRestIdeal.main_arg53)
      ∧ r.2.mem ((c.tc : Thread Cert.AdamRestIdeal.nD Cert.AdamRestIdeal.τ).loc Cert.AdamRestIdeal.main_arg54) = m ((c.tc : Thread Cert.AdamRestIdeal.nD Cert.AdamRestIdeal.τ).loc Cert.AdamRestIdeal.main_arg54)
      ∧ r.2.mem ((c.tc : Thread Cert.AdamRestIdeal.nD Cert.AdamRestIdeal.τ).loc Cert.AdamRestIdeal.main_arg55) = m ((c.tc : Thread Cert.AdamRestIdeal.nD Cert.AdamRestIdeal.τ).loc Cert.AdamRestIdeal.main_arg55)
      ∧ r.2.mem ((c.tc : Thread Cert.AdamRestIdeal.nD Cert.AdamRestIdeal.τ).loc Cert.AdamRestIdeal.main_arg56) = m ((c.tc : Thread Cert.AdamRestIdeal.nD Cert.AdamRestIdeal.τ).loc Cert.AdamRestIdeal.main_arg56)
      ∧ r.2.mem ((c.tc : Thread Cert.AdamRestIdeal.nD Cert.AdamRestIdeal.τ).loc Cert.AdamRestIdeal.main_arg57) = m ((c.tc : Thread Cert.AdamRestIdeal.nD Cert.AdamRestIdeal.τ).loc Cert.AdamRestIdeal.main_arg57)
      ∧ r.2.mem ((c.tc : Thread Cert.AdamRestIdeal.nD Cert.AdamRestIdeal.τ).loc Cert.AdamRestIdeal.main_arg58) = m ((c.tc : Thread Cert.AdamRestIdeal.nD Cert.AdamRestIdeal.τ).loc Cert.AdamRestIdeal.main_arg58)
      ∧ r.2.mem ((c.tc : Thread Cert.AdamRestIdeal.nD Cert.AdamRestIdeal.τ).loc Cert.AdamRestIdeal.main_arg59) = m ((c.tc : Thread Cert.AdamRestIdeal.nD Cert.AdamRestIdeal.τ).loc Cert.AdamRestIdeal.main_arg59)
      ∧ r.2.mem ((c.tc : Thread Cert.AdamRestIdeal.nD Cert.AdamRestIdeal.τ).loc Cert.AdamRestIdeal.main_arg60) = m ((c.tc : Thread Cert.AdamRestIdeal.nD Cert.AdamRestIdeal.τ).loc Cert.AdamRestIdeal.main_arg60)
      ∧ r.2.mem ((c.tc : Thread Cert.AdamRestIdeal.nD Cert.AdamRestIdeal.τ).loc Cert.AdamRestIdeal.main_arg61) = m ((c.tc : Thread Cert.AdamRestIdeal.nD Cert.AdamRestIdeal.τ).loc Cert.AdamRestIdeal.main_arg61)
      ∧ r.2.mem ((c.tc : Thread Cert.AdamRestIdeal.nD Cert.AdamRestIdeal.τ).loc Cert.AdamRestIdeal.main_arg62) = m ((c.tc : Thread Cert.AdamRestIdeal.nD Cert.AdamRestIdeal.τ).loc Cert.AdamRestIdeal.main_arg62)
      ∧ r.2.mem ((c.tc : Thread Cert.AdamRestIdeal.nD Cert.AdamRestIdeal.τ).loc Cert.AdamRestIdeal.main_arg63) = m ((c.tc : Thread Cert.AdamRestIdeal.nD Cert.AdamRestIdeal.τ).loc Cert.AdamRestIdeal.main_arg63)
      ∧ r.2.mem ((c.tc : Thread Cert.AdamRestIdeal.nD Cert.AdamRestIdeal.τ).loc Cert.AdamRestIdeal.main_arg64) = m ((c.tc : Thread Cert.AdamRestIdeal.nD Cert.AdamRestIdeal.τ).loc Cert.AdamRestIdeal.main_arg64)
      ∧ r.2.mem ((c.tc : Thread Cert.AdamRestIdeal.nD Cert.AdamRestIdeal.τ).loc Cert.AdamRestIdeal.main_arg65) = m ((c.tc : Thread Cert.AdamRestIdeal.nD Cert.AdamRestIdeal.τ).loc Cert.AdamRestIdeal.main_arg65)
      ∧ r.2.mem ((c.tc : Thread Cert.AdamRestIdeal.nD Cert.AdamRestIdeal.τ).loc Cert.AdamRestIdeal.main_arg66) = m ((c.tc : Thread Cert.AdamRestIdeal.nD Cert.AdamRestIdeal.τ).loc Cert.AdamRestIdeal.main_arg66)
      ∧ r.2.mem ((c.tc : Thread Cert.AdamRestIdeal.nD Cert.AdamRestIdeal.τ).loc Cert.AdamRestIdeal.main_arg67) = m ((c.tc : Thread Cert.AdamRestIdeal.nD Cert.AdamRestIdeal.τ).loc Cert.AdamRestIdeal.main_arg67)
      ∧ r.2.mem ((c.tc : Thread Cert.AdamRestIdeal.nD Cert.AdamRestIdeal.τ).loc Cert.AdamRestIdeal.main_arg68) = m ((c.tc : Thread Cert.AdamRestIdeal.nD Cert.AdamRestIdeal.τ).loc Cert.AdamRestIdeal.main_arg68)
      ∧ r.2.mem ((c.tc : Thread Cert.AdamRestIdeal.nD Cert.AdamRestIdeal.τ).loc Cert.AdamRestIdeal.main_arg69) = m ((c.tc : Thread Cert.AdamRestIdeal.nD Cert.AdamRestIdeal.τ).loc Cert.AdamRestIdeal.main_arg69)
      ∧ r.2.mem ((c.tc : Thread Cert.AdamRestIdeal.nD Cert.AdamRestIdeal.τ).loc Cert.AdamRestIdeal.main_arg70) = m ((c.tc : Thread Cert.AdamRestIdeal.nD Cert.AdamRestIdeal.τ).loc Cert.AdamRestIdeal.main_arg70)
      ∧ r.2.mem ((c.tc : Thread Cert.AdamRestIdeal.nD Cert.AdamRestIdeal.τ).loc Cert.AdamRestIdeal.main_arg71) = m ((c.tc : Thread Cert.AdamRestIdeal.nD Cert.AdamRestIdeal.τ).loc Cert.AdamRestIdeal.main_arg71)
      ∧ r.2.mem ((c.tc : Thread Cert.AdamRestIdeal.nD Cert.AdamRestIdeal.τ).loc Cert.AdamRestIdeal.main_arg72) = m ((c.tc : Thread Cert.AdamRestIdeal.nD Cert.AdamRestIdeal.τ).loc Cert.AdamRestIdeal.main_arg72)
      ∧ r.2.mem ((c.tc : Thread Cert.AdamRestIdeal.nD Cert.AdamRestIdeal.τ).loc Cert.AdamRestIdeal.main_arg73) = m ((c.tc : Thread Cert.AdamRestIdeal.nD Cert.AdamRestIdeal.τ).loc Cert.AdamRestIdeal.main_arg73)
      ∧ r.2.mem ((c.tc : Thread Cert.AdamRestIdeal.nD Cert.AdamRestIdeal.τ).loc Cert.AdamRestIdeal.main_arg74) = m ((c.tc : Thread Cert.AdamRestIdeal.nD Cert.AdamRestIdeal.τ).loc Cert.AdamRestIdeal.main_arg74)
      ∧ r.2.mem ((c.tc : Thread Cert.AdamRestIdeal.nD Cert.AdamRestIdeal.τ).loc Cert.AdamRestIdeal.main_arg75) = m ((c.tc : Thread Cert.AdamRestIdeal.nD Cert.AdamRestIdeal.τ).loc Cert.AdamRestIdeal.main_arg75)
      ∧ r.2.mem ((c.tc : Thread Cert.AdamRestIdeal.nD Cert.AdamRestIdeal.τ).loc Cert.AdamRestIdeal.main_arg76) = m ((c.tc : Thread Cert.AdamRestIdeal.nD Cert.AdamRestIdeal.τ).loc Cert.AdamRestIdeal.main_arg76)
      ∧ r.2.mem ((c.tc : Thread Cert.AdamRestIdeal.nD Cert.AdamRestIdeal.τ).loc Cert.AdamRestIdeal.main_arg77) = m ((c.tc : Thread Cert.AdamRestIdeal.nD Cert.AdamRestIdeal.τ).loc Cert.AdamRestIdeal.main_arg77)
      ∧ r.2.mem ((c.tc : Thread Cert.AdamRestIdeal.nD Cert.AdamRestIdeal.τ).loc Cert.AdamRestIdeal.main_arg78) = m ((c.tc : Thread Cert.AdamRestIdeal.nD Cert.AdamRestIdeal.τ).loc Cert.AdamRestIdeal.main_arg78)
      ∧ r.2.mem ((c.tc : Thread Cert.AdamRestIdeal.nD Cert.AdamRestIdeal.τ).loc Cert.AdamRestIdeal.main_arg79) = m ((c.tc : Thread Cert.AdamRestIdeal.nD Cert.AdamRestIdeal.τ).loc Cert.AdamRestIdeal.main_arg79)
      ∧ r.2.mem ((c.tc : Thread Cert.AdamRestIdeal.nD Cert.AdamRestIdeal.τ).loc Cert.AdamRestIdeal.main_arg80) = m ((c.tc : Thread Cert.AdamRestIdeal.nD Cert.AdamRestIdeal.τ).loc Cert.AdamRestIdeal.main_arg80)
      ∧ r.2.mem ((c.tc : Thread Cert.AdamRestIdeal.nD Cert.AdamRestIdeal.τ).loc Cert.AdamRestIdeal.main_arg81) = m ((c.tc : Thread Cert.AdamRestIdeal.nD Cert.AdamRestIdeal.τ).loc Cert.AdamRestIdeal.main_arg81)
      ∧ r.2.mem ((c.tc : Thread Cert.AdamRestIdeal.nD Cert.AdamRestIdeal.τ).loc Cert.AdamRestIdeal.main_arg82) = m ((c.tc : Thread Cert.AdamRestIdeal.nD Cert.AdamRestIdeal.τ).loc Cert.AdamRestIdeal.main_arg82)
      ∧ r.2.mem ((c.tc : Thread Cert.AdamRestIdeal.nD Cert.AdamRestIdeal.τ).loc Cert.AdamRestIdeal.main_arg83) = m ((c.tc : Thread Cert.AdamRestIdeal.nD Cert.AdamRestIdeal.τ).loc Cert.AdamRestIdeal.main_arg83))
      ∧ r.2.sem = fun _ => 0)

def quiescent_AdamRestReferenceIdeal [hAdamRestReferenceIdeal : Cert.AdamRestReferenceIdeal.Facts] : Prop :=
  ∀ (m : (ℓ : Loc Cert.AdamRestReferenceIdeal.nD Cert.AdamRestReferenceIdeal.τ Cert.AdamRestReferenceIdeal.sig) → Buf (Elt Ideal) ℓ) (g : Dev Cert.AdamRestReferenceIdeal.nD → PrngReg), Pre_AdamRestReferenceIdeal m →
    θ_run (Cert.AdamRestReferenceIdeal.defs (F := Ideal)) (onTc (τ := Cert.AdamRestReferenceIdeal.τ) (Cert.AdamRestReferenceIdeal.main (F := Ideal))) ⟨m, fun _ => 0, g⟩ (fun r => (∀ c : Dev Cert.AdamRestReferenceIdeal.nD,
      r.2.mem ((c.tc : Thread Cert.AdamRestReferenceIdeal.nD Cert.AdamRestReferenceIdeal.τ).loc Cert.AdamRestReferenceIdeal.main_arg0) = m ((c.tc : Thread Cert.AdamRestReferenceIdeal.nD Cert.AdamRestReferenceIdeal.τ).loc Cert.AdamRestReferenceIdeal.main_arg0)
      ∧ r.2.mem ((c.tc : Thread Cert.AdamRestReferenceIdeal.nD Cert.AdamRestReferenceIdeal.τ).loc Cert.AdamRestReferenceIdeal.main_arg1) = m ((c.tc : Thread Cert.AdamRestReferenceIdeal.nD Cert.AdamRestReferenceIdeal.τ).loc Cert.AdamRestReferenceIdeal.main_arg1)
      ∧ r.2.mem ((c.tc : Thread Cert.AdamRestReferenceIdeal.nD Cert.AdamRestReferenceIdeal.τ).loc Cert.AdamRestReferenceIdeal.main_arg2) = m ((c.tc : Thread Cert.AdamRestReferenceIdeal.nD Cert.AdamRestReferenceIdeal.τ).loc Cert.AdamRestReferenceIdeal.main_arg2)
      ∧ r.2.mem ((c.tc : Thread Cert.AdamRestReferenceIdeal.nD Cert.AdamRestReferenceIdeal.τ).loc Cert.AdamRestReferenceIdeal.main_arg3) = m ((c.tc : Thread Cert.AdamRestReferenceIdeal.nD Cert.AdamRestReferenceIdeal.τ).loc Cert.AdamRestReferenceIdeal.main_arg3)
      ∧ r.2.mem ((c.tc : Thread Cert.AdamRestReferenceIdeal.nD Cert.AdamRestReferenceIdeal.τ).loc Cert.AdamRestReferenceIdeal.main_arg4) = m ((c.tc : Thread Cert.AdamRestReferenceIdeal.nD Cert.AdamRestReferenceIdeal.τ).loc Cert.AdamRestReferenceIdeal.main_arg4)
      ∧ r.2.mem ((c.tc : Thread Cert.AdamRestReferenceIdeal.nD Cert.AdamRestReferenceIdeal.τ).loc Cert.AdamRestReferenceIdeal.main_arg5) = m ((c.tc : Thread Cert.AdamRestReferenceIdeal.nD Cert.AdamRestReferenceIdeal.τ).loc Cert.AdamRestReferenceIdeal.main_arg5)
      ∧ r.2.mem ((c.tc : Thread Cert.AdamRestReferenceIdeal.nD Cert.AdamRestReferenceIdeal.τ).loc Cert.AdamRestReferenceIdeal.main_arg6) = m ((c.tc : Thread Cert.AdamRestReferenceIdeal.nD Cert.AdamRestReferenceIdeal.τ).loc Cert.AdamRestReferenceIdeal.main_arg6)
      ∧ r.2.mem ((c.tc : Thread Cert.AdamRestReferenceIdeal.nD Cert.AdamRestReferenceIdeal.τ).loc Cert.AdamRestReferenceIdeal.main_arg7) = m ((c.tc : Thread Cert.AdamRestReferenceIdeal.nD Cert.AdamRestReferenceIdeal.τ).loc Cert.AdamRestReferenceIdeal.main_arg7)
      ∧ r.2.mem ((c.tc : Thread Cert.AdamRestReferenceIdeal.nD Cert.AdamRestReferenceIdeal.τ).loc Cert.AdamRestReferenceIdeal.main_arg8) = m ((c.tc : Thread Cert.AdamRestReferenceIdeal.nD Cert.AdamRestReferenceIdeal.τ).loc Cert.AdamRestReferenceIdeal.main_arg8)
      ∧ r.2.mem ((c.tc : Thread Cert.AdamRestReferenceIdeal.nD Cert.AdamRestReferenceIdeal.τ).loc Cert.AdamRestReferenceIdeal.main_arg9) = m ((c.tc : Thread Cert.AdamRestReferenceIdeal.nD Cert.AdamRestReferenceIdeal.τ).loc Cert.AdamRestReferenceIdeal.main_arg9)
      ∧ r.2.mem ((c.tc : Thread Cert.AdamRestReferenceIdeal.nD Cert.AdamRestReferenceIdeal.τ).loc Cert.AdamRestReferenceIdeal.main_arg10) = m ((c.tc : Thread Cert.AdamRestReferenceIdeal.nD Cert.AdamRestReferenceIdeal.τ).loc Cert.AdamRestReferenceIdeal.main_arg10)
      ∧ r.2.mem ((c.tc : Thread Cert.AdamRestReferenceIdeal.nD Cert.AdamRestReferenceIdeal.τ).loc Cert.AdamRestReferenceIdeal.main_arg11) = m ((c.tc : Thread Cert.AdamRestReferenceIdeal.nD Cert.AdamRestReferenceIdeal.τ).loc Cert.AdamRestReferenceIdeal.main_arg11)
      ∧ r.2.mem ((c.tc : Thread Cert.AdamRestReferenceIdeal.nD Cert.AdamRestReferenceIdeal.τ).loc Cert.AdamRestReferenceIdeal.main_arg12) = m ((c.tc : Thread Cert.AdamRestReferenceIdeal.nD Cert.AdamRestReferenceIdeal.τ).loc Cert.AdamRestReferenceIdeal.main_arg12)
      ∧ r.2.mem ((c.tc : Thread Cert.AdamRestReferenceIdeal.nD Cert.AdamRestReferenceIdeal.τ).loc Cert.AdamRestReferenceIdeal.main_arg13) = m ((c.tc : Thread Cert.AdamRestReferenceIdeal.nD Cert.AdamRestReferenceIdeal.τ).loc Cert.AdamRestReferenceIdeal.main_arg13)
      ∧ r.2.mem ((c.tc : Thread Cert.AdamRestReferenceIdeal.nD Cert.AdamRestReferenceIdeal.τ).loc Cert.AdamRestReferenceIdeal.main_arg14) = m ((c.tc : Thread Cert.AdamRestReferenceIdeal.nD Cert.AdamRestReferenceIdeal.τ).loc Cert.AdamRestReferenceIdeal.main_arg14)
      ∧ r.2.mem ((c.tc : Thread Cert.AdamRestReferenceIdeal.nD Cert.AdamRestReferenceIdeal.τ).loc Cert.AdamRestReferenceIdeal.main_arg15) = m ((c.tc : Thread Cert.AdamRestReferenceIdeal.nD Cert.AdamRestReferenceIdeal.τ).loc Cert.AdamRestReferenceIdeal.main_arg15)
      ∧ r.2.mem ((c.tc : Thread Cert.AdamRestReferenceIdeal.nD Cert.AdamRestReferenceIdeal.τ).loc Cert.AdamRestReferenceIdeal.main_arg16) = m ((c.tc : Thread Cert.AdamRestReferenceIdeal.nD Cert.AdamRestReferenceIdeal.τ).loc Cert.AdamRestReferenceIdeal.main_arg16)
      ∧ r.2.mem ((c.tc : Thread Cert.AdamRestReferenceIdeal.nD Cert.AdamRestReferenceIdeal.τ).loc Cert.AdamRestReferenceIdeal.main_arg17) = m ((c.tc : Thread Cert.AdamRestReferenceIdeal.nD Cert.AdamRestReferenceIdeal.τ).loc Cert.AdamRestReferenceIdeal.main_arg17)
      ∧ r.2.mem ((c.tc : Thread Cert.AdamRestReferenceIdeal.nD Cert.AdamRestReferenceIdeal.τ).loc Cert.AdamRestReferenceIdeal.main_arg18) = m ((c.tc : Thread Cert.AdamRestReferenceIdeal.nD Cert.AdamRestReferenceIdeal.τ).loc Cert.AdamRestReferenceIdeal.main_arg18)
      ∧ r.2.mem ((c.tc : Thread Cert.AdamRestReferenceIdeal.nD Cert.AdamRestReferenceIdeal.τ).loc Cert.AdamRestReferenceIdeal.main_arg19) = m ((c.tc : Thread Cert.AdamRestReferenceIdeal.nD Cert.AdamRestReferenceIdeal.τ).loc Cert.AdamRestReferenceIdeal.main_arg19)
      ∧ r.2.mem ((c.tc : Thread Cert.AdamRestReferenceIdeal.nD Cert.AdamRestReferenceIdeal.τ).loc Cert.AdamRestReferenceIdeal.main_arg20) = m ((c.tc : Thread Cert.AdamRestReferenceIdeal.nD Cert.AdamRestReferenceIdeal.τ).loc Cert.AdamRestReferenceIdeal.main_arg20)
      ∧ r.2.mem ((c.tc : Thread Cert.AdamRestReferenceIdeal.nD Cert.AdamRestReferenceIdeal.τ).loc Cert.AdamRestReferenceIdeal.main_arg21) = m ((c.tc : Thread Cert.AdamRestReferenceIdeal.nD Cert.AdamRestReferenceIdeal.τ).loc Cert.AdamRestReferenceIdeal.main_arg21)
      ∧ r.2.mem ((c.tc : Thread Cert.AdamRestReferenceIdeal.nD Cert.AdamRestReferenceIdeal.τ).loc Cert.AdamRestReferenceIdeal.main_arg22) = m ((c.tc : Thread Cert.AdamRestReferenceIdeal.nD Cert.AdamRestReferenceIdeal.τ).loc Cert.AdamRestReferenceIdeal.main_arg22)
      ∧ r.2.mem ((c.tc : Thread Cert.AdamRestReferenceIdeal.nD Cert.AdamRestReferenceIdeal.τ).loc Cert.AdamRestReferenceIdeal.main_arg23) = m ((c.tc : Thread Cert.AdamRestReferenceIdeal.nD Cert.AdamRestReferenceIdeal.τ).loc Cert.AdamRestReferenceIdeal.main_arg23)
      ∧ r.2.mem ((c.tc : Thread Cert.AdamRestReferenceIdeal.nD Cert.AdamRestReferenceIdeal.τ).loc Cert.AdamRestReferenceIdeal.main_arg24) = m ((c.tc : Thread Cert.AdamRestReferenceIdeal.nD Cert.AdamRestReferenceIdeal.τ).loc Cert.AdamRestReferenceIdeal.main_arg24)
      ∧ r.2.mem ((c.tc : Thread Cert.AdamRestReferenceIdeal.nD Cert.AdamRestReferenceIdeal.τ).loc Cert.AdamRestReferenceIdeal.main_arg25) = m ((c.tc : Thread Cert.AdamRestReferenceIdeal.nD Cert.AdamRestReferenceIdeal.τ).loc Cert.AdamRestReferenceIdeal.main_arg25)
      ∧ r.2.mem ((c.tc : Thread Cert.AdamRestReferenceIdeal.nD Cert.AdamRestReferenceIdeal.τ).loc Cert.AdamRestReferenceIdeal.main_arg26) = m ((c.tc : Thread Cert.AdamRestReferenceIdeal.nD Cert.AdamRestReferenceIdeal.τ).loc Cert.AdamRestReferenceIdeal.main_arg26)
      ∧ r.2.mem ((c.tc : Thread Cert.AdamRestReferenceIdeal.nD Cert.AdamRestReferenceIdeal.τ).loc Cert.AdamRestReferenceIdeal.main_arg27) = m ((c.tc : Thread Cert.AdamRestReferenceIdeal.nD Cert.AdamRestReferenceIdeal.τ).loc Cert.AdamRestReferenceIdeal.main_arg27)
      ∧ r.2.mem ((c.tc : Thread Cert.AdamRestReferenceIdeal.nD Cert.AdamRestReferenceIdeal.τ).loc Cert.AdamRestReferenceIdeal.main_arg28) = m ((c.tc : Thread Cert.AdamRestReferenceIdeal.nD Cert.AdamRestReferenceIdeal.τ).loc Cert.AdamRestReferenceIdeal.main_arg28)
      ∧ r.2.mem ((c.tc : Thread Cert.AdamRestReferenceIdeal.nD Cert.AdamRestReferenceIdeal.τ).loc Cert.AdamRestReferenceIdeal.main_arg29) = m ((c.tc : Thread Cert.AdamRestReferenceIdeal.nD Cert.AdamRestReferenceIdeal.τ).loc Cert.AdamRestReferenceIdeal.main_arg29)
      ∧ r.2.mem ((c.tc : Thread Cert.AdamRestReferenceIdeal.nD Cert.AdamRestReferenceIdeal.τ).loc Cert.AdamRestReferenceIdeal.main_arg30) = m ((c.tc : Thread Cert.AdamRestReferenceIdeal.nD Cert.AdamRestReferenceIdeal.τ).loc Cert.AdamRestReferenceIdeal.main_arg30)
      ∧ r.2.mem ((c.tc : Thread Cert.AdamRestReferenceIdeal.nD Cert.AdamRestReferenceIdeal.τ).loc Cert.AdamRestReferenceIdeal.main_arg31) = m ((c.tc : Thread Cert.AdamRestReferenceIdeal.nD Cert.AdamRestReferenceIdeal.τ).loc Cert.AdamRestReferenceIdeal.main_arg31)
      ∧ r.2.mem ((c.tc : Thread Cert.AdamRestReferenceIdeal.nD Cert.AdamRestReferenceIdeal.τ).loc Cert.AdamRestReferenceIdeal.main_arg32) = m ((c.tc : Thread Cert.AdamRestReferenceIdeal.nD Cert.AdamRestReferenceIdeal.τ).loc Cert.AdamRestReferenceIdeal.main_arg32)
      ∧ r.2.mem ((c.tc : Thread Cert.AdamRestReferenceIdeal.nD Cert.AdamRestReferenceIdeal.τ).loc Cert.AdamRestReferenceIdeal.main_arg33) = m ((c.tc : Thread Cert.AdamRestReferenceIdeal.nD Cert.AdamRestReferenceIdeal.τ).loc Cert.AdamRestReferenceIdeal.main_arg33)
      ∧ r.2.mem ((c.tc : Thread Cert.AdamRestReferenceIdeal.nD Cert.AdamRestReferenceIdeal.τ).loc Cert.AdamRestReferenceIdeal.main_arg34) = m ((c.tc : Thread Cert.AdamRestReferenceIdeal.nD Cert.AdamRestReferenceIdeal.τ).loc Cert.AdamRestReferenceIdeal.main_arg34)
      ∧ r.2.mem ((c.tc : Thread Cert.AdamRestReferenceIdeal.nD Cert.AdamRestReferenceIdeal.τ).loc Cert.AdamRestReferenceIdeal.main_arg35) = m ((c.tc : Thread Cert.AdamRestReferenceIdeal.nD Cert.AdamRestReferenceIdeal.τ).loc Cert.AdamRestReferenceIdeal.main_arg35)
      ∧ r.2.mem ((c.tc : Thread Cert.AdamRestReferenceIdeal.nD Cert.AdamRestReferenceIdeal.τ).loc Cert.AdamRestReferenceIdeal.main_arg36) = m ((c.tc : Thread Cert.AdamRestReferenceIdeal.nD Cert.AdamRestReferenceIdeal.τ).loc Cert.AdamRestReferenceIdeal.main_arg36)
      ∧ r.2.mem ((c.tc : Thread Cert.AdamRestReferenceIdeal.nD Cert.AdamRestReferenceIdeal.τ).loc Cert.AdamRestReferenceIdeal.main_arg37) = m ((c.tc : Thread Cert.AdamRestReferenceIdeal.nD Cert.AdamRestReferenceIdeal.τ).loc Cert.AdamRestReferenceIdeal.main_arg37)
      ∧ r.2.mem ((c.tc : Thread Cert.AdamRestReferenceIdeal.nD Cert.AdamRestReferenceIdeal.τ).loc Cert.AdamRestReferenceIdeal.main_arg38) = m ((c.tc : Thread Cert.AdamRestReferenceIdeal.nD Cert.AdamRestReferenceIdeal.τ).loc Cert.AdamRestReferenceIdeal.main_arg38)
      ∧ r.2.mem ((c.tc : Thread Cert.AdamRestReferenceIdeal.nD Cert.AdamRestReferenceIdeal.τ).loc Cert.AdamRestReferenceIdeal.main_arg39) = m ((c.tc : Thread Cert.AdamRestReferenceIdeal.nD Cert.AdamRestReferenceIdeal.τ).loc Cert.AdamRestReferenceIdeal.main_arg39)
      ∧ r.2.mem ((c.tc : Thread Cert.AdamRestReferenceIdeal.nD Cert.AdamRestReferenceIdeal.τ).loc Cert.AdamRestReferenceIdeal.main_arg40) = m ((c.tc : Thread Cert.AdamRestReferenceIdeal.nD Cert.AdamRestReferenceIdeal.τ).loc Cert.AdamRestReferenceIdeal.main_arg40)
      ∧ r.2.mem ((c.tc : Thread Cert.AdamRestReferenceIdeal.nD Cert.AdamRestReferenceIdeal.τ).loc Cert.AdamRestReferenceIdeal.main_arg41) = m ((c.tc : Thread Cert.AdamRestReferenceIdeal.nD Cert.AdamRestReferenceIdeal.τ).loc Cert.AdamRestReferenceIdeal.main_arg41)
      ∧ r.2.mem ((c.tc : Thread Cert.AdamRestReferenceIdeal.nD Cert.AdamRestReferenceIdeal.τ).loc Cert.AdamRestReferenceIdeal.main_arg42) = m ((c.tc : Thread Cert.AdamRestReferenceIdeal.nD Cert.AdamRestReferenceIdeal.τ).loc Cert.AdamRestReferenceIdeal.main_arg42)
      ∧ r.2.mem ((c.tc : Thread Cert.AdamRestReferenceIdeal.nD Cert.AdamRestReferenceIdeal.τ).loc Cert.AdamRestReferenceIdeal.main_arg43) = m ((c.tc : Thread Cert.AdamRestReferenceIdeal.nD Cert.AdamRestReferenceIdeal.τ).loc Cert.AdamRestReferenceIdeal.main_arg43)
      ∧ r.2.mem ((c.tc : Thread Cert.AdamRestReferenceIdeal.nD Cert.AdamRestReferenceIdeal.τ).loc Cert.AdamRestReferenceIdeal.main_arg44) = m ((c.tc : Thread Cert.AdamRestReferenceIdeal.nD Cert.AdamRestReferenceIdeal.τ).loc Cert.AdamRestReferenceIdeal.main_arg44)
      ∧ r.2.mem ((c.tc : Thread Cert.AdamRestReferenceIdeal.nD Cert.AdamRestReferenceIdeal.τ).loc Cert.AdamRestReferenceIdeal.main_arg45) = m ((c.tc : Thread Cert.AdamRestReferenceIdeal.nD Cert.AdamRestReferenceIdeal.τ).loc Cert.AdamRestReferenceIdeal.main_arg45)
      ∧ r.2.mem ((c.tc : Thread Cert.AdamRestReferenceIdeal.nD Cert.AdamRestReferenceIdeal.τ).loc Cert.AdamRestReferenceIdeal.main_arg46) = m ((c.tc : Thread Cert.AdamRestReferenceIdeal.nD Cert.AdamRestReferenceIdeal.τ).loc Cert.AdamRestReferenceIdeal.main_arg46)
      ∧ r.2.mem ((c.tc : Thread Cert.AdamRestReferenceIdeal.nD Cert.AdamRestReferenceIdeal.τ).loc Cert.AdamRestReferenceIdeal.main_arg47) = m ((c.tc : Thread Cert.AdamRestReferenceIdeal.nD Cert.AdamRestReferenceIdeal.τ).loc Cert.AdamRestReferenceIdeal.main_arg47)
      ∧ r.2.mem ((c.tc : Thread Cert.AdamRestReferenceIdeal.nD Cert.AdamRestReferenceIdeal.τ).loc Cert.AdamRestReferenceIdeal.main_arg48) = m ((c.tc : Thread Cert.AdamRestReferenceIdeal.nD Cert.AdamRestReferenceIdeal.τ).loc Cert.AdamRestReferenceIdeal.main_arg48)
      ∧ r.2.mem ((c.tc : Thread Cert.AdamRestReferenceIdeal.nD Cert.AdamRestReferenceIdeal.τ).loc Cert.AdamRestReferenceIdeal.main_arg49) = m ((c.tc : Thread Cert.AdamRestReferenceIdeal.nD Cert.AdamRestReferenceIdeal.τ).loc Cert.AdamRestReferenceIdeal.main_arg49)
      ∧ r.2.mem ((c.tc : Thread Cert.AdamRestReferenceIdeal.nD Cert.AdamRestReferenceIdeal.τ).loc Cert.AdamRestReferenceIdeal.main_arg50) = m ((c.tc : Thread Cert.AdamRestReferenceIdeal.nD Cert.AdamRestReferenceIdeal.τ).loc Cert.AdamRestReferenceIdeal.main_arg50)
      ∧ r.2.mem ((c.tc : Thread Cert.AdamRestReferenceIdeal.nD Cert.AdamRestReferenceIdeal.τ).loc Cert.AdamRestReferenceIdeal.main_arg51) = m ((c.tc : Thread Cert.AdamRestReferenceIdeal.nD Cert.AdamRestReferenceIdeal.τ).loc Cert.AdamRestReferenceIdeal.main_arg51)
      ∧ r.2.mem ((c.tc : Thread Cert.AdamRestReferenceIdeal.nD Cert.AdamRestReferenceIdeal.τ).loc Cert.AdamRestReferenceIdeal.main_arg52) = m ((c.tc : Thread Cert.AdamRestReferenceIdeal.nD Cert.AdamRestReferenceIdeal.τ).loc Cert.AdamRestReferenceIdeal.main_arg52)
      ∧ r.2.mem ((c.tc : Thread Cert.AdamRestReferenceIdeal.nD Cert.AdamRestReferenceIdeal.τ).loc Cert.AdamRestReferenceIdeal.main_arg53) = m ((c.tc : Thread Cert.AdamRestReferenceIdeal.nD Cert.AdamRestReferenceIdeal.τ).loc Cert.AdamRestReferenceIdeal.main_arg53)
      ∧ r.2.mem ((c.tc : Thread Cert.AdamRestReferenceIdeal.nD Cert.AdamRestReferenceIdeal.τ).loc Cert.AdamRestReferenceIdeal.main_arg54) = m ((c.tc : Thread Cert.AdamRestReferenceIdeal.nD Cert.AdamRestReferenceIdeal.τ).loc Cert.AdamRestReferenceIdeal.main_arg54)
      ∧ r.2.mem ((c.tc : Thread Cert.AdamRestReferenceIdeal.nD Cert.AdamRestReferenceIdeal.τ).loc Cert.AdamRestReferenceIdeal.main_arg55) = m ((c.tc : Thread Cert.AdamRestReferenceIdeal.nD Cert.AdamRestReferenceIdeal.τ).loc Cert.AdamRestReferenceIdeal.main_arg55)
      ∧ r.2.mem ((c.tc : Thread Cert.AdamRestReferenceIdeal.nD Cert.AdamRestReferenceIdeal.τ).loc Cert.AdamRestReferenceIdeal.main_arg56) = m ((c.tc : Thread Cert.AdamRestReferenceIdeal.nD Cert.AdamRestReferenceIdeal.τ).loc Cert.AdamRestReferenceIdeal.main_arg56)
      ∧ r.2.mem ((c.tc : Thread Cert.AdamRestReferenceIdeal.nD Cert.AdamRestReferenceIdeal.τ).loc Cert.AdamRestReferenceIdeal.main_arg57) = m ((c.tc : Thread Cert.AdamRestReferenceIdeal.nD Cert.AdamRestReferenceIdeal.τ).loc Cert.AdamRestReferenceIdeal.main_arg57)
      ∧ r.2.mem ((c.tc : Thread Cert.AdamRestReferenceIdeal.nD Cert.AdamRestReferenceIdeal.τ).loc Cert.AdamRestReferenceIdeal.main_arg58) = m ((c.tc : Thread Cert.AdamRestReferenceIdeal.nD Cert.AdamRestReferenceIdeal.τ).loc Cert.AdamRestReferenceIdeal.main_arg58)
      ∧ r.2.mem ((c.tc : Thread Cert.AdamRestReferenceIdeal.nD Cert.AdamRestReferenceIdeal.τ).loc Cert.AdamRestReferenceIdeal.main_arg59) = m ((c.tc : Thread Cert.AdamRestReferenceIdeal.nD Cert.AdamRestReferenceIdeal.τ).loc Cert.AdamRestReferenceIdeal.main_arg59)
      ∧ r.2.mem ((c.tc : Thread Cert.AdamRestReferenceIdeal.nD Cert.AdamRestReferenceIdeal.τ).loc Cert.AdamRestReferenceIdeal.main_arg60) = m ((c.tc : Thread Cert.AdamRestReferenceIdeal.nD Cert.AdamRestReferenceIdeal.τ).loc Cert.AdamRestReferenceIdeal.main_arg60)
      ∧ r.2.mem ((c.tc : Thread Cert.AdamRestReferenceIdeal.nD Cert.AdamRestReferenceIdeal.τ).loc Cert.AdamRestReferenceIdeal.main_arg61) = m ((c.tc : Thread Cert.AdamRestReferenceIdeal.nD Cert.AdamRestReferenceIdeal.τ).loc Cert.AdamRestReferenceIdeal.main_arg61)
      ∧ r.2.mem ((c.tc : Thread Cert.AdamRestReferenceIdeal.nD Cert.AdamRestReferenceIdeal.τ).loc Cert.AdamRestReferenceIdeal.main_arg62) = m ((c.tc : Thread Cert.AdamRestReferenceIdeal.nD Cert.AdamRestReferenceIdeal.τ).loc Cert.AdamRestReferenceIdeal.main_arg62)
      ∧ r.2.mem ((c.tc : Thread Cert.AdamRestReferenceIdeal.nD Cert.AdamRestReferenceIdeal.τ).loc Cert.AdamRestReferenceIdeal.main_arg63) = m ((c.tc : Thread Cert.AdamRestReferenceIdeal.nD Cert.AdamRestReferenceIdeal.τ).loc Cert.AdamRestReferenceIdeal.main_arg63)
      ∧ r.2.mem ((c.tc : Thread Cert.AdamRestReferenceIdeal.nD Cert.AdamRestReferenceIdeal.τ).loc Cert.AdamRestReferenceIdeal.main_arg64) = m ((c.tc : Thread Cert.AdamRestReferenceIdeal.nD Cert.AdamRestReferenceIdeal.τ).loc Cert.AdamRestReferenceIdeal.main_arg64)
      ∧ r.2.mem ((c.tc : Thread Cert.AdamRestReferenceIdeal.nD Cert.AdamRestReferenceIdeal.τ).loc Cert.AdamRestReferenceIdeal.main_arg65) = m ((c.tc : Thread Cert.AdamRestReferenceIdeal.nD Cert.AdamRestReferenceIdeal.τ).loc Cert.AdamRestReferenceIdeal.main_arg65)
      ∧ r.2.mem ((c.tc : Thread Cert.AdamRestReferenceIdeal.nD Cert.AdamRestReferenceIdeal.τ).loc Cert.AdamRestReferenceIdeal.main_arg66) = m ((c.tc : Thread Cert.AdamRestReferenceIdeal.nD Cert.AdamRestReferenceIdeal.τ).loc Cert.AdamRestReferenceIdeal.main_arg66)
      ∧ r.2.mem ((c.tc : Thread Cert.AdamRestReferenceIdeal.nD Cert.AdamRestReferenceIdeal.τ).loc Cert.AdamRestReferenceIdeal.main_arg67) = m ((c.tc : Thread Cert.AdamRestReferenceIdeal.nD Cert.AdamRestReferenceIdeal.τ).loc Cert.AdamRestReferenceIdeal.main_arg67)
      ∧ r.2.mem ((c.tc : Thread Cert.AdamRestReferenceIdeal.nD Cert.AdamRestReferenceIdeal.τ).loc Cert.AdamRestReferenceIdeal.main_arg68) = m ((c.tc : Thread Cert.AdamRestReferenceIdeal.nD Cert.AdamRestReferenceIdeal.τ).loc Cert.AdamRestReferenceIdeal.main_arg68)
      ∧ r.2.mem ((c.tc : Thread Cert.AdamRestReferenceIdeal.nD Cert.AdamRestReferenceIdeal.τ).loc Cert.AdamRestReferenceIdeal.main_arg69) = m ((c.tc : Thread Cert.AdamRestReferenceIdeal.nD Cert.AdamRestReferenceIdeal.τ).loc Cert.AdamRestReferenceIdeal.main_arg69)
      ∧ r.2.mem ((c.tc : Thread Cert.AdamRestReferenceIdeal.nD Cert.AdamRestReferenceIdeal.τ).loc Cert.AdamRestReferenceIdeal.main_arg70) = m ((c.tc : Thread Cert.AdamRestReferenceIdeal.nD Cert.AdamRestReferenceIdeal.τ).loc Cert.AdamRestReferenceIdeal.main_arg70)
      ∧ r.2.mem ((c.tc : Thread Cert.AdamRestReferenceIdeal.nD Cert.AdamRestReferenceIdeal.τ).loc Cert.AdamRestReferenceIdeal.main_arg71) = m ((c.tc : Thread Cert.AdamRestReferenceIdeal.nD Cert.AdamRestReferenceIdeal.τ).loc Cert.AdamRestReferenceIdeal.main_arg71)
      ∧ r.2.mem ((c.tc : Thread Cert.AdamRestReferenceIdeal.nD Cert.AdamRestReferenceIdeal.τ).loc Cert.AdamRestReferenceIdeal.main_arg72) = m ((c.tc : Thread Cert.AdamRestReferenceIdeal.nD Cert.AdamRestReferenceIdeal.τ).loc Cert.AdamRestReferenceIdeal.main_arg72)
      ∧ r.2.mem ((c.tc : Thread Cert.AdamRestReferenceIdeal.nD Cert.AdamRestReferenceIdeal.τ).loc Cert.AdamRestReferenceIdeal.main_arg73) = m ((c.tc : Thread Cert.AdamRestReferenceIdeal.nD Cert.AdamRestReferenceIdeal.τ).loc Cert.AdamRestReferenceIdeal.main_arg73)
      ∧ r.2.mem ((c.tc : Thread Cert.AdamRestReferenceIdeal.nD Cert.AdamRestReferenceIdeal.τ).loc Cert.AdamRestReferenceIdeal.main_arg74) = m ((c.tc : Thread Cert.AdamRestReferenceIdeal.nD Cert.AdamRestReferenceIdeal.τ).loc Cert.AdamRestReferenceIdeal.main_arg74)
      ∧ r.2.mem ((c.tc : Thread Cert.AdamRestReferenceIdeal.nD Cert.AdamRestReferenceIdeal.τ).loc Cert.AdamRestReferenceIdeal.main_arg75) = m ((c.tc : Thread Cert.AdamRestReferenceIdeal.nD Cert.AdamRestReferenceIdeal.τ).loc Cert.AdamRestReferenceIdeal.main_arg75)
      ∧ r.2.mem ((c.tc : Thread Cert.AdamRestReferenceIdeal.nD Cert.AdamRestReferenceIdeal.τ).loc Cert.AdamRestReferenceIdeal.main_arg76) = m ((c.tc : Thread Cert.AdamRestReferenceIdeal.nD Cert.AdamRestReferenceIdeal.τ).loc Cert.AdamRestReferenceIdeal.main_arg76)
      ∧ r.2.mem ((c.tc : Thread Cert.AdamRestReferenceIdeal.nD Cert.AdamRestReferenceIdeal.τ).loc Cert.AdamRestReferenceIdeal.main_arg77) = m ((c.tc : Thread Cert.AdamRestReferenceIdeal.nD Cert.AdamRestReferenceIdeal.τ).loc Cert.AdamRestReferenceIdeal.main_arg77)
      ∧ r.2.mem ((c.tc : Thread Cert.AdamRestReferenceIdeal.nD Cert.AdamRestReferenceIdeal.τ).loc Cert.AdamRestReferenceIdeal.main_arg78) = m ((c.tc : Thread Cert.AdamRestReferenceIdeal.nD Cert.AdamRestReferenceIdeal.τ).loc Cert.AdamRestReferenceIdeal.main_arg78)
      ∧ r.2.mem ((c.tc : Thread Cert.AdamRestReferenceIdeal.nD Cert.AdamRestReferenceIdeal.τ).loc Cert.AdamRestReferenceIdeal.main_arg79) = m ((c.tc : Thread Cert.AdamRestReferenceIdeal.nD Cert.AdamRestReferenceIdeal.τ).loc Cert.AdamRestReferenceIdeal.main_arg79)
      ∧ r.2.mem ((c.tc : Thread Cert.AdamRestReferenceIdeal.nD Cert.AdamRestReferenceIdeal.τ).loc Cert.AdamRestReferenceIdeal.main_arg80) = m ((c.tc : Thread Cert.AdamRestReferenceIdeal.nD Cert.AdamRestReferenceIdeal.τ).loc Cert.AdamRestReferenceIdeal.main_arg80)
      ∧ r.2.mem ((c.tc : Thread Cert.AdamRestReferenceIdeal.nD Cert.AdamRestReferenceIdeal.τ).loc Cert.AdamRestReferenceIdeal.main_arg81) = m ((c.tc : Thread Cert.AdamRestReferenceIdeal.nD Cert.AdamRestReferenceIdeal.τ).loc Cert.AdamRestReferenceIdeal.main_arg81)
      ∧ r.2.mem ((c.tc : Thread Cert.AdamRestReferenceIdeal.nD Cert.AdamRestReferenceIdeal.τ).loc Cert.AdamRestReferenceIdeal.main_arg82) = m ((c.tc : Thread Cert.AdamRestReferenceIdeal.nD Cert.AdamRestReferenceIdeal.τ).loc Cert.AdamRestReferenceIdeal.main_arg82)
      ∧ r.2.mem ((c.tc : Thread Cert.AdamRestReferenceIdeal.nD Cert.AdamRestReferenceIdeal.τ).loc Cert.AdamRestReferenceIdeal.main_arg83) = m ((c.tc : Thread Cert.AdamRestReferenceIdeal.nD Cert.AdamRestReferenceIdeal.τ).loc Cert.AdamRestReferenceIdeal.main_arg83))
      ∧ r.2.sem = fun _ => 0)

def quiescent_StateWeight [hStateWeight : Cert.StateWeight.Facts] : Prop :=
  ∀ (m : (ℓ : Loc Cert.StateWeight.nD Cert.StateWeight.τ Cert.StateWeight.sig) → Buf (Elt Bits) ℓ) (g : Dev Cert.StateWeight.nD → PrngReg), Pre_StateWeight m →
    θ_run (Cert.StateWeight.defs (F := Bits)) (onTc (τ := Cert.StateWeight.τ) (Cert.StateWeight.main (F := Bits))) ⟨m, fun _ => 0, g⟩ (fun r => (∀ c : Dev Cert.StateWeight.nD,
      r.2.mem ((c.tc : Thread Cert.StateWeight.nD Cert.StateWeight.τ).loc Cert.StateWeight.main_arg0) = m ((c.tc : Thread Cert.StateWeight.nD Cert.StateWeight.τ).loc Cert.StateWeight.main_arg0)
      ∧ r.2.mem ((c.tc : Thread Cert.StateWeight.nD Cert.StateWeight.τ).loc Cert.StateWeight.main_arg1) = m ((c.tc : Thread Cert.StateWeight.nD Cert.StateWeight.τ).loc Cert.StateWeight.main_arg1)
      ∧ r.2.mem ((c.tc : Thread Cert.StateWeight.nD Cert.StateWeight.τ).loc Cert.StateWeight.main_arg2) = m ((c.tc : Thread Cert.StateWeight.nD Cert.StateWeight.τ).loc Cert.StateWeight.main_arg2))
      ∧ r.2.sem = fun _ => 0)

def quiescent_StateWeightIdeal [hStateWeightIdeal : Cert.StateWeightIdeal.Facts] : Prop :=
  ∀ (m : (ℓ : Loc Cert.StateWeightIdeal.nD Cert.StateWeightIdeal.τ Cert.StateWeightIdeal.sig) → Buf (Elt Ideal) ℓ) (g : Dev Cert.StateWeightIdeal.nD → PrngReg), Pre_StateWeightIdeal m →
    θ_run (Cert.StateWeightIdeal.defs (F := Ideal)) (onTc (τ := Cert.StateWeightIdeal.τ) (Cert.StateWeightIdeal.main (F := Ideal))) ⟨m, fun _ => 0, g⟩ (fun r => (∀ c : Dev Cert.StateWeightIdeal.nD,
      r.2.mem ((c.tc : Thread Cert.StateWeightIdeal.nD Cert.StateWeightIdeal.τ).loc Cert.StateWeightIdeal.main_arg0) = m ((c.tc : Thread Cert.StateWeightIdeal.nD Cert.StateWeightIdeal.τ).loc Cert.StateWeightIdeal.main_arg0)
      ∧ r.2.mem ((c.tc : Thread Cert.StateWeightIdeal.nD Cert.StateWeightIdeal.τ).loc Cert.StateWeightIdeal.main_arg1) = m ((c.tc : Thread Cert.StateWeightIdeal.nD Cert.StateWeightIdeal.τ).loc Cert.StateWeightIdeal.main_arg1)
      ∧ r.2.mem ((c.tc : Thread Cert.StateWeightIdeal.nD Cert.StateWeightIdeal.τ).loc Cert.StateWeightIdeal.main_arg2) = m ((c.tc : Thread Cert.StateWeightIdeal.nD Cert.StateWeightIdeal.τ).loc Cert.StateWeightIdeal.main_arg2))
      ∧ r.2.sem = fun _ => 0)

def quiescent_StateWeightReferenceIdeal [hStateWeightReferenceIdeal : Cert.StateWeightReferenceIdeal.Facts] : Prop :=
  ∀ (m : (ℓ : Loc Cert.StateWeightReferenceIdeal.nD Cert.StateWeightReferenceIdeal.τ Cert.StateWeightReferenceIdeal.sig) → Buf (Elt Ideal) ℓ) (g : Dev Cert.StateWeightReferenceIdeal.nD → PrngReg), Pre_StateWeightReferenceIdeal m →
    θ_run (Cert.StateWeightReferenceIdeal.defs (F := Ideal)) (onTc (τ := Cert.StateWeightReferenceIdeal.τ) (Cert.StateWeightReferenceIdeal.main (F := Ideal))) ⟨m, fun _ => 0, g⟩ (fun r => (∀ c : Dev Cert.StateWeightReferenceIdeal.nD,
      r.2.mem ((c.tc : Thread Cert.StateWeightReferenceIdeal.nD Cert.StateWeightReferenceIdeal.τ).loc Cert.StateWeightReferenceIdeal.main_arg0) = m ((c.tc : Thread Cert.StateWeightReferenceIdeal.nD Cert.StateWeightReferenceIdeal.τ).loc Cert.StateWeightReferenceIdeal.main_arg0)
      ∧ r.2.mem ((c.tc : Thread Cert.StateWeightReferenceIdeal.nD Cert.StateWeightReferenceIdeal.τ).loc Cert.StateWeightReferenceIdeal.main_arg1) = m ((c.tc : Thread Cert.StateWeightReferenceIdeal.nD Cert.StateWeightReferenceIdeal.τ).loc Cert.StateWeightReferenceIdeal.main_arg1)
      ∧ r.2.mem ((c.tc : Thread Cert.StateWeightReferenceIdeal.nD Cert.StateWeightReferenceIdeal.τ).loc Cert.StateWeightReferenceIdeal.main_arg2) = m ((c.tc : Thread Cert.StateWeightReferenceIdeal.nD Cert.StateWeightReferenceIdeal.τ).loc Cert.StateWeightReferenceIdeal.main_arg2))
      ∧ r.2.sem = fun _ => 0)

def quiescent_RecurrenceInput [hRecurrenceInput : Cert.RecurrenceInput.Facts] : Prop :=
  ∀ (m : (ℓ : Loc Cert.RecurrenceInput.nD Cert.RecurrenceInput.τ Cert.RecurrenceInput.sig) → Buf (Elt Bits) ℓ) (g : Dev Cert.RecurrenceInput.nD → PrngReg), Pre_RecurrenceInput m →
    θ_run (Cert.RecurrenceInput.defs (F := Bits)) (onTc (τ := Cert.RecurrenceInput.τ) (Cert.RecurrenceInput.main (F := Bits))) ⟨m, fun _ => 0, g⟩ (fun r => (∀ c : Dev Cert.RecurrenceInput.nD,
      r.2.mem ((c.tc : Thread Cert.RecurrenceInput.nD Cert.RecurrenceInput.τ).loc Cert.RecurrenceInput.main_arg0) = m ((c.tc : Thread Cert.RecurrenceInput.nD Cert.RecurrenceInput.τ).loc Cert.RecurrenceInput.main_arg0)
      ∧ r.2.mem ((c.tc : Thread Cert.RecurrenceInput.nD Cert.RecurrenceInput.τ).loc Cert.RecurrenceInput.main_arg1) = m ((c.tc : Thread Cert.RecurrenceInput.nD Cert.RecurrenceInput.τ).loc Cert.RecurrenceInput.main_arg1)
      ∧ r.2.mem ((c.tc : Thread Cert.RecurrenceInput.nD Cert.RecurrenceInput.τ).loc Cert.RecurrenceInput.main_arg2) = m ((c.tc : Thread Cert.RecurrenceInput.nD Cert.RecurrenceInput.τ).loc Cert.RecurrenceInput.main_arg2)
      ∧ r.2.mem ((c.tc : Thread Cert.RecurrenceInput.nD Cert.RecurrenceInput.τ).loc Cert.RecurrenceInput.main_arg3) = m ((c.tc : Thread Cert.RecurrenceInput.nD Cert.RecurrenceInput.τ).loc Cert.RecurrenceInput.main_arg3)
      ∧ r.2.mem ((c.tc : Thread Cert.RecurrenceInput.nD Cert.RecurrenceInput.τ).loc Cert.RecurrenceInput.main_arg4) = m ((c.tc : Thread Cert.RecurrenceInput.nD Cert.RecurrenceInput.τ).loc Cert.RecurrenceInput.main_arg4)
      ∧ r.2.mem ((c.tc : Thread Cert.RecurrenceInput.nD Cert.RecurrenceInput.τ).loc Cert.RecurrenceInput.main_arg5) = m ((c.tc : Thread Cert.RecurrenceInput.nD Cert.RecurrenceInput.τ).loc Cert.RecurrenceInput.main_arg5)
      ∧ r.2.mem ((c.tc : Thread Cert.RecurrenceInput.nD Cert.RecurrenceInput.τ).loc Cert.RecurrenceInput.main_arg6) = m ((c.tc : Thread Cert.RecurrenceInput.nD Cert.RecurrenceInput.τ).loc Cert.RecurrenceInput.main_arg6)
      ∧ r.2.mem ((c.tc : Thread Cert.RecurrenceInput.nD Cert.RecurrenceInput.τ).loc Cert.RecurrenceInput.main_arg7) = m ((c.tc : Thread Cert.RecurrenceInput.nD Cert.RecurrenceInput.τ).loc Cert.RecurrenceInput.main_arg7)
      ∧ r.2.mem ((c.tc : Thread Cert.RecurrenceInput.nD Cert.RecurrenceInput.τ).loc Cert.RecurrenceInput.main_arg8) = m ((c.tc : Thread Cert.RecurrenceInput.nD Cert.RecurrenceInput.τ).loc Cert.RecurrenceInput.main_arg8)
      ∧ r.2.mem ((c.tc : Thread Cert.RecurrenceInput.nD Cert.RecurrenceInput.τ).loc Cert.RecurrenceInput.main_arg9) = m ((c.tc : Thread Cert.RecurrenceInput.nD Cert.RecurrenceInput.τ).loc Cert.RecurrenceInput.main_arg9))
      ∧ r.2.sem = fun _ => 0)

def quiescent_RecurrenceInputIdeal [hRecurrenceInputIdeal : Cert.RecurrenceInputIdeal.Facts] : Prop :=
  ∀ (m : (ℓ : Loc Cert.RecurrenceInputIdeal.nD Cert.RecurrenceInputIdeal.τ Cert.RecurrenceInputIdeal.sig) → Buf (Elt Ideal) ℓ) (g : Dev Cert.RecurrenceInputIdeal.nD → PrngReg), Pre_RecurrenceInputIdeal m →
    θ_run (Cert.RecurrenceInputIdeal.defs (F := Ideal)) (onTc (τ := Cert.RecurrenceInputIdeal.τ) (Cert.RecurrenceInputIdeal.main (F := Ideal))) ⟨m, fun _ => 0, g⟩ (fun r => (∀ c : Dev Cert.RecurrenceInputIdeal.nD,
      r.2.mem ((c.tc : Thread Cert.RecurrenceInputIdeal.nD Cert.RecurrenceInputIdeal.τ).loc Cert.RecurrenceInputIdeal.main_arg0) = m ((c.tc : Thread Cert.RecurrenceInputIdeal.nD Cert.RecurrenceInputIdeal.τ).loc Cert.RecurrenceInputIdeal.main_arg0)
      ∧ r.2.mem ((c.tc : Thread Cert.RecurrenceInputIdeal.nD Cert.RecurrenceInputIdeal.τ).loc Cert.RecurrenceInputIdeal.main_arg1) = m ((c.tc : Thread Cert.RecurrenceInputIdeal.nD Cert.RecurrenceInputIdeal.τ).loc Cert.RecurrenceInputIdeal.main_arg1)
      ∧ r.2.mem ((c.tc : Thread Cert.RecurrenceInputIdeal.nD Cert.RecurrenceInputIdeal.τ).loc Cert.RecurrenceInputIdeal.main_arg2) = m ((c.tc : Thread Cert.RecurrenceInputIdeal.nD Cert.RecurrenceInputIdeal.τ).loc Cert.RecurrenceInputIdeal.main_arg2)
      ∧ r.2.mem ((c.tc : Thread Cert.RecurrenceInputIdeal.nD Cert.RecurrenceInputIdeal.τ).loc Cert.RecurrenceInputIdeal.main_arg3) = m ((c.tc : Thread Cert.RecurrenceInputIdeal.nD Cert.RecurrenceInputIdeal.τ).loc Cert.RecurrenceInputIdeal.main_arg3)
      ∧ r.2.mem ((c.tc : Thread Cert.RecurrenceInputIdeal.nD Cert.RecurrenceInputIdeal.τ).loc Cert.RecurrenceInputIdeal.main_arg4) = m ((c.tc : Thread Cert.RecurrenceInputIdeal.nD Cert.RecurrenceInputIdeal.τ).loc Cert.RecurrenceInputIdeal.main_arg4)
      ∧ r.2.mem ((c.tc : Thread Cert.RecurrenceInputIdeal.nD Cert.RecurrenceInputIdeal.τ).loc Cert.RecurrenceInputIdeal.main_arg5) = m ((c.tc : Thread Cert.RecurrenceInputIdeal.nD Cert.RecurrenceInputIdeal.τ).loc Cert.RecurrenceInputIdeal.main_arg5)
      ∧ r.2.mem ((c.tc : Thread Cert.RecurrenceInputIdeal.nD Cert.RecurrenceInputIdeal.τ).loc Cert.RecurrenceInputIdeal.main_arg6) = m ((c.tc : Thread Cert.RecurrenceInputIdeal.nD Cert.RecurrenceInputIdeal.τ).loc Cert.RecurrenceInputIdeal.main_arg6)
      ∧ r.2.mem ((c.tc : Thread Cert.RecurrenceInputIdeal.nD Cert.RecurrenceInputIdeal.τ).loc Cert.RecurrenceInputIdeal.main_arg7) = m ((c.tc : Thread Cert.RecurrenceInputIdeal.nD Cert.RecurrenceInputIdeal.τ).loc Cert.RecurrenceInputIdeal.main_arg7)
      ∧ r.2.mem ((c.tc : Thread Cert.RecurrenceInputIdeal.nD Cert.RecurrenceInputIdeal.τ).loc Cert.RecurrenceInputIdeal.main_arg8) = m ((c.tc : Thread Cert.RecurrenceInputIdeal.nD Cert.RecurrenceInputIdeal.τ).loc Cert.RecurrenceInputIdeal.main_arg8)
      ∧ r.2.mem ((c.tc : Thread Cert.RecurrenceInputIdeal.nD Cert.RecurrenceInputIdeal.τ).loc Cert.RecurrenceInputIdeal.main_arg9) = m ((c.tc : Thread Cert.RecurrenceInputIdeal.nD Cert.RecurrenceInputIdeal.τ).loc Cert.RecurrenceInputIdeal.main_arg9))
      ∧ r.2.sem = fun _ => 0)

def quiescent_RecurrenceInputReferenceIdeal [hRecurrenceInputReferenceIdeal : Cert.RecurrenceInputReferenceIdeal.Facts] : Prop :=
  ∀ (m : (ℓ : Loc Cert.RecurrenceInputReferenceIdeal.nD Cert.RecurrenceInputReferenceIdeal.τ Cert.RecurrenceInputReferenceIdeal.sig) → Buf (Elt Ideal) ℓ) (g : Dev Cert.RecurrenceInputReferenceIdeal.nD → PrngReg), Pre_RecurrenceInputReferenceIdeal m →
    θ_run (Cert.RecurrenceInputReferenceIdeal.defs (F := Ideal)) (onTc (τ := Cert.RecurrenceInputReferenceIdeal.τ) (Cert.RecurrenceInputReferenceIdeal.main (F := Ideal))) ⟨m, fun _ => 0, g⟩ (fun r => (∀ c : Dev Cert.RecurrenceInputReferenceIdeal.nD,
      r.2.mem ((c.tc : Thread Cert.RecurrenceInputReferenceIdeal.nD Cert.RecurrenceInputReferenceIdeal.τ).loc Cert.RecurrenceInputReferenceIdeal.main_arg0) = m ((c.tc : Thread Cert.RecurrenceInputReferenceIdeal.nD Cert.RecurrenceInputReferenceIdeal.τ).loc Cert.RecurrenceInputReferenceIdeal.main_arg0)
      ∧ r.2.mem ((c.tc : Thread Cert.RecurrenceInputReferenceIdeal.nD Cert.RecurrenceInputReferenceIdeal.τ).loc Cert.RecurrenceInputReferenceIdeal.main_arg1) = m ((c.tc : Thread Cert.RecurrenceInputReferenceIdeal.nD Cert.RecurrenceInputReferenceIdeal.τ).loc Cert.RecurrenceInputReferenceIdeal.main_arg1)
      ∧ r.2.mem ((c.tc : Thread Cert.RecurrenceInputReferenceIdeal.nD Cert.RecurrenceInputReferenceIdeal.τ).loc Cert.RecurrenceInputReferenceIdeal.main_arg2) = m ((c.tc : Thread Cert.RecurrenceInputReferenceIdeal.nD Cert.RecurrenceInputReferenceIdeal.τ).loc Cert.RecurrenceInputReferenceIdeal.main_arg2)
      ∧ r.2.mem ((c.tc : Thread Cert.RecurrenceInputReferenceIdeal.nD Cert.RecurrenceInputReferenceIdeal.τ).loc Cert.RecurrenceInputReferenceIdeal.main_arg3) = m ((c.tc : Thread Cert.RecurrenceInputReferenceIdeal.nD Cert.RecurrenceInputReferenceIdeal.τ).loc Cert.RecurrenceInputReferenceIdeal.main_arg3)
      ∧ r.2.mem ((c.tc : Thread Cert.RecurrenceInputReferenceIdeal.nD Cert.RecurrenceInputReferenceIdeal.τ).loc Cert.RecurrenceInputReferenceIdeal.main_arg4) = m ((c.tc : Thread Cert.RecurrenceInputReferenceIdeal.nD Cert.RecurrenceInputReferenceIdeal.τ).loc Cert.RecurrenceInputReferenceIdeal.main_arg4)
      ∧ r.2.mem ((c.tc : Thread Cert.RecurrenceInputReferenceIdeal.nD Cert.RecurrenceInputReferenceIdeal.τ).loc Cert.RecurrenceInputReferenceIdeal.main_arg5) = m ((c.tc : Thread Cert.RecurrenceInputReferenceIdeal.nD Cert.RecurrenceInputReferenceIdeal.τ).loc Cert.RecurrenceInputReferenceIdeal.main_arg5)
      ∧ r.2.mem ((c.tc : Thread Cert.RecurrenceInputReferenceIdeal.nD Cert.RecurrenceInputReferenceIdeal.τ).loc Cert.RecurrenceInputReferenceIdeal.main_arg6) = m ((c.tc : Thread Cert.RecurrenceInputReferenceIdeal.nD Cert.RecurrenceInputReferenceIdeal.τ).loc Cert.RecurrenceInputReferenceIdeal.main_arg6)
      ∧ r.2.mem ((c.tc : Thread Cert.RecurrenceInputReferenceIdeal.nD Cert.RecurrenceInputReferenceIdeal.τ).loc Cert.RecurrenceInputReferenceIdeal.main_arg7) = m ((c.tc : Thread Cert.RecurrenceInputReferenceIdeal.nD Cert.RecurrenceInputReferenceIdeal.τ).loc Cert.RecurrenceInputReferenceIdeal.main_arg7)
      ∧ r.2.mem ((c.tc : Thread Cert.RecurrenceInputReferenceIdeal.nD Cert.RecurrenceInputReferenceIdeal.τ).loc Cert.RecurrenceInputReferenceIdeal.main_arg8) = m ((c.tc : Thread Cert.RecurrenceInputReferenceIdeal.nD Cert.RecurrenceInputReferenceIdeal.τ).loc Cert.RecurrenceInputReferenceIdeal.main_arg8)
      ∧ r.2.mem ((c.tc : Thread Cert.RecurrenceInputReferenceIdeal.nD Cert.RecurrenceInputReferenceIdeal.τ).loc Cert.RecurrenceInputReferenceIdeal.main_arg9) = m ((c.tc : Thread Cert.RecurrenceInputReferenceIdeal.nD Cert.RecurrenceInputReferenceIdeal.τ).loc Cert.RecurrenceInputReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_BranchOut_BranchOutIdeal : Prop :=
  True

def algebraic_BranchOutIdeal_BranchOutReferenceIdeal [hBranchOutIdeal : Cert.BranchOutIdeal.Facts] [hBranchOutReferenceIdeal : Cert.BranchOutReferenceIdeal.Facts] : Prop :=
  ∀ (m : (ℓ : Loc Cert.BranchOutIdeal.nD Cert.BranchOutIdeal.τ Cert.BranchOutIdeal.sig) → Buf (Elt Ideal) ℓ) (g : Dev Cert.BranchOutIdeal.nD → PrngReg)
    (m' : (ℓ : Loc Cert.BranchOutReferenceIdeal.nD Cert.BranchOutReferenceIdeal.τ Cert.BranchOutReferenceIdeal.sig) → Buf (Elt Ideal) ℓ) (g' : Dev Cert.BranchOutReferenceIdeal.nD → PrngReg), Pre_BranchOutIdeal m →
    (∀ c : Dev Cert.BranchOutIdeal.nD,
      m' ((c.tc : Thread Cert.BranchOutReferenceIdeal.nD Cert.BranchOutReferenceIdeal.τ).loc Cert.BranchOutReferenceIdeal.main_arg0) = m ((c.tc : Thread Cert.BranchOutIdeal.nD Cert.BranchOutIdeal.τ).loc Cert.BranchOutIdeal.main_arg0)
      ∧ m' ((c.tc : Thread Cert.BranchOutReferenceIdeal.nD Cert.BranchOutReferenceIdeal.τ).loc Cert.BranchOutReferenceIdeal.main_arg1) = m ((c.tc : Thread Cert.BranchOutIdeal.nD Cert.BranchOutIdeal.τ).loc Cert.BranchOutIdeal.main_arg1)) →
    ∃ (v0 : (c : Dev Cert.BranchOutIdeal.nD) → Buf (Elt Ideal) ((c.tc : Thread Cert.BranchOutIdeal.nD Cert.BranchOutIdeal.τ).loc Cert.BranchOutIdeal.main_v3)),
      θ_run (Cert.BranchOutIdeal.defs (F := Ideal)) (onTc (τ := Cert.BranchOutIdeal.τ) (Cert.BranchOutIdeal.main (F := Ideal))) ⟨m, fun _ => 0, g⟩ (fun r => ∀ c : Dev Cert.BranchOutIdeal.nD,
          r.2.mem ((c.tc : Thread Cert.BranchOutIdeal.nD Cert.BranchOutIdeal.τ).loc Cert.BranchOutIdeal.main_v3) = v0 c
          ∧ r.2.mem ((c.tc : Thread Cert.BranchOutIdeal.nD Cert.BranchOutIdeal.τ).loc Cert.BranchOutIdeal.main_arg0) = m ((c.tc : Thread Cert.BranchOutIdeal.nD Cert.BranchOutIdeal.τ).loc Cert.BranchOutIdeal.main_arg0)
          ∧ r.2.mem ((c.tc : Thread Cert.BranchOutIdeal.nD Cert.BranchOutIdeal.τ).loc Cert.BranchOutIdeal.main_arg1) = m ((c.tc : Thread Cert.BranchOutIdeal.nD Cert.BranchOutIdeal.τ).loc Cert.BranchOutIdeal.main_arg1))
      ∧ θ_run (Cert.BranchOutReferenceIdeal.defs (F := Ideal)) (onTc (τ := Cert.BranchOutReferenceIdeal.τ) (Cert.BranchOutReferenceIdeal.main (F := Ideal))) ⟨m', fun _ => 0, g'⟩ (fun r => ∀ c : Dev Cert.BranchOutReferenceIdeal.nD,
          r.2.mem ((c.tc : Thread Cert.BranchOutReferenceIdeal.nD Cert.BranchOutReferenceIdeal.τ).loc Cert.BranchOutReferenceIdeal.main_v3) = v0 c
          ∧ r.2.mem ((c.tc : Thread Cert.BranchOutReferenceIdeal.nD Cert.BranchOutReferenceIdeal.τ).loc Cert.BranchOutReferenceIdeal.main_arg0) = m' ((c.tc : Thread Cert.BranchOutReferenceIdeal.nD Cert.BranchOutReferenceIdeal.τ).loc Cert.BranchOutReferenceIdeal.main_arg0)
          ∧ r.2.mem ((c.tc : Thread Cert.BranchOutReferenceIdeal.nD Cert.BranchOutReferenceIdeal.τ).loc Cert.BranchOutReferenceIdeal.main_arg1) = m' ((c.tc : Thread Cert.BranchOutReferenceIdeal.nD Cert.BranchOutReferenceIdeal.τ).loc Cert.BranchOutReferenceIdeal.main_arg1))

def preserves_BranchWeight_BranchWeightIdeal : Prop :=
  True

def algebraic_BranchWeightIdeal_BranchWeightReferenceIdeal [hBranchWeightIdeal : Cert.BranchWeightIdeal.Facts] [hBranchWeightReferenceIdeal : Cert.BranchWeightReferenceIdeal.Facts] : Prop :=
  ∀ (m : (ℓ : Loc Cert.BranchWeightIdeal.nD Cert.BranchWeightIdeal.τ Cert.BranchWeightIdeal.sig) → Buf (Elt Ideal) ℓ) (g : Dev Cert.BranchWeightIdeal.nD → PrngReg)
    (m' : (ℓ : Loc Cert.BranchWeightReferenceIdeal.nD Cert.BranchWeightReferenceIdeal.τ Cert.BranchWeightReferenceIdeal.sig) → Buf (Elt Ideal) ℓ) (g' : Dev Cert.BranchWeightReferenceIdeal.nD → PrngReg), Pre_BranchWeightIdeal m →
    (∀ c : Dev Cert.BranchWeightIdeal.nD,
      m' ((c.tc : Thread Cert.BranchWeightReferenceIdeal.nD Cert.BranchWeightReferenceIdeal.τ).loc Cert.BranchWeightReferenceIdeal.main_arg0) = m ((c.tc : Thread Cert.BranchWeightIdeal.nD Cert.BranchWeightIdeal.τ).loc Cert.BranchWeightIdeal.main_arg0)
      ∧ m' ((c.tc : Thread Cert.BranchWeightReferenceIdeal.nD Cert.BranchWeightReferenceIdeal.τ).loc Cert.BranchWeightReferenceIdeal.main_arg1) = m ((c.tc : Thread Cert.BranchWeightIdeal.nD Cert.BranchWeightIdeal.τ).loc Cert.BranchWeightIdeal.main_arg1)) →
    ∃ (v0 : (c : Dev Cert.BranchWeightIdeal.nD) → Buf (Elt Ideal) ((c.tc : Thread Cert.BranchWeightIdeal.nD Cert.BranchWeightIdeal.τ).loc Cert.BranchWeightIdeal.main_v0)),
      θ_run (Cert.BranchWeightIdeal.defs (F := Ideal)) (onTc (τ := Cert.BranchWeightIdeal.τ) (Cert.BranchWeightIdeal.main (F := Ideal))) ⟨m, fun _ => 0, g⟩ (fun r => ∀ c : Dev Cert.BranchWeightIdeal.nD,
          r.2.mem ((c.tc : Thread Cert.BranchWeightIdeal.nD Cert.BranchWeightIdeal.τ).loc Cert.BranchWeightIdeal.main_v0) = v0 c
          ∧ r.2.mem ((c.tc : Thread Cert.BranchWeightIdeal.nD Cert.BranchWeightIdeal.τ).loc Cert.BranchWeightIdeal.main_arg0) = m ((c.tc : Thread Cert.BranchWeightIdeal.nD Cert.BranchWeightIdeal.τ).loc Cert.BranchWeightIdeal.main_arg0)
          ∧ r.2.mem ((c.tc : Thread Cert.BranchWeightIdeal.nD Cert.BranchWeightIdeal.τ).loc Cert.BranchWeightIdeal.main_arg1) = m ((c.tc : Thread Cert.BranchWeightIdeal.nD Cert.BranchWeightIdeal.τ).loc Cert.BranchWeightIdeal.main_arg1))
      ∧ θ_run (Cert.BranchWeightReferenceIdeal.defs (F := Ideal)) (onTc (τ := Cert.BranchWeightReferenceIdeal.τ) (Cert.BranchWeightReferenceIdeal.main (F := Ideal))) ⟨m', fun _ => 0, g'⟩ (fun r => ∀ c : Dev Cert.BranchWeightReferenceIdeal.nD,
          r.2.mem ((c.tc : Thread Cert.BranchWeightReferenceIdeal.nD Cert.BranchWeightReferenceIdeal.τ).loc Cert.BranchWeightReferenceIdeal.main_v8) = v0 c
          ∧ r.2.mem ((c.tc : Thread Cert.BranchWeightReferenceIdeal.nD Cert.BranchWeightReferenceIdeal.τ).loc Cert.BranchWeightReferenceIdeal.main_arg0) = m' ((c.tc : Thread Cert.BranchWeightReferenceIdeal.nD Cert.BranchWeightReferenceIdeal.τ).loc Cert.BranchWeightReferenceIdeal.main_arg0)
          ∧ r.2.mem ((c.tc : Thread Cert.BranchWeightReferenceIdeal.nD Cert.BranchWeightReferenceIdeal.τ).loc Cert.BranchWeightReferenceIdeal.main_arg1) = m' ((c.tc : Thread Cert.BranchWeightReferenceIdeal.nD Cert.BranchWeightReferenceIdeal.τ).loc Cert.BranchWeightReferenceIdeal.main_arg1))

def preserves_GateWeight_GateWeightIdeal : Prop :=
  True

def algebraic_GateWeightIdeal_GateWeightReferenceIdeal [hGateWeightIdeal : Cert.GateWeightIdeal.Facts] [hGateWeightReferenceIdeal : Cert.GateWeightReferenceIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg)
    (m' : (ℓ : Loc Cert.GateWeightReferenceIdeal.nD Cert.GateWeightReferenceIdeal.τ Cert.GateWeightReferenceIdeal.sig) → Buf (Elt Ideal) ℓ) (g' : Dev Cert.GateWeightReferenceIdeal.nD → PrngReg), Pre_GateWeightIdeal m →
    (∀ c : Dev Cert.GateWeightIdeal.nD,
      m' ((c.tc : Thread Cert.GateWeightReferenceIdeal.nD Cert.GateWeightReferenceIdeal.τ).loc Cert.GateWeightReferenceIdeal.main_arg0) = m ((c.tc : Thread Cert.GateWeightIdeal.nD Cert.GateWeightIdeal.τ).loc Cert.GateWeightIdeal.main_arg0)
      ∧ m' ((c.tc : Thread Cert.GateWeightReferenceIdeal.nD Cert.GateWeightReferenceIdeal.τ).loc Cert.GateWeightReferenceIdeal.main_arg1) = m ((c.tc : Thread Cert.GateWeightIdeal.nD Cert.GateWeightIdeal.τ).loc Cert.GateWeightIdeal.main_arg1)) →
    ∃ (v0 : (c : Dev Cert.GateWeightIdeal.nD) → Buf (Elt Ideal) ((c.tc : Thread Cert.GateWeightIdeal.nD Cert.GateWeightIdeal.τ).loc Cert.GateWeightIdeal.main_v0)),
      θ_run (Cert.GateWeightIdeal.defs (F := Ideal)) (onTc (τ := Cert.GateWeightIdeal.τ) (Cert.GateWeightIdeal.main (F := Ideal))) ⟨m, fun _ => 0, g⟩ (fun r => ∀ c : Dev Cert.GateWeightIdeal.nD,
          r.2.mem ((c.tc : Thread Cert.GateWeightIdeal.nD Cert.GateWeightIdeal.τ).loc Cert.GateWeightIdeal.main_v0) = v0 c
          ∧ r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
          ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ θ_run (Cert.GateWeightReferenceIdeal.defs (F := Ideal)) (onTc (τ := Cert.GateWeightReferenceIdeal.τ) (Cert.GateWeightReferenceIdeal.main (F := Ideal))) ⟨m', fun _ => 0, g'⟩ (fun r => ∀ c : Dev Cert.GateWeightReferenceIdeal.nD,
          r.2.mem ((c.tc : Thread Cert.GateWeightReferenceIdeal.nD Cert.GateWeightReferenceIdeal.τ).loc Cert.GateWeightReferenceIdeal.main_v9) = v0 c
          ∧ r.2.mem ((c.tc : Thread Cert.GateWeightReferenceIdeal.nD Cert.GateWeightReferenceIdeal.τ).loc Cert.GateWeightReferenceIdeal.main_arg0) = m' ((c.tc : Thread Cert.GateWeightReferenceIdeal.nD Cert.GateWeightReferenceIdeal.τ).loc Cert.GateWeightReferenceIdeal.main_arg0)
          ∧ r.2.mem ((c.tc : Thread Cert.GateWeightReferenceIdeal.nD Cert.GateWeightReferenceIdeal.τ).loc Cert.GateWeightReferenceIdeal.main_arg1) = m' ((c.tc : Thread Cert.GateWeightReferenceIdeal.nD Cert.GateWeightReferenceIdeal.τ).loc Cert.GateWeightReferenceIdeal.main_arg1))

def preserves_GateInput_GateInputIdeal : Prop :=
  True

def algebraic_GateInputIdeal_GateInputReferenceIdeal [hGateInputIdeal : Cert.GateInputIdeal.Facts] [hGateInputReferenceIdeal : Cert.GateInputReferenceIdeal.Facts] : Prop :=
  ∀ (m : (ℓ : Loc Cert.GateInputIdeal.nD Cert.GateInputIdeal.τ Cert.GateInputIdeal.sig) → Buf (Elt Ideal) ℓ) (g : Dev Cert.GateInputIdeal.nD → PrngReg)
    (m' : (ℓ : Loc Cert.GateInputReferenceIdeal.nD Cert.GateInputReferenceIdeal.τ Cert.GateInputReferenceIdeal.sig) → Buf (Elt Ideal) ℓ) (g' : Dev Cert.GateInputReferenceIdeal.nD → PrngReg), Pre_GateInputIdeal m →
    (∀ c : Dev Cert.GateInputIdeal.nD,
      m' ((c.tc : Thread Cert.GateInputReferenceIdeal.nD Cert.GateInputReferenceIdeal.τ).loc Cert.GateInputReferenceIdeal.main_arg0) = m ((c.tc : Thread Cert.GateInputIdeal.nD Cert.GateInputIdeal.τ).loc Cert.GateInputIdeal.main_arg0)
      ∧ m' ((c.tc : Thread Cert.GateInputReferenceIdeal.nD Cert.GateInputReferenceIdeal.τ).loc Cert.GateInputReferenceIdeal.main_arg1) = m ((c.tc : Thread Cert.GateInputIdeal.nD Cert.GateInputIdeal.τ).loc Cert.GateInputIdeal.main_arg1)) →
    ∃ (v0 : (c : Dev Cert.GateInputIdeal.nD) → Buf (Elt Ideal) ((c.tc : Thread Cert.GateInputIdeal.nD Cert.GateInputIdeal.τ).loc Cert.GateInputIdeal.main_v3)),
      θ_run (Cert.GateInputIdeal.defs (F := Ideal)) (onTc (τ := Cert.GateInputIdeal.τ) (Cert.GateInputIdeal.main (F := Ideal))) ⟨m, fun _ => 0, g⟩ (fun r => ∀ c : Dev Cert.GateInputIdeal.nD,
          r.2.mem ((c.tc : Thread Cert.GateInputIdeal.nD Cert.GateInputIdeal.τ).loc Cert.GateInputIdeal.main_v3) = v0 c
          ∧ r.2.mem ((c.tc : Thread Cert.GateInputIdeal.nD Cert.GateInputIdeal.τ).loc Cert.GateInputIdeal.main_arg0) = m ((c.tc : Thread Cert.GateInputIdeal.nD Cert.GateInputIdeal.τ).loc Cert.GateInputIdeal.main_arg0)
          ∧ r.2.mem ((c.tc : Thread Cert.GateInputIdeal.nD Cert.GateInputIdeal.τ).loc Cert.GateInputIdeal.main_arg1) = m ((c.tc : Thread Cert.GateInputIdeal.nD Cert.GateInputIdeal.τ).loc Cert.GateInputIdeal.main_arg1))
      ∧ θ_run (Cert.GateInputReferenceIdeal.defs (F := Ideal)) (onTc (τ := Cert.GateInputReferenceIdeal.τ) (Cert.GateInputReferenceIdeal.main (F := Ideal))) ⟨m', fun _ => 0, g'⟩ (fun r => ∀ c : Dev Cert.GateInputReferenceIdeal.nD,
          r.2.mem ((c.tc : Thread Cert.GateInputReferenceIdeal.nD Cert.GateInputReferenceIdeal.τ).loc Cert.GateInputReferenceIdeal.main_v6) = v0 c
          ∧ r.2.mem ((c.tc : Thread Cert.GateInputReferenceIdeal.nD Cert.GateInputReferenceIdeal.τ).loc Cert.GateInputReferenceIdeal.main_arg0) = m' ((c.tc : Thread Cert.GateInputReferenceIdeal.nD Cert.GateInputReferenceIdeal.τ).loc Cert.GateInputReferenceIdeal.main_arg0)
          ∧ r.2.mem ((c.tc : Thread Cert.GateInputReferenceIdeal.nD Cert.GateInputReferenceIdeal.τ).loc Cert.GateInputReferenceIdeal.main_arg1) = m' ((c.tc : Thread Cert.GateInputReferenceIdeal.nD Cert.GateInputReferenceIdeal.τ).loc Cert.GateInputReferenceIdeal.main_arg1))

def preserves_OutWeight_OutWeightIdeal : Prop :=
  True

def algebraic_OutWeightIdeal_OutWeightReferenceIdeal [hOutWeightIdeal : Cert.OutWeightIdeal.Facts] [hOutWeightReferenceIdeal : Cert.OutWeightReferenceIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightReferenceIdeal.nD Cert.OutWeightReferenceIdeal.τ Cert.OutWeightReferenceIdeal.sig) → Buf (Elt Ideal) ℓ) (g' : Dev Cert.OutWeightReferenceIdeal.nD → PrngReg), Pre_OutWeightIdeal m →
    (∀ c : Dev Cert.OutWeightIdeal.nD,
      m' ((c.tc : Thread Cert.OutWeightReferenceIdeal.nD Cert.OutWeightReferenceIdeal.τ).loc Cert.OutWeightReferenceIdeal.main_arg0) = m ((c.tc : Thread Cert.OutWeightIdeal.nD Cert.OutWeightIdeal.τ).loc Cert.OutWeightIdeal.main_arg0)
      ∧ m' ((c.tc : Thread Cert.OutWeightReferenceIdeal.nD Cert.OutWeightReferenceIdeal.τ).loc Cert.OutWeightReferenceIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v1)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v1) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightReferenceIdeal.defs (F := Ideal)) (onTc (τ := Cert.OutWeightReferenceIdeal.τ) (Cert.OutWeightReferenceIdeal.main (F := Ideal))) ⟨m', fun _ => 0, g'⟩ (fun r => ∀ c : Dev Cert.OutWeightReferenceIdeal.nD,
          r.2.mem ((c.tc : Thread Cert.OutWeightReferenceIdeal.nD Cert.OutWeightReferenceIdeal.τ).loc Cert.OutWeightReferenceIdeal.main_v5) = v0 c
          ∧ r.2.mem ((c.tc : Thread Cert.OutWeightReferenceIdeal.nD Cert.OutWeightReferenceIdeal.τ).loc Cert.OutWeightReferenceIdeal.main_arg0) = m' ((c.tc : Thread Cert.OutWeightReferenceIdeal.nD Cert.OutWeightReferenceIdeal.τ).loc Cert.OutWeightReferenceIdeal.main_arg0)
          ∧ r.2.mem ((c.tc : Thread Cert.OutWeightReferenceIdeal.nD Cert.OutWeightReferenceIdeal.τ).loc Cert.OutWeightReferenceIdeal.main_arg1) = m' ((c.tc : Thread Cert.OutWeightReferenceIdeal.nD Cert.OutWeightReferenceIdeal.τ).loc Cert.OutWeightReferenceIdeal.main_arg1))

def preserves_MergedGradient_MergedGradientIdeal : Prop :=
  True

def algebraic_MergedGradientIdeal_MergedGradientReferenceIdeal [hMergedGradientIdeal : Cert.MergedGradientIdeal.Facts] [hMergedGradientReferenceIdeal : Cert.MergedGradientReferenceIdeal.Facts] : Prop :=
  ∀ (m : (ℓ : Loc Cert.MergedGradientIdeal.nD Cert.MergedGradientIdeal.τ Cert.MergedGradientIdeal.sig) → Buf (Elt Ideal) ℓ) (g : Dev Cert.MergedGradientIdeal.nD → PrngReg)
    (m' : (ℓ : Loc Cert.MergedGradientReferenceIdeal.nD Cert.MergedGradientReferenceIdeal.τ Cert.MergedGradientReferenceIdeal.sig) → Buf (Elt Ideal) ℓ) (g' : Dev Cert.MergedGradientReferenceIdeal.nD → PrngReg), Pre_MergedGradientIdeal m →
    (∀ c : Dev Cert.MergedGradientIdeal.nD,
      m' ((c.tc : Thread Cert.MergedGradientReferenceIdeal.nD Cert.MergedGradientReferenceIdeal.τ).loc Cert.MergedGradientReferenceIdeal.main_arg0) = m ((c.tc : Thread Cert.MergedGradientIdeal.nD Cert.MergedGradientIdeal.τ).loc Cert.MergedGradientIdeal.main_arg0)
      ∧ m' ((c.tc : Thread Cert.MergedGradientReferenceIdeal.nD Cert.MergedGradientReferenceIdeal.τ).loc Cert.MergedGradientReferenceIdeal.main_arg1) = m ((c.tc : Thread Cert.MergedGradientIdeal.nD Cert.MergedGradientIdeal.τ).loc Cert.MergedGradientIdeal.main_arg1)) →
    ∃ (v0 : (c : Dev Cert.MergedGradientIdeal.nD) → Buf (Elt Ideal) ((c.tc : Thread Cert.MergedGradientIdeal.nD Cert.MergedGradientIdeal.τ).loc Cert.MergedGradientIdeal.main_v2)),
      θ_run (Cert.MergedGradientIdeal.defs (F := Ideal)) (onTc (τ := Cert.MergedGradientIdeal.τ) (Cert.MergedGradientIdeal.main (F := Ideal))) ⟨m, fun _ => 0, g⟩ (fun r => ∀ c : Dev Cert.MergedGradientIdeal.nD,
          r.2.mem ((c.tc : Thread Cert.MergedGradientIdeal.nD Cert.MergedGradientIdeal.τ).loc Cert.MergedGradientIdeal.main_v2) = v0 c
          ∧ r.2.mem ((c.tc : Thread Cert.MergedGradientIdeal.nD Cert.MergedGradientIdeal.τ).loc Cert.MergedGradientIdeal.main_arg0) = m ((c.tc : Thread Cert.MergedGradientIdeal.nD Cert.MergedGradientIdeal.τ).loc Cert.MergedGradientIdeal.main_arg0)
          ∧ r.2.mem ((c.tc : Thread Cert.MergedGradientIdeal.nD Cert.MergedGradientIdeal.τ).loc Cert.MergedGradientIdeal.main_arg1) = m ((c.tc : Thread Cert.MergedGradientIdeal.nD Cert.MergedGradientIdeal.τ).loc Cert.MergedGradientIdeal.main_arg1))
      ∧ θ_run (Cert.MergedGradientReferenceIdeal.defs (F := Ideal)) (onTc (τ := Cert.MergedGradientReferenceIdeal.τ) (Cert.MergedGradientReferenceIdeal.main (F := Ideal))) ⟨m', fun _ => 0, g'⟩ (fun r => ∀ c : Dev Cert.MergedGradientReferenceIdeal.nD,
          r.2.mem ((c.tc : Thread Cert.MergedGradientReferenceIdeal.nD Cert.MergedGradientReferenceIdeal.τ).loc Cert.MergedGradientReferenceIdeal.main_v3) = v0 c
          ∧ r.2.mem ((c.tc : Thread Cert.MergedGradientReferenceIdeal.nD Cert.MergedGradientReferenceIdeal.τ).loc Cert.MergedGradientReferenceIdeal.main_arg0) = m' ((c.tc : Thread Cert.MergedGradientReferenceIdeal.nD Cert.MergedGradientReferenceIdeal.τ).loc Cert.MergedGradientReferenceIdeal.main_arg0)
          ∧ r.2.mem ((c.tc : Thread Cert.MergedGradientReferenceIdeal.nD Cert.MergedGradientReferenceIdeal.τ).loc Cert.MergedGradientReferenceIdeal.main_arg1) = m' ((c.tc : Thread Cert.MergedGradientReferenceIdeal.nD Cert.MergedGradientReferenceIdeal.τ).loc Cert.MergedGradientReferenceIdeal.main_arg1))

def preserves_OutProjection_OutProjectionIdeal : Prop :=
  True

def algebraic_OutProjectionIdeal_OutProjectionReferenceIdeal [hOutProjectionIdeal : Cert.OutProjectionIdeal.Facts] [hOutProjectionReferenceIdeal : Cert.OutProjectionReferenceIdeal.Facts] : Prop :=
  ∀ (m : (ℓ : Loc Cert.OutProjectionIdeal.nD Cert.OutProjectionIdeal.τ Cert.OutProjectionIdeal.sig) → Buf (Elt Ideal) ℓ) (g : Dev Cert.OutProjectionIdeal.nD → PrngReg)
    (m' : (ℓ : Loc Cert.OutProjectionReferenceIdeal.nD Cert.OutProjectionReferenceIdeal.τ Cert.OutProjectionReferenceIdeal.sig) → Buf (Elt Ideal) ℓ) (g' : Dev Cert.OutProjectionReferenceIdeal.nD → PrngReg), Pre_OutProjectionIdeal m →
    (∀ c : Dev Cert.OutProjectionIdeal.nD,
      m' ((c.tc : Thread Cert.OutProjectionReferenceIdeal.nD Cert.OutProjectionReferenceIdeal.τ).loc Cert.OutProjectionReferenceIdeal.main_arg0) = m ((c.tc : Thread Cert.OutProjectionIdeal.nD Cert.OutProjectionIdeal.τ).loc Cert.OutProjectionIdeal.main_arg0)
      ∧ m' ((c.tc : Thread Cert.OutProjectionReferenceIdeal.nD Cert.OutProjectionReferenceIdeal.τ).loc Cert.OutProjectionReferenceIdeal.main_arg1) = m ((c.tc : Thread Cert.OutProjectionIdeal.nD Cert.OutProjectionIdeal.τ).loc Cert.OutProjectionIdeal.main_arg1)
      ∧ m' ((c.tc : Thread Cert.OutProjectionReferenceIdeal.nD Cert.OutProjectionReferenceIdeal.τ).loc Cert.OutProjectionReferenceIdeal.main_arg2) = m ((c.tc : Thread Cert.OutProjectionIdeal.nD Cert.OutProjectionIdeal.τ).loc Cert.OutProjectionIdeal.main_arg2)) →
    ∃ (v0 : (c : Dev Cert.OutProjectionIdeal.nD) → Buf (Elt Ideal) ((c.tc : Thread Cert.OutProjectionIdeal.nD Cert.OutProjectionIdeal.τ).loc Cert.OutProjectionIdeal.main_v1)),
      θ_run (Cert.OutProjectionIdeal.defs (F := Ideal)) (onTc (τ := Cert.OutProjectionIdeal.τ) (Cert.OutProjectionIdeal.main (F := Ideal))) ⟨m, fun _ => 0, g⟩ (fun r => ∀ c : Dev Cert.OutProjectionIdeal.nD,
          r.2.mem ((c.tc : Thread Cert.OutProjectionIdeal.nD Cert.OutProjectionIdeal.τ).loc Cert.OutProjectionIdeal.main_v1) = v0 c
          ∧ r.2.mem ((c.tc : Thread Cert.OutProjectionIdeal.nD Cert.OutProjectionIdeal.τ).loc Cert.OutProjectionIdeal.main_arg0) = m ((c.tc : Thread Cert.OutProjectionIdeal.nD Cert.OutProjectionIdeal.τ).loc Cert.OutProjectionIdeal.main_arg0)
          ∧ r.2.mem ((c.tc : Thread Cert.OutProjectionIdeal.nD Cert.OutProjectionIdeal.τ).loc Cert.OutProjectionIdeal.main_arg1) = m ((c.tc : Thread Cert.OutProjectionIdeal.nD Cert.OutProjectionIdeal.τ).loc Cert.OutProjectionIdeal.main_arg1)
          ∧ r.2.mem ((c.tc : Thread Cert.OutProjectionIdeal.nD Cert.OutProjectionIdeal.τ).loc Cert.OutProjectionIdeal.main_arg2) = m ((c.tc : Thread Cert.OutProjectionIdeal.nD Cert.OutProjectionIdeal.τ).loc Cert.OutProjectionIdeal.main_arg2))
      ∧ θ_run (Cert.OutProjectionReferenceIdeal.defs (F := Ideal)) (onTc (τ := Cert.OutProjectionReferenceIdeal.τ) (Cert.OutProjectionReferenceIdeal.main (F := Ideal))) ⟨m', fun _ => 0, g'⟩ (fun r => ∀ c : Dev Cert.OutProjectionReferenceIdeal.nD,
          r.2.mem ((c.tc : Thread Cert.OutProjectionReferenceIdeal.nD Cert.OutProjectionReferenceIdeal.τ).loc Cert.OutProjectionReferenceIdeal.main_v2) = v0 c
          ∧ r.2.mem ((c.tc : Thread Cert.OutProjectionReferenceIdeal.nD Cert.OutProjectionReferenceIdeal.τ).loc Cert.OutProjectionReferenceIdeal.main_arg0) = m' ((c.tc : Thread Cert.OutProjectionReferenceIdeal.nD Cert.OutProjectionReferenceIdeal.τ).loc Cert.OutProjectionReferenceIdeal.main_arg0)
          ∧ r.2.mem ((c.tc : Thread Cert.OutProjectionReferenceIdeal.nD Cert.OutProjectionReferenceIdeal.τ).loc Cert.OutProjectionReferenceIdeal.main_arg1) = m' ((c.tc : Thread Cert.OutProjectionReferenceIdeal.nD Cert.OutProjectionReferenceIdeal.τ).loc Cert.OutProjectionReferenceIdeal.main_arg1)
          ∧ r.2.mem ((c.tc : Thread Cert.OutProjectionReferenceIdeal.nD Cert.OutProjectionReferenceIdeal.τ).loc Cert.OutProjectionReferenceIdeal.main_arg2) = m' ((c.tc : Thread Cert.OutProjectionReferenceIdeal.nD Cert.OutProjectionReferenceIdeal.τ).loc Cert.OutProjectionReferenceIdeal.main_arg2))

def preserves_InProjection_InProjectionIdeal : Prop :=
  True

def algebraic_InProjectionIdeal_InProjectionReferenceIdeal [hInProjectionIdeal : Cert.InProjectionIdeal.Facts] [hInProjectionReferenceIdeal : Cert.InProjectionReferenceIdeal.Facts] : Prop :=
  ∀ (m : (ℓ : Loc Cert.InProjectionIdeal.nD Cert.InProjectionIdeal.τ Cert.InProjectionIdeal.sig) → Buf (Elt Ideal) ℓ) (g : Dev Cert.InProjectionIdeal.nD → PrngReg)
    (m' : (ℓ : Loc Cert.InProjectionReferenceIdeal.nD Cert.InProjectionReferenceIdeal.τ Cert.InProjectionReferenceIdeal.sig) → Buf (Elt Ideal) ℓ) (g' : Dev Cert.InProjectionReferenceIdeal.nD → PrngReg), Pre_InProjectionIdeal m →
    (∀ c : Dev Cert.InProjectionIdeal.nD,
      m' ((c.tc : Thread Cert.InProjectionReferenceIdeal.nD Cert.InProjectionReferenceIdeal.τ).loc Cert.InProjectionReferenceIdeal.main_arg0) = m ((c.tc : Thread Cert.InProjectionIdeal.nD Cert.InProjectionIdeal.τ).loc Cert.InProjectionIdeal.main_arg0)
      ∧ m' ((c.tc : Thread Cert.InProjectionReferenceIdeal.nD Cert.InProjectionReferenceIdeal.τ).loc Cert.InProjectionReferenceIdeal.main_arg1) = m ((c.tc : Thread Cert.InProjectionIdeal.nD Cert.InProjectionIdeal.τ).loc Cert.InProjectionIdeal.main_arg1)) →
    ∃ (v0 : (c : Dev Cert.InProjectionIdeal.nD) → Buf (Elt Ideal) ((c.tc : Thread Cert.InProjectionIdeal.nD Cert.InProjectionIdeal.τ).loc Cert.InProjectionIdeal.main_v3)),
      θ_run (Cert.InProjectionIdeal.defs (F := Ideal)) (onTc (τ := Cert.InProjectionIdeal.τ) (Cert.InProjectionIdeal.main (F := Ideal))) ⟨m, fun _ => 0, g⟩ (fun r => ∀ c : Dev Cert.InProjectionIdeal.nD,
          r.2.mem ((c.tc : Thread Cert.InProjectionIdeal.nD Cert.InProjectionIdeal.τ).loc Cert.InProjectionIdeal.main_v3) = v0 c
          ∧ r.2.mem ((c.tc : Thread Cert.InProjectionIdeal.nD Cert.InProjectionIdeal.τ).loc Cert.InProjectionIdeal.main_arg0) = m ((c.tc : Thread Cert.InProjectionIdeal.nD Cert.InProjectionIdeal.τ).loc Cert.InProjectionIdeal.main_arg0)
          ∧ r.2.mem ((c.tc : Thread Cert.InProjectionIdeal.nD Cert.InProjectionIdeal.τ).loc Cert.InProjectionIdeal.main_arg1) = m ((c.tc : Thread Cert.InProjectionIdeal.nD Cert.InProjectionIdeal.τ).loc Cert.InProjectionIdeal.main_arg1))
      ∧ θ_run (Cert.InProjectionReferenceIdeal.defs (F := Ideal)) (onTc (τ := Cert.InProjectionReferenceIdeal.τ) (Cert.InProjectionReferenceIdeal.main (F := Ideal))) ⟨m', fun _ => 0, g'⟩ (fun r => ∀ c : Dev Cert.InProjectionReferenceIdeal.nD,
          r.2.mem ((c.tc : Thread Cert.InProjectionReferenceIdeal.nD Cert.InProjectionReferenceIdeal.τ).loc Cert.InProjectionReferenceIdeal.main_v3) = v0 c
          ∧ r.2.mem ((c.tc : Thread Cert.InProjectionReferenceIdeal.nD Cert.InProjectionReferenceIdeal.τ).loc Cert.InProjectionReferenceIdeal.main_arg0) = m' ((c.tc : Thread Cert.InProjectionReferenceIdeal.nD Cert.InProjectionReferenceIdeal.τ).loc Cert.InProjectionReferenceIdeal.main_arg0)
          ∧ r.2.mem ((c.tc : Thread Cert.InProjectionReferenceIdeal.nD Cert.InProjectionReferenceIdeal.τ).loc Cert.InProjectionReferenceIdeal.main_arg1) = m' ((c.tc : Thread Cert.InProjectionReferenceIdeal.nD Cert.InProjectionReferenceIdeal.τ).loc Cert.InProjectionReferenceIdeal.main_arg1))

def preserves_InWeight_InWeightIdeal : Prop :=
  True

def algebraic_InWeightIdeal_InWeightReferenceIdeal [hInWeightIdeal : Cert.InWeightIdeal.Facts] [hInWeightReferenceIdeal : Cert.InWeightReferenceIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightReferenceIdeal.nD Cert.InWeightReferenceIdeal.τ Cert.InWeightReferenceIdeal.sig) → Buf (Elt Ideal) ℓ) (g' : Dev Cert.InWeightReferenceIdeal.nD → PrngReg), Pre_InWeightIdeal m →
    (∀ c : Dev Cert.InWeightIdeal.nD,
      m' ((c.tc : Thread Cert.InWeightReferenceIdeal.nD Cert.InWeightReferenceIdeal.τ).loc Cert.InWeightReferenceIdeal.main_arg0) = m ((c.tc : Thread Cert.InWeightIdeal.nD Cert.InWeightIdeal.τ).loc Cert.InWeightIdeal.main_arg0)
      ∧ m' ((c.tc : Thread Cert.InWeightReferenceIdeal.nD Cert.InWeightReferenceIdeal.τ).loc Cert.InWeightReferenceIdeal.main_arg1) = m ((c.tc : Thread Cert.InWeightIdeal.nD Cert.InWeightIdeal.τ).loc Cert.InWeightIdeal.main_arg1)
      ∧ m' ((c.tc : Thread Cert.InWeightReferenceIdeal.nD Cert.InWeightReferenceIdeal.τ).loc Cert.InWeightReferenceIdeal.main_arg2) = m ((c.tc : Thread Cert.InWeightIdeal.nD Cert.InWeightIdeal.τ).loc Cert.InWeightIdeal.main_arg2)
      ∧ m' ((c.tc : Thread Cert.InWeightReferenceIdeal.nD Cert.InWeightReferenceIdeal.τ).loc Cert.InWeightReferenceIdeal.main_arg3) = m ((c.tc : Thread Cert.InWeightIdeal.nD Cert.InWeightIdeal.τ).loc Cert.InWeightIdeal.main_arg3)
      ∧ m' ((c.tc : Thread Cert.InWeightReferenceIdeal.nD Cert.InWeightReferenceIdeal.τ).loc Cert.InWeightReferenceIdeal.main_arg4) = m ((c.tc : Thread Cert.InWeightIdeal.nD Cert.InWeightIdeal.τ).loc Cert.InWeightIdeal.main_arg4)
      ∧ m' ((c.tc : Thread Cert.InWeightReferenceIdeal.nD Cert.InWeightReferenceIdeal.τ).loc Cert.InWeightReferenceIdeal.main_arg5) = m ((c.tc : Thread Cert.InWeightIdeal.nD Cert.InWeightIdeal.τ).loc Cert.InWeightIdeal.main_arg5)
      ∧ m' ((c.tc : Thread Cert.InWeightReferenceIdeal.nD Cert.InWeightReferenceIdeal.τ).loc Cert.InWeightReferenceIdeal.main_arg6) = m ((c.tc : Thread Cert.InWeightIdeal.nD Cert.InWeightIdeal.τ).loc Cert.InWeightIdeal.main_arg6)
      ∧ m' ((c.tc : Thread Cert.InWeightReferenceIdeal.nD Cert.InWeightReferenceIdeal.τ).loc Cert.InWeightReferenceIdeal.main_arg7) = m ((c.tc : Thread Cert.InWeightIdeal.nD Cert.InWeightIdeal.τ).loc Cert.InWeightIdeal.main_arg7)
      ∧ m' ((c.tc : Thread Cert.InWeightReferenceIdeal.nD Cert.InWeightReferenceIdeal.τ).loc Cert.InWeightReferenceIdeal.main_arg8) = m ((c.tc : Thread Cert.InWeightIdeal.nD Cert.InWeightIdeal.τ).loc Cert.InWeightIdeal.main_arg8)
      ∧ m' ((c.tc : Thread Cert.InWeightReferenceIdeal.nD Cert.InWeightReferenceIdeal.τ).loc Cert.InWeightReferenceIdeal.main_arg9) = m ((c.tc : Thread Cert.InWeightIdeal.nD Cert.InWeightIdeal.τ).loc Cert.InWeightIdeal.main_arg9)
      ∧ m' ((c.tc : Thread Cert.InWeightReferenceIdeal.nD Cert.InWeightReferenceIdeal.τ).loc Cert.InWeightReferenceIdeal.main_arg10) = m ((c.tc : Thread Cert.InWeightIdeal.nD Cert.InWeightIdeal.τ).loc Cert.InWeightIdeal.main_arg10)
      ∧ m' ((c.tc : Thread Cert.InWeightReferenceIdeal.nD Cert.InWeightReferenceIdeal.τ).loc Cert.InWeightReferenceIdeal.main_arg11) = m ((c.tc : Thread Cert.InWeightIdeal.nD Cert.InWeightIdeal.τ).loc Cert.InWeightIdeal.main_arg11)
      ∧ m' ((c.tc : Thread Cert.InWeightReferenceIdeal.nD Cert.InWeightReferenceIdeal.τ).loc Cert.InWeightReferenceIdeal.main_arg12) = m ((c.tc : Thread Cert.InWeightIdeal.nD Cert.InWeightIdeal.τ).loc Cert.InWeightIdeal.main_arg12)) →
    ∃ (v0 : (c : Dev Cert.InWeightIdeal.nD) → Buf (Elt Ideal) ((c.tc : Thread Cert.InWeightIdeal.nD Cert.InWeightIdeal.τ).loc Cert.InWeightIdeal.main_v34)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v34) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1)
          ∧ r.2.mem ((c.tc : Thread Cert.InWeightIdeal.nD Cert.InWeightIdeal.τ).loc Cert.InWeightIdeal.main_arg2) = m ((c.tc : Thread Cert.InWeightIdeal.nD Cert.InWeightIdeal.τ).loc Cert.InWeightIdeal.main_arg2)
          ∧ r.2.mem ((c.tc : Thread Cert.InWeightIdeal.nD Cert.InWeightIdeal.τ).loc Cert.InWeightIdeal.main_arg3) = m ((c.tc : Thread Cert.InWeightIdeal.nD Cert.InWeightIdeal.τ).loc Cert.InWeightIdeal.main_arg3)
          ∧ r.2.mem ((c.tc : Thread Cert.InWeightIdeal.nD Cert.InWeightIdeal.τ).loc Cert.InWeightIdeal.main_arg4) = m ((c.tc : Thread Cert.InWeightIdeal.nD Cert.InWeightIdeal.τ).loc Cert.InWeightIdeal.main_arg4)
          ∧ r.2.mem ((c.tc : Thread Cert.InWeightIdeal.nD Cert.InWeightIdeal.τ).loc Cert.InWeightIdeal.main_arg5) = m ((c.tc : Thread Cert.InWeightIdeal.nD Cert.InWeightIdeal.τ).loc Cert.InWeightIdeal.main_arg5)
          ∧ r.2.mem ((c.tc : Thread Cert.InWeightIdeal.nD Cert.InWeightIdeal.τ).loc Cert.InWeightIdeal.main_arg6) = m ((c.tc : Thread Cert.InWeightIdeal.nD Cert.InWeightIdeal.τ).loc Cert.InWeightIdeal.main_arg6)
          ∧ r.2.mem ((c.tc : Thread Cert.InWeightIdeal.nD Cert.InWeightIdeal.τ).loc Cert.InWeightIdeal.main_arg7) = m ((c.tc : Thread Cert.InWeightIdeal.nD Cert.InWeightIdeal.τ).loc Cert.InWeightIdeal.main_arg7)
          ∧ r.2.mem ((c.tc : Thread Cert.InWeightIdeal.nD Cert.InWeightIdeal.τ).loc Cert.InWeightIdeal.main_arg8) = m ((c.tc : Thread Cert.InWeightIdeal.nD Cert.InWeightIdeal.τ).loc Cert.InWeightIdeal.main_arg8)
          ∧ r.2.mem ((c.tc : Thread Cert.InWeightIdeal.nD Cert.InWeightIdeal.τ).loc Cert.InWeightIdeal.main_arg9) = m ((c.tc : Thread Cert.InWeightIdeal.nD Cert.InWeightIdeal.τ).loc Cert.InWeightIdeal.main_arg9)
          ∧ r.2.mem ((c.tc : Thread Cert.InWeightIdeal.nD Cert.InWeightIdeal.τ).loc Cert.InWeightIdeal.main_arg10) = m ((c.tc : Thread Cert.InWeightIdeal.nD Cert.InWeightIdeal.τ).loc Cert.InWeightIdeal.main_arg10)
          ∧ r.2.mem ((c.tc : Thread Cert.InWeightIdeal.nD Cert.InWeightIdeal.τ).loc Cert.InWeightIdeal.main_arg11) = m ((c.tc : Thread Cert.InWeightIdeal.nD Cert.InWeightIdeal.τ).loc Cert.InWeightIdeal.main_arg11)
          ∧ r.2.mem ((c.tc : Thread Cert.InWeightIdeal.nD Cert.InWeightIdeal.τ).loc Cert.InWeightIdeal.main_arg12) = m ((c.tc : Thread Cert.InWeightIdeal.nD Cert.InWeightIdeal.τ).loc Cert.InWeightIdeal.main_arg12))
      ∧ θ_run (Cert.InWeightReferenceIdeal.defs (F := Ideal)) (onTc (τ := Cert.InWeightReferenceIdeal.τ) (Cert.InWeightReferenceIdeal.main (F := Ideal))) ⟨m', fun _ => 0, g'⟩ (fun r => ∀ c : Dev Cert.InWeightReferenceIdeal.nD,
          r.2.mem ((c.tc : Thread Cert.InWeightReferenceIdeal.nD Cert.InWeightReferenceIdeal.τ).loc Cert.InWeightReferenceIdeal.main_v20) = v0 c
          ∧ r.2.mem ((c.tc : Thread Cert.InWeightReferenceIdeal.nD Cert.InWeightReferenceIdeal.τ).loc Cert.InWeightReferenceIdeal.main_arg0) = m' ((c.tc : Thread Cert.InWeightReferenceIdeal.nD Cert.InWeightReferenceIdeal.τ).loc Cert.InWeightReferenceIdeal.main_arg0)
          ∧ r.2.mem ((c.tc : Thread Cert.InWeightReferenceIdeal.nD Cert.InWeightReferenceIdeal.τ).loc Cert.InWeightReferenceIdeal.main_arg1) = m' ((c.tc : Thread Cert.InWeightReferenceIdeal.nD Cert.InWeightReferenceIdeal.τ).loc Cert.InWeightReferenceIdeal.main_arg1)
          ∧ r.2.mem ((c.tc : Thread Cert.InWeightReferenceIdeal.nD Cert.InWeightReferenceIdeal.τ).loc Cert.InWeightReferenceIdeal.main_arg2) = m' ((c.tc : Thread Cert.InWeightReferenceIdeal.nD Cert.InWeightReferenceIdeal.τ).loc Cert.InWeightReferenceIdeal.main_arg2)
          ∧ r.2.mem ((c.tc : Thread Cert.InWeightReferenceIdeal.nD Cert.InWeightReferenceIdeal.τ).loc Cert.InWeightReferenceIdeal.main_arg3) = m' ((c.tc : Thread Cert.InWeightReferenceIdeal.nD Cert.InWeightReferenceIdeal.τ).loc Cert.InWeightReferenceIdeal.main_arg3)
          ∧ r.2.mem ((c.tc : Thread Cert.InWeightReferenceIdeal.nD Cert.InWeightReferenceIdeal.τ).loc Cert.InWeightReferenceIdeal.main_arg4) = m' ((c.tc : Thread Cert.InWeightReferenceIdeal.nD Cert.InWeightReferenceIdeal.τ).loc Cert.InWeightReferenceIdeal.main_arg4)
          ∧ r.2.mem ((c.tc : Thread Cert.InWeightReferenceIdeal.nD Cert.InWeightReferenceIdeal.τ).loc Cert.InWeightReferenceIdeal.main_arg5) = m' ((c.tc : Thread Cert.InWeightReferenceIdeal.nD Cert.InWeightReferenceIdeal.τ).loc Cert.InWeightReferenceIdeal.main_arg5)
          ∧ r.2.mem ((c.tc : Thread Cert.InWeightReferenceIdeal.nD Cert.InWeightReferenceIdeal.τ).loc Cert.InWeightReferenceIdeal.main_arg6) = m' ((c.tc : Thread Cert.InWeightReferenceIdeal.nD Cert.InWeightReferenceIdeal.τ).loc Cert.InWeightReferenceIdeal.main_arg6)
          ∧ r.2.mem ((c.tc : Thread Cert.InWeightReferenceIdeal.nD Cert.InWeightReferenceIdeal.τ).loc Cert.InWeightReferenceIdeal.main_arg7) = m' ((c.tc : Thread Cert.InWeightReferenceIdeal.nD Cert.InWeightReferenceIdeal.τ).loc Cert.InWeightReferenceIdeal.main_arg7)
          ∧ r.2.mem ((c.tc : Thread Cert.InWeightReferenceIdeal.nD Cert.InWeightReferenceIdeal.τ).loc Cert.InWeightReferenceIdeal.main_arg8) = m' ((c.tc : Thread Cert.InWeightReferenceIdeal.nD Cert.InWeightReferenceIdeal.τ).loc Cert.InWeightReferenceIdeal.main_arg8)
          ∧ r.2.mem ((c.tc : Thread Cert.InWeightReferenceIdeal.nD Cert.InWeightReferenceIdeal.τ).loc Cert.InWeightReferenceIdeal.main_arg9) = m' ((c.tc : Thread Cert.InWeightReferenceIdeal.nD Cert.InWeightReferenceIdeal.τ).loc Cert.InWeightReferenceIdeal.main_arg9)
          ∧ r.2.mem ((c.tc : Thread Cert.InWeightReferenceIdeal.nD Cert.InWeightReferenceIdeal.τ).loc Cert.InWeightReferenceIdeal.main_arg10) = m' ((c.tc : Thread Cert.InWeightReferenceIdeal.nD Cert.InWeightReferenceIdeal.τ).loc Cert.InWeightReferenceIdeal.main_arg10)
          ∧ r.2.mem ((c.tc : Thread Cert.InWeightReferenceIdeal.nD Cert.InWeightReferenceIdeal.τ).loc Cert.InWeightReferenceIdeal.main_arg11) = m' ((c.tc : Thread Cert.InWeightReferenceIdeal.nD Cert.InWeightReferenceIdeal.τ).loc Cert.InWeightReferenceIdeal.main_arg11)
          ∧ r.2.mem ((c.tc : Thread Cert.InWeightReferenceIdeal.nD Cert.InWeightReferenceIdeal.τ).loc Cert.InWeightReferenceIdeal.main_arg12) = m' ((c.tc : Thread Cert.InWeightReferenceIdeal.nD Cert.InWeightReferenceIdeal.τ).loc Cert.InWeightReferenceIdeal.main_arg12))

def preserves_HiddenGradient_HiddenGradientIdeal : Prop :=
  True

def algebraic_HiddenGradientIdeal_HiddenGradientReferenceIdeal [hHiddenGradientIdeal : Cert.HiddenGradientIdeal.Facts] [hHiddenGradientReferenceIdeal : Cert.HiddenGradientReferenceIdeal.Facts] : Prop :=
  ∀ (m : (ℓ : Loc Cert.HiddenGradientIdeal.nD Cert.HiddenGradientIdeal.τ Cert.HiddenGradientIdeal.sig) → Buf (Elt Ideal) ℓ) (g : Dev Cert.HiddenGradientIdeal.nD → PrngReg)
    (m' : (ℓ : Loc Cert.HiddenGradientReferenceIdeal.nD Cert.HiddenGradientReferenceIdeal.τ Cert.HiddenGradientReferenceIdeal.sig) → Buf (Elt Ideal) ℓ) (g' : Dev Cert.HiddenGradientReferenceIdeal.nD → PrngReg), Pre_HiddenGradientIdeal m →
    (∀ c : Dev Cert.HiddenGradientIdeal.nD,
      m' ((c.tc : Thread Cert.HiddenGradientReferenceIdeal.nD Cert.HiddenGradientReferenceIdeal.τ).loc Cert.HiddenGradientReferenceIdeal.main_arg0) = m ((c.tc : Thread Cert.HiddenGradientIdeal.nD Cert.HiddenGradientIdeal.τ).loc Cert.HiddenGradientIdeal.main_arg0)
      ∧ m' ((c.tc : Thread Cert.HiddenGradientReferenceIdeal.nD Cert.HiddenGradientReferenceIdeal.τ).loc Cert.HiddenGradientReferenceIdeal.main_arg1) = m ((c.tc : Thread Cert.HiddenGradientIdeal.nD Cert.HiddenGradientIdeal.τ).loc Cert.HiddenGradientIdeal.main_arg1)
      ∧ m' ((c.tc : Thread Cert.HiddenGradientReferenceIdeal.nD Cert.HiddenGradientReferenceIdeal.τ).loc Cert.HiddenGradientReferenceIdeal.main_arg2) = m ((c.tc : Thread Cert.HiddenGradientIdeal.nD Cert.HiddenGradientIdeal.τ).loc Cert.HiddenGradientIdeal.main_arg2)
      ∧ m' ((c.tc : Thread Cert.HiddenGradientReferenceIdeal.nD Cert.HiddenGradientReferenceIdeal.τ).loc Cert.HiddenGradientReferenceIdeal.main_arg3) = m ((c.tc : Thread Cert.HiddenGradientIdeal.nD Cert.HiddenGradientIdeal.τ).loc Cert.HiddenGradientIdeal.main_arg3)
      ∧ m' ((c.tc : Thread Cert.HiddenGradientReferenceIdeal.nD Cert.HiddenGradientReferenceIdeal.τ).loc Cert.HiddenGradientReferenceIdeal.main_arg4) = m ((c.tc : Thread Cert.HiddenGradientIdeal.nD Cert.HiddenGradientIdeal.τ).loc Cert.HiddenGradientIdeal.main_arg4)
      ∧ m' ((c.tc : Thread Cert.HiddenGradientReferenceIdeal.nD Cert.HiddenGradientReferenceIdeal.τ).loc Cert.HiddenGradientReferenceIdeal.main_arg5) = m ((c.tc : Thread Cert.HiddenGradientIdeal.nD Cert.HiddenGradientIdeal.τ).loc Cert.HiddenGradientIdeal.main_arg5)
      ∧ m' ((c.tc : Thread Cert.HiddenGradientReferenceIdeal.nD Cert.HiddenGradientReferenceIdeal.τ).loc Cert.HiddenGradientReferenceIdeal.main_arg6) = m ((c.tc : Thread Cert.HiddenGradientIdeal.nD Cert.HiddenGradientIdeal.τ).loc Cert.HiddenGradientIdeal.main_arg6)
      ∧ m' ((c.tc : Thread Cert.HiddenGradientReferenceIdeal.nD Cert.HiddenGradientReferenceIdeal.τ).loc Cert.HiddenGradientReferenceIdeal.main_arg7) = m ((c.tc : Thread Cert.HiddenGradientIdeal.nD Cert.HiddenGradientIdeal.τ).loc Cert.HiddenGradientIdeal.main_arg7)
      ∧ m' ((c.tc : Thread Cert.HiddenGradientReferenceIdeal.nD Cert.HiddenGradientReferenceIdeal.τ).loc Cert.HiddenGradientReferenceIdeal.main_arg8) = m ((c.tc : Thread Cert.HiddenGradientIdeal.nD Cert.HiddenGradientIdeal.τ).loc Cert.HiddenGradientIdeal.main_arg8)
      ∧ m' ((c.tc : Thread Cert.HiddenGradientReferenceIdeal.nD Cert.HiddenGradientReferenceIdeal.τ).loc Cert.HiddenGradientReferenceIdeal.main_arg9) = m ((c.tc : Thread Cert.HiddenGradientIdeal.nD Cert.HiddenGradientIdeal.τ).loc Cert.HiddenGradientIdeal.main_arg9)
      ∧ m' ((c.tc : Thread Cert.HiddenGradientReferenceIdeal.nD Cert.HiddenGradientReferenceIdeal.τ).loc Cert.HiddenGradientReferenceIdeal.main_arg10) = m ((c.tc : Thread Cert.HiddenGradientIdeal.nD Cert.HiddenGradientIdeal.τ).loc Cert.HiddenGradientIdeal.main_arg10)
      ∧ m' ((c.tc : Thread Cert.HiddenGradientReferenceIdeal.nD Cert.HiddenGradientReferenceIdeal.τ).loc Cert.HiddenGradientReferenceIdeal.main_arg11) = m ((c.tc : Thread Cert.HiddenGradientIdeal.nD Cert.HiddenGradientIdeal.τ).loc Cert.HiddenGradientIdeal.main_arg11)
      ∧ m' ((c.tc : Thread Cert.HiddenGradientReferenceIdeal.nD Cert.HiddenGradientReferenceIdeal.τ).loc Cert.HiddenGradientReferenceIdeal.main_arg12) = m ((c.tc : Thread Cert.HiddenGradientIdeal.nD Cert.HiddenGradientIdeal.τ).loc Cert.HiddenGradientIdeal.main_arg12)) →
    ∃ (v0 : (c : Dev Cert.HiddenGradientIdeal.nD) → Buf (Elt Ideal) ((c.tc : Thread Cert.HiddenGradientIdeal.nD Cert.HiddenGradientIdeal.τ).loc Cert.HiddenGradientIdeal.main_v37)),
      θ_run (Cert.HiddenGradientIdeal.defs (F := Ideal)) (onTc (τ := Cert.HiddenGradientIdeal.τ) (Cert.HiddenGradientIdeal.main (F := Ideal))) ⟨m, fun _ => 0, g⟩ (fun r => ∀ c : Dev Cert.HiddenGradientIdeal.nD,
          r.2.mem ((c.tc : Thread Cert.HiddenGradientIdeal.nD Cert.HiddenGradientIdeal.τ).loc Cert.HiddenGradientIdeal.main_v37) = v0 c
          ∧ r.2.mem ((c.tc : Thread Cert.HiddenGradientIdeal.nD Cert.HiddenGradientIdeal.τ).loc Cert.HiddenGradientIdeal.main_arg0) = m ((c.tc : Thread Cert.HiddenGradientIdeal.nD Cert.HiddenGradientIdeal.τ).loc Cert.HiddenGradientIdeal.main_arg0)
          ∧ r.2.mem ((c.tc : Thread Cert.HiddenGradientIdeal.nD Cert.HiddenGradientIdeal.τ).loc Cert.HiddenGradientIdeal.main_arg1) = m ((c.tc : Thread Cert.HiddenGradientIdeal.nD Cert.HiddenGradientIdeal.τ).loc Cert.HiddenGradientIdeal.main_arg1)
          ∧ r.2.mem ((c.tc : Thread Cert.HiddenGradientIdeal.nD Cert.HiddenGradientIdeal.τ).loc Cert.HiddenGradientIdeal.main_arg2) = m ((c.tc : Thread Cert.HiddenGradientIdeal.nD Cert.HiddenGradientIdeal.τ).loc Cert.HiddenGradientIdeal.main_arg2)
          ∧ r.2.mem ((c.tc : Thread Cert.HiddenGradientIdeal.nD Cert.HiddenGradientIdeal.τ).loc Cert.HiddenGradientIdeal.main_arg3) = m ((c.tc : Thread Cert.HiddenGradientIdeal.nD Cert.HiddenGradientIdeal.τ).loc Cert.HiddenGradientIdeal.main_arg3)
          ∧ r.2.mem ((c.tc : Thread Cert.HiddenGradientIdeal.nD Cert.HiddenGradientIdeal.τ).loc Cert.HiddenGradientIdeal.main_arg4) = m ((c.tc : Thread Cert.HiddenGradientIdeal.nD Cert.HiddenGradientIdeal.τ).loc Cert.HiddenGradientIdeal.main_arg4)
          ∧ r.2.mem ((c.tc : Thread Cert.HiddenGradientIdeal.nD Cert.HiddenGradientIdeal.τ).loc Cert.HiddenGradientIdeal.main_arg5) = m ((c.tc : Thread Cert.HiddenGradientIdeal.nD Cert.HiddenGradientIdeal.τ).loc Cert.HiddenGradientIdeal.main_arg5)
          ∧ r.2.mem ((c.tc : Thread Cert.HiddenGradientIdeal.nD Cert.HiddenGradientIdeal.τ).loc Cert.HiddenGradientIdeal.main_arg6) = m ((c.tc : Thread Cert.HiddenGradientIdeal.nD Cert.HiddenGradientIdeal.τ).loc Cert.HiddenGradientIdeal.main_arg6)
          ∧ r.2.mem ((c.tc : Thread Cert.HiddenGradientIdeal.nD Cert.HiddenGradientIdeal.τ).loc Cert.HiddenGradientIdeal.main_arg7) = m ((c.tc : Thread Cert.HiddenGradientIdeal.nD Cert.HiddenGradientIdeal.τ).loc Cert.HiddenGradientIdeal.main_arg7)
          ∧ r.2.mem ((c.tc : Thread Cert.HiddenGradientIdeal.nD Cert.HiddenGradientIdeal.τ).loc Cert.HiddenGradientIdeal.main_arg8) = m ((c.tc : Thread Cert.HiddenGradientIdeal.nD Cert.HiddenGradientIdeal.τ).loc Cert.HiddenGradientIdeal.main_arg8)
          ∧ r.2.mem ((c.tc : Thread Cert.HiddenGradientIdeal.nD Cert.HiddenGradientIdeal.τ).loc Cert.HiddenGradientIdeal.main_arg9) = m ((c.tc : Thread Cert.HiddenGradientIdeal.nD Cert.HiddenGradientIdeal.τ).loc Cert.HiddenGradientIdeal.main_arg9)
          ∧ r.2.mem ((c.tc : Thread Cert.HiddenGradientIdeal.nD Cert.HiddenGradientIdeal.τ).loc Cert.HiddenGradientIdeal.main_arg10) = m ((c.tc : Thread Cert.HiddenGradientIdeal.nD Cert.HiddenGradientIdeal.τ).loc Cert.HiddenGradientIdeal.main_arg10)
          ∧ r.2.mem ((c.tc : Thread Cert.HiddenGradientIdeal.nD Cert.HiddenGradientIdeal.τ).loc Cert.HiddenGradientIdeal.main_arg11) = m ((c.tc : Thread Cert.HiddenGradientIdeal.nD Cert.HiddenGradientIdeal.τ).loc Cert.HiddenGradientIdeal.main_arg11)
          ∧ r.2.mem ((c.tc : Thread Cert.HiddenGradientIdeal.nD Cert.HiddenGradientIdeal.τ).loc Cert.HiddenGradientIdeal.main_arg12) = m ((c.tc : Thread Cert.HiddenGradientIdeal.nD Cert.HiddenGradientIdeal.τ).loc Cert.HiddenGradientIdeal.main_arg12))
      ∧ θ_run (Cert.HiddenGradientReferenceIdeal.defs (F := Ideal)) (onTc (τ := Cert.HiddenGradientReferenceIdeal.τ) (Cert.HiddenGradientReferenceIdeal.main (F := Ideal))) ⟨m', fun _ => 0, g'⟩ (fun r => ∀ c : Dev Cert.HiddenGradientReferenceIdeal.nD,
          r.2.mem ((c.tc : Thread Cert.HiddenGradientReferenceIdeal.nD Cert.HiddenGradientReferenceIdeal.τ).loc Cert.HiddenGradientReferenceIdeal.main_v15) = v0 c
          ∧ r.2.mem ((c.tc : Thread Cert.HiddenGradientReferenceIdeal.nD Cert.HiddenGradientReferenceIdeal.τ).loc Cert.HiddenGradientReferenceIdeal.main_arg0) = m' ((c.tc : Thread Cert.HiddenGradientReferenceIdeal.nD Cert.HiddenGradientReferenceIdeal.τ).loc Cert.HiddenGradientReferenceIdeal.main_arg0)
          ∧ r.2.mem ((c.tc : Thread Cert.HiddenGradientReferenceIdeal.nD Cert.HiddenGradientReferenceIdeal.τ).loc Cert.HiddenGradientReferenceIdeal.main_arg1) = m' ((c.tc : Thread Cert.HiddenGradientReferenceIdeal.nD Cert.HiddenGradientReferenceIdeal.τ).loc Cert.HiddenGradientReferenceIdeal.main_arg1)
          ∧ r.2.mem ((c.tc : Thread Cert.HiddenGradientReferenceIdeal.nD Cert.HiddenGradientReferenceIdeal.τ).loc Cert.HiddenGradientReferenceIdeal.main_arg2) = m' ((c.tc : Thread Cert.HiddenGradientReferenceIdeal.nD Cert.HiddenGradientReferenceIdeal.τ).loc Cert.HiddenGradientReferenceIdeal.main_arg2)
          ∧ r.2.mem ((c.tc : Thread Cert.HiddenGradientReferenceIdeal.nD Cert.HiddenGradientReferenceIdeal.τ).loc Cert.HiddenGradientReferenceIdeal.main_arg3) = m' ((c.tc : Thread Cert.HiddenGradientReferenceIdeal.nD Cert.HiddenGradientReferenceIdeal.τ).loc Cert.HiddenGradientReferenceIdeal.main_arg3)
          ∧ r.2.mem ((c.tc : Thread Cert.HiddenGradientReferenceIdeal.nD Cert.HiddenGradientReferenceIdeal.τ).loc Cert.HiddenGradientReferenceIdeal.main_arg4) = m' ((c.tc : Thread Cert.HiddenGradientReferenceIdeal.nD Cert.HiddenGradientReferenceIdeal.τ).loc Cert.HiddenGradientReferenceIdeal.main_arg4)
          ∧ r.2.mem ((c.tc : Thread Cert.HiddenGradientReferenceIdeal.nD Cert.HiddenGradientReferenceIdeal.τ).loc Cert.HiddenGradientReferenceIdeal.main_arg5) = m' ((c.tc : Thread Cert.HiddenGradientReferenceIdeal.nD Cert.HiddenGradientReferenceIdeal.τ).loc Cert.HiddenGradientReferenceIdeal.main_arg5)
          ∧ r.2.mem ((c.tc : Thread Cert.HiddenGradientReferenceIdeal.nD Cert.HiddenGradientReferenceIdeal.τ).loc Cert.HiddenGradientReferenceIdeal.main_arg6) = m' ((c.tc : Thread Cert.HiddenGradientReferenceIdeal.nD Cert.HiddenGradientReferenceIdeal.τ).loc Cert.HiddenGradientReferenceIdeal.main_arg6)
          ∧ r.2.mem ((c.tc : Thread Cert.HiddenGradientReferenceIdeal.nD Cert.HiddenGradientReferenceIdeal.τ).loc Cert.HiddenGradientReferenceIdeal.main_arg7) = m' ((c.tc : Thread Cert.HiddenGradientReferenceIdeal.nD Cert.HiddenGradientReferenceIdeal.τ).loc Cert.HiddenGradientReferenceIdeal.main_arg7)
          ∧ r.2.mem ((c.tc : Thread Cert.HiddenGradientReferenceIdeal.nD Cert.HiddenGradientReferenceIdeal.τ).loc Cert.HiddenGradientReferenceIdeal.main_arg8) = m' ((c.tc : Thread Cert.HiddenGradientReferenceIdeal.nD Cert.HiddenGradientReferenceIdeal.τ).loc Cert.HiddenGradientReferenceIdeal.main_arg8)
          ∧ r.2.mem ((c.tc : Thread Cert.HiddenGradientReferenceIdeal.nD Cert.HiddenGradientReferenceIdeal.τ).loc Cert.HiddenGradientReferenceIdeal.main_arg9) = m' ((c.tc : Thread Cert.HiddenGradientReferenceIdeal.nD Cert.HiddenGradientReferenceIdeal.τ).loc Cert.HiddenGradientReferenceIdeal.main_arg9)
          ∧ r.2.mem ((c.tc : Thread Cert.HiddenGradientReferenceIdeal.nD Cert.HiddenGradientReferenceIdeal.τ).loc Cert.HiddenGradientReferenceIdeal.main_arg10) = m' ((c.tc : Thread Cert.HiddenGradientReferenceIdeal.nD Cert.HiddenGradientReferenceIdeal.τ).loc Cert.HiddenGradientReferenceIdeal.main_arg10)
          ∧ r.2.mem ((c.tc : Thread Cert.HiddenGradientReferenceIdeal.nD Cert.HiddenGradientReferenceIdeal.τ).loc Cert.HiddenGradientReferenceIdeal.main_arg11) = m' ((c.tc : Thread Cert.HiddenGradientReferenceIdeal.nD Cert.HiddenGradientReferenceIdeal.τ).loc Cert.HiddenGradientReferenceIdeal.main_arg11)
          ∧ r.2.mem ((c.tc : Thread Cert.HiddenGradientReferenceIdeal.nD Cert.HiddenGradientReferenceIdeal.τ).loc Cert.HiddenGradientReferenceIdeal.main_arg12) = m' ((c.tc : Thread Cert.HiddenGradientReferenceIdeal.nD Cert.HiddenGradientReferenceIdeal.τ).loc Cert.HiddenGradientReferenceIdeal.main_arg12))

def preserves_MemoryKeys_MemoryKeysIdeal : Prop :=
  True

def algebraic_MemoryKeysIdeal_MemoryKeysReferenceIdeal [hMemoryKeysIdeal : Cert.MemoryKeysIdeal.Facts] [hMemoryKeysReferenceIdeal : Cert.MemoryKeysReferenceIdeal.Facts] : Prop :=
  ∀ (m : (ℓ : Loc Cert.MemoryKeysIdeal.nD Cert.MemoryKeysIdeal.τ Cert.MemoryKeysIdeal.sig) → Buf (Elt Ideal) ℓ) (g : Dev Cert.MemoryKeysIdeal.nD → PrngReg)
    (m' : (ℓ : Loc Cert.MemoryKeysReferenceIdeal.nD Cert.MemoryKeysReferenceIdeal.τ Cert.MemoryKeysReferenceIdeal.sig) → Buf (Elt Ideal) ℓ) (g' : Dev Cert.MemoryKeysReferenceIdeal.nD → PrngReg), Pre_MemoryKeysIdeal m →
    (∀ c : Dev Cert.MemoryKeysIdeal.nD,
      m' ((c.tc : Thread Cert.MemoryKeysReferenceIdeal.nD Cert.MemoryKeysReferenceIdeal.τ).loc Cert.MemoryKeysReferenceIdeal.main_arg0) = m ((c.tc : Thread Cert.MemoryKeysIdeal.nD Cert.MemoryKeysIdeal.τ).loc Cert.MemoryKeysIdeal.main_arg0)
      ∧ m' ((c.tc : Thread Cert.MemoryKeysReferenceIdeal.nD Cert.MemoryKeysReferenceIdeal.τ).loc Cert.MemoryKeysReferenceIdeal.main_arg1) = m ((c.tc : Thread Cert.MemoryKeysIdeal.nD Cert.MemoryKeysIdeal.τ).loc Cert.MemoryKeysIdeal.main_arg1)) →
    ∃ (v0 : (c : Dev Cert.MemoryKeysIdeal.nD) → Buf (Elt Ideal) ((c.tc : Thread Cert.MemoryKeysIdeal.nD Cert.MemoryKeysIdeal.τ).loc Cert.MemoryKeysIdeal.main_v1)),
      θ_run (Cert.MemoryKeysIdeal.defs (F := Ideal)) (onTc (τ := Cert.MemoryKeysIdeal.τ) (Cert.MemoryKeysIdeal.main (F := Ideal))) ⟨m, fun _ => 0, g⟩ (fun r => ∀ c : Dev Cert.MemoryKeysIdeal.nD,
          r.2.mem ((c.tc : Thread Cert.MemoryKeysIdeal.nD Cert.MemoryKeysIdeal.τ).loc Cert.MemoryKeysIdeal.main_v1) = v0 c
          ∧ r.2.mem ((c.tc : Thread Cert.MemoryKeysIdeal.nD Cert.MemoryKeysIdeal.τ).loc Cert.MemoryKeysIdeal.main_arg0) = m ((c.tc : Thread Cert.MemoryKeysIdeal.nD Cert.MemoryKeysIdeal.τ).loc Cert.MemoryKeysIdeal.main_arg0)
          ∧ r.2.mem ((c.tc : Thread Cert.MemoryKeysIdeal.nD Cert.MemoryKeysIdeal.τ).loc Cert.MemoryKeysIdeal.main_arg1) = m ((c.tc : Thread Cert.MemoryKeysIdeal.nD Cert.MemoryKeysIdeal.τ).loc Cert.MemoryKeysIdeal.main_arg1))
      ∧ θ_run (Cert.MemoryKeysReferenceIdeal.defs (F := Ideal)) (onTc (τ := Cert.MemoryKeysReferenceIdeal.τ) (Cert.MemoryKeysReferenceIdeal.main (F := Ideal))) ⟨m', fun _ => 0, g'⟩ (fun r => ∀ c : Dev Cert.MemoryKeysReferenceIdeal.nD,
          r.2.mem ((c.tc : Thread Cert.MemoryKeysReferenceIdeal.nD Cert.MemoryKeysReferenceIdeal.τ).loc Cert.MemoryKeysReferenceIdeal.main_v1) = v0 c
          ∧ r.2.mem ((c.tc : Thread Cert.MemoryKeysReferenceIdeal.nD Cert.MemoryKeysReferenceIdeal.τ).loc Cert.MemoryKeysReferenceIdeal.main_arg0) = m' ((c.tc : Thread Cert.MemoryKeysReferenceIdeal.nD Cert.MemoryKeysReferenceIdeal.τ).loc Cert.MemoryKeysReferenceIdeal.main_arg0)
          ∧ r.2.mem ((c.tc : Thread Cert.MemoryKeysReferenceIdeal.nD Cert.MemoryKeysReferenceIdeal.τ).loc Cert.MemoryKeysReferenceIdeal.main_arg1) = m' ((c.tc : Thread Cert.MemoryKeysReferenceIdeal.nD Cert.MemoryKeysReferenceIdeal.τ).loc Cert.MemoryKeysReferenceIdeal.main_arg1))

def preserves_MemoryWeight_MemoryWeightIdeal : Prop :=
  True

def algebraic_MemoryWeightIdeal_MemoryWeightReferenceIdeal [hMemoryWeightIdeal : Cert.MemoryWeightIdeal.Facts] [hMemoryWeightReferenceIdeal : Cert.MemoryWeightReferenceIdeal.Facts] : Prop :=
  ∀ (m : (ℓ : Loc Cert.MemoryWeightIdeal.nD Cert.MemoryWeightIdeal.τ Cert.MemoryWeightIdeal.sig) → Buf (Elt Ideal) ℓ) (g : Dev Cert.MemoryWeightIdeal.nD → PrngReg)
    (m' : (ℓ : Loc Cert.MemoryWeightReferenceIdeal.nD Cert.MemoryWeightReferenceIdeal.τ Cert.MemoryWeightReferenceIdeal.sig) → Buf (Elt Ideal) ℓ) (g' : Dev Cert.MemoryWeightReferenceIdeal.nD → PrngReg), Pre_MemoryWeightIdeal m →
    (∀ c : Dev Cert.MemoryWeightIdeal.nD,
      m' ((c.tc : Thread Cert.MemoryWeightReferenceIdeal.nD Cert.MemoryWeightReferenceIdeal.τ).loc Cert.MemoryWeightReferenceIdeal.main_arg0) = m ((c.tc : Thread Cert.MemoryWeightIdeal.nD Cert.MemoryWeightIdeal.τ).loc Cert.MemoryWeightIdeal.main_arg0)
      ∧ m' ((c.tc : Thread Cert.MemoryWeightReferenceIdeal.nD Cert.MemoryWeightReferenceIdeal.τ).loc Cert.MemoryWeightReferenceIdeal.main_arg1) = m ((c.tc : Thread Cert.MemoryWeightIdeal.nD Cert.MemoryWeightIdeal.τ).loc Cert.MemoryWeightIdeal.main_arg1)
      ∧ m' ((c.tc : Thread Cert.MemoryWeightReferenceIdeal.nD Cert.MemoryWeightReferenceIdeal.τ).loc Cert.MemoryWeightReferenceIdeal.main_arg2) = m ((c.tc : Thread Cert.MemoryWeightIdeal.nD Cert.MemoryWeightIdeal.τ).loc Cert.MemoryWeightIdeal.main_arg2)) →
    ∃ (v0 : (c : Dev Cert.MemoryWeightIdeal.nD) → Buf (Elt Ideal) ((c.tc : Thread Cert.MemoryWeightIdeal.nD Cert.MemoryWeightIdeal.τ).loc Cert.MemoryWeightIdeal.main_v2)),
      θ_run (Cert.MemoryWeightIdeal.defs (F := Ideal)) (onTc (τ := Cert.MemoryWeightIdeal.τ) (Cert.MemoryWeightIdeal.main (F := Ideal))) ⟨m, fun _ => 0, g⟩ (fun r => ∀ c : Dev Cert.MemoryWeightIdeal.nD,
          r.2.mem ((c.tc : Thread Cert.MemoryWeightIdeal.nD Cert.MemoryWeightIdeal.τ).loc Cert.MemoryWeightIdeal.main_v2) = v0 c
          ∧ r.2.mem ((c.tc : Thread Cert.MemoryWeightIdeal.nD Cert.MemoryWeightIdeal.τ).loc Cert.MemoryWeightIdeal.main_arg0) = m ((c.tc : Thread Cert.MemoryWeightIdeal.nD Cert.MemoryWeightIdeal.τ).loc Cert.MemoryWeightIdeal.main_arg0)
          ∧ r.2.mem ((c.tc : Thread Cert.MemoryWeightIdeal.nD Cert.MemoryWeightIdeal.τ).loc Cert.MemoryWeightIdeal.main_arg1) = m ((c.tc : Thread Cert.MemoryWeightIdeal.nD Cert.MemoryWeightIdeal.τ).loc Cert.MemoryWeightIdeal.main_arg1)
          ∧ r.2.mem ((c.tc : Thread Cert.MemoryWeightIdeal.nD Cert.MemoryWeightIdeal.τ).loc Cert.MemoryWeightIdeal.main_arg2) = m ((c.tc : Thread Cert.MemoryWeightIdeal.nD Cert.MemoryWeightIdeal.τ).loc Cert.MemoryWeightIdeal.main_arg2))
      ∧ θ_run (Cert.MemoryWeightReferenceIdeal.defs (F := Ideal)) (onTc (τ := Cert.MemoryWeightReferenceIdeal.τ) (Cert.MemoryWeightReferenceIdeal.main (F := Ideal))) ⟨m', fun _ => 0, g'⟩ (fun r => ∀ c : Dev Cert.MemoryWeightReferenceIdeal.nD,
          r.2.mem ((c.tc : Thread Cert.MemoryWeightReferenceIdeal.nD Cert.MemoryWeightReferenceIdeal.τ).loc Cert.MemoryWeightReferenceIdeal.main_v8) = v0 c
          ∧ r.2.mem ((c.tc : Thread Cert.MemoryWeightReferenceIdeal.nD Cert.MemoryWeightReferenceIdeal.τ).loc Cert.MemoryWeightReferenceIdeal.main_arg0) = m' ((c.tc : Thread Cert.MemoryWeightReferenceIdeal.nD Cert.MemoryWeightReferenceIdeal.τ).loc Cert.MemoryWeightReferenceIdeal.main_arg0)
          ∧ r.2.mem ((c.tc : Thread Cert.MemoryWeightReferenceIdeal.nD Cert.MemoryWeightReferenceIdeal.τ).loc Cert.MemoryWeightReferenceIdeal.main_arg1) = m' ((c.tc : Thread Cert.MemoryWeightReferenceIdeal.nD Cert.MemoryWeightReferenceIdeal.τ).loc Cert.MemoryWeightReferenceIdeal.main_arg1)
          ∧ r.2.mem ((c.tc : Thread Cert.MemoryWeightReferenceIdeal.nD Cert.MemoryWeightReferenceIdeal.τ).loc Cert.MemoryWeightReferenceIdeal.main_arg2) = m' ((c.tc : Thread Cert.MemoryWeightReferenceIdeal.nD Cert.MemoryWeightReferenceIdeal.τ).loc Cert.MemoryWeightReferenceIdeal.main_arg2))

def preserves_MemoryGradient_MemoryGradientIdeal : Prop :=
  True

def algebraic_MemoryGradientIdeal_MemoryGradientReferenceIdeal [hMemoryGradientIdeal : Cert.MemoryGradientIdeal.Facts] [hMemoryGradientReferenceIdeal : Cert.MemoryGradientReferenceIdeal.Facts] : Prop :=
  ∀ (m : (ℓ : Loc Cert.MemoryGradientIdeal.nD Cert.MemoryGradientIdeal.τ Cert.MemoryGradientIdeal.sig) → Buf (Elt Ideal) ℓ) (g : Dev Cert.MemoryGradientIdeal.nD → PrngReg)
    (m' : (ℓ : Loc Cert.MemoryGradientReferenceIdeal.nD Cert.MemoryGradientReferenceIdeal.τ Cert.MemoryGradientReferenceIdeal.sig) → Buf (Elt Ideal) ℓ) (g' : Dev Cert.MemoryGradientReferenceIdeal.nD → PrngReg), Pre_MemoryGradientIdeal m →
    (∀ c : Dev Cert.MemoryGradientIdeal.nD,
      m' ((c.tc : Thread Cert.MemoryGradientReferenceIdeal.nD Cert.MemoryGradientReferenceIdeal.τ).loc Cert.MemoryGradientReferenceIdeal.main_arg0) = m ((c.tc : Thread Cert.MemoryGradientIdeal.nD Cert.MemoryGradientIdeal.τ).loc Cert.MemoryGradientIdeal.main_arg0)
      ∧ m' ((c.tc : Thread Cert.MemoryGradientReferenceIdeal.nD Cert.MemoryGradientReferenceIdeal.τ).loc Cert.MemoryGradientReferenceIdeal.main_arg1) = m ((c.tc : Thread Cert.MemoryGradientIdeal.nD Cert.MemoryGradientIdeal.τ).loc Cert.MemoryGradientIdeal.main_arg1)
      ∧ m' ((c.tc : Thread Cert.MemoryGradientReferenceIdeal.nD Cert.MemoryGradientReferenceIdeal.τ).loc Cert.MemoryGradientReferenceIdeal.main_arg2) = m ((c.tc : Thread Cert.MemoryGradientIdeal.nD Cert.MemoryGradientIdeal.τ).loc Cert.MemoryGradientIdeal.main_arg2)) →
    ∃ (v0 : (c : Dev Cert.MemoryGradientIdeal.nD) → Buf (Elt Ideal) ((c.tc : Thread Cert.MemoryGradientIdeal.nD Cert.MemoryGradientIdeal.τ).loc Cert.MemoryGradientIdeal.main_v3)),
      θ_run (Cert.MemoryGradientIdeal.defs (F := Ideal)) (onTc (τ := Cert.MemoryGradientIdeal.τ) (Cert.MemoryGradientIdeal.main (F := Ideal))) ⟨m, fun _ => 0, g⟩ (fun r => ∀ c : Dev Cert.MemoryGradientIdeal.nD,
          r.2.mem ((c.tc : Thread Cert.MemoryGradientIdeal.nD Cert.MemoryGradientIdeal.τ).loc Cert.MemoryGradientIdeal.main_v3) = v0 c
          ∧ r.2.mem ((c.tc : Thread Cert.MemoryGradientIdeal.nD Cert.MemoryGradientIdeal.τ).loc Cert.MemoryGradientIdeal.main_arg0) = m ((c.tc : Thread Cert.MemoryGradientIdeal.nD Cert.MemoryGradientIdeal.τ).loc Cert.MemoryGradientIdeal.main_arg0)
          ∧ r.2.mem ((c.tc : Thread Cert.MemoryGradientIdeal.nD Cert.MemoryGradientIdeal.τ).loc Cert.MemoryGradientIdeal.main_arg1) = m ((c.tc : Thread Cert.MemoryGradientIdeal.nD Cert.MemoryGradientIdeal.τ).loc Cert.MemoryGradientIdeal.main_arg1)
          ∧ r.2.mem ((c.tc : Thread Cert.MemoryGradientIdeal.nD Cert.MemoryGradientIdeal.τ).loc Cert.MemoryGradientIdeal.main_arg2) = m ((c.tc : Thread Cert.MemoryGradientIdeal.nD Cert.MemoryGradientIdeal.τ).loc Cert.MemoryGradientIdeal.main_arg2))
      ∧ θ_run (Cert.MemoryGradientReferenceIdeal.defs (F := Ideal)) (onTc (τ := Cert.MemoryGradientReferenceIdeal.τ) (Cert.MemoryGradientReferenceIdeal.main (F := Ideal))) ⟨m', fun _ => 0, g'⟩ (fun r => ∀ c : Dev Cert.MemoryGradientReferenceIdeal.nD,
          r.2.mem ((c.tc : Thread Cert.MemoryGradientReferenceIdeal.nD Cert.MemoryGradientReferenceIdeal.τ).loc Cert.MemoryGradientReferenceIdeal.main_v5) = v0 c
          ∧ r.2.mem ((c.tc : Thread Cert.MemoryGradientReferenceIdeal.nD Cert.MemoryGradientReferenceIdeal.τ).loc Cert.MemoryGradientReferenceIdeal.main_arg0) = m' ((c.tc : Thread Cert.MemoryGradientReferenceIdeal.nD Cert.MemoryGradientReferenceIdeal.τ).loc Cert.MemoryGradientReferenceIdeal.main_arg0)
          ∧ r.2.mem ((c.tc : Thread Cert.MemoryGradientReferenceIdeal.nD Cert.MemoryGradientReferenceIdeal.τ).loc Cert.MemoryGradientReferenceIdeal.main_arg1) = m' ((c.tc : Thread Cert.MemoryGradientReferenceIdeal.nD Cert.MemoryGradientReferenceIdeal.τ).loc Cert.MemoryGradientReferenceIdeal.main_arg1)
          ∧ r.2.mem ((c.tc : Thread Cert.MemoryGradientReferenceIdeal.nD Cert.MemoryGradientReferenceIdeal.τ).loc Cert.MemoryGradientReferenceIdeal.main_arg2) = m' ((c.tc : Thread Cert.MemoryGradientReferenceIdeal.nD Cert.MemoryGradientReferenceIdeal.τ).loc Cert.MemoryGradientReferenceIdeal.main_arg2))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v1) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1))

def preserves_GluWeight_GluWeightIdeal : Prop :=
  True

def algebraic_GluWeightIdeal_GluWeightReferenceIdeal [hGluWeightIdeal : Cert.GluWeightIdeal.Facts] [hGluWeightReferenceIdeal : Cert.GluWeightReferenceIdeal.Facts] : Prop :=
  ∀ (m : (ℓ : Loc Cert.GluWeightIdeal.nD Cert.GluWeightIdeal.τ Cert.GluWeightIdeal.sig) → Buf (Elt Ideal) ℓ) (g : Dev Cert.GluWeightIdeal.nD → PrngReg)
    (m' : (ℓ : Loc Cert.GluWeightReferenceIdeal.nD Cert.GluWeightReferenceIdeal.τ Cert.GluWeightReferenceIdeal.sig) → Buf (Elt Ideal) ℓ) (g' : Dev Cert.GluWeightReferenceIdeal.nD → PrngReg), Pre_GluWeightIdeal m →
    (∀ c : Dev Cert.GluWeightIdeal.nD,
      m' ((c.tc : Thread Cert.GluWeightReferenceIdeal.nD Cert.GluWeightReferenceIdeal.τ).loc Cert.GluWeightReferenceIdeal.main_arg0) = m ((c.tc : Thread Cert.GluWeightIdeal.nD Cert.GluWeightIdeal.τ).loc Cert.GluWeightIdeal.main_arg0)
      ∧ m' ((c.tc : Thread Cert.GluWeightReferenceIdeal.nD Cert.GluWeightReferenceIdeal.τ).loc Cert.GluWeightReferenceIdeal.main_arg1) = m ((c.tc : Thread Cert.GluWeightIdeal.nD Cert.GluWeightIdeal.τ).loc Cert.GluWeightIdeal.main_arg1)) →
    ∃ (v0 : (c : Dev Cert.GluWeightIdeal.nD) → Buf (Elt Ideal) ((c.tc : Thread Cert.GluWeightIdeal.nD Cert.GluWeightIdeal.τ).loc Cert.GluWeightIdeal.main_v0)),
      θ_run (Cert.GluWeightIdeal.defs (F := Ideal)) (onTc (τ := Cert.GluWeightIdeal.τ) (Cert.GluWeightIdeal.main (F := Ideal))) ⟨m, fun _ => 0, g⟩ (fun r => ∀ c : Dev Cert.GluWeightIdeal.nD,
          r.2.mem ((c.tc : Thread Cert.GluWeightIdeal.nD Cert.GluWeightIdeal.τ).loc Cert.GluWeightIdeal.main_v0) = v0 c
          ∧ r.2.mem ((c.tc : Thread Cert.GluWeightIdeal.nD Cert.GluWeightIdeal.τ).loc Cert.GluWeightIdeal.main_arg0) = m ((c.tc : Thread Cert.GluWeightIdeal.nD Cert.GluWeightIdeal.τ).loc Cert.GluWeightIdeal.main_arg0)
          ∧ r.2.mem ((c.tc : Thread Cert.GluWeightIdeal.nD Cert.GluWeightIdeal.τ).loc Cert.GluWeightIdeal.main_arg1) = m ((c.tc : Thread Cert.GluWeightIdeal.nD Cert.GluWeightIdeal.τ).loc Cert.GluWeightIdeal.main_arg1))
      ∧ θ_run (Cert.GluWeightReferenceIdeal.defs (F := Ideal)) (onTc (τ := Cert.GluWeightReferenceIdeal.τ) (Cert.GluWeightReferenceIdeal.main (F := Ideal))) ⟨m', fun _ => 0, g'⟩ (fun r => ∀ c : Dev Cert.GluWeightReferenceIdeal.nD,
          r.2.mem ((c.tc : Thread Cert.GluWeightReferenceIdeal.nD Cert.GluWeightReferenceIdeal.τ).loc Cert.GluWeightReferenceIdeal.main_v6) = v0 c
          ∧ r.2.mem ((c.tc : Thread Cert.GluWeightReferenceIdeal.nD Cert.GluWeightReferenceIdeal.τ).loc Cert.GluWeightReferenceIdeal.main_arg0) = m' ((c.tc : Thread Cert.GluWeightReferenceIdeal.nD Cert.GluWeightReferenceIdeal.τ).loc Cert.GluWeightReferenceIdeal.main_arg0)
          ∧ r.2.mem ((c.tc : Thread Cert.GluWeightReferenceIdeal.nD Cert.GluWeightReferenceIdeal.τ).loc Cert.GluWeightReferenceIdeal.main_arg1) = m' ((c.tc : Thread Cert.GluWeightReferenceIdeal.nD Cert.GluWeightReferenceIdeal.τ).loc Cert.GluWeightReferenceIdeal.main_arg1))

def preserves_GluInput_GluInputIdeal : Prop :=
  True

def algebraic_GluInputIdeal_GluInputReferenceIdeal [hGluInputIdeal : Cert.GluInputIdeal.Facts] [hGluInputReferenceIdeal : Cert.GluInputReferenceIdeal.Facts] : Prop :=
  ∀ (m : (ℓ : Loc Cert.GluInputIdeal.nD Cert.GluInputIdeal.τ Cert.GluInputIdeal.sig) → Buf (Elt Ideal) ℓ) (g : Dev Cert.GluInputIdeal.nD → PrngReg)
    (m' : (ℓ : Loc Cert.GluInputReferenceIdeal.nD Cert.GluInputReferenceIdeal.τ Cert.GluInputReferenceIdeal.sig) → Buf (Elt Ideal) ℓ) (g' : Dev Cert.GluInputReferenceIdeal.nD → PrngReg), Pre_GluInputIdeal m →
    (∀ c : Dev Cert.GluInputIdeal.nD,
      m' ((c.tc : Thread Cert.GluInputReferenceIdeal.nD Cert.GluInputReferenceIdeal.τ).loc Cert.GluInputReferenceIdeal.main_arg0) = m ((c.tc : Thread Cert.GluInputIdeal.nD Cert.GluInputIdeal.τ).loc Cert.GluInputIdeal.main_arg0)
      ∧ m' ((c.tc : Thread Cert.GluInputReferenceIdeal.nD Cert.GluInputReferenceIdeal.τ).loc Cert.GluInputReferenceIdeal.main_arg1) = m ((c.tc : Thread Cert.GluInputIdeal.nD Cert.GluInputIdeal.τ).loc Cert.GluInputIdeal.main_arg1)) →
    ∃ (v0 : (c : Dev Cert.GluInputIdeal.nD) → Buf (Elt Ideal) ((c.tc : Thread Cert.GluInputIdeal.nD Cert.GluInputIdeal.τ).loc Cert.GluInputIdeal.main_v1)),
      θ_run (Cert.GluInputIdeal.defs (F := Ideal)) (onTc (τ := Cert.GluInputIdeal.τ) (Cert.GluInputIdeal.main (F := Ideal))) ⟨m, fun _ => 0, g⟩ (fun r => ∀ c : Dev Cert.GluInputIdeal.nD,
          r.2.mem ((c.tc : Thread Cert.GluInputIdeal.nD Cert.GluInputIdeal.τ).loc Cert.GluInputIdeal.main_v1) = v0 c
          ∧ r.2.mem ((c.tc : Thread Cert.GluInputIdeal.nD Cert.GluInputIdeal.τ).loc Cert.GluInputIdeal.main_arg0) = m ((c.tc : Thread Cert.GluInputIdeal.nD Cert.GluInputIdeal.τ).loc Cert.GluInputIdeal.main_arg0)
          ∧ r.2.mem ((c.tc : Thread Cert.GluInputIdeal.nD Cert.GluInputIdeal.τ).loc Cert.GluInputIdeal.main_arg1) = m ((c.tc : Thread Cert.GluInputIdeal.nD Cert.GluInputIdeal.τ).loc Cert.GluInputIdeal.main_arg1))
      ∧ θ_run (Cert.GluInputReferenceIdeal.defs (F := Ideal)) (onTc (τ := Cert.GluInputReferenceIdeal.τ) (Cert.GluInputReferenceIdeal.main (F := Ideal))) ⟨m', fun _ => 0, g'⟩ (fun r => ∀ c : Dev Cert.GluInputReferenceIdeal.nD,
          r.2.mem ((c.tc : Thread Cert.GluInputReferenceIdeal.nD Cert.GluInputReferenceIdeal.τ).loc Cert.GluInputReferenceIdeal.main_v3) = v0 c
          ∧ r.2.mem ((c.tc : Thread Cert.GluInputReferenceIdeal.nD Cert.GluInputReferenceIdeal.τ).loc Cert.GluInputReferenceIdeal.main_arg0) = m' ((c.tc : Thread Cert.GluInputReferenceIdeal.nD Cert.GluInputReferenceIdeal.τ).loc Cert.GluInputReferenceIdeal.main_arg0)
          ∧ r.2.mem ((c.tc : Thread Cert.GluInputReferenceIdeal.nD Cert.GluInputReferenceIdeal.τ).loc Cert.GluInputReferenceIdeal.main_arg1) = m' ((c.tc : Thread Cert.GluInputReferenceIdeal.nD Cert.GluInputReferenceIdeal.τ).loc Cert.GluInputReferenceIdeal.main_arg1))

def preserves_GluGate_GluGateIdeal : Prop :=
  True

def algebraic_GluGateIdeal_GluGateReferenceIdeal [hGluGateIdeal : Cert.GluGateIdeal.Facts] [hGluGateReferenceIdeal : Cert.GluGateReferenceIdeal.Facts] : Prop :=
  ∀ (m : (ℓ : Loc Cert.GluGateIdeal.nD Cert.GluGateIdeal.τ Cert.GluGateIdeal.sig) → Buf (Elt Ideal) ℓ) (g : Dev Cert.GluGateIdeal.nD → PrngReg)
    (m' : (ℓ : Loc Cert.GluGateReferenceIdeal.nD Cert.GluGateReferenceIdeal.τ Cert.GluGateReferenceIdeal.sig) → Buf (Elt Ideal) ℓ) (g' : Dev Cert.GluGateReferenceIdeal.nD → PrngReg), Pre_GluGateIdeal m →
    (∀ c : Dev Cert.GluGateIdeal.nD,
      m' ((c.tc : Thread Cert.GluGateReferenceIdeal.nD Cert.GluGateReferenceIdeal.τ).loc Cert.GluGateReferenceIdeal.main_arg0) = m ((c.tc : Thread Cert.GluGateIdeal.nD Cert.GluGateIdeal.τ).loc Cert.GluGateIdeal.main_arg0)
      ∧ m' ((c.tc : Thread Cert.GluGateReferenceIdeal.nD Cert.GluGateReferenceIdeal.τ).loc Cert.GluGateReferenceIdeal.main_arg1) = m ((c.tc : Thread Cert.GluGateIdeal.nD Cert.GluGateIdeal.τ).loc Cert.GluGateIdeal.main_arg1)
      ∧ m' ((c.tc : Thread Cert.GluGateReferenceIdeal.nD Cert.GluGateReferenceIdeal.τ).loc Cert.GluGateReferenceIdeal.main_arg2) = m ((c.tc : Thread Cert.GluGateIdeal.nD Cert.GluGateIdeal.τ).loc Cert.GluGateIdeal.main_arg2)
      ∧ m' ((c.tc : Thread Cert.GluGateReferenceIdeal.nD Cert.GluGateReferenceIdeal.τ).loc Cert.GluGateReferenceIdeal.main_arg3) = m ((c.tc : Thread Cert.GluGateIdeal.nD Cert.GluGateIdeal.τ).loc Cert.GluGateIdeal.main_arg3)) →
    ∃ (v0 : (c : Dev Cert.GluGateIdeal.nD) → Buf (Elt Ideal) ((c.tc : Thread Cert.GluGateIdeal.nD Cert.GluGateIdeal.τ).loc Cert.GluGateIdeal.main_v1_0)) (v1 : (c : Dev Cert.GluGateIdeal.nD) → Buf (Elt Ideal) ((c.tc : Thread Cert.GluGateIdeal.nD Cert.GluGateIdeal.τ).loc Cert.GluGateIdeal.main_v1_1)) (v2 : (c : Dev Cert.GluGateIdeal.nD) → Buf (Elt Ideal) ((c.tc : Thread Cert.GluGateIdeal.nD Cert.GluGateIdeal.τ).loc Cert.GluGateIdeal.main_v1_2)),
      θ_run (Cert.GluGateIdeal.defs (F := Ideal)) (onTc (τ := Cert.GluGateIdeal.τ) (Cert.GluGateIdeal.main (F := Ideal))) ⟨m, fun _ => 0, g⟩ (fun r => ∀ c : Dev Cert.GluGateIdeal.nD,
          r.2.mem ((c.tc : Thread Cert.GluGateIdeal.nD Cert.GluGateIdeal.τ).loc Cert.GluGateIdeal.main_v1_0) = v0 c
          ∧ r.2.mem ((c.tc : Thread Cert.GluGateIdeal.nD Cert.GluGateIdeal.τ).loc Cert.GluGateIdeal.main_v1_1) = v1 c
          ∧ r.2.mem ((c.tc : Thread Cert.GluGateIdeal.nD Cert.GluGateIdeal.τ).loc Cert.GluGateIdeal.main_v1_2) = v2 c
          ∧ r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
          ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1)
          ∧ r.2.mem ((c.tc : Thread Cert.GluGateIdeal.nD Cert.GluGateIdeal.τ).loc Cert.GluGateIdeal.main_arg2) = m ((c.tc : Thread Cert.GluGateIdeal.nD Cert.GluGateIdeal.τ).loc Cert.GluGateIdeal.main_arg2)
          ∧ r.2.mem ((c.tc : Thread Cert.GluGateIdeal.nD Cert.GluGateIdeal.τ).loc Cert.GluGateIdeal.main_arg3) = m ((c.tc : Thread Cert.GluGateIdeal.nD Cert.GluGateIdeal.τ).loc Cert.GluGateIdeal.main_arg3))
      ∧ θ_run (Cert.GluGateReferenceIdeal.defs (F := Ideal)) (onTc (τ := Cert.GluGateReferenceIdeal.τ) (Cert.GluGateReferenceIdeal.main (F := Ideal))) ⟨m', fun _ => 0, g'⟩ (fun r => ∀ c : Dev Cert.GluGateReferenceIdeal.nD,
          r.2.mem ((c.tc : Thread Cert.GluGateReferenceIdeal.nD Cert.GluGateReferenceIdeal.τ).loc Cert.GluGateReferenceIdeal.main_v27) = v0 c
          ∧ r.2.mem ((c.tc : Thread Cert.GluGateReferenceIdeal.nD Cert.GluGateReferenceIdeal.τ).loc Cert.GluGateReferenceIdeal.main_v28) = v1 c
          ∧ r.2.mem ((c.tc : Thread Cert.GluGateReferenceIdeal.nD Cert.GluGateReferenceIdeal.τ).loc Cert.GluGateReferenceIdeal.main_v29) = v2 c
          ∧ r.2.mem ((c.tc : Thread Cert.GluGateReferenceIdeal.nD Cert.GluGateReferenceIdeal.τ).loc Cert.GluGateReferenceIdeal.main_arg0) = m' ((c.tc : Thread Cert.GluGateReferenceIdeal.nD Cert.GluGateReferenceIdeal.τ).loc Cert.GluGateReferenceIdeal.main_arg0)
          ∧ r.2.mem ((c.tc : Thread Cert.GluGateReferenceIdeal.nD Cert.GluGateReferenceIdeal.τ).loc Cert.GluGateReferenceIdeal.main_arg1) = m' ((c.tc : Thread Cert.GluGateReferenceIdeal.nD Cert.GluGateReferenceIdeal.τ).loc Cert.GluGateReferenceIdeal.main_arg1)
          ∧ r.2.mem ((c.tc : Thread Cert.GluGateReferenceIdeal.nD Cert.GluGateReferenceIdeal.τ).loc Cert.GluGateReferenceIdeal.main_arg2) = m' ((c.tc : Thread Cert.GluGateReferenceIdeal.nD Cert.GluGateReferenceIdeal.τ).loc Cert.GluGateReferenceIdeal.main_arg2)
          ∧ r.2.mem ((c.tc : Thread Cert.GluGateReferenceIdeal.nD Cert.GluGateReferenceIdeal.τ).loc Cert.GluGateReferenceIdeal.main_arg3) = m' ((c.tc : Thread Cert.GluGateReferenceIdeal.nD Cert.GluGateReferenceIdeal.τ).loc Cert.GluGateReferenceIdeal.main_arg3))

def preserves_SkipGelu_SkipGeluIdeal : Prop :=
  True

def algebraic_SkipGeluIdeal_SkipGeluReferenceIdeal [hSkipGeluIdeal : Cert.SkipGeluIdeal.Facts] [hSkipGeluReferenceIdeal : Cert.SkipGeluReferenceIdeal.Facts] : Prop :=
  ∀ (m : (ℓ : Loc Cert.SkipGeluIdeal.nD Cert.SkipGeluIdeal.τ Cert.SkipGeluIdeal.sig) → Buf (Elt Ideal) ℓ) (g : Dev Cert.SkipGeluIdeal.nD → PrngReg)
    (m' : (ℓ : Loc Cert.SkipGeluReferenceIdeal.nD Cert.SkipGeluReferenceIdeal.τ Cert.SkipGeluReferenceIdeal.sig) → Buf (Elt Ideal) ℓ) (g' : Dev Cert.SkipGeluReferenceIdeal.nD → PrngReg), Pre_SkipGeluIdeal m →
    (∀ c : Dev Cert.SkipGeluIdeal.nD,
      m' ((c.tc : Thread Cert.SkipGeluReferenceIdeal.nD Cert.SkipGeluReferenceIdeal.τ).loc Cert.SkipGeluReferenceIdeal.main_arg0) = m ((c.tc : Thread Cert.SkipGeluIdeal.nD Cert.SkipGeluIdeal.τ).loc Cert.SkipGeluIdeal.main_arg0)
      ∧ m' ((c.tc : Thread Cert.SkipGeluReferenceIdeal.nD Cert.SkipGeluReferenceIdeal.τ).loc Cert.SkipGeluReferenceIdeal.main_arg1) = m ((c.tc : Thread Cert.SkipGeluIdeal.nD Cert.SkipGeluIdeal.τ).loc Cert.SkipGeluIdeal.main_arg1)
      ∧ m' ((c.tc : Thread Cert.SkipGeluReferenceIdeal.nD Cert.SkipGeluReferenceIdeal.τ).loc Cert.SkipGeluReferenceIdeal.main_arg2) = m ((c.tc : Thread Cert.SkipGeluIdeal.nD Cert.SkipGeluIdeal.τ).loc Cert.SkipGeluIdeal.main_arg2)
      ∧ m' ((c.tc : Thread Cert.SkipGeluReferenceIdeal.nD Cert.SkipGeluReferenceIdeal.τ).loc Cert.SkipGeluReferenceIdeal.main_arg3) = m ((c.tc : Thread Cert.SkipGeluIdeal.nD Cert.SkipGeluIdeal.τ).loc Cert.SkipGeluIdeal.main_arg3)) →
    ∃ (v0 : (c : Dev Cert.SkipGeluIdeal.nD) → Buf (Elt Ideal) ((c.tc : Thread Cert.SkipGeluIdeal.nD Cert.SkipGeluIdeal.τ).loc Cert.SkipGeluIdeal.main_v1_0)) (v1 : (c : Dev Cert.SkipGeluIdeal.nD) → Buf (Elt Ideal) ((c.tc : Thread Cert.SkipGeluIdeal.nD Cert.SkipGeluIdeal.τ).loc Cert.SkipGeluIdeal.main_v1_1)) (v2 : (c : Dev Cert.SkipGeluIdeal.nD) → Buf (Elt Ideal) ((c.tc : Thread Cert.SkipGeluIdeal.nD Cert.SkipGeluIdeal.τ).loc Cert.SkipGeluIdeal.main_v1_2)),
      θ_run (Cert.SkipGeluIdeal.defs (F := Ideal)) (onTc (τ := Cert.SkipGeluIdeal.τ) (Cert.SkipGeluIdeal.main (F := Ideal))) ⟨m, fun _ => 0, g⟩ (fun r => ∀ c : Dev Cert.SkipGeluIdeal.nD,
          r.2.mem ((c.tc : Thread Cert.SkipGeluIdeal.nD Cert.SkipGeluIdeal.τ).loc Cert.SkipGeluIdeal.main_v1_0) = v0 c
          ∧ r.2.mem ((c.tc : Thread Cert.SkipGeluIdeal.nD Cert.SkipGeluIdeal.τ).loc Cert.SkipGeluIdeal.main_v1_1) = v1 c
          ∧ r.2.mem ((c.tc : Thread Cert.SkipGeluIdeal.nD Cert.SkipGeluIdeal.τ).loc Cert.SkipGeluIdeal.main_v1_2) = v2 c
          ∧ r.2.mem ((c.tc : Thread Cert.SkipGeluIdeal.nD Cert.SkipGeluIdeal.τ).loc Cert.SkipGeluIdeal.main_arg0) = m ((c.tc : Thread Cert.SkipGeluIdeal.nD Cert.SkipGeluIdeal.τ).loc Cert.SkipGeluIdeal.main_arg0)
          ∧ r.2.mem ((c.tc : Thread Cert.SkipGeluIdeal.nD Cert.SkipGeluIdeal.τ).loc Cert.SkipGeluIdeal.main_arg1) = m ((c.tc : Thread Cert.SkipGeluIdeal.nD Cert.SkipGeluIdeal.τ).loc Cert.SkipGeluIdeal.main_arg1)
          ∧ r.2.mem ((c.tc : Thread Cert.SkipGeluIdeal.nD Cert.SkipGeluIdeal.τ).loc Cert.SkipGeluIdeal.main_arg2) = m ((c.tc : Thread Cert.SkipGeluIdeal.nD Cert.SkipGeluIdeal.τ).loc Cert.SkipGeluIdeal.main_arg2)
          ∧ r.2.mem ((c.tc : Thread Cert.SkipGeluIdeal.nD Cert.SkipGeluIdeal.τ).loc Cert.SkipGeluIdeal.main_arg3) = m ((c.tc : Thread Cert.SkipGeluIdeal.nD Cert.SkipGeluIdeal.τ).loc Cert.SkipGeluIdeal.main_arg3))
      ∧ θ_run (Cert.SkipGeluReferenceIdeal.defs (F := Ideal)) (onTc (τ := Cert.SkipGeluReferenceIdeal.τ) (Cert.SkipGeluReferenceIdeal.main (F := Ideal))) ⟨m', fun _ => 0, g'⟩ (fun r => ∀ c : Dev Cert.SkipGeluReferenceIdeal.nD,
          r.2.mem ((c.tc : Thread Cert.SkipGeluReferenceIdeal.nD Cert.SkipGeluReferenceIdeal.τ).loc Cert.SkipGeluReferenceIdeal.main_v49) = v0 c
          ∧ r.2.mem ((c.tc : Thread Cert.SkipGeluReferenceIdeal.nD Cert.SkipGeluReferenceIdeal.τ).loc Cert.SkipGeluReferenceIdeal.main_v47) = v1 c
          ∧ r.2.mem ((c.tc : Thread Cert.SkipGeluReferenceIdeal.nD Cert.SkipGeluReferenceIdeal.τ).loc Cert.SkipGeluReferenceIdeal.main_v50) = v2 c
          ∧ r.2.mem ((c.tc : Thread Cert.SkipGeluReferenceIdeal.nD Cert.SkipGeluReferenceIdeal.τ).loc Cert.SkipGeluReferenceIdeal.main_arg0) = m' ((c.tc : Thread Cert.SkipGeluReferenceIdeal.nD Cert.SkipGeluReferenceIdeal.τ).loc Cert.SkipGeluReferenceIdeal.main_arg0)
          ∧ r.2.mem ((c.tc : Thread Cert.SkipGeluReferenceIdeal.nD Cert.SkipGeluReferenceIdeal.τ).loc Cert.SkipGeluReferenceIdeal.main_arg1) = m' ((c.tc : Thread Cert.SkipGeluReferenceIdeal.nD Cert.SkipGeluReferenceIdeal.τ).loc Cert.SkipGeluReferenceIdeal.main_arg1)
          ∧ r.2.mem ((c.tc : Thread Cert.SkipGeluReferenceIdeal.nD Cert.SkipGeluReferenceIdeal.τ).loc Cert.SkipGeluReferenceIdeal.main_arg2) = m' ((c.tc : Thread Cert.SkipGeluReferenceIdeal.nD Cert.SkipGeluReferenceIdeal.τ).loc Cert.SkipGeluReferenceIdeal.main_arg2)
          ∧ r.2.mem ((c.tc : Thread Cert.SkipGeluReferenceIdeal.nD Cert.SkipGeluReferenceIdeal.τ).loc Cert.SkipGeluReferenceIdeal.main_arg3) = m' ((c.tc : Thread Cert.SkipGeluReferenceIdeal.nD Cert.SkipGeluReferenceIdeal.τ).loc Cert.SkipGeluReferenceIdeal.main_arg3))

def preserves_RecurrenceGate_RecurrenceGateIdeal : Prop :=
  True

def algebraic_RecurrenceGateIdeal_RecurrenceGateReferenceIdeal [hRecurrenceGateIdeal : Cert.RecurrenceGateIdeal.Facts] [hRecurrenceGateReferenceIdeal : Cert.RecurrenceGateReferenceIdeal.Facts] : Prop :=
  ∀ (m : (ℓ : Loc Cert.RecurrenceGateIdeal.nD Cert.RecurrenceGateIdeal.τ Cert.RecurrenceGateIdeal.sig) → Buf (Elt Ideal) ℓ) (g : Dev Cert.RecurrenceGateIdeal.nD → PrngReg)
    (m' : (ℓ : Loc Cert.RecurrenceGateReferenceIdeal.nD Cert.RecurrenceGateReferenceIdeal.τ Cert.RecurrenceGateReferenceIdeal.sig) → Buf (Elt Ideal) ℓ) (g' : Dev Cert.RecurrenceGateReferenceIdeal.nD → PrngReg), Pre_RecurrenceGateIdeal m →
    (∀ c : Dev Cert.RecurrenceGateIdeal.nD,
      m' ((c.tc : Thread Cert.RecurrenceGateReferenceIdeal.nD Cert.RecurrenceGateReferenceIdeal.τ).loc Cert.RecurrenceGateReferenceIdeal.main_arg0) = m ((c.tc : Thread Cert.RecurrenceGateIdeal.nD Cert.RecurrenceGateIdeal.τ).loc Cert.RecurrenceGateIdeal.main_arg0)
      ∧ m' ((c.tc : Thread Cert.RecurrenceGateReferenceIdeal.nD Cert.RecurrenceGateReferenceIdeal.τ).loc Cert.RecurrenceGateReferenceIdeal.main_arg1) = m ((c.tc : Thread Cert.RecurrenceGateIdeal.nD Cert.RecurrenceGateIdeal.τ).loc Cert.RecurrenceGateIdeal.main_arg1)
      ∧ m' ((c.tc : Thread Cert.RecurrenceGateReferenceIdeal.nD Cert.RecurrenceGateReferenceIdeal.τ).loc Cert.RecurrenceGateReferenceIdeal.main_arg2) = m ((c.tc : Thread Cert.RecurrenceGateIdeal.nD Cert.RecurrenceGateIdeal.τ).loc Cert.RecurrenceGateIdeal.main_arg2)) →
    ∃ (v0 : (c : Dev Cert.RecurrenceGateIdeal.nD) → Buf (Elt Ideal) ((c.tc : Thread Cert.RecurrenceGateIdeal.nD Cert.RecurrenceGateIdeal.τ).loc Cert.RecurrenceGateIdeal.main_v0_0)) (v1 : (c : Dev Cert.RecurrenceGateIdeal.nD) → Buf (Elt Ideal) ((c.tc : Thread Cert.RecurrenceGateIdeal.nD Cert.RecurrenceGateIdeal.τ).loc Cert.RecurrenceGateIdeal.main_v0_1)),
      θ_run (Cert.RecurrenceGateIdeal.defs (F := Ideal)) (onTc (τ := Cert.RecurrenceGateIdeal.τ) (Cert.RecurrenceGateIdeal.main (F := Ideal))) ⟨m, fun _ => 0, g⟩ (fun r => ∀ c : Dev Cert.RecurrenceGateIdeal.nD,
          r.2.mem ((c.tc : Thread Cert.RecurrenceGateIdeal.nD Cert.RecurrenceGateIdeal.τ).loc Cert.RecurrenceGateIdeal.main_v0_0) = v0 c
          ∧ r.2.mem ((c.tc : Thread Cert.RecurrenceGateIdeal.nD Cert.RecurrenceGateIdeal.τ).loc Cert.RecurrenceGateIdeal.main_v0_1) = v1 c
          ∧ r.2.mem ((c.tc : Thread Cert.RecurrenceGateIdeal.nD Cert.RecurrenceGateIdeal.τ).loc Cert.RecurrenceGateIdeal.main_arg0) = m ((c.tc : Thread Cert.RecurrenceGateIdeal.nD Cert.RecurrenceGateIdeal.τ).loc Cert.RecurrenceGateIdeal.main_arg0)
          ∧ r.2.mem ((c.tc : Thread Cert.RecurrenceGateIdeal.nD Cert.RecurrenceGateIdeal.τ).loc Cert.RecurrenceGateIdeal.main_arg1) = m ((c.tc : Thread Cert.RecurrenceGateIdeal.nD Cert.RecurrenceGateIdeal.τ).loc Cert.RecurrenceGateIdeal.main_arg1)
          ∧ r.2.mem ((c.tc : Thread Cert.RecurrenceGateIdeal.nD Cert.RecurrenceGateIdeal.τ).loc Cert.RecurrenceGateIdeal.main_arg2) = m ((c.tc : Thread Cert.RecurrenceGateIdeal.nD Cert.RecurrenceGateIdeal.τ).loc Cert.RecurrenceGateIdeal.main_arg2))
      ∧ θ_run (Cert.RecurrenceGateReferenceIdeal.defs (F := Ideal)) (onTc (τ := Cert.RecurrenceGateReferenceIdeal.τ) (Cert.RecurrenceGateReferenceIdeal.main (F := Ideal))) ⟨m', fun _ => 0, g'⟩ (fun r => ∀ c : Dev Cert.RecurrenceGateReferenceIdeal.nD,
          r.2.mem ((c.tc : Thread Cert.RecurrenceGateReferenceIdeal.nD Cert.RecurrenceGateReferenceIdeal.τ).loc Cert.RecurrenceGateReferenceIdeal.main_v3) = v0 c
          ∧ r.2.mem ((c.tc : Thread Cert.RecurrenceGateReferenceIdeal.nD Cert.RecurrenceGateReferenceIdeal.τ).loc Cert.RecurrenceGateReferenceIdeal.main_v5) = v1 c
          ∧ r.2.mem ((c.tc : Thread Cert.RecurrenceGateReferenceIdeal.nD Cert.RecurrenceGateReferenceIdeal.τ).loc Cert.RecurrenceGateReferenceIdeal.main_arg0) = m' ((c.tc : Thread Cert.RecurrenceGateReferenceIdeal.nD Cert.RecurrenceGateReferenceIdeal.τ).loc Cert.RecurrenceGateReferenceIdeal.main_arg0)
          ∧ r.2.mem ((c.tc : Thread Cert.RecurrenceGateReferenceIdeal.nD Cert.RecurrenceGateReferenceIdeal.τ).loc Cert.RecurrenceGateReferenceIdeal.main_arg1) = m' ((c.tc : Thread Cert.RecurrenceGateReferenceIdeal.nD Cert.RecurrenceGateReferenceIdeal.τ).loc Cert.RecurrenceGateReferenceIdeal.main_arg1)
          ∧ r.2.mem ((c.tc : Thread Cert.RecurrenceGateReferenceIdeal.nD Cert.RecurrenceGateReferenceIdeal.τ).loc Cert.RecurrenceGateReferenceIdeal.main_arg2) = m' ((c.tc : Thread Cert.RecurrenceGateReferenceIdeal.nD Cert.RecurrenceGateReferenceIdeal.τ).loc Cert.RecurrenceGateReferenceIdeal.main_arg2))

def preserves_DeltaOutput_DeltaOutputIdeal : Prop :=
  True

def algebraic_DeltaOutputIdeal_DeltaOutputReferenceIdeal [hDeltaOutputIdeal : Cert.DeltaOutputIdeal.Facts] [hDeltaOutputReferenceIdeal : Cert.DeltaOutputReferenceIdeal.Facts] : Prop :=
  ∀ (m : (ℓ : Loc Cert.DeltaOutputIdeal.nD Cert.DeltaOutputIdeal.τ Cert.DeltaOutputIdeal.sig) → Buf (Elt Ideal) ℓ) (g : Dev Cert.DeltaOutputIdeal.nD → PrngReg)
    (m' : (ℓ : Loc Cert.DeltaOutputReferenceIdeal.nD Cert.DeltaOutputReferenceIdeal.τ Cert.DeltaOutputReferenceIdeal.sig) → Buf (Elt Ideal) ℓ) (g' : Dev Cert.DeltaOutputReferenceIdeal.nD → PrngReg), Pre_DeltaOutputIdeal m →
    (∀ c : Dev Cert.DeltaOutputIdeal.nD,
      m' ((c.tc : Thread Cert.DeltaOutputReferenceIdeal.nD Cert.DeltaOutputReferenceIdeal.τ).loc Cert.DeltaOutputReferenceIdeal.main_arg0) = m ((c.tc : Thread Cert.DeltaOutputIdeal.nD Cert.DeltaOutputIdeal.τ).loc Cert.DeltaOutputIdeal.main_arg0)
      ∧ m' ((c.tc : Thread Cert.DeltaOutputReferenceIdeal.nD Cert.DeltaOutputReferenceIdeal.τ).loc Cert.DeltaOutputReferenceIdeal.main_arg1) = m ((c.tc : Thread Cert.DeltaOutputIdeal.nD Cert.DeltaOutputIdeal.τ).loc Cert.DeltaOutputIdeal.main_arg1)
      ∧ m' ((c.tc : Thread Cert.DeltaOutputReferenceIdeal.nD Cert.DeltaOutputReferenceIdeal.τ).loc Cert.DeltaOutputReferenceIdeal.main_arg2) = m ((c.tc : Thread Cert.DeltaOutputIdeal.nD Cert.DeltaOutputIdeal.τ).loc Cert.DeltaOutputIdeal.main_arg2)
      ∧ m' ((c.tc : Thread Cert.DeltaOutputReferenceIdeal.nD Cert.DeltaOutputReferenceIdeal.τ).loc Cert.DeltaOutputReferenceIdeal.main_arg3) = m ((c.tc : Thread Cert.DeltaOutputIdeal.nD Cert.DeltaOutputIdeal.τ).loc Cert.DeltaOutputIdeal.main_arg3)) →
    ∃ (v0 : (c : Dev Cert.DeltaOutputIdeal.nD) → Buf (Elt Ideal) ((c.tc : Thread Cert.DeltaOutputIdeal.nD Cert.DeltaOutputIdeal.τ).loc Cert.DeltaOutputIdeal.main_v1_0)) (v1 : (c : Dev Cert.DeltaOutputIdeal.nD) → Buf (Elt Ideal) ((c.tc : Thread Cert.DeltaOutputIdeal.nD Cert.DeltaOutputIdeal.τ).loc Cert.DeltaOutputIdeal.main_v1_1)) (v2 : (c : Dev Cert.DeltaOutputIdeal.nD) → Buf (Elt Ideal) ((c.tc : Thread Cert.DeltaOutputIdeal.nD Cert.DeltaOutputIdeal.τ).loc Cert.DeltaOutputIdeal.main_v1_2)),
      θ_run (Cert.DeltaOutputIdeal.defs (F := Ideal)) (onTc (τ := Cert.DeltaOutputIdeal.τ) (Cert.DeltaOutputIdeal.main (F := Ideal))) ⟨m, fun _ => 0, g⟩ (fun r => ∀ c : Dev Cert.DeltaOutputIdeal.nD,
          r.2.mem ((c.tc : Thread Cert.DeltaOutputIdeal.nD Cert.DeltaOutputIdeal.τ).loc Cert.DeltaOutputIdeal.main_v1_0) = v0 c
          ∧ r.2.mem ((c.tc : Thread Cert.DeltaOutputIdeal.nD Cert.DeltaOutputIdeal.τ).loc Cert.DeltaOutputIdeal.main_v1_1) = v1 c
          ∧ r.2.mem ((c.tc : Thread Cert.DeltaOutputIdeal.nD Cert.DeltaOutputIdeal.τ).loc Cert.DeltaOutputIdeal.main_v1_2) = v2 c
          ∧ r.2.mem ((c.tc : Thread Cert.DeltaOutputIdeal.nD Cert.DeltaOutputIdeal.τ).loc Cert.DeltaOutputIdeal.main_arg0) = m ((c.tc : Thread Cert.DeltaOutputIdeal.nD Cert.DeltaOutputIdeal.τ).loc Cert.DeltaOutputIdeal.main_arg0)
          ∧ r.2.mem ((c.tc : Thread Cert.DeltaOutputIdeal.nD Cert.DeltaOutputIdeal.τ).loc Cert.DeltaOutputIdeal.main_arg1) = m ((c.tc : Thread Cert.DeltaOutputIdeal.nD Cert.DeltaOutputIdeal.τ).loc Cert.DeltaOutputIdeal.main_arg1)
          ∧ r.2.mem ((c.tc : Thread Cert.DeltaOutputIdeal.nD Cert.DeltaOutputIdeal.τ).loc Cert.DeltaOutputIdeal.main_arg2) = m ((c.tc : Thread Cert.DeltaOutputIdeal.nD Cert.DeltaOutputIdeal.τ).loc Cert.DeltaOutputIdeal.main_arg2)
          ∧ r.2.mem ((c.tc : Thread Cert.DeltaOutputIdeal.nD Cert.DeltaOutputIdeal.τ).loc Cert.DeltaOutputIdeal.main_arg3) = m ((c.tc : Thread Cert.DeltaOutputIdeal.nD Cert.DeltaOutputIdeal.τ).loc Cert.DeltaOutputIdeal.main_arg3))
      ∧ θ_run (Cert.DeltaOutputReferenceIdeal.defs (F := Ideal)) (onTc (τ := Cert.DeltaOutputReferenceIdeal.τ) (Cert.DeltaOutputReferenceIdeal.main (F := Ideal))) ⟨m', fun _ => 0, g'⟩ (fun r => ∀ c : Dev Cert.DeltaOutputReferenceIdeal.nD,
          r.2.mem ((c.tc : Thread Cert.DeltaOutputReferenceIdeal.nD Cert.DeltaOutputReferenceIdeal.τ).loc Cert.DeltaOutputReferenceIdeal.main_v46) = v0 c
          ∧ r.2.mem ((c.tc : Thread Cert.DeltaOutputReferenceIdeal.nD Cert.DeltaOutputReferenceIdeal.τ).loc Cert.DeltaOutputReferenceIdeal.main_v47) = v1 c
          ∧ r.2.mem ((c.tc : Thread Cert.DeltaOutputReferenceIdeal.nD Cert.DeltaOutputReferenceIdeal.τ).loc Cert.DeltaOutputReferenceIdeal.main_v48) = v2 c
          ∧ r.2.mem ((c.tc : Thread Cert.DeltaOutputReferenceIdeal.nD Cert.DeltaOutputReferenceIdeal.τ).loc Cert.DeltaOutputReferenceIdeal.main_arg0) = m' ((c.tc : Thread Cert.DeltaOutputReferenceIdeal.nD Cert.DeltaOutputReferenceIdeal.τ).loc Cert.DeltaOutputReferenceIdeal.main_arg0)
          ∧ r.2.mem ((c.tc : Thread Cert.DeltaOutputReferenceIdeal.nD Cert.DeltaOutputReferenceIdeal.τ).loc Cert.DeltaOutputReferenceIdeal.main_arg1) = m' ((c.tc : Thread Cert.DeltaOutputReferenceIdeal.nD Cert.DeltaOutputReferenceIdeal.τ).loc Cert.DeltaOutputReferenceIdeal.main_arg1)
          ∧ r.2.mem ((c.tc : Thread Cert.DeltaOutputReferenceIdeal.nD Cert.DeltaOutputReferenceIdeal.τ).loc Cert.DeltaOutputReferenceIdeal.main_arg2) = m' ((c.tc : Thread Cert.DeltaOutputReferenceIdeal.nD Cert.DeltaOutputReferenceIdeal.τ).loc Cert.DeltaOutputReferenceIdeal.main_arg2)
          ∧ r.2.mem ((c.tc : Thread Cert.DeltaOutputReferenceIdeal.nD Cert.DeltaOutputReferenceIdeal.τ).loc Cert.DeltaOutputReferenceIdeal.main_arg3) = m' ((c.tc : Thread Cert.DeltaOutputReferenceIdeal.nD Cert.DeltaOutputReferenceIdeal.τ).loc Cert.DeltaOutputReferenceIdeal.main_arg3))

def preserves_NormGradient_NormGradientIdeal : Prop :=
  True

def algebraic_NormGradientIdeal_NormGradientReferenceIdeal [hNormGradientIdeal : Cert.NormGradientIdeal.Facts] [hNormGradientReferenceIdeal : Cert.NormGradientReferenceIdeal.Facts] : Prop :=
  ∀ (m : (ℓ : Loc Cert.NormGradientIdeal.nD Cert.NormGradientIdeal.τ Cert.NormGradientIdeal.sig) → Buf (Elt Ideal) ℓ) (g : Dev Cert.NormGradientIdeal.nD → PrngReg)
    (m' : (ℓ : Loc Cert.NormGradientReferenceIdeal.nD Cert.NormGradientReferenceIdeal.τ Cert.NormGradientReferenceIdeal.sig) → Buf (Elt Ideal) ℓ) (g' : Dev Cert.NormGradientReferenceIdeal.nD → PrngReg), Pre_NormGradientIdeal m →
    (∀ c : Dev Cert.NormGradientIdeal.nD,
      m' ((c.tc : Thread Cert.NormGradientReferenceIdeal.nD Cert.NormGradientReferenceIdeal.τ).loc Cert.NormGradientReferenceIdeal.main_arg0) = m ((c.tc : Thread Cert.NormGradientIdeal.nD Cert.NormGradientIdeal.τ).loc Cert.NormGradientIdeal.main_arg0)
      ∧ m' ((c.tc : Thread Cert.NormGradientReferenceIdeal.nD Cert.NormGradientReferenceIdeal.τ).loc Cert.NormGradientReferenceIdeal.main_arg1) = m ((c.tc : Thread Cert.NormGradientIdeal.nD Cert.NormGradientIdeal.τ).loc Cert.NormGradientIdeal.main_arg1)
      ∧ m' ((c.tc : Thread Cert.NormGradientReferenceIdeal.nD Cert.NormGradientReferenceIdeal.τ).loc Cert.NormGradientReferenceIdeal.main_arg2) = m ((c.tc : Thread Cert.NormGradientIdeal.nD Cert.NormGradientIdeal.τ).loc Cert.NormGradientIdeal.main_arg2)
      ∧ m' ((c.tc : Thread Cert.NormGradientReferenceIdeal.nD Cert.NormGradientReferenceIdeal.τ).loc Cert.NormGradientReferenceIdeal.main_arg3) = m ((c.tc : Thread Cert.NormGradientIdeal.nD Cert.NormGradientIdeal.τ).loc Cert.NormGradientIdeal.main_arg3)) →
    ∃ (v0 : (c : Dev Cert.NormGradientIdeal.nD) → Buf (Elt Ideal) ((c.tc : Thread Cert.NormGradientIdeal.nD Cert.NormGradientIdeal.τ).loc Cert.NormGradientIdeal.main_v1_0)) (v1 : (c : Dev Cert.NormGradientIdeal.nD) → Buf (Elt Ideal) ((c.tc : Thread Cert.NormGradientIdeal.nD Cert.NormGradientIdeal.τ).loc Cert.NormGradientIdeal.main_v1_1)),
      θ_run (Cert.NormGradientIdeal.defs (F := Ideal)) (onTc (τ := Cert.NormGradientIdeal.τ) (Cert.NormGradientIdeal.main (F := Ideal))) ⟨m, fun _ => 0, g⟩ (fun r => ∀ c : Dev Cert.NormGradientIdeal.nD,
          r.2.mem ((c.tc : Thread Cert.NormGradientIdeal.nD Cert.NormGradientIdeal.τ).loc Cert.NormGradientIdeal.main_v1_0) = v0 c
          ∧ r.2.mem ((c.tc : Thread Cert.NormGradientIdeal.nD Cert.NormGradientIdeal.τ).loc Cert.NormGradientIdeal.main_v1_1) = v1 c
          ∧ r.2.mem ((c.tc : Thread Cert.NormGradientIdeal.nD Cert.NormGradientIdeal.τ).loc Cert.NormGradientIdeal.main_arg0) = m ((c.tc : Thread Cert.NormGradientIdeal.nD Cert.NormGradientIdeal.τ).loc Cert.NormGradientIdeal.main_arg0)
          ∧ r.2.mem ((c.tc : Thread Cert.NormGradientIdeal.nD Cert.NormGradientIdeal.τ).loc Cert.NormGradientIdeal.main_arg1) = m ((c.tc : Thread Cert.NormGradientIdeal.nD Cert.NormGradientIdeal.τ).loc Cert.NormGradientIdeal.main_arg1)
          ∧ r.2.mem ((c.tc : Thread Cert.NormGradientIdeal.nD Cert.NormGradientIdeal.τ).loc Cert.NormGradientIdeal.main_arg2) = m ((c.tc : Thread Cert.NormGradientIdeal.nD Cert.NormGradientIdeal.τ).loc Cert.NormGradientIdeal.main_arg2)
          ∧ r.2.mem ((c.tc : Thread Cert.NormGradientIdeal.nD Cert.NormGradientIdeal.τ).loc Cert.NormGradientIdeal.main_arg3) = m ((c.tc : Thread Cert.NormGradientIdeal.nD Cert.NormGradientIdeal.τ).loc Cert.NormGradientIdeal.main_arg3))
      ∧ θ_run (Cert.NormGradientReferenceIdeal.defs (F := Ideal)) (onTc (τ := Cert.NormGradientReferenceIdeal.τ) (Cert.NormGradientReferenceIdeal.main (F := Ideal))) ⟨m', fun _ => 0, g'⟩ (fun r => ∀ c : Dev Cert.NormGradientReferenceIdeal.nD,
          r.2.mem ((c.tc : Thread Cert.NormGradientReferenceIdeal.nD Cert.NormGradientReferenceIdeal.τ).loc Cert.NormGradientReferenceIdeal.main_v36) = v0 c
          ∧ r.2.mem ((c.tc : Thread Cert.NormGradientReferenceIdeal.nD Cert.NormGradientReferenceIdeal.τ).loc Cert.NormGradientReferenceIdeal.main_v37) = v1 c
          ∧ r.2.mem ((c.tc : Thread Cert.NormGradientReferenceIdeal.nD Cert.NormGradientReferenceIdeal.τ).loc Cert.NormGradientReferenceIdeal.main_arg0) = m' ((c.tc : Thread Cert.NormGradientReferenceIdeal.nD Cert.NormGradientReferenceIdeal.τ).loc Cert.NormGradientReferenceIdeal.main_arg0)
          ∧ r.2.mem ((c.tc : Thread Cert.NormGradientReferenceIdeal.nD Cert.NormGradientReferenceIdeal.τ).loc Cert.NormGradientReferenceIdeal.main_arg1) = m' ((c.tc : Thread Cert.NormGradientReferenceIdeal.nD Cert.NormGradientReferenceIdeal.τ).loc Cert.NormGradientReferenceIdeal.main_arg1)
          ∧ r.2.mem ((c.tc : Thread Cert.NormGradientReferenceIdeal.nD Cert.NormGradientReferenceIdeal.τ).loc Cert.NormGradientReferenceIdeal.main_arg2) = m' ((c.tc : Thread Cert.NormGradientReferenceIdeal.nD Cert.NormGradientReferenceIdeal.τ).loc Cert.NormGradientReferenceIdeal.main_arg2)
          ∧ r.2.mem ((c.tc : Thread Cert.NormGradientReferenceIdeal.nD Cert.NormGradientReferenceIdeal.τ).loc Cert.NormGradientReferenceIdeal.main_arg3) = m' ((c.tc : Thread Cert.NormGradientReferenceIdeal.nD Cert.NormGradientReferenceIdeal.τ).loc Cert.NormGradientReferenceIdeal.main_arg3))

def preserves_MemoryNorm_MemoryNormIdeal : Prop :=
  True

def algebraic_MemoryNormIdeal_MemoryNormReferenceIdeal [hMemoryNormIdeal : Cert.MemoryNormIdeal.Facts] [hMemoryNormReferenceIdeal : Cert.MemoryNormReferenceIdeal.Facts] : Prop :=
  ∀ (m : (ℓ : Loc Cert.MemoryNormIdeal.nD Cert.MemoryNormIdeal.τ Cert.MemoryNormIdeal.sig) → Buf (Elt Ideal) ℓ) (g : Dev Cert.MemoryNormIdeal.nD → PrngReg)
    (m' : (ℓ : Loc Cert.MemoryNormReferenceIdeal.nD Cert.MemoryNormReferenceIdeal.τ Cert.MemoryNormReferenceIdeal.sig) → Buf (Elt Ideal) ℓ) (g' : Dev Cert.MemoryNormReferenceIdeal.nD → PrngReg), Pre_MemoryNormIdeal m →
    (∀ c : Dev Cert.MemoryNormIdeal.nD,
      m' ((c.tc : Thread Cert.MemoryNormReferenceIdeal.nD Cert.MemoryNormReferenceIdeal.τ).loc Cert.MemoryNormReferenceIdeal.main_arg0) = m ((c.tc : Thread Cert.MemoryNormIdeal.nD Cert.MemoryNormIdeal.τ).loc Cert.MemoryNormIdeal.main_arg0)
      ∧ m' ((c.tc : Thread Cert.MemoryNormReferenceIdeal.nD Cert.MemoryNormReferenceIdeal.τ).loc Cert.MemoryNormReferenceIdeal.main_arg1) = m ((c.tc : Thread Cert.MemoryNormIdeal.nD Cert.MemoryNormIdeal.τ).loc Cert.MemoryNormIdeal.main_arg1)
      ∧ m' ((c.tc : Thread Cert.MemoryNormReferenceIdeal.nD Cert.MemoryNormReferenceIdeal.τ).loc Cert.MemoryNormReferenceIdeal.main_arg2) = m ((c.tc : Thread Cert.MemoryNormIdeal.nD Cert.MemoryNormIdeal.τ).loc Cert.MemoryNormIdeal.main_arg2)) →
    ∃ (v0 : (c : Dev Cert.MemoryNormIdeal.nD) → Buf (Elt Ideal) ((c.tc : Thread Cert.MemoryNormIdeal.nD Cert.MemoryNormIdeal.τ).loc Cert.MemoryNormIdeal.main_v1)),
      θ_run (Cert.MemoryNormIdeal.defs (F := Ideal)) (onTc (τ := Cert.MemoryNormIdeal.τ) (Cert.MemoryNormIdeal.main (F := Ideal))) ⟨m, fun _ => 0, g⟩ (fun r => ∀ c : Dev Cert.MemoryNormIdeal.nD,
          r.2.mem ((c.tc : Thread Cert.MemoryNormIdeal.nD Cert.MemoryNormIdeal.τ).loc Cert.MemoryNormIdeal.main_v1) = v0 c
          ∧ r.2.mem ((c.tc : Thread Cert.MemoryNormIdeal.nD Cert.MemoryNormIdeal.τ).loc Cert.MemoryNormIdeal.main_arg0) = m ((c.tc : Thread Cert.MemoryNormIdeal.nD Cert.MemoryNormIdeal.τ).loc Cert.MemoryNormIdeal.main_arg0)
          ∧ r.2.mem ((c.tc : Thread Cert.MemoryNormIdeal.nD Cert.MemoryNormIdeal.τ).loc Cert.MemoryNormIdeal.main_arg1) = m ((c.tc : Thread Cert.MemoryNormIdeal.nD Cert.MemoryNormIdeal.τ).loc Cert.MemoryNormIdeal.main_arg1)
          ∧ r.2.mem ((c.tc : Thread Cert.MemoryNormIdeal.nD Cert.MemoryNormIdeal.τ).loc Cert.MemoryNormIdeal.main_arg2) = m ((c.tc : Thread Cert.MemoryNormIdeal.nD Cert.MemoryNormIdeal.τ).loc Cert.MemoryNormIdeal.main_arg2))
      ∧ θ_run (Cert.MemoryNormReferenceIdeal.defs (F := Ideal)) (onTc (τ := Cert.MemoryNormReferenceIdeal.τ) (Cert.MemoryNormReferenceIdeal.main (F := Ideal))) ⟨m', fun _ => 0, g'⟩ (fun r => ∀ c : Dev Cert.MemoryNormReferenceIdeal.nD,
          r.2.mem ((c.tc : Thread Cert.MemoryNormReferenceIdeal.nD Cert.MemoryNormReferenceIdeal.τ).loc Cert.MemoryNormReferenceIdeal.main_v17) = v0 c
          ∧ r.2.mem ((c.tc : Thread Cert.MemoryNormReferenceIdeal.nD Cert.MemoryNormReferenceIdeal.τ).loc Cert.MemoryNormReferenceIdeal.main_arg0) = m' ((c.tc : Thread Cert.MemoryNormReferenceIdeal.nD Cert.MemoryNormReferenceIdeal.τ).loc Cert.MemoryNormReferenceIdeal.main_arg0)
          ∧ r.2.mem ((c.tc : Thread Cert.MemoryNormReferenceIdeal.nD Cert.MemoryNormReferenceIdeal.τ).loc Cert.MemoryNormReferenceIdeal.main_arg1) = m' ((c.tc : Thread Cert.MemoryNormReferenceIdeal.nD Cert.MemoryNormReferenceIdeal.τ).loc Cert.MemoryNormReferenceIdeal.main_arg1)
          ∧ r.2.mem ((c.tc : Thread Cert.MemoryNormReferenceIdeal.nD Cert.MemoryNormReferenceIdeal.τ).loc Cert.MemoryNormReferenceIdeal.main_arg2) = m' ((c.tc : Thread Cert.MemoryNormReferenceIdeal.nD Cert.MemoryNormReferenceIdeal.τ).loc Cert.MemoryNormReferenceIdeal.main_arg2))

def preserves_MergeForward_MergeForwardIdeal : Prop :=
  True

def algebraic_MergeForwardIdeal_MergeForwardReferenceIdeal [hMergeForwardIdeal : Cert.MergeForwardIdeal.Facts] [hMergeForwardReferenceIdeal : Cert.MergeForwardReferenceIdeal.Facts] : Prop :=
  ∀ (m : (ℓ : Loc Cert.MergeForwardIdeal.nD Cert.MergeForwardIdeal.τ Cert.MergeForwardIdeal.sig) → Buf (Elt Ideal) ℓ) (g : Dev Cert.MergeForwardIdeal.nD → PrngReg)
    (m' : (ℓ : Loc Cert.MergeForwardReferenceIdeal.nD Cert.MergeForwardReferenceIdeal.τ Cert.MergeForwardReferenceIdeal.sig) → Buf (Elt Ideal) ℓ) (g' : Dev Cert.MergeForwardReferenceIdeal.nD → PrngReg), Pre_MergeForwardIdeal m →
    (∀ c : Dev Cert.MergeForwardIdeal.nD,
      m' ((c.tc : Thread Cert.MergeForwardReferenceIdeal.nD Cert.MergeForwardReferenceIdeal.τ).loc Cert.MergeForwardReferenceIdeal.main_arg0) = m ((c.tc : Thread Cert.MergeForwardIdeal.nD Cert.MergeForwardIdeal.τ).loc Cert.MergeForwardIdeal.main_arg0)
      ∧ m' ((c.tc : Thread Cert.MergeForwardReferenceIdeal.nD Cert.MergeForwardReferenceIdeal.τ).loc Cert.MergeForwardReferenceIdeal.main_arg1) = m ((c.tc : Thread Cert.MergeForwardIdeal.nD Cert.MergeForwardIdeal.τ).loc Cert.MergeForwardIdeal.main_arg1)
      ∧ m' ((c.tc : Thread Cert.MergeForwardReferenceIdeal.nD Cert.MergeForwardReferenceIdeal.τ).loc Cert.MergeForwardReferenceIdeal.main_arg2) = m ((c.tc : Thread Cert.MergeForwardIdeal.nD Cert.MergeForwardIdeal.τ).loc Cert.MergeForwardIdeal.main_arg2)
      ∧ m' ((c.tc : Thread Cert.MergeForwardReferenceIdeal.nD Cert.MergeForwardReferenceIdeal.τ).loc Cert.MergeForwardReferenceIdeal.main_arg3) = m ((c.tc : Thread Cert.MergeForwardIdeal.nD Cert.MergeForwardIdeal.τ).loc Cert.MergeForwardIdeal.main_arg3)
      ∧ m' ((c.tc : Thread Cert.MergeForwardReferenceIdeal.nD Cert.MergeForwardReferenceIdeal.τ).loc Cert.MergeForwardReferenceIdeal.main_arg4) = m ((c.tc : Thread Cert.MergeForwardIdeal.nD Cert.MergeForwardIdeal.τ).loc Cert.MergeForwardIdeal.main_arg4)) →
    ∃ (v0 : (c : Dev Cert.MergeForwardIdeal.nD) → Buf (Elt Ideal) ((c.tc : Thread Cert.MergeForwardIdeal.nD Cert.MergeForwardIdeal.τ).loc Cert.MergeForwardIdeal.main_v17)),
      θ_run (Cert.MergeForwardIdeal.defs (F := Ideal)) (onTc (τ := Cert.MergeForwardIdeal.τ) (Cert.MergeForwardIdeal.main (F := Ideal))) ⟨m, fun _ => 0, g⟩ (fun r => ∀ c : Dev Cert.MergeForwardIdeal.nD,
          r.2.mem ((c.tc : Thread Cert.MergeForwardIdeal.nD Cert.MergeForwardIdeal.τ).loc Cert.MergeForwardIdeal.main_v17) = v0 c
          ∧ r.2.mem ((c.tc : Thread Cert.MergeForwardIdeal.nD Cert.MergeForwardIdeal.τ).loc Cert.MergeForwardIdeal.main_arg0) = m ((c.tc : Thread Cert.MergeForwardIdeal.nD Cert.MergeForwardIdeal.τ).loc Cert.MergeForwardIdeal.main_arg0)
          ∧ r.2.mem ((c.tc : Thread Cert.MergeForwardIdeal.nD Cert.MergeForwardIdeal.τ).loc Cert.MergeForwardIdeal.main_arg1) = m ((c.tc : Thread Cert.MergeForwardIdeal.nD Cert.MergeForwardIdeal.τ).loc Cert.MergeForwardIdeal.main_arg1)
          ∧ r.2.mem ((c.tc : Thread Cert.MergeForwardIdeal.nD Cert.MergeForwardIdeal.τ).loc Cert.MergeForwardIdeal.main_arg2) = m ((c.tc : Thread Cert.MergeForwardIdeal.nD Cert.MergeForwardIdeal.τ).loc Cert.MergeForwardIdeal.main_arg2)
          ∧ r.2.mem ((c.tc : Thread Cert.MergeForwardIdeal.nD Cert.MergeForwardIdeal.τ).loc Cert.MergeForwardIdeal.main_arg3) = m ((c.tc : Thread Cert.MergeForwardIdeal.nD Cert.MergeForwardIdeal.τ).loc Cert.MergeForwardIdeal.main_arg3)
          ∧ r.2.mem ((c.tc : Thread Cert.MergeForwardIdeal.nD Cert.MergeForwardIdeal.τ).loc Cert.MergeForwardIdeal.main_arg4) = m ((c.tc : Thread Cert.MergeForwardIdeal.nD Cert.MergeForwardIdeal.τ).loc Cert.MergeForwardIdeal.main_arg4))
      ∧ θ_run (Cert.MergeForwardReferenceIdeal.defs (F := Ideal)) (onTc (τ := Cert.MergeForwardReferenceIdeal.τ) (Cert.MergeForwardReferenceIdeal.main (F := Ideal))) ⟨m', fun _ => 0, g'⟩ (fun r => ∀ c : Dev Cert.MergeForwardReferenceIdeal.nD,
          r.2.mem ((c.tc : Thread Cert.MergeForwardReferenceIdeal.nD Cert.MergeForwardReferenceIdeal.τ).loc Cert.MergeForwardReferenceIdeal.main_v15) = v0 c
          ∧ r.2.mem ((c.tc : Thread Cert.MergeForwardReferenceIdeal.nD Cert.MergeForwardReferenceIdeal.τ).loc Cert.MergeForwardReferenceIdeal.main_arg0) = m' ((c.tc : Thread Cert.MergeForwardReferenceIdeal.nD Cert.MergeForwardReferenceIdeal.τ).loc Cert.MergeForwardReferenceIdeal.main_arg0)
          ∧ r.2.mem ((c.tc : Thread Cert.MergeForwardReferenceIdeal.nD Cert.MergeForwardReferenceIdeal.τ).loc Cert.MergeForwardReferenceIdeal.main_arg1) = m' ((c.tc : Thread Cert.MergeForwardReferenceIdeal.nD Cert.MergeForwardReferenceIdeal.τ).loc Cert.MergeForwardReferenceIdeal.main_arg1)
          ∧ r.2.mem ((c.tc : Thread Cert.MergeForwardReferenceIdeal.nD Cert.MergeForwardReferenceIdeal.τ).loc Cert.MergeForwardReferenceIdeal.main_arg2) = m' ((c.tc : Thread Cert.MergeForwardReferenceIdeal.nD Cert.MergeForwardReferenceIdeal.τ).loc Cert.MergeForwardReferenceIdeal.main_arg2)
          ∧ r.2.mem ((c.tc : Thread Cert.MergeForwardReferenceIdeal.nD Cert.MergeForwardReferenceIdeal.τ).loc Cert.MergeForwardReferenceIdeal.main_arg3) = m' ((c.tc : Thread Cert.MergeForwardReferenceIdeal.nD Cert.MergeForwardReferenceIdeal.τ).loc Cert.MergeForwardReferenceIdeal.main_arg3)
          ∧ r.2.mem ((c.tc : Thread Cert.MergeForwardReferenceIdeal.nD Cert.MergeForwardReferenceIdeal.τ).loc Cert.MergeForwardReferenceIdeal.main_arg4) = m' ((c.tc : Thread Cert.MergeForwardReferenceIdeal.nD Cert.MergeForwardReferenceIdeal.τ).loc Cert.MergeForwardReferenceIdeal.main_arg4))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v51) = v0 c
          ∧ r.2.mem ((c.tc : Thread Cert.LossHeadReferenceIdeal.nD Cert.LossHeadReferenceIdeal.τ).loc Cert.LossHeadReferenceIdeal.main_v50) = v1 c
          ∧ r.2.mem ((c.tc : Thread Cert.LossHeadReferenceIdeal.nD Cert.LossHeadReferenceIdeal.τ).loc Cert.LossHeadReferenceIdeal.main_v52) = v2 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2))

def preserves_DeltaGates_DeltaGatesIdeal : Prop :=
  True

def algebraic_DeltaGatesIdeal_DeltaGatesReferenceIdeal [hDeltaGatesIdeal : Cert.DeltaGatesIdeal.Facts] [hDeltaGatesReferenceIdeal : Cert.DeltaGatesReferenceIdeal.Facts] : Prop :=
  ∀ (m : (ℓ : Loc Cert.DeltaGatesIdeal.nD Cert.DeltaGatesIdeal.τ Cert.DeltaGatesIdeal.sig) → Buf (Elt Ideal) ℓ) (g : Dev Cert.DeltaGatesIdeal.nD → PrngReg)
    (m' : (ℓ : Loc Cert.DeltaGatesReferenceIdeal.nD Cert.DeltaGatesReferenceIdeal.τ Cert.DeltaGatesReferenceIdeal.sig) → Buf (Elt Ideal) ℓ) (g' : Dev Cert.DeltaGatesReferenceIdeal.nD → PrngReg), Pre_DeltaGatesIdeal m →
    (∀ c : Dev Cert.DeltaGatesIdeal.nD,
      m' ((c.tc : Thread Cert.DeltaGatesReferenceIdeal.nD Cert.DeltaGatesReferenceIdeal.τ).loc Cert.DeltaGatesReferenceIdeal.main_arg0) = m ((c.tc : Thread Cert.DeltaGatesIdeal.nD Cert.DeltaGatesIdeal.τ).loc Cert.DeltaGatesIdeal.main_arg0)
      ∧ m' ((c.tc : Thread Cert.DeltaGatesReferenceIdeal.nD Cert.DeltaGatesReferenceIdeal.τ).loc Cert.DeltaGatesReferenceIdeal.main_arg1) = m ((c.tc : Thread Cert.DeltaGatesIdeal.nD Cert.DeltaGatesIdeal.τ).loc Cert.DeltaGatesIdeal.main_arg1)
      ∧ m' ((c.tc : Thread Cert.DeltaGatesReferenceIdeal.nD Cert.DeltaGatesReferenceIdeal.τ).loc Cert.DeltaGatesReferenceIdeal.main_arg2) = m ((c.tc : Thread Cert.DeltaGatesIdeal.nD Cert.DeltaGatesIdeal.τ).loc Cert.DeltaGatesIdeal.main_arg2)
      ∧ m' ((c.tc : Thread Cert.DeltaGatesReferenceIdeal.nD Cert.DeltaGatesReferenceIdeal.τ).loc Cert.DeltaGatesReferenceIdeal.main_arg3) = m ((c.tc : Thread Cert.DeltaGatesIdeal.nD Cert.DeltaGatesIdeal.τ).loc Cert.DeltaGatesIdeal.main_arg3)
      ∧ m' ((c.tc : Thread Cert.DeltaGatesReferenceIdeal.nD Cert.DeltaGatesReferenceIdeal.τ).loc Cert.DeltaGatesReferenceIdeal.main_arg4) = m ((c.tc : Thread Cert.DeltaGatesIdeal.nD Cert.DeltaGatesIdeal.τ).loc Cert.DeltaGatesIdeal.main_arg4)
      ∧ m' ((c.tc : Thread Cert.DeltaGatesReferenceIdeal.nD Cert.DeltaGatesReferenceIdeal.τ).loc Cert.DeltaGatesReferenceIdeal.main_arg5) = m ((c.tc : Thread Cert.DeltaGatesIdeal.nD Cert.DeltaGatesIdeal.τ).loc Cert.DeltaGatesIdeal.main_arg5)
      ∧ m' ((c.tc : Thread Cert.DeltaGatesReferenceIdeal.nD Cert.DeltaGatesReferenceIdeal.τ).loc Cert.DeltaGatesReferenceIdeal.main_arg6) = m ((c.tc : Thread Cert.DeltaGatesIdeal.nD Cert.DeltaGatesIdeal.τ).loc Cert.DeltaGatesIdeal.main_arg6)) →
    ∃ (v0 : (c : Dev Cert.DeltaGatesIdeal.nD) → Buf (Elt Ideal) ((c.tc : Thread Cert.DeltaGatesIdeal.nD Cert.DeltaGatesIdeal.τ).loc Cert.DeltaGatesIdeal.main_v2_0)) (v1 : (c : Dev Cert.DeltaGatesIdeal.nD) → Buf (Elt Ideal) ((c.tc : Thread Cert.DeltaGatesIdeal.nD Cert.DeltaGatesIdeal.τ).loc Cert.DeltaGatesIdeal.main_v2_1)) (v2 : (c : Dev Cert.DeltaGatesIdeal.nD) → Buf (Elt Ideal) ((c.tc : Thread Cert.DeltaGatesIdeal.nD Cert.DeltaGatesIdeal.τ).loc Cert.DeltaGatesIdeal.main_v2_2)) (v3 : (c : Dev Cert.DeltaGatesIdeal.nD) → Buf (Elt Ideal) ((c.tc : Thread Cert.DeltaGatesIdeal.nD Cert.DeltaGatesIdeal.τ).loc Cert.DeltaGatesIdeal.main_v2_3)),
      θ_run (Cert.DeltaGatesIdeal.defs (F := Ideal)) (onTc (τ := Cert.DeltaGatesIdeal.τ) (Cert.DeltaGatesIdeal.main (F := Ideal))) ⟨m, fun _ => 0, g⟩ (fun r => ∀ c : Dev Cert.DeltaGatesIdeal.nD,
          r.2.mem ((c.tc : Thread Cert.DeltaGatesIdeal.nD Cert.DeltaGatesIdeal.τ).loc Cert.DeltaGatesIdeal.main_v2_0) = v0 c
          ∧ r.2.mem ((c.tc : Thread Cert.DeltaGatesIdeal.nD Cert.DeltaGatesIdeal.τ).loc Cert.DeltaGatesIdeal.main_v2_1) = v1 c
          ∧ r.2.mem ((c.tc : Thread Cert.DeltaGatesIdeal.nD Cert.DeltaGatesIdeal.τ).loc Cert.DeltaGatesIdeal.main_v2_2) = v2 c
          ∧ r.2.mem ((c.tc : Thread Cert.DeltaGatesIdeal.nD Cert.DeltaGatesIdeal.τ).loc Cert.DeltaGatesIdeal.main_v2_3) = v3 c
          ∧ r.2.mem ((c.tc : Thread Cert.DeltaGatesIdeal.nD Cert.DeltaGatesIdeal.τ).loc Cert.DeltaGatesIdeal.main_arg0) = m ((c.tc : Thread Cert.DeltaGatesIdeal.nD Cert.DeltaGatesIdeal.τ).loc Cert.DeltaGatesIdeal.main_arg0)
          ∧ r.2.mem ((c.tc : Thread Cert.DeltaGatesIdeal.nD Cert.DeltaGatesIdeal.τ).loc Cert.DeltaGatesIdeal.main_arg1) = m ((c.tc : Thread Cert.DeltaGatesIdeal.nD Cert.DeltaGatesIdeal.τ).loc Cert.DeltaGatesIdeal.main_arg1)
          ∧ r.2.mem ((c.tc : Thread Cert.DeltaGatesIdeal.nD Cert.DeltaGatesIdeal.τ).loc Cert.DeltaGatesIdeal.main_arg2) = m ((c.tc : Thread Cert.DeltaGatesIdeal.nD Cert.DeltaGatesIdeal.τ).loc Cert.DeltaGatesIdeal.main_arg2)
          ∧ r.2.mem ((c.tc : Thread Cert.DeltaGatesIdeal.nD Cert.DeltaGatesIdeal.τ).loc Cert.DeltaGatesIdeal.main_arg3) = m ((c.tc : Thread Cert.DeltaGatesIdeal.nD Cert.DeltaGatesIdeal.τ).loc Cert.DeltaGatesIdeal.main_arg3)
          ∧ r.2.mem ((c.tc : Thread Cert.DeltaGatesIdeal.nD Cert.DeltaGatesIdeal.τ).loc Cert.DeltaGatesIdeal.main_arg4) = m ((c.tc : Thread Cert.DeltaGatesIdeal.nD Cert.DeltaGatesIdeal.τ).loc Cert.DeltaGatesIdeal.main_arg4)
          ∧ r.2.mem ((c.tc : Thread Cert.DeltaGatesIdeal.nD Cert.DeltaGatesIdeal.τ).loc Cert.DeltaGatesIdeal.main_arg5) = m ((c.tc : Thread Cert.DeltaGatesIdeal.nD Cert.DeltaGatesIdeal.τ).loc Cert.DeltaGatesIdeal.main_arg5)
          ∧ r.2.mem ((c.tc : Thread Cert.DeltaGatesIdeal.nD Cert.DeltaGatesIdeal.τ).loc Cert.DeltaGatesIdeal.main_arg6) = m ((c.tc : Thread Cert.DeltaGatesIdeal.nD Cert.DeltaGatesIdeal.τ).loc Cert.DeltaGatesIdeal.main_arg6))
      ∧ θ_run (Cert.DeltaGatesReferenceIdeal.defs (F := Ideal)) (onTc (τ := Cert.DeltaGatesReferenceIdeal.τ) (Cert.DeltaGatesReferenceIdeal.main (F := Ideal))) ⟨m', fun _ => 0, g'⟩ (fun r => ∀ c : Dev Cert.DeltaGatesReferenceIdeal.nD,
          r.2.mem ((c.tc : Thread Cert.DeltaGatesReferenceIdeal.nD Cert.DeltaGatesReferenceIdeal.τ).loc Cert.DeltaGatesReferenceIdeal.main_v22) = v0 c
          ∧ r.2.mem ((c.tc : Thread Cert.DeltaGatesReferenceIdeal.nD Cert.DeltaGatesReferenceIdeal.τ).loc Cert.DeltaGatesReferenceIdeal.main_v33) = v1 c
          ∧ r.2.mem ((c.tc : Thread Cert.DeltaGatesReferenceIdeal.nD Cert.DeltaGatesReferenceIdeal.τ).loc Cert.DeltaGatesReferenceIdeal.main_v36) = v2 c
          ∧ r.2.mem ((c.tc : Thread Cert.DeltaGatesReferenceIdeal.nD Cert.DeltaGatesReferenceIdeal.τ).loc Cert.DeltaGatesReferenceIdeal.main_v37) = v3 c
          ∧ r.2.mem ((c.tc : Thread Cert.DeltaGatesReferenceIdeal.nD Cert.DeltaGatesReferenceIdeal.τ).loc Cert.DeltaGatesReferenceIdeal.main_arg0) = m' ((c.tc : Thread Cert.DeltaGatesReferenceIdeal.nD Cert.DeltaGatesReferenceIdeal.τ).loc Cert.DeltaGatesReferenceIdeal.main_arg0)
          ∧ r.2.mem ((c.tc : Thread Cert.DeltaGatesReferenceIdeal.nD Cert.DeltaGatesReferenceIdeal.τ).loc Cert.DeltaGatesReferenceIdeal.main_arg1) = m' ((c.tc : Thread Cert.DeltaGatesReferenceIdeal.nD Cert.DeltaGatesReferenceIdeal.τ).loc Cert.DeltaGatesReferenceIdeal.main_arg1)
          ∧ r.2.mem ((c.tc : Thread Cert.DeltaGatesReferenceIdeal.nD Cert.DeltaGatesReferenceIdeal.τ).loc Cert.DeltaGatesReferenceIdeal.main_arg2) = m' ((c.tc : Thread Cert.DeltaGatesReferenceIdeal.nD Cert.DeltaGatesReferenceIdeal.τ).loc Cert.DeltaGatesReferenceIdeal.main_arg2)
          ∧ r.2.mem ((c.tc : Thread Cert.DeltaGatesReferenceIdeal.nD Cert.DeltaGatesReferenceIdeal.τ).loc Cert.DeltaGatesReferenceIdeal.main_arg3) = m' ((c.tc : Thread Cert.DeltaGatesReferenceIdeal.nD Cert.DeltaGatesReferenceIdeal.τ).loc Cert.DeltaGatesReferenceIdeal.main_arg3)
          ∧ r.2.mem ((c.tc : Thread Cert.DeltaGatesReferenceIdeal.nD Cert.DeltaGatesReferenceIdeal.τ).loc Cert.DeltaGatesReferenceIdeal.main_arg4) = m' ((c.tc : Thread Cert.DeltaGatesReferenceIdeal.nD Cert.DeltaGatesReferenceIdeal.τ).loc Cert.DeltaGatesReferenceIdeal.main_arg4)
          ∧ r.2.mem ((c.tc : Thread Cert.DeltaGatesReferenceIdeal.nD Cert.DeltaGatesReferenceIdeal.τ).loc Cert.DeltaGatesReferenceIdeal.main_arg5) = m' ((c.tc : Thread Cert.DeltaGatesReferenceIdeal.nD Cert.DeltaGatesReferenceIdeal.τ).loc Cert.DeltaGatesReferenceIdeal.main_arg5)
          ∧ r.2.mem ((c.tc : Thread Cert.DeltaGatesReferenceIdeal.nD Cert.DeltaGatesReferenceIdeal.τ).loc Cert.DeltaGatesReferenceIdeal.main_arg6) = m' ((c.tc : Thread Cert.DeltaGatesReferenceIdeal.nD Cert.DeltaGatesReferenceIdeal.τ).loc Cert.DeltaGatesReferenceIdeal.main_arg6))

def preserves_DeltaKeys_DeltaKeysIdeal : Prop :=
  True

def algebraic_DeltaKeysIdeal_DeltaKeysReferenceIdeal [hDeltaKeysIdeal : Cert.DeltaKeysIdeal.Facts] [hDeltaKeysReferenceIdeal : Cert.DeltaKeysReferenceIdeal.Facts] : Prop :=
  ∀ (m : (ℓ : Loc Cert.DeltaKeysIdeal.nD Cert.DeltaKeysIdeal.τ Cert.DeltaKeysIdeal.sig) → Buf (Elt Ideal) ℓ) (g : Dev Cert.DeltaKeysIdeal.nD → PrngReg)
    (m' : (ℓ : Loc Cert.DeltaKeysReferenceIdeal.nD Cert.DeltaKeysReferenceIdeal.τ Cert.DeltaKeysReferenceIdeal.sig) → Buf (Elt Ideal) ℓ) (g' : Dev Cert.DeltaKeysReferenceIdeal.nD → PrngReg), Pre_DeltaKeysIdeal m →
    (∀ c : Dev Cert.DeltaKeysIdeal.nD,
      m' ((c.tc : Thread Cert.DeltaKeysReferenceIdeal.nD Cert.DeltaKeysReferenceIdeal.τ).loc Cert.DeltaKeysReferenceIdeal.main_arg0) = m ((c.tc : Thread Cert.DeltaKeysIdeal.nD Cert.DeltaKeysIdeal.τ).loc Cert.DeltaKeysIdeal.main_arg0)
      ∧ m' ((c.tc : Thread Cert.DeltaKeysReferenceIdeal.nD Cert.DeltaKeysReferenceIdeal.τ).loc Cert.DeltaKeysReferenceIdeal.main_arg1) = m ((c.tc : Thread Cert.DeltaKeysIdeal.nD Cert.DeltaKeysIdeal.τ).loc Cert.DeltaKeysIdeal.main_arg1)
      ∧ m' ((c.tc : Thread Cert.DeltaKeysReferenceIdeal.nD Cert.DeltaKeysReferenceIdeal.τ).loc Cert.DeltaKeysReferenceIdeal.main_arg2) = m ((c.tc : Thread Cert.DeltaKeysIdeal.nD Cert.DeltaKeysIdeal.τ).loc Cert.DeltaKeysIdeal.main_arg2)) →
    ∃ (v0 : (c : Dev Cert.DeltaKeysIdeal.nD) → Buf (Elt Ideal) ((c.tc : Thread Cert.DeltaKeysIdeal.nD Cert.DeltaKeysIdeal.τ).loc Cert.DeltaKeysIdeal.main_v2_0)) (v1 : (c : Dev Cert.DeltaKeysIdeal.nD) → Buf (Elt Ideal) ((c.tc : Thread Cert.DeltaKeysIdeal.nD Cert.DeltaKeysIdeal.τ).loc Cert.DeltaKeysIdeal.main_v2_1)),
      θ_run (Cert.DeltaKeysIdeal.defs (F := Ideal)) (onTc (τ := Cert.DeltaKeysIdeal.τ) (Cert.DeltaKeysIdeal.main (F := Ideal))) ⟨m, fun _ => 0, g⟩ (fun r => ∀ c : Dev Cert.DeltaKeysIdeal.nD,
          r.2.mem ((c.tc : Thread Cert.DeltaKeysIdeal.nD Cert.DeltaKeysIdeal.τ).loc Cert.DeltaKeysIdeal.main_v2_0) = v0 c
          ∧ r.2.mem ((c.tc : Thread Cert.DeltaKeysIdeal.nD Cert.DeltaKeysIdeal.τ).loc Cert.DeltaKeysIdeal.main_v2_1) = v1 c
          ∧ r.2.mem ((c.tc : Thread Cert.DeltaKeysIdeal.nD Cert.DeltaKeysIdeal.τ).loc Cert.DeltaKeysIdeal.main_arg0) = m ((c.tc : Thread Cert.DeltaKeysIdeal.nD Cert.DeltaKeysIdeal.τ).loc Cert.DeltaKeysIdeal.main_arg0)
          ∧ r.2.mem ((c.tc : Thread Cert.DeltaKeysIdeal.nD Cert.DeltaKeysIdeal.τ).loc Cert.DeltaKeysIdeal.main_arg1) = m ((c.tc : Thread Cert.DeltaKeysIdeal.nD Cert.DeltaKeysIdeal.τ).loc Cert.DeltaKeysIdeal.main_arg1)
          ∧ r.2.mem ((c.tc : Thread Cert.DeltaKeysIdeal.nD Cert.DeltaKeysIdeal.τ).loc Cert.DeltaKeysIdeal.main_arg2) = m ((c.tc : Thread Cert.DeltaKeysIdeal.nD Cert.DeltaKeysIdeal.τ).loc Cert.DeltaKeysIdeal.main_arg2))
      ∧ θ_run (Cert.DeltaKeysReferenceIdeal.defs (F := Ideal)) (onTc (τ := Cert.DeltaKeysReferenceIdeal.τ) (Cert.DeltaKeysReferenceIdeal.main (F := Ideal))) ⟨m', fun _ => 0, g'⟩ (fun r => ∀ c : Dev Cert.DeltaKeysReferenceIdeal.nD,
          r.2.mem ((c.tc : Thread Cert.DeltaKeysReferenceIdeal.nD Cert.DeltaKeysReferenceIdeal.τ).loc Cert.DeltaKeysReferenceIdeal.main_v104) = v0 c
          ∧ r.2.mem ((c.tc : Thread Cert.DeltaKeysReferenceIdeal.nD Cert.DeltaKeysReferenceIdeal.τ).loc Cert.DeltaKeysReferenceIdeal.main_v105) = v1 c
          ∧ r.2.mem ((c.tc : Thread Cert.DeltaKeysReferenceIdeal.nD Cert.DeltaKeysReferenceIdeal.τ).loc Cert.DeltaKeysReferenceIdeal.main_arg0) = m' ((c.tc : Thread Cert.DeltaKeysReferenceIdeal.nD Cert.DeltaKeysReferenceIdeal.τ).loc Cert.DeltaKeysReferenceIdeal.main_arg0)
          ∧ r.2.mem ((c.tc : Thread Cert.DeltaKeysReferenceIdeal.nD Cert.DeltaKeysReferenceIdeal.τ).loc Cert.DeltaKeysReferenceIdeal.main_arg1) = m' ((c.tc : Thread Cert.DeltaKeysReferenceIdeal.nD Cert.DeltaKeysReferenceIdeal.τ).loc Cert.DeltaKeysReferenceIdeal.main_arg1)
          ∧ r.2.mem ((c.tc : Thread Cert.DeltaKeysReferenceIdeal.nD Cert.DeltaKeysReferenceIdeal.τ).loc Cert.DeltaKeysReferenceIdeal.main_arg2) = m' ((c.tc : Thread Cert.DeltaKeysReferenceIdeal.nD Cert.DeltaKeysReferenceIdeal.τ).loc Cert.DeltaKeysReferenceIdeal.main_arg2))

def preserves_DeltaValues_DeltaValuesIdeal : Prop :=
  True

def algebraic_DeltaValuesIdeal_DeltaValuesReferenceIdeal [hDeltaValuesIdeal : Cert.DeltaValuesIdeal.Facts] [hDeltaValuesReferenceIdeal : Cert.DeltaValuesReferenceIdeal.Facts] : Prop :=
  ∀ (m : (ℓ : Loc Cert.DeltaValuesIdeal.nD Cert.DeltaValuesIdeal.τ Cert.DeltaValuesIdeal.sig) → Buf (Elt Ideal) ℓ) (g : Dev Cert.DeltaValuesIdeal.nD → PrngReg)
    (m' : (ℓ : Loc Cert.DeltaValuesReferenceIdeal.nD Cert.DeltaValuesReferenceIdeal.τ Cert.DeltaValuesReferenceIdeal.sig) → Buf (Elt Ideal) ℓ) (g' : Dev Cert.DeltaValuesReferenceIdeal.nD → PrngReg), Pre_DeltaValuesIdeal m →
    (∀ c : Dev Cert.DeltaValuesIdeal.nD,
      m' ((c.tc : Thread Cert.DeltaValuesReferenceIdeal.nD Cert.DeltaValuesReferenceIdeal.τ).loc Cert.DeltaValuesReferenceIdeal.main_arg0) = m ((c.tc : Thread Cert.DeltaValuesIdeal.nD Cert.DeltaValuesIdeal.τ).loc Cert.DeltaValuesIdeal.main_arg0)
      ∧ m' ((c.tc : Thread Cert.DeltaValuesReferenceIdeal.nD Cert.DeltaValuesReferenceIdeal.τ).loc Cert.DeltaValuesReferenceIdeal.main_arg1) = m ((c.tc : Thread Cert.DeltaValuesIdeal.nD Cert.DeltaValuesIdeal.τ).loc Cert.DeltaValuesIdeal.main_arg1)
      ∧ m' ((c.tc : Thread Cert.DeltaValuesReferenceIdeal.nD Cert.DeltaValuesReferenceIdeal.τ).loc Cert.DeltaValuesReferenceIdeal.main_arg2) = m ((c.tc : Thread Cert.DeltaValuesIdeal.nD Cert.DeltaValuesIdeal.τ).loc Cert.DeltaValuesIdeal.main_arg2)) →
    ∃ (v0 : (c : Dev Cert.DeltaValuesIdeal.nD) → Buf (Elt Ideal) ((c.tc : Thread Cert.DeltaValuesIdeal.nD Cert.DeltaValuesIdeal.τ).loc Cert.DeltaValuesIdeal.main_v2_0)) (v1 : (c : Dev Cert.DeltaValuesIdeal.nD) → Buf (Elt Ideal) ((c.tc : Thread Cert.DeltaValuesIdeal.nD Cert.DeltaValuesIdeal.τ).loc Cert.DeltaValuesIdeal.main_v2_1)),
      θ_run (Cert.DeltaValuesIdeal.defs (F := Ideal)) (onTc (τ := Cert.DeltaValuesIdeal.τ) (Cert.DeltaValuesIdeal.main (F := Ideal))) ⟨m, fun _ => 0, g⟩ (fun r => ∀ c : Dev Cert.DeltaValuesIdeal.nD,
          r.2.mem ((c.tc : Thread Cert.DeltaValuesIdeal.nD Cert.DeltaValuesIdeal.τ).loc Cert.DeltaValuesIdeal.main_v2_0) = v0 c
          ∧ r.2.mem ((c.tc : Thread Cert.DeltaValuesIdeal.nD Cert.DeltaValuesIdeal.τ).loc Cert.DeltaValuesIdeal.main_v2_1) = v1 c
          ∧ r.2.mem ((c.tc : Thread Cert.DeltaValuesIdeal.nD Cert.DeltaValuesIdeal.τ).loc Cert.DeltaValuesIdeal.main_arg0) = m ((c.tc : Thread Cert.DeltaValuesIdeal.nD Cert.DeltaValuesIdeal.τ).loc Cert.DeltaValuesIdeal.main_arg0)
          ∧ r.2.mem ((c.tc : Thread Cert.DeltaValuesIdeal.nD Cert.DeltaValuesIdeal.τ).loc Cert.DeltaValuesIdeal.main_arg1) = m ((c.tc : Thread Cert.DeltaValuesIdeal.nD Cert.DeltaValuesIdeal.τ).loc Cert.DeltaValuesIdeal.main_arg1)
          ∧ r.2.mem ((c.tc : Thread Cert.DeltaValuesIdeal.nD Cert.DeltaValuesIdeal.τ).loc Cert.DeltaValuesIdeal.main_arg2) = m ((c.tc : Thread Cert.DeltaValuesIdeal.nD Cert.DeltaValuesIdeal.τ).loc Cert.DeltaValuesIdeal.main_arg2))
      ∧ θ_run (Cert.DeltaValuesReferenceIdeal.defs (F := Ideal)) (onTc (τ := Cert.DeltaValuesReferenceIdeal.τ) (Cert.DeltaValuesReferenceIdeal.main (F := Ideal))) ⟨m', fun _ => 0, g'⟩ (fun r => ∀ c : Dev Cert.DeltaValuesReferenceIdeal.nD,
          r.2.mem ((c.tc : Thread Cert.DeltaValuesReferenceIdeal.nD Cert.DeltaValuesReferenceIdeal.τ).loc Cert.DeltaValuesReferenceIdeal.main_v81) = v0 c
          ∧ r.2.mem ((c.tc : Thread Cert.DeltaValuesReferenceIdeal.nD Cert.DeltaValuesReferenceIdeal.τ).loc Cert.DeltaValuesReferenceIdeal.main_v82) = v1 c
          ∧ r.2.mem ((c.tc : Thread Cert.DeltaValuesReferenceIdeal.nD Cert.DeltaValuesReferenceIdeal.τ).loc Cert.DeltaValuesReferenceIdeal.main_arg0) = m' ((c.tc : Thread Cert.DeltaValuesReferenceIdeal.nD Cert.DeltaValuesReferenceIdeal.τ).loc Cert.DeltaValuesReferenceIdeal.main_arg0)
          ∧ r.2.mem ((c.tc : Thread Cert.DeltaValuesReferenceIdeal.nD Cert.DeltaValuesReferenceIdeal.τ).loc Cert.DeltaValuesReferenceIdeal.main_arg1) = m' ((c.tc : Thread Cert.DeltaValuesReferenceIdeal.nD Cert.DeltaValuesReferenceIdeal.τ).loc Cert.DeltaValuesReferenceIdeal.main_arg1)
          ∧ r.2.mem ((c.tc : Thread Cert.DeltaValuesReferenceIdeal.nD Cert.DeltaValuesReferenceIdeal.τ).loc Cert.DeltaValuesReferenceIdeal.main_arg2) = m' ((c.tc : Thread Cert.DeltaValuesReferenceIdeal.nD Cert.DeltaValuesReferenceIdeal.τ).loc Cert.DeltaValuesReferenceIdeal.main_arg2))

def preserves_Discretise_DiscretiseIdeal : Prop :=
  True

def algebraic_DiscretiseIdeal_DiscretiseReferenceIdeal [hDiscretiseIdeal : Cert.DiscretiseIdeal.Facts] [hDiscretiseReferenceIdeal : Cert.DiscretiseReferenceIdeal.Facts] : Prop :=
  ∀ (m : (ℓ : Loc Cert.DiscretiseIdeal.nD Cert.DiscretiseIdeal.τ Cert.DiscretiseIdeal.sig) → Buf (Elt Ideal) ℓ) (g : Dev Cert.DiscretiseIdeal.nD → PrngReg)
    (m' : (ℓ : Loc Cert.DiscretiseReferenceIdeal.nD Cert.DiscretiseReferenceIdeal.τ Cert.DiscretiseReferenceIdeal.sig) → Buf (Elt Ideal) ℓ) (g' : Dev Cert.DiscretiseReferenceIdeal.nD → PrngReg), Pre_DiscretiseIdeal m →
    (∀ c : Dev Cert.DiscretiseIdeal.nD,
      m' ((c.tc : Thread Cert.DiscretiseReferenceIdeal.nD Cert.DiscretiseReferenceIdeal.τ).loc Cert.DiscretiseReferenceIdeal.main_arg0) = m ((c.tc : Thread Cert.DiscretiseIdeal.nD Cert.DiscretiseIdeal.τ).loc Cert.DiscretiseIdeal.main_arg0)
      ∧ m' ((c.tc : Thread Cert.DiscretiseReferenceIdeal.nD Cert.DiscretiseReferenceIdeal.τ).loc Cert.DiscretiseReferenceIdeal.main_arg1) = m ((c.tc : Thread Cert.DiscretiseIdeal.nD Cert.DiscretiseIdeal.τ).loc Cert.DiscretiseIdeal.main_arg1)
      ∧ m' ((c.tc : Thread Cert.DiscretiseReferenceIdeal.nD Cert.DiscretiseReferenceIdeal.τ).loc Cert.DiscretiseReferenceIdeal.main_arg2) = m ((c.tc : Thread Cert.DiscretiseIdeal.nD Cert.DiscretiseIdeal.τ).loc Cert.DiscretiseIdeal.main_arg2)
      ∧ m' ((c.tc : Thread Cert.DiscretiseReferenceIdeal.nD Cert.DiscretiseReferenceIdeal.τ).loc Cert.DiscretiseReferenceIdeal.main_arg3) = m ((c.tc : Thread Cert.DiscretiseIdeal.nD Cert.DiscretiseIdeal.τ).loc Cert.DiscretiseIdeal.main_arg3)
      ∧ m' ((c.tc : Thread Cert.DiscretiseReferenceIdeal.nD Cert.DiscretiseReferenceIdeal.τ).loc Cert.DiscretiseReferenceIdeal.main_arg4) = m ((c.tc : Thread Cert.DiscretiseIdeal.nD Cert.DiscretiseIdeal.τ).loc Cert.DiscretiseIdeal.main_arg4)
      ∧ m' ((c.tc : Thread Cert.DiscretiseReferenceIdeal.nD Cert.DiscretiseReferenceIdeal.τ).loc Cert.DiscretiseReferenceIdeal.main_arg5) = m ((c.tc : Thread Cert.DiscretiseIdeal.nD Cert.DiscretiseIdeal.τ).loc Cert.DiscretiseIdeal.main_arg5)
      ∧ m' ((c.tc : Thread Cert.DiscretiseReferenceIdeal.nD Cert.DiscretiseReferenceIdeal.τ).loc Cert.DiscretiseReferenceIdeal.main_arg6) = m ((c.tc : Thread Cert.DiscretiseIdeal.nD Cert.DiscretiseIdeal.τ).loc Cert.DiscretiseIdeal.main_arg6)
      ∧ m' ((c.tc : Thread Cert.DiscretiseReferenceIdeal.nD Cert.DiscretiseReferenceIdeal.τ).loc Cert.DiscretiseReferenceIdeal.main_arg7) = m ((c.tc : Thread Cert.DiscretiseIdeal.nD Cert.DiscretiseIdeal.τ).loc Cert.DiscretiseIdeal.main_arg7)
      ∧ m' ((c.tc : Thread Cert.DiscretiseReferenceIdeal.nD Cert.DiscretiseReferenceIdeal.τ).loc Cert.DiscretiseReferenceIdeal.main_arg8) = m ((c.tc : Thread Cert.DiscretiseIdeal.nD Cert.DiscretiseIdeal.τ).loc Cert.DiscretiseIdeal.main_arg8)) →
    ∃ (v0 : (c : Dev Cert.DiscretiseIdeal.nD) → Buf (Elt Ideal) ((c.tc : Thread Cert.DiscretiseIdeal.nD Cert.DiscretiseIdeal.τ).loc Cert.DiscretiseIdeal.main_v3_0)) (v1 : (c : Dev Cert.DiscretiseIdeal.nD) → Buf (Elt Ideal) ((c.tc : Thread Cert.DiscretiseIdeal.nD Cert.DiscretiseIdeal.τ).loc Cert.DiscretiseIdeal.main_v3_1)) (v2 : (c : Dev Cert.DiscretiseIdeal.nD) → Buf (Elt Ideal) ((c.tc : Thread Cert.DiscretiseIdeal.nD Cert.DiscretiseIdeal.τ).loc Cert.DiscretiseIdeal.main_v3_2)) (v3 : (c : Dev Cert.DiscretiseIdeal.nD) → Buf (Elt Ideal) ((c.tc : Thread Cert.DiscretiseIdeal.nD Cert.DiscretiseIdeal.τ).loc Cert.DiscretiseIdeal.main_v3_3)) (v4 : (c : Dev Cert.DiscretiseIdeal.nD) → Buf (Elt Ideal) ((c.tc : Thread Cert.DiscretiseIdeal.nD Cert.DiscretiseIdeal.τ).loc Cert.DiscretiseIdeal.main_v3_4)),
      θ_run (Cert.DiscretiseIdeal.defs (F := Ideal)) (onTc (τ := Cert.DiscretiseIdeal.τ) (Cert.DiscretiseIdeal.main (F := Ideal))) ⟨m, fun _ => 0, g⟩ (fun r => ∀ c : Dev Cert.DiscretiseIdeal.nD,
          r.2.mem ((c.tc : Thread Cert.DiscretiseIdeal.nD Cert.DiscretiseIdeal.τ).loc Cert.DiscretiseIdeal.main_v3_0) = v0 c
          ∧ r.2.mem ((c.tc : Thread Cert.DiscretiseIdeal.nD Cert.DiscretiseIdeal.τ).loc Cert.DiscretiseIdeal.main_v3_1) = v1 c
          ∧ r.2.mem ((c.tc : Thread Cert.DiscretiseIdeal.nD Cert.DiscretiseIdeal.τ).loc Cert.DiscretiseIdeal.main_v3_2) = v2 c
          ∧ r.2.mem ((c.tc : Thread Cert.DiscretiseIdeal.nD Cert.DiscretiseIdeal.τ).loc Cert.DiscretiseIdeal.main_v3_3) = v3 c
          ∧ r.2.mem ((c.tc : Thread Cert.DiscretiseIdeal.nD Cert.DiscretiseIdeal.τ).loc Cert.DiscretiseIdeal.main_v3_4) = v4 c
          ∧ r.2.mem ((c.tc : Thread Cert.DiscretiseIdeal.nD Cert.DiscretiseIdeal.τ).loc Cert.DiscretiseIdeal.main_arg0) = m ((c.tc : Thread Cert.DiscretiseIdeal.nD Cert.DiscretiseIdeal.τ).loc Cert.DiscretiseIdeal.main_arg0)
          ∧ r.2.mem ((c.tc : Thread Cert.DiscretiseIdeal.nD Cert.DiscretiseIdeal.τ).loc Cert.DiscretiseIdeal.main_arg1) = m ((c.tc : Thread Cert.DiscretiseIdeal.nD Cert.DiscretiseIdeal.τ).loc Cert.DiscretiseIdeal.main_arg1)
          ∧ r.2.mem ((c.tc : Thread Cert.DiscretiseIdeal.nD Cert.DiscretiseIdeal.τ).loc Cert.DiscretiseIdeal.main_arg2) = m ((c.tc : Thread Cert.DiscretiseIdeal.nD Cert.DiscretiseIdeal.τ).loc Cert.DiscretiseIdeal.main_arg2)
          ∧ r.2.mem ((c.tc : Thread Cert.DiscretiseIdeal.nD Cert.DiscretiseIdeal.τ).loc Cert.DiscretiseIdeal.main_arg3) = m ((c.tc : Thread Cert.DiscretiseIdeal.nD Cert.DiscretiseIdeal.τ).loc Cert.DiscretiseIdeal.main_arg3)
          ∧ r.2.mem ((c.tc : Thread Cert.DiscretiseIdeal.nD Cert.DiscretiseIdeal.τ).loc Cert.DiscretiseIdeal.main_arg4) = m ((c.tc : Thread Cert.DiscretiseIdeal.nD Cert.DiscretiseIdeal.τ).loc Cert.DiscretiseIdeal.main_arg4)
          ∧ r.2.mem ((c.tc : Thread Cert.DiscretiseIdeal.nD Cert.DiscretiseIdeal.τ).loc Cert.DiscretiseIdeal.main_arg5) = m ((c.tc : Thread Cert.DiscretiseIdeal.nD Cert.DiscretiseIdeal.τ).loc Cert.DiscretiseIdeal.main_arg5)
          ∧ r.2.mem ((c.tc : Thread Cert.DiscretiseIdeal.nD Cert.DiscretiseIdeal.τ).loc Cert.DiscretiseIdeal.main_arg6) = m ((c.tc : Thread Cert.DiscretiseIdeal.nD Cert.DiscretiseIdeal.τ).loc Cert.DiscretiseIdeal.main_arg6)
          ∧ r.2.mem ((c.tc : Thread Cert.DiscretiseIdeal.nD Cert.DiscretiseIdeal.τ).loc Cert.DiscretiseIdeal.main_arg7) = m ((c.tc : Thread Cert.DiscretiseIdeal.nD Cert.DiscretiseIdeal.τ).loc Cert.DiscretiseIdeal.main_arg7)
          ∧ r.2.mem ((c.tc : Thread Cert.DiscretiseIdeal.nD Cert.DiscretiseIdeal.τ).loc Cert.DiscretiseIdeal.main_arg8) = m ((c.tc : Thread Cert.DiscretiseIdeal.nD Cert.DiscretiseIdeal.τ).loc Cert.DiscretiseIdeal.main_arg8))
      ∧ θ_run (Cert.DiscretiseReferenceIdeal.defs (F := Ideal)) (onTc (τ := Cert.DiscretiseReferenceIdeal.τ) (Cert.DiscretiseReferenceIdeal.main (F := Ideal))) ⟨m', fun _ => 0, g'⟩ (fun r => ∀ c : Dev Cert.DiscretiseReferenceIdeal.nD,
          r.2.mem ((c.tc : Thread Cert.DiscretiseReferenceIdeal.nD Cert.DiscretiseReferenceIdeal.τ).loc Cert.DiscretiseReferenceIdeal.main_v144) = v0 c
          ∧ r.2.mem ((c.tc : Thread Cert.DiscretiseReferenceIdeal.nD Cert.DiscretiseReferenceIdeal.τ).loc Cert.DiscretiseReferenceIdeal.main_v137) = v1 c
          ∧ r.2.mem ((c.tc : Thread Cert.DiscretiseReferenceIdeal.nD Cert.DiscretiseReferenceIdeal.τ).loc Cert.DiscretiseReferenceIdeal.main_v129) = v2 c
          ∧ r.2.mem ((c.tc : Thread Cert.DiscretiseReferenceIdeal.nD Cert.DiscretiseReferenceIdeal.τ).loc Cert.DiscretiseReferenceIdeal.main_v145) = v3 c
          ∧ r.2.mem ((c.tc : Thread Cert.DiscretiseReferenceIdeal.nD Cert.DiscretiseReferenceIdeal.τ).loc Cert.DiscretiseReferenceIdeal.main_v146) = v4 c
          ∧ r.2.mem ((c.tc : Thread Cert.DiscretiseReferenceIdeal.nD Cert.DiscretiseReferenceIdeal.τ).loc Cert.DiscretiseReferenceIdeal.main_arg0) = m' ((c.tc : Thread Cert.DiscretiseReferenceIdeal.nD Cert.DiscretiseReferenceIdeal.τ).loc Cert.DiscretiseReferenceIdeal.main_arg0)
          ∧ r.2.mem ((c.tc : Thread Cert.DiscretiseReferenceIdeal.nD Cert.DiscretiseReferenceIdeal.τ).loc Cert.DiscretiseReferenceIdeal.main_arg1) = m' ((c.tc : Thread Cert.DiscretiseReferenceIdeal.nD Cert.DiscretiseReferenceIdeal.τ).loc Cert.DiscretiseReferenceIdeal.main_arg1)
          ∧ r.2.mem ((c.tc : Thread Cert.DiscretiseReferenceIdeal.nD Cert.DiscretiseReferenceIdeal.τ).loc Cert.DiscretiseReferenceIdeal.main_arg2) = m' ((c.tc : Thread Cert.DiscretiseReferenceIdeal.nD Cert.DiscretiseReferenceIdeal.τ).loc Cert.DiscretiseReferenceIdeal.main_arg2)
          ∧ r.2.mem ((c.tc : Thread Cert.DiscretiseReferenceIdeal.nD Cert.DiscretiseReferenceIdeal.τ).loc Cert.DiscretiseReferenceIdeal.main_arg3) = m' ((c.tc : Thread Cert.DiscretiseReferenceIdeal.nD Cert.DiscretiseReferenceIdeal.τ).loc Cert.DiscretiseReferenceIdeal.main_arg3)
          ∧ r.2.mem ((c.tc : Thread Cert.DiscretiseReferenceIdeal.nD Cert.DiscretiseReferenceIdeal.τ).loc Cert.DiscretiseReferenceIdeal.main_arg4) = m' ((c.tc : Thread Cert.DiscretiseReferenceIdeal.nD Cert.DiscretiseReferenceIdeal.τ).loc Cert.DiscretiseReferenceIdeal.main_arg4)
          ∧ r.2.mem ((c.tc : Thread Cert.DiscretiseReferenceIdeal.nD Cert.DiscretiseReferenceIdeal.τ).loc Cert.DiscretiseReferenceIdeal.main_arg5) = m' ((c.tc : Thread Cert.DiscretiseReferenceIdeal.nD Cert.DiscretiseReferenceIdeal.τ).loc Cert.DiscretiseReferenceIdeal.main_arg5)
          ∧ r.2.mem ((c.tc : Thread Cert.DiscretiseReferenceIdeal.nD Cert.DiscretiseReferenceIdeal.τ).loc Cert.DiscretiseReferenceIdeal.main_arg6) = m' ((c.tc : Thread Cert.DiscretiseReferenceIdeal.nD Cert.DiscretiseReferenceIdeal.τ).loc Cert.DiscretiseReferenceIdeal.main_arg6)
          ∧ r.2.mem ((c.tc : Thread Cert.DiscretiseReferenceIdeal.nD Cert.DiscretiseReferenceIdeal.τ).loc Cert.DiscretiseReferenceIdeal.main_arg7) = m' ((c.tc : Thread Cert.DiscretiseReferenceIdeal.nD Cert.DiscretiseReferenceIdeal.τ).loc Cert.DiscretiseReferenceIdeal.main_arg7)
          ∧ r.2.mem ((c.tc : Thread Cert.DiscretiseReferenceIdeal.nD Cert.DiscretiseReferenceIdeal.τ).loc Cert.DiscretiseReferenceIdeal.main_arg8) = m' ((c.tc : Thread Cert.DiscretiseReferenceIdeal.nD Cert.DiscretiseReferenceIdeal.τ).loc Cert.DiscretiseReferenceIdeal.main_arg8))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)
      ∧ m' ((c.tc : Thread Cert.AdamInReferenceIdeal.nD Cert.AdamInReferenceIdeal.τ).loc Cert.AdamInReferenceIdeal.main_arg5) = m ((c.tc : Thread Cert.AdamInIdeal.nD Cert.AdamInIdeal.τ).loc Cert.AdamInIdeal.main_arg5)
      ∧ m' ((c.tc : Thread Cert.AdamInReferenceIdeal.nD Cert.AdamInReferenceIdeal.τ).loc Cert.AdamInReferenceIdeal.main_arg6) = m ((c.tc : Thread Cert.AdamInIdeal.nD Cert.AdamInIdeal.τ).loc Cert.AdamInIdeal.main_arg6)
      ∧ m' ((c.tc : Thread Cert.AdamInReferenceIdeal.nD Cert.AdamInReferenceIdeal.τ).loc Cert.AdamInReferenceIdeal.main_arg7) = m ((c.tc : Thread Cert.AdamInIdeal.nD Cert.AdamInIdeal.τ).loc Cert.AdamInIdeal.main_arg7)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
          ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v36) = v0 c
          ∧ r.2.mem ((c.tc : Thread Cert.AdamInReferenceIdeal.nD Cert.AdamInReferenceIdeal.τ).loc Cert.AdamInReferenceIdeal.main_v41) = v1 c
          ∧ r.2.mem ((c.tc : Thread Cert.AdamInReferenceIdeal.nD Cert.AdamInReferenceIdeal.τ).loc Cert.AdamInReferenceIdeal.main_v46) = v2 c
          ∧ r.2.mem ((c.tc : Thread Cert.AdamInReferenceIdeal.nD Cert.AdamInReferenceIdeal.τ).loc Cert.AdamInReferenceIdeal.main_v51) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4)
          ∧ r.2.mem ((c.tc : Thread Cert.AdamInReferenceIdeal.nD Cert.AdamInReferenceIdeal.τ).loc Cert.AdamInReferenceIdeal.main_arg5) = m' ((c.tc : Thread Cert.AdamInReferenceIdeal.nD Cert.AdamInReferenceIdeal.τ).loc Cert.AdamInReferenceIdeal.main_arg5)
          ∧ r.2.mem ((c.tc : Thread Cert.AdamInReferenceIdeal.nD Cert.AdamInReferenceIdeal.τ).loc Cert.AdamInReferenceIdeal.main_arg6) = m' ((c.tc : Thread Cert.AdamInReferenceIdeal.nD Cert.AdamInReferenceIdeal.τ).loc Cert.AdamInReferenceIdeal.main_arg6)
          ∧ r.2.mem ((c.tc : Thread Cert.AdamInReferenceIdeal.nD Cert.AdamInReferenceIdeal.τ).loc Cert.AdamInReferenceIdeal.main_arg7) = m' ((c.tc : Thread Cert.AdamInReferenceIdeal.nD Cert.AdamInReferenceIdeal.τ).loc Cert.AdamInReferenceIdeal.main_arg7))

def preserves_AdamDeltaConv_AdamDeltaConvIdeal : Prop :=
  True

def algebraic_AdamDeltaConvIdeal_AdamDeltaConvReferenceIdeal [hAdamDeltaConvIdeal : Cert.AdamDeltaConvIdeal.Facts] [hAdamDeltaConvReferenceIdeal : Cert.AdamDeltaConvReferenceIdeal.Facts] : Prop :=
  ∀ (m : (ℓ : Loc Cert.AdamDeltaConvIdeal.nD Cert.AdamDeltaConvIdeal.τ Cert.AdamDeltaConvIdeal.sig) → Buf (Elt Ideal) ℓ) (g : Dev Cert.AdamDeltaConvIdeal.nD → PrngReg)
    (m' : (ℓ : Loc Cert.AdamDeltaConvReferenceIdeal.nD Cert.AdamDeltaConvReferenceIdeal.τ Cert.AdamDeltaConvReferenceIdeal.sig) → Buf (Elt Ideal) ℓ) (g' : Dev Cert.AdamDeltaConvReferenceIdeal.nD → PrngReg), Pre_AdamDeltaConvIdeal m →
    (∀ c : Dev Cert.AdamDeltaConvIdeal.nD,
      m' ((c.tc : Thread Cert.AdamDeltaConvReferenceIdeal.nD Cert.AdamDeltaConvReferenceIdeal.τ).loc Cert.AdamDeltaConvReferenceIdeal.main_arg0) = m ((c.tc : Thread Cert.AdamDeltaConvIdeal.nD Cert.AdamDeltaConvIdeal.τ).loc Cert.AdamDeltaConvIdeal.main_arg0)
      ∧ m' ((c.tc : Thread Cert.AdamDeltaConvReferenceIdeal.nD Cert.AdamDeltaConvReferenceIdeal.τ).loc Cert.AdamDeltaConvReferenceIdeal.main_arg1) = m ((c.tc : Thread Cert.AdamDeltaConvIdeal.nD Cert.AdamDeltaConvIdeal.τ).loc Cert.AdamDeltaConvIdeal.main_arg1)
      ∧ m' ((c.tc : Thread Cert.AdamDeltaConvReferenceIdeal.nD Cert.AdamDeltaConvReferenceIdeal.τ).loc Cert.AdamDeltaConvReferenceIdeal.main_arg2) = m ((c.tc : Thread Cert.AdamDeltaConvIdeal.nD Cert.AdamDeltaConvIdeal.τ).loc Cert.AdamDeltaConvIdeal.main_arg2)
      ∧ m' ((c.tc : Thread Cert.AdamDeltaConvReferenceIdeal.nD Cert.AdamDeltaConvReferenceIdeal.τ).loc Cert.AdamDeltaConvReferenceIdeal.main_arg3) = m ((c.tc : Thread Cert.AdamDeltaConvIdeal.nD Cert.AdamDeltaConvIdeal.τ).loc Cert.AdamDeltaConvIdeal.main_arg3)
      ∧ m' ((c.tc : Thread Cert.AdamDeltaConvReferenceIdeal.nD Cert.AdamDeltaConvReferenceIdeal.τ).loc Cert.AdamDeltaConvReferenceIdeal.main_arg4) = m ((c.tc : Thread Cert.AdamDeltaConvIdeal.nD Cert.AdamDeltaConvIdeal.τ).loc Cert.AdamDeltaConvIdeal.main_arg4)
      ∧ m' ((c.tc : Thread Cert.AdamDeltaConvReferenceIdeal.nD Cert.AdamDeltaConvReferenceIdeal.τ).loc Cert.AdamDeltaConvReferenceIdeal.main_arg5) = m ((c.tc : Thread Cert.AdamDeltaConvIdeal.nD Cert.AdamDeltaConvIdeal.τ).loc Cert.AdamDeltaConvIdeal.main_arg5)
      ∧ m' ((c.tc : Thread Cert.AdamDeltaConvReferenceIdeal.nD Cert.AdamDeltaConvReferenceIdeal.τ).loc Cert.AdamDeltaConvReferenceIdeal.main_arg6) = m ((c.tc : Thread Cert.AdamDeltaConvIdeal.nD Cert.AdamDeltaConvIdeal.τ).loc Cert.AdamDeltaConvIdeal.main_arg6)
      ∧ m' ((c.tc : Thread Cert.AdamDeltaConvReferenceIdeal.nD Cert.AdamDeltaConvReferenceIdeal.τ).loc Cert.AdamDeltaConvReferenceIdeal.main_arg7) = m ((c.tc : Thread Cert.AdamDeltaConvIdeal.nD Cert.AdamDeltaConvIdeal.τ).loc Cert.AdamDeltaConvIdeal.main_arg7)) →
    ∃ (v0 : (c : Dev Cert.AdamDeltaConvIdeal.nD) → Buf (Elt Ideal) ((c.tc : Thread Cert.AdamDeltaConvIdeal.nD Cert.AdamDeltaConvIdeal.τ).loc Cert.AdamDeltaConvIdeal.main_v0_0)) (v1 : (c : Dev Cert.AdamDeltaConvIdeal.nD) → Buf (Elt Ideal) ((c.tc : Thread Cert.AdamDeltaConvIdeal.nD Cert.AdamDeltaConvIdeal.τ).loc Cert.AdamDeltaConvIdeal.main_v0_1)) (v2 : (c : Dev Cert.AdamDeltaConvIdeal.nD) → Buf (Elt Ideal) ((c.tc : Thread Cert.AdamDeltaConvIdeal.nD Cert.AdamDeltaConvIdeal.τ).loc Cert.AdamDeltaConvIdeal.main_v0_2)) (v3 : (c : Dev Cert.AdamDeltaConvIdeal.nD) → Buf (Elt Ideal) ((c.tc : Thread Cert.AdamDeltaConvIdeal.nD Cert.AdamDeltaConvIdeal.τ).loc Cert.AdamDeltaConvIdeal.main_v0_3)),
      θ_run (Cert.AdamDeltaConvIdeal.defs (F := Ideal)) (onTc (τ := Cert.AdamDeltaConvIdeal.τ) (Cert.AdamDeltaConvIdeal.main (F := Ideal))) ⟨m, fun _ => 0, g⟩ (fun r => ∀ c : Dev Cert.AdamDeltaConvIdeal.nD,
          r.2.mem ((c.tc : Thread Cert.AdamDeltaConvIdeal.nD Cert.AdamDeltaConvIdeal.τ).loc Cert.AdamDeltaConvIdeal.main_v0_0) = v0 c
          ∧ r.2.mem ((c.tc : Thread Cert.AdamDeltaConvIdeal.nD Cert.AdamDeltaConvIdeal.τ).loc Cert.AdamDeltaConvIdeal.main_v0_1) = v1 c
          ∧ r.2.mem ((c.tc : Thread Cert.AdamDeltaConvIdeal.nD Cert.AdamDeltaConvIdeal.τ).loc Cert.AdamDeltaConvIdeal.main_v0_2) = v2 c
          ∧ r.2.mem ((c.tc : Thread Cert.AdamDeltaConvIdeal.nD Cert.AdamDeltaConvIdeal.τ).loc Cert.AdamDeltaConvIdeal.main_v0_3) = v3 c
          ∧ r.2.mem ((c.tc : Thread Cert.AdamDeltaConvIdeal.nD Cert.AdamDeltaConvIdeal.τ).loc Cert.AdamDeltaConvIdeal.main_arg0) = m ((c.tc : Thread Cert.AdamDeltaConvIdeal.nD Cert.AdamDeltaConvIdeal.τ).loc Cert.AdamDeltaConvIdeal.main_arg0)
          ∧ r.2.mem ((c.tc : Thread Cert.AdamDeltaConvIdeal.nD Cert.AdamDeltaConvIdeal.τ).loc Cert.AdamDeltaConvIdeal.main_arg1) = m ((c.tc : Thread Cert.AdamDeltaConvIdeal.nD Cert.AdamDeltaConvIdeal.τ).loc Cert.AdamDeltaConvIdeal.main_arg1)
          ∧ r.2.mem ((c.tc : Thread Cert.AdamDeltaConvIdeal.nD Cert.AdamDeltaConvIdeal.τ).loc Cert.AdamDeltaConvIdeal.main_arg2) = m ((c.tc : Thread Cert.AdamDeltaConvIdeal.nD Cert.AdamDeltaConvIdeal.τ).loc Cert.AdamDeltaConvIdeal.main_arg2)
          ∧ r.2.mem ((c.tc : Thread Cert.AdamDeltaConvIdeal.nD Cert.AdamDeltaConvIdeal.τ).loc Cert.AdamDeltaConvIdeal.main_arg3) = m ((c.tc : Thread Cert.AdamDeltaConvIdeal.nD Cert.AdamDeltaConvIdeal.τ).loc Cert.AdamDeltaConvIdeal.main_arg3)
          ∧ r.2.mem ((c.tc : Thread Cert.AdamDeltaConvIdeal.nD Cert.AdamDeltaConvIdeal.τ).loc Cert.AdamDeltaConvIdeal.main_arg4) = m ((c.tc : Thread Cert.AdamDeltaConvIdeal.nD Cert.AdamDeltaConvIdeal.τ).loc Cert.AdamDeltaConvIdeal.main_arg4)
          ∧ r.2.mem ((c.tc : Thread Cert.AdamDeltaConvIdeal.nD Cert.AdamDeltaConvIdeal.τ).loc Cert.AdamDeltaConvIdeal.main_arg5) = m ((c.tc : Thread Cert.AdamDeltaConvIdeal.nD Cert.AdamDeltaConvIdeal.τ).loc Cert.AdamDeltaConvIdeal.main_arg5)
          ∧ r.2.mem ((c.tc : Thread Cert.AdamDeltaConvIdeal.nD Cert.AdamDeltaConvIdeal.τ).loc Cert.AdamDeltaConvIdeal.main_arg6) = m ((c.tc : Thread Cert.AdamDeltaConvIdeal.nD Cert.AdamDeltaConvIdeal.τ).loc Cert.AdamDeltaConvIdeal.main_arg6)
          ∧ r.2.mem ((c.tc : Thread Cert.AdamDeltaConvIdeal.nD Cert.AdamDeltaConvIdeal.τ).loc Cert.AdamDeltaConvIdeal.main_arg7) = m ((c.tc : Thread Cert.AdamDeltaConvIdeal.nD Cert.AdamDeltaConvIdeal.τ).loc Cert.AdamDeltaConvIdeal.main_arg7))
      ∧ θ_run (Cert.AdamDeltaConvReferenceIdeal.defs (F := Ideal)) (onTc (τ := Cert.AdamDeltaConvReferenceIdeal.τ) (Cert.AdamDeltaConvReferenceIdeal.main (F := Ideal))) ⟨m', fun _ => 0, g'⟩ (fun r => ∀ c : Dev Cert.AdamDeltaConvReferenceIdeal.nD,
          r.2.mem ((c.tc : Thread Cert.AdamDeltaConvReferenceIdeal.nD Cert.AdamDeltaConvReferenceIdeal.τ).loc Cert.AdamDeltaConvReferenceIdeal.main_v36) = v0 c
          ∧ r.2.mem ((c.tc : Thread Cert.AdamDeltaConvReferenceIdeal.nD Cert.AdamDeltaConvReferenceIdeal.τ).loc Cert.AdamDeltaConvReferenceIdeal.main_v41) = v1 c
          ∧ r.2.mem ((c.tc : Thread Cert.AdamDeltaConvReferenceIdeal.nD Cert.AdamDeltaConvReferenceIdeal.τ).loc Cert.AdamDeltaConvReferenceIdeal.main_v46) = v2 c
          ∧ r.2.mem ((c.tc : Thread Cert.AdamDeltaConvReferenceIdeal.nD Cert.AdamDeltaConvReferenceIdeal.τ).loc Cert.AdamDeltaConvReferenceIdeal.main_v51) = v3 c
          ∧ r.2.mem ((c.tc : Thread Cert.AdamDeltaConvReferenceIdeal.nD Cert.AdamDeltaConvReferenceIdeal.τ).loc Cert.AdamDeltaConvReferenceIdeal.main_arg0) = m' ((c.tc : Thread Cert.AdamDeltaConvReferenceIdeal.nD Cert.AdamDeltaConvReferenceIdeal.τ).loc Cert.AdamDeltaConvReferenceIdeal.main_arg0)
          ∧ r.2.mem ((c.tc : Thread Cert.AdamDeltaConvReferenceIdeal.nD Cert.AdamDeltaConvReferenceIdeal.τ).loc Cert.AdamDeltaConvReferenceIdeal.main_arg1) = m' ((c.tc : Thread Cert.AdamDeltaConvReferenceIdeal.nD Cert.AdamDeltaConvReferenceIdeal.τ).loc Cert.AdamDeltaConvReferenceIdeal.main_arg1)
          ∧ r.2.mem ((c.tc : Thread Cert.AdamDeltaConvReferenceIdeal.nD Cert.AdamDeltaConvReferenceIdeal.τ).loc Cert.AdamDeltaConvReferenceIdeal.main_arg2) = m' ((c.tc : Thread Cert.AdamDeltaConvReferenceIdeal.nD Cert.AdamDeltaConvReferenceIdeal.τ).loc Cert.AdamDeltaConvReferenceIdeal.main_arg2)
          ∧ r.2.mem ((c.tc : Thread Cert.AdamDeltaConvReferenceIdeal.nD Cert.AdamDeltaConvReferenceIdeal.τ).loc Cert.AdamDeltaConvReferenceIdeal.main_arg3) = m' ((c.tc : Thread Cert.AdamDeltaConvReferenceIdeal.nD Cert.AdamDeltaConvReferenceIdeal.τ).loc Cert.AdamDeltaConvReferenceIdeal.main_arg3)
          ∧ r.2.mem ((c.tc : Thread Cert.AdamDeltaConvReferenceIdeal.nD Cert.AdamDeltaConvReferenceIdeal.τ).loc Cert.AdamDeltaConvReferenceIdeal.main_arg4) = m' ((c.tc : Thread Cert.AdamDeltaConvReferenceIdeal.nD Cert.AdamDeltaConvReferenceIdeal.τ).loc Cert.AdamDeltaConvReferenceIdeal.main_arg4)
          ∧ r.2.mem ((c.tc : Thread Cert.AdamDeltaConvReferenceIdeal.nD Cert.AdamDeltaConvReferenceIdeal.τ).loc Cert.AdamDeltaConvReferenceIdeal.main_arg5) = m' ((c.tc : Thread Cert.AdamDeltaConvReferenceIdeal.nD Cert.AdamDeltaConvReferenceIdeal.τ).loc Cert.AdamDeltaConvReferenceIdeal.main_arg5)
          ∧ r.2.mem ((c.tc : Thread Cert.AdamDeltaConvReferenceIdeal.nD Cert.AdamDeltaConvReferenceIdeal.τ).loc Cert.AdamDeltaConvReferenceIdeal.main_arg6) = m' ((c.tc : Thread Cert.AdamDeltaConvReferenceIdeal.nD Cert.AdamDeltaConvReferenceIdeal.τ).loc Cert.AdamDeltaConvReferenceIdeal.main_arg6)
          ∧ r.2.mem ((c.tc : Thread Cert.AdamDeltaConvReferenceIdeal.nD Cert.AdamDeltaConvReferenceIdeal.τ).loc Cert.AdamDeltaConvReferenceIdeal.main_arg7) = m' ((c.tc : Thread Cert.AdamDeltaConvReferenceIdeal.nD Cert.AdamDeltaConvReferenceIdeal.τ).loc Cert.AdamDeltaConvReferenceIdeal.main_arg7))

def preserves_AdamRecurrenceConv_AdamRecurrenceConvIdeal : Prop :=
  True

def algebraic_AdamRecurrenceConvIdeal_AdamRecurrenceConvReferenceIdeal [hAdamRecurrenceConvIdeal : Cert.AdamRecurrenceConvIdeal.Facts] [hAdamRecurrenceConvReferenceIdeal : Cert.AdamRecurrenceConvReferenceIdeal.Facts] : Prop :=
  ∀ (m : (ℓ : Loc Cert.AdamRecurrenceConvIdeal.nD Cert.AdamRecurrenceConvIdeal.τ Cert.AdamRecurrenceConvIdeal.sig) → Buf (Elt Ideal) ℓ) (g : Dev Cert.AdamRecurrenceConvIdeal.nD → PrngReg)
    (m' : (ℓ : Loc Cert.AdamRecurrenceConvReferenceIdeal.nD Cert.AdamRecurrenceConvReferenceIdeal.τ Cert.AdamRecurrenceConvReferenceIdeal.sig) → Buf (Elt Ideal) ℓ) (g' : Dev Cert.AdamRecurrenceConvReferenceIdeal.nD → PrngReg), Pre_AdamRecurrenceConvIdeal m →
    (∀ c : Dev Cert.AdamRecurrenceConvIdeal.nD,
      m' ((c.tc : Thread Cert.AdamRecurrenceConvReferenceIdeal.nD Cert.AdamRecurrenceConvReferenceIdeal.τ).loc Cert.AdamRecurrenceConvReferenceIdeal.main_arg0) = m ((c.tc : Thread Cert.AdamRecurrenceConvIdeal.nD Cert.AdamRecurrenceConvIdeal.τ).loc Cert.AdamRecurrenceConvIdeal.main_arg0)
      ∧ m' ((c.tc : Thread Cert.AdamRecurrenceConvReferenceIdeal.nD Cert.AdamRecurrenceConvReferenceIdeal.τ).loc Cert.AdamRecurrenceConvReferenceIdeal.main_arg1) = m ((c.tc : Thread Cert.AdamRecurrenceConvIdeal.nD Cert.AdamRecurrenceConvIdeal.τ).loc Cert.AdamRecurrenceConvIdeal.main_arg1)
      ∧ m' ((c.tc : Thread Cert.AdamRecurrenceConvReferenceIdeal.nD Cert.AdamRecurrenceConvReferenceIdeal.τ).loc Cert.AdamRecurrenceConvReferenceIdeal.main_arg2) = m ((c.tc : Thread Cert.AdamRecurrenceConvIdeal.nD Cert.AdamRecurrenceConvIdeal.τ).loc Cert.AdamRecurrenceConvIdeal.main_arg2)
      ∧ m' ((c.tc : Thread Cert.AdamRecurrenceConvReferenceIdeal.nD Cert.AdamRecurrenceConvReferenceIdeal.τ).loc Cert.AdamRecurrenceConvReferenceIdeal.main_arg3) = m ((c.tc : Thread Cert.AdamRecurrenceConvIdeal.nD Cert.AdamRecurrenceConvIdeal.τ).loc Cert.AdamRecurrenceConvIdeal.main_arg3)
      ∧ m' ((c.tc : Thread Cert.AdamRecurrenceConvReferenceIdeal.nD Cert.AdamRecurrenceConvReferenceIdeal.τ).loc Cert.AdamRecurrenceConvReferenceIdeal.main_arg4) = m ((c.tc : Thread Cert.AdamRecurrenceConvIdeal.nD Cert.AdamRecurrenceConvIdeal.τ).loc Cert.AdamRecurrenceConvIdeal.main_arg4)
      ∧ m' ((c.tc : Thread Cert.AdamRecurrenceConvReferenceIdeal.nD Cert.AdamRecurrenceConvReferenceIdeal.τ).loc Cert.AdamRecurrenceConvReferenceIdeal.main_arg5) = m ((c.tc : Thread Cert.AdamRecurrenceConvIdeal.nD Cert.AdamRecurrenceConvIdeal.τ).loc Cert.AdamRecurrenceConvIdeal.main_arg5)
      ∧ m' ((c.tc : Thread Cert.AdamRecurrenceConvReferenceIdeal.nD Cert.AdamRecurrenceConvReferenceIdeal.τ).loc Cert.AdamRecurrenceConvReferenceIdeal.main_arg6) = m ((c.tc : Thread Cert.AdamRecurrenceConvIdeal.nD Cert.AdamRecurrenceConvIdeal.τ).loc Cert.AdamRecurrenceConvIdeal.main_arg6)
      ∧ m' ((c.tc : Thread Cert.AdamRecurrenceConvReferenceIdeal.nD Cert.AdamRecurrenceConvReferenceIdeal.τ).loc Cert.AdamRecurrenceConvReferenceIdeal.main_arg7) = m ((c.tc : Thread Cert.AdamRecurrenceConvIdeal.nD Cert.AdamRecurrenceConvIdeal.τ).loc Cert.AdamRecurrenceConvIdeal.main_arg7)) →
    ∃ (v0 : (c : Dev Cert.AdamRecurrenceConvIdeal.nD) → Buf (Elt Ideal) ((c.tc : Thread Cert.AdamRecurrenceConvIdeal.nD Cert.AdamRecurrenceConvIdeal.τ).loc Cert.AdamRecurrenceConvIdeal.main_v0_0)) (v1 : (c : Dev Cert.AdamRecurrenceConvIdeal.nD) → Buf (Elt Ideal) ((c.tc : Thread Cert.AdamRecurrenceConvIdeal.nD Cert.AdamRecurrenceConvIdeal.τ).loc Cert.AdamRecurrenceConvIdeal.main_v0_1)) (v2 : (c : Dev Cert.AdamRecurrenceConvIdeal.nD) → Buf (Elt Ideal) ((c.tc : Thread Cert.AdamRecurrenceConvIdeal.nD Cert.AdamRecurrenceConvIdeal.τ).loc Cert.AdamRecurrenceConvIdeal.main_v0_2)) (v3 : (c : Dev Cert.AdamRecurrenceConvIdeal.nD) → Buf (Elt Ideal) ((c.tc : Thread Cert.AdamRecurrenceConvIdeal.nD Cert.AdamRecurrenceConvIdeal.τ).loc Cert.AdamRecurrenceConvIdeal.main_v0_3)),
      θ_run (Cert.AdamRecurrenceConvIdeal.defs (F := Ideal)) (onTc (τ := Cert.AdamRecurrenceConvIdeal.τ) (Cert.AdamRecurrenceConvIdeal.main (F := Ideal))) ⟨m, fun _ => 0, g⟩ (fun r => ∀ c : Dev Cert.AdamRecurrenceConvIdeal.nD,
          r.2.mem ((c.tc : Thread Cert.AdamRecurrenceConvIdeal.nD Cert.AdamRecurrenceConvIdeal.τ).loc Cert.AdamRecurrenceConvIdeal.main_v0_0) = v0 c
          ∧ r.2.mem ((c.tc : Thread Cert.AdamRecurrenceConvIdeal.nD Cert.AdamRecurrenceConvIdeal.τ).loc Cert.AdamRecurrenceConvIdeal.main_v0_1) = v1 c
          ∧ r.2.mem ((c.tc : Thread Cert.AdamRecurrenceConvIdeal.nD Cert.AdamRecurrenceConvIdeal.τ).loc Cert.AdamRecurrenceConvIdeal.main_v0_2) = v2 c
          ∧ r.2.mem ((c.tc : Thread Cert.AdamRecurrenceConvIdeal.nD Cert.AdamRecurrenceConvIdeal.τ).loc Cert.AdamRecurrenceConvIdeal.main_v0_3) = v3 c
          ∧ r.2.mem ((c.tc : Thread Cert.AdamRecurrenceConvIdeal.nD Cert.AdamRecurrenceConvIdeal.τ).loc Cert.AdamRecurrenceConvIdeal.main_arg0) = m ((c.tc : Thread Cert.AdamRecurrenceConvIdeal.nD Cert.AdamRecurrenceConvIdeal.τ).loc Cert.AdamRecurrenceConvIdeal.main_arg0)
          ∧ r.2.mem ((c.tc : Thread Cert.AdamRecurrenceConvIdeal.nD Cert.AdamRecurrenceConvIdeal.τ).loc Cert.AdamRecurrenceConvIdeal.main_arg1) = m ((c.tc : Thread Cert.AdamRecurrenceConvIdeal.nD Cert.AdamRecurrenceConvIdeal.τ).loc Cert.AdamRecurrenceConvIdeal.main_arg1)
          ∧ r.2.mem ((c.tc : Thread Cert.AdamRecurrenceConvIdeal.nD Cert.AdamRecurrenceConvIdeal.τ).loc Cert.AdamRecurrenceConvIdeal.main_arg2) = m ((c.tc : Thread Cert.AdamRecurrenceConvIdeal.nD Cert.AdamRecurrenceConvIdeal.τ).loc Cert.AdamRecurrenceConvIdeal.main_arg2)
          ∧ r.2.mem ((c.tc : Thread Cert.AdamRecurrenceConvIdeal.nD Cert.AdamRecurrenceConvIdeal.τ).loc Cert.AdamRecurrenceConvIdeal.main_arg3) = m ((c.tc : Thread Cert.AdamRecurrenceConvIdeal.nD Cert.AdamRecurrenceConvIdeal.τ).loc Cert.AdamRecurrenceConvIdeal.main_arg3)
          ∧ r.2.mem ((c.tc : Thread Cert.AdamRecurrenceConvIdeal.nD Cert.AdamRecurrenceConvIdeal.τ).loc Cert.AdamRecurrenceConvIdeal.main_arg4) = m ((c.tc : Thread Cert.AdamRecurrenceConvIdeal.nD Cert.AdamRecurrenceConvIdeal.τ).loc Cert.AdamRecurrenceConvIdeal.main_arg4)
          ∧ r.2.mem ((c.tc : Thread Cert.AdamRecurrenceConvIdeal.nD Cert.AdamRecurrenceConvIdeal.τ).loc Cert.AdamRecurrenceConvIdeal.main_arg5) = m ((c.tc : Thread Cert.AdamRecurrenceConvIdeal.nD Cert.AdamRecurrenceConvIdeal.τ).loc Cert.AdamRecurrenceConvIdeal.main_arg5)
          ∧ r.2.mem ((c.tc : Thread Cert.AdamRecurrenceConvIdeal.nD Cert.AdamRecurrenceConvIdeal.τ).loc Cert.AdamRecurrenceConvIdeal.main_arg6) = m ((c.tc : Thread Cert.AdamRecurrenceConvIdeal.nD Cert.AdamRecurrenceConvIdeal.τ).loc Cert.AdamRecurrenceConvIdeal.main_arg6)
          ∧ r.2.mem ((c.tc : Thread Cert.AdamRecurrenceConvIdeal.nD Cert.AdamRecurrenceConvIdeal.τ).loc Cert.AdamRecurrenceConvIdeal.main_arg7) = m ((c.tc : Thread Cert.AdamRecurrenceConvIdeal.nD Cert.AdamRecurrenceConvIdeal.τ).loc Cert.AdamRecurrenceConvIdeal.main_arg7))
      ∧ θ_run (Cert.AdamRecurrenceConvReferenceIdeal.defs (F := Ideal)) (onTc (τ := Cert.AdamRecurrenceConvReferenceIdeal.τ) (Cert.AdamRecurrenceConvReferenceIdeal.main (F := Ideal))) ⟨m', fun _ => 0, g'⟩ (fun r => ∀ c : Dev Cert.AdamRecurrenceConvReferenceIdeal.nD,
          r.2.mem ((c.tc : Thread Cert.AdamRecurrenceConvReferenceIdeal.nD Cert.AdamRecurrenceConvReferenceIdeal.τ).loc Cert.AdamRecurrenceConvReferenceIdeal.main_v36) = v0 c
          ∧ r.2.mem ((c.tc : Thread Cert.AdamRecurrenceConvReferenceIdeal.nD Cert.AdamRecurrenceConvReferenceIdeal.τ).loc Cert.AdamRecurrenceConvReferenceIdeal.main_v41) = v1 c
          ∧ r.2.mem ((c.tc : Thread Cert.AdamRecurrenceConvReferenceIdeal.nD Cert.AdamRecurrenceConvReferenceIdeal.τ).loc Cert.AdamRecurrenceConvReferenceIdeal.main_v46) = v2 c
          ∧ r.2.mem ((c.tc : Thread Cert.AdamRecurrenceConvReferenceIdeal.nD Cert.AdamRecurrenceConvReferenceIdeal.τ).loc Cert.AdamRecurrenceConvReferenceIdeal.main_v51) = v3 c
          ∧ r.2.mem ((c.tc : Thread Cert.AdamRecurrenceConvReferenceIdeal.nD Cert.AdamRecurrenceConvReferenceIdeal.τ).loc Cert.AdamRecurrenceConvReferenceIdeal.main_arg0) = m' ((c.tc : Thread Cert.AdamRecurrenceConvReferenceIdeal.nD Cert.AdamRecurrenceConvReferenceIdeal.τ).loc Cert.AdamRecurrenceConvReferenceIdeal.main_arg0)
          ∧ r.2.mem ((c.tc : Thread Cert.AdamRecurrenceConvReferenceIdeal.nD Cert.AdamRecurrenceConvReferenceIdeal.τ).loc Cert.AdamRecurrenceConvReferenceIdeal.main_arg1) = m' ((c.tc : Thread Cert.AdamRecurrenceConvReferenceIdeal.nD Cert.AdamRecurrenceConvReferenceIdeal.τ).loc Cert.AdamRecurrenceConvReferenceIdeal.main_arg1)
          ∧ r.2.mem ((c.tc : Thread Cert.AdamRecurrenceConvReferenceIdeal.nD Cert.AdamRecurrenceConvReferenceIdeal.τ).loc Cert.AdamRecurrenceConvReferenceIdeal.main_arg2) = m' ((c.tc : Thread Cert.AdamRecurrenceConvReferenceIdeal.nD Cert.AdamRecurrenceConvReferenceIdeal.τ).loc Cert.AdamRecurrenceConvReferenceIdeal.main_arg2)
          ∧ r.2.mem ((c.tc : Thread Cert.AdamRecurrenceConvReferenceIdeal.nD Cert.AdamRecurrenceConvReferenceIdeal.τ).loc Cert.AdamRecurrenceConvReferenceIdeal.main_arg3) = m' ((c.tc : Thread Cert.AdamRecurrenceConvReferenceIdeal.nD Cert.AdamRecurrenceConvReferenceIdeal.τ).loc Cert.AdamRecurrenceConvReferenceIdeal.main_arg3)
          ∧ r.2.mem ((c.tc : Thread Cert.AdamRecurrenceConvReferenceIdeal.nD Cert.AdamRecurrenceConvReferenceIdeal.τ).loc Cert.AdamRecurrenceConvReferenceIdeal.main_arg4) = m' ((c.tc : Thread Cert.AdamRecurrenceConvReferenceIdeal.nD Cert.AdamRecurrenceConvReferenceIdeal.τ).loc Cert.AdamRecurrenceConvReferenceIdeal.main_arg4)
          ∧ r.2.mem ((c.tc : Thread Cert.AdamRecurrenceConvReferenceIdeal.nD Cert.AdamRecurrenceConvReferenceIdeal.τ).loc Cert.AdamRecurrenceConvReferenceIdeal.main_arg5) = m' ((c.tc : Thread Cert.AdamRecurrenceConvReferenceIdeal.nD Cert.AdamRecurrenceConvReferenceIdeal.τ).loc Cert.AdamRecurrenceConvReferenceIdeal.main_arg5)
          ∧ r.2.mem ((c.tc : Thread Cert.AdamRecurrenceConvReferenceIdeal.nD Cert.AdamRecurrenceConvReferenceIdeal.τ).loc Cert.AdamRecurrenceConvReferenceIdeal.main_arg6) = m' ((c.tc : Thread Cert.AdamRecurrenceConvReferenceIdeal.nD Cert.AdamRecurrenceConvReferenceIdeal.τ).loc Cert.AdamRecurrenceConvReferenceIdeal.main_arg6)
          ∧ r.2.mem ((c.tc : Thread Cert.AdamRecurrenceConvReferenceIdeal.nD Cert.AdamRecurrenceConvReferenceIdeal.τ).loc Cert.AdamRecurrenceConvReferenceIdeal.main_arg7) = m' ((c.tc : Thread Cert.AdamRecurrenceConvReferenceIdeal.nD Cert.AdamRecurrenceConvReferenceIdeal.τ).loc Cert.AdamRecurrenceConvReferenceIdeal.main_arg7))

def preserves_AdamGlu_AdamGluIdeal : Prop :=
  True

def algebraic_AdamGluIdeal_AdamGluReferenceIdeal [hAdamGluIdeal : Cert.AdamGluIdeal.Facts] [hAdamGluReferenceIdeal : Cert.AdamGluReferenceIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluReferenceIdeal.nD Cert.AdamGluReferenceIdeal.τ Cert.AdamGluReferenceIdeal.sig) → Buf (Elt Ideal) ℓ) (g' : Dev Cert.AdamGluReferenceIdeal.nD → PrngReg), Pre_AdamGluIdeal m →
    (∀ c : Dev Cert.AdamGluIdeal.nD,
      m' ((c.tc : Thread Cert.AdamGluReferenceIdeal.nD Cert.AdamGluReferenceIdeal.τ).loc Cert.AdamGluReferenceIdeal.main_arg0) = m ((c.tc : Thread Cert.AdamGluIdeal.nD Cert.AdamGluIdeal.τ).loc Cert.AdamGluIdeal.main_arg0)
      ∧ m' ((c.tc : Thread Cert.AdamGluReferenceIdeal.nD Cert.AdamGluReferenceIdeal.τ).loc Cert.AdamGluReferenceIdeal.main_arg1) = m ((c.tc : Thread Cert.AdamGluIdeal.nD Cert.AdamGluIdeal.τ).loc Cert.AdamGluIdeal.main_arg1)
      ∧ m' ((c.tc : Thread Cert.AdamGluReferenceIdeal.nD Cert.AdamGluReferenceIdeal.τ).loc Cert.AdamGluReferenceIdeal.main_arg2) = m ((c.tc : Thread Cert.AdamGluIdeal.nD Cert.AdamGluIdeal.τ).loc Cert.AdamGluIdeal.main_arg2)
      ∧ m' ((c.tc : Thread Cert.AdamGluReferenceIdeal.nD Cert.AdamGluReferenceIdeal.τ).loc Cert.AdamGluReferenceIdeal.main_arg3) = m ((c.tc : Thread Cert.AdamGluIdeal.nD Cert.AdamGluIdeal.τ).loc Cert.AdamGluIdeal.main_arg3)
      ∧ m' ((c.tc : Thread Cert.AdamGluReferenceIdeal.nD Cert.AdamGluReferenceIdeal.τ).loc Cert.AdamGluReferenceIdeal.main_arg4) = m ((c.tc : Thread Cert.AdamGluIdeal.nD Cert.AdamGluIdeal.τ).loc Cert.AdamGluIdeal.main_arg4)
      ∧ m' ((c.tc : Thread Cert.AdamGluReferenceIdeal.nD Cert.AdamGluReferenceIdeal.τ).loc Cert.AdamGluReferenceIdeal.main_arg5) = m ((c.tc : Thread Cert.AdamGluIdeal.nD Cert.AdamGluIdeal.τ).loc Cert.AdamGluIdeal.main_arg5)
      ∧ m' ((c.tc : Thread Cert.AdamGluReferenceIdeal.nD Cert.AdamGluReferenceIdeal.τ).loc Cert.AdamGluReferenceIdeal.main_arg6) = m ((c.tc : Thread Cert.AdamGluIdeal.nD Cert.AdamGluIdeal.τ).loc Cert.AdamGluIdeal.main_arg6)
      ∧ m' ((c.tc : Thread Cert.AdamGluReferenceIdeal.nD Cert.AdamGluReferenceIdeal.τ).loc Cert.AdamGluReferenceIdeal.main_arg7) = m ((c.tc : Thread Cert.AdamGluIdeal.nD Cert.AdamGluIdeal.τ).loc Cert.AdamGluIdeal.main_arg7)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
          ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4)
          ∧ r.2.mem ((c.tc : Thread Cert.AdamGluIdeal.nD Cert.AdamGluIdeal.τ).loc Cert.AdamGluIdeal.main_arg5) = m ((c.tc : Thread Cert.AdamGluIdeal.nD Cert.AdamGluIdeal.τ).loc Cert.AdamGluIdeal.main_arg5)
          ∧ r.2.mem ((c.tc : Thread Cert.AdamGluIdeal.nD Cert.AdamGluIdeal.τ).loc Cert.AdamGluIdeal.main_arg6) = m ((c.tc : Thread Cert.AdamGluIdeal.nD Cert.AdamGluIdeal.τ).loc Cert.AdamGluIdeal.main_arg6)
          ∧ r.2.mem ((c.tc : Thread Cert.AdamGluIdeal.nD Cert.AdamGluIdeal.τ).loc Cert.AdamGluIdeal.main_arg7) = m ((c.tc : Thread Cert.AdamGluIdeal.nD Cert.AdamGluIdeal.τ).loc Cert.AdamGluIdeal.main_arg7))
      ∧ θ_run (Cert.AdamGluReferenceIdeal.defs (F := Ideal)) (onTc (τ := Cert.AdamGluReferenceIdeal.τ) (Cert.AdamGluReferenceIdeal.main (F := Ideal))) ⟨m', fun _ => 0, g'⟩ (fun r => ∀ c : Dev Cert.AdamGluReferenceIdeal.nD,
          r.2.mem ((c.tc : Thread Cert.AdamGluReferenceIdeal.nD Cert.AdamGluReferenceIdeal.τ).loc Cert.AdamGluReferenceIdeal.main_v36) = v0 c
          ∧ r.2.mem ((c.tc : Thread Cert.AdamGluReferenceIdeal.nD Cert.AdamGluReferenceIdeal.τ).loc Cert.AdamGluReferenceIdeal.main_v41) = v1 c
          ∧ r.2.mem ((c.tc : Thread Cert.AdamGluReferenceIdeal.nD Cert.AdamGluReferenceIdeal.τ).loc Cert.AdamGluReferenceIdeal.main_v46) = v2 c
          ∧ r.2.mem ((c.tc : Thread Cert.AdamGluReferenceIdeal.nD Cert.AdamGluReferenceIdeal.τ).loc Cert.AdamGluReferenceIdeal.main_v51) = v3 c
          ∧ r.2.mem ((c.tc : Thread Cert.AdamGluReferenceIdeal.nD Cert.AdamGluReferenceIdeal.τ).loc Cert.AdamGluReferenceIdeal.main_arg0) = m' ((c.tc : Thread Cert.AdamGluReferenceIdeal.nD Cert.AdamGluReferenceIdeal.τ).loc Cert.AdamGluReferenceIdeal.main_arg0)
          ∧ r.2.mem ((c.tc : Thread Cert.AdamGluReferenceIdeal.nD Cert.AdamGluReferenceIdeal.τ).loc Cert.AdamGluReferenceIdeal.main_arg1) = m' ((c.tc : Thread Cert.AdamGluReferenceIdeal.nD Cert.AdamGluReferenceIdeal.τ).loc Cert.AdamGluReferenceIdeal.main_arg1)
          ∧ r.2.mem ((c.tc : Thread Cert.AdamGluReferenceIdeal.nD Cert.AdamGluReferenceIdeal.τ).loc Cert.AdamGluReferenceIdeal.main_arg2) = m' ((c.tc : Thread Cert.AdamGluReferenceIdeal.nD Cert.AdamGluReferenceIdeal.τ).loc Cert.AdamGluReferenceIdeal.main_arg2)
          ∧ r.2.mem ((c.tc : Thread Cert.AdamGluReferenceIdeal.nD Cert.AdamGluReferenceIdeal.τ).loc Cert.AdamGluReferenceIdeal.main_arg3) = m' ((c.tc : Thread Cert.AdamGluReferenceIdeal.nD Cert.AdamGluReferenceIdeal.τ).loc Cert.AdamGluReferenceIdeal.main_arg3)
          ∧ r.2.mem ((c.tc : Thread Cert.AdamGluReferenceIdeal.nD Cert.AdamGluReferenceIdeal.τ).loc Cert.AdamGluReferenceIdeal.main_arg4) = m' ((c.tc : Thread Cert.AdamGluReferenceIdeal.nD Cert.AdamGluReferenceIdeal.τ).loc Cert.AdamGluReferenceIdeal.main_arg4)
          ∧ r.2.mem ((c.tc : Thread Cert.AdamGluReferenceIdeal.nD Cert.AdamGluReferenceIdeal.τ).loc Cert.AdamGluReferenceIdeal.main_arg5) = m' ((c.tc : Thread Cert.AdamGluReferenceIdeal.nD Cert.AdamGluReferenceIdeal.τ).loc Cert.AdamGluReferenceIdeal.main_arg5)
          ∧ r.2.mem ((c.tc : Thread Cert.AdamGluReferenceIdeal.nD Cert.AdamGluReferenceIdeal.τ).loc Cert.AdamGluReferenceIdeal.main_arg6) = m' ((c.tc : Thread Cert.AdamGluReferenceIdeal.nD Cert.AdamGluReferenceIdeal.τ).loc Cert.AdamGluReferenceIdeal.main_arg6)
          ∧ r.2.mem ((c.tc : Thread Cert.AdamGluReferenceIdeal.nD Cert.AdamGluReferenceIdeal.τ).loc Cert.AdamGluReferenceIdeal.main_arg7) = m' ((c.tc : Thread Cert.AdamGluReferenceIdeal.nD Cert.AdamGluReferenceIdeal.τ).loc Cert.AdamGluReferenceIdeal.main_arg7))

def preserves_AdamMemory_AdamMemoryIdeal : Prop :=
  True

def algebraic_AdamMemoryIdeal_AdamMemoryReferenceIdeal [hAdamMemoryIdeal : Cert.AdamMemoryIdeal.Facts] [hAdamMemoryReferenceIdeal : Cert.AdamMemoryReferenceIdeal.Facts] : Prop :=
  ∀ (m : (ℓ : Loc Cert.AdamMemoryIdeal.nD Cert.AdamMemoryIdeal.τ Cert.AdamMemoryIdeal.sig) → Buf (Elt Ideal) ℓ) (g : Dev Cert.AdamMemoryIdeal.nD → PrngReg)
    (m' : (ℓ : Loc Cert.AdamMemoryReferenceIdeal.nD Cert.AdamMemoryReferenceIdeal.τ Cert.AdamMemoryReferenceIdeal.sig) → Buf (Elt Ideal) ℓ) (g' : Dev Cert.AdamMemoryReferenceIdeal.nD → PrngReg), Pre_AdamMemoryIdeal m →
    (∀ c : Dev Cert.AdamMemoryIdeal.nD,
      m' ((c.tc : Thread Cert.AdamMemoryReferenceIdeal.nD Cert.AdamMemoryReferenceIdeal.τ).loc Cert.AdamMemoryReferenceIdeal.main_arg0) = m ((c.tc : Thread Cert.AdamMemoryIdeal.nD Cert.AdamMemoryIdeal.τ).loc Cert.AdamMemoryIdeal.main_arg0)
      ∧ m' ((c.tc : Thread Cert.AdamMemoryReferenceIdeal.nD Cert.AdamMemoryReferenceIdeal.τ).loc Cert.AdamMemoryReferenceIdeal.main_arg1) = m ((c.tc : Thread Cert.AdamMemoryIdeal.nD Cert.AdamMemoryIdeal.τ).loc Cert.AdamMemoryIdeal.main_arg1)
      ∧ m' ((c.tc : Thread Cert.AdamMemoryReferenceIdeal.nD Cert.AdamMemoryReferenceIdeal.τ).loc Cert.AdamMemoryReferenceIdeal.main_arg2) = m ((c.tc : Thread Cert.AdamMemoryIdeal.nD Cert.AdamMemoryIdeal.τ).loc Cert.AdamMemoryIdeal.main_arg2)
      ∧ m' ((c.tc : Thread Cert.AdamMemoryReferenceIdeal.nD Cert.AdamMemoryReferenceIdeal.τ).loc Cert.AdamMemoryReferenceIdeal.main_arg3) = m ((c.tc : Thread Cert.AdamMemoryIdeal.nD Cert.AdamMemoryIdeal.τ).loc Cert.AdamMemoryIdeal.main_arg3)
      ∧ m' ((c.tc : Thread Cert.AdamMemoryReferenceIdeal.nD Cert.AdamMemoryReferenceIdeal.τ).loc Cert.AdamMemoryReferenceIdeal.main_arg4) = m ((c.tc : Thread Cert.AdamMemoryIdeal.nD Cert.AdamMemoryIdeal.τ).loc Cert.AdamMemoryIdeal.main_arg4)
      ∧ m' ((c.tc : Thread Cert.AdamMemoryReferenceIdeal.nD Cert.AdamMemoryReferenceIdeal.τ).loc Cert.AdamMemoryReferenceIdeal.main_arg5) = m ((c.tc : Thread Cert.AdamMemoryIdeal.nD Cert.AdamMemoryIdeal.τ).loc Cert.AdamMemoryIdeal.main_arg5)
      ∧ m' ((c.tc : Thread Cert.AdamMemoryReferenceIdeal.nD Cert.AdamMemoryReferenceIdeal.τ).loc Cert.AdamMemoryReferenceIdeal.main_arg6) = m ((c.tc : Thread Cert.AdamMemoryIdeal.nD Cert.AdamMemoryIdeal.τ).loc Cert.AdamMemoryIdeal.main_arg6)
      ∧ m' ((c.tc : Thread Cert.AdamMemoryReferenceIdeal.nD Cert.AdamMemoryReferenceIdeal.τ).loc Cert.AdamMemoryReferenceIdeal.main_arg7) = m ((c.tc : Thread Cert.AdamMemoryIdeal.nD Cert.AdamMemoryIdeal.τ).loc Cert.AdamMemoryIdeal.main_arg7)) →
    ∃ (v0 : (c : Dev Cert.AdamMemoryIdeal.nD) → Buf (Elt Ideal) ((c.tc : Thread Cert.AdamMemoryIdeal.nD Cert.AdamMemoryIdeal.τ).loc Cert.AdamMemoryIdeal.main_v0_0)) (v1 : (c : Dev Cert.AdamMemoryIdeal.nD) → Buf (Elt Ideal) ((c.tc : Thread Cert.AdamMemoryIdeal.nD Cert.AdamMemoryIdeal.τ).loc Cert.AdamMemoryIdeal.main_v0_1)) (v2 : (c : Dev Cert.AdamMemoryIdeal.nD) → Buf (Elt Ideal) ((c.tc : Thread Cert.AdamMemoryIdeal.nD Cert.AdamMemoryIdeal.τ).loc Cert.AdamMemoryIdeal.main_v0_2)) (v3 : (c : Dev Cert.AdamMemoryIdeal.nD) → Buf (Elt Ideal) ((c.tc : Thread Cert.AdamMemoryIdeal.nD Cert.AdamMemoryIdeal.τ).loc Cert.AdamMemoryIdeal.main_v0_3)),
      θ_run (Cert.AdamMemoryIdeal.defs (F := Ideal)) (onTc (τ := Cert.AdamMemoryIdeal.τ) (Cert.AdamMemoryIdeal.main (F := Ideal))) ⟨m, fun _ => 0, g⟩ (fun r => ∀ c : Dev Cert.AdamMemoryIdeal.nD,
          r.2.mem ((c.tc : Thread Cert.AdamMemoryIdeal.nD Cert.AdamMemoryIdeal.τ).loc Cert.AdamMemoryIdeal.main_v0_0) = v0 c
          ∧ r.2.mem ((c.tc : Thread Cert.AdamMemoryIdeal.nD Cert.AdamMemoryIdeal.τ).loc Cert.AdamMemoryIdeal.main_v0_1) = v1 c
          ∧ r.2.mem ((c.tc : Thread Cert.AdamMemoryIdeal.nD Cert.AdamMemoryIdeal.τ).loc Cert.AdamMemoryIdeal.main_v0_2) = v2 c
          ∧ r.2.mem ((c.tc : Thread Cert.AdamMemoryIdeal.nD Cert.AdamMemoryIdeal.τ).loc Cert.AdamMemoryIdeal.main_v0_3) = v3 c
          ∧ r.2.mem ((c.tc : Thread Cert.AdamMemoryIdeal.nD Cert.AdamMemoryIdeal.τ).loc Cert.AdamMemoryIdeal.main_arg0) = m ((c.tc : Thread Cert.AdamMemoryIdeal.nD Cert.AdamMemoryIdeal.τ).loc Cert.AdamMemoryIdeal.main_arg0)
          ∧ r.2.mem ((c.tc : Thread Cert.AdamMemoryIdeal.nD Cert.AdamMemoryIdeal.τ).loc Cert.AdamMemoryIdeal.main_arg1) = m ((c.tc : Thread Cert.AdamMemoryIdeal.nD Cert.AdamMemoryIdeal.τ).loc Cert.AdamMemoryIdeal.main_arg1)
          ∧ r.2.mem ((c.tc : Thread Cert.AdamMemoryIdeal.nD Cert.AdamMemoryIdeal.τ).loc Cert.AdamMemoryIdeal.main_arg2) = m ((c.tc : Thread Cert.AdamMemoryIdeal.nD Cert.AdamMemoryIdeal.τ).loc Cert.AdamMemoryIdeal.main_arg2)
          ∧ r.2.mem ((c.tc : Thread Cert.AdamMemoryIdeal.nD Cert.AdamMemoryIdeal.τ).loc Cert.AdamMemoryIdeal.main_arg3) = m ((c.tc : Thread Cert.AdamMemoryIdeal.nD Cert.AdamMemoryIdeal.τ).loc Cert.AdamMemoryIdeal.main_arg3)
          ∧ r.2.mem ((c.tc : Thread Cert.AdamMemoryIdeal.nD Cert.AdamMemoryIdeal.τ).loc Cert.AdamMemoryIdeal.main_arg4) = m ((c.tc : Thread Cert.AdamMemoryIdeal.nD Cert.AdamMemoryIdeal.τ).loc Cert.AdamMemoryIdeal.main_arg4)
          ∧ r.2.mem ((c.tc : Thread Cert.AdamMemoryIdeal.nD Cert.AdamMemoryIdeal.τ).loc Cert.AdamMemoryIdeal.main_arg5) = m ((c.tc : Thread Cert.AdamMemoryIdeal.nD Cert.AdamMemoryIdeal.τ).loc Cert.AdamMemoryIdeal.main_arg5)
          ∧ r.2.mem ((c.tc : Thread Cert.AdamMemoryIdeal.nD Cert.AdamMemoryIdeal.τ).loc Cert.AdamMemoryIdeal.main_arg6) = m ((c.tc : Thread Cert.AdamMemoryIdeal.nD Cert.AdamMemoryIdeal.τ).loc Cert.AdamMemoryIdeal.main_arg6)
          ∧ r.2.mem ((c.tc : Thread Cert.AdamMemoryIdeal.nD Cert.AdamMemoryIdeal.τ).loc Cert.AdamMemoryIdeal.main_arg7) = m ((c.tc : Thread Cert.AdamMemoryIdeal.nD Cert.AdamMemoryIdeal.τ).loc Cert.AdamMemoryIdeal.main_arg7))
      ∧ θ_run (Cert.AdamMemoryReferenceIdeal.defs (F := Ideal)) (onTc (τ := Cert.AdamMemoryReferenceIdeal.τ) (Cert.AdamMemoryReferenceIdeal.main (F := Ideal))) ⟨m', fun _ => 0, g'⟩ (fun r => ∀ c : Dev Cert.AdamMemoryReferenceIdeal.nD,
          r.2.mem ((c.tc : Thread Cert.AdamMemoryReferenceIdeal.nD Cert.AdamMemoryReferenceIdeal.τ).loc Cert.AdamMemoryReferenceIdeal.main_v36) = v0 c
          ∧ r.2.mem ((c.tc : Thread Cert.AdamMemoryReferenceIdeal.nD Cert.AdamMemoryReferenceIdeal.τ).loc Cert.AdamMemoryReferenceIdeal.main_v41) = v1 c
          ∧ r.2.mem ((c.tc : Thread Cert.AdamMemoryReferenceIdeal.nD Cert.AdamMemoryReferenceIdeal.τ).loc Cert.AdamMemoryReferenceIdeal.main_v46) = v2 c
          ∧ r.2.mem ((c.tc : Thread Cert.AdamMemoryReferenceIdeal.nD Cert.AdamMemoryReferenceIdeal.τ).loc Cert.AdamMemoryReferenceIdeal.main_v51) = v3 c
          ∧ r.2.mem ((c.tc : Thread Cert.AdamMemoryReferenceIdeal.nD Cert.AdamMemoryReferenceIdeal.τ).loc Cert.AdamMemoryReferenceIdeal.main_arg0) = m' ((c.tc : Thread Cert.AdamMemoryReferenceIdeal.nD Cert.AdamMemoryReferenceIdeal.τ).loc Cert.AdamMemoryReferenceIdeal.main_arg0)
          ∧ r.2.mem ((c.tc : Thread Cert.AdamMemoryReferenceIdeal.nD Cert.AdamMemoryReferenceIdeal.τ).loc Cert.AdamMemoryReferenceIdeal.main_arg1) = m' ((c.tc : Thread Cert.AdamMemoryReferenceIdeal.nD Cert.AdamMemoryReferenceIdeal.τ).loc Cert.AdamMemoryReferenceIdeal.main_arg1)
          ∧ r.2.mem ((c.tc : Thread Cert.AdamMemoryReferenceIdeal.nD Cert.AdamMemoryReferenceIdeal.τ).loc Cert.AdamMemoryReferenceIdeal.main_arg2) = m' ((c.tc : Thread Cert.AdamMemoryReferenceIdeal.nD Cert.AdamMemoryReferenceIdeal.τ).loc Cert.AdamMemoryReferenceIdeal.main_arg2)
          ∧ r.2.mem ((c.tc : Thread Cert.AdamMemoryReferenceIdeal.nD Cert.AdamMemoryReferenceIdeal.τ).loc Cert.AdamMemoryReferenceIdeal.main_arg3) = m' ((c.tc : Thread Cert.AdamMemoryReferenceIdeal.nD Cert.AdamMemoryReferenceIdeal.τ).loc Cert.AdamMemoryReferenceIdeal.main_arg3)
          ∧ r.2.mem ((c.tc : Thread Cert.AdamMemoryReferenceIdeal.nD Cert.AdamMemoryReferenceIdeal.τ).loc Cert.AdamMemoryReferenceIdeal.main_arg4) = m' ((c.tc : Thread Cert.AdamMemoryReferenceIdeal.nD Cert.AdamMemoryReferenceIdeal.τ).loc Cert.AdamMemoryReferenceIdeal.main_arg4)
          ∧ r.2.mem ((c.tc : Thread Cert.AdamMemoryReferenceIdeal.nD Cert.AdamMemoryReferenceIdeal.τ).loc Cert.AdamMemoryReferenceIdeal.main_arg5) = m' ((c.tc : Thread Cert.AdamMemoryReferenceIdeal.nD Cert.AdamMemoryReferenceIdeal.τ).loc Cert.AdamMemoryReferenceIdeal.main_arg5)
          ∧ r.2.mem ((c.tc : Thread Cert.AdamMemoryReferenceIdeal.nD Cert.AdamMemoryReferenceIdeal.τ).loc Cert.AdamMemoryReferenceIdeal.main_arg6) = m' ((c.tc : Thread Cert.AdamMemoryReferenceIdeal.nD Cert.AdamMemoryReferenceIdeal.τ).loc Cert.AdamMemoryReferenceIdeal.main_arg6)
          ∧ r.2.mem ((c.tc : Thread Cert.AdamMemoryReferenceIdeal.nD Cert.AdamMemoryReferenceIdeal.τ).loc Cert.AdamMemoryReferenceIdeal.main_arg7) = m' ((c.tc : Thread Cert.AdamMemoryReferenceIdeal.nD Cert.AdamMemoryReferenceIdeal.τ).loc Cert.AdamMemoryReferenceIdeal.main_arg7))

def preserves_AdamGate_AdamGateIdeal : Prop :=
  True

def algebraic_AdamGateIdeal_AdamGateReferenceIdeal [hAdamGateIdeal : Cert.AdamGateIdeal.Facts] [hAdamGateReferenceIdeal : Cert.AdamGateReferenceIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateReferenceIdeal.nD Cert.AdamGateReferenceIdeal.τ Cert.AdamGateReferenceIdeal.sig) → Buf (Elt Ideal) ℓ) (g' : Dev Cert.AdamGateReferenceIdeal.nD → PrngReg), Pre_AdamGateIdeal m →
    (∀ c : Dev Cert.AdamGateIdeal.nD,
      m' ((c.tc : Thread Cert.AdamGateReferenceIdeal.nD Cert.AdamGateReferenceIdeal.τ).loc Cert.AdamGateReferenceIdeal.main_arg0) = m ((c.tc : Thread Cert.AdamGateIdeal.nD Cert.AdamGateIdeal.τ).loc Cert.AdamGateIdeal.main_arg0)
      ∧ m' ((c.tc : Thread Cert.AdamGateReferenceIdeal.nD Cert.AdamGateReferenceIdeal.τ).loc Cert.AdamGateReferenceIdeal.main_arg1) = m ((c.tc : Thread Cert.AdamGateIdeal.nD Cert.AdamGateIdeal.τ).loc Cert.AdamGateIdeal.main_arg1)
      ∧ m' ((c.tc : Thread Cert.AdamGateReferenceIdeal.nD Cert.AdamGateReferenceIdeal.τ).loc Cert.AdamGateReferenceIdeal.main_arg2) = m ((c.tc : Thread Cert.AdamGateIdeal.nD Cert.AdamGateIdeal.τ).loc Cert.AdamGateIdeal.main_arg2)
      ∧ m' ((c.tc : Thread Cert.AdamGateReferenceIdeal.nD Cert.AdamGateReferenceIdeal.τ).loc Cert.AdamGateReferenceIdeal.main_arg3) = m ((c.tc : Thread Cert.AdamGateIdeal.nD Cert.AdamGateIdeal.τ).loc Cert.AdamGateIdeal.main_arg3)
      ∧ m' ((c.tc : Thread Cert.AdamGateReferenceIdeal.nD Cert.AdamGateReferenceIdeal.τ).loc Cert.AdamGateReferenceIdeal.main_arg4) = m ((c.tc : Thread Cert.AdamGateIdeal.nD Cert.AdamGateIdeal.τ).loc Cert.AdamGateIdeal.main_arg4)
      ∧ m' ((c.tc : Thread Cert.AdamGateReferenceIdeal.nD Cert.AdamGateReferenceIdeal.τ).loc Cert.AdamGateReferenceIdeal.main_arg5) = m ((c.tc : Thread Cert.AdamGateIdeal.nD Cert.AdamGateIdeal.τ).loc Cert.AdamGateIdeal.main_arg5)
      ∧ m' ((c.tc : Thread Cert.AdamGateReferenceIdeal.nD Cert.AdamGateReferenceIdeal.τ).loc Cert.AdamGateReferenceIdeal.main_arg6) = m ((c.tc : Thread Cert.AdamGateIdeal.nD Cert.AdamGateIdeal.τ).loc Cert.AdamGateIdeal.main_arg6)
      ∧ m' ((c.tc : Thread Cert.AdamGateReferenceIdeal.nD Cert.AdamGateReferenceIdeal.τ).loc Cert.AdamGateReferenceIdeal.main_arg7) = m ((c.tc : Thread Cert.AdamGateIdeal.nD Cert.AdamGateIdeal.τ).loc Cert.AdamGateIdeal.main_arg7)) →
    ∃ (v0 : (c : Dev Cert.AdamGateIdeal.nD) → Buf (Elt Ideal) ((c.tc : Thread Cert.AdamGateIdeal.nD Cert.AdamGateIdeal.τ).loc Cert.AdamGateIdeal.main_v3_0)) (v1 : (c : Dev Cert.AdamGateIdeal.nD) → Buf (Elt Ideal) ((c.tc : Thread Cert.AdamGateIdeal.nD Cert.AdamGateIdeal.τ).loc Cert.AdamGateIdeal.main_v3_1)) (v2 : (c : Dev Cert.AdamGateIdeal.nD) → Buf (Elt Ideal) ((c.tc : Thread Cert.AdamGateIdeal.nD Cert.AdamGateIdeal.τ).loc Cert.AdamGateIdeal.main_v3_2)) (v3 : (c : Dev Cert.AdamGateIdeal.nD) → Buf (Elt Ideal) ((c.tc : Thread Cert.AdamGateIdeal.nD Cert.AdamGateIdeal.τ).loc Cert.AdamGateIdeal.main_v3_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v3_0) = v0 c
          ∧ r.2.mem ((c.tc : Thread Cert.AdamGateIdeal.nD Cert.AdamGateIdeal.τ).loc Cert.AdamGateIdeal.main_v3_1) = v1 c
          ∧ r.2.mem ((c.tc : Thread Cert.AdamGateIdeal.nD Cert.AdamGateIdeal.τ).loc Cert.AdamGateIdeal.main_v3_2) = v2 c
          ∧ r.2.mem ((c.tc : Thread Cert.AdamGateIdeal.nD Cert.AdamGateIdeal.τ).loc Cert.AdamGateIdeal.main_v3_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
          ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
          ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5)
          ∧ r.2.mem ((c.tc : Thread Cert.AdamGateIdeal.nD Cert.AdamGateIdeal.τ).loc Cert.AdamGateIdeal.main_arg6) = m ((c.tc : Thread Cert.AdamGateIdeal.nD Cert.AdamGateIdeal.τ).loc Cert.AdamGateIdeal.main_arg6)
          ∧ r.2.mem ((c.tc : Thread Cert.AdamGateIdeal.nD Cert.AdamGateIdeal.τ).loc Cert.AdamGateIdeal.main_arg7) = m ((c.tc : Thread Cert.AdamGateIdeal.nD Cert.AdamGateIdeal.τ).loc Cert.AdamGateIdeal.main_arg7))
      ∧ θ_run (Cert.AdamGateReferenceIdeal.defs (F := Ideal)) (onTc (τ := Cert.AdamGateReferenceIdeal.τ) (Cert.AdamGateReferenceIdeal.main (F := Ideal))) ⟨m', fun _ => 0, g'⟩ (fun r => ∀ c : Dev Cert.AdamGateReferenceIdeal.nD,
          r.2.mem ((c.tc : Thread Cert.AdamGateReferenceIdeal.nD Cert.AdamGateReferenceIdeal.τ).loc Cert.AdamGateReferenceIdeal.main_v39) = v0 c
          ∧ r.2.mem ((c.tc : Thread Cert.AdamGateReferenceIdeal.nD Cert.AdamGateReferenceIdeal.τ).loc Cert.AdamGateReferenceIdeal.main_v44) = v1 c
          ∧ r.2.mem ((c.tc : Thread Cert.AdamGateReferenceIdeal.nD Cert.AdamGateReferenceIdeal.τ).loc Cert.AdamGateReferenceIdeal.main_v49) = v2 c
          ∧ r.2.mem ((c.tc : Thread Cert.AdamGateReferenceIdeal.nD Cert.AdamGateReferenceIdeal.τ).loc Cert.AdamGateReferenceIdeal.main_v54) = v3 c
          ∧ r.2.mem ((c.tc : Thread Cert.AdamGateReferenceIdeal.nD Cert.AdamGateReferenceIdeal.τ).loc Cert.AdamGateReferenceIdeal.main_arg0) = m' ((c.tc : Thread Cert.AdamGateReferenceIdeal.nD Cert.AdamGateReferenceIdeal.τ).loc Cert.AdamGateReferenceIdeal.main_arg0)
          ∧ r.2.mem ((c.tc : Thread Cert.AdamGateReferenceIdeal.nD Cert.AdamGateReferenceIdeal.τ).loc Cert.AdamGateReferenceIdeal.main_arg1) = m' ((c.tc : Thread Cert.AdamGateReferenceIdeal.nD Cert.AdamGateReferenceIdeal.τ).loc Cert.AdamGateReferenceIdeal.main_arg1)
          ∧ r.2.mem ((c.tc : Thread Cert.AdamGateReferenceIdeal.nD Cert.AdamGateReferenceIdeal.τ).loc Cert.AdamGateReferenceIdeal.main_arg2) = m' ((c.tc : Thread Cert.AdamGateReferenceIdeal.nD Cert.AdamGateReferenceIdeal.τ).loc Cert.AdamGateReferenceIdeal.main_arg2)
          ∧ r.2.mem ((c.tc : Thread Cert.AdamGateReferenceIdeal.nD Cert.AdamGateReferenceIdeal.τ).loc Cert.AdamGateReferenceIdeal.main_arg3) = m' ((c.tc : Thread Cert.AdamGateReferenceIdeal.nD Cert.AdamGateReferenceIdeal.τ).loc Cert.AdamGateReferenceIdeal.main_arg3)
          ∧ r.2.mem ((c.tc : Thread Cert.AdamGateReferenceIdeal.nD Cert.AdamGateReferenceIdeal.τ).loc Cert.AdamGateReferenceIdeal.main_arg4) = m' ((c.tc : Thread Cert.AdamGateReferenceIdeal.nD Cert.AdamGateReferenceIdeal.τ).loc Cert.AdamGateReferenceIdeal.main_arg4)
          ∧ r.2.mem ((c.tc : Thread Cert.AdamGateReferenceIdeal.nD Cert.AdamGateReferenceIdeal.τ).loc Cert.AdamGateReferenceIdeal.main_arg5) = m' ((c.tc : Thread Cert.AdamGateReferenceIdeal.nD Cert.AdamGateReferenceIdeal.τ).loc Cert.AdamGateReferenceIdeal.main_arg5)
          ∧ r.2.mem ((c.tc : Thread Cert.AdamGateReferenceIdeal.nD Cert.AdamGateReferenceIdeal.τ).loc Cert.AdamGateReferenceIdeal.main_arg6) = m' ((c.tc : Thread Cert.AdamGateReferenceIdeal.nD Cert.AdamGateReferenceIdeal.τ).loc Cert.AdamGateReferenceIdeal.main_arg6)
          ∧ r.2.mem ((c.tc : Thread Cert.AdamGateReferenceIdeal.nD Cert.AdamGateReferenceIdeal.τ).loc Cert.AdamGateReferenceIdeal.main_arg7) = m' ((c.tc : Thread Cert.AdamGateReferenceIdeal.nD Cert.AdamGateReferenceIdeal.τ).loc Cert.AdamGateReferenceIdeal.main_arg7))

def preserves_AdamGateBias_AdamGateBiasIdeal : Prop :=
  True

def algebraic_AdamGateBiasIdeal_AdamGateBiasReferenceIdeal [hAdamGateBiasIdeal : Cert.AdamGateBiasIdeal.Facts] [hAdamGateBiasReferenceIdeal : Cert.AdamGateBiasReferenceIdeal.Facts] : Prop :=
  ∀ (m : (ℓ : Loc Cert.AdamGateBiasIdeal.nD Cert.AdamGateBiasIdeal.τ Cert.AdamGateBiasIdeal.sig) → Buf (Elt Ideal) ℓ) (g : Dev Cert.AdamGateBiasIdeal.nD → PrngReg)
    (m' : (ℓ : Loc Cert.AdamGateBiasReferenceIdeal.nD Cert.AdamGateBiasReferenceIdeal.τ Cert.AdamGateBiasReferenceIdeal.sig) → Buf (Elt Ideal) ℓ) (g' : Dev Cert.AdamGateBiasReferenceIdeal.nD → PrngReg), Pre_AdamGateBiasIdeal m →
    (∀ c : Dev Cert.AdamGateBiasIdeal.nD,
      m' ((c.tc : Thread Cert.AdamGateBiasReferenceIdeal.nD Cert.AdamGateBiasReferenceIdeal.τ).loc Cert.AdamGateBiasReferenceIdeal.main_arg0) = m ((c.tc : Thread Cert.AdamGateBiasIdeal.nD Cert.AdamGateBiasIdeal.τ).loc Cert.AdamGateBiasIdeal.main_arg0)
      ∧ m' ((c.tc : Thread Cert.AdamGateBiasReferenceIdeal.nD Cert.AdamGateBiasReferenceIdeal.τ).loc Cert.AdamGateBiasReferenceIdeal.main_arg1) = m ((c.tc : Thread Cert.AdamGateBiasIdeal.nD Cert.AdamGateBiasIdeal.τ).loc Cert.AdamGateBiasIdeal.main_arg1)
      ∧ m' ((c.tc : Thread Cert.AdamGateBiasReferenceIdeal.nD Cert.AdamGateBiasReferenceIdeal.τ).loc Cert.AdamGateBiasReferenceIdeal.main_arg2) = m ((c.tc : Thread Cert.AdamGateBiasIdeal.nD Cert.AdamGateBiasIdeal.τ).loc Cert.AdamGateBiasIdeal.main_arg2)
      ∧ m' ((c.tc : Thread Cert.AdamGateBiasReferenceIdeal.nD Cert.AdamGateBiasReferenceIdeal.τ).loc Cert.AdamGateBiasReferenceIdeal.main_arg3) = m ((c.tc : Thread Cert.AdamGateBiasIdeal.nD Cert.AdamGateBiasIdeal.τ).loc Cert.AdamGateBiasIdeal.main_arg3)
      ∧ m' ((c.tc : Thread Cert.AdamGateBiasReferenceIdeal.nD Cert.AdamGateBiasReferenceIdeal.τ).loc Cert.AdamGateBiasReferenceIdeal.main_arg4) = m ((c.tc : Thread Cert.AdamGateBiasIdeal.nD Cert.AdamGateBiasIdeal.τ).loc Cert.AdamGateBiasIdeal.main_arg4)
      ∧ m' ((c.tc : Thread Cert.AdamGateBiasReferenceIdeal.nD Cert.AdamGateBiasReferenceIdeal.τ).loc Cert.AdamGateBiasReferenceIdeal.main_arg5) = m ((c.tc : Thread Cert.AdamGateBiasIdeal.nD Cert.AdamGateBiasIdeal.τ).loc Cert.AdamGateBiasIdeal.main_arg5)
      ∧ m' ((c.tc : Thread Cert.AdamGateBiasReferenceIdeal.nD Cert.AdamGateBiasReferenceIdeal.τ).loc Cert.AdamGateBiasReferenceIdeal.main_arg6) = m ((c.tc : Thread Cert.AdamGateBiasIdeal.nD Cert.AdamGateBiasIdeal.τ).loc Cert.AdamGateBiasIdeal.main_arg6)
      ∧ m' ((c.tc : Thread Cert.AdamGateBiasReferenceIdeal.nD Cert.AdamGateBiasReferenceIdeal.τ).loc Cert.AdamGateBiasReferenceIdeal.main_arg7) = m ((c.tc : Thread Cert.AdamGateBiasIdeal.nD Cert.AdamGateBiasIdeal.τ).loc Cert.AdamGateBiasIdeal.main_arg7)) →
    ∃ (v0 : (c : Dev Cert.AdamGateBiasIdeal.nD) → Buf (Elt Ideal) ((c.tc : Thread Cert.AdamGateBiasIdeal.nD Cert.AdamGateBiasIdeal.τ).loc Cert.AdamGateBiasIdeal.main_v0_0)) (v1 : (c : Dev Cert.AdamGateBiasIdeal.nD) → Buf (Elt Ideal) ((c.tc : Thread Cert.AdamGateBiasIdeal.nD Cert.AdamGateBiasIdeal.τ).loc Cert.AdamGateBiasIdeal.main_v0_1)) (v2 : (c : Dev Cert.AdamGateBiasIdeal.nD) → Buf (Elt Ideal) ((c.tc : Thread Cert.AdamGateBiasIdeal.nD Cert.AdamGateBiasIdeal.τ).loc Cert.AdamGateBiasIdeal.main_v0_2)) (v3 : (c : Dev Cert.AdamGateBiasIdeal.nD) → Buf (Elt Ideal) ((c.tc : Thread Cert.AdamGateBiasIdeal.nD Cert.AdamGateBiasIdeal.τ).loc Cert.AdamGateBiasIdeal.main_v0_3)),
      θ_run (Cert.AdamGateBiasIdeal.defs (F := Ideal)) (onTc (τ := Cert.AdamGateBiasIdeal.τ) (Cert.AdamGateBiasIdeal.main (F := Ideal))) ⟨m, fun _ => 0, g⟩ (fun r => ∀ c : Dev Cert.AdamGateBiasIdeal.nD,
          r.2.mem ((c.tc : Thread Cert.AdamGateBiasIdeal.nD Cert.AdamGateBiasIdeal.τ).loc Cert.AdamGateBiasIdeal.main_v0_0) = v0 c
          ∧ r.2.mem ((c.tc : Thread Cert.AdamGateBiasIdeal.nD Cert.AdamGateBiasIdeal.τ).loc Cert.AdamGateBiasIdeal.main_v0_1) = v1 c
          ∧ r.2.mem ((c.tc : Thread Cert.AdamGateBiasIdeal.nD Cert.AdamGateBiasIdeal.τ).loc Cert.AdamGateBiasIdeal.main_v0_2) = v2 c
          ∧ r.2.mem ((c.tc : Thread Cert.AdamGateBiasIdeal.nD Cert.AdamGateBiasIdeal.τ).loc Cert.AdamGateBiasIdeal.main_v0_3) = v3 c
          ∧ r.2.mem ((c.tc : Thread Cert.AdamGateBiasIdeal.nD Cert.AdamGateBiasIdeal.τ).loc Cert.AdamGateBiasIdeal.main_arg0) = m ((c.tc : Thread Cert.AdamGateBiasIdeal.nD Cert.AdamGateBiasIdeal.τ).loc Cert.AdamGateBiasIdeal.main_arg0)
          ∧ r.2.mem ((c.tc : Thread Cert.AdamGateBiasIdeal.nD Cert.AdamGateBiasIdeal.τ).loc Cert.AdamGateBiasIdeal.main_arg1) = m ((c.tc : Thread Cert.AdamGateBiasIdeal.nD Cert.AdamGateBiasIdeal.τ).loc Cert.AdamGateBiasIdeal.main_arg1)
          ∧ r.2.mem ((c.tc : Thread Cert.AdamGateBiasIdeal.nD Cert.AdamGateBiasIdeal.τ).loc Cert.AdamGateBiasIdeal.main_arg2) = m ((c.tc : Thread Cert.AdamGateBiasIdeal.nD Cert.AdamGateBiasIdeal.τ).loc Cert.AdamGateBiasIdeal.main_arg2)
          ∧ r.2.mem ((c.tc : Thread Cert.AdamGateBiasIdeal.nD Cert.AdamGateBiasIdeal.τ).loc Cert.AdamGateBiasIdeal.main_arg3) = m ((c.tc : Thread Cert.AdamGateBiasIdeal.nD Cert.AdamGateBiasIdeal.τ).loc Cert.AdamGateBiasIdeal.main_arg3)
          ∧ r.2.mem ((c.tc : Thread Cert.AdamGateBiasIdeal.nD Cert.AdamGateBiasIdeal.τ).loc Cert.AdamGateBiasIdeal.main_arg4) = m ((c.tc : Thread Cert.AdamGateBiasIdeal.nD Cert.AdamGateBiasIdeal.τ).loc Cert.AdamGateBiasIdeal.main_arg4)
          ∧ r.2.mem ((c.tc : Thread Cert.AdamGateBiasIdeal.nD Cert.AdamGateBiasIdeal.τ).loc Cert.AdamGateBiasIdeal.main_arg5) = m ((c.tc : Thread Cert.AdamGateBiasIdeal.nD Cert.AdamGateBiasIdeal.τ).loc Cert.AdamGateBiasIdeal.main_arg5)
          ∧ r.2.mem ((c.tc : Thread Cert.AdamGateBiasIdeal.nD Cert.AdamGateBiasIdeal.τ).loc Cert.AdamGateBiasIdeal.main_arg6) = m ((c.tc : Thread Cert.AdamGateBiasIdeal.nD Cert.AdamGateBiasIdeal.τ).loc Cert.AdamGateBiasIdeal.main_arg6)
          ∧ r.2.mem ((c.tc : Thread Cert.AdamGateBiasIdeal.nD Cert.AdamGateBiasIdeal.τ).loc Cert.AdamGateBiasIdeal.main_arg7) = m ((c.tc : Thread Cert.AdamGateBiasIdeal.nD Cert.AdamGateBiasIdeal.τ).loc Cert.AdamGateBiasIdeal.main_arg7))
      ∧ θ_run (Cert.AdamGateBiasReferenceIdeal.defs (F := Ideal)) (onTc (τ := Cert.AdamGateBiasReferenceIdeal.τ) (Cert.AdamGateBiasReferenceIdeal.main (F := Ideal))) ⟨m', fun _ => 0, g'⟩ (fun r => ∀ c : Dev Cert.AdamGateBiasReferenceIdeal.nD,
          r.2.mem ((c.tc : Thread Cert.AdamGateBiasReferenceIdeal.nD Cert.AdamGateBiasReferenceIdeal.τ).loc Cert.AdamGateBiasReferenceIdeal.main_v36) = v0 c
          ∧ r.2.mem ((c.tc : Thread Cert.AdamGateBiasReferenceIdeal.nD Cert.AdamGateBiasReferenceIdeal.τ).loc Cert.AdamGateBiasReferenceIdeal.main_v41) = v1 c
          ∧ r.2.mem ((c.tc : Thread Cert.AdamGateBiasReferenceIdeal.nD Cert.AdamGateBiasReferenceIdeal.τ).loc Cert.AdamGateBiasReferenceIdeal.main_v46) = v2 c
          ∧ r.2.mem ((c.tc : Thread Cert.AdamGateBiasReferenceIdeal.nD Cert.AdamGateBiasReferenceIdeal.τ).loc Cert.AdamGateBiasReferenceIdeal.main_v51) = v3 c
          ∧ r.2.mem ((c.tc : Thread Cert.AdamGateBiasReferenceIdeal.nD Cert.AdamGateBiasReferenceIdeal.τ).loc Cert.AdamGateBiasReferenceIdeal.main_arg0) = m' ((c.tc : Thread Cert.AdamGateBiasReferenceIdeal.nD Cert.AdamGateBiasReferenceIdeal.τ).loc Cert.AdamGateBiasReferenceIdeal.main_arg0)
          ∧ r.2.mem ((c.tc : Thread Cert.AdamGateBiasReferenceIdeal.nD Cert.AdamGateBiasReferenceIdeal.τ).loc Cert.AdamGateBiasReferenceIdeal.main_arg1) = m' ((c.tc : Thread Cert.AdamGateBiasReferenceIdeal.nD Cert.AdamGateBiasReferenceIdeal.τ).loc Cert.AdamGateBiasReferenceIdeal.main_arg1)
          ∧ r.2.mem ((c.tc : Thread Cert.AdamGateBiasReferenceIdeal.nD Cert.AdamGateBiasReferenceIdeal.τ).loc Cert.AdamGateBiasReferenceIdeal.main_arg2) = m' ((c.tc : Thread Cert.AdamGateBiasReferenceIdeal.nD Cert.AdamGateBiasReferenceIdeal.τ).loc Cert.AdamGateBiasReferenceIdeal.main_arg2)
          ∧ r.2.mem ((c.tc : Thread Cert.AdamGateBiasReferenceIdeal.nD Cert.AdamGateBiasReferenceIdeal.τ).loc Cert.AdamGateBiasReferenceIdeal.main_arg3) = m' ((c.tc : Thread Cert.AdamGateBiasReferenceIdeal.nD Cert.AdamGateBiasReferenceIdeal.τ).loc Cert.AdamGateBiasReferenceIdeal.main_arg3)
          ∧ r.2.mem ((c.tc : Thread Cert.AdamGateBiasReferenceIdeal.nD Cert.AdamGateBiasReferenceIdeal.τ).loc Cert.AdamGateBiasReferenceIdeal.main_arg4) = m' ((c.tc : Thread Cert.AdamGateBiasReferenceIdeal.nD Cert.AdamGateBiasReferenceIdeal.τ).loc Cert.AdamGateBiasReferenceIdeal.main_arg4)
          ∧ r.2.mem ((c.tc : Thread Cert.AdamGateBiasReferenceIdeal.nD Cert.AdamGateBiasReferenceIdeal.τ).loc Cert.AdamGateBiasReferenceIdeal.main_arg5) = m' ((c.tc : Thread Cert.AdamGateBiasReferenceIdeal.nD Cert.AdamGateBiasReferenceIdeal.τ).loc Cert.AdamGateBiasReferenceIdeal.main_arg5)
          ∧ r.2.mem ((c.tc : Thread Cert.AdamGateBiasReferenceIdeal.nD Cert.AdamGateBiasReferenceIdeal.τ).loc Cert.AdamGateBiasReferenceIdeal.main_arg6) = m' ((c.tc : Thread Cert.AdamGateBiasReferenceIdeal.nD Cert.AdamGateBiasReferenceIdeal.τ).loc Cert.AdamGateBiasReferenceIdeal.main_arg6)
          ∧ r.2.mem ((c.tc : Thread Cert.AdamGateBiasReferenceIdeal.nD Cert.AdamGateBiasReferenceIdeal.τ).loc Cert.AdamGateBiasReferenceIdeal.main_arg7) = m' ((c.tc : Thread Cert.AdamGateBiasReferenceIdeal.nD Cert.AdamGateBiasReferenceIdeal.τ).loc Cert.AdamGateBiasReferenceIdeal.main_arg7))

def preserves_AdamBranch_AdamBranchIdeal : Prop :=
  True

def algebraic_AdamBranchIdeal_AdamBranchReferenceIdeal [hAdamBranchIdeal : Cert.AdamBranchIdeal.Facts] [hAdamBranchReferenceIdeal : Cert.AdamBranchReferenceIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchReferenceIdeal.nD Cert.AdamBranchReferenceIdeal.τ Cert.AdamBranchReferenceIdeal.sig) → Buf (Elt Ideal) ℓ) (g' : Dev Cert.AdamBranchReferenceIdeal.nD → PrngReg), Pre_AdamBranchIdeal m →
    (∀ c : Dev Cert.AdamBranchIdeal.nD,
      m' ((c.tc : Thread Cert.AdamBranchReferenceIdeal.nD Cert.AdamBranchReferenceIdeal.τ).loc Cert.AdamBranchReferenceIdeal.main_arg0) = m ((c.tc : Thread Cert.AdamBranchIdeal.nD Cert.AdamBranchIdeal.τ).loc Cert.AdamBranchIdeal.main_arg0)
      ∧ m' ((c.tc : Thread Cert.AdamBranchReferenceIdeal.nD Cert.AdamBranchReferenceIdeal.τ).loc Cert.AdamBranchReferenceIdeal.main_arg1) = m ((c.tc : Thread Cert.AdamBranchIdeal.nD Cert.AdamBranchIdeal.τ).loc Cert.AdamBranchIdeal.main_arg1)
      ∧ m' ((c.tc : Thread Cert.AdamBranchReferenceIdeal.nD Cert.AdamBranchReferenceIdeal.τ).loc Cert.AdamBranchReferenceIdeal.main_arg2) = m ((c.tc : Thread Cert.AdamBranchIdeal.nD Cert.AdamBranchIdeal.τ).loc Cert.AdamBranchIdeal.main_arg2)
      ∧ m' ((c.tc : Thread Cert.AdamBranchReferenceIdeal.nD Cert.AdamBranchReferenceIdeal.τ).loc Cert.AdamBranchReferenceIdeal.main_arg3) = m ((c.tc : Thread Cert.AdamBranchIdeal.nD Cert.AdamBranchIdeal.τ).loc Cert.AdamBranchIdeal.main_arg3)
      ∧ m' ((c.tc : Thread Cert.AdamBranchReferenceIdeal.nD Cert.AdamBranchReferenceIdeal.τ).loc Cert.AdamBranchReferenceIdeal.main_arg4) = m ((c.tc : Thread Cert.AdamBranchIdeal.nD Cert.AdamBranchIdeal.τ).loc Cert.AdamBranchIdeal.main_arg4)
      ∧ m' ((c.tc : Thread Cert.AdamBranchReferenceIdeal.nD Cert.AdamBranchReferenceIdeal.τ).loc Cert.AdamBranchReferenceIdeal.main_arg5) = m ((c.tc : Thread Cert.AdamBranchIdeal.nD Cert.AdamBranchIdeal.τ).loc Cert.AdamBranchIdeal.main_arg5)
      ∧ m' ((c.tc : Thread Cert.AdamBranchReferenceIdeal.nD Cert.AdamBranchReferenceIdeal.τ).loc Cert.AdamBranchReferenceIdeal.main_arg6) = m ((c.tc : Thread Cert.AdamBranchIdeal.nD Cert.AdamBranchIdeal.τ).loc Cert.AdamBranchIdeal.main_arg6)
      ∧ m' ((c.tc : Thread Cert.AdamBranchReferenceIdeal.nD Cert.AdamBranchReferenceIdeal.τ).loc Cert.AdamBranchReferenceIdeal.main_arg7) = m ((c.tc : Thread Cert.AdamBranchIdeal.nD Cert.AdamBranchIdeal.τ).loc Cert.AdamBranchIdeal.main_arg7)) →
    ∃ (v0 : (c : Dev Cert.AdamBranchIdeal.nD) → Buf (Elt Ideal) ((c.tc : Thread Cert.AdamBranchIdeal.nD Cert.AdamBranchIdeal.τ).loc Cert.AdamBranchIdeal.main_v3_0)) (v1 : (c : Dev Cert.AdamBranchIdeal.nD) → Buf (Elt Ideal) ((c.tc : Thread Cert.AdamBranchIdeal.nD Cert.AdamBranchIdeal.τ).loc Cert.AdamBranchIdeal.main_v3_1)) (v2 : (c : Dev Cert.AdamBranchIdeal.nD) → Buf (Elt Ideal) ((c.tc : Thread Cert.AdamBranchIdeal.nD Cert.AdamBranchIdeal.τ).loc Cert.AdamBranchIdeal.main_v3_2)) (v3 : (c : Dev Cert.AdamBranchIdeal.nD) → Buf (Elt Ideal) ((c.tc : Thread Cert.AdamBranchIdeal.nD Cert.AdamBranchIdeal.τ).loc Cert.AdamBranchIdeal.main_v3_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v3_0) = v0 c
          ∧ r.2.mem ((c.tc : Thread Cert.AdamBranchIdeal.nD Cert.AdamBranchIdeal.τ).loc Cert.AdamBranchIdeal.main_v3_1) = v1 c
          ∧ r.2.mem ((c.tc : Thread Cert.AdamBranchIdeal.nD Cert.AdamBranchIdeal.τ).loc Cert.AdamBranchIdeal.main_v3_2) = v2 c
          ∧ r.2.mem ((c.tc : Thread Cert.AdamBranchIdeal.nD Cert.AdamBranchIdeal.τ).loc Cert.AdamBranchIdeal.main_v3_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
          ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
          ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5)
          ∧ r.2.mem ((c.tc : Thread Cert.AdamBranchIdeal.nD Cert.AdamBranchIdeal.τ).loc Cert.AdamBranchIdeal.main_arg6) = m ((c.tc : Thread Cert.AdamBranchIdeal.nD Cert.AdamBranchIdeal.τ).loc Cert.AdamBranchIdeal.main_arg6)
          ∧ r.2.mem ((c.tc : Thread Cert.AdamBranchIdeal.nD Cert.AdamBranchIdeal.τ).loc Cert.AdamBranchIdeal.main_arg7) = m ((c.tc : Thread Cert.AdamBranchIdeal.nD Cert.AdamBranchIdeal.τ).loc Cert.AdamBranchIdeal.main_arg7))
      ∧ θ_run (Cert.AdamBranchReferenceIdeal.defs (F := Ideal)) (onTc (τ := Cert.AdamBranchReferenceIdeal.τ) (Cert.AdamBranchReferenceIdeal.main (F := Ideal))) ⟨m', fun _ => 0, g'⟩ (fun r => ∀ c : Dev Cert.AdamBranchReferenceIdeal.nD,
          r.2.mem ((c.tc : Thread Cert.AdamBranchReferenceIdeal.nD Cert.AdamBranchReferenceIdeal.τ).loc Cert.AdamBranchReferenceIdeal.main_v39) = v0 c
          ∧ r.2.mem ((c.tc : Thread Cert.AdamBranchReferenceIdeal.nD Cert.AdamBranchReferenceIdeal.τ).loc Cert.AdamBranchReferenceIdeal.main_v44) = v1 c
          ∧ r.2.mem ((c.tc : Thread Cert.AdamBranchReferenceIdeal.nD Cert.AdamBranchReferenceIdeal.τ).loc Cert.AdamBranchReferenceIdeal.main_v49) = v2 c
          ∧ r.2.mem ((c.tc : Thread Cert.AdamBranchReferenceIdeal.nD Cert.AdamBranchReferenceIdeal.τ).loc Cert.AdamBranchReferenceIdeal.main_v54) = v3 c
          ∧ r.2.mem ((c.tc : Thread Cert.AdamBranchReferenceIdeal.nD Cert.AdamBranchReferenceIdeal.τ).loc Cert.AdamBranchReferenceIdeal.main_arg0) = m' ((c.tc : Thread Cert.AdamBranchReferenceIdeal.nD Cert.AdamBranchReferenceIdeal.τ).loc Cert.AdamBranchReferenceIdeal.main_arg0)
          ∧ r.2.mem ((c.tc : Thread Cert.AdamBranchReferenceIdeal.nD Cert.AdamBranchReferenceIdeal.τ).loc Cert.AdamBranchReferenceIdeal.main_arg1) = m' ((c.tc : Thread Cert.AdamBranchReferenceIdeal.nD Cert.AdamBranchReferenceIdeal.τ).loc Cert.AdamBranchReferenceIdeal.main_arg1)
          ∧ r.2.mem ((c.tc : Thread Cert.AdamBranchReferenceIdeal.nD Cert.AdamBranchReferenceIdeal.τ).loc Cert.AdamBranchReferenceIdeal.main_arg2) = m' ((c.tc : Thread Cert.AdamBranchReferenceIdeal.nD Cert.AdamBranchReferenceIdeal.τ).loc Cert.AdamBranchReferenceIdeal.main_arg2)
          ∧ r.2.mem ((c.tc : Thread Cert.AdamBranchReferenceIdeal.nD Cert.AdamBranchReferenceIdeal.τ).loc Cert.AdamBranchReferenceIdeal.main_arg3) = m' ((c.tc : Thread Cert.AdamBranchReferenceIdeal.nD Cert.AdamBranchReferenceIdeal.τ).loc Cert.AdamBranchReferenceIdeal.main_arg3)
          ∧ r.2.mem ((c.tc : Thread Cert.AdamBranchReferenceIdeal.nD Cert.AdamBranchReferenceIdeal.τ).loc Cert.AdamBranchReferenceIdeal.main_arg4) = m' ((c.tc : Thread Cert.AdamBranchReferenceIdeal.nD Cert.AdamBranchReferenceIdeal.τ).loc Cert.AdamBranchReferenceIdeal.main_arg4)
          ∧ r.2.mem ((c.tc : Thread Cert.AdamBranchReferenceIdeal.nD Cert.AdamBranchReferenceIdeal.τ).loc Cert.AdamBranchReferenceIdeal.main_arg5) = m' ((c.tc : Thread Cert.AdamBranchReferenceIdeal.nD Cert.AdamBranchReferenceIdeal.τ).loc Cert.AdamBranchReferenceIdeal.main_arg5)
          ∧ r.2.mem ((c.tc : Thread Cert.AdamBranchReferenceIdeal.nD Cert.AdamBranchReferenceIdeal.τ).loc Cert.AdamBranchReferenceIdeal.main_arg6) = m' ((c.tc : Thread Cert.AdamBranchReferenceIdeal.nD Cert.AdamBranchReferenceIdeal.τ).loc Cert.AdamBranchReferenceIdeal.main_arg6)
          ∧ r.2.mem ((c.tc : Thread Cert.AdamBranchReferenceIdeal.nD Cert.AdamBranchReferenceIdeal.τ).loc Cert.AdamBranchReferenceIdeal.main_arg7) = m' ((c.tc : Thread Cert.AdamBranchReferenceIdeal.nD Cert.AdamBranchReferenceIdeal.τ).loc Cert.AdamBranchReferenceIdeal.main_arg7))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)
      ∧ m' ((c.tc : Thread Cert.AdamOutReferenceIdeal.nD Cert.AdamOutReferenceIdeal.τ).loc Cert.AdamOutReferenceIdeal.main_arg5) = m ((c.tc : Thread Cert.AdamOutIdeal.nD Cert.AdamOutIdeal.τ).loc Cert.AdamOutIdeal.main_arg5)
      ∧ m' ((c.tc : Thread Cert.AdamOutReferenceIdeal.nD Cert.AdamOutReferenceIdeal.τ).loc Cert.AdamOutReferenceIdeal.main_arg6) = m ((c.tc : Thread Cert.AdamOutIdeal.nD Cert.AdamOutIdeal.τ).loc Cert.AdamOutIdeal.main_arg6)
      ∧ m' ((c.tc : Thread Cert.AdamOutReferenceIdeal.nD Cert.AdamOutReferenceIdeal.τ).loc Cert.AdamOutReferenceIdeal.main_arg7) = m ((c.tc : Thread Cert.AdamOutIdeal.nD Cert.AdamOutIdeal.τ).loc Cert.AdamOutIdeal.main_arg7)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
          ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v36) = v0 c
          ∧ r.2.mem ((c.tc : Thread Cert.AdamOutReferenceIdeal.nD Cert.AdamOutReferenceIdeal.τ).loc Cert.AdamOutReferenceIdeal.main_v41) = v1 c
          ∧ r.2.mem ((c.tc : Thread Cert.AdamOutReferenceIdeal.nD Cert.AdamOutReferenceIdeal.τ).loc Cert.AdamOutReferenceIdeal.main_v46) = v2 c
          ∧ r.2.mem ((c.tc : Thread Cert.AdamOutReferenceIdeal.nD Cert.AdamOutReferenceIdeal.τ).loc Cert.AdamOutReferenceIdeal.main_v51) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4)
          ∧ r.2.mem ((c.tc : Thread Cert.AdamOutReferenceIdeal.nD Cert.AdamOutReferenceIdeal.τ).loc Cert.AdamOutReferenceIdeal.main_arg5) = m' ((c.tc : Thread Cert.AdamOutReferenceIdeal.nD Cert.AdamOutReferenceIdeal.τ).loc Cert.AdamOutReferenceIdeal.main_arg5)
          ∧ r.2.mem ((c.tc : Thread Cert.AdamOutReferenceIdeal.nD Cert.AdamOutReferenceIdeal.τ).loc Cert.AdamOutReferenceIdeal.main_arg6) = m' ((c.tc : Thread Cert.AdamOutReferenceIdeal.nD Cert.AdamOutReferenceIdeal.τ).loc Cert.AdamOutReferenceIdeal.main_arg6)
          ∧ r.2.mem ((c.tc : Thread Cert.AdamOutReferenceIdeal.nD Cert.AdamOutReferenceIdeal.τ).loc Cert.AdamOutReferenceIdeal.main_arg7) = m' ((c.tc : Thread Cert.AdamOutReferenceIdeal.nD Cert.AdamOutReferenceIdeal.τ).loc Cert.AdamOutReferenceIdeal.main_arg7))

def preserves_AdamRest_AdamRestIdeal : Prop :=
  True

def algebraic_AdamRestIdeal_AdamRestReferenceIdeal [hAdamRestIdeal : Cert.AdamRestIdeal.Facts] [hAdamRestReferenceIdeal : Cert.AdamRestReferenceIdeal.Facts] : Prop :=
  ∀ (m : (ℓ : Loc Cert.AdamRestIdeal.nD Cert.AdamRestIdeal.τ Cert.AdamRestIdeal.sig) → Buf (Elt Ideal) ℓ) (g : Dev Cert.AdamRestIdeal.nD → PrngReg)
    (m' : (ℓ : Loc Cert.AdamRestReferenceIdeal.nD Cert.AdamRestReferenceIdeal.τ Cert.AdamRestReferenceIdeal.sig) → Buf (Elt Ideal) ℓ) (g' : Dev Cert.AdamRestReferenceIdeal.nD → PrngReg), Pre_AdamRestIdeal m →
    (∀ c : Dev Cert.AdamRestIdeal.nD,
      m' ((c.tc : Thread Cert.AdamRestReferenceIdeal.nD Cert.AdamRestReferenceIdeal.τ).loc Cert.AdamRestReferenceIdeal.main_arg0) = m ((c.tc : Thread Cert.AdamRestIdeal.nD Cert.AdamRestIdeal.τ).loc Cert.AdamRestIdeal.main_arg0)
      ∧ m' ((c.tc : Thread Cert.AdamRestReferenceIdeal.nD Cert.AdamRestReferenceIdeal.τ).loc Cert.AdamRestReferenceIdeal.main_arg1) = m ((c.tc : Thread Cert.AdamRestIdeal.nD Cert.AdamRestIdeal.τ).loc Cert.AdamRestIdeal.main_arg1)
      ∧ m' ((c.tc : Thread Cert.AdamRestReferenceIdeal.nD Cert.AdamRestReferenceIdeal.τ).loc Cert.AdamRestReferenceIdeal.main_arg2) = m ((c.tc : Thread Cert.AdamRestIdeal.nD Cert.AdamRestIdeal.τ).loc Cert.AdamRestIdeal.main_arg2)
      ∧ m' ((c.tc : Thread Cert.AdamRestReferenceIdeal.nD Cert.AdamRestReferenceIdeal.τ).loc Cert.AdamRestReferenceIdeal.main_arg3) = m ((c.tc : Thread Cert.AdamRestIdeal.nD Cert.AdamRestIdeal.τ).loc Cert.AdamRestIdeal.main_arg3)
      ∧ m' ((c.tc : Thread Cert.AdamRestReferenceIdeal.nD Cert.AdamRestReferenceIdeal.τ).loc Cert.AdamRestReferenceIdeal.main_arg4) = m ((c.tc : Thread Cert.AdamRestIdeal.nD Cert.AdamRestIdeal.τ).loc Cert.AdamRestIdeal.main_arg4)
      ∧ m' ((c.tc : Thread Cert.AdamRestReferenceIdeal.nD Cert.AdamRestReferenceIdeal.τ).loc Cert.AdamRestReferenceIdeal.main_arg5) = m ((c.tc : Thread Cert.AdamRestIdeal.nD Cert.AdamRestIdeal.τ).loc Cert.AdamRestIdeal.main_arg5)
      ∧ m' ((c.tc : Thread Cert.AdamRestReferenceIdeal.nD Cert.AdamRestReferenceIdeal.τ).loc Cert.AdamRestReferenceIdeal.main_arg6) = m ((c.tc : Thread Cert.AdamRestIdeal.nD Cert.AdamRestIdeal.τ).loc Cert.AdamRestIdeal.main_arg6)
      ∧ m' ((c.tc : Thread Cert.AdamRestReferenceIdeal.nD Cert.AdamRestReferenceIdeal.τ).loc Cert.AdamRestReferenceIdeal.main_arg7) = m ((c.tc : Thread Cert.AdamRestIdeal.nD Cert.AdamRestIdeal.τ).loc Cert.AdamRestIdeal.main_arg7)
      ∧ m' ((c.tc : Thread Cert.AdamRestReferenceIdeal.nD Cert.AdamRestReferenceIdeal.τ).loc Cert.AdamRestReferenceIdeal.main_arg8) = m ((c.tc : Thread Cert.AdamRestIdeal.nD Cert.AdamRestIdeal.τ).loc Cert.AdamRestIdeal.main_arg8)
      ∧ m' ((c.tc : Thread Cert.AdamRestReferenceIdeal.nD Cert.AdamRestReferenceIdeal.τ).loc Cert.AdamRestReferenceIdeal.main_arg9) = m ((c.tc : Thread Cert.AdamRestIdeal.nD Cert.AdamRestIdeal.τ).loc Cert.AdamRestIdeal.main_arg9)
      ∧ m' ((c.tc : Thread Cert.AdamRestReferenceIdeal.nD Cert.AdamRestReferenceIdeal.τ).loc Cert.AdamRestReferenceIdeal.main_arg10) = m ((c.tc : Thread Cert.AdamRestIdeal.nD Cert.AdamRestIdeal.τ).loc Cert.AdamRestIdeal.main_arg10)
      ∧ m' ((c.tc : Thread Cert.AdamRestReferenceIdeal.nD Cert.AdamRestReferenceIdeal.τ).loc Cert.AdamRestReferenceIdeal.main_arg11) = m ((c.tc : Thread Cert.AdamRestIdeal.nD Cert.AdamRestIdeal.τ).loc Cert.AdamRestIdeal.main_arg11)
      ∧ m' ((c.tc : Thread Cert.AdamRestReferenceIdeal.nD Cert.AdamRestReferenceIdeal.τ).loc Cert.AdamRestReferenceIdeal.main_arg12) = m ((c.tc : Thread Cert.AdamRestIdeal.nD Cert.AdamRestIdeal.τ).loc Cert.AdamRestIdeal.main_arg12)
      ∧ m' ((c.tc : Thread Cert.AdamRestReferenceIdeal.nD Cert.AdamRestReferenceIdeal.τ).loc Cert.AdamRestReferenceIdeal.main_arg13) = m ((c.tc : Thread Cert.AdamRestIdeal.nD Cert.AdamRestIdeal.τ).loc Cert.AdamRestIdeal.main_arg13)
      ∧ m' ((c.tc : Thread Cert.AdamRestReferenceIdeal.nD Cert.AdamRestReferenceIdeal.τ).loc Cert.AdamRestReferenceIdeal.main_arg14) = m ((c.tc : Thread Cert.AdamRestIdeal.nD Cert.AdamRestIdeal.τ).loc Cert.AdamRestIdeal.main_arg14)
      ∧ m' ((c.tc : Thread Cert.AdamRestReferenceIdeal.nD Cert.AdamRestReferenceIdeal.τ).loc Cert.AdamRestReferenceIdeal.main_arg15) = m ((c.tc : Thread Cert.AdamRestIdeal.nD Cert.AdamRestIdeal.τ).loc Cert.AdamRestIdeal.main_arg15)
      ∧ m' ((c.tc : Thread Cert.AdamRestReferenceIdeal.nD Cert.AdamRestReferenceIdeal.τ).loc Cert.AdamRestReferenceIdeal.main_arg16) = m ((c.tc : Thread Cert.AdamRestIdeal.nD Cert.AdamRestIdeal.τ).loc Cert.AdamRestIdeal.main_arg16)
      ∧ m' ((c.tc : Thread Cert.AdamRestReferenceIdeal.nD Cert.AdamRestReferenceIdeal.τ).loc Cert.AdamRestReferenceIdeal.main_arg17) = m ((c.tc : Thread Cert.AdamRestIdeal.nD Cert.AdamRestIdeal.τ).loc Cert.AdamRestIdeal.main_arg17)
      ∧ m' ((c.tc : Thread Cert.AdamRestReferenceIdeal.nD Cert.AdamRestReferenceIdeal.τ).loc Cert.AdamRestReferenceIdeal.main_arg18) = m ((c.tc : Thread Cert.AdamRestIdeal.nD Cert.AdamRestIdeal.τ).loc Cert.AdamRestIdeal.main_arg18)
      ∧ m' ((c.tc : Thread Cert.AdamRestReferenceIdeal.nD Cert.AdamRestReferenceIdeal.τ).loc Cert.AdamRestReferenceIdeal.main_arg19) = m ((c.tc : Thread Cert.AdamRestIdeal.nD Cert.AdamRestIdeal.τ).loc Cert.AdamRestIdeal.main_arg19)
      ∧ m' ((c.tc : Thread Cert.AdamRestReferenceIdeal.nD Cert.AdamRestReferenceIdeal.τ).loc Cert.AdamRestReferenceIdeal.main_arg20) = m ((c.tc : Thread Cert.AdamRestIdeal.nD Cert.AdamRestIdeal.τ).loc Cert.AdamRestIdeal.main_arg20)
      ∧ m' ((c.tc : Thread Cert.AdamRestReferenceIdeal.nD Cert.AdamRestReferenceIdeal.τ).loc Cert.AdamRestReferenceIdeal.main_arg21) = m ((c.tc : Thread Cert.AdamRestIdeal.nD Cert.AdamRestIdeal.τ).loc Cert.AdamRestIdeal.main_arg21)
      ∧ m' ((c.tc : Thread Cert.AdamRestReferenceIdeal.nD Cert.AdamRestReferenceIdeal.τ).loc Cert.AdamRestReferenceIdeal.main_arg22) = m ((c.tc : Thread Cert.AdamRestIdeal.nD Cert.AdamRestIdeal.τ).loc Cert.AdamRestIdeal.main_arg22)
      ∧ m' ((c.tc : Thread Cert.AdamRestReferenceIdeal.nD Cert.AdamRestReferenceIdeal.τ).loc Cert.AdamRestReferenceIdeal.main_arg23) = m ((c.tc : Thread Cert.AdamRestIdeal.nD Cert.AdamRestIdeal.τ).loc Cert.AdamRestIdeal.main_arg23)
      ∧ m' ((c.tc : Thread Cert.AdamRestReferenceIdeal.nD Cert.AdamRestReferenceIdeal.τ).loc Cert.AdamRestReferenceIdeal.main_arg24) = m ((c.tc : Thread Cert.AdamRestIdeal.nD Cert.AdamRestIdeal.τ).loc Cert.AdamRestIdeal.main_arg24)
      ∧ m' ((c.tc : Thread Cert.AdamRestReferenceIdeal.nD Cert.AdamRestReferenceIdeal.τ).loc Cert.AdamRestReferenceIdeal.main_arg25) = m ((c.tc : Thread Cert.AdamRestIdeal.nD Cert.AdamRestIdeal.τ).loc Cert.AdamRestIdeal.main_arg25)
      ∧ m' ((c.tc : Thread Cert.AdamRestReferenceIdeal.nD Cert.AdamRestReferenceIdeal.τ).loc Cert.AdamRestReferenceIdeal.main_arg26) = m ((c.tc : Thread Cert.AdamRestIdeal.nD Cert.AdamRestIdeal.τ).loc Cert.AdamRestIdeal.main_arg26)
      ∧ m' ((c.tc : Thread Cert.AdamRestReferenceIdeal.nD Cert.AdamRestReferenceIdeal.τ).loc Cert.AdamRestReferenceIdeal.main_arg27) = m ((c.tc : Thread Cert.AdamRestIdeal.nD Cert.AdamRestIdeal.τ).loc Cert.AdamRestIdeal.main_arg27)
      ∧ m' ((c.tc : Thread Cert.AdamRestReferenceIdeal.nD Cert.AdamRestReferenceIdeal.τ).loc Cert.AdamRestReferenceIdeal.main_arg28) = m ((c.tc : Thread Cert.AdamRestIdeal.nD Cert.AdamRestIdeal.τ).loc Cert.AdamRestIdeal.main_arg28)
      ∧ m' ((c.tc : Thread Cert.AdamRestReferenceIdeal.nD Cert.AdamRestReferenceIdeal.τ).loc Cert.AdamRestReferenceIdeal.main_arg29) = m ((c.tc : Thread Cert.AdamRestIdeal.nD Cert.AdamRestIdeal.τ).loc Cert.AdamRestIdeal.main_arg29)
      ∧ m' ((c.tc : Thread Cert.AdamRestReferenceIdeal.nD Cert.AdamRestReferenceIdeal.τ).loc Cert.AdamRestReferenceIdeal.main_arg30) = m ((c.tc : Thread Cert.AdamRestIdeal.nD Cert.AdamRestIdeal.τ).loc Cert.AdamRestIdeal.main_arg30)
      ∧ m' ((c.tc : Thread Cert.AdamRestReferenceIdeal.nD Cert.AdamRestReferenceIdeal.τ).loc Cert.AdamRestReferenceIdeal.main_arg31) = m ((c.tc : Thread Cert.AdamRestIdeal.nD Cert.AdamRestIdeal.τ).loc Cert.AdamRestIdeal.main_arg31)
      ∧ m' ((c.tc : Thread Cert.AdamRestReferenceIdeal.nD Cert.AdamRestReferenceIdeal.τ).loc Cert.AdamRestReferenceIdeal.main_arg32) = m ((c.tc : Thread Cert.AdamRestIdeal.nD Cert.AdamRestIdeal.τ).loc Cert.AdamRestIdeal.main_arg32)
      ∧ m' ((c.tc : Thread Cert.AdamRestReferenceIdeal.nD Cert.AdamRestReferenceIdeal.τ).loc Cert.AdamRestReferenceIdeal.main_arg33) = m ((c.tc : Thread Cert.AdamRestIdeal.nD Cert.AdamRestIdeal.τ).loc Cert.AdamRestIdeal.main_arg33)
      ∧ m' ((c.tc : Thread Cert.AdamRestReferenceIdeal.nD Cert.AdamRestReferenceIdeal.τ).loc Cert.AdamRestReferenceIdeal.main_arg34) = m ((c.tc : Thread Cert.AdamRestIdeal.nD Cert.AdamRestIdeal.τ).loc Cert.AdamRestIdeal.main_arg34)
      ∧ m' ((c.tc : Thread Cert.AdamRestReferenceIdeal.nD Cert.AdamRestReferenceIdeal.τ).loc Cert.AdamRestReferenceIdeal.main_arg35) = m ((c.tc : Thread Cert.AdamRestIdeal.nD Cert.AdamRestIdeal.τ).loc Cert.AdamRestIdeal.main_arg35)
      ∧ m' ((c.tc : Thread Cert.AdamRestReferenceIdeal.nD Cert.AdamRestReferenceIdeal.τ).loc Cert.AdamRestReferenceIdeal.main_arg36) = m ((c.tc : Thread Cert.AdamRestIdeal.nD Cert.AdamRestIdeal.τ).loc Cert.AdamRestIdeal.main_arg36)
      ∧ m' ((c.tc : Thread Cert.AdamRestReferenceIdeal.nD Cert.AdamRestReferenceIdeal.τ).loc Cert.AdamRestReferenceIdeal.main_arg37) = m ((c.tc : Thread Cert.AdamRestIdeal.nD Cert.AdamRestIdeal.τ).loc Cert.AdamRestIdeal.main_arg37)
      ∧ m' ((c.tc : Thread Cert.AdamRestReferenceIdeal.nD Cert.AdamRestReferenceIdeal.τ).loc Cert.AdamRestReferenceIdeal.main_arg38) = m ((c.tc : Thread Cert.AdamRestIdeal.nD Cert.AdamRestIdeal.τ).loc Cert.AdamRestIdeal.main_arg38)
      ∧ m' ((c.tc : Thread Cert.AdamRestReferenceIdeal.nD Cert.AdamRestReferenceIdeal.τ).loc Cert.AdamRestReferenceIdeal.main_arg39) = m ((c.tc : Thread Cert.AdamRestIdeal.nD Cert.AdamRestIdeal.τ).loc Cert.AdamRestIdeal.main_arg39)
      ∧ m' ((c.tc : Thread Cert.AdamRestReferenceIdeal.nD Cert.AdamRestReferenceIdeal.τ).loc Cert.AdamRestReferenceIdeal.main_arg40) = m ((c.tc : Thread Cert.AdamRestIdeal.nD Cert.AdamRestIdeal.τ).loc Cert.AdamRestIdeal.main_arg40)
      ∧ m' ((c.tc : Thread Cert.AdamRestReferenceIdeal.nD Cert.AdamRestReferenceIdeal.τ).loc Cert.AdamRestReferenceIdeal.main_arg41) = m ((c.tc : Thread Cert.AdamRestIdeal.nD Cert.AdamRestIdeal.τ).loc Cert.AdamRestIdeal.main_arg41)
      ∧ m' ((c.tc : Thread Cert.AdamRestReferenceIdeal.nD Cert.AdamRestReferenceIdeal.τ).loc Cert.AdamRestReferenceIdeal.main_arg42) = m ((c.tc : Thread Cert.AdamRestIdeal.nD Cert.AdamRestIdeal.τ).loc Cert.AdamRestIdeal.main_arg42)
      ∧ m' ((c.tc : Thread Cert.AdamRestReferenceIdeal.nD Cert.AdamRestReferenceIdeal.τ).loc Cert.AdamRestReferenceIdeal.main_arg43) = m ((c.tc : Thread Cert.AdamRestIdeal.nD Cert.AdamRestIdeal.τ).loc Cert.AdamRestIdeal.main_arg43)
      ∧ m' ((c.tc : Thread Cert.AdamRestReferenceIdeal.nD Cert.AdamRestReferenceIdeal.τ).loc Cert.AdamRestReferenceIdeal.main_arg44) = m ((c.tc : Thread Cert.AdamRestIdeal.nD Cert.AdamRestIdeal.τ).loc Cert.AdamRestIdeal.main_arg44)
      ∧ m' ((c.tc : Thread Cert.AdamRestReferenceIdeal.nD Cert.AdamRestReferenceIdeal.τ).loc Cert.AdamRestReferenceIdeal.main_arg45) = m ((c.tc : Thread Cert.AdamRestIdeal.nD Cert.AdamRestIdeal.τ).loc Cert.AdamRestIdeal.main_arg45)
      ∧ m' ((c.tc : Thread Cert.AdamRestReferenceIdeal.nD Cert.AdamRestReferenceIdeal.τ).loc Cert.AdamRestReferenceIdeal.main_arg46) = m ((c.tc : Thread Cert.AdamRestIdeal.nD Cert.AdamRestIdeal.τ).loc Cert.AdamRestIdeal.main_arg46)
      ∧ m' ((c.tc : Thread Cert.AdamRestReferenceIdeal.nD Cert.AdamRestReferenceIdeal.τ).loc Cert.AdamRestReferenceIdeal.main_arg47) = m ((c.tc : Thread Cert.AdamRestIdeal.nD Cert.AdamRestIdeal.τ).loc Cert.AdamRestIdeal.main_arg47)
      ∧ m' ((c.tc : Thread Cert.AdamRestReferenceIdeal.nD Cert.AdamRestReferenceIdeal.τ).loc Cert.AdamRestReferenceIdeal.main_arg48) = m ((c.tc : Thread Cert.AdamRestIdeal.nD Cert.AdamRestIdeal.τ).loc Cert.AdamRestIdeal.main_arg48)
      ∧ m' ((c.tc : Thread Cert.AdamRestReferenceIdeal.nD Cert.AdamRestReferenceIdeal.τ).loc Cert.AdamRestReferenceIdeal.main_arg49) = m ((c.tc : Thread Cert.AdamRestIdeal.nD Cert.AdamRestIdeal.τ).loc Cert.AdamRestIdeal.main_arg49)
      ∧ m' ((c.tc : Thread Cert.AdamRestReferenceIdeal.nD Cert.AdamRestReferenceIdeal.τ).loc Cert.AdamRestReferenceIdeal.main_arg50) = m ((c.tc : Thread Cert.AdamRestIdeal.nD Cert.AdamRestIdeal.τ).loc Cert.AdamRestIdeal.main_arg50)
      ∧ m' ((c.tc : Thread Cert.AdamRestReferenceIdeal.nD Cert.AdamRestReferenceIdeal.τ).loc Cert.AdamRestReferenceIdeal.main_arg51) = m ((c.tc : Thread Cert.AdamRestIdeal.nD Cert.AdamRestIdeal.τ).loc Cert.AdamRestIdeal.main_arg51)
      ∧ m' ((c.tc : Thread Cert.AdamRestReferenceIdeal.nD Cert.AdamRestReferenceIdeal.τ).loc Cert.AdamRestReferenceIdeal.main_arg52) = m ((c.tc : Thread Cert.AdamRestIdeal.nD Cert.AdamRestIdeal.τ).loc Cert.AdamRestIdeal.main_arg52)
      ∧ m' ((c.tc : Thread Cert.AdamRestReferenceIdeal.nD Cert.AdamRestReferenceIdeal.τ).loc Cert.AdamRestReferenceIdeal.main_arg53) = m ((c.tc : Thread Cert.AdamRestIdeal.nD Cert.AdamRestIdeal.τ).loc Cert.AdamRestIdeal.main_arg53)
      ∧ m' ((c.tc : Thread Cert.AdamRestReferenceIdeal.nD Cert.AdamRestReferenceIdeal.τ).loc Cert.AdamRestReferenceIdeal.main_arg54) = m ((c.tc : Thread Cert.AdamRestIdeal.nD Cert.AdamRestIdeal.τ).loc Cert.AdamRestIdeal.main_arg54)
      ∧ m' ((c.tc : Thread Cert.AdamRestReferenceIdeal.nD Cert.AdamRestReferenceIdeal.τ).loc Cert.AdamRestReferenceIdeal.main_arg55) = m ((c.tc : Thread Cert.AdamRestIdeal.nD Cert.AdamRestIdeal.τ).loc Cert.AdamRestIdeal.main_arg55)
      ∧ m' ((c.tc : Thread Cert.AdamRestReferenceIdeal.nD Cert.AdamRestReferenceIdeal.τ).loc Cert.AdamRestReferenceIdeal.main_arg56) = m ((c.tc : Thread Cert.AdamRestIdeal.nD Cert.AdamRestIdeal.τ).loc Cert.AdamRestIdeal.main_arg56)
      ∧ m' ((c.tc : Thread Cert.AdamRestReferenceIdeal.nD Cert.AdamRestReferenceIdeal.τ).loc Cert.AdamRestReferenceIdeal.main_arg57) = m ((c.tc : Thread Cert.AdamRestIdeal.nD Cert.AdamRestIdeal.τ).loc Cert.AdamRestIdeal.main_arg57)
      ∧ m' ((c.tc : Thread Cert.AdamRestReferenceIdeal.nD Cert.AdamRestReferenceIdeal.τ).loc Cert.AdamRestReferenceIdeal.main_arg58) = m ((c.tc : Thread Cert.AdamRestIdeal.nD Cert.AdamRestIdeal.τ).loc Cert.AdamRestIdeal.main_arg58)
      ∧ m' ((c.tc : Thread Cert.AdamRestReferenceIdeal.nD Cert.AdamRestReferenceIdeal.τ).loc Cert.AdamRestReferenceIdeal.main_arg59) = m ((c.tc : Thread Cert.AdamRestIdeal.nD Cert.AdamRestIdeal.τ).loc Cert.AdamRestIdeal.main_arg59)
      ∧ m' ((c.tc : Thread Cert.AdamRestReferenceIdeal.nD Cert.AdamRestReferenceIdeal.τ).loc Cert.AdamRestReferenceIdeal.main_arg60) = m ((c.tc : Thread Cert.AdamRestIdeal.nD Cert.AdamRestIdeal.τ).loc Cert.AdamRestIdeal.main_arg60)
      ∧ m' ((c.tc : Thread Cert.AdamRestReferenceIdeal.nD Cert.AdamRestReferenceIdeal.τ).loc Cert.AdamRestReferenceIdeal.main_arg61) = m ((c.tc : Thread Cert.AdamRestIdeal.nD Cert.AdamRestIdeal.τ).loc Cert.AdamRestIdeal.main_arg61)
      ∧ m' ((c.tc : Thread Cert.AdamRestReferenceIdeal.nD Cert.AdamRestReferenceIdeal.τ).loc Cert.AdamRestReferenceIdeal.main_arg62) = m ((c.tc : Thread Cert.AdamRestIdeal.nD Cert.AdamRestIdeal.τ).loc Cert.AdamRestIdeal.main_arg62)
      ∧ m' ((c.tc : Thread Cert.AdamRestReferenceIdeal.nD Cert.AdamRestReferenceIdeal.τ).loc Cert.AdamRestReferenceIdeal.main_arg63) = m ((c.tc : Thread Cert.AdamRestIdeal.nD Cert.AdamRestIdeal.τ).loc Cert.AdamRestIdeal.main_arg63)
      ∧ m' ((c.tc : Thread Cert.AdamRestReferenceIdeal.nD Cert.AdamRestReferenceIdeal.τ).loc Cert.AdamRestReferenceIdeal.main_arg64) = m ((c.tc : Thread Cert.AdamRestIdeal.nD Cert.AdamRestIdeal.τ).loc Cert.AdamRestIdeal.main_arg64)
      ∧ m' ((c.tc : Thread Cert.AdamRestReferenceIdeal.nD Cert.AdamRestReferenceIdeal.τ).loc Cert.AdamRestReferenceIdeal.main_arg65) = m ((c.tc : Thread Cert.AdamRestIdeal.nD Cert.AdamRestIdeal.τ).loc Cert.AdamRestIdeal.main_arg65)
      ∧ m' ((c.tc : Thread Cert.AdamRestReferenceIdeal.nD Cert.AdamRestReferenceIdeal.τ).loc Cert.AdamRestReferenceIdeal.main_arg66) = m ((c.tc : Thread Cert.AdamRestIdeal.nD Cert.AdamRestIdeal.τ).loc Cert.AdamRestIdeal.main_arg66)
      ∧ m' ((c.tc : Thread Cert.AdamRestReferenceIdeal.nD Cert.AdamRestReferenceIdeal.τ).loc Cert.AdamRestReferenceIdeal.main_arg67) = m ((c.tc : Thread Cert.AdamRestIdeal.nD Cert.AdamRestIdeal.τ).loc Cert.AdamRestIdeal.main_arg67)
      ∧ m' ((c.tc : Thread Cert.AdamRestReferenceIdeal.nD Cert.AdamRestReferenceIdeal.τ).loc Cert.AdamRestReferenceIdeal.main_arg68) = m ((c.tc : Thread Cert.AdamRestIdeal.nD Cert.AdamRestIdeal.τ).loc Cert.AdamRestIdeal.main_arg68)
      ∧ m' ((c.tc : Thread Cert.AdamRestReferenceIdeal.nD Cert.AdamRestReferenceIdeal.τ).loc Cert.AdamRestReferenceIdeal.main_arg69) = m ((c.tc : Thread Cert.AdamRestIdeal.nD Cert.AdamRestIdeal.τ).loc Cert.AdamRestIdeal.main_arg69)
      ∧ m' ((c.tc : Thread Cert.AdamRestReferenceIdeal.nD Cert.AdamRestReferenceIdeal.τ).loc Cert.AdamRestReferenceIdeal.main_arg70) = m ((c.tc : Thread Cert.AdamRestIdeal.nD Cert.AdamRestIdeal.τ).loc Cert.AdamRestIdeal.main_arg70)
      ∧ m' ((c.tc : Thread Cert.AdamRestReferenceIdeal.nD Cert.AdamRestReferenceIdeal.τ).loc Cert.AdamRestReferenceIdeal.main_arg71) = m ((c.tc : Thread Cert.AdamRestIdeal.nD Cert.AdamRestIdeal.τ).loc Cert.AdamRestIdeal.main_arg71)
      ∧ m' ((c.tc : Thread Cert.AdamRestReferenceIdeal.nD Cert.AdamRestReferenceIdeal.τ).loc Cert.AdamRestReferenceIdeal.main_arg72) = m ((c.tc : Thread Cert.AdamRestIdeal.nD Cert.AdamRestIdeal.τ).loc Cert.AdamRestIdeal.main_arg72)
      ∧ m' ((c.tc : Thread Cert.AdamRestReferenceIdeal.nD Cert.AdamRestReferenceIdeal.τ).loc Cert.AdamRestReferenceIdeal.main_arg73) = m ((c.tc : Thread Cert.AdamRestIdeal.nD Cert.AdamRestIdeal.τ).loc Cert.AdamRestIdeal.main_arg73)
      ∧ m' ((c.tc : Thread Cert.AdamRestReferenceIdeal.nD Cert.AdamRestReferenceIdeal.τ).loc Cert.AdamRestReferenceIdeal.main_arg74) = m ((c.tc : Thread Cert.AdamRestIdeal.nD Cert.AdamRestIdeal.τ).loc Cert.AdamRestIdeal.main_arg74)
      ∧ m' ((c.tc : Thread Cert.AdamRestReferenceIdeal.nD Cert.AdamRestReferenceIdeal.τ).loc Cert.AdamRestReferenceIdeal.main_arg75) = m ((c.tc : Thread Cert.AdamRestIdeal.nD Cert.AdamRestIdeal.τ).loc Cert.AdamRestIdeal.main_arg75)
      ∧ m' ((c.tc : Thread Cert.AdamRestReferenceIdeal.nD Cert.AdamRestReferenceIdeal.τ).loc Cert.AdamRestReferenceIdeal.main_arg76) = m ((c.tc : Thread Cert.AdamRestIdeal.nD Cert.AdamRestIdeal.τ).loc Cert.AdamRestIdeal.main_arg76)
      ∧ m' ((c.tc : Thread Cert.AdamRestReferenceIdeal.nD Cert.AdamRestReferenceIdeal.τ).loc Cert.AdamRestReferenceIdeal.main_arg77) = m ((c.tc : Thread Cert.AdamRestIdeal.nD Cert.AdamRestIdeal.τ).loc Cert.AdamRestIdeal.main_arg77)
      ∧ m' ((c.tc : Thread Cert.AdamRestReferenceIdeal.nD Cert.AdamRestReferenceIdeal.τ).loc Cert.AdamRestReferenceIdeal.main_arg78) = m ((c.tc : Thread Cert.AdamRestIdeal.nD Cert.AdamRestIdeal.τ).loc Cert.AdamRestIdeal.main_arg78)
      ∧ m' ((c.tc : Thread Cert.AdamRestReferenceIdeal.nD Cert.AdamRestReferenceIdeal.τ).loc Cert.AdamRestReferenceIdeal.main_arg79) = m ((c.tc : Thread Cert.AdamRestIdeal.nD Cert.AdamRestIdeal.τ).loc Cert.AdamRestIdeal.main_arg79)
      ∧ m' ((c.tc : Thread Cert.AdamRestReferenceIdeal.nD Cert.AdamRestReferenceIdeal.τ).loc Cert.AdamRestReferenceIdeal.main_arg80) = m ((c.tc : Thread Cert.AdamRestIdeal.nD Cert.AdamRestIdeal.τ).loc Cert.AdamRestIdeal.main_arg80)
      ∧ m' ((c.tc : Thread Cert.AdamRestReferenceIdeal.nD Cert.AdamRestReferenceIdeal.τ).loc Cert.AdamRestReferenceIdeal.main_arg81) = m ((c.tc : Thread Cert.AdamRestIdeal.nD Cert.AdamRestIdeal.τ).loc Cert.AdamRestIdeal.main_arg81)
      ∧ m' ((c.tc : Thread Cert.AdamRestReferenceIdeal.nD Cert.AdamRestReferenceIdeal.τ).loc Cert.AdamRestReferenceIdeal.main_arg82) = m ((c.tc : Thread Cert.AdamRestIdeal.nD Cert.AdamRestIdeal.τ).loc Cert.AdamRestIdeal.main_arg82)
      ∧ m' ((c.tc : Thread Cert.AdamRestReferenceIdeal.nD Cert.AdamRestReferenceIdeal.τ).loc Cert.AdamRestReferenceIdeal.main_arg83) = m ((c.tc : Thread Cert.AdamRestIdeal.nD Cert.AdamRestIdeal.τ).loc Cert.AdamRestIdeal.main_arg83)) →
    ∃ (v0 : (c : Dev Cert.AdamRestIdeal.nD) → Buf (Elt Ideal) ((c.tc : Thread Cert.AdamRestIdeal.nD Cert.AdamRestIdeal.τ).loc Cert.AdamRestIdeal.main_v101_0)) (v1 : (c : Dev Cert.AdamRestIdeal.nD) → Buf (Elt Ideal) ((c.tc : Thread Cert.AdamRestIdeal.nD Cert.AdamRestIdeal.τ).loc Cert.AdamRestIdeal.main_v101_1)) (v2 : (c : Dev Cert.AdamRestIdeal.nD) → Buf (Elt Ideal) ((c.tc : Thread Cert.AdamRestIdeal.nD Cert.AdamRestIdeal.τ).loc Cert.AdamRestIdeal.main_v101_2)) (v3 : (c : Dev Cert.AdamRestIdeal.nD) → Buf (Elt Ideal) ((c.tc : Thread Cert.AdamRestIdeal.nD Cert.AdamRestIdeal.τ).loc Cert.AdamRestIdeal.main_v101_3)),
      θ_run (Cert.AdamRestIdeal.defs (F := Ideal)) (onTc (τ := Cert.AdamRestIdeal.τ) (Cert.AdamRestIdeal.main (F := Ideal))) ⟨m, fun _ => 0, g⟩ (fun r => ∀ c : Dev Cert.AdamRestIdeal.nD,
          r.2.mem ((c.tc : Thread Cert.AdamRestIdeal.nD Cert.AdamRestIdeal.τ).loc Cert.AdamRestIdeal.main_v101_0) = v0 c
          ∧ r.2.mem ((c.tc : Thread Cert.AdamRestIdeal.nD Cert.AdamRestIdeal.τ).loc Cert.AdamRestIdeal.main_v101_1) = v1 c
          ∧ r.2.mem ((c.tc : Thread Cert.AdamRestIdeal.nD Cert.AdamRestIdeal.τ).loc Cert.AdamRestIdeal.main_v101_2) = v2 c
          ∧ r.2.mem ((c.tc : Thread Cert.AdamRestIdeal.nD Cert.AdamRestIdeal.τ).loc Cert.AdamRestIdeal.main_v101_3) = v3 c
          ∧ r.2.mem ((c.tc : Thread Cert.AdamRestIdeal.nD Cert.AdamRestIdeal.τ).loc Cert.AdamRestIdeal.main_arg0) = m ((c.tc : Thread Cert.AdamRestIdeal.nD Cert.AdamRestIdeal.τ).loc Cert.AdamRestIdeal.main_arg0)
          ∧ r.2.mem ((c.tc : Thread Cert.AdamRestIdeal.nD Cert.AdamRestIdeal.τ).loc Cert.AdamRestIdeal.main_arg1) = m ((c.tc : Thread Cert.AdamRestIdeal.nD Cert.AdamRestIdeal.τ).loc Cert.AdamRestIdeal.main_arg1)
          ∧ r.2.mem ((c.tc : Thread Cert.AdamRestIdeal.nD Cert.AdamRestIdeal.τ).loc Cert.AdamRestIdeal.main_arg2) = m ((c.tc : Thread Cert.AdamRestIdeal.nD Cert.AdamRestIdeal.τ).loc Cert.AdamRestIdeal.main_arg2)
          ∧ r.2.mem ((c.tc : Thread Cert.AdamRestIdeal.nD Cert.AdamRestIdeal.τ).loc Cert.AdamRestIdeal.main_arg3) = m ((c.tc : Thread Cert.AdamRestIdeal.nD Cert.AdamRestIdeal.τ).loc Cert.AdamRestIdeal.main_arg3)
          ∧ r.2.mem ((c.tc : Thread Cert.AdamRestIdeal.nD Cert.AdamRestIdeal.τ).loc Cert.AdamRestIdeal.main_arg4) = m ((c.tc : Thread Cert.AdamRestIdeal.nD Cert.AdamRestIdeal.τ).loc Cert.AdamRestIdeal.main_arg4)
          ∧ r.2.mem ((c.tc : Thread Cert.AdamRestIdeal.nD Cert.AdamRestIdeal.τ).loc Cert.AdamRestIdeal.main_arg5) = m ((c.tc : Thread Cert.AdamRestIdeal.nD Cert.AdamRestIdeal.τ).loc Cert.AdamRestIdeal.main_arg5)
          ∧ r.2.mem ((c.tc : Thread Cert.AdamRestIdeal.nD Cert.AdamRestIdeal.τ).loc Cert.AdamRestIdeal.main_arg6) = m ((c.tc : Thread Cert.AdamRestIdeal.nD Cert.AdamRestIdeal.τ).loc Cert.AdamRestIdeal.main_arg6)
          ∧ r.2.mem ((c.tc : Thread Cert.AdamRestIdeal.nD Cert.AdamRestIdeal.τ).loc Cert.AdamRestIdeal.main_arg7) = m ((c.tc : Thread Cert.AdamRestIdeal.nD Cert.AdamRestIdeal.τ).loc Cert.AdamRestIdeal.main_arg7)
          ∧ r.2.mem ((c.tc : Thread Cert.AdamRestIdeal.nD Cert.AdamRestIdeal.τ).loc Cert.AdamRestIdeal.main_arg8) = m ((c.tc : Thread Cert.AdamRestIdeal.nD Cert.AdamRestIdeal.τ).loc Cert.AdamRestIdeal.main_arg8)
          ∧ r.2.mem ((c.tc : Thread Cert.AdamRestIdeal.nD Cert.AdamRestIdeal.τ).loc Cert.AdamRestIdeal.main_arg9) = m ((c.tc : Thread Cert.AdamRestIdeal.nD Cert.AdamRestIdeal.τ).loc Cert.AdamRestIdeal.main_arg9)
          ∧ r.2.mem ((c.tc : Thread Cert.AdamRestIdeal.nD Cert.AdamRestIdeal.τ).loc Cert.AdamRestIdeal.main_arg10) = m ((c.tc : Thread Cert.AdamRestIdeal.nD Cert.AdamRestIdeal.τ).loc Cert.AdamRestIdeal.main_arg10)
          ∧ r.2.mem ((c.tc : Thread Cert.AdamRestIdeal.nD Cert.AdamRestIdeal.τ).loc Cert.AdamRestIdeal.main_arg11) = m ((c.tc : Thread Cert.AdamRestIdeal.nD Cert.AdamRestIdeal.τ).loc Cert.AdamRestIdeal.main_arg11)
          ∧ r.2.mem ((c.tc : Thread Cert.AdamRestIdeal.nD Cert.AdamRestIdeal.τ).loc Cert.AdamRestIdeal.main_arg12) = m ((c.tc : Thread Cert.AdamRestIdeal.nD Cert.AdamRestIdeal.τ).loc Cert.AdamRestIdeal.main_arg12)
          ∧ r.2.mem ((c.tc : Thread Cert.AdamRestIdeal.nD Cert.AdamRestIdeal.τ).loc Cert.AdamRestIdeal.main_arg13) = m ((c.tc : Thread Cert.AdamRestIdeal.nD Cert.AdamRestIdeal.τ).loc Cert.AdamRestIdeal.main_arg13)
          ∧ r.2.mem ((c.tc : Thread Cert.AdamRestIdeal.nD Cert.AdamRestIdeal.τ).loc Cert.AdamRestIdeal.main_arg14) = m ((c.tc : Thread Cert.AdamRestIdeal.nD Cert.AdamRestIdeal.τ).loc Cert.AdamRestIdeal.main_arg14)
          ∧ r.2.mem ((c.tc : Thread Cert.AdamRestIdeal.nD Cert.AdamRestIdeal.τ).loc Cert.AdamRestIdeal.main_arg15) = m ((c.tc : Thread Cert.AdamRestIdeal.nD Cert.AdamRestIdeal.τ).loc Cert.AdamRestIdeal.main_arg15)
          ∧ r.2.mem ((c.tc : Thread Cert.AdamRestIdeal.nD Cert.AdamRestIdeal.τ).loc Cert.AdamRestIdeal.main_arg16) = m ((c.tc : Thread Cert.AdamRestIdeal.nD Cert.AdamRestIdeal.τ).loc Cert.AdamRestIdeal.main_arg16)
          ∧ r.2.mem ((c.tc : Thread Cert.AdamRestIdeal.nD Cert.AdamRestIdeal.τ).loc Cert.AdamRestIdeal.main_arg17) = m ((c.tc : Thread Cert.AdamRestIdeal.nD Cert.AdamRestIdeal.τ).loc Cert.AdamRestIdeal.main_arg17)
          ∧ r.2.mem ((c.tc : Thread Cert.AdamRestIdeal.nD Cert.AdamRestIdeal.τ).loc Cert.AdamRestIdeal.main_arg18) = m ((c.tc : Thread Cert.AdamRestIdeal.nD Cert.AdamRestIdeal.τ).loc Cert.AdamRestIdeal.main_arg18)
          ∧ r.2.mem ((c.tc : Thread Cert.AdamRestIdeal.nD Cert.AdamRestIdeal.τ).loc Cert.AdamRestIdeal.main_arg19) = m ((c.tc : Thread Cert.AdamRestIdeal.nD Cert.AdamRestIdeal.τ).loc Cert.AdamRestIdeal.main_arg19)
          ∧ r.2.mem ((c.tc : Thread Cert.AdamRestIdeal.nD Cert.AdamRestIdeal.τ).loc Cert.AdamRestIdeal.main_arg20) = m ((c.tc : Thread Cert.AdamRestIdeal.nD Cert.AdamRestIdeal.τ).loc Cert.AdamRestIdeal.main_arg20)
          ∧ r.2.mem ((c.tc : Thread Cert.AdamRestIdeal.nD Cert.AdamRestIdeal.τ).loc Cert.AdamRestIdeal.main_arg21) = m ((c.tc : Thread Cert.AdamRestIdeal.nD Cert.AdamRestIdeal.τ).loc Cert.AdamRestIdeal.main_arg21)
          ∧ r.2.mem ((c.tc : Thread Cert.AdamRestIdeal.nD Cert.AdamRestIdeal.τ).loc Cert.AdamRestIdeal.main_arg22) = m ((c.tc : Thread Cert.AdamRestIdeal.nD Cert.AdamRestIdeal.τ).loc Cert.AdamRestIdeal.main_arg22)
          ∧ r.2.mem ((c.tc : Thread Cert.AdamRestIdeal.nD Cert.AdamRestIdeal.τ).loc Cert.AdamRestIdeal.main_arg23) = m ((c.tc : Thread Cert.AdamRestIdeal.nD Cert.AdamRestIdeal.τ).loc Cert.AdamRestIdeal.main_arg23)
          ∧ r.2.mem ((c.tc : Thread Cert.AdamRestIdeal.nD Cert.AdamRestIdeal.τ).loc Cert.AdamRestIdeal.main_arg24) = m ((c.tc : Thread Cert.AdamRestIdeal.nD Cert.AdamRestIdeal.τ).loc Cert.AdamRestIdeal.main_arg24)
          ∧ r.2.mem ((c.tc : Thread Cert.AdamRestIdeal.nD Cert.AdamRestIdeal.τ).loc Cert.AdamRestIdeal.main_arg25) = m ((c.tc : Thread Cert.AdamRestIdeal.nD Cert.AdamRestIdeal.τ).loc Cert.AdamRestIdeal.main_arg25)
          ∧ r.2.mem ((c.tc : Thread Cert.AdamRestIdeal.nD Cert.AdamRestIdeal.τ).loc Cert.AdamRestIdeal.main_arg26) = m ((c.tc : Thread Cert.AdamRestIdeal.nD Cert.AdamRestIdeal.τ).loc Cert.AdamRestIdeal.main_arg26)
          ∧ r.2.mem ((c.tc : Thread Cert.AdamRestIdeal.nD Cert.AdamRestIdeal.τ).loc Cert.AdamRestIdeal.main_arg27) = m ((c.tc : Thread Cert.AdamRestIdeal.nD Cert.AdamRestIdeal.τ).loc Cert.AdamRestIdeal.main_arg27)
          ∧ r.2.mem ((c.tc : Thread Cert.AdamRestIdeal.nD Cert.AdamRestIdeal.τ).loc Cert.AdamRestIdeal.main_arg28) = m ((c.tc : Thread Cert.AdamRestIdeal.nD Cert.AdamRestIdeal.τ).loc Cert.AdamRestIdeal.main_arg28)
          ∧ r.2.mem ((c.tc : Thread Cert.AdamRestIdeal.nD Cert.AdamRestIdeal.τ).loc Cert.AdamRestIdeal.main_arg29) = m ((c.tc : Thread Cert.AdamRestIdeal.nD Cert.AdamRestIdeal.τ).loc Cert.AdamRestIdeal.main_arg29)
          ∧ r.2.mem ((c.tc : Thread Cert.AdamRestIdeal.nD Cert.AdamRestIdeal.τ).loc Cert.AdamRestIdeal.main_arg30) = m ((c.tc : Thread Cert.AdamRestIdeal.nD Cert.AdamRestIdeal.τ).loc Cert.AdamRestIdeal.main_arg30)
          ∧ r.2.mem ((c.tc : Thread Cert.AdamRestIdeal.nD Cert.AdamRestIdeal.τ).loc Cert.AdamRestIdeal.main_arg31) = m ((c.tc : Thread Cert.AdamRestIdeal.nD Cert.AdamRestIdeal.τ).loc Cert.AdamRestIdeal.main_arg31)
          ∧ r.2.mem ((c.tc : Thread Cert.AdamRestIdeal.nD Cert.AdamRestIdeal.τ).loc Cert.AdamRestIdeal.main_arg32) = m ((c.tc : Thread Cert.AdamRestIdeal.nD Cert.AdamRestIdeal.τ).loc Cert.AdamRestIdeal.main_arg32)
          ∧ r.2.mem ((c.tc : Thread Cert.AdamRestIdeal.nD Cert.AdamRestIdeal.τ).loc Cert.AdamRestIdeal.main_arg33) = m ((c.tc : Thread Cert.AdamRestIdeal.nD Cert.AdamRestIdeal.τ).loc Cert.AdamRestIdeal.main_arg33)
          ∧ r.2.mem ((c.tc : Thread Cert.AdamRestIdeal.nD Cert.AdamRestIdeal.τ).loc Cert.AdamRestIdeal.main_arg34) = m ((c.tc : Thread Cert.AdamRestIdeal.nD Cert.AdamRestIdeal.τ).loc Cert.AdamRestIdeal.main_arg34)
          ∧ r.2.mem ((c.tc : Thread Cert.AdamRestIdeal.nD Cert.AdamRestIdeal.τ).loc Cert.AdamRestIdeal.main_arg35) = m ((c.tc : Thread Cert.AdamRestIdeal.nD Cert.AdamRestIdeal.τ).loc Cert.AdamRestIdeal.main_arg35)
          ∧ r.2.mem ((c.tc : Thread Cert.AdamRestIdeal.nD Cert.AdamRestIdeal.τ).loc Cert.AdamRestIdeal.main_arg36) = m ((c.tc : Thread Cert.AdamRestIdeal.nD Cert.AdamRestIdeal.τ).loc Cert.AdamRestIdeal.main_arg36)
          ∧ r.2.mem ((c.tc : Thread Cert.AdamRestIdeal.nD Cert.AdamRestIdeal.τ).loc Cert.AdamRestIdeal.main_arg37) = m ((c.tc : Thread Cert.AdamRestIdeal.nD Cert.AdamRestIdeal.τ).loc Cert.AdamRestIdeal.main_arg37)
          ∧ r.2.mem ((c.tc : Thread Cert.AdamRestIdeal.nD Cert.AdamRestIdeal.τ).loc Cert.AdamRestIdeal.main_arg38) = m ((c.tc : Thread Cert.AdamRestIdeal.nD Cert.AdamRestIdeal.τ).loc Cert.AdamRestIdeal.main_arg38)
          ∧ r.2.mem ((c.tc : Thread Cert.AdamRestIdeal.nD Cert.AdamRestIdeal.τ).loc Cert.AdamRestIdeal.main_arg39) = m ((c.tc : Thread Cert.AdamRestIdeal.nD Cert.AdamRestIdeal.τ).loc Cert.AdamRestIdeal.main_arg39)
          ∧ r.2.mem ((c.tc : Thread Cert.AdamRestIdeal.nD Cert.AdamRestIdeal.τ).loc Cert.AdamRestIdeal.main_arg40) = m ((c.tc : Thread Cert.AdamRestIdeal.nD Cert.AdamRestIdeal.τ).loc Cert.AdamRestIdeal.main_arg40)
          ∧ r.2.mem ((c.tc : Thread Cert.AdamRestIdeal.nD Cert.AdamRestIdeal.τ).loc Cert.AdamRestIdeal.main_arg41) = m ((c.tc : Thread Cert.AdamRestIdeal.nD Cert.AdamRestIdeal.τ).loc Cert.AdamRestIdeal.main_arg41)
          ∧ r.2.mem ((c.tc : Thread Cert.AdamRestIdeal.nD Cert.AdamRestIdeal.τ).loc Cert.AdamRestIdeal.main_arg42) = m ((c.tc : Thread Cert.AdamRestIdeal.nD Cert.AdamRestIdeal.τ).loc Cert.AdamRestIdeal.main_arg42)
          ∧ r.2.mem ((c.tc : Thread Cert.AdamRestIdeal.nD Cert.AdamRestIdeal.τ).loc Cert.AdamRestIdeal.main_arg43) = m ((c.tc : Thread Cert.AdamRestIdeal.nD Cert.AdamRestIdeal.τ).loc Cert.AdamRestIdeal.main_arg43)
          ∧ r.2.mem ((c.tc : Thread Cert.AdamRestIdeal.nD Cert.AdamRestIdeal.τ).loc Cert.AdamRestIdeal.main_arg44) = m ((c.tc : Thread Cert.AdamRestIdeal.nD Cert.AdamRestIdeal.τ).loc Cert.AdamRestIdeal.main_arg44)
          ∧ r.2.mem ((c.tc : Thread Cert.AdamRestIdeal.nD Cert.AdamRestIdeal.τ).loc Cert.AdamRestIdeal.main_arg45) = m ((c.tc : Thread Cert.AdamRestIdeal.nD Cert.AdamRestIdeal.τ).loc Cert.AdamRestIdeal.main_arg45)
          ∧ r.2.mem ((c.tc : Thread Cert.AdamRestIdeal.nD Cert.AdamRestIdeal.τ).loc Cert.AdamRestIdeal.main_arg46) = m ((c.tc : Thread Cert.AdamRestIdeal.nD Cert.AdamRestIdeal.τ).loc Cert.AdamRestIdeal.main_arg46)
          ∧ r.2.mem ((c.tc : Thread Cert.AdamRestIdeal.nD Cert.AdamRestIdeal.τ).loc Cert.AdamRestIdeal.main_arg47) = m ((c.tc : Thread Cert.AdamRestIdeal.nD Cert.AdamRestIdeal.τ).loc Cert.AdamRestIdeal.main_arg47)
          ∧ r.2.mem ((c.tc : Thread Cert.AdamRestIdeal.nD Cert.AdamRestIdeal.τ).loc Cert.AdamRestIdeal.main_arg48) = m ((c.tc : Thread Cert.AdamRestIdeal.nD Cert.AdamRestIdeal.τ).loc Cert.AdamRestIdeal.main_arg48)
          ∧ r.2.mem ((c.tc : Thread Cert.AdamRestIdeal.nD Cert.AdamRestIdeal.τ).loc Cert.AdamRestIdeal.main_arg49) = m ((c.tc : Thread Cert.AdamRestIdeal.nD Cert.AdamRestIdeal.τ).loc Cert.AdamRestIdeal.main_arg49)
          ∧ r.2.mem ((c.tc : Thread Cert.AdamRestIdeal.nD Cert.AdamRestIdeal.τ).loc Cert.AdamRestIdeal.main_arg50) = m ((c.tc : Thread Cert.AdamRestIdeal.nD Cert.AdamRestIdeal.τ).loc Cert.AdamRestIdeal.main_arg50)
          ∧ r.2.mem ((c.tc : Thread Cert.AdamRestIdeal.nD Cert.AdamRestIdeal.τ).loc Cert.AdamRestIdeal.main_arg51) = m ((c.tc : Thread Cert.AdamRestIdeal.nD Cert.AdamRestIdeal.τ).loc Cert.AdamRestIdeal.main_arg51)
          ∧ r.2.mem ((c.tc : Thread Cert.AdamRestIdeal.nD Cert.AdamRestIdeal.τ).loc Cert.AdamRestIdeal.main_arg52) = m ((c.tc : Thread Cert.AdamRestIdeal.nD Cert.AdamRestIdeal.τ).loc Cert.AdamRestIdeal.main_arg52)
          ∧ r.2.mem ((c.tc : Thread Cert.AdamRestIdeal.nD Cert.AdamRestIdeal.τ).loc Cert.AdamRestIdeal.main_arg53) = m ((c.tc : Thread Cert.AdamRestIdeal.nD Cert.AdamRestIdeal.τ).loc Cert.AdamRestIdeal.main_arg53)
          ∧ r.2.mem ((c.tc : Thread Cert.AdamRestIdeal.nD Cert.AdamRestIdeal.τ).loc Cert.AdamRestIdeal.main_arg54) = m ((c.tc : Thread Cert.AdamRestIdeal.nD Cert.AdamRestIdeal.τ).loc Cert.AdamRestIdeal.main_arg54)
          ∧ r.2.mem ((c.tc : Thread Cert.AdamRestIdeal.nD Cert.AdamRestIdeal.τ).loc Cert.AdamRestIdeal.main_arg55) = m ((c.tc : Thread Cert.AdamRestIdeal.nD Cert.AdamRestIdeal.τ).loc Cert.AdamRestIdeal.main_arg55)
          ∧ r.2.mem ((c.tc : Thread Cert.AdamRestIdeal.nD Cert.AdamRestIdeal.τ).loc Cert.AdamRestIdeal.main_arg56) = m ((c.tc : Thread Cert.AdamRestIdeal.nD Cert.AdamRestIdeal.τ).loc Cert.AdamRestIdeal.main_arg56)
          ∧ r.2.mem ((c.tc : Thread Cert.AdamRestIdeal.nD Cert.AdamRestIdeal.τ).loc Cert.AdamRestIdeal.main_arg57) = m ((c.tc : Thread Cert.AdamRestIdeal.nD Cert.AdamRestIdeal.τ).loc Cert.AdamRestIdeal.main_arg57)
          ∧ r.2.mem ((c.tc : Thread Cert.AdamRestIdeal.nD Cert.AdamRestIdeal.τ).loc Cert.AdamRestIdeal.main_arg58) = m ((c.tc : Thread Cert.AdamRestIdeal.nD Cert.AdamRestIdeal.τ).loc Cert.AdamRestIdeal.main_arg58)
          ∧ r.2.mem ((c.tc : Thread Cert.AdamRestIdeal.nD Cert.AdamRestIdeal.τ).loc Cert.AdamRestIdeal.main_arg59) = m ((c.tc : Thread Cert.AdamRestIdeal.nD Cert.AdamRestIdeal.τ).loc Cert.AdamRestIdeal.main_arg59)
          ∧ r.2.mem ((c.tc : Thread Cert.AdamRestIdeal.nD Cert.AdamRestIdeal.τ).loc Cert.AdamRestIdeal.main_arg60) = m ((c.tc : Thread Cert.AdamRestIdeal.nD Cert.AdamRestIdeal.τ).loc Cert.AdamRestIdeal.main_arg60)
          ∧ r.2.mem ((c.tc : Thread Cert.AdamRestIdeal.nD Cert.AdamRestIdeal.τ).loc Cert.AdamRestIdeal.main_arg61) = m ((c.tc : Thread Cert.AdamRestIdeal.nD Cert.AdamRestIdeal.τ).loc Cert.AdamRestIdeal.main_arg61)
          ∧ r.2.mem ((c.tc : Thread Cert.AdamRestIdeal.nD Cert.AdamRestIdeal.τ).loc Cert.AdamRestIdeal.main_arg62) = m ((c.tc : Thread Cert.AdamRestIdeal.nD Cert.AdamRestIdeal.τ).loc Cert.AdamRestIdeal.main_arg62)
          ∧ r.2.mem ((c.tc : Thread Cert.AdamRestIdeal.nD Cert.AdamRestIdeal.τ).loc Cert.AdamRestIdeal.main_arg63) = m ((c.tc : Thread Cert.AdamRestIdeal.nD Cert.AdamRestIdeal.τ).loc Cert.AdamRestIdeal.main_arg63)
          ∧ r.2.mem ((c.tc : Thread Cert.AdamRestIdeal.nD Cert.AdamRestIdeal.τ).loc Cert.AdamRestIdeal.main_arg64) = m ((c.tc : Thread Cert.AdamRestIdeal.nD Cert.AdamRestIdeal.τ).loc Cert.AdamRestIdeal.main_arg64)
          ∧ r.2.mem ((c.tc : Thread Cert.AdamRestIdeal.nD Cert.AdamRestIdeal.τ).loc Cert.AdamRestIdeal.main_arg65) = m ((c.tc : Thread Cert.AdamRestIdeal.nD Cert.AdamRestIdeal.τ).loc Cert.AdamRestIdeal.main_arg65)
          ∧ r.2.mem ((c.tc : Thread Cert.AdamRestIdeal.nD Cert.AdamRestIdeal.τ).loc Cert.AdamRestIdeal.main_arg66) = m ((c.tc : Thread Cert.AdamRestIdeal.nD Cert.AdamRestIdeal.τ).loc Cert.AdamRestIdeal.main_arg66)
          ∧ r.2.mem ((c.tc : Thread Cert.AdamRestIdeal.nD Cert.AdamRestIdeal.τ).loc Cert.AdamRestIdeal.main_arg67) = m ((c.tc : Thread Cert.AdamRestIdeal.nD Cert.AdamRestIdeal.τ).loc Cert.AdamRestIdeal.main_arg67)
          ∧ r.2.mem ((c.tc : Thread Cert.AdamRestIdeal.nD Cert.AdamRestIdeal.τ).loc Cert.AdamRestIdeal.main_arg68) = m ((c.tc : Thread Cert.AdamRestIdeal.nD Cert.AdamRestIdeal.τ).loc Cert.AdamRestIdeal.main_arg68)
          ∧ r.2.mem ((c.tc : Thread Cert.AdamRestIdeal.nD Cert.AdamRestIdeal.τ).loc Cert.AdamRestIdeal.main_arg69) = m ((c.tc : Thread Cert.AdamRestIdeal.nD Cert.AdamRestIdeal.τ).loc Cert.AdamRestIdeal.main_arg69)
          ∧ r.2.mem ((c.tc : Thread Cert.AdamRestIdeal.nD Cert.AdamRestIdeal.τ).loc Cert.AdamRestIdeal.main_arg70) = m ((c.tc : Thread Cert.AdamRestIdeal.nD Cert.AdamRestIdeal.τ).loc Cert.AdamRestIdeal.main_arg70)
          ∧ r.2.mem ((c.tc : Thread Cert.AdamRestIdeal.nD Cert.AdamRestIdeal.τ).loc Cert.AdamRestIdeal.main_arg71) = m ((c.tc : Thread Cert.AdamRestIdeal.nD Cert.AdamRestIdeal.τ).loc Cert.AdamRestIdeal.main_arg71)
          ∧ r.2.mem ((c.tc : Thread Cert.AdamRestIdeal.nD Cert.AdamRestIdeal.τ).loc Cert.AdamRestIdeal.main_arg72) = m ((c.tc : Thread Cert.AdamRestIdeal.nD Cert.AdamRestIdeal.τ).loc Cert.AdamRestIdeal.main_arg72)
          ∧ r.2.mem ((c.tc : Thread Cert.AdamRestIdeal.nD Cert.AdamRestIdeal.τ).loc Cert.AdamRestIdeal.main_arg73) = m ((c.tc : Thread Cert.AdamRestIdeal.nD Cert.AdamRestIdeal.τ).loc Cert.AdamRestIdeal.main_arg73)
          ∧ r.2.mem ((c.tc : Thread Cert.AdamRestIdeal.nD Cert.AdamRestIdeal.τ).loc Cert.AdamRestIdeal.main_arg74) = m ((c.tc : Thread Cert.AdamRestIdeal.nD Cert.AdamRestIdeal.τ).loc Cert.AdamRestIdeal.main_arg74)
          ∧ r.2.mem ((c.tc : Thread Cert.AdamRestIdeal.nD Cert.AdamRestIdeal.τ).loc Cert.AdamRestIdeal.main_arg75) = m ((c.tc : Thread Cert.AdamRestIdeal.nD Cert.AdamRestIdeal.τ).loc Cert.AdamRestIdeal.main_arg75)
          ∧ r.2.mem ((c.tc : Thread Cert.AdamRestIdeal.nD Cert.AdamRestIdeal.τ).loc Cert.AdamRestIdeal.main_arg76) = m ((c.tc : Thread Cert.AdamRestIdeal.nD Cert.AdamRestIdeal.τ).loc Cert.AdamRestIdeal.main_arg76)
          ∧ r.2.mem ((c.tc : Thread Cert.AdamRestIdeal.nD Cert.AdamRestIdeal.τ).loc Cert.AdamRestIdeal.main_arg77) = m ((c.tc : Thread Cert.AdamRestIdeal.nD Cert.AdamRestIdeal.τ).loc Cert.AdamRestIdeal.main_arg77)
          ∧ r.2.mem ((c.tc : Thread Cert.AdamRestIdeal.nD Cert.AdamRestIdeal.τ).loc Cert.AdamRestIdeal.main_arg78) = m ((c.tc : Thread Cert.AdamRestIdeal.nD Cert.AdamRestIdeal.τ).loc Cert.AdamRestIdeal.main_arg78)
          ∧ r.2.mem ((c.tc : Thread Cert.AdamRestIdeal.nD Cert.AdamRestIdeal.τ).loc Cert.AdamRestIdeal.main_arg79) = m ((c.tc : Thread Cert.AdamRestIdeal.nD Cert.AdamRestIdeal.τ).loc Cert.AdamRestIdeal.main_arg79)
          ∧ r.2.mem ((c.tc : Thread Cert.AdamRestIdeal.nD Cert.AdamRestIdeal.τ).loc Cert.AdamRestIdeal.main_arg80) = m ((c.tc : Thread Cert.AdamRestIdeal.nD Cert.AdamRestIdeal.τ).loc Cert.AdamRestIdeal.main_arg80)
          ∧ r.2.mem ((c.tc : Thread Cert.AdamRestIdeal.nD Cert.AdamRestIdeal.τ).loc Cert.AdamRestIdeal.main_arg81) = m ((c.tc : Thread Cert.AdamRestIdeal.nD Cert.AdamRestIdeal.τ).loc Cert.AdamRestIdeal.main_arg81)
          ∧ r.2.mem ((c.tc : Thread Cert.AdamRestIdeal.nD Cert.AdamRestIdeal.τ).loc Cert.AdamRestIdeal.main_arg82) = m ((c.tc : Thread Cert.AdamRestIdeal.nD Cert.AdamRestIdeal.τ).loc Cert.AdamRestIdeal.main_arg82)
          ∧ r.2.mem ((c.tc : Thread Cert.AdamRestIdeal.nD Cert.AdamRestIdeal.τ).loc Cert.AdamRestIdeal.main_arg83) = m ((c.tc : Thread Cert.AdamRestIdeal.nD Cert.AdamRestIdeal.τ).loc Cert.AdamRestIdeal.main_arg83))
      ∧ θ_run (Cert.AdamRestReferenceIdeal.defs (F := Ideal)) (onTc (τ := Cert.AdamRestReferenceIdeal.τ) (Cert.AdamRestReferenceIdeal.main (F := Ideal))) ⟨m', fun _ => 0, g'⟩ (fun r => ∀ c : Dev Cert.AdamRestReferenceIdeal.nD,
          r.2.mem ((c.tc : Thread Cert.AdamRestReferenceIdeal.nD Cert.AdamRestReferenceIdeal.τ).loc Cert.AdamRestReferenceIdeal.main_v597) = v0 c
          ∧ r.2.mem ((c.tc : Thread Cert.AdamRestReferenceIdeal.nD Cert.AdamRestReferenceIdeal.τ).loc Cert.AdamRestReferenceIdeal.main_v599) = v1 c
          ∧ r.2.mem ((c.tc : Thread Cert.AdamRestReferenceIdeal.nD Cert.AdamRestReferenceIdeal.τ).loc Cert.AdamRestReferenceIdeal.main_v601) = v2 c
          ∧ r.2.mem ((c.tc : Thread Cert.AdamRestReferenceIdeal.nD Cert.AdamRestReferenceIdeal.τ).loc Cert.AdamRestReferenceIdeal.main_v603) = v3 c
          ∧ r.2.mem ((c.tc : Thread Cert.AdamRestReferenceIdeal.nD Cert.AdamRestReferenceIdeal.τ).loc Cert.AdamRestReferenceIdeal.main_arg0) = m' ((c.tc : Thread Cert.AdamRestReferenceIdeal.nD Cert.AdamRestReferenceIdeal.τ).loc Cert.AdamRestReferenceIdeal.main_arg0)
          ∧ r.2.mem ((c.tc : Thread Cert.AdamRestReferenceIdeal.nD Cert.AdamRestReferenceIdeal.τ).loc Cert.AdamRestReferenceIdeal.main_arg1) = m' ((c.tc : Thread Cert.AdamRestReferenceIdeal.nD Cert.AdamRestReferenceIdeal.τ).loc Cert.AdamRestReferenceIdeal.main_arg1)
          ∧ r.2.mem ((c.tc : Thread Cert.AdamRestReferenceIdeal.nD Cert.AdamRestReferenceIdeal.τ).loc Cert.AdamRestReferenceIdeal.main_arg2) = m' ((c.tc : Thread Cert.AdamRestReferenceIdeal.nD Cert.AdamRestReferenceIdeal.τ).loc Cert.AdamRestReferenceIdeal.main_arg2)
          ∧ r.2.mem ((c.tc : Thread Cert.AdamRestReferenceIdeal.nD Cert.AdamRestReferenceIdeal.τ).loc Cert.AdamRestReferenceIdeal.main_arg3) = m' ((c.tc : Thread Cert.AdamRestReferenceIdeal.nD Cert.AdamRestReferenceIdeal.τ).loc Cert.AdamRestReferenceIdeal.main_arg3)
          ∧ r.2.mem ((c.tc : Thread Cert.AdamRestReferenceIdeal.nD Cert.AdamRestReferenceIdeal.τ).loc Cert.AdamRestReferenceIdeal.main_arg4) = m' ((c.tc : Thread Cert.AdamRestReferenceIdeal.nD Cert.AdamRestReferenceIdeal.τ).loc Cert.AdamRestReferenceIdeal.main_arg4)
          ∧ r.2.mem ((c.tc : Thread Cert.AdamRestReferenceIdeal.nD Cert.AdamRestReferenceIdeal.τ).loc Cert.AdamRestReferenceIdeal.main_arg5) = m' ((c.tc : Thread Cert.AdamRestReferenceIdeal.nD Cert.AdamRestReferenceIdeal.τ).loc Cert.AdamRestReferenceIdeal.main_arg5)
          ∧ r.2.mem ((c.tc : Thread Cert.AdamRestReferenceIdeal.nD Cert.AdamRestReferenceIdeal.τ).loc Cert.AdamRestReferenceIdeal.main_arg6) = m' ((c.tc : Thread Cert.AdamRestReferenceIdeal.nD Cert.AdamRestReferenceIdeal.τ).loc Cert.AdamRestReferenceIdeal.main_arg6)
          ∧ r.2.mem ((c.tc : Thread Cert.AdamRestReferenceIdeal.nD Cert.AdamRestReferenceIdeal.τ).loc Cert.AdamRestReferenceIdeal.main_arg7) = m' ((c.tc : Thread Cert.AdamRestReferenceIdeal.nD Cert.AdamRestReferenceIdeal.τ).loc Cert.AdamRestReferenceIdeal.main_arg7)
          ∧ r.2.mem ((c.tc : Thread Cert.AdamRestReferenceIdeal.nD Cert.AdamRestReferenceIdeal.τ).loc Cert.AdamRestReferenceIdeal.main_arg8) = m' ((c.tc : Thread Cert.AdamRestReferenceIdeal.nD Cert.AdamRestReferenceIdeal.τ).loc Cert.AdamRestReferenceIdeal.main_arg8)
          ∧ r.2.mem ((c.tc : Thread Cert.AdamRestReferenceIdeal.nD Cert.AdamRestReferenceIdeal.τ).loc Cert.AdamRestReferenceIdeal.main_arg9) = m' ((c.tc : Thread Cert.AdamRestReferenceIdeal.nD Cert.AdamRestReferenceIdeal.τ).loc Cert.AdamRestReferenceIdeal.main_arg9)
          ∧ r.2.mem ((c.tc : Thread Cert.AdamRestReferenceIdeal.nD Cert.AdamRestReferenceIdeal.τ).loc Cert.AdamRestReferenceIdeal.main_arg10) = m' ((c.tc : Thread Cert.AdamRestReferenceIdeal.nD Cert.AdamRestReferenceIdeal.τ).loc Cert.AdamRestReferenceIdeal.main_arg10)
          ∧ r.2.mem ((c.tc : Thread Cert.AdamRestReferenceIdeal.nD Cert.AdamRestReferenceIdeal.τ).loc Cert.AdamRestReferenceIdeal.main_arg11) = m' ((c.tc : Thread Cert.AdamRestReferenceIdeal.nD Cert.AdamRestReferenceIdeal.τ).loc Cert.AdamRestReferenceIdeal.main_arg11)
          ∧ r.2.mem ((c.tc : Thread Cert.AdamRestReferenceIdeal.nD Cert.AdamRestReferenceIdeal.τ).loc Cert.AdamRestReferenceIdeal.main_arg12) = m' ((c.tc : Thread Cert.AdamRestReferenceIdeal.nD Cert.AdamRestReferenceIdeal.τ).loc Cert.AdamRestReferenceIdeal.main_arg12)
          ∧ r.2.mem ((c.tc : Thread Cert.AdamRestReferenceIdeal.nD Cert.AdamRestReferenceIdeal.τ).loc Cert.AdamRestReferenceIdeal.main_arg13) = m' ((c.tc : Thread Cert.AdamRestReferenceIdeal.nD Cert.AdamRestReferenceIdeal.τ).loc Cert.AdamRestReferenceIdeal.main_arg13)
          ∧ r.2.mem ((c.tc : Thread Cert.AdamRestReferenceIdeal.nD Cert.AdamRestReferenceIdeal.τ).loc Cert.AdamRestReferenceIdeal.main_arg14) = m' ((c.tc : Thread Cert.AdamRestReferenceIdeal.nD Cert.AdamRestReferenceIdeal.τ).loc Cert.AdamRestReferenceIdeal.main_arg14)
          ∧ r.2.mem ((c.tc : Thread Cert.AdamRestReferenceIdeal.nD Cert.AdamRestReferenceIdeal.τ).loc Cert.AdamRestReferenceIdeal.main_arg15) = m' ((c.tc : Thread Cert.AdamRestReferenceIdeal.nD Cert.AdamRestReferenceIdeal.τ).loc Cert.AdamRestReferenceIdeal.main_arg15)
          ∧ r.2.mem ((c.tc : Thread Cert.AdamRestReferenceIdeal.nD Cert.AdamRestReferenceIdeal.τ).loc Cert.AdamRestReferenceIdeal.main_arg16) = m' ((c.tc : Thread Cert.AdamRestReferenceIdeal.nD Cert.AdamRestReferenceIdeal.τ).loc Cert.AdamRestReferenceIdeal.main_arg16)
          ∧ r.2.mem ((c.tc : Thread Cert.AdamRestReferenceIdeal.nD Cert.AdamRestReferenceIdeal.τ).loc Cert.AdamRestReferenceIdeal.main_arg17) = m' ((c.tc : Thread Cert.AdamRestReferenceIdeal.nD Cert.AdamRestReferenceIdeal.τ).loc Cert.AdamRestReferenceIdeal.main_arg17)
          ∧ r.2.mem ((c.tc : Thread Cert.AdamRestReferenceIdeal.nD Cert.AdamRestReferenceIdeal.τ).loc Cert.AdamRestReferenceIdeal.main_arg18) = m' ((c.tc : Thread Cert.AdamRestReferenceIdeal.nD Cert.AdamRestReferenceIdeal.τ).loc Cert.AdamRestReferenceIdeal.main_arg18)
          ∧ r.2.mem ((c.tc : Thread Cert.AdamRestReferenceIdeal.nD Cert.AdamRestReferenceIdeal.τ).loc Cert.AdamRestReferenceIdeal.main_arg19) = m' ((c.tc : Thread Cert.AdamRestReferenceIdeal.nD Cert.AdamRestReferenceIdeal.τ).loc Cert.AdamRestReferenceIdeal.main_arg19)
          ∧ r.2.mem ((c.tc : Thread Cert.AdamRestReferenceIdeal.nD Cert.AdamRestReferenceIdeal.τ).loc Cert.AdamRestReferenceIdeal.main_arg20) = m' ((c.tc : Thread Cert.AdamRestReferenceIdeal.nD Cert.AdamRestReferenceIdeal.τ).loc Cert.AdamRestReferenceIdeal.main_arg20)
          ∧ r.2.mem ((c.tc : Thread Cert.AdamRestReferenceIdeal.nD Cert.AdamRestReferenceIdeal.τ).loc Cert.AdamRestReferenceIdeal.main_arg21) = m' ((c.tc : Thread Cert.AdamRestReferenceIdeal.nD Cert.AdamRestReferenceIdeal.τ).loc Cert.AdamRestReferenceIdeal.main_arg21)
          ∧ r.2.mem ((c.tc : Thread Cert.AdamRestReferenceIdeal.nD Cert.AdamRestReferenceIdeal.τ).loc Cert.AdamRestReferenceIdeal.main_arg22) = m' ((c.tc : Thread Cert.AdamRestReferenceIdeal.nD Cert.AdamRestReferenceIdeal.τ).loc Cert.AdamRestReferenceIdeal.main_arg22)
          ∧ r.2.mem ((c.tc : Thread Cert.AdamRestReferenceIdeal.nD Cert.AdamRestReferenceIdeal.τ).loc Cert.AdamRestReferenceIdeal.main_arg23) = m' ((c.tc : Thread Cert.AdamRestReferenceIdeal.nD Cert.AdamRestReferenceIdeal.τ).loc Cert.AdamRestReferenceIdeal.main_arg23)
          ∧ r.2.mem ((c.tc : Thread Cert.AdamRestReferenceIdeal.nD Cert.AdamRestReferenceIdeal.τ).loc Cert.AdamRestReferenceIdeal.main_arg24) = m' ((c.tc : Thread Cert.AdamRestReferenceIdeal.nD Cert.AdamRestReferenceIdeal.τ).loc Cert.AdamRestReferenceIdeal.main_arg24)
          ∧ r.2.mem ((c.tc : Thread Cert.AdamRestReferenceIdeal.nD Cert.AdamRestReferenceIdeal.τ).loc Cert.AdamRestReferenceIdeal.main_arg25) = m' ((c.tc : Thread Cert.AdamRestReferenceIdeal.nD Cert.AdamRestReferenceIdeal.τ).loc Cert.AdamRestReferenceIdeal.main_arg25)
          ∧ r.2.mem ((c.tc : Thread Cert.AdamRestReferenceIdeal.nD Cert.AdamRestReferenceIdeal.τ).loc Cert.AdamRestReferenceIdeal.main_arg26) = m' ((c.tc : Thread Cert.AdamRestReferenceIdeal.nD Cert.AdamRestReferenceIdeal.τ).loc Cert.AdamRestReferenceIdeal.main_arg26)
          ∧ r.2.mem ((c.tc : Thread Cert.AdamRestReferenceIdeal.nD Cert.AdamRestReferenceIdeal.τ).loc Cert.AdamRestReferenceIdeal.main_arg27) = m' ((c.tc : Thread Cert.AdamRestReferenceIdeal.nD Cert.AdamRestReferenceIdeal.τ).loc Cert.AdamRestReferenceIdeal.main_arg27)
          ∧ r.2.mem ((c.tc : Thread Cert.AdamRestReferenceIdeal.nD Cert.AdamRestReferenceIdeal.τ).loc Cert.AdamRestReferenceIdeal.main_arg28) = m' ((c.tc : Thread Cert.AdamRestReferenceIdeal.nD Cert.AdamRestReferenceIdeal.τ).loc Cert.AdamRestReferenceIdeal.main_arg28)
          ∧ r.2.mem ((c.tc : Thread Cert.AdamRestReferenceIdeal.nD Cert.AdamRestReferenceIdeal.τ).loc Cert.AdamRestReferenceIdeal.main_arg29) = m' ((c.tc : Thread Cert.AdamRestReferenceIdeal.nD Cert.AdamRestReferenceIdeal.τ).loc Cert.AdamRestReferenceIdeal.main_arg29)
          ∧ r.2.mem ((c.tc : Thread Cert.AdamRestReferenceIdeal.nD Cert.AdamRestReferenceIdeal.τ).loc Cert.AdamRestReferenceIdeal.main_arg30) = m' ((c.tc : Thread Cert.AdamRestReferenceIdeal.nD Cert.AdamRestReferenceIdeal.τ).loc Cert.AdamRestReferenceIdeal.main_arg30)
          ∧ r.2.mem ((c.tc : Thread Cert.AdamRestReferenceIdeal.nD Cert.AdamRestReferenceIdeal.τ).loc Cert.AdamRestReferenceIdeal.main_arg31) = m' ((c.tc : Thread Cert.AdamRestReferenceIdeal.nD Cert.AdamRestReferenceIdeal.τ).loc Cert.AdamRestReferenceIdeal.main_arg31)
          ∧ r.2.mem ((c.tc : Thread Cert.AdamRestReferenceIdeal.nD Cert.AdamRestReferenceIdeal.τ).loc Cert.AdamRestReferenceIdeal.main_arg32) = m' ((c.tc : Thread Cert.AdamRestReferenceIdeal.nD Cert.AdamRestReferenceIdeal.τ).loc Cert.AdamRestReferenceIdeal.main_arg32)
          ∧ r.2.mem ((c.tc : Thread Cert.AdamRestReferenceIdeal.nD Cert.AdamRestReferenceIdeal.τ).loc Cert.AdamRestReferenceIdeal.main_arg33) = m' ((c.tc : Thread Cert.AdamRestReferenceIdeal.nD Cert.AdamRestReferenceIdeal.τ).loc Cert.AdamRestReferenceIdeal.main_arg33)
          ∧ r.2.mem ((c.tc : Thread Cert.AdamRestReferenceIdeal.nD Cert.AdamRestReferenceIdeal.τ).loc Cert.AdamRestReferenceIdeal.main_arg34) = m' ((c.tc : Thread Cert.AdamRestReferenceIdeal.nD Cert.AdamRestReferenceIdeal.τ).loc Cert.AdamRestReferenceIdeal.main_arg34)
          ∧ r.2.mem ((c.tc : Thread Cert.AdamRestReferenceIdeal.nD Cert.AdamRestReferenceIdeal.τ).loc Cert.AdamRestReferenceIdeal.main_arg35) = m' ((c.tc : Thread Cert.AdamRestReferenceIdeal.nD Cert.AdamRestReferenceIdeal.τ).loc Cert.AdamRestReferenceIdeal.main_arg35)
          ∧ r.2.mem ((c.tc : Thread Cert.AdamRestReferenceIdeal.nD Cert.AdamRestReferenceIdeal.τ).loc Cert.AdamRestReferenceIdeal.main_arg36) = m' ((c.tc : Thread Cert.AdamRestReferenceIdeal.nD Cert.AdamRestReferenceIdeal.τ).loc Cert.AdamRestReferenceIdeal.main_arg36)
          ∧ r.2.mem ((c.tc : Thread Cert.AdamRestReferenceIdeal.nD Cert.AdamRestReferenceIdeal.τ).loc Cert.AdamRestReferenceIdeal.main_arg37) = m' ((c.tc : Thread Cert.AdamRestReferenceIdeal.nD Cert.AdamRestReferenceIdeal.τ).loc Cert.AdamRestReferenceIdeal.main_arg37)
          ∧ r.2.mem ((c.tc : Thread Cert.AdamRestReferenceIdeal.nD Cert.AdamRestReferenceIdeal.τ).loc Cert.AdamRestReferenceIdeal.main_arg38) = m' ((c.tc : Thread Cert.AdamRestReferenceIdeal.nD Cert.AdamRestReferenceIdeal.τ).loc Cert.AdamRestReferenceIdeal.main_arg38)
          ∧ r.2.mem ((c.tc : Thread Cert.AdamRestReferenceIdeal.nD Cert.AdamRestReferenceIdeal.τ).loc Cert.AdamRestReferenceIdeal.main_arg39) = m' ((c.tc : Thread Cert.AdamRestReferenceIdeal.nD Cert.AdamRestReferenceIdeal.τ).loc Cert.AdamRestReferenceIdeal.main_arg39)
          ∧ r.2.mem ((c.tc : Thread Cert.AdamRestReferenceIdeal.nD Cert.AdamRestReferenceIdeal.τ).loc Cert.AdamRestReferenceIdeal.main_arg40) = m' ((c.tc : Thread Cert.AdamRestReferenceIdeal.nD Cert.AdamRestReferenceIdeal.τ).loc Cert.AdamRestReferenceIdeal.main_arg40)
          ∧ r.2.mem ((c.tc : Thread Cert.AdamRestReferenceIdeal.nD Cert.AdamRestReferenceIdeal.τ).loc Cert.AdamRestReferenceIdeal.main_arg41) = m' ((c.tc : Thread Cert.AdamRestReferenceIdeal.nD Cert.AdamRestReferenceIdeal.τ).loc Cert.AdamRestReferenceIdeal.main_arg41)
          ∧ r.2.mem ((c.tc : Thread Cert.AdamRestReferenceIdeal.nD Cert.AdamRestReferenceIdeal.τ).loc Cert.AdamRestReferenceIdeal.main_arg42) = m' ((c.tc : Thread Cert.AdamRestReferenceIdeal.nD Cert.AdamRestReferenceIdeal.τ).loc Cert.AdamRestReferenceIdeal.main_arg42)
          ∧ r.2.mem ((c.tc : Thread Cert.AdamRestReferenceIdeal.nD Cert.AdamRestReferenceIdeal.τ).loc Cert.AdamRestReferenceIdeal.main_arg43) = m' ((c.tc : Thread Cert.AdamRestReferenceIdeal.nD Cert.AdamRestReferenceIdeal.τ).loc Cert.AdamRestReferenceIdeal.main_arg43)
          ∧ r.2.mem ((c.tc : Thread Cert.AdamRestReferenceIdeal.nD Cert.AdamRestReferenceIdeal.τ).loc Cert.AdamRestReferenceIdeal.main_arg44) = m' ((c.tc : Thread Cert.AdamRestReferenceIdeal.nD Cert.AdamRestReferenceIdeal.τ).loc Cert.AdamRestReferenceIdeal.main_arg44)
          ∧ r.2.mem ((c.tc : Thread Cert.AdamRestReferenceIdeal.nD Cert.AdamRestReferenceIdeal.τ).loc Cert.AdamRestReferenceIdeal.main_arg45) = m' ((c.tc : Thread Cert.AdamRestReferenceIdeal.nD Cert.AdamRestReferenceIdeal.τ).loc Cert.AdamRestReferenceIdeal.main_arg45)
          ∧ r.2.mem ((c.tc : Thread Cert.AdamRestReferenceIdeal.nD Cert.AdamRestReferenceIdeal.τ).loc Cert.AdamRestReferenceIdeal.main_arg46) = m' ((c.tc : Thread Cert.AdamRestReferenceIdeal.nD Cert.AdamRestReferenceIdeal.τ).loc Cert.AdamRestReferenceIdeal.main_arg46)
          ∧ r.2.mem ((c.tc : Thread Cert.AdamRestReferenceIdeal.nD Cert.AdamRestReferenceIdeal.τ).loc Cert.AdamRestReferenceIdeal.main_arg47) = m' ((c.tc : Thread Cert.AdamRestReferenceIdeal.nD Cert.AdamRestReferenceIdeal.τ).loc Cert.AdamRestReferenceIdeal.main_arg47)
          ∧ r.2.mem ((c.tc : Thread Cert.AdamRestReferenceIdeal.nD Cert.AdamRestReferenceIdeal.τ).loc Cert.AdamRestReferenceIdeal.main_arg48) = m' ((c.tc : Thread Cert.AdamRestReferenceIdeal.nD Cert.AdamRestReferenceIdeal.τ).loc Cert.AdamRestReferenceIdeal.main_arg48)
          ∧ r.2.mem ((c.tc : Thread Cert.AdamRestReferenceIdeal.nD Cert.AdamRestReferenceIdeal.τ).loc Cert.AdamRestReferenceIdeal.main_arg49) = m' ((c.tc : Thread Cert.AdamRestReferenceIdeal.nD Cert.AdamRestReferenceIdeal.τ).loc Cert.AdamRestReferenceIdeal.main_arg49)
          ∧ r.2.mem ((c.tc : Thread Cert.AdamRestReferenceIdeal.nD Cert.AdamRestReferenceIdeal.τ).loc Cert.AdamRestReferenceIdeal.main_arg50) = m' ((c.tc : Thread Cert.AdamRestReferenceIdeal.nD Cert.AdamRestReferenceIdeal.τ).loc Cert.AdamRestReferenceIdeal.main_arg50)
          ∧ r.2.mem ((c.tc : Thread Cert.AdamRestReferenceIdeal.nD Cert.AdamRestReferenceIdeal.τ).loc Cert.AdamRestReferenceIdeal.main_arg51) = m' ((c.tc : Thread Cert.AdamRestReferenceIdeal.nD Cert.AdamRestReferenceIdeal.τ).loc Cert.AdamRestReferenceIdeal.main_arg51)
          ∧ r.2.mem ((c.tc : Thread Cert.AdamRestReferenceIdeal.nD Cert.AdamRestReferenceIdeal.τ).loc Cert.AdamRestReferenceIdeal.main_arg52) = m' ((c.tc : Thread Cert.AdamRestReferenceIdeal.nD Cert.AdamRestReferenceIdeal.τ).loc Cert.AdamRestReferenceIdeal.main_arg52)
          ∧ r.2.mem ((c.tc : Thread Cert.AdamRestReferenceIdeal.nD Cert.AdamRestReferenceIdeal.τ).loc Cert.AdamRestReferenceIdeal.main_arg53) = m' ((c.tc : Thread Cert.AdamRestReferenceIdeal.nD Cert.AdamRestReferenceIdeal.τ).loc Cert.AdamRestReferenceIdeal.main_arg53)
          ∧ r.2.mem ((c.tc : Thread Cert.AdamRestReferenceIdeal.nD Cert.AdamRestReferenceIdeal.τ).loc Cert.AdamRestReferenceIdeal.main_arg54) = m' ((c.tc : Thread Cert.AdamRestReferenceIdeal.nD Cert.AdamRestReferenceIdeal.τ).loc Cert.AdamRestReferenceIdeal.main_arg54)
          ∧ r.2.mem ((c.tc : Thread Cert.AdamRestReferenceIdeal.nD Cert.AdamRestReferenceIdeal.τ).loc Cert.AdamRestReferenceIdeal.main_arg55) = m' ((c.tc : Thread Cert.AdamRestReferenceIdeal.nD Cert.AdamRestReferenceIdeal.τ).loc Cert.AdamRestReferenceIdeal.main_arg55)
          ∧ r.2.mem ((c.tc : Thread Cert.AdamRestReferenceIdeal.nD Cert.AdamRestReferenceIdeal.τ).loc Cert.AdamRestReferenceIdeal.main_arg56) = m' ((c.tc : Thread Cert.AdamRestReferenceIdeal.nD Cert.AdamRestReferenceIdeal.τ).loc Cert.AdamRestReferenceIdeal.main_arg56)
          ∧ r.2.mem ((c.tc : Thread Cert.AdamRestReferenceIdeal.nD Cert.AdamRestReferenceIdeal.τ).loc Cert.AdamRestReferenceIdeal.main_arg57) = m' ((c.tc : Thread Cert.AdamRestReferenceIdeal.nD Cert.AdamRestReferenceIdeal.τ).loc Cert.AdamRestReferenceIdeal.main_arg57)
          ∧ r.2.mem ((c.tc : Thread Cert.AdamRestReferenceIdeal.nD Cert.AdamRestReferenceIdeal.τ).loc Cert.AdamRestReferenceIdeal.main_arg58) = m' ((c.tc : Thread Cert.AdamRestReferenceIdeal.nD Cert.AdamRestReferenceIdeal.τ).loc Cert.AdamRestReferenceIdeal.main_arg58)
          ∧ r.2.mem ((c.tc : Thread Cert.AdamRestReferenceIdeal.nD Cert.AdamRestReferenceIdeal.τ).loc Cert.AdamRestReferenceIdeal.main_arg59) = m' ((c.tc : Thread Cert.AdamRestReferenceIdeal.nD Cert.AdamRestReferenceIdeal.τ).loc Cert.AdamRestReferenceIdeal.main_arg59)
          ∧ r.2.mem ((c.tc : Thread Cert.AdamRestReferenceIdeal.nD Cert.AdamRestReferenceIdeal.τ).loc Cert.AdamRestReferenceIdeal.main_arg60) = m' ((c.tc : Thread Cert.AdamRestReferenceIdeal.nD Cert.AdamRestReferenceIdeal.τ).loc Cert.AdamRestReferenceIdeal.main_arg60)
          ∧ r.2.mem ((c.tc : Thread Cert.AdamRestReferenceIdeal.nD Cert.AdamRestReferenceIdeal.τ).loc Cert.AdamRestReferenceIdeal.main_arg61) = m' ((c.tc : Thread Cert.AdamRestReferenceIdeal.nD Cert.AdamRestReferenceIdeal.τ).loc Cert.AdamRestReferenceIdeal.main_arg61)
          ∧ r.2.mem ((c.tc : Thread Cert.AdamRestReferenceIdeal.nD Cert.AdamRestReferenceIdeal.τ).loc Cert.AdamRestReferenceIdeal.main_arg62) = m' ((c.tc : Thread Cert.AdamRestReferenceIdeal.nD Cert.AdamRestReferenceIdeal.τ).loc Cert.AdamRestReferenceIdeal.main_arg62)
          ∧ r.2.mem ((c.tc : Thread Cert.AdamRestReferenceIdeal.nD Cert.AdamRestReferenceIdeal.τ).loc Cert.AdamRestReferenceIdeal.main_arg63) = m' ((c.tc : Thread Cert.AdamRestReferenceIdeal.nD Cert.AdamRestReferenceIdeal.τ).loc Cert.AdamRestReferenceIdeal.main_arg63)
          ∧ r.2.mem ((c.tc : Thread Cert.AdamRestReferenceIdeal.nD Cert.AdamRestReferenceIdeal.τ).loc Cert.AdamRestReferenceIdeal.main_arg64) = m' ((c.tc : Thread Cert.AdamRestReferenceIdeal.nD Cert.AdamRestReferenceIdeal.τ).loc Cert.AdamRestReferenceIdeal.main_arg64)
          ∧ r.2.mem ((c.tc : Thread Cert.AdamRestReferenceIdeal.nD Cert.AdamRestReferenceIdeal.τ).loc Cert.AdamRestReferenceIdeal.main_arg65) = m' ((c.tc : Thread Cert.AdamRestReferenceIdeal.nD Cert.AdamRestReferenceIdeal.τ).loc Cert.AdamRestReferenceIdeal.main_arg65)
          ∧ r.2.mem ((c.tc : Thread Cert.AdamRestReferenceIdeal.nD Cert.AdamRestReferenceIdeal.τ).loc Cert.AdamRestReferenceIdeal.main_arg66) = m' ((c.tc : Thread Cert.AdamRestReferenceIdeal.nD Cert.AdamRestReferenceIdeal.τ).loc Cert.AdamRestReferenceIdeal.main_arg66)
          ∧ r.2.mem ((c.tc : Thread Cert.AdamRestReferenceIdeal.nD Cert.AdamRestReferenceIdeal.τ).loc Cert.AdamRestReferenceIdeal.main_arg67) = m' ((c.tc : Thread Cert.AdamRestReferenceIdeal.nD Cert.AdamRestReferenceIdeal.τ).loc Cert.AdamRestReferenceIdeal.main_arg67)
          ∧ r.2.mem ((c.tc : Thread Cert.AdamRestReferenceIdeal.nD Cert.AdamRestReferenceIdeal.τ).loc Cert.AdamRestReferenceIdeal.main_arg68) = m' ((c.tc : Thread Cert.AdamRestReferenceIdeal.nD Cert.AdamRestReferenceIdeal.τ).loc Cert.AdamRestReferenceIdeal.main_arg68)
          ∧ r.2.mem ((c.tc : Thread Cert.AdamRestReferenceIdeal.nD Cert.AdamRestReferenceIdeal.τ).loc Cert.AdamRestReferenceIdeal.main_arg69) = m' ((c.tc : Thread Cert.AdamRestReferenceIdeal.nD Cert.AdamRestReferenceIdeal.τ).loc Cert.AdamRestReferenceIdeal.main_arg69)
          ∧ r.2.mem ((c.tc : Thread Cert.AdamRestReferenceIdeal.nD Cert.AdamRestReferenceIdeal.τ).loc Cert.AdamRestReferenceIdeal.main_arg70) = m' ((c.tc : Thread Cert.AdamRestReferenceIdeal.nD Cert.AdamRestReferenceIdeal.τ).loc Cert.AdamRestReferenceIdeal.main_arg70)
          ∧ r.2.mem ((c.tc : Thread Cert.AdamRestReferenceIdeal.nD Cert.AdamRestReferenceIdeal.τ).loc Cert.AdamRestReferenceIdeal.main_arg71) = m' ((c.tc : Thread Cert.AdamRestReferenceIdeal.nD Cert.AdamRestReferenceIdeal.τ).loc Cert.AdamRestReferenceIdeal.main_arg71)
          ∧ r.2.mem ((c.tc : Thread Cert.AdamRestReferenceIdeal.nD Cert.AdamRestReferenceIdeal.τ).loc Cert.AdamRestReferenceIdeal.main_arg72) = m' ((c.tc : Thread Cert.AdamRestReferenceIdeal.nD Cert.AdamRestReferenceIdeal.τ).loc Cert.AdamRestReferenceIdeal.main_arg72)
          ∧ r.2.mem ((c.tc : Thread Cert.AdamRestReferenceIdeal.nD Cert.AdamRestReferenceIdeal.τ).loc Cert.AdamRestReferenceIdeal.main_arg73) = m' ((c.tc : Thread Cert.AdamRestReferenceIdeal.nD Cert.AdamRestReferenceIdeal.τ).loc Cert.AdamRestReferenceIdeal.main_arg73)
          ∧ r.2.mem ((c.tc : Thread Cert.AdamRestReferenceIdeal.nD Cert.AdamRestReferenceIdeal.τ).loc Cert.AdamRestReferenceIdeal.main_arg74) = m' ((c.tc : Thread Cert.AdamRestReferenceIdeal.nD Cert.AdamRestReferenceIdeal.τ).loc Cert.AdamRestReferenceIdeal.main_arg74)
          ∧ r.2.mem ((c.tc : Thread Cert.AdamRestReferenceIdeal.nD Cert.AdamRestReferenceIdeal.τ).loc Cert.AdamRestReferenceIdeal.main_arg75) = m' ((c.tc : Thread Cert.AdamRestReferenceIdeal.nD Cert.AdamRestReferenceIdeal.τ).loc Cert.AdamRestReferenceIdeal.main_arg75)
          ∧ r.2.mem ((c.tc : Thread Cert.AdamRestReferenceIdeal.nD Cert.AdamRestReferenceIdeal.τ).loc Cert.AdamRestReferenceIdeal.main_arg76) = m' ((c.tc : Thread Cert.AdamRestReferenceIdeal.nD Cert.AdamRestReferenceIdeal.τ).loc Cert.AdamRestReferenceIdeal.main_arg76)
          ∧ r.2.mem ((c.tc : Thread Cert.AdamRestReferenceIdeal.nD Cert.AdamRestReferenceIdeal.τ).loc Cert.AdamRestReferenceIdeal.main_arg77) = m' ((c.tc : Thread Cert.AdamRestReferenceIdeal.nD Cert.AdamRestReferenceIdeal.τ).loc Cert.AdamRestReferenceIdeal.main_arg77)
          ∧ r.2.mem ((c.tc : Thread Cert.AdamRestReferenceIdeal.nD Cert.AdamRestReferenceIdeal.τ).loc Cert.AdamRestReferenceIdeal.main_arg78) = m' ((c.tc : Thread Cert.AdamRestReferenceIdeal.nD Cert.AdamRestReferenceIdeal.τ).loc Cert.AdamRestReferenceIdeal.main_arg78)
          ∧ r.2.mem ((c.tc : Thread Cert.AdamRestReferenceIdeal.nD Cert.AdamRestReferenceIdeal.τ).loc Cert.AdamRestReferenceIdeal.main_arg79) = m' ((c.tc : Thread Cert.AdamRestReferenceIdeal.nD Cert.AdamRestReferenceIdeal.τ).loc Cert.AdamRestReferenceIdeal.main_arg79)
          ∧ r.2.mem ((c.tc : Thread Cert.AdamRestReferenceIdeal.nD Cert.AdamRestReferenceIdeal.τ).loc Cert.AdamRestReferenceIdeal.main_arg80) = m' ((c.tc : Thread Cert.AdamRestReferenceIdeal.nD Cert.AdamRestReferenceIdeal.τ).loc Cert.AdamRestReferenceIdeal.main_arg80)
          ∧ r.2.mem ((c.tc : Thread Cert.AdamRestReferenceIdeal.nD Cert.AdamRestReferenceIdeal.τ).loc Cert.AdamRestReferenceIdeal.main_arg81) = m' ((c.tc : Thread Cert.AdamRestReferenceIdeal.nD Cert.AdamRestReferenceIdeal.τ).loc Cert.AdamRestReferenceIdeal.main_arg81)
          ∧ r.2.mem ((c.tc : Thread Cert.AdamRestReferenceIdeal.nD Cert.AdamRestReferenceIdeal.τ).loc Cert.AdamRestReferenceIdeal.main_arg82) = m' ((c.tc : Thread Cert.AdamRestReferenceIdeal.nD Cert.AdamRestReferenceIdeal.τ).loc Cert.AdamRestReferenceIdeal.main_arg82)
          ∧ r.2.mem ((c.tc : Thread Cert.AdamRestReferenceIdeal.nD Cert.AdamRestReferenceIdeal.τ).loc Cert.AdamRestReferenceIdeal.main_arg83) = m' ((c.tc : Thread Cert.AdamRestReferenceIdeal.nD Cert.AdamRestReferenceIdeal.τ).loc Cert.AdamRestReferenceIdeal.main_arg83))

def preserves_StateWeight_StateWeightIdeal : Prop :=
  True

def algebraic_StateWeightIdeal_StateWeightReferenceIdeal [hStateWeightIdeal : Cert.StateWeightIdeal.Facts] [hStateWeightReferenceIdeal : Cert.StateWeightReferenceIdeal.Facts] : Prop :=
  ∀ (m : (ℓ : Loc Cert.StateWeightIdeal.nD Cert.StateWeightIdeal.τ Cert.StateWeightIdeal.sig) → Buf (Elt Ideal) ℓ) (g : Dev Cert.StateWeightIdeal.nD → PrngReg)
    (m' : (ℓ : Loc Cert.StateWeightReferenceIdeal.nD Cert.StateWeightReferenceIdeal.τ Cert.StateWeightReferenceIdeal.sig) → Buf (Elt Ideal) ℓ) (g' : Dev Cert.StateWeightReferenceIdeal.nD → PrngReg), Pre_StateWeightIdeal m →
    (∀ c : Dev Cert.StateWeightIdeal.nD,
      m' ((c.tc : Thread Cert.StateWeightReferenceIdeal.nD Cert.StateWeightReferenceIdeal.τ).loc Cert.StateWeightReferenceIdeal.main_arg0) = m ((c.tc : Thread Cert.StateWeightIdeal.nD Cert.StateWeightIdeal.τ).loc Cert.StateWeightIdeal.main_arg0)
      ∧ m' ((c.tc : Thread Cert.StateWeightReferenceIdeal.nD Cert.StateWeightReferenceIdeal.τ).loc Cert.StateWeightReferenceIdeal.main_arg1) = m ((c.tc : Thread Cert.StateWeightIdeal.nD Cert.StateWeightIdeal.τ).loc Cert.StateWeightIdeal.main_arg1)
      ∧ m' ((c.tc : Thread Cert.StateWeightReferenceIdeal.nD Cert.StateWeightReferenceIdeal.τ).loc Cert.StateWeightReferenceIdeal.main_arg2) = m ((c.tc : Thread Cert.StateWeightIdeal.nD Cert.StateWeightIdeal.τ).loc Cert.StateWeightIdeal.main_arg2)) →
    ∃ (v0 : (c : Dev Cert.StateWeightIdeal.nD) → Buf (Elt Ideal) ((c.tc : Thread Cert.StateWeightIdeal.nD Cert.StateWeightIdeal.τ).loc Cert.StateWeightIdeal.main_v25)) (v1 : (c : Dev Cert.StateWeightIdeal.nD) → Buf (Elt Ideal) ((c.tc : Thread Cert.StateWeightIdeal.nD Cert.StateWeightIdeal.τ).loc Cert.StateWeightIdeal.main_v32)),
      θ_run (Cert.StateWeightIdeal.defs (F := Ideal)) (onTc (τ := Cert.StateWeightIdeal.τ) (Cert.StateWeightIdeal.main (F := Ideal))) ⟨m, fun _ => 0, g⟩ (fun r => ∀ c : Dev Cert.StateWeightIdeal.nD,
          r.2.mem ((c.tc : Thread Cert.StateWeightIdeal.nD Cert.StateWeightIdeal.τ).loc Cert.StateWeightIdeal.main_v25) = v0 c
          ∧ r.2.mem ((c.tc : Thread Cert.StateWeightIdeal.nD Cert.StateWeightIdeal.τ).loc Cert.StateWeightIdeal.main_v32) = v1 c
          ∧ r.2.mem ((c.tc : Thread Cert.StateWeightIdeal.nD Cert.StateWeightIdeal.τ).loc Cert.StateWeightIdeal.main_arg0) = m ((c.tc : Thread Cert.StateWeightIdeal.nD Cert.StateWeightIdeal.τ).loc Cert.StateWeightIdeal.main_arg0)
          ∧ r.2.mem ((c.tc : Thread Cert.StateWeightIdeal.nD Cert.StateWeightIdeal.τ).loc Cert.StateWeightIdeal.main_arg1) = m ((c.tc : Thread Cert.StateWeightIdeal.nD Cert.StateWeightIdeal.τ).loc Cert.StateWeightIdeal.main_arg1)
          ∧ r.2.mem ((c.tc : Thread Cert.StateWeightIdeal.nD Cert.StateWeightIdeal.τ).loc Cert.StateWeightIdeal.main_arg2) = m ((c.tc : Thread Cert.StateWeightIdeal.nD Cert.StateWeightIdeal.τ).loc Cert.StateWeightIdeal.main_arg2))
      ∧ θ_run (Cert.StateWeightReferenceIdeal.defs (F := Ideal)) (onTc (τ := Cert.StateWeightReferenceIdeal.τ) (Cert.StateWeightReferenceIdeal.main (F := Ideal))) ⟨m', fun _ => 0, g'⟩ (fun r => ∀ c : Dev Cert.StateWeightReferenceIdeal.nD,
          r.2.mem ((c.tc : Thread Cert.StateWeightReferenceIdeal.nD Cert.StateWeightReferenceIdeal.τ).loc Cert.StateWeightReferenceIdeal.main_v13) = v0 c
          ∧ r.2.mem ((c.tc : Thread Cert.StateWeightReferenceIdeal.nD Cert.StateWeightReferenceIdeal.τ).loc Cert.StateWeightReferenceIdeal.main_v11) = v1 c
          ∧ r.2.mem ((c.tc : Thread Cert.StateWeightReferenceIdeal.nD Cert.StateWeightReferenceIdeal.τ).loc Cert.StateWeightReferenceIdeal.main_arg0) = m' ((c.tc : Thread Cert.StateWeightReferenceIdeal.nD Cert.StateWeightReferenceIdeal.τ).loc Cert.StateWeightReferenceIdeal.main_arg0)
          ∧ r.2.mem ((c.tc : Thread Cert.StateWeightReferenceIdeal.nD Cert.StateWeightReferenceIdeal.τ).loc Cert.StateWeightReferenceIdeal.main_arg1) = m' ((c.tc : Thread Cert.StateWeightReferenceIdeal.nD Cert.StateWeightReferenceIdeal.τ).loc Cert.StateWeightReferenceIdeal.main_arg1)
          ∧ r.2.mem ((c.tc : Thread Cert.StateWeightReferenceIdeal.nD Cert.StateWeightReferenceIdeal.τ).loc Cert.StateWeightReferenceIdeal.main_arg2) = m' ((c.tc : Thread Cert.StateWeightReferenceIdeal.nD Cert.StateWeightReferenceIdeal.τ).loc Cert.StateWeightReferenceIdeal.main_arg2))

def preserves_RecurrenceInput_RecurrenceInputIdeal : Prop :=
  True

def algebraic_RecurrenceInputIdeal_RecurrenceInputReferenceIdeal [hRecurrenceInputIdeal : Cert.RecurrenceInputIdeal.Facts] [hRecurrenceInputReferenceIdeal : Cert.RecurrenceInputReferenceIdeal.Facts] : Prop :=
  ∀ (m : (ℓ : Loc Cert.RecurrenceInputIdeal.nD Cert.RecurrenceInputIdeal.τ Cert.RecurrenceInputIdeal.sig) → Buf (Elt Ideal) ℓ) (g : Dev Cert.RecurrenceInputIdeal.nD → PrngReg)
    (m' : (ℓ : Loc Cert.RecurrenceInputReferenceIdeal.nD Cert.RecurrenceInputReferenceIdeal.τ Cert.RecurrenceInputReferenceIdeal.sig) → Buf (Elt Ideal) ℓ) (g' : Dev Cert.RecurrenceInputReferenceIdeal.nD → PrngReg), Pre_RecurrenceInputIdeal m →
    (∀ c : Dev Cert.RecurrenceInputIdeal.nD,
      m' ((c.tc : Thread Cert.RecurrenceInputReferenceIdeal.nD Cert.RecurrenceInputReferenceIdeal.τ).loc Cert.RecurrenceInputReferenceIdeal.main_arg0) = m ((c.tc : Thread Cert.RecurrenceInputIdeal.nD Cert.RecurrenceInputIdeal.τ).loc Cert.RecurrenceInputIdeal.main_arg0)
      ∧ m' ((c.tc : Thread Cert.RecurrenceInputReferenceIdeal.nD Cert.RecurrenceInputReferenceIdeal.τ).loc Cert.RecurrenceInputReferenceIdeal.main_arg1) = m ((c.tc : Thread Cert.RecurrenceInputIdeal.nD Cert.RecurrenceInputIdeal.τ).loc Cert.RecurrenceInputIdeal.main_arg1)
      ∧ m' ((c.tc : Thread Cert.RecurrenceInputReferenceIdeal.nD Cert.RecurrenceInputReferenceIdeal.τ).loc Cert.RecurrenceInputReferenceIdeal.main_arg2) = m ((c.tc : Thread Cert.RecurrenceInputIdeal.nD Cert.RecurrenceInputIdeal.τ).loc Cert.RecurrenceInputIdeal.main_arg2)
      ∧ m' ((c.tc : Thread Cert.RecurrenceInputReferenceIdeal.nD Cert.RecurrenceInputReferenceIdeal.τ).loc Cert.RecurrenceInputReferenceIdeal.main_arg3) = m ((c.tc : Thread Cert.RecurrenceInputIdeal.nD Cert.RecurrenceInputIdeal.τ).loc Cert.RecurrenceInputIdeal.main_arg3)
      ∧ m' ((c.tc : Thread Cert.RecurrenceInputReferenceIdeal.nD Cert.RecurrenceInputReferenceIdeal.τ).loc Cert.RecurrenceInputReferenceIdeal.main_arg4) = m ((c.tc : Thread Cert.RecurrenceInputIdeal.nD Cert.RecurrenceInputIdeal.τ).loc Cert.RecurrenceInputIdeal.main_arg4)
      ∧ m' ((c.tc : Thread Cert.RecurrenceInputReferenceIdeal.nD Cert.RecurrenceInputReferenceIdeal.τ).loc Cert.RecurrenceInputReferenceIdeal.main_arg5) = m ((c.tc : Thread Cert.RecurrenceInputIdeal.nD Cert.RecurrenceInputIdeal.τ).loc Cert.RecurrenceInputIdeal.main_arg5)
      ∧ m' ((c.tc : Thread Cert.RecurrenceInputReferenceIdeal.nD Cert.RecurrenceInputReferenceIdeal.τ).loc Cert.RecurrenceInputReferenceIdeal.main_arg6) = m ((c.tc : Thread Cert.RecurrenceInputIdeal.nD Cert.RecurrenceInputIdeal.τ).loc Cert.RecurrenceInputIdeal.main_arg6)
      ∧ m' ((c.tc : Thread Cert.RecurrenceInputReferenceIdeal.nD Cert.RecurrenceInputReferenceIdeal.τ).loc Cert.RecurrenceInputReferenceIdeal.main_arg7) = m ((c.tc : Thread Cert.RecurrenceInputIdeal.nD Cert.RecurrenceInputIdeal.τ).loc Cert.RecurrenceInputIdeal.main_arg7)
      ∧ m' ((c.tc : Thread Cert.RecurrenceInputReferenceIdeal.nD Cert.RecurrenceInputReferenceIdeal.τ).loc Cert.RecurrenceInputReferenceIdeal.main_arg8) = m ((c.tc : Thread Cert.RecurrenceInputIdeal.nD Cert.RecurrenceInputIdeal.τ).loc Cert.RecurrenceInputIdeal.main_arg8)
      ∧ m' ((c.tc : Thread Cert.RecurrenceInputReferenceIdeal.nD Cert.RecurrenceInputReferenceIdeal.τ).loc Cert.RecurrenceInputReferenceIdeal.main_arg9) = m ((c.tc : Thread Cert.RecurrenceInputIdeal.nD Cert.RecurrenceInputIdeal.τ).loc Cert.RecurrenceInputIdeal.main_arg9)) →
    ∃ (v0 : (c : Dev Cert.RecurrenceInputIdeal.nD) → Buf (Elt Ideal) ((c.tc : Thread Cert.RecurrenceInputIdeal.nD Cert.RecurrenceInputIdeal.τ).loc Cert.RecurrenceInputIdeal.main_v5_5)) (v1 : (c : Dev Cert.RecurrenceInputIdeal.nD) → Buf (Elt Ideal) ((c.tc : Thread Cert.RecurrenceInputIdeal.nD Cert.RecurrenceInputIdeal.τ).loc Cert.RecurrenceInputIdeal.main_v5_6)),
      θ_run (Cert.RecurrenceInputIdeal.defs (F := Ideal)) (onTc (τ := Cert.RecurrenceInputIdeal.τ) (Cert.RecurrenceInputIdeal.main (F := Ideal))) ⟨m, fun _ => 0, g⟩ (fun r => ∀ c : Dev Cert.RecurrenceInputIdeal.nD,
          r.2.mem ((c.tc : Thread Cert.RecurrenceInputIdeal.nD Cert.RecurrenceInputIdeal.τ).loc Cert.RecurrenceInputIdeal.main_v5_5) = v0 c
          ∧ r.2.mem ((c.tc : Thread Cert.RecurrenceInputIdeal.nD Cert.RecurrenceInputIdeal.τ).loc Cert.RecurrenceInputIdeal.main_v5_6) = v1 c
          ∧ r.2.mem ((c.tc : Thread Cert.RecurrenceInputIdeal.nD Cert.RecurrenceInputIdeal.τ).loc Cert.RecurrenceInputIdeal.main_arg0) = m ((c.tc : Thread Cert.RecurrenceInputIdeal.nD Cert.RecurrenceInputIdeal.τ).loc Cert.RecurrenceInputIdeal.main_arg0)
          ∧ r.2.mem ((c.tc : Thread Cert.RecurrenceInputIdeal.nD Cert.RecurrenceInputIdeal.τ).loc Cert.RecurrenceInputIdeal.main_arg1) = m ((c.tc : Thread Cert.RecurrenceInputIdeal.nD Cert.RecurrenceInputIdeal.τ).loc Cert.RecurrenceInputIdeal.main_arg1)
          ∧ r.2.mem ((c.tc : Thread Cert.RecurrenceInputIdeal.nD Cert.RecurrenceInputIdeal.τ).loc Cert.RecurrenceInputIdeal.main_arg2) = m ((c.tc : Thread Cert.RecurrenceInputIdeal.nD Cert.RecurrenceInputIdeal.τ).loc Cert.RecurrenceInputIdeal.main_arg2)
          ∧ r.2.mem ((c.tc : Thread Cert.RecurrenceInputIdeal.nD Cert.RecurrenceInputIdeal.τ).loc Cert.RecurrenceInputIdeal.main_arg3) = m ((c.tc : Thread Cert.RecurrenceInputIdeal.nD Cert.RecurrenceInputIdeal.τ).loc Cert.RecurrenceInputIdeal.main_arg3)
          ∧ r.2.mem ((c.tc : Thread Cert.RecurrenceInputIdeal.nD Cert.RecurrenceInputIdeal.τ).loc Cert.RecurrenceInputIdeal.main_arg4) = m ((c.tc : Thread Cert.RecurrenceInputIdeal.nD Cert.RecurrenceInputIdeal.τ).loc Cert.RecurrenceInputIdeal.main_arg4)
          ∧ r.2.mem ((c.tc : Thread Cert.RecurrenceInputIdeal.nD Cert.RecurrenceInputIdeal.τ).loc Cert.RecurrenceInputIdeal.main_arg5) = m ((c.tc : Thread Cert.RecurrenceInputIdeal.nD Cert.RecurrenceInputIdeal.τ).loc Cert.RecurrenceInputIdeal.main_arg5)
          ∧ r.2.mem ((c.tc : Thread Cert.RecurrenceInputIdeal.nD Cert.RecurrenceInputIdeal.τ).loc Cert.RecurrenceInputIdeal.main_arg6) = m ((c.tc : Thread Cert.RecurrenceInputIdeal.nD Cert.RecurrenceInputIdeal.τ).loc Cert.RecurrenceInputIdeal.main_arg6)
          ∧ r.2.mem ((c.tc : Thread Cert.RecurrenceInputIdeal.nD Cert.RecurrenceInputIdeal.τ).loc Cert.RecurrenceInputIdeal.main_arg7) = m ((c.tc : Thread Cert.RecurrenceInputIdeal.nD Cert.RecurrenceInputIdeal.τ).loc Cert.RecurrenceInputIdeal.main_arg7)
          ∧ r.2.mem ((c.tc : Thread Cert.RecurrenceInputIdeal.nD Cert.RecurrenceInputIdeal.τ).loc Cert.RecurrenceInputIdeal.main_arg8) = m ((c.tc : Thread Cert.RecurrenceInputIdeal.nD Cert.RecurrenceInputIdeal.τ).loc Cert.RecurrenceInputIdeal.main_arg8)
          ∧ r.2.mem ((c.tc : Thread Cert.RecurrenceInputIdeal.nD Cert.RecurrenceInputIdeal.τ).loc Cert.RecurrenceInputIdeal.main_arg9) = m ((c.tc : Thread Cert.RecurrenceInputIdeal.nD Cert.RecurrenceInputIdeal.τ).loc Cert.RecurrenceInputIdeal.main_arg9))
      ∧ θ_run (Cert.RecurrenceInputReferenceIdeal.defs (F := Ideal)) (onTc (τ := Cert.RecurrenceInputReferenceIdeal.τ) (Cert.RecurrenceInputReferenceIdeal.main (F := Ideal))) ⟨m', fun _ => 0, g'⟩ (fun r => ∀ c : Dev Cert.RecurrenceInputReferenceIdeal.nD,
          r.2.mem ((c.tc : Thread Cert.RecurrenceInputReferenceIdeal.nD Cert.RecurrenceInputReferenceIdeal.τ).loc Cert.RecurrenceInputReferenceIdeal.main_v84) = v0 c
          ∧ r.2.mem ((c.tc : Thread Cert.RecurrenceInputReferenceIdeal.nD Cert.RecurrenceInputReferenceIdeal.τ).loc Cert.RecurrenceInputReferenceIdeal.main_v85) = v1 c
          ∧ r.2.mem ((c.tc : Thread Cert.RecurrenceInputReferenceIdeal.nD Cert.RecurrenceInputReferenceIdeal.τ).loc Cert.RecurrenceInputReferenceIdeal.main_arg0) = m' ((c.tc : Thread Cert.RecurrenceInputReferenceIdeal.nD Cert.RecurrenceInputReferenceIdeal.τ).loc Cert.RecurrenceInputReferenceIdeal.main_arg0)
          ∧ r.2.mem ((c.tc : Thread Cert.RecurrenceInputReferenceIdeal.nD Cert.RecurrenceInputReferenceIdeal.τ).loc Cert.RecurrenceInputReferenceIdeal.main_arg1) = m' ((c.tc : Thread Cert.RecurrenceInputReferenceIdeal.nD Cert.RecurrenceInputReferenceIdeal.τ).loc Cert.RecurrenceInputReferenceIdeal.main_arg1)
          ∧ r.2.mem ((c.tc : Thread Cert.RecurrenceInputReferenceIdeal.nD Cert.RecurrenceInputReferenceIdeal.τ).loc Cert.RecurrenceInputReferenceIdeal.main_arg2) = m' ((c.tc : Thread Cert.RecurrenceInputReferenceIdeal.nD Cert.RecurrenceInputReferenceIdeal.τ).loc Cert.RecurrenceInputReferenceIdeal.main_arg2)
          ∧ r.2.mem ((c.tc : Thread Cert.RecurrenceInputReferenceIdeal.nD Cert.RecurrenceInputReferenceIdeal.τ).loc Cert.RecurrenceInputReferenceIdeal.main_arg3) = m' ((c.tc : Thread Cert.RecurrenceInputReferenceIdeal.nD Cert.RecurrenceInputReferenceIdeal.τ).loc Cert.RecurrenceInputReferenceIdeal.main_arg3)
          ∧ r.2.mem ((c.tc : Thread Cert.RecurrenceInputReferenceIdeal.nD Cert.RecurrenceInputReferenceIdeal.τ).loc Cert.RecurrenceInputReferenceIdeal.main_arg4) = m' ((c.tc : Thread Cert.RecurrenceInputReferenceIdeal.nD Cert.RecurrenceInputReferenceIdeal.τ).loc Cert.RecurrenceInputReferenceIdeal.main_arg4)
          ∧ r.2.mem ((c.tc : Thread Cert.RecurrenceInputReferenceIdeal.nD Cert.RecurrenceInputReferenceIdeal.τ).loc Cert.RecurrenceInputReferenceIdeal.main_arg5) = m' ((c.tc : Thread Cert.RecurrenceInputReferenceIdeal.nD Cert.RecurrenceInputReferenceIdeal.τ).loc Cert.RecurrenceInputReferenceIdeal.main_arg5)
          ∧ r.2.mem ((c.tc : Thread Cert.RecurrenceInputReferenceIdeal.nD Cert.RecurrenceInputReferenceIdeal.τ).loc Cert.RecurrenceInputReferenceIdeal.main_arg6) = m' ((c.tc : Thread Cert.RecurrenceInputReferenceIdeal.nD Cert.RecurrenceInputReferenceIdeal.τ).loc Cert.RecurrenceInputReferenceIdeal.main_arg6)
          ∧ r.2.mem ((c.tc : Thread Cert.RecurrenceInputReferenceIdeal.nD Cert.RecurrenceInputReferenceIdeal.τ).loc Cert.RecurrenceInputReferenceIdeal.main_arg7) = m' ((c.tc : Thread Cert.RecurrenceInputReferenceIdeal.nD Cert.RecurrenceInputReferenceIdeal.τ).loc Cert.RecurrenceInputReferenceIdeal.main_arg7)
          ∧ r.2.mem ((c.tc : Thread Cert.RecurrenceInputReferenceIdeal.nD Cert.RecurrenceInputReferenceIdeal.τ).loc Cert.RecurrenceInputReferenceIdeal.main_arg8) = m' ((c.tc : Thread Cert.RecurrenceInputReferenceIdeal.nD Cert.RecurrenceInputReferenceIdeal.τ).loc Cert.RecurrenceInputReferenceIdeal.main_arg8)
          ∧ r.2.mem ((c.tc : Thread Cert.RecurrenceInputReferenceIdeal.nD Cert.RecurrenceInputReferenceIdeal.τ).loc Cert.RecurrenceInputReferenceIdeal.main_arg9) = m' ((c.tc : Thread Cert.RecurrenceInputReferenceIdeal.nD Cert.RecurrenceInputReferenceIdeal.τ).loc Cert.RecurrenceInputReferenceIdeal.main_arg9))

def Claim : Prop :=
  ∃ (hKernel : Cert.Kernel.Facts) (hKernelIdeal : Cert.KernelIdeal.Facts) (hReferenceIdeal : Cert.ReferenceIdeal.Facts) (hBranchOut : Cert.BranchOut.Facts) (hBranchOutIdeal : Cert.BranchOutIdeal.Facts) (hBranchOutReferenceIdeal : Cert.BranchOutReferenceIdeal.Facts) (hBranchWeight : Cert.BranchWeight.Facts) (hBranchWeightIdeal : Cert.BranchWeightIdeal.Facts) (hBranchWeightReferenceIdeal : Cert.BranchWeightReferenceIdeal.Facts) (hGateWeight : Cert.GateWeight.Facts) (hGateWeightIdeal : Cert.GateWeightIdeal.Facts) (hGateWeightReferenceIdeal : Cert.GateWeightReferenceIdeal.Facts) (hGateInput : Cert.GateInput.Facts) (hGateInputIdeal : Cert.GateInputIdeal.Facts) (hGateInputReferenceIdeal : Cert.GateInputReferenceIdeal.Facts) (hOutWeight : Cert.OutWeight.Facts) (hOutWeightIdeal : Cert.OutWeightIdeal.Facts) (hOutWeightReferenceIdeal : Cert.OutWeightReferenceIdeal.Facts) (hMergedGradient : Cert.MergedGradient.Facts) (hMergedGradientIdeal : Cert.MergedGradientIdeal.Facts) (hMergedGradientReferenceIdeal : Cert.MergedGradientReferenceIdeal.Facts) (hOutProjection : Cert.OutProjection.Facts) (hOutProjectionIdeal : Cert.OutProjectionIdeal.Facts) (hOutProjectionReferenceIdeal : Cert.OutProjectionReferenceIdeal.Facts) (hInProjection : Cert.InProjection.Facts) (hInProjectionIdeal : Cert.InProjectionIdeal.Facts) (hInProjectionReferenceIdeal : Cert.InProjectionReferenceIdeal.Facts) (hInWeight : Cert.InWeight.Facts) (hInWeightIdeal : Cert.InWeightIdeal.Facts) (hInWeightReferenceIdeal : Cert.InWeightReferenceIdeal.Facts) (hHiddenGradient : Cert.HiddenGradient.Facts) (hHiddenGradientIdeal : Cert.HiddenGradientIdeal.Facts) (hHiddenGradientReferenceIdeal : Cert.HiddenGradientReferenceIdeal.Facts) (hMemoryKeys : Cert.MemoryKeys.Facts) (hMemoryKeysIdeal : Cert.MemoryKeysIdeal.Facts) (hMemoryKeysReferenceIdeal : Cert.MemoryKeysReferenceIdeal.Facts) (hMemoryWeight : Cert.MemoryWeight.Facts) (hMemoryWeightIdeal : Cert.MemoryWeightIdeal.Facts) (hMemoryWeightReferenceIdeal : Cert.MemoryWeightReferenceIdeal.Facts) (hMemoryGradient : Cert.MemoryGradient.Facts) (hMemoryGradientIdeal : Cert.MemoryGradientIdeal.Facts) (hMemoryGradientReferenceIdeal : Cert.MemoryGradientReferenceIdeal.Facts) (hGlu : Cert.Glu.Facts) (hGluIdeal : Cert.GluIdeal.Facts) (hGluReferenceIdeal : Cert.GluReferenceIdeal.Facts) (hGluWeight : Cert.GluWeight.Facts) (hGluWeightIdeal : Cert.GluWeightIdeal.Facts) (hGluWeightReferenceIdeal : Cert.GluWeightReferenceIdeal.Facts) (hGluInput : Cert.GluInput.Facts) (hGluInputIdeal : Cert.GluInputIdeal.Facts) (hGluInputReferenceIdeal : Cert.GluInputReferenceIdeal.Facts) (hGluGate : Cert.GluGate.Facts) (hGluGateIdeal : Cert.GluGateIdeal.Facts) (hGluGateReferenceIdeal : Cert.GluGateReferenceIdeal.Facts) (hSkipGelu : Cert.SkipGelu.Facts) (hSkipGeluIdeal : Cert.SkipGeluIdeal.Facts) (hSkipGeluReferenceIdeal : Cert.SkipGeluReferenceIdeal.Facts) (hRecurrenceGate : Cert.RecurrenceGate.Facts) (hRecurrenceGateIdeal : Cert.RecurrenceGateIdeal.Facts) (hRecurrenceGateReferenceIdeal : Cert.RecurrenceGateReferenceIdeal.Facts) (hDeltaOutput : Cert.DeltaOutput.Facts) (hDeltaOutputIdeal : Cert.DeltaOutputIdeal.Facts) (hDeltaOutputReferenceIdeal : Cert.DeltaOutputReferenceIdeal.Facts) (hNormGradient : Cert.NormGradient.Facts) (hNormGradientIdeal : Cert.NormGradientIdeal.Facts) (hNormGradientReferenceIdeal : Cert.NormGradientReferenceIdeal.Facts) (hMemoryNorm : Cert.MemoryNorm.Facts) (hMemoryNormIdeal : Cert.MemoryNormIdeal.Facts) (hMemoryNormReferenceIdeal : Cert.MemoryNormReferenceIdeal.Facts) (hMergeForward : Cert.MergeForward.Facts) (hMergeForwardIdeal : Cert.MergeForwardIdeal.Facts) (hMergeForwardReferenceIdeal : Cert.MergeForwardReferenceIdeal.Facts) (hLossHead : Cert.LossHead.Facts) (hLossHeadIdeal : Cert.LossHeadIdeal.Facts) (hLossHeadReferenceIdeal : Cert.LossHeadReferenceIdeal.Facts) (hDeltaGates : Cert.DeltaGates.Facts) (hDeltaGatesIdeal : Cert.DeltaGatesIdeal.Facts) (hDeltaGatesReferenceIdeal : Cert.DeltaGatesReferenceIdeal.Facts) (hDeltaKeys : Cert.DeltaKeys.Facts) (hDeltaKeysIdeal : Cert.DeltaKeysIdeal.Facts) (hDeltaKeysReferenceIdeal : Cert.DeltaKeysReferenceIdeal.Facts) (hDeltaValues : Cert.DeltaValues.Facts) (hDeltaValuesIdeal : Cert.DeltaValuesIdeal.Facts) (hDeltaValuesReferenceIdeal : Cert.DeltaValuesReferenceIdeal.Facts) (hDiscretise : Cert.Discretise.Facts) (hDiscretiseIdeal : Cert.DiscretiseIdeal.Facts) (hDiscretiseReferenceIdeal : Cert.DiscretiseReferenceIdeal.Facts) (hAdamIn : Cert.AdamIn.Facts) (hAdamInIdeal : Cert.AdamInIdeal.Facts) (hAdamInReferenceIdeal : Cert.AdamInReferenceIdeal.Facts) (hAdamDeltaConv : Cert.AdamDeltaConv.Facts) (hAdamDeltaConvIdeal : Cert.AdamDeltaConvIdeal.Facts) (hAdamDeltaConvReferenceIdeal : Cert.AdamDeltaConvReferenceIdeal.Facts) (hAdamRecurrenceConv : Cert.AdamRecurrenceConv.Facts) (hAdamRecurrenceConvIdeal : Cert.AdamRecurrenceConvIdeal.Facts) (hAdamRecurrenceConvReferenceIdeal : Cert.AdamRecurrenceConvReferenceIdeal.Facts) (hAdamGlu : Cert.AdamGlu.Facts) (hAdamGluIdeal : Cert.AdamGluIdeal.Facts) (hAdamGluReferenceIdeal : Cert.AdamGluReferenceIdeal.Facts) (hAdamMemory : Cert.AdamMemory.Facts) (hAdamMemoryIdeal : Cert.AdamMemoryIdeal.Facts) (hAdamMemoryReferenceIdeal : Cert.AdamMemoryReferenceIdeal.Facts) (hAdamGate : Cert.AdamGate.Facts) (hAdamGateIdeal : Cert.AdamGateIdeal.Facts) (hAdamGateReferenceIdeal : Cert.AdamGateReferenceIdeal.Facts) (hAdamGateBias : Cert.AdamGateBias.Facts) (hAdamGateBiasIdeal : Cert.AdamGateBiasIdeal.Facts) (hAdamGateBiasReferenceIdeal : Cert.AdamGateBiasReferenceIdeal.Facts) (hAdamBranch : Cert.AdamBranch.Facts) (hAdamBranchIdeal : Cert.AdamBranchIdeal.Facts) (hAdamBranchReferenceIdeal : Cert.AdamBranchReferenceIdeal.Facts) (hAdamOut : Cert.AdamOut.Facts) (hAdamOutIdeal : Cert.AdamOutIdeal.Facts) (hAdamOutReferenceIdeal : Cert.AdamOutReferenceIdeal.Facts) (hAdamRest : Cert.AdamRest.Facts) (hAdamRestIdeal : Cert.AdamRestIdeal.Facts) (hAdamRestReferenceIdeal : Cert.AdamRestReferenceIdeal.Facts) (hStateWeight : Cert.StateWeight.Facts) (hStateWeightIdeal : Cert.StateWeightIdeal.Facts) (hStateWeightReferenceIdeal : Cert.StateWeightReferenceIdeal.Facts) (hRecurrenceInput : Cert.RecurrenceInput.Facts) (hRecurrenceInputIdeal : Cert.RecurrenceInputIdeal.Facts) (hRecurrenceInputReferenceIdeal : Cert.RecurrenceInputReferenceIdeal.Facts),
    quiescent_Kernel (hKernel := hKernel)
    ∧ quiescent_KernelIdeal (hKernelIdeal := hKernelIdeal)
    ∧ quiescent_ReferenceIdeal (hReferenceIdeal := hReferenceIdeal)
    ∧ quiescent_BranchOut (hBranchOut := hBranchOut)
    ∧ quiescent_BranchOutIdeal (hBranchOutIdeal := hBranchOutIdeal)
    ∧ quiescent_BranchOutReferenceIdeal (hBranchOutReferenceIdeal := hBranchOutReferenceIdeal)
    ∧ quiescent_BranchWeight (hBranchWeight := hBranchWeight)
    ∧ quiescent_BranchWeightIdeal (hBranchWeightIdeal := hBranchWeightIdeal)
    ∧ quiescent_BranchWeightReferenceIdeal (hBranchWeightReferenceIdeal := hBranchWeightReferenceIdeal)
    ∧ quiescent_GateWeight (hGateWeight := hGateWeight)
    ∧ quiescent_GateWeightIdeal (hGateWeightIdeal := hGateWeightIdeal)
    ∧ quiescent_GateWeightReferenceIdeal (hGateWeightReferenceIdeal := hGateWeightReferenceIdeal)
    ∧ quiescent_GateInput (hGateInput := hGateInput)
    ∧ quiescent_GateInputIdeal (hGateInputIdeal := hGateInputIdeal)
    ∧ quiescent_GateInputReferenceIdeal (hGateInputReferenceIdeal := hGateInputReferenceIdeal)
    ∧ quiescent_OutWeight (hOutWeight := hOutWeight)
    ∧ quiescent_OutWeightIdeal (hOutWeightIdeal := hOutWeightIdeal)
    ∧ quiescent_OutWeightReferenceIdeal (hOutWeightReferenceIdeal := hOutWeightReferenceIdeal)
    ∧ quiescent_MergedGradient (hMergedGradient := hMergedGradient)
    ∧ quiescent_MergedGradientIdeal (hMergedGradientIdeal := hMergedGradientIdeal)
    ∧ quiescent_MergedGradientReferenceIdeal (hMergedGradientReferenceIdeal := hMergedGradientReferenceIdeal)
    ∧ quiescent_OutProjection (hOutProjection := hOutProjection)
    ∧ quiescent_OutProjectionIdeal (hOutProjectionIdeal := hOutProjectionIdeal)
    ∧ quiescent_OutProjectionReferenceIdeal (hOutProjectionReferenceIdeal := hOutProjectionReferenceIdeal)
    ∧ quiescent_InProjection (hInProjection := hInProjection)
    ∧ quiescent_InProjectionIdeal (hInProjectionIdeal := hInProjectionIdeal)
    ∧ quiescent_InProjectionReferenceIdeal (hInProjectionReferenceIdeal := hInProjectionReferenceIdeal)
    ∧ quiescent_InWeight (hInWeight := hInWeight)
    ∧ quiescent_InWeightIdeal (hInWeightIdeal := hInWeightIdeal)
    ∧ quiescent_InWeightReferenceIdeal (hInWeightReferenceIdeal := hInWeightReferenceIdeal)
    ∧ quiescent_HiddenGradient (hHiddenGradient := hHiddenGradient)
    ∧ quiescent_HiddenGradientIdeal (hHiddenGradientIdeal := hHiddenGradientIdeal)
    ∧ quiescent_HiddenGradientReferenceIdeal (hHiddenGradientReferenceIdeal := hHiddenGradientReferenceIdeal)
    ∧ quiescent_MemoryKeys (hMemoryKeys := hMemoryKeys)
    ∧ quiescent_MemoryKeysIdeal (hMemoryKeysIdeal := hMemoryKeysIdeal)
    ∧ quiescent_MemoryKeysReferenceIdeal (hMemoryKeysReferenceIdeal := hMemoryKeysReferenceIdeal)
    ∧ quiescent_MemoryWeight (hMemoryWeight := hMemoryWeight)
    ∧ quiescent_MemoryWeightIdeal (hMemoryWeightIdeal := hMemoryWeightIdeal)
    ∧ quiescent_MemoryWeightReferenceIdeal (hMemoryWeightReferenceIdeal := hMemoryWeightReferenceIdeal)
    ∧ quiescent_MemoryGradient (hMemoryGradient := hMemoryGradient)
    ∧ quiescent_MemoryGradientIdeal (hMemoryGradientIdeal := hMemoryGradientIdeal)
    ∧ quiescent_MemoryGradientReferenceIdeal (hMemoryGradientReferenceIdeal := hMemoryGradientReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_GluWeight (hGluWeight := hGluWeight)
    ∧ quiescent_GluWeightIdeal (hGluWeightIdeal := hGluWeightIdeal)
    ∧ quiescent_GluWeightReferenceIdeal (hGluWeightReferenceIdeal := hGluWeightReferenceIdeal)
    ∧ quiescent_GluInput (hGluInput := hGluInput)
    ∧ quiescent_GluInputIdeal (hGluInputIdeal := hGluInputIdeal)
    ∧ quiescent_GluInputReferenceIdeal (hGluInputReferenceIdeal := hGluInputReferenceIdeal)
    ∧ quiescent_GluGate (hGluGate := hGluGate)
    ∧ quiescent_GluGateIdeal (hGluGateIdeal := hGluGateIdeal)
    ∧ quiescent_GluGateReferenceIdeal (hGluGateReferenceIdeal := hGluGateReferenceIdeal)
    ∧ quiescent_SkipGelu (hSkipGelu := hSkipGelu)
    ∧ quiescent_SkipGeluIdeal (hSkipGeluIdeal := hSkipGeluIdeal)
    ∧ quiescent_SkipGeluReferenceIdeal (hSkipGeluReferenceIdeal := hSkipGeluReferenceIdeal)
    ∧ quiescent_RecurrenceGate (hRecurrenceGate := hRecurrenceGate)
    ∧ quiescent_RecurrenceGateIdeal (hRecurrenceGateIdeal := hRecurrenceGateIdeal)
    ∧ quiescent_RecurrenceGateReferenceIdeal (hRecurrenceGateReferenceIdeal := hRecurrenceGateReferenceIdeal)
    ∧ quiescent_DeltaOutput (hDeltaOutput := hDeltaOutput)
    ∧ quiescent_DeltaOutputIdeal (hDeltaOutputIdeal := hDeltaOutputIdeal)
    ∧ quiescent_DeltaOutputReferenceIdeal (hDeltaOutputReferenceIdeal := hDeltaOutputReferenceIdeal)
    ∧ quiescent_NormGradient (hNormGradient := hNormGradient)
    ∧ quiescent_NormGradientIdeal (hNormGradientIdeal := hNormGradientIdeal)
    ∧ quiescent_NormGradientReferenceIdeal (hNormGradientReferenceIdeal := hNormGradientReferenceIdeal)
    ∧ quiescent_MemoryNorm (hMemoryNorm := hMemoryNorm)
    ∧ quiescent_MemoryNormIdeal (hMemoryNormIdeal := hMemoryNormIdeal)
    ∧ quiescent_MemoryNormReferenceIdeal (hMemoryNormReferenceIdeal := hMemoryNormReferenceIdeal)
    ∧ quiescent_MergeForward (hMergeForward := hMergeForward)
    ∧ quiescent_MergeForwardIdeal (hMergeForwardIdeal := hMergeForwardIdeal)
    ∧ quiescent_MergeForwardReferenceIdeal (hMergeForwardReferenceIdeal := hMergeForwardReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_DeltaGates (hDeltaGates := hDeltaGates)
    ∧ quiescent_DeltaGatesIdeal (hDeltaGatesIdeal := hDeltaGatesIdeal)
    ∧ quiescent_DeltaGatesReferenceIdeal (hDeltaGatesReferenceIdeal := hDeltaGatesReferenceIdeal)
    ∧ quiescent_DeltaKeys (hDeltaKeys := hDeltaKeys)
    ∧ quiescent_DeltaKeysIdeal (hDeltaKeysIdeal := hDeltaKeysIdeal)
    ∧ quiescent_DeltaKeysReferenceIdeal (hDeltaKeysReferenceIdeal := hDeltaKeysReferenceIdeal)
    ∧ quiescent_DeltaValues (hDeltaValues := hDeltaValues)
    ∧ quiescent_DeltaValuesIdeal (hDeltaValuesIdeal := hDeltaValuesIdeal)
    ∧ quiescent_DeltaValuesReferenceIdeal (hDeltaValuesReferenceIdeal := hDeltaValuesReferenceIdeal)
    ∧ quiescent_Discretise (hDiscretise := hDiscretise)
    ∧ quiescent_DiscretiseIdeal (hDiscretiseIdeal := hDiscretiseIdeal)
    ∧ quiescent_DiscretiseReferenceIdeal (hDiscretiseReferenceIdeal := hDiscretiseReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamDeltaConv (hAdamDeltaConv := hAdamDeltaConv)
    ∧ quiescent_AdamDeltaConvIdeal (hAdamDeltaConvIdeal := hAdamDeltaConvIdeal)
    ∧ quiescent_AdamDeltaConvReferenceIdeal (hAdamDeltaConvReferenceIdeal := hAdamDeltaConvReferenceIdeal)
    ∧ quiescent_AdamRecurrenceConv (hAdamRecurrenceConv := hAdamRecurrenceConv)
    ∧ quiescent_AdamRecurrenceConvIdeal (hAdamRecurrenceConvIdeal := hAdamRecurrenceConvIdeal)
    ∧ quiescent_AdamRecurrenceConvReferenceIdeal (hAdamRecurrenceConvReferenceIdeal := hAdamRecurrenceConvReferenceIdeal)
    ∧ quiescent_AdamGlu (hAdamGlu := hAdamGlu)
    ∧ quiescent_AdamGluIdeal (hAdamGluIdeal := hAdamGluIdeal)
    ∧ quiescent_AdamGluReferenceIdeal (hAdamGluReferenceIdeal := hAdamGluReferenceIdeal)
    ∧ quiescent_AdamMemory (hAdamMemory := hAdamMemory)
    ∧ quiescent_AdamMemoryIdeal (hAdamMemoryIdeal := hAdamMemoryIdeal)
    ∧ quiescent_AdamMemoryReferenceIdeal (hAdamMemoryReferenceIdeal := hAdamMemoryReferenceIdeal)
    ∧ quiescent_AdamGate (hAdamGate := hAdamGate)
    ∧ quiescent_AdamGateIdeal (hAdamGateIdeal := hAdamGateIdeal)
    ∧ quiescent_AdamGateReferenceIdeal (hAdamGateReferenceIdeal := hAdamGateReferenceIdeal)
    ∧ quiescent_AdamGateBias (hAdamGateBias := hAdamGateBias)
    ∧ quiescent_AdamGateBiasIdeal (hAdamGateBiasIdeal := hAdamGateBiasIdeal)
    ∧ quiescent_AdamGateBiasReferenceIdeal (hAdamGateBiasReferenceIdeal := hAdamGateBiasReferenceIdeal)
    ∧ quiescent_AdamBranch (hAdamBranch := hAdamBranch)
    ∧ quiescent_AdamBranchIdeal (hAdamBranchIdeal := hAdamBranchIdeal)
    ∧ quiescent_AdamBranchReferenceIdeal (hAdamBranchReferenceIdeal := hAdamBranchReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamRest (hAdamRest := hAdamRest)
    ∧ quiescent_AdamRestIdeal (hAdamRestIdeal := hAdamRestIdeal)
    ∧ quiescent_AdamRestReferenceIdeal (hAdamRestReferenceIdeal := hAdamRestReferenceIdeal)
    ∧ quiescent_StateWeight (hStateWeight := hStateWeight)
    ∧ quiescent_StateWeightIdeal (hStateWeightIdeal := hStateWeightIdeal)
    ∧ quiescent_StateWeightReferenceIdeal (hStateWeightReferenceIdeal := hStateWeightReferenceIdeal)
    ∧ quiescent_RecurrenceInput (hRecurrenceInput := hRecurrenceInput)
    ∧ quiescent_RecurrenceInputIdeal (hRecurrenceInputIdeal := hRecurrenceInputIdeal)
    ∧ quiescent_RecurrenceInputReferenceIdeal (hRecurrenceInputReferenceIdeal := hRecurrenceInputReferenceIdeal)
    ∧ preserves_Kernel_KernelIdeal
    ∧ algebraic_KernelIdeal_ReferenceIdeal (hKernelIdeal := hKernelIdeal) (hReferenceIdeal := hReferenceIdeal)
    ∧ preserves_BranchOut_BranchOutIdeal
    ∧ algebraic_BranchOutIdeal_BranchOutReferenceIdeal (hBranchOutIdeal := hBranchOutIdeal) (hBranchOutReferenceIdeal := hBranchOutReferenceIdeal)
    ∧ preserves_BranchWeight_BranchWeightIdeal
    ∧ algebraic_BranchWeightIdeal_BranchWeightReferenceIdeal (hBranchWeightIdeal := hBranchWeightIdeal) (hBranchWeightReferenceIdeal := hBranchWeightReferenceIdeal)
    ∧ preserves_GateWeight_GateWeightIdeal
    ∧ algebraic_GateWeightIdeal_GateWeightReferenceIdeal (hGateWeightIdeal := hGateWeightIdeal) (hGateWeightReferenceIdeal := hGateWeightReferenceIdeal)
    ∧ preserves_GateInput_GateInputIdeal
    ∧ algebraic_GateInputIdeal_GateInputReferenceIdeal (hGateInputIdeal := hGateInputIdeal) (hGateInputReferenceIdeal := hGateInputReferenceIdeal)
    ∧ preserves_OutWeight_OutWeightIdeal
    ∧ algebraic_OutWeightIdeal_OutWeightReferenceIdeal (hOutWeightIdeal := hOutWeightIdeal) (hOutWeightReferenceIdeal := hOutWeightReferenceIdeal)
    ∧ preserves_MergedGradient_MergedGradientIdeal
    ∧ algebraic_MergedGradientIdeal_MergedGradientReferenceIdeal (hMergedGradientIdeal := hMergedGradientIdeal) (hMergedGradientReferenceIdeal := hMergedGradientReferenceIdeal)
    ∧ preserves_OutProjection_OutProjectionIdeal
    ∧ algebraic_OutProjectionIdeal_OutProjectionReferenceIdeal (hOutProjectionIdeal := hOutProjectionIdeal) (hOutProjectionReferenceIdeal := hOutProjectionReferenceIdeal)
    ∧ preserves_InProjection_InProjectionIdeal
    ∧ algebraic_InProjectionIdeal_InProjectionReferenceIdeal (hInProjectionIdeal := hInProjectionIdeal) (hInProjectionReferenceIdeal := hInProjectionReferenceIdeal)
    ∧ preserves_InWeight_InWeightIdeal
    ∧ algebraic_InWeightIdeal_InWeightReferenceIdeal (hInWeightIdeal := hInWeightIdeal) (hInWeightReferenceIdeal := hInWeightReferenceIdeal)
    ∧ preserves_HiddenGradient_HiddenGradientIdeal
    ∧ algebraic_HiddenGradientIdeal_HiddenGradientReferenceIdeal (hHiddenGradientIdeal := hHiddenGradientIdeal) (hHiddenGradientReferenceIdeal := hHiddenGradientReferenceIdeal)
    ∧ preserves_MemoryKeys_MemoryKeysIdeal
    ∧ algebraic_MemoryKeysIdeal_MemoryKeysReferenceIdeal (hMemoryKeysIdeal := hMemoryKeysIdeal) (hMemoryKeysReferenceIdeal := hMemoryKeysReferenceIdeal)
    ∧ preserves_MemoryWeight_MemoryWeightIdeal
    ∧ algebraic_MemoryWeightIdeal_MemoryWeightReferenceIdeal (hMemoryWeightIdeal := hMemoryWeightIdeal) (hMemoryWeightReferenceIdeal := hMemoryWeightReferenceIdeal)
    ∧ preserves_MemoryGradient_MemoryGradientIdeal
    ∧ algebraic_MemoryGradientIdeal_MemoryGradientReferenceIdeal (hMemoryGradientIdeal := hMemoryGradientIdeal) (hMemoryGradientReferenceIdeal := hMemoryGradientReferenceIdeal)
    ∧ preserves_Glu_GluIdeal
    ∧ algebraic_GluIdeal_GluReferenceIdeal (hGluIdeal := hGluIdeal) (hGluReferenceIdeal := hGluReferenceIdeal)
    ∧ preserves_GluWeight_GluWeightIdeal
    ∧ algebraic_GluWeightIdeal_GluWeightReferenceIdeal (hGluWeightIdeal := hGluWeightIdeal) (hGluWeightReferenceIdeal := hGluWeightReferenceIdeal)
    ∧ preserves_GluInput_GluInputIdeal
    ∧ algebraic_GluInputIdeal_GluInputReferenceIdeal (hGluInputIdeal := hGluInputIdeal) (hGluInputReferenceIdeal := hGluInputReferenceIdeal)
    ∧ preserves_GluGate_GluGateIdeal
    ∧ algebraic_GluGateIdeal_GluGateReferenceIdeal (hGluGateIdeal := hGluGateIdeal) (hGluGateReferenceIdeal := hGluGateReferenceIdeal)
    ∧ preserves_SkipGelu_SkipGeluIdeal
    ∧ algebraic_SkipGeluIdeal_SkipGeluReferenceIdeal (hSkipGeluIdeal := hSkipGeluIdeal) (hSkipGeluReferenceIdeal := hSkipGeluReferenceIdeal)
    ∧ preserves_RecurrenceGate_RecurrenceGateIdeal
    ∧ algebraic_RecurrenceGateIdeal_RecurrenceGateReferenceIdeal (hRecurrenceGateIdeal := hRecurrenceGateIdeal) (hRecurrenceGateReferenceIdeal := hRecurrenceGateReferenceIdeal)
    ∧ preserves_DeltaOutput_DeltaOutputIdeal
    ∧ algebraic_DeltaOutputIdeal_DeltaOutputReferenceIdeal (hDeltaOutputIdeal := hDeltaOutputIdeal) (hDeltaOutputReferenceIdeal := hDeltaOutputReferenceIdeal)
    ∧ preserves_NormGradient_NormGradientIdeal
    ∧ algebraic_NormGradientIdeal_NormGradientReferenceIdeal (hNormGradientIdeal := hNormGradientIdeal) (hNormGradientReferenceIdeal := hNormGradientReferenceIdeal)
    ∧ preserves_MemoryNorm_MemoryNormIdeal
    ∧ algebraic_MemoryNormIdeal_MemoryNormReferenceIdeal (hMemoryNormIdeal := hMemoryNormIdeal) (hMemoryNormReferenceIdeal := hMemoryNormReferenceIdeal)
    ∧ preserves_MergeForward_MergeForwardIdeal
    ∧ algebraic_MergeForwardIdeal_MergeForwardReferenceIdeal (hMergeForwardIdeal := hMergeForwardIdeal) (hMergeForwardReferenceIdeal := hMergeForwardReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_DeltaGates_DeltaGatesIdeal
    ∧ algebraic_DeltaGatesIdeal_DeltaGatesReferenceIdeal (hDeltaGatesIdeal := hDeltaGatesIdeal) (hDeltaGatesReferenceIdeal := hDeltaGatesReferenceIdeal)
    ∧ preserves_DeltaKeys_DeltaKeysIdeal
    ∧ algebraic_DeltaKeysIdeal_DeltaKeysReferenceIdeal (hDeltaKeysIdeal := hDeltaKeysIdeal) (hDeltaKeysReferenceIdeal := hDeltaKeysReferenceIdeal)
    ∧ preserves_DeltaValues_DeltaValuesIdeal
    ∧ algebraic_DeltaValuesIdeal_DeltaValuesReferenceIdeal (hDeltaValuesIdeal := hDeltaValuesIdeal) (hDeltaValuesReferenceIdeal := hDeltaValuesReferenceIdeal)
    ∧ preserves_Discretise_DiscretiseIdeal
    ∧ algebraic_DiscretiseIdeal_DiscretiseReferenceIdeal (hDiscretiseIdeal := hDiscretiseIdeal) (hDiscretiseReferenceIdeal := hDiscretiseReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamDeltaConv_AdamDeltaConvIdeal
    ∧ algebraic_AdamDeltaConvIdeal_AdamDeltaConvReferenceIdeal (hAdamDeltaConvIdeal := hAdamDeltaConvIdeal) (hAdamDeltaConvReferenceIdeal := hAdamDeltaConvReferenceIdeal)
    ∧ preserves_AdamRecurrenceConv_AdamRecurrenceConvIdeal
    ∧ algebraic_AdamRecurrenceConvIdeal_AdamRecurrenceConvReferenceIdeal (hAdamRecurrenceConvIdeal := hAdamRecurrenceConvIdeal) (hAdamRecurrenceConvReferenceIdeal := hAdamRecurrenceConvReferenceIdeal)
    ∧ preserves_AdamGlu_AdamGluIdeal
    ∧ algebraic_AdamGluIdeal_AdamGluReferenceIdeal (hAdamGluIdeal := hAdamGluIdeal) (hAdamGluReferenceIdeal := hAdamGluReferenceIdeal)
    ∧ preserves_AdamMemory_AdamMemoryIdeal
    ∧ algebraic_AdamMemoryIdeal_AdamMemoryReferenceIdeal (hAdamMemoryIdeal := hAdamMemoryIdeal) (hAdamMemoryReferenceIdeal := hAdamMemoryReferenceIdeal)
    ∧ preserves_AdamGate_AdamGateIdeal
    ∧ algebraic_AdamGateIdeal_AdamGateReferenceIdeal (hAdamGateIdeal := hAdamGateIdeal) (hAdamGateReferenceIdeal := hAdamGateReferenceIdeal)
    ∧ preserves_AdamGateBias_AdamGateBiasIdeal
    ∧ algebraic_AdamGateBiasIdeal_AdamGateBiasReferenceIdeal (hAdamGateBiasIdeal := hAdamGateBiasIdeal) (hAdamGateBiasReferenceIdeal := hAdamGateBiasReferenceIdeal)
    ∧ preserves_AdamBranch_AdamBranchIdeal
    ∧ algebraic_AdamBranchIdeal_AdamBranchReferenceIdeal (hAdamBranchIdeal := hAdamBranchIdeal) (hAdamBranchReferenceIdeal := hAdamBranchReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamRest_AdamRestIdeal
    ∧ algebraic_AdamRestIdeal_AdamRestReferenceIdeal (hAdamRestIdeal := hAdamRestIdeal) (hAdamRestReferenceIdeal := hAdamRestReferenceIdeal)
    ∧ preserves_StateWeight_StateWeightIdeal
    ∧ algebraic_StateWeightIdeal_StateWeightReferenceIdeal (hStateWeightIdeal := hStateWeightIdeal) (hStateWeightReferenceIdeal := hStateWeightReferenceIdeal)
    ∧ preserves_RecurrenceInput_RecurrenceInputIdeal
    ∧ algebraic_RecurrenceInputIdeal_RecurrenceInputReferenceIdeal (hRecurrenceInputIdeal := hRecurrenceInputIdeal) (hRecurrenceInputReferenceIdeal := hRecurrenceInputReferenceIdeal)
-- ==== Kernel.lean ====
abbrev S4096x256 : Shape := ⟨2, ![4096, 256]⟩
abbrev S4x4096x1024 : Shape := ⟨3, ![4, 4096, 1024]⟩
abbrev S4x256x4096 : Shape := ⟨3, ![4, 256, 4096]⟩
abbrev S4x4096 : Shape := ⟨2, ![4, 4096]⟩
abbrev S4x1024x4096 : Shape := ⟨3, ![4, 1024, 4096]⟩
abbrev S4096x4096 : Shape := ⟨2, ![4096, 4096]⟩
abbrev S4x256x8x512 : Shape := ⟨4, ![4, 256, 8, 512]⟩
abbrev S8x4x256x512 : Shape := ⟨4, ![8, 4, 256, 512]⟩
abbrev S4x1024x8x512 : Shape := ⟨4, ![4, 1024, 8, 512]⟩
abbrev S8x4x1024x512 : Shape := ⟨4, ![8, 4, 1024, 512]⟩
abbrev S1x4096x1024 : Shape := ⟨3, ![1, 4096, 1024]⟩
abbrev S4096x1024 : Shape := ⟨2, ![4096, 1024]⟩
abbrev S4x1x4096 : Shape := ⟨3, ![4, 1, 4096]⟩
abbrev S4x1x8x512 : Shape := ⟨4, ![4, 1, 8, 512]⟩
abbrev S8x4x1x512 : Shape := ⟨4, ![8, 4, 1, 512]⟩
abbrev S4x4096x4096 : Shape := ⟨3, ![4, 4096, 4096]⟩
abbrev S1024x256 : Shape := ⟨2, ![1024, 256]⟩
abbrev S1024x1024 : Shape := ⟨2, ![1024, 1024]⟩
abbrev S1x4x256x512 : Shape := ⟨4, ![1, 4, 256, 512]⟩
abbrev S1x4x1x512 : Shape := ⟨4, ![1, 4, 1, 512]⟩
abbrev S1x4x1024x512 : Shape := ⟨4, ![1, 4, 1024, 512]⟩
abbrev S1024x512 : Shape := ⟨2, ![1024, 512]⟩
abbrev S4x1024x512 : Shape := ⟨3, ![4, 1024, 512]⟩
abbrev S4x1x512 : Shape := ⟨3, ![4, 1, 512]⟩
abbrev S1x1x256x512 : Shape := ⟨4, ![1, 1, 256, 512]⟩
abbrev S256x512 : Shape := ⟨2, ![256, 512]⟩
abbrev S1x1x1x512 : Shape := ⟨4, ![1, 1, 1, 512]⟩
abbrev S1x512 : Shape := ⟨2, ![1, 512]⟩
abbrev S1x1x1024x512 : Shape := ⟨4, ![1, 1, 1024, 512]⟩
abbrev S1x1024x512 : Shape := ⟨3, ![1, 1024, 512]⟩
abbrev S512 : Shape := ⟨1, ![512]⟩

abbrev nBuf : Space → Nat
  | .hbm => 26
  | .vmem => 24
  | .smem => 0
  | _ => 0

abbrev bufTy : (tb : Table) → Fin (tcTables nBuf tb) → BufTy
  | .hbm, ⟨0, _⟩ => ⟨S4096x256, .f32⟩
  | .hbm, ⟨1, _⟩ => ⟨S4x4096x1024, .bf16⟩
  | .hbm, ⟨2, _⟩ => ⟨S4x256x4096, .f32⟩
  | .hbm, ⟨3, _⟩ => ⟨S4x4096, .f32⟩
  | .hbm, ⟨4, _⟩ => ⟨S4x1024x4096, .f32⟩
  | .hbm, ⟨5, _⟩ => ⟨S4096x4096, .bf16⟩
  | .hbm, ⟨6, _⟩ => ⟨S4x256x4096, .bf16⟩
  | .hbm, ⟨7, _⟩ => ⟨S4x256x8x512, .bf16⟩
  | .hbm, ⟨8, _⟩ => ⟨S8x4x256x512, .bf16⟩
  | .hbm, ⟨9, _⟩ => ⟨S4x1024x4096, .bf16⟩
  | .hbm, ⟨10, _⟩ => ⟨S4x1024x8x512, .bf16⟩
  | .hbm, ⟨11, _⟩ => ⟨S8x4x1024x512, .bf16⟩
  | .hbm, ⟨12, _⟩ => ⟨S1x4096x1024, .bf16⟩
  | .hbm, ⟨13, _⟩ => ⟨S4096x1024, .bf16⟩
  | .hbm, ⟨14, _⟩ => ⟨S1x4096x1024, .bf16⟩
  | .hbm, ⟨15, _⟩ => ⟨S4096x1024, .bf16⟩
  | .hbm, ⟨16, _⟩ => ⟨S1x4096x1024, .bf16⟩
  | .hbm, ⟨17, _⟩ => ⟨S4096x1024, .bf16⟩
  | .hbm, ⟨18, _⟩ => ⟨S1x4096x1024, .bf16⟩
  | .hbm, ⟨19, _⟩ => ⟨S4096x1024, .bf16⟩
  | .hbm, ⟨20, _⟩ => ⟨S4x1x4096, .f32⟩
  | .hbm, ⟨21, _⟩ => ⟨S4x1x8x512, .f32⟩
  | .hbm, ⟨22, _⟩ => ⟨S8x4x1x512, .f32⟩
  | .hbm, ⟨23, _⟩ => ⟨S4x4096x4096, .bf16⟩
  | .hbm, ⟨24, _⟩ => ⟨S4x4096x4096, .bf16⟩
  | .hbm, ⟨25, _⟩ => ⟨S8x4x1x512, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x4x256x512, .bf16⟩
  | .local _ .vmem, ⟨11, _⟩ => ⟨S1x4x256x512, .bf16⟩
  | .local _ .vmem, ⟨12, _⟩ => ⟨S1x4x1x512, .f32⟩
  | .local _ .vmem, ⟨13, _⟩ => ⟨S1x4x1x512, .f32⟩
  | .local _ .vmem, ⟨14, _⟩ => ⟨S1x4x1024x512, .bf16⟩
  | .local _ .vmem, ⟨15, _⟩ => ⟨S1x4x1024x512, .bf16⟩
  | .local _ .vmem, ⟨16, _⟩ => ⟨S1024x512, .bf16⟩
  | .local _ .vmem, ⟨17, _⟩ => ⟨S1024x512, .bf16⟩
  | .local _ .vmem, ⟨18, _⟩ => ⟨S4x1024x512, .bf16⟩
  | .local _ .vmem, ⟨19, _⟩ => ⟨S4x1024x512, .bf16⟩
  | .local _ .vmem, ⟨20, _⟩ => ⟨S4x1024x512, .bf16⟩
  | .local _ .vmem, ⟨21, _⟩ => ⟨S4x1024x512, .bf16⟩
  | .local _ .vmem, ⟨22, _⟩ => ⟨S1x4x1x512, .f32⟩
  | .local _ .vmem, ⟨23, _⟩ => ⟨S1x4x1x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4096x256 : Shape := ⟨2, ![4096, 256]⟩
abbrev S4x4096x1024 : Shape := ⟨3, ![4, 4096, 1024]⟩
abbrev S4x256x4096 : Shape := ⟨3, ![4, 256, 4096]⟩
abbrev S4x4096 : Shape := ⟨2, ![4, 4096]⟩
abbrev S4x1024x4096 : Shape := ⟨3, ![4, 1024, 4096]⟩
abbrev S4096x4096 : Shape := ⟨2, ![4096, 4096]⟩
abbrev S4x4096x4096 : Shape := ⟨3, ![4, 4096, 4096]⟩
abbrev S4x1x4096 : Shape := ⟨3, ![4, 1, 4096]⟩
abbrev S_ : Shape := ⟨0, ![]⟩
abbrev S4x8x1x512 : Shape := ⟨4, ![4, 8, 1, 512]⟩
abbrev S8x4x1x512 : Shape := ⟨4, ![8, 4, 1, 512]⟩

abbrev nBuf : Space → Nat
  | .hbm => 42
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4x4096x1024, .bf16⟩
  | .hbm, ⟨2, _⟩ => ⟨S4x256x4096, .f32⟩
  | .hbm, ⟨3, _⟩ => ⟨S4x4096, .f32⟩
  | .hbm, ⟨4, _⟩ => ⟨S4x1024x4096, .f32⟩
  | .hbm, ⟨5, _⟩ => ⟨S4096x4096, .bf16⟩
  | .hbm, ⟨6, _⟩ => ⟨S4x4096x4096, .f32⟩
  | .hbm, ⟨7, _⟩ => ⟨S4x4096x4096, .f32⟩
  | .hbm, ⟨8, _⟩ => ⟨S4x4096x1024, .f32⟩
  | .hbm, ⟨9, _⟩ => ⟨S4x4096x4096, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096, .f32⟩
  | .hbm, ⟨35, _⟩ => ⟨S4x1x4096, .f32⟩
  | .hbm, ⟨36, _⟩ => ⟨S_, .f32⟩
  | .hbm, ⟨37, _⟩ => ⟨S4x4096, .f32⟩
  | .hbm, ⟨38, _⟩ => ⟨S4x8x1x512, .f32⟩
  | .hbm, ⟨39, _⟩ => ⟨S8x4x1x512, .f32⟩
  | .hbm, ⟨40, _⟩ => ⟨S4x4096x4096, .bf16⟩
  | .hbm, ⟨41, _⟩ => ⟨S4x4096x4096, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== BranchOut.lean ====
abbrev S4x4096x4096 : Shape := ⟨3, ![4, 4096, 4096]⟩
abbrev S4x1024x4096 : Shape := ⟨3, ![4, 1024, 4096]⟩
abbrev S4x1024x8x512 : Shape := ⟨4, ![4, 1024, 8, 512]⟩
abbrev S8x4x1024x512 : Shape := ⟨4, ![8, 4, 1024, 512]⟩
abbrev S4x4096x1024 : Shape := ⟨3, ![4, 4096, 1024]⟩
abbrev S1x1024x512 : Shape := ⟨3, ![1, 1024, 512]⟩
abbrev S1x1x1024x512 : Shape := ⟨4, ![1, 1, 1024, 512]⟩
abbrev S1x1024x1024 : Shape := ⟨3, ![1, 1024, 1024]⟩
abbrev S1024x1024 : Shape := ⟨2, ![1024, 1024]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4x4096x4096, .bf16⟩
  | .hbm, ⟨1, _⟩ => ⟨S4x1024x4096, .f32⟩
  | .hbm, ⟨2, _⟩ => ⟨S4x1024x4096, .bf16⟩
  | .hbm, ⟨3, _⟩ => ⟨S4x1024x8x512, .bf16⟩
  | .hbm, ⟨4, _⟩ => ⟨S8x4x1024x512, .bf16⟩
  | .hbm, ⟨5, _⟩ => ⟨S4x4096x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 8], ![false, false, false, false]⟩

def k0_cond2 (i : grid0.Coords) : BitVec 1 :=
  let arg3 : BitVec 32 := BitVec.ofNat 32 (i 3).val
  let c7_i32 : BitVec 32 := 7#32
  let v13 : BitVec 1 := Scalar.cmpi .eq arg3 c7_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== BranchOutReferenceIdeal.lean ====
abbrev S4x4096x4096 : Shape := ⟨3, ![4, 4096, 4096]⟩
abbrev S4x1024x4096 : Shape := ⟨3, ![4, 1024, 4096]⟩
abbrev S_ : Shape := ⟨0, ![]⟩
abbrev S4x4096x1024 : Shape := ⟨3, ![4, 4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x1024x4096, .f32⟩
  | .hbm, ⟨2, _⟩ => ⟨S_, .f32⟩
  | .hbm, ⟨3, _⟩ => ⟨S4x4096x1024, .f32⟩
  | .hbm, ⟨4, _⟩ => ⟨S4x4096x4096, .f32⟩
  | .hbm, ⟨5, _⟩ => ⟨S4x4096x4096, .f32⟩
  | .hbm, ⟨6, _⟩ => ⟨S4x4096x1024, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BranchWeight.lean ====
abbrev S4x4096x1024 : Shape := ⟨3, ![4, 4096, 1024]⟩
abbrev S4x4096x4096 : Shape := ⟨3, ![4, 4096, 4096]⟩
abbrev S8x4x1024x512 : Shape := ⟨4, ![8, 4, 1024, 512]⟩
abbrev S1x1024x1024 : Shape := ⟨3, ![1, 1024, 1024]⟩
abbrev S1x1024x512 : Shape := ⟨3, ![1, 1024, 512]⟩
abbrev S1x1x1024x512 : Shape := ⟨4, ![1, 1, 1024, 512]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x4096, .bf16⟩
  | .hbm, ⟨2, _⟩ => ⟨S8x4x1024x512, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1024x512, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== BranchWeightReferenceIdeal.lean ====
abbrev S4x4096x1024 : Shape := ⟨3, ![4, 4096, 1024]⟩
abbrev S4x4096x4096 : Shape := ⟨3, ![4, 4096, 4096]⟩
abbrev S_ : Shape := ⟨0, ![]⟩
abbrev S4x1024x4096 : Shape := ⟨3, ![4, 1024, 4096]⟩
abbrev S4x1024x8x512 : Shape := ⟨4, ![4, 1024, 8, 512]⟩
abbrev S8x4x1024x512 : Shape := ⟨4, ![8, 4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x4096, .bf16⟩
  | .hbm, ⟨2, _⟩ => ⟨S4x4096x1024, .f32⟩
  | .hbm, ⟨3, _⟩ => ⟨S_, .f32⟩
  | .hbm, ⟨4, _⟩ => ⟨S4x1024x4096, .f32⟩
  | .hbm, ⟨5, _⟩ => ⟨S4x4096x4096, .f32⟩
  | .hbm, ⟨6, _⟩ => ⟨S4x4096x4096, .f32⟩
  | .hbm, ⟨7, _⟩ => ⟨S4x4096x1024, .f32⟩
  | .hbm, ⟨8, _⟩ => ⟨S4x1024x4096, .f32⟩
  | .hbm, ⟨9, _⟩ => ⟨S4x1024x8x512, .f32⟩
  | .hbm, ⟨10, _⟩ => ⟨S8x4x1024x512, .f32⟩
  | .hbm, ⟨11, _⟩ => ⟨S8x4x1024x512, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateWeight.lean ====
abbrev S4096x256 : Shape := ⟨2, ![4096, 256]⟩
abbrev S4x4096x4096 : Shape := ⟨3, ![4, 4096, 4096]⟩
abbrev S8x4x256x512 : Shape := ⟨4, ![8, 4, 256, 512]⟩
abbrev S1024x256 : Shape := ⟨2, ![1024, 256]⟩
abbrev S1x1024x512 : Shape := ⟨3, ![1, 1024, 512]⟩
abbrev S1x1x256x512 : Shape := ⟨4, ![1, 1, 256, 512]⟩
abbrev S256x512 : Shape := ⟨2, ![256, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4x4096x4096, .bf16⟩
  | .hbm, ⟨2, _⟩ => ⟨S8x4x256x512, .bf16⟩
  | .local _ .vmem, ⟨0, _⟩ => ⟨S1024x256, .f32⟩
  | .local _ .vmem, ⟨1, _⟩ => ⟨S1024x256, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1x256x512, .bf16⟩
  | .local _ .vmem, ⟨5, _⟩ => ⟨S1x1x256x512, .bf16⟩
  | .local _ .vmem, ⟨6, _⟩ => ⟨S256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWeightReferenceIdeal.lean ====
abbrev S4096x256 : Shape := ⟨2, ![4096, 256]⟩
abbrev S4x4096x4096 : Shape := ⟨3, ![4, 4096, 4096]⟩
abbrev S_ : Shape := ⟨0, ![]⟩
abbrev S4x256x4096 : Shape := ⟨3, ![4, 256, 4096]⟩
abbrev S4x4096x256 : Shape := ⟨3, ![4, 4096, 256]⟩
abbrev S4x256x8x512 : Shape := ⟨4, ![4, 256, 8, 512]⟩
abbrev S8x4x256x512 : Shape := ⟨4, ![8, 4, 256, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4x4096x4096, .bf16⟩
  | .hbm, ⟨2, _⟩ => ⟨S_, .f32⟩
  | .hbm, ⟨3, _⟩ => ⟨S4x256x4096, .f32⟩
  | .hbm, ⟨4, _⟩ => ⟨S4x4096x4096, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S4x4096x256, .f32⟩
  | .hbm, ⟨9, _⟩ => ⟨S4x256x4096, .f32⟩
  | .hbm, ⟨10, _⟩ => ⟨S4x256x8x512, .f32⟩
  | .hbm, ⟨11, _⟩ => ⟨S8x4x256x512, .f32⟩
  | .hbm, ⟨12, _⟩ => ⟨S8x4x256x512, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GateInput.lean ====
abbrev S4x4096x4096 : Shape := ⟨3, ![4, 4096, 4096]⟩
abbrev S4x256x4096 : Shape := ⟨3, ![4, 256, 4096]⟩
abbrev S4x256x8x512 : Shape := ⟨4, ![4, 256, 8, 512]⟩
abbrev S8x4x256x512 : Shape := ⟨4, ![8, 4, 256, 512]⟩
abbrev S4096x256 : Shape := ⟨2, ![4096, 256]⟩
abbrev S1x1024x512 : Shape := ⟨3, ![1, 1024, 512]⟩
abbrev S1x1x256x512 : Shape := ⟨4, ![1, 1, 256, 512]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 6
  | .vmem => 7
  | .smem => 0
  | _ => 0

abbrev bufTy : (tb : Table) → Fin (tcTables nBuf tb) → BufTy
  | .hbm, ⟨0, _⟩ => ⟨S4x4096x4096, .bf16⟩
  | .hbm, ⟨1, _⟩ => ⟨S4x256x4096, .f32⟩
  | .hbm, ⟨2, _⟩ => ⟨S4x256x4096, .bf16⟩
  | .hbm, ⟨3, _⟩ => ⟨S4x256x8x512, .bf16⟩
  | .hbm, ⟨4, _⟩ => ⟨S8x4x256x512, .bf16⟩
  | .hbm, ⟨5, _⟩ => ⟨S4096x256, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1x256x512, .bf16⟩
  | .local _ .vmem, ⟨3, _⟩ => ⟨S1x1x256x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg1 c8_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateInputReferenceIdeal.lean ====
abbrev S4x4096x4096 : Shape := ⟨3, ![4, 4096, 4096]⟩
abbrev S4x256x4096 : Shape := ⟨3, ![4, 256, 4096]⟩
abbrev S_ : Shape := ⟨0, ![]⟩
abbrev S4096x256 : Shape := ⟨2, ![4096, 256]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x256x4096, .f32⟩
  | .hbm, ⟨2, _⟩ => ⟨S_, .f32⟩
  | .hbm, ⟨3, _⟩ => ⟨S4096x256, .f32⟩
  | .hbm, ⟨4, _⟩ => ⟨S4x4096x4096, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S4096x256, .f32⟩
  | .hbm, ⟨9, _⟩ => ⟨S4096x256, .bf16⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutWeight.lean ====
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightReferenceIdeal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MergedGradient.lean ====
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergedGradientReferenceIdeal.lean ====
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProjection.lean ====
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjectionReferenceIdeal.lean ====
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InProjection.lean ====
abbrev S4096x4096 : Shape := ⟨2, ![4096, 4096]⟩
abbrev S4096x10512 : Shape := ⟨2, ![4096, 10512]⟩
abbrev S4096x8x1314 : Shape := ⟨3, ![4096, 8, 1314]⟩
abbrev S8x4096x1314 : Shape := ⟨3, ![8, 4096, 1314]⟩
abbrev S1024x2048 : Shape := ⟨2, ![1024, 2048]⟩
abbrev S1x2048x1314 : Shape := ⟨3, ![1, 2048, 1314]⟩
abbrev S1x1024x1314 : Shape := ⟨3, ![1, 1024, 1314]⟩
abbrev S1024x1314 : Shape := ⟨2, ![1024, 1314]⟩
abbrev S2048x1314 : Shape := ⟨2, ![2048, 1314]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x10512, .f32⟩
  | .hbm, ⟨2, _⟩ => ⟨S4096x10512, .bf16⟩
  | .hbm, ⟨3, _⟩ => ⟨S4096x8x1314, .bf16⟩
  | .hbm, ⟨4, _⟩ => ⟨S8x4096x1314, .bf16⟩
  | .hbm, ⟨5, _⟩ => ⟨S8x4096x1314, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1314, .bf16⟩
  | .local _ .vmem, ⟨3, _⟩ => ⟨S1x2048x1314, .bf16⟩
  | .local _ .vmem, ⟨4, _⟩ => ⟨S1x1024x1314, .f32⟩
  | .local _ .vmem, ⟨5, _⟩ => ⟨S1x1024x1314, .f32⟩
  | .local _ .vmem, ⟨6, _⟩ => ⟨S1024x1314, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1314 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1314 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjectionReferenceIdeal.lean ====
abbrev S4096x4096 : Shape := ⟨2, ![4096, 4096]⟩
abbrev S4096x10512 : Shape := ⟨2, ![4096, 10512]⟩
abbrev S4096x8x1314 : Shape := ⟨3, ![4096, 8, 1314]⟩
abbrev S8x4096x1314 : Shape := ⟨3, ![8, 4096, 1314]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x10512, .f32⟩
  | .hbm, ⟨2, _⟩ => ⟨S4096x4096, .f32⟩
  | .hbm, ⟨3, _⟩ => ⟨S4096x10512, .f32⟩
  | .hbm, ⟨4, _⟩ => ⟨S4096x8x1314, .f32⟩
  | .hbm, ⟨5, _⟩ => ⟨S8x4096x1314, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InWeight.lean ====
abbrev S4096x4096 : Shape := ⟨2, ![4096, 4096]⟩
abbrev S4096x2048 : Shape := ⟨2, ![4096, 2048]⟩
abbrev S4096x1024 : Shape := ⟨2, ![4096, 1024]⟩
abbrev S8x4096 : Shape := ⟨2, ![8, 4096]⟩
abbrev S4096x256 : Shape := ⟨2, ![4096, 256]⟩
abbrev S4096x8 : Shape := ⟨2, ![4096, 8]⟩
abbrev S4096x1314 : Shape := ⟨2, ![4096, 1314]⟩
abbrev S4096x734 : Shape := ⟨2, ![4096, 734]⟩
abbrev S4096x580 : Shape := ⟨2, ![4096, 580]⟩
abbrev S4096x444 : Shape := ⟨2, ![4096, 444]⟩
abbrev S4096x870 : Shape := ⟨2, ![4096, 870]⟩
abbrev S4096x154 : Shape := ⟨2, ![4096, 154]⟩
abbrev S4096x120 : Shape := ⟨2, ![4096, 120]⟩
abbrev S4096x904 : Shape := ⟨2, ![4096, 904]⟩
abbrev S4096x410 : Shape := ⟨2, ![4096, 410]⟩
abbrev S4096x614 : Shape := ⟨2, ![4096, 614]⟩
abbrev S4096x700 : Shape := ⟨2, ![4096, 700]⟩
abbrev S4096x324 : Shape := ⟨2, ![4096, 324]⟩
abbrev S4096x990 : Shape := ⟨2, ![4096, 990]⟩
abbrev S4096x34 : Shape := ⟨2, ![4096, 34]⟩
abbrev S1x4096x1314 : Shape := ⟨3, ![1, 4096, 1314]⟩
abbrev S8x4096x1314 : Shape := ⟨3, ![8, 4096, 1314]⟩
abbrev S2048x1024 : Shape := ⟨2, ![2048, 1024]⟩
abbrev S1x2048x1314 : Shape := ⟨3, ![1, 2048, 1314]⟩
abbrev S1x1024x1314 : Shape := ⟨3, ![1, 1024, 1314]⟩
abbrev S1024x1314 : Shape := ⟨2, ![1024, 1314]⟩
abbrev S2048x1314 : Shape := ⟨2, ![2048, 1314]⟩

abbrev nBuf : Space → Nat
  | .hbm => 48
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x1024, .bf16⟩
  | .hbm, ⟨3, _⟩ => ⟨S4096x1024, .bf16⟩
  | .hbm, ⟨4, _⟩ => ⟨S8x4096, .f32⟩
  | .hbm, ⟨5, _⟩ => ⟨S8x4096, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x256, .bf16⟩
  | .hbm, ⟨13, _⟩ => ⟨S4096x8, .f32⟩
  | .hbm, ⟨14, _⟩ => ⟨S4096x8, .bf16⟩
  | .hbm, ⟨15, _⟩ => ⟨S4096x8, .f32⟩
  | .hbm, ⟨16, _⟩ => ⟨S4096x8, .bf16⟩
  | .hbm, ⟨17, _⟩ => ⟨S4096x1314, .bf16⟩
  | .hbm, ⟨18, _⟩ => ⟨S4096x734, .bf16⟩
  | .hbm, ⟨19, _⟩ => ⟨S4096x580, .bf16⟩
  | .hbm, ⟨20, _⟩ => ⟨S4096x1314, .bf16⟩
  | .hbm, ⟨21, _⟩ => ⟨S4096x444, .bf16⟩
  | .hbm, ⟨22, _⟩ => ⟨S4096x870, .bf16⟩
  | .hbm, ⟨23, _⟩ => ⟨S4096x1314, .bf16⟩
  | .hbm, ⟨24, _⟩ => ⟨S4096x154, .bf16⟩
  | .hbm, ⟨25, _⟩ => ⟨S4096x120, .bf16⟩
  | .hbm, ⟨26, _⟩ => ⟨S4096x1314, .bf16⟩
  | .hbm, ⟨27, _⟩ => ⟨S4096x904, .bf16⟩
  | .hbm, ⟨28, _⟩ => ⟨S4096x410, .bf16⟩
  | .hbm, ⟨29, _⟩ => ⟨S4096x1314, .bf16⟩
  | .hbm, ⟨30, _⟩ => ⟨S4096x614, .bf16⟩
  | .hbm, ⟨31, _⟩ => ⟨S4096x700, .bf16⟩
  | .hbm, ⟨32, _⟩ => ⟨S4096x1314, .bf16⟩
  | .hbm, ⟨33, _⟩ => ⟨S4096x324, .bf16⟩
  | .hbm, ⟨34, _⟩ => ⟨S4096x990, .bf16⟩
  | .hbm, ⟨35, _⟩ => ⟨S4096x1314, .bf16⟩
  | .hbm, ⟨36, _⟩ => ⟨S4096x34, .bf16⟩
  | .hbm, ⟨37, _⟩ => ⟨S4096x1314, .bf16⟩
  | .hbm, ⟨38, _⟩ => ⟨S1x4096x1314, .bf16⟩
  | .hbm, ⟨39, _⟩ => ⟨S1x4096x1314, .bf16⟩
  | .hbm, ⟨40, _⟩ => ⟨S1x4096x1314, .bf16⟩
  | .hbm, ⟨41, _⟩ => ⟨S1x4096x1314, .bf16⟩
  | .hbm, ⟨42, _⟩ => ⟨S1x4096x1314, .bf16⟩
  | .hbm, ⟨43, _⟩ => ⟨S1x4096x1314, .bf16⟩
  | .hbm, ⟨44, _⟩ => ⟨S1x4096x1314, .bf16⟩
  | .hbm, ⟨45, _⟩ => ⟨S1x4096x1314, .bf16⟩
  | .hbm, ⟨46, _⟩ => ⟨S8x4096x1314, .bf16⟩
  | .hbm, ⟨47, _⟩ => ⟨S8x4096x1314, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1314, .bf16⟩
  | .local _ .vmem, ⟨3, _⟩ => ⟨S1x2048x1314, .bf16⟩
  | .local _ .vmem, ⟨4, _⟩ => ⟨S1x1024x1314, .bf16⟩
  | .local _ .vmem, ⟨5, _⟩ => ⟨S1x1024x1314, .bf16⟩
  | .local _ .vmem, ⟨6, _⟩ => ⟨S1024x1314, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1314 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1314 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightReferenceIdeal.lean ====
abbrev S4096x4096 : Shape := ⟨2, ![4096, 4096]⟩
abbrev S4096x2048 : Shape := ⟨2, ![4096, 2048]⟩
abbrev S4096x1024 : Shape := ⟨2, ![4096, 1024]⟩
abbrev S8x4096 : Shape := ⟨2, ![8, 4096]⟩
abbrev S4096x256 : Shape := ⟨2, ![4096, 256]⟩
abbrev S4096x8 : Shape := ⟨2, ![4096, 8]⟩
abbrev S4096x10512 : Shape := ⟨2, ![4096, 10512]⟩
abbrev S_ : Shape := ⟨0, ![]⟩
abbrev S10512x4096 : Shape := ⟨2, ![10512, 4096]⟩
abbrev S4096x8x1314 : Shape := ⟨3, ![4096, 8, 1314]⟩
abbrev S8x4096x1314 : Shape := ⟨3, ![8, 4096, 1314]⟩

abbrev nBuf : Space → Nat
  | .hbm => 35
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x1024, .bf16⟩
  | .hbm, ⟨3, _⟩ => ⟨S4096x1024, .bf16⟩
  | .hbm, ⟨4, _⟩ => ⟨S8x4096, .f32⟩
  | .hbm, ⟨5, _⟩ => ⟨S8x4096, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x256, .bf16⟩
  | .hbm, ⟨13, _⟩ => ⟨S4096x8, .f32⟩
  | .hbm, ⟨14, _⟩ => ⟨S4096x8, .f32⟩
  | .hbm, ⟨15, _⟩ => ⟨S4096x2048, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x256, .f32⟩
  | .hbm, ⟨25, _⟩ => ⟨S4096x10512, .f32⟩
  | .hbm, ⟨26, _⟩ => ⟨S_, .f32⟩
  | .hbm, ⟨27, _⟩ => ⟨S4096x10512, .f32⟩
  | .hbm, ⟨28, _⟩ => ⟨S4096x4096, .f32⟩
  | .hbm, ⟨29, _⟩ => ⟨S4096x10512, .f32⟩
  | .hbm, ⟨30, _⟩ => ⟨S10512x4096, .f32⟩
  | .hbm, ⟨31, _⟩ => ⟨S4096x10512, .f32⟩
  | .hbm, ⟨32, _⟩ => ⟨S4096x8x1314, .f32⟩
  | .hbm, ⟨33, _⟩ => ⟨S8x4096x1314, .f32⟩
  | .hbm, ⟨34, _⟩ => ⟨S8x4096x1314, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== HiddenGradient.lean ====
abbrev S4096x10512 : Shape := ⟨2, ![4096, 10512]⟩
abbrev S4096x2048 : Shape := ⟨2, ![4096, 2048]⟩
abbrev S4096x1024 : Shape := ⟨2, ![4096, 1024]⟩
abbrev S8x4096 : Shape := ⟨2, ![8, 4096]⟩
abbrev S4096x256 : Shape := ⟨2, ![4096, 256]⟩
abbrev S4096x8 : Shape := ⟨2, ![4096, 8]⟩
abbrev S4096x1314 : Shape := ⟨2, ![4096, 1314]⟩
abbrev S4096x734 : Shape := ⟨2, ![4096, 734]⟩
abbrev S4096x580 : Shape := ⟨2, ![4096, 580]⟩
abbrev S4096x444 : Shape := ⟨2, ![4096, 444]⟩
abbrev S4096x870 : Shape := ⟨2, ![4096, 870]⟩
abbrev S4096x154 : Shape := ⟨2, ![4096, 154]⟩
abbrev S4096x120 : Shape := ⟨2, ![4096, 120]⟩
abbrev S4096x904 : Shape := ⟨2, ![4096, 904]⟩
abbrev S4096x410 : Shape := ⟨2, ![4096, 410]⟩
abbrev S4096x614 : Shape := ⟨2, ![4096, 614]⟩
abbrev S4096x700 : Shape := ⟨2, ![4096, 700]⟩
abbrev S4096x324 : Shape := ⟨2, ![4096, 324]⟩
abbrev S4096x990 : Shape := ⟨2, ![4096, 990]⟩
abbrev S4096x34 : Shape := ⟨2, ![4096, 34]⟩
abbrev S1x4096x1314 : Shape := ⟨3, ![1, 4096, 1314]⟩
abbrev S8x4096x1314 : Shape := ⟨3, ![8, 4096, 1314]⟩
abbrev S4096x8x1314 : Shape := ⟨3, ![4096, 8, 1314]⟩
abbrev S4096x4096 : Shape := ⟨2, ![4096, 4096]⟩
abbrev S1x1024x1314 : Shape := ⟨3, ![1, 1024, 1314]⟩
abbrev S1024x1024 : Shape := ⟨2, ![1024, 1024]⟩
abbrev S1024x1314 : Shape := ⟨2, ![1024, 1314]⟩

abbrev nBuf : Space → Nat
  | .hbm => 51
  | .vmem => 7
  | .smem => 0
  | _ => 0

abbrev bufTy : (tb : Table) → Fin (tcTables nBuf tb) → BufTy
  | .hbm, ⟨0, _⟩ => ⟨S4096x10512, .f32⟩
  | .hbm, ⟨1, _⟩ => ⟨S4096x2048, .bf16⟩
  | .hbm, ⟨2, _⟩ => ⟨S4096x1024, .bf16⟩
  | .hbm, ⟨3, _⟩ => ⟨S4096x1024, .bf16⟩
  | .hbm, ⟨4, _⟩ => ⟨S8x4096, .f32⟩
  | .hbm, ⟨5, _⟩ => ⟨S8x4096, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x256, .bf16⟩
  | .hbm, ⟨13, _⟩ => ⟨S4096x8, .f32⟩
  | .hbm, ⟨14, _⟩ => ⟨S4096x8, .bf16⟩
  | .hbm, ⟨15, _⟩ => ⟨S4096x8, .f32⟩
  | .hbm, ⟨16, _⟩ => ⟨S4096x8, .bf16⟩
  | .hbm, ⟨17, _⟩ => ⟨S4096x1314, .bf16⟩
  | .hbm, ⟨18, _⟩ => ⟨S4096x734, .bf16⟩
  | .hbm, ⟨19, _⟩ => ⟨S4096x580, .bf16⟩
  | .hbm, ⟨20, _⟩ => ⟨S4096x1314, .bf16⟩
  | .hbm, ⟨21, _⟩ => ⟨S4096x444, .bf16⟩
  | .hbm, ⟨22, _⟩ => ⟨S4096x870, .bf16⟩
  | .hbm, ⟨23, _⟩ => ⟨S4096x1314, .bf16⟩
  | .hbm, ⟨24, _⟩ => ⟨S4096x154, .bf16⟩
  | .hbm, ⟨25, _⟩ => ⟨S4096x120, .bf16⟩
  | .hbm, ⟨26, _⟩ => ⟨S4096x1314, .bf16⟩
  | .hbm, ⟨27, _⟩ => ⟨S4096x904, .bf16⟩
  | .hbm, ⟨28, _⟩ => ⟨S4096x410, .bf16⟩
  | .hbm, ⟨29, _⟩ => ⟨S4096x1314, .bf16⟩
  | .hbm, ⟨30, _⟩ => ⟨S4096x614, .bf16⟩
  | .hbm, ⟨31, _⟩ => ⟨S4096x700, .bf16⟩
  | .hbm, ⟨32, _⟩ => ⟨S4096x1314, .bf16⟩
  | .hbm, ⟨33, _⟩ => ⟨S4096x324, .bf16⟩
  | .hbm, ⟨34, _⟩ => ⟨S4096x990, .bf16⟩
  | .hbm, ⟨35, _⟩ => ⟨S4096x1314, .bf16⟩
  | .hbm, ⟨36, _⟩ => ⟨S4096x34, .bf16⟩
  | .hbm, ⟨37, _⟩ => ⟨S4096x1314, .bf16⟩
  | .hbm, ⟨38, _⟩ => ⟨S1x4096x1314, .bf16⟩
  | .hbm, ⟨39, _⟩ => ⟨S1x4096x1314, .bf16⟩
  | .hbm, ⟨40, _⟩ => ⟨S1x4096x1314, .bf16⟩
  | .hbm, ⟨41, _⟩ => ⟨S1x4096x1314, .bf16⟩
  | .hbm, ⟨42, _⟩ => ⟨S1x4096x1314, .bf16⟩
  | .hbm, ⟨43, _⟩ => ⟨S1x4096x1314, .bf16⟩
  | .hbm, ⟨44, _⟩ => ⟨S1x4096x1314, .bf16⟩
  | .hbm, ⟨45, _⟩ => ⟨S1x4096x1314, .bf16⟩
  | .hbm, ⟨46, _⟩ => ⟨S8x4096x1314, .bf16⟩
  | .hbm, ⟨47, _⟩ => ⟨S4096x10512, .bf16⟩
  | .hbm, ⟨48, _⟩ => ⟨S4096x8x1314, .bf16⟩
  | .hbm, ⟨49, _⟩ => ⟨S8x4096x1314, .bf16⟩
  | .hbm, ⟨50, _⟩ => ⟨S4096x4096, .f32⟩
  | .local _ .vmem, ⟨0, _⟩ => ⟨S1x1024x1314, .bf16⟩
  | .local _ .vmem, ⟨1, _⟩ => ⟨S1x1024x1314, .bf16⟩
  | .local _ .vmem, ⟨2, _⟩ => ⟨S1x1024x1314, .bf16⟩
  | .local _ .vmem, ⟨3, _⟩ => ⟨S1x1024x1314, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x10512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1314 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1314 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HiddenGradientReferenceIdeal.lean ====
abbrev S4096x10512 : Shape := ⟨2, ![4096, 10512]⟩
abbrev S4096x2048 : Shape := ⟨2, ![4096, 2048]⟩
abbrev S4096x1024 : Shape := ⟨2, ![4096, 1024]⟩
abbrev S8x4096 : Shape := ⟨2, ![8, 4096]⟩
abbrev S4096x256 : Shape := ⟨2, ![4096, 256]⟩
abbrev S4096x8 : Shape := ⟨2, ![4096, 8]⟩
abbrev S_ : Shape := ⟨0, ![]⟩
abbrev S4096x4096 : Shape := ⟨2, ![4096, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x10512, .f32⟩
  | .hbm, ⟨1, _⟩ => ⟨S4096x2048, .bf16⟩
  | .hbm, ⟨2, _⟩ => ⟨S4096x1024, .bf16⟩
  | .hbm, ⟨3, _⟩ => ⟨S4096x1024, .bf16⟩
  | .hbm, ⟨4, _⟩ => ⟨S8x4096, .f32⟩
  | .hbm, ⟨5, _⟩ => ⟨S8x4096, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x256, .bf16⟩
  | .hbm, ⟨13, _⟩ => ⟨S4096x8, .f32⟩
  | .hbm, ⟨14, _⟩ => ⟨S4096x8, .f32⟩
  | .hbm, ⟨15, _⟩ => ⟨S4096x2048, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x256, .f32⟩
  | .hbm, ⟨25, _⟩ => ⟨S4096x10512, .f32⟩
  | .hbm, ⟨26, _⟩ => ⟨S_, .f32⟩
  | .hbm, ⟨27, _⟩ => ⟨S4096x4096, .f32⟩
  | .hbm, ⟨28, _⟩ => ⟨S4096x10512, .f32⟩
  | .hbm, ⟨29, _⟩ => ⟨S4096x4096, .f32⟩
  | _, _ => ⟨S4096x10512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== MemoryKeys.lean ====
abbrev S256x4096 : Shape := ⟨2, ![256, 4096]⟩
abbrev S4096x2048 : Shape := ⟨2, ![4096, 2048]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S256x4096, .bf16⟩
  | .hbm, ⟨1, _⟩ => ⟨S4096x2048, .f32⟩
  | .hbm, ⟨2, _⟩ => ⟨S4096x2048, .bf16⟩
  | .hbm, ⟨3, _⟩ => ⟨S256x2048, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemoryKeysReferenceIdeal.lean ====
abbrev S256x4096 : Shape := ⟨2, ![256, 4096]⟩
abbrev S4096x2048 : Shape := ⟨2, ![4096, 2048]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S4096x2048, .f32⟩
  | .hbm, ⟨2, _⟩ => ⟨S256x4096, .f32⟩
  | .hbm, ⟨3, _⟩ => ⟨S256x2048, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemoryWeight.lean ====
abbrev S256x4096 : Shape := ⟨2, ![256, 4096]⟩
abbrev S256x1024 : Shape := ⟨2, ![256, 1024]⟩
abbrev S256x2048 : Shape := ⟨2, ![256, 2048]⟩
abbrev S4096x2048 : Shape := ⟨2, ![4096, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S256x4096, .bf16⟩
  | .hbm, ⟨1, _⟩ => ⟨S256x1024, .f32⟩
  | .hbm, ⟨2, _⟩ => ⟨S256x1024, .f32⟩
  | .hbm, ⟨3, _⟩ => ⟨S256x2048, .f32⟩
  | .hbm, ⟨4, _⟩ => ⟨S256x2048, .bf16⟩
  | .hbm, ⟨5, _⟩ => ⟨S4096x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemoryWeightReferenceIdeal.lean ====
abbrev S256x4096 : Shape := ⟨2, ![256, 4096]⟩
abbrev S256x1024 : Shape := ⟨2, ![256, 1024]⟩
abbrev S_ : Shape := ⟨0, ![]⟩
abbrev S4096x2048 : Shape := ⟨2, ![4096, 2048]⟩
abbrev S256x2048 : Shape := ⟨2, ![256, 2048]⟩
abbrev S2048x4096 : Shape := ⟨2, ![2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S256x1024, .f32⟩
  | .hbm, ⟨2, _⟩ => ⟨S256x1024, .f32⟩
  | .hbm, ⟨3, _⟩ => ⟨S_, .f32⟩
  | .hbm, ⟨4, _⟩ => ⟨S4096x2048, .f32⟩
  | .hbm, ⟨5, _⟩ => ⟨S256x4096, .f32⟩
  | .hbm, ⟨6, _⟩ => ⟨S256x2048, .f32⟩
  | .hbm, ⟨7, _⟩ => ⟨S256x1024, .f32⟩
  | .hbm, ⟨8, _⟩ => ⟨S256x1024, .f32⟩
  | .hbm, ⟨9, _⟩ => ⟨S256x2048, .f32⟩
  | .hbm, ⟨10, _⟩ => ⟨S2048x4096, .f32⟩
  | .hbm, ⟨11, _⟩ => ⟨S4096x2048, .f32⟩
  | .hbm, ⟨12, _⟩ => ⟨S4096x2048, .bf16⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MemoryGradient.lean ====
abbrev S256x1024 : Shape := ⟨2, ![256, 1024]⟩
abbrev S4096x2048 : Shape := ⟨2, ![4096, 2048]⟩
abbrev S256x2048 : Shape := ⟨2, ![256, 2048]⟩
abbrev S256x4096 : Shape := ⟨2, ![256, 4096]⟩
abbrev S1024x2048 : Shape := ⟨2, ![1024, 2048]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4096x2048, .f32⟩
  | .hbm, ⟨3, _⟩ => ⟨S256x2048, .f32⟩
  | .hbm, ⟨4, _⟩ => ⟨S256x2048, .bf16⟩
  | .hbm, ⟨5, _⟩ => ⟨S4096x2048, .bf16⟩
  | .hbm, ⟨6, _⟩ => ⟨S256x4096, .f32⟩
  | .local _ .vmem, ⟨0, _⟩ => ⟨S256x2048, .bf16⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemoryGradientReferenceIdeal.lean ====
abbrev S256x1024 : Shape := ⟨2, ![256, 1024]⟩
abbrev S4096x2048 : Shape := ⟨2, ![4096, 2048]⟩
abbrev S_ : Shape := ⟨0, ![]⟩
abbrev S256x4096 : Shape := ⟨2, ![256, 4096]⟩
abbrev S256x2048 : Shape := ⟨2, ![256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4096x2048, .f32⟩
  | .hbm, ⟨3, _⟩ => ⟨S_, .f32⟩
  | .hbm, ⟨4, _⟩ => ⟨S256x4096, .f32⟩
  | .hbm, ⟨5, _⟩ => ⟨S256x2048, .f32⟩
  | .hbm, ⟨6, _⟩ => ⟨S256x1024, .f32⟩
  | .hbm, ⟨7, _⟩ => ⟨S256x1024, .f32⟩
  | .hbm, ⟨8, _⟩ => ⟨S256x2048, .f32⟩
  | .hbm, ⟨9, _⟩ => ⟨S256x4096, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Glu.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S1024x2048, .bf16⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluReferenceIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S4096x1024, .f32⟩
  | .hbm, ⟨3, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GluWeight.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluWeightReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluInput.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S1024x2048, .bf16⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluInputReferenceIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S4096x2048, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluGate.lean ====
abbrev S4096x2048 : Shape := ⟨2, ![4096, 2048]⟩
abbrev S4096x1024 : Shape := ⟨2, ![4096, 1024]⟩
abbrev S2048 : Shape := ⟨1, ![2048]⟩
abbrev S1x2048 : Shape := ⟨2, ![1, 2048]⟩
abbrev S256x2048 : Shape := ⟨2, ![256, 2048]⟩
abbrev S256x1024 : Shape := ⟨2, ![256, 1024]⟩
abbrev S1x1024 : Shape := ⟨2, ![1, 1024]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S2048, .f32⟩
  | .hbm, ⟨3, _⟩ => ⟨S4096x1024, .f32⟩
  | .hbm, ⟨4, _⟩ => ⟨S1x2048, .f32⟩
  | .hbm, ⟨5, _⟩ => ⟨S4096x2048, .bf16⟩
  | .hbm, ⟨6, _⟩ => ⟨S4096x1024, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S256x1024, .f32⟩
  | .local _ .vmem, ⟨6, _⟩ => ⟨S256x1024, .f32⟩
  | .local _ .vmem, ⟨7, _⟩ => ⟨S256x2048, .bf16⟩
  | .local _ .vmem, ⟨8, _⟩ => ⟨S256x2048, .bf16⟩
  | .local _ .vmem, ⟨9, _⟩ => ⟨S256x1024, .bf16⟩
  | .local _ .vmem, ⟨10, _⟩ => ⟨S256x1024, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GluGateReferenceIdeal.lean ====
abbrev S4096x2048 : Shape := ⟨2, ![4096, 2048]⟩
abbrev S4096x1024 : Shape := ⟨2, ![4096, 1024]⟩
abbrev S2048 : Shape := ⟨1, ![2048]⟩
abbrev S1x2048 : Shape := ⟨2, ![1, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S2048, .f32⟩
  | .hbm, ⟨3, _⟩ => ⟨S4096x1024, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S_, .f32⟩
  | .hbm, ⟨50, _⟩ => ⟨S2048, .f32⟩
  | .hbm, ⟨51, _⟩ => ⟨S4096x2048, .bf16⟩
  | .hbm, ⟨52, _⟩ => ⟨S4096x1024, .bf16⟩
  | .hbm, ⟨53, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v15_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v15_1 : Ref sig .tc := ⟨.hbm, 33, rfl⟩
abbrev main_v15_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]
-- ==== SkipGelu.lean ====
abbrev S4096x1024 : Shape := ⟨2, ![4096, 1024]⟩
abbrev S64x16 : Shape := ⟨2, ![64, 16]⟩
abbrev S1x1024 : Shape := ⟨2, ![1, 1024]⟩
abbrev S256x1024 : Shape := ⟨2, ![256, 1024]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S64x16, .f32⟩
  | .hbm, ⟨3, _⟩ => ⟨S4096x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== SkipGeluReferenceIdeal.lean ====
abbrev S4096x1024 : Shape := ⟨2, ![4096, 1024]⟩
abbrev S64x16 : Shape := ⟨2, ![64, 16]⟩
abbrev S4096x64x16 : Shape := ⟨3, ![4096, 64, 16]⟩
abbrev S1x64x16 : Shape := ⟨3, ![1, 64, 16]⟩
abbrev S_ : Shape := ⟨0, ![]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S64x16, .f32⟩
  | .hbm, ⟨3, _⟩ => ⟨S4096x1024, .f32⟩
  | .hbm, ⟨4, _⟩ => ⟨S4096x64x16, .f32⟩
  | .hbm, ⟨5, _⟩ => ⟨S4096x64x16, .f32⟩
  | .hbm, ⟨6, _⟩ => ⟨S1x64x16, .f32⟩
  | .hbm, ⟨7, _⟩ => ⟨S4096x64x16, .f32⟩
  | .hbm, ⟨8, _⟩ => ⟨S4096x64x16, .f32⟩
  | .hbm, ⟨9, _⟩ => ⟨S4096x64x16, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x64x16, .f32⟩
  | .hbm, ⟨55, _⟩ => ⟨S4096x64x16, .f32⟩
  | .hbm, ⟨56, _⟩ => ⟨S4096x64x16, .f32⟩
  | .hbm, ⟨57, _⟩ => ⟨S4096x64x16, .f32⟩
  | .hbm, ⟨58, _⟩ => ⟨S_, .f32⟩
  | .hbm, ⟨59, _⟩ => ⟨S64x16, .f32⟩
  | .hbm, ⟨60, _⟩ => ⟨S1x64x16, .f32⟩
  | .hbm, ⟨61, _⟩ => ⟨S_, .f32⟩
  | .hbm, ⟨62, _⟩ => ⟨S64x16, .f32⟩
  | .hbm, ⟨63, _⟩ => ⟨S4096x1024, .f32⟩
  | .hbm, ⟨64, _⟩ => ⟨S4096x1024, .f32⟩
  | .hbm, ⟨65, _⟩ => ⟨S4096x1024, .bf16⟩
  | .hbm, ⟨66, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== RecurrenceGate.lean ====
abbrev S4096x1024 : Shape := ⟨2, ![4096, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RecurrenceGateReferenceIdeal.lean ====
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== DeltaOutput.lean ====
abbrev S8x4096x128 : Shape := ⟨3, ![8, 4096, 128]⟩
abbrev S4096x1024 : Shape := ⟨2, ![4096, 1024]⟩
abbrev S128 : Shape := ⟨1, ![128]⟩
abbrev S1x128 : Shape := ⟨2, ![1, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8x4096x128, .f32⟩
  | .hbm, ⟨1, _⟩ => ⟨S4096x1024, .f32⟩
  | .hbm, ⟨2, _⟩ => ⟨S128, .f32⟩
  | .hbm, ⟨3, _⟩ => ⟨S4096x1024, .f32⟩
  | .hbm, ⟨4, _⟩ => ⟨S1x128, .f32⟩
  | .hbm, ⟨5, _⟩ => ⟨S8x4096x128, .f32⟩
  | .hbm, ⟨6, _⟩ => ⟨S4096x1024, .bf16⟩
  | .hbm, ⟨7, _⟩ => ⟨S1x128, .f32⟩
  | .local _ .vmem, ⟨0, _⟩ => ⟨S1x256x128, .f32⟩
  | .local _ .vmem, ⟨1, _⟩ => ⟨S1x256x128, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S256x128, .f32⟩
  | .local _ .vmem, ⟨6, _⟩ => ⟨S256x128, .f32⟩
  | .local _ .vmem, ⟨7, _⟩ => ⟨S1x256x128, .f32⟩
  | .local _ .vmem, ⟨8, _⟩ => ⟨S1x256x128, .f32⟩
  | .local _ .vmem, ⟨9, _⟩ => ⟨S256x128, .bf16⟩
  | .local _ .vmem, ⟨10, _⟩ => ⟨S256x128, .bf16⟩
  | .local _ .vmem, ⟨11, _⟩ => ⟨S1x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DeltaOutputReferenceIdeal.lean ====
abbrev S8x4096x128 : Shape := ⟨3, ![8, 4096, 128]⟩
abbrev S4096x1024 : Shape := ⟨2, ![4096, 1024]⟩
abbrev S128 : Shape := ⟨1, ![128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S4096x1024, .f32⟩
  | .hbm, ⟨2, _⟩ => ⟨S128, .f32⟩
  | .hbm, ⟨3, _⟩ => ⟨S4096x1024, .f32⟩
  | .hbm, ⟨4, _⟩ => ⟨S4096x8x128, .f32⟩
  | .hbm, ⟨5, _⟩ => ⟨S4096x8x128, .f32⟩
  | .hbm, ⟨6, _⟩ => ⟨S_, .f32⟩
  | .hbm, ⟨7, _⟩ => ⟨S4096x8, .f32⟩
  | .hbm, ⟨8, _⟩ => ⟨S4096x8x1, .f32⟩
  | .hbm, ⟨9, _⟩ => ⟨S_, .f32⟩
  | .hbm, ⟨10, _⟩ => ⟨S4096x8x1, .f32⟩
  | .hbm, ⟨11, _⟩ => ⟨S4096x8x1, .f32⟩
  | .hbm, ⟨12, _⟩ => ⟨S_, .f32⟩
  | .hbm, ⟨13, _⟩ => ⟨S4096x8x1, .f32⟩
  | .hbm, ⟨14, _⟩ => ⟨S4096x8x1, .f32⟩
  | .hbm, ⟨15, _⟩ => ⟨S4096x8x1, .f32⟩
  | .hbm, ⟨16, _⟩ => ⟨S4096x8x1, .f32⟩
  | .hbm, ⟨17, _⟩ => ⟨S_, .f32⟩
  | .hbm, ⟨18, _⟩ => ⟨S4096x8x1, .f32⟩
  | .hbm, ⟨19, _⟩ => ⟨S4096x8x1, .f32⟩
  | .hbm, ⟨20, _⟩ => ⟨S4096x8x128, .f32⟩
  | .hbm, ⟨21, _⟩ => ⟨S4096x8x128, .f32⟩
  | .hbm, ⟨22, _⟩ => ⟨S1x1x128, .f32⟩
  | .hbm, ⟨23, _⟩ => ⟨S4096x8x128, .f32⟩
  | .hbm, ⟨24, _⟩ => ⟨S4096x8x128, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x8x128, .f32⟩
  | .hbm, ⟨39, _⟩ => ⟨S4096x8x128, .f32⟩
  | .hbm, ⟨40, _⟩ => ⟨S4096x1024, .f32⟩
  | .hbm, ⟨41, _⟩ => ⟨S4096x8x128, .f32⟩
  | .hbm, ⟨42, _⟩ => ⟨S4096x8x128, .f32⟩
  | .hbm, ⟨43, _⟩ => ⟨S4096x8x128, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x8x128, .f32⟩
  | .hbm, ⟨50, _⟩ => ⟨S_, .f32⟩
  | .hbm, ⟨51, _⟩ => ⟨S128, .f32⟩
  | .hbm, ⟨52, _⟩ => ⟨S1x1x128, .f32⟩
  | .hbm, ⟨53, _⟩ => ⟨S4096x8x128, .f32⟩
  | .hbm, ⟨54, _⟩ => ⟨S4096x8x128, .f32⟩
  | .hbm, ⟨55, _⟩ => ⟨S_, .f32⟩
  | .hbm, ⟨56, _⟩ => ⟨S128, .f32⟩
  | .hbm, ⟨57, _⟩ => ⟨S4096x8x128, .f32⟩
  | .hbm, ⟨58, _⟩ => ⟨S_, .f32⟩
  | .hbm, ⟨59, _⟩ => ⟨S4096x8, .f32⟩
  | .hbm, ⟨60, _⟩ => ⟨S4096x8x1, .f32⟩
  | .hbm, ⟨61, _⟩ => ⟨S4096x8x128, .f32⟩
  | .hbm, ⟨62, _⟩ => ⟨S4096x8x128, .f32⟩
  | .hbm, ⟨63, _⟩ => ⟨S4096x8x1, .f32⟩
  | .hbm, ⟨64, _⟩ => ⟨S_, .f32⟩
  | .hbm, ⟨65, _⟩ => ⟨S4096x8x1, .f32⟩
  | .hbm, ⟨66, _⟩ => ⟨S4096x8x1, .f32⟩
  | .hbm, ⟨67, _⟩ => ⟨S_, .f32⟩
  | .hbm, ⟨68, _⟩ => ⟨S4096x8, .f32⟩
  | .hbm, ⟨69, _⟩ => ⟨S4096x8x128, .f32⟩
  | .hbm, ⟨70, _⟩ => ⟨S4096x8x128, .f32⟩
  | .hbm, ⟨71, _⟩ => ⟨S4096x8x128, .f32⟩
  | .hbm, ⟨72, _⟩ => ⟨S4096x8x128, .f32⟩
  | .hbm, ⟨73, _⟩ => ⟨S4096x8x128, .f32⟩
  | .hbm, ⟨74, _⟩ => ⟨S8x4096x128, .f32⟩
  | .hbm, ⟨75, _⟩ => ⟨S4096x1024, .bf16⟩
  | .hbm, ⟨76, _⟩ => ⟨S1x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v17_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v17_1 : Ref sig .tc := ⟨.hbm, 36, rfl⟩
abbrev main_v17_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== NormGradient.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormGradientReferenceIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MemoryNorm.lean ====
abbrev S256x4096 : Shape := ⟨2, ![256, 4096]⟩
abbrev S4096 : Shape := ⟨1, ![4096]⟩
abbrev S1x4096 : Shape := ⟨2, ![1, 4096]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S256x4096, .f32⟩
  | .hbm, ⟨3, _⟩ => ⟨S1x4096, .f32⟩
  | .hbm, ⟨4, _⟩ => ⟨S1x4096, .f32⟩
  | .local _ .vmem, ⟨0, _⟩ => ⟨S256x4096, .f32⟩
  | .local _ .vmem, ⟨1, _⟩ => ⟨S1x4096, .f32⟩
  | .local _ .vmem, ⟨2, _⟩ => ⟨S256x4096, .f32⟩
  | .local _ .vmem, ⟨3, _⟩ => ⟨S1x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemoryNormReferenceIdeal.lean ====
abbrev S256x4096 : Shape := ⟨2, ![256, 4096]⟩
abbrev S4096 : Shape := ⟨1, ![4096]⟩
abbrev S_ : Shape := ⟨0, ![]⟩
abbrev S256 : Shape := ⟨1, ![256]⟩
abbrev S256x1 : Shape := ⟨2, ![256, 1]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S256x4096, .f32⟩
  | .hbm, ⟨3, _⟩ => ⟨S256x4096, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x4096, .f32⟩
  | .hbm, ⟨15, _⟩ => ⟨S256x4096, .f32⟩
  | .hbm, ⟨16, _⟩ => ⟨S1x4096, .f32⟩
  | .hbm, ⟨17, _⟩ => ⟨S256x4096, .f32⟩
  | .hbm, ⟨18, _⟩ => ⟨S256x4096, .f32⟩
  | .hbm, ⟨19, _⟩ => ⟨S256x4096, .f32⟩
  | .hbm, ⟨20, _⟩ => ⟨S_, .f32⟩
  | .hbm, ⟨21, _⟩ => ⟨S4096, .f32⟩
  | .hbm, ⟨22, _⟩ => ⟨S1x4096, .f32⟩
  | .hbm, ⟨23, _⟩ => ⟨S_, .f32⟩
  | .hbm, ⟨24, _⟩ => ⟨S4096, .f32⟩
  | .hbm, ⟨25, _⟩ => ⟨S1x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== MergeForward.lean ====
abbrev S4096x256 : Shape := ⟨2, ![4096, 256]⟩
abbrev S4x4096x1024 : Shape := ⟨3, ![4, 4096, 1024]⟩
abbrev S4x256x4096 : Shape := ⟨3, ![4, 256, 4096]⟩
abbrev S4x4096 : Shape := ⟨2, ![4, 4096]⟩
abbrev S4x1024x4096 : Shape := ⟨3, ![4, 1024, 4096]⟩
abbrev S4x256x8x512 : Shape := ⟨4, ![4, 256, 8, 512]⟩
abbrev S8x4x256x512 : Shape := ⟨4, ![8, 4, 256, 512]⟩
abbrev S4x1024x8x512 : Shape := ⟨4, ![4, 1024, 8, 512]⟩
abbrev S8x4x1024x512 : Shape := ⟨4, ![8, 4, 1024, 512]⟩
abbrev S1x4096x1024 : Shape := ⟨3, ![1, 4096, 1024]⟩
abbrev S4096x1024 : Shape := ⟨2, ![4096, 1024]⟩
abbrev S4x1x4096 : Shape := ⟨3, ![4, 1, 4096]⟩
abbrev S4x1x8x512 : Shape := ⟨4, ![4, 1, 8, 512]⟩
abbrev S8x4x1x512 : Shape := ⟨4, ![8, 4, 1, 512]⟩
abbrev S4096x4096 : Shape := ⟨2, ![4096, 4096]⟩
abbrev S1024x256 : Shape := ⟨2, ![1024, 256]⟩
abbrev S1024x1024 : Shape := ⟨2, ![1024, 1024]⟩
abbrev S1x4x256x512 : Shape := ⟨4, ![1, 4, 256, 512]⟩
abbrev S1x4x1x512 : Shape := ⟨4, ![1, 4, 1, 512]⟩
abbrev S1x4x1024x512 : Shape := ⟨4, ![1, 4, 1024, 512]⟩
abbrev S1024x512 : Shape := ⟨2, ![1024, 512]⟩
abbrev S4x256x512 : Shape := ⟨3, ![4, 256, 512]⟩
abbrev S4x1x512 : Shape := ⟨3, ![4, 1, 512]⟩
abbrev S4x1024x512 : Shape := ⟨3, ![4, 1024, 512]⟩
abbrev S1x256x512 : Shape := ⟨3, ![1, 256, 512]⟩
abbrev S256x512 : Shape := ⟨2, ![256, 512]⟩
abbrev S1x1x512 : Shape := ⟨3, ![1, 1, 512]⟩
abbrev S1x512 : Shape := ⟨2, ![1, 512]⟩
abbrev S1x1024x512 : Shape := ⟨3, ![1, 1024, 512]⟩

abbrev nBuf : Space → Nat
  | .hbm => 23
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4x4096x1024, .bf16⟩
  | .hbm, ⟨2, _⟩ => ⟨S4x256x4096, .f32⟩
  | .hbm, ⟨3, _⟩ => ⟨S4x4096, .f32⟩
  | .hbm, ⟨4, _⟩ => ⟨S4x1024x4096, .f32⟩
  | .hbm, ⟨5, _⟩ => ⟨S4x256x4096, .bf16⟩
  | .hbm, ⟨6, _⟩ => ⟨S4x256x8x512, .bf16⟩
  | .hbm, ⟨7, _⟩ => ⟨S8x4x256x512, .bf16⟩
  | .hbm, ⟨8, _⟩ => ⟨S4x1024x4096, .bf16⟩
  | .hbm, ⟨9, _⟩ => ⟨S4x1024x8x512, .bf16⟩
  | .hbm, ⟨10, _⟩ => ⟨S8x4x1024x512, .bf16⟩
  | .hbm, ⟨11, _⟩ => ⟨S1x4096x1024, .bf16⟩
  | .hbm, ⟨12, _⟩ => ⟨S4096x1024, .bf16⟩
  | .hbm, ⟨13, _⟩ => ⟨S1x4096x1024, .bf16⟩
  | .hbm, ⟨14, _⟩ => ⟨S4096x1024, .bf16⟩
  | .hbm, ⟨15, _⟩ => ⟨S1x4096x1024, .bf16⟩
  | .hbm, ⟨16, _⟩ => ⟨S4096x1024, .bf16⟩
  | .hbm, ⟨17, _⟩ => ⟨S1x4096x1024, .bf16⟩
  | .hbm, ⟨18, _⟩ => ⟨S4096x1024, .bf16⟩
  | .hbm, ⟨19, _⟩ => ⟨S4x1x4096, .f32⟩
  | .hbm, ⟨20, _⟩ => ⟨S4x1x8x512, .f32⟩
  | .hbm, ⟨21, _⟩ => ⟨S8x4x1x512, .f32⟩
  | .hbm, ⟨22, _⟩ => ⟨S4096x4096, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x4x256x512, .bf16⟩
  | .local _ .vmem, ⟨11, _⟩ => ⟨S1x4x256x512, .bf16⟩
  | .local _ .vmem, ⟨12, _⟩ => ⟨S1x4x1x512, .f32⟩
  | .local _ .vmem, ⟨13, _⟩ => ⟨S1x4x1x512, .f32⟩
  | .local _ .vmem, ⟨14, _⟩ => ⟨S1x4x1024x512, .bf16⟩
  | .local _ .vmem, ⟨15, _⟩ => ⟨S1x4x1024x512, .bf16⟩
  | .local _ .vmem, ⟨16, _⟩ => ⟨S1024x512, .bf16⟩
  | .local _ .vmem, ⟨17, _⟩ => ⟨S1024x512, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeForwardReferenceIdeal.lean ====
abbrev S4096x256 : Shape := ⟨2, ![4096, 256]⟩
abbrev S4x4096x1024 : Shape := ⟨3, ![4, 4096, 1024]⟩
abbrev S4x256x4096 : Shape := ⟨3, ![4, 256, 4096]⟩
abbrev S4x4096 : Shape := ⟨2, ![4, 4096]⟩
abbrev S4x1024x4096 : Shape := ⟨3, ![4, 1024, 4096]⟩
abbrev S4x4096x4096 : Shape := ⟨3, ![4, 4096, 4096]⟩
abbrev S4x1x4096 : Shape := ⟨3, ![4, 1, 4096]⟩
abbrev S_ : Shape := ⟨0, ![]⟩
abbrev S4096x4096 : Shape := ⟨2, ![4096, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4x4096x1024, .bf16⟩
  | .hbm, ⟨2, _⟩ => ⟨S4x256x4096, .f32⟩
  | .hbm, ⟨3, _⟩ => ⟨S4x4096, .f32⟩
  | .hbm, ⟨4, _⟩ => ⟨S4x1024x4096, .f32⟩
  | .hbm, ⟨5, _⟩ => ⟨S4x4096x4096, .f32⟩
  | .hbm, ⟨6, _⟩ => ⟨S4x4096x4096, .f32⟩
  | .hbm, ⟨7, _⟩ => ⟨S4x4096x1024, .f32⟩
  | .hbm, ⟨8, _⟩ => ⟨S4x4096x4096, .f32⟩
  | .hbm, ⟨9, _⟩ => ⟨S4x1x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4096x4096, .f32⟩
  | .hbm, ⟨23, _⟩ => ⟨S4096x4096, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== LossHead.lean ====
abbrev S4096x4096 : Shape := ⟨2, ![4096, 4096]⟩
abbrev S4096 : Shape := ⟨1, ![4096]⟩
abbrev S1x4096 : Shape := ⟨2, ![1, 4096]⟩
abbrev S1x1 : Shape := ⟨2, ![1, 1]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S1x4096, .f32⟩
  | .hbm, ⟨4, _⟩ => ⟨S1x1, .f32⟩
  | .hbm, ⟨5, _⟩ => ⟨S4096x4096, .f32⟩
  | .hbm, ⟨6, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S1x1, .f32⟩
  | .local _ .vmem, ⟨6, _⟩ => ⟨S256x4096, .f32⟩
  | .local _ .vmem, ⟨7, _⟩ => ⟨S256x4096, .f32⟩
  | .local _ .vmem, ⟨8, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadReferenceIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096, .f32⟩
  | .hbm, ⟨49, _⟩ => ⟨S1x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x4096, .f32⟩
  | .hbm, ⟨59, _⟩ => ⟨S4096x4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S1x1, .f32⟩
  | .hbm, ⟨72, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== DeltaGates.lean ====
abbrev S8x4096 : Shape := ⟨2, ![8, 4096]⟩
abbrev S8 : Shape := ⟨1, ![8]⟩
abbrev S8x1 : Shape := ⟨2, ![8, 1]⟩

abbrev nBuf : Space → Nat
  | .hbm => 13
  | .vmem => 11
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S8, .f32⟩
  | .hbm, ⟨3, _⟩ => ⟨S8, .f32⟩
  | .hbm, ⟨4, _⟩ => ⟨S8x4096, .f32⟩
  | .hbm, ⟨5, _⟩ => ⟨S8x4096, .f32⟩
  | .hbm, ⟨6, _⟩ => ⟨S8x4096, .f32⟩
  | .hbm, ⟨7, _⟩ => ⟨S8x1, .f32⟩
  | .hbm, ⟨8, _⟩ => ⟨S8x1, .f32⟩
  | .hbm, ⟨9, _⟩ => ⟨S8x4096, .f32⟩
  | .hbm, ⟨10, _⟩ => ⟨S8x4096, .f32⟩
  | .hbm, ⟨11, _⟩ => ⟨S8x1, .f32⟩
  | .hbm, ⟨12, _⟩ => ⟨S8x1, .f32⟩
  | .local _ .vmem, ⟨0, _⟩ => ⟨S8x4096, .f32⟩
  | .local _ .vmem, ⟨1, _⟩ => ⟨S8x4096, .f32⟩
  | .local _ .vmem, ⟨2, _⟩ => ⟨S8x1, .f32⟩
  | .local _ .vmem, ⟨3, _⟩ => ⟨S8x1, .f32⟩
  | .local _ .vmem, ⟨4, _⟩ => ⟨S8x4096, .f32⟩
  | .local _ .vmem, ⟨5, _⟩ => ⟨S8x4096, .f32⟩
  | .local _ .vmem, ⟨6, _⟩ => ⟨S8x4096, .f32⟩
  | .local _ .vmem, ⟨7, _⟩ => ⟨S8x4096, .f32⟩
  | .local _ .vmem, ⟨8, _⟩ => ⟨S8x4096, .f32⟩
  | .local _ .vmem, ⟨9, _⟩ => ⟨S8x1, .f32⟩
  | .local _ .vmem, ⟨10, _⟩ => ⟨S8x1, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DeltaGatesReferenceIdeal.lean ====
abbrev S8x4096 : Shape := ⟨2, ![8, 4096]⟩
abbrev S8 : Shape := ⟨1, ![8]⟩
abbrev S4096x8 : Shape := ⟨2, ![4096, 8]⟩
abbrev S1x8 : Shape := ⟨2, ![1, 8]⟩
abbrev S_ : Shape := ⟨0, ![]⟩
abbrev S8x1 : Shape := ⟨2, ![8, 1]⟩

abbrev nBuf : Space → Nat
  | .hbm => 97
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S8, .f32⟩
  | .hbm, ⟨3, _⟩ => ⟨S8, .f32⟩
  | .hbm, ⟨4, _⟩ => ⟨S8x4096, .f32⟩
  | .hbm, ⟨5, _⟩ => ⟨S8x4096, .f32⟩
  | .hbm, ⟨6, _⟩ => ⟨S8x4096, .f32⟩
  | .hbm, ⟨7, _⟩ => ⟨S8, .f32⟩
  | .hbm, ⟨8, _⟩ => ⟨S8, .f32⟩
  | .hbm, ⟨9, _⟩ => ⟨S4096x8, .f32⟩
  | .hbm, ⟨10, _⟩ => ⟨S1x8, .f32⟩
  | .hbm, ⟨11, _⟩ => ⟨S4096x8, .f32⟩
  | .hbm, ⟨12, _⟩ => ⟨S4096x8, .f32⟩
  | .hbm, ⟨13, _⟩ => ⟨S_, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .i1⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S_, .f32⟩
  | .hbm, ⟨28, _⟩ => ⟨S4096x8, .f32⟩
  | .hbm, ⟨29, _⟩ => ⟨S4096x8, .i1⟩
  | .hbm, ⟨30, _⟩ => ⟨S_, .f32⟩
  | .hbm, ⟨31, _⟩ => ⟨S4096x8, .f32⟩
  | .hbm, ⟨32, _⟩ => ⟨S4096x8, .f32⟩
  | .hbm, ⟨33, _⟩ => ⟨S_, .f32⟩
  | .hbm, ⟨34, _⟩ => ⟨S4096x8, .f32⟩
  | .hbm, ⟨35, _⟩ => ⟨S4096x8, .i1⟩
  | .hbm, ⟨36, _⟩ => ⟨S_, .f32⟩
  | .hbm, ⟨37, _⟩ => ⟨S4096x8, .f32⟩
  | .hbm, ⟨38, _⟩ => ⟨S4096x8, .f32⟩
  | .hbm, ⟨39, _⟩ => ⟨S4096x8, .f32⟩
  | .hbm, ⟨40, _⟩ => ⟨S4096x8, .f32⟩
  | .hbm, ⟨41, _⟩ => ⟨S_, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096x8, .f32⟩
  | .hbm, ⟨49, _⟩ => ⟨S4096x8, .i1⟩
  | .hbm, ⟨50, _⟩ => ⟨S_, .f32⟩
  | .hbm, ⟨51, _⟩ => ⟨S4096x8, .f32⟩
  | .hbm, ⟨52, _⟩ => ⟨S4096x8, .f32⟩
  | .hbm, ⟨53, _⟩ => ⟨S4096x8, .f32⟩
  | .hbm, ⟨54, _⟩ => ⟨S4096x8, .f32⟩
  | .hbm, ⟨55, _⟩ => ⟨S4096x8, .f32⟩
  | .hbm, ⟨56, _⟩ => ⟨S_, .f32⟩
  | .hbm, ⟨57, _⟩ => ⟨S4096x8, .f32⟩
  | .hbm, ⟨58, _⟩ => ⟨S4096x8, .f32⟩
  | .hbm, ⟨59, _⟩ => ⟨S1x8, .f32⟩
  | .hbm, ⟨60, _⟩ => ⟨S4096x8, .f32⟩
  | .hbm, ⟨61, _⟩ => ⟨S4096x8, .f32⟩
  | .hbm, ⟨62, _⟩ => ⟨S8x4096, .f32⟩
  | .hbm, ⟨63, _⟩ => ⟨S8x4096, .f32⟩
  | .hbm, ⟨64, _⟩ => ⟨S_, .f32⟩
  | .hbm, ⟨65, _⟩ => ⟨S8x4096, .f32⟩
  | .hbm, ⟨66, _⟩ => ⟨S8x4096, .f32⟩
  | .hbm, ⟨67, _⟩ => ⟨S_, .f32⟩
  | .hbm, ⟨68, _⟩ => ⟨S8x4096, .f32⟩
  | .hbm, ⟨69, _⟩ => ⟨S8x4096, .f32⟩
  | .hbm, ⟨70, _⟩ => ⟨S_, .f32⟩
  | .hbm, ⟨71, _⟩ => ⟨S8x4096, .f32⟩
  | .hbm, ⟨72, _⟩ => ⟨S8x4096, .f32⟩
  | .hbm, ⟨73, _⟩ => ⟨S8x4096, .f32⟩
  | .hbm, ⟨74, _⟩ => ⟨S8x4096, .f32⟩
  | .hbm, ⟨75, _⟩ => ⟨S8x4096, .f32⟩
  | .hbm, ⟨76, _⟩ => ⟨S4096x8, .f32⟩
  | .hbm, ⟨77, _⟩ => ⟨S8x4096, .f32⟩
  | .hbm, ⟨78, _⟩ => ⟨S4096x8, .f32⟩
  | .hbm, ⟨79, _⟩ => ⟨S4096x8, .f32⟩
  | .hbm, ⟨80, _⟩ => ⟨S4096x8, .f32⟩
  | .hbm, ⟨81, _⟩ => ⟨S_, .f32⟩
  | .hbm, ⟨82, _⟩ => ⟨S8, .f32⟩
  | .hbm, ⟨83, _⟩ => ⟨S1x8, .f32⟩
  | .hbm, ⟨84, _⟩ => ⟨S_, .f32⟩
  | .hbm, ⟨85, _⟩ => ⟨S8, .f32⟩
  | .hbm, ⟨86, _⟩ => ⟨S4096x8, .f32⟩
  | .hbm, ⟨87, _⟩ => ⟨S_, .f32⟩
  | .hbm, ⟨88, _⟩ => ⟨S8, .f32⟩
  | .hbm, ⟨89, _⟩ => ⟨S1x8, .f32⟩
  | .hbm, ⟨90, _⟩ => ⟨S_, .f32⟩
  | .hbm, ⟨91, _⟩ => ⟨S8, .f32⟩
  | .hbm, ⟨92, _⟩ => ⟨S8x4096, .f32⟩
  | .hbm, ⟨93, _⟩ => ⟨S8, .f32⟩
  | .hbm, ⟨94, _⟩ => ⟨S8, .f32⟩
  | .hbm, ⟨95, _⟩ => ⟨S8x1, .f32⟩
  | .hbm, ⟨96, _⟩ => ⟨S8x1, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v6_0 : Ref sig .tc := ⟨.hbm, 26, rfl⟩
abbrev main_call0_cst_0 : Ref sig .tc := ⟨.hbm, 27, rfl⟩
abbrev main_call0_v13 : Ref sig .tc := ⟨.hbm, 28, rfl⟩
abbrev main_call0_v14 : Ref sig .tc := ⟨.hbm, 29, rfl⟩
abbrev main_call0_cst_1 : Ref sig .tc := ⟨.hbm, 30, rfl⟩
abbrev main_call0_v15 : Ref sig .tc := ⟨.hbm, 31, rfl⟩
abbrev main_call0_v16 : Ref sig .tc := ⟨.hbm, 32, rfl⟩
abbrev main_call0_cst_2 : Ref sig .tc := ⟨.hbm, 33, rfl⟩
abbrev main_call0_v17 : Ref sig .tc := ⟨.hbm, 34, rfl⟩
abbrev main_call0_v18 : Ref sig .tc := ⟨.hbm, 35, rfl⟩
abbrev main_call0_cst_3 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_v6_1 : Ref sig .tc := ⟨.hbm, 40, rfl⟩
abbrev main_call0_cst_4 : Ref sig .tc := ⟨.hbm, 41, rfl⟩
abbrev main_call0_cst_5 : Ref sig .tc := ⟨.hbm, 42, rfl⟩
abbrev main_call0_v23 : Ref sig .tc := ⟨.hbm, 43, rfl⟩
abbrev main_call0_cst_6 : Ref sig .tc := ⟨.hbm, 44, rfl⟩
abbrev main_call0_cst_7 : Ref sig .tc := ⟨.hbm, 45, rfl⟩
abbrev main_call0_v24 : Ref sig .tc := ⟨.hbm, 46, rfl⟩
abbrev main_call0_cst_8 : Ref sig .tc := ⟨.hbm, 47, rfl⟩
abbrev main_call0_v25 : Ref sig .tc := ⟨.hbm, 48, rfl⟩
abbrev main_call0_v26 : Ref sig .tc := ⟨.hbm, 49, rfl⟩
abbrev main_call0_cst_9 : Ref sig .tc := ⟨.hbm, 50, rfl⟩
abbrev main_call0_v27 : Ref sig .tc := ⟨.hbm, 51, rfl⟩
abbrev main_call0_v28 : Ref sig .tc := ⟨.hbm, 52, rfl⟩
abbrev main_call0_v29 : Ref sig .tc := ⟨.hbm, 53, rfl⟩
abbrev main_call0_v30 : Ref sig .tc := ⟨.hbm, 54, rfl⟩
abbrev main_call0_v31 : Ref sig .tc := ⟨.hbm, 55, rfl⟩
abbrev main_call0_cst_10 : Ref sig .tc := ⟨.hbm, 56, rfl⟩
abbrev main_call0_v32 : Ref sig .tc := ⟨.hbm, 57, rfl⟩
abbrev main_v6_2 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_cst : Ref sig .tc := ⟨.hbm, 64, rfl⟩
abbrev main_v12 : Ref sig .tc := ⟨.hbm, 65, rfl⟩
abbrev main_v13 : Ref sig .tc := ⟨.hbm, 66, rfl⟩
abbrev main_cst_0 : Ref sig .tc := ⟨.hbm, 67, rfl⟩
abbrev main_v14 : Ref sig .tc := ⟨.hbm, 68, rfl⟩
abbrev main_v15 : Ref sig .tc := ⟨.hbm, 69, rfl⟩
abbrev main_cst_1 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_cst_2 : Ref sig .tc := ⟨.hbm, 81, rfl⟩
abbrev main_v26 : Ref sig .tc := ⟨.hbm, 82, rfl⟩
abbrev main_v27 : Ref sig .tc := ⟨.hbm, 83, rfl⟩
abbrev main_cst_3 : Ref sig .tc := ⟨.hbm, 84, rfl⟩
abbrev main_v28 : Ref sig .tc := ⟨.hbm, 85, rfl⟩
abbrev main_v29 : Ref sig .tc := ⟨.hbm, 86, rfl⟩
abbrev main_cst_4 : Ref sig .tc := ⟨.hbm, 87, rfl⟩
abbrev main_v30 : Ref sig .tc := ⟨.hbm, 88, rfl⟩
abbrev main_v31 : Ref sig .tc := ⟨.hbm, 89, rfl⟩
abbrev main_cst_5 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩

abbrev nD : Nat := 1
abbrev τ : Topo := Topo.v7x

variable {F : FTy → Type} [FloatOps F]
-- ==== DeltaKeys.lean ====
abbrev S4096x2048 : Shape := ⟨2, ![4096, 2048]⟩
abbrev S4x3072 : Shape := ⟨2, ![4, 3072]⟩
abbrev S16x4096x128 : Shape := ⟨3, ![16, 4096, 128]⟩
abbrev S4x2048 : Shape := ⟨2, ![4, 2048]⟩
abbrev S4x1x2048 : Shape := ⟨3, ![4, 1, 2048]⟩
abbrev S4096x128 : Shape := ⟨2, ![4096, 128]⟩
abbrev S4x1x128 : Shape := ⟨3, ![4, 1, 128]⟩
abbrev S1x4096x128 : Shape := ⟨3, ![1, 4096, 128]⟩
abbrev S1x1x128 : Shape := ⟨3, ![1, 1, 128]⟩
abbrev S1x128 : Shape := ⟨2, ![1, 128]⟩
abbrev S4096 : Shape := ⟨1, ![4096]⟩
abbrev S4096x1 : Shape := ⟨2, ![4096, 1]⟩
abbrev S128 : Shape := ⟨1, ![128]⟩
abbrev S3x1x128 : Shape := ⟨3, ![3, 1, 128]⟩
abbrev S2x1x128 : Shape := ⟨3, ![2, 1, 128]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4x3072, .f32⟩
  | .hbm, ⟨2, _⟩ => ⟨S16x4096x128, .f32⟩
  | .hbm, ⟨3, _⟩ => ⟨S4x2048, .f32⟩
  | .hbm, ⟨4, _⟩ => ⟨S4x1x2048, .f32⟩
  | .hbm, ⟨5, _⟩ => ⟨S4096x2048, .bf16⟩
  | .hbm, ⟨6, _⟩ => ⟨S4x1x2048, .f32⟩
  | .local _ .vmem, ⟨0, _⟩ => ⟨S4096x128, .f32⟩
  | .local _ .vmem, ⟨1, _⟩ => ⟨S4096x128, .f32⟩
  | .local _ .vmem, ⟨2, _⟩ => ⟨S4x1x128, .f32⟩
  | .local _ .vmem, ⟨3, _⟩ => ⟨S4x1x128, .f32⟩
  | .local _ .vmem, ⟨4, _⟩ => ⟨S1x4096x128, .f32⟩
  | .local _ .vmem, ⟨5, _⟩ => ⟨S1x4096x128, .f32⟩
  | .local _ .vmem, ⟨6, _⟩ => ⟨S4096x128, .bf16⟩
  | .local _ .vmem, ⟨7, _⟩ => ⟨S4096x128, .bf16⟩
  | .local _ .vmem, ⟨8, _⟩ => ⟨S4x1x128, .f32⟩
  | .local _ .vmem, ⟨9, _⟩ => ⟨S4x1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DeltaKeysReferenceIdeal.lean ====
abbrev S4096x2048 : Shape := ⟨2, ![4096, 2048]⟩
abbrev S4x3072 : Shape := ⟨2, ![4, 3072]⟩
abbrev S16x4096x128 : Shape := ⟨3, ![16, 4096, 128]⟩
abbrev S4x2048 : Shape := ⟨2, ![4, 2048]⟩
abbrev S_ : Shape := ⟨0, ![]⟩
abbrev S3x2048 : Shape := ⟨2, ![3, 2048]⟩
abbrev S4099x2048 : Shape := ⟨2, ![4099, 2048]⟩
abbrev S1x2048 : Shape := ⟨2, ![1, 2048]⟩
abbrev S2048 : Shape := ⟨1, ![2048]⟩
abbrev S4096x16x128 : Shape := ⟨3, ![4096, 16, 128]⟩
abbrev S4096x16 : Shape := ⟨2, ![4096, 16]⟩
abbrev S4096x16x1 : Shape := ⟨3, ![4096, 16, 1]⟩
abbrev S4x1x2048 : Shape := ⟨3, ![4, 1, 2048]⟩

abbrev nBuf : Space → Nat
  | .hbm => 147
  | .vmem => 0
  | .smem => 0
  | _ => 0

abbrev hbmTy0_0 (i : Nat) : BufTy := match i % 128 with
  | 0 => ⟨S4096x2048, .f32⟩
  | 1 => ⟨S4x3072, .f32⟩
  | 2 => ⟨S16x4096x128, .f32⟩
  | 3 => ⟨S4x2048, .f32⟩
  | 4 => ⟨S_, .f32⟩
  | 5 => ⟨S3x2048, .f32⟩
  | 6 => ⟨S4099x2048, .f32⟩
  | 7 => ⟨S_, .f32⟩
  | 8 => ⟨S3x2048, .f32⟩
  | 9 => ⟨S4096x2048, .f32⟩
  | 10 => ⟨S1x2048, .f32⟩
  | 11 => ⟨S2048, .f32⟩
  | 12 => ⟨S1x2048, .f32⟩
  | 13 => ⟨S4096x2048, .f32⟩
  | 14 => ⟨S4096x2048, .f32⟩
  | 15 => ⟨S4096x2048, .f32⟩
  | 16 => ⟨S1x2048, .f32⟩
  | 17 => ⟨S2048, .f32⟩
  | 18 => ⟨S1x2048, .f32⟩
  | 19 => ⟨S4096x2048, .f32⟩
  | 20 => ⟨S4096x2048, .f32⟩
  | 21 => ⟨S4096x2048, .f32⟩
  | 22 => ⟨S4096x2048, .f32⟩
  | 23 => ⟨S1x2048, .f32⟩
  | 24 => ⟨S2048, .f32⟩
  | 25 => ⟨S1x2048, .f32⟩
  | 26 => ⟨S4096x2048, .f32⟩
  | 27 => ⟨S4096x2048, .f32⟩
  | 28 => ⟨S4096x2048, .f32⟩
  | 29 => ⟨S4096x2048, .f32⟩
  | 30 => ⟨S1x2048, .f32⟩
  | 31 => ⟨S2048, .f32⟩
  | 32 => ⟨S1x2048, .f32⟩
  | 33 => ⟨S4096x2048, .f32⟩
  | 34 => ⟨S4096x2048, .f32⟩
  | 35 => ⟨S4096x2048, .f32⟩
  | 36 => ⟨S4096x2048, .f32⟩
  | 37 => ⟨S4096x2048, .f32⟩
  | 38 => ⟨S_, .f32⟩
  | 39 => ⟨S4096x2048, .f32⟩
  | 40 => ⟨S4096x2048, .f32⟩
  | 41 => ⟨S_, .f32⟩
  | 42 => ⟨S4096x2048, .f32⟩
  | 43 => ⟨S4096x2048, .f32⟩
  | 44 => ⟨S_, .f32⟩
  | 45 => ⟨S4096x2048, .f32⟩
  | 46 => ⟨S4096x2048, .f32⟩
  | 47 => ⟨S4096x2048, .f32⟩
  | 48 => ⟨S4096x2048, .f32⟩
  | 49 => ⟨S4096x16x128, .f32⟩
  | 50 => ⟨S4096x16x128, .f32⟩
  | 51 => ⟨S_, .f32⟩
  | 52 => ⟨S4096x16, .f32⟩
  | 53 => ⟨S4096x16x1, .f32⟩
  | 54 => ⟨S_, .f32⟩
  | 55 => ⟨S4096x16x1, .f32⟩
  | 56 => ⟨S4096x16x1, .f32⟩
  | 57 => ⟨S4096x16x1, .f32⟩
  | 58 => ⟨S4096x16x1, .f32⟩
  | 59 => ⟨S_, .f32⟩
  | 60 => ⟨S4096x16x1, .f32⟩
  | 61 => ⟨S4096x16x1, .f32⟩
  | 62 => ⟨S4096x16x128, .f32⟩
  | 63 => ⟨S4096x16x128, .f32⟩
  | 64 => ⟨S16x4096x128, .f32⟩
  | 65 => ⟨S4096x16x128, .f32⟩
  | 66 => ⟨S4096x16x128, .f32⟩
  | 67 => ⟨S_, .f32⟩
  | 68 => ⟨S4096x16, .f32⟩
  | 69 => ⟨S4096x16x1, .f32⟩
  | 70 => ⟨S4096x16x128, .f32⟩
  | 71 => ⟨S4096x16x128, .f32⟩
  | 72 => ⟨S4096x16x1, .f32⟩
  | 73 => ⟨S_, .f32⟩
  | 74 => ⟨S4096x16, .f32⟩
  | 75 => ⟨S4096x16x128, .f32⟩
  | 76 => ⟨S4096x16x128, .f32⟩
  | 77 => ⟨S4096x16x128, .f32⟩
  | 78 => ⟨S4096x16x128, .f32⟩
  | 79 => ⟨S4096x16x128, .f32⟩
  | 80 => ⟨S4096x2048, .f32⟩
  | 81 => ⟨S4096x2048, .f32⟩
  | 82 => ⟨S4096x2048, .f32⟩
  | 83 => ⟨S4096x2048, .f32⟩
  | 84 => ⟨S4096x2048, .f32⟩
  | 85 => ⟨S4096x2048, .f32⟩
  | 86 => ⟨S_, .f32⟩
  | 87 => ⟨S2048, .f32⟩
  | 88 => ⟨S1x2048, .f32⟩
  | 89 => ⟨S4096x2048, .f32⟩
  | 90 => ⟨S4096x2048, .f32⟩
  | 91 => ⟨S_, .f32⟩
  | 92 => ⟨S2048, .f32⟩
  | 93 => ⟨S1x2048, .f32⟩
  | 94 => ⟨S_, .f32⟩
  | 95 => ⟨S4x2048, .f32⟩
  | 96 => ⟨S_, .f32⟩
  | 97 => ⟨S4099x2048, .f32⟩
  | 98 => ⟨S4096x2048, .f32⟩
  | 99 => ⟨S_, .f32⟩
  | 100 => ⟨S2048, .f32⟩
  | 101 => ⟨S1x2048, .f32⟩
  | 102 => ⟨S4096x2048, .f32⟩
  | 103 => ⟨S4096x2048, .f32⟩
  | 104 => ⟨S_, .f32⟩
  | 105 => ⟨S2048, .f32⟩
  | 106 => ⟨S1x2048, .f32⟩
  | 107 => ⟨S_, .f32⟩
  | 108 => ⟨S4x2048, .f32⟩
  | 109 => ⟨S4x2048, .f32⟩
  | 110 => ⟨S_, .f32⟩
  | 111 => ⟨S4099x2048, .f32⟩
  | 112 => ⟨S4099x2048, .f32⟩
  | 113 => ⟨S4096x2048, .f32⟩
  | 114 => ⟨S_, .f32⟩
  | 115 => ⟨S2048, .f32⟩
  | 116 => ⟨S1x2048, .f32⟩
  | 117 => ⟨S4096x2048, .f32⟩
  | 118 => ⟨S4096x2048, .f32⟩
  | 119 => ⟨S_, .f32⟩
  | 120 => ⟨S2048, .f32⟩
  | 121 => ⟨S1x2048, .f32⟩
  | 122 => ⟨S_, .f32⟩
  | 123 => ⟨S4x2048, .f32⟩
  | 124 => ⟨S4x2048, .f32⟩
  | 125 => ⟨S_, .f32⟩
  | 126 => ⟨S4099x2048, .f32⟩
  | 127 => ⟨S4099x2048, .f32⟩
  | _ => ⟨S4096x2048, .f32⟩

abbrev hbmTy0_1 (i : Nat) : BufTy := match i % 128 with
  | 0 => ⟨S4096x2048, .f32⟩
  | 1 => ⟨S_, .f32⟩
  | 2 => ⟨S2048, .f32⟩
  | 3 => ⟨S1x2048, .f32⟩
  | 4 => ⟨S4096x2048, .f32⟩
  | 5 => ⟨S4096x2048, .f32⟩
  | 6 => ⟨S_, .f32⟩
  | 7 => ⟨S2048, .f32⟩
  | 8 => ⟨S1x2048, .f32⟩
  | 9 => ⟨S_, .f32⟩
  | 10 => ⟨S4x2048, .f32⟩
  | 11 => ⟨S4x2048, .f32⟩
  | 12 => ⟨S_, .f32⟩
  | 13 => ⟨S4099x2048, .f32⟩
  | 14 => ⟨S4099x2048, .f32⟩
  | 15 => ⟨S3x2048, .f32⟩
  | 16 => ⟨S4096x2048, .f32⟩
  | 17 => ⟨S4096x2048, .bf16⟩
  | 18 => ⟨S4x1x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v31_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v31_1 : Ref sig .tc := ⟨.hbm, 47, rfl⟩
abbrev main_v31_0 : Ref sig .tc := ⟨.hbm, 48, rfl⟩
abbrev main_v32 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v59 : Ref sig .tc := ⟨.hbm, 84, rfl⟩
abbrev main_v60 : Ref sig .tc := ⟨.hbm, 85, rfl⟩
abbrev main_cst_6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_7 : Ref sig .tc := ⟨.hbm, 91, rfl⟩
abbrev main_v65 : Ref sig .tc := ⟨.hbm, 92, rfl⟩
abbrev main_v66 : Ref sig .tc := ⟨.hbm, 93, rfl⟩
abbrev main_cst_8 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_cst_10 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_11 : Ref sig .tc := ⟨.hbm, 104, rfl⟩
abbrev main_v74 : Ref sig .tc := ⟨.hbm, 105, rfl⟩
abbrev main_v75 : Ref sig .tc := ⟨.hbm, 106, rfl⟩
abbrev main_cst_12 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_15 : Ref sig .tc := ⟨.hbm, 119, rfl⟩
abbrev main_v85 : Ref sig .tc := ⟨.hbm, 120, rfl⟩
abbrev main_v86 : Ref sig .tc := ⟨.hbm, 121, rfl⟩
abbrev main_cst_16 : Ref sig .tc := ⟨.hbm, 122, rfl⟩
abbrev main_v87 : Ref sig .tc := ⟨.hbm, 123, rfl⟩
abbrev main_v88 : Ref sig .tc := ⟨.hbm, 124, rfl⟩
abbrev main_cst_17 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_18 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_19 : Ref sig .tc := ⟨.hbm, 134, rfl⟩
abbrev main_v96 : Ref sig .tc := ⟨.hbm, 135, rfl⟩
abbrev main_v97 : Ref sig .tc := ⟨.hbm, 136, rfl⟩
abbrev main_cst_20 : Ref sig .tc := ⟨.hbm, 137, rfl⟩
abbrev main_v98 : Ref sig .tc := ⟨.hbm, 138, rfl⟩
abbrev main_v99 : Ref sig .tc := ⟨.hbm, 139, rfl⟩
abbrev main_cst_21 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩

abbrev nD : Nat := 1
abbrev τ : Topo := Topo.v7x

variable {F : FTy → Type} [FloatOps F]
-- ==== DeltaValues.lean ====
abbrev S4096x1024 : Shape := ⟨2, ![4096, 1024]⟩
abbrev S4x3072 : Shape := ⟨2, ![4, 3072]⟩
abbrev S8x4096x128 : Shape := ⟨3, ![8, 4096, 128]⟩
abbrev S4x1024 : Shape := ⟨2, ![4, 1024]⟩
abbrev S4x1x1024 : Shape := ⟨3, ![4, 1, 1024]⟩
abbrev S4096x128 : Shape := ⟨2, ![4096, 128]⟩
abbrev S4x1x128 : Shape := ⟨3, ![4, 1, 128]⟩
abbrev S1x4096x128 : Shape := ⟨3, ![1, 4096, 128]⟩
abbrev S1x1x128 : Shape := ⟨3, ![1, 1, 128]⟩
abbrev S1x128 : Shape := ⟨2, ![1, 128]⟩
abbrev S128 : Shape := ⟨1, ![128]⟩
abbrev S3x1x128 : Shape := ⟨3, ![3, 1, 128]⟩
abbrev S2x1x128 : Shape := ⟨3, ![2, 1, 128]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4x3072, .f32⟩
  | .hbm, ⟨2, _⟩ => ⟨S8x4096x128, .f32⟩
  | .hbm, ⟨3, _⟩ => ⟨S4x1024, .f32⟩
  | .hbm, ⟨4, _⟩ => ⟨S4x1x1024, .f32⟩
  | .hbm, ⟨5, _⟩ => ⟨S4096x1024, .bf16⟩
  | .hbm, ⟨6, _⟩ => ⟨S4x1x1024, .f32⟩
  | .local _ .vmem, ⟨0, _⟩ => ⟨S4096x128, .f32⟩
  | .local _ .vmem, ⟨1, _⟩ => ⟨S4096x128, .f32⟩
  | .local _ .vmem, ⟨2, _⟩ => ⟨S4x1x128, .f32⟩
  | .local _ .vmem, ⟨3, _⟩ => ⟨S4x1x128, .f32⟩
  | .local _ .vmem, ⟨4, _⟩ => ⟨S1x4096x128, .f32⟩
  | .local _ .vmem, ⟨5, _⟩ => ⟨S1x4096x128, .f32⟩
  | .local _ .vmem, ⟨6, _⟩ => ⟨S4096x128, .bf16⟩
  | .local _ .vmem, ⟨7, _⟩ => ⟨S4096x128, .bf16⟩
  | .local _ .vmem, ⟨8, _⟩ => ⟨S4x1x128, .f32⟩
  | .local _ .vmem, ⟨9, _⟩ => ⟨S4x1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DeltaValuesReferenceIdeal.lean ====
abbrev S4096x1024 : Shape := ⟨2, ![4096, 1024]⟩
abbrev S4x3072 : Shape := ⟨2, ![4, 3072]⟩
abbrev S8x4096x128 : Shape := ⟨3, ![8, 4096, 128]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S1024 : Shape := ⟨1, ![1024]⟩
abbrev S4096x8x128 : Shape := ⟨3, ![4096, 8, 128]⟩
abbrev S4x1x1024 : Shape := ⟨3, ![4, 1, 1024]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x3072, .f32⟩
  | .hbm, ⟨2, _⟩ => ⟨S8x4096x128, .f32⟩
  | .hbm, ⟨3, _⟩ => ⟨S4x1024, .f32⟩
  | .hbm, ⟨4, _⟩ => ⟨S_, .f32⟩
  | .hbm, ⟨5, _⟩ => ⟨S3x1024, .f32⟩
  | .hbm, ⟨6, _⟩ => ⟨S4099x1024, .f32⟩
  | .hbm, ⟨7, _⟩ => ⟨S_, .f32⟩
  | .hbm, ⟨8, _⟩ => ⟨S3x1024, .f32⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x8x128, .f32⟩
  | .hbm, ⟨50, _⟩ => ⟨S8x4096x128, .f32⟩
  | .hbm, ⟨51, _⟩ => ⟨S4096x8x128, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S4x1024, .f32⟩
  | .hbm, ⟨68, _⟩ => ⟨S_, .f32⟩
  | .hbm, ⟨69, _⟩ => ⟨S4099x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S4x1024, .f32⟩
  | .hbm, ⟨81, _⟩ => ⟨S4x1024, .f32⟩
  | .hbm, ⟨82, _⟩ => ⟨S_, .f32⟩
  | .hbm, ⟨83, _⟩ => ⟨S4099x1024, .f32⟩
  | .hbm, ⟨84, _⟩ => ⟨S4099x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S_, .f32⟩
  | .hbm, ⟨95, _⟩ => ⟨S4x1024, .f32⟩
  | .hbm, ⟨96, _⟩ => ⟨S4x1024, .f32⟩
  | .hbm, ⟨97, _⟩ => ⟨S_, .f32⟩
  | .hbm, ⟨98, _⟩ => ⟨S4099x1024, .f32⟩
  | .hbm, ⟨99, _⟩ => ⟨S4099x1024, .f32⟩
  | .hbm, ⟨100, _⟩ => ⟨S4096x1024, .f32⟩
  | .hbm, ⟨101, _⟩ => ⟨S_, .f32⟩
  | .hbm, ⟨102, _⟩ => ⟨S1024, .f32⟩
  | .hbm, ⟨103, _⟩ => ⟨S1x1024, .f32⟩
  | .hbm, ⟨104, _⟩ => ⟨S4096x1024, .f32⟩
  | .hbm, ⟨105, _⟩ => ⟨S4096x1024, .f32⟩
  | .hbm, ⟨106, _⟩ => ⟨S_, .f32⟩
  | .hbm, ⟨107, _⟩ => ⟨S1024, .f32⟩
  | .hbm, ⟨108, _⟩ => ⟨S1x1024, .f32⟩
  | .hbm, ⟨109, _⟩ => ⟨S_, .f32⟩
  | .hbm, ⟨110, _⟩ => ⟨S4x1024, .f32⟩
  | .hbm, ⟨111, _⟩ => ⟨S4x1024, .f32⟩
  | .hbm, ⟨112, _⟩ => ⟨S_, .f32⟩
  | .hbm, ⟨113, _⟩ => ⟨S4099x1024, .f32⟩
  | .hbm, ⟨114, _⟩ => ⟨S4099x1024, .f32⟩
  | .hbm, ⟨115, _⟩ => ⟨S3x1024, .f32⟩
  | .hbm, ⟨116, _⟩ => ⟨S4096x1024, .f32⟩
  | .hbm, ⟨117, _⟩ => ⟨S4096x1024, .bf16⟩
  | .hbm, ⟨118, _⟩ => ⟨S4x1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v31_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v31_1 : Ref sig .tc := ⟨.hbm, 47, rfl⟩
abbrev main_v31_0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v36 : Ref sig .tc := ⟨.hbm, 56, rfl⟩
abbrev main_v37 : Ref sig .tc := ⟨.hbm, 57, rfl⟩
abbrev main_cst_1 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_2 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_14 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_cst_16 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]
-- ==== Discretise.lean ====
abbrev S64 : Shape := ⟨1, ![64]⟩
abbrev S64x64 : Shape := ⟨2, ![64, 64]⟩
abbrev S64x64x16 : Shape := ⟨3, ![64, 64, 16]⟩
abbrev S16x64x64 : Shape := ⟨3, ![16, 64, 64]⟩
abbrev S64x1 : Shape := ⟨2, ![64, 1]⟩
abbrev S1x64x64 : Shape := ⟨3, ![1, 64, 64]⟩

abbrev nBuf : Space → Nat
  | .hbm => 17
  | .vmem => 14
  | .smem => 0
  | _ => 0

abbrev bufTy : (tb : Table) → Fin (tcTables nBuf tb) → BufTy
  | .hbm, ⟨0, _⟩ => ⟨S64, .f32⟩
  | .hbm, ⟨1, _⟩ => ⟨S64x64, .f32⟩
  | .hbm, ⟨2, _⟩ => ⟨S64x64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S16x64x64, .f32⟩
  | .hbm, ⟨8, _⟩ => ⟨S16x64x64, .f32⟩
  | .hbm, ⟨9, _⟩ => ⟨S64x1, .f32⟩
  | .hbm, ⟨10, _⟩ => ⟨S16x64x64, .f32⟩
  | .hbm, ⟨11, _⟩ => ⟨S16x64x64, .f32⟩
  | .hbm, ⟨12, _⟩ => ⟨S64x1, .f32⟩
  | .hbm, ⟨13, _⟩ => ⟨S64x64, .f32⟩
  | .hbm, ⟨14, _⟩ => ⟨S64x64, .f32⟩
  | .hbm, ⟨15, _⟩ => ⟨S16x64x64, .f32⟩
  | .hbm, ⟨16, _⟩ => ⟨S16x64x64, .f32⟩
  | .local _ .vmem, ⟨0, _⟩ => ⟨S64x1, .f32⟩
  | .local _ .vmem, ⟨1, _⟩ => ⟨S64x64, .f32⟩
  | .local _ .vmem, ⟨2, _⟩ => ⟨S64x64, .f32⟩
  | .local _ .vmem, ⟨3, _⟩ => ⟨S16x64x64, .f32⟩
  | .local _ .vmem, ⟨4, _⟩ => ⟨S16x64x64, .f32⟩
  | .local _ .vmem, ⟨5, _⟩ => ⟨S64x64, .f32⟩
  | .local _ .vmem, ⟨6, _⟩ => ⟨S64x64, .f32⟩
  | .local _ .vmem, ⟨7, _⟩ => ⟨S16x64x64, .f32⟩
  | .local _ .vmem, ⟨8, _⟩ => ⟨S16x64x64, .f32⟩
  | .local _ .vmem, ⟨9, _⟩ => ⟨S64x1, .f32⟩
  | .local _ .vmem, ⟨10, _⟩ => ⟨S64x64, .f32⟩
  | .local _ .vmem, ⟨11, _⟩ => ⟨S64x64, .f32⟩
  | .local _ .vmem, ⟨12, _⟩ => ⟨S16x64x64, .f32⟩
  | .local _ .vmem, ⟨13, _⟩ => ⟨S16x64x64, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S64x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== DiscretiseReferenceIdeal.lean ====
abbrev S64 : Shape := ⟨1, ![64]⟩
abbrev S64x64 : Shape := ⟨2, ![64, 64]⟩
abbrev S64x64x16 : Shape := ⟨3, ![64, 64, 16]⟩
abbrev S16x64x64 : Shape := ⟨3, ![16, 64, 64]⟩
abbrev S64x1 : Shape := ⟨2, ![64, 1]⟩
abbrev S_ : Shape := ⟨0, ![]⟩
abbrev S64x64x1 : Shape := ⟨3, ![64, 64, 1]⟩

abbrev nBuf : Space → Nat
  | .hbm => 172
  | .vmem => 0
  | .smem => 0
  | _ => 0

abbrev hbmTy0_0 (i : Nat) : BufTy := match i % 128 with
  | 0 => ⟨S64, .f32⟩
  | 1 => ⟨S64x64, .f32⟩
  | 2 => ⟨S64x64, .f32⟩
  | 3 => ⟨S64x64x16, .f32⟩
  | 4 => ⟨S64x64x16, .f32⟩
  | 5 => ⟨S64x64, .f32⟩
  | 6 => ⟨S64x64, .f32⟩
  | 7 => ⟨S16x64x64, .f32⟩
  | 8 => ⟨S16x64x64, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S_, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S_, .f32⟩
  | 36 => ⟨S64x64, .f32⟩
  | 37 => ⟨S64x64, .f32⟩
  | 38 => ⟨S64x64, .f32⟩
  | 39 => ⟨S_, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S64x64x1, .f32⟩
  | 50 => ⟨S64x64x16, .f32⟩
  | 51 => ⟨S64x64x16, .f32⟩
  | 52 => ⟨S64x64x1, .f32⟩
  | 53 => ⟨S64x64x16, .f32⟩
  | 54 => ⟨S64x64x16, .f32⟩
  | 55 => ⟨S64x64x16, .f32⟩
  | 56 => ⟨S64x64x1, .f32⟩
  | 57 => ⟨S64x64x16, .f32⟩
  | 58 => ⟨S64x64x16, .f32⟩
  | 59 => ⟨S64x64x1, .f32⟩
  | 60 => ⟨S64x64x16, .f32⟩
  | 61 => ⟨S64x64x16, .f32⟩
  | 62 => ⟨S64x64x16, .f32⟩
  | 63 => ⟨S64x64x16, .f32⟩
  | 64 => ⟨S64x64x16, .f32⟩
  | 65 => ⟨S64x64x16, .f32⟩
  | 66 => ⟨S64x64x16, .f32⟩
  | 67 => ⟨S64x64x16, .f32⟩
  | 68 => ⟨S_, .f32⟩
  | 69 => ⟨S64x64, .f32⟩
  | 70 => ⟨S64x64x1, .f32⟩
  | 71 => ⟨S_, .f32⟩
  | 72 => ⟨S64x64, .f32⟩
  | 73 => ⟨S64x64x16, .f32⟩
  | 74 => ⟨S64x64x16, .f32⟩
  | 75 => ⟨S64x64x16, .f32⟩
  | 76 => ⟨S_, .f32⟩
  | 77 => ⟨S64x64, .f32⟩
  | 78 => ⟨S64x64x1, .f32⟩
  | 79 => ⟨S_, .f32⟩
  | 80 => ⟨S64x64, .f32⟩
  | 81 => ⟨S64x64x16, .f32⟩
  | 82 => ⟨S64x64x16, .f32⟩
  | 83 => ⟨S64x64x16, .f32⟩
  | 84 => ⟨S64x64x16, .f32⟩
  | 85 => ⟨S64x64x16, .f32⟩
  | 86 => ⟨S_, .f32⟩
  | 87 => ⟨S64x64, .f32⟩
  | 88 => ⟨S64x64x1, .f32⟩
  | 89 => ⟨S_, .f32⟩
  | 90 => ⟨S64x64, .f32⟩
  | 91 => ⟨S64x64, .f32⟩
  | 92 => ⟨S64x64x16, .f32⟩
  | 93 => ⟨S64x64x16, .f32⟩
  | 94 => ⟨S64x64x16, .f32⟩
  | 95 => ⟨S64x64x16, .f32⟩
  | 96 => ⟨S_, .f32⟩
  | 97 => ⟨S64x64, .f32⟩
  | 98 => ⟨S64x64x1, .f32⟩
  | 99 => ⟨S_, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S_, .f32⟩
  | 14 => ⟨S64, .f32⟩
  | 15 => ⟨S64x1, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S_, .f32⟩
  | 26 => ⟨S64, .f32⟩
  | 27 => ⟨S64x1, .f32⟩
  | 28 => ⟨S64x1, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S_, .f32⟩
  | 35 => ⟨S64, .f32⟩
  | 36 => ⟨S64x1, .f32⟩
  | 37 => ⟨S64x1, .f32⟩
  | 38 => ⟨S_, .f32⟩
  | 39 => ⟨S64, .f32⟩
  | 40 => ⟨S64, .f32⟩
  | 41 => ⟨S64x1, .f32⟩
  | 42 => ⟨S16x64x64, .f32⟩
  | 43 => ⟨S16x64x64, .f32⟩
  | _ => ⟨S64, .f32⟩

abbrev hbmTy (i : Nat) : BufTy := match i / 128 with
  | 0 => hbmTy0_0 i
  | 1 => hbmTy0_1 i
  | _ => ⟨S64, .f32⟩

abbrev bufTy : (tb : Table) → Fin (tcTables nBuf tb) → BufTy
  | .hbm, ⟨i, _⟩ => hbmTy i
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_7 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_11 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_cst_12 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_cst_13 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_cst_14 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩

abbrev nD : Nat := 1
abbrev τ : Topo := Topo.v7x

variable {F : FTy → Type} [FloatOps F]
-- ==== AdamIn.lean ====
abbrev S2x4096x1314 : Shape := ⟨3, ![2, 4096, 1314]⟩
abbrev S4x4096x1314 : Shape := ⟨3, ![4, 4096, 1314]⟩
abbrev S1x128x1314 : Shape := ⟨3, ![1, 128, 1314]⟩
abbrev S4x128x1314 : Shape := ⟨3, ![4, 128, 1314]⟩
abbrev S128x1314 : Shape := ⟨2, ![128, 1314]⟩

abbrev nBuf : Space → Nat
  | .hbm => 12
  | .vmem => 16
  | .smem => 0
  | _ => 0

abbrev bufTy : (tb : Table) → Fin (tcTables nBuf tb) → BufTy
  | .hbm, ⟨0, _⟩ => ⟨S2x4096x1314, .f32⟩
  | .hbm, ⟨1, _⟩ => ⟨S2x4096x1314, .f32⟩
  | .hbm, ⟨2, _⟩ => ⟨S2x4096x1314, .f32⟩
  | .hbm, ⟨3, _⟩ => ⟨S4x4096x1314, .bf16⟩
  | .hbm, ⟨4, _⟩ => ⟨S2x4096x1314, .f32⟩
  | .hbm, ⟨5, _⟩ => ⟨S2x4096x1314, .f32⟩
  | .hbm, ⟨6, _⟩ => ⟨S2x4096x1314, .f32⟩
  | .hbm, ⟨7, _⟩ => ⟨S2x4096x1314, .f32⟩
  | .hbm, ⟨8, _⟩ => ⟨S2x4096x1314, .f32⟩
  | .hbm, ⟨9, _⟩ => ⟨S2x4096x1314, .f32⟩
  | .hbm, ⟨10, _⟩ => ⟨S2x4096x1314, .f32⟩
  | .hbm, ⟨11, _⟩ => ⟨S2x4096x1314, .f32⟩
  | .local _ .vmem, ⟨0, _⟩ => ⟨S1x128x1314, .f32⟩
  | .local _ .vmem, ⟨1, _⟩ => ⟨S1x128x1314, .f32⟩
  | .local _ .vmem, ⟨2, _⟩ => ⟨S1x128x1314, .f32⟩
  | .local _ .vmem, ⟨3, _⟩ => ⟨S1x128x1314, .f32⟩
  | .local _ .vmem, ⟨4, _⟩ => ⟨S1x128x1314, .f32⟩
  | .local _ .vmem, ⟨5, _⟩ => ⟨S1x128x1314, .f32⟩
  | .local _ .vmem, ⟨6, _⟩ => ⟨S4x128x1314, .bf16⟩
  | .local _ .vmem, ⟨7, _⟩ => ⟨S4x128x1314, .bf16⟩
  | .local _ .vmem, ⟨8, _⟩ => ⟨S1x128x1314, .f32⟩
  | .local _ .vmem, ⟨9, _⟩ => ⟨S1x128x1314, .f32⟩
  | .local _ .vmem, ⟨10, _⟩ => ⟨S1x128x1314, .f32⟩
  | .local _ .vmem, ⟨11, _⟩ => ⟨S1x128x1314, .f32⟩
  | .local _ .vmem, ⟨12, _⟩ => ⟨S1x128x1314, .f32⟩
  | .local _ .vmem, ⟨13, _⟩ => ⟨S1x128x1314, .f32⟩
  | .local _ .vmem, ⟨14, _⟩ => ⟨S1x128x1314, .f32⟩
  | .local _ .vmem, ⟨15, _⟩ => ⟨S1x128x1314, .f32⟩
  | _, _ => ⟨S2x4096x1314, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1314 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1314 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1314 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1314 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1314 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1314 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1314 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1314 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInReferenceIdeal.lean ====
abbrev S2x4096x1314 : Shape := ⟨3, ![2, 4096, 1314]⟩
abbrev S4x4096x1314 : Shape := ⟨3, ![4, 4096, 1314]⟩
abbrev S1x4096x1314 : Shape := ⟨3, ![1, 4096, 1314]⟩
abbrev S4096x1314 : Shape := ⟨2, ![4096, 1314]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2x4096x1314, .f32⟩
  | .hbm, ⟨1, _⟩ => ⟨S2x4096x1314, .f32⟩
  | .hbm, ⟨2, _⟩ => ⟨S2x4096x1314, .f32⟩
  | .hbm, ⟨3, _⟩ => ⟨S4x4096x1314, .bf16⟩
  | .hbm, ⟨4, _⟩ => ⟨S2x4096x1314, .f32⟩
  | .hbm, ⟨5, _⟩ => ⟨S2x4096x1314, .f32⟩
  | .hbm, ⟨6, _⟩ => ⟨S2x4096x1314, .f32⟩
  | .hbm, ⟨7, _⟩ => ⟨S2x4096x1314, .f32⟩
  | .hbm, ⟨8, _⟩ => ⟨S1x4096x1314, .f32⟩
  | .hbm, ⟨9, _⟩ => ⟨S4096x1314, .f32⟩
  | .hbm, ⟨10, _⟩ => ⟨S4x4096x1314, .f32⟩
  | .hbm, ⟨11, _⟩ => ⟨S_, .f32⟩
  | .hbm, ⟨12, _⟩ => ⟨S4096x1314, .f32⟩
  | .hbm, ⟨13, _⟩ => ⟨S1x4096x1314, .f32⟩
  | .hbm, ⟨14, _⟩ => ⟨S4096x1314, .f32⟩
  | .hbm, ⟨15, _⟩ => ⟨S1x4096x1314, .f32⟩
  | .hbm, ⟨16, _⟩ => ⟨S4096x1314, .f32⟩
  | .hbm, ⟨17, _⟩ => ⟨S_, .f32⟩
  | .hbm, ⟨18, _⟩ => ⟨S4096x1314, .f32⟩
  | .hbm, ⟨19, _⟩ => ⟨S4096x1314, .f32⟩
  | .hbm, ⟨20, _⟩ => ⟨S_, .f32⟩
  | .hbm, ⟨21, _⟩ => ⟨S4096x1314, .f32⟩
  | .hbm, ⟨22, _⟩ => ⟨S4096x1314, .f32⟩
  | .hbm, ⟨23, _⟩ => ⟨S4096x1314, .f32⟩
  | .hbm, ⟨24, _⟩ => ⟨S_, .f32⟩
  | .hbm, ⟨25, _⟩ => ⟨S4096x1314, .f32⟩
  | .hbm, ⟨26, _⟩ => ⟨S4096x1314, .f32⟩
  | .hbm, ⟨27, _⟩ => ⟨S4096x1314, .f32⟩
  | .hbm, ⟨28, _⟩ => ⟨S_, .f32⟩
  | .hbm, ⟨29, _⟩ => ⟨S4096x1314, .f32⟩
  | .hbm, ⟨30, _⟩ => ⟨S4096x1314, .f32⟩
  | .hbm, ⟨31, _⟩ => ⟨S4096x1314, .f32⟩
  | .hbm, ⟨32, _⟩ => ⟨S_, .f32⟩
  | .hbm, ⟨33, _⟩ => ⟨S4096x1314, .f32⟩
  | .hbm, ⟨34, _⟩ => ⟨S4096x1314, .f32⟩
  | .hbm, ⟨35, _⟩ => ⟨S_, .f32⟩
  | .hbm, ⟨36, _⟩ => ⟨S4096x1314, .f32⟩
  | .hbm, ⟨37, _⟩ => ⟨S4096x1314, .f32⟩
  | .hbm, ⟨38, _⟩ => ⟨S4096x1314, .f32⟩
  | .hbm, ⟨39, _⟩ => ⟨S_, .f32⟩
  | .hbm, ⟨40, _⟩ => ⟨S4096x1314, .f32⟩
  | .hbm, ⟨41, _⟩ => ⟨S4096x1314, .f32⟩
  | .hbm, ⟨42, _⟩ => ⟨S4096x1314, .f32⟩
  | .hbm, ⟨43, _⟩ => ⟨S_, .f32⟩
  | .hbm, ⟨44, _⟩ => ⟨S4096x1314, .f32⟩
  | .hbm, ⟨45, _⟩ => ⟨S4096x1314, .f32⟩
  | .hbm, ⟨46, _⟩ => ⟨S4096x1314, .f32⟩
  | .hbm, ⟨47, _⟩ => ⟨S_, .f32⟩
  | .hbm, ⟨48, _⟩ => ⟨S4096x1314, .f32⟩
  | .hbm, ⟨49, _⟩ => ⟨S4096x1314, .f32⟩
  | .hbm, ⟨50, _⟩ => ⟨S1x4096x1314, .f32⟩
  | .hbm, ⟨51, _⟩ => ⟨S4096x1314, .f32⟩
  | .hbm, ⟨52, _⟩ => ⟨S1x4096x1314, .f32⟩
  | .hbm, ⟨53, _⟩ => ⟨S1x4096x1314, .f32⟩
  | .hbm, ⟨54, _⟩ => ⟨S2x4096x1314, .f32⟩
  | .hbm, ⟨55, _⟩ => ⟨S1x4096x1314, .f32⟩
  | .hbm, ⟨56, _⟩ => ⟨S4096x1314, .f32⟩
  | .hbm, ⟨57, _⟩ => ⟨S1x4096x1314, .f32⟩
  | .hbm, ⟨58, _⟩ => ⟨S1x4096x1314, .f32⟩
  | .hbm, ⟨59, _⟩ => ⟨S2x4096x1314, .f32⟩
  | .hbm, ⟨60, _⟩ => ⟨S1x4096x1314, .f32⟩
  | .hbm, ⟨61, _⟩ => ⟨S4096x1314, .f32⟩
  | .hbm, ⟨62, _⟩ => ⟨S1x4096x1314, .f32⟩
  | .hbm, ⟨63, _⟩ => ⟨S1x4096x1314, .f32⟩
  | .hbm, ⟨64, _⟩ => ⟨S2x4096x1314, .f32⟩
  | .hbm, ⟨65, _⟩ => ⟨S1x4096x1314, .f32⟩
  | .hbm, ⟨66, _⟩ => ⟨S4096x1314, .f32⟩
  | .hbm, ⟨67, _⟩ => ⟨S1x4096x1314, .f32⟩
  | .hbm, ⟨68, _⟩ => ⟨S1x4096x1314, .f32⟩
  | .hbm, ⟨69, _⟩ => ⟨S2x4096x1314, .f32⟩
  | _, _ => ⟨S2x4096x1314, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== AdamDeltaConv.lean ====
abbrev S2x4x384 : Shape := ⟨3, ![2, 4, 384]⟩
abbrev S4x4x384 : Shape := ⟨3, ![4, 4, 384]⟩
abbrev S1x4x384 : Shape := ⟨3, ![1, 4, 384]⟩
abbrev S4x384 : Shape := ⟨2, ![4, 384]⟩

abbrev nBuf : Space → Nat
  | .hbm => 12
  | .vmem => 8
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S4x4x384, .bf16⟩
  | .hbm, ⟨4, _⟩ => ⟨S2x4x384, .f32⟩
  | .hbm, ⟨5, _⟩ => ⟨S2x4x384, .f32⟩
  | .hbm, ⟨6, _⟩ => ⟨S2x4x384, .f32⟩
  | .hbm, ⟨7, _⟩ => ⟨S2x4x384, .f32⟩
  | .hbm, ⟨8, _⟩ => ⟨S2x4x384, .f32⟩
  | .hbm, ⟨9, _⟩ => ⟨S2x4x384, .f32⟩
  | .hbm, ⟨10, _⟩ => ⟨S2x4x384, .f32⟩
  | .hbm, ⟨11, _⟩ => ⟨S2x4x384, .f32⟩
  | .local _ .vmem, ⟨0, _⟩ => ⟨S1x4x384, .f32⟩
  | .local _ .vmem, ⟨1, _⟩ => ⟨S1x4x384, .f32⟩
  | .local _ .vmem, ⟨2, _⟩ => ⟨S1x4x384, .f32⟩
  | .local _ .vmem, ⟨3, _⟩ => ⟨S4x4x384, .bf16⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamDeltaConvReferenceIdeal.lean ====
abbrev S2x4x384 : Shape := ⟨3, ![2, 4, 384]⟩
abbrev S4x4x384 : Shape := ⟨3, ![4, 4, 384]⟩
abbrev S1x4x384 : Shape := ⟨3, ![1, 4, 384]⟩
abbrev S4x384 : Shape := ⟨2, ![4, 384]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S4x4x384, .bf16⟩
  | .hbm, ⟨4, _⟩ => ⟨S2x4x384, .f32⟩
  | .hbm, ⟨5, _⟩ => ⟨S2x4x384, .f32⟩
  | .hbm, ⟨6, _⟩ => ⟨S2x4x384, .f32⟩
  | .hbm, ⟨7, _⟩ => ⟨S2x4x384, .f32⟩
  | .hbm, ⟨8, _⟩ => ⟨S1x4x384, .f32⟩
  | .hbm, ⟨9, _⟩ => ⟨S4x384, .f32⟩
  | .hbm, ⟨10, _⟩ => ⟨S4x4x384, .f32⟩
  | .hbm, ⟨11, _⟩ => ⟨S_, .f32⟩
  | .hbm, ⟨12, _⟩ => ⟨S4x384, .f32⟩
  | .hbm, ⟨13, _⟩ => ⟨S1x4x384, .f32⟩
  | .hbm, ⟨14, _⟩ => ⟨S4x384, .f32⟩
  | .hbm, ⟨15, _⟩ => ⟨S1x4x384, .f32⟩
  | .hbm, ⟨16, _⟩ => ⟨S4x384, .f32⟩
  | .hbm, ⟨17, _⟩ => ⟨S_, .f32⟩
  | .hbm, ⟨18, _⟩ => ⟨S4x384, .f32⟩
  | .hbm, ⟨19, _⟩ => ⟨S4x384, .f32⟩
  | .hbm, ⟨20, _⟩ => ⟨S_, .f32⟩
  | .hbm, ⟨21, _⟩ => ⟨S4x384, .f32⟩
  | .hbm, ⟨22, _⟩ => ⟨S4x384, .f32⟩
  | .hbm, ⟨23, _⟩ => ⟨S4x384, .f32⟩
  | .hbm, ⟨24, _⟩ => ⟨S_, .f32⟩
  | .hbm, ⟨25, _⟩ => ⟨S4x384, .f32⟩
  | .hbm, ⟨26, _⟩ => ⟨S4x384, .f32⟩
  | .hbm, ⟨27, _⟩ => ⟨S4x384, .f32⟩
  | .hbm, ⟨28, _⟩ => ⟨S_, .f32⟩
  | .hbm, ⟨29, _⟩ => ⟨S4x384, .f32⟩
  | .hbm, ⟨30, _⟩ => ⟨S4x384, .f32⟩
  | .hbm, ⟨31, _⟩ => ⟨S4x384, .f32⟩
  | .hbm, ⟨32, _⟩ => ⟨S_, .f32⟩
  | .hbm, ⟨33, _⟩ => ⟨S4x384, .f32⟩
  | .hbm, ⟨34, _⟩ => ⟨S4x384, .f32⟩
  | .hbm, ⟨35, _⟩ => ⟨S_, .f32⟩
  | .hbm, ⟨36, _⟩ => ⟨S4x384, .f32⟩
  | .hbm, ⟨37, _⟩ => ⟨S4x384, .f32⟩
  | .hbm, ⟨38, _⟩ => ⟨S4x384, .f32⟩
  | .hbm, ⟨39, _⟩ => ⟨S_, .f32⟩
  | .hbm, ⟨40, _⟩ => ⟨S4x384, .f32⟩
  | .hbm, ⟨41, _⟩ => ⟨S4x384, .f32⟩
  | .hbm, ⟨42, _⟩ => ⟨S4x384, .f32⟩
  | .hbm, ⟨43, _⟩ => ⟨S_, .f32⟩
  | .hbm, ⟨44, _⟩ => ⟨S4x384, .f32⟩
  | .hbm, ⟨45, _⟩ => ⟨S4x384, .f32⟩
  | .hbm, ⟨46, _⟩ => ⟨S4x384, .f32⟩
  | .hbm, ⟨47, _⟩ => ⟨S_, .f32⟩
  | .hbm, ⟨48, _⟩ => ⟨S4x384, .f32⟩
  | .hbm, ⟨49, _⟩ => ⟨S4x384, .f32⟩
  | .hbm, ⟨50, _⟩ => ⟨S1x4x384, .f32⟩
  | .hbm, ⟨51, _⟩ => ⟨S4x384, .f32⟩
  | .hbm, ⟨52, _⟩ => ⟨S1x4x384, .f32⟩
  | .hbm, ⟨53, _⟩ => ⟨S1x4x384, .f32⟩
  | .hbm, ⟨54, _⟩ => ⟨S2x4x384, .f32⟩
  | .hbm, ⟨55, _⟩ => ⟨S1x4x384, .f32⟩
  | .hbm, ⟨56, _⟩ => ⟨S4x384, .f32⟩
  | .hbm, ⟨57, _⟩ => ⟨S1x4x384, .f32⟩
  | .hbm, ⟨58, _⟩ => ⟨S1x4x384, .f32⟩
  | .hbm, ⟨59, _⟩ => ⟨S2x4x384, .f32⟩
  | .hbm, ⟨60, _⟩ => ⟨S1x4x384, .f32⟩
  | .hbm, ⟨61, _⟩ => ⟨S4x384, .f32⟩
  | .hbm, ⟨62, _⟩ => ⟨S1x4x384, .f32⟩
  | .hbm, ⟨63, _⟩ => ⟨S1x4x384, .f32⟩
  | .hbm, ⟨64, _⟩ => ⟨S2x4x384, .f32⟩
  | .hbm, ⟨65, _⟩ => ⟨S1x4x384, .f32⟩
  | .hbm, ⟨66, _⟩ => ⟨S4x384, .f32⟩
  | .hbm, ⟨67, _⟩ => ⟨S1x4x384, .f32⟩
  | .hbm, ⟨68, _⟩ => ⟨S1x4x384, .f32⟩
  | .hbm, ⟨69, _⟩ => ⟨S2x4x384, .f32⟩
  | _, _ => ⟨S2x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== AdamRecurrenceConv.lean ====
abbrev S2x4x128 : Shape := ⟨3, ![2, 4, 128]⟩
abbrev S4x4x128 : Shape := ⟨3, ![4, 4, 128]⟩
abbrev S1x4x128 : Shape := ⟨3, ![1, 4, 128]⟩
abbrev S4x128 : Shape := ⟨2, ![4, 128]⟩

abbrev nBuf : Space → Nat
  | .hbm => 12
  | .vmem => 8
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S4x4x128, .bf16⟩
  | .hbm, ⟨4, _⟩ => ⟨S2x4x128, .f32⟩
  | .hbm, ⟨5, _⟩ => ⟨S2x4x128, .f32⟩
  | .hbm, ⟨6, _⟩ => ⟨S2x4x128, .f32⟩
  | .hbm, ⟨7, _⟩ => ⟨S2x4x128, .f32⟩
  | .hbm, ⟨8, _⟩ => ⟨S2x4x128, .f32⟩
  | .hbm, ⟨9, _⟩ => ⟨S2x4x128, .f32⟩
  | .hbm, ⟨10, _⟩ => ⟨S2x4x128, .f32⟩
  | .hbm, ⟨11, _⟩ => ⟨S2x4x128, .f32⟩
  | .local _ .vmem, ⟨0, _⟩ => ⟨S1x4x128, .f32⟩
  | .local _ .vmem, ⟨1, _⟩ => ⟨S1x4x128, .f32⟩
  | .local _ .vmem, ⟨2, _⟩ => ⟨S1x4x128, .f32⟩
  | .local _ .vmem, ⟨3, _⟩ => ⟨S4x4x128, .bf16⟩
  | .local _ .vmem, ⟨4, _⟩ => ⟨S1x4x128, .f32⟩
  | .local _ .vmem, ⟨5, _⟩ => ⟨S1x4x128, .f32⟩
  | .local _ .vmem, ⟨6, _⟩ => ⟨S1x4x128, .f32⟩
  | .local _ .vmem, ⟨7, _⟩ => ⟨S1x4x128, .f32⟩
  | _, _ => ⟨S2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRecurrenceConvReferenceIdeal.lean ====
abbrev S2x4x128 : Shape := ⟨3, ![2, 4, 128]⟩
abbrev S4x4x128 : Shape := ⟨3, ![4, 4, 128]⟩
abbrev S1x4x128 : Shape := ⟨3, ![1, 4, 128]⟩
abbrev S4x128 : Shape := ⟨2, ![4, 128]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S4x4x128, .bf16⟩
  | .hbm, ⟨4, _⟩ => ⟨S2x4x128, .f32⟩
  | .hbm, ⟨5, _⟩ => ⟨S2x4x128, .f32⟩
  | .hbm, ⟨6, _⟩ => ⟨S2x4x128, .f32⟩
  | .hbm, ⟨7, _⟩ => ⟨S2x4x128, .f32⟩
  | .hbm, ⟨8, _⟩ => ⟨S1x4x128, .f32⟩
  | .hbm, ⟨9, _⟩ => ⟨S4x128, .f32⟩
  | .hbm, ⟨10, _⟩ => ⟨S4x4x128, .f32⟩
  | .hbm, ⟨11, _⟩ => ⟨S_, .f32⟩
  | .hbm, ⟨12, _⟩ => ⟨S4x128, .f32⟩
  | .hbm, ⟨13, _⟩ => ⟨S1x4x128, .f32⟩
  | .hbm, ⟨14, _⟩ => ⟨S4x128, .f32⟩
  | .hbm, ⟨15, _⟩ => ⟨S1x4x128, .f32⟩
  | .hbm, ⟨16, _⟩ => ⟨S4x128, .f32⟩
  | .hbm, ⟨17, _⟩ => ⟨S_, .f32⟩
  | .hbm, ⟨18, _⟩ => ⟨S4x128, .f32⟩
  | .hbm, ⟨19, _⟩ => ⟨S4x128, .f32⟩
  | .hbm, ⟨20, _⟩ => ⟨S_, .f32⟩
  | .hbm, ⟨21, _⟩ => ⟨S4x128, .f32⟩
  | .hbm, ⟨22, _⟩ => ⟨S4x128, .f32⟩
  | .hbm, ⟨23, _⟩ => ⟨S4x128, .f32⟩
  | .hbm, ⟨24, _⟩ => ⟨S_, .f32⟩
  | .hbm, ⟨25, _⟩ => ⟨S4x128, .f32⟩
  | .hbm, ⟨26, _⟩ => ⟨S4x128, .f32⟩
  | .hbm, ⟨27, _⟩ => ⟨S4x128, .f32⟩
  | .hbm, ⟨28, _⟩ => ⟨S_, .f32⟩
  | .hbm, ⟨29, _⟩ => ⟨S4x128, .f32⟩
  | .hbm, ⟨30, _⟩ => ⟨S4x128, .f32⟩
  | .hbm, ⟨31, _⟩ => ⟨S4x128, .f32⟩
  | .hbm, ⟨32, _⟩ => ⟨S_, .f32⟩
  | .hbm, ⟨33, _⟩ => ⟨S4x128, .f32⟩
  | .hbm, ⟨34, _⟩ => ⟨S4x128, .f32⟩
  | .hbm, ⟨35, _⟩ => ⟨S_, .f32⟩
  | .hbm, ⟨36, _⟩ => ⟨S4x128, .f32⟩
  | .hbm, ⟨37, _⟩ => ⟨S4x128, .f32⟩
  | .hbm, ⟨38, _⟩ => ⟨S4x128, .f32⟩
  | .hbm, ⟨39, _⟩ => ⟨S_, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S_, .f32⟩
  | .hbm, ⟨44, _⟩ => ⟨S4x128, .f32⟩
  | .hbm, ⟨45, _⟩ => ⟨S4x128, .f32⟩
  | .hbm, ⟨46, _⟩ => ⟨S4x128, .f32⟩
  | .hbm, ⟨47, _⟩ => ⟨S_, .f32⟩
  | .hbm, ⟨48, _⟩ => ⟨S4x128, .f32⟩
  | .hbm, ⟨49, _⟩ => ⟨S4x128, .f32⟩
  | .hbm, ⟨50, _⟩ => ⟨S1x4x128, .f32⟩
  | .hbm, ⟨51, _⟩ => ⟨S4x128, .f32⟩
  | .hbm, ⟨52, _⟩ => ⟨S1x4x128, .f32⟩
  | .hbm, ⟨53, _⟩ => ⟨S1x4x128, .f32⟩
  | .hbm, ⟨54, _⟩ => ⟨S2x4x128, .f32⟩
  | .hbm, ⟨55, _⟩ => ⟨S1x4x128, .f32⟩
  | .hbm, ⟨56, _⟩ => ⟨S4x128, .f32⟩
  | .hbm, ⟨57, _⟩ => ⟨S1x4x128, .f32⟩
  | .hbm, ⟨58, _⟩ => ⟨S1x4x128, .f32⟩
  | .hbm, ⟨59, _⟩ => ⟨S2x4x128, .f32⟩
  | .hbm, ⟨60, _⟩ => ⟨S1x4x128, .f32⟩
  | .hbm, ⟨61, _⟩ => ⟨S4x128, .f32⟩
  | .hbm, ⟨62, _⟩ => ⟨S1x4x128, .f32⟩
  | .hbm, ⟨63, _⟩ => ⟨S1x4x128, .f32⟩
  | .hbm, ⟨64, _⟩ => ⟨S2x4x128, .f32⟩
  | .hbm, ⟨65, _⟩ => ⟨S1x4x128, .f32⟩
  | .hbm, ⟨66, _⟩ => ⟨S4x128, .f32⟩
  | .hbm, ⟨67, _⟩ => ⟨S1x4x128, .f32⟩
  | .hbm, ⟨68, _⟩ => ⟨S1x4x128, .f32⟩
  | .hbm, ⟨69, _⟩ => ⟨S2x4x128, .f32⟩
  | _, _ => ⟨S2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== AdamGlu.lean ====
abbrev S2x1024x256 : Shape := ⟨3, ![2, 1024, 256]⟩
abbrev S4x1024x256 : Shape := ⟨3, ![4, 1024, 256]⟩
abbrev S1x1024x256 : Shape := ⟨3, ![1, 1024, 256]⟩
abbrev S1024x256 : Shape := ⟨2, ![1024, 256]⟩

abbrev nBuf : Space → Nat
  | .hbm => 12
  | .vmem => 8
  | .smem => 0
  | _ => 0

abbrev bufTy : (tb : Table) → Fin (tcTables nBuf tb) → BufTy
  | .hbm, ⟨0, _⟩ => ⟨S2x1024x256, .f32⟩
  | .hbm, ⟨1, _⟩ => ⟨S2x1024x256, .f32⟩
  | .hbm, ⟨2, _⟩ => ⟨S2x1024x256, .f32⟩
  | .hbm, ⟨3, _⟩ => ⟨S4x1024x256, .bf16⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S4x1024x256, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | _, _ => ⟨S2x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluReferenceIdeal.lean ====
abbrev S2x1024x256 : Shape := ⟨3, ![2, 1024, 256]⟩
abbrev S4x1024x256 : Shape := ⟨3, ![4, 1024, 256]⟩
abbrev S1x1024x256 : Shape := ⟨3, ![1, 1024, 256]⟩
abbrev S1024x256 : Shape := ⟨2, ![1024, 256]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2x1024x256, .f32⟩
  | .hbm, ⟨1, _⟩ => ⟨S2x1024x256, .f32⟩
  | .hbm, ⟨2, _⟩ => ⟨S2x1024x256, .f32⟩
  | .hbm, ⟨3, _⟩ => ⟨S4x1024x256, .bf16⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S1x1024x256, .f32⟩
  | .hbm, ⟨9, _⟩ => ⟨S1024x256, .f32⟩
  | .hbm, ⟨10, _⟩ => ⟨S4x1024x256, .f32⟩
  | .hbm, ⟨11, _⟩ => ⟨S_, .f32⟩
  | .hbm, ⟨12, _⟩ => ⟨S1024x256, .f32⟩
  | .hbm, ⟨13, _⟩ => ⟨S1x1024x256, .f32⟩
  | .hbm, ⟨14, _⟩ => ⟨S1024x256, .f32⟩
  | .hbm, ⟨15, _⟩ => ⟨S1x1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | .hbm, ⟨42, _⟩ => ⟨S1024x256, .f32⟩
  | .hbm, ⟨43, _⟩ => ⟨S_, .f32⟩
  | .hbm, ⟨44, _⟩ => ⟨S1024x256, .f32⟩
  | .hbm, ⟨45, _⟩ => ⟨S1024x256, .f32⟩
  | .hbm, ⟨46, _⟩ => ⟨S1024x256, .f32⟩
  | .hbm, ⟨47, _⟩ => ⟨S_, .f32⟩
  | .hbm, ⟨48, _⟩ => ⟨S1024x256, .f32⟩
  | .hbm, ⟨49, _⟩ => ⟨S1024x256, .f32⟩
  | .hbm, ⟨50, _⟩ => ⟨S1x1024x256, .f32⟩
  | .hbm, ⟨51, _⟩ => ⟨S1024x256, .f32⟩
  | .hbm, ⟨52, _⟩ => ⟨S1x1024x256, .f32⟩
  | .hbm, ⟨53, _⟩ => ⟨S1x1024x256, .f32⟩
  | .hbm, ⟨54, _⟩ => ⟨S2x1024x256, .f32⟩
  | .hbm, ⟨55, _⟩ => ⟨S1x1024x256, .f32⟩
  | .hbm, ⟨56, _⟩ => ⟨S1024x256, .f32⟩
  | .hbm, ⟨57, _⟩ => ⟨S1x1024x256, .f32⟩
  | .hbm, ⟨58, _⟩ => ⟨S1x1024x256, .f32⟩
  | .hbm, ⟨59, _⟩ => ⟨S2x1024x256, .f32⟩
  | .hbm, ⟨60, _⟩ => ⟨S1x1024x256, .f32⟩
  | .hbm, ⟨61, _⟩ => ⟨S1024x256, .f32⟩
  | .hbm, ⟨62, _⟩ => ⟨S1x1024x256, .f32⟩
  | .hbm, ⟨63, _⟩ => ⟨S1x1024x256, .f32⟩
  | .hbm, ⟨64, _⟩ => ⟨S2x1024x256, .f32⟩
  | .hbm, ⟨65, _⟩ => ⟨S1x1024x256, .f32⟩
  | .hbm, ⟨66, _⟩ => ⟨S1024x256, .f32⟩
  | .hbm, ⟨67, _⟩ => ⟨S1x1024x256, .f32⟩
  | .hbm, ⟨68, _⟩ => ⟨S1x1024x256, .f32⟩
  | .hbm, ⟨69, _⟩ => ⟨S2x1024x256, .f32⟩
  | _, _ => ⟨S2x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== AdamMemory.lean ====
abbrev S2x512x2048 : Shape := ⟨3, ![2, 512, 2048]⟩
abbrev S4x512x2048 : Shape := ⟨3, ![4, 512, 2048]⟩
abbrev S1x128x2048 : Shape := ⟨3, ![1, 128, 2048]⟩
abbrev S4x128x2048 : Shape := ⟨3, ![4, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S4x512x2048, .bf16⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMemoryReferenceIdeal.lean ====
abbrev S2x512x2048 : Shape := ⟨3, ![2, 512, 2048]⟩
abbrev S4x512x2048 : Shape := ⟨3, ![4, 512, 2048]⟩
abbrev S1x512x2048 : Shape := ⟨3, ![1, 512, 2048]⟩
abbrev S512x2048 : Shape := ⟨2, ![512, 2048]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S4x512x2048, .bf16⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S1x512x2048, .f32⟩
  | .hbm, ⟨9, _⟩ => ⟨S512x2048, .f32⟩
  | .hbm, ⟨10, _⟩ => ⟨S4x512x2048, .f32⟩
  | .hbm, ⟨11, _⟩ => ⟨S_, .f32⟩
  | .hbm, ⟨12, _⟩ => ⟨S512x2048, .f32⟩
  | .hbm, ⟨13, _⟩ => ⟨S1x512x2048, .f32⟩
  | .hbm, ⟨14, _⟩ => ⟨S512x2048, .f32⟩
  | .hbm, ⟨15, _⟩ => ⟨S1x512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S_, .f32⟩
  | .hbm, ⟨40, _⟩ => ⟨S512x2048, .f32⟩
  | .hbm, ⟨41, _⟩ => ⟨S512x2048, .f32⟩
  | .hbm, ⟨42, _⟩ => ⟨S512x2048, .f32⟩
  | .hbm, ⟨43, _⟩ => ⟨S_, .f32⟩
  | .hbm, ⟨44, _⟩ => ⟨S512x2048, .f32⟩
  | .hbm, ⟨45, _⟩ => ⟨S512x2048, .f32⟩
  | .hbm, ⟨46, _⟩ => ⟨S512x2048, .f32⟩
  | .hbm, ⟨47, _⟩ => ⟨S_, .f32⟩
  | .hbm, ⟨48, _⟩ => ⟨S512x2048, .f32⟩
  | .hbm, ⟨49, _⟩ => ⟨S512x2048, .f32⟩
  | .hbm, ⟨50, _⟩ => ⟨S1x512x2048, .f32⟩
  | .hbm, ⟨51, _⟩ => ⟨S512x2048, .f32⟩
  | .hbm, ⟨52, _⟩ => ⟨S1x512x2048, .f32⟩
  | .hbm, ⟨53, _⟩ => ⟨S1x512x2048, .f32⟩
  | .hbm, ⟨54, _⟩ => ⟨S2x512x2048, .f32⟩
  | .hbm, ⟨55, _⟩ => ⟨S1x512x2048, .f32⟩
  | .hbm, ⟨56, _⟩ => ⟨S512x2048, .f32⟩
  | .hbm, ⟨57, _⟩ => ⟨S1x512x2048, .f32⟩
  | .hbm, ⟨58, _⟩ => ⟨S1x512x2048, .f32⟩
  | .hbm, ⟨59, _⟩ => ⟨S2x512x2048, .f32⟩
  | .hbm, ⟨60, _⟩ => ⟨S1x512x2048, .f32⟩
  | .hbm, ⟨61, _⟩ => ⟨S512x2048, .f32⟩
  | .hbm, ⟨62, _⟩ => ⟨S1x512x2048, .f32⟩
  | .hbm, ⟨63, _⟩ => ⟨S1x512x2048, .f32⟩
  | .hbm, ⟨64, _⟩ => ⟨S2x512x2048, .f32⟩
  | .hbm, ⟨65, _⟩ => ⟨S1x512x2048, .f32⟩
  | .hbm, ⟨66, _⟩ => ⟨S512x2048, .f32⟩
  | .hbm, ⟨67, _⟩ => ⟨S1x512x2048, .f32⟩
  | .hbm, ⟨68, _⟩ => ⟨S1x512x2048, .f32⟩
  | .hbm, ⟨69, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== AdamGate.lean ====
abbrev S2x4x256x512 : Shape := ⟨4, ![2, 4, 256, 512]⟩
abbrev S4x1024x512 : Shape := ⟨3, ![4, 1024, 512]⟩
abbrev S2x1024x512 : Shape := ⟨3, ![2, 1024, 512]⟩
abbrev S1x512x512 : Shape := ⟨3, ![1, 512, 512]⟩
abbrev S4x512x512 : Shape := ⟨3, ![4, 512, 512]⟩
abbrev S512x512 : Shape := ⟨2, ![512, 512]⟩

abbrev nBuf : Space → Nat
  | .hbm => 15
  | .vmem => 16
  | .smem => 0
  | _ => 0

abbrev bufTy : (tb : Table) → Fin (tcTables nBuf tb) → BufTy
  | .hbm, ⟨0, _⟩ => ⟨S2x4x256x512, .f32⟩
  | .hbm, ⟨1, _⟩ => ⟨S2x4x256x512, .f32⟩
  | .hbm, ⟨2, _⟩ => ⟨S2x4x256x512, .f32⟩
  | .hbm, ⟨3, _⟩ => ⟨S4x1024x512, .bf16⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S4x512x512, .bf16⟩
  | .local _ .vmem, ⟨7, _⟩ => ⟨S4x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S2x4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateReferenceIdeal.lean ====
abbrev S2x4x256x512 : Shape := ⟨4, ![2, 4, 256, 512]⟩
abbrev S4x1024x512 : Shape := ⟨3, ![4, 1024, 512]⟩
abbrev S2x1024x512 : Shape := ⟨3, ![2, 1024, 512]⟩
abbrev S1x4x256x512 : Shape := ⟨4, ![1, 4, 256, 512]⟩
abbrev S4x256x512 : Shape := ⟨3, ![4, 256, 512]⟩
abbrev S1024x512 : Shape := ⟨2, ![1024, 512]⟩
abbrev S_ : Shape := ⟨0, ![]⟩
abbrev S1x1024x512 : Shape := ⟨3, ![1, 1024, 512]⟩

abbrev nBuf : Space → Nat
  | .hbm => 73
  | .vmem => 0
  | .smem => 0
  | _ => 0

abbrev bufTy : (tb : Table) → Fin (tcTables nBuf tb) → BufTy
  | .hbm, ⟨0, _⟩ => ⟨S2x4x256x512, .f32⟩
  | .hbm, ⟨1, _⟩ => ⟨S2x4x256x512, .f32⟩
  | .hbm, ⟨2, _⟩ => ⟨S2x4x256x512, .f32⟩
  | .hbm, ⟨3, _⟩ => ⟨S4x1024x512, .bf16⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S1x4x256x512, .f32⟩
  | .hbm, ⟨9, _⟩ => ⟨S4x256x512, .f32⟩
  | .hbm, ⟨10, _⟩ => ⟨S1024x512, .f32⟩
  | .hbm, ⟨11, _⟩ => ⟨S4x1024x512, .f32⟩
  | .hbm, ⟨12, _⟩ => ⟨S_, .f32⟩
  | .hbm, ⟨13, _⟩ => ⟨S1024x512, .f32⟩
  | .hbm, ⟨14, _⟩ => ⟨S1x4x256x512, .f32⟩
  | .hbm, ⟨15, _⟩ => ⟨S4x256x512, .f32⟩
  | .hbm, ⟨16, _⟩ => ⟨S1024x512, .f32⟩
  | .hbm, ⟨17, _⟩ => ⟨S1x4x256x512, .f32⟩
  | .hbm, ⟨18, _⟩ => ⟨S4x256x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S_, .f32⟩
  | .hbm, ⟨47, _⟩ => ⟨S1024x512, .f32⟩
  | .hbm, ⟨48, _⟩ => ⟨S1024x512, .f32⟩
  | .hbm, ⟨49, _⟩ => ⟨S1024x512, .f32⟩
  | .hbm, ⟨50, _⟩ => ⟨S_, .f32⟩
  | .hbm, ⟨51, _⟩ => ⟨S1024x512, .f32⟩
  | .hbm, ⟨52, _⟩ => ⟨S1024x512, .f32⟩
  | .hbm, ⟨53, _⟩ => ⟨S1x1024x512, .f32⟩
  | .hbm, ⟨54, _⟩ => ⟨S1024x512, .f32⟩
  | .hbm, ⟨55, _⟩ => ⟨S1x1024x512, .f32⟩
  | .hbm, ⟨56, _⟩ => ⟨S1x1024x512, .f32⟩
  | .hbm, ⟨57, _⟩ => ⟨S2x1024x512, .f32⟩
  | .hbm, ⟨58, _⟩ => ⟨S1x1024x512, .f32⟩
  | .hbm, ⟨59, _⟩ => ⟨S1024x512, .f32⟩
  | .hbm, ⟨60, _⟩ => ⟨S1x1024x512, .f32⟩
  | .hbm, ⟨61, _⟩ => ⟨S1x1024x512, .f32⟩
  | .hbm, ⟨62, _⟩ => ⟨S2x1024x512, .f32⟩
  | .hbm, ⟨63, _⟩ => ⟨S1x1024x512, .f32⟩
  | .hbm, ⟨64, _⟩ => ⟨S1024x512, .f32⟩
  | .hbm, ⟨65, _⟩ => ⟨S1x1024x512, .f32⟩
  | .hbm, ⟨66, _⟩ => ⟨S1x1024x512, .f32⟩
  | .hbm, ⟨67, _⟩ => ⟨S2x1024x512, .f32⟩
  | .hbm, ⟨68, _⟩ => ⟨S1x1024x512, .f32⟩
  | .hbm, ⟨69, _⟩ => ⟨S1024x512, .f32⟩
  | .hbm, ⟨70, _⟩ => ⟨S1x1024x512, .f32⟩
  | .hbm, ⟨71, _⟩ => ⟨S1x1024x512, .f32⟩
  | .hbm, ⟨72, _⟩ => ⟨S2x1024x512, .f32⟩
  | _, _ => ⟨S2x4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== AdamGateBias.lean ====
abbrev S2x4x512 : Shape := ⟨3, ![2, 4, 512]⟩
abbrev S4x4x512 : Shape := ⟨3, ![4, 4, 512]⟩
abbrev S1x4x512 : Shape := ⟨3, ![1, 4, 512]⟩
abbrev S4x512 : Shape := ⟨2, ![4, 512]⟩

abbrev nBuf : Space → Nat
  | .hbm => 12
  | .vmem => 8
  | .smem => 0
  | _ => 0

abbrev bufTy : (tb : Table) → Fin (tcTables nBuf tb) → BufTy
  | .hbm, ⟨0, _⟩ => ⟨S2x4x512, .f32⟩
  | .hbm, ⟨1, _⟩ => ⟨S2x4x512, .f32⟩
  | .hbm, ⟨2, _⟩ => ⟨S2x4x512, .f32⟩
  | .hbm, ⟨3, _⟩ => ⟨S4x4x512, .bf16⟩
  | .hbm, ⟨4, _⟩ => ⟨S2x4x512, .f32⟩
  | .hbm, ⟨5, _⟩ => ⟨S2x4x512, .f32⟩
  | .hbm, ⟨6, _⟩ => ⟨S2x4x512, .f32⟩
  | .hbm, ⟨7, _⟩ => ⟨S2x4x512, .f32⟩
  | .hbm, ⟨8, _⟩ => ⟨S2x4x512, .f32⟩
  | .hbm, ⟨9, _⟩ => ⟨S2x4x512, .f32⟩
  | .hbm, ⟨10, _⟩ => ⟨S2x4x512, .f32⟩
  | .hbm, ⟨11, _⟩ => ⟨S2x4x512, .f32⟩
  | .local _ .vmem, ⟨0, _⟩ => ⟨S1x4x512, .f32⟩
  | .local _ .vmem, ⟨1, _⟩ => ⟨S1x4x512, .f32⟩
  | .local _ .vmem, ⟨2, _⟩ => ⟨S1x4x512, .f32⟩
  | .local _ .vmem, ⟨3, _⟩ => ⟨S4x4x512, .bf16⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | .local _ .vmem, ⟨7, _⟩ => ⟨S1x4x512, .f32⟩
  | _, _ => ⟨S2x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGateBiasReferenceIdeal.lean ====
abbrev S2x4x512 : Shape := ⟨3, ![2, 4, 512]⟩
abbrev S4x4x512 : Shape := ⟨3, ![4, 4, 512]⟩
abbrev S1x4x512 : Shape := ⟨3, ![1, 4, 512]⟩
abbrev S4x512 : Shape := ⟨2, ![4, 512]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2x4x512, .f32⟩
  | .hbm, ⟨1, _⟩ => ⟨S2x4x512, .f32⟩
  | .hbm, ⟨2, _⟩ => ⟨S2x4x512, .f32⟩
  | .hbm, ⟨3, _⟩ => ⟨S4x4x512, .bf16⟩
  | .hbm, ⟨4, _⟩ => ⟨S2x4x512, .f32⟩
  | .hbm, ⟨5, _⟩ => ⟨S2x4x512, .f32⟩
  | .hbm, ⟨6, _⟩ => ⟨S2x4x512, .f32⟩
  | .hbm, ⟨7, _⟩ => ⟨S2x4x512, .f32⟩
  | .hbm, ⟨8, _⟩ => ⟨S1x4x512, .f32⟩
  | .hbm, ⟨9, _⟩ => ⟨S4x512, .f32⟩
  | .hbm, ⟨10, _⟩ => ⟨S4x4x512, .f32⟩
  | .hbm, ⟨11, _⟩ => ⟨S_, .f32⟩
  | .hbm, ⟨12, _⟩ => ⟨S4x512, .f32⟩
  | .hbm, ⟨13, _⟩ => ⟨S1x4x512, .f32⟩
  | .hbm, ⟨14, _⟩ => ⟨S4x512, .f32⟩
  | .hbm, ⟨15, _⟩ => ⟨S1x4x512, .f32⟩
  | .hbm, ⟨16, _⟩ => ⟨S4x512, .f32⟩
  | .hbm, ⟨17, _⟩ => ⟨S_, .f32⟩
  | .hbm, ⟨18, _⟩ => ⟨S4x512, .f32⟩
  | .hbm, ⟨19, _⟩ => ⟨S4x512, .f32⟩
  | .hbm, ⟨20, _⟩ => ⟨S_, .f32⟩
  | .hbm, ⟨21, _⟩ => ⟨S4x512, .f32⟩
  | .hbm, ⟨22, _⟩ => ⟨S4x512, .f32⟩
  | .hbm, ⟨23, _⟩ => ⟨S4x512, .f32⟩
  | .hbm, ⟨24, _⟩ => ⟨S_, .f32⟩
  | .hbm, ⟨25, _⟩ => ⟨S4x512, .f32⟩
  | .hbm, ⟨26, _⟩ => ⟨S4x512, .f32⟩
  | .hbm, ⟨27, _⟩ => ⟨S4x512, .f32⟩
  | .hbm, ⟨28, _⟩ => ⟨S_, .f32⟩
  | .hbm, ⟨29, _⟩ => ⟨S4x512, .f32⟩
  | .hbm, ⟨30, _⟩ => ⟨S4x512, .f32⟩
  | .hbm, ⟨31, _⟩ => ⟨S4x512, .f32⟩
  | .hbm, ⟨32, _⟩ => ⟨S_, .f32⟩
  | .hbm, ⟨33, _⟩ => ⟨S4x512, .f32⟩
  | .hbm, ⟨34, _⟩ => ⟨S4x512, .f32⟩
  | .hbm, ⟨35, _⟩ => ⟨S_, .f32⟩
  | .hbm, ⟨36, _⟩ => ⟨S4x512, .f32⟩
  | .hbm, ⟨37, _⟩ => ⟨S4x512, .f32⟩
  | .hbm, ⟨38, _⟩ => ⟨S4x512, .f32⟩
  | .hbm, ⟨39, _⟩ => ⟨S_, .f32⟩
  | .hbm, ⟨40, _⟩ => ⟨S4x512, .f32⟩
  | .hbm, ⟨41, _⟩ => ⟨S4x512, .f32⟩
  | .hbm, ⟨42, _⟩ => ⟨S4x512, .f32⟩
  | .hbm, ⟨43, _⟩ => ⟨S_, .f32⟩
  | .hbm, ⟨44, _⟩ => ⟨S4x512, .f32⟩
  | .hbm, ⟨45, _⟩ => ⟨S4x512, .f32⟩
  | .hbm, ⟨46, _⟩ => ⟨S4x512, .f32⟩
  | .hbm, ⟨47, _⟩ => ⟨S_, .f32⟩
  | .hbm, ⟨48, _⟩ => ⟨S4x512, .f32⟩
  | .hbm, ⟨49, _⟩ => ⟨S4x512, .f32⟩
  | .hbm, ⟨50, _⟩ => ⟨S1x4x512, .f32⟩
  | .hbm, ⟨51, _⟩ => ⟨S4x512, .f32⟩
  | .hbm, ⟨52, _⟩ => ⟨S1x4x512, .f32⟩
  | .hbm, ⟨53, _⟩ => ⟨S1x4x512, .f32⟩
  | .hbm, ⟨54, _⟩ => ⟨S2x4x512, .f32⟩
  | .hbm, ⟨55, _⟩ => ⟨S1x4x512, .f32⟩
  | .hbm, ⟨56, _⟩ => ⟨S4x512, .f32⟩
  | .hbm, ⟨57, _⟩ => ⟨S1x4x512, .f32⟩
  | .hbm, ⟨58, _⟩ => ⟨S1x4x512, .f32⟩
  | .hbm, ⟨59, _⟩ => ⟨S2x4x512, .f32⟩
  | .hbm, ⟨60, _⟩ => ⟨S1x4x512, .f32⟩
  | .hbm, ⟨61, _⟩ => ⟨S4x512, .f32⟩
  | .hbm, ⟨62, _⟩ => ⟨S1x4x512, .f32⟩
  | .hbm, ⟨63, _⟩ => ⟨S1x4x512, .f32⟩
  | .hbm, ⟨64, _⟩ => ⟨S2x4x512, .f32⟩
  | .hbm, ⟨65, _⟩ => ⟨S1x4x512, .f32⟩
  | .hbm, ⟨66, _⟩ => ⟨S4x512, .f32⟩
  | .hbm, ⟨67, _⟩ => ⟨S1x4x512, .f32⟩
  | .hbm, ⟨68, _⟩ => ⟨S1x4x512, .f32⟩
  | .hbm, ⟨69, _⟩ => ⟨S2x4x512, .f32⟩
  | _, _ => ⟨S2x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== AdamBranch.lean ====
abbrev S2x4x1024x512 : Shape := ⟨4, ![2, 4, 1024, 512]⟩
abbrev S4x4096x512 : Shape := ⟨3, ![4, 4096, 512]⟩
abbrev S2x4096x512 : Shape := ⟨3, ![2, 4096, 512]⟩
abbrev S1x512x512 : Shape := ⟨3, ![1, 512, 512]⟩
abbrev S4x512x512 : Shape := ⟨3, ![4, 512, 512]⟩
abbrev S512x512 : Shape := ⟨2, ![512, 512]⟩

abbrev nBuf : Space → Nat
  | .hbm => 15
  | .vmem => 16
  | .smem => 0
  | _ => 0

abbrev bufTy : (tb : Table) → Fin (tcTables nBuf tb) → BufTy
  | .hbm, ⟨0, _⟩ => ⟨S2x4x1024x512, .f32⟩
  | .hbm, ⟨1, _⟩ => ⟨S2x4x1024x512, .f32⟩
  | .hbm, ⟨2, _⟩ => ⟨S2x4x1024x512, .f32⟩
  | .hbm, ⟨3, _⟩ => ⟨S4x4096x512, .bf16⟩
  | .hbm, ⟨4, _⟩ => ⟨S2x4096x512, .f32⟩
  | .hbm, ⟨5, _⟩ => ⟨S2x4096x512, .f32⟩
  | .hbm, ⟨6, _⟩ => ⟨S2x4096x512, .f32⟩
  | .hbm, ⟨7, _⟩ => ⟨S2x4096x512, .f32⟩
  | .hbm, ⟨8, _⟩ => ⟨S2x4096x512, .f32⟩
  | .hbm, ⟨9, _⟩ => ⟨S2x4096x512, .f32⟩
  | .hbm, ⟨10, _⟩ => ⟨S2x4096x512, .f32⟩
  | .hbm, ⟨11, _⟩ => ⟨S2x4096x512, .f32⟩
  | .hbm, ⟨12, _⟩ => ⟨S2x4096x512, .f32⟩
  | .hbm, ⟨13, _⟩ => ⟨S2x4096x512, .f32⟩
  | .hbm, ⟨14, _⟩ => ⟨S2x4096x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S4x512x512, .bf16⟩
  | .local _ .vmem, ⟨7, _⟩ => ⟨S4x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S2x4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBranchReferenceIdeal.lean ====
abbrev S2x4x1024x512 : Shape := ⟨4, ![2, 4, 1024, 512]⟩
abbrev S4x4096x512 : Shape := ⟨3, ![4, 4096, 512]⟩
abbrev S2x4096x512 : Shape := ⟨3, ![2, 4096, 512]⟩
abbrev S1x4x1024x512 : Shape := ⟨4, ![1, 4, 1024, 512]⟩
abbrev S4x1024x512 : Shape := ⟨3, ![4, 1024, 512]⟩
abbrev S4096x512 : Shape := ⟨2, ![4096, 512]⟩
abbrev S_ : Shape := ⟨0, ![]⟩
abbrev S1x4096x512 : Shape := ⟨3, ![1, 4096, 512]⟩

abbrev nBuf : Space → Nat
  | .hbm => 73
  | .vmem => 0
  | .smem => 0
  | _ => 0

abbrev bufTy : (tb : Table) → Fin (tcTables nBuf tb) → BufTy
  | .hbm, ⟨0, _⟩ => ⟨S2x4x1024x512, .f32⟩
  | .hbm, ⟨1, _⟩ => ⟨S2x4x1024x512, .f32⟩
  | .hbm, ⟨2, _⟩ => ⟨S2x4x1024x512, .f32⟩
  | .hbm, ⟨3, _⟩ => ⟨S4x4096x512, .bf16⟩
  | .hbm, ⟨4, _⟩ => ⟨S2x4096x512, .f32⟩
  | .hbm, ⟨5, _⟩ => ⟨S2x4096x512, .f32⟩
  | .hbm, ⟨6, _⟩ => ⟨S2x4096x512, .f32⟩
  | .hbm, ⟨7, _⟩ => ⟨S2x4096x512, .f32⟩
  | .hbm, ⟨8, _⟩ => ⟨S1x4x1024x512, .f32⟩
  | .hbm, ⟨9, _⟩ => ⟨S4x1024x512, .f32⟩
  | .hbm, ⟨10, _⟩ => ⟨S4096x512, .f32⟩
  | .hbm, ⟨11, _⟩ => ⟨S4x4096x512, .f32⟩
  | .hbm, ⟨12, _⟩ => ⟨S_, .f32⟩
  | .hbm, ⟨13, _⟩ => ⟨S4096x512, .f32⟩
  | .hbm, ⟨14, _⟩ => ⟨S1x4x1024x512, .f32⟩
  | .hbm, ⟨15, _⟩ => ⟨S4x1024x512, .f32⟩
  | .hbm, ⟨16, _⟩ => ⟨S4096x512, .f32⟩
  | .hbm, ⟨17, _⟩ => ⟨S1x4x1024x512, .f32⟩
  | .hbm, ⟨18, _⟩ => ⟨S4x1024x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S4096x512, .f32⟩
  | .hbm, ⟨52, _⟩ => ⟨S4096x512, .f32⟩
  | .hbm, ⟨53, _⟩ => ⟨S1x4096x512, .f32⟩
  | .hbm, ⟨54, _⟩ => ⟨S4096x512, .f32⟩
  | .hbm, ⟨55, _⟩ => ⟨S1x4096x512, .f32⟩
  | .hbm, ⟨56, _⟩ => ⟨S1x4096x512, .f32⟩
  | .hbm, ⟨57, _⟩ => ⟨S2x4096x512, .f32⟩
  | .hbm, ⟨58, _⟩ => ⟨S1x4096x512, .f32⟩
  | .hbm, ⟨59, _⟩ => ⟨S4096x512, .f32⟩
  | .hbm, ⟨60, _⟩ => ⟨S1x4096x512, .f32⟩
  | .hbm, ⟨61, _⟩ => ⟨S1x4096x512, .f32⟩
  | .hbm, ⟨62, _⟩ => ⟨S2x4096x512, .f32⟩
  | .hbm, ⟨63, _⟩ => ⟨S1x4096x512, .f32⟩
  | .hbm, ⟨64, _⟩ => ⟨S4096x512, .f32⟩
  | .hbm, ⟨65, _⟩ => ⟨S1x4096x512, .f32⟩
  | .hbm, ⟨66, _⟩ => ⟨S1x4096x512, .f32⟩
  | .hbm, ⟨67, _⟩ => ⟨S2x4096x512, .f32⟩
  | .hbm, ⟨68, _⟩ => ⟨S1x4096x512, .f32⟩
  | .hbm, ⟨69, _⟩ => ⟨S4096x512, .f32⟩
  | .hbm, ⟨70, _⟩ => ⟨S1x4096x512, .f32⟩
  | .hbm, ⟨71, _⟩ => ⟨S1x4096x512, .f32⟩
  | .hbm, ⟨72, _⟩ => ⟨S2x4096x512, .f32⟩
  | _, _ => ⟨S2x4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== AdamOut.lean ====
abbrev S2x512x4096 : Shape := ⟨3, ![2, 512, 4096]⟩
abbrev S4x512x4096 : Shape := ⟨3, ![4, 512, 4096]⟩
abbrev S1x64x4096 : Shape := ⟨3, ![1, 64, 4096]⟩
abbrev S4x64x4096 : Shape := ⟨3, ![4, 64, 4096]⟩
abbrev S64x4096 : Shape := ⟨2, ![64, 4096]⟩

abbrev nBuf : Space → Nat
  | .hbm => 12
  | .vmem => 16
  | .smem => 0
  | _ => 0

abbrev bufTy : (tb : Table) → Fin (tcTables nBuf tb) → BufTy
  | .hbm, ⟨0, _⟩ => ⟨S2x512x4096, .f32⟩
  | .hbm, ⟨1, _⟩ => ⟨S2x512x4096, .f32⟩
  | .hbm, ⟨2, _⟩ => ⟨S2x512x4096, .f32⟩
  | .hbm, ⟨3, _⟩ => ⟨S4x512x4096, .bf16⟩
  | .hbm, ⟨4, _⟩ => ⟨S2x512x4096, .f32⟩
  | .hbm, ⟨5, _⟩ => ⟨S2x512x4096, .f32⟩
  | .hbm, ⟨6, _⟩ => ⟨S2x512x4096, .f32⟩
  | .hbm, ⟨7, _⟩ => ⟨S2x512x4096, .f32⟩
  | .hbm, ⟨8, _⟩ => ⟨S2x512x4096, .f32⟩
  | .hbm, ⟨9, _⟩ => ⟨S2x512x4096, .f32⟩
  | .hbm, ⟨10, _⟩ => ⟨S2x512x4096, .f32⟩
  | .hbm, ⟨11, _⟩ => ⟨S2x512x4096, .f32⟩
  | .local _ .vmem, ⟨0, _⟩ => ⟨S1x64x4096, .f32⟩
  | .local _ .vmem, ⟨1, _⟩ => ⟨S1x64x4096, .f32⟩
  | .local _ .vmem, ⟨2, _⟩ => ⟨S1x64x4096, .f32⟩
  | .local _ .vmem, ⟨3, _⟩ => ⟨S1x64x4096, .f32⟩
  | .local _ .vmem, ⟨4, _⟩ => ⟨S1x64x4096, .f32⟩
  | .local _ .vmem, ⟨5, _⟩ => ⟨S1x64x4096, .f32⟩
  | .local _ .vmem, ⟨6, _⟩ => ⟨S4x64x4096, .bf16⟩
  | .local _ .vmem, ⟨7, _⟩ => ⟨S4x64x4096, .bf16⟩
  | .local _ .vmem, ⟨8, _⟩ => ⟨S1x64x4096, .f32⟩
  | .local _ .vmem, ⟨9, _⟩ => ⟨S1x64x4096, .f32⟩
  | .local _ .vmem, ⟨10, _⟩ => ⟨S1x64x4096, .f32⟩
  | .local _ .vmem, ⟨11, _⟩ => ⟨S1x64x4096, .f32⟩
  | .local _ .vmem, ⟨12, _⟩ => ⟨S1x64x4096, .f32⟩
  | .local _ .vmem, ⟨13, _⟩ => ⟨S1x64x4096, .f32⟩
  | .local _ .vmem, ⟨14, _⟩ => ⟨S1x64x4096, .f32⟩
  | .local _ .vmem, ⟨15, _⟩ => ⟨S1x64x4096, .f32⟩
  | _, _ => ⟨S2x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutReferenceIdeal.lean ====
abbrev S2x512x4096 : Shape := ⟨3, ![2, 512, 4096]⟩
abbrev S4x512x4096 : Shape := ⟨3, ![4, 512, 4096]⟩
abbrev S1x512x4096 : Shape := ⟨3, ![1, 512, 4096]⟩
abbrev S512x4096 : Shape := ⟨2, ![512, 4096]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2x512x4096, .f32⟩
  | .hbm, ⟨1, _⟩ => ⟨S2x512x4096, .f32⟩
  | .hbm, ⟨2, _⟩ => ⟨S2x512x4096, .f32⟩
  | .hbm, ⟨3, _⟩ => ⟨S4x512x4096, .bf16⟩
  | .hbm, ⟨4, _⟩ => ⟨S2x512x4096, .f32⟩
  | .hbm, ⟨5, _⟩ => ⟨S2x512x4096, .f32⟩
  | .hbm, ⟨6, _⟩ => ⟨S2x512x4096, .f32⟩
  | .hbm, ⟨7, _⟩ => ⟨S2x512x4096, .f32⟩
  | .hbm, ⟨8, _⟩ => ⟨S1x512x4096, .f32⟩
  | .hbm, ⟨9, _⟩ => ⟨S512x4096, .f32⟩
  | .hbm, ⟨10, _⟩ => ⟨S4x512x4096, .f32⟩
  | .hbm, ⟨11, _⟩ => ⟨S_, .f32⟩
  | .hbm, ⟨12, _⟩ => ⟨S512x4096, .f32⟩
  | .hbm, ⟨13, _⟩ => ⟨S1x512x4096, .f32⟩
  | .hbm, ⟨14, _⟩ => ⟨S512x4096, .f32⟩
  | .hbm, ⟨15, _⟩ => ⟨S1x512x4096, .f32⟩
  | .hbm, ⟨16, _⟩ => ⟨S512x4096, .f32⟩
  | .hbm, ⟨17, _⟩ => ⟨S_, .f32⟩
  | .hbm, ⟨18, _⟩ => ⟨S512x4096, .f32⟩
  | .hbm, ⟨19, _⟩ => ⟨S512x4096, .f32⟩
  | .hbm, ⟨20, _⟩ => ⟨S_, .f32⟩
  | .hbm, ⟨21, _⟩ => ⟨S512x4096, .f32⟩
  | .hbm, ⟨22, _⟩ => ⟨S512x4096, .f32⟩
  | .hbm, ⟨23, _⟩ => ⟨S512x4096, .f32⟩
  | .hbm, ⟨24, _⟩ => ⟨S_, .f32⟩
  | .hbm, ⟨25, _⟩ => ⟨S512x4096, .f32⟩
  | .hbm, ⟨26, _⟩ => ⟨S512x4096, .f32⟩
  | .hbm, ⟨27, _⟩ => ⟨S512x4096, .f32⟩
  | .hbm, ⟨28, _⟩ => ⟨S_, .f32⟩
  | .hbm, ⟨29, _⟩ => ⟨S512x4096, .f32⟩
  | .hbm, ⟨30, _⟩ => ⟨S512x4096, .f32⟩
  | .hbm, ⟨31, _⟩ => ⟨S512x4096, .f32⟩
  | .hbm, ⟨32, _⟩ => ⟨S_, .f32⟩
  | .hbm, ⟨33, _⟩ => ⟨S512x4096, .f32⟩
  | .hbm, ⟨34, _⟩ => ⟨S512x4096, .f32⟩
  | .hbm, ⟨35, _⟩ => ⟨S_, .f32⟩
  | .hbm, ⟨36, _⟩ => ⟨S512x4096, .f32⟩
  | .hbm, ⟨37, _⟩ => ⟨S512x4096, .f32⟩
  | .hbm, ⟨38, _⟩ => ⟨S512x4096, .f32⟩
  | .hbm, ⟨39, _⟩ => ⟨S_, .f32⟩
  | .hbm, ⟨40, _⟩ => ⟨S512x4096, .f32⟩
  | .hbm, ⟨41, _⟩ => ⟨S512x4096, .f32⟩
  | .hbm, ⟨42, _⟩ => ⟨S512x4096, .f32⟩
  | .hbm, ⟨43, _⟩ => ⟨S_, .f32⟩
  | .hbm, ⟨44, _⟩ => ⟨S512x4096, .f32⟩
  | .hbm, ⟨45, _⟩ => ⟨S512x4096, .f32⟩
  | .hbm, ⟨46, _⟩ => ⟨S512x4096, .f32⟩
  | .hbm, ⟨47, _⟩ => ⟨S_, .f32⟩
  | .hbm, ⟨48, _⟩ => ⟨S512x4096, .f32⟩
  | .hbm, ⟨49, _⟩ => ⟨S512x4096, .f32⟩
  | .hbm, ⟨50, _⟩ => ⟨S1x512x4096, .f32⟩
  | .hbm, ⟨51, _⟩ => ⟨S512x4096, .f32⟩
  | .hbm, ⟨52, _⟩ => ⟨S1x512x4096, .f32⟩
  | .hbm, ⟨53, _⟩ => ⟨S1x512x4096, .f32⟩
  | .hbm, ⟨54, _⟩ => ⟨S2x512x4096, .f32⟩
  | .hbm, ⟨55, _⟩ => ⟨S1x512x4096, .f32⟩
  | .hbm, ⟨56, _⟩ => ⟨S512x4096, .f32⟩
  | .hbm, ⟨57, _⟩ => ⟨S1x512x4096, .f32⟩
  | .hbm, ⟨58, _⟩ => ⟨S1x512x4096, .f32⟩
  | .hbm, ⟨59, _⟩ => ⟨S2x512x4096, .f32⟩
  | .hbm, ⟨60, _⟩ => ⟨S1x512x4096, .f32⟩
  | .hbm, ⟨61, _⟩ => ⟨S512x4096, .f32⟩
  | .hbm, ⟨62, _⟩ => ⟨S1x512x4096, .f32⟩
  | .hbm, ⟨63, _⟩ => ⟨S1x512x4096, .f32⟩
  | .hbm, ⟨64, _⟩ => ⟨S2x512x4096, .f32⟩
  | .hbm, ⟨65, _⟩ => ⟨S1x512x4096, .f32⟩
  | .hbm, ⟨66, _⟩ => ⟨S512x4096, .f32⟩
  | .hbm, ⟨67, _⟩ => ⟨S1x512x4096, .f32⟩
  | .hbm, ⟨68, _⟩ => ⟨S1x512x4096, .f32⟩
  | .hbm, ⟨69, _⟩ => ⟨S2x512x4096, .f32⟩
  | _, _ => ⟨S2x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== AdamRest.lean ====
abbrev S2x4096 : Shape := ⟨2, ![2, 4096]⟩
abbrev S2x8 : Shape := ⟨2, ![2, 8]⟩
abbrev S2x128 : Shape := ⟨2, ![2, 128]⟩
abbrev S2x1024 : Shape := ⟨2, ![2, 1024]⟩
abbrev S2x8x128x128 : Shape := ⟨4, ![2, 8, 128, 128]⟩
abbrev S2x64 : Shape := ⟨2, ![2, 64]⟩
abbrev S2x64x64 : Shape := ⟨3, ![2, 64, 64]⟩
abbrev S2x64x64x16 : Shape := ⟨4, ![2, 64, 64, 16]⟩
abbrev S2x64x16x64 : Shape := ⟨4, ![2, 64, 16, 64]⟩
abbrev S2x64x16 : Shape := ⟨3, ![2, 64, 16]⟩
abbrev S2x2048 : Shape := ⟨2, ![2, 2048]⟩
abbrev S4096 : Shape := ⟨1, ![4096]⟩
abbrev S8192 : Shape := ⟨1, ![8192]⟩
abbrev S16 : Shape := ⟨1, ![16]⟩
abbrev S256 : Shape := ⟨1, ![256]⟩
abbrev S2048 : Shape := ⟨1, ![2048]⟩
abbrev S262144 : Shape := ⟨1, ![262144]⟩
abbrev S128 : Shape := ⟨1, ![128]⟩
abbrev S131072 : Shape := ⟨1, ![131072]⟩
abbrev S950688 : Shape := ⟨1, ![950688]⟩
abbrev S149504 : Shape := ⟨1, ![149504]⟩
abbrev S1100192 : Shape := ⟨1, ![1100192]⟩
abbrev S_ : Shape := ⟨0, ![]⟩
abbrev S1114112 : Shape := ⟨1, ![1114112]⟩
abbrev S2176x512 : Shape := ⟨2, ![2176, 512]⟩
abbrev S1x2176x512 : Shape := ⟨3, ![1, 2176, 512]⟩
abbrev S272x512 : Shape := ⟨2, ![272, 512]⟩
abbrev S1x272x512 : Shape := ⟨3, ![1, 272, 512]⟩

abbrev nBuf : Space → Nat
  | .hbm => 197
  | .vmem => 16
  | .smem => 0
  | _ => 0

abbrev hbmTy0_0 (i : Nat) : BufTy := match i % 128 with
  | 0 => ⟨S2x4096, .f32⟩
  | 1 => ⟨S2x8, .f32⟩
  | 2 => ⟨S2x8, .f32⟩
  | 3 => ⟨S2x128, .f32⟩
  | 4 => ⟨S2x1024, .f32⟩
  | 5 => ⟨S2x8x128x128, .f32⟩
  | 6 => ⟨S2x1024, .f32⟩
  | 7 => ⟨S2x8x128x128, .f32⟩
  | 8 => ⟨S2x1024, .f32⟩
  | 9 => ⟨S2x1024, .f32⟩
  | 10 => ⟨S2x64, .f32⟩
  | 11 => ⟨S2x64x64, .f32⟩
  | 12 => ⟨S2x64x64, .f32⟩
  | 13 => ⟨S2x64x64x16, .f32⟩
  | 14 => ⟨S2x64x64x16, .f32⟩
  | 15 => ⟨S2x64x16x64, .f32⟩
  | 16 => ⟨S2x64x16x64, .f32⟩
  | 17 => ⟨S2x64x16, .f32⟩
  | 18 => ⟨S2x2048, .f32⟩
  | 19 => ⟨S2x4096, .f32⟩
  | 20 => ⟨S4096, .f32⟩
  | 21 => ⟨S2x4096, .f32⟩
  | 22 => ⟨S2x8, .f32⟩
  | 23 => ⟨S2x8, .f32⟩
  | 24 => ⟨S2x128, .f32⟩
  | 25 => ⟨S2x1024, .f32⟩
  | 26 => ⟨S2x8x128x128, .f32⟩
  | 27 => ⟨S2x1024, .f32⟩
  | 28 => ⟨S2x8x128x128, .f32⟩
  | 29 => ⟨S2x1024, .f32⟩
  | 30 => ⟨S2x1024, .f32⟩
  | 31 => ⟨S2x64, .f32⟩
  | 32 => ⟨S2x64x64, .f32⟩
  | 33 => ⟨S2x64x64, .f32⟩
  | 34 => ⟨S2x64x64x16, .f32⟩
  | 35 => ⟨S2x64x64x16, .f32⟩
  | 36 => ⟨S2x64x16x64, .f32⟩
  | 37 => ⟨S2x64x16x64, .f32⟩
  | 38 => ⟨S2x64x16, .f32⟩
  | 39 => ⟨S2x2048, .f32⟩
  | 40 => ⟨S2x4096, .f32⟩
  | 41 => ⟨S4096, .f32⟩
  | 42 => ⟨S2x4096, .f32⟩
  | 43 => ⟨S2x8, .f32⟩
  | 44 => ⟨S2x8, .f32⟩
  | 45 => ⟨S2x128, .f32⟩
  | 46 => ⟨S2x1024, .f32⟩
  | 47 => ⟨S2x8x128x128, .f32⟩
  | 48 => ⟨S2x1024, .f32⟩
  | 49 => ⟨S2x8x128x128, .f32⟩
  | 50 => ⟨S2x1024, .f32⟩
  | 51 => ⟨S2x1024, .f32⟩
  | 52 => ⟨S2x64, .f32⟩
  | 53 => ⟨S2x64x64, .f32⟩
  | 54 => ⟨S2x64x64, .f32⟩
  | 55 => ⟨S2x64x64x16, .f32⟩
  | 56 => ⟨S2x64x64x16, .f32⟩
  | 57 => ⟨S2x64x16x64, .f32⟩
  | 58 => ⟨S2x64x16x64, .f32⟩
  | 59 => ⟨S2x64x16, .f32⟩
  | 60 => ⟨S2x2048, .f32⟩
  | 61 => ⟨S2x4096, .f32⟩
  | 62 => ⟨S4096, .f32⟩
  | 63 => ⟨S2x4096, .f32⟩
  | 64 => ⟨S2x8, .f32⟩
  | 65 => ⟨S2x8, .f32⟩
  | 66 => ⟨S2x128, .f32⟩
  | 67 => ⟨S2x1024, .f32⟩
  | 68 => ⟨S2x8x128x128, .f32⟩
  | 69 => ⟨S2x1024, .f32⟩
  | 70 => ⟨S2x8x128x128, .f32⟩
  | 71 => ⟨S2x1024, .f32⟩
  | 72 => ⟨S2x1024, .f32⟩
  | 73 => ⟨S2x64, .f32⟩
  | 74 => ⟨S2x64x64, .f32⟩
  | 75 => ⟨S2x64x64, .f32⟩
  | 76 => ⟨S2x64x64x16, .f32⟩
  | 77 => ⟨S2x64x64x16, .f32⟩
  | 78 => ⟨S2x64x16x64, .f32⟩
  | 79 => ⟨S2x64x16x64, .f32⟩
  | 80 => ⟨S2x64x16, .f32⟩
  | 81 => ⟨S2x2048, .f32⟩
  | 82 => ⟨S2x4096, .f32⟩
  | 83 => ⟨S4096, .f32⟩
  | 84 => ⟨S8192, .f32⟩
  | 85 => ⟨S16, .f32⟩
  | 86 => ⟨S16, .f32⟩
  | 87 => ⟨S256, .f32⟩
  | 88 => ⟨S2048, .f32⟩
  | 89 => ⟨S262144, .f32⟩
  | 90 => ⟨S2048, .f32⟩
  | 91 => ⟨S262144, .f32⟩
  | 92 => ⟨S2048, .f32⟩
  | 93 => ⟨S2048, .f32⟩
  | 94 => ⟨S128, .f32⟩
  | 95 => ⟨S8192, .f32⟩
  | 96 => ⟨S8192, .f32⟩
  | 97 => ⟨S131072, .f32⟩
  | 98 => ⟨S131072, .f32⟩
  | 99 => ⟨S131072, .f32⟩
  | 100 => ⟨S131072, .f32⟩
  | 101 => ⟨S2048, .f32⟩
  | 102 => ⟨S4096, .f32⟩
  | 103 => ⟨S8192, .f32⟩
  | 104 => ⟨S950688, .f32⟩
  | 105 => ⟨S149504, .f32⟩
  | 106 => ⟨S1100192, .f32⟩
  | 107 => ⟨S_, .i32⟩
  | 108 => ⟨S_, .f32⟩
  | 109 => ⟨S1114112, .f32⟩
  | 110 => ⟨S2176x512, .f32⟩
  | 111 => ⟨S8192, .f32⟩
  | 112 => ⟨S16, .f32⟩
  | 113 => ⟨S16, .f32⟩
  | 114 => ⟨S256, .f32⟩
  | 115 => ⟨S2048, .f32⟩
  | 116 => ⟨S262144, .f32⟩
  | 117 => ⟨S2048, .f32⟩
  | 118 => ⟨S262144, .f32⟩
  | 119 => ⟨S2048, .f32⟩
  | 120 => ⟨S2048, .f32⟩
  | 121 => ⟨S128, .f32⟩
  | 122 => ⟨S8192, .f32⟩
  | 123 => ⟨S8192, .f32⟩
  | 124 => ⟨S131072, .f32⟩
  | 125 => ⟨S131072, .f32⟩
  | 126 => ⟨S131072, .f32⟩
  | 127 => ⟨S131072, .f32⟩
  | _ => ⟨S2x4096, .f32⟩

abbrev hbmTy0_1 (i : Nat) : BufTy := match i % 128 with
  | 0 => ⟨S2048, .f32⟩
  | 1 => ⟨S4096, .f32⟩
  | 2 => ⟨S8192, .f32⟩
  | 3 => ⟨S950688, .f32⟩
  | 4 => ⟨S149504, .f32⟩
  | 5 => ⟨S1100192, .f32⟩
  | 6 => ⟨S_, .i32⟩
  | 7 => ⟨S_, .f32⟩
  | 8 => ⟨S1114112, .f32⟩
  | 9 => ⟨S2176x512, .f32⟩
  | 10 => ⟨S8192, .f32⟩
  | 11 => ⟨S16, .f32⟩
  | 12 => ⟨S16, .f32⟩
  | 13 => ⟨S256, .f32⟩
  | 14 => ⟨S2048, .f32⟩
  | 15 => ⟨S262144, .f32⟩
  | 16 => ⟨S2048, .f32⟩
  | 17 => ⟨S262144, .f32⟩
  | 18 => ⟨S2048, .f32⟩
  | 19 => ⟨S2048, .f32⟩
  | 20 => ⟨S128, .f32⟩
  | 21 => ⟨S8192, .f32⟩
  | 22 => ⟨S8192, .f32⟩
  | 23 => ⟨S131072, .f32⟩
  | 24 => ⟨S131072, .f32⟩
  | 25 => ⟨S131072, .f32⟩
  | 26 => ⟨S131072, .f32⟩
  | 27 => ⟨S2048, .f32⟩
  | 28 => ⟨S4096, .f32⟩
  | 29 => ⟨S8192, .f32⟩
  | 30 => ⟨S950688, .f32⟩
  | 31 => ⟨S149504, .f32⟩
  | 32 => ⟨S1100192, .f32⟩
  | 33 => ⟨S_, .i32⟩
  | 34 => ⟨S_, .f32⟩
  | 35 => ⟨S1114112, .f32⟩
  | 36 => ⟨S2176x512, .f32⟩
  | 37 => ⟨S8192, .f32⟩
  | 38 => ⟨S16, .f32⟩
  | 39 => ⟨S16, .f32⟩
  | 40 => ⟨S256, .f32⟩
  | 41 => ⟨S2048, .f32⟩
  | 42 => ⟨S262144, .f32⟩
  | 43 => ⟨S2048, .f32⟩
  | 44 => ⟨S262144, .f32⟩
  | 45 => ⟨S2048, .f32⟩
  | 46 => ⟨S2048, .f32⟩
  | 47 => ⟨S128, .f32⟩
  | 48 => ⟨S8192, .f32⟩
  | 49 => ⟨S8192, .f32⟩
  | 50 => ⟨S131072, .f32⟩
  | 51 => ⟨S131072, .f32⟩
  | 52 => ⟨S131072, .f32⟩
  | 53 => ⟨S131072, .f32⟩
  | 54 => ⟨S2048, .f32⟩
  | 55 => ⟨S4096, .f32⟩
  | 56 => ⟨S8192, .f32⟩
  | 57 => ⟨S950688, .f32⟩
  | 58 => ⟨S149504, .f32⟩
  | 59 => ⟨S1100192, .f32⟩
  | 60 => ⟨S_, .i32⟩
  | 61 => ⟨S_, .f32⟩
  | 62 => ⟨S1114112, .f32⟩
  | 63 => ⟨S2176x512, .f32⟩
  | 64 => ⟨S1x2176x512, .f32⟩
  | 65 => ⟨S2176x512, .f32⟩
  | 66 => ⟨S2176x512, .f32⟩
  | 67 => ⟨S2176x512, .f32⟩
  | 68 => ⟨S2176x512, .f32⟩
  | _ => ⟨S2x4096, .f32⟩

abbrev hbmTy (i : Nat) : BufTy := match i / 128 with
  | 0 => hbmTy0_0 i
  | 1 => hbmTy0_1 i
  | _ => ⟨S2x4096, .f32⟩

abbrev bufTy : (tb : Table) → Fin (tcTables nBuf tb) → BufTy
  | .hbm, ⟨i, _⟩ => hbmTy i
  | .local _ .vmem, ⟨0, _⟩ => ⟨S272x512, .f32⟩
  | .local _ .vmem, ⟨1, _⟩ => ⟨S272x512, .f32⟩
  | .local _ .vmem, ⟨2, _⟩ => ⟨S272x512, .f32⟩
  | .local _ .vmem, ⟨3, _⟩ => ⟨S272x512, .f32⟩
  | .local _ .vmem, ⟨4, _⟩ => ⟨S272x512, .f32⟩
  | .local _ .vmem, ⟨5, _⟩ => ⟨S272x512, .f32⟩
  | .local _ .vmem, ⟨6, _⟩ => ⟨S1x272x512, .f32⟩
  | .local _ .vmem, ⟨7, _⟩ => ⟨S1x272x512, .f32⟩
  | .local _ .vmem, ⟨8, _⟩ => ⟨S272x512, .f32⟩
  | .local _ .vmem, ⟨9, _⟩ => ⟨S272x512, .f32⟩
  | .local _ .vmem, ⟨10, _⟩ => ⟨S272x512, .f32⟩
  | .local _ .vmem, ⟨11, _⟩ => ⟨S272x512, .f32⟩
  | .local _ .vmem, ⟨12, _⟩ => ⟨S272x512, .f32⟩
  | .local _ .vmem, ⟨13, _⟩ => ⟨S272x512, .f32⟩
  | .local _ .vmem, ⟨14, _⟩ => ⟨S272x512, .f32⟩
  | .local _ .vmem, ⟨15, _⟩ => ⟨S272x512, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_arg76 : Ref sig .tc := ⟨.hbm, 76, rfl⟩
abbrev main_arg77 : Ref sig .tc := ⟨.hbm, 77, rfl⟩
abbrev main_arg78 : Ref sig .tc := ⟨.hbm, 78, rfl⟩
abbrev main_arg79 : Ref sig .tc := ⟨.hbm, 79, rfl⟩
abbrev main_arg80 : Ref sig .tc := ⟨.hbm, 80, rfl⟩
abbrev main_arg81 : Ref sig .tc := ⟨.hbm, 81, rfl⟩
abbrev main_arg82 : Ref sig .tc := ⟨.hbm, 82, rfl⟩
abbrev main_arg83 : Ref sig .tc := ⟨.hbm, 83, rfl⟩
abbrev main_v0 : Ref sig .tc := ⟨.hbm, 84, rfl⟩
abbrev main_v1 : Ref sig .tc := ⟨.hbm, 85, rfl⟩
abbrev main_v2 : Ref sig .tc := ⟨.hbm, 86, rfl⟩
abbrev main_v3 : Ref sig .tc := ⟨.hbm, 87, rfl⟩
abbrev main_v4 : Ref sig .tc := ⟨.hbm, 88, rfl⟩
abbrev main_v5 : Ref sig .tc := ⟨.hbm, 89, rfl⟩
abbrev main_v6 : Ref sig .tc := ⟨.hbm, 90, rfl⟩
abbrev main_v7 : Ref sig .tc := ⟨.hbm, 91, rfl⟩
abbrev main_v8 : Ref sig .tc := ⟨.hbm, 92, rfl⟩
abbrev main_v9 : Ref sig .tc := ⟨.hbm, 93, rfl⟩
abbrev main_v10 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_c : Ref sig .tc := ⟨.hbm, 107, rfl⟩
abbrev main_call0_v0 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_c_0 : Ref sig .tc := ⟨.hbm, 134, rfl⟩
abbrev main_call1_v0 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_c_1 : Ref sig .tc := ⟨.hbm, 161, rfl⟩
abbrev main_call2_v0 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_c_2 : Ref sig .tc := ⟨.hbm, 188, rfl⟩
abbrev main_call3_v0 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101_0 : Ref sig .tc := ⟨.hbm, 193, rfl⟩
abbrev main_v101_1 : Ref sig .tc := ⟨.hbm, 194, rfl⟩
abbrev main_v101_2 : Ref sig .tc := ⟨.hbm, 195, rfl⟩
abbrev main_v101_3 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x272x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRestReferenceIdeal.lean ====
abbrev S2x4096 : Shape := ⟨2, ![2, 4096]⟩
abbrev S2x8 : Shape := ⟨2, ![2, 8]⟩
abbrev S2x128 : Shape := ⟨2, ![2, 128]⟩
abbrev S2x1024 : Shape := ⟨2, ![2, 1024]⟩
abbrev S2x8x128x128 : Shape := ⟨4, ![2, 8, 128, 128]⟩
abbrev S2x64 : Shape := ⟨2, ![2, 64]⟩
abbrev S2x64x64 : Shape := ⟨3, ![2, 64, 64]⟩
abbrev S2x64x64x16 : Shape := ⟨4, ![2, 64, 64, 16]⟩
abbrev S2x64x16x64 : Shape := ⟨4, ![2, 64, 16, 64]⟩
abbrev S2x64x16 : Shape := ⟨3, ![2, 64, 16]⟩
abbrev S2x2048 : Shape := ⟨2, ![2, 2048]⟩
abbrev S4096 : Shape := ⟨1, ![4096]⟩
abbrev S8192 : Shape := ⟨1, ![8192]⟩
abbrev S_ : Shape := ⟨0, ![]⟩
abbrev S16 : Shape := ⟨1, ![16]⟩
abbrev S256 : Shape := ⟨1, ![256]⟩
abbrev S2048 : Shape := ⟨1, ![2048]⟩
abbrev S262144 : Shape := ⟨1, ![262144]⟩
abbrev S128 : Shape := ⟨1, ![128]⟩
abbrev S131072 : Shape := ⟨1, ![131072]⟩
abbrev S950688 : Shape := ⟨1, ![950688]⟩
abbrev S149504 : Shape := ⟨1, ![149504]⟩
abbrev S1100192 : Shape := ⟨1, ![1100192]⟩
abbrev S1114112 : Shape := ⟨1, ![1114112]⟩
abbrev S2176x512 : Shape := ⟨2, ![2176, 512]⟩

abbrev nBuf : Space → Nat
  | .hbm => 885
  | .vmem => 0
  | .smem => 0
  | _ => 0

abbrev hbmTy0_0 (i : Nat) : BufTy := match i % 128 with
  | 0 => ⟨S2x4096, .f32⟩
  | 1 => ⟨S2x8, .f32⟩
  | 2 => ⟨S2x8, .f32⟩
  | 3 => ⟨S2x128, .f32⟩
  | 4 => ⟨S2x1024, .f32⟩
  | 5 => ⟨S2x8x128x128, .f32⟩
  | 6 => ⟨S2x1024, .f32⟩
  | 7 => ⟨S2x8x128x128, .f32⟩
  | 8 => ⟨S2x1024, .f32⟩
  | 9 => ⟨S2x1024, .f32⟩
  | 10 => ⟨S2x64, .f32⟩
  | 11 => ⟨S2x64x64, .f32⟩
  | 12 => ⟨S2x64x64, .f32⟩
  | 13 => ⟨S2x64x64x16, .f32⟩
  | 14 => ⟨S2x64x64x16, .f32⟩
  | 15 => ⟨S2x64x16x64, .f32⟩
  | 16 => ⟨S2x64x16x64, .f32⟩
  | 17 => ⟨S2x64x16, .f32⟩
  | 18 => ⟨S2x2048, .f32⟩
  | 19 => ⟨S2x4096, .f32⟩
  | 20 => ⟨S4096, .f32⟩
  | 21 => ⟨S2x4096, .f32⟩
  | 22 => ⟨S2x8, .f32⟩
  | 23 => ⟨S2x8, .f32⟩
  | 24 => ⟨S2x128, .f32⟩
  | 25 => ⟨S2x1024, .f32⟩
  | 26 => ⟨S2x8x128x128, .f32⟩
  | 27 => ⟨S2x1024, .f32⟩
  | 28 => ⟨S2x8x128x128, .f32⟩
  | 29 => ⟨S2x1024, .f32⟩
  | 30 => ⟨S2x1024, .f32⟩
  | 31 => ⟨S2x64, .f32⟩
  | 32 => ⟨S2x64x64, .f32⟩
  | 33 => ⟨S2x64x64, .f32⟩
  | 34 => ⟨S2x64x64x16, .f32⟩
  | 35 => ⟨S2x64x64x16, .f32⟩
  | 36 => ⟨S2x64x16x64, .f32⟩
  | 37 => ⟨S2x64x16x64, .f32⟩
  | 38 => ⟨S2x64x16, .f32⟩
  | 39 => ⟨S2x2048, .f32⟩
  | 40 => ⟨S2x4096, .f32⟩
  | 41 => ⟨S4096, .f32⟩
  | 42 => ⟨S2x4096, .f32⟩
  | 43 => ⟨S2x8, .f32⟩
  | 44 => ⟨S2x8, .f32⟩
  | 45 => ⟨S2x128, .f32⟩
  | 46 => ⟨S2x1024, .f32⟩
  | 47 => ⟨S2x8x128x128, .f32⟩
  | 48 => ⟨S2x1024, .f32⟩
  | 49 => ⟨S2x8x128x128, .f32⟩
  | 50 => ⟨S2x1024, .f32⟩
  | 51 => ⟨S2x1024, .f32⟩
  | 52 => ⟨S2x64, .f32⟩
  | 53 => ⟨S2x64x64, .f32⟩
  | 54 => ⟨S2x64x64, .f32⟩
  | 55 => ⟨S2x64x64x16, .f32⟩
  | 56 => ⟨S2x64x64x16, .f32⟩
  | 57 => ⟨S2x64x16x64, .f32⟩
  | 58 => ⟨S2x64x16x64, .f32⟩
  | 59 => ⟨S2x64x16, .f32⟩
  | 60 => ⟨S2x2048, .f32⟩
  | 61 => ⟨S2x4096, .f32⟩
  | 62 => ⟨S4096, .f32⟩
  | 63 => ⟨S2x4096, .f32⟩
  | 64 => ⟨S2x8, .f32⟩
  | 65 => ⟨S2x8, .f32⟩
  | 66 => ⟨S2x128, .f32⟩
  | 67 => ⟨S2x1024, .f32⟩
  | 68 => ⟨S2x8x128x128, .f32⟩
  | 69 => ⟨S2x1024, .f32⟩
  | 70 => ⟨S2x8x128x128, .f32⟩
  | 71 => ⟨S2x1024, .f32⟩
  | 72 => ⟨S2x1024, .f32⟩
  | 73 => ⟨S2x64, .f32⟩
  | 74 => ⟨S2x64x64, .f32⟩
  | 75 => ⟨S2x64x64, .f32⟩
  | 76 => ⟨S2x64x64x16, .f32⟩
  | 77 => ⟨S2x64x64x16, .f32⟩
  | 78 => ⟨S2x64x16x64, .f32⟩
  | 79 => ⟨S2x64x16x64, .f32⟩
  | 80 => ⟨S2x64x16, .f32⟩
  | 81 => ⟨S2x2048, .f32⟩
  | 82 => ⟨S2x4096, .f32⟩
  | 83 => ⟨S4096, .f32⟩
  | 84 => ⟨S8192, .f32⟩
  | 85 => ⟨S8192, .f32⟩
  | 86 => ⟨S8192, .f32⟩
  | 87 => ⟨S8192, .f32⟩
  | 88 => ⟨S_, .f32⟩
  | 89 => ⟨S8192, .f32⟩
  | 90 => ⟨S8192, .f32⟩
  | 91 => ⟨S_, .f32⟩
  | 92 => ⟨S8192, .f32⟩
  | 93 => ⟨S8192, .f32⟩
  | 94 => ⟨S8192, .f32⟩
  | 95 => ⟨S_, .f32⟩
  | 96 => ⟨S8192, .f32⟩
  | 97 => ⟨S8192, .f32⟩
  | 98 => ⟨S8192, .f32⟩
  | 99 => ⟨S_, .f32⟩
  | 100 => ⟨S8192, .f32⟩
  | 101 => ⟨S8192, .f32⟩
  | 102 => ⟨S8192, .f32⟩
  | 103 => ⟨S_, .f32⟩
  | 104 => ⟨S8192, .f32⟩
  | 105 => ⟨S8192, .f32⟩
  | 106 => ⟨S_, .f32⟩
  | 107 => ⟨S8192, .f32⟩
  | 108 => ⟨S8192, .f32⟩
  | 109 => ⟨S8192, .f32⟩
  | 110 => ⟨S_, .f32⟩
  | 111 => ⟨S8192, .f32⟩
  | 112 => ⟨S8192, .f32⟩
  | 113 => ⟨S8192, .f32⟩
  | 114 => ⟨S_, .f32⟩
  | 115 => ⟨S8192, .f32⟩
  | 116 => ⟨S8192, .f32⟩
  | 117 => ⟨S8192, .f32⟩
  | 118 => ⟨S_, .f32⟩
  | 119 => ⟨S8192, .f32⟩
  | 120 => ⟨S8192, .f32⟩
  | 121 => ⟨S16, .f32⟩
  | 122 => ⟨S16, .f32⟩
  | 123 => ⟨S16, .f32⟩
  | 124 => ⟨S16, .f32⟩
  | 125 => ⟨S_, .f32⟩
  | 126 => ⟨S16, .f32⟩
  | 127 => ⟨S16, .f32⟩
  | _ => ⟨S2x4096, .f32⟩

abbrev hbmTy0_1 (i : Nat) : BufTy := match i % 128 with
  | 0 => ⟨S_, .f32⟩
  | 1 => ⟨S16, .f32⟩
  | 2 => ⟨S16, .f32⟩
  | 3 => ⟨S16, .f32⟩
  | 4 => ⟨S_, .f32⟩
  | 5 => ⟨S16, .f32⟩
  | 6 => ⟨S16, .f32⟩
  | 7 => ⟨S16, .f32⟩
  | 8 => ⟨S_, .f32⟩
  | 9 => ⟨S16, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S16, .f32⟩
  | 27 => ⟨S_, .f32⟩
  | 28 => ⟨S16, .f32⟩
  | 29 => ⟨S16, .f32⟩
  | 30 => ⟨S16, .f32⟩
  | 31 => ⟨S16, .f32⟩
  | 32 => ⟨S16, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S16, .f32⟩
  | 41 => ⟨S_, .f32⟩
  | 42 => ⟨S16, .f32⟩
  | 43 => ⟨S16, .f32⟩
  | 44 => ⟨S16, .f32⟩
  | 45 => ⟨S_, .f32⟩
  | 46 => ⟨S16, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S16, .f32⟩
  | 56 => ⟨S_, .f32⟩
  | 57 => ⟨S16, .f32⟩
  | 58 => ⟨S16, .f32⟩
  | 59 => ⟨S16, .f32⟩
  | 60 => ⟨S_, .f32⟩
  | 61 => ⟨S16, .f32⟩
  | 62 => ⟨S16, .f32⟩
  | 63 => ⟨S16, .f32⟩
  | 64 => ⟨S_, .f32⟩
  | 65 => ⟨S16, .f32⟩
  | 66 => ⟨S16, .f32⟩
  | 67 => ⟨S256, .f32⟩
  | 68 => ⟨S256, .f32⟩
  | 69 => ⟨S256, .f32⟩
  | 70 => ⟨S256, .f32⟩
  | 71 => ⟨S_, .f32⟩
  | 72 => ⟨S256, .f32⟩
  | 73 => ⟨S256, .f32⟩
  | 74 => ⟨S_, .f32⟩
  | 75 => ⟨S256, .f32⟩
  | 76 => ⟨S256, .f32⟩
  | 77 => ⟨S256, .f32⟩
  | 78 => ⟨S_, .f32⟩
  | 79 => ⟨S256, .f32⟩
  | 80 => ⟨S256, .f32⟩
  | 81 => ⟨S256, .f32⟩
  | 82 => ⟨S_, .f32⟩
  | 83 => ⟨S256, .f32⟩
  | 84 => ⟨S256, .f32⟩
  | 85 => ⟨S256, .f32⟩
  | 86 => ⟨S_, .f32⟩
  | 87 => ⟨S256, .f32⟩
  | 88 => ⟨S256, .f32⟩
  | 89 => ⟨S_, .f32⟩
  | 90 => ⟨S256, .f32⟩
  | 91 => ⟨S256, .f32⟩
  | 92 => ⟨S256, .f32⟩
  | 93 => ⟨S_, .f32⟩
  | 94 => ⟨S256, .f32⟩
  | 95 => ⟨S256, .f32⟩
  | 96 => ⟨S256, .f32⟩
  | 97 => ⟨S_, .f32⟩
  | 98 => ⟨S256, .f32⟩
  | 99 => ⟨S256, .f32⟩
  | 100 => ⟨S256, .f32⟩
  | 101 => ⟨S_, .f32⟩
  | 102 => ⟨S256, .f32⟩
  | 103 => ⟨S256, .f32⟩
  | 104 => ⟨S2048, .f32⟩
  | 105 => ⟨S2048, .f32⟩
  | 106 => ⟨S2048, .f32⟩
  | 107 => ⟨S2048, .f32⟩
  | 108 => ⟨S_, .f32⟩
  | 109 => ⟨S2048, .f32⟩
  | 110 => ⟨S2048, .f32⟩
  | 111 => ⟨S_, .f32⟩
  | 112 => ⟨S2048, .f32⟩
  | 113 => ⟨S2048, .f32⟩
  | 114 => ⟨S2048, .f32⟩
  | 115 => ⟨S_, .f32⟩
  | 116 => ⟨S2048, .f32⟩
  | 117 => ⟨S2048, .f32⟩
  | 118 => ⟨S2048, .f32⟩
  | 119 => ⟨S_, .f32⟩
  | 120 => ⟨S2048, .f32⟩
  | 121 => ⟨S2048, .f32⟩
  | 122 => ⟨S2048, .f32⟩
  | 123 => ⟨S_, .f32⟩
  | 124 => ⟨S2048, .f32⟩
  | 125 => ⟨S2048, .f32⟩
  | 126 => ⟨S_, .f32⟩
  | 127 => ⟨S2048, .f32⟩
  | _ => ⟨S2x4096, .f32⟩

abbrev hbmTy0_2 (i : Nat) : BufTy := match i % 128 with
  | 0 => ⟨S2048, .f32⟩
  | 1 => ⟨S2048, .f32⟩
  | 2 => ⟨S_, .f32⟩
  | 3 => ⟨S2048, .f32⟩
  | 4 => ⟨S2048, .f32⟩
  | 5 => ⟨S2048, .f32⟩
  | 6 => ⟨S_, .f32⟩
  | 7 => ⟨S2048, .f32⟩
  | 8 => ⟨S2048, .f32⟩
  | 9 => ⟨S2048, .f32⟩
  | 10 => ⟨S_, .f32⟩
  | 11 => ⟨S2048, .f32⟩
  | 12 => ⟨S2048, .f32⟩
  | 13 => ⟨S262144, .f32⟩
  | 14 => ⟨S262144, .f32⟩
  | 15 => ⟨S262144, .f32⟩
  | 16 => ⟨S262144, .f32⟩
  | 17 => ⟨S_, .f32⟩
  | 18 => ⟨S262144, .f32⟩
  | 19 => ⟨S262144, .f32⟩
  | 20 => ⟨S_, .f32⟩
  | 21 => ⟨S262144, .f32⟩
  | 22 => ⟨S262144, .f32⟩
  | 23 => ⟨S262144, .f32⟩
  | 24 => ⟨S_, .f32⟩
  | 25 => ⟨S262144, .f32⟩
  | 26 => ⟨S262144, .f32⟩
  | 27 => ⟨S262144, .f32⟩
  | 28 => ⟨S_, .f32⟩
  | 29 => ⟨S262144, .f32⟩
  | 30 => ⟨S262144, .f32⟩
  | 31 => ⟨S262144, .f32⟩
  | 32 => ⟨S_, .f32⟩
  | 33 => ⟨S262144, .f32⟩
  | 34 => ⟨S262144, .f32⟩
  | 35 => ⟨S_, .f32⟩
  | 36 => ⟨S262144, .f32⟩
  | 37 => ⟨S262144, .f32⟩
  | 38 => ⟨S262144, .f32⟩
  | 39 => ⟨S_, .f32⟩
  | 40 => ⟨S262144, .f32⟩
  | 41 => ⟨S262144, .f32⟩
  | 42 => ⟨S262144, .f32⟩
  | 43 => ⟨S_, .f32⟩
  | 44 => ⟨S262144, .f32⟩
  | 45 => ⟨S262144, .f32⟩
  | 46 => ⟨S262144, .f32⟩
  | 47 => ⟨S_, .f32⟩
  | 48 => ⟨S262144, .f32⟩
  | 49 => ⟨S262144, .f32⟩
  | 50 => ⟨S2048, .f32⟩
  | 51 => ⟨S2048, .f32⟩
  | 52 => ⟨S2048, .f32⟩
  | 53 => ⟨S2048, .f32⟩
  | 54 => ⟨S_, .f32⟩
  | 55 => ⟨S2048, .f32⟩
  | 56 => ⟨S2048, .f32⟩
  | 57 => ⟨S_, .f32⟩
  | 58 => ⟨S2048, .f32⟩
  | 59 => ⟨S2048, .f32⟩
  | 60 => ⟨S2048, .f32⟩
  | 61 => ⟨S_, .f32⟩
  | 62 => ⟨S2048, .f32⟩
  | 63 => ⟨S2048, .f32⟩
  | 64 => ⟨S2048, .f32⟩
  | 65 => ⟨S_, .f32⟩
  | 66 => ⟨S2048, .f32⟩
  | 67 => ⟨S2048, .f32⟩
  | 68 => ⟨S2048, .f32⟩
  | 69 => ⟨S_, .f32⟩
  | 70 => ⟨S2048, .f32⟩
  | 71 => ⟨S2048, .f32⟩
  | 72 => ⟨S_, .f32⟩
  | 73 => ⟨S2048, .f32⟩
  | 74 => ⟨S2048, .f32⟩
  | 75 => ⟨S2048, .f32⟩
  | 76 => ⟨S_, .f32⟩
  | 77 => ⟨S2048, .f32⟩
  | 78 => ⟨S2048, .f32⟩
  | 79 => ⟨S2048, .f32⟩
  | 80 => ⟨S_, .f32⟩
  | 81 => ⟨S2048, .f32⟩
  | 82 => ⟨S2048, .f32⟩
  | 83 => ⟨S2048, .f32⟩
  | 84 => ⟨S_, .f32⟩
  | 85 => ⟨S2048, .f32⟩
  | 86 => ⟨S2048, .f32⟩
  | 87 => ⟨S262144, .f32⟩
  | 88 => ⟨S262144, .f32⟩
  | 89 => ⟨S262144, .f32⟩
  | 90 => ⟨S262144, .f32⟩
  | 91 => ⟨S_, .f32⟩
  | 92 => ⟨S262144, .f32⟩
  | 93 => ⟨S262144, .f32⟩
  | 94 => ⟨S_, .f32⟩
  | 95 => ⟨S262144, .f32⟩
  | 96 => ⟨S262144, .f32⟩
  | 97 => ⟨S262144, .f32⟩
  | 98 => ⟨S_, .f32⟩
  | 99 => ⟨S262144, .f32⟩
  | 100 => ⟨S262144, .f32⟩
  | 101 => ⟨S262144, .f32⟩
  | 102 => ⟨S_, .f32⟩
  | 103 => ⟨S262144, .f32⟩
  | 104 => ⟨S262144, .f32⟩
  | 105 => ⟨S262144, .f32⟩
  | 106 => ⟨S_, .f32⟩
  | 107 => ⟨S262144, .f32⟩
  | 108 => ⟨S262144, .f32⟩
  | 109 => ⟨S_, .f32⟩
  | 110 => ⟨S262144, .f32⟩
  | 111 => ⟨S262144, .f32⟩
  | 112 => ⟨S262144, .f32⟩
  | 113 => ⟨S_, .f32⟩
  | 114 => ⟨S262144, .f32⟩
  | 115 => ⟨S262144, .f32⟩
  | 116 => ⟨S262144, .f32⟩
  | 117 => ⟨S_, .f32⟩
  | 118 => ⟨S262144, .f32⟩
  | 119 => ⟨S262144, .f32⟩
  | 120 => ⟨S262144, .f32⟩
  | 121 => ⟨S_, .f32⟩
  | 122 => ⟨S262144, .f32⟩
  | 123 => ⟨S262144, .f32⟩
  | 124 => ⟨S2048, .f32⟩
  | 125 => ⟨S2048, .f32⟩
  | 126 => ⟨S2048, .f32⟩
  | 127 => ⟨S2048, .f32⟩
  | _ => ⟨S2x4096, .f32⟩

abbrev hbmTy0_3 (i : Nat) : BufTy := match i % 128 with
  | 0 => ⟨S_, .f32⟩
  | 1 => ⟨S2048, .f32⟩
  | 2 => ⟨S2048, .f32⟩
  | 3 => ⟨S_, .f32⟩
  | 4 => ⟨S2048, .f32⟩
  | 5 => ⟨S2048, .f32⟩
  | 6 => ⟨S2048, .f32⟩
  | 7 => ⟨S_, .f32⟩
  | 8 => ⟨S2048, .f32⟩
  | 9 => ⟨S2048, .f32⟩
  | 10 => ⟨S2048, .f32⟩
  | 11 => ⟨S_, .f32⟩
  | 12 => ⟨S2048, .f32⟩
  | 13 => ⟨S2048, .f32⟩
  | 14 => ⟨S2048, .f32⟩
  | 15 => ⟨S_, .f32⟩
  | 16 => ⟨S2048, .f32⟩
  | 17 => ⟨S2048, .f32⟩
  | 18 => ⟨S_, .f32⟩
  | 19 => ⟨S2048, .f32⟩
  | 20 => ⟨S2048, .f32⟩
  | 21 => ⟨S2048, .f32⟩
  | 22 => ⟨S_, .f32⟩
  | 23 => ⟨S2048, .f32⟩
  | 24 => ⟨S2048, .f32⟩
  | 25 => ⟨S2048, .f32⟩
  | 26 => ⟨S_, .f32⟩
  | 27 => ⟨S2048, .f32⟩
  | 28 => ⟨S2048, .f32⟩
  | 29 => ⟨S2048, .f32⟩
  | 30 => ⟨S_, .f32⟩
  | 31 => ⟨S2048, .f32⟩
  | 32 => ⟨S2048, .f32⟩
  | 33 => ⟨S2048, .f32⟩
  | 34 => ⟨S2048, .f32⟩
  | 35 => ⟨S2048, .f32⟩
  | 36 => ⟨S2048, .f32⟩
  | 37 => ⟨S_, .f32⟩
  | 38 => ⟨S2048, .f32⟩
  | 39 => ⟨S2048, .f32⟩
  | 40 => ⟨S_, .f32⟩
  | 41 => ⟨S2048, .f32⟩
  | 42 => ⟨S2048, .f32⟩
  | 43 => ⟨S2048, .f32⟩
  | 44 => ⟨S_, .f32⟩
  | 45 => ⟨S2048, .f32⟩
  | 46 => ⟨S2048, .f32⟩
  | 47 => ⟨S2048, .f32⟩
  | 48 => ⟨S_, .f32⟩
  | 49 => ⟨S2048, .f32⟩
  | 50 => ⟨S2048, .f32⟩
  | 51 => ⟨S2048, .f32⟩
  | 52 => ⟨S_, .f32⟩
  | 53 => ⟨S2048, .f32⟩
  | 54 => ⟨S2048, .f32⟩
  | 55 => ⟨S_, .f32⟩
  | 56 => ⟨S2048, .f32⟩
  | 57 => ⟨S2048, .f32⟩
  | 58 => ⟨S2048, .f32⟩
  | 59 => ⟨S_, .f32⟩
  | 60 => ⟨S2048, .f32⟩
  | 61 => ⟨S2048, .f32⟩
  | 62 => ⟨S2048, .f32⟩
  | 63 => ⟨S_, .f32⟩
  | 64 => ⟨S2048, .f32⟩
  | 65 => ⟨S2048, .f32⟩
  | 66 => ⟨S2048, .f32⟩
  | 67 => ⟨S_, .f32⟩
  | 68 => ⟨S2048, .f32⟩
  | 69 => ⟨S2048, .f32⟩
  | 70 => ⟨S128, .f32⟩
  | 71 => ⟨S128, .f32⟩
  | 72 => ⟨S128, .f32⟩
  | 73 => ⟨S128, .f32⟩
  | 74 => ⟨S_, .f32⟩
  | 75 => ⟨S128, .f32⟩
  | 76 => ⟨S128, .f32⟩
  | 77 => ⟨S_, .f32⟩
  | 78 => ⟨S128, .f32⟩
  | 79 => ⟨S128, .f32⟩
  | 80 => ⟨S128, .f32⟩
  | 81 => ⟨S_, .f32⟩
  | 82 => ⟨S128, .f32⟩
  | 83 => ⟨S128, .f32⟩
  | 84 => ⟨S128, .f32⟩
  | 85 => ⟨S_, .f32⟩
  | 86 => ⟨S128, .f32⟩
  | 87 => ⟨S128, .f32⟩
  | 88 => ⟨S128, .f32⟩
  | 89 => ⟨S_, .f32⟩
  | 90 => ⟨S128, .f32⟩
  | 91 => ⟨S128, .f32⟩
  | 92 => ⟨S_, .f32⟩
  | 93 => ⟨S128, .f32⟩
  | 94 => ⟨S128, .f32⟩
  | 95 => ⟨S128, .f32⟩
  | 96 => ⟨S_, .f32⟩
  | 97 => ⟨S128, .f32⟩
  | 98 => ⟨S128, .f32⟩
  | 99 => ⟨S128, .f32⟩
  | 100 => ⟨S_, .f32⟩
  | 101 => ⟨S128, .f32⟩
  | 102 => ⟨S128, .f32⟩
  | 103 => ⟨S128, .f32⟩
  | 104 => ⟨S_, .f32⟩
  | 105 => ⟨S128, .f32⟩
  | 106 => ⟨S128, .f32⟩
  | 107 => ⟨S8192, .f32⟩
  | 108 => ⟨S8192, .f32⟩
  | 109 => ⟨S8192, .f32⟩
  | 110 => ⟨S8192, .f32⟩
  | 111 => ⟨S_, .f32⟩
  | 112 => ⟨S8192, .f32⟩
  | 113 => ⟨S8192, .f32⟩
  | 114 => ⟨S_, .f32⟩
  | 115 => ⟨S8192, .f32⟩
  | 116 => ⟨S8192, .f32⟩
  | 117 => ⟨S8192, .f32⟩
  | 118 => ⟨S_, .f32⟩
  | 119 => ⟨S8192, .f32⟩
  | 120 => ⟨S8192, .f32⟩
  | 121 => ⟨S8192, .f32⟩
  | 122 => ⟨S_, .f32⟩
  | 123 => ⟨S8192, .f32⟩
  | 124 => ⟨S8192, .f32⟩
  | 125 => ⟨S8192, .f32⟩
  | 126 => ⟨S_, .f32⟩
  | 127 => ⟨S8192, .f32⟩
  | _ => ⟨S2x4096, .f32⟩

abbrev hbmTy0_4 (i : Nat) : BufTy := match i % 128 with
  | 0 => ⟨S8192, .f32⟩
  | 1 => ⟨S_, .f32⟩
  | 2 => ⟨S8192, .f32⟩
  | 3 => ⟨S8192, .f32⟩
  | 4 => ⟨S8192, .f32⟩
  | 5 => ⟨S_, .f32⟩
  | 6 => ⟨S8192, .f32⟩
  | 7 => ⟨S8192, .f32⟩
  | 8 => ⟨S8192, .f32⟩
  | 9 => ⟨S_, .f32⟩
  | 10 => ⟨S8192, .f32⟩
  | 11 => ⟨S8192, .f32⟩
  | 12 => ⟨S8192, .f32⟩
  | 13 => ⟨S_, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S_, .f32⟩
  | 21 => ⟨S8192, .f32⟩
  | 22 => ⟨S8192, .f32⟩
  | 23 => ⟨S_, .f32⟩
  | 24 => ⟨S8192, .f32⟩
  | 25 => ⟨S8192, .f32⟩
  | 26 => ⟨S8192, .f32⟩
  | 27 => ⟨S_, .f32⟩
  | 28 => ⟨S8192, .f32⟩
  | 29 => ⟨S8192, .f32⟩
  | 30 => ⟨S8192, .f32⟩
  | 31 => ⟨S_, .f32⟩
  | 32 => ⟨S8192, .f32⟩
  | 33 => ⟨S8192, .f32⟩
  | 34 => ⟨S8192, .f32⟩
  | 35 => ⟨S_, .f32⟩
  | 36 => ⟨S8192, .f32⟩
  | 37 => ⟨S8192, .f32⟩
  | 38 => ⟨S_, .f32⟩
  | 39 => ⟨S8192, .f32⟩
  | 40 => ⟨S8192, .f32⟩
  | 41 => ⟨S8192, .f32⟩
  | 42 => ⟨S_, .f32⟩
  | 43 => ⟨S8192, .f32⟩
  | 44 => ⟨S8192, .f32⟩
  | 45 => ⟨S8192, .f32⟩
  | 46 => ⟨S_, .f32⟩
  | 47 => ⟨S8192, .f32⟩
  | 48 => ⟨S8192, .f32⟩
  | 49 => ⟨S8192, .f32⟩
  | 50 => ⟨S_, .f32⟩
  | 51 => ⟨S8192, .f32⟩
  | 52 => ⟨S8192, .f32⟩
  | 53 => ⟨S131072, .f32⟩
  | 54 => ⟨S131072, .f32⟩
  | 55 => ⟨S131072, .f32⟩
  | 56 => ⟨S131072, .f32⟩
  | 57 => ⟨S_, .f32⟩
  | 58 => ⟨S131072, .f32⟩
  | 59 => ⟨S131072, .f32⟩
  | 60 => ⟨S_, .f32⟩
  | 61 => ⟨S131072, .f32⟩
  | 62 => ⟨S131072, .f32⟩
  | 63 => ⟨S131072, .f32⟩
  | 64 => ⟨S_, .f32⟩
  | 65 => ⟨S131072, .f32⟩
  | 66 => ⟨S131072, .f32⟩
  | 67 => ⟨S131072, .f32⟩
  | 68 => ⟨S_, .f32⟩
  | 69 => ⟨S131072, .f32⟩
  | 70 => ⟨S131072, .f32⟩
  | 71 => ⟨S131072, .f32⟩
  | 72 => ⟨S_, .f32⟩
  | 73 => ⟨S131072, .f32⟩
  | 74 => ⟨S131072, .f32⟩
  | 75 => ⟨S_, .f32⟩
  | 76 => ⟨S131072, .f32⟩
  | 77 => ⟨S131072, .f32⟩
  | 78 => ⟨S131072, .f32⟩
  | 79 => ⟨S_, .f32⟩
  | 80 => ⟨S131072, .f32⟩
  | 81 => ⟨S131072, .f32⟩
  | 82 => ⟨S131072, .f32⟩
  | 83 => ⟨S_, .f32⟩
  | 84 => ⟨S131072, .f32⟩
  | 85 => ⟨S131072, .f32⟩
  | 86 => ⟨S131072, .f32⟩
  | 87 => ⟨S_, .f32⟩
  | 88 => ⟨S131072, .f32⟩
  | 89 => ⟨S131072, .f32⟩
  | 90 => ⟨S131072, .f32⟩
  | 91 => ⟨S131072, .f32⟩
  | 92 => ⟨S131072, .f32⟩
  | 93 => ⟨S131072, .f32⟩
  | 94 => ⟨S_, .f32⟩
  | 95 => ⟨S131072, .f32⟩
  | 96 => ⟨S131072, .f32⟩
  | 97 => ⟨S_, .f32⟩
  | 98 => ⟨S131072, .f32⟩
  | 99 => ⟨S131072, .f32⟩
  | 100 => ⟨S131072, .f32⟩
  | 101 => ⟨S_, .f32⟩
  | 102 => ⟨S131072, .f32⟩
  | 103 => ⟨S131072, .f32⟩
  | 104 => ⟨S131072, .f32⟩
  | 105 => ⟨S_, .f32⟩
  | 106 => ⟨S131072, .f32⟩
  | 107 => ⟨S131072, .f32⟩
  | 108 => ⟨S131072, .f32⟩
  | 109 => ⟨S_, .f32⟩
  | 110 => ⟨S131072, .f32⟩
  | 111 => ⟨S131072, .f32⟩
  | 112 => ⟨S_, .f32⟩
  | 113 => ⟨S131072, .f32⟩
  | 114 => ⟨S131072, .f32⟩
  | 115 => ⟨S131072, .f32⟩
  | 116 => ⟨S_, .f32⟩
  | 117 => ⟨S131072, .f32⟩
  | 118 => ⟨S131072, .f32⟩
  | 119 => ⟨S131072, .f32⟩
  | 120 => ⟨S_, .f32⟩
  | 121 => ⟨S131072, .f32⟩
  | 122 => ⟨S131072, .f32⟩
  | 123 => ⟨S131072, .f32⟩
  | 124 => ⟨S_, .f32⟩
  | 125 => ⟨S131072, .f32⟩
  | 126 => ⟨S131072, .f32⟩
  | 127 => ⟨S131072, .f32⟩
  | _ => ⟨S2x4096, .f32⟩

abbrev hbmTy0_5 (i : Nat) : BufTy := match i % 128 with
  | 0 => ⟨S131072, .f32⟩
  | 1 => ⟨S131072, .f32⟩
  | 2 => ⟨S131072, .f32⟩
  | 3 => ⟨S_, .f32⟩
  | 4 => ⟨S131072, .f32⟩
  | 5 => ⟨S131072, .f32⟩
  | 6 => ⟨S_, .f32⟩
  | 7 => ⟨S131072, .f32⟩
  | 8 => ⟨S131072, .f32⟩
  | 9 => ⟨S131072, .f32⟩
  | 10 => ⟨S_, .f32⟩
  | 11 => ⟨S131072, .f32⟩
  | 12 => ⟨S131072, .f32⟩
  | 13 => ⟨S131072, .f32⟩
  | 14 => ⟨S_, .f32⟩
  | 15 => ⟨S131072, .f32⟩
  | 16 => ⟨S131072, .f32⟩
  | 17 => ⟨S131072, .f32⟩
  | 18 => ⟨S_, .f32⟩
  | 19 => ⟨S131072, .f32⟩
  | 20 => ⟨S131072, .f32⟩
  | 21 => ⟨S_, .f32⟩
  | 22 => ⟨S131072, .f32⟩
  | 23 => ⟨S131072, .f32⟩
  | 24 => ⟨S131072, .f32⟩
  | 25 => ⟨S_, .f32⟩
  | 26 => ⟨S131072, .f32⟩
  | 27 => ⟨S131072, .f32⟩
  | 28 => ⟨S131072, .f32⟩
  | 29 => ⟨S_, .f32⟩
  | 30 => ⟨S131072, .f32⟩
  | 31 => ⟨S131072, .f32⟩
  | 32 => ⟨S131072, .f32⟩
  | 33 => ⟨S_, .f32⟩
  | 34 => ⟨S131072, .f32⟩
  | 35 => ⟨S131072, .f32⟩
  | 36 => ⟨S131072, .f32⟩
  | 37 => ⟨S131072, .f32⟩
  | 38 => ⟨S131072, .f32⟩
  | 39 => ⟨S131072, .f32⟩
  | 40 => ⟨S_, .f32⟩
  | 41 => ⟨S131072, .f32⟩
  | 42 => ⟨S131072, .f32⟩
  | 43 => ⟨S_, .f32⟩
  | 44 => ⟨S131072, .f32⟩
  | 45 => ⟨S131072, .f32⟩
  | 46 => ⟨S131072, .f32⟩
  | 47 => ⟨S_, .f32⟩
  | 48 => ⟨S131072, .f32⟩
  | 49 => ⟨S131072, .f32⟩
  | 50 => ⟨S131072, .f32⟩
  | 51 => ⟨S_, .f32⟩
  | 52 => ⟨S131072, .f32⟩
  | 53 => ⟨S131072, .f32⟩
  | 54 => ⟨S131072, .f32⟩
  | 55 => ⟨S_, .f32⟩
  | 56 => ⟨S131072, .f32⟩
  | 57 => ⟨S131072, .f32⟩
  | 58 => ⟨S_, .f32⟩
  | 59 => ⟨S131072, .f32⟩
  | 60 => ⟨S131072, .f32⟩
  | 61 => ⟨S131072, .f32⟩
  | 62 => ⟨S_, .f32⟩
  | 63 => ⟨S131072, .f32⟩
  | 64 => ⟨S131072, .f32⟩
  | 65 => ⟨S131072, .f32⟩
  | 66 => ⟨S_, .f32⟩
  | 67 => ⟨S131072, .f32⟩
  | 68 => ⟨S131072, .f32⟩
  | 69 => ⟨S131072, .f32⟩
  | 70 => ⟨S_, .f32⟩
  | 71 => ⟨S131072, .f32⟩
  | 72 => ⟨S131072, .f32⟩
  | 73 => ⟨S2048, .f32⟩
  | 74 => ⟨S2048, .f32⟩
  | 75 => ⟨S2048, .f32⟩
  | 76 => ⟨S2048, .f32⟩
  | 77 => ⟨S_, .f32⟩
  | 78 => ⟨S2048, .f32⟩
  | 79 => ⟨S2048, .f32⟩
  | 80 => ⟨S_, .f32⟩
  | 81 => ⟨S2048, .f32⟩
  | 82 => ⟨S2048, .f32⟩
  | 83 => ⟨S2048, .f32⟩
  | 84 => ⟨S_, .f32⟩
  | 85 => ⟨S2048, .f32⟩
  | 86 => ⟨S2048, .f32⟩
  | 87 => ⟨S2048, .f32⟩
  | 88 => ⟨S_, .f32⟩
  | 89 => ⟨S2048, .f32⟩
  | 90 => ⟨S2048, .f32⟩
  | 91 => ⟨S2048, .f32⟩
  | 92 => ⟨S_, .f32⟩
  | 93 => ⟨S2048, .f32⟩
  | 94 => ⟨S2048, .f32⟩
  | 95 => ⟨S_, .f32⟩
  | 96 => ⟨S2048, .f32⟩
  | 97 => ⟨S2048, .f32⟩
  | 98 => ⟨S2048, .f32⟩
  | 99 => ⟨S_, .f32⟩
  | 100 => ⟨S2048, .f32⟩
  | 101 => ⟨S2048, .f32⟩
  | 102 => ⟨S2048, .f32⟩
  | 103 => ⟨S_, .f32⟩
  | 104 => ⟨S2048, .f32⟩
  | 105 => ⟨S2048, .f32⟩
  | 106 => ⟨S2048, .f32⟩
  | 107 => ⟨S_, .f32⟩
  | 108 => ⟨S2048, .f32⟩
  | 109 => ⟨S2048, .f32⟩
  | 110 => ⟨S4096, .f32⟩
  | 111 => ⟨S4096, .f32⟩
  | 112 => ⟨S4096, .f32⟩
  | 113 => ⟨S4096, .f32⟩
  | 114 => ⟨S_, .f32⟩
  | 115 => ⟨S4096, .f32⟩
  | 116 => ⟨S4096, .f32⟩
  | 117 => ⟨S_, .f32⟩
  | 118 => ⟨S4096, .f32⟩
  | 119 => ⟨S4096, .f32⟩
  | 120 => ⟨S4096, .f32⟩
  | 121 => ⟨S_, .f32⟩
  | 122 => ⟨S4096, .f32⟩
  | 123 => ⟨S4096, .f32⟩
  | 124 => ⟨S4096, .f32⟩
  | 125 => ⟨S_, .f32⟩
  | 126 => ⟨S4096, .f32⟩
  | 127 => ⟨S4096, .f32⟩
  | _ => ⟨S2x4096, .f32⟩

abbrev hbmTy0_6 (i : Nat) : BufTy := match i % 128 with
  | 0 => ⟨S4096, .f32⟩
  | 1 => ⟨S_, .f32⟩
  | 2 => ⟨S4096, .f32⟩
  | 3 => ⟨S4096, .f32⟩
  | 4 => ⟨S_, .f32⟩
  | 5 => ⟨S4096, .f32⟩
  | 6 => ⟨S4096, .f32⟩
  | 7 => ⟨S4096, .f32⟩
  | 8 => ⟨S_, .f32⟩
  | 9 => ⟨S4096, .f32⟩
  | 10 => ⟨S4096, .f32⟩
  | 11 => ⟨S4096, .f32⟩
  | 12 => ⟨S_, .f32⟩
  | 13 => ⟨S4096, .f32⟩
  | 14 => ⟨S4096, .f32⟩
  | 15 => ⟨S4096, .f32⟩
  | 16 => ⟨S_, .f32⟩
  | 17 => ⟨S4096, .f32⟩
  | 18 => ⟨S4096, .f32⟩
  | 19 => ⟨S8192, .f32⟩
  | 20 => ⟨S8192, .f32⟩
  | 21 => ⟨S8192, .f32⟩
  | 22 => ⟨S8192, .f32⟩
  | 23 => ⟨S_, .f32⟩
  | 24 => ⟨S8192, .f32⟩
  | 25 => ⟨S8192, .f32⟩
  | 26 => ⟨S_, .f32⟩
  | 27 => ⟨S8192, .f32⟩
  | 28 => ⟨S8192, .f32⟩
  | 29 => ⟨S8192, .f32⟩
  | 30 => ⟨S_, .f32⟩
  | 31 => ⟨S8192, .f32⟩
  | 32 => ⟨S8192, .f32⟩
  | 33 => ⟨S8192, .f32⟩
  | 34 => ⟨S_, .f32⟩
  | 35 => ⟨S8192, .f32⟩
  | 36 => ⟨S8192, .f32⟩
  | 37 => ⟨S8192, .f32⟩
  | 38 => ⟨S_, .f32⟩
  | 39 => ⟨S8192, .f32⟩
  | 40 => ⟨S8192, .f32⟩
  | 41 => ⟨S_, .f32⟩
  | 42 => ⟨S8192, .f32⟩
  | 43 => ⟨S8192, .f32⟩
  | 44 => ⟨S8192, .f32⟩
  | 45 => ⟨S_, .f32⟩
  | 46 => ⟨S8192, .f32⟩
  | 47 => ⟨S8192, .f32⟩
  | 48 => ⟨S8192, .f32⟩
  | 49 => ⟨S_, .f32⟩
  | 50 => ⟨S8192, .f32⟩
  | 51 => ⟨S8192, .f32⟩
  | 52 => ⟨S8192, .f32⟩
  | 53 => ⟨S_, .f32⟩
  | 54 => ⟨S8192, .f32⟩
  | 55 => ⟨S8192, .f32⟩
  | 56 => ⟨S_, .f32⟩
  | 57 => ⟨S4096, .f32⟩
  | 58 => ⟨S4096, .f32⟩
  | 59 => ⟨S_, .f32⟩
  | 60 => ⟨S4096, .f32⟩
  | 61 => ⟨S4096, .f32⟩
  | 62 => ⟨S4096, .f32⟩
  | 63 => ⟨S_, .f32⟩
  | 64 => ⟨S4096, .f32⟩
  | 65 => ⟨S4096, .f32⟩
  | 66 => ⟨S4096, .f32⟩
  | 67 => ⟨S_, .f32⟩
  | 68 => ⟨S4096, .f32⟩
  | 69 => ⟨S4096, .f32⟩
  | 70 => ⟨S4096, .f32⟩
  | 71 => ⟨S_, .f32⟩
  | 72 => ⟨S4096, .f32⟩
  | 73 => ⟨S4096, .f32⟩
  | 74 => ⟨S_, .f32⟩
  | 75 => ⟨S4096, .f32⟩
  | 76 => ⟨S4096, .f32⟩
  | 77 => ⟨S4096, .f32⟩
  | 78 => ⟨S_, .f32⟩
  | 79 => ⟨S4096, .f32⟩
  | 80 => ⟨S4096, .f32⟩
  | 81 => ⟨S4096, .f32⟩
  | 82 => ⟨S_, .f32⟩
  | 83 => ⟨S4096, .f32⟩
  | 84 => ⟨S4096, .f32⟩
  | 85 => ⟨S4096, .f32⟩
  | 86 => ⟨S_, .f32⟩
  | 87 => ⟨S4096, .f32⟩
  | 88 => ⟨S4096, .f32⟩
  | 89 => ⟨S950688, .f32⟩
  | 90 => ⟨S149504, .f32⟩
  | 91 => ⟨S1100192, .f32⟩
  | 92 => ⟨S950688, .f32⟩
  | 93 => ⟨S149504, .f32⟩
  | 94 => ⟨S1100192, .f32⟩
  | 95 => ⟨S950688, .f32⟩
  | 96 => ⟨S149504, .f32⟩
  | 97 => ⟨S1100192, .f32⟩
  | 98 => ⟨S950688, .f32⟩
  | 99 => ⟨S149504, .f32⟩
  | 100 => ⟨S1100192, .f32⟩
  | 101 => ⟨S_, .i32⟩
  | 102 => ⟨S_, .f32⟩
  | 103 => ⟨S1114112, .f32⟩
  | 104 => ⟨S2176x512, .f32⟩
  | 105 => ⟨S_, .i32⟩
  | 106 => ⟨S_, .f32⟩
  | 107 => ⟨S1114112, .f32⟩
  | 108 => ⟨S2176x512, .f32⟩
  | 109 => ⟨S_, .i32⟩
  | 110 => ⟨S_, .f32⟩
  | 111 => ⟨S1114112, .f32⟩
  | 112 => ⟨S2176x512, .f32⟩
  | 113 => ⟨S_, .i32⟩
  | 114 => ⟨S_, .f32⟩
  | 115 => ⟨S1114112, .f32⟩
  | 116 => ⟨S2176x512, .f32⟩
  | _ => ⟨S2x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x4096, .f32⟩

abbrev bufTy : (tb : Table) → Fin (tcTables nBuf tb) → BufTy
  | .hbm, ⟨i, _⟩ => hbmTy i
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_arg76 : Ref sig .tc := ⟨.hbm, 76, rfl⟩
abbrev main_arg77 : Ref sig .tc := ⟨.hbm, 77, rfl⟩
abbrev main_arg78 : Ref sig .tc := ⟨.hbm, 78, rfl⟩
abbrev main_arg79 : Ref sig .tc := ⟨.hbm, 79, rfl⟩
abbrev main_arg80 : Ref sig .tc := ⟨.hbm, 80, rfl⟩
abbrev main_arg81 : Ref sig .tc := ⟨.hbm, 81, rfl⟩
abbrev main_arg82 : Ref sig .tc := ⟨.hbm, 82, rfl⟩
abbrev main_arg83 : Ref sig .tc := ⟨.hbm, 83, rfl⟩
abbrev main_v0 : Ref sig .tc := ⟨.hbm, 84, rfl⟩
abbrev main_v1 : Ref sig .tc := ⟨.hbm, 85, rfl⟩
abbrev main_v2 : Ref sig .tc := ⟨.hbm, 86, rfl⟩
abbrev main_v3 : Ref sig .tc := ⟨.hbm, 87, rfl⟩
abbrev main_cst : Ref sig .tc := ⟨.hbm, 88, rfl⟩
abbrev main_v4 : Ref sig .tc := ⟨.hbm, 89, rfl⟩
abbrev main_v5 : Ref sig .tc := ⟨.hbm, 90, rfl⟩
abbrev main_cst_0 : Ref sig .tc := ⟨.hbm, 91, rfl⟩
abbrev main_v6 : Ref sig .tc := ⟨.hbm, 92, rfl⟩
abbrev main_v7 : Ref sig .tc := ⟨.hbm, 93, rfl⟩
abbrev main_v8 : Ref sig .tc := ⟨.hbm, 94, rfl⟩
abbrev main_cst_1 : Ref sig .tc := ⟨.hbm, 95, rfl⟩
abbrev main_v9 : Ref sig .tc := ⟨.hbm, 96, rfl⟩
abbrev main_v10 : Ref sig .tc := ⟨.hbm, 97, rfl⟩
abbrev main_v11 : Ref sig .tc := ⟨.hbm, 98, rfl⟩
abbrev main_cst_2 : Ref sig .tc := ⟨.hbm, 99, rfl⟩
abbrev main_v12 : Ref sig .tc := ⟨.hbm, 100, rfl⟩
abbrev main_v13 : Ref sig .tc := ⟨.hbm, 101, rfl⟩
abbrev main_v14 : Ref sig .tc := ⟨.hbm, 102, rfl⟩
abbrev main_cst_3 : Ref sig .tc := ⟨.hbm, 103, rfl⟩
abbrev main_v15 : Ref sig .tc := ⟨.hbm, 104, rfl⟩
abbrev main_v16 : Ref sig .tc := ⟨.hbm, 105, rfl⟩
abbrev main_cst_4 : Ref sig .tc := ⟨.hbm, 106, rfl⟩
abbrev main_v17 : Ref sig .tc := ⟨.hbm, 107, rfl⟩
abbrev main_v18 : Ref sig .tc := ⟨.hbm, 108, rfl⟩
abbrev main_v19 : Ref sig .tc := ⟨.hbm, 109, rfl⟩
abbrev main_cst_5 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_cst_6 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_cst_7 : Ref sig .tc := ⟨.hbm, 118, rfl⟩
abbrev main_v26 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_cst_8 : Ref sig .tc := ⟨.hbm, 125, rfl⟩
abbrev main_v32 : Ref sig .tc := ⟨.hbm, 126, rfl⟩
abbrev main_v33 : Ref sig .tc := ⟨.hbm, 127, rfl⟩
abbrev main_cst_9 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩
abbrev main_cst_10 : Ref sig .tc := ⟨.hbm, 132, rfl⟩
abbrev main_v37 : Ref sig .tc := ⟨.hbm, 133, rfl⟩
abbrev main_v38 : Ref sig .tc := ⟨.hbm, 134, rfl⟩
abbrev main_v39 : Ref sig .tc := ⟨.hbm, 135, rfl⟩
abbrev main_cst_11 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_cst_12 : Ref sig .tc := ⟨.hbm, 140, rfl⟩
abbrev main_v43 : Ref sig .tc := ⟨.hbm, 141, rfl⟩
abbrev main_v44 : Ref sig .tc := ⟨.hbm, 142, rfl⟩
abbrev main_cst_13 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_cst_14 : Ref sig .tc := ⟨.hbm, 147, rfl⟩
abbrev main_v48 : Ref sig .tc := ⟨.hbm, 148, rfl⟩
abbrev main_v49 : Ref sig .tc := ⟨.hbm, 149, rfl⟩
abbrev main_v50 : Ref sig .tc := ⟨.hbm, 150, rfl⟩
abbrev main_cst_15 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_cst_16 : Ref sig .tc := ⟨.hbm, 155, rfl⟩
abbrev main_v54 : Ref sig .tc := ⟨.hbm, 156, rfl⟩
abbrev main_v55 : Ref sig .tc := ⟨.hbm, 157, rfl⟩
abbrev main_v56 : Ref sig .tc := ⟨.hbm, 158, rfl⟩
abbrev main_v57 : Ref sig .tc := ⟨.hbm, 159, rfl⟩
abbrev main_v58 : Ref sig .tc := ⟨.hbm, 160, rfl⟩
abbrev main_v59 : Ref sig .tc := ⟨.hbm, 161, rfl⟩
abbrev main_cst_17 : Ref sig .tc := ⟨.hbm, 162, rfl⟩
abbrev main_v60 : Ref sig .tc := ⟨.hbm, 163, rfl⟩
abbrev main_v61 : Ref sig .tc := ⟨.hbm, 164, rfl⟩
abbrev main_cst_18 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_cst_19 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_cst_20 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_cst_21 : Ref sig .tc := ⟨.hbm, 177, rfl⟩
abbrev main_v71 : Ref sig .tc := ⟨.hbm, 178, rfl⟩
abbrev main_v72 : Ref sig .tc := ⟨.hbm, 179, rfl⟩
abbrev main_cst_22 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_cst_23 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_cst_24 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_cst_25 : Ref sig .tc := ⟨.hbm, 192, rfl⟩
abbrev main_v82 : Ref sig .tc := ⟨.hbm, 193, rfl⟩
abbrev main_v83 : Ref sig .tc := ⟨.hbm, 194, rfl⟩
abbrev main_v84 : Ref sig .tc := ⟨.hbm, 195, rfl⟩
abbrev main_v85 : Ref sig .tc := ⟨.hbm, 196, rfl⟩
abbrev main_v86 : Ref sig .tc := ⟨.hbm, 197, rfl⟩
abbrev main_v87 : Ref sig .tc := ⟨.hbm, 198, rfl⟩
abbrev main_cst_26 : Ref sig .tc := ⟨.hbm, 199, rfl⟩
abbrev main_v88 : Ref sig .tc := ⟨.hbm, 200, rfl⟩
abbrev main_v89 : Ref sig .tc := ⟨.hbm, 201, rfl⟩
abbrev main_cst_27 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_cst_28 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_cst_29 : Ref sig .tc := ⟨.hbm, 210, rfl⟩
abbrev main_v96 : Ref sig .tc := ⟨.hbm, 211, rfl⟩
abbrev main_v97 : Ref sig .tc := ⟨.hbm, 212, rfl⟩
abbrev main_v98 : Ref sig .tc := ⟨.hbm, 213, rfl⟩
abbrev main_cst_30 : Ref sig .tc := ⟨.hbm, 214, rfl⟩
abbrev main_v99 : Ref sig .tc := ⟨.hbm, 215, rfl⟩
abbrev main_v100 : Ref sig .tc := ⟨.hbm, 216, rfl⟩
abbrev main_cst_31 : Ref sig .tc := ⟨.hbm, 217, rfl⟩
abbrev main_v101 : Ref sig .tc := ⟨.hbm, 218, rfl⟩
abbrev main_v102 : Ref sig .tc := ⟨.hbm, 219, rfl⟩
abbrev main_v103 : Ref sig .tc := ⟨.hbm, 220, rfl⟩
abbrev main_cst_32 : Ref sig .tc := ⟨.hbm, 221, rfl⟩
abbrev main_v104 : Ref sig .tc := ⟨.hbm, 222, rfl⟩
abbrev main_v105 : Ref sig .tc := ⟨.hbm, 223, rfl⟩
abbrev main_v106 : Ref sig .tc := ⟨.hbm, 224, rfl⟩
abbrev main_cst_33 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_cst_34 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_cst_35 : Ref sig .tc := ⟨.hbm, 236, rfl⟩
abbrev main_v116 : Ref sig .tc := ⟨.hbm, 237, rfl⟩
abbrev main_v117 : Ref sig .tc := ⟨.hbm, 238, rfl⟩
abbrev main_cst_36 : Ref sig .tc := ⟨.hbm, 239, rfl⟩
abbrev main_v118 : Ref sig .tc := ⟨.hbm, 240, rfl⟩
abbrev main_v119 : Ref sig .tc := ⟨.hbm, 241, rfl⟩
abbrev main_v120 : Ref sig .tc := ⟨.hbm, 242, rfl⟩
abbrev main_cst_37 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_cst_38 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_cst_39 : Ref sig .tc := ⟨.hbm, 251, rfl⟩
abbrev main_v127 : Ref sig .tc := ⟨.hbm, 252, rfl⟩
abbrev main_v128 : Ref sig .tc := ⟨.hbm, 253, rfl⟩
abbrev main_cst_40 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_cst_41 : Ref sig .tc := ⟨.hbm, 258, rfl⟩
abbrev main_v132 : Ref sig .tc := ⟨.hbm, 259, rfl⟩
abbrev main_v133 : Ref sig .tc := ⟨.hbm, 260, rfl⟩
abbrev main_v134 : Ref sig .tc := ⟨.hbm, 261, rfl⟩
abbrev main_cst_42 : Ref sig .tc := ⟨.hbm, 262, rfl⟩
abbrev main_v135 : Ref sig .tc := ⟨.hbm, 263, rfl⟩
abbrev main_v136 : Ref sig .tc := ⟨.hbm, 264, rfl⟩
abbrev main_v137 : Ref sig .tc := ⟨.hbm, 265, rfl⟩
abbrev main_cst_43 : Ref sig .tc := ⟨.hbm, 266, rfl⟩
abbrev main_v138 : Ref sig .tc := ⟨.hbm, 267, rfl⟩
abbrev main_v139 : Ref sig .tc := ⟨.hbm, 268, rfl⟩
abbrev main_v140 : Ref sig .tc := ⟨.hbm, 269, rfl⟩
abbrev main_v141 : Ref sig .tc := ⟨.hbm, 270, rfl⟩
abbrev main_v142 : Ref sig .tc := ⟨.hbm, 271, rfl⟩
abbrev main_v143 : Ref sig .tc := ⟨.hbm, 272, rfl⟩
abbrev main_cst_44 : Ref sig .tc := ⟨.hbm, 273, rfl⟩
abbrev main_v144 : Ref sig .tc := ⟨.hbm, 274, rfl⟩
abbrev main_v145 : Ref sig .tc := ⟨.hbm, 275, rfl⟩
abbrev main_cst_45 : Ref sig .tc := ⟨.hbm, 276, rfl⟩
abbrev main_v146 : Ref sig .tc := ⟨.hbm, 277, rfl⟩
abbrev main_v147 : Ref sig .tc := ⟨.hbm, 278, rfl⟩
abbrev main_v148 : Ref sig .tc := ⟨.hbm, 279, rfl⟩
abbrev main_cst_46 : Ref sig .tc := ⟨.hbm, 280, rfl⟩
abbrev main_v149 : Ref sig .tc := ⟨.hbm, 281, rfl⟩
abbrev main_v150 : Ref sig .tc := ⟨.hbm, 282, rfl⟩
abbrev main_v151 : Ref sig .tc := ⟨.hbm, 283, rfl⟩
abbrev main_cst_47 : Ref sig .tc := ⟨.hbm, 284, rfl⟩
abbrev main_v152 : Ref sig .tc := ⟨.hbm, 285, rfl⟩
abbrev main_v153 : Ref sig .tc := ⟨.hbm, 286, rfl⟩
abbrev main_v154 : Ref sig .tc := ⟨.hbm, 287, rfl⟩
abbrev main_cst_48 : Ref sig .tc := ⟨.hbm, 288, rfl⟩
abbrev main_v155 : Ref sig .tc := ⟨.hbm, 289, rfl⟩
abbrev main_v156 : Ref sig .tc := ⟨.hbm, 290, rfl⟩
abbrev main_cst_49 : Ref sig .tc := ⟨.hbm, 291, rfl⟩
abbrev main_v157 : Ref sig .tc := ⟨.hbm, 292, rfl⟩
abbrev main_v158 : Ref sig .tc := ⟨.hbm, 293, rfl⟩
abbrev main_v159 : Ref sig .tc := ⟨.hbm, 294, rfl⟩
abbrev main_cst_50 : Ref sig .tc := ⟨.hbm, 295, rfl⟩
abbrev main_v160 : Ref sig .tc := ⟨.hbm, 296, rfl⟩
abbrev main_v161 : Ref sig .tc := ⟨.hbm, 297, rfl⟩
abbrev main_v162 : Ref sig .tc := ⟨.hbm, 298, rfl⟩
abbrev main_cst_51 : Ref sig .tc := ⟨.hbm, 299, rfl⟩
abbrev main_v163 : Ref sig .tc := ⟨.hbm, 300, rfl⟩
abbrev main_v164 : Ref sig .tc := ⟨.hbm, 301, rfl⟩
abbrev main_v165 : Ref sig .tc := ⟨.hbm, 302, rfl⟩
abbrev main_cst_52 : Ref sig .tc := ⟨.hbm, 303, rfl⟩
abbrev main_v166 : Ref sig .tc := ⟨.hbm, 304, rfl⟩
abbrev main_v167 : Ref sig .tc := ⟨.hbm, 305, rfl⟩
abbrev main_v168 : Ref sig .tc := ⟨.hbm, 306, rfl⟩
abbrev main_v169 : Ref sig .tc := ⟨.hbm, 307, rfl⟩
abbrev main_v170 : Ref sig .tc := ⟨.hbm, 308, rfl⟩
abbrev main_v171 : Ref sig .tc := ⟨.hbm, 309, rfl⟩
abbrev main_cst_53 : Ref sig .tc := ⟨.hbm, 310, rfl⟩
abbrev main_v172 : Ref sig .tc := ⟨.hbm, 311, rfl⟩
abbrev main_v173 : Ref sig .tc := ⟨.hbm, 312, rfl⟩
abbrev main_cst_54 : Ref sig .tc := ⟨.hbm, 313, rfl⟩
abbrev main_v174 : Ref sig .tc := ⟨.hbm, 314, rfl⟩
abbrev main_v175 : Ref sig .tc := ⟨.hbm, 315, rfl⟩
abbrev main_v176 : Ref sig .tc := ⟨.hbm, 316, rfl⟩
abbrev main_cst_55 : Ref sig .tc := ⟨.hbm, 317, rfl⟩
abbrev main_v177 : Ref sig .tc := ⟨.hbm, 318, rfl⟩
abbrev main_v178 : Ref sig .tc := ⟨.hbm, 319, rfl⟩
abbrev main_v179 : Ref sig .tc := ⟨.hbm, 320, rfl⟩
abbrev main_cst_56 : Ref sig .tc := ⟨.hbm, 321, rfl⟩
abbrev main_v180 : Ref sig .tc := ⟨.hbm, 322, rfl⟩
abbrev main_v181 : Ref sig .tc := ⟨.hbm, 323, rfl⟩
abbrev main_v182 : Ref sig .tc := ⟨.hbm, 324, rfl⟩
abbrev main_cst_57 : Ref sig .tc := ⟨.hbm, 325, rfl⟩
abbrev main_v183 : Ref sig .tc := ⟨.hbm, 326, rfl⟩
abbrev main_v184 : Ref sig .tc := ⟨.hbm, 327, rfl⟩
abbrev main_cst_58 : Ref sig .tc := ⟨.hbm, 328, rfl⟩
abbrev main_v185 : Ref sig .tc := ⟨.hbm, 329, rfl⟩
abbrev main_v186 : Ref sig .tc := ⟨.hbm, 330, rfl⟩
abbrev main_v187 : Ref sig .tc := ⟨.hbm, 331, rfl⟩
abbrev main_cst_59 : Ref sig .tc := ⟨.hbm, 332, rfl⟩
abbrev main_v188 : Ref sig .tc := ⟨.hbm, 333, rfl⟩
abbrev main_v189 : Ref sig .tc := ⟨.hbm, 334, rfl⟩
abbrev main_v190 : Ref sig .tc := ⟨.hbm, 335, rfl⟩
abbrev main_cst_60 : Ref sig .tc := ⟨.hbm, 336, rfl⟩
abbrev main_v191 : Ref sig .tc := ⟨.hbm, 337, rfl⟩
abbrev main_v192 : Ref sig .tc := ⟨.hbm, 338, rfl⟩
abbrev main_v193 : Ref sig .tc := ⟨.hbm, 339, rfl⟩
abbrev main_cst_61 : Ref sig .tc := ⟨.hbm, 340, rfl⟩
abbrev main_v194 : Ref sig .tc := ⟨.hbm, 341, rfl⟩
abbrev main_v195 : Ref sig .tc := ⟨.hbm, 342, rfl⟩
abbrev main_v196 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_cst_62 : Ref sig .tc := ⟨.hbm, 347, rfl⟩
abbrev main_v200 : Ref sig .tc := ⟨.hbm, 348, rfl⟩
abbrev main_v201 : Ref sig .tc := ⟨.hbm, 349, rfl⟩
abbrev main_cst_63 : Ref sig .tc := ⟨.hbm, 350, rfl⟩
abbrev main_v202 : Ref sig .tc := ⟨.hbm, 351, rfl⟩
abbrev main_v203 : Ref sig .tc := ⟨.hbm, 352, rfl⟩
abbrev main_v204 : Ref sig .tc := ⟨.hbm, 353, rfl⟩
abbrev main_cst_64 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_cst_65 : Ref sig .tc := ⟨.hbm, 358, rfl⟩
abbrev main_v208 : Ref sig .tc := ⟨.hbm, 359, rfl⟩
abbrev main_v209 : Ref sig .tc := ⟨.hbm, 360, rfl⟩
abbrev main_v210 : Ref sig .tc := ⟨.hbm, 361, rfl⟩
abbrev main_cst_66 : Ref sig .tc := ⟨.hbm, 362, rfl⟩
abbrev main_v211 : Ref sig .tc := ⟨.hbm, 363, rfl⟩
abbrev main_v212 : Ref sig .tc := ⟨.hbm, 364, rfl⟩
abbrev main_cst_67 : Ref sig .tc := ⟨.hbm, 365, rfl⟩
abbrev main_v213 : Ref sig .tc := ⟨.hbm, 366, rfl⟩
abbrev main_v214 : Ref sig .tc := ⟨.hbm, 367, rfl⟩
abbrev main_v215 : Ref sig .tc := ⟨.hbm, 368, rfl⟩
abbrev main_cst_68 : Ref sig .tc := ⟨.hbm, 369, rfl⟩
abbrev main_v216 : Ref sig .tc := ⟨.hbm, 370, rfl⟩
abbrev main_v217 : Ref sig .tc := ⟨.hbm, 371, rfl⟩
abbrev main_v218 : Ref sig .tc := ⟨.hbm, 372, rfl⟩
abbrev main_cst_69 : Ref sig .tc := ⟨.hbm, 373, rfl⟩
abbrev main_v219 : Ref sig .tc := ⟨.hbm, 374, rfl⟩
abbrev main_v220 : Ref sig .tc := ⟨.hbm, 375, rfl⟩
abbrev main_v221 : Ref sig .tc := ⟨.hbm, 376, rfl⟩
abbrev main_cst_70 : Ref sig .tc := ⟨.hbm, 377, rfl⟩
abbrev main_v222 : Ref sig .tc := ⟨.hbm, 378, rfl⟩
abbrev main_v223 : Ref sig .tc := ⟨.hbm, 379, rfl⟩
abbrev main_v224 : Ref sig .tc := ⟨.hbm, 380, rfl⟩
abbrev main_v225 : Ref sig .tc := ⟨.hbm, 381, rfl⟩
abbrev main_v226 : Ref sig .tc := ⟨.hbm, 382, rfl⟩
abbrev main_v227 : Ref sig .tc := ⟨.hbm, 383, rfl⟩
abbrev main_cst_71 : Ref sig .tc := ⟨.hbm, 384, rfl⟩
abbrev main_v228 : Ref sig .tc := ⟨.hbm, 385, rfl⟩
abbrev main_v229 : Ref sig .tc := ⟨.hbm, 386, rfl⟩
abbrev main_cst_72 : Ref sig .tc := ⟨.hbm, 387, rfl⟩
abbrev main_v230 : Ref sig .tc := ⟨.hbm, 388, rfl⟩
abbrev main_v231 : Ref sig .tc := ⟨.hbm, 389, rfl⟩
abbrev main_v232 : Ref sig .tc := ⟨.hbm, 390, rfl⟩
abbrev main_cst_73 : Ref sig .tc := ⟨.hbm, 391, rfl⟩
abbrev main_v233 : Ref sig .tc := ⟨.hbm, 392, rfl⟩
abbrev main_v234 : Ref sig .tc := ⟨.hbm, 393, rfl⟩
abbrev main_v235 : Ref sig .tc := ⟨.hbm, 394, rfl⟩
abbrev main_cst_74 : Ref sig .tc := ⟨.hbm, 395, rfl⟩
abbrev main_v236 : Ref sig .tc := ⟨.hbm, 396, rfl⟩
abbrev main_v237 : Ref sig .tc := ⟨.hbm, 397, rfl⟩
abbrev main_v238 : Ref sig .tc := ⟨.hbm, 398, rfl⟩
abbrev main_cst_75 : Ref sig .tc := ⟨.hbm, 399, rfl⟩
abbrev main_v239 : Ref sig .tc := ⟨.hbm, 400, rfl⟩
abbrev main_v240 : Ref sig .tc := ⟨.hbm, 401, rfl⟩
abbrev main_cst_76 : Ref sig .tc := ⟨.hbm, 402, rfl⟩
abbrev main_v241 : Ref sig .tc := ⟨.hbm, 403, rfl⟩
abbrev main_v242 : Ref sig .tc := ⟨.hbm, 404, rfl⟩
abbrev main_v243 : Ref sig .tc := ⟨.hbm, 405, rfl⟩
abbrev main_cst_77 : Ref sig .tc := ⟨.hbm, 406, rfl⟩
abbrev main_v244 : Ref sig .tc := ⟨.hbm, 407, rfl⟩
abbrev main_v245 : Ref sig .tc := ⟨.hbm, 408, rfl⟩
abbrev main_v246 : Ref sig .tc := ⟨.hbm, 409, rfl⟩
abbrev main_cst_78 : Ref sig .tc := ⟨.hbm, 410, rfl⟩
abbrev main_v247 : Ref sig .tc := ⟨.hbm, 411, rfl⟩
abbrev main_v248 : Ref sig .tc := ⟨.hbm, 412, rfl⟩
abbrev main_v249 : Ref sig .tc := ⟨.hbm, 413, rfl⟩
abbrev main_cst_79 : Ref sig .tc := ⟨.hbm, 414, rfl⟩
abbrev main_v250 : Ref sig .tc := ⟨.hbm, 415, rfl⟩
abbrev main_v251 : Ref sig .tc := ⟨.hbm, 416, rfl⟩
abbrev main_v252 : Ref sig .tc := ⟨.hbm, 417, rfl⟩
abbrev main_v253 : Ref sig .tc := ⟨.hbm, 418, rfl⟩
abbrev main_v254 : Ref sig .tc := ⟨.hbm, 419, rfl⟩
abbrev main_v255 : Ref sig .tc := ⟨.hbm, 420, rfl⟩
abbrev main_cst_80 : Ref sig .tc := ⟨.hbm, 421, rfl⟩
abbrev main_v256 : Ref sig .tc := ⟨.hbm, 422, rfl⟩
abbrev main_v257 : Ref sig .tc := ⟨.hbm, 423, rfl⟩
abbrev main_cst_81 : Ref sig .tc := ⟨.hbm, 424, rfl⟩
abbrev main_v258 : Ref sig .tc := ⟨.hbm, 425, rfl⟩
abbrev main_v259 : Ref sig .tc := ⟨.hbm, 426, rfl⟩
abbrev main_v260 : Ref sig .tc := ⟨.hbm, 427, rfl⟩
abbrev main_cst_82 : Ref sig .tc := ⟨.hbm, 428, rfl⟩
abbrev main_v261 : Ref sig .tc := ⟨.hbm, 429, rfl⟩
abbrev main_v262 : Ref sig .tc := ⟨.hbm, 430, rfl⟩
abbrev main_v263 : Ref sig .tc := ⟨.hbm, 431, rfl⟩
abbrev main_cst_83 : Ref sig .tc := ⟨.hbm, 432, rfl⟩
abbrev main_v264 : Ref sig .tc := ⟨.hbm, 433, rfl⟩
abbrev main_v265 : Ref sig .tc := ⟨.hbm, 434, rfl⟩
abbrev main_v266 : Ref sig .tc := ⟨.hbm, 435, rfl⟩
abbrev main_cst_84 : Ref sig .tc := ⟨.hbm, 436, rfl⟩
abbrev main_v267 : Ref sig .tc := ⟨.hbm, 437, rfl⟩
abbrev main_v268 : Ref sig .tc := ⟨.hbm, 438, rfl⟩
abbrev main_cst_85 : Ref sig .tc := ⟨.hbm, 439, rfl⟩
abbrev main_v269 : Ref sig .tc := ⟨.hbm, 440, rfl⟩
abbrev main_v270 : Ref sig .tc := ⟨.hbm, 441, rfl⟩
abbrev main_v271 : Ref sig .tc := ⟨.hbm, 442, rfl⟩
abbrev main_cst_86 : Ref sig .tc := ⟨.hbm, 443, rfl⟩
abbrev main_v272 : Ref sig .tc := ⟨.hbm, 444, rfl⟩
abbrev main_v273 : Ref sig .tc := ⟨.hbm, 445, rfl⟩
abbrev main_v274 : Ref sig .tc := ⟨.hbm, 446, rfl⟩
abbrev main_cst_87 : Ref sig .tc := ⟨.hbm, 447, rfl⟩
abbrev main_v275 : Ref sig .tc := ⟨.hbm, 448, rfl⟩
abbrev main_v276 : Ref sig .tc := ⟨.hbm, 449, rfl⟩
abbrev main_v277 : Ref sig .tc := ⟨.hbm, 450, rfl⟩
abbrev main_cst_88 : Ref sig .tc := ⟨.hbm, 451, rfl⟩
abbrev main_v278 : Ref sig .tc := ⟨.hbm, 452, rfl⟩
abbrev main_v279 : Ref sig .tc := ⟨.hbm, 453, rfl⟩
abbrev main_v280 : Ref sig .tc := ⟨.hbm, 454, rfl⟩
abbrev main_v281 : Ref sig .tc := ⟨.hbm, 455, rfl⟩
abbrev main_v282 : Ref sig .tc := ⟨.hbm, 456, rfl⟩
abbrev main_v283 : Ref sig .tc := ⟨.hbm, 457, rfl⟩
abbrev main_cst_89 : Ref sig .tc := ⟨.hbm, 458, rfl⟩
abbrev main_v284 : Ref sig .tc := ⟨.hbm, 459, rfl⟩
abbrev main_v285 : Ref sig .tc := ⟨.hbm, 460, rfl⟩
abbrev main_cst_90 : Ref sig .tc := ⟨.hbm, 461, rfl⟩
abbrev main_v286 : Ref sig .tc := ⟨.hbm, 462, rfl⟩
abbrev main_v287 : Ref sig .tc := ⟨.hbm, 463, rfl⟩
abbrev main_v288 : Ref sig .tc := ⟨.hbm, 464, rfl⟩
abbrev main_cst_91 : Ref sig .tc := ⟨.hbm, 465, rfl⟩
abbrev main_v289 : Ref sig .tc := ⟨.hbm, 466, rfl⟩
abbrev main_v290 : Ref sig .tc := ⟨.hbm, 467, rfl⟩
abbrev main_v291 : Ref sig .tc := ⟨.hbm, 468, rfl⟩
abbrev main_cst_92 : Ref sig .tc := ⟨.hbm, 469, rfl⟩
abbrev main_v292 : Ref sig .tc := ⟨.hbm, 470, rfl⟩
abbrev main_v293 : Ref sig .tc := ⟨.hbm, 471, rfl⟩
abbrev main_v294 : Ref sig .tc := ⟨.hbm, 472, rfl⟩
abbrev main_cst_93 : Ref sig .tc := ⟨.hbm, 473, rfl⟩
abbrev main_v295 : Ref sig .tc := ⟨.hbm, 474, rfl⟩
abbrev main_v296 : Ref sig .tc := ⟨.hbm, 475, rfl⟩
abbrev main_cst_94 : Ref sig .tc := ⟨.hbm, 476, rfl⟩
abbrev main_v297 : Ref sig .tc := ⟨.hbm, 477, rfl⟩
abbrev main_v298 : Ref sig .tc := ⟨.hbm, 478, rfl⟩
abbrev main_v299 : Ref sig .tc := ⟨.hbm, 479, rfl⟩
abbrev main_cst_95 : Ref sig .tc := ⟨.hbm, 480, rfl⟩
abbrev main_v300 : Ref sig .tc := ⟨.hbm, 481, rfl⟩
abbrev main_v301 : Ref sig .tc := ⟨.hbm, 482, rfl⟩
abbrev main_v302 : Ref sig .tc := ⟨.hbm, 483, rfl⟩
abbrev main_cst_96 : Ref sig .tc := ⟨.hbm, 484, rfl⟩
abbrev main_v303 : Ref sig .tc := ⟨.hbm, 485, rfl⟩
abbrev main_v304 : Ref sig .tc := ⟨.hbm, 486, rfl⟩
abbrev main_v305 : Ref sig .tc := ⟨.hbm, 487, rfl⟩
abbrev main_cst_97 : Ref sig .tc := ⟨.hbm, 488, rfl⟩
abbrev main_v306 : Ref sig .tc := ⟨.hbm, 489, rfl⟩
abbrev main_v307 : Ref sig .tc := ⟨.hbm, 490, rfl⟩
abbrev main_v308 : Ref sig .tc := ⟨.hbm, 491, rfl⟩
abbrev main_v309 : Ref sig .tc := ⟨.hbm, 492, rfl⟩
abbrev main_v310 : Ref sig .tc := ⟨.hbm, 493, rfl⟩
abbrev main_v311 : Ref sig .tc := ⟨.hbm, 494, rfl⟩
abbrev main_cst_98 : Ref sig .tc := ⟨.hbm, 495, rfl⟩
abbrev main_v312 : Ref sig .tc := ⟨.hbm, 496, rfl⟩
abbrev main_v313 : Ref sig .tc := ⟨.hbm, 497, rfl⟩
abbrev main_cst_99 : Ref sig .tc := ⟨.hbm, 498, rfl⟩
abbrev main_v314 : Ref sig .tc := ⟨.hbm, 499, rfl⟩
abbrev main_v315 : Ref sig .tc := ⟨.hbm, 500, rfl⟩
abbrev main_v316 : Ref sig .tc := ⟨.hbm, 501, rfl⟩
abbrev main_cst_100 : Ref sig .tc := ⟨.hbm, 502, rfl⟩
abbrev main_v317 : Ref sig .tc := ⟨.hbm, 503, rfl⟩
abbrev main_v318 : Ref sig .tc := ⟨.hbm, 504, rfl⟩
abbrev main_v319 : Ref sig .tc := ⟨.hbm, 505, rfl⟩
abbrev main_cst_101 : Ref sig .tc := ⟨.hbm, 506, rfl⟩
abbrev main_v320 : Ref sig .tc := ⟨.hbm, 507, rfl⟩
abbrev main_v321 : Ref sig .tc := ⟨.hbm, 508, rfl⟩
abbrev main_v322 : Ref sig .tc := ⟨.hbm, 509, rfl⟩
abbrev main_cst_102 : Ref sig .tc := ⟨.hbm, 510, rfl⟩
abbrev main_v323 : Ref sig .tc := ⟨.hbm, 511, rfl⟩
abbrev main_v324 : Ref sig .tc := ⟨.hbm, 512, rfl⟩
abbrev main_cst_103 : Ref sig .tc := ⟨.hbm, 513, rfl⟩
abbrev main_v325 : Ref sig .tc := ⟨.hbm, 514, rfl⟩
abbrev main_v326 : Ref sig .tc := ⟨.hbm, 515, rfl⟩
abbrev main_v327 : Ref sig .tc := ⟨.hbm, 516, rfl⟩
abbrev main_cst_104 : Ref sig .tc := ⟨.hbm, 517, rfl⟩
abbrev main_v328 : Ref sig .tc := ⟨.hbm, 518, rfl⟩
abbrev main_v329 : Ref sig .tc := ⟨.hbm, 519, rfl⟩
abbrev main_v330 : Ref sig .tc := ⟨.hbm, 520, rfl⟩
abbrev main_cst_105 : Ref sig .tc := ⟨.hbm, 521, rfl⟩
abbrev main_v331 : Ref sig .tc := ⟨.hbm, 522, rfl⟩
abbrev main_v332 : Ref sig .tc := ⟨.hbm, 523, rfl⟩
abbrev main_v333 : Ref sig .tc := ⟨.hbm, 524, rfl⟩
abbrev main_cst_106 : Ref sig .tc := ⟨.hbm, 525, rfl⟩
abbrev main_v334 : Ref sig .tc := ⟨.hbm, 526, rfl⟩
abbrev main_v335 : Ref sig .tc := ⟨.hbm, 527, rfl⟩
abbrev main_v336 : Ref sig .tc := ⟨.hbm, 528, rfl⟩
abbrev main_v337 : Ref sig .tc := ⟨.hbm, 529, rfl⟩
abbrev main_v338 : Ref sig .tc := ⟨.hbm, 530, rfl⟩
abbrev main_v339 : Ref sig .tc := ⟨.hbm, 531, rfl⟩
abbrev main_cst_107 : Ref sig .tc := ⟨.hbm, 532, rfl⟩
abbrev main_v340 : Ref sig .tc := ⟨.hbm, 533, rfl⟩
abbrev main_v341 : Ref sig .tc := ⟨.hbm, 534, rfl⟩
abbrev main_cst_108 : Ref sig .tc := ⟨.hbm, 535, rfl⟩
abbrev main_v342 : Ref sig .tc := ⟨.hbm, 536, rfl⟩
abbrev main_v343 : Ref sig .tc := ⟨.hbm, 537, rfl⟩
abbrev main_v344 : Ref sig .tc := ⟨.hbm, 538, rfl⟩
abbrev main_cst_109 : Ref sig .tc := ⟨.hbm, 539, rfl⟩
abbrev main_v345 : Ref sig .tc := ⟨.hbm, 540, rfl⟩
abbrev main_v346 : Ref sig .tc := ⟨.hbm, 541, rfl⟩
abbrev main_v347 : Ref sig .tc := ⟨.hbm, 542, rfl⟩
abbrev main_cst_110 : Ref sig .tc := ⟨.hbm, 543, rfl⟩
abbrev main_v348 : Ref sig .tc := ⟨.hbm, 544, rfl⟩
abbrev main_v349 : Ref sig .tc := ⟨.hbm, 545, rfl⟩
abbrev main_v350 : Ref sig .tc := ⟨.hbm, 546, rfl⟩
abbrev main_cst_111 : Ref sig .tc := ⟨.hbm, 547, rfl⟩
abbrev main_v351 : Ref sig .tc := ⟨.hbm, 548, rfl⟩
abbrev main_v352 : Ref sig .tc := ⟨.hbm, 549, rfl⟩
abbrev main_cst_112 : Ref sig .tc := ⟨.hbm, 550, rfl⟩
abbrev main_v353 : Ref sig .tc := ⟨.hbm, 551, rfl⟩
abbrev main_v354 : Ref sig .tc := ⟨.hbm, 552, rfl⟩
abbrev main_v355 : Ref sig .tc := ⟨.hbm, 553, rfl⟩
abbrev main_cst_113 : Ref sig .tc := ⟨.hbm, 554, rfl⟩
abbrev main_v356 : Ref sig .tc := ⟨.hbm, 555, rfl⟩
abbrev main_v357 : Ref sig .tc := ⟨.hbm, 556, rfl⟩
abbrev main_v358 : Ref sig .tc := ⟨.hbm, 557, rfl⟩
abbrev main_cst_114 : Ref sig .tc := ⟨.hbm, 558, rfl⟩
abbrev main_v359 : Ref sig .tc := ⟨.hbm, 559, rfl⟩
abbrev main_v360 : Ref sig .tc := ⟨.hbm, 560, rfl⟩
abbrev main_v361 : Ref sig .tc := ⟨.hbm, 561, rfl⟩
abbrev main_cst_115 : Ref sig .tc := ⟨.hbm, 562, rfl⟩
abbrev main_v362 : Ref sig .tc := ⟨.hbm, 563, rfl⟩
abbrev main_v363 : Ref sig .tc := ⟨.hbm, 564, rfl⟩
abbrev main_v364 : Ref sig .tc := ⟨.hbm, 565, rfl⟩
abbrev main_v365 : Ref sig .tc := ⟨.hbm, 566, rfl⟩
abbrev main_v366 : Ref sig .tc := ⟨.hbm, 567, rfl⟩
abbrev main_v367 : Ref sig .tc := ⟨.hbm, 568, rfl⟩
abbrev main_cst_116 : Ref sig .tc := ⟨.hbm, 569, rfl⟩
abbrev main_v368 : Ref sig .tc := ⟨.hbm, 570, rfl⟩
abbrev main_v369 : Ref sig .tc := ⟨.hbm, 571, rfl⟩
abbrev main_cst_117 : Ref sig .tc := ⟨.hbm, 572, rfl⟩
abbrev main_v370 : Ref sig .tc := ⟨.hbm, 573, rfl⟩
abbrev main_v371 : Ref sig .tc := ⟨.hbm, 574, rfl⟩
abbrev main_v372 : Ref sig .tc := ⟨.hbm, 575, rfl⟩
abbrev main_cst_118 : Ref sig .tc := ⟨.hbm, 576, rfl⟩
abbrev main_v373 : Ref sig .tc := ⟨.hbm, 577, rfl⟩
abbrev main_v374 : Ref sig .tc := ⟨.hbm, 578, rfl⟩
abbrev main_v375 : Ref sig .tc := ⟨.hbm, 579, rfl⟩
abbrev main_cst_119 : Ref sig .tc := ⟨.hbm, 580, rfl⟩
abbrev main_v376 : Ref sig .tc := ⟨.hbm, 581, rfl⟩
abbrev main_v377 : Ref sig .tc := ⟨.hbm, 582, rfl⟩
abbrev main_v378 : Ref sig .tc := ⟨.hbm, 583, rfl⟩
abbrev main_cst_120 : Ref sig .tc := ⟨.hbm, 584, rfl⟩
abbrev main_v379 : Ref sig .tc := ⟨.hbm, 585, rfl⟩
abbrev main_v380 : Ref sig .tc := ⟨.hbm, 586, rfl⟩
abbrev main_cst_121 : Ref sig .tc := ⟨.hbm, 587, rfl⟩
abbrev main_v381 : Ref sig .tc := ⟨.hbm, 588, rfl⟩
abbrev main_v382 : Ref sig .tc := ⟨.hbm, 589, rfl⟩
abbrev main_v383 : Ref sig .tc := ⟨.hbm, 590, rfl⟩
abbrev main_cst_122 : Ref sig .tc := ⟨.hbm, 591, rfl⟩
abbrev main_v384 : Ref sig .tc := ⟨.hbm, 592, rfl⟩
abbrev main_v385 : Ref sig .tc := ⟨.hbm, 593, rfl⟩
abbrev main_v386 : Ref sig .tc := ⟨.hbm, 594, rfl⟩
abbrev main_cst_123 : Ref sig .tc := ⟨.hbm, 595, rfl⟩
abbrev main_v387 : Ref sig .tc := ⟨.hbm, 596, rfl⟩
abbrev main_v388 : Ref sig .tc := ⟨.hbm, 597, rfl⟩
abbrev main_v389 : Ref sig .tc := ⟨.hbm, 598, rfl⟩
abbrev main_cst_124 : Ref sig .tc := ⟨.hbm, 599, rfl⟩
abbrev main_v390 : Ref sig .tc := ⟨.hbm, 600, rfl⟩
abbrev main_v391 : Ref sig .tc := ⟨.hbm, 601, rfl⟩
abbrev main_v392 : Ref sig .tc := ⟨.hbm, 602, rfl⟩
abbrev main_v393 : Ref sig .tc := ⟨.hbm, 603, rfl⟩
abbrev main_v394 : Ref sig .tc := ⟨.hbm, 604, rfl⟩
abbrev main_v395 : Ref sig .tc := ⟨.hbm, 605, rfl⟩
abbrev main_cst_125 : Ref sig .tc := ⟨.hbm, 606, rfl⟩
abbrev main_v396 : Ref sig .tc := ⟨.hbm, 607, rfl⟩
abbrev main_v397 : Ref sig .tc := ⟨.hbm, 608, rfl⟩
abbrev main_cst_126 : Ref sig .tc := ⟨.hbm, 609, rfl⟩
abbrev main_v398 : Ref sig .tc := ⟨.hbm, 610, rfl⟩
abbrev main_v399 : Ref sig .tc := ⟨.hbm, 611, rfl⟩
abbrev main_v400 : Ref sig .tc := ⟨.hbm, 612, rfl⟩
abbrev main_cst_127 : Ref sig .tc := ⟨.hbm, 613, rfl⟩
abbrev main_v401 : Ref sig .tc := ⟨.hbm, 614, rfl⟩
abbrev main_v402 : Ref sig .tc := ⟨.hbm, 615, rfl⟩
abbrev main_v403 : Ref sig .tc := ⟨.hbm, 616, rfl⟩
abbrev main_cst_128 : Ref sig .tc := ⟨.hbm, 617, rfl⟩
abbrev main_v404 : Ref sig .tc := ⟨.hbm, 618, rfl⟩
abbrev main_v405 : Ref sig .tc := ⟨.hbm, 619, rfl⟩
abbrev main_v406 : Ref sig .tc := ⟨.hbm, 620, rfl⟩
abbrev main_cst_129 : Ref sig .tc := ⟨.hbm, 621, rfl⟩
abbrev main_v407 : Ref sig .tc := ⟨.hbm, 622, rfl⟩
abbrev main_v408 : Ref sig .tc := ⟨.hbm, 623, rfl⟩
abbrev main_cst_130 : Ref sig .tc := ⟨.hbm, 624, rfl⟩
abbrev main_v409 : Ref sig .tc := ⟨.hbm, 625, rfl⟩
abbrev main_v410 : Ref sig .tc := ⟨.hbm, 626, rfl⟩
abbrev main_v411 : Ref sig .tc := ⟨.hbm, 627, rfl⟩
abbrev main_cst_131 : Ref sig .tc := ⟨.hbm, 628, rfl⟩
abbrev main_v412 : Ref sig .tc := ⟨.hbm, 629, rfl⟩
abbrev main_v413 : Ref sig .tc := ⟨.hbm, 630, rfl⟩
abbrev main_v414 : Ref sig .tc := ⟨.hbm, 631, rfl⟩
abbrev main_cst_132 : Ref sig .tc := ⟨.hbm, 632, rfl⟩
abbrev main_v415 : Ref sig .tc := ⟨.hbm, 633, rfl⟩
abbrev main_v416 : Ref sig .tc := ⟨.hbm, 634, rfl⟩
abbrev main_v417 : Ref sig .tc := ⟨.hbm, 635, rfl⟩
abbrev main_cst_133 : Ref sig .tc := ⟨.hbm, 636, rfl⟩
abbrev main_v418 : Ref sig .tc := ⟨.hbm, 637, rfl⟩
abbrev main_v419 : Ref sig .tc := ⟨.hbm, 638, rfl⟩
abbrev main_v420 : Ref sig .tc := ⟨.hbm, 639, rfl⟩
abbrev main_v421 : Ref sig .tc := ⟨.hbm, 640, rfl⟩
abbrev main_v422 : Ref sig .tc := ⟨.hbm, 641, rfl⟩
abbrev main_v423 : Ref sig .tc := ⟨.hbm, 642, rfl⟩
abbrev main_cst_134 : Ref sig .tc := ⟨.hbm, 643, rfl⟩
abbrev main_v424 : Ref sig .tc := ⟨.hbm, 644, rfl⟩
abbrev main_v425 : Ref sig .tc := ⟨.hbm, 645, rfl⟩
abbrev main_cst_135 : Ref sig .tc := ⟨.hbm, 646, rfl⟩
abbrev main_v426 : Ref sig .tc := ⟨.hbm, 647, rfl⟩
abbrev main_v427 : Ref sig .tc := ⟨.hbm, 648, rfl⟩
abbrev main_v428 : Ref sig .tc := ⟨.hbm, 649, rfl⟩
abbrev main_cst_136 : Ref sig .tc := ⟨.hbm, 650, rfl⟩
abbrev main_v429 : Ref sig .tc := ⟨.hbm, 651, rfl⟩
abbrev main_v430 : Ref sig .tc := ⟨.hbm, 652, rfl⟩
abbrev main_v431 : Ref sig .tc := ⟨.hbm, 653, rfl⟩
abbrev main_cst_137 : Ref sig .tc := ⟨.hbm, 654, rfl⟩
abbrev main_v432 : Ref sig .tc := ⟨.hbm, 655, rfl⟩
abbrev main_v433 : Ref sig .tc := ⟨.hbm, 656, rfl⟩
abbrev main_v434 : Ref sig .tc := ⟨.hbm, 657, rfl⟩
abbrev main_cst_138 : Ref sig .tc := ⟨.hbm, 658, rfl⟩
abbrev main_v435 : Ref sig .tc := ⟨.hbm, 659, rfl⟩
abbrev main_v436 : Ref sig .tc := ⟨.hbm, 660, rfl⟩
abbrev main_cst_139 : Ref sig .tc := ⟨.hbm, 661, rfl⟩
abbrev main_v437 : Ref sig .tc := ⟨.hbm, 662, rfl⟩
abbrev main_v438 : Ref sig .tc := ⟨.hbm, 663, rfl⟩
abbrev main_v439 : Ref sig .tc := ⟨.hbm, 664, rfl⟩
abbrev main_cst_140 : Ref sig .tc := ⟨.hbm, 665, rfl⟩
abbrev main_v440 : Ref sig .tc := ⟨.hbm, 666, rfl⟩
abbrev main_v441 : Ref sig .tc := ⟨.hbm, 667, rfl⟩
abbrev main_v442 : Ref sig .tc := ⟨.hbm, 668, rfl⟩
abbrev main_cst_141 : Ref sig .tc := ⟨.hbm, 669, rfl⟩
abbrev main_v443 : Ref sig .tc := ⟨.hbm, 670, rfl⟩
abbrev main_v444 : Ref sig .tc := ⟨.hbm, 671, rfl⟩
abbrev main_v445 : Ref sig .tc := ⟨.hbm, 672, rfl⟩
abbrev main_cst_142 : Ref sig .tc := ⟨.hbm, 673, rfl⟩
abbrev main_v446 : Ref sig .tc := ⟨.hbm, 674, rfl⟩
abbrev main_v447 : Ref sig .tc := ⟨.hbm, 675, rfl⟩
abbrev main_v448 : Ref sig .tc := ⟨.hbm, 676, rfl⟩
abbrev main_v449 : Ref sig .tc := ⟨.hbm, 677, rfl⟩
abbrev main_v450 : Ref sig .tc := ⟨.hbm, 678, rfl⟩
abbrev main_v451 : Ref sig .tc := ⟨.hbm, 679, rfl⟩
abbrev main_cst_143 : Ref sig .tc := ⟨.hbm, 680, rfl⟩
abbrev main_v452 : Ref sig .tc := ⟨.hbm, 681, rfl⟩
abbrev main_v453 : Ref sig .tc := ⟨.hbm, 682, rfl⟩
abbrev main_cst_144 : Ref sig .tc := ⟨.hbm, 683, rfl⟩
abbrev main_v454 : Ref sig .tc := ⟨.hbm, 684, rfl⟩
abbrev main_v455 : Ref sig .tc := ⟨.hbm, 685, rfl⟩
abbrev main_v456 : Ref sig .tc := ⟨.hbm, 686, rfl⟩
abbrev main_cst_145 : Ref sig .tc := ⟨.hbm, 687, rfl⟩
abbrev main_v457 : Ref sig .tc := ⟨.hbm, 688, rfl⟩
abbrev main_v458 : Ref sig .tc := ⟨.hbm, 689, rfl⟩
abbrev main_v459 : Ref sig .tc := ⟨.hbm, 690, rfl⟩
abbrev main_cst_146 : Ref sig .tc := ⟨.hbm, 691, rfl⟩
abbrev main_v460 : Ref sig .tc := ⟨.hbm, 692, rfl⟩
abbrev main_v461 : Ref sig .tc := ⟨.hbm, 693, rfl⟩
abbrev main_v462 : Ref sig .tc := ⟨.hbm, 694, rfl⟩
abbrev main_cst_147 : Ref sig .tc := ⟨.hbm, 695, rfl⟩
abbrev main_v463 : Ref sig .tc := ⟨.hbm, 696, rfl⟩
abbrev main_v464 : Ref sig .tc := ⟨.hbm, 697, rfl⟩
abbrev main_cst_148 : Ref sig .tc := ⟨.hbm, 698, rfl⟩
abbrev main_v465 : Ref sig .tc := ⟨.hbm, 699, rfl⟩
abbrev main_v466 : Ref sig .tc := ⟨.hbm, 700, rfl⟩
abbrev main_v467 : Ref sig .tc := ⟨.hbm, 701, rfl⟩
abbrev main_cst_149 : Ref sig .tc := ⟨.hbm, 702, rfl⟩
abbrev main_v468 : Ref sig .tc := ⟨.hbm, 703, rfl⟩
abbrev main_v469 : Ref sig .tc := ⟨.hbm, 704, rfl⟩
abbrev main_v470 : Ref sig .tc := ⟨.hbm, 705, rfl⟩
abbrev main_cst_150 : Ref sig .tc := ⟨.hbm, 706, rfl⟩
abbrev main_v471 : Ref sig .tc := ⟨.hbm, 707, rfl⟩
abbrev main_v472 : Ref sig .tc := ⟨.hbm, 708, rfl⟩
abbrev main_v473 : Ref sig .tc := ⟨.hbm, 709, rfl⟩
abbrev main_cst_151 : Ref sig .tc := ⟨.hbm, 710, rfl⟩
abbrev main_v474 : Ref sig .tc := ⟨.hbm, 711, rfl⟩
abbrev main_v475 : Ref sig .tc := ⟨.hbm, 712, rfl⟩
abbrev main_v476 : Ref sig .tc := ⟨.hbm, 713, rfl⟩
abbrev main_v477 : Ref sig .tc := ⟨.hbm, 714, rfl⟩
abbrev main_v478 : Ref sig .tc := ⟨.hbm, 715, rfl⟩
abbrev main_v479 : Ref sig .tc := ⟨.hbm, 716, rfl⟩
abbrev main_cst_152 : Ref sig .tc := ⟨.hbm, 717, rfl⟩
abbrev main_v480 : Ref sig .tc := ⟨.hbm, 718, rfl⟩
abbrev main_v481 : Ref sig .tc := ⟨.hbm, 719, rfl⟩
abbrev main_cst_153 : Ref sig .tc := ⟨.hbm, 720, rfl⟩
abbrev main_v482 : Ref sig .tc := ⟨.hbm, 721, rfl⟩
abbrev main_v483 : Ref sig .tc := ⟨.hbm, 722, rfl⟩
abbrev main_v484 : Ref sig .tc := ⟨.hbm, 723, rfl⟩
abbrev main_cst_154 : Ref sig .tc := ⟨.hbm, 724, rfl⟩
abbrev main_v485 : Ref sig .tc := ⟨.hbm, 725, rfl⟩
abbrev main_v486 : Ref sig .tc := ⟨.hbm, 726, rfl⟩
abbrev main_v487 : Ref sig .tc := ⟨.hbm, 727, rfl⟩
abbrev main_cst_155 : Ref sig .tc := ⟨.hbm, 728, rfl⟩
abbrev main_v488 : Ref sig .tc := ⟨.hbm, 729, rfl⟩
abbrev main_v489 : Ref sig .tc := ⟨.hbm, 730, rfl⟩
abbrev main_v490 : Ref sig .tc := ⟨.hbm, 731, rfl⟩
abbrev main_cst_156 : Ref sig .tc := ⟨.hbm, 732, rfl⟩
abbrev main_v491 : Ref sig .tc := ⟨.hbm, 733, rfl⟩
abbrev main_v492 : Ref sig .tc := ⟨.hbm, 734, rfl⟩
abbrev main_cst_157 : Ref sig .tc := ⟨.hbm, 735, rfl⟩
abbrev main_v493 : Ref sig .tc := ⟨.hbm, 736, rfl⟩
abbrev main_v494 : Ref sig .tc := ⟨.hbm, 737, rfl⟩
abbrev main_v495 : Ref sig .tc := ⟨.hbm, 738, rfl⟩
abbrev main_cst_158 : Ref sig .tc := ⟨.hbm, 739, rfl⟩
abbrev main_v496 : Ref sig .tc := ⟨.hbm, 740, rfl⟩
abbrev main_v497 : Ref sig .tc := ⟨.hbm, 741, rfl⟩
abbrev main_v498 : Ref sig .tc := ⟨.hbm, 742, rfl⟩
abbrev main_cst_159 : Ref sig .tc := ⟨.hbm, 743, rfl⟩
abbrev main_v499 : Ref sig .tc := ⟨.hbm, 744, rfl⟩
abbrev main_v500 : Ref sig .tc := ⟨.hbm, 745, rfl⟩
abbrev main_v501 : Ref sig .tc := ⟨.hbm, 746, rfl⟩
abbrev main_cst_160 : Ref sig .tc := ⟨.hbm, 747, rfl⟩
abbrev main_v502 : Ref sig .tc := ⟨.hbm, 748, rfl⟩
abbrev main_v503 : Ref sig .tc := ⟨.hbm, 749, rfl⟩
abbrev main_v504 : Ref sig .tc := ⟨.hbm, 750, rfl⟩
abbrev main_v505 : Ref sig .tc := ⟨.hbm, 751, rfl⟩
abbrev main_v506 : Ref sig .tc := ⟨.hbm, 752, rfl⟩
abbrev main_v507 : Ref sig .tc := ⟨.hbm, 753, rfl⟩
abbrev main_cst_161 : Ref sig .tc := ⟨.hbm, 754, rfl⟩
abbrev main_v508 : Ref sig .tc := ⟨.hbm, 755, rfl⟩
abbrev main_v509 : Ref sig .tc := ⟨.hbm, 756, rfl⟩
abbrev main_cst_162 : Ref sig .tc := ⟨.hbm, 757, rfl⟩
abbrev main_v510 : Ref sig .tc := ⟨.hbm, 758, rfl⟩
abbrev main_v511 : Ref sig .tc := ⟨.hbm, 759, rfl⟩
abbrev main_v512 : Ref sig .tc := ⟨.hbm, 760, rfl⟩
abbrev main_cst_163 : Ref sig .tc := ⟨.hbm, 761, rfl⟩
abbrev main_v513 : Ref sig .tc := ⟨.hbm, 762, rfl⟩
abbrev main_v514 : Ref sig .tc := ⟨.hbm, 763, rfl⟩
abbrev main_v515 : Ref sig .tc := ⟨.hbm, 764, rfl⟩
abbrev main_cst_164 : Ref sig .tc := ⟨.hbm, 765, rfl⟩
abbrev main_v516 : Ref sig .tc := ⟨.hbm, 766, rfl⟩
abbrev main_v517 : Ref sig .tc := ⟨.hbm, 767, rfl⟩
abbrev main_v518 : Ref sig .tc := ⟨.hbm, 768, rfl⟩
abbrev main_cst_165 : Ref sig .tc := ⟨.hbm, 769, rfl⟩
abbrev main_v519 : Ref sig .tc := ⟨.hbm, 770, rfl⟩
abbrev main_v520 : Ref sig .tc := ⟨.hbm, 771, rfl⟩
abbrev main_cst_166 : Ref sig .tc := ⟨.hbm, 772, rfl⟩
abbrev main_v521 : Ref sig .tc := ⟨.hbm, 773, rfl⟩
abbrev main_v522 : Ref sig .tc := ⟨.hbm, 774, rfl⟩
abbrev main_v523 : Ref sig .tc := ⟨.hbm, 775, rfl⟩
abbrev main_cst_167 : Ref sig .tc := ⟨.hbm, 776, rfl⟩
abbrev main_v524 : Ref sig .tc := ⟨.hbm, 777, rfl⟩
abbrev main_v525 : Ref sig .tc := ⟨.hbm, 778, rfl⟩
abbrev main_v526 : Ref sig .tc := ⟨.hbm, 779, rfl⟩
abbrev main_cst_168 : Ref sig .tc := ⟨.hbm, 780, rfl⟩
abbrev main_v527 : Ref sig .tc := ⟨.hbm, 781, rfl⟩
abbrev main_v528 : Ref sig .tc := ⟨.hbm, 782, rfl⟩
abbrev main_v529 : Ref sig .tc := ⟨.hbm, 783, rfl⟩
abbrev main_cst_169 : Ref sig .tc := ⟨.hbm, 784, rfl⟩
abbrev main_v530 : Ref sig .tc := ⟨.hbm, 785, rfl⟩
abbrev main_v531 : Ref sig .tc := ⟨.hbm, 786, rfl⟩
abbrev main_v532 : Ref sig .tc := ⟨.hbm, 787, rfl⟩
abbrev main_v533 : Ref sig .tc := ⟨.hbm, 788, rfl⟩
abbrev main_v534 : Ref sig .tc := ⟨.hbm, 789, rfl⟩
abbrev main_v535 : Ref sig .tc := ⟨.hbm, 790, rfl⟩
abbrev main_cst_170 : Ref sig .tc := ⟨.hbm, 791, rfl⟩
abbrev main_v536 : Ref sig .tc := ⟨.hbm, 792, rfl⟩
abbrev main_v537 : Ref sig .tc := ⟨.hbm, 793, rfl⟩
abbrev main_cst_171 : Ref sig .tc := ⟨.hbm, 794, rfl⟩
abbrev main_v538 : Ref sig .tc := ⟨.hbm, 795, rfl⟩
abbrev main_v539 : Ref sig .tc := ⟨.hbm, 796, rfl⟩
abbrev main_v540 : Ref sig .tc := ⟨.hbm, 797, rfl⟩
abbrev main_cst_172 : Ref sig .tc := ⟨.hbm, 798, rfl⟩
abbrev main_v541 : Ref sig .tc := ⟨.hbm, 799, rfl⟩
abbrev main_v542 : Ref sig .tc := ⟨.hbm, 800, rfl⟩
abbrev main_v543 : Ref sig .tc := ⟨.hbm, 801, rfl⟩
abbrev main_cst_173 : Ref sig .tc := ⟨.hbm, 802, rfl⟩
abbrev main_v544 : Ref sig .tc := ⟨.hbm, 803, rfl⟩
abbrev main_v545 : Ref sig .tc := ⟨.hbm, 804, rfl⟩
abbrev main_v546 : Ref sig .tc := ⟨.hbm, 805, rfl⟩
abbrev main_cst_174 : Ref sig .tc := ⟨.hbm, 806, rfl⟩
abbrev main_v547 : Ref sig .tc := ⟨.hbm, 807, rfl⟩
abbrev main_v548 : Ref sig .tc := ⟨.hbm, 808, rfl⟩
abbrev main_cst_175 : Ref sig .tc := ⟨.hbm, 809, rfl⟩
abbrev main_v549 : Ref sig .tc := ⟨.hbm, 810, rfl⟩
abbrev main_v550 : Ref sig .tc := ⟨.hbm, 811, rfl⟩
abbrev main_v551 : Ref sig .tc := ⟨.hbm, 812, rfl⟩
abbrev main_cst_176 : Ref sig .tc := ⟨.hbm, 813, rfl⟩
abbrev main_v552 : Ref sig .tc := ⟨.hbm, 814, rfl⟩
abbrev main_v553 : Ref sig .tc := ⟨.hbm, 815, rfl⟩
abbrev main_v554 : Ref sig .tc := ⟨.hbm, 816, rfl⟩
abbrev main_cst_177 : Ref sig .tc := ⟨.hbm, 817, rfl⟩
abbrev main_v555 : Ref sig .tc := ⟨.hbm, 818, rfl⟩
abbrev main_v556 : Ref sig .tc := ⟨.hbm, 819, rfl⟩
abbrev main_v557 : Ref sig .tc := ⟨.hbm, 820, rfl⟩
abbrev main_cst_178 : Ref sig .tc := ⟨.hbm, 821, rfl⟩
abbrev main_v558 : Ref sig .tc := ⟨.hbm, 822, rfl⟩
abbrev main_v559 : Ref sig .tc := ⟨.hbm, 823, rfl⟩
abbrev main_cst_179 : Ref sig .tc := ⟨.hbm, 824, rfl⟩
abbrev main_v560 : Ref sig .tc := ⟨.hbm, 825, rfl⟩
abbrev main_v561 : Ref sig .tc := ⟨.hbm, 826, rfl⟩
abbrev main_cst_180 : Ref sig .tc := ⟨.hbm, 827, rfl⟩
abbrev main_v562 : Ref sig .tc := ⟨.hbm, 828, rfl⟩
abbrev main_v563 : Ref sig .tc := ⟨.hbm, 829, rfl⟩
abbrev main_v564 : Ref sig .tc := ⟨.hbm, 830, rfl⟩
abbrev main_cst_181 : Ref sig .tc := ⟨.hbm, 831, rfl⟩
abbrev main_v565 : Ref sig .tc := ⟨.hbm, 832, rfl⟩
abbrev main_v566 : Ref sig .tc := ⟨.hbm, 833, rfl⟩
abbrev main_v567 : Ref sig .tc := ⟨.hbm, 834, rfl⟩
abbrev main_cst_182 : Ref sig .tc := ⟨.hbm, 835, rfl⟩
abbrev main_v568 : Ref sig .tc := ⟨.hbm, 836, rfl⟩
abbrev main_v569 : Ref sig .tc := ⟨.hbm, 837, rfl⟩
abbrev main_v570 : Ref sig .tc := ⟨.hbm, 838, rfl⟩
abbrev main_cst_183 : Ref sig .tc := ⟨.hbm, 839, rfl⟩
abbrev main_v571 : Ref sig .tc := ⟨.hbm, 840, rfl⟩
abbrev main_v572 : Ref sig .tc := ⟨.hbm, 841, rfl⟩
abbrev main_cst_184 : Ref sig .tc := ⟨.hbm, 842, rfl⟩
abbrev main_v573 : Ref sig .tc := ⟨.hbm, 843, rfl⟩
abbrev main_v574 : Ref sig .tc := ⟨.hbm, 844, rfl⟩
abbrev main_v575 : Ref sig .tc := ⟨.hbm, 845, rfl⟩
abbrev main_cst_185 : Ref sig .tc := ⟨.hbm, 846, rfl⟩
abbrev main_v576 : Ref sig .tc := ⟨.hbm, 847, rfl⟩
abbrev main_v577 : Ref sig .tc := ⟨.hbm, 848, rfl⟩
abbrev main_v578 : Ref sig .tc := ⟨.hbm, 849, rfl⟩
abbrev main_cst_186 : Ref sig .tc := ⟨.hbm, 850, rfl⟩
abbrev main_v579 : Ref sig .tc := ⟨.hbm, 851, rfl⟩
abbrev main_v580 : Ref sig .tc := ⟨.hbm, 852, rfl⟩
abbrev main_v581 : Ref sig .tc := ⟨.hbm, 853, rfl⟩
abbrev main_cst_187 : Ref sig .tc := ⟨.hbm, 854, rfl⟩
abbrev main_v582 : Ref sig .tc := ⟨.hbm, 855, rfl⟩
abbrev main_v583 : Ref sig .tc := ⟨.hbm, 856, rfl⟩
abbrev main_v584 : Ref sig .tc := ⟨.hbm, 857, rfl⟩
abbrev main_v585 : Ref sig .tc := ⟨.hbm, 858, rfl⟩
abbrev main_v586 : Ref sig .tc := ⟨.hbm, 859, rfl⟩
abbrev main_v587 : Ref sig .tc := ⟨.hbm, 860, rfl⟩
abbrev main_v588 : Ref sig .tc := ⟨.hbm, 861, rfl⟩
abbrev main_v589 : Ref sig .tc := ⟨.hbm, 862, rfl⟩
abbrev main_v590 : Ref sig .tc := ⟨.hbm, 863, rfl⟩
abbrev main_v591 : Ref sig .tc := ⟨.hbm, 864, rfl⟩
abbrev main_v592 : Ref sig .tc := ⟨.hbm, 865, rfl⟩
abbrev main_v593 : Ref sig .tc := ⟨.hbm, 866, rfl⟩
abbrev main_v594 : Ref sig .tc := ⟨.hbm, 867, rfl⟩
abbrev main_v595 : Ref sig .tc := ⟨.hbm, 868, rfl⟩
abbrev main_c : Ref sig .tc := ⟨.hbm, 869, rfl⟩
abbrev main_call0_v0 : Ref sig .tc := ⟨.hbm, 870, rfl⟩
abbrev main_v596 : Ref sig .tc := ⟨.hbm, 871, rfl⟩
abbrev main_v597 : Ref sig .tc := ⟨.hbm, 872, rfl⟩
abbrev main_c_188 : Ref sig .tc := ⟨.hbm, 873, rfl⟩
abbrev main_call1_v0 : Ref sig .tc := ⟨.hbm, 874, rfl⟩
abbrev main_v598 : Ref sig .tc := ⟨.hbm, 875, rfl⟩
abbrev main_v599 : Ref sig .tc := ⟨.hbm, 876, rfl⟩
abbrev main_c_189 : Ref sig .tc := ⟨.hbm, 877, rfl⟩
abbrev main_call2_v0 : Ref sig .tc := ⟨.hbm, 878, rfl⟩
abbrev main_v600 : Ref sig .tc := ⟨.hbm, 879, rfl⟩
abbrev main_v601 : Ref sig .tc := ⟨.hbm, 880, rfl⟩
abbrev main_c_190 : Ref sig .tc := ⟨.hbm, 881, rfl⟩
abbrev main_call3_v0 : Ref sig .tc := ⟨.hbm, 882, rfl⟩
abbrev main_v602 : Ref sig .tc := ⟨.hbm, 883, rfl⟩
abbrev main_v603 : Ref sig .tc := ⟨.hbm, 884, rfl⟩

abbrev nD : Nat := 1
abbrev τ : Topo := Topo.v7x

variable {F : FTy → Type} [FloatOps F]
-- ==== StateWeight.lean ====
abbrev S4096x64x64 : Shape := ⟨3, ![4096, 64, 64]⟩
abbrev S4096x1024 : Shape := ⟨2, ![4096, 1024]⟩
abbrev S4096x4096 : Shape := ⟨2, ![4096, 4096]⟩
abbrev S4096x8x1x512 : Shape := ⟨4, ![4096, 8, 1, 512]⟩
abbrev S4096x8x2x512 : Shape := ⟨4, ![4096, 8, 2, 512]⟩
abbrev S4096x8192 : Shape := ⟨2, ![4096, 8192]⟩
abbrev S8192x1024 : Shape := ⟨2, ![8192, 1024]⟩
abbrev S1024x1024 : Shape := ⟨2, ![1024, 1024]⟩
abbrev S64x64 : Shape := ⟨2, ![64, 64]⟩
abbrev S_ : Shape := ⟨0, ![]⟩
abbrev S8x2x512x1024 : Shape := ⟨4, ![8, 2, 512, 1024]⟩
abbrev S8x1x512x1024 : Shape := ⟨4, ![8, 1, 512, 1024]⟩
abbrev S8x512x1024 : Shape := ⟨3, ![8, 512, 1024]⟩
abbrev S64x64x64x16 : Shape := ⟨4, ![64, 64, 64, 16]⟩
abbrev S64x1x64x1 : Shape := ⟨4, ![64, 1, 64, 1]⟩
abbrev S64x64x16 : Shape := ⟨3, ![64, 64, 16]⟩
abbrev S64x16x64 : Shape := ⟨3, ![64, 16, 64]⟩

abbrev nBuf : Space → Nat
  | .hbm => 39
  | .vmem => 7
  | .smem => 0
  | _ => 0

abbrev bufTy : (tb : Table) → Fin (tcTables nBuf tb) → BufTy
  | .hbm, ⟨0, _⟩ => ⟨S4096x64x64, .f32⟩
  | .hbm, ⟨1, _⟩ => ⟨S4096x64x64, .f32⟩
  | .hbm, ⟨2, _⟩ => ⟨S4096x1024, .bf16⟩
  | .hbm, ⟨3, _⟩ => ⟨S4096x4096, .f32⟩
  | .hbm, ⟨4, _⟩ => ⟨S4096x4096, .f32⟩
  | .hbm, ⟨5, _⟩ => ⟨S4096x8x1x512, .f32⟩
  | .hbm, ⟨6, _⟩ => ⟨S4096x8x1x512, .f32⟩
  | .hbm, ⟨7, _⟩ => ⟨S4096x8x2x512, .f32⟩
  | .hbm, ⟨8, _⟩ => ⟨S4096x8192, .f32⟩
  | .hbm, ⟨9, _⟩ => ⟨S8192x1024, .f32⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S64x64, .i1⟩
  | .hbm, ⟨16, _⟩ => ⟨S64x64, .f32⟩
  | .hbm, ⟨17, _⟩ => ⟨S8x2x512x1024, .f32⟩
  | .hbm, ⟨18, _⟩ => ⟨S8x1x512x1024, .f32⟩
  | .hbm, ⟨19, _⟩ => ⟨S8x512x1024, .f32⟩
  | .hbm, ⟨20, _⟩ => ⟨S4096x1024, .f32⟩
  | .hbm, ⟨21, _⟩ => ⟨S8x1x512x1024, .f32⟩
  | .hbm, ⟨22, _⟩ => ⟨S8x512x1024, .f32⟩
  | .hbm, ⟨23, _⟩ => ⟨S4096x1024, .f32⟩
  | .hbm, ⟨24, _⟩ => ⟨S64x64x64x16, .f32⟩
  | .hbm, ⟨25, _⟩ => ⟨S64x1x64x1, .f32⟩
  | .hbm, ⟨26, _⟩ => ⟨S64x64x64x16, .f32⟩
  | .hbm, ⟨27, _⟩ => ⟨S64x64x64x16, .f32⟩
  | .hbm, ⟨28, _⟩ => ⟨S_, .f32⟩
  | .hbm, ⟨29, _⟩ => ⟨S64x64x16, .f32⟩
  | .hbm, ⟨30, _⟩ => ⟨S64x16x64, .f32⟩
  | .hbm, ⟨31, _⟩ => ⟨S64x64x64x16, .f32⟩
  | .hbm, ⟨32, _⟩ => ⟨S64x1x64x1, .f32⟩
  | .hbm, ⟨33, _⟩ => ⟨S64x64x64x16, .f32⟩
  | .hbm, ⟨34, _⟩ => ⟨S64x64x64x16, .f32⟩
  | .hbm, ⟨35, _⟩ => ⟨S_, .f32⟩
  | .hbm, ⟨36, _⟩ => ⟨S64x64x16, .f32⟩
  | .hbm, ⟨37, _⟩ => ⟨S64x16x64, .f32⟩
  | .hbm, ⟨38, _⟩ => ⟨S64x16x64, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StateWeightReferenceIdeal.lean ====
abbrev S4096x64x64 : Shape := ⟨3, ![4096, 64, 64]⟩
abbrev S4096x1024 : Shape := ⟨2, ![4096, 1024]⟩
abbrev S_ : Shape := ⟨0, ![]⟩
abbrev S64x16x64 : Shape := ⟨3, ![64, 16, 64]⟩
abbrev S64x16x4096 : Shape := ⟨3, ![64, 16, 4096]⟩
abbrev S4096x64x16 : Shape := ⟨3, ![4096, 64, 16]⟩

abbrev nBuf : Space → Nat
  | .hbm => 18
  | .vmem => 0
  | .smem => 0
  | _ => 0

abbrev bufTy : (tb : Table) → Fin (tcTables nBuf tb) → BufTy
  | .hbm, ⟨0, _⟩ => ⟨S4096x64x64, .f32⟩
  | .hbm, ⟨1, _⟩ => ⟨S4096x64x64, .f32⟩
  | .hbm, ⟨2, _⟩ => ⟨S4096x1024, .bf16⟩
  | .hbm, ⟨3, _⟩ => ⟨S_, .f32⟩
  | .hbm, ⟨4, _⟩ => ⟨S64x16x64, .f32⟩
  | .hbm, ⟨5, _⟩ => ⟨S64x16x4096, .f32⟩
  | .hbm, ⟨6, _⟩ => ⟨S4096x64x16, .f32⟩
  | .hbm, ⟨7, _⟩ => ⟨S64x16x64, .f32⟩
  | .hbm, ⟨8, _⟩ => ⟨S64x16x4096, .f32⟩
  | .hbm, ⟨9, _⟩ => ⟨S4096x64x16, .f32⟩
  | .hbm, ⟨10, _⟩ => ⟨S4096x64x16, .f32⟩
  | .hbm, ⟨11, _⟩ => ⟨S4096x1024, .f32⟩
  | .hbm, ⟨12, _⟩ => ⟨S4096x64x16, .f32⟩
  | .hbm, ⟨13, _⟩ => ⟨S64x16x4096, .f32⟩
  | .hbm, ⟨14, _⟩ => ⟨S64x16x64, .f32⟩
  | .hbm, ⟨15, _⟩ => ⟨S64x16x64, .f32⟩
  | .hbm, ⟨16, _⟩ => ⟨S64x16x4096, .f32⟩
  | .hbm, ⟨17, _⟩ => ⟨S64x16x64, .f32⟩
  | _, _ => ⟨S4096x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== RecurrenceInput.lean ====
abbrev S4096x1024 : Shape := ⟨2, ![4096, 1024]⟩
abbrev S4x1024 : Shape := ⟨2, ![4, 1024]⟩
abbrev S1024 : Shape := ⟨1, ![1024]⟩
abbrev S8x128x128 : Shape := ⟨3, ![8, 128, 128]⟩
abbrev S4x1x1024 : Shape := ⟨3, ![4, 1, 1024]⟩
abbrev S1x1024 : Shape := ⟨2, ![1, 1024]⟩
abbrev S4096x128 : Shape := ⟨2, ![4096, 128]⟩
abbrev S4x1x128 : Shape := ⟨3, ![4, 1, 128]⟩
abbrev S1x128 : Shape := ⟨2, ![1, 128]⟩
abbrev S1x128x128 : Shape := ⟨3, ![1, 128, 128]⟩
abbrev S128x128 : Shape := ⟨2, ![128, 128]⟩
abbrev S1x1x128 : Shape := ⟨3, ![1, 1, 128]⟩
abbrev S128 : Shape := ⟨1, ![128]⟩
abbrev S3x1x128 : Shape := ⟨3, ![3, 1, 128]⟩
abbrev S2x1x128 : Shape := ⟨3, ![2, 1, 128]⟩

abbrev nBuf : Space → Nat
  | .hbm => 23
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S4x1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S4096x1024, .bf16⟩
  | .hbm, ⟨16, _⟩ => ⟨S4x1x1024, .f32⟩
  | .hbm, ⟨17, _⟩ => ⟨S1x1024, .f32⟩
  | .hbm, ⟨18, _⟩ => ⟨S8x128x128, .f32⟩
  | .hbm, ⟨19, _⟩ => ⟨S1x1024, .f32⟩
  | .hbm, ⟨20, _⟩ => ⟨S8x128x128, .f32⟩
  | .hbm, ⟨21, _⟩ => ⟨S1x1024, .f32⟩
  | .hbm, ⟨22, _⟩ => ⟨S1x1024, .f32⟩
  | .local _ .vmem, ⟨0, _⟩ => ⟨S4096x128, .f32⟩
  | .local _ .vmem, ⟨1, _⟩ => ⟨S4096x128, .f32⟩
  | .local _ .vmem, ⟨2, _⟩ => ⟨S4x1x128, .f32⟩
  | .local _ .vmem, ⟨3, _⟩ => ⟨S4x1x128, .f32⟩
  | .local _ .vmem, ⟨4, _⟩ => ⟨S1x128, .f32⟩
  | .local _ .vmem, ⟨5, _⟩ => ⟨S1x128, .f32⟩
  | .local _ .vmem, ⟨6, _⟩ => ⟨S1x128x128, .f32⟩
  | .local _ .vmem, ⟨7, _⟩ => ⟨S1x128x128, .f32⟩
  | .local _ .vmem, ⟨8, _⟩ => ⟨S1x128, .f32⟩
  | .local _ .vmem, ⟨9, _⟩ => ⟨S1x128, .f32⟩
  | .local _ .vmem, ⟨10, _⟩ => ⟨S1x128x128, .f32⟩
  | .local _ .vmem, ⟨11, _⟩ => ⟨S1x128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .bf16⟩
  | .local _ .vmem, ⟨21, _⟩ => ⟨S4096x128, .bf16⟩
  | .local _ .vmem, ⟨22, _⟩ => ⟨S4x1x128, .f32⟩
  | .local _ .vmem, ⟨23, _⟩ => ⟨S4x1x128, .f32⟩
  | .local _ .vmem, ⟨24, _⟩ => ⟨S1x128, .f32⟩
  | .local _ .vmem, ⟨25, _⟩ => ⟨S1x128, .f32⟩
  | .local _ .vmem, ⟨26, _⟩ => ⟨S1x128x128, .f32⟩
  | .local _ .vmem, ⟨27, _⟩ => ⟨S1x128x128, .f32⟩
  | .local _ .vmem, ⟨28, _⟩ => ⟨S1x128, .f32⟩
  | .local _ .vmem, ⟨29, _⟩ => ⟨S1x128, .f32⟩
  | .local _ .vmem, ⟨30, _⟩ => ⟨S1x128x128, .f32⟩
  | .local _ .vmem, ⟨31, _⟩ => ⟨S1x128x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== RecurrenceInputReferenceIdeal.lean ====
abbrev S4096x1024 : Shape := ⟨2, ![4096, 1024]⟩
abbrev S4x1024 : Shape := ⟨2, ![4, 1024]⟩
abbrev S1024 : Shape := ⟨1, ![1024]⟩
abbrev S8x128x128 : Shape := ⟨3, ![8, 128, 128]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S4096x8x128 : Shape := ⟨3, ![4096, 8, 128]⟩
abbrev S8x128x4096 : Shape := ⟨3, ![8, 128, 4096]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S3x1024, .f32⟩
  | .hbm, ⟨12, _⟩ => ⟨S4099x1024, .f32⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x8x128, .f32⟩
  | .hbm, ⟨44, _⟩ => ⟨S8x128x4096, .f32⟩
  | .hbm, ⟨45, _⟩ => ⟨S4096x8x128, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S8x128x4096, .f32⟩
  | .hbm, ⟨59, _⟩ => ⟨S4096x8x128, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S1024, .f32⟩
  | .hbm, ⟨80, _⟩ => ⟨S_, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S1024, .i1⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S1024, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S1024, .f32⟩
  | .hbm, ⟨94, _⟩ => ⟨S1x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S_, .f32⟩
  | .hbm, ⟨110, _⟩ => ⟨S1024, .f32⟩
  | .hbm, ⟨111, _⟩ => ⟨S1x1024, .f32⟩
  | .hbm, ⟨112, _⟩ => ⟨S_, .f32⟩
  | .hbm, ⟨113, _⟩ => ⟨S1024, .f32⟩
  | .hbm, ⟨114, _⟩ => ⟨S4096x8x128, .f32⟩
  | .hbm, ⟨115, _⟩ => ⟨S8x128x4096, .f32⟩
  | .hbm, ⟨116, _⟩ => ⟨S8x128x128, .f32⟩
  | .hbm, ⟨117, _⟩ => ⟨S8x128x128, .f32⟩
  | .hbm, ⟨118, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_0 : Ref sig .tc := ⟨.hbm, 52, rfl⟩
abbrev main_v41 : Ref sig .tc := ⟨.hbm, 53, rfl⟩
abbrev main_v42 : Ref sig .tc := ⟨.hbm, 54, rfl⟩
abbrev main_cst_1 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_2 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_6 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_7 : Ref sig .tc := ⟨.hbm, 109, rfl⟩
abbrev main_v78 : Ref sig .tc := ⟨.hbm, 110, rfl⟩
abbrev main_v79 : Ref sig .tc := ⟨.hbm, 111, rfl⟩
abbrev main_cst_8 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩

abbrev nD : Nat := 1
abbrev τ : Topo := Topo.v7x

variable {F : FTy → Type} [FloatOps F]
-- ==== Proof.Merge.lean ====
/- The gradient of the sigmoid-gated merge as plain functions of the arrays, over the extended reals.

   With `x` the gates' low-rank input, `o n` the output of branch `n`, and the merge
   `∑ n, logistic (x · w_gate n + b_gate n) * (o n · w_branch n)`, these are the gate, the branch's projection, and the
   gradients at a cotangent `dm` with respect to the projection, to the gate's argument and to the gate's bias. -/
module

public import Idealize.ShloMosaic.Lib.Pointwise

@[expose] public section

noncomputable section

namespace Cert.Merge

open Idealize.ShloMosaic

abbrev X : Type := (⟨2, ![4096, 256]⟩ : Shape).Idx → EReal
abbrev O : Type := (⟨3, ![4, 4096, 1024]⟩ : Shape).Idx → EReal
abbrev WG : Type := (⟨3, ![4, 256, 4096]⟩ : Shape).Idx → EReal
abbrev BG : Type := (⟨2, ![4, 4096]⟩ : Shape).Idx → EReal
abbrev WB : Type := (⟨3, ![4, 1024, 4096]⟩ : Shape).Idx → EReal
abbrev DM : Type := (⟨2, ![4096, 4096]⟩ : Shape).Idx → EReal

variable (x : X) (o : O) (wg : WG) (bg : BG) (wb : WB) (dm : DM)

/-- The gate of branch `n` at row `s` and column `d`. -/
def gate (n : Fin 4) (s d : Fin 4096) : EReal :=
  Ideal.logistic (∑ k : Fin 256, x (ix2 s k) * wg (ix3 n k d) + bg (ix2 n d))

/-- The projection of branch `n`'s output at row `s` and column `d`. -/
def proj (n : Fin 4) (s d : Fin 4096) : EReal := ∑ k : Fin 1024, o (ix3 n s k) * wb (ix3 n k d)

/-- The gradient with respect to the gate's argument at one element. -/
def dpre (n : Fin 4) (s d : Fin 4096) : EReal :=
  dm (ix2 s d) * proj o wb n s d * gate x wg bg n s d * (1 - gate x wg bg n s d)

/-- The gradient with respect to the projections, as an array. -/
def DY : (⟨3, ![4, 4096, 4096]⟩ : Shape).Idx → EReal := fun i => dm (ix2 (i 1) (i 2)) * gate x wg bg (i 0) (i 1) (i 2)

/-- The gradient with respect to the gates' arguments, as an array. -/
def DP : (⟨3, ![4, 4096, 4096]⟩ : Shape).Idx → EReal := fun i => dpre x o wg bg wb dm (i 0) (i 1) (i 2)

/-- The column of the whole array at column `d` of device `j`'s slab. -/
def col (j : Fin 8) (d : Fin 512) : Fin 4096 := ⟨j.val * 512 + d.val, by omega⟩

/-- The gradient with respect to the gates' biases, one slab of columns per device. -/
def DB : (⟨4, ![8, 4, 1, 512]⟩ : Shape).Idx → EReal :=
  fun i => ∑ s : Fin 4096, dpre x o wg bg wb dm (i 1) s (col (i 0) (i 3))

end Cert.Merge

end
-- ==== Proof.MergeKernel.lean ====
/- What the merge-gradient kernel leaves in its three result arrays (Merge.lean's functions of its arguments). -/
module

public import proofs.«01_k».proof.Proof.Gen.KernelIdeal.Value
public import proofs.«01_k».proof.Proof.Merge
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

/-- The row of the whole array at row `r` of point `t`'s block. -/
def row (t : ℕ) (r : Fin 1024) : Fin 4096 := ⟨t % 4 * 1024 + r.val, by omega⟩

/-- The device whose columns point `t` works on. -/
def dev (t : ℕ) : Fin 8 := ⟨t / 4 % 8, by omega⟩

/-- Every window's block index at a grid point. -/
theorem idx : ∀ t : Fin cfg0.N, win0_0.index t = ![t.val % 4, 0] ∧ win0_1.index t = ![t.val % 4, 0]
    ∧ win0_2.index t = ![t.val % 4, 0] ∧ win0_3.index t = ![t.val % 4, 0] ∧ win0_4.index t = ![t.val % 4, 0]
    ∧ win0_5.index t = ![t.val / 4, 0, 0, 0] ∧ win0_6.index t = ![t.val / 4, 0, 0, 0] ∧ win0_7.index t = ![t.val / 4, 0, 0, 0]
    ∧ win0_8.index t = ![t.val % 4, t.val / 4] ∧ win0_9.index t = ![0, t.val % 4, t.val / 4]
    ∧ win0_10.index t = ![0, t.val % 4, t.val / 4] ∧ win0_11.index t = ![t.val / 4, 0, 0, 0] :=
  (by decide +kernel : ∀ t : Fin grid0.N, _)

/-- The low-rank input's block. -/
theorem in0 (c : Dev nD) (t : Fin cfg0.N) (r : Fin 1024) (k : Fin 256) :
    iblk m c 0 t (ix2 r k) = m ((c : Thread nD τ).loc main_arg0) (ix2 (row t.val r) k) := by
  have ht : t.val < 32 := t.isLt
  blk_ext! [iblk, V, row, idx t]

/-- Branch 0's block. -/
theorem in1 (c : Dev nD) (t : Fin cfg0.N) (r : Fin 1024) (k : Fin 1024) :
    iblk m c 1 t (ix2 r k) = m ((c : Thread nD τ).loc main_arg1) (ix3 0 (row t.val r) k) := by
  have ht : t.val < 32 := t.isLt
  blk_ext! [iblk, V, row, idx t]

/-- Branch 1's block. -/
theorem in2 (c : Dev nD) (t : Fin cfg0.N) (r : Fin 1024) (k : Fin 1024) :
    iblk m c 2 t (ix2 r k) = m ((c : Thread nD τ).loc main_arg1) (ix3 1 (row t.val r) k) := by
  have ht : t.val < 32 := t.isLt
  blk_ext! [iblk, V, row, idx t]

/-- Branch 2's block. -/
theorem in3 (c : Dev nD) (t : Fin cfg0.N) (r : Fin 1024) (k : Fin 1024) :
    iblk m c 3 t (ix2 r k) = m ((c : Thread nD τ).loc main_arg1) (ix3 2 (row t.val r) k) := by
  have ht : t.val < 32 := t.isLt
  blk_ext! [iblk, V, row, idx t]

/-- Branch 3's block. -/
theorem in4 (c : Dev nD) (t : Fin cfg0.N) (r : Fin 1024) (k : Fin 1024) :
    iblk m c 4 t (ix2 r k) = m ((c : Thread nD τ).loc main_arg1) (ix3 3 (row t.val r) k) := by
  have ht : t.val < 32 := t.isLt
  blk_ext! [iblk, V, row, idx t]

/-- The gates' weights' block. -/
theorem in5 (c : Dev nD) (t : Fin cfg0.N) (n : Fin 4) (k : Fin 256) (d : Fin 512) :
    iblk m c 5 t (ix4 0 n k d) = m ((c : Thread nD τ).loc main_arg2) (ix3 n k (Merge.col (dev t.val) d)) := by
  have ht : t.val < 32 := t.isLt
  blk_ext! [iblk, V, dev, Merge.col, idx t]

/-- The gates' biases' block. -/
theorem in6 (c : Dev nD) (t : Fin cfg0.N) (n : Fin 4) (d : Fin 512) :
    iblk m c 6 t (ix4 0 n 0 d) = m ((c : Thread nD τ).loc main_arg3) (ix2 n (Merge.col (dev t.val) d)) := by
  have ht : t.val < 32 := t.isLt
  blk_ext! [iblk, V, dev, Merge.col, idx t]

/-- The projections' weights' block. -/
theorem in7 (c : Dev nD) (t : Fin cfg0.N) (n : Fin 4) (k : Fin 1024) (d : Fin 512) :
    iblk m c 7 t (ix4 0 n k d) = m ((c : Thread nD τ).loc main_arg4) (ix3 n k (Merge.col (dev t.val) d)) := by
  have ht : t.val < 32 := t.isLt
  blk_ext! [iblk, V, dev, Merge.col, idx t]

/-- The cotangent's block. -/
theorem in8 (c : Dev nD) (t : Fin cfg0.N) (r : Fin 1024) (d : Fin 512) :
    iblk m c 8 t (ix2 r d) = m ((c : Thread nD τ).loc main_arg5) (ix2 (row t.val r) (Merge.col (dev t.val) d)) := by
  have ht : t.val < 32 := t.isLt
  blk_ext! [iblk, V, dev, row, Merge.col, idx t]

/-- The gradient with respect to the projections, of the kernel's arguments. -/
abbrev DY (c : Dev nD) := Merge.DY (m ((c : Thread nD τ).loc main_arg0)) (m ((c : Thread nD τ).loc main_arg2))
  (m ((c : Thread nD τ).loc main_arg3)) (m ((c : Thread nD τ).loc main_arg5))

/-- The gradient with respect to the gates' arguments at one element, of the kernel's arguments. -/
abbrev dpre (c : Dev nD) := Merge.dpre (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

/-- The gradient with respect to the gates' arguments, of the kernel's arguments. -/
abbrev DP (c : Dev nD) := Merge.DP (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

/-- The gradient with respect to the gates' biases, of the kernel's arguments. -/
abbrev DB (c : Dev nD) := Merge.DB (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

/-- What a point leaves in the first result's block. -/
theorem point9 (c : Dev nD) (t : Fin cfg0.N) (y : S4x1024x512.Idx) :
    (outsAt0 m c t.val t.isLt).1 y = DY m c (ix3 (y 0) (row t.val (y 1)) (Merge.col (dev t.val) (y 2))) := by
  by_cases h0 : t.val % 4 = 0
  · rw [outsAt0_A m c t h0]
    frame_out
    canon_tiles x h
    all_goals
      unfold_payloads
      pointwise [DY, Merge.DY, Merge.gate, in0, in1, in2, in3, in4, in5, in6, in7, in8]
      blk_point [row, dev, Merge.col]
  · rw [outsAt0_B m c t h0]
    frame_out
    canon_tiles x h
    all_goals
      unfold_payloads
      pointwise [DY, Merge.DY, Merge.gate, in0, in1, in2, in3, in4, in5, in6, in7, in8]
      blk_point [row, dev, Merge.col]

/-- What a point leaves in the second result's block. -/
theorem point10 (c : Dev nD) (t : Fin cfg0.N) (y : S4x1024x512.Idx) :
    (outsAt0 m c t.val t.isLt).2.1 y = DP m c (ix3 (y 0) (row t.val (y 1)) (Merge.col (dev t.val) (y 2))) := by
  by_cases h0 : t.val % 4 = 0
  · rw [outsAt0_A m c t h0]
    frame_out
    canon_tiles x h
    all_goals
      unfold_payloads
      pointwise [DP, Merge.DP, Merge.dpre, Merge.proj, Merge.gate, in0, in1, in2, in3, in4, in5, in6, in7, in8]
      blk_point [row, dev, Merge.col]
  · rw [outsAt0_B m c t h0]
    frame_out
    canon_tiles x h
    all_goals
      unfold_payloads
      pointwise [DP, Merge.DP, Merge.dpre, Merge.proj, Merge.gate, in0, in1, in2, in3, in4, in5, in6, in7, in8]
      blk_point [row, dev, Merge.col]

/-- The first result array. -/
theorem final9 (c : Dev nD) : (dats m 0 c).arrAt 9 (cfgs 0).N = DY m c := by
  refine (dats m 0 c).arrAt_eq_of_covers 9 _ (by decide +kernel) fun t hf y => ?_
  have ht : t.val < 32 := t.isLt
  blk_simp
  rw [after0_9, point9]
  blk_ext [row, dev, Merge.col, idx t]

/-- The second result array. -/
theorem final10 (c : Dev nD) : (dats m 0 c).arrAt 10 (cfgs 0).N = DP m c := by
  refine (dats m 0 c).arrAt_eq_of_covers 10 _ (by decide +kernel) fun t hf y => ?_
  have ht : t.val < 32 := t.isLt
  blk_simp
  rw [after0_10, point10]
  blk_ext [row, dev, Merge.col, idx t]

/-- One point's contribution to the biases' gradient. -/
def part (c : Dev nD) (t : ℕ) (y : S1x4x1x512.Idx) : EReal :=
  ∑ r : Fin 1024, dpre m c (y 1) (row t r) (Merge.col (dev t) (y 3))

/-- What the first point of a run leaves in the third result's block. -/
theorem point11_A (c : Dev nD) (t : Fin cfg0.N) (h0 : t.val % 4 = 0) (y : S1x4x1x512.Idx) :
    (outsAt0 m c t.val t.isLt).2.2 y = 0 + part m c t.val y := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (fun y : S1x4x1x512.Idx => (0 + part m c t.val y : EReal))
    [_] [_, _, _, _] ⟨?_, ?_, ?_, ?_, trivial⟩ y (View.cover_of_tiledL _ ![1, 1, 1, 512] (by rfl) y)
  all_goals
    intro x
    unfold_payloads
    pointwise [part, Merge.dpre, Merge.proj, Merge.gate, in0, in1, in2, in3, in4, in5, in6, in7, in8]
    blk_point [row, dev, Merge.col]

/-- What a later point of a run leaves in the third result's block. -/
theorem point11_B (c : Dev nD) (t : Fin cfg0.N) (h0 : ¬ t.val % 4 = 0) (y : S1x4x1x512.Idx) :
    (outsAt0 m c t.val t.isLt).2.2 y = (outsAt0 m c (t.val - 1) (by omega)).2.2 y + part m c t.val y := by
  rw [outsAt0_B m c t h0]
  frame_out
  canon_tiles x h
  all_goals
    unfold_payloads
    pointwise [part, Merge.dpre, Merge.proj, Merge.gate, in0, in1, in2, in3, in4, in5, in6, in7, in8]
    blk_point [row, dev, Merge.col]

/-- The third result's block at the point that writes it back. -/
theorem run11 (c : Dev nD) (t : Fin cfg0.N) (h : t.val % 4 = 3) (y : S1x4x1x512.Idx) :
    (outsAt0 m c t.val t.isLt).2.2 y = DB m c (ix4 (dev t.val) (y 1) (y 2) (y 3)) := by
  have e := Pipeline.eq_sum_of_reset_step_apply_of_mod (M := EReal) (fun n h => (outsAt0 m c n h).2.2) 4 (fun _ => 0)
    (part m c) (point11_A m c) (point11_B m c) t h y
  rw [e, zero_add, Finset.sum_range]
  show _ = ∑ s : Fin 4096, dpre m c (y 1) s (Merge.col (dev t.val) (y 3))
  refine Fin.sum_mul_add_congr (S := 4) (n := 1024) fun s r hl => ?_
  have hs : s.val < 4 := s.isLt
  have e1 : row (4 * (t.val / 4) + s.val) r = ⟨s.val * 1024 + r.val, hl⟩ := Fin.ext (by simp only [row]; omega)
  have e2 : dev (4 * (t.val / 4) + s.val) = dev t.val := Fin.ext (by simp only [dev]; omega)
  rw [e1, e2]

/-- The third result array. -/
theorem final11 (c : Dev nD) : (dats m 0 c).arrAt 11 (cfgs 0).N = DB m c := by
  refine (dats m 0 c).arrAt_eq_of_covers 11 _ (by decide +kernel) fun t hf y => ?_
  have ht : t.val < 32 := t.isLt
  blk_simp
  rw [after0_11, run11 m c t ((flush0_11 t).mp hf)]
  blk_ext [row, dev, Merge.col, idx t]

end Cert.KernelIdeal.Hand
-- ==== Proof.MergeReference.lean ====
/- The reference's three results are the gradient of the merge (Merge.lean). -/
module

public import proofs.«01_k».proof.Proof.Gen.ReferenceIdeal.Read
public import proofs.«01_k».proof.Proof.Merge
public import Idealize.ShloMosaic.Lib.Pointwise

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem

variable (x0 : (⟨S4096x256, .f32⟩ : BufTy).Contents (Elt Ideal)) (x1 : (⟨S4x4096x1024, .bf16⟩ : BufTy).Contents (Elt Ideal))
  (x2 : (⟨S4x256x4096, .f32⟩ : BufTy).Contents (Elt Ideal)) (x3 : (⟨S4x4096, .f32⟩ : BufTy).Contents (Elt Ideal))
  (x4 : (⟨S4x1024x4096, .f32⟩ : BufTy).Contents (Elt Ideal)) (x5 : (⟨S4096x4096, .bf16⟩ : BufTy).Contents (Elt Ideal))

/-- The reference's first result: the gradient with respect to the projections. -/
theorem dy_eq : val_main_v28 x0 x2 x3 x5 = Merge.DY x0 x2 x3 x5 := by
  funext i
  idx_vars i
  rw [← val_main_v28_eq]
  pointwise [Merge.DY, Merge.gate, Ideal.logistic]
  ac_nf

/-- The reference's second result: the gradient with respect to the gates' arguments. -/
theorem dp_eq : val_main_v29 x0 x1 x2 x3 x4 x5 = Merge.DP x0 x1 x2 x3 x4 x5 := by
  funext i
  idx_vars i
  rw [← val_main_v29_eq]
  pointwise [Merge.DP, Merge.gate, Merge.dpre, Merge.proj, Ideal.logistic]
  ac_nf

/-- The reference's third result: the gradient with respect to the gates' biases. -/
theorem db_eq : val_main_v27 x0 x1 x2 x3 x4 x5 = Merge.DB x0 x1 x2 x3 x4 x5 := by
  funext i
  idx_vars i
  rw [← val_main_v27_eq]
  pointwise [Merge.DB, Merge.gate, Merge.dpre, Merge.proj, Ideal.logistic, Merge.col]
  simp only [Finset.univ_unique, Finset.sum_singleton]
  ac_nf

end Cert.ReferenceIdeal.Hand

end
-- ==== Proof.MergeGradient.lean ====
/- The gradient of the merge: the kernel's run and the reference's run leave the same three arrays (MergeKernel.lean,
   MergeReference.lean), so the two programs agree on the extended reals. -/
module

public import proofs.«01_k».proof.Defs
public import proofs.«01_k».proof.Proof.MergeKernel
public import proofs.«01_k».proof.Proof.MergeReference
public import proofs.«01_k».proof.Proof.Gen.ReferenceIdeal.Run

@[expose] public section

noncomputable section

namespace Cert.Proof

open Idealize.ShloMosaic Idealize.SL.Sem Cert.KernelIdeal.Hand Cert.ReferenceIdeal.Hand Cert.ReferenceIdeal.Read

/-- The gradient of the merge agrees with the reference's. -/
theorem merge_algebraic : Cert.algebraic_KernelIdeal_ReferenceIdeal := by
  intro m g m' g' _ hagree
  refine ⟨fun c => DY m c, fun c => DP m c, fun c => DB m c, ?_, ?_⟩
  · refine (θ_run _ _ _).mono (fun r h c => ?_) (Cert.KernelIdeal.Value.run_blocks m g)
    obtain ⟨h0, h1, h2, hk⟩ := h c
    exact ⟨h0.trans (final9 m c), h1.trans (final10 m c),
      h2.trans (final11 m c), hk⟩
  · refine (θ_run _ _ _).mono (fun r h c => ?_) (Cert.ReferenceIdeal.Value.run m' g')
    obtain ⟨h0, h1, h2, hk⟩ := h c
    obtain ⟨a0, a1, a2, a3, a4, a5⟩ := hagree c
    refine ⟨h0.trans ?_, h1.trans ?_, h2.trans ?_, hk⟩
    · rw [val_main_v28_eq, dy_eq, a0, a2, a3, a5]
    · rw [val_main_v29_eq, dp_eq, a0, a1, a2, a3, a4, a5]
    · rw [val_main_v27_eq, db_eq, a0, a1, a2, a3, a4, a5]

/-- The reference runs to its end, keeps its arguments and uses no semaphore. -/
theorem merge_reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof

end
-- ==== Proof.BranchOut.lean ====
/- The gradient with respect to the branches' outputs.

   At a cotangent `a` of the projections `o n · b n` this is `a n · (b n)ᵀ`, accumulated slab of columns by slab. -/
module

public import proofs.«01_k».proof.Defs
public import proofs.«01_k».proof.Proof.Gen.BranchOutIdeal.Value
public import proofs.«01_k».proof.Proof.Gen.BranchOutReferenceIdeal.Run
public import proofs.«01_k».proof.Proof.Gen.BranchOutReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.BranchOutIdeal.Hand

open Cert.BranchOutIdeal Cert.BranchOutIdeal.Gen Idealize.ShloMosaic Idealize.ShloMosaic.TcCoe Idealize.SL.Sem

/-- The gradient with respect to the branches' outputs, as a function of the arrays. -/
def val (a : S4x4096x4096.Idx → EReal) (b : S4x1024x4096.Idx → EReal) : S4x4096x1024.Idx → EReal :=
  fun i => ∑ d : Fin 4096, a (ix3 (i 0) (i 1) d) * b (ix3 (i 0) (i 2) d)

variable (m : (ℓ : Loc nD τ sig) → Buf (Elt Ideal) ℓ)

abbrev arg0 (c : Dev nD) : S4x4096x4096.Idx → EReal := m ((c : Thread nD τ).loc main_arg0)
abbrev arg1 (c : Dev nD) : S4x1024x4096.Idx → EReal := m ((c : Thread nD τ).loc main_arg1)

/-- Every window's block index at a grid point. -/
theorem idx : ∀ t : Fin cfg0.N, win0_0.index t = ![t.val / 32, t.val / 8 % 4, t.val % 8]
    ∧ win0_1.index t = ![t.val % 8, t.val / 32, 0, 0]
    ∧ win0_2.index t = ![t.val / 32, t.val / 8 % 4, 0] :=
  (by decide +kernel : ∀ t : Fin grid0.N, _)

/-- The branch of point `t`. -/
def br (t : ℕ) : Fin 4 := ⟨t / 32 % 4, by omega⟩

/-- The row of the whole array at row `r` of point `t`'s block. -/
def row (t : ℕ) (r : Fin 1024) : Fin 4096 := ⟨t / 8 % 4 * 1024 + r.val, by omega⟩

/-- The contracted index of the whole array at index `k` of point `t`'s block. -/
def con (t : ℕ) (k : Fin 512) : Fin 4096 := ⟨t % 8 * 512 + k.val, by omega⟩

/-- Window 0's block. -/
theorem in0 (c : Dev nD) (t : Fin cfg0.N) (r : Fin 1024) (k : Fin 512) :
    iblk m c 0 t (ix3 0 r k) = arg0 m c (ix3 (br t.val) (row t.val r) (con t.val k)) := by
  have ht : t.val < 128 := t.isLt
  blk_ext! [iblk, V, br, row, con, idx t]

/-- Window 1's block. -/
theorem in1 (c : Dev nD) (t : Fin cfg0.N) (r : Fin 1024) (k : Fin 512) :
    iblk m c 1 t (ix4 0 0 r k) = arg1 m c (ix3 (br t.val) r (con t.val k)) := by
  have ht : t.val < 128 := t.isLt
  blk_ext! [iblk, V, br, row, con, idx t]

/-- One point's contribution to its block. -/
def part (c : Dev nD) (t : ℕ) (y : S1024x1024.Idx) : EReal :=
  ∑ k : Fin 512, arg0 m c (ix3 (br t) (row t (y 0)) (con t k)) * arg1 m c (ix3 (br t) (y 1) (con t k))

/-- What the first point of a run leaves in the accumulator. -/
theorem acc_A (c : Dev nD) (t : Fin cfg0.N) (h0 : t.val % 8 = 0) (y : S1024x1024.Idx) :
    (outsAt0 m c t.val t.isLt).2 y = 0 + part m c t.val y := by
  rw [outsAt0_A m c t h0 (by omega)]
  frame_out
  unfold_payloads
  pointwise [part, in0, in1]

/-- What a later point of a run leaves in the accumulator. -/
theorem acc_B (c : Dev nD) (t : Fin cfg0.N) (h0 : ¬ t.val % 8 = 0) (y : S1024x1024.Idx) :
    (outsAt0 m c t.val t.isLt).2 y = (outsAt0 m c (t.val - 1) (by omega)).2 y + part m c t.val y := by
  by_cases h1 : t.val % 8 = 7
  · rw [outsAt0_C m c t h0 h1]
    frame_out
    unfold_payloads
    pointwise [part, in0, in1]
    rw [read_unread_whole]
  · rw [outsAt0_B m c t h0 h1]
    frame_out
    unfold_payloads
    pointwise [part, in0, in1]
    rw [read_unread_whole]

/-- The last point of a run writes its block from the accumulator. -/
theorem out_C (c : Dev nD) (t : Fin cfg0.N) (h1 : t.val % 8 = 7) (y : S1x1024x1024.Idx) :
    (outsAt0 m c t.val t.isLt).1 y = (outsAt0 m c t.val t.isLt).2 (ix2 (y 1) (y 2)) := by
  rw [outsAt0_C m c t (by omega) h1]
  frame_out
  unfold_payloads
  pointwise [in0, in1]

/-- The block at the point that writes it back. -/
theorem run (c : Dev nD) (t : Fin cfg0.N) (h1 : t.val % 8 = 7) (y : S1x1024x1024.Idx) :
    (outsAt0 m c t.val t.isLt).1 y = val (arg0 m c) (arg1 m c) (ix3 (br t.val) (row t.val (y 1)) (y 2)) := by
  have ht : t.val < 128 := t.isLt
  have e := Pipeline.eq_sum_of_reset_step_apply_of_mod (M := EReal) (fun n h => (outsAt0 m c n h).2) 8 (fun _ => 0)
    (part m c) (acc_A m c) (acc_B m c) t h1 (ix2 (y 1) (y 2))
  rw [out_C m c t h1, e, zero_add, Finset.sum_range]
  refine Fin.sum_mul_add_congr (S := 8) (n := 512) fun s k hl => ?_
  have hs : s.val < 8 := s.isLt
  have e_br : br (8 * (t.val / 8) + s.val) = br t.val := Fin.ext (by simp only [br]; omega)
  have e_row : row (8 * (t.val / 8) + s.val) = row t.val := funext fun r => Fin.ext (by simp only [row]; omega)
  have e_con : con (8 * (t.val / 8) + s.val) k = ⟨s.val * 512 + k.val, hl⟩ := Fin.ext (by simp only [con]; omega)
  simp only [e_br, e_row, e_con]
  rfl

/-- The result array. -/
theorem final (c : Dev nD) : (dats m 0 c).arrAt 2 (cfgs 0).N = val (arg0 m c) (arg1 m c) := by
  refine (dats m 0 c).arrAt_eq_of_covers 2 _ (by decide +kernel) fun t hf y => ?_
  have ht : t.val < 128 := t.isLt
  blk_simp
  rw [after0_2, run m c t ((flush0_2 t).mp hf)]
  blk_ext [br, row, con, idx t]

end Cert.BranchOutIdeal.Hand

namespace Cert.BranchOutReferenceIdeal.Hand

open Cert.BranchOutReferenceIdeal Cert.BranchOutReferenceIdeal.Read Idealize.ShloMosaic

/-- The reference's result. -/
theorem val_eq (a : S4x4096x4096.Idx → EReal) (b : S4x1024x4096.Idx → EReal) : val_main_v3 (F := Ideal) a b = Cert.BranchOutIdeal.Hand.val a b := by
  funext i
  idx_vars i
  rw [← val_main_v3_eq]
  pointwise [Cert.BranchOutIdeal.Hand.val]

end Cert.BranchOutReferenceIdeal.Hand

namespace Cert.Proof

open Idealize.ShloMosaic Idealize.SL.Sem Cert.BranchOutIdeal.Hand

/-- The gradient with respect to the branches' outputs: the program and its reference agree on the extended reals. -/
theorem branchOut_algebraic : Cert.algebraic_BranchOutIdeal_BranchOutReferenceIdeal := by
  intro m g m' g' _ hagree
  refine ⟨fun c => val (arg0 m c) (arg1 m c), ?_, ?_⟩
  · refine (θ_run _ _ _).mono (fun r h c => ?_) (Cert.BranchOutIdeal.Value.run_blocks m g)
    obtain ⟨h0, hk⟩ := h c
    exact ⟨h0.trans (final m c), hk⟩
  · refine (θ_run _ _ _).mono (fun r h c => ?_) (Cert.BranchOutReferenceIdeal.Value.run m' g')
    obtain ⟨h0, hk⟩ := h c
    obtain ⟨a0, a1⟩ := hagree c
    refine ⟨h0.trans ?_, hk⟩
    rw [Cert.BranchOutReferenceIdeal.Read.val_main_v3_eq, Cert.BranchOutReferenceIdeal.Hand.val_eq, a0, a1]

/-- The reference runs to its end, keeps its arguments and uses no semaphore. -/
theorem branchOut_reference_frame : Cert.quiescent_BranchOutReferenceIdeal := fun m ρ _ =>
  (θ_run Cert.BranchOutReferenceIdeal.defs _ _).mono (fun r h => ⟨fun c => (h c).2, sem_eq_zero_of_no_sems (by decide) r.2⟩)
    (Cert.BranchOutReferenceIdeal.Value.run (F := Ideal) m ρ)

end Cert.Proof

end
-- ==== Proof.BranchWeight.lean ====
/- The gradient with respect to the branches' projection weights.

   At a cotangent `b` of the projections `a n · w n` this is `(a n)ᵀ · b n`, one slab of columns per device. -/
module

public import proofs.«01_k».proof.Defs
public import proofs.«01_k».proof.Proof.Gen.BranchWeightIdeal.Value
public import proofs.«01_k».proof.Proof.Gen.BranchWeightReferenceIdeal.Run
public import proofs.«01_k».proof.Proof.Gen.BranchWeightReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.BranchWeightIdeal.Hand

open Cert.BranchWeightIdeal Cert.BranchWeightIdeal.Gen Idealize.ShloMosaic Idealize.ShloMosaic.TcCoe Idealize.SL.Sem

/-- The gradient with respect to the branches' projection weights, as a function of the arrays. -/
def val (a : S4x4096x1024.Idx → EReal) (b : S4x4096x4096.Idx → EReal) : S8x4x1024x512.Idx → EReal :=
  fun i => ∑ s : Fin 4096, a (ix3 (i 1) s (i 2)) * b (ix3 (i 1) s ⟨(i 0).val * 512 + (i 3).val, by have h0 : (i 0).val < 8 := (i 0).isLt; have h3 : (i 3).val < 512 := (i 3).isLt; omega⟩)

variable (m : (ℓ : Loc nD τ sig) → Buf (Elt Ideal) ℓ)

abbrev arg0 (c : Dev nD) : S4x4096x1024.Idx → EReal := m ((c : Thread nD τ).loc main_arg0)
abbrev arg1 (c : Dev nD) : S4x4096x4096.Idx → EReal := m ((c : Thread nD τ).loc main_arg1)

/-- Every window's block index at a grid point. -/
theorem idx : ∀ t : Fin cfg0.N, win0_0.index t = ![t.val / 4 % 4, t.val % 4, 0]
    ∧ win0_1.index t = ![t.val / 4 % 4, t.val % 4, t.val / 16]
    ∧ win0_2.index t = ![t.val / 16, t.val / 4 % 4, 0, 0] :=
  (by decide +kernel : ∀ t : Fin grid0.N, _)

/-- The branch of point `t`. -/
def br (t : ℕ) : Fin 4 := ⟨t / 4 % 4, by omega⟩

/-- The device whose slab point `t` works on. -/
def dev (t : ℕ) : Fin 8 := ⟨t / 16 % 8, by omega⟩

/-- The column of the whole array at column `d` of point `t`'s block. -/
def col (t : ℕ) (r : Fin 512) : Fin 4096 := ⟨t / 16 % 8 * 512 + r.val, by omega⟩

/-- The contracted index of the whole array at index `k` of point `t`'s block. -/
def con (t : ℕ) (k : Fin 1024) : Fin 4096 := ⟨t % 4 * 1024 + k.val, by omega⟩

/-- Window 0's block. -/
theorem in0 (c : Dev nD) (t : Fin cfg0.N) (k : Fin 1024) (r : Fin 1024) :
    iblk m c 0 t (ix3 0 k r) = arg0 m c (ix3 (br t.val) (con t.val k) r) := by
  have ht : t.val < 128 := t.isLt
  blk_ext! [iblk, V, br, dev, col, con, idx t]

/-- Window 1's block. -/
theorem in1 (c : Dev nD) (t : Fin cfg0.N) (k : Fin 1024) (r : Fin 512) :
    iblk m c 1 t (ix3 0 k r) = arg1 m c (ix3 (br t.val) (con t.val k) (col t.val r)) := by
  have ht : t.val < 128 := t.isLt
  blk_ext! [iblk, V, br, dev, col, con, idx t]

/-- One point's contribution to its block. -/
def part (c : Dev nD) (t : ℕ) (y : S1024x512.Idx) : EReal :=
  ∑ k : Fin 1024, arg0 m c (ix3 (br t) (con t k) (y 0)) * arg1 m c (ix3 (br t) (con t k) (col t (y 1)))

/-- What the first point of a run leaves in the accumulator. -/
theorem acc_A (c : Dev nD) (t : Fin cfg0.N) (h0 : t.val % 4 = 0) (y : S1024x512.Idx) :
    (outsAt0 m c t.val t.isLt).2 y = 0 + part m c t.val y := by
  rw [outsAt0_A m c t h0 (by omega)]
  frame_out
  unfold_payloads
  pointwise [part, in0, in1]

/-- What a later point of a run leaves in the accumulator. -/
theorem acc_B (c : Dev nD) (t : Fin cfg0.N) (h0 : ¬ t.val % 4 = 0) (y : S1024x512.Idx) :
    (outsAt0 m c t.val t.isLt).2 y = (outsAt0 m c (t.val - 1) (by omega)).2 y + part m c t.val y := by
  by_cases h1 : t.val % 4 = 3
  · rw [outsAt0_C m c t h0 h1]
    frame_out
    unfold_payloads
    pointwise [part, in0, in1]
    rw [read_unread_whole]
  · rw [outsAt0_B m c t h0 h1]
    frame_out
    unfold_payloads
    pointwise [part, in0, in1]
    rw [read_unread_whole]

/-- The last point of a run writes its block from the accumulator. -/
theorem out_C (c : Dev nD) (t : Fin cfg0.N) (h1 : t.val % 4 = 3) (y : S1x1x1024x512.Idx) :
    (outsAt0 m c t.val t.isLt).1 y = (outsAt0 m c t.val t.isLt).2 (ix2 (y 2) (y 3)) := by
  rw [outsAt0_C m c t (by omega) h1]
  frame_out
  unfold_payloads
  pointwise [in0, in1]

/-- The block at the point that writes it back. -/
theorem run (c : Dev nD) (t : Fin cfg0.N) (h1 : t.val % 4 = 3) (y : S1x1x1024x512.Idx) :
    (outsAt0 m c t.val t.isLt).1 y = val (arg0 m c) (arg1 m c) (ix4 (dev t.val) (br t.val) (y 2) (y 3)) := by
  have ht : t.val < 128 := t.isLt
  have e := Pipeline.eq_sum_of_reset_step_apply_of_mod (M := EReal) (fun n h => (outsAt0 m c n h).2) 4 (fun _ => 0)
    (part m c) (acc_A m c) (acc_B m c) t h1 (ix2 (y 2) (y 3))
  rw [out_C m c t h1, e, zero_add, Finset.sum_range]
  refine Fin.sum_mul_add_congr (S := 4) (n := 1024) fun s k hl => ?_
  have hs : s.val < 4 := s.isLt
  have e_br : br (4 * (t.val / 4) + s.val) = br t.val := Fin.ext (by simp only [br]; omega)
  have e_dev : dev (4 * (t.val / 4) + s.val) = dev t.val := Fin.ext (by simp only [dev]; omega)
  have e_col : col (4 * (t.val / 4) + s.val) = col t.val := funext fun r => Fin.ext (by simp only [col]; omega)
  have e_con : con (4 * (t.val / 4) + s.val) k = ⟨s.val * 1024 + k.val, hl⟩ := Fin.ext (by simp only [con]; omega)
  simp only [e_br, e_dev, e_col, e_con]
  rfl

/-- The result array. -/
theorem final (c : Dev nD) : (dats m 0 c).arrAt 2 (cfgs 0).N = val (arg0 m c) (arg1 m c) := by
  refine (dats m 0 c).arrAt_eq_of_covers 2 _ (by decide +kernel) fun t hf y => ?_
  have ht : t.val < 128 := t.isLt
  blk_simp
  rw [after0_2, run m c t ((flush0_2 t).mp hf)]
  blk_ext [br, dev, col, con, idx t]

end Cert.BranchWeightIdeal.Hand

namespace Cert.BranchWeightReferenceIdeal.Hand

open Cert.BranchWeightReferenceIdeal Cert.BranchWeightReferenceIdeal.Read Idealize.ShloMosaic

/-- The reference's result. -/
theorem val_eq (a : S4x4096x1024.Idx → EReal) (b : S4x4096x4096.Idx → EReal) : val_main_v8 (F := Ideal) a b = Cert.BranchWeightIdeal.Hand.val a b := by
  funext i
  idx_vars i
  rw [← val_main_v8_eq]
  pointwise [Cert.BranchWeightIdeal.Hand.val]
  exact Finset.sum_congr rfl fun _ _ => mul_comm _ _

end Cert.BranchWeightReferenceIdeal.Hand

namespace Cert.Proof

open Idealize.ShloMosaic Idealize.SL.Sem Cert.BranchWeightIdeal.Hand

/-- The gradient with respect to the branches' projection weights: the program and its reference agree on the extended reals. -/
theorem branchWeight_algebraic : Cert.algebraic_BranchWeightIdeal_BranchWeightReferenceIdeal := by
  intro m g m' g' _ hagree
  refine ⟨fun c => val (arg0 m c) (arg1 m c), ?_, ?_⟩
  · refine (θ_run _ _ _).mono (fun r h c => ?_) (Cert.BranchWeightIdeal.Value.run_blocks m g)
    obtain ⟨h0, hk⟩ := h c
    exact ⟨h0.trans (final m c), hk⟩
  · refine (θ_run _ _ _).mono (fun r h c => ?_) (Cert.BranchWeightReferenceIdeal.Value.run m' g')
    obtain ⟨h0, hk⟩ := h c
    obtain ⟨a0, a1⟩ := hagree c
    refine ⟨h0.trans ?_, hk⟩
    rw [Cert.BranchWeightReferenceIdeal.Read.val_main_v8_eq, Cert.BranchWeightReferenceIdeal.Hand.val_eq, a0, a1]

/-- The reference runs to its end, keeps its arguments and uses no semaphore. -/
theorem branchWeight_reference_frame : Cert.quiescent_BranchWeightReferenceIdeal := fun m ρ _ =>
  (θ_run Cert.BranchWeightReferenceIdeal.defs _ _).mono (fun r h => ⟨fun c => (h c).2, sem_eq_zero_of_no_sems (by decide) r.2⟩)
    (Cert.BranchWeightReferenceIdeal.Value.run (F := Ideal) m ρ)

end Cert.Proof

end
-- ==== Proof.GateWeight.lean ====
/- The gradient with respect to the gates' weights.

   At a cotangent `b` of the gates' arguments `a · w n` this is `aᵀ · b n`, one slab of columns per device. -/
module

public import proofs.«01_k».proof.Defs
public import proofs.«01_k».proof.Proof.Gen.GateWeightIdeal.Value
public import proofs.«01_k».proof.Proof.Gen.GateWeightReferenceIdeal.Run
public import proofs.«01_k».proof.Proof.Gen.GateWeightReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateWeightIdeal.Hand

open Cert.GateWeightIdeal Cert.GateWeightIdeal.Gen Idealize.ShloMosaic Idealize.ShloMosaic.TcCoe Idealize.SL.Sem

/-- The gradient with respect to the gates' weights, as a function of the arrays. -/
def val (a : S4096x256.Idx → EReal) (b : S4x4096x4096.Idx → EReal) : S8x4x256x512.Idx → EReal :=
  fun i => ∑ s : Fin 4096, a (ix2 s (i 2)) * b (ix3 (i 1) s ⟨(i 0).val * 512 + (i 3).val, by have h0 : (i 0).val < 8 := (i 0).isLt; have h3 : (i 3).val < 512 := (i 3).isLt; omega⟩)

variable (m : (ℓ : Loc nD τ sig) → Buf (Elt Ideal) ℓ)

abbrev arg0 (c : Dev nD) : S4096x256.Idx → EReal := m ((c : Thread nD τ).loc main_arg0)
abbrev arg1 (c : Dev nD) : S4x4096x4096.Idx → EReal := m ((c : Thread nD τ).loc main_arg1)

/-- Every window's block index at a grid point. -/
theorem idx : ∀ t : Fin cfg0.N, win0_0.index t = ![t.val % 4, 0]
    ∧ win0_1.index t = ![t.val / 4 % 4, t.val % 4, t.val / 16]
    ∧ win0_2.index t = ![t.val / 16, t.val / 4 % 4, 0, 0] :=
  (by decide +kernel : ∀ t : Fin grid0.N, _)

/-- The branch of point `t`. -/
def br (t : ℕ) : Fin 4 := ⟨t / 4 % 4, by omega⟩

/-- The device whose slab point `t` works on. -/
def dev (t : ℕ) : Fin 8 := ⟨t / 16 % 8, by omega⟩

/-- The column of the whole array at column `d` of point `t`'s block. -/
def col (t : ℕ) (r : Fin 512) : Fin 4096 := ⟨t / 16 % 8 * 512 + r.val, by omega⟩

/-- The contracted index of the whole array at index `k` of point `t`'s block. -/
def con (t : ℕ) (k : Fin 1024) : Fin 4096 := ⟨t % 4 * 1024 + k.val, by omega⟩

/-- Window 0's block. -/
theorem in0 (c : Dev nD) (t : Fin cfg0.N) (k : Fin 1024) (r : Fin 256) :
    iblk m c 0 t (ix2 k r) = arg0 m c (ix2 (con t.val k) r) := by
  have ht : t.val < 128 := t.isLt
  blk_ext! [iblk, V, br, dev, col, con, idx t]

/-- Window 1's block. -/
theorem in1 (c : Dev nD) (t : Fin cfg0.N) (k : Fin 1024) (r : Fin 512) :
    iblk m c 1 t (ix3 0 k r) = arg1 m c (ix3 (br t.val) (con t.val k) (col t.val r)) := by
  have ht : t.val < 128 := t.isLt
  blk_ext! [iblk, V, br, dev, col, con, idx t]

/-- One point's contribution to its block. -/
def part (c : Dev nD) (t : ℕ) (y : S256x512.Idx) : EReal :=
  ∑ k : Fin 1024, arg0 m c (ix2 (con t k) (y 0)) * arg1 m c (ix3 (br t) (con t k) (col t (y 1)))

/-- What the first point of a run leaves in the accumulator. -/
theorem acc_A (c : Dev nD) (t : Fin cfg0.N) (h0 : t.val % 4 = 0) (y : S256x512.Idx) :
    (outsAt0 m c t.val t.isLt).2 y = 0 + part m c t.val y := by
  rw [outsAt0_A m c t h0 (by omega)]
  frame_out
  unfold_payloads
  pointwise [part, in0, in1]

/-- What a later point of a run leaves in the accumulator. -/
theorem acc_B (c : Dev nD) (t : Fin cfg0.N) (h0 : ¬ t.val % 4 = 0) (y : S256x512.Idx) :
    (outsAt0 m c t.val t.isLt).2 y = (outsAt0 m c (t.val - 1) (by omega)).2 y + part m c t.val y := by
  by_cases h1 : t.val % 4 = 3
  · rw [outsAt0_C m c t h0 h1]
    frame_out
    unfold_payloads
    pointwise [part, in0, in1]
    rw [read_unread_whole]
  · rw [outsAt0_B m c t h0 h1]
    frame_out
    unfold_payloads
    pointwise [part, in0, in1]
    rw [read_unread_whole]

/-- The last point of a run writes its block from the accumulator. -/
theorem out_C (c : Dev nD) (t : Fin cfg0.N) (h1 : t.val % 4 = 3) (y : S1x1x256x512.Idx) :
    (outsAt0 m c t.val t.isLt).1 y = (outsAt0 m c t.val t.isLt).2 (ix2 (y 2) (y 3)) := by
  rw [outsAt0_C m c t (by omega) h1]
  frame_out
  unfold_payloads
  pointwise [in0, in1]

/-- The block at the point that writes it back. -/
theorem run (c : Dev nD) (t : Fin cfg0.N) (h1 : t.val % 4 = 3) (y : S1x1x256x512.Idx) :
    (outsAt0 m c t.val t.isLt).1 y = val (arg0 m c) (arg1 m c) (ix4 (dev t.val) (br t.val) (y 2) (y 3)) := by
  have ht : t.val < 128 := t.isLt
  have e := Pipeline.eq_sum_of_reset_step_apply_of_mod (M := EReal) (fun n h => (outsAt0 m c n h).2) 4 (fun _ => 0)
    (part m c) (acc_A m c) (acc_B m c) t h1 (ix2 (y 2) (y 3))
  rw [out_C m c t h1, e, zero_add, Finset.sum_range]
  refine Fin.sum_mul_add_congr (S := 4) (n := 1024) fun s k hl => ?_
  have hs : s.val < 4 := s.isLt
  have e_br : br (4 * (t.val / 4) + s.val) = br t.val := Fin.ext (by simp only [br]; omega)
  have e_dev : dev (4 * (t.val / 4) + s.val) = dev t.val := Fin.ext (by simp only [dev]; omega)
  have e_col : col (4 * (t.val / 4) + s.val) = col t.val := funext fun r => Fin.ext (by simp only [col]; omega)
  have e_con : con (4 * (t.val / 4) + s.val) k = ⟨s.val * 1024 + k.val, hl⟩ := Fin.ext (by simp only [con]; omega)
  simp only [e_br, e_dev, e_col, e_con]
  rfl

/-- The result array. -/
theorem final (c : Dev nD) : (dats m 0 c).arrAt 2 (cfgs 0).N = val (arg0 m c) (arg1 m c) := by
  refine (dats m 0 c).arrAt_eq_of_covers 2 _ (by decide +kernel) fun t hf y => ?_
  have ht : t.val < 128 := t.isLt
  blk_simp
  rw [after0_2, run m c t ((flush0_2 t).mp hf)]
  blk_ext [br, dev, col, con, idx t]

end Cert.GateWeightIdeal.Hand

namespace Cert.GateWeightReferenceIdeal.Hand

open Cert.GateWeightReferenceIdeal Cert.GateWeightReferenceIdeal.Read Idealize.ShloMosaic

/-- The reference's result. -/
theorem val_eq (a : S4096x256.Idx → EReal) (b : S4x4096x4096.Idx → EReal) : val_main_v9 (F := Ideal) a b = Cert.GateWeightIdeal.Hand.val a b := by
  funext i
  idx_vars i
  rw [← val_main_v9_eq]
  pointwise [Cert.GateWeightIdeal.Hand.val]
  exact Finset.sum_congr rfl fun _ _ => mul_comm _ _

end Cert.GateWeightReferenceIdeal.Hand

namespace Cert.Proof

open Idealize.ShloMosaic Idealize.SL.Sem Cert.GateWeightIdeal.Hand

/-- The gradient with respect to the gates' weights: the program and its reference agree on the extended reals. -/
theorem gateWeight_algebraic : Cert.algebraic_GateWeightIdeal_GateWeightReferenceIdeal := by
  intro m g m' g' _ hagree
  refine ⟨fun c => val (arg0 m c) (arg1 m c), ?_, ?_⟩
  · refine (θ_run _ _ _).mono (fun r h c => ?_) (Cert.GateWeightIdeal.Value.run_blocks m g)
    obtain ⟨h0, hk⟩ := h c
    exact ⟨h0.trans (final m c), hk⟩
  · refine (θ_run _ _ _).mono (fun r h c => ?_) (Cert.GateWeightReferenceIdeal.Value.run m' g')
    obtain ⟨h0, hk⟩ := h c
    obtain ⟨a0, a1⟩ := hagree c
    refine ⟨h0.trans ?_, hk⟩
    rw [Cert.GateWeightReferenceIdeal.Read.val_main_v9_eq, Cert.GateWeightReferenceIdeal.Hand.val_eq, a0, a1]

/-- The reference runs to its end, keeps its arguments and uses no semaphore. -/
theorem gateWeight_reference_frame : Cert.quiescent_GateWeightReferenceIdeal := fun m ρ _ =>
  (θ_run Cert.GateWeightReferenceIdeal.defs _ _).mono (fun r h => ⟨fun c => (h c).2, sem_eq_zero_of_no_sems (by decide) r.2⟩)
    (Cert.GateWeightReferenceIdeal.Value.run (F := Ideal) m ρ)

end Cert.Proof

end
-- ==== Proof.GateInput.lean ====
/- The gradient with respect to the gates' low-rank input.

   At a cotangent `a` of the gates' arguments `g · b n` this is `∑ n, a n · (b n)ᵀ`, accumulated branch by branch and slab by slab. -/
module

public import proofs.«01_k».proof.Defs
public import proofs.«01_k».proof.Proof.Gen.GateInputIdeal.Value
public import proofs.«01_k».proof.Proof.Gen.GateInputReferenceIdeal.Run
public import proofs.«01_k».proof.Proof.Gen.GateInputReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateInputIdeal.Hand

open Cert.GateInputIdeal Cert.GateInputIdeal.Gen Idealize.ShloMosaic Idealize.ShloMosaic.TcCoe Idealize.SL.Sem

/-- The gradient with respect to the gates' low-rank input, as a function of the arrays. -/
def val (a : S4x4096x4096.Idx → EReal) (b : S4x256x4096.Idx → EReal) : S4096x256.Idx → EReal :=
  fun i => ∑ n : Fin 4, ∑ d : Fin 4096, a (ix3 n (i 0) d) * b (ix3 n (i 1) d)

variable (m : (ℓ : Loc nD τ sig) → Buf (Elt Ideal) ℓ)

abbrev arg0 (c : Dev nD) : S4x4096x4096.Idx → EReal := m ((c : Thread nD τ).loc main_arg0)
abbrev arg1 (c : Dev nD) : S4x256x4096.Idx → EReal := m ((c : Thread nD τ).loc main_arg1)

/-- Every window's block index at a grid point. -/
theorem idx : ∀ t : Fin cfg0.N, win0_0.index t = ![t.val / 8 % 4, t.val / 32, t.val % 8]
    ∧ win0_1.index t = ![t.val % 8, t.val / 8 % 4, 0, 0]
    ∧ win0_2.index t = ![t.val / 32, 0] :=
  (by decide +kernel : ∀ t : Fin grid0.N, _)

/-- The branch of point `t`. -/
def br (t : ℕ) : Fin 4 := ⟨t / 8 % 4, by omega⟩

/-- The row of the whole array at row `r` of point `t`'s block. -/
def row (t : ℕ) (r : Fin 1024) : Fin 4096 := ⟨t / 32 % 4 * 1024 + r.val, by omega⟩

/-- The contracted index of the whole array at index `k` of point `t`'s block. -/
def con (t : ℕ) (k : Fin 512) : Fin 4096 := ⟨t % 8 * 512 + k.val, by omega⟩

/-- Window 0's block. -/
theorem in0 (c : Dev nD) (t : Fin cfg0.N) (r : Fin 1024) (k : Fin 512) :
    iblk m c 0 t (ix3 0 r k) = arg0 m c (ix3 (br t.val) (row t.val r) (con t.val k)) := by
  have ht : t.val < 128 := t.isLt
  blk_ext! [iblk, V, br, row, con, idx t]

/-- Window 1's block. -/
theorem in1 (c : Dev nD) (t : Fin cfg0.N) (r : Fin 256) (k : Fin 512) :
    iblk m c 1 t (ix4 0 0 r k) = arg1 m c (ix3 (br t.val) r (con t.val k)) := by
  have ht : t.val < 128 := t.isLt
  blk_ext! [iblk, V, br, row, con, idx t]

/-- One point's contribution to its block. -/
def part (c : Dev nD) (t : ℕ) (y : S1024x256.Idx) : EReal :=
  ∑ k : Fin 512, arg0 m c (ix3 (br t) (row t (y 0)) (con t k)) * arg1 m c (ix3 (br t) (y 1) (con t k))

/-- What the first point of a run leaves in the accumulator. -/
theorem acc_A (c : Dev nD) (t : Fin cfg0.N) (h0 : t.val % 32 = 0) (y : S1024x256.Idx) :
    (outsAt0 m c t.val t.isLt).2 y = 0 + part m c t.val y := by
  rw [outsAt0_A m c t h0 (by omega)]
  frame_out
  unfold_payloads
  pointwise [part, in0, in1]

/-- What a later point of a run leaves in the accumulator. -/
theorem acc_B (c : Dev nD) (t : Fin cfg0.N) (h0 : ¬ t.val % 32 = 0) (y : S1024x256.Idx) :
    (outsAt0 m c t.val t.isLt).2 y = (outsAt0 m c (t.val - 1) (by omega)).2 y + part m c t.val y := by
  by_cases h1 : t.val % 32 = 31
  · rw [outsAt0_C m c t h0 h1]
    frame_out
    unfold_payloads
    pointwise [part, in0, in1]
    rw [read_unread_whole]
  · rw [outsAt0_B m c t h0 h1]
    frame_out
    unfold_payloads
    pointwise [part, in0, in1]
    rw [read_unread_whole]

/-- The last point of a run writes its block from the accumulator. -/
theorem out_C (c : Dev nD) (t : Fin cfg0.N) (h1 : t.val % 32 = 31) (y : S1024x256.Idx) :
    (outsAt0 m c t.val t.isLt).1 y = (outsAt0 m c t.val t.isLt).2 y := by
  rw [outsAt0_C m c t (by omega) h1]
  frame_out
  unfold_payloads
  pointwise [in0, in1]

/-- The block at the point that writes it back. -/
theorem run (c : Dev nD) (t : Fin cfg0.N) (h1 : t.val % 32 = 31) (y : S1024x256.Idx) :
    (outsAt0 m c t.val t.isLt).1 y = val (arg0 m c) (arg1 m c) (ix2 (row t.val (y 0)) (y 1)) := by
  have ht : t.val < 128 := t.isLt
  have e := Pipeline.eq_sum_of_reset_step_apply_of_mod (M := EReal) (fun n h => (outsAt0 m c n h).2) 32 (fun _ => 0)
    (part m c) (acc_A m c) (acc_B m c) t h1 y
  rw [out_C m c t h1, e, zero_add, Finset.sum_range]
  show _ = ∑ n : Fin 4, ∑ d : Fin 4096, arg0 m c (ix3 n (row t.val (y 0)) d) * arg1 m c (ix3 n (y 1) d)
  rw [Fin.sum_mul_add_congr (S := 4) (n := 4096) (L := 16384) (f := fun l => arg0 m c (ix3 ⟨l.val / 4096, by omega⟩ (row t.val (y 0)) ⟨l.val % 4096, by omega⟩)
    * arg1 m c (ix3 ⟨l.val / 4096, by omega⟩ (y 1) ⟨l.val % 4096, by omega⟩)) fun n d hl => ?_]
  · refine Fin.sum_mul_add_congr (S := 32) (n := 512) fun s k hl => ?_
    have hs : s.val < 32 := s.isLt
    have e_br : br (32 * (t.val / 32) + s.val) = ⟨(s.val * 512 + k.val) / 4096, by omega⟩ := Fin.ext (by simp only [br]; omega)
    have e_row : row (32 * (t.val / 32) + s.val) = row t.val := funext fun r => Fin.ext (by simp only [row]; omega)
    have e_con : con (32 * (t.val / 32) + s.val) k = ⟨(s.val * 512 + k.val) % 4096, by omega⟩ := Fin.ext (by simp only [con]; omega)
    simp only [e_br, e_row, e_con]
  · have e_n : n = ⟨(n.val * 4096 + d.val) / 4096, by omega⟩ := Fin.ext (by simp only []; omega)
    have e_d : d = ⟨(n.val * 4096 + d.val) % 4096, by omega⟩ := Fin.ext (by simp only []; omega)
    simp only [← e_n, ← e_d]

/-- The result array. -/
theorem final (c : Dev nD) : (dats m 0 c).arrAt 2 (cfgs 0).N = val (arg0 m c) (arg1 m c) := by
  refine (dats m 0 c).arrAt_eq_of_covers 2 _ (by decide +kernel) fun t hf y => ?_
  have ht : t.val < 128 := t.isLt
  blk_simp
  rw [after0_2, run m c t ((flush0_2 t).mp hf)]
  blk_ext [br, row, con, idx t]

end Cert.GateInputIdeal.Hand

namespace Cert.GateInputReferenceIdeal.Hand

open Cert.GateInputReferenceIdeal Cert.GateInputReferenceIdeal.Read Idealize.ShloMosaic

/-- The reference's result. -/
theorem val_eq (a : S4x4096x4096.Idx → EReal) (b : S4x256x4096.Idx → EReal) : val_main_v6 (F := Ideal) a b = Cert.GateInputIdeal.Hand.val a b := by
  funext i
  idx_vars i
  rw [← val_main_v6_eq]
  pointwise [Cert.GateInputIdeal.Hand.val]

end Cert.GateInputReferenceIdeal.Hand

namespace Cert.Proof

open Idealize.ShloMosaic Idealize.SL.Sem Cert.GateInputIdeal.Hand

/-- The gradient with respect to the gates' low-rank input: the program and its reference agree on the extended reals. -/
theorem gateInput_algebraic : Cert.algebraic_GateInputIdeal_GateInputReferenceIdeal := by
  intro m g m' g' _ hagree
  refine ⟨fun c => val (arg0 m c) (arg1 m c), ?_, ?_⟩
  · refine (θ_run _ _ _).mono (fun r h c => ?_) (Cert.GateInputIdeal.Value.run_blocks m g)
    obtain ⟨h0, hk⟩ := h c
    exact ⟨h0.trans (final m c), hk⟩
  · refine (θ_run _ _ _).mono (fun r h c => ?_) (Cert.GateInputReferenceIdeal.Value.run m' g')
    obtain ⟨h0, hk⟩ := h c
    obtain ⟨a0, a1⟩ := hagree c
    refine ⟨h0.trans ?_, hk⟩
    rw [Cert.GateInputReferenceIdeal.Read.val_main_v6_eq, Cert.GateInputReferenceIdeal.Hand.val_eq, a0, a1]

/-- The reference runs to its end, keeps its arguments and uses no semaphore. -/
theorem gateInput_reference_frame : Cert.quiescent_GateInputReferenceIdeal := fun m ρ _ =>
  (θ_run Cert.GateInputReferenceIdeal.defs _ _).mono (fun r h => ⟨fun c => (h c).2, sem_eq_zero_of_no_sems (by decide) r.2⟩)
    (Cert.GateInputReferenceIdeal.Value.run (F := Ideal) m ρ)

end Cert.Proof

end
-- ==== Proof.OutWeight.lean ====
/- The gradient with respect to the output projection's weights.

   At a cotangent `b` of the projection `a · w` this is `aᵀ · b`, accumulated in two halves of the rows. -/
module

public import proofs.«01_k».proof.Defs
public import proofs.«01_k».proof.Proof.Gen.OutWeightIdeal.Value
public import proofs.«01_k».proof.Proof.Gen.OutWeightReferenceIdeal.Run
public import proofs.«01_k».proof.Proof.Gen.OutWeightReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutWeightIdeal.Hand

open Cert.OutWeightIdeal Cert.OutWeightIdeal.Gen Idealize.ShloMosaic Idealize.ShloMosaic.TcCoe Idealize.SL.Sem

/-- The gradient with respect to the output projection's weights, as a function of the arrays. -/
def val (a b : S4096x4096.Idx → EReal) : S4096x4096.Idx → EReal :=
  fun i => ∑ s : Fin 4096, a (ix2 s (i 0)) * b (ix2 s (i 1))

variable (m : (ℓ : Loc nD τ sig) → Buf (Elt Ideal) ℓ)

abbrev arg0 (c : Dev nD) : S4096x4096.Idx → EReal := m ((c : Thread nD τ).loc main_arg0)
abbrev arg1 (c : Dev nD) : S4096x4096.Idx → EReal := m ((c : Thread nD τ).loc main_arg1)

/-- Every window's block index at a grid point. -/
theorem idx : ∀ t : Fin cfg0.N, win0_0.index t = ![t.val % 2, t.val / 8]
    ∧ win0_1.index t = ![t.val % 2, t.val / 2 % 4]
    ∧ win0_2.index t = ![t.val / 8, t.val / 2 % 4] :=
  (by decide +kernel : ∀ t : Fin grid0.N, _)

/-- The row of the whole array at row `r` of point `t`'s block. -/
def row (t : ℕ) (r : Fin 1024) : Fin 4096 := ⟨(t / 8) % 4 * 1024 + r.val, by omega⟩

/-- The column of the whole array at column `r` of point `t`'s block. -/
def col (t : ℕ) (r : Fin 1024) : Fin 4096 := ⟨(t / 2 % 4) % 4 * 1024 + r.val, by omega⟩

/-- The contracted index of the whole array at index `k` of point `t`'s block. -/
def con (t : ℕ) (k : Fin 2048) : Fin 4096 := ⟨(t % 2) % 2 * 2048 + k.val, by omega⟩

/-- Window 0's block. -/
theorem in0 (c : Dev nD) (t : Fin cfg0.N) (r : Fin 1024) (k : Fin 2048) :
    iblk m c 0 t (ix2 k r) = arg0 m c (ix2 (con t.val k) (row t.val r)) := by
  have ht : t.val < 32 := t.isLt
  blk_ext! [iblk, V, row, col, con, idx t]

/-- Window 1's block. -/
theorem in1 (c : Dev nD) (t : Fin cfg0.N) (r : Fin 1024) (k : Fin 2048) :
    iblk m c 1 t (ix2 k r) = arg1 m c (ix2 (con t.val k) (col t.val r)) := by
  have ht : t.val < 32 := t.isLt
  blk_ext! [iblk, V, row, col, con, idx t]

/-- One point's contribution to its block. -/
def part (c : Dev nD) (t : ℕ) (y : S1024x1024.Idx) : EReal :=
  ∑ k : Fin 2048, arg0 m c (ix2 (con t k) (row t (y 0))) * arg1 m c (ix2 (con t k) (col t (y 1)))

/-- What the first point of a run leaves in the accumulator. -/
theorem acc_A (c : Dev nD) (t : Fin cfg0.N) (h0 : t.val % 2 = 0) (y : S1024x1024.Idx) :
    (outsAt0 m c t.val t.isLt).2 y = 0 + part m c t.val y := by
  rw [outsAt0_A m c t h0 (by omega)]
  frame_out
  unfold_payloads
  pointwise [part, in0, in1]

/-- What a later point of a run leaves in the accumulator. -/
theorem acc_B (c : Dev nD) (t : Fin cfg0.N) (h0 : ¬ t.val % 2 = 0) (y : S1024x1024.Idx) :
    (outsAt0 m c t.val t.isLt).2 y = (outsAt0 m c (t.val - 1) (by omega)).2 y + part m c t.val y := by
  rw [outsAt0_B m c t h0 (by omega)]
  frame_out
  unfold_payloads
  pointwise [part, in0, in1]
  rw [read_unread_whole]

/-- The last point of a run writes its block from the accumulator. -/
theorem out_C (c : Dev nD) (t : Fin cfg0.N) (h1 : t.val % 2 = 1) (y : S1024x1024.Idx) :
    (outsAt0 m c t.val t.isLt).1 y = (outsAt0 m c t.val t.isLt).2 y := by
  rw [outsAt0_B m c t (by omega) h1]
  frame_out
  unfold_payloads
  pointwise [in0, in1]

/-- The block at the point that writes it back. -/
theorem run (c : Dev nD) (t : Fin cfg0.N) (h1 : t.val % 2 = 1) (y : S1024x1024.Idx) :
    (outsAt0 m c t.val t.isLt).1 y = val (arg0 m c) (arg1 m c) (ix2 (row t.val (y 0)) (col t.val (y 1))) := by
  have ht : t.val < 32 := t.isLt
  have e := Pipeline.eq_sum_of_reset_step_apply_of_mod (M := EReal) (fun n h => (outsAt0 m c n h).2) 2 (fun _ => 0)
    (part m c) (acc_A m c) (acc_B m c) t h1 y
  rw [out_C m c t h1, e, zero_add, Finset.sum_range]
  refine Fin.sum_mul_add_congr (S := 2) (n := 2048) fun s k hl => ?_
  have hs : s.val < 2 := s.isLt
  have e_row : row (2 * (t.val / 2) + s.val) = row t.val := funext fun r => Fin.ext (by simp only [row]; omega)
  have e_col : col (2 * (t.val / 2) + s.val) = col t.val := funext fun r => Fin.ext (by simp only [col]; omega)
  have e_con : con (2 * (t.val / 2) + s.val) k = ⟨s.val * 2048 + k.val, hl⟩ := Fin.ext (by simp only [con]; omega)
  simp only [e_row, e_col, e_con]
  rfl

/-- The result array. -/
theorem final (c : Dev nD) : (dats m 0 c).arrAt 2 (cfgs 0).N = val (arg0 m c) (arg1 m c) := by
  refine (dats m 0 c).arrAt_eq_of_covers 2 _ (by decide +kernel) fun t hf y => ?_
  have ht : t.val < 32 := t.isLt
  blk_simp
  rw [after0_2, run m c t ((flush0_2 t).mp hf)]
  blk_ext [row, col, con, idx t]

end Cert.OutWeightIdeal.Hand

namespace Cert.OutWeightReferenceIdeal.Hand

open Cert.OutWeightReferenceIdeal Cert.OutWeightReferenceIdeal.Read Idealize.ShloMosaic

/-- The reference's result. -/
theorem val_eq (a b : S4096x4096.Idx → EReal) : val_main_v5 (F := Ideal) a b = Cert.OutWeightIdeal.Hand.val a b := by
  funext i
  idx_vars i
  rw [← val_main_v5_eq]
  pointwise [Cert.OutWeightIdeal.Hand.val]
  exact Finset.sum_congr rfl fun _ _ => mul_comm _ _

end Cert.OutWeightReferenceIdeal.Hand

namespace Cert.Proof

open Idealize.ShloMosaic Idealize.SL.Sem Cert.OutWeightIdeal.Hand

/-- The gradient with respect to the output projection's weights: the program and its reference agree on the extended reals. -/
theorem outWeight_algebraic : Cert.algebraic_OutWeightIdeal_OutWeightReferenceIdeal := by
  intro m g m' g' _ hagree
  refine ⟨fun c => val (arg0 m c) (arg1 m c), ?_, ?_⟩
  · refine (θ_run _ _ _).mono (fun r h c => ?_) (Cert.OutWeightIdeal.Value.run_blocks m g)
    obtain ⟨h0, hk⟩ := h c
    exact ⟨h0.trans (final m c), hk⟩
  · refine (θ_run _ _ _).mono (fun r h c => ?_) (Cert.OutWeightReferenceIdeal.Value.run m' g')
    obtain ⟨h0, hk⟩ := h c
    obtain ⟨a0, a1⟩ := hagree c
    refine ⟨h0.trans ?_, hk⟩
    rw [Cert.OutWeightReferenceIdeal.Read.val_main_v5_eq, Cert.OutWeightReferenceIdeal.Hand.val_eq, a0, a1]

/-- The reference runs to its end, keeps its arguments and uses no semaphore. -/
theorem outWeight_reference_frame : Cert.quiescent_OutWeightReferenceIdeal := fun m ρ _ =>
  (θ_run Cert.OutWeightReferenceIdeal.defs _ _).mono (fun r h => ⟨fun c => (h c).2, sem_eq_zero_of_no_sems (by decide) r.2⟩)
    (Cert.OutWeightReferenceIdeal.Value.run (F := Ideal) m ρ)

end Cert.Proof

end
-- ==== Proof.MergedGradient.lean ====
/- The gradient with respect to the merged branches.

   At a cotangent `a` of the output projection `m · b` this is `a · bᵀ`, accumulated in two halves of the columns. -/
module

public import proofs.«01_k».proof.Defs
public import proofs.«01_k».proof.Proof.Gen.MergedGradientIdeal.Value
public import proofs.«01_k».proof.Proof.Gen.MergedGradientReferenceIdeal.Run
public import proofs.«01_k».proof.Proof.Gen.MergedGradientReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MergedGradientIdeal.Hand

open Cert.MergedGradientIdeal Cert.MergedGradientIdeal.Gen Idealize.ShloMosaic Idealize.ShloMosaic.TcCoe Idealize.SL.Sem

/-- The gradient with respect to the merged branches, as a function of the arrays. -/
def val (a b : S4096x4096.Idx → EReal) : S4096x4096.Idx → EReal :=
  fun i => ∑ s : Fin 4096, a (ix2 (i 0) s) * b (ix2 (i 1) s)

variable (m : (ℓ : Loc nD τ sig) → Buf (Elt Ideal) ℓ)

abbrev arg0 (c : Dev nD) : S4096x4096.Idx → EReal := m ((c : Thread nD τ).loc main_arg0)
abbrev arg1 (c : Dev nD) : S4096x4096.Idx → EReal := m ((c : Thread nD τ).loc main_arg1)

/-- Every window's block index at a grid point. -/
theorem idx : ∀ t : Fin cfg0.N, win0_0.index t = ![t.val / 8, t.val % 2]
    ∧ win0_1.index t = ![t.val / 2 % 4, t.val % 2]
    ∧ win0_2.index t = ![t.val / 8, t.val / 2 % 4] :=
  (by decide +kernel : ∀ t : Fin grid0.N, _)

/-- The row of the whole array at row `r` of point `t`'s block. -/
def row (t : ℕ) (r : Fin 1024) : Fin 4096 := ⟨(t / 8) % 4 * 1024 + r.val, by omega⟩

/-- The column of the whole array at column `r` of point `t`'s block. -/
def col (t : ℕ) (r : Fin 1024) : Fin 4096 := ⟨(t / 2 % 4) % 4 * 1024 + r.val, by omega⟩

/-- The contracted index of the whole array at index `k` of point `t`'s block. -/
def con (t : ℕ) (k : Fin 2048) : Fin 4096 := ⟨(t % 2) % 2 * 2048 + k.val, by omega⟩

/-- Window 0's block. -/
theorem in0 (c : Dev nD) (t : Fin cfg0.N) (r : Fin 1024) (k : Fin 2048) :
    iblk m c 0 t (ix2 r k) = arg0 m c (ix2 (row t.val r) (con t.val k)) := by
  have ht : t.val < 32 := t.isLt
  blk_ext! [iblk, V, row, col, con, idx t]

/-- Window 1's block. -/
theorem in1 (c : Dev nD) (t : Fin cfg0.N) (r : Fin 1024) (k : Fin 2048) :
    iblk m c 1 t (ix2 r k) = arg1 m c (ix2 (col t.val r) (con t.val k)) := by
  have ht : t.val < 32 := t.isLt
  blk_ext! [iblk, V, row, col, con, idx t]

/-- One point's contribution to its block. -/
def part (c : Dev nD) (t : ℕ) (y : S1024x1024.Idx) : EReal :=
  ∑ k : Fin 2048, arg0 m c (ix2 (row t (y 0)) (con t k)) * arg1 m c (ix2 (col t (y 1)) (con t k))

/-- What the first point of a run leaves in the accumulator. -/
theorem acc_A (c : Dev nD) (t : Fin cfg0.N) (h0 : t.val % 2 = 0) (y : S1024x1024.Idx) :
    (outsAt0 m c t.val t.isLt).2 y = 0 + part m c t.val y := by
  rw [outsAt0_A m c t h0 (by omega)]
  frame_out
  unfold_payloads
  pointwise [part, in0, in1]

/-- What a later point of a run leaves in the accumulator. -/
theorem acc_B (c : Dev nD) (t : Fin cfg0.N) (h0 : ¬ t.val % 2 = 0) (y : S1024x1024.Idx) :
    (outsAt0 m c t.val t.isLt).2 y = (outsAt0 m c (t.val - 1) (by omega)).2 y + part m c t.val y := by
  rw [outsAt0_B m c t h0 (by omega)]
  frame_out
  unfold_payloads
  pointwise [part, in0, in1]
  rw [read_unread_whole]

/-- The last point of a run writes its block from the accumulator. -/
theorem out_C (c : Dev nD) (t : Fin cfg0.N) (h1 : t.val % 2 = 1) (y : S1024x1024.Idx) :
    (outsAt0 m c t.val t.isLt).1 y = (outsAt0 m c t.val t.isLt).2 y := by
  rw [outsAt0_B m c t (by omega) h1]
  frame_out
  unfold_payloads
  pointwise [in0, in1]

/-- The block at the point that writes it back. -/
theorem run (c : Dev nD) (t : Fin cfg0.N) (h1 : t.val % 2 = 1) (y : S1024x1024.Idx) :
    (outsAt0 m c t.val t.isLt).1 y = val (arg0 m c) (arg1 m c) (ix2 (row t.val (y 0)) (col t.val (y 1))) := by
  have ht : t.val < 32 := t.isLt
  have e := Pipeline.eq_sum_of_reset_step_apply_of_mod (M := EReal) (fun n h => (outsAt0 m c n h).2) 2 (fun _ => 0)
    (part m c) (acc_A m c) (acc_B m c) t h1 y
  rw [out_C m c t h1, e, zero_add, Finset.sum_range]
  refine Fin.sum_mul_add_congr (S := 2) (n := 2048) fun s k hl => ?_
  have hs : s.val < 2 := s.isLt
  have e_row : row (2 * (t.val / 2) + s.val) = row t.val := funext fun r => Fin.ext (by simp only [row]; omega)
  have e_col : col (2 * (t.val / 2) + s.val) = col t.val := funext fun r => Fin.ext (by simp only [col]; omega)
  have e_con : con (2 * (t.val / 2) + s.val) k = ⟨s.val * 2048 + k.val, hl⟩ := Fin.ext (by simp only [con]; omega)
  simp only [e_row, e_col, e_con]
  rfl

/-- The result array. -/
theorem final (c : Dev nD) : (dats m 0 c).arrAt 2 (cfgs 0).N = val (arg0 m c) (arg1 m c) := by
  refine (dats m 0 c).arrAt_eq_of_covers 2 _ (by decide +kernel) fun t hf y => ?_
  have ht : t.val < 32 := t.isLt
  blk_simp
  rw [after0_2, run m c t ((flush0_2 t).mp hf)]
  blk_ext [row, col, con, idx t]

end Cert.MergedGradientIdeal.Hand

namespace Cert.MergedGradientReferenceIdeal.Hand

open Cert.MergedGradientReferenceIdeal Cert.MergedGradientReferenceIdeal.Read Idealize.ShloMosaic

/-- The reference's result. -/
theorem val_eq (a b : S4096x4096.Idx → EReal) : val_main_v3 (F := Ideal) a b = Cert.MergedGradientIdeal.Hand.val a b := by
  funext i
  idx_vars i
  rw [← val_main_v3_eq]
  pointwise [Cert.MergedGradientIdeal.Hand.val]

end Cert.MergedGradientReferenceIdeal.Hand

namespace Cert.Proof

open Idealize.ShloMosaic Idealize.SL.Sem Cert.MergedGradientIdeal.Hand

/-- The gradient with respect to the merged branches: the program and its reference agree on the extended reals. -/
theorem mergedGradient_algebraic : Cert.algebraic_MergedGradientIdeal_MergedGradientReferenceIdeal := by
  intro m g m' g' _ hagree
  refine ⟨fun c => val (arg0 m c) (arg1 m c), ?_, ?_⟩
  · refine (θ_run _ _ _).mono (fun r h c => ?_) (Cert.MergedGradientIdeal.Value.run_blocks m g)
    obtain ⟨h0, hk⟩ := h c
    exact ⟨h0.trans (final m c), hk⟩
  · refine (θ_run _ _ _).mono (fun r h c => ?_) (Cert.MergedGradientReferenceIdeal.Value.run m' g')
    obtain ⟨h0, hk⟩ := h c
    obtain ⟨a0, a1⟩ := hagree c
    refine ⟨h0.trans ?_, hk⟩
    rw [Cert.MergedGradientReferenceIdeal.Read.val_main_v3_eq, Cert.MergedGradientReferenceIdeal.Hand.val_eq, a0, a1]

/-- The reference runs to its end, keeps its arguments and uses no semaphore. -/
theorem mergedGradient_reference_frame : Cert.quiescent_MergedGradientReferenceIdeal := fun m ρ _ =>
  (θ_run Cert.MergedGradientReferenceIdeal.defs _ _).mono (fun r h => ⟨fun c => (h c).2, sem_eq_zero_of_no_sems (by decide) r.2⟩)
    (Cert.MergedGradientReferenceIdeal.Value.run (F := Ideal) m ρ)

end Cert.Proof

end
-- ==== Proof.OutProjection.lean ====
/- The output projection and the residual sum.

   The merged branches `a` times the weights `b`, added to the residual stream `x`. -/
module

public import proofs.«01_k».proof.Defs
public import proofs.«01_k».proof.Proof.Gen.OutProjectionIdeal.Value
public import proofs.«01_k».proof.Proof.Gen.OutProjectionReferenceIdeal.Run
public import proofs.«01_k».proof.Proof.Gen.OutProjectionReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutProjectionIdeal.Hand

open Cert.OutProjectionIdeal Cert.OutProjectionIdeal.Gen Idealize.ShloMosaic Idealize.ShloMosaic.TcCoe Idealize.SL.Sem

/-- The output projection and the residual sum, as a function of the arrays. -/
def val (a b x : S4096x4096.Idx → EReal) : S4096x4096.Idx → EReal :=
  fun i => (∑ s : Fin 4096, a (ix2 (i 0) s) * b (ix2 s (i 1))) + x (ix2 (i 0) (i 1))

variable (m : (ℓ : Loc nD τ sig) → Buf (Elt Ideal) ℓ)

abbrev arg0 (c : Dev nD) : S4096x4096.Idx → EReal := m ((c : Thread nD τ).loc main_arg0)
abbrev arg1 (c : Dev nD) : S4096x4096.Idx → EReal := m ((c : Thread nD τ).loc main_arg1)
abbrev arg2 (c : Dev nD) : S4096x4096.Idx → EReal := m ((c : Thread nD τ).loc main_arg2)

/-- Every window's block index at a grid point. -/
theorem idx : ∀ t : Fin cfg0.N, win0_0.index t = ![t.val / 8, t.val % 2]
    ∧ win0_1.index t = ![t.val % 2, t.val / 2 % 4]
    ∧ win0_2.index t = ![t.val / 8, t.val / 2 % 4]
    ∧ win0_3.index t = ![t.val / 8, t.val / 2 % 4] :=
  (by decide +kernel : ∀ t : Fin grid0.N, _)

/-- The row of the whole array at row `r` of point `t`'s block. -/
def row (t : ℕ) (r : Fin 1024) : Fin 4096 := ⟨(t / 8) % 4 * 1024 + r.val, by omega⟩

/-- The column of the whole array at column `r` of point `t`'s block. -/
def col (t : ℕ) (r : Fin 1024) : Fin 4096 := ⟨(t / 2 % 4) % 4 * 1024 + r.val, by omega⟩

/-- The contracted index of the whole array at index `k` of point `t`'s block. -/
def con (t : ℕ) (k : Fin 2048) : Fin 4096 := ⟨(t % 2) % 2 * 2048 + k.val, by omega⟩

/-- Window 0's block. -/
theorem in0 (c : Dev nD) (t : Fin cfg0.N) (r : Fin 1024) (k : Fin 2048) :
    iblk m c 0 t (ix2 r k) = arg0 m c (ix2 (row t.val r) (con t.val k)) := by
  have ht : t.val < 32 := t.isLt
  blk_ext! [iblk, V, row, col, con, idx t]

/-- Window 1's block. -/
theorem in1 (c : Dev nD) (t : Fin cfg0.N) (r : Fin 1024) (k : Fin 2048) :
    iblk m c 1 t (ix2 k r) = arg1 m c (ix2 (con t.val k) (col t.val r)) := by
  have ht : t.val < 32 := t.isLt
  blk_ext! [iblk, V, row, col, con, idx t]

/-- Window 2's block. -/
theorem in2 (c : Dev nD) (t : Fin cfg0.N) (r : Fin 1024) (k : Fin 1024) :
    iblk m c 2 t (ix2 r k) = arg2 m c (ix2 (row t.val r) (col t.val k)) := by
  have ht : t.val < 32 := t.isLt
  blk_ext! [iblk, V, row, col, con, idx t]

/-- One point's contribution to its block. -/
def part (c : Dev nD) (t : ℕ) (y : S1024x1024.Idx) : EReal :=
  ∑ k : Fin 2048, arg0 m c (ix2 (row t (y 0)) (con t k)) * arg1 m c (ix2 (con t k) (col t (y 1)))

/-- What the first point of a run leaves in the accumulator. -/
theorem acc_A (c : Dev nD) (t : Fin cfg0.N) (h0 : t.val % 2 = 0) (y : S1024x1024.Idx) :
    (outsAt0 m c t.val t.isLt).2 y = 0 + part m c t.val y := by
  rw [outsAt0_A m c t h0 (by omega)]
  frame_out
  unfold_payloads
  pointwise [part, in0, in1, in2]

/-- What a later point of a run leaves in the accumulator. -/
theorem acc_B (c : Dev nD) (t : Fin cfg0.N) (h0 : ¬ t.val % 2 = 0) (y : S1024x1024.Idx) :
    (outsAt0 m c t.val t.isLt).2 y = (outsAt0 m c (t.val - 1) (by omega)).2 y + part m c t.val y := by
  rw [outsAt0_B m c t h0 (by omega)]
  frame_out
  unfold_payloads
  pointwise [part, in0, in1, in2]
  rw [read_unread_whole]

/-- The last point of a run writes its block from the accumulator. -/
theorem out_C (c : Dev nD) (t : Fin cfg0.N) (h1 : t.val % 2 = 1) (y : S1024x1024.Idx) :
    (outsAt0 m c t.val t.isLt).1 y = (outsAt0 m c t.val t.isLt).2 y + arg2 m c (ix2 (row t.val (y 0)) (col t.val (y 1))) := by
  idx_vars y
  rw [outsAt0_B m c t (by omega) h1]
  frame_out
  unfold_payloads
  pointwise [in0, in1, in2]

/-- The block at the point that writes it back. -/
theorem run (c : Dev nD) (t : Fin cfg0.N) (h1 : t.val % 2 = 1) (y : S1024x1024.Idx) :
    (outsAt0 m c t.val t.isLt).1 y = val (arg0 m c) (arg1 m c) (arg2 m c) (ix2 (row t.val (y 0)) (col t.val (y 1))) := by
  have ht : t.val < 32 := t.isLt
  have e := Pipeline.eq_sum_of_reset_step_apply_of_mod (M := EReal) (fun n h => (outsAt0 m c n h).2) 2 (fun _ => 0)
    (part m c) (acc_A m c) (acc_B m c) t h1 y
  rw [out_C m c t h1, e, zero_add, Finset.sum_range]
  refine congrArg (· + _) ?_
  refine Fin.sum_mul_add_congr (S := 2) (n := 2048) fun s k hl => ?_
  have hs : s.val < 2 := s.isLt
  have e_row : row (2 * (t.val / 2) + s.val) = row t.val := funext fun r => Fin.ext (by simp only [row]; omega)
  have e_col : col (2 * (t.val / 2) + s.val) = col t.val := funext fun r => Fin.ext (by simp only [col]; omega)
  have e_con : con (2 * (t.val / 2) + s.val) k = ⟨s.val * 2048 + k.val, hl⟩ := Fin.ext (by simp only [con]; omega)
  simp only [e_row, e_col, e_con]
  rfl

/-- The result array. -/
theorem final (c : Dev nD) : (dats m 0 c).arrAt 3 (cfgs 0).N = val (arg0 m c) (arg1 m c) (arg2 m c) := by
  refine (dats m 0 c).arrAt_eq_of_covers 3 _ (by decide +kernel) fun t hf y => ?_
  have ht : t.val < 32 := t.isLt
  blk_simp
  rw [after0_3, run m c t ((flush0_3 t).mp hf)]
  blk_ext [row, col, con, idx t]

end Cert.OutProjectionIdeal.Hand

namespace Cert.OutProjectionReferenceIdeal.Hand

open Cert.OutProjectionReferenceIdeal Cert.OutProjectionReferenceIdeal.Read Idealize.ShloMosaic

/-- The reference's result. -/
theorem val_eq (a b x : S4096x4096.Idx → EReal) : val_main_v2 (F := Ideal) a b x = Cert.OutProjectionIdeal.Hand.val a b x := by
  funext i
  idx_vars i
  rw [← val_main_v2_eq]
  pointwise [Cert.OutProjectionIdeal.Hand.val]
  exact add_comm _ _

end Cert.OutProjectionReferenceIdeal.Hand

namespace Cert.Proof

open Idealize.ShloMosaic Idealize.SL.Sem Cert.OutProjectionIdeal.Hand

/-- The output projection and the residual sum: the program and its reference agree on the extended reals. -/
theorem outProjection_algebraic : Cert.algebraic_OutProjectionIdeal_OutProjectionReferenceIdeal := by
  intro m g m' g' _ hagree
  refine ⟨fun c => val (arg0 m c) (arg1 m c) (arg2 m c), ?_, ?_⟩
  · refine (θ_run _ _ _).mono (fun r h c => ?_) (Cert.OutProjectionIdeal.Value.run_blocks m g)
    obtain ⟨h0, hk⟩ := h c
    exact ⟨h0.trans (final m c), hk⟩
  · refine (θ_run _ _ _).mono (fun r h c => ?_) (Cert.OutProjectionReferenceIdeal.Value.run m' g')
    obtain ⟨h0, hk⟩ := h c
    obtain ⟨a0, a1, a2⟩ := hagree c
    refine ⟨h0.trans ?_, hk⟩
    rw [Cert.OutProjectionReferenceIdeal.Read.val_main_v2_eq, Cert.OutProjectionReferenceIdeal.Hand.val_eq, a0, a1, a2]

/-- The reference runs to its end, keeps its arguments and uses no semaphore. -/
theorem outProjection_reference_frame : Cert.quiescent_OutProjectionReferenceIdeal := fun m ρ _ =>
  (θ_run Cert.OutProjectionReferenceIdeal.defs _ _).mono (fun r h => ⟨fun c => (h c).2, sem_eq_zero_of_no_sems (by decide) r.2⟩)
    (Cert.OutProjectionReferenceIdeal.Value.run (F := Ideal) m ρ)

end Cert.Proof

end
-- ==== Proof.InProjection.lean ====
/- The combined input projection.

   The normalised residual stream `a` times the weights `b`, one slab of columns per device. -/
module

public import proofs.«01_k».proof.Defs
public import proofs.«01_k».proof.Proof.Gen.InProjectionIdeal.Value
public import proofs.«01_k».proof.Proof.Gen.InProjectionReferenceIdeal.Run
public import proofs.«01_k».proof.Proof.Gen.InProjectionReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InProjectionIdeal.Hand

open Cert.InProjectionIdeal Cert.InProjectionIdeal.Gen Idealize.ShloMosaic Idealize.ShloMosaic.TcCoe Idealize.SL.Sem

/-- The combined input projection, as a function of the arrays. -/
def val (a : S4096x4096.Idx → EReal) (b : S4096x10512.Idx → EReal) : S8x4096x1314.Idx → EReal :=
  fun i => ∑ s : Fin 4096, a (ix2 (i 1) s) * b (ix2 s ⟨(i 0).val * 1314 + (i 2).val, by have h0 : (i 0).val < 8 := (i 0).isLt; have h3 : (i 2).val < 1314 := (i 2).isLt; omega⟩)

variable (m : (ℓ : Loc nD τ sig) → Buf (Elt Ideal) ℓ)

abbrev arg0 (c : Dev nD) : S4096x4096.Idx → EReal := m ((c : Thread nD τ).loc main_arg0)
abbrev arg1 (c : Dev nD) : S4096x10512.Idx → EReal := m ((c : Thread nD τ).loc main_arg1)

/-- Every window's block index at a grid point. -/
theorem idx : ∀ t : Fin cfg0.N, win0_0.index t = ![t.val / 16, t.val % 2]
    ∧ win0_1.index t = ![t.val / 2 % 8, t.val % 2, 0]
    ∧ win0_2.index t = ![t.val / 2 % 8, t.val / 16, 0] :=
  (by decide +kernel : ∀ t : Fin grid0.N, _)

/-- The row of the whole array at row `r` of point `t`'s block. -/
def row (t : ℕ) (r : Fin 1024) : Fin 4096 := ⟨t / 16 % 4 * 1024 + r.val, by omega⟩

/-- The device whose slab point `t` works on. -/
def dev (t : ℕ) : Fin 8 := ⟨t / 2 % 8, by omega⟩

/-- The column of the whole array at column `r` of point `t`'s block. -/
def col (t : ℕ) (r : Fin 1314) : Fin 10512 := ⟨t / 2 % 8 * 1314 + r.val, by omega⟩

/-- The contracted index of the whole array at index `k` of point `t`'s block. -/
def con (t : ℕ) (k : Fin 2048) : Fin 4096 := ⟨t % 2 * 2048 + k.val, by omega⟩

/-- Window 0's block. -/
theorem in0 (c : Dev nD) (t : Fin cfg0.N) (r : Fin 1024) (k : Fin 2048) :
    iblk m c 0 t (ix2 r k) = arg0 m c (ix2 (row t.val r) (con t.val k)) := by
  have ht : t.val < 64 := t.isLt
  blk_ext! [iblk, V, row, dev, col, con, idx t]

/-- Window 1's block. -/
theorem in1 (c : Dev nD) (t : Fin cfg0.N) (r : Fin 1314) (k : Fin 2048) :
    iblk m c 1 t (ix3 0 k r) = arg1 m c (ix2 (con t.val k) (col t.val r)) := by
  have ht : t.val < 64 := t.isLt
  blk_ext! [iblk, V, row, dev, col, con, idx t]

/-- One point's contribution to its block. -/
def part (c : Dev nD) (t : ℕ) (y : S1024x1314.Idx) : EReal :=
  ∑ k : Fin 2048, arg0 m c (ix2 (row t (y 0)) (con t k)) * arg1 m c (ix2 (con t k) (col t (y 1)))

/-- What the first point of a run leaves in the accumulator. -/
theorem acc_A (c : Dev nD) (t : Fin cfg0.N) (h0 : t.val % 2 = 0) (y : S1024x1314.Idx) :
    (outsAt0 m c t.val t.isLt).2 y = 0 + part m c t.val y := by
  rw [outsAt0_A m c t h0 (by omega)]
  frame_out
  unfold_payloads
  pointwise [part, in0, in1]

/-- What a later point of a run leaves in the accumulator. -/
theorem acc_B (c : Dev nD) (t : Fin cfg0.N) (h0 : ¬ t.val % 2 = 0) (y : S1024x1314.Idx) :
    (outsAt0 m c t.val t.isLt).2 y = (outsAt0 m c (t.val - 1) (by omega)).2 y + part m c t.val y := by
  rw [outsAt0_B m c t h0 (by omega)]
  frame_out
  unfold_payloads
  pointwise [part, in0, in1]
  rw [read_unread_whole]

/-- The last point of a run writes its block from the accumulator. -/
theorem out_C (c : Dev nD) (t : Fin cfg0.N) (h1 : t.val % 2 = 1) (y : S1x1024x1314.Idx) :
    (outsAt0 m c t.val t.isLt).1 y = (outsAt0 m c t.val t.isLt).2 (ix2 (y 1) (y 2)) := by
  rw [outsAt0_B m c t (by omega) h1]
  frame_out
  unfold_payloads
  pointwise [in0, in1]

/-- The block at the point that writes it back. -/
theorem run (c : Dev nD) (t : Fin cfg0.N) (h1 : t.val % 2 = 1) (y : S1x1024x1314.Idx) :
    (outsAt0 m c t.val t.isLt).1 y = val (arg0 m c) (arg1 m c) (ix3 (dev t.val) (row t.val (y 1)) (y 2)) := by
  have ht : t.val < 64 := t.isLt
  have e := Pipeline.eq_sum_of_reset_step_apply_of_mod (M := EReal) (fun n h => (outsAt0 m c n h).2) 2 (fun _ => 0)
    (part m c) (acc_A m c) (acc_B m c) t h1 (ix2 (y 1) (y 2))
  rw [out_C m c t h1, e, zero_add, Finset.sum_range]
  refine Fin.sum_mul_add_congr (S := 2) (n := 2048) fun s k hl => ?_
  have hs : s.val < 2 := s.isLt
  have e_row : row (2 * (t.val / 2) + s.val) = row t.val := funext fun r => Fin.ext (by simp only [row]; omega)
  have e_dev : dev (2 * (t.val / 2) + s.val) = dev t.val := Fin.ext (by simp only [dev]; omega)
  have e_col : col (2 * (t.val / 2) + s.val) = col t.val := funext fun r => Fin.ext (by simp only [col]; omega)
  have e_con : con (2 * (t.val / 2) + s.val) k = ⟨s.val * 2048 + k.val, hl⟩ := Fin.ext (by simp only [con]; omega)
  simp only [e_row, e_dev, e_col, e_con]
  rfl

/-- The result array. -/
theorem final (c : Dev nD) : (dats m 0 c).arrAt 2 (cfgs 0).N = val (arg0 m c) (arg1 m c) := by
  refine (dats m 0 c).arrAt_eq_of_covers 2 _ (by decide +kernel) fun t hf y => ?_
  have ht : t.val < 64 := t.isLt
  blk_simp
  rw [after0_2, run m c t ((flush0_2 t).mp hf)]
  blk_ext [row, dev, col, con, idx t]

end Cert.InProjectionIdeal.Hand

namespace Cert.InProjectionReferenceIdeal.Hand

open Cert.InProjectionReferenceIdeal Cert.InProjectionReferenceIdeal.Read Idealize.ShloMosaic

/-- The reference's result. -/
theorem val_eq (a : S4096x4096.Idx → EReal) (b : S4096x10512.Idx → EReal) : val_main_v3 (F := Ideal) a b = Cert.InProjectionIdeal.Hand.val a b := by
  funext i
  idx_vars i
  rw [← val_main_v3_eq]
  pointwise [Cert.InProjectionIdeal.Hand.val]

end Cert.InProjectionReferenceIdeal.Hand

namespace Cert.Proof

open Idealize.ShloMosaic Idealize.SL.Sem Cert.InProjectionIdeal.Hand

/-- The combined input projection: the program and its reference agree on the extended reals. -/
theorem inProjection_algebraic : Cert.algebraic_InProjectionIdeal_InProjectionReferenceIdeal := by
  intro m g m' g' _ hagree
  refine ⟨fun c => val (arg0 m c) (arg1 m c), ?_, ?_⟩
  · refine (θ_run _ _ _).mono (fun r h c => ?_) (Cert.InProjectionIdeal.Value.run_blocks m g)
    obtain ⟨h0, hk⟩ := h c
    exact ⟨h0.trans (final m c), hk⟩
  · refine (θ_run _ _ _).mono (fun r h c => ?_) (Cert.InProjectionReferenceIdeal.Value.run m' g')
    obtain ⟨h0, hk⟩ := h c
    obtain ⟨a0, a1⟩ := hagree c
    refine ⟨h0.trans ?_, hk⟩
    rw [Cert.InProjectionReferenceIdeal.Read.val_main_v3_eq, Cert.InProjectionReferenceIdeal.Hand.val_eq, a0, a1]

/-- The reference runs to its end, keeps its arguments and uses no semaphore. -/
theorem inProjection_reference_frame : Cert.quiescent_InProjectionReferenceIdeal := fun m ρ _ =>
  (θ_run Cert.InProjectionReferenceIdeal.defs _ _).mono (fun r h => ⟨fun c => (h c).2, sem_eq_zero_of_no_sems (by decide) r.2⟩)
    (Cert.InProjectionReferenceIdeal.Value.run (F := Ideal) m ρ)

end Cert.Proof

end
-- ==== Proof.Pieces.lean ====
/- The pieces of the combined input projection's gradient, joined.

   The projection's 10512 columns are split among the token mixers and the gates; its gradient is made of the twelve
   pieces' gradients, laid side by side (the gradients of the two logits come transposed). -/
module

public import Idealize.ShloMosaic.Lib.Pointwise

@[expose] public section

noncomputable section

namespace Cert.Proof

open Idealize.ShloMosaic

/-- Row `r`, column `l` of the twelve pieces side by side. -/
def joined (p0 : (⟨2, ![4096, 2048]⟩ : Shape).Idx → EReal) (p1 : (⟨2, ![4096, 1024]⟩ : Shape).Idx → EReal) (p2 : (⟨2, ![4096, 1024]⟩ : Shape).Idx → EReal) (p3 : (⟨2, ![8, 4096]⟩ : Shape).Idx → EReal) (p4 : (⟨2, ![8, 4096]⟩ : Shape).Idx → EReal) (p5 : (⟨2, ![4096, 1024]⟩ : Shape).Idx → EReal) (p6 : (⟨2, ![4096, 1024]⟩ : Shape).Idx → EReal) (p7 : (⟨2, ![4096, 1024]⟩ : Shape).Idx → EReal) (p8 : (⟨2, ![4096, 1024]⟩ : Shape).Idx → EReal) (p9 : (⟨2, ![4096, 1024]⟩ : Shape).Idx → EReal) (p10 : (⟨2, ![4096, 1024]⟩ : Shape).Idx → EReal) (p11 : (⟨2, ![4096, 256]⟩ : Shape).Idx → EReal)
    (r : Fin 4096) (l : Fin 10512) : EReal :=
  have hl : l.val < 10512 := l.isLt
  if h0 : l.val < 2048 then p0 (ix2 r ⟨l.val, by omega⟩) else
  if h1 : l.val - 2048 < 1024 then p1 (ix2 r ⟨l.val - 2048, by omega⟩) else
  if h2 : l.val - 2048 - 1024 < 1024 then p2 (ix2 r ⟨l.val - 2048 - 1024, by omega⟩) else
  if h3 : l.val - 2048 - 1024 - 1024 < 8 then p3 (ix2 ⟨l.val - 2048 - 1024 - 1024, by omega⟩ r) else
  if h4 : l.val - 2048 - 1024 - 1024 - 8 < 8 then p4 (ix2 ⟨l.val - 2048 - 1024 - 1024 - 8, by omega⟩ r) else
  if h5 : l.val - 2048 - 1024 - 1024 - 8 - 8 < 1024 then p5 (ix2 r ⟨l.val - 2048 - 1024 - 1024 - 8 - 8, by omega⟩) else
  if h6 : l.val - 2048 - 1024 - 1024 - 8 - 8 - 1024 < 1024 then p6 (ix2 r ⟨l.val - 2048 - 1024 - 1024 - 8 - 8 - 1024, by omega⟩) else
  if h7 : l.val - 2048 - 1024 - 1024 - 8 - 8 - 1024 - 1024 < 1024 then p7 (ix2 r ⟨l.val - 2048 - 1024 - 1024 - 8 - 8 - 1024 - 1024, by omega⟩) else
  if h8 : l.val - 2048 - 1024 - 1024 - 8 - 8 - 1024 - 1024 - 1024 < 1024 then p8 (ix2 r ⟨l.val - 2048 - 1024 - 1024 - 8 - 8 - 1024 - 1024 - 1024, by omega⟩) else
  if h9 : l.val - 2048 - 1024 - 1024 - 8 - 8 - 1024 - 1024 - 1024 - 1024 < 1024 then p9 (ix2 r ⟨l.val - 2048 - 1024 - 1024 - 8 - 8 - 1024 - 1024 - 1024 - 1024, by omega⟩) else
  if h10 : l.val - 2048 - 1024 - 1024 - 8 - 8 - 1024 - 1024 - 1024 - 1024 - 1024 < 1024 then p10 (ix2 r ⟨l.val - 2048 - 1024 - 1024 - 8 - 8 - 1024 - 1024 - 1024 - 1024 - 1024, by omega⟩) else
  p11 (ix2 r ⟨l.val - 2048 - 1024 - 1024 - 8 - 8 - 1024 - 1024 - 1024 - 1024 - 1024 - 1024, by omega⟩)

variable (p0 : (⟨2, ![4096, 2048]⟩ : Shape).Idx → EReal) (p1 : (⟨2, ![4096, 1024]⟩ : Shape).Idx → EReal) (p2 : (⟨2, ![4096, 1024]⟩ : Shape).Idx → EReal) (p3 : (⟨2, ![8, 4096]⟩ : Shape).Idx → EReal) (p4 : (⟨2, ![8, 4096]⟩ : Shape).Idx → EReal) (p5 : (⟨2, ![4096, 1024]⟩ : Shape).Idx → EReal) (p6 : (⟨2, ![4096, 1024]⟩ : Shape).Idx → EReal) (p7 : (⟨2, ![4096, 1024]⟩ : Shape).Idx → EReal) (p8 : (⟨2, ![4096, 1024]⟩ : Shape).Idx → EReal) (p9 : (⟨2, ![4096, 1024]⟩ : Shape).Idx → EReal) (p10 : (⟨2, ![4096, 1024]⟩ : Shape).Idx → EReal) (p11 : (⟨2, ![4096, 256]⟩ : Shape).Idx → EReal)

/-- A column in piece 0. -/
theorem joined_0 (r : Fin 4096) (l : Fin 10512) (j : Fin 2048) (h : l.val = 0 + j.val) :
    joined p0 p1 p2 p3 p4 p5 p6 p7 p8 p9 p10 p11 r l = p0 (ix2 r j) := by
  have hj : j.val < 2048 := j.isLt
  unfold joined
  dsimp only
  rw [dif_pos (by show _ < _; omega)]
  exact congrArg (fun j => p0 (ix2 r j)) (Fin.ext (by show l.val = j.val; omega))

/-- A column in piece 1. -/
theorem joined_1 (r : Fin 4096) (l : Fin 10512) (j : Fin 1024) (h : l.val = 2048 + j.val) :
    joined p0 p1 p2 p3 p4 p5 p6 p7 p8 p9 p10 p11 r l = p1 (ix2 r j) := by
  have hj : j.val < 1024 := j.isLt
  unfold joined
  dsimp only
  rw [dif_neg (by show ¬ _ < _; omega), dif_pos (by show _ < _; omega)]
  exact congrArg (fun j => p1 (ix2 r j)) (Fin.ext (by show l.val - 2048 = j.val; omega))

/-- A column in piece 2. -/
theorem joined_2 (r : Fin 4096) (l : Fin 10512) (j : Fin 1024) (h : l.val = 3072 + j.val) :
    joined p0 p1 p2 p3 p4 p5 p6 p7 p8 p9 p10 p11 r l = p2 (ix2 r j) := by
  have hj : j.val < 1024 := j.isLt
  unfold joined
  dsimp only
  rw [dif_neg (by show ¬ _ < _; omega), dif_neg (by show ¬ _ < _; omega), dif_pos (by show _ < _; omega)]
  exact congrArg (fun j => p2 (ix2 r j)) (Fin.ext (by show l.val - 2048 - 1024 = j.val; omega))

/-- A column in piece 3. -/
theorem joined_3 (r : Fin 4096) (l : Fin 10512) (j : Fin 8) (h : l.val = 4096 + j.val) :
    joined p0 p1 p2 p3 p4 p5 p6 p7 p8 p9 p10 p11 r l = p3 (ix2 j r) := by
  have hj : j.val < 8 := j.isLt
  unfold joined
  dsimp only
  rw [dif_neg (by show ¬ _ < _; omega), dif_neg (by show ¬ _ < _; omega), dif_neg (by show ¬ _ < _; omega), dif_pos (by show _ < _; omega)]
  exact congrArg (fun j => p3 (ix2 j r)) (Fin.ext (by show l.val - 2048 - 1024 - 1024 = j.val; omega))

/-- A column in piece 4. -/
theorem joined_4 (r : Fin 4096) (l : Fin 10512) (j : Fin 8) (h : l.val = 4104 + j.val) :
    joined p0 p1 p2 p3 p4 p5 p6 p7 p8 p9 p10 p11 r l = p4 (ix2 j r) := by
  have hj : j.val < 8 := j.isLt
  unfold joined
  dsimp only
  rw [dif_neg (by show ¬ _ < _; omega), dif_neg (by show ¬ _ < _; omega), dif_neg (by show ¬ _ < _; omega), dif_neg (by show ¬ _ < _; omega), dif_pos (by show _ < _; omega)]
  exact congrArg (fun j => p4 (ix2 j r)) (Fin.ext (by show l.val - 2048 - 1024 - 1024 - 8 = j.val; omega))

/-- A column in piece 5. -/
theorem joined_5 (r : Fin 4096) (l : Fin 10512) (j : Fin 1024) (h : l.val = 4112 + j.val) :
    joined p0 p1 p2 p3 p4 p5 p6 p7 p8 p9 p10 p11 r l = p5 (ix2 r j) := by
  have hj : j.val < 1024 := j.isLt
  unfold joined
  dsimp only
  rw [dif_neg (by show ¬ _ < _; omega), dif_neg (by show ¬ _ < _; omega), dif_neg (by show ¬ _ < _; omega), dif_neg (by show ¬ _ < _; omega), dif_neg (by show ¬ _ < _; omega), dif_pos (by show _ < _; omega)]
  exact congrArg (fun j => p5 (ix2 r j)) (Fin.ext (by show l.val - 2048 - 1024 - 1024 - 8 - 8 = j.val; omega))

/-- A column in piece 6. -/
theorem joined_6 (r : Fin 4096) (l : Fin 10512) (j : Fin 1024) (h : l.val = 5136 + j.val) :
    joined p0 p1 p2 p3 p4 p5 p6 p7 p8 p9 p10 p11 r l = p6 (ix2 r j) := by
  have hj : j.val < 1024 := j.isLt
  unfold joined
  dsimp only
  rw [dif_neg (by show ¬ _ < _; omega), dif_neg (by show ¬ _ < _; omega), dif_neg (by show ¬ _ < _; omega), dif_neg (by show ¬ _ < _; omega), dif_neg (by show ¬ _ < _; omega), dif_neg (by show ¬ _ < _; omega), dif_pos (by show _ < _; omega)]
  exact congrArg (fun j => p6 (ix2 r j)) (Fin.ext (by show l.val - 2048 - 1024 - 1024 - 8 - 8 - 1024 = j.val; omega))

/-- A column in piece 7. -/
theorem joined_7 (r : Fin 4096) (l : Fin 10512) (j : Fin 1024) (h : l.val = 6160 + j.val) :
    joined p0 p1 p2 p3 p4 p5 p6 p7 p8 p9 p10 p11 r l = p7 (ix2 r j) := by
  have hj : j.val < 1024 := j.isLt
  unfold joined
  dsimp only
  rw [dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_pos (by show _ < _; omega)]
  exact congrArg (fun j => p7 (ix2 r j)) (Fin.ext (by show l.val - 2048 - 1024 - 1024 - 8 - 8 - 1024 - 1024 = j.val; omega))

/-- A column in piece 8. -/
theorem joined_8 (r : Fin 4096) (l : Fin 10512) (j : Fin 1024) (h : l.val = 7184 + j.val) :
    joined p0 p1 p2 p3 p4 p5 p6 p7 p8 p9 p10 p11 r l = p8 (ix2 r j) := by
  have hj : j.val < 1024 := j.isLt
  unfold joined
  dsimp only
  rw [dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_pos (by show _ < _; omega)]
  exact congrArg (fun j => p8 (ix2 r j)) (Fin.ext (by show l.val - 2048 - 1024 - 1024 - 8 - 8 - 1024 - 1024 - 1024 = j.val; omega))

/-- A column in piece 9. -/
theorem joined_9 (r : Fin 4096) (l : Fin 10512) (j : Fin 1024) (h : l.val = 8208 + j.val) :
    joined p0 p1 p2 p3 p4 p5 p6 p7 p8 p9 p10 p11 r l = p9 (ix2 r j) := by
  have hj : j.val < 1024 := j.isLt
  unfold joined
  dsimp only
  rw [dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_pos (by show _ < _; omega)]
  exact congrArg (fun j => p9 (ix2 r j)) (Fin.ext (by show l.val - 2048 - 1024 - 1024 - 8 - 8 - 1024 - 1024 - 1024 - 1024 = j.val; omega))

/-- A column in piece 10. -/
theorem joined_10 (r : Fin 4096) (l : Fin 10512) (j : Fin 1024) (h : l.val = 9232 + j.val) :
    joined p0 p1 p2 p3 p4 p5 p6 p7 p8 p9 p10 p11 r l = p10 (ix2 r j) := by
  have hj : j.val < 1024 := j.isLt
  unfold joined
  dsimp only
  rw [dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_pos (by show _ < _; omega)]
  exact congrArg (fun j => p10 (ix2 r j)) (Fin.ext (by show l.val - 2048 - 1024 - 1024 - 8 - 8 - 1024 - 1024 - 1024 - 1024 - 1024 = j.val; omega))

/-- A column in piece 11. -/
theorem joined_11 (r : Fin 4096) (l : Fin 10512) (j : Fin 256) (h : l.val = 10256 + j.val) :
    joined p0 p1 p2 p3 p4 p5 p6 p7 p8 p9 p10 p11 r l = p11 (ix2 r j) := by
  have hj : j.val < 256 := j.isLt
  unfold joined
  dsimp only
  rw [dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega), dif_neg (by show ¬ _ < _; omega)]
  exact congrArg (fun j => p11 (ix2 r j)) (Fin.ext (by show l.val - 2048 - 1024 - 1024 - 8 - 8 - 1024 - 1024 - 1024 - 1024 - 1024 - 1024 = j.val; omega))

end Cert.Proof

end
-- ==== Proof.InWeight.lean ====
/- The gradient with respect to the combined input projection's weights.

   At a cotangent `p` of the projection `a · w`, given as the twelve pieces' gradients, this is `aᵀ · p`, one slab of columns per device. -/
module

public import proofs.«01_k».proof.Defs
public import proofs.«01_k».proof.Proof.Gen.InWeightIdeal.Value
public import proofs.«01_k».proof.Proof.Gen.InWeightReferenceIdeal.Run
public import proofs.«01_k».proof.Proof.Gen.InWeightReferenceIdeal.Read
public import Idealize.ShloMosaic.Lib.Pipeline.ValueKit
public import Idealize.ShloMosaic.Lib.Pipeline.ReadBack
public import Idealize.ShloMosaic.Lib.Pointwise
public import proofs.«01_k».proof.Proof.Pieces
public import Idealize.ShloMosaic.Lib.StableHlo.RunRead

@[expose] public section

set_option maxRecDepth 16384

noncomputable section

namespace Cert.InWeightIdeal.Hand

open Cert.InWeightIdeal Cert.InWeightIdeal.Gen Idealize.ShloMosaic Idealize.ShloMosaic.TcCoe Idealize.SL.Sem

/-- The gradient with respect to the combined input projection's weights, as a function of the arrays. -/
def val (x0 : S4096x4096.Idx → EReal) (x1 : S4096x2048.Idx → EReal) (x2 x3 : S4096x1024.Idx → EReal) (x4 x5 : S8x4096.Idx → EReal) (x6 x7 x8 x9 x10 x11 : S4096x1024.Idx → EReal) (x12 : S4096x256.Idx → EReal) : S8x4096x1314.Idx → EReal :=
  fun i => ∑ s : Fin 4096, x0 (ix2 s (i 1)) * Cert.Proof.joined x1 x2 x3 x4 x5 x6 x7 x8 x9 x10 x11 x12 s ⟨(i 0).val * 1314 + (i 2).val, by have h0 : (i 0).val < 8 := (i 0).isLt; have h3 : (i 2).val < 1314 := (i 2).isLt; omega⟩

variable (m : (ℓ : Loc nD τ sig) → Buf (Elt Ideal) ℓ)

abbrev arg0 (c : Dev nD) : S4096x4096.Idx → EReal := m ((c : Thread nD τ).loc main_arg0)
abbrev arg1 (c : Dev nD) : S4096x2048.Idx → EReal := m ((c : Thread nD τ).loc main_arg1)
abbrev arg2 (c : Dev nD) : S4096x1024.Idx → EReal := m ((c : Thread nD τ).loc main_arg2)
abbrev arg3 (c : Dev nD) : S4096x1024.Idx → EReal := m ((c : Thread nD τ).loc main_arg3)
abbrev arg4 (c : Dev nD) : S8x4096.Idx → EReal := m ((c : Thread nD τ).loc main_arg4)
abbrev arg5 (c : Dev nD) : S8x4096.Idx → EReal := m ((c : Thread nD τ).loc main_arg5)
abbrev arg6 (c : Dev nD) : S4096x1024.Idx → EReal := m ((c : Thread nD τ).loc main_arg6)
abbrev arg7 (c : Dev nD) : S4096x1024.Idx → EReal := m ((c : Thread nD τ).loc main_arg7)
abbrev arg8 (c : Dev nD) : S4096x1024.Idx → EReal := m ((c : Thread nD τ).loc main_arg8)
abbrev arg9 (c : Dev nD) : S4096x1024.Idx → EReal := m ((c : Thread nD τ).loc main_arg9)
abbrev arg10 (c : Dev nD) : S4096x1024.Idx → EReal := m ((c : Thread nD τ).loc main_arg10)
abbrev arg11 (c : Dev nD) : S4096x1024.Idx → EReal := m ((c : Thread nD τ).loc main_arg11)
abbrev arg12 (c : Dev nD) : S4096x256.Idx → EReal := m ((c : Thread nD τ).loc main_arg12)

/-- Every window's block index at a grid point. -/
theorem idx : ∀ t : Fin cfg0.N, win0_0.index t = ![t.val % 2, t.val / 16]
    ∧ win0_1.index t = ![t.val / 2 % 8, t.val % 2, 0]
    ∧ win0_2.index t = ![t.val / 2 % 8, t.val / 16, 0] :=
  (by decide +kernel : ∀ t : Fin grid0.N, _)

/-- The row of the whole array at row `r` of point `t`'s block. -/
def row (t : ℕ) (r : Fin 1024) : Fin 4096 := ⟨t / 16 % 4 * 1024 + r.val, by omega⟩

/-- The device whose slab point `t` works on. -/
def dev (t : ℕ) : Fin 8 := ⟨t / 2 % 8, by omega⟩

/-- The column of the whole array at column `r` of point `t`'s block. -/
def col (t : ℕ) (r : Fin 1314) : Fin 10512 := ⟨t / 2 % 8 * 1314 + r.val, by omega⟩

/-- The contracted index of the whole array at index `k` of point `t`'s block. -/
def con (t : ℕ) (k : Fin 2048) : Fin 4096 := ⟨t % 2 * 2048 + k.val, by omega⟩

/-- The twelve pieces side by side, in the program's arguments. -/
abbrev pieces (c : Dev nD) : Fin 4096 → Fin 10512 → EReal :=
  Cert.Proof.joined (arg1 m c) (arg2 m c) (arg3 m c) (arg4 m c) (arg5 m c) (arg6 m c) (arg7 m c) (arg8 m c) (arg9 m c) (arg10 m c) (arg11 m c) (arg12 m c)

/-- The stacked slabs that the host hands the kernel. -/
abbrev stacked (c : Dev nD) : S8x4096x1314.Idx → EReal := V m c main_v33

/-- Slab 0. -/
theorem slab0 (c : Dev nD) (r : Fin 4096) (l : Fin 1314) :
    stacked m c (ix3 0 r l) = pieces m c r ⟨0 * 1314 + l.val, by omega⟩ := by
  show StableHlo.after hostOps0 (fun b => m (c, b)) (Proc.devRef .tc main_v33) _ = _
  after_reads_simp
  pointwise
  after_reads_simp
  pointwise
  try after_reads_simp
  try pointwise
  exact (Cert.Proof.joined_0 _ _ _ _ _ _ _ _ _ _ _ _ _ _ _ (by dsimp only <;> omega)).symm

/-- Slab 1. -/
theorem slab1 (c : Dev nD) (r : Fin 4096) (l : Fin 1314) :
    stacked m c (ix3 1 r l) = pieces m c r ⟨1 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_0 _ _ _ _ _ _ _ _ _ _ _ _ _ _ _ (by dsimp only <;> omega)).symm
  exact (Cert.Proof.joined_1 _ _ _ _ _ _ _ _ _ _ _ _ _ _ _ (by dsimp only <;> omega)).symm

/-- Slab 2. -/
theorem slab2 (c : Dev nD) (r : Fin 4096) (l : Fin 1314) :
    stacked m c (ix3 2 r l) = pieces m c r ⟨2 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_1 _ _ _ _ _ _ _ _ _ _ _ _ _ _ _ (by dsimp only <;> omega)).symm
  exact (Cert.Proof.joined_2 _ _ _ _ _ _ _ _ _ _ _ _ _ _ _ (by dsimp only <;> omega)).symm

/-- Slab 3. -/
theorem slab3 (c : Dev nD) (r : Fin 4096) (l : Fin 1314) :
    stacked m c (ix3 3 r l) = pieces m c r ⟨3 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_2 _ _ _ _ _ _ _ _ _ _ _ _ _ _ _ (by dsimp only <;> omega)).symm
  split
  · exact (Cert.Proof.joined_3 _ _ _ _ _ _ _ _ _ _ _ _ _ _ _ (by dsimp only <;> omega)).symm
  split
  · exact (Cert.Proof.joined_4 _ _ _ _ _ _ _ _ _ _ _ _ _ _ _ (by dsimp only <;> omega)).symm
  split
  · exact (Cert.Proof.joined_5 _ _ _ _ _ _ _ _ _ _ _ _ _ _ _ (by dsimp only <;> omega)).symm
  exact (Cert.Proof.joined_6 _ _ _ _ _ _ _ _ _ _ _ _ _ _ _ (by dsimp only <;> omega)).symm

/-- Slab 4. -/
theorem slab4 (c : Dev nD) (r : Fin 4096) (l : Fin 1314) :
    stacked m c (ix3 4 r l) = pieces m c r ⟨4 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_6 _ _ _ _ _ _ _ _ _ _ _ _ _ _ _ (by dsimp only <;> omega)).symm
  exact (Cert.Proof.joined_7 _ _ _ _ _ _ _ _ _ _ _ _ _ _ _ (by dsimp only <;> omega)).symm

/-- Slab 5. -/
theorem slab5 (c : Dev nD) (r : Fin 4096) (l : Fin 1314) :
    stacked m c (ix3 5 r l) = pieces m c r ⟨5 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_7 _ _ _ _ _ _ _ _ _ _ _ _ _ _ _ (by dsimp only <;> omega)).symm
  exact (Cert.Proof.joined_8 _ _ _ _ _ _ _ _ _ _ _ _ _ _ _ (by dsimp only <;> omega)).symm

/-- Slab 6. -/
theorem slab6 (c : Dev nD) (r : Fin 4096) (l : Fin 1314) :
    stacked m c (ix3 6 r l) = pieces m c r ⟨6 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_8 _ _ _ _ _ _ _ _ _ _ _ _ _ _ _ (by dsimp only <;> omega)).symm
  exact (Cert.Proof.joined_9 _ _ _ _ _ _ _ _ _ _ _ _ _ _ _ (by dsimp only <;> omega)).symm

/-- Slab 7. -/
theorem slab7 (c : Dev nD) (r : Fin 4096) (l : Fin 1314) :
    stacked m c (ix3 7 r l) = pieces m c r ⟨7 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_9 _ _ _ _ _ _ _ _ _ _ _ _ _ _ _ (by dsimp only <;> omega)).symm
  split
  · exact (Cert.Proof.joined_10 _ _ _ _ _ _ _ _ _ _ _ _ _ _ _ (by dsimp only <;> omega)).symm
  exact (Cert.Proof.joined_11 _ _ _ _ _ _ _ _ _ _ _ _ _ _ _ (by dsimp only <;> omega)).symm

/-- Slab `g` holds the columns from `1314 * g` on. -/
theorem slab (c : Dev nD) (g : Fin 8) (r : Fin 4096) (l : Fin 1314) :
    stacked m c (ix3 g r l) = pieces m c r ⟨g.val * 1314 + l.val, by omega⟩ := by
  fin_cases g
  exacts [slab0 m c r l, slab1 m c r l, slab2 m c r l, slab3 m c r l, slab4 m c r l, slab5 m c r l, slab6 m c r l, slab7 m c r l]

/-- Window 0's block. -/
theorem in0 (c : Dev nD) (t : Fin cfg0.N) (r : Fin 1024) (k : Fin 2048) :
    iblk m c 0 t (ix2 k r) = arg0 m c (ix2 (con t.val k) (row t.val r)) := by
  have ht : t.val < 64 := t.isLt
  blk_ext! [iblk, V, row, dev, col, con, idx t]

/-- Window 1's block. -/
theorem in1 (c : Dev nD) (t : Fin cfg0.N) (r : Fin 1314) (k : Fin 2048) :
    iblk m c 1 t (ix3 0 k r) = pieces m c (con t.val k) (col t.val r) := by
  have ht : t.val < 64 := t.isLt
  refine Eq.trans ?_ (slab m c (dev t.val) (con t.val k) r)
  blk_ext! [iblk, dev, con, idx t]

/-- One point's contribution to its block. -/
def part (c : Dev nD) (t : ℕ) (y : S1024x1314.Idx) : EReal :=
  ∑ k : Fin 2048, arg0 m c (ix2 (con t k) (row t (y 0))) * pieces m c (con t k) (col t (y 1))

/-- What the first point of a run leaves in the accumulator. -/
theorem acc_A (c : Dev nD) (t : Fin cfg0.N) (h0 : t.val % 2 = 0) (y : S1024x1314.Idx) :
    (outsAt0 m c t.val t.isLt).2 y = 0 + part m c t.val y := by
  rw [outsAt0_A m c t h0 (by omega)]
  frame_out
  unfold_payloads
  pointwise [part, in0, in1]

/-- What a later point of a run leaves in the accumulator. -/
theorem acc_B (c : Dev nD) (t : Fin cfg0.N) (h0 : ¬ t.val % 2 = 0) (y : S1024x1314.Idx) :
    (outsAt0 m c t.val t.isLt).2 y = (outsAt0 m c (t.val - 1) (by omega)).2 y + part m c t.val y := by
  rw [outsAt0_B m c t h0 (by omega)]
  frame_out
  unfold_payloads
  pointwise [part, in0, in1]
  rw [read_unread_whole]

/-- The last point of a run writes its block from the accumulator. -/
theorem out_C (c : Dev nD) (t : Fin cfg0.N) (h1 : t.val % 2 = 1) (y : S1x1024x1314.Idx) :
    (outsAt0 m c t.val t.isLt).1 y = (outsAt0 m c t.val t.isLt).2 (ix2 (y 1) (y 2)) := by
  rw [outsAt0_B m c t (by omega) h1]
  frame_out
  unfold_payloads
  pointwise [in0, in1]

/-- The block at the point that writes it back. -/
theorem run (c : Dev nD) (t : Fin cfg0.N) (h1 : t.val % 2 = 1) (y : S1x1024x1314.Idx) :
    (outsAt0 m c t.val t.isLt).1 y = val (arg0 m c) (arg1 m c) (arg2 m c) (arg3 m c) (arg4 m c) (arg5 m c) (arg6 m c) (arg7 m c) (arg8 m c) (arg9 m c) (arg10 m c) (arg11 m c) (arg12 m c) (ix3 (dev t.val) (row t.val (y 1)) (y 2)) := by
  have ht : t.val < 64 := t.isLt
  have e := Pipeline.eq_sum_of_reset_step_apply_of_mod (M := EReal) (fun n h => (outsAt0 m c n h).2) 2 (fun _ => 0)
    (part m c) (acc_A m c) (acc_B m c) t h1 (ix2 (y 1) (y 2))
  rw [out_C m c t h1, e, zero_add, Finset.sum_range]
  refine Fin.sum_mul_add_congr (S := 2) (n := 2048) fun s k hl => ?_
  have hs : s.val < 2 := s.isLt
  have e_row : row (2 * (t.val / 2) + s.val) = row t.val := funext fun r => Fin.ext (by simp only [row]; omega)
  have e_dev : dev (2 * (t.val / 2) + s.val) = dev t.val := Fin.ext (by simp only [dev]; omega)
  have e_col : col (2 * (t.val / 2) + s.val) = col t.val := funext fun r => Fin.ext (by simp only [col]; omega)
  have e_con : con (2 * (t.val / 2) + s.val) k = ⟨s.val * 2048 + k.val, hl⟩ := Fin.ext (by simp only [con]; omega)
  simp only [e_row, e_dev, e_col, e_con]
  rfl

/-- The result array. -/
theorem final (c : Dev nD) : (dats m 0 c).arrAt 2 (cfgs 0).N = val (arg0 m c) (arg1 m c) (arg2 m c) (arg3 m c) (arg4 m c) (arg5 m c) (arg6 m c) (arg7 m c) (arg8 m c) (arg9 m c) (arg10 m c) (arg11 m c) (arg12 m c) := by
  refine (dats m 0 c).arrAt_eq_of_covers 2 _ (by decide +kernel) fun t hf y => ?_
  have ht : t.val < 64 := t.isLt
  blk_simp
  rw [after0_2, run m c t ((flush0_2 t).mp hf)]
  blk_ext [row, dev, col, con, idx t]

end Cert.InWeightIdeal.Hand

namespace Cert.InWeightReferenceIdeal.Hand

open Cert.InWeightReferenceIdeal Cert.InWeightReferenceIdeal.Read Idealize.ShloMosaic

/-- The reference's joined pieces. -/
theorem joined_eq (x1 : S4096x2048.Idx → EReal) (x2 x3 : S4096x1024.Idx → EReal) (x4 x5 : S8x4096.Idx → EReal) (x6 x7 x8 x9 x10 x11 : S4096x1024.Idx → EReal) (x12 : S4096x256.Idx → EReal) (r : Fin 4096) (l : Fin 10512) :
    val_main_v12 (F := Ideal) x1 x2 x3 x4 x5 x6 x7 x8 x9 x10 x11 x12 (ix2 r l) = Cert.Proof.joined x1 x2 x3 x4 x5 x6 x7 x8 x9 x10 x11 x12 r l := by
  unfold val_main_v12 val_main_v0 val_main_v1 val_main_v2 val_main_v3 val_main_v4 val_main_v5 val_main_v6 val_main_v7 val_main_v8 val_main_v9 val_main_v10 val_main_v11
  pointwise [Cert.Proof.joined]

/-- The same at an index that need not be spelt out. -/
theorem joined_at (x1 : S4096x2048.Idx → EReal) (x2 x3 : S4096x1024.Idx → EReal) (x4 x5 : S8x4096.Idx → EReal) (x6 x7 x8 x9 x10 x11 : S4096x1024.Idx → EReal) (x12 : S4096x256.Idx → EReal) (i : S4096x10512.Idx) :
    val_main_v12 (F := Ideal) x1 x2 x3 x4 x5 x6 x7 x8 x9 x10 x11 x12 i = Cert.Proof.joined x1 x2 x3 x4 x5 x6 x7 x8 x9 x10 x11 x12 (i 0) (i 1) := by
  idx_vars i
  exact joined_eq x1 x2 x3 x4 x5 x6 x7 x8 x9 x10 x11 x12 _ _

/-- The reference's result. -/
theorem val_eq (x0 : S4096x4096.Idx → EReal) (x1 : S4096x2048.Idx → EReal) (x2 x3 : S4096x1024.Idx → EReal) (x4 x5 : S8x4096.Idx → EReal) (x6 x7 x8 x9 x10 x11 : S4096x1024.Idx → EReal) (x12 : S4096x256.Idx → EReal) : val_main_v20 (F := Ideal) x0 x1 x2 x3 x4 x5 x6 x7 x8 x9 x10 x11 x12 = Cert.InWeightIdeal.Hand.val x0 x1 x2 x3 x4 x5 x6 x7 x8 x9 x10 x11 x12 := by
  funext i
  have h0 : (i 0).val < 8 := (i 0).isLt
  have h1 : (i 1).val < 4096 := (i 1).isLt
  have h2 : (i 2).val < 1314 := (i 2).isLt
  rw [val_main_v20_apply, val_main_v19_apply, val_main_v18_apply, val_main_v17_apply, val_main_v16_apply]
  refine (Finset.sum_congr (M := EReal) (s₁ := (Finset.univ : Finset (Fin 4096))) rfl fun s _ => ?_)
  rw [joined_at]
  refine (mul_comm _ _).trans (congrArg₂ (· * ·) (congrArg x0 (funext fun a => Fin.ext ?_))
    (congrArg₂ (Cert.Proof.joined x1 x2 x3 x4 x5 x6 x7 x8 x9 x10 x11 x12) (Fin.ext ?_) (Fin.ext ?_)))
  · match a with
    | ⟨0, _⟩ => rfl
    | ⟨1, _⟩ => show (((i 1).val * 8 + (i 0).val) * 1314 + (i 2).val) / 10512 = (i 1).val; omega
  · rfl
  · show (((i 1).val * 8 + (i 0).val) * 1314 + (i 2).val) % 10512 = (i 0).val * 1314 + (i 2).val; omega

end Cert.InWeightReferenceIdeal.Hand

namespace Cert.Proof

open Idealize.ShloMosaic Idealize.SL.Sem Cert.InWeightIdeal.Hand

/-- The gradient with respect to the combined input projection's weights: the program and its reference agree on the extended reals. -/
theorem inWeight_algebraic : Cert.algebraic_InWeightIdeal_InWeightReferenceIdeal := by
  intro m g m' g' _ hagree
  refine ⟨fun c => val (arg0 m c) (arg1 m c) (arg2 m c) (arg3 m c) (arg4 m c) (arg5 m c) (arg6 m c) (arg7 m c) (arg8 m c) (arg9 m c) (arg10 m c) (arg11 m c) (arg12 m c), ?_, ?_⟩
  · refine (θ_run _ _ _).mono (fun r h c => ?_) (Cert.InWeightIdeal.Value.run_blocks m g)
    obtain ⟨h0, hk⟩ := h c
    exact ⟨h0.trans (final m c), hk⟩
  · refine (θ_run _ _ _).mono (fun r h c => ?_) (Cert.InWeightReferenceIdeal.Value.run m' g')
    obtain ⟨h0, hk⟩ := h c
    obtain ⟨a0, a1, a2, a3, a4, a5, a6, a7, a8, a9, a10, a11, a12⟩ := hagree c
    refine ⟨h0.trans ?_, hk⟩
    rw [Cert.InWeightReferenceIdeal.Read.val_main_v20_eq, Cert.InWeightReferenceIdeal.Hand.val_eq, a0, a1, a2, a3, a4, a5, a6, a7, a8, a9, a10, a11, a12]

/-- The reference runs to its end, keeps its arguments and uses no semaphore. -/
theorem inWeight_reference_frame : Cert.quiescent_InWeightReferenceIdeal := fun m ρ _ =>
  (θ_run Cert.InWeightReferenceIdeal.defs _ _).mono (fun r h => ⟨fun c => (h c).2, sem_eq_zero_of_no_sems (by decide) r.2⟩)
    (Cert.InWeightReferenceIdeal.Value.run (F := Ideal) m ρ)

end Cert.Proof

end
-- ==== Proof.HiddenGradient.lean ====
/- The gradient with respect to the normalised residual stream.

   At a cotangent `p` of the projection `h · w`, given as the twelve pieces' gradients, this is `p · wᵀ`, accumulated slab by slab. -/
module

public import proofs.«01_k».proof.Defs
public import proofs.«01_k».proof.Proof.Gen.HiddenGradientIdeal.Value
public import proofs.«01_k».proof.Proof.Gen.HiddenGradientReferenceIdeal.Run
public import proofs.«01_k».proof.Proof.Gen.HiddenGradientReferenceIdeal.Read
public import Idealize.ShloMosaic.Lib.Pipeline.ValueKit
public import Idealize.ShloMosaic.Lib.Pipeline.ReadBack
public import Idealize.ShloMosaic.Lib.Pointwise
public import proofs.«01_k».proof.Proof.Pieces
public import Idealize.ShloMosaic.Lib.StableHlo.RunRead

@[expose] public section

set_option maxRecDepth 16384

noncomputable section

namespace Cert.HiddenGradientIdeal.Hand

open Cert.HiddenGradientIdeal Cert.HiddenGradientIdeal.Gen Idealize.ShloMosaic Idealize.ShloMosaic.TcCoe Idealize.SL.Sem

/-- The gradient with respect to the normalised residual stream, as a function of the arrays. -/
def val (x0 : S4096x10512.Idx → EReal) (x1 : S4096x2048.Idx → EReal) (x2 x3 : S4096x1024.Idx → EReal) (x4 x5 : S8x4096.Idx → EReal) (x6 x7 x8 x9 x10 x11 : S4096x1024.Idx → EReal) (x12 : S4096x256.Idx → EReal) : S4096x4096.Idx → EReal :=
  fun i => ∑ s : Fin 10512, Cert.Proof.joined x1 x2 x3 x4 x5 x6 x7 x8 x9 x10 x11 x12 (i 0) s * x0 (ix2 (i 1) s)

variable (m : (ℓ : Loc nD τ sig) → Buf (Elt Ideal) ℓ)

abbrev arg0 (c : Dev nD) : S4096x10512.Idx → EReal := m ((c : Thread nD τ).loc main_arg0)
abbrev arg1 (c : Dev nD) : S4096x2048.Idx → EReal := m ((c : Thread nD τ).loc main_arg1)
abbrev arg2 (c : Dev nD) : S4096x1024.Idx → EReal := m ((c : Thread nD τ).loc main_arg2)
abbrev arg3 (c : Dev nD) : S4096x1024.Idx → EReal := m ((c : Thread nD τ).loc main_arg3)
abbrev arg4 (c : Dev nD) : S8x4096.Idx → EReal := m ((c : Thread nD τ).loc main_arg4)
abbrev arg5 (c : Dev nD) : S8x4096.Idx → EReal := m ((c : Thread nD τ).loc main_arg5)
abbrev arg6 (c : Dev nD) : S4096x1024.Idx → EReal := m ((c : Thread nD τ).loc main_arg6)
abbrev arg7 (c : Dev nD) : S4096x1024.Idx → EReal := m ((c : Thread nD τ).loc main_arg7)
abbrev arg8 (c : Dev nD) : S4096x1024.Idx → EReal := m ((c : Thread nD τ).loc main_arg8)
abbrev arg9 (c : Dev nD) : S4096x1024.Idx → EReal := m ((c : Thread nD τ).loc main_arg9)
abbrev arg10 (c : Dev nD) : S4096x1024.Idx → EReal := m ((c : Thread nD τ).loc main_arg10)
abbrev arg11 (c : Dev nD) : S4096x1024.Idx → EReal := m ((c : Thread nD τ).loc main_arg11)
abbrev arg12 (c : Dev nD) : S4096x256.Idx → EReal := m ((c : Thread nD τ).loc main_arg12)

/-- Every window's block index at a grid point. -/
theorem idx : ∀ t : Fin cfg0.N, win0_0.index t = ![t.val % 8, t.val / 32, 0]
    ∧ win0_1.index t = ![t.val % 8, t.val / 8 % 4, 0]
    ∧ win0_2.index t = ![t.val / 32, t.val / 8 % 4] :=
  (by decide +kernel : ∀ t : Fin grid0.N, _)

/-- The row of the whole array at row `r` of point `t`'s block. -/
def row (t : ℕ) (r : Fin 1024) : Fin 4096 := ⟨t / 32 % 4 * 1024 + r.val, by omega⟩

/-- The slab that point `t` works on. -/
def dev (t : ℕ) : Fin 8 := ⟨t % 8, by omega⟩

/-- The column of the whole array at column `r` of point `t`'s block. -/
def col (t : ℕ) (r : Fin 1024) : Fin 4096 := ⟨t / 8 % 4 * 1024 + r.val, by omega⟩

/-- The contracted index of the whole array at index `k` of point `t`'s block. -/
def con (t : ℕ) (k : Fin 1314) : Fin 10512 := ⟨t % 8 * 1314 + k.val, by omega⟩

/-- The twelve pieces side by side, in the program's arguments. -/
abbrev pieces (c : Dev nD) : Fin 4096 → Fin 10512 → EReal :=
  Cert.Proof.joined (arg1 m c) (arg2 m c) (arg3 m c) (arg4 m c) (arg5 m c) (arg6 m c) (arg7 m c) (arg8 m c) (arg9 m c) (arg10 m c) (arg11 m c) (arg12 m c)

/-- The stacked slabs that the host hands the kernel. -/
abbrev stacked (c : Dev nD) : S8x4096x1314.Idx → EReal := V m c main_v33

/-- Slab 0. -/
theorem slab0 (c : Dev nD) (r : Fin 4096) (l : Fin 1314) :
    stacked m c (ix3 0 r l) = pieces m c r ⟨0 * 1314 + l.val, by omega⟩ := by
  show StableHlo.after hostOps0 (fun b => m (c, b)) (Proc.devRef .tc main_v33) _ = _
  after_reads_simp
  pointwise
  after_reads_simp
  pointwise
  try after_reads_simp
  try pointwise
  exact (Cert.Proof.joined_0 _ _ _ _ _ _ _ _ _ _ _ _ _ _ _ (by dsimp only <;> omega)).symm

/-- Slab 1. -/
theorem slab1 (c : Dev nD) (r : Fin 4096) (l : Fin 1314) :
    stacked m c (ix3 1 r l) = pieces m c r ⟨1 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_0 _ _ _ _ _ _ _ _ _ _ _ _ _ _ _ (by dsimp only <;> omega)).symm
  exact (Cert.Proof.joined_1 _ _ _ _ _ _ _ _ _ _ _ _ _ _ _ (by dsimp only <;> omega)).symm

/-- Slab 2. -/
theorem slab2 (c : Dev nD) (r : Fin 4096) (l : Fin 1314) :
    stacked m c (ix3 2 r l) = pieces m c r ⟨2 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_1 _ _ _ _ _ _ _ _ _ _ _ _ _ _ _ (by dsimp only <;> omega)).symm
  exact (Cert.Proof.joined_2 _ _ _ _ _ _ _ _ _ _ _ _ _ _ _ (by dsimp only <;> omega)).symm

/-- Slab 3. -/
theorem slab3 (c : Dev nD) (r : Fin 4096) (l : Fin 1314) :
    stacked m c (ix3 3 r l) = pieces m c r ⟨3 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_2 _ _ _ _ _ _ _ _ _ _ _ _ _ _ _ (by dsimp only <;> omega)).symm
  split
  · exact (Cert.Proof.joined_3 _ _ _ _ _ _ _ _ _ _ _ _ _ _ _ (by dsimp only <;> omega)).symm
  split
  · exact (Cert.Proof.joined_4 _ _ _ _ _ _ _ _ _ _ _ _ _ _ _ (by dsimp only <;> omega)).symm
  split
  · exact (Cert.Proof.joined_5 _ _ _ _ _ _ _ _ _ _ _ _ _ _ _ (by dsimp only <;> omega)).symm
  exact (Cert.Proof.joined_6 _ _ _ _ _ _ _ _ _ _ _ _ _ _ _ (by dsimp only <;> omega)).symm

/-- Slab 4. -/
theorem slab4 (c : Dev nD) (r : Fin 4096) (l : Fin 1314) :
    stacked m c (ix3 4 r l) = pieces m c r ⟨4 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_6 _ _ _ _ _ _ _ _ _ _ _ _ _ _ _ (by dsimp only <;> omega)).symm
  exact (Cert.Proof.joined_7 _ _ _ _ _ _ _ _ _ _ _ _ _ _ _ (by dsimp only <;> omega)).symm

/-- Slab 5. -/
theorem slab5 (c : Dev nD) (r : Fin 4096) (l : Fin 1314) :
    stacked m c (ix3 5 r l) = pieces m c r ⟨5 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_7 _ _ _ _ _ _ _ _ _ _ _ _ _ _ _ (by dsimp only <;> omega)).symm
  exact (Cert.Proof.joined_8 _ _ _ _ _ _ _ _ _ _ _ _ _ _ _ (by dsimp only <;> omega)).symm

/-- Slab 6. -/
theorem slab6 (c : Dev nD) (r : Fin 4096) (l : Fin 1314) :
    stacked m c (ix3 6 r l) = pieces m c r ⟨6 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_8 _ _ _ _ _ _ _ _ _ _ _ _ _ _ _ (by dsimp only <;> omega)).symm
  exact (Cert.Proof.joined_9 _ _ _ _ _ _ _ _ _ _ _ _ _ _ _ (by dsimp only <;> omega)).symm

/-- Slab 7. -/
theorem slab7 (c : Dev nD) (r : Fin 4096) (l : Fin 1314) :
    stacked m c (ix3 7 r l) = pieces m c r ⟨7 * 1314 + l.val, by omega⟩ := by
  show StableHlo.after hostOps0 (fun b => m (c, b)) (Proc.devRef .tc main_v33) _ = _
  after_reads_simp
  pointwise
  after_reads_simp
  pointwise
  try after_reads_simp
  try pointwise
  split
  · exact (Cert.Proof.joined_9 _ _ _ _ _ _ _ _ _ _ _ _ _ _ _ (by dsimp only <;> omega)).symm
  split
  · exact (Cert.Proof.joined_10 _ _ _ _ _ _ _ _ _ _ _ _ _ _ _ (by dsimp only <;> omega)).symm
  exact (Cert.Proof.joined_11 _ _ _ _ _ _ _ _ _ _ _ _ _ _ _ (by dsimp only <;> omega)).symm

/-- Slab `g` holds the columns from `1314 * g` on. -/
theorem slab (c : Dev nD) (g : Fin 8) (r : Fin 4096) (l : Fin 1314) :
    stacked m c (ix3 g r l) = pieces m c r ⟨g.val * 1314 + l.val, by omega⟩ := by
  fin_cases g
  exacts [slab0 m c r l, slab1 m c r l, slab2 m c r l, slab3 m c r l, slab4 m c r l, slab5 m c r l, slab6 m c r l, slab7 m c r l]

/-- Window 0's block. -/
theorem in0 (c : Dev nD) (t : Fin cfg0.N) (r : Fin 1024) (k : Fin 1314) :
    iblk m c 0 t (ix3 0 r k) = pieces m c (row t.val r) (con t.val k) := by
  have ht : t.val < 128 := t.isLt
  refine Eq.trans ?_ (slab m c (dev t.val) (row t.val r) k)
  blk_ext! [iblk, dev, row, idx t]

/-- Window 1's block. -/
theorem in1 (c : Dev nD) (t : Fin cfg0.N) (r : Fin 1024) (k : Fin 1314) :
    iblk m c 1 t (ix3 0 r k) = arg0 m c (ix2 (col t.val r) (con t.val k)) := by
  have ht : t.val < 128 := t.isLt
  blk_ext! [iblk, V, row, dev, col, con, idx t]

/-- One point's contribution to its block. -/
def part (c : Dev nD) (t : ℕ) (y : S1024x1024.Idx) : EReal :=
  ∑ k : Fin 1314, pieces m c (row t (y 0)) (con t k) * arg0 m c (ix2 (col t (y 1)) (con t k))

/-- What the first point of a run leaves in the accumulator. -/
theorem acc_A (c : Dev nD) (t : Fin cfg0.N) (h0 : t.val % 8 = 0) (y : S1024x1024.Idx) :
    (outsAt0 m c t.val t.isLt).2 y = 0 + part m c t.val y := by
  rw [outsAt0_A m c t h0 (by omega)]
  frame_out
  unfold_payloads
  pointwise [part, in0, in1]

/-- What a later point of a run leaves in the accumulator. -/
theorem acc_B (c : Dev nD) (t : Fin cfg0.N) (h0 : ¬ t.val % 8 = 0) (y : S1024x1024.Idx) :
    (outsAt0 m c t.val t.isLt).2 y = (outsAt0 m c (t.val - 1) (by omega)).2 y + part m c t.val y := by
  by_cases h1 : t.val % 8 = 7
  · rw [outsAt0_C m c t h0 h1]
    frame_out
    unfold_payloads
    pointwise [part, in0, in1]
    rw [read_unread_whole]
  · rw [outsAt0_B m c t h0 h1]
    frame_out
    unfold_payloads
    pointwise [part, in0, in1]
    rw [read_unread_whole]

/-- The last point of a run writes its block from the accumulator. -/
theorem out_C (c : Dev nD) (t : Fin cfg0.N) (h1 : t.val % 8 = 7) (y : S1024x1024.Idx) :
    (outsAt0 m c t.val t.isLt).1 y = (outsAt0 m c t.val t.isLt).2 y := by
  rw [outsAt0_C m c t (by omega) h1]
  frame_out

/-- The block at the point that writes it back. -/
theorem run (c : Dev nD) (t : Fin cfg0.N) (h1 : t.val % 8 = 7) (y : S1024x1024.Idx) :
    (outsAt0 m c t.val t.isLt).1 y = val (arg0 m c) (arg1 m c) (arg2 m c) (arg3 m c) (arg4 m c) (arg5 m c) (arg6 m c) (arg7 m c) (arg8 m c) (arg9 m c) (arg10 m c) (arg11 m c) (arg12 m c) (ix2 (row t.val (y 0)) (col t.val (y 1))) := by
  have ht : t.val < 128 := t.isLt
  have e := Pipeline.eq_sum_of_reset_step_apply_of_mod (M := EReal) (fun n h => (outsAt0 m c n h).2) 8 (fun _ => 0)
    (part m c) (acc_A m c) (acc_B m c) t h1 y
  rw [out_C m c t h1, e, zero_add, Finset.sum_range]
  refine Fin.sum_mul_add_congr (S := 8) (n := 1314) fun s k hl => ?_
  have hs : s.val < 8 := s.isLt
  have e_row : row (8 * (t.val / 8) + s.val) = row t.val := funext fun r => Fin.ext (by simp only [row]; omega)
  have e_col : col (8 * (t.val / 8) + s.val) = col t.val := funext fun r => Fin.ext (by simp only [col]; omega)
  have e_con : con (8 * (t.val / 8) + s.val) k = ⟨s.val * 1314 + k.val, hl⟩ := Fin.ext (by simp only [con]; omega)
  simp only [e_row, e_col, e_con]
  rfl

/-- The result array. -/
theorem final (c : Dev nD) : (dats m 0 c).arrAt 2 (cfgs 0).N = val (arg0 m c) (arg1 m c) (arg2 m c) (arg3 m c) (arg4 m c) (arg5 m c) (arg6 m c) (arg7 m c) (arg8 m c) (arg9 m c) (arg10 m c) (arg11 m c) (arg12 m c) := by
  refine (dats m 0 c).arrAt_eq_of_covers 2 _ (by decide +kernel) fun t hf y => ?_
  have ht : t.val < 128 := t.isLt
  blk_simp
  rw [after0_2, run m c t ((flush0_2 t).mp hf)]
  blk_ext [row, dev, col, con, idx t]

end Cert.HiddenGradientIdeal.Hand

namespace Cert.HiddenGradientReferenceIdeal.Hand

open Cert.HiddenGradientReferenceIdeal Cert.HiddenGradientReferenceIdeal.Read Idealize.ShloMosaic

/-- The reference's joined pieces. -/
theorem joined_eq (x1 : S4096x2048.Idx → EReal) (x2 x3 : S4096x1024.Idx → EReal) (x4 x5 : S8x4096.Idx → EReal) (x6 x7 x8 x9 x10 x11 : S4096x1024.Idx → EReal) (x12 : S4096x256.Idx → EReal) (r : Fin 4096) (l : Fin 10512) :
    val_main_v12 (F := Ideal) x1 x2 x3 x4 x5 x6 x7 x8 x9 x10 x11 x12 (ix2 r l) = Cert.Proof.joined x1 x2 x3 x4 x5 x6 x7 x8 x9 x10 x11 x12 r l := by
  unfold val_main_v12 val_main_v0 val_main_v1 val_main_v2 val_main_v3 val_main_v4 val_main_v5 val_main_v6 val_main_v7 val_main_v8 val_main_v9 val_main_v10 val_main_v11
  pointwise [Cert.Proof.joined]

/-- The same at an index that need not be spelt out. -/
theorem joined_at (x1 : S4096x2048.Idx → EReal) (x2 x3 : S4096x1024.Idx → EReal) (x4 x5 : S8x4096.Idx → EReal) (x6 x7 x8 x9 x10 x11 : S4096x1024.Idx → EReal) (x12 : S4096x256.Idx → EReal) (i : S4096x10512.Idx) :
    val_main_v12 (F := Ideal) x1 x2 x3 x4 x5 x6 x7 x8 x9 x10 x11 x12 i = Cert.Proof.joined x1 x2 x3 x4 x5 x6 x7 x8 x9 x10 x11 x12 (i 0) (i 1) := by
  idx_vars i
  exact joined_eq x1 x2 x3 x4 x5 x6 x7 x8 x9 x10 x11 x12 _ _

/-- The reference's result. -/
theorem val_eq (x0 : S4096x10512.Idx → EReal) (x1 : S4096x2048.Idx → EReal) (x2 x3 : S4096x1024.Idx → EReal) (x4 x5 : S8x4096.Idx → EReal) (x6 x7 x8 x9 x10 x11 : S4096x1024.Idx → EReal) (x12 : S4096x256.Idx → EReal) : val_main_v15 (F := Ideal) x0 x1 x2 x3 x4 x5 x6 x7 x8 x9 x10 x11 x12 = Cert.HiddenGradientIdeal.Hand.val x0 x1 x2 x3 x4 x5 x6 x7 x8 x9 x10 x11 x12 := by
  funext i
  rw [val_main_v15_apply]
  refine Finset.sum_congr rfl fun s _ => ?_
  rw [joined_at]
  exact congrArg₂ (· * ·) rfl (congrArg x0 (funext fun a => match a with
    | ⟨0, _⟩ => rfl
    | ⟨1, _⟩ => rfl))

end Cert.HiddenGradientReferenceIdeal.Hand

namespace Cert.Proof

open Idealize.ShloMosaic Idealize.SL.Sem Cert.HiddenGradientIdeal.Hand

/-- The gradient with respect to the normalised residual stream: the program and its reference agree on the extended reals. -/
theorem hiddenGradient_algebraic : Cert.algebraic_HiddenGradientIdeal_HiddenGradientReferenceIdeal := by
  intro m g m' g' _ hagree
  refine ⟨fun c => val (arg0 m c) (arg1 m c) (arg2 m c) (arg3 m c) (arg4 m c) (arg5 m c) (arg6 m c) (arg7 m c) (arg8 m c) (arg9 m c) (arg10 m c) (arg11 m c) (arg12 m c), ?_, ?_⟩
  · refine (θ_run _ _ _).mono (fun r h c => ?_) (Cert.HiddenGradientIdeal.Value.run_blocks m g)
    obtain ⟨h0, hk⟩ := h c
    exact ⟨h0.trans (final m c), hk⟩
  · refine (θ_run _ _ _).mono (fun r h c => ?_) (Cert.HiddenGradientReferenceIdeal.Value.run m' g')
    obtain ⟨h0, hk⟩ := h c
    obtain ⟨a0, a1, a2, a3, a4, a5, a6, a7, a8, a9, a10, a11, a12⟩ := hagree c
    refine ⟨h0.trans ?_, hk⟩
    rw [Cert.HiddenGradientReferenceIdeal.Read.val_main_v15_eq, Cert.HiddenGradientReferenceIdeal.Hand.val_eq, a0, a1, a2, a3, a4, a5, a6, a7, a8, a9, a10, a11, a12]

/-- The reference runs to its end, keeps its arguments and uses no semaphore. -/
theorem hiddenGradient_reference_frame : Cert.quiescent_HiddenGradientReferenceIdeal := fun m ρ _ =>
  (θ_run Cert.HiddenGradientReferenceIdeal.defs _ _).mono (fun r h => ⟨fun c => (h c).2, sem_eq_zero_of_no_sems (by decide) r.2⟩)
    (Cert.HiddenGradientReferenceIdeal.Value.run (F := Ideal) m ρ)

end Cert.Proof

end
-- ==== Proof.MemoryKeys.lean ====
/- The memory's keys and values.

   The normalised memory `a` times the weights `b`, accumulated in two halves. -/
module

public import proofs.«01_k».proof.Defs
public import proofs.«01_k».proof.Proof.Gen.MemoryKeysIdeal.Value
public import proofs.«01_k».proof.Proof.Gen.MemoryKeysReferenceIdeal.Run
public import proofs.«01_k».proof.Proof.Gen.MemoryKeysReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MemoryKeysIdeal.Hand

open Cert.MemoryKeysIdeal Cert.MemoryKeysIdeal.Gen Idealize.ShloMosaic Idealize.ShloMosaic.TcCoe Idealize.SL.Sem

/-- The memory's keys and values, as a function of the arrays. -/
def val (a : S256x4096.Idx → EReal) (b : S4096x2048.Idx → EReal) : S256x2048.Idx → EReal :=
  fun i => ∑ s : Fin 4096, a (ix2 (i 0) s) * b (ix2 s (i 1))

variable (m : (ℓ : Loc nD τ sig) → Buf (Elt Ideal) ℓ)

abbrev arg0 (c : Dev nD) : S256x4096.Idx → EReal := m ((c : Thread nD τ).loc main_arg0)
abbrev arg1 (c : Dev nD) : S4096x2048.Idx → EReal := m ((c : Thread nD τ).loc main_arg1)

/-- Every window's block index at a grid point. -/
theorem idx : ∀ t : Fin cfg0.N, win0_0.index t = ![0, t.val % 2]
    ∧ win0_1.index t = ![t.val % 2, t.val / 2]
    ∧ win0_2.index t = ![0, t.val / 2] :=
  (by decide +kernel : ∀ t : Fin grid0.N, _)

/-- The row of the whole array at row `r` of point `t`'s block. -/
def row (t : ℕ) (r : Fin 256) : Fin 256 := ⟨(0) % 1 * 256 + r.val, by omega⟩

/-- The column of the whole array at column `r` of point `t`'s block. -/
def col (t : ℕ) (r : Fin 1024) : Fin 2048 := ⟨(t / 2) % 2 * 1024 + r.val, by omega⟩

/-- The contracted index of the whole array at index `k` of point `t`'s block. -/
def con (t : ℕ) (k : Fin 2048) : Fin 4096 := ⟨(t % 2) % 2 * 2048 + k.val, by omega⟩

/-- Window 0's block. -/
theorem in0 (c : Dev nD) (t : Fin cfg0.N) (r : Fin 256) (k : Fin 2048) :
    iblk m c 0 t (ix2 r k) = arg0 m c (ix2 (row t.val r) (con t.val k)) := by
  have ht : t.val < 4 := t.isLt
  blk_ext! [iblk, V, row, col, con, idx t]

/-- Window 1's block. -/
theorem in1 (c : Dev nD) (t : Fin cfg0.N) (r : Fin 1024) (k : Fin 2048) :
    iblk m c 1 t (ix2 k r) = arg1 m c (ix2 (con t.val k) (col t.val r)) := by
  have ht : t.val < 4 := t.isLt
  blk_ext! [iblk, V, row, col, con, idx t]

/-- One point's contribution to its block. -/
def part (c : Dev nD) (t : ℕ) (y : S256x1024.Idx) : EReal :=
  ∑ k : Fin 2048, arg0 m c (ix2 (row t (y 0)) (con t k)) * arg1 m c (ix2 (con t k) (col t (y 1)))

/-- What the first point of a run leaves in the accumulator. -/
theorem acc_A (c : Dev nD) (t : Fin cfg0.N) (h0 : t.val % 2 = 0) (y : S256x1024.Idx) :
    (outsAt0 m c t.val t.isLt).2 y = 0 + part m c t.val y := by
  rw [outsAt0_A m c t h0 (by omega)]
  frame_out
  unfold_payloads
  pointwise [part, in0, in1]

/-- What a later point of a run leaves in the accumulator. -/
theorem acc_B (c : Dev nD) (t : Fin cfg0.N) (h0 : ¬ t.val % 2 = 0) (y : S256x1024.Idx) :
    (outsAt0 m c t.val t.isLt).2 y = (outsAt0 m c (t.val - 1) (by omega)).2 y + part m c t.val y := by
  rw [outsAt0_B m c t h0 (by omega)]
  frame_out
  unfold_payloads
  pointwise [part, in0, in1]
  rw [read_unread_whole]

/-- The last point of a run writes its block from the accumulator. -/
theorem out_C (c : Dev nD) (t : Fin cfg0.N) (h1 : t.val % 2 = 1) (y : S256x1024.Idx) :
    (outsAt0 m c t.val t.isLt).1 y = (outsAt0 m c t.val t.isLt).2 y := by
  rw [outsAt0_B m c t (by omega) h1]
  frame_out

/-- The block at the point that writes it back. -/
theorem run (c : Dev nD) (t : Fin cfg0.N) (h1 : t.val % 2 = 1) (y : S256x1024.Idx) :
    (outsAt0 m c t.val t.isLt).1 y = val (arg0 m c) (arg1 m c) (ix2 (row t.val (y 0)) (col t.val (y 1))) := by
  have ht : t.val < 4 := t.isLt
  have e := Pipeline.eq_sum_of_reset_step_apply_of_mod (M := EReal) (fun n h => (outsAt0 m c n h).2) 2 (fun _ => 0)
    (part m c) (acc_A m c) (acc_B m c) t h1 y
  rw [out_C m c t h1, e, zero_add, Finset.sum_range]
  refine Fin.sum_mul_add_congr (S := 2) (n := 2048) fun s k hl => ?_
  have hs : s.val < 2 := s.isLt
  have e_row : row (2 * (t.val / 2) + s.val) = row t.val := funext fun r => Fin.ext (by simp only [row] <;> omega)
  have e_col : col (2 * (t.val / 2) + s.val) = col t.val := funext fun r => Fin.ext (by simp only [col] <;> omega)
  have e_con : con (2 * (t.val / 2) + s.val) k = ⟨s.val * 2048 + k.val, hl⟩ := Fin.ext (by simp only [con] <;> omega)
  simp only [e_row, e_col, e_con]
  rfl

/-- The result array. -/
theorem final (c : Dev nD) : (dats m 0 c).arrAt 2 (cfgs 0).N = val (arg0 m c) (arg1 m c) := by
  refine (dats m 0 c).arrAt_eq_of_covers 2 _ (by decide +kernel) fun t hf y => ?_
  have ht : t.val < 4 := t.isLt
  blk_simp
  rw [after0_2, run m c t ((flush0_2 t).mp hf)]
  blk_ext [row, col, con, idx t]

end Cert.MemoryKeysIdeal.Hand

namespace Cert.MemoryKeysReferenceIdeal.Hand

open Cert.MemoryKeysReferenceIdeal Cert.MemoryKeysReferenceIdeal.Read Idealize.ShloMosaic

/-- The reference's result. -/
theorem val_eq (a : S256x4096.Idx → EReal) (b : S4096x2048.Idx → EReal) : val_main_v1 (F := Ideal) a b = Cert.MemoryKeysIdeal.Hand.val a b := by
  funext i
  idx_vars i
  rw [← val_main_v1_eq]
  pointwise [Cert.MemoryKeysIdeal.Hand.val]

end Cert.MemoryKeysReferenceIdeal.Hand

namespace Cert.Proof

open Idealize.ShloMosaic Idealize.SL.Sem Cert.MemoryKeysIdeal.Hand

/-- The memory's keys and values: the program and its reference agree on the extended reals. -/
theorem memoryKeys_algebraic : Cert.algebraic_MemoryKeysIdeal_MemoryKeysReferenceIdeal := by
  intro m g m' g' _ hagree
  refine ⟨fun c => val (arg0 m c) (arg1 m c), ?_, ?_⟩
  · refine (θ_run _ _ _).mono (fun r h c => ?_) (Cert.MemoryKeysIdeal.Value.run_blocks m g)
    obtain ⟨h0, hk⟩ := h c
    exact ⟨h0.trans (final m c), hk⟩
  · refine (θ_run _ _ _).mono (fun r h c => ?_) (Cert.MemoryKeysReferenceIdeal.Value.run m' g')
    obtain ⟨h0, hk⟩ := h c
    obtain ⟨a0, a1⟩ := hagree c
    refine ⟨h0.trans ?_, hk⟩
    rw [Cert.MemoryKeysReferenceIdeal.Read.val_main_v1_eq, Cert.MemoryKeysReferenceIdeal.Hand.val_eq, a0, a1]

/-- The reference runs to its end, keeps its arguments and uses no semaphore. -/
theorem memoryKeys_reference_frame : Cert.quiescent_MemoryKeysReferenceIdeal := fun m ρ _ =>
  (θ_run Cert.MemoryKeysReferenceIdeal.defs _ _).mono (fun r h => ⟨fun c => (h c).2, sem_eq_zero_of_no_sems (by decide) r.2⟩)
    (Cert.MemoryKeysReferenceIdeal.Value.run (F := Ideal) m ρ)

end Cert.Proof

end
-- ==== Proof.MemoryWeight.lean ====
/- The gradient with respect to the memory's weights.

   At a cotangent `p` of the projection `a · w`, given as the keys' and the values' gradients, this is `aᵀ · p`. -/
module

public import proofs.«01_k».proof.Defs
public import proofs.«01_k».proof.Proof.Gen.MemoryWeightIdeal.Value
public import proofs.«01_k».proof.Proof.Gen.MemoryWeightReferenceIdeal.Run
public import proofs.«01_k».proof.Proof.Gen.MemoryWeightReferenceIdeal.Read
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section

set_option maxRecDepth 16384

noncomputable section

namespace Cert.MemoryWeightIdeal.Hand

open Cert.MemoryWeightIdeal Cert.MemoryWeightIdeal.Gen Idealize.ShloMosaic Idealize.ShloMosaic.TcCoe Idealize.SL.Sem

/-- The keys' and the values' gradients side by side. -/
def pair (p q : S256x1024.Idx → EReal) (r : Fin 256) (l : Fin 2048) : EReal :=
  if h : l.val < 1024 then p (ix2 r ⟨l.val, h⟩) else q (ix2 r ⟨l.val - 1024, by omega⟩)

/-- The gradient with respect to the memory's weights, as a function of the arrays. -/
def val (a : S256x4096.Idx → EReal) (b x : S256x1024.Idx → EReal) : S4096x2048.Idx → EReal :=
  fun i => ∑ s : Fin 256, a (ix2 s (i 0)) * pair b x s (i 1)

variable (m : (ℓ : Loc nD τ sig) → Buf (Elt Ideal) ℓ)

abbrev arg0 (c : Dev nD) : S256x4096.Idx → EReal := m ((c : Thread nD τ).loc main_arg0)
abbrev arg1 (c : Dev nD) : S256x1024.Idx → EReal := m ((c : Thread nD τ).loc main_arg1)
abbrev arg2 (c : Dev nD) : S256x1024.Idx → EReal := m ((c : Thread nD τ).loc main_arg2)

/-- Every window's block index at a grid point. -/
theorem idx : ∀ t : Fin cfg0.N, win0_0.index t = ![0, t.val / 2]
    ∧ win0_1.index t = ![0, t.val % 2]
    ∧ win0_2.index t = ![t.val / 2, t.val % 2] :=
  (by decide +kernel : ∀ t : Fin grid0.N, _)

/-- The row of the whole array at row `r` of point `t`'s block. -/
def row (t : ℕ) (r : Fin 1024) : Fin 4096 := ⟨(t / 2) % 4 * 1024 + r.val, by omega⟩

/-- The column of the whole array at column `r` of point `t`'s block. -/
def col (t : ℕ) (r : Fin 1024) : Fin 2048 := ⟨(t % 2) * 1024 + r.val, by omega⟩

/-- The array that the host hands the kernel. -/
theorem both (c : Dev nD) (r : Fin 256) (l : Fin 2048) :
    (V m c main_v1 : S256x2048.Idx → EReal) (ix2 r l) = pair (arg1 m c) (arg2 m c) r l := by
  show StableHlo.after hostOps0 (fun b => m (c, b)) (Proc.devRef .tc main_v1) _ = _
  after_reads_simp
  pointwise [pair]
  after_reads_simp

/-- Window 0's block. -/
theorem in0 (c : Dev nD) (t : Fin cfg0.N) (r : Fin 1024) (k : Fin 256) :
    iblk m c 0 t (ix2 k r) = arg0 m c (ix2 k (row t.val r)) := by
  have ht : t.val < 8 := t.isLt
  blk_ext! [iblk, V, row, col, idx t]

/-- Window 1's block. -/
theorem in1 (c : Dev nD) (t : Fin cfg0.N) (r : Fin 1024) (k : Fin 256) :
    iblk m c 1 t (ix2 k r) = pair (arg1 m c) (arg2 m c) k (col t.val r) := by
  have ht : t.val < 8 := t.isLt
  refine Eq.trans ?_ (both m c k (col t.val r))
  blk_ext! [iblk, col, idx t]

/-- Every point writes its block. -/
theorem run (c : Dev nD) (t : Fin cfg0.N) (y : S1024x1024.Idx) :
    outsAt0 m c t y = val (arg0 m c) (arg1 m c) (arg2 m c) (ix2 (row t.val (y 0)) (col t.val (y 1))) := by
  unfold outsAt0
  frame_out
  unfold_payloads
  pointwise [val, in0, in1]

/-- The result array. -/
theorem final (c : Dev nD) : (dats m 0 c).arrAt 2 (cfgs 0).N = val (arg0 m c) (arg1 m c) (arg2 m c) := by
  refine (dats m 0 c).arrAt_eq_of_covers 2 _ (by decide +kernel) fun t hf y => ?_
  have ht : t.val < 8 := t.isLt
  blk_simp
  rw [after0_2, run m c t]
  blk_ext [row, col, idx t]

end Cert.MemoryWeightIdeal.Hand

namespace Cert.MemoryWeightReferenceIdeal.Hand

open Cert.MemoryWeightReferenceIdeal Cert.MemoryWeightReferenceIdeal.Read Idealize.ShloMosaic

/-- The reference's result. -/
theorem val_eq (a : S256x4096.Idx → EReal) (b x : S256x1024.Idx → EReal) : val_main_v8 (F := Ideal) a b x = Cert.MemoryWeightIdeal.Hand.val a b x := by
  funext i
  idx_vars i
  rw [← val_main_v8_eq]
  pointwise [Cert.MemoryWeightIdeal.Hand.val, Cert.MemoryWeightIdeal.Hand.pair]
  exact Finset.sum_congr rfl fun _ _ => mul_comm _ _

end Cert.MemoryWeightReferenceIdeal.Hand

namespace Cert.Proof

open Idealize.ShloMosaic Idealize.SL.Sem Cert.MemoryWeightIdeal.Hand

/-- The gradient with respect to the memory's weights: the program and its reference agree on the extended reals. -/
theorem memoryWeight_algebraic : Cert.algebraic_MemoryWeightIdeal_MemoryWeightReferenceIdeal := by
  intro m g m' g' _ hagree
  refine ⟨fun c => val (arg0 m c) (arg1 m c) (arg2 m c), ?_, ?_⟩
  · refine (θ_run _ _ _).mono (fun r h c => ?_) (Cert.MemoryWeightIdeal.Value.run_blocks m g)
    obtain ⟨h0, hk⟩ := h c
    exact ⟨h0.trans (final m c), hk⟩
  · refine (θ_run _ _ _).mono (fun r h c => ?_) (Cert.MemoryWeightReferenceIdeal.Value.run m' g')
    obtain ⟨h0, hk⟩ := h c
    obtain ⟨a0, a1, a2⟩ := hagree c
    refine ⟨h0.trans ?_, hk⟩
    rw [Cert.MemoryWeightReferenceIdeal.Read.val_main_v8_eq, Cert.MemoryWeightReferenceIdeal.Hand.val_eq, a0, a1, a2]

/-- The reference runs to its end, keeps its arguments and uses no semaphore. -/
theorem memoryWeight_reference_frame : Cert.quiescent_MemoryWeightReferenceIdeal := fun m ρ _ =>
  (θ_run Cert.MemoryWeightReferenceIdeal.defs _ _).mono (fun r h => ⟨fun c => (h c).2, sem_eq_zero_of_no_sems (by decide) r.2⟩)
    (Cert.MemoryWeightReferenceIdeal.Value.run (F := Ideal) m ρ)

end Cert.Proof

end
-- ==== Proof.MemoryGradient.lean ====
/- The gradient with respect to the normalised memory.

   At a cotangent `p` of the projection `m · x`, given as the keys' and the values' gradients, this is `p · xᵀ`. -/
module

public import proofs.«01_k».proof.Defs
public import proofs.«01_k».proof.Proof.Gen.MemoryGradientIdeal.Value
public import proofs.«01_k».proof.Proof.Gen.MemoryGradientReferenceIdeal.Run
public import proofs.«01_k».proof.Proof.Gen.MemoryGradientReferenceIdeal.Read
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section

set_option maxRecDepth 16384

noncomputable section

namespace Cert.MemoryGradientIdeal.Hand

open Cert.MemoryGradientIdeal Cert.MemoryGradientIdeal.Gen Idealize.ShloMosaic Idealize.ShloMosaic.TcCoe Idealize.SL.Sem

/-- The keys' and the values' gradients side by side. -/
def pair (p q : S256x1024.Idx → EReal) (r : Fin 256) (l : Fin 2048) : EReal :=
  if h : l.val < 1024 then p (ix2 r ⟨l.val, h⟩) else q (ix2 r ⟨l.val - 1024, by omega⟩)

/-- The gradient with respect to the normalised memory, as a function of the arrays. -/
def val (a b : S256x1024.Idx → EReal) (x : S4096x2048.Idx → EReal) : S256x4096.Idx → EReal :=
  fun i => ∑ s : Fin 2048, pair a b (i 0) s * x (ix2 (i 1) s)

variable (m : (ℓ : Loc nD τ sig) → Buf (Elt Ideal) ℓ)

abbrev arg0 (c : Dev nD) : S256x1024.Idx → EReal := m ((c : Thread nD τ).loc main_arg0)
abbrev arg1 (c : Dev nD) : S256x1024.Idx → EReal := m ((c : Thread nD τ).loc main_arg1)
abbrev arg2 (c : Dev nD) : S4096x2048.Idx → EReal := m ((c : Thread nD τ).loc main_arg2)

/-- Every window's block index at a grid point. -/
theorem idx : ∀ t : Fin cfg0.N, win0_0.index t = ![0, 0]
    ∧ win0_1.index t = ![t.val, 0]
    ∧ win0_2.index t = ![0, t.val] :=
  (by decide +kernel : ∀ t : Fin grid0.N, _)

/-- The column of the whole array at column `r` of point `t`'s block. -/
def col (t : ℕ) (r : Fin 1024) : Fin 4096 := ⟨t % 4 * 1024 + r.val, by omega⟩

/-- The array that the host hands the kernel. -/
theorem both (c : Dev nD) (r : Fin 256) (l : Fin 2048) :
    (V m c main_v1 : S256x2048.Idx → EReal) (ix2 r l) = pair (arg0 m c) (arg1 m c) r l := by
  show StableHlo.after hostOps0 (fun b => m (c, b)) (Proc.devRef .tc main_v1) _ = _
  after_reads_simp
  pointwise [pair]
  after_reads_simp

/-- Window 0's block. -/
theorem in0 (c : Dev nD) (t : Fin cfg0.N) (r : Fin 256) (k : Fin 2048) :
    iblk m c 0 t (ix2 r k) = pair (arg0 m c) (arg1 m c) r k := by
  have ht : t.val < 4 := t.isLt
  refine Eq.trans ?_ (both m c r k)
  blk_ext! [iblk, col, idx t]

/-- Window 1's block. -/
theorem in1 (c : Dev nD) (t : Fin cfg0.N) (r : Fin 1024) (k : Fin 2048) :
    iblk m c 1 t (ix2 r k) = arg2 m c (ix2 (col t.val r) k) := by
  have ht : t.val < 4 := t.isLt
  blk_ext! [iblk, V, col, idx t]

/-- Every point writes its block. -/
theorem run (c : Dev nD) (t : Fin cfg0.N) (y : S256x1024.Idx) :
    outsAt0 m c t y = val (arg0 m c) (arg1 m c) (arg2 m c) (ix2 (y 0) (col t.val (y 1))) := by
  unfold outsAt0
  frame_out
  unfold_payloads
  pointwise [val, in0, in1]

/-- The result array. -/
theorem final (c : Dev nD) : (dats m 0 c).arrAt 2 (cfgs 0).N = val (arg0 m c) (arg1 m c) (arg2 m c) := by
  refine (dats m 0 c).arrAt_eq_of_covers 2 _ (by decide +kernel) fun t hf y => ?_
  have ht : t.val < 4 := t.isLt
  blk_simp
  rw [after0_2, run m c t]
  blk_ext [col, idx t]

end Cert.MemoryGradientIdeal.Hand

namespace Cert.MemoryGradientReferenceIdeal.Hand

open Cert.MemoryGradientReferenceIdeal Cert.MemoryGradientReferenceIdeal.Read Idealize.ShloMosaic

/-- The reference's result. -/
theorem val_eq (a b : S256x1024.Idx → EReal) (x : S4096x2048.Idx → EReal) : val_main_v5 (F := Ideal) a b x = Cert.MemoryGradientIdeal.Hand.val a b x := by
  funext i
  idx_vars i
  rw [← val_main_v5_eq]
  pointwise [Cert.MemoryGradientIdeal.Hand.val, Cert.MemoryGradientIdeal.Hand.pair]

end Cert.MemoryGradientReferenceIdeal.Hand

namespace Cert.Proof

open Idealize.ShloMosaic Idealize.SL.Sem Cert.MemoryGradientIdeal.Hand

/-- The gradient with respect to the normalised memory: the program and its reference agree on the extended reals. -/
theorem memoryGradient_algebraic : Cert.algebraic_MemoryGradientIdeal_MemoryGradientReferenceIdeal := by
  intro m g m' g' _ hagree
  refine ⟨fun c => val (arg0 m c) (arg1 m c) (arg2 m c), ?_, ?_⟩
  · refine (θ_run _ _ _).mono (fun r h c => ?_) (Cert.MemoryGradientIdeal.Value.run_blocks m g)
    obtain ⟨h0, hk⟩ := h c
    exact ⟨h0.trans (final m c), hk⟩
  · refine (θ_run _ _ _).mono (fun r h c => ?_) (Cert.MemoryGradientReferenceIdeal.Value.run m' g')
    obtain ⟨h0, hk⟩ := h c
    obtain ⟨a0, a1, a2⟩ := hagree c
    refine ⟨h0.trans ?_, hk⟩
    rw [Cert.MemoryGradientReferenceIdeal.Read.val_main_v5_eq, Cert.MemoryGradientReferenceIdeal.Hand.val_eq, a0, a1, a2]

/-- The reference runs to its end, keeps its arguments and uses no semaphore. -/
theorem memoryGradient_reference_frame : Cert.quiescent_MemoryGradientReferenceIdeal := fun m ρ _ =>
  (θ_run Cert.MemoryGradientReferenceIdeal.defs _ _).mono (fun r h => ⟨fun c => (h c).2, sem_eq_zero_of_no_sems (by decide) r.2⟩)
    (Cert.MemoryGradientReferenceIdeal.Value.run (F := Ideal) m ρ)

end Cert.Proof

end
-- ==== Proof.Glu.lean ====
/- The projection of the gated linear unit.

   The recurrence's output `a` times the weights `b`. -/
module

public import proofs.«01_k».proof.Defs
public import proofs.«01_k».proof.Proof.Gen.GluIdeal.Value
public import proofs.«01_k».proof.Proof.Gen.GluReferenceIdeal.Run
public import proofs.«01_k».proof.Proof.Gen.GluReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GluIdeal.Hand

open Cert.GluIdeal Cert.GluIdeal.Gen Idealize.ShloMosaic Idealize.ShloMosaic.TcCoe Idealize.SL.Sem

/-- The projection of the gated linear unit, as a function of the arrays. -/
def val (a : S4096x1024.Idx → EReal) (b : S1024x2048.Idx → EReal) : S4096x2048.Idx → EReal :=
  fun i => ∑ s : Fin 1024, a (ix2 (i 0) s) * b (ix2 s (i 1))

variable (m : (ℓ : Loc nD τ sig) → Buf (Elt Ideal) ℓ)

abbrev arg0 (c : Dev nD) : S4096x1024.Idx → EReal := m ((c : Thread nD τ).loc main_arg0)
abbrev arg1 (c : Dev nD) : S1024x2048.Idx → EReal := m ((c : Thread nD τ).loc main_arg1)

/-- Every window's block index at a grid point. -/
theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- The row of the whole array at row `r` of point `t`'s block. -/
def row (t : ℕ) (r : Fin 1024) : Fin 4096 := ⟨(t / 2) % 4 * 1024 + r.val, by omega⟩

/-- The column of the whole array at column `r` of point `t`'s block. -/
def col (t : ℕ) (r : Fin 1024) : Fin 2048 := ⟨(t % 2) % 2 * 1024 + r.val, by omega⟩

/-- Window 0's block. -/
theorem in0 (c : Dev nD) (t : Fin cfg0.N) (r : Fin 1024) (k : Fin 1024) :
    iblk m c 0 t (ix2 r k) = arg0 m c (ix2 (row t.val r) k) := by
  have ht : t.val < 8 := t.isLt
  blk_ext! [iblk, V, row, col, idx t]

/-- Window 1's block. -/
theorem in1 (c : Dev nD) (t : Fin cfg0.N) (r : Fin 1024) (k : Fin 1024) :
    iblk m c 1 t (ix2 k r) = arg1 m c (ix2 k (col t.val r)) := by
  have ht : t.val < 8 := t.isLt
  blk_ext! [iblk, V, row, col, idx t]

/-- Every point writes its block. -/
theorem run (c : Dev nD) (t : Fin cfg0.N) (y : S1024x1024.Idx) :
    outsAt0 m c t y = val (arg0 m c) (arg1 m c) (ix2 (row t.val (y 0)) (col t.val (y 1))) := by
  unfold outsAt0
  frame_out
  unfold_payloads
  pointwise [val, in0, in1]

/-- The result array. -/
theorem final (c : Dev nD) : (dats m 0 c).arrAt 2 (cfgs 0).N = val (arg0 m c) (arg1 m c) := by
  refine (dats m 0 c).arrAt_eq_of_covers 2 _ (by decide +kernel) fun t hf y => ?_
  have ht : t.val < 8 := t.isLt
  blk_simp
  rw [after0_2, run m c t]
  blk_ext [row, col, idx t]

end Cert.GluIdeal.Hand

namespace Cert.GluReferenceIdeal.Hand

open Cert.GluReferenceIdeal Cert.GluReferenceIdeal.Read Idealize.ShloMosaic

/-- The reference's result. -/
theorem val_eq (a : S4096x1024.Idx → EReal) (b : S1024x2048.Idx → EReal) : val_main_v1 (F := Ideal) a b = Cert.GluIdeal.Hand.val a b := by
  funext i
  idx_vars i
  rw [← val_main_v1_eq]
  pointwise [Cert.GluIdeal.Hand.val]

end Cert.GluReferenceIdeal.Hand

namespace Cert.Proof

open Idealize.ShloMosaic Idealize.SL.Sem Cert.GluIdeal.Hand

/-- The projection of the gated linear unit: the program and its reference agree on the extended reals. -/
theorem glu_algebraic : Cert.algebraic_GluIdeal_GluReferenceIdeal := by
  intro m g m' g' _ hagree
  refine ⟨fun c => val (arg0 m c) (arg1 m c), ?_, ?_⟩
  · refine (θ_run _ _ _).mono (fun r h c => ?_) (Cert.GluIdeal.Value.run_blocks m g)
    obtain ⟨h0, hk⟩ := h c
    exact ⟨h0.trans (final m c), hk⟩
  · refine (θ_run _ _ _).mono (fun r h c => ?_) (Cert.GluReferenceIdeal.Value.run m' g')
    obtain ⟨h0, hk⟩ := h c
    obtain ⟨a0, a1⟩ := hagree c
    refine ⟨h0.trans ?_, hk⟩
    rw [Cert.GluReferenceIdeal.Read.val_main_v1_eq, Cert.GluReferenceIdeal.Hand.val_eq, a0, a1]

/-- The reference runs to its end, keeps its arguments and uses no semaphore. -/
theorem glu_reference_frame : Cert.quiescent_GluReferenceIdeal := fun m ρ _ =>
  (θ_run Cert.GluReferenceIdeal.defs _ _).mono (fun r h => ⟨fun c => (h c).2, sem_eq_zero_of_no_sems (by decide) r.2⟩)
    (Cert.GluReferenceIdeal.Value.run (F := Ideal) m ρ)

end Cert.Proof

end
-- ==== Proof.GluWeight.lean ====
/- The gradient with respect to the gated linear unit's weights.

   At a cotangent `b` of the projection `a · w` this is `aᵀ · b`, accumulated in two halves of the rows. -/
module

public import proofs.«01_k».proof.Defs
public import proofs.«01_k».proof.Proof.Gen.GluWeightIdeal.Value
public import proofs.«01_k».proof.Proof.Gen.GluWeightReferenceIdeal.Run
public import proofs.«01_k».proof.Proof.Gen.GluWeightReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GluWeightIdeal.Hand

open Cert.GluWeightIdeal Cert.GluWeightIdeal.Gen Idealize.ShloMosaic Idealize.ShloMosaic.TcCoe Idealize.SL.Sem

/-- The gradient with respect to the gated linear unit's weights, as a function of the arrays. -/
def val (a : S4096x1024.Idx → EReal) (b : S4096x2048.Idx → EReal) : S1024x2048.Idx → EReal :=
  fun i => ∑ s : Fin 4096, a (ix2 s (i 0)) * b (ix2 s (i 1))

variable (m : (ℓ : Loc nD τ sig) → Buf (Elt Ideal) ℓ)

abbrev arg0 (c : Dev nD) : S4096x1024.Idx → EReal := m ((c : Thread nD τ).loc main_arg0)
abbrev arg1 (c : Dev nD) : S4096x2048.Idx → EReal := m ((c : Thread nD τ).loc main_arg1)

/-- Every window's block index at a grid point. -/
theorem idx : ∀ t : Fin cfg0.N, win0_0.index t = ![t.val % 2, 0]
    ∧ win0_1.index t = ![t.val % 2, t.val / 2]
    ∧ win0_2.index t = ![0, t.val / 2] :=
  (by decide +kernel : ∀ t : Fin grid0.N, _)

/-- The row of the whole array at row `r` of point `t`'s block. -/
def row (t : ℕ) (r : Fin 1024) : Fin 1024 := ⟨(0) % 1 * 1024 + r.val, by omega⟩

/-- The column of the whole array at column `r` of point `t`'s block. -/
def col (t : ℕ) (r : Fin 1024) : Fin 2048 := ⟨(t / 2) % 2 * 1024 + r.val, by omega⟩

/-- The contracted index of the whole array at index `k` of point `t`'s block. -/
def con (t : ℕ) (k : Fin 2048) : Fin 4096 := ⟨(t % 2) % 2 * 2048 + k.val, by omega⟩

/-- Window 0's block. -/
theorem in0 (c : Dev nD) (t : Fin cfg0.N) (r : Fin 1024) (k : Fin 2048) :
    iblk m c 0 t (ix2 k r) = arg0 m c (ix2 (con t.val k) (row t.val r)) := by
  have ht : t.val < 4 := t.isLt
  blk_ext! [iblk, V, row, col, con, idx t]

/-- Window 1's block. -/
theorem in1 (c : Dev nD) (t : Fin cfg0.N) (r : Fin 1024) (k : Fin 2048) :
    iblk m c 1 t (ix2 k r) = arg1 m c (ix2 (con t.val k) (col t.val r)) := by
  have ht : t.val < 4 := t.isLt
  blk_ext! [iblk, V, row, col, con, idx t]

/-- One point's contribution to its block. -/
def part (c : Dev nD) (t : ℕ) (y : S1024x1024.Idx) : EReal :=
  ∑ k : Fin 2048, arg0 m c (ix2 (con t k) (row t (y 0))) * arg1 m c (ix2 (con t k) (col t (y 1)))

/-- What the first point of a run leaves in the accumulator. -/
theorem acc_A (c : Dev nD) (t : Fin cfg0.N) (h0 : t.val % 2 = 0) (y : S1024x1024.Idx) :
    (outsAt0 m c t.val t.isLt).2 y = 0 + part m c t.val y := by
  rw [outsAt0_A m c t h0 (by omega)]
  frame_out
  unfold_payloads
  pointwise [part, in0, in1]

/-- What a later point of a run leaves in the accumulator. -/
theorem acc_B (c : Dev nD) (t : Fin cfg0.N) (h0 : ¬ t.val % 2 = 0) (y : S1024x1024.Idx) :
    (outsAt0 m c t.val t.isLt).2 y = (outsAt0 m c (t.val - 1) (by omega)).2 y + part m c t.val y := by
  rw [outsAt0_B m c t h0 (by omega)]
  frame_out
  unfold_payloads
  pointwise [part, in0, in1]
  rw [read_unread_whole]

/-- The last point of a run writes its block from the accumulator. -/
theorem out_C (c : Dev nD) (t : Fin cfg0.N) (h1 : t.val % 2 = 1) (y : S1024x1024.Idx) :
    (outsAt0 m c t.val t.isLt).1 y = (outsAt0 m c t.val t.isLt).2 y := by
  rw [outsAt0_B m c t (by omega) h1]
  frame_out
  unfold_payloads
  pointwise [in0, in1]

/-- The block at the point that writes it back. -/
theorem run (c : Dev nD) (t : Fin cfg0.N) (h1 : t.val % 2 = 1) (y : S1024x1024.Idx) :
    (outsAt0 m c t.val t.isLt).1 y = val (arg0 m c) (arg1 m c) (ix2 (row t.val (y 0)) (col t.val (y 1))) := by
  have ht : t.val < 4 := t.isLt
  have e := Pipeline.eq_sum_of_reset_step_apply_of_mod (M := EReal) (fun n h => (outsAt0 m c n h).2) 2 (fun _ => 0)
    (part m c) (acc_A m c) (acc_B m c) t h1 y
  rw [out_C m c t h1, e, zero_add, Finset.sum_range]
  refine Fin.sum_mul_add_congr (S := 2) (n := 2048) fun s k hl => ?_
  have hs : s.val < 2 := s.isLt
  have e_row : row (2 * (t.val / 2) + s.val) = row t.val := funext fun r => Fin.ext (by simp only [row] <;> omega)
  have e_col : col (2 * (t.val / 2) + s.val) = col t.val := funext fun r => Fin.ext (by simp only [col] <;> omega)
  have e_con : con (2 * (t.val / 2) + s.val) k = ⟨s.val * 2048 + k.val, hl⟩ := Fin.ext (by simp only [con] <;> omega)
  simp only [e_row, e_col, e_con]
  rfl

/-- The result array. -/
theorem final (c : Dev nD) : (dats m 0 c).arrAt 2 (cfgs 0).N = val (arg0 m c) (arg1 m c) := by
  refine (dats m 0 c).arrAt_eq_of_covers 2 _ (by decide +kernel) fun t hf y => ?_
  have ht : t.val < 4 := t.isLt
  blk_simp
  rw [after0_2, run m c t ((flush0_2 t).mp hf)]
  blk_ext [row, col, con, idx t]

end Cert.GluWeightIdeal.Hand

namespace Cert.GluWeightReferenceIdeal.Hand

open Cert.GluWeightReferenceIdeal Cert.GluWeightReferenceIdeal.Read Idealize.ShloMosaic

/-- The reference's result. -/
theorem val_eq (a : S4096x1024.Idx → EReal) (b : S4096x2048.Idx → EReal) : val_main_v6 (F := Ideal) a b = Cert.GluWeightIdeal.Hand.val a b := by
  funext i
  idx_vars i
  rw [← val_main_v6_eq]
  pointwise [Cert.GluWeightIdeal.Hand.val]
  exact Finset.sum_congr rfl fun _ _ => mul_comm _ _

end Cert.GluWeightReferenceIdeal.Hand

namespace Cert.Proof

open Idealize.ShloMosaic Idealize.SL.Sem Cert.GluWeightIdeal.Hand

/-- The gradient with respect to the gated linear unit's weights: the program and its reference agree on the extended reals. -/
theorem gluWeight_algebraic : Cert.algebraic_GluWeightIdeal_GluWeightReferenceIdeal := by
  intro m g m' g' _ hagree
  refine ⟨fun c => val (arg0 m c) (arg1 m c), ?_, ?_⟩
  · refine (θ_run _ _ _).mono (fun r h c => ?_) (Cert.GluWeightIdeal.Value.run_blocks m g)
    obtain ⟨h0, hk⟩ := h c
    exact ⟨h0.trans (final m c), hk⟩
  · refine (θ_run _ _ _).mono (fun r h c => ?_) (Cert.GluWeightReferenceIdeal.Value.run m' g')
    obtain ⟨h0, hk⟩ := h c
    obtain ⟨a0, a1⟩ := hagree c
    refine ⟨h0.trans ?_, hk⟩
    rw [Cert.GluWeightReferenceIdeal.Read.val_main_v6_eq, Cert.GluWeightReferenceIdeal.Hand.val_eq, a0, a1]

/-- The reference runs to its end, keeps its arguments and uses no semaphore. -/
theorem gluWeight_reference_frame : Cert.quiescent_GluWeightReferenceIdeal := fun m ρ _ =>
  (θ_run Cert.GluWeightReferenceIdeal.defs _ _).mono (fun r h => ⟨fun c => (h c).2, sem_eq_zero_of_no_sems (by decide) r.2⟩)
    (Cert.GluWeightReferenceIdeal.Value.run (F := Ideal) m ρ)

end Cert.Proof

end
-- ==== Proof.GluInput.lean ====
/- The gradient with respect to the gated linear unit's input.

   At a cotangent `a` of the projection `y · b` this is `a · bᵀ`. -/
module

public import proofs.«01_k».proof.Defs
public import proofs.«01_k».proof.Proof.Gen.GluInputIdeal.Value
public import proofs.«01_k».proof.Proof.Gen.GluInputReferenceIdeal.Run
public import proofs.«01_k».proof.Proof.Gen.GluInputReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GluInputIdeal.Hand

open Cert.GluInputIdeal Cert.GluInputIdeal.Gen Idealize.ShloMosaic Idealize.ShloMosaic.TcCoe Idealize.SL.Sem

/-- The gradient with respect to the gated linear unit's input, as a function of the arrays. -/
def val (a : S4096x2048.Idx → EReal) (b : S1024x2048.Idx → EReal) : S4096x1024.Idx → EReal :=
  fun i => ∑ s : Fin 2048, a (ix2 (i 0) s) * b (ix2 (i 1) s)

variable (m : (ℓ : Loc nD τ sig) → Buf (Elt Ideal) ℓ)

abbrev arg0 (c : Dev nD) : S4096x2048.Idx → EReal := m ((c : Thread nD τ).loc main_arg0)
abbrev arg1 (c : Dev nD) : S1024x2048.Idx → EReal := m ((c : Thread nD τ).loc main_arg1)

/-- Every window's block index at a grid point. -/
theorem idx : ∀ t : Fin cfg0.N, win0_0.index t = ![t.val / 1, 0]
    ∧ win0_1.index t = ![0, 0]
    ∧ win0_2.index t = ![t.val / 1, 0] :=
  (by decide +kernel : ∀ t : Fin grid0.N, _)

/-- The row of the whole array at row `r` of point `t`'s block. -/
def row (t : ℕ) (r : Fin 1024) : Fin 4096 := ⟨(t / 1) % 4 * 1024 + r.val, by omega⟩

/-- The column of the whole array at column `r` of point `t`'s block. -/
def col (t : ℕ) (r : Fin 1024) : Fin 1024 := ⟨(0) % 1 * 1024 + r.val, by omega⟩

/-- Window 0's block. -/
theorem in0 (c : Dev nD) (t : Fin cfg0.N) (r : Fin 1024) (k : Fin 2048) :
    iblk m c 0 t (ix2 r k) = arg0 m c (ix2 (row t.val r) k) := by
  have ht : t.val < 4 := t.isLt
  blk_ext! [iblk, V, row, col, idx t]

/-- Window 1's block. -/
theorem in1 (c : Dev nD) (t : Fin cfg0.N) (r : Fin 1024) (k : Fin 2048) :
    iblk m c 1 t (ix2 r k) = arg1 m c (ix2 (col t.val r) k) := by
  have ht : t.val < 4 := t.isLt
  blk_ext! [iblk, V, row, col, idx t]

/-- Every point writes its block. -/
theorem run (c : Dev nD) (t : Fin cfg0.N) (y : S1024x1024.Idx) :
    outsAt0 m c t y = val (arg0 m c) (arg1 m c) (ix2 (row t.val (y 0)) (col t.val (y 1))) := by
  unfold outsAt0
  frame_out
  unfold_payloads
  pointwise [val, in0, in1]

/-- The result array. -/
theorem final (c : Dev nD) : (dats m 0 c).arrAt 2 (cfgs 0).N = val (arg0 m c) (arg1 m c) := by
  refine (dats m 0 c).arrAt_eq_of_covers 2 _ (by decide +kernel) fun t hf y => ?_
  have ht : t.val < 4 := t.isLt
  blk_simp
  rw [after0_2, run m c t]
  blk_ext [row, col, idx t]

end Cert.GluInputIdeal.Hand

namespace Cert.GluInputReferenceIdeal.Hand

open Cert.GluInputReferenceIdeal Cert.GluInputReferenceIdeal.Read Idealize.ShloMosaic

/-- The reference's result. -/
theorem val_eq (a : S4096x2048.Idx → EReal) (b : S1024x2048.Idx → EReal) : val_main_v3 (F := Ideal) a b = Cert.GluInputIdeal.Hand.val a b := by
  funext i
  idx_vars i
  rw [← val_main_v3_eq]
  pointwise [Cert.GluInputIdeal.Hand.val]

end Cert.GluInputReferenceIdeal.Hand

namespace Cert.Proof

open Idealize.ShloMosaic Idealize.SL.Sem Cert.GluInputIdeal.Hand

/-- The gradient with respect to the gated linear unit's input: the program and its reference agree on the extended reals. -/
theorem gluInput_algebraic : Cert.algebraic_GluInputIdeal_GluInputReferenceIdeal := by
  intro m g m' g' _ hagree
  refine ⟨fun c => val (arg0 m c) (arg1 m c), ?_, ?_⟩
  · refine (θ_run _ _ _).mono (fun r h c => ?_) (Cert.GluInputIdeal.Value.run_blocks m g)
    obtain ⟨h0, hk⟩ := h c
    exact ⟨h0.trans (final m c), hk⟩
  · refine (θ_run _ _ _).mono (fun r h c => ?_) (Cert.GluInputReferenceIdeal.Value.run m' g')
    obtain ⟨h0, hk⟩ := h c
    obtain ⟨a0, a1⟩ := hagree c
    refine ⟨h0.trans ?_, hk⟩
    rw [Cert.GluInputReferenceIdeal.Read.val_main_v3_eq, Cert.GluInputReferenceIdeal.Hand.val_eq, a0, a1]

/-- The reference runs to its end, keeps its arguments and uses no semaphore. -/
theorem gluInput_reference_frame : Cert.quiescent_GluInputReferenceIdeal := fun m ρ _ =>
  (θ_run Cert.GluInputReferenceIdeal.defs _ _).mono (fun r h => ⟨fun c => (h c).2, sem_eq_zero_of_no_sems (by decide) r.2⟩)
    (Cert.GluInputReferenceIdeal.Value.run (F := Ideal) m ρ)

end Cert.Proof

end
-- ==== Proof.GluGate.lean ====
/- The gradient of the S5 branch's output unit, GLU(y + b) · silu(z).

   With v and g the halves of y + b: the gradient of v is dout · silu(z) · σ(g), of g dout · silu(z) · v · σ′(g), of z dout · v · σ(g) · silu′(z), and of b the sum over the rows of y's. -/
module

public import proofs.«01_k».proof.Defs
public import proofs.«01_k».proof.Proof.Gen.GluGateIdeal.Value
public import proofs.«01_k».proof.Proof.Gen.GluGateReferenceIdeal.Run
public import proofs.«01_k».proof.Proof.Gen.GluGateReferenceIdeal.Read
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section

set_option maxRecDepth 16384

noncomputable section

namespace Cert.GluGateIdeal.Hand

open Cert.GluGateIdeal Cert.GluGateIdeal.Gen Idealize.ShloMosaic Idealize.ShloMosaic.TcCoe Idealize.SL.Sem

/-- The logistic function's slope. -/
def sigSlope (x : EReal) : EReal := Ideal.logistic x * (1 - Ideal.logistic x)

/-- Row `s` of the values' half, bias added. -/
def vals (y : S4096x2048.Idx → EReal) (b : S2048.Idx → EReal) (s : Fin 4096) (j : Fin 1024) : EReal :=
  y (ix2 s ⟨j.val, by omega⟩) + b (ix1 ⟨j.val, by omega⟩)

/-- Row `s` of the gates' half, bias added. -/
def gates (y : S4096x2048.Idx → EReal) (b : S2048.Idx → EReal) (s : Fin 4096) (j : Fin 1024) : EReal :=
  y (ix2 s ⟨1024 + j.val, by omega⟩) + b (ix1 ⟨1024 + j.val, by omega⟩)

/-- The gradient with respect to the gated unit. -/
def unit (z u : S4096x1024.Idx → EReal) (s : Fin 4096) (j : Fin 1024) : EReal :=
  u (ix2 s j) * (z (ix2 s j) * Ideal.logistic (z (ix2 s j)))

/-- The gradient with respect to column `k` of row `s` of the two halves. -/
def half (y : S4096x2048.Idx → EReal) (z : S4096x1024.Idx → EReal)
    (b : S2048.Idx → EReal) (u : S4096x1024.Idx → EReal) (s : Fin 4096) (k : Fin 2048) : EReal :=
  if h : k.val < 1024 then unit z u s ⟨k.val, h⟩ * Ideal.logistic (gates y b s ⟨k.val, h⟩)
  else vals y b s ⟨k.val - 1024, by omega⟩ * unit z u s ⟨k.val - 1024, by omega⟩ * sigSlope (gates y b s ⟨k.val - 1024, by omega⟩)

/-- The gradient of y. -/
def dy (y : S4096x2048.Idx → EReal) (z : S4096x1024.Idx → EReal) (b : S2048.Idx → EReal) (u : S4096x1024.Idx → EReal) : S4096x2048.Idx → EReal :=
  fun i => half y z b u (i 0) (i 1)

/-- The gradient of z. -/
def dz (y : S4096x2048.Idx → EReal) (z : S4096x1024.Idx → EReal) (b : S2048.Idx → EReal) (u : S4096x1024.Idx → EReal) : S4096x1024.Idx → EReal :=
  fun i => vals y b (i 0) (i 1) * Ideal.logistic (gates y b (i 0) (i 1)) * u i * Ideal.logistic (z i)
    + z i * (vals y b (i 0) (i 1) * Ideal.logistic (gates y b (i 0) (i 1)) * u i) * sigSlope (z i)

/-- The gradient of b. -/
def db (y : S4096x2048.Idx → EReal) (z : S4096x1024.Idx → EReal) (b : S2048.Idx → EReal) (u : S4096x1024.Idx → EReal) : S1x2048.Idx → EReal :=
  fun i => ∑ s : Fin 4096, half y z b u s (i 1)

variable (m : (ℓ : Loc nD τ sig) → Buf (Elt Ideal) ℓ)

abbrev arg0 (c : Dev nD) : S4096x2048.Idx → EReal := m ((c : Thread nD τ).loc main_arg0)
abbrev arg1 (c : Dev nD) : S4096x1024.Idx → EReal := m ((c : Thread nD τ).loc main_arg1)
abbrev arg2 (c : Dev nD) : S2048.Idx → EReal := m ((c : Thread nD τ).loc main_arg2)
abbrev arg3 (c : Dev nD) : S4096x1024.Idx → EReal := m ((c : Thread nD τ).loc main_arg3)

/-- Every window's block index at a grid point. -/
theorem idx : ∀ t : Fin cfg0.N, win0_0.index t = ![t.val, 0]
    ∧ win0_1.index t = ![t.val, 0]
    ∧ win0_2.index t = ![0, 0]
    ∧ win0_3.index t = ![t.val, 0]
    ∧ win0_4.index t = ![t.val, 0]
    ∧ win0_5.index t = ![t.val, 0]
    ∧ win0_6.index t = ![0, 0] :=
  (by decide +kernel : ∀ t : Fin grid0.N, _)

/-- The row of the whole array at row `r` of point `t`'s block. -/
def row (t : ℕ) (r : Fin 256) : Fin 4096 := ⟨t % 16 * 256 + r.val, by omega⟩

/-- The sum of two joined blocks, one half of each zero. -/
theorem joined (A B : FVec Ideal S256x1024 .f32) (h h' : Shape.Concatenates [S256x1024, S256x1024] S256x2048 1) (r : Fin 256) (k : Fin 2048) :
    addf (concatenate S256x2048 1 [⟨S256x1024, broadcast S256x1024 (FloatOps.ofBits (F := Ideal) .f32 0#32)⟩, ⟨S256x1024, A⟩] h)
      (concatenate S256x2048 1 [⟨S256x1024, B⟩, ⟨S256x1024, broadcast S256x1024 (FloatOps.ofBits (F := Ideal) .f32 0#32)⟩] h') (ix2 r k)
      = if h : k.val < 1024 then B (ix2 r ⟨k.val, h⟩) else A (ix2 r ⟨k.val - 1024, by omega⟩) := by
  pointwise
  split <;> simp

/-- The same of two rows. -/
theorem joined_row (A B : FVec Ideal S1x1024 .f32) (h h' : Shape.Concatenates [S1x1024, S1x1024] S1x2048 1) (r : Fin 1) (k : Fin 2048) :
    addf (concatenate S1x2048 1 [⟨S1x1024, broadcast S1x1024 (FloatOps.ofBits (F := Ideal) .f32 0#32)⟩, ⟨S1x1024, A⟩] h)
      (concatenate S1x2048 1 [⟨S1x1024, B⟩, ⟨S1x1024, broadcast S1x1024 (FloatOps.ofBits (F := Ideal) .f32 0#32)⟩] h') (ix2 r k)
      = if h : k.val < 1024 then B (ix2 0 ⟨k.val, h⟩) else A (ix2 0 ⟨k.val - 1024, by omega⟩) := by
  pointwise
  split <;> simp

/-- Window 0's block. -/
theorem in0 (c : Dev nD) (t : Fin cfg0.N) (r : Fin 256) (k : Fin 2048) :
    iblk m c 0 t (ix2 r k) = arg0 m c (ix2 (row t.val r) k) := by
  have ht : t.val < 16 := t.isLt
  blk_ext! [iblk, V, row, idx t]

/-- Window 1's block. -/
theorem in1 (c : Dev nD) (t : Fin cfg0.N) (r : Fin 256) (k : Fin 1024) :
    iblk m c 1 t (ix2 r k) = arg1 m c (ix2 (row t.val r) k) := by
  have ht : t.val < 16 := t.isLt
  blk_ext! [iblk, V, row, idx t]

/-- What the host hands window 2. -/
theorem host2 (c : Dev nD) (k : Fin 2048) :
    (V m c main_v0 : S1x2048.Idx → EReal) (ix2 0 k) = arg2 m c (ix1 k) := by
  show StableHlo.after hostOps0 (fun b => m (c, b)) (Proc.devRef .tc main_v0) _ = _
  after_reads_simp
  pointwise

/-- Window 2's block. -/
theorem in2 (c : Dev nD) (t : Fin cfg0.N) (k : Fin 2048) :
    iblk m c 2 t (ix2 0 k) = arg2 m c (ix1 k) := by
  have ht : t.val < 16 := t.isLt
  rw [← host2 m c k]
  blk_ext! [iblk, row, idx t]

/-- Window 3's block. -/
theorem in3 (c : Dev nD) (t : Fin cfg0.N) (r : Fin 256) (k : Fin 1024) :
    iblk m c 3 t (ix2 r k) = arg3 m c (ix2 (row t.val r) k) := by
  have ht : t.val < 16 := t.isLt
  blk_ext! [iblk, V, row, idx t]

/-- What a point leaves in window 4's block. -/
theorem point4 (c : Dev nD) (t : Fin cfg0.N) (y : S256x2048.Idx) :
    (outsAt0 m c t.val t.isLt).1 y = dy (arg0 m c) (arg1 m c) (arg2 m c) (arg3 m c) (ix2 (row t.val (y 0)) (y 1)) := by
  idx_vars y
  by_cases h0 : t.val % 16 = 0
  · rw [outsAt0_A m c t h0]
    frame_out
    unfold_payloads
    refine (joined _ _ _ _ y0 y1).trans ?_
    by_cases h1 : y1.val < 1024
    · rw [dif_pos h1]
      pointwise [dy, half, unit, vals, gates, sigSlope, in0, in1, in2, in3]
      rw [dif_pos h1]
    · rw [dif_neg h1]
      pointwise [dy, half, unit, vals, gates, sigSlope, in0, in1, in2, in3]
      rw [dif_neg h1]
  · rw [outsAt0_B m c t h0]
    frame_out
    unfold_payloads
    refine (joined _ _ _ _ y0 y1).trans ?_
    by_cases h1 : y1.val < 1024
    · rw [dif_pos h1]
      pointwise [dy, half, unit, vals, gates, sigSlope, in0, in1, in2, in3]
      rw [dif_pos h1]
    · rw [dif_neg h1]
      pointwise [dy, half, unit, vals, gates, sigSlope, in0, in1, in2, in3]
      rw [dif_neg h1]

/-- The result array of window 4. -/
theorem final4 (c : Dev nD) : (dats m 0 c).arrAt 4 (cfgs 0).N = dy (arg0 m c) (arg1 m c) (arg2 m c) (arg3 m c) := by
  refine (dats m 0 c).arrAt_eq_of_covers 4 _ (by decide +kernel) fun t hf y => ?_
  have ht : t.val < 16 := t.isLt
  blk_simp
  rw [after0_4, point4]
  blk_ext [row, idx t]

/-- What a point leaves in window 5's block. -/
theorem point5 (c : Dev nD) (t : Fin cfg0.N) (y : S256x1024.Idx) :
    (outsAt0 m c t.val t.isLt).2.1 y = dz (arg0 m c) (arg1 m c) (arg2 m c) (arg3 m c) (ix2 (row t.val (y 0)) (y 1)) := by
  idx_vars y
  by_cases h0 : t.val % 16 = 0
  · rw [outsAt0_A m c t h0]
    frame_out
    unfold_payloads
    pointwise [dz, half, unit, vals, gates, sigSlope, in0, in1, in2, in3]
  · rw [outsAt0_B m c t h0]
    frame_out
    unfold_payloads
    pointwise [dz, half, unit, vals, gates, sigSlope, in0, in1, in2, in3]

/-- The result array of window 5. -/
theorem final5 (c : Dev nD) : (dats m 0 c).arrAt 5 (cfgs 0).N = dz (arg0 m c) (arg1 m c) (arg2 m c) (arg3 m c) := by
  refine (dats m 0 c).arrAt_eq_of_covers 5 _ (by decide +kernel) fun t hf y => ?_
  have ht : t.val < 16 := t.isLt
  blk_simp
  rw [after0_5, point5]
  blk_ext [row, idx t]

/-- One point's contribution to window 6's block. -/
def part6 (c : Dev nD) (t : ℕ) (y : S1x2048.Idx) : EReal :=
  ∑ r : Fin 256, half (arg0 m c) (arg1 m c) (arg2 m c) (arg3 m c) (row t r) (y 1)

/-- What the first point leaves in window 6's block. -/
theorem first6 (c : Dev nD) (t : Fin cfg0.N) (h0 : t.val % 16 = 0) (y : S1x2048.Idx) :
    (outsAt0 m c t.val t.isLt).2.2 y = 0 + part6 m c t.val y := by
  idx_vars y
  rw [outsAt0_A m c t h0]
  frame_open
  simp (disch := decide) only [↓ View.readCov_skip, ↓ View.readCov_cons_toLoadRect, ↓ View.readCov_fill]
  frame_out
  unfold_payloads
  refine congrArg₂ (· + ·) ?_ ((joined_row _ _ _ _ y0 y1).trans ?_)
  · pointwise
  by_cases h1 : y1.val < 1024
  · rw [dif_pos h1]
    pointwise [part6, half, unit, vals, gates, sigSlope, in0, in1, in2, in3]
    simp only [dif_pos h1]
  · rw [dif_neg h1]
    pointwise [part6, half, unit, vals, gates, sigSlope, in0, in1, in2, in3]
    simp only [dif_neg h1]

/-- What a later point leaves in window 6's block. -/
theorem later6 (c : Dev nD) (t : Fin cfg0.N) (h0 : ¬ t.val % 16 = 0) (y : S1x2048.Idx) :
    (outsAt0 m c t.val t.isLt).2.2 y = (outsAt0 m c (t.val - 1) (by omega)).2.2 y + part6 m c t.val y := by
  idx_vars y
  rw [outsAt0_B m c t h0]
  frame_out
  unfold_payloads
  refine congrArg₂ (· + ·) ?_ ((joined_row _ _ _ _ y0 y1).trans ?_)
  · pointwise
  by_cases h1 : y1.val < 1024
  · rw [dif_pos h1]
    pointwise [part6, half, unit, vals, gates, sigSlope, in0, in1, in2, in3]
    simp only [dif_pos h1]
  · rw [dif_neg h1]
    pointwise [part6, half, unit, vals, gates, sigSlope, in0, in1, in2, in3]
    simp only [dif_neg h1]

/-- Window 6's block at the last point. -/
theorem run6 (c : Dev nD) (t : Fin cfg0.N) (h : t.val % 16 = 15) (y : S1x2048.Idx) :
    (outsAt0 m c t.val t.isLt).2.2 y = db (arg0 m c) (arg1 m c) (arg2 m c) (arg3 m c) y := by
  have ht : t.val < 16 := t.isLt
  have e := Pipeline.eq_sum_of_reset_step_apply_of_mod (M := EReal) (fun n h => (outsAt0 m c n h).2.2) 16 (fun _ => 0)
    (part6 m c) (first6 m c) (later6 m c) t h y
  rw [e, zero_add, Finset.sum_range]
  refine Fin.sum_mul_add_congr (S := 16) (n := 256) fun s k hl => ?_
  have hs : s.val < 16 := s.isLt
  have e : row (16 * (t.val / 16) + s.val) k = ⟨s.val * 256 + k.val, hl⟩ := Fin.ext (by simp only [row] <;> omega)
  rw [e]

/-- The result array of window 6. -/
theorem final6 (c : Dev nD) : (dats m 0 c).arrAt 6 (cfgs 0).N = db (arg0 m c) (arg1 m c) (arg2 m c) (arg3 m c) := by
  refine (dats m 0 c).arrAt_eq_of_covers 6 _ (by decide +kernel) fun t hf y => ?_
  have ht : t.val < 16 := t.isLt
  blk_simp
  rw [after0_6, run6 m c t ((flush0_6 t).mp hf)]
  blk_ext [row, idx t]

end Cert.GluGateIdeal.Hand

namespace Cert.GluGateReferenceIdeal.Hand

open Cert.GluGateReferenceIdeal Cert.GluGateReferenceIdeal.Read Idealize.ShloMosaic
open Cert.GluGateIdeal.Hand

/-- The reference's result for window 4. -/
theorem eq4 (y : S4096x2048.Idx → EReal) (z : S4096x1024.Idx → EReal) (b : S2048.Idx → EReal) (u : S4096x1024.Idx → EReal) : val_main_v27 (F := Ideal) y z b u = dy y z b u := by
  funext i
  idx_vars i
  rw [← val_main_v27_eq]
  pointwise [dy, half, unit, vals, gates, sigSlope, Ideal.logistic]

/-- The reference's result for window 5. -/
theorem eq5 (y : S4096x2048.Idx → EReal) (z : S4096x1024.Idx → EReal) (b : S2048.Idx → EReal) (u : S4096x1024.Idx → EReal) : val_main_v28 (F := Ideal) y z b u = dz y z b u := by
  funext i
  idx_vars i
  rw [← val_main_v28_eq]
  pointwise [dz, half, unit, vals, gates, sigSlope, Ideal.logistic]

/-- The reference's result for window 6. -/
theorem eq6 (y : S4096x2048.Idx → EReal) (z : S4096x1024.Idx → EReal) (b : S2048.Idx → EReal) (u : S4096x1024.Idx → EReal) : val_main_v29 (F := Ideal) y z b u = db y z b u := by
  funext i
  idx_vars i
  rw [← val_main_v29_eq]
  pointwise [db, half, unit, vals, gates, sigSlope, Ideal.logistic]
  simp only [Finset.univ_unique, Finset.sum_singleton]

end Cert.GluGateReferenceIdeal.Hand

namespace Cert.Proof

open Idealize.ShloMosaic Idealize.SL.Sem Cert.GluGateIdeal.Hand Cert.GluGateReferenceIdeal.Hand Cert.GluGateReferenceIdeal.Read

/-- The gradient of the S5 branch's output unit, GLU(y + b) · silu(z): the program and its reference agree on the extended reals. -/
theorem gluGate_algebraic : Cert.algebraic_GluGateIdeal_GluGateReferenceIdeal := by
  intro m g m' g' _ hagree
  refine ⟨fun c => dy (arg0 m c) (arg1 m c) (arg2 m c) (arg3 m c), fun c => dz (arg0 m c) (arg1 m c) (arg2 m c) (arg3 m c), fun c => db (arg0 m c) (arg1 m c) (arg2 m c) (arg3 m c), ?_, ?_⟩
  · refine (θ_run _ _ _).mono (fun r h c => ?_) (Cert.GluGateIdeal.Value.run_blocks m g)
    obtain ⟨h0, h1, h2, hk⟩ := h c
    exact ⟨h0.trans (final4 m c), h1.trans (final5 m c), h2.trans (final6 m c), hk⟩
  · refine (θ_run _ _ _).mono (fun r h c => ?_) (Cert.GluGateReferenceIdeal.Value.run m' g')
    obtain ⟨h0, h1, h2, hk⟩ := h c
    obtain ⟨a0, a1, a2, a3⟩ := hagree c
    refine ⟨h0.trans ?_, h1.trans ?_, h2.trans ?_, hk⟩
    · rw [val_main_v27_eq, eq4, a0, a1, a2, a3]
    · rw [val_main_v28_eq, eq5, a0, a1, a2, a3]
    · rw [val_main_v29_eq, eq6, a0, a1, a2, a3]

/-- The reference runs to its end, keeps its arguments and uses no semaphore. -/
theorem gluGate_reference_frame : Cert.quiescent_GluGateReferenceIdeal := fun m ρ _ =>
  (θ_run Cert.GluGateReferenceIdeal.defs _ _).mono (fun r h => ⟨fun c => (h c).2.2.2, sem_eq_zero_of_no_sems (by decide) r.2⟩)
    (Cert.GluGateReferenceIdeal.Value.run (F := Ideal) m ρ)

end Cert.Proof

end
-- ==== Proof.SkipGelu.lean ====
/- The gradient of the S5 branch's skip and gelu, gelu(y + d ⊙ u).

   G = gelu′(y + d ⊙ u) · g is the gradient of y, d ⊙ G that of u, and the sum over the rows of G ⊙ u that of d. -/
module

public import proofs.«01_k».proof.Defs
public import proofs.«01_k».proof.Proof.Gen.SkipGeluIdeal.Value
public import proofs.«01_k».proof.Proof.Gen.SkipGeluReferenceIdeal.Run
public import proofs.«01_k».proof.Proof.Gen.SkipGeluReferenceIdeal.Read
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section

set_option maxRecDepth 16384

noncomputable section

namespace Cert.SkipGeluIdeal.Hand

open Cert.SkipGeluIdeal Cert.SkipGeluIdeal.Gen Idealize.ShloMosaic Idealize.ShloMosaic.TcCoe Idealize.SL.Sem

/-- The argument of the gelu at row `s`, column `k`: `d`'s entry is that of group `k / 16`, channel `k % 16`. -/
def pre (y u : S4096x1024.Idx → EReal) (d : S64x16.Idx → EReal) (s : Fin 4096) (k : Fin 1024) : EReal :=
  y (ix2 s k) + d (ix2 ⟨k.val / 16, by omega⟩ ⟨k.val % 16, by omega⟩) * u (ix2 s k)

/-- The hyperbolic tangent in the gelu (the words are those of √(2/π) and 0.044715). -/
def th (x : EReal) : EReal :=
  Ideal.tanh (Ideal.ofBits .f32 0x3F4C422A#32 * (x + Ideal.ofBits .f32 0x3D372713#32 * (x * (x * x))))

/-- The tangent with its cube grouped the other way. -/
theorem th_eq (x : EReal) :
    th x = Ideal.tanh (Ideal.ofBits .f32 0x3F4C422A#32 * (x + Ideal.ofBits .f32 0x3D372713#32 * (x * x * x))) := by
  rw [th, mul_comm (x * x) x]

/-- The gradient that comes through the tangent (the word is that of 1/2). -/
def thGrad (x g : EReal) : EReal :=
  Ideal.ofBits .f32 0x3F4C422A#32 * (Ideal.ofBits .f32 0x3F000000#32 * (x * g) * ((1 + th x) * (1 - th x)))

/-- The gelu's gradient at `x`, times `g` (the word of 3 is the last). -/
def geluGrad (x g : EReal) : EReal :=
  g * (Ideal.ofBits .f32 0x3F000000#32 * (1 + th x)) + thGrad x g
    + Ideal.ofBits .f32 0x3D372713#32 * thGrad x g * (Ideal.ofBits .f32 0x40400000#32 * (x * x))

/-- The gradient of y. -/
def dy (y u : S4096x1024.Idx → EReal) (d : S64x16.Idx → EReal) (g : S4096x1024.Idx → EReal) : S4096x1024.Idx → EReal :=
  fun i => geluGrad (pre y u d (i 0) (i 1)) (g i)

/-- The gradient of u. -/
def du (y u : S4096x1024.Idx → EReal) (d : S64x16.Idx → EReal) (g : S4096x1024.Idx → EReal) : S4096x1024.Idx → EReal :=
  fun i => d (ix2 ⟨(i 1).val / 16, by have := (i 1).isLt; dsimp at this; omega⟩ ⟨(i 1).val % 16, by omega⟩) * geluGrad (pre y u d (i 0) (i 1)) (g i)

/-- The gradient of d. -/
def dd (y u : S4096x1024.Idx → EReal) (d : S64x16.Idx → EReal) (g : S4096x1024.Idx → EReal) : S1x1024.Idx → EReal :=
  fun i => ∑ s : Fin 4096, geluGrad (pre y u d s (i 1)) (g (ix2 s (i 1))) * u (ix2 s (i 1))

variable (m : (ℓ : Loc nD τ sig) → Buf (Elt Ideal) ℓ)

abbrev arg0 (c : Dev nD) : S4096x1024.Idx → EReal := m ((c : Thread nD τ).loc main_arg0)
abbrev arg1 (c : Dev nD) : S4096x1024.Idx → EReal := m ((c : Thread nD τ).loc main_arg1)
abbrev arg2 (c : Dev nD) : S64x16.Idx → EReal := m ((c : Thread nD τ).loc main_arg2)
abbrev arg3 (c : Dev nD) : S4096x1024.Idx → EReal := m ((c : Thread nD τ).loc main_arg3)

/-- Every window's block index at a grid point. -/
theorem idx : ∀ t : Fin cfg0.N, win0_0.index t = ![t.val, 0]
    ∧ win0_1.index t = ![t.val, 0]
    ∧ win0_2.index t = ![0, 0]
    ∧ win0_3.index t = ![t.val, 0]
    ∧ win0_4.index t = ![t.val, 0]
    ∧ win0_5.index t = ![t.val, 0]
    ∧ win0_6.index t = ![0, 0] :=
  (by decide +kernel : ∀ t : Fin grid0.N, _)

/-- The row of the whole array at row `r` of point `t`'s block. -/
def row (t : ℕ) (r : Fin 256) : Fin 4096 := ⟨t % 16 * 256 + r.val, by omega⟩

/-- Window 0's block. -/
theorem in0 (c : Dev nD) (t : Fin cfg0.N) (r : Fin 256) (k : Fin 1024) :
    iblk m c 0 t (ix2 r k) = arg0 m c (ix2 (row t.val r) k) := by
  have ht : t.val < 16 := t.isLt
  blk_ext! [iblk, V, row, idx t]

/-- Window 1's block. -/
theorem in1 (c : Dev nD) (t : Fin cfg0.N) (r : Fin 256) (k : Fin 1024) :
    iblk m c 1 t (ix2 r k) = arg1 m c (ix2 (row t.val r) k) := by
  have ht : t.val < 16 := t.isLt
  blk_ext! [iblk, V, row, idx t]

/-- What the host hands window 2. -/
theorem host2 (c : Dev nD) (k : Fin 1024) :
    (V m c main_v0 : S1x1024.Idx → EReal) (ix2 0 k) = arg2 m c (ix2 ⟨k.val / 16, by omega⟩ ⟨k.val % 16, by omega⟩) := by
  show StableHlo.after hostOps0 (fun b => m (c, b)) (Proc.devRef .tc main_v0) _ = _
  after_reads_simp
  pointwise

/-- Window 2's block. -/
theorem in2 (c : Dev nD) (t : Fin cfg0.N) (k : Fin 1024) :
    iblk m c 2 t (ix2 0 k) = arg2 m c (ix2 ⟨k.val / 16, by omega⟩ ⟨k.val % 16, by omega⟩) := by
  have ht : t.val < 16 := t.isLt
  rw [← host2 m c k]
  blk_ext! [iblk, row, idx t]

/-- Window 3's block. -/
theorem in3 (c : Dev nD) (t : Fin cfg0.N) (r : Fin 256) (k : Fin 1024) :
    iblk m c 3 t (ix2 r k) = arg3 m c (ix2 (row t.val r) k) := by
  have ht : t.val < 16 := t.isLt
  blk_ext! [iblk, V, row, idx t]

/-- What a point leaves in window 4's block. -/
theorem point4 (c : Dev nD) (t : Fin cfg0.N) (y : S256x1024.Idx) :
    (outsAt0 m c t.val t.isLt).1 y = dy (arg0 m c) (arg1 m c) (arg2 m c) (arg3 m c) (ix2 (row t.val (y 0)) (y 1)) := by
  idx_vars y
  by_cases h0 : t.val % 16 = 0
  · rw [outsAt0_A m c t h0]
    frame_out
    unfold_payloads
    pointwise [dy, pre, th, thGrad, geluGrad, in0, in1, in2, in3]
  · rw [outsAt0_B m c t h0]
    frame_out
    unfold_payloads
    pointwise [dy, pre, th, thGrad, geluGrad, in0, in1, in2, in3]

/-- The result array of window 4. -/
theorem final4 (c : Dev nD) : (dats m 0 c).arrAt 4 (cfgs 0).N = dy (arg0 m c) (arg1 m c) (arg2 m c) (arg3 m c) := by
  refine (dats m 0 c).arrAt_eq_of_covers 4 _ (by decide +kernel) fun t hf y => ?_
  have ht : t.val < 16 := t.isLt
  blk_simp
  rw [after0_4, point4]
  blk_ext [row, idx t]

/-- What a point leaves in window 5's block. -/
theorem point5 (c : Dev nD) (t : Fin cfg0.N) (y : S256x1024.Idx) :
    (outsAt0 m c t.val t.isLt).2.1 y = du (arg0 m c) (arg1 m c) (arg2 m c) (arg3 m c) (ix2 (row t.val (y 0)) (y 1)) := by
  idx_vars y
  by_cases h0 : t.val % 16 = 0
  · rw [outsAt0_A m c t h0]
    frame_out
    unfold_payloads
    pointwise [du, pre, th, thGrad, geluGrad, in0, in1, in2, in3]
  · rw [outsAt0_B m c t h0]
    frame_out
    unfold_payloads
    pointwise [du, pre, th, thGrad, geluGrad, in0, in1, in2, in3]

/-- The result array of window 5. -/
theorem final5 (c : Dev nD) : (dats m 0 c).arrAt 5 (cfgs 0).N = du (arg0 m c) (arg1 m c) (arg2 m c) (arg3 m c) := by
  refine (dats m 0 c).arrAt_eq_of_covers 5 _ (by decide +kernel) fun t hf y => ?_
  have ht : t.val < 16 := t.isLt
  blk_simp
  rw [after0_5, point5]
  blk_ext [row, idx t]

/-- One point's contribution to window 6's block. -/
def part6 (c : Dev nD) (t : ℕ) (y : S1x1024.Idx) : EReal :=
  ∑ r : Fin 256, geluGrad (pre (arg0 m c) (arg1 m c) (arg2 m c) (row t r) (y 1)) (arg3 m c (ix2 (row t r) (y 1))) * arg1 m c (ix2 (row t r) (y 1))

/-- What the first point leaves in window 6's block. -/
theorem first6 (c : Dev nD) (t : Fin cfg0.N) (h0 : t.val % 16 = 0) (y : S1x1024.Idx) :
    (outsAt0 m c t.val t.isLt).2.2 y = 0 + part6 m c t.val y := by
  idx_vars y
  rw [outsAt0_A m c t h0]
  frame_open
  simp (disch := decide) only [↓ View.readCov_skip, ↓ View.readCov_cons_toLoadRect, ↓ View.readCov_fill]
  frame_out
  unfold_payloads
  pointwise [part6, dd, pre, th, thGrad, geluGrad, in0, in1, in2, in3]

/-- What a later point leaves in window 6's block. -/
theorem later6 (c : Dev nD) (t : Fin cfg0.N) (h0 : ¬ t.val % 16 = 0) (y : S1x1024.Idx) :
    (outsAt0 m c t.val t.isLt).2.2 y = (outsAt0 m c (t.val - 1) (by omega)).2.2 y + part6 m c t.val y := by
  idx_vars y
  rw [outsAt0_B m c t h0]
  frame_out
  unfold_payloads
  pointwise [part6, dd, pre, th, thGrad, geluGrad, in0, in1, in2, in3]

/-- Window 6's block at the last point. -/
theorem run6 (c : Dev nD) (t : Fin cfg0.N) (h : t.val % 16 = 15) (y : S1x1024.Idx) :
    (outsAt0 m c t.val t.isLt).2.2 y = dd (arg0 m c) (arg1 m c) (arg2 m c) (arg3 m c) y := by
  have ht : t.val < 16 := t.isLt
  have e := Pipeline.eq_sum_of_reset_step_apply_of_mod (M := EReal) (fun n h => (outsAt0 m c n h).2.2) 16 (fun _ => 0)
    (part6 m c) (first6 m c) (later6 m c) t h y
  rw [e, zero_add, Finset.sum_range]
  refine Fin.sum_mul_add_congr (S := 16) (n := 256) fun s k hl => ?_
  have hs : s.val < 16 := s.isLt
  have e : row (16 * (t.val / 16) + s.val) k = ⟨s.val * 256 + k.val, hl⟩ := Fin.ext (by simp only [row] <;> omega)
  rw [e]

/-- The result array of window 6. -/
theorem final6 (c : Dev nD) : (dats m 0 c).arrAt 6 (cfgs 0).N = dd (arg0 m c) (arg1 m c) (arg2 m c) (arg3 m c) := by
  refine (dats m 0 c).arrAt_eq_of_covers 6 _ (by decide +kernel) fun t hf y => ?_
  have ht : t.val < 16 := t.isLt
  blk_simp
  rw [after0_6, run6 m c t ((flush0_6 t).mp hf)]
  blk_ext [row, idx t]

end Cert.SkipGeluIdeal.Hand

namespace Cert.SkipGeluReferenceIdeal.Hand

open Cert.SkipGeluReferenceIdeal Cert.SkipGeluReferenceIdeal.Read Idealize.ShloMosaic
open Cert.SkipGeluIdeal.Hand

/-- The reference's result for window 4. -/
theorem eq4 (y u : S4096x1024.Idx → EReal) (d : S64x16.Idx → EReal) (g : S4096x1024.Idx → EReal) : val_main_v49 (F := Ideal) y u d g = dy y u d g := by
  funext i
  idx_vars i
  pointwise [val_main_v49, val_main_v48, val_main_v40, val_main_v39, val_main_v38, val_main_v11, val_main_v9, val_main_v6, val_main_v5, val_main_v4, val_main_v1, val_main_v3, val_main_v2, val_main_v0, val_main_v10, val_main_cst, val_main_v37, val_main_v34, val_main_v32, val_main_v22, val_main_v21, val_main_v17, val_main_v16, val_main_v14, val_main_v13, val_main_v8, val_main_v7, val_main_v12, val_main_cst_0, val_main_v15, val_main_cst_1, val_main_v20, val_main_cst_3, val_main_v19, val_main_v18, val_main_cst_2, val_main_v31, val_main_v28, val_main_v30, val_main_cst_6, val_main_v33, val_main_cst_7, val_main_v36, val_main_cst_8, val_main_v35, val_main_v29, val_main_v26, val_main_v24, val_main_v23, val_main_cst_4, val_main_v25, val_main_cst_5]
  pointwise [dy, pre, th_eq, thGrad, geluGrad, Ideal.logistic]

/-- The reference's result for window 5. -/
theorem eq5 (y u : S4096x1024.Idx → EReal) (d : S64x16.Idx → EReal) (g : S4096x1024.Idx → EReal) : val_main_v47 (F := Ideal) y u d g = du y u d g := by
  funext i
  idx_vars i
  pointwise [val_main_v47, val_main_v42, val_main_v40, val_main_v39, val_main_v38, val_main_v11, val_main_v9, val_main_v6, val_main_v5, val_main_v4, val_main_v1, val_main_v3, val_main_v2, val_main_v0, val_main_v10, val_main_cst, val_main_v37, val_main_v34, val_main_v32, val_main_v22, val_main_v21, val_main_v17, val_main_v16, val_main_v14, val_main_v13, val_main_v8, val_main_v7, val_main_v12, val_main_cst_0, val_main_v15, val_main_cst_1, val_main_v20, val_main_cst_3, val_main_v19, val_main_v18, val_main_cst_2, val_main_v31, val_main_v28, val_main_v30, val_main_cst_6, val_main_v33, val_main_cst_7, val_main_v36, val_main_cst_8, val_main_v35, val_main_v29, val_main_v26, val_main_v24, val_main_v23, val_main_cst_4, val_main_v25, val_main_cst_5, val_main_v41]
  pointwise [du, pre, th_eq, thGrad, geluGrad, Ideal.logistic]

/-- The reference's result for window 6. -/
theorem eq6 (y u : S4096x1024.Idx → EReal) (d : S64x16.Idx → EReal) (g : S4096x1024.Idx → EReal) : val_main_v50 (F := Ideal) y u d g = dd y u d g := by
  funext i
  idx_vars i
  pointwise [val_main_v50, val_main_v46, val_main_cst_10, val_main_v45, val_main_v44, val_main_cst_9, val_main_v43, val_main_v1, val_main_v40, val_main_v39, val_main_v38, val_main_v11, val_main_v9, val_main_v6, val_main_v5, val_main_v4, val_main_v3, val_main_v2, val_main_v0, val_main_v10, val_main_cst, val_main_v37, val_main_v34, val_main_v32, val_main_v22, val_main_v21, val_main_v17, val_main_v16, val_main_v14, val_main_v13, val_main_v8, val_main_v7, val_main_v12, val_main_cst_0, val_main_v15, val_main_cst_1, val_main_v20, val_main_cst_3, val_main_v19, val_main_v18, val_main_cst_2, val_main_v31, val_main_v28, val_main_v30, val_main_cst_6, val_main_v33, val_main_cst_7, val_main_v36, val_main_cst_8, val_main_v35, val_main_v29, val_main_v26, val_main_v24, val_main_v23, val_main_cst_4, val_main_v25, val_main_cst_5]
  pointwise [dd, pre, th_eq, thGrad, geluGrad, Ideal.logistic]
  simp only [Finset.univ_unique, Finset.sum_singleton]

end Cert.SkipGeluReferenceIdeal.Hand

namespace Cert.Proof

open Idealize.ShloMosaic Idealize.SL.Sem Cert.SkipGeluIdeal.Hand Cert.SkipGeluReferenceIdeal.Hand Cert.SkipGeluReferenceIdeal.Read

/-- The gradient of the S5 branch's skip and gelu, gelu(y + d ⊙ u): the program and its reference agree on the extended reals. -/
theorem skipGelu_algebraic : Cert.algebraic_SkipGeluIdeal_SkipGeluReferenceIdeal := by
  intro m g m' g' _ hagree
  refine ⟨fun c => dy (arg0 m c) (arg1 m c) (arg2 m c) (arg3 m c), fun c => du (arg0 m c) (arg1 m c) (arg2 m c) (arg3 m c), fun c => dd (arg0 m c) (arg1 m c) (arg2 m c) (arg3 m c), ?_, ?_⟩
  · refine (θ_run _ _ _).mono (fun r h c => ?_) (Cert.SkipGeluIdeal.Value.run_blocks m g)
    obtain ⟨h0, h1, h2, hk⟩ := h c
    exact ⟨h0.trans (final4 m c), h1.trans (final5 m c), h2.trans (final6 m c), hk⟩
  · refine (θ_run _ _ _).mono (fun r h c => ?_) (Cert.SkipGeluReferenceIdeal.Value.run m' g')
    obtain ⟨h0, h1, h2, hk⟩ := h c
    obtain ⟨a0, a1, a2, a3⟩ := hagree c
    refine ⟨h0.trans ?_, h1.trans ?_, h2.trans ?_, hk⟩
    · rw [val_main_v49_eq, eq4, a0, a1, a2, a3]
    · rw [val_main_v47_eq, eq5, a0, a1, a2, a3]
    · rw [val_main_v50_eq, eq6, a0, a1, a2, a3]

/-- The reference runs to its end, keeps its arguments and uses no semaphore. -/
theorem skipGelu_reference_frame : Cert.quiescent_SkipGeluReferenceIdeal := fun m ρ _ =>
  (θ_run Cert.SkipGeluReferenceIdeal.defs _ _).mono (fun r h => ⟨fun c => (h c).2.2.2, sem_eq_zero_of_no_sems (by decide) r.2⟩)
    (Cert.SkipGeluReferenceIdeal.Value.run (F := Ideal) m ρ)

end Cert.Proof

end
-- ==== Proof.RecurrenceGate.lean ====
/- The gradient of the recurrent branch's output gate, h · silu(z).

   Both are maps of the elements: the gradient of h is dout · silu(z), that of z is h · dout · silu′(z). -/
module

public import proofs.«01_k».proof.Defs
public import proofs.«01_k».proof.Proof.Gen.RecurrenceGateIdeal.Value
public import proofs.«01_k».proof.Proof.Gen.RecurrenceGateReferenceIdeal.Run
public import proofs.«01_k».proof.Proof.Gen.RecurrenceGateReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RecurrenceGateIdeal.Hand

open Cert.RecurrenceGateIdeal Cert.RecurrenceGateIdeal.Gen Idealize.ShloMosaic Idealize.ShloMosaic.TcCoe Idealize.SL.Sem

/-- The logistic function's sigSlope. -/
def sigSlope (x : EReal) : EReal := Ideal.logistic x * (1 - Ideal.logistic x)

/-- The gradient of h. -/
def dh (z u : S4096x1024.Idx → EReal) : S4096x1024.Idx → EReal :=
  fun i => u i * (z i * Ideal.logistic (z i))

/-- The gradient of z. -/
def dz (h z u : S4096x1024.Idx → EReal) : S4096x1024.Idx → EReal :=
  fun i => u i * h i * Ideal.logistic (z i) + u i * h i * z i * sigSlope (z i)

variable (m : (ℓ : Loc nD τ sig) → Buf (Elt Ideal) ℓ)

abbrev arg0 (c : Dev nD) : S4096x1024.Idx → EReal := m ((c : Thread nD τ).loc main_arg0)
abbrev arg1 (c : Dev nD) : S4096x1024.Idx → EReal := m ((c : Thread nD τ).loc main_arg1)
abbrev arg2 (c : Dev nD) : S4096x1024.Idx → EReal := m ((c : Thread nD τ).loc main_arg2)

/-- Every window's block index at a grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0] :=
  (by decide +kernel : ∀ t : Fin grid0.N, _)

/-- The row of the whole array at row `r` of point `t`'s block. -/
def row (t : ℕ) (r : Fin 256) : Fin 4096 := ⟨t % 16 * 256 + r.val, by omega⟩

/-- Window 0's block. -/
theorem in0 (c : Dev nD) (t : Fin cfg0.N) (r : Fin 256) (k : Fin 1024) :
    iblk m c 0 t (ix2 r k) = arg0 m c (ix2 (row t.val r) k) := by
  have ht : t.val < 16 := t.isLt
  blk_ext! [iblk, V, row, idx t]

/-- Window 1's block. -/
theorem in1 (c : Dev nD) (t : Fin cfg0.N) (r : Fin 256) (k : Fin 1024) :
    iblk m c 1 t (ix2 r k) = arg1 m c (ix2 (row t.val r) k) := by
  have ht : t.val < 16 := t.isLt
  blk_ext! [iblk, V, row, idx t]

/-- Window 2's block. -/
theorem in2 (c : Dev nD) (t : Fin cfg0.N) (r : Fin 256) (k : Fin 1024) :
    iblk m c 2 t (ix2 r k) = arg2 m c (ix2 (row t.val r) k) := by
  have ht : t.val < 16 := t.isLt
  blk_ext! [iblk, V, row, idx t]

/-- What a point leaves in window 3's block. -/
theorem point3 (c : Dev nD) (t : Fin cfg0.N) (y : S256x1024.Idx) :
    out0_3 (iblk m c 0 t) (iblk m c 1 t) (iblk m c 2 t) y = dh (arg1 m c) (arg2 m c) (ix2 (row t.val (y 0)) (y 1)) := by
  idx_vars y
  frame_out
  unfold_payloads
  pointwise [dh, in0, in1, in2]

/-- The result array of window 3. -/
theorem final3 (c : Dev nD) : (dats m 0 c).arrAt 3 (cfgs 0).N = dh (arg1 m c) (arg2 m c) := by
  refine (dats m 0 c).arrAt_eq_of_covers 3 _ (by decide +kernel) fun t hf y => ?_
  have ht : t.val < 16 := t.isLt
  blk_simp
  rw [after0_3, point3]
  blk_ext [row, idx t]

/-- What a point leaves in window 4's block. -/
theorem point4 (c : Dev nD) (t : Fin cfg0.N) (y : S256x1024.Idx) :
    out0_4 (iblk m c 0 t) (iblk m c 1 t) (iblk m c 2 t) y = dz (arg0 m c) (arg1 m c) (arg2 m c) (ix2 (row t.val (y 0)) (y 1)) := by
  idx_vars y
  frame_out
  unfold_payloads
  pointwise [dz, sigSlope, in0, in1, in2]
  ac_nf

/-- The result array of window 4. -/
theorem final4 (c : Dev nD) : (dats m 0 c).arrAt 4 (cfgs 0).N = dz (arg0 m c) (arg1 m c) (arg2 m c) := by
  refine (dats m 0 c).arrAt_eq_of_covers 4 _ (by decide +kernel) fun t hf y => ?_
  have ht : t.val < 16 := t.isLt
  blk_simp
  rw [after0_4, point4]
  blk_ext [row, idx t]

end Cert.RecurrenceGateIdeal.Hand

namespace Cert.RecurrenceGateReferenceIdeal.Hand

open Cert.RecurrenceGateReferenceIdeal Cert.RecurrenceGateReferenceIdeal.Read Idealize.ShloMosaic
open Cert.RecurrenceGateIdeal.Hand

/-- The reference's result for window 3. -/
theorem eq3 (z u : S4096x1024.Idx → EReal) : val_main_v3 (F := Ideal) z u = dh z u := by
  funext i
  idx_vars i
  rw [← val_main_v3_eq]
  pointwise [dh, Ideal.logistic]

/-- The reference's result for window 4. -/
theorem eq4 (h z u : S4096x1024.Idx → EReal) : val_main_v5 (F := Ideal) h z u = dz h z u := by
  funext i
  idx_vars i
  rw [← val_main_v5_eq]
  pointwise [dz, sigSlope, Ideal.logistic]
  ac_nf

end Cert.RecurrenceGateReferenceIdeal.Hand

namespace Cert.Proof

open Idealize.ShloMosaic Idealize.SL.Sem Cert.RecurrenceGateIdeal.Hand

/-- The gradient of the recurrent branch's output gate, h · silu(z): the program and its reference agree on the extended reals. -/
theorem recurrenceGate_algebraic : Cert.algebraic_RecurrenceGateIdeal_RecurrenceGateReferenceIdeal := by
  intro m g m' g' _ hagree
  refine ⟨fun c => dh (arg1 m c) (arg2 m c), fun c => dz (arg0 m c) (arg1 m c) (arg2 m c), ?_, ?_⟩
  · refine (θ_run _ _ _).mono (fun r h c => ?_) (Cert.RecurrenceGateIdeal.Value.run_blocks m g)
    obtain ⟨h0, h1, hk⟩ := h c
    exact ⟨h0.trans (final3 m c), h1.trans (final4 m c), hk⟩
  · refine (θ_run _ _ _).mono (fun r h c => ?_) (Cert.RecurrenceGateReferenceIdeal.Value.run m' g')
    obtain ⟨h0, h1, hk⟩ := h c
    obtain ⟨a0, a1, a2⟩ := hagree c
    refine ⟨h0.trans ?_, h1.trans ?_, hk⟩
    · rw [Cert.RecurrenceGateReferenceIdeal.Read.val_main_v3_eq, Cert.RecurrenceGateReferenceIdeal.Hand.eq3, a1, a2]
    · rw [Cert.RecurrenceGateReferenceIdeal.Read.val_main_v5_eq, Cert.RecurrenceGateReferenceIdeal.Hand.eq4, a0, a1, a2]

/-- The reference runs to its end, keeps its arguments and uses no semaphore. -/
theorem recurrenceGate_reference_frame : Cert.quiescent_RecurrenceGateReferenceIdeal := fun m ρ _ =>
  (θ_run Cert.RecurrenceGateReferenceIdeal.defs _ _).mono (fun r h => ⟨fun c => (h c).2.2, sem_eq_zero_of_no_sems (by decide) r.2⟩)
    (Cert.RecurrenceGateReferenceIdeal.Value.run (F := Ideal) m ρ)

end Cert.Proof

end
-- ==== Proof.DeltaOutput.lean ====
/- The gradient of the delta branch's output norm and gate, rms(o) · w · silu(z).

   Head by head: with r a head row's inverse root mean square, the gradients of o, of z and of w (the last summed over all rows and heads). -/
module

public import proofs.«01_k».proof.Defs
public import proofs.«01_k».proof.Proof.Gen.DeltaOutputIdeal.Value
public import proofs.«01_k».proof.Proof.Gen.DeltaOutputReferenceIdeal.Run
public import proofs.«01_k».proof.Proof.Gen.DeltaOutputReferenceIdeal.Read
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section

set_option maxRecDepth 16384

noncomputable section

namespace Cert.DeltaOutputIdeal.Hand

open Cert.DeltaOutputIdeal Cert.DeltaOutputIdeal.Gen Idealize.ShloMosaic Idealize.ShloMosaic.TcCoe Idealize.SL.Sem

/-- Column `k` of head `h` in a row of all heads. -/
def col (h : Fin 8) (k : Fin 128) : Fin 1024 := ⟨h.val * 128 + k.val, by omega⟩

/-- A head row's mean square, plus the step's small constant (the words are those of 128 and 10⁻⁶). -/
def meanSq (o : S8x4096x128.Idx → EReal) (h : Fin 8) (s : Fin 4096) : EReal :=
  Ideal.div (∑ k : Fin 128, o (ix3 h s k) * o (ix3 h s k)) (Ideal.ofBits .f32 0x43000000#32) + Ideal.ofBits .f32 0x358637BD#32

/-- One over the root of a head row's mean square. -/
def rms (o : S8x4096x128.Idx → EReal) (h : Fin 8) (s : Fin 4096) : EReal := Ideal.rsqrt (meanSq o h s)

/-- The gradient with respect to the normalised head. -/
def gated (z g : S4096x1024.Idx → EReal) (h : Fin 8) (s : Fin 4096) (k : Fin 128) : EReal :=
  g (ix2 s (col h k)) * (z (ix2 s (col h k)) * Ideal.logistic (z (ix2 s (col h k))))

/-- The gradient that reaches a head row's elements through its mean square (the word is that of -1/2). -/
def mean (o : S8x4096x128.Idx → EReal) (z : S4096x1024.Idx → EReal)
    (w : S128.Idx → EReal) (g : S4096x1024.Idx → EReal) (h : Fin 8) (s : Fin 4096) : EReal :=
  Ideal.div ((∑ k : Fin 128, o (ix3 h s k) * (gated z g h s k * w (ix1 k))) *
    (Ideal.ofBits .f32 0xBF000000#32 * Ideal.div (rms o h s) (meanSq o h s))) (Ideal.ofBits .f32 0x43000000#32)

/-- The gradient with respect to a gate's output. -/
def outer (o : S8x4096x128.Idx → EReal) (w : S128.Idx → EReal)
    (g : S4096x1024.Idx → EReal) (h : Fin 8) (s : Fin 4096) (k : Fin 128) : EReal :=
  o (ix3 h s k) * rms o h s * w (ix1 k) * g (ix2 s (col h k))

/-- The gradient of the gates, head by head. -/
def dzOf (o : S8x4096x128.Idx → EReal) (z : S4096x1024.Idx → EReal)
    (w : S128.Idx → EReal) (g : S4096x1024.Idx → EReal) (h : Fin 8) (s : Fin 4096) (k : Fin 128) : EReal :=
  outer o w g h s k * Ideal.logistic (z (ix2 s (col h k)))
    + z (ix2 s (col h k)) * outer o w g h s k * (Ideal.logistic (z (ix2 s (col h k))) * (1 - Ideal.logistic (z (ix2 s (col h k)))))

/-- The gradient of o. -/
def dO (o : S8x4096x128.Idx → EReal) (z : S4096x1024.Idx → EReal) (w : S128.Idx → EReal) (g : S4096x1024.Idx → EReal) : S8x4096x128.Idx → EReal :=
  fun i => gated z g (i 0) (i 1) (i 2) * w (ix1 (i 2)) * rms o (i 0) (i 1) + o i * mean o z w g (i 0) (i 1) + mean o z w g (i 0) (i 1) * o i

/-- The gradient of z. -/
def dz (o : S8x4096x128.Idx → EReal) (z : S4096x1024.Idx → EReal) (w : S128.Idx → EReal) (g : S4096x1024.Idx → EReal) : S4096x1024.Idx → EReal :=
  fun i => dzOf o z w g ⟨(i 1).val / 128, by have := (i 1).isLt; dsimp at this; omega⟩ (i 0) ⟨(i 1).val % 128, by omega⟩

/-- The gradient of w. -/
def dw (o : S8x4096x128.Idx → EReal) (z g : S4096x1024.Idx → EReal) : S1x128.Idx → EReal :=
  fun i => ∑ h : Fin 8, ∑ s : Fin 4096, o (ix3 h s (i 1)) * rms o h s * gated z g h s (i 1)

variable (m : (ℓ : Loc nD τ sig) → Buf (Elt Ideal) ℓ)

abbrev arg0 (c : Dev nD) : S8x4096x128.Idx → EReal := m ((c : Thread nD τ).loc main_arg0)
abbrev arg1 (c : Dev nD) : S4096x1024.Idx → EReal := m ((c : Thread nD τ).loc main_arg1)
abbrev arg2 (c : Dev nD) : S128.Idx → EReal := m ((c : Thread nD τ).loc main_arg2)
abbrev arg3 (c : Dev nD) : S4096x1024.Idx → EReal := m ((c : Thread nD τ).loc main_arg3)

/-- Every window's block index at a grid point. -/
theorem idx : ∀ t : Fin cfg0.N, win0_0.index t = ![t.val / 16, t.val % 16, 0]
    ∧ win0_1.index t = ![t.val % 16, t.val / 16]
    ∧ win0_2.index t = ![0, 0]
    ∧ win0_3.index t = ![t.val % 16, t.val / 16]
    ∧ win0_4.index t = ![t.val / 16, t.val % 16, 0]
    ∧ win0_5.index t = ![t.val % 16, t.val / 16]
    ∧ win0_6.index t = ![0, 0] :=
  (by decide +kernel : ∀ t : Fin grid0.N, _)

/-- The row of the whole array at row `r` of point `t`'s block. -/
def row (t : ℕ) (r : Fin 256) : Fin 4096 := ⟨t % 16 * 256 + r.val, by omega⟩

/-- The head point `t` works on. -/
def head (t : ℕ) : Fin 8 := ⟨t / 16 % 8, by omega⟩

/-- A column's head. -/
theorem col_head (h : Fin 8) (k : Fin 128) (hb : (col h k).val / 128 < 8) : (⟨(col h k).val / 128, hb⟩ : Fin 8) = h :=
  Fin.ext (by simp only [col] <;> omega)

/-- A column's place in its head. -/
theorem col_lane (h : Fin 8) (k : Fin 128) (hb : (col h k).val % 128 < 128) : (⟨(col h k).val % 128, hb⟩ : Fin 128) = k :=
  Fin.ext (by simp only [col] <;> omega)

/-- A column from its head and its place. -/
theorem col_col (k : Fin 1024) (h1 : k.val / 128 < 8) (h2 : k.val % 128 < 128) : col ⟨k.val / 128, h1⟩ ⟨k.val % 128, h2⟩ = k :=
  Fin.ext (by simp only [col] <;> omega)

/-- Window 0's block. -/
theorem in0 (c : Dev nD) (t : Fin cfg0.N) (r : Fin 256) (k : Fin 128) :
    iblk m c 0 t (ix3 0 r k) = arg0 m c (ix3 (head t.val) (row t.val r) k) := by
  have ht : t.val < 128 := t.isLt
  blk_ext! [iblk, V, col, row, head, idx t]

/-- Window 1's block. -/
theorem in1 (c : Dev nD) (t : Fin cfg0.N) (r : Fin 256) (k : Fin 128) :
    iblk m c 1 t (ix2 r k) = arg1 m c (ix2 (row t.val r) (col (head t.val) k)) := by
  have ht : t.val < 128 := t.isLt
  blk_ext! [iblk, V, col, row, head, idx t]

/-- What the host hands window 2. -/
theorem host2 (c : Dev nD) (k : Fin 128) :
    (V m c main_v0 : S1x128.Idx → EReal) (ix2 0 k) = arg2 m c (ix1 k) := by
  show StableHlo.after hostOps0 (fun b => m (c, b)) (Proc.devRef .tc main_v0) _ = _
  after_reads_simp
  pointwise

/-- Window 2's block. -/
theorem in2 (c : Dev nD) (t : Fin cfg0.N) (k : Fin 128) :
    iblk m c 2 t (ix2 0 k) = arg2 m c (ix1 k) := by
  have ht : t.val < 128 := t.isLt
  rw [← host2 m c k]
  blk_ext! [iblk, row, head, idx t]

/-- Window 3's block. -/
theorem in3 (c : Dev nD) (t : Fin cfg0.N) (r : Fin 256) (k : Fin 128) :
    iblk m c 3 t (ix2 r k) = arg3 m c (ix2 (row t.val r) (col (head t.val) k)) := by
  have ht : t.val < 128 := t.isLt
  blk_ext! [iblk, V, col, row, head, idx t]

/-- What a point leaves in window 4's block. -/
theorem point4 (c : Dev nD) (t : Fin cfg0.N) (y : S1x256x128.Idx) :
    (outsAt0 m c t.val t.isLt).1 y = dO (arg0 m c) (arg1 m c) (arg2 m c) (arg3 m c) (ix3 (head t.val) (row t.val (y 1)) (y 2)) := by
  idx_vars y
  by_cases h0 : t.val % 128 = 0
  · rw [outsAt0_A m c t h0]
    frame_out
    unfold_payloads
    pointwise [dO, meanSq, rms, gated, mean, outer, dzOf, in0, in1, in2, in3]
    simp only [Finset.univ_unique, Finset.sum_singleton]
  · rw [outsAt0_B m c t h0]
    frame_out
    unfold_payloads
    pointwise [dO, meanSq, rms, gated, mean, outer, dzOf, in0, in1, in2, in3]
    simp only [Finset.univ_unique, Finset.sum_singleton]

/-- The result array of window 4. -/
theorem final4 (c : Dev nD) : (dats m 0 c).arrAt 4 (cfgs 0).N = dO (arg0 m c) (arg1 m c) (arg2 m c) (arg3 m c) := by
  refine (dats m 0 c).arrAt_eq_of_covers 4 _ (by decide +kernel) fun t hf y => ?_
  have ht : t.val < 128 := t.isLt
  blk_simp
  rw [after0_4, point4]
  blk_ext [row, head, idx t]

/-- What a point leaves in window 5's block. -/
theorem point5 (c : Dev nD) (t : Fin cfg0.N) (y : S256x128.Idx) :
    (outsAt0 m c t.val t.isLt).2.1 y = dz (arg0 m c) (arg1 m c) (arg2 m c) (arg3 m c) (ix2 (row t.val (y 0)) (col (head t.val) (y 1))) := by
  idx_vars y
  by_cases h0 : t.val % 128 = 0
  · rw [outsAt0_A m c t h0]
    frame_out
    unfold_payloads
    pointwise [dz, meanSq, rms, gated, mean, outer, dzOf, in0, in1, in2, in3]
    simp only [col_head, col_lane]
  · rw [outsAt0_B m c t h0]
    frame_out
    unfold_payloads
    pointwise [dz, meanSq, rms, gated, mean, outer, dzOf, in0, in1, in2, in3]
    simp only [col_head, col_lane]

/-- The result array of window 5. -/
theorem final5 (c : Dev nD) : (dats m 0 c).arrAt 5 (cfgs 0).N = dz (arg0 m c) (arg1 m c) (arg2 m c) (arg3 m c) := by
  refine (dats m 0 c).arrAt_eq_of_covers 5 _ (by decide +kernel) fun t hf y => ?_
  have ht : t.val < 128 := t.isLt
  blk_simp
  rw [after0_5, point5]
  blk_ext [col, row, head, idx t]

/-- One point's contribution to window 6's block. -/
def part6 (c : Dev nD) (t : ℕ) (y : S1x128.Idx) : EReal :=
  ∑ r : Fin 256, arg0 m c (ix3 (head t) (row t r) (y 1)) * rms (arg0 m c) (head t) (row t r) * gated (arg1 m c) (arg3 m c) (head t) (row t r) (y 1)

/-- What the first point leaves in window 6's block. -/
theorem first6 (c : Dev nD) (t : Fin cfg0.N) (h0 : t.val % 128 = 0) (y : S1x128.Idx) :
    (outsAt0 m c t.val t.isLt).2.2 y = 0 + part6 m c t.val y := by
  idx_vars y
  rw [outsAt0_A m c t h0]
  frame_open
  simp (disch := decide) only [↓ View.readCov_skip, ↓ View.readCov_cons_toLoadRect, ↓ View.readCov_fill]
  frame_out
  unfold_payloads
  pointwise [part6, dw, meanSq, rms, gated, mean, outer, dzOf, in0, in1, in2, in3]

/-- What a later point leaves in window 6's block. -/
theorem later6 (c : Dev nD) (t : Fin cfg0.N) (h0 : ¬ t.val % 128 = 0) (y : S1x128.Idx) :
    (outsAt0 m c t.val t.isLt).2.2 y = (outsAt0 m c (t.val - 1) (by omega)).2.2 y + part6 m c t.val y := by
  idx_vars y
  rw [outsAt0_B m c t h0]
  frame_out
  unfold_payloads
  pointwise [part6, dw, meanSq, rms, gated, mean, outer, dzOf, in0, in1, in2, in3]

/-- Window 6's block at the last point. -/
theorem run6 (c : Dev nD) (t : Fin cfg0.N) (h : t.val % 128 = 127) (y : S1x128.Idx) :
    (outsAt0 m c t.val t.isLt).2.2 y = dw (arg0 m c) (arg1 m c) (arg3 m c) y := by
  have ht : t.val < 128 := t.isLt
  have e := Pipeline.eq_sum_of_reset_step_apply_of_mod (M := EReal) (fun n h => (outsAt0 m c n h).2.2) 128 (fun _ => 0)
    (part6 m c) (first6 m c) (later6 m c) t h y
  rw [e, zero_add, Finset.sum_range]
  refine (Fin.sum_mul_add_congr (S := 128) (n := 256) (f := fun q : Fin (128 * 256) =>
    arg0 m c (ix3 ⟨q.val / 4096, by omega⟩ ⟨q.val % 4096, by omega⟩ (y 1)) * rms (arg0 m c) ⟨q.val / 4096, by omega⟩ ⟨q.val % 4096, by omega⟩
      * gated (arg1 m c) (arg3 m c) ⟨q.val / 4096, by omega⟩ ⟨q.val % 4096, by omega⟩ (y 1)) fun s k hl => ?_).trans
    (Fin.sum_mul_add_congr (S := 8) (n := 4096) fun h s hl => ?_).symm
  · have hs : s.val < 128 := s.isLt
    have e : row (128 * (t.val / 128) + s.val) k = ⟨(s.val * 256 + k.val) % 4096, by omega⟩ := Fin.ext (by simp only [row] <;> omega)
    have e' : head (128 * (t.val / 128) + s.val) = ⟨(s.val * 256 + k.val) / 4096, by omega⟩ := Fin.ext (by simp only [head] <;> omega)
    rw [e, e']
  · have e : (⟨(h.val * 4096 + s.val) / 4096, by omega⟩ : Fin 8) = h := Fin.ext (by simp only [] <;> omega)
    have e' : (⟨(h.val * 4096 + s.val) % 4096, by omega⟩ : Fin 4096) = s := Fin.ext (by simp only [] <;> omega)
    simp only [e, e']

/-- The result array of window 6. -/
theorem final6 (c : Dev nD) : (dats m 0 c).arrAt 6 (cfgs 0).N = dw (arg0 m c) (arg1 m c) (arg3 m c) := by
  refine (dats m 0 c).arrAt_eq_of_covers 6 _ (by decide +kernel) fun t hf y => ?_
  have ht : t.val < 128 := t.isLt
  blk_simp
  rw [after0_6, run6 m c t ((flush0_6 t).mp hf)]
  blk_ext [row, head, idx t]

end Cert.DeltaOutputIdeal.Hand

namespace Cert.DeltaOutputReferenceIdeal.Hand

open Cert.DeltaOutputReferenceIdeal Cert.DeltaOutputReferenceIdeal.Read Idealize.ShloMosaic
open Cert.DeltaOutputIdeal.Hand

/-- A host sum over the first two of three axes. -/
theorem sum_two {n0 n1 n2 : ℕ} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  refine congrArg (init + ·) ?_
  have fiber : ∀ i : (⟨3, ![n0, n1, n2]⟩ : Shape).Idx, h.drop i = ix1 k ↔ ∃ p : Fin n0 × Fin n1, ix3 p.1 p.2 k = i := by
    intro i
    constructor
    · intro e
      refine ⟨(i 0, i 1), ?_⟩
      funext a
      apply Fin.ext
      match a with
      | ⟨0, _⟩ => rfl
      | ⟨1, _⟩ => rfl
      | ⟨2, _⟩ => exact (congrArg Fin.val (congrFun e 0)).symm
    · rintro ⟨p, rfl⟩
      funext b
      apply Fin.ext
      match b with
      | ⟨0, _⟩ => rfl
  refine (Finset.sum_filter_eq_sum_of_fiber _ (fun p : Fin n0 × Fin n1 => ix3 p.1 p.2 k)
    (fun _ _ e => Prod.ext (congrFun e 0) (congrFun e 1)) fiber v).trans ?_
  simp only [Fintype.sum_prod_type]

/-- The reference's result for window 4. -/
theorem eq4 (o : S8x4096x128.Idx → EReal) (z : S4096x1024.Idx → EReal) (w : S128.Idx → EReal) (g : S4096x1024.Idx → EReal) : val_main_v46 (F := Ideal) o z w g = dO o z w g := by
  funext i
  idx_vars i
  pointwise [val_main_v46, val_main_v45, val_main_v44, val_main_v0, val_main_v41, val_main_v40, val_main_cst_7, val_main_v39, val_main_v38, val_main_cst_6, val_main_v37, val_main_v11, val_main_v9, val_main_v7, val_main_v6, val_main_cst_1, val_main_v5, val_main_v4, val_main_cst_0, val_main_v3, val_main_v2, val_main_cst, val_main_v1, val_main_v8, val_main_v10, val_main_cst_2, val_main_v34, val_main_v33, val_main_cst_5, val_main_v32, val_main_v30, val_main_v29, val_main_v14, val_main_v23, val_main_v18, val_main_v17_0, val_main_v17_2, val_main_call0_v3, val_main_call0_v1, val_main_call0_v0, val_main_call0_v2, val_main_call0_cst, val_main_call0_v4, val_main_call0_cst_0, val_main_v21, val_main_v43, val_main_v42, val_main_v36, val_main_v35]
  pointwise [dO, meanSq, rms, gated, mean, outer, dzOf, Ideal.logistic, col]
  simp only [Finset.univ_unique, Finset.sum_singleton]

/-- The reference's result for window 5. -/
theorem eq5 (o : S8x4096x128.Idx → EReal) (z : S4096x1024.Idx → EReal) (w : S128.Idx → EReal) (g : S4096x1024.Idx → EReal) : val_main_v47 (F := Ideal) o z w g = dz o z w g := by
  funext i
  idx_vars i
  rw [← val_main_v47_eq]
  pointwise [dz, meanSq, rms, gated, mean, outer, dzOf, Ideal.logistic]
  simp only [col_col]

/-- The reference's result for window 6. -/
theorem eq6 (o : S8x4096x128.Idx → EReal) (z g : S4096x1024.Idx → EReal) : val_main_v48 (F := Ideal) o z g = dw o z g := by
  funext i
  idx_vars i
  rw [← val_main_v48_eq]
  pointwise [dw, meanSq, rms, gated, mean, outer, dzOf, Ideal.logistic, col, sum_two]
  simp only [Finset.univ_unique, Finset.sum_singleton]
  exact Finset.sum_comm

end Cert.DeltaOutputReferenceIdeal.Hand

namespace Cert.Proof

open Idealize.ShloMosaic Idealize.SL.Sem Cert.DeltaOutputIdeal.Hand Cert.DeltaOutputReferenceIdeal.Hand Cert.DeltaOutputReferenceIdeal.Read

/-- The gradient of the delta branch's output norm and gate, rms(o) · w · silu(z): the program and its reference agree on the extended reals. -/
theorem deltaOutput_algebraic : Cert.algebraic_DeltaOutputIdeal_DeltaOutputReferenceIdeal := by
  intro m g m' g' _ hagree
  refine ⟨fun c => dO (arg0 m c) (arg1 m c) (arg2 m c) (arg3 m c), fun c => dz (arg0 m c) (arg1 m c) (arg2 m c) (arg3 m c), fun c => dw (arg0 m c) (arg1 m c) (arg3 m c), ?_, ?_⟩
  · refine (θ_run _ _ _).mono (fun r h c => ?_) (Cert.DeltaOutputIdeal.Value.run_blocks m g)
    obtain ⟨h0, h1, h2, hk⟩ := h c
    exact ⟨h0.trans (final4 m c), h1.trans (final5 m c), h2.trans (final6 m c), hk⟩
  · refine (θ_run _ _ _).mono (fun r h c => ?_) (Cert.DeltaOutputReferenceIdeal.Value.run m' g')
    obtain ⟨h0, h1, h2, hk⟩ := h c
    obtain ⟨a0, a1, a2, a3⟩ := hagree c
    refine ⟨h0.trans ?_, h1.trans ?_, h2.trans ?_, hk⟩
    · rw [val_main_v46_eq, eq4, a0, a1, a2, a3]
    · rw [val_main_v47_eq, eq5, a0, a1, a2, a3]
    · rw [val_main_v48_eq, eq6, a0, a1, a3]

/-- The reference runs to its end, keeps its arguments and uses no semaphore. -/
theorem deltaOutput_reference_frame : Cert.quiescent_DeltaOutputReferenceIdeal := fun m ρ _ =>
  (θ_run Cert.DeltaOutputReferenceIdeal.defs _ _).mono (fun r h => ⟨fun c => (h c).2.2.2, sem_eq_zero_of_no_sems (by decide) r.2⟩)
    (Cert.DeltaOutputReferenceIdeal.Value.run (F := Ideal) m ρ)

end Cert.Proof

end
-- ==== Proof.NormGradient.lean ====
/- The gradient of a layer's norm, added to the gradient past it.

   With r a row's inverse root mean square: x · r · w and x have the gradients dh and dx. -/
module

public import proofs.«01_k».proof.Defs
public import proofs.«01_k».proof.Proof.Gen.NormGradientIdeal.Value
public import proofs.«01_k».proof.Proof.Gen.NormGradientReferenceIdeal.Run
public import proofs.«01_k».proof.Proof.Gen.NormGradientReferenceIdeal.Read
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section

set_option maxRecDepth 16384

noncomputable section

namespace Cert.NormGradientIdeal.Hand

open Cert.NormGradientIdeal Cert.NormGradientIdeal.Gen Idealize.ShloMosaic Idealize.ShloMosaic.TcCoe Idealize.SL.Sem

/-- A row's mean square, plus the step's small constant (the words are those of 4096 and 10⁻⁶). -/
def meanSq (x : S4096x4096.Idx → EReal) (s : Fin 4096) : EReal :=
  Ideal.div (∑ k : Fin 4096, x (ix2 s k) * x (ix2 s k)) (Ideal.ofBits .f32 0x45800000#32) + Ideal.ofBits .f32 0x358637BD#32

/-- One over the root of a row's mean square. -/
def rms (x : S4096x4096.Idx → EReal) (s : Fin 4096) : EReal :=
  Ideal.rsqrt (meanSq x s)

/-- The gradient that reaches a row's elements through its mean square (the word is that of -1/2). -/
def mean (x : S4096x4096.Idx → EReal) (w : S4096.Idx → EReal)
    (u : S4096x4096.Idx → EReal) (s : Fin 4096) : EReal :=
  Ideal.div ((∑ k : Fin 4096, x (ix2 s k) * (u (ix2 s k) * w (ix1 k))) *
    (Ideal.ofBits .f32 0xBF000000#32 * Ideal.div (rms x s) (meanSq x s))) (Ideal.ofBits .f32 0x45800000#32)

/-- The gradient of x. -/
def dx (x : S4096x4096.Idx → EReal) (w : S4096.Idx → EReal) (u v : S4096x4096.Idx → EReal) : S4096x4096.Idx → EReal :=
  fun i => v i + u i * w (ix1 (i 1)) * rms x (i 0) + x i * (mean x w u (i 0)) + (mean x w u (i 0)) * x i

/-- The gradient of w. -/
def dw (x u : S4096x4096.Idx → EReal) : S1x4096.Idx → EReal :=
  fun i => ∑ s : Fin 4096, x (ix2 s (i 1)) * rms x s * u (ix2 s (i 1))

variable (m : (ℓ : Loc nD τ sig) → Buf (Elt Ideal) ℓ)

abbrev arg0 (c : Dev nD) : S4096x4096.Idx → EReal := m ((c : Thread nD τ).loc main_arg0)
abbrev arg1 (c : Dev nD) : S4096.Idx → EReal := m ((c : Thread nD τ).loc main_arg1)
abbrev arg2 (c : Dev nD) : S4096x4096.Idx → EReal := m ((c : Thread nD τ).loc main_arg2)
abbrev arg3 (c : Dev nD) : S4096x4096.Idx → EReal := m ((c : Thread nD τ).loc main_arg3)

/-- Every window's block index at a grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0] :=
  (by decide +kernel : ∀ t : Fin grid0.N, _)

/-- The row of the whole array at row `r` of point `t`'s block. -/
def row (t : ℕ) (r : Fin 256) : Fin 4096 := ⟨t % 16 * 256 + r.val, by omega⟩

/-- Window 0's block. -/
theorem in0 (c : Dev nD) (t : Fin cfg0.N) (r : Fin 256) (k : Fin 4096) :
    iblk m c 0 t (ix2 r k) = arg0 m c (ix2 (row t.val r) k) := by
  have ht : t.val < 16 := t.isLt
  blk_ext! [iblk, V, row, idx t]

/-- What the host hands window 1. -/
theorem host1 (c : Dev nD) (k : Fin 4096) :
    (V m c main_v0 : S1x4096.Idx → EReal) (ix2 0 k) = arg1 m c (ix1 k) := by
  show StableHlo.after hostOps0 (fun b => m (c, b)) (Proc.devRef .tc main_v0) _ = _
  after_reads_simp
  pointwise

/-- Window 1's block. -/
theorem in1 (c : Dev nD) (t : Fin cfg0.N) (k : Fin 4096) :
    iblk m c 1 t (ix2 0 k) = arg1 m c (ix1 k) := by
  have ht : t.val < 16 := t.isLt
  rw [← host1 m c k]
  blk_ext! [iblk, row, idx t]

/-- Window 2's block. -/
theorem in2 (c : Dev nD) (t : Fin cfg0.N) (r : Fin 256) (k : Fin 4096) :
    iblk m c 2 t (ix2 r k) = arg2 m c (ix2 (row t.val r) k) := by
  have ht : t.val < 16 := t.isLt
  blk_ext! [iblk, V, row, idx t]

/-- Window 3's block. -/
theorem in3 (c : Dev nD) (t : Fin cfg0.N) (r : Fin 256) (k : Fin 4096) :
    iblk m c 3 t (ix2 r k) = arg3 m c (ix2 (row t.val r) k) := by
  have ht : t.val < 16 := t.isLt
  blk_ext! [iblk, V, row, idx t]

/-- What a point leaves in window 4's block. -/
theorem point4 (c : Dev nD) (t : Fin cfg0.N) (y : S256x4096.Idx) :
    (outsAt0 m c t.val t.isLt).1 y = dx (arg0 m c) (arg1 m c) (arg2 m c) (arg3 m c) (ix2 (row t.val (y 0)) (y 1)) := by
  idx_vars y
  by_cases h0 : t.val % 16 = 0
  · rw [outsAt0_A m c t h0]
    frame_out
    unfold_payloads
    pointwise [dx, rms, meanSq, mean, in0, in1, in2, in3]
    simp only [Finset.univ_unique, Finset.sum_singleton]
  · rw [outsAt0_B m c t h0]
    frame_out
    unfold_payloads
    pointwise [dx, rms, meanSq, mean, in0, in1, in2, in3]
    simp only [Finset.univ_unique, Finset.sum_singleton]

/-- The result array of window 4. -/
theorem final4 (c : Dev nD) : (dats m 0 c).arrAt 4 (cfgs 0).N = dx (arg0 m c) (arg1 m c) (arg2 m c) (arg3 m c) := by
  refine (dats m 0 c).arrAt_eq_of_covers 4 _ (by decide +kernel) fun t hf y => ?_
  have ht : t.val < 16 := t.isLt
  blk_simp
  rw [after0_4, point4]
  blk_ext [row, idx t]

/-- One point's contribution to window 5's block. -/
def part5 (c : Dev nD) (t : ℕ) (y : S1x4096.Idx) : EReal :=
  ∑ r : Fin 256, arg0 m c (ix2 (row t r) (y 1)) * rms (arg0 m c) (row t r) * arg2 m c (ix2 (row t r) (y 1))

/-- What the first point leaves in window 5's block. -/
theorem first5 (c : Dev nD) (t : Fin cfg0.N) (h0 : t.val % 16 = 0) (y : S1x4096.Idx) :
    (outsAt0 m c t.val t.isLt).2 y = 0 + part5 m c t.val y := by
  idx_vars y
  rw [outsAt0_A m c t h0]
  frame_open
  simp (disch := decide) only [↓ View.readCov_skip, ↓ View.readCov_cons_toLoadRect, ↓ View.readCov_fill]
  frame_out
  unfold_payloads
  pointwise [part5, dw, rms, meanSq, in0, in1, in2, in3]

/-- What a later point leaves in window 5's block. -/
theorem later5 (c : Dev nD) (t : Fin cfg0.N) (h0 : ¬ t.val % 16 = 0) (y : S1x4096.Idx) :
    (outsAt0 m c t.val t.isLt).2 y = (outsAt0 m c (t.val - 1) (by omega)).2 y + part5 m c t.val y := by
  idx_vars y
  rw [outsAt0_B m c t h0]
  frame_out
  unfold_payloads
  pointwise [part5, dw, rms, meanSq, in0, in1, in2, in3]

/-- Window 5's block at the last point. -/
theorem run5 (c : Dev nD) (t : Fin cfg0.N) (h : t.val % 16 = 15) (y : S1x4096.Idx) :
    (outsAt0 m c t.val t.isLt).2 y = dw (arg0 m c) (arg2 m c) y := by
  have ht : t.val < 16 := t.isLt
  have e := Pipeline.eq_sum_of_reset_step_apply_of_mod (M := EReal) (fun n h => (outsAt0 m c n h).2) 16 (fun _ => 0)
    (part5 m c) (first5 m c) (later5 m c) t h y
  rw [e, zero_add, Finset.sum_range]
  refine Fin.sum_mul_add_congr (S := 16) (n := 256) fun s k hl => ?_
  have hs : s.val < 16 := s.isLt
  have e : row (16 * (t.val / 16) + s.val) k = ⟨s.val * 256 + k.val, hl⟩ := Fin.ext (by simp only [row] <;> omega)
  rw [e]

/-- The result array of window 5. -/
theorem final5 (c : Dev nD) : (dats m 0 c).arrAt 5 (cfgs 0).N = dw (arg0 m c) (arg2 m c) := by
  refine (dats m 0 c).arrAt_eq_of_covers 5 _ (by decide +kernel) fun t hf y => ?_
  have ht : t.val < 16 := t.isLt
  blk_simp
  rw [after0_5, run5 m c t ((flush0_5 t).mp hf)]
  blk_ext [row, idx t]

end Cert.NormGradientIdeal.Hand

namespace Cert.NormGradientReferenceIdeal.Hand

open Cert.NormGradientReferenceIdeal Cert.NormGradientReferenceIdeal.Read Idealize.ShloMosaic
open Cert.NormGradientIdeal.Hand

/-- The reference's result for window 4. -/
theorem eq4 (x : S4096x4096.Idx → EReal) (w : S4096.Idx → EReal) (u v : S4096x4096.Idx → EReal) : val_main_v36 (F := Ideal) x w u v = dx x w u v := by
  funext i
  idx_vars i
  rw [← val_main_v36_eq]
  pointwise [dx, rms, meanSq, mean, Ideal.logistic]
  simp only [Finset.univ_unique, Finset.sum_singleton]

/-- The reference's result for window 5. -/
theorem eq5 (x u : S4096x4096.Idx → EReal) : val_main_v37 (F := Ideal) x u = dw x u := by
  funext i
  idx_vars i
  rw [← val_main_v37_eq]
  pointwise [dw, rms, meanSq, Ideal.logistic]
  simp only [Finset.univ_unique, Finset.sum_singleton]

end Cert.NormGradientReferenceIdeal.Hand

namespace Cert.Proof

open Idealize.ShloMosaic Idealize.SL.Sem Cert.NormGradientIdeal.Hand

/-- The gradient of a layer's norm, added to the gradient past it: the program and its reference agree on the extended reals. -/
theorem normGradient_algebraic : Cert.algebraic_NormGradientIdeal_NormGradientReferenceIdeal := by
  intro m g m' g' _ hagree
  refine ⟨fun c => dx (arg0 m c) (arg1 m c) (arg2 m c) (arg3 m c), fun c => dw (arg0 m c) (arg2 m c), ?_, ?_⟩
  · refine (θ_run _ _ _).mono (fun r h c => ?_) (Cert.NormGradientIdeal.Value.run_blocks m g)
    obtain ⟨h0, h1, hk⟩ := h c
    exact ⟨h0.trans (final4 m c), h1.trans (final5 m c), hk⟩
  · refine (θ_run _ _ _).mono (fun r h c => ?_) (Cert.NormGradientReferenceIdeal.Value.run m' g')
    obtain ⟨h0, h1, hk⟩ := h c
    obtain ⟨a0, a1, a2, a3⟩ := hagree c
    refine ⟨h0.trans ?_, h1.trans ?_, hk⟩
    · rw [Cert.NormGradientReferenceIdeal.Read.val_main_v36_eq, Cert.NormGradientReferenceIdeal.Hand.eq4, a0, a1, a2, a3]
    · rw [Cert.NormGradientReferenceIdeal.Read.val_main_v37_eq, Cert.NormGradientReferenceIdeal.Hand.eq5, a0, a2]

/-- The reference runs to its end, keeps its arguments and uses no semaphore. -/
theorem normGradient_reference_frame : Cert.quiescent_NormGradientReferenceIdeal := fun m ρ _ =>
  (θ_run Cert.NormGradientReferenceIdeal.defs _ _).mono (fun r h => ⟨fun c => (h c).2.2, sem_eq_zero_of_no_sems (by decide) r.2⟩)
    (Cert.NormGradientReferenceIdeal.Value.run (F := Ideal) m ρ)

end Cert.Proof

end
-- ==== Proof.MemoryNorm.lean ====
/- The gradient of the memory norm's weight.

   The sum over the memory's rows of the normalised memory times the gradient. -/
module

public import proofs.«01_k».proof.Defs
public import proofs.«01_k».proof.Proof.Gen.MemoryNormIdeal.Value
public import proofs.«01_k».proof.Proof.Gen.MemoryNormReferenceIdeal.Run
public import proofs.«01_k».proof.Proof.Gen.MemoryNormReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MemoryNormIdeal.Hand

open Cert.MemoryNormIdeal Cert.MemoryNormIdeal.Gen Idealize.ShloMosaic Idealize.ShloMosaic.TcCoe Idealize.SL.Sem

/-- A row's mean square, plus the step's small constant (the words are those of 4096 and 10⁻⁶). -/
def meanSq (x : S256x4096.Idx → EReal) (s : Fin 256) : EReal :=
  Ideal.div (∑ k : Fin 4096, x (ix2 s k) * x (ix2 s k)) (Ideal.ofBits .f32 0x45800000#32) + Ideal.ofBits .f32 0x358637BD#32

/-- One over the root of a row's mean square. -/
def rms (x : S256x4096.Idx → EReal) (s : Fin 256) : EReal :=
  Ideal.rsqrt (meanSq x s)

/-- The gradient of the weight. -/
def dw (x u : S256x4096.Idx → EReal) : S1x4096.Idx → EReal :=
  fun i => ∑ s : Fin 256, x (ix2 s (i 1)) * rms x s * u (ix2 s (i 1))

variable (m : (ℓ : Loc nD τ sig) → Buf (Elt Ideal) ℓ)

abbrev arg0 (c : Dev nD) : S256x4096.Idx → EReal := m ((c : Thread nD τ).loc main_arg0)
abbrev arg1 (c : Dev nD) : S4096.Idx → EReal := m ((c : Thread nD τ).loc main_arg1)
abbrev arg2 (c : Dev nD) : S256x4096.Idx → EReal := m ((c : Thread nD τ).loc main_arg2)

/-- Every window's block index at a grid point. -/
theorem idx : ∀ t : Fin cfg0.N, win0_0.index t = ![0, 0]
    ∧ win0_1.index t = ![0, 0]
    ∧ win0_2.index t = ![0, 0]
    ∧ win0_3.index t = ![0, 0] :=
  (by decide +kernel : ∀ t : Fin grid0.N, _)

/-- Window 0's block. -/
theorem in0 (c : Dev nD) (t : Fin cfg0.N) (r : Fin 256) (k : Fin 4096) :
    iblk m c 0 t (ix2 r k) = arg0 m c (ix2 r k) := by
  have ht : t.val < 1 := t.isLt
  blk_ext! [iblk, V, idx t]

/-- Window 2's block. -/
theorem in2 (c : Dev nD) (t : Fin cfg0.N) (r : Fin 256) (k : Fin 4096) :
    iblk m c 2 t (ix2 r k) = arg2 m c (ix2 r k) := by
  have ht : t.val < 1 := t.isLt
  blk_ext! [iblk, V, idx t]

/-- What the point leaves in window 3's block. -/
theorem point3 (c : Dev nD) (t : Fin cfg0.N) (y : S1x4096.Idx) :
    outsAt0 m c t y = dw (arg0 m c) (arg2 m c) y := by
  idx_vars y
  unfold outsAt0
  frame_open
  simp (disch := decide) only [↓ View.readCov_skip, ↓ View.readCov_cons_toLoadRect, ↓ View.readCov_fill]
  frame_out
  unfold_payloads
  pointwise [dw, rms, meanSq, in0, in2]

/-- The result array of window 3. -/
theorem final3 (c : Dev nD) : (dats m 0 c).arrAt 3 (cfgs 0).N = dw (arg0 m c) (arg2 m c) := by
  refine (dats m 0 c).arrAt_eq_of_covers 3 _ (by decide +kernel) fun t hf y => ?_
  have ht : t.val < 1 := t.isLt
  blk_simp
  rw [after0_3, point3]
  blk_ext [idx t]

end Cert.MemoryNormIdeal.Hand

namespace Cert.MemoryNormReferenceIdeal.Hand

open Cert.MemoryNormReferenceIdeal Cert.MemoryNormReferenceIdeal.Read Idealize.ShloMosaic
open Cert.MemoryNormIdeal.Hand

/-- The reference's result for window 3. -/
theorem eq3 (x u : S256x4096.Idx → EReal) : val_main_v17 (F := Ideal) x u = dw x u := by
  funext i
  idx_vars i
  rw [← val_main_v17_eq]
  pointwise [dw, rms, meanSq, Ideal.logistic]
  simp only [Finset.univ_unique, Finset.sum_singleton]

end Cert.MemoryNormReferenceIdeal.Hand

namespace Cert.Proof

open Idealize.ShloMosaic Idealize.SL.Sem Cert.MemoryNormIdeal.Hand

/-- The gradient of the memory norm's weight: the program and its reference agree on the extended reals. -/
theorem memoryNorm_algebraic : Cert.algebraic_MemoryNormIdeal_MemoryNormReferenceIdeal := by
  intro m g m' g' _ hagree
  refine ⟨fun c => dw (arg0 m c) (arg2 m c), ?_, ?_⟩
  · refine (θ_run _ _ _).mono (fun r h c => ?_) (Cert.MemoryNormIdeal.Value.run_blocks m g)
    obtain ⟨h0, hk⟩ := h c
    exact ⟨h0.trans (final3 m c), hk⟩
  · refine (θ_run _ _ _).mono (fun r h c => ?_) (Cert.MemoryNormReferenceIdeal.Value.run m' g')
    obtain ⟨h0, hk⟩ := h c
    obtain ⟨a0, a1, a2⟩ := hagree c
    refine ⟨h0.trans ?_, hk⟩
    · rw [Cert.MemoryNormReferenceIdeal.Read.val_main_v17_eq, Cert.MemoryNormReferenceIdeal.Hand.eq3, a0, a2]

/-- The reference runs to its end, keeps its arguments and uses no semaphore. -/
theorem memoryNorm_reference_frame : Cert.quiescent_MemoryNormReferenceIdeal := fun m ρ _ =>
  (θ_run Cert.MemoryNormReferenceIdeal.defs _ _).mono (fun r h => ⟨fun c => (h c).2, sem_eq_zero_of_no_sems (by decide) r.2⟩)
    (Cert.MemoryNormReferenceIdeal.Value.run (F := Ideal) m ρ)

end Cert.Proof

end
-- ==== Proof.MergeForward.lean ====
/- The sigmoid-gated merge of the four branches, forward: gates and projections by products, one row block and one
   device's columns per grid point (Merge.lean's gates and projections). -/
module

public import proofs.«01_k».proof.Defs
public import proofs.«01_k».proof.Proof.Gen.MergeForwardIdeal.Value
public import proofs.«01_k».proof.Proof.Gen.MergeForwardReferenceIdeal.Read
public import proofs.«01_k».proof.Proof.Gen.MergeForwardReferenceIdeal.Run
public import proofs.«01_k».proof.Proof.Merge
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MergeForwardIdeal.Hand

open Cert.MergeForwardIdeal Cert.MergeForwardIdeal.Gen Idealize.ShloMosaic Idealize.ShloMosaic.TcCoe Idealize.SL.Sem

/-- The merge: over the branches, the gate times the projection, added. -/
def merged (x : Merge.X) (o : Merge.O) (wg : Merge.WG) (bg : Merge.BG) (wb : Merge.WB) : Merge.DM :=
  fun i => ∑ n : Fin 4, Merge.gate x wg bg n (i 0) (i 1) * Merge.proj o wb n (i 0) (i 1)

variable (m : (ℓ : Loc nD τ sig) → Buf (Elt Ideal) ℓ)

/-- The row of the whole array at row `r` of point `t`'s block. -/
def row (t : ℕ) (r : Fin 1024) : Fin 4096 := ⟨t / 8 % 4 * 1024 + r.val, by omega⟩

/-- The device whose columns point `t` works on. -/
def dev (t : ℕ) : Fin 8 := ⟨t % 8, by omega⟩

/-- Every window's block index at a grid point. -/
theorem idx : ∀ t : Fin cfg0.N, win0_0.index t = ![t.val / 8, 0] ∧ win0_1.index t = ![t.val / 8, 0]
    ∧ win0_2.index t = ![t.val / 8, 0] ∧ win0_3.index t = ![t.val / 8, 0] ∧ win0_4.index t = ![t.val / 8, 0]
    ∧ win0_5.index t = ![t.val % 8, 0, 0, 0] ∧ win0_6.index t = ![t.val % 8, 0, 0, 0] ∧ win0_7.index t = ![t.val % 8, 0, 0, 0]
    ∧ win0_8.index t = ![t.val / 8, t.val % 8] :=
  (by decide +kernel : ∀ t : Fin grid0.N, _)

/-- The low-rank input's block. -/
theorem in0 (c : Dev nD) (t : Fin cfg0.N) (r : Fin 1024) (k : Fin 256) :
    iblk m c 0 t (ix2 r k) = m ((c : Thread nD τ).loc main_arg0) (ix2 (row t.val r) k) := by
  have ht : t.val < 32 := t.isLt
  blk_ext! [iblk, V, row, idx t]

/-- Branch 0's block. -/
theorem in1 (c : Dev nD) (t : Fin cfg0.N) (r : Fin 1024) (k : Fin 1024) :
    iblk m c 1 t (ix2 r k) = m ((c : Thread nD τ).loc main_arg1) (ix3 0 (row t.val r) k) := by
  have ht : t.val < 32 := t.isLt
  blk_ext! [iblk, V, row, idx t]

/-- Branch 1's block. -/
theorem in2 (c : Dev nD) (t : Fin cfg0.N) (r : Fin 1024) (k : Fin 1024) :
    iblk m c 2 t (ix2 r k) = m ((c : Thread nD τ).loc main_arg1) (ix3 1 (row t.val r) k) := by
  have ht : t.val < 32 := t.isLt
  blk_ext! [iblk, V, row, idx t]

/-- Branch 2's block. -/
theorem in3 (c : Dev nD) (t : Fin cfg0.N) (r : Fin 1024) (k : Fin 1024) :
    iblk m c 3 t (ix2 r k) = m ((c : Thread nD τ).loc main_arg1) (ix3 2 (row t.val r) k) := by
  have ht : t.val < 32 := t.isLt
  blk_ext! [iblk, V, row, idx t]

/-- Branch 3's block. -/
theorem in4 (c : Dev nD) (t : Fin cfg0.N) (r : Fin 1024) (k : Fin 1024) :
    iblk m c 4 t (ix2 r k) = m ((c : Thread nD τ).loc main_arg1) (ix3 3 (row t.val r) k) := by
  have ht : t.val < 32 := t.isLt
  blk_ext! [iblk, V, row, idx t]

/-- The gates' weights' block. -/
theorem in5 (c : Dev nD) (t : Fin cfg0.N) (n : Fin 4) (k : Fin 256) (d : Fin 512) :
    iblk m c 5 t (ix4 0 n k d) = m ((c : Thread nD τ).loc main_arg2) (ix3 n k (Merge.col (dev t.val) d)) := by
  have ht : t.val < 32 := t.isLt
  blk_ext! [iblk, V, dev, Merge.col, idx t]

/-- The gates' biases' block. -/
theorem in6 (c : Dev nD) (t : Fin cfg0.N) (n : Fin 4) (d : Fin 512) :
    iblk m c 6 t (ix4 0 n 0 d) = m ((c : Thread nD τ).loc main_arg3) (ix2 n (Merge.col (dev t.val) d)) := by
  have ht : t.val < 32 := t.isLt
  blk_ext! [iblk, V, dev, Merge.col, idx t]

/-- The projections' weights' block. -/
theorem in7 (c : Dev nD) (t : Fin cfg0.N) (n : Fin 4) (k : Fin 1024) (d : Fin 512) :
    iblk m c 7 t (ix4 0 n k d) = m ((c : Thread nD τ).loc main_arg4) (ix3 n k (Merge.col (dev t.val) d)) := by
  have ht : t.val < 32 := t.isLt
  blk_ext! [iblk, V, dev, Merge.col, idx t]

/-- The merge of the kernel's arguments. -/
abbrev result (c : Dev nD) := merged (m ((c : Thread nD τ).loc main_arg0)) (m ((c : Thread nD τ).loc main_arg1))
  (m ((c : Thread nD τ).loc main_arg2)) (m ((c : Thread nD τ).loc main_arg3)) (m ((c : Thread nD τ).loc main_arg4))

/-- What a point leaves in the result's block. -/
theorem point8 (c : Dev nD) (t : Fin cfg0.N) (y : S1024x512.Idx) :
    out0_8 (iblk m c 0 t) (iblk m c 1 t) (iblk m c 2 t) (iblk m c 3 t) (iblk m c 4 t) (iblk m c 5 t) (iblk m c 6 t) (iblk m c 7 t) y
      = result m c (ix2 (row t.val (y 0)) (Merge.col (dev t.val) (y 1))) := by
  idx_vars y
  frame_out
  unfold_payloads
  pointwise [result, merged, Merge.gate, Merge.proj, Fin.sum_univ_four, in0, in1, in2, in3, in4, in5, in6, in7]

/-- The result array. -/
theorem final8 (c : Dev nD) : (dats m 0 c).arrAt 8 (cfgs 0).N = result m c := by
  refine (dats m 0 c).arrAt_eq_of_covers 8 _ (by decide +kernel) fun t hf y => ?_
  have ht : t.val < 32 := t.isLt
  blk_simp
  rw [after0_8, point8]
  blk_ext [row, dev, Merge.col, idx t]

end Cert.MergeForwardIdeal.Hand

namespace Cert.MergeForwardReferenceIdeal.Hand

open Cert.MergeForwardReferenceIdeal Cert.MergeForwardReferenceIdeal.Read Idealize.ShloMosaic
open Cert.MergeForwardIdeal.Hand

/-- The reference's result. -/
theorem eq8 (x : Merge.X) (o : Merge.O) (wg : Merge.WG) (bg : Merge.BG) (wb : Merge.WB) :
    val_main_v15 (F := Ideal) x o wg bg wb = merged x o wg bg wb := by
  funext i
  idx_vars i
  rw [← val_main_v15_eq]
  pointwise [merged, Merge.gate, Merge.proj, Ideal.logistic, Fin.sum_univ_four]
  ac_nf

end Cert.MergeForwardReferenceIdeal.Hand

namespace Cert.Proof

open Idealize.ShloMosaic Idealize.SL.Sem

/-- The forward merge agrees with the reference's. -/
theorem mergeForward_algebraic : Cert.algebraic_MergeForwardIdeal_MergeForwardReferenceIdeal := by
  intro m g m' g' _ hagree
  refine ⟨fun c => Cert.MergeForwardIdeal.Hand.result m c, ?_, ?_⟩
  · refine (θ_run _ _ _).mono (fun r h c => ?_) (Cert.MergeForwardIdeal.Value.run_blocks m g)
    obtain ⟨h0, hk⟩ := h c
    exact ⟨h0.trans (Cert.MergeForwardIdeal.Hand.final8 m c), hk⟩
  · refine (θ_run _ _ _).mono (fun r h c => ?_) (Cert.MergeForwardReferenceIdeal.Value.run m' g')
    obtain ⟨h0, hk⟩ := h c
    obtain ⟨a0, a1, a2, a3, a4⟩ := hagree c
    refine ⟨h0.trans ?_, hk⟩
    rw [Cert.MergeForwardReferenceIdeal.Read.val_main_v15_eq, Cert.MergeForwardReferenceIdeal.Hand.eq8, a0, a1, a2, a3, a4]

/-- The reference runs to its end, keeps its arguments and uses no semaphore. -/
theorem mergeForward_reference_frame : Cert.quiescent_MergeForwardReferenceIdeal := fun m ρ _ =>
  (θ_run Cert.MergeForwardReferenceIdeal.defs _ _).mono (fun r h => ⟨fun c => (h c).2, sem_eq_zero_of_no_sems (by decide) r.2⟩)
    (Cert.MergeForwardReferenceIdeal.Value.run (F := Ideal) m ρ)

end Cert.Proof

end
-- ==== Proof.LossHead.lean ====
/- The loss head: the loss, and its gradients.

   The loss is half the mean square over a row of the normalised row less the target, added over the rows. -/
module

public import proofs.«01_k».proof.Defs
public import proofs.«01_k».proof.Proof.Gen.LossHeadIdeal.Value
public import proofs.«01_k».proof.Proof.Gen.LossHeadReferenceIdeal.Run
public import proofs.«01_k».proof.Proof.Gen.LossHeadReferenceIdeal.Read
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section

set_option maxRecDepth 16384

noncomputable section

namespace Cert.LossHeadIdeal.Hand

open Cert.LossHeadIdeal Cert.LossHeadIdeal.Gen Idealize.ShloMosaic Idealize.ShloMosaic.TcCoe Idealize.SL.Sem

/-- A row's mean square, plus the step's small constant (the words are those of 4096 and 10⁻⁶). -/
def meanSq (x : S4096x4096.Idx → EReal) (s : Fin 4096) : EReal :=
  Ideal.div (∑ k : Fin 4096, x (ix2 s k) * x (ix2 s k)) (Ideal.ofBits .f32 0x45800000#32) + Ideal.ofBits .f32 0x358637BD#32

/-- One over the root of a row's mean square. -/
def rms (x : S4096x4096.Idx → EReal) (s : Fin 4096) : EReal :=
  Ideal.rsqrt (meanSq x s)

/-- The word of one half, as an extended real. -/
def half : EReal := Ideal.ofBits .f32 0x3F000000#32

/-- One half is the real one half. -/
theorem half_eq : half = ((1 / 2 : ℝ) : EReal) := by
  simp [half, Ideal.ofBits, Ideal.ieee, -EReal.coe_mul]
  norm_num

/-- One half of a sum is the sum of the halves, whatever the terms. -/
theorem half_sum {ι : Type} [Fintype ι] (f : ι → EReal) : half * ∑ k, f k = ∑ k, half * f k := by
  classical
  have h0 : (0 : EReal) ≤ half := by rw [half_eq]; exact_mod_cast (by norm_num : (0 : ℝ) ≤ 1 / 2)
  have h1 : half ≠ ⊤ := by rw [half_eq]; exact EReal.coe_ne_top _
  refine Finset.induction_on (motive := fun s : Finset ι => half * ∑ k ∈ s, f k = ∑ k ∈ s, half * f k) Finset.univ (by simp) ?_
  intro a s ha ih
  rw [Finset.sum_insert ha, Finset.sum_insert ha, EReal.left_distrib_of_nonneg_of_ne_top h0 h1, ih]

/-- The error at one element: the normalised row times the weight, less the target. -/
def err (x : S4096x4096.Idx → EReal) (w : S4096.Idx → EReal) (y : S4096x4096.Idx → EReal) (s k : Fin 4096) : EReal := x (ix2 s k) * rms x s * w (ix1 k) - y (ix2 s k)

/-- The gradient of one row's half mean square with respect to the square of one error. -/
def scale : EReal := Ideal.div half (Ideal.ofBits .f32 0x45800000#32)

/-- The gradient with respect to the error at one element. -/
def up (x : S4096x4096.Idx → EReal) (w : S4096.Idx → EReal) (y : S4096x4096.Idx → EReal) (s k : Fin 4096) : EReal := err x w y s k * scale + scale * err x w y s k

/-- The scale is a real that is not negative. -/
theorem scale_eq : scale = ((1 / 8192 : ℝ) : EReal) := by
  have h : Ideal.ofBits .f32 0x45800000#32 = ((4096 : ℝ) : EReal) := by
    simp [Ideal.ofBits, Ideal.ieee, -EReal.coe_mul]
    norm_num
  rw [scale, h, half_eq, Ideal.div_coe (by norm_num), ← EReal.coe_mul]
  norm_num

/-- The scale of twice the error is the error's two halves of the square's gradient. -/
theorem scale_two (e : EReal) : scale * (Ideal.ofBits .f32 0x40000000#32 * e) = e * scale + scale * e := by
  have h : Ideal.ofBits .f32 0x40000000#32 = ((2 : ℝ) : EReal) := by
    simp [Ideal.ofBits, Ideal.ieee, -EReal.coe_mul]
    norm_num
  have h0 : (0 : EReal) ≤ 1 := zero_le_one
  have e2 : Ideal.ofBits .f32 0x40000000#32 * e = e + e := by
    rw [h, show ((2 : ℝ) : EReal) = 1 + 1 by rw [← EReal.coe_one, ← EReal.coe_add]; norm_num, EReal.right_distrib_of_nonneg h0 h0, one_mul]
  rw [e2, EReal.left_distrib_of_nonneg_of_ne_top, mul_comm e]
  · rw [scale_eq]; exact_mod_cast (by norm_num : (0 : ℝ) ≤ 1 / 8192)
  · rw [scale_eq]; exact EReal.coe_ne_top _

/-- The gradient that reaches a row's elements through its mean square (the word is that of -1/2). -/
def mean (x : S4096x4096.Idx → EReal) (w : S4096.Idx → EReal) (y : S4096x4096.Idx → EReal) (s : Fin 4096) : EReal :=
  Ideal.div ((∑ k : Fin 4096, x (ix2 s k) * (up x w y s k * w (ix1 k))) *
    (Ideal.ofBits .f32 0xBF000000#32 * Ideal.div (rms x s) (meanSq x s))) (Ideal.ofBits .f32 0x45800000#32)

/-- A row's half mean square error. -/
def rowLoss (x : S4096x4096.Idx → EReal) (w : S4096.Idx → EReal) (y : S4096x4096.Idx → EReal) (s : Fin 4096) : EReal :=
  half * Ideal.div (∑ k : Fin 4096, err x w y s k * err x w y s k) (Ideal.ofBits .f32 0x45800000#32)

/-- `scale_two` with the scale's words written out. -/
theorem scale_two_words (e : EReal) :
    Ideal.div (Ideal.ofBits .f32 0x3F000000#32) (Ideal.ofBits .f32 0x45800000#32) * (Ideal.ofBits .f32 0x40000000#32 * e)
      = e * Ideal.div (Ideal.ofBits .f32 0x3F000000#32) (Ideal.ofBits .f32 0x45800000#32)
        + Ideal.div (Ideal.ofBits .f32 0x3F000000#32) (Ideal.ofBits .f32 0x45800000#32) * e := scale_two e

/-- The loss. -/
def loss (x : S4096x4096.Idx → EReal) (w : S4096.Idx → EReal) (y : S4096x4096.Idx → EReal) : S1x1.Idx → EReal :=
  fun i => ∑ s : Fin 4096, rowLoss x w y s

/-- The gradient of x. -/
def dx (x : S4096x4096.Idx → EReal) (w : S4096.Idx → EReal) (y : S4096x4096.Idx → EReal) : S4096x4096.Idx → EReal :=
  fun i => up x w y (i 0) (i 1) * w (ix1 (i 1)) * rms x (i 0) + x i * (mean x w y (i 0)) + (mean x w y (i 0)) * x i

/-- The gradient of w. -/
def dw (x : S4096x4096.Idx → EReal) (w : S4096.Idx → EReal) (y : S4096x4096.Idx → EReal) : S1x4096.Idx → EReal :=
  fun i => ∑ s : Fin 4096, x (ix2 s (i 1)) * rms x s * up x w y s (i 1)

variable (m : (ℓ : Loc nD τ sig) → Buf (Elt Ideal) ℓ)

abbrev arg0 (c : Dev nD) : S4096x4096.Idx → EReal := m ((c : Thread nD τ).loc main_arg0)
abbrev arg1 (c : Dev nD) : S4096.Idx → EReal := m ((c : Thread nD τ).loc main_arg1)
abbrev arg2 (c : Dev nD) : S4096x4096.Idx → EReal := m ((c : Thread nD τ).loc main_arg2)

/-- Every window's block index at a grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0] :=
  (by decide +kernel : ∀ t : Fin grid0.N, _)

/-- The row of the whole array at row `r` of point `t`'s block. -/
def row (t : ℕ) (r : Fin 256) : Fin 4096 := ⟨t % 16 * 256 + r.val, by omega⟩

/-- Window 0's block. -/
theorem in0 (c : Dev nD) (t : Fin cfg0.N) (r : Fin 256) (k : Fin 4096) :
    iblk m c 0 t (ix2 r k) = arg0 m c (ix2 (row t.val r) k) := by
  have ht : t.val < 16 := t.isLt
  blk_ext! [iblk, V, row, idx t]

/-- What the host hands window 1. -/
theorem host1 (c : Dev nD) (k : Fin 4096) :
    (V m c main_v0 : S1x4096.Idx → EReal) (ix2 0 k) = arg1 m c (ix1 k) := by
  show StableHlo.after hostOps0 (fun b => m (c, b)) (Proc.devRef .tc main_v0) _ = _
  after_reads_simp
  pointwise

/-- Window 1's block. -/
theorem in1 (c : Dev nD) (t : Fin cfg0.N) (k : Fin 4096) :
    iblk m c 1 t (ix2 0 k) = arg1 m c (ix1 k) := by
  have ht : t.val < 16 := t.isLt
  rw [← host1 m c k]
  blk_ext! [iblk, row, idx t]

/-- Window 2's block. -/
theorem in2 (c : Dev nD) (t : Fin cfg0.N) (r : Fin 256) (k : Fin 4096) :
    iblk m c 2 t (ix2 r k) = arg2 m c (ix2 (row t.val r) k) := by
  have ht : t.val < 16 := t.isLt
  blk_ext! [iblk, V, row, idx t]

/-- One point's contribution to window 3's block. -/
def part3 (c : Dev nD) (t : ℕ) (y : S1x1.Idx) : EReal :=
  ∑ r : Fin 256, rowLoss (arg0 m c) (arg1 m c) (arg2 m c) (row t r)

/-- What the first point leaves in window 3's block. -/
theorem first3 (c : Dev nD) (t : Fin cfg0.N) (h0 : t.val % 16 = 0) (y : S1x1.Idx) :
    (outsAt0 m c t.val t.isLt).1 y = 0 + part3 m c t.val y := by
  idx_vars y
  rw [outsAt0_A m c t h0]
  frame_open
  simp (disch := decide) only [↓ View.readCov_skip, ↓ View.readCov_cons_toLoadRect, ↓ View.readCov_fill]
  frame_out
  unfold_payloads
  simp only [part3, rowLoss, ← half_sum]
  pointwise [half, err, rms, meanSq, in0, in1, in2]

/-- What a later point leaves in window 3's block. -/
theorem later3 (c : Dev nD) (t : Fin cfg0.N) (h0 : ¬ t.val % 16 = 0) (y : S1x1.Idx) :
    (outsAt0 m c t.val t.isLt).1 y = (outsAt0 m c (t.val - 1) (by omega)).1 y + part3 m c t.val y := by
  idx_vars y
  rw [outsAt0_B m c t h0]
  frame_out
  unfold_payloads
  simp only [part3, rowLoss, ← half_sum]
  pointwise [half, err, rms, meanSq, in0, in1, in2]

/-- Window 3's block at the last point. -/
theorem run3 (c : Dev nD) (t : Fin cfg0.N) (h : t.val % 16 = 15) (y : S1x1.Idx) :
    (outsAt0 m c t.val t.isLt).1 y = loss (arg0 m c) (arg1 m c) (arg2 m c) y := by
  have ht : t.val < 16 := t.isLt
  have e := Pipeline.eq_sum_of_reset_step_apply_of_mod (M := EReal) (fun n h => (outsAt0 m c n h).1) 16 (fun _ => 0)
    (part3 m c) (first3 m c) (later3 m c) t h y
  rw [e, zero_add, Finset.sum_range]
  refine Fin.sum_mul_add_congr (S := 16) (n := 256) fun s k hl => ?_
  have hs : s.val < 16 := s.isLt
  have e : row (16 * (t.val / 16) + s.val) k = ⟨s.val * 256 + k.val, hl⟩ := Fin.ext (by simp only [row] <;> omega)
  rw [e]

/-- The result array of window 3. -/
theorem final3 (c : Dev nD) : (dats m 0 c).arrAt 3 (cfgs 0).N = loss (arg0 m c) (arg1 m c) (arg2 m c) := by
  refine (dats m 0 c).arrAt_eq_of_covers 3 _ (by decide +kernel) fun t hf y => ?_
  have ht : t.val < 16 := t.isLt
  blk_simp
  rw [after0_3, run3 m c t ((flush0_3 t).mp hf)]
  blk_ext [row, idx t]

/-- What a point leaves in window 4's block. -/
theorem point4 (c : Dev nD) (t : Fin cfg0.N) (y : S256x4096.Idx) :
    (outsAt0 m c t.val t.isLt).2.1 y = dx (arg0 m c) (arg1 m c) (arg2 m c) (ix2 (row t.val (y 0)) (y 1)) := by
  idx_vars y
  by_cases h0 : t.val % 16 = 0
  · rw [outsAt0_A m c t h0]
    frame_out
    unfold_payloads
    pointwise [dx, up, err, rms, meanSq, mean, scale, half, in0, in1, in2]
    simp only [Finset.univ_unique, Finset.sum_singleton]
  · rw [outsAt0_B m c t h0]
    frame_out
    unfold_payloads
    pointwise [dx, up, err, rms, meanSq, mean, scale, half, in0, in1, in2]
    simp only [Finset.univ_unique, Finset.sum_singleton]

/-- The result array of window 4. -/
theorem final4 (c : Dev nD) : (dats m 0 c).arrAt 4 (cfgs 0).N = dx (arg0 m c) (arg1 m c) (arg2 m c) := by
  refine (dats m 0 c).arrAt_eq_of_covers 4 _ (by decide +kernel) fun t hf y => ?_
  have ht : t.val < 16 := t.isLt
  blk_simp
  rw [after0_4, point4]
  blk_ext [row, idx t]

/-- One point's contribution to window 5's block. -/
def part5 (c : Dev nD) (t : ℕ) (y : S1x4096.Idx) : EReal :=
  ∑ r : Fin 256, arg0 m c (ix2 (row t r) (y 1)) * rms (arg0 m c) (row t r) * up (arg0 m c) (arg1 m c) (arg2 m c) (row t r) (y 1)

/-- What the first point leaves in window 5's block. -/
theorem first5 (c : Dev nD) (t : Fin cfg0.N) (h0 : t.val % 16 = 0) (y : S1x4096.Idx) :
    (outsAt0 m c t.val t.isLt).2.2 y = 0 + part5 m c t.val y := by
  idx_vars y
  rw [outsAt0_A m c t h0]
  frame_open
  simp (disch := decide) only [↓ View.readCov_skip, ↓ View.readCov_cons_toLoadRect, ↓ View.readCov_fill]
  frame_out
  unfold_payloads
  pointwise [part5, dw, up, err, rms, meanSq, scale, half, in0, in1, in2]
  simp only [Finset.univ_unique, Finset.sum_singleton]

/-- What a later point leaves in window 5's block. -/
theorem later5 (c : Dev nD) (t : Fin cfg0.N) (h0 : ¬ t.val % 16 = 0) (y : S1x4096.Idx) :
    (outsAt0 m c t.val t.isLt).2.2 y = (outsAt0 m c (t.val - 1) (by omega)).2.2 y + part5 m c t.val y := by
  idx_vars y
  rw [outsAt0_B m c t h0]
  frame_out
  unfold_payloads
  pointwise [part5, dw, up, err, rms, meanSq, scale, half, in0, in1, in2]
  simp only [Finset.univ_unique, Finset.sum_singleton]

/-- Window 5's block at the last point. -/
theorem run5 (c : Dev nD) (t : Fin cfg0.N) (h : t.val % 16 = 15) (y : S1x4096.Idx) :
    (outsAt0 m c t.val t.isLt).2.2 y = dw (arg0 m c) (arg1 m c) (arg2 m c) y := by
  have ht : t.val < 16 := t.isLt
  have e := Pipeline.eq_sum_of_reset_step_apply_of_mod (M := EReal) (fun n h => (outsAt0 m c n h).2.2) 16 (fun _ => 0)
    (part5 m c) (first5 m c) (later5 m c) t h y
  rw [e, zero_add, Finset.sum_range]
  refine Fin.sum_mul_add_congr (S := 16) (n := 256) fun s k hl => ?_
  have hs : s.val < 16 := s.isLt
  have e : row (16 * (t.val / 16) + s.val) k = ⟨s.val * 256 + k.val, hl⟩ := Fin.ext (by simp only [row] <;> omega)
  rw [e]

/-- The result array of window 5. -/
theorem final5 (c : Dev nD) : (dats m 0 c).arrAt 5 (cfgs 0).N = dw (arg0 m c) (arg1 m c) (arg2 m c) := by
  refine (dats m 0 c).arrAt_eq_of_covers 5 _ (by decide +kernel) fun t hf y => ?_
  have ht : t.val < 16 := t.isLt
  blk_simp
  rw [after0_5, run5 m c t ((flush0_5 t).mp hf)]
  blk_ext [row, idx t]

end Cert.LossHeadIdeal.Hand

namespace Cert.LossHeadReferenceIdeal.Hand

open Cert.LossHeadReferenceIdeal Cert.LossHeadReferenceIdeal.Read Idealize.ShloMosaic
open Cert.LossHeadIdeal.Hand

/-- The reference's result for window 3. -/
theorem eq3 (x : S4096x4096.Idx → EReal) (w : S4096.Idx → EReal) (y : S4096x4096.Idx → EReal) : val_main_v51 (F := Ideal) x w y = loss x w y := by
  funext i
  idx_vars i
  rw [← val_main_v51_eq]
  simp only [loss, rowLoss, ← half_sum]
  pointwise [half, err, rms, meanSq]

/-- The reference's result for window 4. -/
theorem eq4 (x : S4096x4096.Idx → EReal) (w : S4096.Idx → EReal) (y : S4096x4096.Idx → EReal) : val_main_v50 (F := Ideal) x w y = dx x w y := by
  funext i
  idx_vars i
  pointwise [val_main_v50, val_main_v49, val_main_v46, val_main_v45, val_main_cst_15, val_main_v44, val_main_v43, val_main_cst_14, val_main_v42, val_main_v10, val_main_v8, val_main_v6, val_main_v5, val_main_cst_1, val_main_v4, val_main_v3, val_main_cst_0, val_main_v2, val_main_v1, val_main_cst, val_main_v0, val_main_v7, val_main_v9, val_main_cst_2, val_main_v39, val_main_v38, val_main_cst_13, val_main_v37, val_main_v35, val_main_v34, val_main_v13, val_main_v30, val_main_v19, val_main_v16, val_main_v15, val_main_v14, val_main_v12, val_main_v11, val_main_v18, val_main_cst_3, val_main_v29, val_main_v28, val_main_v27, val_main_cst_10, val_main_v26, val_main_v25, val_main_cst_9, val_main_cst_8, val_main_v48, val_main_v47, val_main_v41, val_main_v40]
  pointwise [dx, up, err, rms, meanSq, mean, scale, half, Ideal.logistic]
  simp only [scale_two_words]
  try simp only [Finset.univ_unique, Finset.sum_singleton]

/-- The reference's result for window 5. -/
theorem eq5 (x : S4096x4096.Idx → EReal) (w : S4096.Idx → EReal) (y : S4096x4096.Idx → EReal) : val_main_v52 (F := Ideal) x w y = dw x w y := by
  funext i
  idx_vars i
  rw [← val_main_v52_eq]
  pointwise [dw, up, err, rms, meanSq, scale, half, Ideal.logistic]
  simp only [scale_two_words]
  try simp only [Finset.univ_unique, Finset.sum_singleton]

end Cert.LossHeadReferenceIdeal.Hand

namespace Cert.Proof

open Idealize.ShloMosaic Idealize.SL.Sem Cert.LossHeadIdeal.Hand Cert.LossHeadReferenceIdeal.Hand Cert.LossHeadReferenceIdeal.Read

/-- The loss head: the loss, and its gradients: the program and its reference agree on the extended reals. -/
theorem lossHead_algebraic : Cert.algebraic_LossHeadIdeal_LossHeadReferenceIdeal := by
  intro m g m' g' _ hagree
  refine ⟨fun c => loss (arg0 m c) (arg1 m c) (arg2 m c), fun c => dx (arg0 m c) (arg1 m c) (arg2 m c), fun c => dw (arg0 m c) (arg1 m c) (arg2 m c), ?_, ?_⟩
  · refine (θ_run _ _ _).mono (fun r h c => ?_) (Cert.LossHeadIdeal.Value.run_blocks m g)
    obtain ⟨h0, h1, h2, hk⟩ := h c
    exact ⟨h0.trans (final3 m c), h1.trans (final4 m c), h2.trans (final5 m c), hk⟩
  · refine (θ_run _ _ _).mono (fun r h c => ?_) (Cert.LossHeadReferenceIdeal.Value.run m' g')
    obtain ⟨h0, h1, h2, hk⟩ := h c
    obtain ⟨a0, a1, a2⟩ := hagree c
    refine ⟨h0.trans ?_, h1.trans ?_, h2.trans ?_, hk⟩
    · rw [val_main_v51_eq, eq3, a0, a1, a2]
    · rw [val_main_v50_eq, eq4, a0, a1, a2]
    · rw [val_main_v52_eq, eq5, a0, a1, a2]

/-- The reference runs to its end, keeps its arguments and uses no semaphore. -/
theorem lossHead_reference_frame : Cert.quiescent_LossHeadReferenceIdeal := fun m ρ _ =>
  (θ_run Cert.LossHeadReferenceIdeal.defs _ _).mono (fun r h => ⟨fun c => (h c).2.2.2, sem_eq_zero_of_no_sems (by decide) r.2⟩)
    (Cert.LossHeadReferenceIdeal.Value.run (F := Ideal) m ρ)

end Cert.Proof

end
-- ==== Proof.Softplus.lean ====
/- The softplus function of the extended reals. -/
module

public import Idealize.ShloMosaic.PureOps.Ideal

@[expose] public section

noncomputable section

namespace Cert.Softplus

open Idealize.ShloMosaic

/-- The logarithm of one plus the exponential, kept from overflowing: the larger of x and 0, plus log (1 + exp (-|x|)). -/
def softplus (x : EReal) : EReal := max x 0 + Ideal.log (1 + Ideal.exp (-max x (-x)))

/-- The exponential of a real. -/
theorem exp_coe (r : ℝ) : Ideal.exp (r : EReal) = ((Real.exp r : ℝ) : EReal) := rfl

/-- The exponential at the bottom. -/
theorem exp_bot : Ideal.exp ⊥ = 0 := rfl

/-- The exponential at the top. -/
theorem exp_top : Ideal.exp ⊤ = ⊤ := rfl

/-- The larger of two reals. -/
theorem max_coe (x y : ℝ) : max (x : EReal) (y : EReal) = ((max x y : ℝ) : EReal) :=
  (EReal.coe_strictMono.monotone.map_max).symm

/-- The logarithm of a positive real. -/
theorem log_coe {r : ℝ} (h : 0 < r) : Ideal.log (r : EReal) = ((Real.log r : ℝ) : EReal) := by
  show (if r ≤ 0 then (⊥ : EReal) else ((Real.log r : ℝ) : EReal)) = _
  rw [if_neg (not_le.mpr h)]

/-- The logarithm of one. -/
theorem log_one : Ideal.log 1 = 0 := by
  rw [← EReal.coe_one, log_coe zero_lt_one, Real.log_one, EReal.coe_zero]

/-- Less the magnitude of a real. -/
theorem neg_abs_coe (r : ℝ) : -max (r : EReal) (-(r : EReal)) = ((-|r| : ℝ) : EReal) := by
  rw [← EReal.coe_neg, max_coe, ← EReal.coe_neg]
  rfl

/-- One plus the exponential of a real. -/
theorem one_add_exp_coe (r : ℝ) : 1 + Ideal.exp (r : EReal) = ((1 + Real.exp r : ℝ) : EReal) := by
  rw [exp_coe, EReal.coe_add, EReal.coe_one]

/-- Softplus of a real. -/
theorem softplus_coe (r : ℝ) : softplus (r : EReal) = ((Real.log (1 + Real.exp r) : ℝ) : EReal) := by
  have hp : ∀ x : ℝ, 0 < 1 + Real.exp x := fun x => by positivity
  rw [softplus, neg_abs_coe, one_add_exp_coe, log_coe (hp _), ← EReal.coe_zero, max_coe, ← EReal.coe_add]
  congr 1
  rcases le_total 0 r with h | h
  · rw [max_eq_left h, abs_of_nonneg h]
    have e : 1 + Real.exp r = Real.exp r * (1 + Real.exp (-r)) := by
      rw [mul_add, mul_one, ← Real.exp_add, add_neg_cancel, Real.exp_zero, add_comm]
    rw [e, Real.log_mul (Real.exp_pos r).ne' (hp _).ne', Real.log_exp]
  · rw [max_eq_right h, abs_of_nonpos h, neg_neg, zero_add]

/-- The logistic function of a real. -/
theorem logistic_coe (r : ℝ) : Ideal.logistic (r : EReal) = ((1 / (1 + Real.exp (-r)) : ℝ) : EReal) := by
  have hp : 0 < 1 + Real.exp (-r) := by positivity
  rw [Ideal.logistic, ← EReal.coe_neg, one_add_exp_coe, Ideal.div_coe hp.ne', one_mul]

/-- Softplus at the top. -/
theorem softplus_top : softplus ⊤ = ⊤ := by
  simp [softplus, exp_bot, log_one]

/-- Softplus at the bottom. -/
theorem softplus_bot : softplus ⊥ = 0 := by
  simp [softplus, exp_bot, log_one]

/-- The logistic function at the top. -/
theorem logistic_top : Ideal.logistic ⊤ = 1 := by
  simp [Ideal.logistic, exp_bot, exp_top, Ideal.div]

/-- The logistic function at the bottom. -/
theorem logistic_bot : Ideal.logistic ⊥ = 0 := by
  have h : (1 : EReal) + ⊤ = ⊤ := EReal.add_top_of_ne_bot (EReal.coe_ne_bot 1)
  simp [Ideal.logistic, exp_top, Ideal.div, h]

/-- The word of the positive infinity. -/
theorem inf_word : Ideal.ofBits .f32 0x7F800000#32 = ⊤ := by
  simp [Ideal.ofBits, Ideal.ieee]

/-- Softplus as the logarithm of one plus, written with the two operations. -/
theorem value_ref (x : EReal) : max x 0 + Ideal.log1p (Ideal.exp (-FloatOps.absf (F := Ideal) (φ := .f32) x)) = softplus x := rfl

/-- Softplus whose logarithm of one plus is worked out by a quotient, exact where one plus the term rounds. -/
theorem value_quot (x : EReal) :
    (max x 0 + if 1 + Ideal.exp (-FloatOps.absf (F := Ideal) (φ := .f32) x) = 1 then Ideal.exp (-FloatOps.absf (F := Ideal) (φ := .f32) x)
      else Ideal.log (1 + Ideal.exp (-FloatOps.absf (F := Ideal) (φ := .f32) x)) *
        Ideal.div (Ideal.exp (-FloatOps.absf (F := Ideal) (φ := .f32) x))
          (if 1 + Ideal.exp (-FloatOps.absf (F := Ideal) (φ := .f32) x) = 1 then 1
            else 1 + Ideal.exp (-FloatOps.absf (F := Ideal) (φ := .f32) x) - 1)) = softplus x := by
  show (max x 0 + if 1 + Ideal.exp (-max x (-x)) = 1 then Ideal.exp (-max x (-x))
      else Ideal.log (1 + Ideal.exp (-max x (-x))) * Ideal.div (Ideal.exp (-max x (-x)))
        (if 1 + Ideal.exp (-max x (-x)) = 1 then 1 else 1 + Ideal.exp (-max x (-x)) - 1)) = softplus x
  induction x using EReal.rec with
  | bot => rw [softplus_bot]; simp [exp_bot]
  | top => rw [softplus_top]; simp [exp_bot]
  | coe r =>
    have hu : 0 < Real.exp (-|r|) := Real.exp_pos _
    have hne : ¬ ((1 + Real.exp (-|r|) : ℝ) : EReal) = 1 := by
      rw [← EReal.coe_one, EReal.coe_eq_coe_iff]
      linarith
    rw [softplus, neg_abs_coe, one_add_exp_coe, if_neg hne, if_neg hne, exp_coe, ← EReal.coe_one, ← EReal.coe_sub, add_sub_cancel_left,
      Ideal.div_coe hu.ne', ← EReal.coe_mul, mul_one_div_cancel hu.ne', EReal.coe_one, mul_one]

/-- The slope of softplus as the exponential of its argument less itself, with the infinities set apart. -/
theorem grad_ref (x : EReal) :
    Ideal.exp ((if x = Ideal.ofBits .f32 0x7F800000#32 then 0 else x) - if softplus x = Ideal.ofBits .f32 0x7F800000#32 then 0 else softplus x)
      = Ideal.div 1 (1 + Ideal.exp (-x)) := by
  show _ = Ideal.logistic x
  rw [inf_word]
  induction x using EReal.rec with
  | bot => rw [softplus_bot, logistic_bot]; simp [exp_bot]
  | top => rw [softplus_top, logistic_top]; simp; exact (exp_coe 0).trans (by simp)
  | coe r =>
    rw [softplus_coe, logistic_coe, if_neg (EReal.coe_ne_top _), if_neg (EReal.coe_ne_top _), ← EReal.coe_sub, exp_coe, Real.exp_sub,
      Real.exp_log (by positivity)]
    congr 1
    have h : Real.exp r * Real.exp (-r) = 1 := by rw [← Real.exp_add, add_neg_cancel, Real.exp_zero]
    field_simp
    linear_combination h

end Cert.Softplus

end
-- ==== Proof.DeltaGates.lean ====
/- The gradient of the delta branch's gates.

   The write gate is a logistic function; the log of the decay is -exp (a_log) · softplus (alpha + dt_bias). -/
module

public import proofs.«01_k».proof.Defs
public import proofs.«01_k».proof.Proof.Gen.DeltaGatesIdeal.Value
public import proofs.«01_k».proof.Proof.Gen.DeltaGatesReferenceIdeal.Run
public import proofs.«01_k».proof.Proof.Gen.DeltaGatesReferenceIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import proofs.«01_k».proof.Proof.Softplus

@[expose] public section

set_option maxRecDepth 16384

noncomputable section

namespace Cert.DeltaGatesIdeal.Hand

open Cert.DeltaGatesIdeal Cert.DeltaGatesIdeal.Gen Idealize.ShloMosaic Idealize.ShloMosaic.TcCoe Idealize.SL.Sem

/-- The gradient with respect to the logarithm of the decay's step at one element, with the factor of the head. -/
def dz (a : S8x4096.Idx → EReal) (l b : S8.Idx → EReal) (r c : S8x4096.Idx → EReal) (h : Fin 8) (s : Fin 4096) : EReal :=
  -Ideal.exp (l (ix1 h)) * (r (ix2 h s) + c (ix2 h s)) * Ideal.logistic (a (ix2 h s) + b (ix1 h))

/-- The gradient of the write gate's argument. -/
def de (e u : S8x4096.Idx → EReal) : S8x4096.Idx → EReal :=
  fun i => u i * (Ideal.logistic (e i) * (1 - Ideal.logistic (e i)))

/-- The gradient of the decay's argument. -/
def da (a : S8x4096.Idx → EReal) (l b : S8.Idx → EReal) (r c : S8x4096.Idx → EReal) : S8x4096.Idx → EReal :=
  fun i => dz a l b r c (i 0) (i 1)

/-- The gradient of the decay's logarithm. -/
def dl (a : S8x4096.Idx → EReal) (l b : S8.Idx → EReal) (r c : S8x4096.Idx → EReal) : S8x1.Idx → EReal :=
  fun i => -(∑ s : Fin 4096, (r (ix2 (i 0) s) + c (ix2 (i 0) s)) * Softplus.softplus (a (ix2 (i 0) s) + b (ix1 (i 0)))) * Ideal.exp (l (ix1 (i 0)))

/-- The gradient of the decay's bias. -/
def db (a : S8x4096.Idx → EReal) (l b : S8.Idx → EReal) (r c : S8x4096.Idx → EReal) : S8x1.Idx → EReal :=
  fun i => ∑ s : Fin 4096, dz a l b r c (i 0) s

variable (m : (ℓ : Loc nD τ sig) → Buf (Elt Ideal) ℓ)

abbrev arg0 (c : Dev nD) : S8x4096.Idx → EReal := m ((c : Thread nD τ).loc main_arg0)
abbrev arg1 (c : Dev nD) : S8x4096.Idx → EReal := m ((c : Thread nD τ).loc main_arg1)
abbrev arg2 (c : Dev nD) : S8.Idx → EReal := m ((c : Thread nD τ).loc main_arg2)
abbrev arg3 (c : Dev nD) : S8.Idx → EReal := m ((c : Thread nD τ).loc main_arg3)
abbrev arg4 (c : Dev nD) : S8x4096.Idx → EReal := m ((c : Thread nD τ).loc main_arg4)
abbrev arg5 (c : Dev nD) : S8x4096.Idx → EReal := m ((c : Thread nD τ).loc main_arg5)
abbrev arg6 (c : Dev nD) : S8x4096.Idx → EReal := m ((c : Thread nD τ).loc main_arg6)

/-- Every window's block index at a grid point. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0] :=
  (by decide +kernel : ∀ t : Fin grid0.N, _)

/-- Window 0's block. -/
theorem in0 (c : Dev nD) (t : Fin cfg0.N) (h : Fin 8) (k : Fin 4096) :
    iblk m c 0 t (ix2 h k) = arg0 m c (ix2 h k) := by
  have ht : t.val < 1 := t.isLt
  blk_ext! [iblk, V, idx t]

/-- Window 1's block. -/
theorem in1 (c : Dev nD) (t : Fin cfg0.N) (h : Fin 8) (k : Fin 4096) :
    iblk m c 1 t (ix2 h k) = arg1 m c (ix2 h k) := by
  have ht : t.val < 1 := t.isLt
  blk_ext! [iblk, V, idx t]

/-- What the host hands window 2. -/
theorem host2 (c : Dev nD) (h : Fin 8) :
    (V m c main_v0 : S8x1.Idx → EReal) (ix2 h 0) = arg2 m c (ix1 h) := by
  show StableHlo.after hostOps0 (fun b => m (c, b)) (Proc.devRef .tc main_v0) _ = _
  after_reads_simp
  pointwise

/-- Window 2's block. -/
theorem in2 (c : Dev nD) (t : Fin cfg0.N) (h : Fin 8) :
    iblk m c 2 t (ix2 h 0) = arg2 m c (ix1 h) := by
  have ht : t.val < 1 := t.isLt
  rw [← host2 m c h]
  blk_ext! [iblk, idx t]

/-- What the host hands window 3. -/
theorem host3 (c : Dev nD) (h : Fin 8) :
    (V m c main_v1 : S8x1.Idx → EReal) (ix2 h 0) = arg3 m c (ix1 h) := by
  show StableHlo.after hostOps0 (fun b => m (c, b)) (Proc.devRef .tc main_v1) _ = _
  after_reads_simp
  pointwise

/-- Window 3's block. -/
theorem in3 (c : Dev nD) (t : Fin cfg0.N) (h : Fin 8) :
    iblk m c 3 t (ix2 h 0) = arg3 m c (ix1 h) := by
  have ht : t.val < 1 := t.isLt
  rw [← host3 m c h]
  blk_ext! [iblk, idx t]

/-- Window 4's block. -/
theorem in4 (c : Dev nD) (t : Fin cfg0.N) (h : Fin 8) (k : Fin 4096) :
    iblk m c 4 t (ix2 h k) = arg4 m c (ix2 h k) := by
  have ht : t.val < 1 := t.isLt
  blk_ext! [iblk, V, idx t]

/-- Window 5's block. -/
theorem in5 (c : Dev nD) (t : Fin cfg0.N) (h : Fin 8) (k : Fin 4096) :
    iblk m c 5 t (ix2 h k) = arg5 m c (ix2 h k) := by
  have ht : t.val < 1 := t.isLt
  blk_ext! [iblk, V, idx t]

/-- Window 6's block. -/
theorem in6 (c : Dev nD) (t : Fin cfg0.N) (h : Fin 8) (k : Fin 4096) :
    iblk m c 6 t (ix2 h k) = arg6 m c (ix2 h k) := by
  have ht : t.val < 1 := t.isLt
  blk_ext! [iblk, V, idx t]

/-- What a point leaves in window 7's block. -/
theorem point7 (c : Dev nD) (t : Fin cfg0.N) (y : S8x4096.Idx) :
    out0_7 (iblk m c 0 t) (iblk m c 1 t) (iblk m c 2 t) (iblk m c 3 t) (iblk m c 4 t) (iblk m c 5 t) (iblk m c 6 t) y = de (arg0 m c) (arg4 m c) y := by
  idx_vars y
  frame_out
  unfold_payloads
  pointwise [de, in0, in1, in2, in3, in4, in5, in6]

/-- The result array of window 7. -/
theorem final7 (c : Dev nD) : (dats m 0 c).arrAt 7 (cfgs 0).N = de (arg0 m c) (arg4 m c) := by
  refine (dats m 0 c).arrAt_eq_of_covers 7 _ (by decide +kernel) fun t hf y => ?_
  have ht : t.val < 1 := t.isLt
  blk_simp
  rw [after0_7, point7]
  blk_ext [idx t]

/-- What a point leaves in window 8's block. -/
theorem point8 (c : Dev nD) (t : Fin cfg0.N) (y : S8x4096.Idx) :
    out0_8 (iblk m c 0 t) (iblk m c 1 t) (iblk m c 2 t) (iblk m c 3 t) (iblk m c 4 t) (iblk m c 5 t) (iblk m c 6 t) y = da (arg1 m c) (arg2 m c) (arg3 m c) (arg5 m c) (arg6 m c) y := by
  idx_vars y
  frame_out
  unfold_payloads
  pointwise [da, dz, zero_sub, in0, in1, in2, in3, in4, in5, in6]

/-- The result array of window 8. -/
theorem final8 (c : Dev nD) : (dats m 0 c).arrAt 8 (cfgs 0).N = da (arg1 m c) (arg2 m c) (arg3 m c) (arg5 m c) (arg6 m c) := by
  refine (dats m 0 c).arrAt_eq_of_covers 8 _ (by decide +kernel) fun t hf y => ?_
  have ht : t.val < 1 := t.isLt
  blk_simp
  rw [after0_8, point8]
  blk_ext [idx t]

/-- What a point leaves in window 9's block. -/
theorem point9 (c : Dev nD) (t : Fin cfg0.N) (y : S8x1.Idx) :
    out0_9 (iblk m c 0 t) (iblk m c 1 t) (iblk m c 2 t) (iblk m c 3 t) (iblk m c 4 t) (iblk m c 5 t) (iblk m c 6 t) y = dl (arg1 m c) (arg2 m c) (arg3 m c) (arg5 m c) (arg6 m c) y := by
  idx_vars y
  obtain rfl : y1 = 0 := Subsingleton.elim _ _
  frame_out
  unfold_payloads
  pointwise [dl, zero_sub, in0, in1, in2, in3, in4, in5, in6]
  simp only [Softplus.value_quot]

/-- The result array of window 9. -/
theorem final9 (c : Dev nD) : (dats m 0 c).arrAt 9 (cfgs 0).N = dl (arg1 m c) (arg2 m c) (arg3 m c) (arg5 m c) (arg6 m c) := by
  refine (dats m 0 c).arrAt_eq_of_covers 9 _ (by decide +kernel) fun t hf y => ?_
  have ht : t.val < 1 := t.isLt
  blk_simp
  rw [after0_9, point9]
  blk_ext [idx t]

/-- What a point leaves in window 10's block. -/
theorem point10 (c : Dev nD) (t : Fin cfg0.N) (y : S8x1.Idx) :
    out0_10 (iblk m c 0 t) (iblk m c 1 t) (iblk m c 2 t) (iblk m c 3 t) (iblk m c 4 t) (iblk m c 5 t) (iblk m c 6 t) y = db (arg1 m c) (arg2 m c) (arg3 m c) (arg5 m c) (arg6 m c) y := by
  idx_vars y
  frame_out
  unfold_payloads
  pointwise [db, dz, zero_sub, in0, in1, in2, in3, in4, in5, in6]

/-- The result array of window 10. -/
theorem final10 (c : Dev nD) : (dats m 0 c).arrAt 10 (cfgs 0).N = db (arg1 m c) (arg2 m c) (arg3 m c) (arg5 m c) (arg6 m c) := by
  refine (dats m 0 c).arrAt_eq_of_covers 10 _ (by decide +kernel) fun t hf y => ?_
  have ht : t.val < 1 := t.isLt
  blk_simp
  rw [after0_10, point10]
  blk_ext [idx t]

end Cert.DeltaGatesIdeal.Hand

namespace Cert.DeltaGatesReferenceIdeal.Hand

open Cert.DeltaGatesReferenceIdeal Cert.DeltaGatesReferenceIdeal.Read Idealize.ShloMosaic
open Cert.DeltaGatesIdeal.Hand

/-- The reference's result for window 7. -/
theorem eq7 (e u : S8x4096.Idx → EReal) : val_main_v22 (F := Ideal) e u = de e u := by
  funext i
  idx_vars i
  rw [← val_main_v22_eq]
  pointwise [de, Ideal.logistic]

/-- The reference's result for window 8. -/
theorem eq8 (a : S8x4096.Idx → EReal) (l b : S8.Idx → EReal) (r c : S8x4096.Idx → EReal) : val_main_v33 (F := Ideal) a l b r c = da a l b r c := by
  funext i
  idx_vars i
  pointwise [val_main_v33, val_main_v29, val_main_v6_1, val_main_call0_v21, val_main_call0_v20, val_main_v6_0, val_main_call0_v11, val_main_call0_v10, val_main_call0_v9, val_main_call0_v8, val_main_call0_v7, val_main_call0_v3, val_main_call0_v2, val_main_call0_cst, val_main_v5, val_main_v4, val_main_v3, val_main_v2, val_main_call0_v1, val_main_call0_v0, val_main_call0_v6, val_main_call0_v5, val_main_call0_v4, val_main_call0_v19, val_main_call0_cst_3, val_main_call0_v18, val_main_call0_v17, val_main_call0_cst_2, val_main_call0_v16, val_main_call0_v15, val_main_call0_cst_1, val_main_call0_v14, val_main_call0_v13, val_main_call0_cst_0, val_main_v24, val_main_v21, val_main_v20, val_main_v23, val_main_v7, val_main_v1, val_main_v0]
  pointwise [da, dz, zero_sub, Ideal.logistic]
  try simp only [Finset.univ_unique, Finset.sum_singleton]
  simp only [ne_eq, not_true_eq_false, if_false, Softplus.grad_ref, Softplus.value_ref]

/-- The reference's result for window 9. -/
theorem eq9 (a : S8x4096.Idx → EReal) (l b : S8.Idx → EReal) (r c : S8x4096.Idx → EReal) : val_main_v36 (F := Ideal) a l b r c = dl a l b r c := by
  funext i
  idx_vars i
  rw [← val_main_v36_eq]
  pointwise [dl, Ideal.logistic]
  try simp only [Finset.univ_unique, Finset.sum_singleton]
  simp only [ne_eq, not_true_eq_false, if_false, Softplus.grad_ref, Softplus.value_ref]

/-- The reference's result for window 10. -/
theorem eq10 (a : S8x4096.Idx → EReal) (l b : S8.Idx → EReal) (r c : S8x4096.Idx → EReal) : val_main_v37 (F := Ideal) a l b r c = db a l b r c := by
  funext i
  idx_vars i
  pointwise [val_main_v37, val_main_v32, val_main_cst_5, val_main_v31, val_main_v30, val_main_cst_4, val_main_v29, val_main_v6_1, val_main_call0_v21, val_main_call0_v20, val_main_v6_0, val_main_call0_v11, val_main_call0_v10, val_main_call0_v9, val_main_call0_v8, val_main_call0_v7, val_main_call0_v3, val_main_call0_v2, val_main_call0_cst, val_main_v5, val_main_v4, val_main_v3, val_main_v2, val_main_call0_v1, val_main_call0_v0, val_main_call0_v6, val_main_call0_v5, val_main_call0_v4, val_main_call0_v19, val_main_call0_cst_3, val_main_call0_v18, val_main_call0_v17, val_main_call0_cst_2, val_main_call0_v16, val_main_call0_v15, val_main_call0_cst_1, val_main_call0_v14, val_main_call0_v13, val_main_call0_cst_0, val_main_v24, val_main_v21, val_main_v20, val_main_v23, val_main_v7, val_main_v1, val_main_v0]
  pointwise [db, dz, zero_sub, Ideal.logistic]
  try simp only [Finset.univ_unique, Finset.sum_singleton]
  simp only [ne_eq, not_true_eq_false, if_false, Softplus.grad_ref, Softplus.value_ref]

end Cert.DeltaGatesReferenceIdeal.Hand

namespace Cert.Proof

open Idealize.ShloMosaic Idealize.SL.Sem Cert.DeltaGatesIdeal.Hand Cert.DeltaGatesReferenceIdeal.Hand Cert.DeltaGatesReferenceIdeal.Read

/-- The gradient of the delta branch's gates: the program and its reference agree on the extended reals. -/
theorem deltaGates_algebraic : Cert.algebraic_DeltaGatesIdeal_DeltaGatesReferenceIdeal := by
  intro m g m' g' _ hagree
  refine ⟨fun c => de (arg0 m c) (arg4 m c), fun c => da (arg1 m c) (arg2 m c) (arg3 m c) (arg5 m c) (arg6 m c), fun c => dl (arg1 m c) (arg2 m c) (arg3 m c) (arg5 m c) (arg6 m c), fun c => db (arg1 m c) (arg2 m c) (arg3 m c) (arg5 m c) (arg6 m c), ?_, ?_⟩
  · refine (θ_run _ _ _).mono (fun r h c => ?_) (Cert.DeltaGatesIdeal.Value.run_blocks m g)
    obtain ⟨h0, h1, h2, h3, hk⟩ := h c
    exact ⟨h0.trans (final7 m c), h1.trans (final8 m c), h2.trans (final9 m c), h3.trans (final10 m c), hk⟩
  · refine (θ_run _ _ _).mono (fun r h c => ?_) (Cert.DeltaGatesReferenceIdeal.Value.run m' g')
    obtain ⟨h0, h1, h2, h3, hk⟩ := h c
    obtain ⟨a0, a1, a2, a3, a4, a5, a6⟩ := hagree c
    refine ⟨h0.trans ?_, h1.trans ?_, h2.trans ?_, h3.trans ?_, hk⟩
    · rw [val_main_v22_eq, eq7, a0, a4]
    · rw [val_main_v33_eq, eq8, a1, a2, a3, a5, a6]
    · rw [val_main_v36_eq, eq9, a1, a2, a3, a5, a6]
    · rw [val_main_v37_eq, eq10, a1, a2, a3, a5, a6]

/-- The reference runs to its end, keeps its arguments and uses no semaphore. -/
theorem deltaGates_reference_frame : Cert.quiescent_DeltaGatesReferenceIdeal := fun m ρ _ =>
  (θ_run Cert.DeltaGatesReferenceIdeal.defs _ _).mono (fun r h => ⟨fun c => (h c).2.2.2.2, sem_eq_zero_of_no_sems (by decide) r.2⟩)
    (Cert.DeltaGatesReferenceIdeal.Value.run (F := Ideal) m ρ)

end Cert.Proof

end
-- ==== Proof.Conv.lean ====
/- A causal convolution of four taps over 4096 rows, and the gradient of its silu.

   Rows moved later or earlier, with zeros where none remain; shared by the convolution gradients. -/
module

public import Idealize.ShloMosaic.Lib.Pipeline.ValueKit
public import Idealize.ShloMosaic.Lib.Pointwise
public import Idealize.ShloMosaic.Lib.WordCmp

@[expose] public section

set_option maxRecDepth 16384

noncomputable section

namespace Cert.Conv

open Idealize.ShloMosaic

/-- The rows moved later by `k`, with zeros in front. -/
def back (k : ℕ) (f : Fin 4096 → EReal) (y : Fin 4096) : EReal :=
  if k ≤ y.val then f ⟨y.val - k, by omega⟩ else 0

/-- The rows moved earlier by `k`, with zeros behind. -/
def ahead (k : ℕ) (f : Fin 4096 → EReal) (y : Fin 4096) : EReal :=
  if h : y.val + k < 4096 then f ⟨y.val + k, h⟩ else 0

/-- A matrix of 4096 rows and 128 columns. -/
abbrev Mat := (⟨2, ![4096, 128]⟩ : Shape).Idx → EReal

/-- A rotation later by `k` rows, masked to the rows from `k` on. -/
theorem rotate_back (k : ℕ) (hk : k < 4096) (x : Mat) (h1 h2) (y : Fin 4096) (j : Fin 128) :
    select (cmpi .sge (iota .tc ⟨2, ![4096, 128]⟩ 32 [0] h1) (broadcast _ (BitVec.ofNat 32 k)))
      (dynamicRotate 0 (BitVec.ofNat 32 k) none x h2)
      (broadcast _ (Scalar.ofBits (F := Ideal) .f32 0x00000000#32)) (ix2 y j) = back k (fun r => x (ix2 r j)) y := by
  pointwise
  have e : ((BitVec.ofNat 32 k).toNat) = k := by simp; omega
  rw [WordCmp.cmpi_sge_ofNat (by omega) (by omega)]
  by_cases h : k ≤ y.val
  · have i : (⟨(y.val + 4096 - (BitVec.ofNat 32 k).toNat % 4096) % 4096, Nat.mod_lt _ (by omega)⟩ : Fin 4096)
        = ⟨y.val - k, by omega⟩ := Fin.ext (by simp only [e]; omega)
    simp only [back, h, i, decide_true, BitVec.ofBool_true, if_true]
    rfl
  · simp only [back, h, decide_false, BitVec.ofBool_false, if_false]
    rfl

/-- A rotation earlier by `k` rows, written as one later by the others, masked to the rows with one `k` later. -/
theorem rotate_ahead (n k : ℕ) (hn : n + k = 4096) (x : Mat) (h1 h2) (y : Fin 4096) (j : Fin 128) :
    select (cmpi .slt (iota .tc ⟨2, ![4096, 128]⟩ 32 [0] h1) (broadcast _ (BitVec.ofNat 32 n)))
      (dynamicRotate 0 (BitVec.ofNat 32 n) none x h2)
      (broadcast _ (Scalar.ofBits (F := Ideal) .f32 0x00000000#32)) (ix2 y j) = ahead k (fun r => x (ix2 r j)) y := by
  pointwise
  have e : ((BitVec.ofNat 32 n).toNat) = n := by simp; omega
  rw [WordCmp.cmpi_slt_ofNat (by omega) (by omega)]
  by_cases h : y.val < n
  · have h' : y.val + k < 4096 := by omega
    have i : (⟨(y.val + 4096 - (BitVec.ofNat 32 n).toNat % 4096) % 4096, Nat.mod_lt _ (by omega)⟩ : Fin 4096)
        = ⟨y.val + k, h'⟩ := Fin.ext (by simp only [e]; omega)
    simp only [ahead, h, h', i, decide_true, BitVec.ofBool_true, dif_pos]
    rfl
  · have h' : ¬ y.val + k < 4096 := by omega
    simp only [ahead, h, h', decide_false, BitVec.ofBool_false, dif_neg, not_false_eq_true]
    rfl

/-- The masked rotation later, at every index. -/
theorem rotate_back_fun (k : ℕ) (hk : k < 4096) (x : Mat) (h1 h2) :
    select (cmpi .sge (iota .tc ⟨2, ![4096, 128]⟩ 32 [0] h1) (broadcast _ (BitVec.ofNat 32 k)))
      (dynamicRotate 0 (BitVec.ofNat 32 k) none x h2)
      (broadcast _ (Scalar.ofBits (F := Ideal) .f32 0x00000000#32))
    = fun i => back k (fun r => x (ix2 r (i 1))) (i 0) := by
  funext i
  idx_vars i
  exact rotate_back k hk x h1 h2 i0 i1

/-- The masked rotation earlier, at every index. -/
theorem rotate_ahead_fun (n k : ℕ) (hn : n + k = 4096) (x : Mat) (h1 h2) :
    select (cmpi .slt (iota .tc ⟨2, ![4096, 128]⟩ 32 [0] h1) (broadcast _ (BitVec.ofNat 32 n)))
      (dynamicRotate 0 (BitVec.ofNat 32 n) none x h2)
      (broadcast _ (Scalar.ofBits (F := Ideal) .f32 0x00000000#32))
    = fun i => ahead k (fun r => x (ix2 r (i 1))) (i 0) := by
  funext i
  idx_vars i
  exact rotate_ahead n k hn x h1 h2 i0 i1

/-- The masked rotation later by 1. -/
theorem back1 (x : Mat) (h1 h2) :
    select (cmpi .sge (iota .tc ⟨2, ![4096, 128]⟩ 32 [0] h1) (broadcast _ 1#32)) (dynamicRotate 0 1#32 none x h2)
      (broadcast _ (Scalar.ofBits (F := Ideal) .f32 0x00000000#32)) = fun i => back 1 (fun r => x (ix2 r (i 1))) (i 0) :=
  rotate_back_fun 1 (by norm_num) x h1 h2

/-- The masked rotation later by 2. -/
theorem back2 (x : Mat) (h1 h2) :
    select (cmpi .sge (iota .tc ⟨2, ![4096, 128]⟩ 32 [0] h1) (broadcast _ 2#32)) (dynamicRotate 0 2#32 none x h2)
      (broadcast _ (Scalar.ofBits (F := Ideal) .f32 0x00000000#32)) = fun i => back 2 (fun r => x (ix2 r (i 1))) (i 0) :=
  rotate_back_fun 2 (by norm_num) x h1 h2

/-- The masked rotation later by 3. -/
theorem back3 (x : Mat) (h1 h2) :
    select (cmpi .sge (iota .tc ⟨2, ![4096, 128]⟩ 32 [0] h1) (broadcast _ 3#32)) (dynamicRotate 0 3#32 none x h2)
      (broadcast _ (Scalar.ofBits (F := Ideal) .f32 0x00000000#32)) = fun i => back 3 (fun r => x (ix2 r (i 1))) (i 0) :=
  rotate_back_fun 3 (by norm_num) x h1 h2

/-- The masked rotation earlier by 1. -/
theorem ahead1 (x : Mat) (h1 h2) :
    select (cmpi .slt (iota .tc ⟨2, ![4096, 128]⟩ 32 [0] h1) (broadcast _ 4095#32)) (dynamicRotate 0 4095#32 none x h2)
      (broadcast _ (Scalar.ofBits (F := Ideal) .f32 0x00000000#32)) = fun i => ahead 1 (fun r => x (ix2 r (i 1))) (i 0) :=
  rotate_ahead_fun 4095 1 (by norm_num) x h1 h2

/-- The masked rotation earlier by 2. -/
theorem ahead2 (x : Mat) (h1 h2) :
    select (cmpi .slt (iota .tc ⟨2, ![4096, 128]⟩ 32 [0] h1) (broadcast _ 4094#32)) (dynamicRotate 0 4094#32 none x h2)
      (broadcast _ (Scalar.ofBits (F := Ideal) .f32 0x00000000#32)) = fun i => ahead 2 (fun r => x (ix2 r (i 1))) (i 0) :=
  rotate_ahead_fun 4094 2 (by norm_num) x h1 h2

/-- The masked rotation earlier by 3. -/
theorem ahead3 (x : Mat) (h1 h2) :
    select (cmpi .slt (iota .tc ⟨2, ![4096, 128]⟩ 32 [0] h1) (broadcast _ 4093#32)) (dynamicRotate 0 4093#32 none x h2)
      (broadcast _ (Scalar.ofBits (F := Ideal) .f32 0x00000000#32)) = fun i => ahead 3 (fun r => x (ix2 r (i 1))) (i 0) :=
  rotate_ahead_fun 4093 3 (by norm_num) x h1 h2

/-- One row of 128 lanes, with a unit axis. -/
abbrev Row := (⟨3, ![1, 1, 128]⟩ : Shape).Idx → EReal

/-- Four rows, each put at its place among rows of zeros, added up. -/
theorem stacked (p q r s : Row) (h1 h2 h3 h4 h5 h6) (i : Fin 4) (j : Fin 128) :
    addf (F := Ideal) (φ := .f32) (addf (addf
      (concatenate ⟨3, ![4, 1, 128]⟩ 0 [⟨⟨3, ![1, 1, 128]⟩, p⟩, ⟨⟨3, ![3, 1, 128]⟩, broadcast _ (Scalar.ofBits (F := Ideal) .f32 0x00000000#32)⟩] h1)
      (concatenate ⟨3, ![4, 1, 128]⟩ 0 [⟨⟨3, ![2, 1, 128]⟩, concatenate ⟨3, ![2, 1, 128]⟩ 0 [⟨⟨3, ![1, 1, 128]⟩, broadcast _ (Scalar.ofBits (F := Ideal) .f32 0x00000000#32)⟩, ⟨⟨3, ![1, 1, 128]⟩, q⟩] h2⟩, ⟨⟨3, ![2, 1, 128]⟩, broadcast _ (Scalar.ofBits (F := Ideal) .f32 0x00000000#32)⟩] h3))
      (concatenate ⟨3, ![4, 1, 128]⟩ 0 [⟨⟨3, ![3, 1, 128]⟩, concatenate ⟨3, ![3, 1, 128]⟩ 0 [⟨⟨3, ![2, 1, 128]⟩, broadcast _ (Scalar.ofBits (F := Ideal) .f32 0x00000000#32)⟩, ⟨⟨3, ![1, 1, 128]⟩, r⟩] h4⟩, ⟨⟨3, ![1, 1, 128]⟩, broadcast _ (Scalar.ofBits (F := Ideal) .f32 0x00000000#32)⟩] h5))
      (concatenate ⟨3, ![4, 1, 128]⟩ 0 [⟨⟨3, ![3, 1, 128]⟩, broadcast _ (Scalar.ofBits (F := Ideal) .f32 0x00000000#32)⟩, ⟨⟨3, ![1, 1, 128]⟩, s⟩] h6) (ix3 i 0 j)
    = (![p (ix3 0 0 j), q (ix3 0 0 j), r (ix3 0 0 j), s (ix3 0 0 j)] : Fin 4 → EReal) i := by
  fin_cases i <;> pointwise

/-- The causal convolution of one column with four taps. -/
def conv (x : Fin 4096 → EReal) (w : Fin 4 → EReal) (y : Fin 4096) : EReal :=
  x y * w 3 + back 1 x y * w 2 + back 2 x y * w 1 + back 3 x y * w 0

/-- The gradient of silu at `z`, with the factor `d`. -/
def slope (z d : EReal) : EReal :=
  d * Ideal.logistic z + z * d * (Ideal.logistic z * (1 - Ideal.logistic z))

/-- The gradient of the convolution with respect to one column. -/
def column (g : Fin 4096 → EReal) (w : Fin 4 → EReal) (y : Fin 4096) : EReal :=
  ahead 3 (fun r => g r * w 0) y + ahead 2 (fun r => g r * w 1) y + ahead 1 (fun r => g r * w 2) y + g y * w 3

/-- The gradient of the convolution with respect to the taps. -/
def taps (x g : Fin 4096 → EReal) : Fin 4 → EReal :=
  ![∑ y, back 3 x y * g y, ∑ y, back 2 x y * g y, ∑ y, back 1 x y * g y, ∑ y, x y * g y]

/-- Rows among zeros, `n` of them in front, read from the fourth on: the rows moved earlier. -/
theorem padded (n k : ℕ) (hn : n + k = 3) (f : Fin 4096 → EReal) (y : Fin 4096) :
    (if h : n ≤ 3 + y.val ∧ 3 + y.val - n < 4096 then f ⟨3 + y.val - n, h.2⟩ else 0) = ahead k f y := by
  by_cases h : y.val + k < 4096
  · have i : (⟨3 + y.val - n, by omega⟩ : Fin 4096) = ⟨y.val + k, h⟩ := Fin.ext (by simp only; omega)
    rw [dif_pos ⟨by omega, by omega⟩, ahead, dif_pos h, i]
  · rw [dif_neg (by omega), ahead, dif_neg h]

/-- The same with no zeros in front. -/
theorem padded_zero (f : Fin 4096 → EReal) (y : Fin 4096) :
    (if h : 3 + y.val < 4096 then f ⟨3 + y.val, h⟩ else 0) = ahead 3 f y := by
  by_cases h : y.val + 3 < 4096
  · have i : (⟨3 + y.val, by omega⟩ : Fin 4096) = ⟨y.val + 3, h⟩ := Fin.ext (by simp only; omega)
    rw [dif_pos (by omega), ahead, dif_pos h, i]
  · rw [dif_neg (by omega), ahead, dif_neg h]

/-- Rows behind three rows of zeros, read from row `n` on: the rows moved later. -/
theorem behind (n k : ℕ) (hn : n + k = 3) (f : Fin 4096 → EReal) (y : Fin 4096) :
    (if h : n + y.val < 3 then 0 else f ⟨n + y.val - 3, by omega⟩) = back k f y := by
  by_cases h : k ≤ y.val
  · have i : (⟨n + y.val - 3, by omega⟩ : Fin 4096) = ⟨y.val - k, by omega⟩ := Fin.ext (by simp only; omega)
    rw [dif_neg (by omega), back, if_pos h, i]
  · rw [dif_pos (by omega), back, if_neg h]

/-- Four terms added in the other order. -/
theorem reversed (a b c d : EReal) : a + b + c + d = d + c + b + a := by ac_rfl

/-- The squares of a head's values added up, with the small constant that keeps the norm from zero. -/
def energy (u : Fin 128 → EReal) : EReal := ∑ l, u l * u l + Ideal.ofBits .f32 0x358637BD#32

/-- What the gradient `d` of a head's normalised values asks of every value by way of the norm, halved. -/
def pull (u d : Fin 128 → EReal) : EReal :=
  (∑ l, u l * d l) * (Ideal.ofBits .f32 0xBF000000#32 * Ideal.div (Ideal.rsqrt (energy u)) (energy u))

/-- The gradient with respect to a head's values before they are divided by their norm. -/
def normed (u d : Fin 128 → EReal) (l : Fin 128) : EReal :=
  d l * Ideal.rsqrt (energy u) + u l * pull u d + pull u d * u l

end Cert.Conv

end
-- ==== Proof.DeltaKeys.lean ====
/- The gradient of the delta branch's queries and keys.

   Queries and keys are a causal convolution of four taps under silu, divided by their norm in each head; a grid point computes one head of 128 columns. -/
module

public import proofs.«01_k».proof.Defs
public import proofs.«01_k».proof.Proof.Gen.DeltaKeysIdeal.Value
public import proofs.«01_k».proof.Proof.Gen.DeltaKeysReferenceIdeal.Run
public import proofs.«01_k».proof.Proof.Gen.DeltaKeysReferenceIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import proofs.«01_k».proof.Proof.Conv

@[expose] public section

set_option maxRecDepth 16384

noncomputable section

namespace Cert.DeltaKeysIdeal.Hand

open Cert.DeltaKeysIdeal Cert.DeltaKeysIdeal.Gen Idealize.ShloMosaic Idealize.ShloMosaic.TcCoe Idealize.SL.Sem

/-- A column of the input. -/
def xs (x : S4096x2048.Idx → EReal) (q : Fin 2048) : Fin 4096 → EReal := fun r => x (ix2 r q)

/-- The four taps of a column. -/
def ws (w : S4x3072.Idx → EReal) (q : Fin 2048) : Fin 4 → EReal := fun i => w (ix2 i ⟨q.val, by omega⟩)

/-- A head's values in a row before they are divided by their norm. -/
def us (x : S4096x2048.Idx → EReal) (w : S4x3072.Idx → EReal) (r : Fin 4096) (h : Fin 16) : Fin 128 → EReal :=
  fun l => Conv.conv (xs x ⟨128 * h.val + l.val, by omega⟩) (ws w ⟨128 * h.val + l.val, by omega⟩) r
    * Ideal.logistic (Conv.conv (xs x ⟨128 * h.val + l.val, by omega⟩) (ws w ⟨128 * h.val + l.val, by omega⟩) r)

/-- A column of the gradient with respect to the values before the norm. -/
def ds (x : S4096x2048.Idx → EReal) (w : S4x3072.Idx → EReal)
    (d : S16x4096x128.Idx → EReal) (q : Fin 2048) : Fin 4096 → EReal :=
  fun r => Conv.normed (us x w r ⟨q.val / 128, by omega⟩) (fun l => d (ix3 ⟨q.val / 128, by omega⟩ r l)) ⟨q.val % 128, by omega⟩

/-- The gradient of the convolution's result in a column. -/
def gs (x : S4096x2048.Idx → EReal) (w : S4x3072.Idx → EReal)
    (d : S16x4096x128.Idx → EReal) (q : Fin 2048) : Fin 4096 → EReal :=
  fun r => Conv.slope (Conv.conv (xs x q) (ws w q) r) (ds x w d q r)

/-- The gradient with respect to the input. -/
def dx (x : S4096x2048.Idx → EReal) (w : S4x3072.Idx → EReal) (d : S16x4096x128.Idx → EReal) : S4096x2048.Idx → EReal :=
  fun i => Conv.column (gs x w d (i 1)) (ws w (i 1)) (i 0)

/-- The gradient with respect to the taps. -/
def dw (x : S4096x2048.Idx → EReal) (w : S4x3072.Idx → EReal) (d : S16x4096x128.Idx → EReal) : S4x1x2048.Idx → EReal :=
  fun i => Conv.taps (xs x (i 2)) (gs x w d (i 2)) (i 0)

variable (m : (ℓ : Loc nD τ sig) → Buf (Elt Ideal) ℓ)

abbrev arg0 (c : Dev nD) : S4096x2048.Idx → EReal := m ((c : Thread nD τ).loc main_arg0)
abbrev arg1 (c : Dev nD) : S4x3072.Idx → EReal := m ((c : Thread nD τ).loc main_arg1)
abbrev arg2 (c : Dev nD) : S16x4096x128.Idx → EReal := m ((c : Thread nD τ).loc main_arg2)

/-- Every window's block index at a grid point. -/
theorem idx : ∀ t : Fin cfg0.N, win0_0.index t = ![0, t.val]
    ∧ win0_1.index t = ![0, 0, t.val]
    ∧ win0_2.index t = ![t.val, 0, 0]
    ∧ win0_3.index t = ![0, t.val]
    ∧ win0_4.index t = ![0, 0, t.val] :=
  (by decide +kernel : ∀ t : Fin grid0.N, _)

/-- Column `j` of the head of point `t`. -/
def col (t : Fin 16) (j : Fin 128) : Fin 2048 := ⟨128 * t.val + j.val, by omega⟩

/-- The head of point `t`. -/
def hd (t : Fin 16) : Fin 16 := ⟨t.val, by omega⟩

/-- The head of a column of point `t`. -/
theorem head_col (t : Fin 16) (j : Fin 128) : (⟨(col t j).val / 128, by omega⟩ : Fin 16) = hd t :=
  Fin.ext (by simp only [col, hd]; omega)

/-- The place of a column of point `t` in its head. -/
theorem lane_col (t : Fin 16) (j : Fin 128) : (⟨(col t j).val % 128, by omega⟩ : Fin 128) = j :=
  Fin.ext (by simp only [col, hd]; omega)

/-- The input moved later by one row. -/
theorem p4 (x : Conv.Mat) (y : Fin 4096) (j : Fin 128) : k0_pay4 (F := Ideal) x (ix2 y j) = Conv.back 1 (fun r => x (ix2 r j)) y :=
  Conv.rotate_back 1 (by norm_num) x _ _ y j

/-- The input moved later by two rows. -/
theorem p6 (x : Conv.Mat) (y : Fin 4096) (j : Fin 128) : k0_pay6 (F := Ideal) x (ix2 y j) = Conv.back 2 (fun r => x (ix2 r j)) y :=
  Conv.rotate_back 2 (by norm_num) x _ _ y j

/-- The input moved later by three rows. -/
theorem p8 (x : Conv.Mat) (y : Fin 4096) (j : Fin 128) : k0_pay8 (F := Ideal) x (ix2 y j) = Conv.back 3 (fun r => x (ix2 r j)) y :=
  Conv.rotate_back 3 (by norm_num) x _ _ y j

/-- The convolution. -/
theorem p10 (x : Conv.Mat) (w : S4x1x128.Idx → EReal) (y : Fin 4096) (j : Fin 128) :
    k0_pay10 (F := Ideal) x w (ix2 y j) = Conv.conv (fun r => x (ix2 r j)) (fun i => w (ix3 i 0 j)) y := by
  unfold k0_pay10
  pointwise [p4, p6, p8, k0_pay3, k0_pay5, k0_pay7, k0_pay9, k0_pay1, Conv.conv]

/-- The gradient of the norm and of silu. -/
theorem p11 (d z : Conv.Mat) (y : Fin 4096) (j : Fin 128) :
    k0_pay11 (F := Ideal) d z (ix2 y j) = Conv.slope (z (ix2 y j))
      (Conv.normed (fun l => z (ix2 y l) * Ideal.logistic (z (ix2 y l))) (fun l => d (ix2 y l)) j) := by
  unfold k0_pay11
  pointwise [Conv.slope, Conv.normed, Conv.pull, Conv.energy]
  simp only [Finset.univ_unique, Finset.sum_singleton]

/-- The first term of the gradient with respect to the input. -/
theorem p13 (d z : Conv.Mat) (a : S1x128.Idx → EReal) (y : Fin 4096) (j : Fin 128) :
    k0_pay13 (F := Ideal) d a z (ix2 y j) = Conv.ahead 3 (fun r => k0_pay11 (F := Ideal) d z (ix2 r j) * a (ix2 0 j)) y := by
  unfold k0_pay13
  dsimp only
  rw [Conv.ahead3]
  pointwise

/-- The gradient with respect to the input, from its first term. -/
theorem p16 (a b e : S1x128.Idx → EReal) (g s : Conv.Mat) (y : Fin 4096) (j : Fin 128) :
    k0_pay16 (F := Ideal) a b e g s (ix2 y j) = s (ix2 y j) + Conv.ahead 2 (fun r => g (ix2 r j) * e (ix2 0 j)) y
      + Conv.ahead 1 (fun r => g (ix2 r j) * b (ix2 0 j)) y + g (ix2 y j) * a (ix2 0 j) := by
  unfold k0_pay16
  dsimp only
  rw [Conv.ahead2, Conv.ahead1]
  pointwise

/-- Window 0's block. -/
theorem in0 (c : Dev nD) (t : Fin cfg0.N) (r : Fin 4096) (j : Fin 128) :
    iblk m c 0 t (ix2 r j) = arg0 m c (ix2 r (col t j)) := by
  have ht : t.val < 16 := t.isLt
  blk_ext! [iblk, V, col, hd, idx t]

/-- What the host hands window 1. -/
theorem host1 (c : Dev nD) (i : Fin 4) (j : Fin 2048) :
    (V m c main_v1 : S4x1x2048.Idx → EReal) (ix3 i 0 j) = arg1 m c (ix2 i ⟨j.val, by omega⟩) := by
  show StableHlo.after hostOps0 (fun b => m (c, b)) (Proc.devRef .tc main_v1) _ = _
  after_reads_simp
  pointwise

/-- Window 1's block. -/
theorem in1 (c : Dev nD) (t : Fin cfg0.N) (i : Fin 4) (j : Fin 128) :
    iblk m c 1 t (ix3 i 0 j) = arg1 m c (ix2 i ⟨(col t j).val, by omega⟩) := by
  have ht : t.val < 16 := t.isLt
  rw [← host1 m c i (col t j)]
  blk_ext! [iblk, col, hd, idx t]

/-- Window 2's block. -/
theorem in2 (c : Dev nD) (t : Fin cfg0.N) (r : Fin 4096) (j : Fin 128) :
    iblk m c 2 t (ix3 0 r j) = arg2 m c (ix3 (hd t) r j) := by
  have ht : t.val < 16 := t.isLt
  blk_ext! [iblk, V, col, hd, idx t]

/-- What a point leaves in window 3's block. -/
theorem point3 (c : Dev nD) (t : Fin cfg0.N) (y : S4096x128.Idx) :
    out0_3 (iblk m c 0 t) (iblk m c 1 t) (iblk m c 2 t) y = dx (arg0 m c) (arg1 m c) (arg2 m c) (ix2 (y 0) (col t (y 1))) := by
  idx_vars y
  frame_out
  pointwise [k0_pay19, k0_pay18, k0_pay17, k0_pay2, k0_pay1, k0_pay3, k0_pay5, k0_pay7, k0_pay9, p16, p13, p11, p10, in0, in1, in2]
  pointwise [dx, gs, us, xs, ws, ds, head_col, lane_col, Conv.column]
  rfl

/-- The result array of window 3. -/
theorem final3 (c : Dev nD) : (dats m 0 c).arrAt 3 (cfgs 0).N = dx (arg0 m c) (arg1 m c) (arg2 m c) := by
  refine (dats m 0 c).arrAt_eq_of_covers 3 _ (by decide +kernel) fun t hf y => ?_
  have ht : t.val < 16 := t.isLt
  blk_simp
  rw [after0_3, point3]
  blk_ext [col, hd, idx t]

/-- What a point leaves in window 4's block. -/
theorem point4 (c : Dev nD) (t : Fin cfg0.N) (y : S4x1x128.Idx) :
    out0_4 (iblk m c 0 t) (iblk m c 1 t) (iblk m c 2 t) y = dw (arg0 m c) (arg1 m c) (arg2 m c) (ix3 (y 0) 0 (col t (y 2))) := by
  idx_vars y
  obtain rfl : y1 = 0 := Subsingleton.elim _ _
  frame_out
  unfold k0_pay19 k0_pay18 k0_pay17 k0_pay15 k0_pay12
  dsimp only
  rw [Conv.stacked]
  fin_cases y0 <;> pointwise [k0_pay14, k0_pay2, p4, p6, p8, p11, p10, in0, in1, in2, dw, gs, us, xs, ws, ds, head_col, lane_col, Conv.taps] <;> rfl

/-- The result array of window 4. -/
theorem final4 (c : Dev nD) : (dats m 0 c).arrAt 4 (cfgs 0).N = dw (arg0 m c) (arg1 m c) (arg2 m c) := by
  refine (dats m 0 c).arrAt_eq_of_covers 4 _ (by decide +kernel) fun t hf y => ?_
  have ht : t.val < 16 := t.isLt
  blk_simp
  rw [after0_4, point4]
  blk_ext [col, hd, idx t]

end Cert.DeltaKeysIdeal.Hand

namespace Cert.DeltaKeysReferenceIdeal.Hand

open Cert.DeltaKeysReferenceIdeal Cert.DeltaKeysReferenceIdeal.Read Idealize.ShloMosaic
open Cert.DeltaKeysIdeal.Hand

/-- The first rows of the padded input. -/
theorem pad3 (x : S4096x2048.Idx → EReal) (r : Fin 4096) (q : Fin 2048) :
    val_main_v4 (F := Ideal) x (ix2 r q) = Conv.back 3 (xs x q) r := by
  pointwise [val_main_v4, val_main_v2, val_main_v1, val_main_cst]
  by_cases h : 3 ≤ r.val
  · simp only [Conv.back, xs, h, if_true, dif_neg (show ¬ r.val < 3 by omega)]
  · simp only [Conv.back, xs, h, if_false, dif_pos (show r.val < 3 by omega)]

/-- The padded input from its second row. -/
theorem pad2 (x : S4096x2048.Idx → EReal) (r : Fin 4096) (q : Fin 2048) :
    val_main_v10 (F := Ideal) x (ix2 r q) = Conv.back 2 (xs x q) r := by
  pointwise [val_main_v10, val_main_v2, val_main_v1, val_main_cst]
  exact Conv.behind 1 2 rfl (xs x q) r

/-- The padded input from its third row. -/
theorem pad1 (x : S4096x2048.Idx → EReal) (r : Fin 4096) (q : Fin 2048) :
    val_main_v17 (F := Ideal) x (ix2 r q) = Conv.back 1 (xs x q) r := by
  pointwise [val_main_v17, val_main_v2, val_main_v1, val_main_cst]
  exact Conv.behind 2 1 rfl (xs x q) r

/-- The padded input from its fourth row is the input. -/
theorem pad0 (x : S4096x2048.Idx → EReal) (r : Fin 4096) (q : Fin 2048) :
    val_main_v24 (F := Ideal) x (ix2 r q) = xs x q r := by
  pointwise [val_main_v24, val_main_v2, val_main_v1, val_main_cst, xs]

/-- The convolution. -/
theorem conv (x : S4096x2048.Idx → EReal) (w : S4x3072.Idx → EReal) (r : Fin 4096) (q : Fin 2048) :
    val_main_v30 (F := Ideal) x w (ix2 r q) = Conv.conv (xs x q) (ws w q) r := by
  pointwise [val_main_v30, val_main_v29, val_main_v23, val_main_v22, val_main_v16, val_main_v15, val_main_v9, pad3, pad2, pad1, pad0,
    val_main_v28, val_main_v27, val_main_v26, val_main_v25, val_main_v21, val_main_v20, val_main_v19, val_main_v18, val_main_v14, val_main_v13, val_main_v12, val_main_v11, val_main_v8, val_main_v7, val_main_v6, val_main_v5, val_main_v0, Conv.conv, ws]
  exact Conv.reversed _ _ _ _

/-- A head's values before the norm. -/
theorem head (x : S4096x2048.Idx → EReal) (w : S4x3072.Idx → EReal) (r : Fin 4096) (h : Fin 16) (l : Fin 128) :
    val_main_v32 (F := Ideal) x w (ix3 r h l) = us x w r h l := by
  pointwise [val_main_v32, val_main_v31_0, val_main_v31_2, val_main_call0_v4, val_main_call0_cst_0, val_main_call0_v3, val_main_call0_v2, val_main_call0_cst, val_main_call0_v1, val_main_call0_v0, conv, us, Ideal.logistic]
  simp only [Nat.mul_comm h.val 128]

/-- A head's squares added up. -/
theorem squares (x : S4096x2048.Idx → EReal) (w : S4x3072.Idx → EReal) (r : Fin 4096) (h : Fin 16) :
    val_main_v37 (F := Ideal) x w (ix3 r h 0) = Conv.energy (us x w r h) := by
  pointwise [val_main_v37, val_main_v36, val_main_v35, val_main_v34, val_main_v33, val_main_cst_1, val_main_cst_2, head, Conv.energy]

/-- What the norm asks of every value of a head. -/
theorem pulled (x : S4096x2048.Idx → EReal) (w : S4x3072.Idx → EReal) (d : S16x4096x128.Idx → EReal) (r : Fin 4096) (h : Fin 16) :
    val_main_v52 (F := Ideal) x w d (ix2 r h) = Conv.pull (us x w r h) (fun l => d (ix3 h r l)) := by
  pointwise [val_main_v52, val_main_cst_5, val_main_v51, val_main_v48, val_main_v47, val_main_v46, val_main_v45, val_main_cst_4, val_main_v41, val_main_v40, val_main_cst_3, val_main_v39, val_main_v38, squares, head, Conv.pull]
  simp only [Finset.univ_unique, Finset.sum_singleton, Fin.default_eq_zero, squares]

/-- The gradient with respect to the values before the norm. -/
theorem unnormed (x : S4096x2048.Idx → EReal) (w : S4x3072.Idx → EReal) (d : S16x4096x128.Idx → EReal) (r : Fin 4096) (q : Fin 2048) :
    val_main_v58 (F := Ideal) x w d (ix2 r q) = ds x w d q r := by
  pointwise [val_main_v58, val_main_v57, val_main_v56, val_main_v55, val_main_v54, val_main_v53, val_main_v50, val_main_v49, val_main_v45, val_main_v38, squares, head, pulled, ds, Conv.normed]

/-- The gradient of the convolution's result. -/
theorem slope (x : S4096x2048.Idx → EReal) (w : S4x3072.Idx → EReal)
    (d : S16x4096x128.Idx → EReal) (r : Fin 4096) (q : Fin 2048) :
    val_main_v59 (F := Ideal) x w d (ix2 r q) = gs x w d q r := by
  pointwise [val_main_v59, val_main_call1_v2, val_main_call1_v1, val_main_call1_v0, unnormed, val_main_v31_1,
    val_main_call0_v7, val_main_call0_v6, val_main_call0_cst_1, val_main_v31_2, val_main_call0_v4, val_main_call0_cst_0, val_main_call0_v3, val_main_call0_v2, val_main_call0_cst, val_main_call0_v1, val_main_call0_v0, conv, gs, Conv.slope, Ideal.logistic]

/-- The reference's result for window 3. -/
theorem eq3 (x : S4096x2048.Idx → EReal) (w : S4x3072.Idx → EReal) (d : S16x4096x128.Idx → EReal) : val_main_v104 (F := Ideal) x w d = dx x w d := by
  funext i
  idx_vars i
  pointwise [val_main_v104, val_main_v103, val_main_v101, val_main_v100, val_main_v95, val_main_v90, val_main_v89, val_main_v84, val_main_v79, val_main_v78, val_main_v73, val_main_v68, val_main_v64, val_main_cst_21, val_main_cst_17, val_main_cst_13, val_main_cst_9,
    val_main_v94, val_main_v83, val_main_v72, val_main_v63, val_main_v27, val_main_v26, val_main_v25, val_main_v20, val_main_v19, val_main_v18, val_main_v13, val_main_v12, val_main_v11, val_main_v7, val_main_v6, val_main_v5, val_main_v0, slope, dx, Conv.column, ws]
  refine (congrArg₂ (· + ·) (congrArg₂ (· + ·) (congrArg (_ + ·)
    (Conv.padded 2 1 rfl (fun r => gs x w d i1 r * w (ix2 2 ⟨i1.val, by omega⟩)) i0))
    (Conv.padded 1 2 rfl (fun r => gs x w d i1 r * w (ix2 1 ⟨i1.val, by omega⟩)) i0))
    (Conv.padded_zero (fun r => gs x w d i1 r * w (ix2 0 ⟨i1.val, by omega⟩)) i0)).trans ?_
  exact Conv.reversed _ _ _ _

/-- The reference's result for window 4. -/
theorem eq4 (x : S4096x2048.Idx → EReal) (w : S4x3072.Idx → EReal) (d : S16x4096x128.Idx → EReal) : val_main_v105 (F := Ideal) x w d = dw x w d := by
  funext i
  idx_vars i
  obtain rfl : i1 = 0 := Subsingleton.elim _ _
  fin_cases i0 <;> pointwise [val_main_v105, val_main_v99, val_main_v98, val_main_v97, val_main_v96, val_main_v93, val_main_v92, val_main_v91, val_main_v88, val_main_v87, val_main_v86, val_main_v85, val_main_v82, val_main_v81, val_main_v80, val_main_v77, val_main_v76, val_main_v75, val_main_v74, val_main_v71, val_main_v70, val_main_v69, val_main_v67, val_main_v66, val_main_v65, val_main_v62, val_main_v61, val_main_v60,
    val_main_cst_6, val_main_cst_7, val_main_cst_8, val_main_cst_10, val_main_cst_11, val_main_cst_12, val_main_cst_14, val_main_cst_15, val_main_cst_16, val_main_cst_18, val_main_cst_19, val_main_cst_20, slope, pad3, pad2, pad1, pad0, dw, Conv.taps]
  all_goals simp only [Finset.univ_unique, Finset.sum_singleton]

end Cert.DeltaKeysReferenceIdeal.Hand

namespace Cert.Proof

open Idealize.ShloMosaic Idealize.SL.Sem Cert.DeltaKeysIdeal.Hand

/-- The gradient of the delta branch's queries and keys: the program and its reference agree on the extended reals. -/
theorem deltaKeys_algebraic : Cert.algebraic_DeltaKeysIdeal_DeltaKeysReferenceIdeal := by
  intro m g m' g' _ hagree
  refine ⟨fun c => dx (arg0 m c) (arg1 m c) (arg2 m c), fun c => dw (arg0 m c) (arg1 m c) (arg2 m c), ?_, ?_⟩
  · refine (θ_run _ _ _).mono (fun r h c => ?_) (Cert.DeltaKeysIdeal.Value.run_blocks m g)
    obtain ⟨h0, h1, hk⟩ := h c
    exact ⟨h0.trans (final3 m c), h1.trans (final4 m c), hk⟩
  · refine (θ_run _ _ _).mono (fun r h c => ?_) (Cert.DeltaKeysReferenceIdeal.Value.run m' g')
    obtain ⟨h0, h1, hk⟩ := h c
    obtain ⟨a0, a1, a2⟩ := hagree c
    refine ⟨h0.trans ?_, h1.trans ?_, hk⟩
    · rw [Cert.DeltaKeysReferenceIdeal.Read.val_main_v104_eq, Cert.DeltaKeysReferenceIdeal.Hand.eq3]
      change dx (m' ((c.tc : Thread Cert.DeltaKeysReferenceIdeal.nD Cert.DeltaKeysReferenceIdeal.τ).loc Cert.DeltaKeysReferenceIdeal.main_arg0)) (m' ((c.tc : Thread Cert.DeltaKeysReferenceIdeal.nD Cert.DeltaKeysReferenceIdeal.τ).loc Cert.DeltaKeysReferenceIdeal.main_arg1))
        (m' ((c.tc : Thread Cert.DeltaKeysReferenceIdeal.nD Cert.DeltaKeysReferenceIdeal.τ).loc Cert.DeltaKeysReferenceIdeal.main_arg2)) = _
      rw [a0, a1, a2]
    · rw [Cert.DeltaKeysReferenceIdeal.Read.val_main_v105_eq, Cert.DeltaKeysReferenceIdeal.Hand.eq4]
      change dw (m' ((c.tc : Thread Cert.DeltaKeysReferenceIdeal.nD Cert.DeltaKeysReferenceIdeal.τ).loc Cert.DeltaKeysReferenceIdeal.main_arg0)) (m' ((c.tc : Thread Cert.DeltaKeysReferenceIdeal.nD Cert.DeltaKeysReferenceIdeal.τ).loc Cert.DeltaKeysReferenceIdeal.main_arg1))
        (m' ((c.tc : Thread Cert.DeltaKeysReferenceIdeal.nD Cert.DeltaKeysReferenceIdeal.τ).loc Cert.DeltaKeysReferenceIdeal.main_arg2)) = _
      rw [a0, a1, a2]

/-- The reference runs to its end, keeps its arguments and uses no semaphore. -/
theorem deltaKeys_reference_frame : Cert.quiescent_DeltaKeysReferenceIdeal := fun m ρ _ =>
  (θ_run Cert.DeltaKeysReferenceIdeal.defs _ _).mono (fun r h => ⟨fun c => (h c).2.2, sem_eq_zero_of_no_sems (by decide) r.2⟩)
    (Cert.DeltaKeysReferenceIdeal.Value.run (F := Ideal) m ρ)

end Cert.Proof

end
-- ==== Proof.DeltaValues.lean ====
/- The gradient of the delta branch's values.

   The values are a causal convolution of four taps under silu; a grid point computes one head of 128 columns. -/
module

public import proofs.«01_k».proof.Defs
public import proofs.«01_k».proof.Proof.Gen.DeltaValuesIdeal.Value
public import proofs.«01_k».proof.Proof.Gen.DeltaValuesReferenceIdeal.Run
public import proofs.«01_k».proof.Proof.Gen.DeltaValuesReferenceIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import proofs.«01_k».proof.Proof.Conv

@[expose] public section

set_option maxRecDepth 16384

noncomputable section

namespace Cert.DeltaValuesIdeal.Hand

open Cert.DeltaValuesIdeal Cert.DeltaValuesIdeal.Gen Idealize.ShloMosaic Idealize.ShloMosaic.TcCoe Idealize.SL.Sem

/-- A column of the input. -/
def xs (x : S4096x1024.Idx → EReal) (q : Fin 1024) : Fin 4096 → EReal := fun r => x (ix2 r q)

/-- The four taps of a column, which lie behind those of the queries and keys. -/
def ws (w : S4x3072.Idx → EReal) (q : Fin 1024) : Fin 4 → EReal := fun i => w (ix2 i ⟨2048 + q.val, by omega⟩)

/-- A column of the gradient handed back by the heads. -/
def ds (d : S8x4096x128.Idx → EReal) (q : Fin 1024) : Fin 4096 → EReal :=
  fun r => d (ix3 ⟨q.val / 128, by omega⟩ r ⟨q.val % 128, by omega⟩)

/-- The gradient of the convolution's result in a column. -/
def gs (x : S4096x1024.Idx → EReal) (w : S4x3072.Idx → EReal)
    (d : S8x4096x128.Idx → EReal) (q : Fin 1024) : Fin 4096 → EReal :=
  fun r => Conv.slope (Conv.conv (xs x q) (ws w q) r) (ds d q r)

/-- The gradient with respect to the input. -/
def dx (x : S4096x1024.Idx → EReal) (w : S4x3072.Idx → EReal) (d : S8x4096x128.Idx → EReal) : S4096x1024.Idx → EReal :=
  fun i => Conv.column (gs x w d (i 1)) (ws w (i 1)) (i 0)

/-- The gradient with respect to the taps. -/
def dw (x : S4096x1024.Idx → EReal) (w : S4x3072.Idx → EReal) (d : S8x4096x128.Idx → EReal) : S4x1x1024.Idx → EReal :=
  fun i => Conv.taps (xs x (i 2)) (gs x w d (i 2)) (i 0)

variable (m : (ℓ : Loc nD τ sig) → Buf (Elt Ideal) ℓ)

abbrev arg0 (c : Dev nD) : S4096x1024.Idx → EReal := m ((c : Thread nD τ).loc main_arg0)
abbrev arg1 (c : Dev nD) : S4x3072.Idx → EReal := m ((c : Thread nD τ).loc main_arg1)
abbrev arg2 (c : Dev nD) : S8x4096x128.Idx → EReal := m ((c : Thread nD τ).loc main_arg2)

/-- Every window's block index at a grid point. -/
theorem idx : ∀ t : Fin cfg0.N, win0_0.index t = ![0, t.val]
    ∧ win0_1.index t = ![0, 0, t.val]
    ∧ win0_2.index t = ![t.val, 0, 0]
    ∧ win0_3.index t = ![0, t.val]
    ∧ win0_4.index t = ![0, 0, t.val] :=
  (by decide +kernel : ∀ t : Fin grid0.N, _)

/-- Column `j` of the head of point `t`. -/
def col (t : Fin 8) (j : Fin 128) : Fin 1024 := ⟨128 * t.val + j.val, by omega⟩

/-- The head of point `t`. -/
def hd (t : Fin 8) : Fin 8 := ⟨t.val, by omega⟩

/-- The head of a column of point `t`. -/
theorem head_col (t : Fin 8) (j : Fin 128) : (⟨(col t j).val / 128, by omega⟩ : Fin 8) = hd t :=
  Fin.ext (by simp only [col, hd]; omega)

/-- The place of a column of point `t` in its head. -/
theorem lane_col (t : Fin 8) (j : Fin 128) : (⟨(col t j).val % 128, by omega⟩ : Fin 128) = j :=
  Fin.ext (by simp only [col, hd]; omega)

/-- The input moved later by one row. -/
theorem p6 (x : Conv.Mat) (y : Fin 4096) (j : Fin 128) : k0_pay6 (F := Ideal) x (ix2 y j) = Conv.back 1 (fun r => x (ix2 r j)) y :=
  Conv.rotate_back 1 (by norm_num) x _ _ y j

/-- The input moved later by two rows. -/
theorem p8 (x : Conv.Mat) (y : Fin 4096) (j : Fin 128) : k0_pay8 (F := Ideal) x (ix2 y j) = Conv.back 2 (fun r => x (ix2 r j)) y :=
  Conv.rotate_back 2 (by norm_num) x _ _ y j

/-- The input moved later by three rows. -/
theorem p10 (x : Conv.Mat) (y : Fin 4096) (j : Fin 128) : k0_pay10 (F := Ideal) x (ix2 y j) = Conv.back 3 (fun r => x (ix2 r j)) y :=
  Conv.rotate_back 3 (by norm_num) x _ _ y j

/-- The convolution. -/
theorem p12 (x : Conv.Mat) (w : S4x1x128.Idx → EReal) (y : Fin 4096) (j : Fin 128) :
    k0_pay12 (F := Ideal) x w (ix2 y j) = Conv.conv (fun r => x (ix2 r j)) (fun i => w (ix3 i 0 j)) y := by
  unfold k0_pay12
  pointwise [p6, p8, p10, k0_pay5, k0_pay7, k0_pay9, k0_pay11, k0_pay3, Conv.conv]

/-- The gradient of silu. -/
theorem p13 (d z : Conv.Mat) (y : Fin 4096) (j : Fin 128) :
    k0_pay13 (F := Ideal) d z (ix2 y j) = Conv.slope (z (ix2 y j)) (d (ix2 y j)) := by
  unfold k0_pay13
  pointwise [Conv.slope]

/-- The first two terms of the gradient with respect to the input. -/
theorem p15 (d z : Conv.Mat) (b a : S1x128.Idx → EReal) (y : Fin 4096) (j : Fin 128) :
    k0_pay15 (F := Ideal) d b a z (ix2 y j) = Conv.ahead 3 (fun r => k0_pay13 (F := Ideal) d z (ix2 r j) * a (ix2 0 j)) y
      + Conv.ahead 2 (fun r => k0_pay13 (F := Ideal) d z (ix2 r j) * b (ix2 0 j)) y := by
  unfold k0_pay15
  dsimp only
  rw [Conv.ahead3, Conv.ahead2]
  pointwise

/-- The gradient with respect to the input, from its first two terms. -/
theorem p2 (a : S1x128.Idx → EReal) (g s c : Conv.Mat) (y : Fin 4096) (j : Fin 128) :
    k0_pay2 (F := Ideal) a g s c (ix2 y j) = s (ix2 y j) + Conv.ahead 1 (fun r => c (ix2 r j)) y + g (ix2 y j) * a (ix2 0 j) := by
  unfold k0_pay2
  dsimp only
  rw [Conv.ahead1]
  pointwise

/-- Window 0's block. -/
theorem in0 (c : Dev nD) (t : Fin cfg0.N) (r : Fin 4096) (j : Fin 128) :
    iblk m c 0 t (ix2 r j) = arg0 m c (ix2 r (col t j)) := by
  have ht : t.val < 8 := t.isLt
  blk_ext! [iblk, V, col, hd, idx t]

/-- What the host hands window 1. -/
theorem host1 (c : Dev nD) (i : Fin 4) (j : Fin 1024) :
    (V m c main_v1 : S4x1x1024.Idx → EReal) (ix3 i 0 j) = arg1 m c (ix2 i ⟨2048 + j.val, by omega⟩) := by
  show StableHlo.after hostOps0 (fun b => m (c, b)) (Proc.devRef .tc main_v1) _ = _
  after_reads_simp
  pointwise

/-- Window 1's block. -/
theorem in1 (c : Dev nD) (t : Fin cfg0.N) (i : Fin 4) (j : Fin 128) :
    iblk m c 1 t (ix3 i 0 j) = arg1 m c (ix2 i ⟨2048 + (col t j).val, by omega⟩) := by
  have ht : t.val < 8 := t.isLt
  rw [← host1 m c i (col t j)]
  blk_ext! [iblk, col, hd, idx t]

/-- Window 2's block. -/
theorem in2 (c : Dev nD) (t : Fin cfg0.N) (r : Fin 4096) (j : Fin 128) :
    iblk m c 2 t (ix3 0 r j) = arg2 m c (ix3 (hd t) r j) := by
  have ht : t.val < 8 := t.isLt
  blk_ext! [iblk, V, col, hd, idx t]

/-- What a point leaves in window 3's block. -/
theorem point3 (c : Dev nD) (t : Fin cfg0.N) (y : S4096x128.Idx) :
    out0_3 (iblk m c 0 t) (iblk m c 1 t) (iblk m c 2 t) y = dx (arg0 m c) (arg1 m c) (arg2 m c) (ix2 (y 0) (col t (y 1))) := by
  idx_vars y
  frame_out
  pointwise [k0_pay21, k0_pay20, k0_pay19, k0_pay16, k0_pay4, k0_pay3, k0_pay5, k0_pay7, k0_pay9, k0_pay11, p2, p15, p13, p12, in0, in1, in2]
  pointwise [dx, gs, xs, ws, ds, head_col, lane_col, Conv.column]
  rfl

/-- The result array of window 3. -/
theorem final3 (c : Dev nD) : (dats m 0 c).arrAt 3 (cfgs 0).N = dx (arg0 m c) (arg1 m c) (arg2 m c) := by
  refine (dats m 0 c).arrAt_eq_of_covers 3 _ (by decide +kernel) fun t hf y => ?_
  have ht : t.val < 8 := t.isLt
  blk_simp
  rw [after0_3, point3]
  blk_ext [col, hd, idx t]

/-- What a point leaves in window 4's block. -/
theorem point4 (c : Dev nD) (t : Fin cfg0.N) (y : S4x1x128.Idx) :
    out0_4 (iblk m c 0 t) (iblk m c 1 t) (iblk m c 2 t) y = dw (arg0 m c) (arg1 m c) (arg2 m c) (ix3 (y 0) 0 (col t (y 2))) := by
  idx_vars y
  obtain rfl : y1 = 0 := Subsingleton.elim _ _
  frame_out
  unfold k0_pay21 k0_pay20 k0_pay19 k0_pay1 k0_pay14 k0_pay18
  dsimp only
  rw [Conv.stacked]
  fin_cases y0 <;> pointwise [k0_pay17, k0_pay4, p6, p8, p10, p13, p12, in0, in1, in2, dw, gs, xs, ws, ds, head_col, lane_col, Conv.taps] <;> rfl

/-- The result array of window 4. -/
theorem final4 (c : Dev nD) : (dats m 0 c).arrAt 4 (cfgs 0).N = dw (arg0 m c) (arg1 m c) (arg2 m c) := by
  refine (dats m 0 c).arrAt_eq_of_covers 4 _ (by decide +kernel) fun t hf y => ?_
  have ht : t.val < 8 := t.isLt
  blk_simp
  rw [after0_4, point4]
  blk_ext [col, hd, idx t]

end Cert.DeltaValuesIdeal.Hand

namespace Cert.DeltaValuesReferenceIdeal.Hand

open Cert.DeltaValuesReferenceIdeal Cert.DeltaValuesReferenceIdeal.Read Idealize.ShloMosaic
open Cert.DeltaValuesIdeal.Hand

/-- The first rows of the padded input. -/
theorem pad3 (x : S4096x1024.Idx → EReal) (r : Fin 4096) (q : Fin 1024) :
    val_main_v4 (F := Ideal) x (ix2 r q) = Conv.back 3 (xs x q) r := by
  pointwise [val_main_v4, val_main_v2, val_main_v1, val_main_cst]
  by_cases h : 3 ≤ r.val
  · simp only [Conv.back, xs, h, if_true, dif_neg (show ¬ r.val < 3 by omega)]
  · simp only [Conv.back, xs, h, if_false, dif_pos (show r.val < 3 by omega)]

/-- The padded input from its second row. -/
theorem pad2 (x : S4096x1024.Idx → EReal) (r : Fin 4096) (q : Fin 1024) :
    val_main_v10 (F := Ideal) x (ix2 r q) = Conv.back 2 (xs x q) r := by
  pointwise [val_main_v10, val_main_v2, val_main_v1, val_main_cst]
  exact Conv.behind 1 2 rfl (xs x q) r

/-- The padded input from its third row. -/
theorem pad1 (x : S4096x1024.Idx → EReal) (r : Fin 4096) (q : Fin 1024) :
    val_main_v17 (F := Ideal) x (ix2 r q) = Conv.back 1 (xs x q) r := by
  pointwise [val_main_v17, val_main_v2, val_main_v1, val_main_cst]
  exact Conv.behind 2 1 rfl (xs x q) r

/-- The padded input from its fourth row is the input. -/
theorem pad0 (x : S4096x1024.Idx → EReal) (r : Fin 4096) (q : Fin 1024) :
    val_main_v24 (F := Ideal) x (ix2 r q) = xs x q r := by
  pointwise [val_main_v24, val_main_v2, val_main_v1, val_main_cst, xs]

/-- The convolution. -/
theorem conv (x : S4096x1024.Idx → EReal) (w : S4x3072.Idx → EReal) (r : Fin 4096) (q : Fin 1024) :
    val_main_v30 (F := Ideal) x w (ix2 r q) = Conv.conv (xs x q) (ws w q) r := by
  pointwise [val_main_v30, val_main_v29, val_main_v23, val_main_v22, val_main_v16, val_main_v15, val_main_v9, pad3, pad2, pad1, pad0,
    val_main_v28, val_main_v27, val_main_v26, val_main_v25, val_main_v21, val_main_v20, val_main_v19, val_main_v18, val_main_v14, val_main_v13, val_main_v12, val_main_v11, val_main_v8, val_main_v7, val_main_v6, val_main_v5, val_main_v0, Conv.conv, ws]
  exact Conv.reversed _ _ _ _

/-- The gradient of the convolution's result. -/
theorem slope (x : S4096x1024.Idx → EReal) (w : S4x3072.Idx → EReal)
    (d : S8x4096x128.Idx → EReal) (r : Fin 4096) (q : Fin 1024) :
    val_main_v36 (F := Ideal) x w d (ix2 r q) = gs x w d q r := by
  pointwise [val_main_v36, val_main_call1_v2, val_main_call1_v1, val_main_call1_v0, val_main_v35, val_main_v34, val_main_v31_1, val_main_v31_2,
    val_main_call0_v7, val_main_call0_v6, val_main_call0_cst_1, val_main_call0_v4, val_main_call0_cst_0, val_main_call0_v3, val_main_call0_v2, val_main_call0_cst, val_main_call0_v1, val_main_call0_v0, conv, gs, ds, Conv.slope, Ideal.logistic]

/-- The reference's result for window 3. -/
theorem eq3 (x : S4096x1024.Idx → EReal) (w : S4x3072.Idx → EReal) (d : S8x4096x128.Idx → EReal) : val_main_v81 (F := Ideal) x w d = dx x w d := by
  funext i
  idx_vars i
  pointwise [val_main_v81, val_main_v80, val_main_v78, val_main_v77, val_main_v72, val_main_v67, val_main_v66, val_main_v61, val_main_v56, val_main_v55, val_main_v50, val_main_v45, val_main_v41, val_main_cst_16, val_main_cst_12, val_main_cst_8, val_main_cst_4,
    val_main_v71, val_main_v60, val_main_v49, val_main_v40, val_main_v27, val_main_v26, val_main_v25, val_main_v20, val_main_v19, val_main_v18, val_main_v13, val_main_v12, val_main_v11, val_main_v7, val_main_v6, val_main_v5, val_main_v0, slope, dx, Conv.column, ws]
  refine (congrArg₂ (· + ·) (congrArg₂ (· + ·) (congrArg (_ + ·)
    (Conv.padded 2 1 rfl (fun r => gs x w d i1 r * w (ix2 2 ⟨2048 + i1.val, by omega⟩)) i0))
    (Conv.padded 1 2 rfl (fun r => gs x w d i1 r * w (ix2 1 ⟨2048 + i1.val, by omega⟩)) i0))
    (Conv.padded_zero (fun r => gs x w d i1 r * w (ix2 0 ⟨2048 + i1.val, by omega⟩)) i0)).trans ?_
  exact Conv.reversed _ _ _ _

/-- The reference's result for window 4. -/
theorem eq4 (x : S4096x1024.Idx → EReal) (w : S4x3072.Idx → EReal) (d : S8x4096x128.Idx → EReal) : val_main_v82 (F := Ideal) x w d = dw x w d := by
  funext i
  idx_vars i
  obtain rfl : i1 = 0 := Subsingleton.elim _ _
  fin_cases i0 <;> pointwise [val_main_v82, val_main_v76, val_main_v75, val_main_v74, val_main_v73, val_main_v70, val_main_v69, val_main_v68, val_main_v65, val_main_v64, val_main_v63, val_main_v62, val_main_v59, val_main_v58, val_main_v57, val_main_v54, val_main_v53, val_main_v52, val_main_v51, val_main_v48, val_main_v47, val_main_v46, val_main_v44, val_main_v43, val_main_v42, val_main_v39, val_main_v38, val_main_v37,
    val_main_cst_1, val_main_cst_2, val_main_cst_3, val_main_cst_5, val_main_cst_6, val_main_cst_7, val_main_cst_9, val_main_cst_10, val_main_cst_11, val_main_cst_13, val_main_cst_14, val_main_cst_15, slope, pad3, pad2, pad1, pad0, dw, Conv.taps]
  all_goals simp only [Finset.univ_unique, Finset.sum_singleton]

end Cert.DeltaValuesReferenceIdeal.Hand

namespace Cert.Proof

open Idealize.ShloMosaic Idealize.SL.Sem Cert.DeltaValuesIdeal.Hand

/-- The gradient of the delta branch's values: the program and its reference agree on the extended reals. -/
theorem deltaValues_algebraic : Cert.algebraic_DeltaValuesIdeal_DeltaValuesReferenceIdeal := by
  intro m g m' g' _ hagree
  refine ⟨fun c => dx (arg0 m c) (arg1 m c) (arg2 m c), fun c => dw (arg0 m c) (arg1 m c) (arg2 m c), ?_, ?_⟩
  · refine (θ_run _ _ _).mono (fun r h c => ?_) (Cert.DeltaValuesIdeal.Value.run_blocks m g)
    obtain ⟨h0, h1, hk⟩ := h c
    exact ⟨h0.trans (final3 m c), h1.trans (final4 m c), hk⟩
  · refine (θ_run _ _ _).mono (fun r h c => ?_) (Cert.DeltaValuesReferenceIdeal.Value.run m' g')
    obtain ⟨h0, h1, hk⟩ := h c
    obtain ⟨a0, a1, a2⟩ := hagree c
    refine ⟨h0.trans ?_, h1.trans ?_, hk⟩
    · rw [Cert.DeltaValuesReferenceIdeal.Read.val_main_v81_eq, Cert.DeltaValuesReferenceIdeal.Hand.eq3, a0, a1, a2]
    · rw [Cert.DeltaValuesReferenceIdeal.Read.val_main_v82_eq, Cert.DeltaValuesReferenceIdeal.Hand.eq4, a0, a1, a2]

/-- The reference runs to its end, keeps its arguments and uses no semaphore. -/
theorem deltaValues_reference_frame : Cert.quiescent_DeltaValuesReferenceIdeal := fun m ρ _ =>
  (θ_run Cert.DeltaValuesReferenceIdeal.defs _ _).mono (fun r h => ⟨fun c => (h c).2.2, sem_eq_zero_of_no_sems (by decide) r.2⟩)
    (Cert.DeltaValuesReferenceIdeal.Value.run (F := Ideal) m ρ)

end Cert.Proof

end
-- ==== Proof.Discretise.lean ====
/- The gradients of the state space layer's discretisation: the logarithms of the time steps, the complex state matrix and
   the complex input matrix.

   With `dt = exp log_dt`, the discretised state matrix is `exp (dt · a)` and the discretised input matrix is `b` times
   `f = (exp (dt · a) - 1) / a`, both written in real and imaginary parts. The kernel takes the whole arrays at its one grid
   point, with the input matrix's last axis first; the sums over that axis and over the columns are the same sums. -/
module

public import proofs.«01_k».proof.Defs
public import proofs.«01_k».proof.Proof.Gen.DiscretiseIdeal.Frame
public import Idealize.ShloMosaic.Lib.Pipeline.Value
public import Idealize.ShloMosaic.Lib.StableHlo.RunRead
public import proofs.«01_k».proof.Proof.Gen.DiscretiseReferenceIdeal.Run
public import proofs.«01_k».proof.Proof.Gen.DiscretiseReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DiscretiseIdeal.Hand

open Cert.DiscretiseIdeal Cert.DiscretiseIdeal.Gen Idealize.ShloMosaic Idealize.ShloMosaic.TcCoe Idealize.SL.Sem

/-- The word of one. -/
def one  : EReal :=
  Ideal.ofBits .f32 0x3F800000#32

/-- A time step. -/
def dt (t : S64.Idx → EReal) (s : Fin 64) : EReal :=
  Ideal.exp (t (ix1 s))

/-- The modulus of the discretised state matrix. -/
def mag (t : S64.Idx → EReal) (a : S64x64.Idx → EReal) (s n : Fin 64) : EReal :=
  Ideal.exp (dt t s * a (ix2 s n))

/-- Its real part. -/
def re (t : S64.Idx → EReal) (a b : S64x64.Idx → EReal) (s n : Fin 64) : EReal :=
  mag t a s n * Ideal.cos (dt t s * b (ix2 s n))

/-- Its imaginary part. -/
def im (t : S64.Idx → EReal) (a b : S64x64.Idx → EReal) (s n : Fin 64) : EReal :=
  mag t a s n * Ideal.sin (dt t s * b (ix2 s n))

/-- The square of the state matrix's modulus. -/
def den (a b : S64x64.Idx → EReal) (s n : Fin 64) : EReal :=
  a (ix2 s n) * a (ix2 s n) + b (ix2 s n) * b (ix2 s n)

/-- The numerator of the real part of `f`. -/
def numRe (t : S64.Idx → EReal) (a b : S64x64.Idx → EReal) (s n : Fin 64) : EReal :=
  (re t a b s n - one) * a (ix2 s n) + im t a b s n * b (ix2 s n)

/-- The numerator of its imaginary part. -/
def numIm (t : S64.Idx → EReal) (a b : S64x64.Idx → EReal) (s n : Fin 64) : EReal :=
  im t a b s n * a (ix2 s n) - (re t a b s n - one) * b (ix2 s n)

/-- The real part of `f`. -/
def fRe (t : S64.Idx → EReal) (a b : S64x64.Idx → EReal) (s n : Fin 64) : EReal :=
  Ideal.div (numRe t a b s n) (den a b s n)

/-- The imaginary part of `f`. -/
def fIm (t : S64.Idx → EReal) (a b : S64x64.Idx → EReal) (s n : Fin 64) : EReal :=
  Ideal.div (numIm t a b s n) (den a b s n)

/-- The gradient that reaches the real part of `f`. -/
def upRe (x y : S64x64x16.Idx → EReal) (z w : S16x64x64.Idx → EReal) (s n : Fin 64) : EReal :=
  (∑ j : Fin 16, w (ix3 j s n) * y (ix3 s n j)) + ∑ j : Fin 16, z (ix3 j s n) * x (ix3 s n j)

/-- The gradient that reaches its imaginary part. -/
def upIm (x y : S64x64x16.Idx → EReal) (z w : S16x64x64.Idx → EReal) (s n : Fin 64) : EReal :=
  (∑ j : Fin 16, w (ix3 j s n) * x (ix3 s n j)) + ∑ j : Fin 16, -z (ix3 j s n) * y (ix3 s n j)

/-- The gradient that reaches the denominator, `P` reaching the imaginary part of `f` and `Q` the real part. -/
def upDen (t : S64.Idx → EReal) (a b : S64x64.Idx → EReal) (P Q : EReal) (s n : Fin 64) : EReal :=
  -(P * Ideal.div one (den a b s n * den a b s n) * numIm t a b s n) + -(Q * Ideal.div one (den a b s n * den a b s n) * numRe t a b s n)

/-- The gradient that reaches the imaginary part of the discretised state matrix. -/
def stIm (a b v : S64x64.Idx → EReal) (P Q : EReal) (s n : Fin 64) : EReal :=
  v (ix2 s n) + Ideal.div P (den a b s n) * a (ix2 s n) + Ideal.div Q (den a b s n) * b (ix2 s n)

/-- The gradient that reaches its real part. -/
def stRe (a b u : S64x64.Idx → EReal) (P Q : EReal) (s n : Fin 64) : EReal :=
  u (ix2 s n) + -Ideal.div P (den a b s n) * b (ix2 s n) + Ideal.div Q (den a b s n) * a (ix2 s n)

/-- The gradient that reaches the angle through the imaginary part. -/
def angIm (t : S64.Idx → EReal) (a b v : S64x64.Idx → EReal) (P Q : EReal) (s n : Fin 64) : EReal :=
  mag t a s n * stIm a b v P Q s n * Ideal.cos (dt t s * b (ix2 s n))

/-- The gradient that reaches the angle through the real part. -/
def angRe (t : S64.Idx → EReal) (a b u : S64x64.Idx → EReal) (P Q : EReal) (s n : Fin 64) : EReal :=
  -(mag t a s n * stRe a b u P Q s n) * Ideal.sin (dt t s * b (ix2 s n))

/-- The gradient that reaches the exponent of the modulus. -/
def upMag (t : S64.Idx → EReal) (a b u v : S64x64.Idx → EReal) (P Q : EReal) (s n : Fin 64) : EReal :=
  (stIm a b v P Q s n * Ideal.sin (dt t s * b (ix2 s n)) + stRe a b u P Q s n * Ideal.cos (dt t s * b (ix2 s n))) * mag t a s n

/-- The gradient of the state matrix's real part. -/
def gRe (t : S64.Idx → EReal) (a b : S64x64.Idx → EReal) (x y : S64x64x16.Idx → EReal) (u v : S64x64.Idx → EReal) (z w : S16x64x64.Idx → EReal) : S64x64.Idx → EReal :=
  fun i => im t a b (i 0) (i 1) * Ideal.div (upIm x y z w (i 0) (i 1)) (den a b (i 0) (i 1)) + (re t a b (i 0) (i 1) - one) * Ideal.div (upRe x y z w (i 0) (i 1)) (den a b (i 0) (i 1))
    + a (ix2 (i 0) (i 1)) * upDen t a b (upIm x y z w (i 0) (i 1)) (upRe x y z w (i 0) (i 1)) (i 0) (i 1) + upDen t a b (upIm x y z w (i 0) (i 1)) (upRe x y z w (i 0) (i 1)) (i 0) (i 1) * a (ix2 (i 0) (i 1))
    + dt t (i 0) * upMag t a b u v (upIm x y z w (i 0) (i 1)) (upRe x y z w (i 0) (i 1)) (i 0) (i 1)

/-- The gradient of its imaginary part. -/
def gIm (t : S64.Idx → EReal) (a b : S64x64.Idx → EReal) (x y : S64x64x16.Idx → EReal) (u v : S64x64.Idx → EReal) (z w : S16x64x64.Idx → EReal) : S64x64.Idx → EReal :=
  fun i => (re t a b (i 0) (i 1) - one) * -Ideal.div (upIm x y z w (i 0) (i 1)) (den a b (i 0) (i 1)) + im t a b (i 0) (i 1) * Ideal.div (upRe x y z w (i 0) (i 1)) (den a b (i 0) (i 1))
    + b (ix2 (i 0) (i 1)) * upDen t a b (upIm x y z w (i 0) (i 1)) (upRe x y z w (i 0) (i 1)) (i 0) (i 1) + upDen t a b (upIm x y z w (i 0) (i 1)) (upRe x y z w (i 0) (i 1)) (i 0) (i 1) * b (ix2 (i 0) (i 1))
    + dt t (i 0) * angIm t a b v (upIm x y z w (i 0) (i 1)) (upRe x y z w (i 0) (i 1)) (i 0) (i 1) + dt t (i 0) * angRe t a b u (upIm x y z w (i 0) (i 1)) (upRe x y z w (i 0) (i 1)) (i 0) (i 1)

/-- The gradient of the time steps' logarithms. -/
def gDt (t : S64.Idx → EReal) (a b : S64x64.Idx → EReal) (x y : S64x64x16.Idx → EReal) (u v : S64x64.Idx → EReal) (z w : S16x64x64.Idx → EReal) : S64x1.Idx → EReal :=
  fun i => ((∑ n : Fin 64, angIm t a b v (upIm x y z w (i 0) n) (upRe x y z w (i 0) n) (i 0) n * b (ix2 (i 0) n)) + (∑ n : Fin 64, angRe t a b u (upIm x y z w (i 0) n) (upRe x y z w (i 0) n) (i 0) n * b (ix2 (i 0) n))
    + ∑ n : Fin 64, upMag t a b u v (upIm x y z w (i 0) n) (upRe x y z w (i 0) n) (i 0) n * a (ix2 (i 0) n)) * dt t (i 0)

/-- The gradient of the input matrix's real part, its last axis first. -/
def gBre (t : S64.Idx → EReal) (a b : S64x64.Idx → EReal) (z w : S16x64x64.Idx → EReal) : S16x64x64.Idx → EReal :=
  fun i => fIm t a b (i 1) (i 2) * w i + fRe t a b (i 1) (i 2) * z i

/-- The gradient of its imaginary part. -/
def gBim (t : S64.Idx → EReal) (a b : S64x64.Idx → EReal) (z w : S16x64x64.Idx → EReal) : S16x64x64.Idx → EReal :=
  fun i => fRe t a b (i 1) (i 2) * w i + fIm t a b (i 1) (i 2) * -z i

variable (m : (ℓ : Loc nD τ sig) → Buf (Elt Ideal) ℓ)

abbrev arg0 (c : Dev nD) : S64.Idx → EReal := m ((c : Thread nD τ).loc main_arg0)
abbrev arg1 (c : Dev nD) : S64x64.Idx → EReal := m ((c : Thread nD τ).loc main_arg1)
abbrev arg2 (c : Dev nD) : S64x64.Idx → EReal := m ((c : Thread nD τ).loc main_arg2)
abbrev arg3 (c : Dev nD) : S64x64x16.Idx → EReal := m ((c : Thread nD τ).loc main_arg3)
abbrev arg4 (c : Dev nD) : S64x64x16.Idx → EReal := m ((c : Thread nD τ).loc main_arg4)
abbrev arg5 (c : Dev nD) : S64x64.Idx → EReal := m ((c : Thread nD τ).loc main_arg5)
abbrev arg6 (c : Dev nD) : S64x64.Idx → EReal := m ((c : Thread nD τ).loc main_arg6)
abbrev arg7 (c : Dev nD) : S16x64x64.Idx → EReal := m ((c : Thread nD τ).loc main_arg7)
abbrev arg8 (c : Dev nD) : S16x64x64.Idx → EReal := m ((c : Thread nD τ).loc main_arg8)

/-- Every window's block index at a grid point. -/
theorem idx : ∀ t : Fin cfg0.N, win0_0.index t = ![0, 0]
    ∧ win0_1.index t = ![0, 0]
    ∧ win0_2.index t = ![0, 0]
    ∧ win0_3.index t = ![0, 0, 0]
    ∧ win0_4.index t = ![0, 0, 0]
    ∧ win0_5.index t = ![0, 0]
    ∧ win0_6.index t = ![0, 0]
    ∧ win0_7.index t = ![0, 0, 0]
    ∧ win0_8.index t = ![0, 0, 0]
    ∧ win0_9.index t = ![0, 0]
    ∧ win0_10.index t = ![0, 0]
    ∧ win0_11.index t = ![0, 0]
    ∧ win0_12.index t = ![0, 0, 0]
    ∧ win0_13.index t = ![0, 0, 0] :=
  (by decide +kernel : ∀ t : Fin grid0.N, _)

/-- What the host hands window 0. -/
theorem host0 (c : Dev nD) (s : Fin 64) : (V m c main_v0 : S64x1.Idx → EReal) (ix2 s 0) = arg0 m c (ix1 s) := by
  show StableHlo.after hostOps0 (fun b => m (c, b)) (Proc.devRef .tc main_v0) _ = _
  after_reads_simp
  pointwise

/-- What the host hands window 3. -/
theorem host3 (c : Dev nD) (j : Fin 16) (s n : Fin 64) : (V m c main_v1 : S16x64x64.Idx → EReal) (ix3 j s n) = arg3 m c (ix3 s n j) := by
  show StableHlo.after hostOps0 (fun b => m (c, b)) (Proc.devRef .tc main_v1) _ = _
  after_reads_simp
  pointwise

/-- What the host hands window 4. -/
theorem host4 (c : Dev nD) (j : Fin 16) (s n : Fin 64) : (V m c main_v2 : S16x64x64.Idx → EReal) (ix3 j s n) = arg4 m c (ix3 s n j) := by
  show StableHlo.after hostOps0 (fun b => m (c, b)) (Proc.devRef .tc main_v2) _ = _
  after_reads_simp
  pointwise

/-- Window 0's block. -/
theorem in0 (c : Dev nD) (t : Fin cfg0.N) (s : Fin 64) : iblk m c 0 t (ix2 s 0) = arg0 m c (ix1 s) := by
  have ht : t.val < 1 := t.isLt
  rw [← host0 m c s]
  blk_ext! [iblk, idx t]

/-- Window 1's block. -/
theorem in1 (c : Dev nD) (t : Fin cfg0.N) (s n : Fin 64) : iblk m c 1 t (ix2 s n) = arg1 m c (ix2 s n) := by
  have ht : t.val < 1 := t.isLt
  blk_ext! [iblk, V, idx t]

/-- Window 2's block. -/
theorem in2 (c : Dev nD) (t : Fin cfg0.N) (s n : Fin 64) : iblk m c 2 t (ix2 s n) = arg2 m c (ix2 s n) := by
  have ht : t.val < 1 := t.isLt
  blk_ext! [iblk, V, idx t]

/-- Window 5's block. -/
theorem in5 (c : Dev nD) (t : Fin cfg0.N) (s n : Fin 64) : iblk m c 5 t (ix2 s n) = arg5 m c (ix2 s n) := by
  have ht : t.val < 1 := t.isLt
  blk_ext! [iblk, V, idx t]

/-- Window 6's block. -/
theorem in6 (c : Dev nD) (t : Fin cfg0.N) (s n : Fin 64) : iblk m c 6 t (ix2 s n) = arg6 m c (ix2 s n) := by
  have ht : t.val < 1 := t.isLt
  blk_ext! [iblk, V, idx t]

/-- Window 3's block. -/
theorem in3 (c : Dev nD) (t : Fin cfg0.N) (j : Fin 16) (s n : Fin 64) : iblk m c 3 t (ix3 j s n) = arg3 m c (ix3 s n j) := by
  have ht : t.val < 1 := t.isLt
  rw [← host3 m c j s n]
  blk_ext! [iblk, idx t]

/-- Window 4's block. -/
theorem in4 (c : Dev nD) (t : Fin cfg0.N) (j : Fin 16) (s n : Fin 64) : iblk m c 4 t (ix3 j s n) = arg4 m c (ix3 s n j) := by
  have ht : t.val < 1 := t.isLt
  rw [← host4 m c j s n]
  blk_ext! [iblk, idx t]

/-- Window 7's block. -/
theorem in7 (c : Dev nD) (t : Fin cfg0.N) (j : Fin 16) (s n : Fin 64) : iblk m c 7 t (ix3 j s n) = arg7 m c (ix3 j s n) := by
  have ht : t.val < 1 := t.isLt
  blk_ext! [iblk, V, idx t]

/-- Window 8's block. -/
theorem in8 (c : Dev nD) (t : Fin cfg0.N) (j : Fin 16) (s n : Fin 64) : iblk m c 8 t (ix3 j s n) = arg8 m c (ix3 j s n) := by
  have ht : t.val < 1 := t.isLt
  blk_ext! [iblk, V, idx t]

/-- What the point leaves in window 9's block. -/
theorem point9 (c : Dev nD) (t : Fin cfg0.N) (y : S64x1.Idx) :
    out0_9 (iblk m c 0 t) (iblk m c 1 t) (iblk m c 2 t) (iblk m c 3 t) (iblk m c 4 t) (iblk m c 5 t) (iblk m c 6 t) (iblk m c 7 t) (iblk m c 8 t) y = gDt (arg0 m c) (arg1 m c) (arg2 m c) (arg3 m c) (arg4 m c) (arg5 m c) (arg6 m c) (arg7 m c) (arg8 m c) y := by
  idx_vars y
  obtain rfl : y1 = 0 := Subsingleton.elim _ _
  frame_out
  unfold_payloads
  pointwise [one, dt, mag, re, im, den, numRe, numIm, upRe, upIm, upDen, stIm, stRe, angIm, angRe, upMag, gRe, gIm, gDt, in0, in1, in2, in3, in4, in5, in6, in7, in8]
  try simp only [Finset.univ_unique, Finset.sum_singleton, zero_sub]

/-- What the point leaves in window 10's block. -/
theorem point10 (c : Dev nD) (t : Fin cfg0.N) (y : S64x64.Idx) :
    out0_10 (iblk m c 0 t) (iblk m c 1 t) (iblk m c 2 t) (iblk m c 3 t) (iblk m c 4 t) (iblk m c 5 t) (iblk m c 6 t) (iblk m c 7 t) (iblk m c 8 t) y = gRe (arg0 m c) (arg1 m c) (arg2 m c) (arg3 m c) (arg4 m c) (arg5 m c) (arg6 m c) (arg7 m c) (arg8 m c) y := by
  idx_vars y
  frame_out
  unfold_payloads
  pointwise [one, dt, mag, re, im, den, numRe, numIm, upRe, upIm, upDen, stIm, stRe, angIm, angRe, upMag, gRe, gIm, gDt, in0, in1, in2, in3, in4, in5, in6, in7, in8]
  try simp only [Finset.univ_unique, Finset.sum_singleton, zero_sub]

/-- What the point leaves in window 11's block. -/
theorem point11 (c : Dev nD) (t : Fin cfg0.N) (y : S64x64.Idx) :
    out0_11 (iblk m c 0 t) (iblk m c 1 t) (iblk m c 2 t) (iblk m c 3 t) (iblk m c 4 t) (iblk m c 5 t) (iblk m c 6 t) (iblk m c 7 t) (iblk m c 8 t) y = gIm (arg0 m c) (arg1 m c) (arg2 m c) (arg3 m c) (arg4 m c) (arg5 m c) (arg6 m c) (arg7 m c) (arg8 m c) y := by
  idx_vars y
  frame_out
  unfold_payloads
  pointwise [one, dt, mag, re, im, den, numRe, numIm, upRe, upIm, upDen, stIm, stRe, angIm, angRe, upMag, gRe, gIm, gDt, in0, in1, in2, in3, in4, in5, in6, in7, in8]
  try simp only [Finset.univ_unique, Finset.sum_singleton, zero_sub]

/-- What the point leaves in window 12's block. -/
theorem point12 (c : Dev nD) (t : Fin cfg0.N) (y : S16x64x64.Idx) :
    out0_12 (iblk m c 0 t) (iblk m c 1 t) (iblk m c 2 t) (iblk m c 3 t) (iblk m c 4 t) (iblk m c 5 t) (iblk m c 6 t) (iblk m c 7 t) (iblk m c 8 t) y = gBre (arg0 m c) (arg1 m c) (arg2 m c) (arg7 m c) (arg8 m c) y := by
  idx_vars y
  frame_out
  unfold_payloads
  pointwise [gBre, gBim, fRe, fIm, numRe, numIm, den, re, im, mag, dt, one, in0, in1, in2, in3, in4, in5, in6, in7, in8]
  try simp only [Finset.univ_unique, Finset.sum_singleton, zero_sub]

/-- What the point leaves in window 13's block. -/
theorem point13 (c : Dev nD) (t : Fin cfg0.N) (y : S16x64x64.Idx) :
    out0_13 (iblk m c 0 t) (iblk m c 1 t) (iblk m c 2 t) (iblk m c 3 t) (iblk m c 4 t) (iblk m c 5 t) (iblk m c 6 t) (iblk m c 7 t) (iblk m c 8 t) y = gBim (arg0 m c) (arg1 m c) (arg2 m c) (arg7 m c) (arg8 m c) y := by
  idx_vars y
  frame_out
  unfold_payloads
  pointwise [gBre, gBim, fRe, fIm, numRe, numIm, den, re, im, mag, dt, one, in0, in1, in2, in3, in4, in5, in6, in7, in8]
  try simp only [Finset.univ_unique, Finset.sum_singleton, zero_sub]

/-- The result array of window 9. -/
theorem final9 (c : Dev nD) : (dats m 0 c).arrAt 9 (cfgs 0).N = gDt (arg0 m c) (arg1 m c) (arg2 m c) (arg3 m c) (arg4 m c) (arg5 m c) (arg6 m c) (arg7 m c) (arg8 m c) := by
  refine (dats m 0 c).arrAt_eq_of_covers 9 _ (by decide +kernel) fun t hf y => ?_
  have ht : t.val < 1 := t.isLt
  blk_simp
  rw [after0_9, point9]
  blk_ext [idx t]

/-- The result array of window 10. -/
theorem final10 (c : Dev nD) : (dats m 0 c).arrAt 10 (cfgs 0).N = gRe (arg0 m c) (arg1 m c) (arg2 m c) (arg3 m c) (arg4 m c) (arg5 m c) (arg6 m c) (arg7 m c) (arg8 m c) := by
  refine (dats m 0 c).arrAt_eq_of_covers 10 _ (by decide +kernel) fun t hf y => ?_
  have ht : t.val < 1 := t.isLt
  blk_simp
  rw [after0_10, point10]
  blk_ext [idx t]

/-- The result array of window 11. -/
theorem final11 (c : Dev nD) : (dats m 0 c).arrAt 11 (cfgs 0).N = gIm (arg0 m c) (arg1 m c) (arg2 m c) (arg3 m c) (arg4 m c) (arg5 m c) (arg6 m c) (arg7 m c) (arg8 m c) := by
  refine (dats m 0 c).arrAt_eq_of_covers 11 _ (by decide +kernel) fun t hf y => ?_
  have ht : t.val < 1 := t.isLt
  blk_simp
  rw [after0_11, point11]
  blk_ext [idx t]

/-- The result array of window 12. -/
theorem final12 (c : Dev nD) : (dats m 0 c).arrAt 12 (cfgs 0).N = gBre (arg0 m c) (arg1 m c) (arg2 m c) (arg7 m c) (arg8 m c) := by
  refine (dats m 0 c).arrAt_eq_of_covers 12 _ (by decide +kernel) fun t hf y => ?_
  have ht : t.val < 1 := t.isLt
  blk_simp
  rw [after0_12, point12]
  blk_ext [idx t]

/-- The result array of window 13. -/
theorem final13 (c : Dev nD) : (dats m 0 c).arrAt 13 (cfgs 0).N = gBim (arg0 m c) (arg1 m c) (arg2 m c) (arg7 m c) (arg8 m c) := by
  refine (dats m 0 c).arrAt_eq_of_covers 13 _ (by decide +kernel) fun t hf y => ?_
  have ht : t.val < 1 := t.isLt
  blk_simp
  rw [after0_13, point13]
  blk_ext [idx t]

end Cert.DiscretiseIdeal.Hand

namespace Cert.DiscretiseReferenceIdeal.Hand

open Cert.DiscretiseReferenceIdeal Cert.DiscretiseReferenceIdeal.Read Idealize.ShloMosaic
open Cert.DiscretiseIdeal.Hand

/-- The reference's result 0. -/
theorem eq9 (t : S64.Idx → EReal) (a b : S64x64.Idx → EReal) (x y : S64x64x16.Idx → EReal) (u v : S64x64.Idx → EReal) (z w : S16x64x64.Idx → EReal) : val_main_v144 (F := Ideal) t a b x y u v z w = gDt t a b x y u v z w := by
  funext i
  idx_vars i
  obtain rfl : i1 = 0 := Subsingleton.elim _ _
  pointwise [val_main_v144, val_main_v143, val_main_v0, val_main_v142, val_main_cst_14, val_main_v141, val_main_v140, val_main_v139, val_main_cst_13, val_main_v138, val_main_v134, val_main_v4, val_main_v3, val_main_v2, val_main_v1, val_main_v124, val_main_v123, val_main_v7, val_main_v6, val_main_v5, val_main_v104, val_main_v103, val_main_v96, val_main_v17, val_main_v16, val_main_v15, val_main_v80, val_main_v79, val_main_cst_10, val_main_v78, val_main_v77, val_main_cst_9, val_main_v76, val_main_v50, val_main_v63, val_main_cst_6, val_main_v62, val_main_v61, val_main_cst_5, val_main_v60, val_main_v51, val_main_v88, val_main_v87, val_main_v85, val_main_v84, val_main_v72, val_main_v71, val_main_cst_8, val_main_v70, val_main_v69, val_main_cst_7, val_main_v68, val_main_v64, val_main_v57, val_main_cst_4, val_main_v56, val_main_v55, val_main_cst_3, val_main_v54, val_main_v114, val_main_v12, val_main_v11, val_main_v10, val_main_v100, val_main_v99, val_main_v91, val_main_v90, val_main_v133, val_main_v132, val_main_v131, val_main_cst_12, val_main_v130, val_main_v126, val_main_v8, val_main_v125, val_main_v122, val_main_v121, val_main_v120, val_main_cst_11, val_main_v119, val_main_v115, val_main_v13, val_main_v113]
  pointwise [one, dt, mag, re, im, den, numRe, numIm, upRe, upIm, upDen, stIm, stRe, angIm, angRe, upMag, gRe, gIm, gDt]
  try simp only [Finset.univ_unique, Finset.sum_singleton, zero_sub]

/-- The reference's result 1. -/
theorem eq10 (t : S64.Idx → EReal) (a b : S64x64.Idx → EReal) (x y : S64x64x16.Idx → EReal) (u v : S64x64.Idx → EReal) (z w : S16x64x64.Idx → EReal) : val_main_v137 (F := Ideal) t a b x y u v z w = gRe t a b x y u v z w := by
  funext i
  idx_vars i
  pointwise [val_main_v137, val_main_v136, val_main_v134, val_main_v4, val_main_v3, val_main_v2, val_main_v1, val_main_v0, val_main_v124, val_main_v123, val_main_v7, val_main_v6, val_main_v5, val_main_v104, val_main_v103, val_main_v96, val_main_v17, val_main_v16, val_main_v15, val_main_v80, val_main_v79, val_main_cst_10, val_main_v78, val_main_v77, val_main_cst_9, val_main_v76, val_main_v50, val_main_v63, val_main_cst_6, val_main_v62, val_main_v61, val_main_cst_5, val_main_v60, val_main_v51, val_main_v88, val_main_v87, val_main_v85, val_main_v84, val_main_v72, val_main_v71, val_main_cst_8, val_main_v70, val_main_v69, val_main_cst_7, val_main_v68, val_main_v64, val_main_v57, val_main_cst_4, val_main_v56, val_main_v55, val_main_cst_3, val_main_v54, val_main_v114, val_main_v12, val_main_v11, val_main_v10, val_main_v100, val_main_v99, val_main_v91, val_main_v90, val_main_v135, val_main_v112, val_main_v111, val_main_v95, val_main_v94, val_main_v93, val_main_v22, val_main_v21, val_main_v14, val_main_v20, val_main_v19, val_main_v18, val_main_cst, val_main_v9, val_main_v92, val_main_v26, val_main_v24, val_main_v25, val_main_cst_0, val_main_v83, val_main_v82, val_main_v31, val_main_v30, val_main_v29, val_main_v28, val_main_cst_1, val_main_v27, val_main_v81, val_main_v35, val_main_v33, val_main_v34, val_main_cst_2, val_main_v110, val_main_v109, val_main_v102, val_main_v101, val_main_v89]
  pointwise [one, dt, mag, re, im, den, numRe, numIm, upRe, upIm, upDen, stIm, stRe, angIm, angRe, upMag, gRe, gIm, gDt]
  try simp only [Finset.univ_unique, Finset.sum_singleton, zero_sub]

/-- The reference's result 2. -/
theorem eq11 (t : S64.Idx → EReal) (a b : S64x64.Idx → EReal) (x y : S64x64x16.Idx → EReal) (u v : S64x64.Idx → EReal) (z w : S16x64x64.Idx → EReal) : val_main_v129 (F := Ideal) t a b x y u v z w = gIm t a b x y u v z w := by
  funext i
  idx_vars i
  pointwise [val_main_v129, val_main_v128, val_main_v126, val_main_v8, val_main_v6, val_main_v5, val_main_v1, val_main_v0, val_main_v125, val_main_v122, val_main_v104, val_main_v103, val_main_v96, val_main_v17, val_main_v16, val_main_v15, val_main_v80, val_main_v79, val_main_cst_10, val_main_v78, val_main_v77, val_main_cst_9, val_main_v76, val_main_v50, val_main_v63, val_main_cst_6, val_main_v62, val_main_v61, val_main_cst_5, val_main_v60, val_main_v51, val_main_v88, val_main_v87, val_main_v85, val_main_v84, val_main_v72, val_main_v71, val_main_cst_8, val_main_v70, val_main_v69, val_main_cst_7, val_main_v68, val_main_v64, val_main_v57, val_main_cst_4, val_main_v56, val_main_v55, val_main_cst_3, val_main_v54, val_main_v4, val_main_v3, val_main_v2, val_main_v127, val_main_v118, val_main_v117, val_main_v115, val_main_v13, val_main_v11, val_main_v10, val_main_v113, val_main_v100, val_main_v99, val_main_v91, val_main_v90, val_main_v116, val_main_v108, val_main_v107, val_main_v95, val_main_v94, val_main_v93, val_main_v22, val_main_v21, val_main_v14, val_main_v12, val_main_v20, val_main_v19, val_main_v18, val_main_cst, val_main_v9, val_main_v7, val_main_v92, val_main_v26, val_main_v24, val_main_v25, val_main_cst_0, val_main_v83, val_main_v82, val_main_v31, val_main_v30, val_main_v29, val_main_v28, val_main_cst_1, val_main_v27, val_main_v81, val_main_v35, val_main_v33, val_main_v34, val_main_cst_2, val_main_v106, val_main_v105, val_main_v98, val_main_v97, val_main_v86]
  pointwise [one, dt, mag, re, im, den, numRe, numIm, upRe, upIm, upDen, stIm, stRe, angIm, angRe, upMag, gRe, gIm, gDt]
  try simp only [Finset.univ_unique, Finset.sum_singleton, zero_sub]

/-- The reference's result 3. -/
theorem eq12 (t : S64.Idx → EReal) (a b : S64x64.Idx → EReal) (z w : S16x64x64.Idx → EReal) : val_main_v145 (F := Ideal) t a b z w = gBre t a b z w := by
  funext i
  idx_vars i
  pointwise [val_main_v145, val_main_v75, val_main_v74, val_main_v50, val_main_v73, val_main_v36, val_main_v23, val_main_v17, val_main_v16, val_main_v15, val_main_v22, val_main_v21, val_main_v14, val_main_v12, val_main_v11, val_main_v10, val_main_v1, val_main_v0, val_main_v4, val_main_v3, val_main_v2, val_main_v20, val_main_v19, val_main_v18, val_main_cst, val_main_v9, val_main_v7, val_main_v6, val_main_v5, val_main_v53, val_main_v51, val_main_v52, val_main_v46, val_main_v32, val_main_v31, val_main_v30, val_main_v29, val_main_v28, val_main_cst_1, val_main_v27]
  pointwise [gBre, gBim, fRe, fIm, numRe, numIm, den, re, im, mag, dt, one]
  try simp only [Finset.univ_unique, Finset.sum_singleton, zero_sub]

/-- The reference's result 4. -/
theorem eq13 (t : S64.Idx → EReal) (a b : S64x64.Idx → EReal) (z w : S16x64x64.Idx → EReal) : val_main_v146 (F := Ideal) t a b z w = gBim t a b z w := by
  funext i
  idx_vars i
  pointwise [val_main_v146, val_main_v67, val_main_v66, val_main_v64, val_main_v50, val_main_v65, val_main_v39, val_main_v32, val_main_v17, val_main_v16, val_main_v15, val_main_v31, val_main_v30, val_main_v29, val_main_v28, val_main_cst_1, val_main_v9, val_main_v7, val_main_v6, val_main_v5, val_main_v1, val_main_v0, val_main_v4, val_main_v3, val_main_v2, val_main_v27, val_main_v14, val_main_v12, val_main_v11, val_main_v10, val_main_v59, val_main_v51, val_main_v58, val_main_v43, val_main_v23, val_main_v22, val_main_v21, val_main_v20, val_main_v19, val_main_v18, val_main_cst]
  pointwise [gBre, gBim, fRe, fIm, numRe, numIm, den, re, im, mag, dt, one]
  try simp only [Finset.univ_unique, Finset.sum_singleton, zero_sub]

end Cert.DiscretiseReferenceIdeal.Hand

namespace Cert.Proof

open Idealize.ShloMosaic Idealize.SL.Sem Cert.DiscretiseIdeal.Hand Cert.DiscretiseReferenceIdeal.Hand Cert.DiscretiseReferenceIdeal.Read

/-- The discretisation's gradients: the program and its reference agree on the extended reals. -/
theorem discretise_algebraic : Cert.algebraic_DiscretiseIdeal_DiscretiseReferenceIdeal := by
  intro m g m' g' _ hagree
  refine ⟨fun c => gDt (arg0 m c) (arg1 m c) (arg2 m c) (arg3 m c) (arg4 m c) (arg5 m c) (arg6 m c) (arg7 m c) (arg8 m c), fun c => gRe (arg0 m c) (arg1 m c) (arg2 m c) (arg3 m c) (arg4 m c) (arg5 m c) (arg6 m c) (arg7 m c) (arg8 m c), fun c => gIm (arg0 m c) (arg1 m c) (arg2 m c) (arg3 m c) (arg4 m c) (arg5 m c) (arg6 m c) (arg7 m c) (arg8 m c), fun c => gBre (arg0 m c) (arg1 m c) (arg2 m c) (arg7 m c) (arg8 m c), fun c => gBim (arg0 m c) (arg1 m c) (arg2 m c) (arg7 m c) (arg8 m c), ?_, ?_⟩
  · refine (θ_run _ _ _).mono (fun r h c => ?_) (θ_run_and (Cert.DiscretiseIdeal.Gen.unchanged m g) (Cert.DiscretiseIdeal.Gen.run_main m g))
    have e := (h.2 c).1
    exact ⟨(e 9).trans (final9 m c), (e 10).trans (final10 m c), (e 11).trans (final11 m c), (e 12).trans (final12 m c), (e 13).trans (final13 m c), h.1 c⟩
  · refine (θ_run _ _ _).mono (fun r h c => ?_) (Cert.DiscretiseReferenceIdeal.Value.run m' g')
    obtain ⟨h0, h1, h2, h3, h4, hk⟩ := h c
    obtain ⟨a0, a1, a2, a3, a4, a5, a6, a7, a8⟩ := hagree c
    refine ⟨h0.trans ?_, h1.trans ?_, h2.trans ?_, h3.trans ?_, h4.trans ?_, hk⟩
    · rw [val_main_v144_eq, eq9, a0, a1, a2, a3, a4, a5, a6, a7, a8]
    · rw [val_main_v137_eq, eq10, a0, a1, a2, a3, a4, a5, a6, a7, a8]
    · rw [val_main_v129_eq, eq11, a0, a1, a2, a3, a4, a5, a6, a7, a8]
    · rw [val_main_v145_eq, eq12, a0, a1, a2, a7, a8]
    · rw [val_main_v146_eq, eq13, a0, a1, a2, a7, a8]

/-- The reference runs to its end, keeps its arguments and uses no semaphore. -/
theorem discretise_reference_frame : Cert.quiescent_DiscretiseReferenceIdeal := fun m ρ _ =>
  (θ_run Cert.DiscretiseReferenceIdeal.defs _ _).mono (fun r h => ⟨fun c => (h c).2.2.2.2.2, sem_eq_zero_of_no_sems (by decide) r.2⟩)
    (Cert.DiscretiseReferenceIdeal.Value.run (F := Ideal) m ρ)

end Cert.Proof

end
-- ==== Proof.AdamStep.lean ====
/- One AdamW step at one element of the extended reals. -/
module

public import Idealize.ShloMosaic.PureOps.Ideal

@[expose] public section

noncomputable section

namespace Cert.Adam

open Idealize.ShloMosaic

/-- The first moment after the step. -/
def first (m g : EReal) : EReal := Ideal.ofBits .f32 0x3F666666#32 * m + Ideal.ofBits .f32 0x3DCCCCCD#32 * g

/-- The second moment after the step. -/
def second (v g : EReal) : EReal := Ideal.ofBits .f32 0x3F7FBE77#32 * v + Ideal.ofBits .f32 0x3A83126F#32 * (g * g)

/-- The step of the weight: the first moment over the root of the second, both with their bias taken out, and the decay. -/
def step (w m v g : EReal) : EReal :=
  Ideal.ofBits .f32 0xBA83126F#32 *
    (Ideal.div (Ideal.div (first m g) (Ideal.ofBits .f32 0x3F26BD02#32))
        (Ideal.sqrt (Ideal.div (second v g) (Ideal.ofBits .f32 0x3C231ACC#32)) + Ideal.ofBits .f32 0x322BCC77#32)
      + Ideal.ofBits .f32 0x3C23D70A#32 * w)

end Cert.Adam

end
-- ==== Proof.AdamIn.lean ====
/- The AdamW step of w_in of the first layer, which leaves the second layer's rows as they were given.

   Both sides sum the four chips' parts of the gradient and take the step element by element; the kernel works on one
   block of rows per grid point and its results share the given arrays' buffers. -/
module

public import proofs.«01_k».proof.Defs
public import proofs.«01_k».proof.Proof.Gen.AdamInIdeal.Value
public import proofs.«01_k».proof.Proof.Gen.AdamInReferenceIdeal.Run
public import proofs.«01_k».proof.Proof.Gen.AdamInReferenceIdeal.Read
public import Idealize.ShloMosaic.Lib.Pipeline.ValueKit
public import Idealize.ShloMosaic.Lib.Pipeline.ReadBack
public import Idealize.ShloMosaic.Lib.Pointwise
public import proofs.«01_k».proof.Proof.AdamStep
public import Idealize.ShloMosaic.Lib.Pipeline.ValueKit.Partial
public import Idealize.ShloMosaic.Lib.StableHlo.RunRead

@[expose] public section

set_option maxRecDepth 16384

noncomputable section

namespace Cert.AdamInIdeal.Hand

open Cert.AdamInIdeal Cert.AdamInIdeal.Gen Idealize.ShloMosaic Idealize.ShloMosaic.TcCoe Idealize.SL.Sem

/-- The first layer's element that the stacked index `i` names. -/
def at0 (i : S2x4096x1314.Idx) : S2x4096x1314.Idx := ix3 0 (i 1) (i 2)

/-- The gradient: the four chips' parts added. -/
def total (p : S4x4096x1314.Idx → EReal) (i : S2x4096x1314.Idx) : EReal := ∑ k : Fin 4, p (ix3 k (i 1) (i 2))

/-- The gradient of the first layer, the second layer's as given. -/
def grad (p : S4x4096x1314.Idx → EReal) (a : S2x4096x1314.Idx → EReal) : S2x4096x1314.Idx → EReal :=
  fun i => if (i 0).val = 0 then total p i else a i

/-- The weights' step. -/
def delta (w x v : S2x4096x1314.Idx → EReal) (p : S4x4096x1314.Idx → EReal) (a : S2x4096x1314.Idx → EReal) : S2x4096x1314.Idx → EReal :=
  fun i => if (i 0).val = 0 then Adam.step (w (at0 i)) (x (at0 i)) (v (at0 i)) (total p i) else a i

/-- The first moment. -/
def moment1 (x : S2x4096x1314.Idx → EReal) (p : S4x4096x1314.Idx → EReal) (a : S2x4096x1314.Idx → EReal) : S2x4096x1314.Idx → EReal :=
  fun i => if (i 0).val = 0 then Adam.first (x (at0 i)) (total p i) else a i

/-- The second moment. -/
def moment2 (v : S2x4096x1314.Idx → EReal) (p : S4x4096x1314.Idx → EReal) (a : S2x4096x1314.Idx → EReal) : S2x4096x1314.Idx → EReal :=
  fun i => if (i 0).val = 0 then Adam.second (v (at0 i)) (total p i) else a i

variable (m : (ℓ : Loc nD τ sig) → Buf (Elt Ideal) ℓ)

abbrev arg0 (c : Dev nD) : S2x4096x1314.Idx → EReal := m ((c : Thread nD τ).loc main_arg0)
abbrev arg1 (c : Dev nD) : S2x4096x1314.Idx → EReal := m ((c : Thread nD τ).loc main_arg1)
abbrev arg2 (c : Dev nD) : S2x4096x1314.Idx → EReal := m ((c : Thread nD τ).loc main_arg2)
abbrev arg3 (c : Dev nD) : S4x4096x1314.Idx → EReal := m ((c : Thread nD τ).loc main_arg3)
abbrev arg4 (c : Dev nD) : S2x4096x1314.Idx → EReal := m ((c : Thread nD τ).loc main_arg4)
abbrev arg5 (c : Dev nD) : S2x4096x1314.Idx → EReal := m ((c : Thread nD τ).loc main_arg5)
abbrev arg6 (c : Dev nD) : S2x4096x1314.Idx → EReal := m ((c : Thread nD τ).loc main_arg6)
abbrev arg7 (c : Dev nD) : S2x4096x1314.Idx → EReal := m ((c : Thread nD τ).loc main_arg7)

/-- Every window's block index at a grid point. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The row of the whole array at row `r` of point `t`'s block. -/
def row (t : ℕ) (r : Fin 128) : Fin 4096 := ⟨t % 32 * 128 + r.val, by omega⟩

/-- Window 0's block. -/
theorem in0 (c : Dev nD) (t : Fin cfg0.N) (r : Fin 128) (q : Fin 1314) :
    iblk m c 0 t (ix3 0 r q) = arg0 m c (at0 (ix3 (0 : Fin 2) (row t.val r) q)) := by
  have ht : t.val < 32 := t.isLt
  blk_ext! [iblk, V, at0, row, idx t]

/-- Window 1's block. -/
theorem in1 (c : Dev nD) (t : Fin cfg0.N) (r : Fin 128) (q : Fin 1314) :
    iblk m c 1 t (ix3 0 r q) = arg1 m c (at0 (ix3 (0 : Fin 2) (row t.val r) q)) := by
  have ht : t.val < 32 := t.isLt
  blk_ext! [iblk, V, at0, row, idx t]

/-- Window 2's block. -/
theorem in2 (c : Dev nD) (t : Fin cfg0.N) (r : Fin 128) (q : Fin 1314) :
    iblk m c 2 t (ix3 0 r q) = arg2 m c (at0 (ix3 (0 : Fin 2) (row t.val r) q)) := by
  have ht : t.val < 32 := t.isLt
  blk_ext! [iblk, V, at0, row, idx t]

/-- Window 3's block. -/
theorem in3 (c : Dev nD) (t : Fin cfg0.N) (u : Fin 4) (r : Fin 128) (q : Fin 1314) :
    iblk m c 3 t (ix3 u r q) = arg3 m c (ix3 u (row t.val r) q) := by
  have ht : t.val < 32 := t.isLt
  blk_ext! [iblk, V, row, idx t]

/-- What a point leaves in window 4's block. -/
theorem point4 (c : Dev nD) (t : Fin cfg0.N) (y : S1x128x1314.Idx) :
    (outsAt0 m c t).1 y = grad (arg3 m c) (arg4 m c) (ix3 (0 : Fin 2) (row t.val (y 1)) (y 2)) := by
  idx_vars y
  unfold outsAt0
  dsimp only
  frame_out
  unfold_payloads
  pointwise [grad, total, Adam.step, Adam.first, Adam.second, Fin.sum_univ_four, in0, in1, in2, in3]

/-- What a point leaves in window 5's block. -/
theorem point5 (c : Dev nD) (t : Fin cfg0.N) (y : S1x128x1314.Idx) :
    (outsAt0 m c t).2.1 y = delta (arg0 m c) (arg1 m c) (arg2 m c) (arg3 m c) (arg5 m c) (ix3 (0 : Fin 2) (row t.val (y 1)) (y 2)) := by
  idx_vars y
  unfold outsAt0
  dsimp only
  frame_out
  unfold_payloads
  pointwise [delta, total, Adam.step, Adam.first, Adam.second, Fin.sum_univ_four, in0, in1, in2, in3]

/-- What a point leaves in window 6's block. -/
theorem point6 (c : Dev nD) (t : Fin cfg0.N) (y : S1x128x1314.Idx) :
    (outsAt0 m c t).2.2.1 y = moment1 (arg1 m c) (arg3 m c) (arg6 m c) (ix3 (0 : Fin 2) (row t.val (y 1)) (y 2)) := by
  idx_vars y
  unfold outsAt0
  dsimp only
  frame_out
  unfold_payloads
  pointwise [moment1, total, Adam.step, Adam.first, Adam.second, Fin.sum_univ_four, in0, in1, in2, in3]

/-- What a point leaves in window 7's block. -/
theorem point7 (c : Dev nD) (t : Fin cfg0.N) (y : S1x128x1314.Idx) :
    (outsAt0 m c t).2.2.2 y = moment2 (arg2 m c) (arg3 m c) (arg7 m c) (ix3 (0 : Fin 2) (row t.val (y 1)) (y 2)) := by
  idx_vars y
  unfold outsAt0
  dsimp only
  frame_out
  unfold_payloads
  pointwise [moment2, total, Adam.step, Adam.first, Adam.second, Fin.sum_univ_four, in0, in1, in2, in3]

/-- Outside the blocks that window 4 writes its array holds the argument. -/
theorem kept4 (c : Dev nD) (j : S2x4096x1314.Idx) (hj : ¬ (j 0).val = 0) :
    (dats m 0 c).A 4 j = grad (arg3 m c) (arg4 m c) j := by
  rw [A_eq]
  show StableHlo.after hostOps0 (fun b => m (c, b)) (Proc.devRef .tc main_v0_0) _ = _
  after_reads_simp
  unfold grad
  rw [if_neg hj]
  rfl

/-- Outside the blocks that window 5 writes its array holds the argument. -/
theorem kept5 (c : Dev nD) (j : S2x4096x1314.Idx) (hj : ¬ (j 0).val = 0) :
    (dats m 0 c).A 5 j = delta (arg0 m c) (arg1 m c) (arg2 m c) (arg3 m c) (arg5 m c) j := by
  rw [A_eq]
  show StableHlo.after hostOps0 (fun b => m (c, b)) (Proc.devRef .tc main_v0_1) _ = _
  after_reads_simp
  unfold delta
  rw [if_neg hj]
  rfl

/-- Outside the blocks that window 6 writes its array holds the argument. -/
theorem kept6 (c : Dev nD) (j : S2x4096x1314.Idx) (hj : ¬ (j 0).val = 0) :
    (dats m 0 c).A 6 j = moment1 (arg1 m c) (arg3 m c) (arg6 m c) j := by
  rw [A_eq]
  show StableHlo.after hostOps0 (fun b => m (c, b)) (Proc.devRef .tc main_v0_2) _ = _
  after_reads_simp
  unfold moment1
  rw [if_neg hj]
  rfl

/-- Outside the blocks that window 7 writes its array holds the argument. -/
theorem kept7 (c : Dev nD) (j : S2x4096x1314.Idx) (hj : ¬ (j 0).val = 0) :
    (dats m 0 c).A 7 j = moment2 (arg2 m c) (arg3 m c) (arg7 m c) j := by
  rw [A_eq]
  show StableHlo.after hostOps0 (fun b => m (c, b)) (Proc.devRef .tc main_v0_3) _ = _
  after_reads_simp
  unfold moment2
  rw [if_neg hj]
  rfl

/-- The result array of window 4. -/
theorem final4 (c : Dev nD) : (dats m 0 c).arrAt 4 (cfgs 0).N = grad (arg3 m c) (arg4 m c) := by
  refine (dats m 0 c).arrAt_eq_of_coversWhere_of_agree 4 _ (fun β => β (0 : Fin 3) = 0) (by decide +kernel) (fun t hf y => ?_) (fun j hj => ?_)
  · have ht : t.val < 32 := t.isLt
    blk_simp
    rw [after0_4, point4]
    blk_ext [row, idx t]
  · blk_simp [Pipeline.Window.cell_apply] at hj
    blk_simp
    exact kept4 m c j (by simpa using hj)

/-- The result array of window 5. -/
theorem final5 (c : Dev nD) : (dats m 0 c).arrAt 5 (cfgs 0).N = delta (arg0 m c) (arg1 m c) (arg2 m c) (arg3 m c) (arg5 m c) := by
  refine (dats m 0 c).arrAt_eq_of_coversWhere_of_agree 5 _ (fun β => β (0 : Fin 3) = 0) (by decide +kernel) (fun t hf y => ?_) (fun j hj => ?_)
  · have ht : t.val < 32 := t.isLt
    blk_simp
    rw [after0_5, point5]
    blk_ext [row, idx t]
  · blk_simp [Pipeline.Window.cell_apply] at hj
    blk_simp
    exact kept5 m c j (by simpa using hj)

/-- The result array of window 6. -/
theorem final6 (c : Dev nD) : (dats m 0 c).arrAt 6 (cfgs 0).N = moment1 (arg1 m c) (arg3 m c) (arg6 m c) := by
  refine (dats m 0 c).arrAt_eq_of_coversWhere_of_agree 6 _ (fun β => β (0 : Fin 3) = 0) (by decide +kernel) (fun t hf y => ?_) (fun j hj => ?_)
  · have ht : t.val < 32 := t.isLt
    blk_simp
    rw [after0_6, point6]
    blk_ext [row, idx t]
  · blk_simp [Pipeline.Window.cell_apply] at hj
    blk_simp
    exact kept6 m c j (by simpa using hj)

/-- The result array of window 7. -/
theorem final7 (c : Dev nD) : (dats m 0 c).arrAt 7 (cfgs 0).N = moment2 (arg2 m c) (arg3 m c) (arg7 m c) := by
  refine (dats m 0 c).arrAt_eq_of_coversWhere_of_agree 7 _ (fun β => β (0 : Fin 3) = 0) (by decide +kernel) (fun t hf y => ?_) (fun j hj => ?_)
  · have ht : t.val < 32 := t.isLt
    blk_simp
    rw [after0_7, point7]
    blk_ext [row, idx t]
  · blk_simp [Pipeline.Window.cell_apply] at hj
    blk_simp
    exact kept7 m c j (by simpa using hj)

end Cert.AdamInIdeal.Hand

namespace Cert.AdamInReferenceIdeal.Hand

open Cert.AdamInReferenceIdeal Cert.AdamInReferenceIdeal.Read Idealize.ShloMosaic
open Cert.AdamInIdeal.Hand

/-- The reference's result 0. -/
theorem eq4 (p : S4x4096x1314.Idx → EReal) (a : S2x4096x1314.Idx → EReal) : val_main_v36 (F := Ideal) p a = grad p a := by
  funext i
  idx_vars i
  obtain rfl | rfl : i0 = 0 ∨ i0 = 1 := by omega
  all_goals pointwise [val_main_v36, val_main_v34, val_main_v35, val_main_v3, val_main_v33, val_main_v2, val_main_cst, val_main_v32]
  all_goals pointwise [grad, total, at0, Adam.step, Adam.first, Adam.second, Fin.sum_univ_four]

/-- The reference's result 1. -/
theorem eq5 (w x v : S2x4096x1314.Idx → EReal) (p : S4x4096x1314.Idx → EReal) (a : S2x4096x1314.Idx → EReal) : val_main_v41 (F := Ideal) w x v p a = delta w x v p a := by
  funext i
  idx_vars i
  obtain rfl | rfl : i0 = 0 ∨ i0 = 1 := by omega
  all_goals pointwise [val_main_v41, val_main_v39, val_main_v40, val_main_v31, val_main_v38, val_main_v30, val_main_v29, val_main_v37, val_main_cst_8, val_main_v26, val_main_v28, val_main_v20, val_main_v25, val_main_v27, val_main_v1, val_main_v12, val_main_v19, val_main_v23, val_main_v24, val_main_cst_7, val_main_v0, val_main_v9, val_main_v11, val_main_cst_4, val_main_v22, val_main_cst_6, val_main_v8, val_main_v5, val_main_v10, val_main_v3, val_main_v18, val_main_v21, val_main_cst_0, val_main_v4, val_main_cst_1, val_main_v2, val_main_cst, val_main_v14, val_main_v17, val_main_cst_5, val_main_v13, val_main_v7, val_main_v16, val_main_v15, val_main_cst_2, val_main_v6, val_main_cst_3]
  all_goals pointwise [delta, total, at0, Adam.step, Adam.first, Adam.second, Fin.sum_univ_four]

/-- The reference's result 2. -/
theorem eq6 (x : S2x4096x1314.Idx → EReal) (p : S4x4096x1314.Idx → EReal) (a : S2x4096x1314.Idx → EReal) : val_main_v46 (F := Ideal) x p a = moment1 x p a := by
  funext i
  idx_vars i
  obtain rfl | rfl : i0 = 0 ∨ i0 = 1 := by omega
  all_goals pointwise [val_main_v46, val_main_v44, val_main_v45, val_main_v12, val_main_v43, val_main_v9, val_main_v11, val_main_v42, val_main_v8, val_main_v5, val_main_v10, val_main_v3, val_main_cst_0, val_main_v4, val_main_cst_1, val_main_v2, val_main_cst]
  all_goals pointwise [moment1, total, at0, Adam.step, Adam.first, Adam.second, Fin.sum_univ_four]

/-- The reference's result 3. -/
theorem eq7 (v : S2x4096x1314.Idx → EReal) (p : S4x4096x1314.Idx → EReal) (a : S2x4096x1314.Idx → EReal) : val_main_v51 (F := Ideal) v p a = moment2 v p a := by
  funext i
  idx_vars i
  obtain rfl | rfl : i0 = 0 ∨ i0 = 1 := by omega
  all_goals pointwise [val_main_v51, val_main_v49, val_main_v50, val_main_v18, val_main_v48, val_main_v14, val_main_v17, val_main_v47, val_main_v13, val_main_v7, val_main_v16, val_main_v15, val_main_cst_2, val_main_v6, val_main_cst_3, val_main_v3, val_main_v2, val_main_cst]
  all_goals pointwise [moment2, total, at0, Adam.step, Adam.first, Adam.second, Fin.sum_univ_four]

end Cert.AdamInReferenceIdeal.Hand

namespace Cert.Proof

open Idealize.ShloMosaic Idealize.SL.Sem Cert.AdamInIdeal.Hand Cert.AdamInReferenceIdeal.Hand Cert.AdamInReferenceIdeal.Read

/-- The AdamW step of w_in: the program and its reference agree on the extended reals. -/
theorem adamIn_algebraic : Cert.algebraic_AdamInIdeal_AdamInReferenceIdeal := by
  intro m g m' g' _ hagree
  refine ⟨fun c => grad (arg3 m c) (arg4 m c), fun c => delta (arg0 m c) (arg1 m c) (arg2 m c) (arg3 m c) (arg5 m c), fun c => moment1 (arg1 m c) (arg3 m c) (arg6 m c), fun c => moment2 (arg2 m c) (arg3 m c) (arg7 m c), ?_, ?_⟩
  · refine (θ_run _ _ _).mono (fun r h c => ?_) (Cert.AdamInIdeal.Value.run_blocks m g)
    obtain ⟨h0, h1, h2, h3, hk⟩ := h c
    exact ⟨h0.trans (final4 m c), h1.trans (final5 m c), h2.trans (final6 m c), h3.trans (final7 m c), hk⟩
  · refine (θ_run _ _ _).mono (fun r h c => ?_) (Cert.AdamInReferenceIdeal.Value.run m' g')
    obtain ⟨h0, h1, h2, h3, hk⟩ := h c
    obtain ⟨a0, a1, a2, a3, a4, a5, a6, a7⟩ := hagree c
    refine ⟨h0.trans ?_, h1.trans ?_, h2.trans ?_, h3.trans ?_, hk⟩
    · rw [val_main_v36_eq, eq4, a3, a4]
    · rw [val_main_v41_eq, eq5, a0, a1, a2, a3, a5]
    · rw [val_main_v46_eq, eq6, a1, a3, a6]
    · rw [val_main_v51_eq, eq7, a2, a3, a7]

/-- The reference runs to its end, keeps its arguments and uses no semaphore. -/
theorem adamIn_reference_frame : Cert.quiescent_AdamInReferenceIdeal := fun m ρ _ =>
  (θ_run Cert.AdamInReferenceIdeal.defs _ _).mono (fun r h => ⟨fun c => (h c).2.2.2.2, sem_eq_zero_of_no_sems (by decide) r.2⟩)
    (Cert.AdamInReferenceIdeal.Value.run (F := Ideal) m ρ)

end Cert.Proof

end
-- ==== Proof.AdamDeltaConv.lean ====
/- The AdamW step of dn_conv_w of the first layer, which leaves the second layer's rows as they were given.

   Both sides sum the four chips' parts of the gradient and take the step element by element; the kernel works on one
   block of rows per grid point and its results share the given arrays' buffers. -/
module

public import proofs.«01_k».proof.Defs
public import proofs.«01_k».proof.Proof.Gen.AdamDeltaConvIdeal.Value
public import proofs.«01_k».proof.Proof.Gen.AdamDeltaConvReferenceIdeal.Run
public import proofs.«01_k».proof.Proof.Gen.AdamDeltaConvReferenceIdeal.Read
public import Idealize.ShloMosaic.Lib.Pipeline.ValueKit
public import Idealize.ShloMosaic.Lib.Pipeline.ReadBack
public import Idealize.ShloMosaic.Lib.Pointwise
public import proofs.«01_k».proof.Proof.AdamStep
public import Idealize.ShloMosaic.Lib.Pipeline.ValueKit.Partial
public import Idealize.ShloMosaic.Lib.StableHlo.RunRead

@[expose] public section

set_option maxRecDepth 16384

noncomputable section

namespace Cert.AdamDeltaConvIdeal.Hand

open Cert.AdamDeltaConvIdeal Cert.AdamDeltaConvIdeal.Gen Idealize.ShloMosaic Idealize.ShloMosaic.TcCoe Idealize.SL.Sem

/-- The first layer's element that the stacked index `i` names. -/
def at0 (i : S2x4x384.Idx) : S2x4x384.Idx := ix3 0 (i 1) (i 2)

/-- The gradient: the four chips' parts added. -/
def total (p : S4x4x384.Idx → EReal) (i : S2x4x384.Idx) : EReal := ∑ k : Fin 4, p (ix3 k (i 1) (i 2))

/-- The gradient of the first layer, the second layer's as given. -/
def grad (p : S4x4x384.Idx → EReal) (a : S2x4x384.Idx → EReal) : S2x4x384.Idx → EReal :=
  fun i => if (i 0).val = 0 then total p i else a i

/-- The weights' step. -/
def delta (w x v : S2x4x384.Idx → EReal) (p : S4x4x384.Idx → EReal) (a : S2x4x384.Idx → EReal) : S2x4x384.Idx → EReal :=
  fun i => if (i 0).val = 0 then Adam.step (w (at0 i)) (x (at0 i)) (v (at0 i)) (total p i) else a i

/-- The first moment. -/
def moment1 (x : S2x4x384.Idx → EReal) (p : S4x4x384.Idx → EReal) (a : S2x4x384.Idx → EReal) : S2x4x384.Idx → EReal :=
  fun i => if (i 0).val = 0 then Adam.first (x (at0 i)) (total p i) else a i

/-- The second moment. -/
def moment2 (v : S2x4x384.Idx → EReal) (p : S4x4x384.Idx → EReal) (a : S2x4x384.Idx → EReal) : S2x4x384.Idx → EReal :=
  fun i => if (i 0).val = 0 then Adam.second (v (at0 i)) (total p i) else a i

variable (m : (ℓ : Loc nD τ sig) → Buf (Elt Ideal) ℓ)

abbrev arg0 (c : Dev nD) : S2x4x384.Idx → EReal := m ((c : Thread nD τ).loc main_arg0)
abbrev arg1 (c : Dev nD) : S2x4x384.Idx → EReal := m ((c : Thread nD τ).loc main_arg1)
abbrev arg2 (c : Dev nD) : S2x4x384.Idx → EReal := m ((c : Thread nD τ).loc main_arg2)
abbrev arg3 (c : Dev nD) : S4x4x384.Idx → EReal := m ((c : Thread nD τ).loc main_arg3)
abbrev arg4 (c : Dev nD) : S2x4x384.Idx → EReal := m ((c : Thread nD τ).loc main_arg4)
abbrev arg5 (c : Dev nD) : S2x4x384.Idx → EReal := m ((c : Thread nD τ).loc main_arg5)
abbrev arg6 (c : Dev nD) : S2x4x384.Idx → EReal := m ((c : Thread nD τ).loc main_arg6)
abbrev arg7 (c : Dev nD) : S2x4x384.Idx → EReal := m ((c : Thread nD τ).loc main_arg7)

/-- Every window's block index at a grid point. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The row of the whole array at row `r` of point `t`'s block. -/
def row (t : ℕ) (r : Fin 4) : Fin 4 := ⟨t % 1 * 4 + r.val, by omega⟩

/-- Window 0's block. -/
theorem in0 (c : Dev nD) (t : Fin cfg0.N) (r : Fin 4) (q : Fin 384) :
    iblk m c 0 t (ix3 0 r q) = arg0 m c (at0 (ix3 (0 : Fin 2) (row t.val r) q)) := by
  have ht : t.val < 1 := t.isLt
  blk_ext! [iblk, V, at0, row, idx t]

/-- Window 1's block. -/
theorem in1 (c : Dev nD) (t : Fin cfg0.N) (r : Fin 4) (q : Fin 384) :
    iblk m c 1 t (ix3 0 r q) = arg1 m c (at0 (ix3 (0 : Fin 2) (row t.val r) q)) := by
  have ht : t.val < 1 := t.isLt
  blk_ext! [iblk, V, at0, row, idx t]

/-- Window 2's block. -/
theorem in2 (c : Dev nD) (t : Fin cfg0.N) (r : Fin 4) (q : Fin 384) :
    iblk m c 2 t (ix3 0 r q) = arg2 m c (at0 (ix3 (0 : Fin 2) (row t.val r) q)) := by
  have ht : t.val < 1 := t.isLt
  blk_ext! [iblk, V, at0, row, idx t]

/-- Window 3's block. -/
theorem in3 (c : Dev nD) (t : Fin cfg0.N) (u : Fin 4) (r : Fin 4) (q : Fin 384) :
    iblk m c 3 t (ix3 u r q) = arg3 m c (ix3 u (row t.val r) q) := by
  have ht : t.val < 1 := t.isLt
  blk_ext! [iblk, V, row, idx t]

/-- What a point leaves in window 4's block. -/
theorem point4 (c : Dev nD) (t : Fin cfg0.N) (y : S1x4x384.Idx) :
    (outsAt0 m c t).1 y = grad (arg3 m c) (arg4 m c) (ix3 (0 : Fin 2) (row t.val (y 1)) (y 2)) := by
  idx_vars y
  unfold outsAt0
  dsimp only
  frame_out
  unfold_payloads
  pointwise [grad, total, Adam.step, Adam.first, Adam.second, Fin.sum_univ_four, in0, in1, in2, in3]

/-- What a point leaves in window 5's block. -/
theorem point5 (c : Dev nD) (t : Fin cfg0.N) (y : S1x4x384.Idx) :
    (outsAt0 m c t).2.1 y = delta (arg0 m c) (arg1 m c) (arg2 m c) (arg3 m c) (arg5 m c) (ix3 (0 : Fin 2) (row t.val (y 1)) (y 2)) := by
  idx_vars y
  unfold outsAt0
  dsimp only
  frame_out
  unfold_payloads
  pointwise [delta, total, Adam.step, Adam.first, Adam.second, Fin.sum_univ_four, in0, in1, in2, in3]

/-- What a point leaves in window 6's block. -/
theorem point6 (c : Dev nD) (t : Fin cfg0.N) (y : S1x4x384.Idx) :
    (outsAt0 m c t).2.2.1 y = moment1 (arg1 m c) (arg3 m c) (arg6 m c) (ix3 (0 : Fin 2) (row t.val (y 1)) (y 2)) := by
  idx_vars y
  unfold outsAt0
  dsimp only
  frame_out
  unfold_payloads
  pointwise [moment1, total, Adam.step, Adam.first, Adam.second, Fin.sum_univ_four, in0, in1, in2, in3]

/-- What a point leaves in window 7's block. -/
theorem point7 (c : Dev nD) (t : Fin cfg0.N) (y : S1x4x384.Idx) :
    (outsAt0 m c t).2.2.2 y = moment2 (arg2 m c) (arg3 m c) (arg7 m c) (ix3 (0 : Fin 2) (row t.val (y 1)) (y 2)) := by
  idx_vars y
  unfold outsAt0
  dsimp only
  frame_out
  unfold_payloads
  pointwise [moment2, total, Adam.step, Adam.first, Adam.second, Fin.sum_univ_four, in0, in1, in2, in3]

/-- Outside the blocks that window 4 writes its array holds the argument. -/
theorem kept4 (c : Dev nD) (j : S2x4x384.Idx) (hj : ¬ (j 0).val = 0) :
    (dats m 0 c).A 4 j = grad (arg3 m c) (arg4 m c) j := by
  rw [A_eq]
  show StableHlo.after hostOps0 (fun b => m (c, b)) (Proc.devRef .tc main_v0_0) _ = _
  after_reads_simp
  unfold grad
  rw [if_neg hj]
  rfl

/-- Outside the blocks that window 5 writes its array holds the argument. -/
theorem kept5 (c : Dev nD) (j : S2x4x384.Idx) (hj : ¬ (j 0).val = 0) :
    (dats m 0 c).A 5 j = delta (arg0 m c) (arg1 m c) (arg2 m c) (arg3 m c) (arg5 m c) j := by
  rw [A_eq]
  show StableHlo.after hostOps0 (fun b => m (c, b)) (Proc.devRef .tc main_v0_1) _ = _
  after_reads_simp
  unfold delta
  rw [if_neg hj]
  rfl

/-- Outside the blocks that window 6 writes its array holds the argument. -/
theorem kept6 (c : Dev nD) (j : S2x4x384.Idx) (hj : ¬ (j 0).val = 0) :
    (dats m 0 c).A 6 j = moment1 (arg1 m c) (arg3 m c) (arg6 m c) j := by
  rw [A_eq]
  show StableHlo.after hostOps0 (fun b => m (c, b)) (Proc.devRef .tc main_v0_2) _ = _
  after_reads_simp
  unfold moment1
  rw [if_neg hj]
  rfl

/-- Outside the blocks that window 7 writes its array holds the argument. -/
theorem kept7 (c : Dev nD) (j : S2x4x384.Idx) (hj : ¬ (j 0).val = 0) :
    (dats m 0 c).A 7 j = moment2 (arg2 m c) (arg3 m c) (arg7 m c) j := by
  rw [A_eq]
  show StableHlo.after hostOps0 (fun b => m (c, b)) (Proc.devRef .tc main_v0_3) _ = _
  after_reads_simp
  unfold moment2
  rw [if_neg hj]
  rfl

/-- The result array of window 4. -/
theorem final4 (c : Dev nD) : (dats m 0 c).arrAt 4 (cfgs 0).N = grad (arg3 m c) (arg4 m c) := by
  refine (dats m 0 c).arrAt_eq_of_coversWhere_of_agree 4 _ (fun β => β (0 : Fin 3) = 0) (by decide +kernel) (fun t hf y => ?_) (fun j hj => ?_)
  · have ht : t.val < 1 := t.isLt
    blk_simp
    rw [after0_4, point4]
    blk_ext [row, idx t]
  · blk_simp [Pipeline.Window.cell_apply] at hj
    blk_simp
    exact kept4 m c j (by simpa using hj)

/-- The result array of window 5. -/
theorem final5 (c : Dev nD) : (dats m 0 c).arrAt 5 (cfgs 0).N = delta (arg0 m c) (arg1 m c) (arg2 m c) (arg3 m c) (arg5 m c) := by
  refine (dats m 0 c).arrAt_eq_of_coversWhere_of_agree 5 _ (fun β => β (0 : Fin 3) = 0) (by decide +kernel) (fun t hf y => ?_) (fun j hj => ?_)
  · have ht : t.val < 1 := t.isLt
    blk_simp
    rw [after0_5, point5]
    blk_ext [row, idx t]
  · blk_simp [Pipeline.Window.cell_apply] at hj
    blk_simp
    exact kept5 m c j (by simpa using hj)

/-- The result array of window 6. -/
theorem final6 (c : Dev nD) : (dats m 0 c).arrAt 6 (cfgs 0).N = moment1 (arg1 m c) (arg3 m c) (arg6 m c) := by
  refine (dats m 0 c).arrAt_eq_of_coversWhere_of_agree 6 _ (fun β => β (0 : Fin 3) = 0) (by decide +kernel) (fun t hf y => ?_) (fun j hj => ?_)
  · have ht : t.val < 1 := t.isLt
    blk_simp
    rw [after0_6, point6]
    blk_ext [row, idx t]
  · blk_simp [Pipeline.Window.cell_apply] at hj
    blk_simp
    exact kept6 m c j (by simpa using hj)

/-- The result array of window 7. -/
theorem final7 (c : Dev nD) : (dats m 0 c).arrAt 7 (cfgs 0).N = moment2 (arg2 m c) (arg3 m c) (arg7 m c) := by
  refine (dats m 0 c).arrAt_eq_of_coversWhere_of_agree 7 _ (fun β => β (0 : Fin 3) = 0) (by decide +kernel) (fun t hf y => ?_) (fun j hj => ?_)
  · have ht : t.val < 1 := t.isLt
    blk_simp
    rw [after0_7, point7]
    blk_ext [row, idx t]
  · blk_simp [Pipeline.Window.cell_apply] at hj
    blk_simp
    exact kept7 m c j (by simpa using hj)

end Cert.AdamDeltaConvIdeal.Hand

namespace Cert.AdamDeltaConvReferenceIdeal.Hand

open Cert.AdamDeltaConvReferenceIdeal Cert.AdamDeltaConvReferenceIdeal.Read Idealize.ShloMosaic
open Cert.AdamDeltaConvIdeal.Hand

/-- The reference's result 0. -/
theorem eq4 (p : S4x4x384.Idx → EReal) (a : S2x4x384.Idx → EReal) : val_main_v36 (F := Ideal) p a = grad p a := by
  funext i
  idx_vars i
  obtain rfl | rfl : i0 = 0 ∨ i0 = 1 := by omega
  all_goals pointwise [val_main_v36, val_main_v34, val_main_v35, val_main_v3, val_main_v33, val_main_v2, val_main_cst, val_main_v32]
  all_goals pointwise [grad, total, at0, Adam.step, Adam.first, Adam.second, Fin.sum_univ_four]

/-- The reference's result 1. -/
theorem eq5 (w x v : S2x4x384.Idx → EReal) (p : S4x4x384.Idx → EReal) (a : S2x4x384.Idx → EReal) : val_main_v41 (F := Ideal) w x v p a = delta w x v p a := by
  funext i
  idx_vars i
  obtain rfl | rfl : i0 = 0 ∨ i0 = 1 := by omega
  all_goals pointwise [val_main_v41, val_main_v39, val_main_v40, val_main_v31, val_main_v38, val_main_v30, val_main_v29, val_main_v37, val_main_cst_8, val_main_v26, val_main_v28, val_main_v20, val_main_v25, val_main_v27, val_main_v1, val_main_v12, val_main_v19, val_main_v23, val_main_v24, val_main_cst_7, val_main_v0, val_main_v9, val_main_v11, val_main_cst_4, val_main_v22, val_main_cst_6, val_main_v8, val_main_v5, val_main_v10, val_main_v3, val_main_v18, val_main_v21, val_main_cst_0, val_main_v4, val_main_cst_1, val_main_v2, val_main_cst, val_main_v14, val_main_v17, val_main_cst_5, val_main_v13, val_main_v7, val_main_v16, val_main_v15, val_main_cst_2, val_main_v6, val_main_cst_3]
  all_goals pointwise [delta, total, at0, Adam.step, Adam.first, Adam.second, Fin.sum_univ_four]

/-- The reference's result 2. -/
theorem eq6 (x : S2x4x384.Idx → EReal) (p : S4x4x384.Idx → EReal) (a : S2x4x384.Idx → EReal) : val_main_v46 (F := Ideal) x p a = moment1 x p a := by
  funext i
  idx_vars i
  obtain rfl | rfl : i0 = 0 ∨ i0 = 1 := by omega
  all_goals pointwise [val_main_v46, val_main_v44, val_main_v45, val_main_v12, val_main_v43, val_main_v9, val_main_v11, val_main_v42, val_main_v8, val_main_v5, val_main_v10, val_main_v3, val_main_cst_0, val_main_v4, val_main_cst_1, val_main_v2, val_main_cst]
  all_goals pointwise [moment1, total, at0, Adam.step, Adam.first, Adam.second, Fin.sum_univ_four]

/-- The reference's result 3. -/
theorem eq7 (v : S2x4x384.Idx → EReal) (p : S4x4x384.Idx → EReal) (a : S2x4x384.Idx → EReal) : val_main_v51 (F := Ideal) v p a = moment2 v p a := by
  funext i
  idx_vars i
  obtain rfl | rfl : i0 = 0 ∨ i0 = 1 := by omega
  all_goals pointwise [val_main_v51, val_main_v49, val_main_v50, val_main_v18, val_main_v48, val_main_v14, val_main_v17, val_main_v47, val_main_v13, val_main_v7, val_main_v16, val_main_v15, val_main_cst_2, val_main_v6, val_main_cst_3, val_main_v3, val_main_v2, val_main_cst]
  all_goals pointwise [moment2, total, at0, Adam.step, Adam.first, Adam.second, Fin.sum_univ_four]

end Cert.AdamDeltaConvReferenceIdeal.Hand

namespace Cert.Proof

open Idealize.ShloMosaic Idealize.SL.Sem Cert.AdamDeltaConvIdeal.Hand Cert.AdamDeltaConvReferenceIdeal.Hand Cert.AdamDeltaConvReferenceIdeal.Read

/-- The AdamW step of dn_conv_w: the program and its reference agree on the extended reals. -/
theorem adamDeltaConv_algebraic : Cert.algebraic_AdamDeltaConvIdeal_AdamDeltaConvReferenceIdeal := by
  intro m g m' g' _ hagree
  refine ⟨fun c => grad (arg3 m c) (arg4 m c), fun c => delta (arg0 m c) (arg1 m c) (arg2 m c) (arg3 m c) (arg5 m c), fun c => moment1 (arg1 m c) (arg3 m c) (arg6 m c), fun c => moment2 (arg2 m c) (arg3 m c) (arg7 m c), ?_, ?_⟩
  · refine (θ_run _ _ _).mono (fun r h c => ?_) (Cert.AdamDeltaConvIdeal.Value.run_blocks m g)
    obtain ⟨h0, h1, h2, h3, hk⟩ := h c
    exact ⟨h0.trans (final4 m c), h1.trans (final5 m c), h2.trans (final6 m c), h3.trans (final7 m c), hk⟩
  · refine (θ_run _ _ _).mono (fun r h c => ?_) (Cert.AdamDeltaConvReferenceIdeal.Value.run m' g')
    obtain ⟨h0, h1, h2, h3, hk⟩ := h c
    obtain ⟨a0, a1, a2, a3, a4, a5, a6, a7⟩ := hagree c
    refine ⟨h0.trans ?_, h1.trans ?_, h2.trans ?_, h3.trans ?_, hk⟩
    · rw [val_main_v36_eq, eq4, a3, a4]
    · rw [val_main_v41_eq, eq5, a0, a1, a2, a3, a5]
    · rw [val_main_v46_eq, eq6, a1, a3, a6]
    · rw [val_main_v51_eq, eq7, a2, a3, a7]

/-- The reference runs to its end, keeps its arguments and uses no semaphore. -/
theorem adamDeltaConv_reference_frame : Cert.quiescent_AdamDeltaConvReferenceIdeal := fun m ρ _ =>
  (θ_run Cert.AdamDeltaConvReferenceIdeal.defs _ _).mono (fun r h => ⟨fun c => (h c).2.2.2.2, sem_eq_zero_of_no_sems (by decide) r.2⟩)
    (Cert.AdamDeltaConvReferenceIdeal.Value.run (F := Ideal) m ρ)

end Cert.Proof

end
-- ==== Proof.AdamRecurrenceConv.lean ====
/- The AdamW step of lru_conv_w of the first layer, which leaves the second layer's rows as they were given.

   Both sides sum the four chips' parts of the gradient and take the step element by element; the kernel works on one
   block of rows per grid point and its results share the given arrays' buffers. -/
module

public import proofs.«01_k».proof.Defs
public import proofs.«01_k».proof.Proof.Gen.AdamRecurrenceConvIdeal.Value
public import proofs.«01_k».proof.Proof.Gen.AdamRecurrenceConvReferenceIdeal.Run
public import proofs.«01_k».proof.Proof.Gen.AdamRecurrenceConvReferenceIdeal.Read
public import Idealize.ShloMosaic.Lib.Pipeline.ValueKit
public import Idealize.ShloMosaic.Lib.Pipeline.ReadBack
public import Idealize.ShloMosaic.Lib.Pointwise
public import proofs.«01_k».proof.Proof.AdamStep
public import Idealize.ShloMosaic.Lib.Pipeline.ValueKit.Partial
public import Idealize.ShloMosaic.Lib.StableHlo.RunRead

@[expose] public section

set_option maxRecDepth 16384

noncomputable section

namespace Cert.AdamRecurrenceConvIdeal.Hand

open Cert.AdamRecurrenceConvIdeal Cert.AdamRecurrenceConvIdeal.Gen Idealize.ShloMosaic Idealize.ShloMosaic.TcCoe Idealize.SL.Sem

/-- The first layer's element that the stacked index `i` names. -/
def at0 (i : S2x4x128.Idx) : S2x4x128.Idx := ix3 0 (i 1) (i 2)

/-- The gradient: the four chips' parts added. -/
def total (p : S4x4x128.Idx → EReal) (i : S2x4x128.Idx) : EReal := ∑ k : Fin 4, p (ix3 k (i 1) (i 2))

/-- The gradient of the first layer, the second layer's as given. -/
def grad (p : S4x4x128.Idx → EReal) (a : S2x4x128.Idx → EReal) : S2x4x128.Idx → EReal :=
  fun i => if (i 0).val = 0 then total p i else a i

/-- The weights' step. -/
def delta (w x v : S2x4x128.Idx → EReal) (p : S4x4x128.Idx → EReal) (a : S2x4x128.Idx → EReal) : S2x4x128.Idx → EReal :=
  fun i => if (i 0).val = 0 then Adam.step (w (at0 i)) (x (at0 i)) (v (at0 i)) (total p i) else a i

/-- The first moment. -/
def moment1 (x : S2x4x128.Idx → EReal) (p : S4x4x128.Idx → EReal) (a : S2x4x128.Idx → EReal) : S2x4x128.Idx → EReal :=
  fun i => if (i 0).val = 0 then Adam.first (x (at0 i)) (total p i) else a i

/-- The second moment. -/
def moment2 (v : S2x4x128.Idx → EReal) (p : S4x4x128.Idx → EReal) (a : S2x4x128.Idx → EReal) : S2x4x128.Idx → EReal :=
  fun i => if (i 0).val = 0 then Adam.second (v (at0 i)) (total p i) else a i

variable (m : (ℓ : Loc nD τ sig) → Buf (Elt Ideal) ℓ)

abbrev arg0 (c : Dev nD) : S2x4x128.Idx → EReal := m ((c : Thread nD τ).loc main_arg0)
abbrev arg1 (c : Dev nD) : S2x4x128.Idx → EReal := m ((c : Thread nD τ).loc main_arg1)
abbrev arg2 (c : Dev nD) : S2x4x128.Idx → EReal := m ((c : Thread nD τ).loc main_arg2)
abbrev arg3 (c : Dev nD) : S4x4x128.Idx → EReal := m ((c : Thread nD τ).loc main_arg3)
abbrev arg4 (c : Dev nD) : S2x4x128.Idx → EReal := m ((c : Thread nD τ).loc main_arg4)
abbrev arg5 (c : Dev nD) : S2x4x128.Idx → EReal := m ((c : Thread nD τ).loc main_arg5)
abbrev arg6 (c : Dev nD) : S2x4x128.Idx → EReal := m ((c : Thread nD τ).loc main_arg6)
abbrev arg7 (c : Dev nD) : S2x4x128.Idx → EReal := m ((c : Thread nD τ).loc main_arg7)

/-- Every window's block index at a grid point. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The row of the whole array at row `r` of point `t`'s block. -/
def row (t : ℕ) (r : Fin 4) : Fin 4 := ⟨t % 1 * 4 + r.val, by omega⟩

/-- Window 0's block. -/
theorem in0 (c : Dev nD) (t : Fin cfg0.N) (r : Fin 4) (q : Fin 128) :
    iblk m c 0 t (ix3 0 r q) = arg0 m c (at0 (ix3 (0 : Fin 2) (row t.val r) q)) := by
  have ht : t.val < 1 := t.isLt
  blk_ext! [iblk, V, at0, row, idx t]

/-- Window 1's block. -/
theorem in1 (c : Dev nD) (t : Fin cfg0.N) (r : Fin 4) (q : Fin 128) :
    iblk m c 1 t (ix3 0 r q) = arg1 m c (at0 (ix3 (0 : Fin 2) (row t.val r) q)) := by
  have ht : t.val < 1 := t.isLt
  blk_ext! [iblk, V, at0, row, idx t]

/-- Window 2's block. -/
theorem in2 (c : Dev nD) (t : Fin cfg0.N) (r : Fin 4) (q : Fin 128) :
    iblk m c 2 t (ix3 0 r q) = arg2 m c (at0 (ix3 (0 : Fin 2) (row t.val r) q)) := by
  have ht : t.val < 1 := t.isLt
  blk_ext! [iblk, V, at0, row, idx t]

/-- Window 3's block. -/
theorem in3 (c : Dev nD) (t : Fin cfg0.N) (u : Fin 4) (r : Fin 4) (q : Fin 128) :
    iblk m c 3 t (ix3 u r q) = arg3 m c (ix3 u (row t.val r) q) := by
  have ht : t.val < 1 := t.isLt
  blk_ext! [iblk, V, row, idx t]

/-- What a point leaves in window 4's block. -/
theorem point4 (c : Dev nD) (t : Fin cfg0.N) (y : S1x4x128.Idx) :
    (outsAt0 m c t).1 y = grad (arg3 m c) (arg4 m c) (ix3 (0 : Fin 2) (row t.val (y 1)) (y 2)) := by
  idx_vars y
  unfold outsAt0
  dsimp only
  frame_out
  unfold_payloads
  pointwise [grad, total, Adam.step, Adam.first, Adam.second, Fin.sum_univ_four, in0, in1, in2, in3]

/-- What a point leaves in window 5's block. -/
theorem point5 (c : Dev nD) (t : Fin cfg0.N) (y : S1x4x128.Idx) :
    (outsAt0 m c t).2.1 y = delta (arg0 m c) (arg1 m c) (arg2 m c) (arg3 m c) (arg5 m c) (ix3 (0 : Fin 2) (row t.val (y 1)) (y 2)) := by
  idx_vars y
  unfold outsAt0
  dsimp only
  frame_out
  unfold_payloads
  pointwise [delta, total, Adam.step, Adam.first, Adam.second, Fin.sum_univ_four, in0, in1, in2, in3]

/-- What a point leaves in window 6's block. -/
theorem point6 (c : Dev nD) (t : Fin cfg0.N) (y : S1x4x128.Idx) :
    (outsAt0 m c t).2.2.1 y = moment1 (arg1 m c) (arg3 m c) (arg6 m c) (ix3 (0 : Fin 2) (row t.val (y 1)) (y 2)) := by
  idx_vars y
  unfold outsAt0
  dsimp only
  frame_out
  unfold_payloads
  pointwise [moment1, total, Adam.step, Adam.first, Adam.second, Fin.sum_univ_four, in0, in1, in2, in3]

/-- What a point leaves in window 7's block. -/
theorem point7 (c : Dev nD) (t : Fin cfg0.N) (y : S1x4x128.Idx) :
    (outsAt0 m c t).2.2.2 y = moment2 (arg2 m c) (arg3 m c) (arg7 m c) (ix3 (0 : Fin 2) (row t.val (y 1)) (y 2)) := by
  idx_vars y
  unfold outsAt0
  dsimp only
  frame_out
  unfold_payloads
  pointwise [moment2, total, Adam.step, Adam.first, Adam.second, Fin.sum_univ_four, in0, in1, in2, in3]

/-- Outside the blocks that window 4 writes its array holds the argument. -/
theorem kept4 (c : Dev nD) (j : S2x4x128.Idx) (hj : ¬ (j 0).val = 0) :
    (dats m 0 c).A 4 j = grad (arg3 m c) (arg4 m c) j := by
  rw [A_eq]
  show StableHlo.after hostOps0 (fun b => m (c, b)) (Proc.devRef .tc main_v0_0) _ = _
  after_reads_simp
  unfold grad
  rw [if_neg hj]
  rfl

/-- Outside the blocks that window 5 writes its array holds the argument. -/
theorem kept5 (c : Dev nD) (j : S2x4x128.Idx) (hj : ¬ (j 0).val = 0) :
    (dats m 0 c).A 5 j = delta (arg0 m c) (arg1 m c) (arg2 m c) (arg3 m c) (arg5 m c) j := by
  rw [A_eq]
  show StableHlo.after hostOps0 (fun b => m (c, b)) (Proc.devRef .tc main_v0_1) _ = _
  after_reads_simp
  unfold delta
  rw [if_neg hj]
  rfl

/-- Outside the blocks that window 6 writes its array holds the argument. -/
theorem kept6 (c : Dev nD) (j : S2x4x128.Idx) (hj : ¬ (j 0).val = 0) :
    (dats m 0 c).A 6 j = moment1 (arg1 m c) (arg3 m c) (arg6 m c) j := by
  rw [A_eq]
  show StableHlo.after hostOps0 (fun b => m (c, b)) (Proc.devRef .tc main_v0_2) _ = _
  after_reads_simp
  unfold moment1
  rw [if_neg hj]
  rfl

/-- Outside the blocks that window 7 writes its array holds the argument. -/
theorem kept7 (c : Dev nD) (j : S2x4x128.Idx) (hj : ¬ (j 0).val = 0) :
    (dats m 0 c).A 7 j = moment2 (arg2 m c) (arg3 m c) (arg7 m c) j := by
  rw [A_eq]
  show StableHlo.after hostOps0 (fun b => m (c, b)) (Proc.devRef .tc main_v0_3) _ = _
  after_reads_simp
  unfold moment2
  rw [if_neg hj]
  rfl

/-- The result array of window 4. -/
theorem final4 (c : Dev nD) : (dats m 0 c).arrAt 4 (cfgs 0).N = grad (arg3 m c) (arg4 m c) := by
  refine (dats m 0 c).arrAt_eq_of_coversWhere_of_agree 4 _ (fun β => β (0 : Fin 3) = 0) (by decide +kernel) (fun t hf y => ?_) (fun j hj => ?_)
  · have ht : t.val < 1 := t.isLt
    blk_simp
    rw [after0_4, point4]
    blk_ext [row, idx t]
  · blk_simp [Pipeline.Window.cell_apply] at hj
    blk_simp
    exact kept4 m c j (by simpa using hj)

/-- The result array of window 5. -/
theorem final5 (c : Dev nD) : (dats m 0 c).arrAt 5 (cfgs 0).N = delta (arg0 m c) (arg1 m c) (arg2 m c) (arg3 m c) (arg5 m c) := by
  refine (dats m 0 c).arrAt_eq_of_coversWhere_of_agree 5 _ (fun β => β (0 : Fin 3) = 0) (by decide +kernel) (fun t hf y => ?_) (fun j hj => ?_)
  · have ht : t.val < 1 := t.isLt
    blk_simp
    rw [after0_5, point5]
    blk_ext [row, idx t]
  · blk_simp [Pipeline.Window.cell_apply] at hj
    blk_simp
    exact kept5 m c j (by simpa using hj)

/-- The result array of window 6. -/
theorem final6 (c : Dev nD) : (dats m 0 c).arrAt 6 (cfgs 0).N = moment1 (arg1 m c) (arg3 m c) (arg6 m c) := by
  refine (dats m 0 c).arrAt_eq_of_coversWhere_of_agree 6 _ (fun β => β (0 : Fin 3) = 0) (by decide +kernel) (fun t hf y => ?_) (fun j hj => ?_)
  · have ht : t.val < 1 := t.isLt
    blk_simp
    rw [after0_6, point6]
    blk_ext [row, idx t]
  · blk_simp [Pipeline.Window.cell_apply] at hj
    blk_simp
    exact kept6 m c j (by simpa using hj)

/-- The result array of window 7. -/
theorem final7 (c : Dev nD) : (dats m 0 c).arrAt 7 (cfgs 0).N = moment2 (arg2 m c) (arg3 m c) (arg7 m c) := by
  refine (dats m 0 c).arrAt_eq_of_coversWhere_of_agree 7 _ (fun β => β (0 : Fin 3) = 0) (by decide +kernel) (fun t hf y => ?_) (fun j hj => ?_)
  · have ht : t.val < 1 := t.isLt
    blk_simp
    rw [after0_7, point7]
    blk_ext [row, idx t]
  · blk_simp [Pipeline.Window.cell_apply] at hj
    blk_simp
    exact kept7 m c j (by simpa using hj)

end Cert.AdamRecurrenceConvIdeal.Hand

namespace Cert.AdamRecurrenceConvReferenceIdeal.Hand

open Cert.AdamRecurrenceConvReferenceIdeal Cert.AdamRecurrenceConvReferenceIdeal.Read Idealize.ShloMosaic
open Cert.AdamRecurrenceConvIdeal.Hand

/-- The reference's result 0. -/
theorem eq4 (p : S4x4x128.Idx → EReal) (a : S2x4x128.Idx → EReal) : val_main_v36 (F := Ideal) p a = grad p a := by
  funext i
  idx_vars i
  obtain rfl | rfl : i0 = 0 ∨ i0 = 1 := by omega
  all_goals pointwise [val_main_v36, val_main_v34, val_main_v35, val_main_v3, val_main_v33, val_main_v2, val_main_cst, val_main_v32]
  all_goals pointwise [grad, total, at0, Adam.step, Adam.first, Adam.second, Fin.sum_univ_four]

/-- The reference's result 1. -/
theorem eq5 (w x v : S2x4x128.Idx → EReal) (p : S4x4x128.Idx → EReal) (a : S2x4x128.Idx → EReal) : val_main_v41 (F := Ideal) w x v p a = delta w x v p a := by
  funext i
  idx_vars i
  obtain rfl | rfl : i0 = 0 ∨ i0 = 1 := by omega
  all_goals pointwise [val_main_v41, val_main_v39, val_main_v40, val_main_v31, val_main_v38, val_main_v30, val_main_v29, val_main_v37, val_main_cst_8, val_main_v26, val_main_v28, val_main_v20, val_main_v25, val_main_v27, val_main_v1, val_main_v12, val_main_v19, val_main_v23, val_main_v24, val_main_cst_7, val_main_v0, val_main_v9, val_main_v11, val_main_cst_4, val_main_v22, val_main_cst_6, val_main_v8, val_main_v5, val_main_v10, val_main_v3, val_main_v18, val_main_v21, val_main_cst_0, val_main_v4, val_main_cst_1, val_main_v2, val_main_cst, val_main_v14, val_main_v17, val_main_cst_5, val_main_v13, val_main_v7, val_main_v16, val_main_v15, val_main_cst_2, val_main_v6, val_main_cst_3]
  all_goals pointwise [delta, total, at0, Adam.step, Adam.first, Adam.second, Fin.sum_univ_four]

/-- The reference's result 2. -/
theorem eq6 (x : S2x4x128.Idx → EReal) (p : S4x4x128.Idx → EReal) (a : S2x4x128.Idx → EReal) : val_main_v46 (F := Ideal) x p a = moment1 x p a := by
  funext i
  idx_vars i
  obtain rfl | rfl : i0 = 0 ∨ i0 = 1 := by omega
  all_goals pointwise [val_main_v46, val_main_v44, val_main_v45, val_main_v12, val_main_v43, val_main_v9, val_main_v11, val_main_v42, val_main_v8, val_main_v5, val_main_v10, val_main_v3, val_main_cst_0, val_main_v4, val_main_cst_1, val_main_v2, val_main_cst]
  all_goals pointwise [moment1, total, at0, Adam.step, Adam.first, Adam.second, Fin.sum_univ_four]

/-- The reference's result 3. -/
theorem eq7 (v : S2x4x128.Idx → EReal) (p : S4x4x128.Idx → EReal) (a : S2x4x128.Idx → EReal) : val_main_v51 (F := Ideal) v p a = moment2 v p a := by
  funext i
  idx_vars i
  obtain rfl | rfl : i0 = 0 ∨ i0 = 1 := by omega
  all_goals pointwise [val_main_v51, val_main_v49, val_main_v50, val_main_v18, val_main_v48, val_main_v14, val_main_v17, val_main_v47, val_main_v13, val_main_v7, val_main_v16, val_main_v15, val_main_cst_2, val_main_v6, val_main_cst_3, val_main_v3, val_main_v2, val_main_cst]
  all_goals pointwise [moment2, total, at0, Adam.step, Adam.first, Adam.second, Fin.sum_univ_four]

end Cert.AdamRecurrenceConvReferenceIdeal.Hand

namespace Cert.Proof

open Idealize.ShloMosaic Idealize.SL.Sem Cert.AdamRecurrenceConvIdeal.Hand Cert.AdamRecurrenceConvReferenceIdeal.Hand Cert.AdamRecurrenceConvReferenceIdeal.Read

/-- The AdamW step of lru_conv_w: the program and its reference agree on the extended reals. -/
theorem adamRecurrenceConv_algebraic : Cert.algebraic_AdamRecurrenceConvIdeal_AdamRecurrenceConvReferenceIdeal := by
  intro m g m' g' _ hagree
  refine ⟨fun c => grad (arg3 m c) (arg4 m c), fun c => delta (arg0 m c) (arg1 m c) (arg2 m c) (arg3 m c) (arg5 m c), fun c => moment1 (arg1 m c) (arg3 m c) (arg6 m c), fun c => moment2 (arg2 m c) (arg3 m c) (arg7 m c), ?_, ?_⟩
  · refine (θ_run _ _ _).mono (fun r h c => ?_) (Cert.AdamRecurrenceConvIdeal.Value.run_blocks m g)
    obtain ⟨h0, h1, h2, h3, hk⟩ := h c
    exact ⟨h0.trans (final4 m c), h1.trans (final5 m c), h2.trans (final6 m c), h3.trans (final7 m c), hk⟩
  · refine (θ_run _ _ _).mono (fun r h c => ?_) (Cert.AdamRecurrenceConvReferenceIdeal.Value.run m' g')
    obtain ⟨h0, h1, h2, h3, hk⟩ := h c
    obtain ⟨a0, a1, a2, a3, a4, a5, a6, a7⟩ := hagree c
    refine ⟨h0.trans ?_, h1.trans ?_, h2.trans ?_, h3.trans ?_, hk⟩
    · rw [val_main_v36_eq, eq4, a3, a4]
    · rw [val_main_v41_eq, eq5, a0, a1, a2, a3, a5]
    · rw [val_main_v46_eq, eq6, a1, a3, a6]
    · rw [val_main_v51_eq, eq7, a2, a3, a7]

/-- The reference runs to its end, keeps its arguments and uses no semaphore. -/
theorem adamRecurrenceConv_reference_frame : Cert.quiescent_AdamRecurrenceConvReferenceIdeal := fun m ρ _ =>
  (θ_run Cert.AdamRecurrenceConvReferenceIdeal.defs _ _).mono (fun r h => ⟨fun c => (h c).2.2.2.2, sem_eq_zero_of_no_sems (by decide) r.2⟩)
    (Cert.AdamRecurrenceConvReferenceIdeal.Value.run (F := Ideal) m ρ)

end Cert.Proof

end
-- ==== Proof.AdamGlu.lean ====
/- The AdamW step of ssm_w_glu of the first layer, which leaves the second layer's rows as they were given.

   Both sides sum the four chips' parts of the gradient and take the step element by element; the kernel works on one
   block of rows per grid point and its results share the given arrays' buffers. -/
module

public import proofs.«01_k».proof.Defs
public import proofs.«01_k».proof.Proof.Gen.AdamGluIdeal.Value
public import proofs.«01_k».proof.Proof.Gen.AdamGluReferenceIdeal.Run
public import proofs.«01_k».proof.Proof.Gen.AdamGluReferenceIdeal.Read
public import Idealize.ShloMosaic.Lib.Pipeline.ValueKit
public import Idealize.ShloMosaic.Lib.Pipeline.ReadBack
public import Idealize.ShloMosaic.Lib.Pointwise
public import proofs.«01_k».proof.Proof.AdamStep
public import Idealize.ShloMosaic.Lib.Pipeline.ValueKit.Partial
public import Idealize.ShloMosaic.Lib.StableHlo.RunRead

@[expose] public section

set_option maxRecDepth 16384

noncomputable section

namespace Cert.AdamGluIdeal.Hand

open Cert.AdamGluIdeal Cert.AdamGluIdeal.Gen Idealize.ShloMosaic Idealize.ShloMosaic.TcCoe Idealize.SL.Sem

/-- The first layer's element that the stacked index `i` names. -/
def at0 (i : S2x1024x256.Idx) : S2x1024x256.Idx := ix3 0 (i 1) (i 2)

/-- The gradient: the four chips' parts added. -/
def total (p : S4x1024x256.Idx → EReal) (i : S2x1024x256.Idx) : EReal := ∑ k : Fin 4, p (ix3 k (i 1) (i 2))

/-- The gradient of the first layer, the second layer's as given. -/
def grad (p : S4x1024x256.Idx → EReal) (a : S2x1024x256.Idx → EReal) : S2x1024x256.Idx → EReal :=
  fun i => if (i 0).val = 0 then total p i else a i

/-- The weights' step. -/
def delta (w x v : S2x1024x256.Idx → EReal) (p : S4x1024x256.Idx → EReal) (a : S2x1024x256.Idx → EReal) : S2x1024x256.Idx → EReal :=
  fun i => if (i 0).val = 0 then Adam.step (w (at0 i)) (x (at0 i)) (v (at0 i)) (total p i) else a i

/-- The first moment. -/
def moment1 (x : S2x1024x256.Idx → EReal) (p : S4x1024x256.Idx → EReal) (a : S2x1024x256.Idx → EReal) : S2x1024x256.Idx → EReal :=
  fun i => if (i 0).val = 0 then Adam.first (x (at0 i)) (total p i) else a i

/-- The second moment. -/
def moment2 (v : S2x1024x256.Idx → EReal) (p : S4x1024x256.Idx → EReal) (a : S2x1024x256.Idx → EReal) : S2x1024x256.Idx → EReal :=
  fun i => if (i 0).val = 0 then Adam.second (v (at0 i)) (total p i) else a i

variable (m : (ℓ : Loc nD τ sig) → Buf (Elt Ideal) ℓ)

abbrev arg0 (c : Dev nD) : S2x1024x256.Idx → EReal := m ((c : Thread nD τ).loc main_arg0)
abbrev arg1 (c : Dev nD) : S2x1024x256.Idx → EReal := m ((c : Thread nD τ).loc main_arg1)
abbrev arg2 (c : Dev nD) : S2x1024x256.Idx → EReal := m ((c : Thread nD τ).loc main_arg2)
abbrev arg3 (c : Dev nD) : S4x1024x256.Idx → EReal := m ((c : Thread nD τ).loc main_arg3)
abbrev arg4 (c : Dev nD) : S2x1024x256.Idx → EReal := m ((c : Thread nD τ).loc main_arg4)
abbrev arg5 (c : Dev nD) : S2x1024x256.Idx → EReal := m ((c : Thread nD τ).loc main_arg5)
abbrev arg6 (c : Dev nD) : S2x1024x256.Idx → EReal := m ((c : Thread nD τ).loc main_arg6)
abbrev arg7 (c : Dev nD) : S2x1024x256.Idx → EReal := m ((c : Thread nD τ).loc main_arg7)

/-- Every window's block index at a grid point. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The row of the whole array at row `r` of point `t`'s block. -/
def row (t : ℕ) (r : Fin 1024) : Fin 1024 := ⟨t % 1 * 1024 + r.val, by omega⟩

/-- Window 0's block. -/
theorem in0 (c : Dev nD) (t : Fin cfg0.N) (r : Fin 1024) (q : Fin 256) :
    iblk m c 0 t (ix3 0 r q) = arg0 m c (at0 (ix3 (0 : Fin 2) (row t.val r) q)) := by
  have ht : t.val < 1 := t.isLt
  blk_ext! [iblk, V, at0, row, idx t]

/-- Window 1's block. -/
theorem in1 (c : Dev nD) (t : Fin cfg0.N) (r : Fin 1024) (q : Fin 256) :
    iblk m c 1 t (ix3 0 r q) = arg1 m c (at0 (ix3 (0 : Fin 2) (row t.val r) q)) := by
  have ht : t.val < 1 := t.isLt
  blk_ext! [iblk, V, at0, row, idx t]

/-- Window 2's block. -/
theorem in2 (c : Dev nD) (t : Fin cfg0.N) (r : Fin 1024) (q : Fin 256) :
    iblk m c 2 t (ix3 0 r q) = arg2 m c (at0 (ix3 (0 : Fin 2) (row t.val r) q)) := by
  have ht : t.val < 1 := t.isLt
  blk_ext! [iblk, V, at0, row, idx t]

/-- Window 3's block. -/
theorem in3 (c : Dev nD) (t : Fin cfg0.N) (u : Fin 4) (r : Fin 1024) (q : Fin 256) :
    iblk m c 3 t (ix3 u r q) = arg3 m c (ix3 u (row t.val r) q) := by
  have ht : t.val < 1 := t.isLt
  blk_ext! [iblk, V, row, idx t]

/-- What a point leaves in window 4's block. -/
theorem point4 (c : Dev nD) (t : Fin cfg0.N) (y : S1x1024x256.Idx) :
    (outsAt0 m c t).1 y = grad (arg3 m c) (arg4 m c) (ix3 (0 : Fin 2) (row t.val (y 1)) (y 2)) := by
  idx_vars y
  unfold outsAt0
  dsimp only
  frame_out
  unfold_payloads
  pointwise [grad, total, Adam.step, Adam.first, Adam.second, Fin.sum_univ_four, in0, in1, in2, in3]

/-- What a point leaves in window 5's block. -/
theorem point5 (c : Dev nD) (t : Fin cfg0.N) (y : S1x1024x256.Idx) :
    (outsAt0 m c t).2.1 y = delta (arg0 m c) (arg1 m c) (arg2 m c) (arg3 m c) (arg5 m c) (ix3 (0 : Fin 2) (row t.val (y 1)) (y 2)) := by
  idx_vars y
  unfold outsAt0
  dsimp only
  frame_out
  unfold_payloads
  pointwise [delta, total, Adam.step, Adam.first, Adam.second, Fin.sum_univ_four, in0, in1, in2, in3]

/-- What a point leaves in window 6's block. -/
theorem point6 (c : Dev nD) (t : Fin cfg0.N) (y : S1x1024x256.Idx) :
    (outsAt0 m c t).2.2.1 y = moment1 (arg1 m c) (arg3 m c) (arg6 m c) (ix3 (0 : Fin 2) (row t.val (y 1)) (y 2)) := by
  idx_vars y
  unfold outsAt0
  dsimp only
  frame_out
  unfold_payloads
  pointwise [moment1, total, Adam.step, Adam.first, Adam.second, Fin.sum_univ_four, in0, in1, in2, in3]

/-- What a point leaves in window 7's block. -/
theorem point7 (c : Dev nD) (t : Fin cfg0.N) (y : S1x1024x256.Idx) :
    (outsAt0 m c t).2.2.2 y = moment2 (arg2 m c) (arg3 m c) (arg7 m c) (ix3 (0 : Fin 2) (row t.val (y 1)) (y 2)) := by
  idx_vars y
  unfold outsAt0
  dsimp only
  frame_out
  unfold_payloads
  pointwise [moment2, total, Adam.step, Adam.first, Adam.second, Fin.sum_univ_four, in0, in1, in2, in3]

/-- Outside the blocks that window 4 writes its array holds the argument. -/
theorem kept4 (c : Dev nD) (j : S2x1024x256.Idx) (hj : ¬ (j 0).val = 0) :
    (dats m 0 c).A 4 j = grad (arg3 m c) (arg4 m c) j := by
  rw [A_eq]
  show StableHlo.after hostOps0 (fun b => m (c, b)) (Proc.devRef .tc main_v0_0) _ = _
  after_reads_simp
  unfold grad
  rw [if_neg hj]
  rfl

/-- Outside the blocks that window 5 writes its array holds the argument. -/
theorem kept5 (c : Dev nD) (j : S2x1024x256.Idx) (hj : ¬ (j 0).val = 0) :
    (dats m 0 c).A 5 j = delta (arg0 m c) (arg1 m c) (arg2 m c) (arg3 m c) (arg5 m c) j := by
  rw [A_eq]
  show StableHlo.after hostOps0 (fun b => m (c, b)) (Proc.devRef .tc main_v0_1) _ = _
  after_reads_simp
  unfold delta
  rw [if_neg hj]
  rfl

/-- Outside the blocks that window 6 writes its array holds the argument. -/
theorem kept6 (c : Dev nD) (j : S2x1024x256.Idx) (hj : ¬ (j 0).val = 0) :
    (dats m 0 c).A 6 j = moment1 (arg1 m c) (arg3 m c) (arg6 m c) j := by
  rw [A_eq]
  show StableHlo.after hostOps0 (fun b => m (c, b)) (Proc.devRef .tc main_v0_2) _ = _
  after_reads_simp
  unfold moment1
  rw [if_neg hj]
  rfl

/-- Outside the blocks that window 7 writes its array holds the argument. -/
theorem kept7 (c : Dev nD) (j : S2x1024x256.Idx) (hj : ¬ (j 0).val = 0) :
    (dats m 0 c).A 7 j = moment2 (arg2 m c) (arg3 m c) (arg7 m c) j := by
  rw [A_eq]
  show StableHlo.after hostOps0 (fun b => m (c, b)) (Proc.devRef .tc main_v0_3) _ = _
  after_reads_simp
  unfold moment2
  rw [if_neg hj]
  rfl

/-- The result array of window 4. -/
theorem final4 (c : Dev nD) : (dats m 0 c).arrAt 4 (cfgs 0).N = grad (arg3 m c) (arg4 m c) := by
  refine (dats m 0 c).arrAt_eq_of_coversWhere_of_agree 4 _ (fun β => β (0 : Fin 3) = 0) (by decide +kernel) (fun t hf y => ?_) (fun j hj => ?_)
  · have ht : t.val < 1 := t.isLt
    blk_simp
    rw [after0_4, point4]
    blk_ext [row, idx t]
  · blk_simp [Pipeline.Window.cell_apply] at hj
    blk_simp
    exact kept4 m c j (by simpa using hj)

/-- The result array of window 5. -/
theorem final5 (c : Dev nD) : (dats m 0 c).arrAt 5 (cfgs 0).N = delta (arg0 m c) (arg1 m c) (arg2 m c) (arg3 m c) (arg5 m c) := by
  refine (dats m 0 c).arrAt_eq_of_coversWhere_of_agree 5 _ (fun β => β (0 : Fin 3) = 0) (by decide +kernel) (fun t hf y => ?_) (fun j hj => ?_)
  · have ht : t.val < 1 := t.isLt
    blk_simp
    rw [after0_5, point5]
    blk_ext [row, idx t]
  · blk_simp [Pipeline.Window.cell_apply] at hj
    blk_simp
    exact kept5 m c j (by simpa using hj)

/-- The result array of window 6. -/
theorem final6 (c : Dev nD) : (dats m 0 c).arrAt 6 (cfgs 0).N = moment1 (arg1 m c) (arg3 m c) (arg6 m c) := by
  refine (dats m 0 c).arrAt_eq_of_coversWhere_of_agree 6 _ (fun β => β (0 : Fin 3) = 0) (by decide +kernel) (fun t hf y => ?_) (fun j hj => ?_)
  · have ht : t.val < 1 := t.isLt
    blk_simp
    rw [after0_6, point6]
    blk_ext [row, idx t]
  · blk_simp [Pipeline.Window.cell_apply] at hj
    blk_simp
    exact kept6 m c j (by simpa using hj)

/-- The result array of window 7. -/
theorem final7 (c : Dev nD) : (dats m 0 c).arrAt 7 (cfgs 0).N = moment2 (arg2 m c) (arg3 m c) (arg7 m c) := by
  refine (dats m 0 c).arrAt_eq_of_coversWhere_of_agree 7 _ (fun β => β (0 : Fin 3) = 0) (by decide +kernel) (fun t hf y => ?_) (fun j hj => ?_)
  · have ht : t.val < 1 := t.isLt
    blk_simp
    rw [after0_7, point7]
    blk_ext [row, idx t]
  · blk_simp [Pipeline.Window.cell_apply] at hj
    blk_simp
    exact kept7 m c j (by simpa using hj)

end Cert.AdamGluIdeal.Hand

namespace Cert.AdamGluReferenceIdeal.Hand

open Cert.AdamGluReferenceIdeal Cert.AdamGluReferenceIdeal.Read Idealize.ShloMosaic
open Cert.AdamGluIdeal.Hand

/-- The reference's result 0. -/
theorem eq4 (p : S4x1024x256.Idx → EReal) (a : S2x1024x256.Idx → EReal) : val_main_v36 (F := Ideal) p a = grad p a := by
  funext i
  idx_vars i
  obtain rfl | rfl : i0 = 0 ∨ i0 = 1 := by omega
  all_goals pointwise [val_main_v36, val_main_v34, val_main_v35, val_main_v3, val_main_v33, val_main_v2, val_main_cst, val_main_v32]
  all_goals pointwise [grad, total, at0, Adam.step, Adam.first, Adam.second, Fin.sum_univ_four]

/-- The reference's result 1. -/
theorem eq5 (w x v : S2x1024x256.Idx → EReal) (p : S4x1024x256.Idx → EReal) (a : S2x1024x256.Idx → EReal) : val_main_v41 (F := Ideal) w x v p a = delta w x v p a := by
  funext i
  idx_vars i
  obtain rfl | rfl : i0 = 0 ∨ i0 = 1 := by omega
  all_goals pointwise [val_main_v41, val_main_v39, val_main_v40, val_main_v31, val_main_v38, val_main_v30, val_main_v29, val_main_v37, val_main_cst_8, val_main_v26, val_main_v28, val_main_v20, val_main_v25, val_main_v27, val_main_v1, val_main_v12, val_main_v19, val_main_v23, val_main_v24, val_main_cst_7, val_main_v0, val_main_v9, val_main_v11, val_main_cst_4, val_main_v22, val_main_cst_6, val_main_v8, val_main_v5, val_main_v10, val_main_v3, val_main_v18, val_main_v21, val_main_cst_0, val_main_v4, val_main_cst_1, val_main_v2, val_main_cst, val_main_v14, val_main_v17, val_main_cst_5, val_main_v13, val_main_v7, val_main_v16, val_main_v15, val_main_cst_2, val_main_v6, val_main_cst_3]
  all_goals pointwise [delta, total, at0, Adam.step, Adam.first, Adam.second, Fin.sum_univ_four]

/-- The reference's result 2. -/
theorem eq6 (x : S2x1024x256.Idx → EReal) (p : S4x1024x256.Idx → EReal) (a : S2x1024x256.Idx → EReal) : val_main_v46 (F := Ideal) x p a = moment1 x p a := by
  funext i
  idx_vars i
  obtain rfl | rfl : i0 = 0 ∨ i0 = 1 := by omega
  all_goals pointwise [val_main_v46, val_main_v44, val_main_v45, val_main_v12, val_main_v43, val_main_v9, val_main_v11, val_main_v42, val_main_v8, val_main_v5, val_main_v10, val_main_v3, val_main_cst_0, val_main_v4, val_main_cst_1, val_main_v2, val_main_cst]
  all_goals pointwise [moment1, total, at0, Adam.step, Adam.first, Adam.second, Fin.sum_univ_four]

/-- The reference's result 3. -/
theorem eq7 (v : S2x1024x256.Idx → EReal) (p : S4x1024x256.Idx → EReal) (a : S2x1024x256.Idx → EReal) : val_main_v51 (F := Ideal) v p a = moment2 v p a := by
  funext i
  idx_vars i
  obtain rfl | rfl : i0 = 0 ∨ i0 = 1 := by omega
  all_goals pointwise [val_main_v51, val_main_v49, val_main_v50, val_main_v18, val_main_v48, val_main_v14, val_main_v17, val_main_v47, val_main_v13, val_main_v7, val_main_v16, val_main_v15, val_main_cst_2, val_main_v6, val_main_cst_3, val_main_v3, val_main_v2, val_main_cst]
  all_goals pointwise [moment2, total, at0, Adam.step, Adam.first, Adam.second, Fin.sum_univ_four]

end Cert.AdamGluReferenceIdeal.Hand

namespace Cert.Proof

open Idealize.ShloMosaic Idealize.SL.Sem Cert.AdamGluIdeal.Hand Cert.AdamGluReferenceIdeal.Hand Cert.AdamGluReferenceIdeal.Read

/-- The AdamW step of ssm_w_glu: the program and its reference agree on the extended reals. -/
theorem adamGlu_algebraic : Cert.algebraic_AdamGluIdeal_AdamGluReferenceIdeal := by
  intro m g m' g' _ hagree
  refine ⟨fun c => grad (arg3 m c) (arg4 m c), fun c => delta (arg0 m c) (arg1 m c) (arg2 m c) (arg3 m c) (arg5 m c), fun c => moment1 (arg1 m c) (arg3 m c) (arg6 m c), fun c => moment2 (arg2 m c) (arg3 m c) (arg7 m c), ?_, ?_⟩
  · refine (θ_run _ _ _).mono (fun r h c => ?_) (Cert.AdamGluIdeal.Value.run_blocks m g)
    obtain ⟨h0, h1, h2, h3, hk⟩ := h c
    exact ⟨h0.trans (final4 m c), h1.trans (final5 m c), h2.trans (final6 m c), h3.trans (final7 m c), hk⟩
  · refine (θ_run _ _ _).mono (fun r h c => ?_) (Cert.AdamGluReferenceIdeal.Value.run m' g')
    obtain ⟨h0, h1, h2, h3, hk⟩ := h c
    obtain ⟨a0, a1, a2, a3, a4, a5, a6, a7⟩ := hagree c
    refine ⟨h0.trans ?_, h1.trans ?_, h2.trans ?_, h3.trans ?_, hk⟩
    · rw [val_main_v36_eq, eq4, a3, a4]
    · rw [val_main_v41_eq, eq5, a0, a1, a2, a3, a5]
    · rw [val_main_v46_eq, eq6, a1, a3, a6]
    · rw [val_main_v51_eq, eq7, a2, a3, a7]

/-- The reference runs to its end, keeps its arguments and uses no semaphore. -/
theorem adamGlu_reference_frame : Cert.quiescent_AdamGluReferenceIdeal := fun m ρ _ =>
  (θ_run Cert.AdamGluReferenceIdeal.defs _ _).mono (fun r h => ⟨fun c => (h c).2.2.2.2, sem_eq_zero_of_no_sems (by decide) r.2⟩)
    (Cert.AdamGluReferenceIdeal.Value.run (F := Ideal) m ρ)

end Cert.Proof

end
-- ==== Proof.AdamMemory.lean ====
/- The AdamW step of w_kv of the first layer, which leaves the second layer's rows as they were given.

   Both sides sum the four chips' parts of the gradient and take the step element by element; the kernel works on one
   block of rows per grid point and its results share the given arrays' buffers. -/
module

public import proofs.«01_k».proof.Defs
public import proofs.«01_k».proof.Proof.Gen.AdamMemoryIdeal.Value
public import proofs.«01_k».proof.Proof.Gen.AdamMemoryReferenceIdeal.Run
public import proofs.«01_k».proof.Proof.Gen.AdamMemoryReferenceIdeal.Read
public import Idealize.ShloMosaic.Lib.Pipeline.ValueKit
public import Idealize.ShloMosaic.Lib.Pipeline.ReadBack
public import Idealize.ShloMosaic.Lib.Pointwise
public import proofs.«01_k».proof.Proof.AdamStep
public import Idealize.ShloMosaic.Lib.Pipeline.ValueKit.Partial
public import Idealize.ShloMosaic.Lib.StableHlo.RunRead

@[expose] public section

set_option maxRecDepth 16384

noncomputable section

namespace Cert.AdamMemoryIdeal.Hand

open Cert.AdamMemoryIdeal Cert.AdamMemoryIdeal.Gen Idealize.ShloMosaic Idealize.ShloMosaic.TcCoe Idealize.SL.Sem

/-- The first layer's element that the stacked index `i` names. -/
def at0 (i : S2x512x2048.Idx) : S2x512x2048.Idx := ix3 0 (i 1) (i 2)

/-- The gradient: the four chips' parts added. -/
def total (p : S4x512x2048.Idx → EReal) (i : S2x512x2048.Idx) : EReal := ∑ k : Fin 4, p (ix3 k (i 1) (i 2))

/-- The gradient of the first layer, the second layer's as given. -/
def grad (p : S4x512x2048.Idx → EReal) (a : S2x512x2048.Idx → EReal) : S2x512x2048.Idx → EReal :=
  fun i => if (i 0).val = 0 then total p i else a i

/-- The weights' step. -/
def delta (w x v : S2x512x2048.Idx → EReal) (p : S4x512x2048.Idx → EReal) (a : S2x512x2048.Idx → EReal) : S2x512x2048.Idx → EReal :=
  fun i => if (i 0).val = 0 then Adam.step (w (at0 i)) (x (at0 i)) (v (at0 i)) (total p i) else a i

/-- The first moment. -/
def moment1 (x : S2x512x2048.Idx → EReal) (p : S4x512x2048.Idx → EReal) (a : S2x512x2048.Idx → EReal) : S2x512x2048.Idx → EReal :=
  fun i => if (i 0).val = 0 then Adam.first (x (at0 i)) (total p i) else a i

/-- The second moment. -/
def moment2 (v : S2x512x2048.Idx → EReal) (p : S4x512x2048.Idx → EReal) (a : S2x512x2048.Idx → EReal) : S2x512x2048.Idx → EReal :=
  fun i => if (i 0).val = 0 then Adam.second (v (at0 i)) (total p i) else a i

variable (m : (ℓ : Loc nD τ sig) → Buf (Elt Ideal) ℓ)

abbrev arg0 (c : Dev nD) : S2x512x2048.Idx → EReal := m ((c : Thread nD τ).loc main_arg0)
abbrev arg1 (c : Dev nD) : S2x512x2048.Idx → EReal := m ((c : Thread nD τ).loc main_arg1)
abbrev arg2 (c : Dev nD) : S2x512x2048.Idx → EReal := m ((c : Thread nD τ).loc main_arg2)
abbrev arg3 (c : Dev nD) : S4x512x2048.Idx → EReal := m ((c : Thread nD τ).loc main_arg3)
abbrev arg4 (c : Dev nD) : S2x512x2048.Idx → EReal := m ((c : Thread nD τ).loc main_arg4)
abbrev arg5 (c : Dev nD) : S2x512x2048.Idx → EReal := m ((c : Thread nD τ).loc main_arg5)
abbrev arg6 (c : Dev nD) : S2x512x2048.Idx → EReal := m ((c : Thread nD τ).loc main_arg6)
abbrev arg7 (c : Dev nD) : S2x512x2048.Idx → EReal := m ((c : Thread nD τ).loc main_arg7)

/-- Every window's block index at a grid point. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The row of the whole array at row `r` of point `t`'s block. -/
def row (t : ℕ) (r : Fin 128) : Fin 512 := ⟨t % 4 * 128 + r.val, by omega⟩

/-- Window 0's block. -/
theorem in0 (c : Dev nD) (t : Fin cfg0.N) (r : Fin 128) (q : Fin 2048) :
    iblk m c 0 t (ix3 0 r q) = arg0 m c (at0 (ix3 (0 : Fin 2) (row t.val r) q)) := by
  have ht : t.val < 4 := t.isLt
  blk_ext! [iblk, V, at0, row, idx t]

/-- Window 1's block. -/
theorem in1 (c : Dev nD) (t : Fin cfg0.N) (r : Fin 128) (q : Fin 2048) :
    iblk m c 1 t (ix3 0 r q) = arg1 m c (at0 (ix3 (0 : Fin 2) (row t.val r) q)) := by
  have ht : t.val < 4 := t.isLt
  blk_ext! [iblk, V, at0, row, idx t]

/-- Window 2's block. -/
theorem in2 (c : Dev nD) (t : Fin cfg0.N) (r : Fin 128) (q : Fin 2048) :
    iblk m c 2 t (ix3 0 r q) = arg2 m c (at0 (ix3 (0 : Fin 2) (row t.val r) q)) := by
  have ht : t.val < 4 := t.isLt
  blk_ext! [iblk, V, at0, row, idx t]

/-- Window 3's block. -/
theorem in3 (c : Dev nD) (t : Fin cfg0.N) (u : Fin 4) (r : Fin 128) (q : Fin 2048) :
    iblk m c 3 t (ix3 u r q) = arg3 m c (ix3 u (row t.val r) q) := by
  have ht : t.val < 4 := t.isLt
  blk_ext! [iblk, V, row, idx t]

/-- What a point leaves in window 4's block. -/
theorem point4 (c : Dev nD) (t : Fin cfg0.N) (y : S1x128x2048.Idx) :
    (outsAt0 m c t).1 y = grad (arg3 m c) (arg4 m c) (ix3 (0 : Fin 2) (row t.val (y 1)) (y 2)) := by
  idx_vars y
  unfold outsAt0
  dsimp only
  frame_out
  unfold_payloads
  pointwise [grad, total, Adam.step, Adam.first, Adam.second, Fin.sum_univ_four, in0, in1, in2, in3]

/-- What a point leaves in window 5's block. -/
theorem point5 (c : Dev nD) (t : Fin cfg0.N) (y : S1x128x2048.Idx) :
    (outsAt0 m c t).2.1 y = delta (arg0 m c) (arg1 m c) (arg2 m c) (arg3 m c) (arg5 m c) (ix3 (0 : Fin 2) (row t.val (y 1)) (y 2)) := by
  idx_vars y
  unfold outsAt0
  dsimp only
  frame_out
  unfold_payloads
  pointwise [delta, total, Adam.step, Adam.first, Adam.second, Fin.sum_univ_four, in0, in1, in2, in3]

/-- What a point leaves in window 6's block. -/
theorem point6 (c : Dev nD) (t : Fin cfg0.N) (y : S1x128x2048.Idx) :
    (outsAt0 m c t).2.2.1 y = moment1 (arg1 m c) (arg3 m c) (arg6 m c) (ix3 (0 : Fin 2) (row t.val (y 1)) (y 2)) := by
  idx_vars y
  unfold outsAt0
  dsimp only
  frame_out
  unfold_payloads
  pointwise [moment1, total, Adam.step, Adam.first, Adam.second, Fin.sum_univ_four, in0, in1, in2, in3]

/-- What a point leaves in window 7's block. -/
theorem point7 (c : Dev nD) (t : Fin cfg0.N) (y : S1x128x2048.Idx) :
    (outsAt0 m c t).2.2.2 y = moment2 (arg2 m c) (arg3 m c) (arg7 m c) (ix3 (0 : Fin 2) (row t.val (y 1)) (y 2)) := by
  idx_vars y
  unfold outsAt0
  dsimp only
  frame_out
  unfold_payloads
  pointwise [moment2, total, Adam.step, Adam.first, Adam.second, Fin.sum_univ_four, in0, in1, in2, in3]

/-- Outside the blocks that window 4 writes its array holds the argument. -/
theorem kept4 (c : Dev nD) (j : S2x512x2048.Idx) (hj : ¬ (j 0).val = 0) :
    (dats m 0 c).A 4 j = grad (arg3 m c) (arg4 m c) j := by
  rw [A_eq]
  show StableHlo.after hostOps0 (fun b => m (c, b)) (Proc.devRef .tc main_v0_0) _ = _
  after_reads_simp
  unfold grad
  rw [if_neg hj]
  rfl

/-- Outside the blocks that window 5 writes its array holds the argument. -/
theorem kept5 (c : Dev nD) (j : S2x512x2048.Idx) (hj : ¬ (j 0).val = 0) :
    (dats m 0 c).A 5 j = delta (arg0 m c) (arg1 m c) (arg2 m c) (arg3 m c) (arg5 m c) j := by
  rw [A_eq]
  show StableHlo.after hostOps0 (fun b => m (c, b)) (Proc.devRef .tc main_v0_1) _ = _
  after_reads_simp
  unfold delta
  rw [if_neg hj]
  rfl

/-- Outside the blocks that window 6 writes its array holds the argument. -/
theorem kept6 (c : Dev nD) (j : S2x512x2048.Idx) (hj : ¬ (j 0).val = 0) :
    (dats m 0 c).A 6 j = moment1 (arg1 m c) (arg3 m c) (arg6 m c) j := by
  rw [A_eq]
  show StableHlo.after hostOps0 (fun b => m (c, b)) (Proc.devRef .tc main_v0_2) _ = _
  after_reads_simp
  unfold moment1
  rw [if_neg hj]
  rfl

/-- Outside the blocks that window 7 writes its array holds the argument. -/
theorem kept7 (c : Dev nD) (j : S2x512x2048.Idx) (hj : ¬ (j 0).val = 0) :
    (dats m 0 c).A 7 j = moment2 (arg2 m c) (arg3 m c) (arg7 m c) j := by
  rw [A_eq]
  show StableHlo.after hostOps0 (fun b => m (c, b)) (Proc.devRef .tc main_v0_3) _ = _
  after_reads_simp
  unfold moment2
  rw [if_neg hj]
  rfl

/-- The result array of window 4. -/
theorem final4 (c : Dev nD) : (dats m 0 c).arrAt 4 (cfgs 0).N = grad (arg3 m c) (arg4 m c) := by
  refine (dats m 0 c).arrAt_eq_of_coversWhere_of_agree 4 _ (fun β => β (0 : Fin 3) = 0) (by decide +kernel) (fun t hf y => ?_) (fun j hj => ?_)
  · have ht : t.val < 4 := t.isLt
    blk_simp
    rw [after0_4, point4]
    blk_ext [row, idx t]
  · blk_simp [Pipeline.Window.cell_apply] at hj
    blk_simp
    exact kept4 m c j (by simpa using hj)

/-- The result array of window 5. -/
theorem final5 (c : Dev nD) : (dats m 0 c).arrAt 5 (cfgs 0).N = delta (arg0 m c) (arg1 m c) (arg2 m c) (arg3 m c) (arg5 m c) := by
  refine (dats m 0 c).arrAt_eq_of_coversWhere_of_agree 5 _ (fun β => β (0 : Fin 3) = 0) (by decide +kernel) (fun t hf y => ?_) (fun j hj => ?_)
  · have ht : t.val < 4 := t.isLt
    blk_simp
    rw [after0_5, point5]
    blk_ext [row, idx t]
  · blk_simp [Pipeline.Window.cell_apply] at hj
    blk_simp
    exact kept5 m c j (by simpa using hj)

/-- The result array of window 6. -/
theorem final6 (c : Dev nD) : (dats m 0 c).arrAt 6 (cfgs 0).N = moment1 (arg1 m c) (arg3 m c) (arg6 m c) := by
  refine (dats m 0 c).arrAt_eq_of_coversWhere_of_agree 6 _ (fun β => β (0 : Fin 3) = 0) (by decide +kernel) (fun t hf y => ?_) (fun j hj => ?_)
  · have ht : t.val < 4 := t.isLt
    blk_simp
    rw [after0_6, point6]
    blk_ext [row, idx t]
  · blk_simp [Pipeline.Window.cell_apply] at hj
    blk_simp
    exact kept6 m c j (by simpa using hj)

/-- The result array of window 7. -/
theorem final7 (c : Dev nD) : (dats m 0 c).arrAt 7 (cfgs 0).N = moment2 (arg2 m c) (arg3 m c) (arg7 m c) := by
  refine (dats m 0 c).arrAt_eq_of_coversWhere_of_agree 7 _ (fun β => β (0 : Fin 3) = 0) (by decide +kernel) (fun t hf y => ?_) (fun j hj => ?_)
  · have ht : t.val < 4 := t.isLt
    blk_simp
    rw [after0_7, point7]
    blk_ext [row, idx t]
  · blk_simp [Pipeline.Window.cell_apply] at hj
    blk_simp
    exact kept7 m c j (by simpa using hj)

end Cert.AdamMemoryIdeal.Hand

namespace Cert.AdamMemoryReferenceIdeal.Hand

open Cert.AdamMemoryReferenceIdeal Cert.AdamMemoryReferenceIdeal.Read Idealize.ShloMosaic
open Cert.AdamMemoryIdeal.Hand

/-- The reference's result 0. -/
theorem eq4 (p : S4x512x2048.Idx → EReal) (a : S2x512x2048.Idx → EReal) : val_main_v36 (F := Ideal) p a = grad p a := by
  funext i
  idx_vars i
  obtain rfl | rfl : i0 = 0 ∨ i0 = 1 := by omega
  all_goals pointwise [val_main_v36, val_main_v34, val_main_v35, val_main_v3, val_main_v33, val_main_v2, val_main_cst, val_main_v32]
  all_goals pointwise [grad, total, at0, Adam.step, Adam.first, Adam.second, Fin.sum_univ_four]

/-- The reference's result 1. -/
theorem eq5 (w x v : S2x512x2048.Idx → EReal) (p : S4x512x2048.Idx → EReal) (a : S2x512x2048.Idx → EReal) : val_main_v41 (F := Ideal) w x v p a = delta w x v p a := by
  funext i
  idx_vars i
  obtain rfl | rfl : i0 = 0 ∨ i0 = 1 := by omega
  all_goals pointwise [val_main_v41, val_main_v39, val_main_v40, val_main_v31, val_main_v38, val_main_v30, val_main_v29, val_main_v37, val_main_cst_8, val_main_v26, val_main_v28, val_main_v20, val_main_v25, val_main_v27, val_main_v1, val_main_v12, val_main_v19, val_main_v23, val_main_v24, val_main_cst_7, val_main_v0, val_main_v9, val_main_v11, val_main_cst_4, val_main_v22, val_main_cst_6, val_main_v8, val_main_v5, val_main_v10, val_main_v3, val_main_v18, val_main_v21, val_main_cst_0, val_main_v4, val_main_cst_1, val_main_v2, val_main_cst, val_main_v14, val_main_v17, val_main_cst_5, val_main_v13, val_main_v7, val_main_v16, val_main_v15, val_main_cst_2, val_main_v6, val_main_cst_3]
  all_goals pointwise [delta, total, at0, Adam.step, Adam.first, Adam.second, Fin.sum_univ_four]

/-- The reference's result 2. -/
theorem eq6 (x : S2x512x2048.Idx → EReal) (p : S4x512x2048.Idx → EReal) (a : S2x512x2048.Idx → EReal) : val_main_v46 (F := Ideal) x p a = moment1 x p a := by
  funext i
  idx_vars i
  obtain rfl | rfl : i0 = 0 ∨ i0 = 1 := by omega
  all_goals pointwise [val_main_v46, val_main_v44, val_main_v45, val_main_v12, val_main_v43, val_main_v9, val_main_v11, val_main_v42, val_main_v8, val_main_v5, val_main_v10, val_main_v3, val_main_cst_0, val_main_v4, val_main_cst_1, val_main_v2, val_main_cst]
  all_goals pointwise [moment1, total, at0, Adam.step, Adam.first, Adam.second, Fin.sum_univ_four]

/-- The reference's result 3. -/
theorem eq7 (v : S2x512x2048.Idx → EReal) (p : S4x512x2048.Idx → EReal) (a : S2x512x2048.Idx → EReal) : val_main_v51 (F := Ideal) v p a = moment2 v p a := by
  funext i
  idx_vars i
  obtain rfl | rfl : i0 = 0 ∨ i0 = 1 := by omega
  all_goals pointwise [val_main_v51, val_main_v49, val_main_v50, val_main_v18, val_main_v48, val_main_v14, val_main_v17, val_main_v47, val_main_v13, val_main_v7, val_main_v16, val_main_v15, val_main_cst_2, val_main_v6, val_main_cst_3, val_main_v3, val_main_v2, val_main_cst]
  all_goals pointwise [moment2, total, at0, Adam.step, Adam.first, Adam.second, Fin.sum_univ_four]

end Cert.AdamMemoryReferenceIdeal.Hand

namespace Cert.Proof

open Idealize.ShloMosaic Idealize.SL.Sem Cert.AdamMemoryIdeal.Hand Cert.AdamMemoryReferenceIdeal.Hand Cert.AdamMemoryReferenceIdeal.Read

/-- The AdamW step of w_kv: the program and its reference agree on the extended reals. -/
theorem adamMemory_algebraic : Cert.algebraic_AdamMemoryIdeal_AdamMemoryReferenceIdeal := by
  intro m g m' g' _ hagree
  refine ⟨fun c => grad (arg3 m c) (arg4 m c), fun c => delta (arg0 m c) (arg1 m c) (arg2 m c) (arg3 m c) (arg5 m c), fun c => moment1 (arg1 m c) (arg3 m c) (arg6 m c), fun c => moment2 (arg2 m c) (arg3 m c) (arg7 m c), ?_, ?_⟩
  · refine (θ_run _ _ _).mono (fun r h c => ?_) (Cert.AdamMemoryIdeal.Value.run_blocks m g)
    obtain ⟨h0, h1, h2, h3, hk⟩ := h c
    exact ⟨h0.trans (final4 m c), h1.trans (final5 m c), h2.trans (final6 m c), h3.trans (final7 m c), hk⟩
  · refine (θ_run _ _ _).mono (fun r h c => ?_) (Cert.AdamMemoryReferenceIdeal.Value.run m' g')
    obtain ⟨h0, h1, h2, h3, hk⟩ := h c
    obtain ⟨a0, a1, a2, a3, a4, a5, a6, a7⟩ := hagree c
    refine ⟨h0.trans ?_, h1.trans ?_, h2.trans ?_, h3.trans ?_, hk⟩
    · rw [val_main_v36_eq, eq4, a3, a4]
    · rw [val_main_v41_eq, eq5, a0, a1, a2, a3, a5]
    · rw [val_main_v46_eq, eq6, a1, a3, a6]
    · rw [val_main_v51_eq, eq7, a2, a3, a7]

/-- The reference runs to its end, keeps its arguments and uses no semaphore. -/
theorem adamMemory_reference_frame : Cert.quiescent_AdamMemoryReferenceIdeal := fun m ρ _ =>
  (θ_run Cert.AdamMemoryReferenceIdeal.defs _ _).mono (fun r h => ⟨fun c => (h c).2.2.2.2, sem_eq_zero_of_no_sems (by decide) r.2⟩)
    (Cert.AdamMemoryReferenceIdeal.Value.run (F := Ideal) m ρ)

end Cert.Proof

end
-- ==== Proof.AdamGate.lean ====
/- The AdamW step of w_gate of the first layer, which leaves the second layer's rows as they were given.

   Both sides sum the four chips' parts of the gradient and take the step element by element; the kernel works on one
   block of rows per grid point and its results share the given arrays' buffers. -/
module

public import proofs.«01_k».proof.Defs
public import proofs.«01_k».proof.Proof.Gen.AdamGateIdeal.Value
public import proofs.«01_k».proof.Proof.Gen.AdamGateReferenceIdeal.Run
public import proofs.«01_k».proof.Proof.Gen.AdamGateReferenceIdeal.Read
public import Idealize.ShloMosaic.Lib.Pipeline.ValueKit
public import Idealize.ShloMosaic.Lib.Pipeline.ReadBack
public import Idealize.ShloMosaic.Lib.Pointwise
public import proofs.«01_k».proof.Proof.AdamStep
public import Idealize.ShloMosaic.Lib.Pipeline.ValueKit.Partial
public import Idealize.ShloMosaic.Lib.StableHlo.RunRead

@[expose] public section

set_option maxRecDepth 16384

noncomputable section

namespace Cert.AdamGateIdeal.Hand

open Cert.AdamGateIdeal Cert.AdamGateIdeal.Gen Idealize.ShloMosaic Idealize.ShloMosaic.TcCoe Idealize.SL.Sem

/-- The first layer's element that the stacked index `i` names. -/
def at0 (i : S2x1024x512.Idx) : S2x4x256x512.Idx :=
  have hi : (i 1).val < 1024 := (i 1).isLt
  ix4 0 ⟨(i 1).val / 256, by omega⟩ ⟨(i 1).val % 256, by omega⟩ (i 2)

/-- The gradient: the four chips' parts added. -/
def total (p : S4x1024x512.Idx → EReal) (i : S2x1024x512.Idx) : EReal := ∑ k : Fin 4, p (ix3 k (i 1) (i 2))

/-- The gradient of the first layer, the second layer's as given. -/
def grad (p : S4x1024x512.Idx → EReal) (a : S2x1024x512.Idx → EReal) : S2x1024x512.Idx → EReal :=
  fun i => if (i 0).val = 0 then total p i else a i

/-- The weights' step. -/
def delta (w x v : S2x4x256x512.Idx → EReal) (p : S4x1024x512.Idx → EReal) (a : S2x1024x512.Idx → EReal) : S2x1024x512.Idx → EReal :=
  fun i => if (i 0).val = 0 then Adam.step (w (at0 i)) (x (at0 i)) (v (at0 i)) (total p i) else a i

/-- The first moment. -/
def moment1 (x : S2x4x256x512.Idx → EReal) (p : S4x1024x512.Idx → EReal) (a : S2x1024x512.Idx → EReal) : S2x1024x512.Idx → EReal :=
  fun i => if (i 0).val = 0 then Adam.first (x (at0 i)) (total p i) else a i

/-- The second moment. -/
def moment2 (v : S2x4x256x512.Idx → EReal) (p : S4x1024x512.Idx → EReal) (a : S2x1024x512.Idx → EReal) : S2x1024x512.Idx → EReal :=
  fun i => if (i 0).val = 0 then Adam.second (v (at0 i)) (total p i) else a i

variable (m : (ℓ : Loc nD τ sig) → Buf (Elt Ideal) ℓ)

abbrev arg0 (c : Dev nD) : S2x4x256x512.Idx → EReal := m ((c : Thread nD τ).loc main_arg0)
abbrev arg1 (c : Dev nD) : S2x4x256x512.Idx → EReal := m ((c : Thread nD τ).loc main_arg1)
abbrev arg2 (c : Dev nD) : S2x4x256x512.Idx → EReal := m ((c : Thread nD τ).loc main_arg2)
abbrev arg3 (c : Dev nD) : S4x1024x512.Idx → EReal := m ((c : Thread nD τ).loc main_arg3)
abbrev arg4 (c : Dev nD) : S2x1024x512.Idx → EReal := m ((c : Thread nD τ).loc main_arg4)
abbrev arg5 (c : Dev nD) : S2x1024x512.Idx → EReal := m ((c : Thread nD τ).loc main_arg5)
abbrev arg6 (c : Dev nD) : S2x1024x512.Idx → EReal := m ((c : Thread nD τ).loc main_arg6)
abbrev arg7 (c : Dev nD) : S2x1024x512.Idx → EReal := m ((c : Thread nD τ).loc main_arg7)

/-- Every window's block index at a grid point. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The row of the whole array at row `r` of point `t`'s block. -/
def row (t : ℕ) (r : Fin 512) : Fin 1024 := ⟨t % 2 * 512 + r.val, by omega⟩

/-- Window 0's block. -/
theorem in0 (c : Dev nD) (t : Fin cfg0.N) (r : Fin 512) (q : Fin 512) :
    iblk m c 0 t (ix3 0 r q) = arg0 m c (at0 (ix3 (0 : Fin 2) (row t.val r) q)) := by
  have ht : t.val < 2 := t.isLt
  blk_ext! [iblk, V, at0, row, idx t]

/-- Window 1's block. -/
theorem in1 (c : Dev nD) (t : Fin cfg0.N) (r : Fin 512) (q : Fin 512) :
    iblk m c 1 t (ix3 0 r q) = arg1 m c (at0 (ix3 (0 : Fin 2) (row t.val r) q)) := by
  have ht : t.val < 2 := t.isLt
  blk_ext! [iblk, V, at0, row, idx t]

/-- Window 2's block. -/
theorem in2 (c : Dev nD) (t : Fin cfg0.N) (r : Fin 512) (q : Fin 512) :
    iblk m c 2 t (ix3 0 r q) = arg2 m c (at0 (ix3 (0 : Fin 2) (row t.val r) q)) := by
  have ht : t.val < 2 := t.isLt
  blk_ext! [iblk, V, at0, row, idx t]

/-- Window 3's block. -/
theorem in3 (c : Dev nD) (t : Fin cfg0.N) (u : Fin 4) (r : Fin 512) (q : Fin 512) :
    iblk m c 3 t (ix3 u r q) = arg3 m c (ix3 u (row t.val r) q) := by
  have ht : t.val < 2 := t.isLt
  blk_ext! [iblk, V, row, idx t]

/-- What a point leaves in window 4's block. -/
theorem point4 (c : Dev nD) (t : Fin cfg0.N) (y : S1x512x512.Idx) :
    (outsAt0 m c t).1 y = grad (arg3 m c) (arg4 m c) (ix3 (0 : Fin 2) (row t.val (y 1)) (y 2)) := by
  idx_vars y
  unfold outsAt0
  dsimp only
  frame_out
  unfold_payloads
  pointwise [grad, total, Adam.step, Adam.first, Adam.second, Fin.sum_univ_four, in0, in1, in2, in3]

/-- What a point leaves in window 5's block. -/
theorem point5 (c : Dev nD) (t : Fin cfg0.N) (y : S1x512x512.Idx) :
    (outsAt0 m c t).2.1 y = delta (arg0 m c) (arg1 m c) (arg2 m c) (arg3 m c) (arg5 m c) (ix3 (0 : Fin 2) (row t.val (y 1)) (y 2)) := by
  idx_vars y
  unfold outsAt0
  dsimp only
  frame_out
  unfold_payloads
  pointwise [delta, total, Adam.step, Adam.first, Adam.second, Fin.sum_univ_four, in0, in1, in2, in3]

/-- What a point leaves in window 6's block. -/
theorem point6 (c : Dev nD) (t : Fin cfg0.N) (y : S1x512x512.Idx) :
    (outsAt0 m c t).2.2.1 y = moment1 (arg1 m c) (arg3 m c) (arg6 m c) (ix3 (0 : Fin 2) (row t.val (y 1)) (y 2)) := by
  idx_vars y
  unfold outsAt0
  dsimp only
  frame_out
  unfold_payloads
  pointwise [moment1, total, Adam.step, Adam.first, Adam.second, Fin.sum_univ_four, in0, in1, in2, in3]

/-- What a point leaves in window 7's block. -/
theorem point7 (c : Dev nD) (t : Fin cfg0.N) (y : S1x512x512.Idx) :
    (outsAt0 m c t).2.2.2 y = moment2 (arg2 m c) (arg3 m c) (arg7 m c) (ix3 (0 : Fin 2) (row t.val (y 1)) (y 2)) := by
  idx_vars y
  unfold outsAt0
  dsimp only
  frame_out
  unfold_payloads
  pointwise [moment2, total, Adam.step, Adam.first, Adam.second, Fin.sum_univ_four, in0, in1, in2, in3]

/-- Outside the blocks that window 4 writes its array holds the argument. -/
theorem kept4 (c : Dev nD) (j : S2x1024x512.Idx) (hj : ¬ (j 0).val = 0) :
    (dats m 0 c).A 4 j = grad (arg3 m c) (arg4 m c) j := by
  rw [A_eq]
  show StableHlo.after hostOps0 (fun b => m (c, b)) (Proc.devRef .tc main_v3_0) _ = _
  after_reads_simp
  unfold grad
  rw [if_neg hj]
  rfl

/-- Outside the blocks that window 5 writes its array holds the argument. -/
theorem kept5 (c : Dev nD) (j : S2x1024x512.Idx) (hj : ¬ (j 0).val = 0) :
    (dats m 0 c).A 5 j = delta (arg0 m c) (arg1 m c) (arg2 m c) (arg3 m c) (arg5 m c) j := by
  rw [A_eq]
  show StableHlo.after hostOps0 (fun b => m (c, b)) (Proc.devRef .tc main_v3_1) _ = _
  after_reads_simp
  unfold delta
  rw [if_neg hj]
  rfl

/-- Outside the blocks that window 6 writes its array holds the argument. -/
theorem kept6 (c : Dev nD) (j : S2x1024x512.Idx) (hj : ¬ (j 0).val = 0) :
    (dats m 0 c).A 6 j = moment1 (arg1 m c) (arg3 m c) (arg6 m c) j := by
  rw [A_eq]
  show StableHlo.after hostOps0 (fun b => m (c, b)) (Proc.devRef .tc main_v3_2) _ = _
  after_reads_simp
  unfold moment1
  rw [if_neg hj]
  rfl

/-- Outside the blocks that window 7 writes its array holds the argument. -/
theorem kept7 (c : Dev nD) (j : S2x1024x512.Idx) (hj : ¬ (j 0).val = 0) :
    (dats m 0 c).A 7 j = moment2 (arg2 m c) (arg3 m c) (arg7 m c) j := by
  rw [A_eq]
  show StableHlo.after hostOps0 (fun b => m (c, b)) (Proc.devRef .tc main_v3_3) _ = _
  after_reads_simp
  unfold moment2
  rw [if_neg hj]
  rfl

/-- The result array of window 4. -/
theorem final4 (c : Dev nD) : (dats m 0 c).arrAt 4 (cfgs 0).N = grad (arg3 m c) (arg4 m c) := by
  refine (dats m 0 c).arrAt_eq_of_coversWhere_of_agree 4 _ (fun β => β (0 : Fin 3) = 0) (by decide +kernel) (fun t hf y => ?_) (fun j hj => ?_)
  · have ht : t.val < 2 := t.isLt
    blk_simp
    rw [after0_4, point4]
    blk_ext [row, idx t]
  · blk_simp [Pipeline.Window.cell_apply] at hj
    blk_simp
    exact kept4 m c j (by simpa using hj)

/-- The result array of window 5. -/
theorem final5 (c : Dev nD) : (dats m 0 c).arrAt 5 (cfgs 0).N = delta (arg0 m c) (arg1 m c) (arg2 m c) (arg3 m c) (arg5 m c) := by
  refine (dats m 0 c).arrAt_eq_of_coversWhere_of_agree 5 _ (fun β => β (0 : Fin 3) = 0) (by decide +kernel) (fun t hf y => ?_) (fun j hj => ?_)
  · have ht : t.val < 2 := t.isLt
    blk_simp
    rw [after0_5, point5]
    blk_ext [row, idx t]
  · blk_simp [Pipeline.Window.cell_apply] at hj
    blk_simp
    exact kept5 m c j (by simpa using hj)

/-- The result array of window 6. -/
theorem final6 (c : Dev nD) : (dats m 0 c).arrAt 6 (cfgs 0).N = moment1 (arg1 m c) (arg3 m c) (arg6 m c) := by
  refine (dats m 0 c).arrAt_eq_of_coversWhere_of_agree 6 _ (fun β => β (0 : Fin 3) = 0) (by decide +kernel) (fun t hf y => ?_) (fun j hj => ?_)
  · have ht : t.val < 2 := t.isLt
    blk_simp
    rw [after0_6, point6]
    blk_ext [row, idx t]
  · blk_simp [Pipeline.Window.cell_apply] at hj
    blk_simp
    exact kept6 m c j (by simpa using hj)

/-- The result array of window 7. -/
theorem final7 (c : Dev nD) : (dats m 0 c).arrAt 7 (cfgs 0).N = moment2 (arg2 m c) (arg3 m c) (arg7 m c) := by
  refine (dats m 0 c).arrAt_eq_of_coversWhere_of_agree 7 _ (fun β => β (0 : Fin 3) = 0) (by decide +kernel) (fun t hf y => ?_) (fun j hj => ?_)
  · have ht : t.val < 2 := t.isLt
    blk_simp
    rw [after0_7, point7]
    blk_ext [row, idx t]
  · blk_simp [Pipeline.Window.cell_apply] at hj
    blk_simp
    exact kept7 m c j (by simpa using hj)

end Cert.AdamGateIdeal.Hand

namespace Cert.AdamGateReferenceIdeal.Hand

open Cert.AdamGateReferenceIdeal Cert.AdamGateReferenceIdeal.Read Idealize.ShloMosaic
open Cert.AdamGateIdeal.Hand

/-- The reference's result 0. -/
theorem eq4 (p : S4x1024x512.Idx → EReal) (a : S2x1024x512.Idx → EReal) : val_main_v39 (F := Ideal) p a = grad p a := by
  funext i
  idx_vars i
  obtain rfl | rfl : i0 = 0 ∨ i0 = 1 := by omega
  all_goals pointwise [val_main_v39, val_main_v37, val_main_v38, val_main_v4, val_main_v36, val_main_v3, val_main_cst, val_main_v35]
  all_goals pointwise [grad, total, at0, Adam.step, Adam.first, Adam.second, Fin.sum_univ_four]

/-- The reference's result 1. -/
theorem eq5 (w x v : S2x4x256x512.Idx → EReal) (p : S4x1024x512.Idx → EReal) (a : S2x1024x512.Idx → EReal) : val_main_v44 (F := Ideal) w x v p a = delta w x v p a := by
  funext i
  idx_vars i
  obtain rfl | rfl : i0 = 0 ∨ i0 = 1 := by omega
  all_goals pointwise [val_main_v44, val_main_v42, val_main_v43, val_main_v34, val_main_v41, val_main_v33, val_main_v32, val_main_v40, val_main_cst_8, val_main_v29, val_main_v31, val_main_v23, val_main_v28, val_main_v30, val_main_v2, val_main_v15, val_main_v22, val_main_v26, val_main_v27, val_main_cst_7, val_main_v1, val_main_v12, val_main_v14, val_main_cst_4, val_main_v25, val_main_cst_6, val_main_v0, val_main_v11, val_main_v7, val_main_v13, val_main_v4, val_main_v21, val_main_v24, val_main_cst_0, val_main_v6, val_main_cst_1, val_main_v3, val_main_cst, val_main_v17, val_main_v20, val_main_cst_5, val_main_v5, val_main_v16, val_main_v10, val_main_v19, val_main_v18, val_main_cst_2, val_main_v9, val_main_cst_3, val_main_v8]
  all_goals pointwise [delta, total, at0, Adam.step, Adam.first, Adam.second, Fin.sum_univ_four]

/-- The reference's result 2. -/
theorem eq6 (x : S2x4x256x512.Idx → EReal) (p : S4x1024x512.Idx → EReal) (a : S2x1024x512.Idx → EReal) : val_main_v49 (F := Ideal) x p a = moment1 x p a := by
  funext i
  idx_vars i
  obtain rfl | rfl : i0 = 0 ∨ i0 = 1 := by omega
  all_goals pointwise [val_main_v49, val_main_v47, val_main_v48, val_main_v15, val_main_v46, val_main_v12, val_main_v14, val_main_v45, val_main_v11, val_main_v7, val_main_v13, val_main_v4, val_main_cst_0, val_main_v6, val_main_cst_1, val_main_v3, val_main_cst, val_main_v5]
  all_goals pointwise [moment1, total, at0, Adam.step, Adam.first, Adam.second, Fin.sum_univ_four]

/-- The reference's result 3. -/
theorem eq7 (v : S2x4x256x512.Idx → EReal) (p : S4x1024x512.Idx → EReal) (a : S2x1024x512.Idx → EReal) : val_main_v54 (F := Ideal) v p a = moment2 v p a := by
  funext i
  idx_vars i
  obtain rfl | rfl : i0 = 0 ∨ i0 = 1 := by omega
  all_goals pointwise [val_main_v54, val_main_v52, val_main_v53, val_main_v21, val_main_v51, val_main_v17, val_main_v20, val_main_v50, val_main_v16, val_main_v10, val_main_v19, val_main_v18, val_main_cst_2, val_main_v9, val_main_cst_3, val_main_v4, val_main_v8, val_main_v3, val_main_cst]
  all_goals pointwise [moment2, total, at0, Adam.step, Adam.first, Adam.second, Fin.sum_univ_four]

end Cert.AdamGateReferenceIdeal.Hand

namespace Cert.Proof

open Idealize.ShloMosaic Idealize.SL.Sem Cert.AdamGateIdeal.Hand Cert.AdamGateReferenceIdeal.Hand Cert.AdamGateReferenceIdeal.Read

/-- The AdamW step of w_gate: the program and its reference agree on the extended reals. -/
theorem adamGate_algebraic : Cert.algebraic_AdamGateIdeal_AdamGateReferenceIdeal := by
  intro m g m' g' _ hagree
  refine ⟨fun c => grad (arg3 m c) (arg4 m c), fun c => delta (arg0 m c) (arg1 m c) (arg2 m c) (arg3 m c) (arg5 m c), fun c => moment1 (arg1 m c) (arg3 m c) (arg6 m c), fun c => moment2 (arg2 m c) (arg3 m c) (arg7 m c), ?_, ?_⟩
  · refine (θ_run _ _ _).mono (fun r h c => ?_) (Cert.AdamGateIdeal.Value.run_blocks m g)
    obtain ⟨h0, h1, h2, h3, hk⟩ := h c
    exact ⟨h0.trans (final4 m c), h1.trans (final5 m c), h2.trans (final6 m c), h3.trans (final7 m c), hk⟩
  · refine (θ_run _ _ _).mono (fun r h c => ?_) (Cert.AdamGateReferenceIdeal.Value.run m' g')
    obtain ⟨h0, h1, h2, h3, hk⟩ := h c
    obtain ⟨a0, a1, a2, a3, a4, a5, a6, a7⟩ := hagree c
    refine ⟨h0.trans ?_, h1.trans ?_, h2.trans ?_, h3.trans ?_, hk⟩
    · rw [val_main_v39_eq, eq4, a3, a4]
    · rw [val_main_v44_eq, eq5, a0, a1, a2, a3, a5]
    · rw [val_main_v49_eq, eq6, a1, a3, a6]
    · rw [val_main_v54_eq, eq7, a2, a3, a7]

/-- The reference runs to its end, keeps its arguments and uses no semaphore. -/
theorem adamGate_reference_frame : Cert.quiescent_AdamGateReferenceIdeal := fun m ρ _ =>
  (θ_run Cert.AdamGateReferenceIdeal.defs _ _).mono (fun r h => ⟨fun c => (h c).2.2.2.2, sem_eq_zero_of_no_sems (by decide) r.2⟩)
    (Cert.AdamGateReferenceIdeal.Value.run (F := Ideal) m ρ)

end Cert.Proof

end
-- ==== Proof.AdamGateBias.lean ====
/- The AdamW step of b_gate of the first layer, which leaves the second layer's rows as they were given.

   Both sides sum the four chips' parts of the gradient and take the step element by element; the kernel works on one
   block of rows per grid point and its results share the given arrays' buffers. -/
module

public import proofs.«01_k».proof.Defs
public import proofs.«01_k».proof.Proof.Gen.AdamGateBiasIdeal.Value
public import proofs.«01_k».proof.Proof.Gen.AdamGateBiasReferenceIdeal.Run
public import proofs.«01_k».proof.Proof.Gen.AdamGateBiasReferenceIdeal.Read
public import Idealize.ShloMosaic.Lib.Pipeline.ValueKit
public import Idealize.ShloMosaic.Lib.Pipeline.ReadBack
public import Idealize.ShloMosaic.Lib.Pointwise
public import proofs.«01_k».proof.Proof.AdamStep
public import Idealize.ShloMosaic.Lib.Pipeline.ValueKit.Partial
public import Idealize.ShloMosaic.Lib.StableHlo.RunRead

@[expose] public section

set_option maxRecDepth 16384

noncomputable section

namespace Cert.AdamGateBiasIdeal.Hand

open Cert.AdamGateBiasIdeal Cert.AdamGateBiasIdeal.Gen Idealize.ShloMosaic Idealize.ShloMosaic.TcCoe Idealize.SL.Sem

/-- The first layer's element that the stacked index `i` names. -/
def at0 (i : S2x4x512.Idx) : S2x4x512.Idx := ix3 0 (i 1) (i 2)

/-- The gradient: the four chips' parts added. -/
def total (p : S4x4x512.Idx → EReal) (i : S2x4x512.Idx) : EReal := ∑ k : Fin 4, p (ix3 k (i 1) (i 2))

/-- The gradient of the first layer, the second layer's as given. -/
def grad (p : S4x4x512.Idx → EReal) (a : S2x4x512.Idx → EReal) : S2x4x512.Idx → EReal :=
  fun i => if (i 0).val = 0 then total p i else a i

/-- The weights' step. -/
def delta (w x v : S2x4x512.Idx → EReal) (p : S4x4x512.Idx → EReal) (a : S2x4x512.Idx → EReal) : S2x4x512.Idx → EReal :=
  fun i => if (i 0).val = 0 then Adam.step (w (at0 i)) (x (at0 i)) (v (at0 i)) (total p i) else a i

/-- The first moment. -/
def moment1 (x : S2x4x512.Idx → EReal) (p : S4x4x512.Idx → EReal) (a : S2x4x512.Idx → EReal) : S2x4x512.Idx → EReal :=
  fun i => if (i 0).val = 0 then Adam.first (x (at0 i)) (total p i) else a i

/-- The second moment. -/
def moment2 (v : S2x4x512.Idx → EReal) (p : S4x4x512.Idx → EReal) (a : S2x4x512.Idx → EReal) : S2x4x512.Idx → EReal :=
  fun i => if (i 0).val = 0 then Adam.second (v (at0 i)) (total p i) else a i

variable (m : (ℓ : Loc nD τ sig) → Buf (Elt Ideal) ℓ)

abbrev arg0 (c : Dev nD) : S2x4x512.Idx → EReal := m ((c : Thread nD τ).loc main_arg0)
abbrev arg1 (c : Dev nD) : S2x4x512.Idx → EReal := m ((c : Thread nD τ).loc main_arg1)
abbrev arg2 (c : Dev nD) : S2x4x512.Idx → EReal := m ((c : Thread nD τ).loc main_arg2)
abbrev arg3 (c : Dev nD) : S4x4x512.Idx → EReal := m ((c : Thread nD τ).loc main_arg3)
abbrev arg4 (c : Dev nD) : S2x4x512.Idx → EReal := m ((c : Thread nD τ).loc main_arg4)
abbrev arg5 (c : Dev nD) : S2x4x512.Idx → EReal := m ((c : Thread nD τ).loc main_arg5)
abbrev arg6 (c : Dev nD) : S2x4x512.Idx → EReal := m ((c : Thread nD τ).loc main_arg6)
abbrev arg7 (c : Dev nD) : S2x4x512.Idx → EReal := m ((c : Thread nD τ).loc main_arg7)

/-- Every window's block index at a grid point. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The row of the whole array at row `r` of point `t`'s block. -/
def row (t : ℕ) (r : Fin 4) : Fin 4 := ⟨t % 1 * 4 + r.val, by omega⟩

/-- Window 0's block. -/
theorem in0 (c : Dev nD) (t : Fin cfg0.N) (r : Fin 4) (q : Fin 512) :
    iblk m c 0 t (ix3 0 r q) = arg0 m c (at0 (ix3 (0 : Fin 2) (row t.val r) q)) := by
  have ht : t.val < 1 := t.isLt
  blk_ext! [iblk, V, at0, row, idx t]

/-- Window 1's block. -/
theorem in1 (c : Dev nD) (t : Fin cfg0.N) (r : Fin 4) (q : Fin 512) :
    iblk m c 1 t (ix3 0 r q) = arg1 m c (at0 (ix3 (0 : Fin 2) (row t.val r) q)) := by
  have ht : t.val < 1 := t.isLt
  blk_ext! [iblk, V, at0, row, idx t]

/-- Window 2's block. -/
theorem in2 (c : Dev nD) (t : Fin cfg0.N) (r : Fin 4) (q : Fin 512) :
    iblk m c 2 t (ix3 0 r q) = arg2 m c (at0 (ix3 (0 : Fin 2) (row t.val r) q)) := by
  have ht : t.val < 1 := t.isLt
  blk_ext! [iblk, V, at0, row, idx t]

/-- Window 3's block. -/
theorem in3 (c : Dev nD) (t : Fin cfg0.N) (u : Fin 4) (r : Fin 4) (q : Fin 512) :
    iblk m c 3 t (ix3 u r q) = arg3 m c (ix3 u (row t.val r) q) := by
  have ht : t.val < 1 := t.isLt
  blk_ext! [iblk, V, row, idx t]

/-- What a point leaves in window 4's block. -/
theorem point4 (c : Dev nD) (t : Fin cfg0.N) (y : S1x4x512.Idx) :
    (outsAt0 m c t).1 y = grad (arg3 m c) (arg4 m c) (ix3 (0 : Fin 2) (row t.val (y 1)) (y 2)) := by
  idx_vars y
  unfold outsAt0
  dsimp only
  frame_out
  unfold_payloads
  pointwise [grad, total, Adam.step, Adam.first, Adam.second, Fin.sum_univ_four, in0, in1, in2, in3]

/-- What a point leaves in window 5's block. -/
theorem point5 (c : Dev nD) (t : Fin cfg0.N) (y : S1x4x512.Idx) :
    (outsAt0 m c t).2.1 y = delta (arg0 m c) (arg1 m c) (arg2 m c) (arg3 m c) (arg5 m c) (ix3 (0 : Fin 2) (row t.val (y 1)) (y 2)) := by
  idx_vars y
  unfold outsAt0
  dsimp only
  frame_out
  unfold_payloads
  pointwise [delta, total, Adam.step, Adam.first, Adam.second, Fin.sum_univ_four, in0, in1, in2, in3]

/-- What a point leaves in window 6's block. -/
theorem point6 (c : Dev nD) (t : Fin cfg0.N) (y : S1x4x512.Idx) :
    (outsAt0 m c t).2.2.1 y = moment1 (arg1 m c) (arg3 m c) (arg6 m c) (ix3 (0 : Fin 2) (row t.val (y 1)) (y 2)) := by
  idx_vars y
  unfold outsAt0
  dsimp only
  frame_out
  unfold_payloads
  pointwise [moment1, total, Adam.step, Adam.first, Adam.second, Fin.sum_univ_four, in0, in1, in2, in3]

/-- What a point leaves in window 7's block. -/
theorem point7 (c : Dev nD) (t : Fin cfg0.N) (y : S1x4x512.Idx) :
    (outsAt0 m c t).2.2.2 y = moment2 (arg2 m c) (arg3 m c) (arg7 m c) (ix3 (0 : Fin 2) (row t.val (y 1)) (y 2)) := by
  idx_vars y
  unfold outsAt0
  dsimp only
  frame_out
  unfold_payloads
  pointwise [moment2, total, Adam.step, Adam.first, Adam.second, Fin.sum_univ_four, in0, in1, in2, in3]

/-- Outside the blocks that window 4 writes its array holds the argument. -/
theorem kept4 (c : Dev nD) (j : S2x4x512.Idx) (hj : ¬ (j 0).val = 0) :
    (dats m 0 c).A 4 j = grad (arg3 m c) (arg4 m c) j := by
  rw [A_eq]
  show StableHlo.after hostOps0 (fun b => m (c, b)) (Proc.devRef .tc main_v0_0) _ = _
  after_reads_simp
  unfold grad
  rw [if_neg hj]
  rfl

/-- Outside the blocks that window 5 writes its array holds the argument. -/
theorem kept5 (c : Dev nD) (j : S2x4x512.Idx) (hj : ¬ (j 0).val = 0) :
    (dats m 0 c).A 5 j = delta (arg0 m c) (arg1 m c) (arg2 m c) (arg3 m c) (arg5 m c) j := by
  rw [A_eq]
  show StableHlo.after hostOps0 (fun b => m (c, b)) (Proc.devRef .tc main_v0_1) _ = _
  after_reads_simp
  unfold delta
  rw [if_neg hj]
  rfl

/-- Outside the blocks that window 6 writes its array holds the argument. -/
theorem kept6 (c : Dev nD) (j : S2x4x512.Idx) (hj : ¬ (j 0).val = 0) :
    (dats m 0 c).A 6 j = moment1 (arg1 m c) (arg3 m c) (arg6 m c) j := by
  rw [A_eq]
  show StableHlo.after hostOps0 (fun b => m (c, b)) (Proc.devRef .tc main_v0_2) _ = _
  after_reads_simp
  unfold moment1
  rw [if_neg hj]
  rfl

/-- Outside the blocks that window 7 writes its array holds the argument. -/
theorem kept7 (c : Dev nD) (j : S2x4x512.Idx) (hj : ¬ (j 0).val = 0) :
    (dats m 0 c).A 7 j = moment2 (arg2 m c) (arg3 m c) (arg7 m c) j := by
  rw [A_eq]
  show StableHlo.after hostOps0 (fun b => m (c, b)) (Proc.devRef .tc main_v0_3) _ = _
  after_reads_simp
  unfold moment2
  rw [if_neg hj]
  rfl

/-- The result array of window 4. -/
theorem final4 (c : Dev nD) : (dats m 0 c).arrAt 4 (cfgs 0).N = grad (arg3 m c) (arg4 m c) := by
  refine (dats m 0 c).arrAt_eq_of_coversWhere_of_agree 4 _ (fun β => β (0 : Fin 3) = 0) (by decide +kernel) (fun t hf y => ?_) (fun j hj => ?_)
  · have ht : t.val < 1 := t.isLt
    blk_simp
    rw [after0_4, point4]
    blk_ext [row, idx t]
  · blk_simp [Pipeline.Window.cell_apply] at hj
    blk_simp
    exact kept4 m c j (by simpa using hj)

/-- The result array of window 5. -/
theorem final5 (c : Dev nD) : (dats m 0 c).arrAt 5 (cfgs 0).N = delta (arg0 m c) (arg1 m c) (arg2 m c) (arg3 m c) (arg5 m c) := by
  refine (dats m 0 c).arrAt_eq_of_coversWhere_of_agree 5 _ (fun β => β (0 : Fin 3) = 0) (by decide +kernel) (fun t hf y => ?_) (fun j hj => ?_)
  · have ht : t.val < 1 := t.isLt
    blk_simp
    rw [after0_5, point5]
    blk_ext [row, idx t]
  · blk_simp [Pipeline.Window.cell_apply] at hj
    blk_simp
    exact kept5 m c j (by simpa using hj)

/-- The result array of window 6. -/
theorem final6 (c : Dev nD) : (dats m 0 c).arrAt 6 (cfgs 0).N = moment1 (arg1 m c) (arg3 m c) (arg6 m c) := by
  refine (dats m 0 c).arrAt_eq_of_coversWhere_of_agree 6 _ (fun β => β (0 : Fin 3) = 0) (by decide +kernel) (fun t hf y => ?_) (fun j hj => ?_)
  · have ht : t.val < 1 := t.isLt
    blk_simp
    rw [after0_6, point6]
    blk_ext [row, idx t]
  · blk_simp [Pipeline.Window.cell_apply] at hj
    blk_simp
    exact kept6 m c j (by simpa using hj)

/-- The result array of window 7. -/
theorem final7 (c : Dev nD) : (dats m 0 c).arrAt 7 (cfgs 0).N = moment2 (arg2 m c) (arg3 m c) (arg7 m c) := by
  refine (dats m 0 c).arrAt_eq_of_coversWhere_of_agree 7 _ (fun β => β (0 : Fin 3) = 0) (by decide +kernel) (fun t hf y => ?_) (fun j hj => ?_)
  · have ht : t.val < 1 := t.isLt
    blk_simp
    rw [after0_7, point7]
    blk_ext [row, idx t]
  · blk_simp [Pipeline.Window.cell_apply] at hj
    blk_simp
    exact kept7 m c j (by simpa using hj)

end Cert.AdamGateBiasIdeal.Hand

namespace Cert.AdamGateBiasReferenceIdeal.Hand

open Cert.AdamGateBiasReferenceIdeal Cert.AdamGateBiasReferenceIdeal.Read Idealize.ShloMosaic
open Cert.AdamGateBiasIdeal.Hand

/-- The reference's result 0. -/
theorem eq4 (p : S4x4x512.Idx → EReal) (a : S2x4x512.Idx → EReal) : val_main_v36 (F := Ideal) p a = grad p a := by
  funext i
  idx_vars i
  obtain rfl | rfl : i0 = 0 ∨ i0 = 1 := by omega
  all_goals pointwise [val_main_v36, val_main_v34, val_main_v35, val_main_v3, val_main_v33, val_main_v2, val_main_cst, val_main_v32]
  all_goals pointwise [grad, total, at0, Adam.step, Adam.first, Adam.second, Fin.sum_univ_four]

/-- The reference's result 1. -/
theorem eq5 (w x v : S2x4x512.Idx → EReal) (p : S4x4x512.Idx → EReal) (a : S2x4x512.Idx → EReal) : val_main_v41 (F := Ideal) w x v p a = delta w x v p a := by
  funext i
  idx_vars i
  obtain rfl | rfl : i0 = 0 ∨ i0 = 1 := by omega
  all_goals pointwise [val_main_v41, val_main_v39, val_main_v40, val_main_v31, val_main_v38, val_main_v30, val_main_v29, val_main_v37, val_main_cst_8, val_main_v26, val_main_v28, val_main_v20, val_main_v25, val_main_v27, val_main_v1, val_main_v12, val_main_v19, val_main_v23, val_main_v24, val_main_cst_7, val_main_v0, val_main_v9, val_main_v11, val_main_cst_4, val_main_v22, val_main_cst_6, val_main_v8, val_main_v5, val_main_v10, val_main_v3, val_main_v18, val_main_v21, val_main_cst_0, val_main_v4, val_main_cst_1, val_main_v2, val_main_cst, val_main_v14, val_main_v17, val_main_cst_5, val_main_v13, val_main_v7, val_main_v16, val_main_v15, val_main_cst_2, val_main_v6, val_main_cst_3]
  all_goals pointwise [delta, total, at0, Adam.step, Adam.first, Adam.second, Fin.sum_univ_four]

/-- The reference's result 2. -/
theorem eq6 (x : S2x4x512.Idx → EReal) (p : S4x4x512.Idx → EReal) (a : S2x4x512.Idx → EReal) : val_main_v46 (F := Ideal) x p a = moment1 x p a := by
  funext i
  idx_vars i
  obtain rfl | rfl : i0 = 0 ∨ i0 = 1 := by omega
  all_goals pointwise [val_main_v46, val_main_v44, val_main_v45, val_main_v12, val_main_v43, val_main_v9, val_main_v11, val_main_v42, val_main_v8, val_main_v5, val_main_v10, val_main_v3, val_main_cst_0, val_main_v4, val_main_cst_1, val_main_v2, val_main_cst]
  all_goals pointwise [moment1, total, at0, Adam.step, Adam.first, Adam.second, Fin.sum_univ_four]

/-- The reference's result 3. -/
theorem eq7 (v : S2x4x512.Idx → EReal) (p : S4x4x512.Idx → EReal) (a : S2x4x512.Idx → EReal) : val_main_v51 (F := Ideal) v p a = moment2 v p a := by
  funext i
  idx_vars i
  obtain rfl | rfl : i0 = 0 ∨ i0 = 1 := by omega
  all_goals pointwise [val_main_v51, val_main_v49, val_main_v50, val_main_v18, val_main_v48, val_main_v14, val_main_v17, val_main_v47, val_main_v13, val_main_v7, val_main_v16, val_main_v15, val_main_cst_2, val_main_v6, val_main_cst_3, val_main_v3, val_main_v2, val_main_cst]
  all_goals pointwise [moment2, total, at0, Adam.step, Adam.first, Adam.second, Fin.sum_univ_four]

end Cert.AdamGateBiasReferenceIdeal.Hand

namespace Cert.Proof

open Idealize.ShloMosaic Idealize.SL.Sem Cert.AdamGateBiasIdeal.Hand Cert.AdamGateBiasReferenceIdeal.Hand Cert.AdamGateBiasReferenceIdeal.Read

/-- The AdamW step of b_gate: the program and its reference agree on the extended reals. -/
theorem adamGateBias_algebraic : Cert.algebraic_AdamGateBiasIdeal_AdamGateBiasReferenceIdeal := by
  intro m g m' g' _ hagree
  refine ⟨fun c => grad (arg3 m c) (arg4 m c), fun c => delta (arg0 m c) (arg1 m c) (arg2 m c) (arg3 m c) (arg5 m c), fun c => moment1 (arg1 m c) (arg3 m c) (arg6 m c), fun c => moment2 (arg2 m c) (arg3 m c) (arg7 m c), ?_, ?_⟩
  · refine (θ_run _ _ _).mono (fun r h c => ?_) (Cert.AdamGateBiasIdeal.Value.run_blocks m g)
    obtain ⟨h0, h1, h2, h3, hk⟩ := h c
    exact ⟨h0.trans (final4 m c), h1.trans (final5 m c), h2.trans (final6 m c), h3.trans (final7 m c), hk⟩
  · refine (θ_run _ _ _).mono (fun r h c => ?_) (Cert.AdamGateBiasReferenceIdeal.Value.run m' g')
    obtain ⟨h0, h1, h2, h3, hk⟩ := h c
    obtain ⟨a0, a1, a2, a3, a4, a5, a6, a7⟩ := hagree c
    refine ⟨h0.trans ?_, h1.trans ?_, h2.trans ?_, h3.trans ?_, hk⟩
    · rw [val_main_v36_eq, eq4, a3, a4]
    · rw [val_main_v41_eq, eq5, a0, a1, a2, a3, a5]
    · rw [val_main_v46_eq, eq6, a1, a3, a6]
    · rw [val_main_v51_eq, eq7, a2, a3, a7]

/-- The reference runs to its end, keeps its arguments and uses no semaphore. -/
theorem adamGateBias_reference_frame : Cert.quiescent_AdamGateBiasReferenceIdeal := fun m ρ _ =>
  (θ_run Cert.AdamGateBiasReferenceIdeal.defs _ _).mono (fun r h => ⟨fun c => (h c).2.2.2.2, sem_eq_zero_of_no_sems (by decide) r.2⟩)
    (Cert.AdamGateBiasReferenceIdeal.Value.run (F := Ideal) m ρ)

end Cert.Proof

end
-- ==== Proof.AdamBranch.lean ====
/- The AdamW step of w_branch of the first layer, which leaves the second layer's rows as they were given.

   Both sides sum the four chips' parts of the gradient and take the step element by element; the kernel works on one
   block of rows per grid point and its results share the given arrays' buffers. -/
module

public import proofs.«01_k».proof.Defs
public import proofs.«01_k».proof.Proof.Gen.AdamBranchIdeal.Value
public import proofs.«01_k».proof.Proof.Gen.AdamBranchReferenceIdeal.Run
public import proofs.«01_k».proof.Proof.Gen.AdamBranchReferenceIdeal.Read
public import Idealize.ShloMosaic.Lib.Pipeline.ValueKit
public import Idealize.ShloMosaic.Lib.Pipeline.ReadBack
public import Idealize.ShloMosaic.Lib.Pointwise
public import proofs.«01_k».proof.Proof.AdamStep
public import Idealize.ShloMosaic.Lib.Pipeline.ValueKit.Partial
public import Idealize.ShloMosaic.Lib.StableHlo.RunRead

@[expose] public section

set_option maxRecDepth 16384

noncomputable section

namespace Cert.AdamBranchIdeal.Hand

open Cert.AdamBranchIdeal Cert.AdamBranchIdeal.Gen Idealize.ShloMosaic Idealize.ShloMosaic.TcCoe Idealize.SL.Sem

/-- The first layer's element that the stacked index `i` names. -/
def at0 (i : S2x4096x512.Idx) : S2x4x1024x512.Idx :=
  have hi : (i 1).val < 4096 := (i 1).isLt
  ix4 0 ⟨(i 1).val / 1024, by omega⟩ ⟨(i 1).val % 1024, by omega⟩ (i 2)

/-- The gradient: the four chips' parts added. -/
def total (p : S4x4096x512.Idx → EReal) (i : S2x4096x512.Idx) : EReal := ∑ k : Fin 4, p (ix3 k (i 1) (i 2))

/-- The gradient of the first layer, the second layer's as given. -/
def grad (p : S4x4096x512.Idx → EReal) (a : S2x4096x512.Idx → EReal) : S2x4096x512.Idx → EReal :=
  fun i => if (i 0).val = 0 then total p i else a i

/-- The weights' step. -/
def delta (w x v : S2x4x1024x512.Idx → EReal) (p : S4x4096x512.Idx → EReal) (a : S2x4096x512.Idx → EReal) : S2x4096x512.Idx → EReal :=
  fun i => if (i 0).val = 0 then Adam.step (w (at0 i)) (x (at0 i)) (v (at0 i)) (total p i) else a i

/-- The first moment. -/
def moment1 (x : S2x4x1024x512.Idx → EReal) (p : S4x4096x512.Idx → EReal) (a : S2x4096x512.Idx → EReal) : S2x4096x512.Idx → EReal :=
  fun i => if (i 0).val = 0 then Adam.first (x (at0 i)) (total p i) else a i

/-- The second moment. -/
def moment2 (v : S2x4x1024x512.Idx → EReal) (p : S4x4096x512.Idx → EReal) (a : S2x4096x512.Idx → EReal) : S2x4096x512.Idx → EReal :=
  fun i => if (i 0).val = 0 then Adam.second (v (at0 i)) (total p i) else a i

variable (m : (ℓ : Loc nD τ sig) → Buf (Elt Ideal) ℓ)

abbrev arg0 (c : Dev nD) : S2x4x1024x512.Idx → EReal := m ((c : Thread nD τ).loc main_arg0)
abbrev arg1 (c : Dev nD) : S2x4x1024x512.Idx → EReal := m ((c : Thread nD τ).loc main_arg1)
abbrev arg2 (c : Dev nD) : S2x4x1024x512.Idx → EReal := m ((c : Thread nD τ).loc main_arg2)
abbrev arg3 (c : Dev nD) : S4x4096x512.Idx → EReal := m ((c : Thread nD τ).loc main_arg3)
abbrev arg4 (c : Dev nD) : S2x4096x512.Idx → EReal := m ((c : Thread nD τ).loc main_arg4)
abbrev arg5 (c : Dev nD) : S2x4096x512.Idx → EReal := m ((c : Thread nD τ).loc main_arg5)
abbrev arg6 (c : Dev nD) : S2x4096x512.Idx → EReal := m ((c : Thread nD τ).loc main_arg6)
abbrev arg7 (c : Dev nD) : S2x4096x512.Idx → EReal := m ((c : Thread nD τ).loc main_arg7)

/-- Every window's block index at a grid point. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The row of the whole array at row `r` of point `t`'s block. -/
def row (t : ℕ) (r : Fin 512) : Fin 4096 := ⟨t % 8 * 512 + r.val, by omega⟩

/-- Window 0's block. -/
theorem in0 (c : Dev nD) (t : Fin cfg0.N) (r : Fin 512) (q : Fin 512) :
    iblk m c 0 t (ix3 0 r q) = arg0 m c (at0 (ix3 (0 : Fin 2) (row t.val r) q)) := by
  have ht : t.val < 8 := t.isLt
  blk_ext! [iblk, V, at0, row, idx t]

/-- Window 1's block. -/
theorem in1 (c : Dev nD) (t : Fin cfg0.N) (r : Fin 512) (q : Fin 512) :
    iblk m c 1 t (ix3 0 r q) = arg1 m c (at0 (ix3 (0 : Fin 2) (row t.val r) q)) := by
  have ht : t.val < 8 := t.isLt
  blk_ext! [iblk, V, at0, row, idx t]

/-- Window 2's block. -/
theorem in2 (c : Dev nD) (t : Fin cfg0.N) (r : Fin 512) (q : Fin 512) :
    iblk m c 2 t (ix3 0 r q) = arg2 m c (at0 (ix3 (0 : Fin 2) (row t.val r) q)) := by
  have ht : t.val < 8 := t.isLt
  blk_ext! [iblk, V, at0, row, idx t]

/-- Window 3's block. -/
theorem in3 (c : Dev nD) (t : Fin cfg0.N) (u : Fin 4) (r : Fin 512) (q : Fin 512) :
    iblk m c 3 t (ix3 u r q) = arg3 m c (ix3 u (row t.val r) q) := by
  have ht : t.val < 8 := t.isLt
  blk_ext! [iblk, V, row, idx t]

/-- What a point leaves in window 4's block. -/
theorem point4 (c : Dev nD) (t : Fin cfg0.N) (y : S1x512x512.Idx) :
    (outsAt0 m c t).1 y = grad (arg3 m c) (arg4 m c) (ix3 (0 : Fin 2) (row t.val (y 1)) (y 2)) := by
  idx_vars y
  unfold outsAt0
  dsimp only
  frame_out
  unfold_payloads
  pointwise [grad, total, Adam.step, Adam.first, Adam.second, Fin.sum_univ_four, in0, in1, in2, in3]

/-- What a point leaves in window 5's block. -/
theorem point5 (c : Dev nD) (t : Fin cfg0.N) (y : S1x512x512.Idx) :
    (outsAt0 m c t).2.1 y = delta (arg0 m c) (arg1 m c) (arg2 m c) (arg3 m c) (arg5 m c) (ix3 (0 : Fin 2) (row t.val (y 1)) (y 2)) := by
  idx_vars y
  unfold outsAt0
  dsimp only
  frame_out
  unfold_payloads
  pointwise [delta, total, Adam.step, Adam.first, Adam.second, Fin.sum_univ_four, in0, in1, in2, in3]

/-- What a point leaves in window 6's block. -/
theorem point6 (c : Dev nD) (t : Fin cfg0.N) (y : S1x512x512.Idx) :
    (outsAt0 m c t).2.2.1 y = moment1 (arg1 m c) (arg3 m c) (arg6 m c) (ix3 (0 : Fin 2) (row t.val (y 1)) (y 2)) := by
  idx_vars y
  unfold outsAt0
  dsimp only
  frame_out
  unfold_payloads
  pointwise [moment1, total, Adam.step, Adam.first, Adam.second, Fin.sum_univ_four, in0, in1, in2, in3]

/-- What a point leaves in window 7's block. -/
theorem point7 (c : Dev nD) (t : Fin cfg0.N) (y : S1x512x512.Idx) :
    (outsAt0 m c t).2.2.2 y = moment2 (arg2 m c) (arg3 m c) (arg7 m c) (ix3 (0 : Fin 2) (row t.val (y 1)) (y 2)) := by
  idx_vars y
  unfold outsAt0
  dsimp only
  frame_out
  unfold_payloads
  pointwise [moment2, total, Adam.step, Adam.first, Adam.second, Fin.sum_univ_four, in0, in1, in2, in3]

/-- Outside the blocks that window 4 writes its array holds the argument. -/
theorem kept4 (c : Dev nD) (j : S2x4096x512.Idx) (hj : ¬ (j 0).val = 0) :
    (dats m 0 c).A 4 j = grad (arg3 m c) (arg4 m c) j := by
  rw [A_eq]
  show StableHlo.after hostOps0 (fun b => m (c, b)) (Proc.devRef .tc main_v3_0) _ = _
  after_reads_simp
  unfold grad
  rw [if_neg hj]
  rfl

/-- Outside the blocks that window 5 writes its array holds the argument. -/
theorem kept5 (c : Dev nD) (j : S2x4096x512.Idx) (hj : ¬ (j 0).val = 0) :
    (dats m 0 c).A 5 j = delta (arg0 m c) (arg1 m c) (arg2 m c) (arg3 m c) (arg5 m c) j := by
  rw [A_eq]
  show StableHlo.after hostOps0 (fun b => m (c, b)) (Proc.devRef .tc main_v3_1) _ = _
  after_reads_simp
  unfold delta
  rw [if_neg hj]
  rfl

/-- Outside the blocks that window 6 writes its array holds the argument. -/
theorem kept6 (c : Dev nD) (j : S2x4096x512.Idx) (hj : ¬ (j 0).val = 0) :
    (dats m 0 c).A 6 j = moment1 (arg1 m c) (arg3 m c) (arg6 m c) j := by
  rw [A_eq]
  show StableHlo.after hostOps0 (fun b => m (c, b)) (Proc.devRef .tc main_v3_2) _ = _
  after_reads_simp
  unfold moment1
  rw [if_neg hj]
  rfl

/-- Outside the blocks that window 7 writes its array holds the argument. -/
theorem kept7 (c : Dev nD) (j : S2x4096x512.Idx) (hj : ¬ (j 0).val = 0) :
    (dats m 0 c).A 7 j = moment2 (arg2 m c) (arg3 m c) (arg7 m c) j := by
  rw [A_eq]
  show StableHlo.after hostOps0 (fun b => m (c, b)) (Proc.devRef .tc main_v3_3) _ = _
  after_reads_simp
  unfold moment2
  rw [if_neg hj]
  rfl

/-- The result array of window 4. -/
theorem final4 (c : Dev nD) : (dats m 0 c).arrAt 4 (cfgs 0).N = grad (arg3 m c) (arg4 m c) := by
  refine (dats m 0 c).arrAt_eq_of_coversWhere_of_agree 4 _ (fun β => β (0 : Fin 3) = 0) (by decide +kernel) (fun t hf y => ?_) (fun j hj => ?_)
  · have ht : t.val < 8 := t.isLt
    blk_simp
    rw [after0_4, point4]
    blk_ext [row, idx t]
  · blk_simp [Pipeline.Window.cell_apply] at hj
    blk_simp
    exact kept4 m c j (by simpa using hj)

/-- The result array of window 5. -/
theorem final5 (c : Dev nD) : (dats m 0 c).arrAt 5 (cfgs 0).N = delta (arg0 m c) (arg1 m c) (arg2 m c) (arg3 m c) (arg5 m c) := by
  refine (dats m 0 c).arrAt_eq_of_coversWhere_of_agree 5 _ (fun β => β (0 : Fin 3) = 0) (by decide +kernel) (fun t hf y => ?_) (fun j hj => ?_)
  · have ht : t.val < 8 := t.isLt
    blk_simp
    rw [after0_5, point5]
    blk_ext [row, idx t]
  · blk_simp [Pipeline.Window.cell_apply] at hj
    blk_simp
    exact kept5 m c j (by simpa using hj)

/-- The result array of window 6. -/
theorem final6 (c : Dev nD) : (dats m 0 c).arrAt 6 (cfgs 0).N = moment1 (arg1 m c) (arg3 m c) (arg6 m c) := by
  refine (dats m 0 c).arrAt_eq_of_coversWhere_of_agree 6 _ (fun β => β (0 : Fin 3) = 0) (by decide +kernel) (fun t hf y => ?_) (fun j hj => ?_)
  · have ht : t.val < 8 := t.isLt
    blk_simp
    rw [after0_6, point6]
    blk_ext [row, idx t]
  · blk_simp [Pipeline.Window.cell_apply] at hj
    blk_simp
    exact kept6 m c j (by simpa using hj)

/-- The result array of window 7. -/
theorem final7 (c : Dev nD) : (dats m 0 c).arrAt 7 (cfgs 0).N = moment2 (arg2 m c) (arg3 m c) (arg7 m c) := by
  refine (dats m 0 c).arrAt_eq_of_coversWhere_of_agree 7 _ (fun β => β (0 : Fin 3) = 0) (by decide +kernel) (fun t hf y => ?_) (fun j hj => ?_)
  · have ht : t.val < 8 := t.isLt
    blk_simp
    rw [after0_7, point7]
    blk_ext [row, idx t]
  · blk_simp [Pipeline.Window.cell_apply] at hj
    blk_simp
    exact kept7 m c j (by simpa using hj)

end Cert.AdamBranchIdeal.Hand

namespace Cert.AdamBranchReferenceIdeal.Hand

open Cert.AdamBranchReferenceIdeal Cert.AdamBranchReferenceIdeal.Read Idealize.ShloMosaic
open Cert.AdamBranchIdeal.Hand

/-- The reference's result 0. -/
theorem eq4 (p : S4x4096x512.Idx → EReal) (a : S2x4096x512.Idx → EReal) : val_main_v39 (F := Ideal) p a = grad p a := by
  funext i
  idx_vars i
  obtain rfl | rfl : i0 = 0 ∨ i0 = 1 := by omega
  all_goals pointwise [val_main_v39, val_main_v37, val_main_v38, val_main_v4, val_main_v36, val_main_v3, val_main_cst, val_main_v35]
  all_goals pointwise [grad, total, at0, Adam.step, Adam.first, Adam.second, Fin.sum_univ_four]

/-- The reference's result 1. -/
theorem eq5 (w x v : S2x4x1024x512.Idx → EReal) (p : S4x4096x512.Idx → EReal) (a : S2x4096x512.Idx → EReal) : val_main_v44 (F := Ideal) w x v p a = delta w x v p a := by
  funext i
  idx_vars i
  obtain rfl | rfl : i0 = 0 ∨ i0 = 1 := by omega
  all_goals pointwise [val_main_v44, val_main_v42, val_main_v43, val_main_v34, val_main_v41, val_main_v33, val_main_v32, val_main_v40, val_main_cst_8, val_main_v29, val_main_v31, val_main_v23, val_main_v28, val_main_v30, val_main_v2, val_main_v15, val_main_v22, val_main_v26, val_main_v27, val_main_cst_7, val_main_v1, val_main_v12, val_main_v14, val_main_cst_4, val_main_v25, val_main_cst_6, val_main_v0, val_main_v11, val_main_v7, val_main_v13, val_main_v4, val_main_v21, val_main_v24, val_main_cst_0, val_main_v6, val_main_cst_1, val_main_v3, val_main_cst, val_main_v17, val_main_v20, val_main_cst_5, val_main_v5, val_main_v16, val_main_v10, val_main_v19, val_main_v18, val_main_cst_2, val_main_v9, val_main_cst_3, val_main_v8]
  all_goals pointwise [delta, total, at0, Adam.step, Adam.first, Adam.second, Fin.sum_univ_four]

/-- The reference's result 2. -/
theorem eq6 (x : S2x4x1024x512.Idx → EReal) (p : S4x4096x512.Idx → EReal) (a : S2x4096x512.Idx → EReal) : val_main_v49 (F := Ideal) x p a = moment1 x p a := by
  funext i
  idx_vars i
  obtain rfl | rfl : i0 = 0 ∨ i0 = 1 := by omega
  all_goals pointwise [val_main_v49, val_main_v47, val_main_v48, val_main_v15, val_main_v46, val_main_v12, val_main_v14, val_main_v45, val_main_v11, val_main_v7, val_main_v13, val_main_v4, val_main_cst_0, val_main_v6, val_main_cst_1, val_main_v3, val_main_cst, val_main_v5]
  all_goals pointwise [moment1, total, at0, Adam.step, Adam.first, Adam.second, Fin.sum_univ_four]

/-- The reference's result 3. -/
theorem eq7 (v : S2x4x1024x512.Idx → EReal) (p : S4x4096x512.Idx → EReal) (a : S2x4096x512.Idx → EReal) : val_main_v54 (F := Ideal) v p a = moment2 v p a := by
  funext i
  idx_vars i
  obtain rfl | rfl : i0 = 0 ∨ i0 = 1 := by omega
  all_goals pointwise [val_main_v54, val_main_v52, val_main_v53, val_main_v21, val_main_v51, val_main_v17, val_main_v20, val_main_v50, val_main_v16, val_main_v10, val_main_v19, val_main_v18, val_main_cst_2, val_main_v9, val_main_cst_3, val_main_v4, val_main_v8, val_main_v3, val_main_cst]
  all_goals pointwise [moment2, total, at0, Adam.step, Adam.first, Adam.second, Fin.sum_univ_four]

end Cert.AdamBranchReferenceIdeal.Hand

namespace Cert.Proof

open Idealize.ShloMosaic Idealize.SL.Sem Cert.AdamBranchIdeal.Hand Cert.AdamBranchReferenceIdeal.Hand Cert.AdamBranchReferenceIdeal.Read

/-- The AdamW step of w_branch: the program and its reference agree on the extended reals. -/
theorem adamBranch_algebraic : Cert.algebraic_AdamBranchIdeal_AdamBranchReferenceIdeal := by
  intro m g m' g' _ hagree
  refine ⟨fun c => grad (arg3 m c) (arg4 m c), fun c => delta (arg0 m c) (arg1 m c) (arg2 m c) (arg3 m c) (arg5 m c), fun c => moment1 (arg1 m c) (arg3 m c) (arg6 m c), fun c => moment2 (arg2 m c) (arg3 m c) (arg7 m c), ?_, ?_⟩
  · refine (θ_run _ _ _).mono (fun r h c => ?_) (Cert.AdamBranchIdeal.Value.run_blocks m g)
    obtain ⟨h0, h1, h2, h3, hk⟩ := h c
    exact ⟨h0.trans (final4 m c), h1.trans (final5 m c), h2.trans (final6 m c), h3.trans (final7 m c), hk⟩
  · refine (θ_run _ _ _).mono (fun r h c => ?_) (Cert.AdamBranchReferenceIdeal.Value.run m' g')
    obtain ⟨h0, h1, h2, h3, hk⟩ := h c
    obtain ⟨a0, a1, a2, a3, a4, a5, a6, a7⟩ := hagree c
    refine ⟨h0.trans ?_, h1.trans ?_, h2.trans ?_, h3.trans ?_, hk⟩
    · rw [val_main_v39_eq, eq4, a3, a4]
    · rw [val_main_v44_eq, eq5, a0, a1, a2, a3, a5]
    · rw [val_main_v49_eq, eq6, a1, a3, a6]
    · rw [val_main_v54_eq, eq7, a2, a3, a7]

/-- The reference runs to its end, keeps its arguments and uses no semaphore. -/
theorem adamBranch_reference_frame : Cert.quiescent_AdamBranchReferenceIdeal := fun m ρ _ =>
  (θ_run Cert.AdamBranchReferenceIdeal.defs _ _).mono (fun r h => ⟨fun c => (h c).2.2.2.2, sem_eq_zero_of_no_sems (by decide) r.2⟩)
    (Cert.AdamBranchReferenceIdeal.Value.run (F := Ideal) m ρ)

end Cert.Proof

end
-- ==== Proof.AdamOut.lean ====
/- The AdamW step of w_out of the first layer, which leaves the second layer's rows as they were given.

   Both sides sum the four chips' parts of the gradient and take the step element by element; the kernel works on one
   block of rows per grid point and its results share the given arrays' buffers. -/
module

public import proofs.«01_k».proof.Defs
public import proofs.«01_k».proof.Proof.Gen.AdamOutIdeal.Value
public import proofs.«01_k».proof.Proof.Gen.AdamOutReferenceIdeal.Run
public import proofs.«01_k».proof.Proof.Gen.AdamOutReferenceIdeal.Read
public import Idealize.ShloMosaic.Lib.Pipeline.ValueKit
public import Idealize.ShloMosaic.Lib.Pipeline.ReadBack
public import Idealize.ShloMosaic.Lib.Pointwise
public import proofs.«01_k».proof.Proof.AdamStep
public import Idealize.ShloMosaic.Lib.Pipeline.ValueKit.Partial
public import Idealize.ShloMosaic.Lib.StableHlo.RunRead

@[expose] public section

set_option maxRecDepth 16384

noncomputable section

namespace Cert.AdamOutIdeal.Hand

open Cert.AdamOutIdeal Cert.AdamOutIdeal.Gen Idealize.ShloMosaic Idealize.ShloMosaic.TcCoe Idealize.SL.Sem

/-- The first layer's element that the stacked index `i` names. -/
def at0 (i : S2x512x4096.Idx) : S2x512x4096.Idx := ix3 0 (i 1) (i 2)

/-- The gradient: the four chips' parts added. -/
def total (p : S4x512x4096.Idx → EReal) (i : S2x512x4096.Idx) : EReal := ∑ k : Fin 4, p (ix3 k (i 1) (i 2))

/-- The gradient of the first layer, the second layer's as given. -/
def grad (p : S4x512x4096.Idx → EReal) (a : S2x512x4096.Idx → EReal) : S2x512x4096.Idx → EReal :=
  fun i => if (i 0).val = 0 then total p i else a i

/-- The weights' step. -/
def delta (w x v : S2x512x4096.Idx → EReal) (p : S4x512x4096.Idx → EReal) (a : S2x512x4096.Idx → EReal) : S2x512x4096.Idx → EReal :=
  fun i => if (i 0).val = 0 then Adam.step (w (at0 i)) (x (at0 i)) (v (at0 i)) (total p i) else a i

/-- The first moment. -/
def moment1 (x : S2x512x4096.Idx → EReal) (p : S4x512x4096.Idx → EReal) (a : S2x512x4096.Idx → EReal) : S2x512x4096.Idx → EReal :=
  fun i => if (i 0).val = 0 then Adam.first (x (at0 i)) (total p i) else a i

/-- The second moment. -/
def moment2 (v : S2x512x4096.Idx → EReal) (p : S4x512x4096.Idx → EReal) (a : S2x512x4096.Idx → EReal) : S2x512x4096.Idx → EReal :=
  fun i => if (i 0).val = 0 then Adam.second (v (at0 i)) (total p i) else a i

variable (m : (ℓ : Loc nD τ sig) → Buf (Elt Ideal) ℓ)

abbrev arg0 (c : Dev nD) : S2x512x4096.Idx → EReal := m ((c : Thread nD τ).loc main_arg0)
abbrev arg1 (c : Dev nD) : S2x512x4096.Idx → EReal := m ((c : Thread nD τ).loc main_arg1)
abbrev arg2 (c : Dev nD) : S2x512x4096.Idx → EReal := m ((c : Thread nD τ).loc main_arg2)
abbrev arg3 (c : Dev nD) : S4x512x4096.Idx → EReal := m ((c : Thread nD τ).loc main_arg3)
abbrev arg4 (c : Dev nD) : S2x512x4096.Idx → EReal := m ((c : Thread nD τ).loc main_arg4)
abbrev arg5 (c : Dev nD) : S2x512x4096.Idx → EReal := m ((c : Thread nD τ).loc main_arg5)
abbrev arg6 (c : Dev nD) : S2x512x4096.Idx → EReal := m ((c : Thread nD τ).loc main_arg6)
abbrev arg7 (c : Dev nD) : S2x512x4096.Idx → EReal := m ((c : Thread nD τ).loc main_arg7)

/-- Every window's block index at a grid point. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The row of the whole array at row `r` of point `t`'s block. -/
def row (t : ℕ) (r : Fin 64) : Fin 512 := ⟨t % 8 * 64 + r.val, by omega⟩

/-- Window 0's block. -/
theorem in0 (c : Dev nD) (t : Fin cfg0.N) (r : Fin 64) (q : Fin 4096) :
    iblk m c 0 t (ix3 0 r q) = arg0 m c (at0 (ix3 (0 : Fin 2) (row t.val r) q)) := by
  have ht : t.val < 8 := t.isLt
  blk_ext! [iblk, V, at0, row, idx t]

/-- Window 1's block. -/
theorem in1 (c : Dev nD) (t : Fin cfg0.N) (r : Fin 64) (q : Fin 4096) :
    iblk m c 1 t (ix3 0 r q) = arg1 m c (at0 (ix3 (0 : Fin 2) (row t.val r) q)) := by
  have ht : t.val < 8 := t.isLt
  blk_ext! [iblk, V, at0, row, idx t]

/-- Window 2's block. -/
theorem in2 (c : Dev nD) (t : Fin cfg0.N) (r : Fin 64) (q : Fin 4096) :
    iblk m c 2 t (ix3 0 r q) = arg2 m c (at0 (ix3 (0 : Fin 2) (row t.val r) q)) := by
  have ht : t.val < 8 := t.isLt
  blk_ext! [iblk, V, at0, row, idx t]

/-- Window 3's block. -/
theorem in3 (c : Dev nD) (t : Fin cfg0.N) (u : Fin 4) (r : Fin 64) (q : Fin 4096) :
    iblk m c 3 t (ix3 u r q) = arg3 m c (ix3 u (row t.val r) q) := by
  have ht : t.val < 8 := t.isLt
  blk_ext! [iblk, V, row, idx t]

/-- What a point leaves in window 4's block. -/
theorem point4 (c : Dev nD) (t : Fin cfg0.N) (y : S1x64x4096.Idx) :
    (outsAt0 m c t).1 y = grad (arg3 m c) (arg4 m c) (ix3 (0 : Fin 2) (row t.val (y 1)) (y 2)) := by
  idx_vars y
  unfold outsAt0
  dsimp only
  frame_out
  unfold_payloads
  pointwise [grad, total, Adam.step, Adam.first, Adam.second, Fin.sum_univ_four, in0, in1, in2, in3]

/-- What a point leaves in window 5's block. -/
theorem point5 (c : Dev nD) (t : Fin cfg0.N) (y : S1x64x4096.Idx) :
    (outsAt0 m c t).2.1 y = delta (arg0 m c) (arg1 m c) (arg2 m c) (arg3 m c) (arg5 m c) (ix3 (0 : Fin 2) (row t.val (y 1)) (y 2)) := by
  idx_vars y
  unfold outsAt0
  dsimp only
  frame_out
  unfold_payloads
  pointwise [delta, total, Adam.step, Adam.first, Adam.second, Fin.sum_univ_four, in0, in1, in2, in3]

/-- What a point leaves in window 6's block. -/
theorem point6 (c : Dev nD) (t : Fin cfg0.N) (y : S1x64x4096.Idx) :
    (outsAt0 m c t).2.2.1 y = moment1 (arg1 m c) (arg3 m c) (arg6 m c) (ix3 (0 : Fin 2) (row t.val (y 1)) (y 2)) := by
  idx_vars y
  unfold outsAt0
  dsimp only
  frame_out
  unfold_payloads
  pointwise [moment1, total, Adam.step, Adam.first, Adam.second, Fin.sum_univ_four, in0, in1, in2, in3]

/-- What a point leaves in window 7's block. -/
theorem point7 (c : Dev nD) (t : Fin cfg0.N) (y : S1x64x4096.Idx) :
    (outsAt0 m c t).2.2.2 y = moment2 (arg2 m c) (arg3 m c) (arg7 m c) (ix3 (0 : Fin 2) (row t.val (y 1)) (y 2)) := by
  idx_vars y
  unfold outsAt0
  dsimp only
  frame_out
  unfold_payloads
  pointwise [moment2, total, Adam.step, Adam.first, Adam.second, Fin.sum_univ_four, in0, in1, in2, in3]

/-- Outside the blocks that window 4 writes its array holds the argument. -/
theorem kept4 (c : Dev nD) (j : S2x512x4096.Idx) (hj : ¬ (j 0).val = 0) :
    (dats m 0 c).A 4 j = grad (arg3 m c) (arg4 m c) j := by
  rw [A_eq]
  show StableHlo.after hostOps0 (fun b => m (c, b)) (Proc.devRef .tc main_v0_0) _ = _
  after_reads_simp
  unfold grad
  rw [if_neg hj]
  rfl

/-- Outside the blocks that window 5 writes its array holds the argument. -/
theorem kept5 (c : Dev nD) (j : S2x512x4096.Idx) (hj : ¬ (j 0).val = 0) :
    (dats m 0 c).A 5 j = delta (arg0 m c) (arg1 m c) (arg2 m c) (arg3 m c) (arg5 m c) j := by
  rw [A_eq]
  show StableHlo.after hostOps0 (fun b => m (c, b)) (Proc.devRef .tc main_v0_1) _ = _
  after_reads_simp
  unfold delta
  rw [if_neg hj]
  rfl

/-- Outside the blocks that window 6 writes its array holds the argument. -/
theorem kept6 (c : Dev nD) (j : S2x512x4096.Idx) (hj : ¬ (j 0).val = 0) :
    (dats m 0 c).A 6 j = moment1 (arg1 m c) (arg3 m c) (arg6 m c) j := by
  rw [A_eq]
  show StableHlo.after hostOps0 (fun b => m (c, b)) (Proc.devRef .tc main_v0_2) _ = _
  after_reads_simp
  unfold moment1
  rw [if_neg hj]
  rfl

/-- Outside the blocks that window 7 writes its array holds the argument. -/
theorem kept7 (c : Dev nD) (j : S2x512x4096.Idx) (hj : ¬ (j 0).val = 0) :
    (dats m 0 c).A 7 j = moment2 (arg2 m c) (arg3 m c) (arg7 m c) j := by
  rw [A_eq]
  show StableHlo.after hostOps0 (fun b => m (c, b)) (Proc.devRef .tc main_v0_3) _ = _
  after_reads_simp
  unfold moment2
  rw [if_neg hj]
  rfl

/-- The result array of window 4. -/
theorem final4 (c : Dev nD) : (dats m 0 c).arrAt 4 (cfgs 0).N = grad (arg3 m c) (arg4 m c) := by
  refine (dats m 0 c).arrAt_eq_of_coversWhere_of_agree 4 _ (fun β => β (0 : Fin 3) = 0) (by decide +kernel) (fun t hf y => ?_) (fun j hj => ?_)
  · have ht : t.val < 8 := t.isLt
    blk_simp
    rw [after0_4, point4]
    blk_ext [row, idx t]
  · blk_simp [Pipeline.Window.cell_apply] at hj
    blk_simp
    exact kept4 m c j (by simpa using hj)

/-- The result array of window 5. -/
theorem final5 (c : Dev nD) : (dats m 0 c).arrAt 5 (cfgs 0).N = delta (arg0 m c) (arg1 m c) (arg2 m c) (arg3 m c) (arg5 m c) := by
  refine (dats m 0 c).arrAt_eq_of_coversWhere_of_agree 5 _ (fun β => β (0 : Fin 3) = 0) (by decide +kernel) (fun t hf y => ?_) (fun j hj => ?_)
  · have ht : t.val < 8 := t.isLt
    blk_simp
    rw [after0_5, point5]
    blk_ext [row, idx t]
  · blk_simp [Pipeline.Window.cell_apply] at hj
    blk_simp
    exact kept5 m c j (by simpa using hj)

/-- The result array of window 6. -/
theorem final6 (c : Dev nD) : (dats m 0 c).arrAt 6 (cfgs 0).N = moment1 (arg1 m c) (arg3 m c) (arg6 m c) := by
  refine (dats m 0 c).arrAt_eq_of_coversWhere_of_agree 6 _ (fun β => β (0 : Fin 3) = 0) (by decide +kernel) (fun t hf y => ?_) (fun j hj => ?_)
  · have ht : t.val < 8 := t.isLt
    blk_simp
    rw [after0_6, point6]
    blk_ext [row, idx t]
  · blk_simp [Pipeline.Window.cell_apply] at hj
    blk_simp
    exact kept6 m c j (by simpa using hj)

/-- The result array of window 7. -/
theorem final7 (c : Dev nD) : (dats m 0 c).arrAt 7 (cfgs 0).N = moment2 (arg2 m c) (arg3 m c) (arg7 m c) := by
  refine (dats m 0 c).arrAt_eq_of_coversWhere_of_agree 7 _ (fun β => β (0 : Fin 3) = 0) (by decide +kernel) (fun t hf y => ?_) (fun j hj => ?_)
  · have ht : t.val < 8 := t.isLt
    blk_simp
    rw [after0_7, point7]
    blk_ext [row, idx t]
  · blk_simp [Pipeline.Window.cell_apply] at hj
    blk_simp
    exact kept7 m c j (by simpa using hj)

end Cert.AdamOutIdeal.Hand

namespace Cert.AdamOutReferenceIdeal.Hand

open Cert.AdamOutReferenceIdeal Cert.AdamOutReferenceIdeal.Read Idealize.ShloMosaic
open Cert.AdamOutIdeal.Hand

/-- The reference's result 0. -/
theorem eq4 (p : S4x512x4096.Idx → EReal) (a : S2x512x4096.Idx → EReal) : val_main_v36 (F := Ideal) p a = grad p a := by
  funext i
  idx_vars i
  obtain rfl | rfl : i0 = 0 ∨ i0 = 1 := by omega
  all_goals pointwise [val_main_v36, val_main_v34, val_main_v35, val_main_v3, val_main_v33, val_main_v2, val_main_cst, val_main_v32]
  all_goals pointwise [grad, total, at0, Adam.step, Adam.first, Adam.second, Fin.sum_univ_four]

/-- The reference's result 1. -/
theorem eq5 (w x v : S2x512x4096.Idx → EReal) (p : S4x512x4096.Idx → EReal) (a : S2x512x4096.Idx → EReal) : val_main_v41 (F := Ideal) w x v p a = delta w x v p a := by
  funext i
  idx_vars i
  obtain rfl | rfl : i0 = 0 ∨ i0 = 1 := by omega
  all_goals pointwise [val_main_v41, val_main_v39, val_main_v40, val_main_v31, val_main_v38, val_main_v30, val_main_v29, val_main_v37, val_main_cst_8, val_main_v26, val_main_v28, val_main_v20, val_main_v25, val_main_v27, val_main_v1, val_main_v12, val_main_v19, val_main_v23, val_main_v24, val_main_cst_7, val_main_v0, val_main_v9, val_main_v11, val_main_cst_4, val_main_v22, val_main_cst_6, val_main_v8, val_main_v5, val_main_v10, val_main_v3, val_main_v18, val_main_v21, val_main_cst_0, val_main_v4, val_main_cst_1, val_main_v2, val_main_cst, val_main_v14, val_main_v17, val_main_cst_5, val_main_v13, val_main_v7, val_main_v16, val_main_v15, val_main_cst_2, val_main_v6, val_main_cst_3]
  all_goals pointwise [delta, total, at0, Adam.step, Adam.first, Adam.second, Fin.sum_univ_four]

/-- The reference's result 2. -/
theorem eq6 (x : S2x512x4096.Idx → EReal) (p : S4x512x4096.Idx → EReal) (a : S2x512x4096.Idx → EReal) : val_main_v46 (F := Ideal) x p a = moment1 x p a := by
  funext i
  idx_vars i
  obtain rfl | rfl : i0 = 0 ∨ i0 = 1 := by omega
  all_goals pointwise [val_main_v46, val_main_v44, val_main_v45, val_main_v12, val_main_v43, val_main_v9, val_main_v11, val_main_v42, val_main_v8, val_main_v5, val_main_v10, val_main_v3, val_main_cst_0, val_main_v4, val_main_cst_1, val_main_v2, val_main_cst]
  all_goals pointwise [moment1, total, at0, Adam.step, Adam.first, Adam.second, Fin.sum_univ_four]

/-- The reference's result 3. -/
theorem eq7 (v : S2x512x4096.Idx → EReal) (p : S4x512x4096.Idx → EReal) (a : S2x512x4096.Idx → EReal) : val_main_v51 (F := Ideal) v p a = moment2 v p a := by
  funext i
  idx_vars i
  obtain rfl | rfl : i0 = 0 ∨ i0 = 1 := by omega
  all_goals pointwise [val_main_v51, val_main_v49, val_main_v50, val_main_v18, val_main_v48, val_main_v14, val_main_v17, val_main_v47, val_main_v13, val_main_v7, val_main_v16, val_main_v15, val_main_cst_2, val_main_v6, val_main_cst_3, val_main_v3, val_main_v2, val_main_cst]
  all_goals pointwise [moment2, total, at0, Adam.step, Adam.first, Adam.second, Fin.sum_univ_four]

end Cert.AdamOutReferenceIdeal.Hand

namespace Cert.Proof

open Idealize.ShloMosaic Idealize.SL.Sem Cert.AdamOutIdeal.Hand Cert.AdamOutReferenceIdeal.Hand Cert.AdamOutReferenceIdeal.Read

/-- The AdamW step of w_out: the program and its reference agree on the extended reals. -/
theorem adamOut_algebraic : Cert.algebraic_AdamOutIdeal_AdamOutReferenceIdeal := by
  intro m g m' g' _ hagree
  refine ⟨fun c => grad (arg3 m c) (arg4 m c), fun c => delta (arg0 m c) (arg1 m c) (arg2 m c) (arg3 m c) (arg5 m c), fun c => moment1 (arg1 m c) (arg3 m c) (arg6 m c), fun c => moment2 (arg2 m c) (arg3 m c) (arg7 m c), ?_, ?_⟩
  · refine (θ_run _ _ _).mono (fun r h c => ?_) (Cert.AdamOutIdeal.Value.run_blocks m g)
    obtain ⟨h0, h1, h2, h3, hk⟩ := h c
    exact ⟨h0.trans (final4 m c), h1.trans (final5 m c), h2.trans (final6 m c), h3.trans (final7 m c), hk⟩
  · refine (θ_run _ _ _).mono (fun r h c => ?_) (Cert.AdamOutReferenceIdeal.Value.run m' g')
    obtain ⟨h0, h1, h2, h3, hk⟩ := h c
    obtain ⟨a0, a1, a2, a3, a4, a5, a6, a7⟩ := hagree c
    refine ⟨h0.trans ?_, h1.trans ?_, h2.trans ?_, h3.trans ?_, hk⟩
    · rw [val_main_v36_eq, eq4, a3, a4]
    · rw [val_main_v41_eq, eq5, a0, a1, a2, a3, a5]
    · rw [val_main_v46_eq, eq6, a1, a3, a6]
    · rw [val_main_v51_eq, eq7, a2, a3, a7]

/-- The reference runs to its end, keeps its arguments and uses no semaphore. -/
theorem adamOut_reference_frame : Cert.quiescent_AdamOutReferenceIdeal := fun m ρ _ =>
  (θ_run Cert.AdamOutReferenceIdeal.defs _ _).mono (fun r h => ⟨fun c => (h c).2.2.2.2, sem_eq_zero_of_no_sems (by decide) r.2⟩)
    (Cert.AdamOutReferenceIdeal.Value.run (F := Ideal) m ρ)

end Cert.Proof

end
-- ==== Proof.Joined.lean ====
/- An element-by-element function commutes with laying vectors end to end and with padding them. -/
module

public import Idealize.ShloMosaic.Lib.Pointwise

@[expose] public section

noncomputable section

namespace Cert.Joined

open Idealize.ShloMosaic

variable {α β : Type}

/-- The extents along the axis do not depend on the elements. -/
theorem sizes (f : α → β) (t : Shape) (a : Fin t.rank) (xs : List ((s : Shape) × (s.Idx → α))) :
    axisSizes t a (xs.map fun p => (⟨p.1, fun i => f (p.2 i)⟩ : (s : Shape) × (s.Idx → β))) = axisSizes t a xs := by
  simp [axisSizes, Function.comp_def]

/-- Pieces read at a position, a function applied to each element. -/
theorem at_map (f : α → β) (t : Shape) (a : Fin t.rank) (j : t.Idx) :
    ∀ (xs : List ((s : Shape) × (s.Idx → α))) (hs : ∀ s ∈ xs.map (·.1), s.FitsOff t a)
      (hs' : ∀ s ∈ (xs.map fun p => (⟨p.1, fun i => f (p.2 i)⟩ : (s : Shape) × (s.Idx → β))).map (·.1), s.FitsOff t a) (c : ℕ)
      (hc : c < (axisSizes t a xs).sum)
      (hc' : c < (axisSizes t a (xs.map fun p => (⟨p.1, fun i => f (p.2 i)⟩ : (s : Shape) × (s.Idx → β)))).sum),
      concatenateAt t a j (xs.map fun p => (⟨p.1, fun i => f (p.2 i)⟩ : (s : Shape) × (s.Idx → β))) hs' c hc'
        = f (concatenateAt t a j xs hs c hc)
  | [], _, _, _, hc, _ => absurd hc (Nat.not_lt_zero _)
  | [p], hs, hs', c, hc, hc' => by
    simp only [List.map_cons, List.map_nil, concatenateAt]
  | p :: q :: xs, hs, hs', c, hc, hc' => by
    have h := at_map f t a j (q :: xs) (fun s h => hs s (List.mem_cons_of_mem _ h))
    simp only [List.map_cons] at h ⊢
    rw [concatenateAt, concatenateAt]
    split
    · rfl
    · rename_i hlt
      have hp : p.1.FitsOff t a := hs p.1 List.mem_cons_self
      have hlt' : ¬ c < p.1.size (a.cast hp.rank_eq.symm) := hlt
      have hc1 : c - p.1.size (a.cast hp.rank_eq.symm) < (axisSizes t a (q :: xs)).sum := by
        rw [axisSizes_cons t a p (q :: xs) hp, List.sum_cons] at hc
        omega
      have hc2 := hc1
      rw [← sizes f t a (q :: xs)] at hc2
      exact h (fun s hh => hs' s (List.mem_cons_of_mem _ hh)) _ hc1 hc2

/-- A concatenation with a function applied to each element. -/
theorem map (f : α → β) (t : Shape) (a : Fin t.rank) (xs : List ((s : Shape) × (s.Idx → α)))
    (h : Shape.Concatenates (xs.map (·.1)) t a)
    (h' : Shape.Concatenates ((xs.map fun p => (⟨p.1, fun i => f (p.2 i)⟩ : (s : Shape) × (s.Idx → β))).map (·.1)) t a) :
    concatenate t a (xs.map fun p => (⟨p.1, fun i => f (p.2 i)⟩ : (s : Shape) × (s.Idx → β))) h'
      = fun j => f (concatenate t a xs h j) := by
  funext j
  rw [concatenate_apply, concatenate_apply]
  exact at_map f t a j xs _ _ _ _ _

/-- A function of two elements, applied to each pair of pieces' elements. -/
theorem map2 (f : EReal → EReal → EReal) (t : Shape) (a : Fin t.rank) (xs : List ((s : Shape) × (s.Idx → EReal × EReal)))
    (h : Shape.Concatenates (xs.map (·.1)) t a)
    (h0 : Shape.Concatenates ((xs.map fun p => (⟨p.1, fun i => f (p.2 i).1 (p.2 i).2⟩ : (s : Shape) × (s.Idx → EReal))).map (·.1)) t a)
    (h1 : Shape.Concatenates ((xs.map fun p => (⟨p.1, fun i => (p.2 i).1⟩ : (s : Shape) × (s.Idx → EReal))).map (·.1)) t a)
    (h2 : Shape.Concatenates ((xs.map fun p => (⟨p.1, fun i => (p.2 i).2⟩ : (s : Shape) × (s.Idx → EReal))).map (·.1)) t a) :
    concatenate t a (xs.map fun p => (⟨p.1, fun i => f (p.2 i).1 (p.2 i).2⟩ : (s : Shape) × (s.Idx → EReal))) h0
      = fun j => f (concatenate t a (xs.map fun p => (⟨p.1, fun i => (p.2 i).1⟩ : (s : Shape) × (s.Idx → EReal))) h1 j)
          (concatenate t a (xs.map fun p => (⟨p.1, fun i => (p.2 i).2⟩ : (s : Shape) × (s.Idx → EReal))) h2 j) := by
  rw [map (fun q : EReal × EReal => f q.1 q.2) t a xs h h0, map (fun q : EReal × EReal => q.1) t a xs h h1,
    map (fun q : EReal × EReal => q.2) t a xs h h2]

/-- A function of four elements, applied to the elements of four lists of pieces. -/
theorem map4 (f : EReal → EReal → EReal → EReal → EReal) (t : Shape) (a : Fin t.rank)
    (xs : List ((s : Shape) × (s.Idx → EReal × EReal × EReal × EReal)))
    (h : Shape.Concatenates (xs.map (·.1)) t a)
    (h0 : Shape.Concatenates ((xs.map fun p => (⟨p.1, fun i => f (p.2 i).1 (p.2 i).2.1 (p.2 i).2.2.1 (p.2 i).2.2.2⟩ : (s : Shape) × (s.Idx → EReal))).map (·.1)) t a)
    (h1 : Shape.Concatenates ((xs.map fun p => (⟨p.1, fun i => (p.2 i).1⟩ : (s : Shape) × (s.Idx → EReal))).map (·.1)) t a)
    (h2 : Shape.Concatenates ((xs.map fun p => (⟨p.1, fun i => (p.2 i).2.1⟩ : (s : Shape) × (s.Idx → EReal))).map (·.1)) t a)
    (h3 : Shape.Concatenates ((xs.map fun p => (⟨p.1, fun i => (p.2 i).2.2.1⟩ : (s : Shape) × (s.Idx → EReal))).map (·.1)) t a)
    (h4 : Shape.Concatenates ((xs.map fun p => (⟨p.1, fun i => (p.2 i).2.2.2⟩ : (s : Shape) × (s.Idx → EReal))).map (·.1)) t a) :
    concatenate t a (xs.map fun p => (⟨p.1, fun i => f (p.2 i).1 (p.2 i).2.1 (p.2 i).2.2.1 (p.2 i).2.2.2⟩ : (s : Shape) × (s.Idx → EReal))) h0
      = fun j => f (concatenate t a (xs.map fun p => (⟨p.1, fun i => (p.2 i).1⟩ : (s : Shape) × (s.Idx → EReal))) h1 j)
          (concatenate t a (xs.map fun p => (⟨p.1, fun i => (p.2 i).2.1⟩ : (s : Shape) × (s.Idx → EReal))) h2 j)
          (concatenate t a (xs.map fun p => (⟨p.1, fun i => (p.2 i).2.2.1⟩ : (s : Shape) × (s.Idx → EReal))) h3 j)
          (concatenate t a (xs.map fun p => (⟨p.1, fun i => (p.2 i).2.2.2⟩ : (s : Shape) × (s.Idx → EReal))) h4 j) := by
  rw [map (fun q : EReal × EReal × EReal × EReal => f q.1 q.2.1 q.2.2.1 q.2.2.2) t a xs h h0,
    map (fun q : EReal × EReal × EReal × EReal => q.1) t a xs h h1,
    map (fun q : EReal × EReal × EReal × EReal => q.2.1) t a xs h h2,
    map (fun q : EReal × EReal × EReal × EReal => q.2.2.1) t a xs h h3,
    map (fun q : EReal × EReal × EReal × EReal => q.2.2.2) t a xs h h4]

/-- Padding with zeros, of a function of two elements that takes zeros to zero. -/
theorem pad2 (f : EReal → EReal → EReal) (hf : f 0 0 = 0) {s u : Shape} (t : Shape) (lo hi interior : Fin s.rank → ℕ)
    (x y : s.Idx → EReal) (z : u.Idx → EReal) (hz : z = fun _ => 0) (h : s.Pads lo hi interior t) (hu : 0 < u.numel) :
    pad t lo hi interior (fun i => f (x i) (y i)) z h hu
      = fun j => f (pad t lo hi interior x z h hu j) (pad t lo hi interior y z h hu j) := by
  subst hz
  funext j
  unfold pad
  split
  · rfl
  · exact hf.symm

/-- Padding with zeros, of a function of four elements that takes zeros to zero. -/
theorem pad4 (f : EReal → EReal → EReal → EReal → EReal) (hf : f 0 0 0 0 = 0) {s u : Shape} (t : Shape)
    (lo hi interior : Fin s.rank → ℕ) (w x y q : s.Idx → EReal) (z : u.Idx → EReal) (hz : z = fun _ => 0)
    (h : s.Pads lo hi interior t) (hu : 0 < u.numel) :
    pad t lo hi interior (fun i => f (w i) (x i) (y i) (q i)) z h hu
      = fun j => f (pad t lo hi interior w z h hu j) (pad t lo hi interior x z h hu j) (pad t lo hi interior y z h hu j)
          (pad t lo hi interior q z h hu j) := by
  subst hz
  funext j
  unfold pad
  split
  · rfl
  · exact hf.symm

end Cert.Joined

end
-- ==== Proof.AdamRestReference.lean ====
/- The replicated weights' AdamW step: the reference takes each weight's step and then lays the results end to end, which
   is the step of the weights laid end to end. -/
module

public import proofs.«01_k».proof.Proof.Gen.AdamRestReferenceIdeal.Read
public import Idealize.ShloMosaic.Lib.Pointwise
public import proofs.«01_k».proof.Proof.AdamStep
public import proofs.«01_k».proof.Proof.Joined

@[expose] public section

set_option maxRecDepth 16384

noncomputable section

namespace Cert.AdamRestReferenceIdeal.Hand

open Cert.AdamRestReferenceIdeal Cert.AdamRestReferenceIdeal.Gen Cert.AdamRestReferenceIdeal.Read Idealize.ShloMosaic

/-- The first sixteen weights end to end. -/
def head (a0 : S2x4096.Idx → EReal) (a1 a2 : S2x8.Idx → EReal) (a3 : S2x128.Idx → EReal) (a4 : S2x1024.Idx → EReal) (a5 : S2x8x128x128.Idx → EReal) (a6 : S2x1024.Idx → EReal) (a7 : S2x8x128x128.Idx → EReal) (a8 a9 : S2x1024.Idx → EReal) (a10 : S2x64.Idx → EReal) (a11 a12 : S2x64x64.Idx → EReal) (a13 a14 : S2x64x64x16.Idx → EReal) (a15 : S2x64x16x64.Idx → EReal) : S950688.Idx → EReal :=
  concatenate S950688 0 [⟨S8192, shapeCast S8192 a0 shapeCasts_S2x4096_S8192⟩, ⟨S16, shapeCast S16 a1 shapeCasts_S2x8_S16⟩, ⟨S16, shapeCast S16 a2 shapeCasts_S2x8_S16⟩, ⟨S256, shapeCast S256 a3 shapeCasts_S2x128_S256⟩, ⟨S2048, shapeCast S2048 a4 shapeCasts_S2x1024_S2048⟩, ⟨S262144, shapeCast S262144 a5 shapeCasts_S2x8x128x128_S262144⟩, ⟨S2048, shapeCast S2048 a6 shapeCasts_S2x1024_S2048⟩, ⟨S262144, shapeCast S262144 a7 shapeCasts_S2x8x128x128_S262144⟩, ⟨S2048, shapeCast S2048 a8 shapeCasts_S2x1024_S2048⟩, ⟨S2048, shapeCast S2048 a9 shapeCasts_S2x1024_S2048⟩, ⟨S128, shapeCast S128 a10 shapeCasts_S2x64_S128⟩, ⟨S8192, shapeCast S8192 a11 shapeCasts_S2x64x64_S8192⟩, ⟨S8192, shapeCast S8192 a12 shapeCasts_S2x64x64_S8192⟩, ⟨S131072, shapeCast S131072 a13 shapeCasts_S2x64x64x16_S131072⟩, ⟨S131072, shapeCast S131072 a14 shapeCasts_S2x64x64x16_S131072⟩, ⟨S131072, shapeCast S131072 a15 shapeCasts_S2x64x16x64_S131072⟩] concatenates_S8192_S16_S16_S256_S2048_S262144_S2048_S262144_S2048_S2048_S128_S8192_S8192_S131072_S131072_S131072_S950688_d0

/-- The other five weights end to end. -/
def rest (a16 : S2x64x16x64.Idx → EReal) (a17 : S2x64x16.Idx → EReal) (a18 : S2x2048.Idx → EReal) (a19 : S2x4096.Idx → EReal) (a20 : S4096.Idx → EReal) : S149504.Idx → EReal :=
  concatenate S149504 0 [⟨S131072, shapeCast S131072 a16 shapeCasts_S2x64x16x64_S131072⟩, ⟨S2048, shapeCast S2048 a17 shapeCasts_S2x64x16_S2048⟩, ⟨S4096, shapeCast S4096 a18 shapeCasts_S2x2048_S4096⟩, ⟨S8192, shapeCast S8192 a19 shapeCasts_S2x4096_S8192⟩, ⟨S4096, a20⟩] concatenates_S131072_S2048_S4096_S8192_S4096_S149504_d0

/-- The two runs of weights in one. -/
def whole (x : S950688.Idx → EReal) (y : S149504.Idx → EReal) : S1100192.Idx → EReal :=
  concatenate S1100192 0 [⟨S950688, x⟩, ⟨S149504, y⟩] concatenates_S950688_S149504_S1100192_d0

/-- The weights as rows of 512, zeros after the last of them. -/
def packed (a0 : S2x4096.Idx → EReal) (a1 a2 : S2x8.Idx → EReal) (a3 : S2x128.Idx → EReal) (a4 : S2x1024.Idx → EReal) (a5 : S2x8x128x128.Idx → EReal) (a6 : S2x1024.Idx → EReal) (a7 : S2x8x128x128.Idx → EReal) (a8 a9 : S2x1024.Idx → EReal) (a10 : S2x64.Idx → EReal) (a11 a12 : S2x64x64.Idx → EReal) (a13 a14 : S2x64x64x16.Idx → EReal) (a15 a16 : S2x64x16x64.Idx → EReal) (a17 : S2x64x16.Idx → EReal) (a18 : S2x2048.Idx → EReal) (a19 : S2x4096.Idx → EReal) (a20 : S4096.Idx → EReal) : S2176x512.Idx → EReal :=
  shapeCast S2176x512 (pad S1114112 ![0] ![13920] ![0] (whole (head a0 a1 a2 a3 a4 a5 a6 a7 a8 a9 a10 a11 a12 a13 a14 a15) (rest a16 a17 a18 a19 a20)) ((fun _ => 0) : S_.Idx → EReal) pads_S1100192_S1114112_0139200 h_S_) shapeCasts_S1114112_S2176x512

/-- The number that follows the last weight is zero. -/
theorem tail : (sitofp (F := Ideal) .f32 (constantI S_ 32 0#32) : S_.Idx → EReal) = fun _ => 0 := by
  funext i
  show ((((0#32 : BitVec 32).toInt : ℤ) : ℝ) : EReal) = 0
  simp

/-- The first moment keeps a zero where moment and gradient are zero. -/
theorem first_zero : Adam.first 0 0 = 0 := by
  simp [Adam.first]

/-- The second moment keeps a zero where moment and gradient are zero. -/
theorem second_zero : Adam.second 0 0 = 0 := by
  simp [Adam.second]

/-- Zero over a number that is not zero is zero. -/
theorem zero_over {y : EReal} (h : y ≠ 0) : Ideal.div 0 y = 0 := by
  simp [Ideal.div, h]

/-- The step is zero where weight, moments and gradient are zero. -/
theorem step_zero : Adam.step 0 0 0 0 = 0 := by
  have h1 : Ideal.ofBits .f32 0x3F26BD02#32 ≠ 0 := by
    simp [Ideal.ofBits, Ideal.ieee, -EReal.coe_mul]
  have h2 : Ideal.ofBits .f32 0x3C231ACC#32 ≠ 0 := by
    simp [Ideal.ofBits, Ideal.ieee, -EReal.coe_mul]
  have h3 : Ideal.ofBits .f32 0x322BCC77#32 ≠ 0 := by
    simp [Ideal.ofBits, Ideal.ieee, -EReal.coe_mul]
  have h4 : Ideal.sqrt 0 = 0 := by
    show ((if (0 : ℝ) < 0 then ⊥ else (Real.sqrt 0 : EReal)) : EReal) = 0
    simp
  rw [Adam.step, first_zero, second_zero, zero_over h1, zero_over h2, h4, zero_add, zero_over h3]
  simp

/-- The steps of the first sixteen weights. -/
theorem step_head (w0 : S2x4096.Idx → EReal) (w1 w2 : S2x8.Idx → EReal) (w3 : S2x128.Idx → EReal) (w4 : S2x1024.Idx → EReal) (w5 : S2x8x128x128.Idx → EReal) (w6 : S2x1024.Idx → EReal) (w7 : S2x8x128x128.Idx → EReal) (w8 w9 : S2x1024.Idx → EReal) (w10 : S2x64.Idx → EReal) (w11 w12 : S2x64x64.Idx → EReal) (w13 w14 : S2x64x64x16.Idx → EReal) (w15 : S2x64x16x64.Idx → EReal) (m0 : S2x4096.Idx → EReal) (m1 m2 : S2x8.Idx → EReal) (m3 : S2x128.Idx → EReal) (m4 : S2x1024.Idx → EReal) (m5 : S2x8x128x128.Idx → EReal) (m6 : S2x1024.Idx → EReal) (m7 : S2x8x128x128.Idx → EReal) (m8 m9 : S2x1024.Idx → EReal) (m10 : S2x64.Idx → EReal) (m11 m12 : S2x64x64.Idx → EReal) (m13 m14 : S2x64x64x16.Idx → EReal) (m15 : S2x64x16x64.Idx → EReal) (v0 : S2x4096.Idx → EReal) (v1 v2 : S2x8.Idx → EReal) (v3 : S2x128.Idx → EReal) (v4 : S2x1024.Idx → EReal) (v5 : S2x8x128x128.Idx → EReal) (v6 : S2x1024.Idx → EReal) (v7 : S2x8x128x128.Idx → EReal) (v8 v9 : S2x1024.Idx → EReal) (v10 : S2x64.Idx → EReal) (v11 v12 : S2x64x64.Idx → EReal) (v13 v14 : S2x64x64x16.Idx → EReal) (v15 : S2x64x16x64.Idx → EReal) (g0 : S2x4096.Idx → EReal) (g1 g2 : S2x8.Idx → EReal) (g3 : S2x128.Idx → EReal) (g4 : S2x1024.Idx → EReal) (g5 : S2x8x128x128.Idx → EReal) (g6 : S2x1024.Idx → EReal) (g7 : S2x8x128x128.Idx → EReal) (g8 g9 : S2x1024.Idx → EReal) (g10 : S2x64.Idx → EReal) (g11 g12 : S2x64x64.Idx → EReal) (g13 g14 : S2x64x64x16.Idx → EReal) (g15 : S2x64x16x64.Idx → EReal) :
    val_main_v587 (F := Ideal) w0 w1 w2 w3 w4 w5 w6 w7 w8 w9 w10 w11 w12 w13 w14 w15 m0 m1 m2 m3 m4 m5 m6 m7 m8 m9 m10 m11 m12 m13 m14 m15 v0 v1 v2 v3 v4 v5 v6 v7 v8 v9 v10 v11 v12 v13 v14 v15 g0 g1 g2 g3 g4 g5 g6 g7 g8 g9 g10 g11 g12 g13 g14 g15 = fun j => Adam.step (head w0 w1 w2 w3 w4 w5 w6 w7 w8 w9 w10 w11 w12 w13 w14 w15 j) (head m0 m1 m2 m3 m4 m5 m6 m7 m8 m9 m10 m11 m12 m13 m14 m15 j) (head v0 v1 v2 v3 v4 v5 v6 v7 v8 v9 v10 v11 v12 v13 v14 v15 j) (head g0 g1 g2 g3 g4 g5 g6 g7 g8 g9 g10 g11 g12 g13 g14 g15 j) :=
  Joined.map4 Adam.step S950688 0 [⟨S8192, fun i => (shapeCast S8192 w0 shapeCasts_S2x4096_S8192 i, shapeCast S8192 m0 shapeCasts_S2x4096_S8192 i, shapeCast S8192 v0 shapeCasts_S2x4096_S8192 i, shapeCast S8192 g0 shapeCasts_S2x4096_S8192 i)⟩, ⟨S16, fun i => (shapeCast S16 w1 shapeCasts_S2x8_S16 i, shapeCast S16 m1 shapeCasts_S2x8_S16 i, shapeCast S16 v1 shapeCasts_S2x8_S16 i, shapeCast S16 g1 shapeCasts_S2x8_S16 i)⟩, ⟨S16, fun i => (shapeCast S16 w2 shapeCasts_S2x8_S16 i, shapeCast S16 m2 shapeCasts_S2x8_S16 i, shapeCast S16 v2 shapeCasts_S2x8_S16 i, shapeCast S16 g2 shapeCasts_S2x8_S16 i)⟩, ⟨S256, fun i => (shapeCast S256 w3 shapeCasts_S2x128_S256 i, shapeCast S256 m3 shapeCasts_S2x128_S256 i, shapeCast S256 v3 shapeCasts_S2x128_S256 i, shapeCast S256 g3 shapeCasts_S2x128_S256 i)⟩, ⟨S2048, fun i => (shapeCast S2048 w4 shapeCasts_S2x1024_S2048 i, shapeCast S2048 m4 shapeCasts_S2x1024_S2048 i, shapeCast S2048 v4 shapeCasts_S2x1024_S2048 i, shapeCast S2048 g4 shapeCasts_S2x1024_S2048 i)⟩, ⟨S262144, fun i => (shapeCast S262144 w5 shapeCasts_S2x8x128x128_S262144 i, shapeCast S262144 m5 shapeCasts_S2x8x128x128_S262144 i, shapeCast S262144 v5 shapeCasts_S2x8x128x128_S262144 i, shapeCast S262144 g5 shapeCasts_S2x8x128x128_S262144 i)⟩, ⟨S2048, fun i => (shapeCast S2048 w6 shapeCasts_S2x1024_S2048 i, shapeCast S2048 m6 shapeCasts_S2x1024_S2048 i, shapeCast S2048 v6 shapeCasts_S2x1024_S2048 i, shapeCast S2048 g6 shapeCasts_S2x1024_S2048 i)⟩, ⟨S262144, fun i => (shapeCast S262144 w7 shapeCasts_S2x8x128x128_S262144 i, shapeCast S262144 m7 shapeCasts_S2x8x128x128_S262144 i, shapeCast S262144 v7 shapeCasts_S2x8x128x128_S262144 i, shapeCast S262144 g7 shapeCasts_S2x8x128x128_S262144 i)⟩, ⟨S2048, fun i => (shapeCast S2048 w8 shapeCasts_S2x1024_S2048 i, shapeCast S2048 m8 shapeCasts_S2x1024_S2048 i, shapeCast S2048 v8 shapeCasts_S2x1024_S2048 i, shapeCast S2048 g8 shapeCasts_S2x1024_S2048 i)⟩, ⟨S2048, fun i => (shapeCast S2048 w9 shapeCasts_S2x1024_S2048 i, shapeCast S2048 m9 shapeCasts_S2x1024_S2048 i, shapeCast S2048 v9 shapeCasts_S2x1024_S2048 i, shapeCast S2048 g9 shapeCasts_S2x1024_S2048 i)⟩, ⟨S128, fun i => (shapeCast S128 w10 shapeCasts_S2x64_S128 i, shapeCast S128 m10 shapeCasts_S2x64_S128 i, shapeCast S128 v10 shapeCasts_S2x64_S128 i, shapeCast S128 g10 shapeCasts_S2x64_S128 i)⟩, ⟨S8192, fun i => (shapeCast S8192 w11 shapeCasts_S2x64x64_S8192 i, shapeCast S8192 m11 shapeCasts_S2x64x64_S8192 i, shapeCast S8192 v11 shapeCasts_S2x64x64_S8192 i, shapeCast S8192 g11 shapeCasts_S2x64x64_S8192 i)⟩, ⟨S8192, fun i => (shapeCast S8192 w12 shapeCasts_S2x64x64_S8192 i, shapeCast S8192 m12 shapeCasts_S2x64x64_S8192 i, shapeCast S8192 v12 shapeCasts_S2x64x64_S8192 i, shapeCast S8192 g12 shapeCasts_S2x64x64_S8192 i)⟩, ⟨S131072, fun i => (shapeCast S131072 w13 shapeCasts_S2x64x64x16_S131072 i, shapeCast S131072 m13 shapeCasts_S2x64x64x16_S131072 i, shapeCast S131072 v13 shapeCasts_S2x64x64x16_S131072 i, shapeCast S131072 g13 shapeCasts_S2x64x64x16_S131072 i)⟩, ⟨S131072, fun i => (shapeCast S131072 w14 shapeCasts_S2x64x64x16_S131072 i, shapeCast S131072 m14 shapeCasts_S2x64x64x16_S131072 i, shapeCast S131072 v14 shapeCasts_S2x64x64x16_S131072 i, shapeCast S131072 g14 shapeCasts_S2x64x64x16_S131072 i)⟩, ⟨S131072, fun i => (shapeCast S131072 w15 shapeCasts_S2x64x16x64_S131072 i, shapeCast S131072 m15 shapeCasts_S2x64x16x64_S131072 i, shapeCast S131072 v15 shapeCasts_S2x64x16x64_S131072 i, shapeCast S131072 g15 shapeCasts_S2x64x16x64_S131072 i)⟩] concatenates_S8192_S16_S16_S256_S2048_S262144_S2048_S262144_S2048_S2048_S128_S8192_S8192_S131072_S131072_S131072_S950688_d0 concatenates_S8192_S16_S16_S256_S2048_S262144_S2048_S262144_S2048_S2048_S128_S8192_S8192_S131072_S131072_S131072_S950688_d0 concatenates_S8192_S16_S16_S256_S2048_S262144_S2048_S262144_S2048_S2048_S128_S8192_S8192_S131072_S131072_S131072_S950688_d0 concatenates_S8192_S16_S16_S256_S2048_S262144_S2048_S262144_S2048_S2048_S128_S8192_S8192_S131072_S131072_S131072_S950688_d0 concatenates_S8192_S16_S16_S256_S2048_S262144_S2048_S262144_S2048_S2048_S128_S8192_S8192_S131072_S131072_S131072_S950688_d0 concatenates_S8192_S16_S16_S256_S2048_S262144_S2048_S262144_S2048_S2048_S128_S8192_S8192_S131072_S131072_S131072_S950688_d0

/-- The steps of the other five. -/
theorem step_rest (w16 : S2x64x16x64.Idx → EReal) (w17 : S2x64x16.Idx → EReal) (w18 : S2x2048.Idx → EReal) (w19 : S2x4096.Idx → EReal) (w20 : S4096.Idx → EReal) (m16 : S2x64x16x64.Idx → EReal) (m17 : S2x64x16.Idx → EReal) (m18 : S2x2048.Idx → EReal) (m19 : S2x4096.Idx → EReal) (m20 : S4096.Idx → EReal) (v16 : S2x64x16x64.Idx → EReal) (v17 : S2x64x16.Idx → EReal) (v18 : S2x2048.Idx → EReal) (v19 : S2x4096.Idx → EReal) (v20 : S4096.Idx → EReal) (g16 : S2x64x16x64.Idx → EReal) (g17 : S2x64x16.Idx → EReal) (g18 : S2x2048.Idx → EReal) (g19 : S2x4096.Idx → EReal) (g20 : S4096.Idx → EReal) :
    val_main_v588 (F := Ideal) w16 w17 w18 w19 w20 m16 m17 m18 m19 m20 v16 v17 v18 v19 v20 g16 g17 g18 g19 g20 = fun j => Adam.step (rest w16 w17 w18 w19 w20 j) (rest m16 m17 m18 m19 m20 j) (rest v16 v17 v18 v19 v20 j) (rest g16 g17 g18 g19 g20 j) :=
  Joined.map4 Adam.step S149504 0 [⟨S131072, fun i => (shapeCast S131072 w16 shapeCasts_S2x64x16x64_S131072 i, shapeCast S131072 m16 shapeCasts_S2x64x16x64_S131072 i, shapeCast S131072 v16 shapeCasts_S2x64x16x64_S131072 i, shapeCast S131072 g16 shapeCasts_S2x64x16x64_S131072 i)⟩, ⟨S2048, fun i => (shapeCast S2048 w17 shapeCasts_S2x64x16_S2048 i, shapeCast S2048 m17 shapeCasts_S2x64x16_S2048 i, shapeCast S2048 v17 shapeCasts_S2x64x16_S2048 i, shapeCast S2048 g17 shapeCasts_S2x64x16_S2048 i)⟩, ⟨S4096, fun i => (shapeCast S4096 w18 shapeCasts_S2x2048_S4096 i, shapeCast S4096 m18 shapeCasts_S2x2048_S4096 i, shapeCast S4096 v18 shapeCasts_S2x2048_S4096 i, shapeCast S4096 g18 shapeCasts_S2x2048_S4096 i)⟩, ⟨S8192, fun i => (shapeCast S8192 w19 shapeCasts_S2x4096_S8192 i, shapeCast S8192 m19 shapeCasts_S2x4096_S8192 i, shapeCast S8192 v19 shapeCasts_S2x4096_S8192 i, shapeCast S8192 g19 shapeCasts_S2x4096_S8192 i)⟩, ⟨S4096, fun i => (w20 i, m20 i, v20 i, g20 i)⟩] concatenates_S131072_S2048_S4096_S8192_S4096_S149504_d0 concatenates_S131072_S2048_S4096_S8192_S4096_S149504_d0 concatenates_S131072_S2048_S4096_S8192_S4096_S149504_d0 concatenates_S131072_S2048_S4096_S8192_S4096_S149504_d0 concatenates_S131072_S2048_S4096_S8192_S4096_S149504_d0 concatenates_S131072_S2048_S4096_S8192_S4096_S149504_d0

/-- The steps of two runs in one. -/
theorem step_whole (xw : S950688.Idx → EReal) (yw : S149504.Idx → EReal) (xm : S950688.Idx → EReal) (ym : S149504.Idx → EReal) (xv : S950688.Idx → EReal) (yv : S149504.Idx → EReal) (xg : S950688.Idx → EReal) (yg : S149504.Idx → EReal) :
    whole (fun j => Adam.step (xw j) (xm j) (xv j) (xg j)) (fun j => Adam.step (yw j) (ym j) (yv j) (yg j)) = fun j => Adam.step (whole xw yw j) (whole xm ym j) (whole xv yv j) (whole xg yg j) :=
  Joined.map4 Adam.step S1100192 0 [⟨S950688, fun j => (xw j, xm j, xv j, xg j)⟩, ⟨S149504, fun j => (yw j, ym j, yv j, yg j)⟩] concatenates_S950688_S149504_S1100192_d0 concatenates_S950688_S149504_S1100192_d0 concatenates_S950688_S149504_S1100192_d0 concatenates_S950688_S149504_S1100192_d0 concatenates_S950688_S149504_S1100192_d0 concatenates_S950688_S149504_S1100192_d0

/-- The reference's steps: the step at each element of the packed weights. -/
theorem step_eq (w0 : S2x4096.Idx → EReal) (w1 w2 : S2x8.Idx → EReal) (w3 : S2x128.Idx → EReal) (w4 : S2x1024.Idx → EReal) (w5 : S2x8x128x128.Idx → EReal) (w6 : S2x1024.Idx → EReal) (w7 : S2x8x128x128.Idx → EReal) (w8 w9 : S2x1024.Idx → EReal) (w10 : S2x64.Idx → EReal) (w11 w12 : S2x64x64.Idx → EReal) (w13 w14 : S2x64x64x16.Idx → EReal) (w15 w16 : S2x64x16x64.Idx → EReal) (w17 : S2x64x16.Idx → EReal) (w18 : S2x2048.Idx → EReal) (w19 : S2x4096.Idx → EReal) (w20 : S4096.Idx → EReal) (m0 : S2x4096.Idx → EReal) (m1 m2 : S2x8.Idx → EReal) (m3 : S2x128.Idx → EReal) (m4 : S2x1024.Idx → EReal) (m5 : S2x8x128x128.Idx → EReal) (m6 : S2x1024.Idx → EReal) (m7 : S2x8x128x128.Idx → EReal) (m8 m9 : S2x1024.Idx → EReal) (m10 : S2x64.Idx → EReal) (m11 m12 : S2x64x64.Idx → EReal) (m13 m14 : S2x64x64x16.Idx → EReal) (m15 m16 : S2x64x16x64.Idx → EReal) (m17 : S2x64x16.Idx → EReal) (m18 : S2x2048.Idx → EReal) (m19 : S2x4096.Idx → EReal) (m20 : S4096.Idx → EReal) (v0 : S2x4096.Idx → EReal) (v1 v2 : S2x8.Idx → EReal) (v3 : S2x128.Idx → EReal) (v4 : S2x1024.Idx → EReal) (v5 : S2x8x128x128.Idx → EReal) (v6 : S2x1024.Idx → EReal) (v7 : S2x8x128x128.Idx → EReal) (v8 v9 : S2x1024.Idx → EReal) (v10 : S2x64.Idx → EReal) (v11 v12 : S2x64x64.Idx → EReal) (v13 v14 : S2x64x64x16.Idx → EReal) (v15 v16 : S2x64x16x64.Idx → EReal) (v17 : S2x64x16.Idx → EReal) (v18 : S2x2048.Idx → EReal) (v19 : S2x4096.Idx → EReal) (v20 : S4096.Idx → EReal) (g0 : S2x4096.Idx → EReal) (g1 g2 : S2x8.Idx → EReal) (g3 : S2x128.Idx → EReal) (g4 : S2x1024.Idx → EReal) (g5 : S2x8x128x128.Idx → EReal) (g6 : S2x1024.Idx → EReal) (g7 : S2x8x128x128.Idx → EReal) (g8 g9 : S2x1024.Idx → EReal) (g10 : S2x64.Idx → EReal) (g11 g12 : S2x64x64.Idx → EReal) (g13 g14 : S2x64x64x16.Idx → EReal) (g15 g16 : S2x64x16x64.Idx → EReal) (g17 : S2x64x16.Idx → EReal) (g18 : S2x2048.Idx → EReal) (g19 : S2x4096.Idx → EReal) (g20 : S4096.Idx → EReal) :
    val_main_v599 (F := Ideal) w0 w1 w2 w3 w4 w5 w6 w7 w8 w9 w10 w11 w12 w13 w14 w15 w16 w17 w18 w19 w20 m0 m1 m2 m3 m4 m5 m6 m7 m8 m9 m10 m11 m12 m13 m14 m15 m16 m17 m18 m19 m20 v0 v1 v2 v3 v4 v5 v6 v7 v8 v9 v10 v11 v12 v13 v14 v15 v16 v17 v18 v19 v20 g0 g1 g2 g3 g4 g5 g6 g7 g8 g9 g10 g11 g12 g13 g14 g15 g16 g17 g18 g19 g20 = fun j => Adam.step (packed w0 w1 w2 w3 w4 w5 w6 w7 w8 w9 w10 w11 w12 w13 w14 w15 w16 w17 w18 w19 w20 j) (packed m0 m1 m2 m3 m4 m5 m6 m7 m8 m9 m10 m11 m12 m13 m14 m15 m16 m17 m18 m19 m20 j) (packed v0 v1 v2 v3 v4 v5 v6 v7 v8 v9 v10 v11 v12 v13 v14 v15 v16 v17 v18 v19 v20 j) (packed g0 g1 g2 g3 g4 g5 g6 g7 g8 g9 g10 g11 g12 g13 g14 g15 g16 g17 g18 g19 g20 j) := by
  have e : val_main_v589 (F := Ideal) w0 w1 w2 w3 w4 w5 w6 w7 w8 w9 w10 w11 w12 w13 w14 w15 w16 w17 w18 w19 w20 m0 m1 m2 m3 m4 m5 m6 m7 m8 m9 m10 m11 m12 m13 m14 m15 m16 m17 m18 m19 m20 v0 v1 v2 v3 v4 v5 v6 v7 v8 v9 v10 v11 v12 v13 v14 v15 v16 v17 v18 v19 v20 g0 g1 g2 g3 g4 g5 g6 g7 g8 g9 g10 g11 g12 g13 g14 g15 g16 g17 g18 g19 g20 = fun j => Adam.step (whole (head w0 w1 w2 w3 w4 w5 w6 w7 w8 w9 w10 w11 w12 w13 w14 w15) (rest w16 w17 w18 w19 w20) j) (whole (head m0 m1 m2 m3 m4 m5 m6 m7 m8 m9 m10 m11 m12 m13 m14 m15) (rest m16 m17 m18 m19 m20) j) (whole (head v0 v1 v2 v3 v4 v5 v6 v7 v8 v9 v10 v11 v12 v13 v14 v15) (rest v16 v17 v18 v19 v20) j) (whole (head g0 g1 g2 g3 g4 g5 g6 g7 g8 g9 g10 g11 g12 g13 g14 g15) (rest g16 g17 g18 g19 g20) j) := by
    rw [← step_whole, ← step_head, ← step_rest]
    rfl
  unfold val_main_v599 val_main_v598
  rw [e, show val_main_call1_v0 (F := Ideal) = fun _ => 0 from tail,
    Joined.pad4 Adam.step step_zero _ _ _ _ _ _ _ _ _ rfl]
  rfl

/-- The first moments of the first sixteen weights. -/
theorem first_head (m0 : S2x4096.Idx → EReal) (m1 m2 : S2x8.Idx → EReal) (m3 : S2x128.Idx → EReal) (m4 : S2x1024.Idx → EReal) (m5 : S2x8x128x128.Idx → EReal) (m6 : S2x1024.Idx → EReal) (m7 : S2x8x128x128.Idx → EReal) (m8 m9 : S2x1024.Idx → EReal) (m10 : S2x64.Idx → EReal) (m11 m12 : S2x64x64.Idx → EReal) (m13 m14 : S2x64x64x16.Idx → EReal) (m15 : S2x64x16x64.Idx → EReal) (g0 : S2x4096.Idx → EReal) (g1 g2 : S2x8.Idx → EReal) (g3 : S2x128.Idx → EReal) (g4 : S2x1024.Idx → EReal) (g5 : S2x8x128x128.Idx → EReal) (g6 : S2x1024.Idx → EReal) (g7 : S2x8x128x128.Idx → EReal) (g8 g9 : S2x1024.Idx → EReal) (g10 : S2x64.Idx → EReal) (g11 g12 : S2x64x64.Idx → EReal) (g13 g14 : S2x64x64x16.Idx → EReal) (g15 : S2x64x16x64.Idx → EReal) :
    val_main_v590 (F := Ideal) m0 m1 m2 m3 m4 m5 m6 m7 m8 m9 m10 m11 m12 m13 m14 m15 g0 g1 g2 g3 g4 g5 g6 g7 g8 g9 g10 g11 g12 g13 g14 g15 = fun j => Adam.first (head m0 m1 m2 m3 m4 m5 m6 m7 m8 m9 m10 m11 m12 m13 m14 m15 j) (head g0 g1 g2 g3 g4 g5 g6 g7 g8 g9 g10 g11 g12 g13 g14 g15 j) :=
  Joined.map2 Adam.first S950688 0 [⟨S8192, fun i => (shapeCast S8192 m0 shapeCasts_S2x4096_S8192 i, shapeCast S8192 g0 shapeCasts_S2x4096_S8192 i)⟩, ⟨S16, fun i => (shapeCast S16 m1 shapeCasts_S2x8_S16 i, shapeCast S16 g1 shapeCasts_S2x8_S16 i)⟩, ⟨S16, fun i => (shapeCast S16 m2 shapeCasts_S2x8_S16 i, shapeCast S16 g2 shapeCasts_S2x8_S16 i)⟩, ⟨S256, fun i => (shapeCast S256 m3 shapeCasts_S2x128_S256 i, shapeCast S256 g3 shapeCasts_S2x128_S256 i)⟩, ⟨S2048, fun i => (shapeCast S2048 m4 shapeCasts_S2x1024_S2048 i, shapeCast S2048 g4 shapeCasts_S2x1024_S2048 i)⟩, ⟨S262144, fun i => (shapeCast S262144 m5 shapeCasts_S2x8x128x128_S262144 i, shapeCast S262144 g5 shapeCasts_S2x8x128x128_S262144 i)⟩, ⟨S2048, fun i => (shapeCast S2048 m6 shapeCasts_S2x1024_S2048 i, shapeCast S2048 g6 shapeCasts_S2x1024_S2048 i)⟩, ⟨S262144, fun i => (shapeCast S262144 m7 shapeCasts_S2x8x128x128_S262144 i, shapeCast S262144 g7 shapeCasts_S2x8x128x128_S262144 i)⟩, ⟨S2048, fun i => (shapeCast S2048 m8 shapeCasts_S2x1024_S2048 i, shapeCast S2048 g8 shapeCasts_S2x1024_S2048 i)⟩, ⟨S2048, fun i => (shapeCast S2048 m9 shapeCasts_S2x1024_S2048 i, shapeCast S2048 g9 shapeCasts_S2x1024_S2048 i)⟩, ⟨S128, fun i => (shapeCast S128 m10 shapeCasts_S2x64_S128 i, shapeCast S128 g10 shapeCasts_S2x64_S128 i)⟩, ⟨S8192, fun i => (shapeCast S8192 m11 shapeCasts_S2x64x64_S8192 i, shapeCast S8192 g11 shapeCasts_S2x64x64_S8192 i)⟩, ⟨S8192, fun i => (shapeCast S8192 m12 shapeCasts_S2x64x64_S8192 i, shapeCast S8192 g12 shapeCasts_S2x64x64_S8192 i)⟩, ⟨S131072, fun i => (shapeCast S131072 m13 shapeCasts_S2x64x64x16_S131072 i, shapeCast S131072 g13 shapeCasts_S2x64x64x16_S131072 i)⟩, ⟨S131072, fun i => (shapeCast S131072 m14 shapeCasts_S2x64x64x16_S131072 i, shapeCast S131072 g14 shapeCasts_S2x64x64x16_S131072 i)⟩, ⟨S131072, fun i => (shapeCast S131072 m15 shapeCasts_S2x64x16x64_S131072 i, shapeCast S131072 g15 shapeCasts_S2x64x16x64_S131072 i)⟩] concatenates_S8192_S16_S16_S256_S2048_S262144_S2048_S262144_S2048_S2048_S128_S8192_S8192_S131072_S131072_S131072_S950688_d0 concatenates_S8192_S16_S16_S256_S2048_S262144_S2048_S262144_S2048_S2048_S128_S8192_S8192_S131072_S131072_S131072_S950688_d0 concatenates_S8192_S16_S16_S256_S2048_S262144_S2048_S262144_S2048_S2048_S128_S8192_S8192_S131072_S131072_S131072_S950688_d0 concatenates_S8192_S16_S16_S256_S2048_S262144_S2048_S262144_S2048_S2048_S128_S8192_S8192_S131072_S131072_S131072_S950688_d0

/-- The first moments of the other five. -/
theorem first_rest (m16 : S2x64x16x64.Idx → EReal) (m17 : S2x64x16.Idx → EReal) (m18 : S2x2048.Idx → EReal) (m19 : S2x4096.Idx → EReal) (m20 : S4096.Idx → EReal) (g16 : S2x64x16x64.Idx → EReal) (g17 : S2x64x16.Idx → EReal) (g18 : S2x2048.Idx → EReal) (g19 : S2x4096.Idx → EReal) (g20 : S4096.Idx → EReal) :
    val_main_v591 (F := Ideal) m16 m17 m18 m19 m20 g16 g17 g18 g19 g20 = fun j => Adam.first (rest m16 m17 m18 m19 m20 j) (rest g16 g17 g18 g19 g20 j) :=
  Joined.map2 Adam.first S149504 0 [⟨S131072, fun i => (shapeCast S131072 m16 shapeCasts_S2x64x16x64_S131072 i, shapeCast S131072 g16 shapeCasts_S2x64x16x64_S131072 i)⟩, ⟨S2048, fun i => (shapeCast S2048 m17 shapeCasts_S2x64x16_S2048 i, shapeCast S2048 g17 shapeCasts_S2x64x16_S2048 i)⟩, ⟨S4096, fun i => (shapeCast S4096 m18 shapeCasts_S2x2048_S4096 i, shapeCast S4096 g18 shapeCasts_S2x2048_S4096 i)⟩, ⟨S8192, fun i => (shapeCast S8192 m19 shapeCasts_S2x4096_S8192 i, shapeCast S8192 g19 shapeCasts_S2x4096_S8192 i)⟩, ⟨S4096, fun i => (m20 i, g20 i)⟩] concatenates_S131072_S2048_S4096_S8192_S4096_S149504_d0 concatenates_S131072_S2048_S4096_S8192_S4096_S149504_d0 concatenates_S131072_S2048_S4096_S8192_S4096_S149504_d0 concatenates_S131072_S2048_S4096_S8192_S4096_S149504_d0

/-- The first moments of two runs in one. -/
theorem first_whole (xm : S950688.Idx → EReal) (ym : S149504.Idx → EReal) (xg : S950688.Idx → EReal) (yg : S149504.Idx → EReal) :
    whole (fun j => Adam.first (xm j) (xg j)) (fun j => Adam.first (ym j) (yg j)) = fun j => Adam.first (whole xm ym j) (whole xg yg j) :=
  Joined.map2 Adam.first S1100192 0 [⟨S950688, fun j => (xm j, xg j)⟩, ⟨S149504, fun j => (ym j, yg j)⟩] concatenates_S950688_S149504_S1100192_d0 concatenates_S950688_S149504_S1100192_d0 concatenates_S950688_S149504_S1100192_d0 concatenates_S950688_S149504_S1100192_d0

/-- The reference's first moments: the step at each element of the packed weights. -/
theorem first_eq (m0 : S2x4096.Idx → EReal) (m1 m2 : S2x8.Idx → EReal) (m3 : S2x128.Idx → EReal) (m4 : S2x1024.Idx → EReal) (m5 : S2x8x128x128.Idx → EReal) (m6 : S2x1024.Idx → EReal) (m7 : S2x8x128x128.Idx → EReal) (m8 m9 : S2x1024.Idx → EReal) (m10 : S2x64.Idx → EReal) (m11 m12 : S2x64x64.Idx → EReal) (m13 m14 : S2x64x64x16.Idx → EReal) (m15 m16 : S2x64x16x64.Idx → EReal) (m17 : S2x64x16.Idx → EReal) (m18 : S2x2048.Idx → EReal) (m19 : S2x4096.Idx → EReal) (m20 : S4096.Idx → EReal) (g0 : S2x4096.Idx → EReal) (g1 g2 : S2x8.Idx → EReal) (g3 : S2x128.Idx → EReal) (g4 : S2x1024.Idx → EReal) (g5 : S2x8x128x128.Idx → EReal) (g6 : S2x1024.Idx → EReal) (g7 : S2x8x128x128.Idx → EReal) (g8 g9 : S2x1024.Idx → EReal) (g10 : S2x64.Idx → EReal) (g11 g12 : S2x64x64.Idx → EReal) (g13 g14 : S2x64x64x16.Idx → EReal) (g15 g16 : S2x64x16x64.Idx → EReal) (g17 : S2x64x16.Idx → EReal) (g18 : S2x2048.Idx → EReal) (g19 : S2x4096.Idx → EReal) (g20 : S4096.Idx → EReal) :
    val_main_v601 (F := Ideal) m0 m1 m2 m3 m4 m5 m6 m7 m8 m9 m10 m11 m12 m13 m14 m15 m16 m17 m18 m19 m20 g0 g1 g2 g3 g4 g5 g6 g7 g8 g9 g10 g11 g12 g13 g14 g15 g16 g17 g18 g19 g20 = fun j => Adam.first (packed m0 m1 m2 m3 m4 m5 m6 m7 m8 m9 m10 m11 m12 m13 m14 m15 m16 m17 m18 m19 m20 j) (packed g0 g1 g2 g3 g4 g5 g6 g7 g8 g9 g10 g11 g12 g13 g14 g15 g16 g17 g18 g19 g20 j) := by
  have e : val_main_v592 (F := Ideal) m0 m1 m2 m3 m4 m5 m6 m7 m8 m9 m10 m11 m12 m13 m14 m15 m16 m17 m18 m19 m20 g0 g1 g2 g3 g4 g5 g6 g7 g8 g9 g10 g11 g12 g13 g14 g15 g16 g17 g18 g19 g20 = fun j => Adam.first (whole (head m0 m1 m2 m3 m4 m5 m6 m7 m8 m9 m10 m11 m12 m13 m14 m15) (rest m16 m17 m18 m19 m20) j) (whole (head g0 g1 g2 g3 g4 g5 g6 g7 g8 g9 g10 g11 g12 g13 g14 g15) (rest g16 g17 g18 g19 g20) j) := by
    rw [← first_whole, ← first_head, ← first_rest]
    rfl
  unfold val_main_v601 val_main_v600
  rw [e, show val_main_call2_v0 (F := Ideal) = fun _ => 0 from tail,
    Joined.pad2 Adam.first first_zero _ _ _ _ _ _ _ rfl]
  rfl

/-- The second moments of the first sixteen weights. -/
theorem second_head (v0 : S2x4096.Idx → EReal) (v1 v2 : S2x8.Idx → EReal) (v3 : S2x128.Idx → EReal) (v4 : S2x1024.Idx → EReal) (v5 : S2x8x128x128.Idx → EReal) (v6 : S2x1024.Idx → EReal) (v7 : S2x8x128x128.Idx → EReal) (v8 v9 : S2x1024.Idx → EReal) (v10 : S2x64.Idx → EReal) (v11 v12 : S2x64x64.Idx → EReal) (v13 v14 : S2x64x64x16.Idx → EReal) (v15 : S2x64x16x64.Idx → EReal) (g0 : S2x4096.Idx → EReal) (g1 g2 : S2x8.Idx → EReal) (g3 : S2x128.Idx → EReal) (g4 : S2x1024.Idx → EReal) (g5 : S2x8x128x128.Idx → EReal) (g6 : S2x1024.Idx → EReal) (g7 : S2x8x128x128.Idx → EReal) (g8 g9 : S2x1024.Idx → EReal) (g10 : S2x64.Idx → EReal) (g11 g12 : S2x64x64.Idx → EReal) (g13 g14 : S2x64x64x16.Idx → EReal) (g15 : S2x64x16x64.Idx → EReal) :
    val_main_v593 (F := Ideal) v0 v1 v2 v3 v4 v5 v6 v7 v8 v9 v10 v11 v12 v13 v14 v15 g0 g1 g2 g3 g4 g5 g6 g7 g8 g9 g10 g11 g12 g13 g14 g15 = fun j => Adam.second (head v0 v1 v2 v3 v4 v5 v6 v7 v8 v9 v10 v11 v12 v13 v14 v15 j) (head g0 g1 g2 g3 g4 g5 g6 g7 g8 g9 g10 g11 g12 g13 g14 g15 j) :=
  Joined.map2 Adam.second S950688 0 [⟨S8192, fun i => (shapeCast S8192 v0 shapeCasts_S2x4096_S8192 i, shapeCast S8192 g0 shapeCasts_S2x4096_S8192 i)⟩, ⟨S16, fun i => (shapeCast S16 v1 shapeCasts_S2x8_S16 i, shapeCast S16 g1 shapeCasts_S2x8_S16 i)⟩, ⟨S16, fun i => (shapeCast S16 v2 shapeCasts_S2x8_S16 i, shapeCast S16 g2 shapeCasts_S2x8_S16 i)⟩, ⟨S256, fun i => (shapeCast S256 v3 shapeCasts_S2x128_S256 i, shapeCast S256 g3 shapeCasts_S2x128_S256 i)⟩, ⟨S2048, fun i => (shapeCast S2048 v4 shapeCasts_S2x1024_S2048 i, shapeCast S2048 g4 shapeCasts_S2x1024_S2048 i)⟩, ⟨S262144, fun i => (shapeCast S262144 v5 shapeCasts_S2x8x128x128_S262144 i, shapeCast S262144 g5 shapeCasts_S2x8x128x128_S262144 i)⟩, ⟨S2048, fun i => (shapeCast S2048 v6 shapeCasts_S2x1024_S2048 i, shapeCast S2048 g6 shapeCasts_S2x1024_S2048 i)⟩, ⟨S262144, fun i => (shapeCast S262144 v7 shapeCasts_S2x8x128x128_S262144 i, shapeCast S262144 g7 shapeCasts_S2x8x128x128_S262144 i)⟩, ⟨S2048, fun i => (shapeCast S2048 v8 shapeCasts_S2x1024_S2048 i, shapeCast S2048 g8 shapeCasts_S2x1024_S2048 i)⟩, ⟨S2048, fun i => (shapeCast S2048 v9 shapeCasts_S2x1024_S2048 i, shapeCast S2048 g9 shapeCasts_S2x1024_S2048 i)⟩, ⟨S128, fun i => (shapeCast S128 v10 shapeCasts_S2x64_S128 i, shapeCast S128 g10 shapeCasts_S2x64_S128 i)⟩, ⟨S8192, fun i => (shapeCast S8192 v11 shapeCasts_S2x64x64_S8192 i, shapeCast S8192 g11 shapeCasts_S2x64x64_S8192 i)⟩, ⟨S8192, fun i => (shapeCast S8192 v12 shapeCasts_S2x64x64_S8192 i, shapeCast S8192 g12 shapeCasts_S2x64x64_S8192 i)⟩, ⟨S131072, fun i => (shapeCast S131072 v13 shapeCasts_S2x64x64x16_S131072 i, shapeCast S131072 g13 shapeCasts_S2x64x64x16_S131072 i)⟩, ⟨S131072, fun i => (shapeCast S131072 v14 shapeCasts_S2x64x64x16_S131072 i, shapeCast S131072 g14 shapeCasts_S2x64x64x16_S131072 i)⟩, ⟨S131072, fun i => (shapeCast S131072 v15 shapeCasts_S2x64x16x64_S131072 i, shapeCast S131072 g15 shapeCasts_S2x64x16x64_S131072 i)⟩] concatenates_S8192_S16_S16_S256_S2048_S262144_S2048_S262144_S2048_S2048_S128_S8192_S8192_S131072_S131072_S131072_S950688_d0 concatenates_S8192_S16_S16_S256_S2048_S262144_S2048_S262144_S2048_S2048_S128_S8192_S8192_S131072_S131072_S131072_S950688_d0 concatenates_S8192_S16_S16_S256_S2048_S262144_S2048_S262144_S2048_S2048_S128_S8192_S8192_S131072_S131072_S131072_S950688_d0 concatenates_S8192_S16_S16_S256_S2048_S262144_S2048_S262144_S2048_S2048_S128_S8192_S8192_S131072_S131072_S131072_S950688_d0

/-- The second moments of the other five. -/
theorem second_rest (v16 : S2x64x16x64.Idx → EReal) (v17 : S2x64x16.Idx → EReal) (v18 : S2x2048.Idx → EReal) (v19 : S2x4096.Idx → EReal) (v20 : S4096.Idx → EReal) (g16 : S2x64x16x64.Idx → EReal) (g17 : S2x64x16.Idx → EReal) (g18 : S2x2048.Idx → EReal) (g19 : S2x4096.Idx → EReal) (g20 : S4096.Idx → EReal) :
    val_main_v594 (F := Ideal) v16 v17 v18 v19 v20 g16 g17 g18 g19 g20 = fun j => Adam.second (rest v16 v17 v18 v19 v20 j) (rest g16 g17 g18 g19 g20 j) :=
  Joined.map2 Adam.second S149504 0 [⟨S131072, fun i => (shapeCast S131072 v16 shapeCasts_S2x64x16x64_S131072 i, shapeCast S131072 g16 shapeCasts_S2x64x16x64_S131072 i)⟩, ⟨S2048, fun i => (shapeCast S2048 v17 shapeCasts_S2x64x16_S2048 i, shapeCast S2048 g17 shapeCasts_S2x64x16_S2048 i)⟩, ⟨S4096, fun i => (shapeCast S4096 v18 shapeCasts_S2x2048_S4096 i, shapeCast S4096 g18 shapeCasts_S2x2048_S4096 i)⟩, ⟨S8192, fun i => (shapeCast S8192 v19 shapeCasts_S2x4096_S8192 i, shapeCast S8192 g19 shapeCasts_S2x4096_S8192 i)⟩, ⟨S4096, fun i => (v20 i, g20 i)⟩] concatenates_S131072_S2048_S4096_S8192_S4096_S149504_d0 concatenates_S131072_S2048_S4096_S8192_S4096_S149504_d0 concatenates_S131072_S2048_S4096_S8192_S4096_S149504_d0 concatenates_S131072_S2048_S4096_S8192_S4096_S149504_d0

/-- The second moments of two runs in one. -/
theorem second_whole (xv : S950688.Idx → EReal) (yv : S149504.Idx → EReal) (xg : S950688.Idx → EReal) (yg : S149504.Idx → EReal) :
    whole (fun j => Adam.second (xv j) (xg j)) (fun j => Adam.second (yv j) (yg j)) = fun j => Adam.second (whole xv yv j) (whole xg yg j) :=
  Joined.map2 Adam.second S1100192 0 [⟨S950688, fun j => (xv j, xg j)⟩, ⟨S149504, fun j => (yv j, yg j)⟩] concatenates_S950688_S149504_S1100192_d0 concatenates_S950688_S149504_S1100192_d0 concatenates_S950688_S149504_S1100192_d0 concatenates_S950688_S149504_S1100192_d0

/-- The reference's second moments: the step at each element of the packed weights. -/
theorem second_eq (v0 : S2x4096.Idx → EReal) (v1 v2 : S2x8.Idx → EReal) (v3 : S2x128.Idx → EReal) (v4 : S2x1024.Idx → EReal) (v5 : S2x8x128x128.Idx → EReal) (v6 : S2x1024.Idx → EReal) (v7 : S2x8x128x128.Idx → EReal) (v8 v9 : S2x1024.Idx → EReal) (v10 : S2x64.Idx → EReal) (v11 v12 : S2x64x64.Idx → EReal) (v13 v14 : S2x64x64x16.Idx → EReal) (v15 v16 : S2x64x16x64.Idx → EReal) (v17 : S2x64x16.Idx → EReal) (v18 : S2x2048.Idx → EReal) (v19 : S2x4096.Idx → EReal) (v20 : S4096.Idx → EReal) (g0 : S2x4096.Idx → EReal) (g1 g2 : S2x8.Idx → EReal) (g3 : S2x128.Idx → EReal) (g4 : S2x1024.Idx → EReal) (g5 : S2x8x128x128.Idx → EReal) (g6 : S2x1024.Idx → EReal) (g7 : S2x8x128x128.Idx → EReal) (g8 g9 : S2x1024.Idx → EReal) (g10 : S2x64.Idx → EReal) (g11 g12 : S2x64x64.Idx → EReal) (g13 g14 : S2x64x64x16.Idx → EReal) (g15 g16 : S2x64x16x64.Idx → EReal) (g17 : S2x64x16.Idx → EReal) (g18 : S2x2048.Idx → EReal) (g19 : S2x4096.Idx → EReal) (g20 : S4096.Idx → EReal) :
    val_main_v603 (F := Ideal) v0 v1 v2 v3 v4 v5 v6 v7 v8 v9 v10 v11 v12 v13 v14 v15 v16 v17 v18 v19 v20 g0 g1 g2 g3 g4 g5 g6 g7 g8 g9 g10 g11 g12 g13 g14 g15 g16 g17 g18 g19 g20 = fun j => Adam.second (packed v0 v1 v2 v3 v4 v5 v6 v7 v8 v9 v10 v11 v12 v13 v14 v15 v16 v17 v18 v19 v20 j) (packed g0 g1 g2 g3 g4 g5 g6 g7 g8 g9 g10 g11 g12 g13 g14 g15 g16 g17 g18 g19 g20 j) := by
  have e : val_main_v595 (F := Ideal) v0 v1 v2 v3 v4 v5 v6 v7 v8 v9 v10 v11 v12 v13 v14 v15 v16 v17 v18 v19 v20 g0 g1 g2 g3 g4 g5 g6 g7 g8 g9 g10 g11 g12 g13 g14 g15 g16 g17 g18 g19 g20 = fun j => Adam.second (whole (head v0 v1 v2 v3 v4 v5 v6 v7 v8 v9 v10 v11 v12 v13 v14 v15) (rest v16 v17 v18 v19 v20) j) (whole (head g0 g1 g2 g3 g4 g5 g6 g7 g8 g9 g10 g11 g12 g13 g14 g15) (rest g16 g17 g18 g19 g20) j) := by
    rw [← second_whole, ← second_head, ← second_rest]
    rfl
  unfold val_main_v603 val_main_v602
  rw [e, show val_main_call3_v0 (F := Ideal) = fun _ => 0 from tail,
    Joined.pad2 Adam.second second_zero _ _ _ _ _ _ _ rfl]
  rfl

/-- The reference's gradients, packed. -/
theorem grad_eq (g0 : S2x4096.Idx → EReal) (g1 g2 : S2x8.Idx → EReal) (g3 : S2x128.Idx → EReal) (g4 : S2x1024.Idx → EReal) (g5 : S2x8x128x128.Idx → EReal) (g6 : S2x1024.Idx → EReal) (g7 : S2x8x128x128.Idx → EReal) (g8 g9 : S2x1024.Idx → EReal) (g10 : S2x64.Idx → EReal) (g11 g12 : S2x64x64.Idx → EReal) (g13 g14 : S2x64x64x16.Idx → EReal) (g15 g16 : S2x64x16x64.Idx → EReal) (g17 : S2x64x16.Idx → EReal) (g18 : S2x2048.Idx → EReal) (g19 : S2x4096.Idx → EReal) (g20 : S4096.Idx → EReal) : val_main_v597 (F := Ideal) g0 g1 g2 g3 g4 g5 g6 g7 g8 g9 g10 g11 g12 g13 g14 g15 g16 g17 g18 g19 g20 = packed g0 g1 g2 g3 g4 g5 g6 g7 g8 g9 g10 g11 g12 g13 g14 g15 g16 g17 g18 g19 g20 := by
  unfold val_main_v597 val_main_v596 packed
  rw [show val_main_call0_v0 (F := Ideal) = fun _ => 0 from tail]
  rfl

end Cert.AdamRestReferenceIdeal.Hand

end
-- ==== Proof.AdamRestHost.lean ====
/- The arrays that the program's host lines leave for the AdamW kernel of the replicated weights: the weights, their two
   moments and their gradients, each laid end to end in rows of 512. -/
module

public import proofs.«01_k».proof.Proof.Gen.AdamRestIdeal.Frame
public import Idealize.ShloMosaic.Lib.Pointwise
public import proofs.«01_k».proof.Proof.AdamRestReference
public import Idealize.ShloMosaic.Lib.StableHlo.RunRead

@[expose] public section

set_option maxRecDepth 16384

noncomputable section

namespace Cert.AdamRestIdeal.Hand

open Cert.AdamRestIdeal Cert.AdamRestIdeal.Gen Idealize.ShloMosaic Idealize.ShloMosaic.TcCoe Idealize.SL.Sem
open Cert.AdamRestReferenceIdeal.Hand (packed tail head rest whole)

variable (m : (ℓ : Loc nD τ sig) → Buf (Elt Ideal) ℓ)

abbrev arg0 (c : Dev nD) : S2x4096.Idx → EReal := m ((c : Thread nD τ).loc main_arg0)
abbrev arg1 (c : Dev nD) : S2x8.Idx → EReal := m ((c : Thread nD τ).loc main_arg1)
abbrev arg2 (c : Dev nD) : S2x8.Idx → EReal := m ((c : Thread nD τ).loc main_arg2)
abbrev arg3 (c : Dev nD) : S2x128.Idx → EReal := m ((c : Thread nD τ).loc main_arg3)
abbrev arg4 (c : Dev nD) : S2x1024.Idx → EReal := m ((c : Thread nD τ).loc main_arg4)
abbrev arg5 (c : Dev nD) : S2x8x128x128.Idx → EReal := m ((c : Thread nD τ).loc main_arg5)
abbrev arg6 (c : Dev nD) : S2x1024.Idx → EReal := m ((c : Thread nD τ).loc main_arg6)
abbrev arg7 (c : Dev nD) : S2x8x128x128.Idx → EReal := m ((c : Thread nD τ).loc main_arg7)
abbrev arg8 (c : Dev nD) : S2x1024.Idx → EReal := m ((c : Thread nD τ).loc main_arg8)
abbrev arg9 (c : Dev nD) : S2x1024.Idx → EReal := m ((c : Thread nD τ).loc main_arg9)
abbrev arg10 (c : Dev nD) : S2x64.Idx → EReal := m ((c : Thread nD τ).loc main_arg10)
abbrev arg11 (c : Dev nD) : S2x64x64.Idx → EReal := m ((c : Thread nD τ).loc main_arg11)
abbrev arg12 (c : Dev nD) : S2x64x64.Idx → EReal := m ((c : Thread nD τ).loc main_arg12)
abbrev arg13 (c : Dev nD) : S2x64x64x16.Idx → EReal := m ((c : Thread nD τ).loc main_arg13)
abbrev arg14 (c : Dev nD) : S2x64x64x16.Idx → EReal := m ((c : Thread nD τ).loc main_arg14)
abbrev arg15 (c : Dev nD) : S2x64x16x64.Idx → EReal := m ((c : Thread nD τ).loc main_arg15)
abbrev arg16 (c : Dev nD) : S2x64x16x64.Idx → EReal := m ((c : Thread nD τ).loc main_arg16)
abbrev arg17 (c : Dev nD) : S2x64x16.Idx → EReal := m ((c : Thread nD τ).loc main_arg17)
abbrev arg18 (c : Dev nD) : S2x2048.Idx → EReal := m ((c : Thread nD τ).loc main_arg18)
abbrev arg19 (c : Dev nD) : S2x4096.Idx → EReal := m ((c : Thread nD τ).loc main_arg19)
abbrev arg20 (c : Dev nD) : S4096.Idx → EReal := m ((c : Thread nD τ).loc main_arg20)
abbrev arg21 (c : Dev nD) : S2x4096.Idx → EReal := m ((c : Thread nD τ).loc main_arg21)
abbrev arg22 (c : Dev nD) : S2x8.Idx → EReal := m ((c : Thread nD τ).loc main_arg22)
abbrev arg23 (c : Dev nD) : S2x8.Idx → EReal := m ((c : Thread nD τ).loc main_arg23)
abbrev arg24 (c : Dev nD) : S2x128.Idx → EReal := m ((c : Thread nD τ).loc main_arg24)
abbrev arg25 (c : Dev nD) : S2x1024.Idx → EReal := m ((c : Thread nD τ).loc main_arg25)
abbrev arg26 (c : Dev nD) : S2x8x128x128.Idx → EReal := m ((c : Thread nD τ).loc main_arg26)
abbrev arg27 (c : Dev nD) : S2x1024.Idx → EReal := m ((c : Thread nD τ).loc main_arg27)
abbrev arg28 (c : Dev nD) : S2x8x128x128.Idx → EReal := m ((c : Thread nD τ).loc main_arg28)
abbrev arg29 (c : Dev nD) : S2x1024.Idx → EReal := m ((c : Thread nD τ).loc main_arg29)
abbrev arg30 (c : Dev nD) : S2x1024.Idx → EReal := m ((c : Thread nD τ).loc main_arg30)
abbrev arg31 (c : Dev nD) : S2x64.Idx → EReal := m ((c : Thread nD τ).loc main_arg31)
abbrev arg32 (c : Dev nD) : S2x64x64.Idx → EReal := m ((c : Thread nD τ).loc main_arg32)
abbrev arg33 (c : Dev nD) : S2x64x64.Idx → EReal := m ((c : Thread nD τ).loc main_arg33)
abbrev arg34 (c : Dev nD) : S2x64x64x16.Idx → EReal := m ((c : Thread nD τ).loc main_arg34)
abbrev arg35 (c : Dev nD) : S2x64x64x16.Idx → EReal := m ((c : Thread nD τ).loc main_arg35)
abbrev arg36 (c : Dev nD) : S2x64x16x64.Idx → EReal := m ((c : Thread nD τ).loc main_arg36)
abbrev arg37 (c : Dev nD) : S2x64x16x64.Idx → EReal := m ((c : Thread nD τ).loc main_arg37)
abbrev arg38 (c : Dev nD) : S2x64x16.Idx → EReal := m ((c : Thread nD τ).loc main_arg38)
abbrev arg39 (c : Dev nD) : S2x2048.Idx → EReal := m ((c : Thread nD τ).loc main_arg39)
abbrev arg40 (c : Dev nD) : S2x4096.Idx → EReal := m ((c : Thread nD τ).loc main_arg40)
abbrev arg41 (c : Dev nD) : S4096.Idx → EReal := m ((c : Thread nD τ).loc main_arg41)
abbrev arg42 (c : Dev nD) : S2x4096.Idx → EReal := m ((c : Thread nD τ).loc main_arg42)
abbrev arg43 (c : Dev nD) : S2x8.Idx → EReal := m ((c : Thread nD τ).loc main_arg43)
abbrev arg44 (c : Dev nD) : S2x8.Idx → EReal := m ((c : Thread nD τ).loc main_arg44)
abbrev arg45 (c : Dev nD) : S2x128.Idx → EReal := m ((c : Thread nD τ).loc main_arg45)
abbrev arg46 (c : Dev nD) : S2x1024.Idx → EReal := m ((c : Thread nD τ).loc main_arg46)
abbrev arg47 (c : Dev nD) : S2x8x128x128.Idx → EReal := m ((c : Thread nD τ).loc main_arg47)
abbrev arg48 (c : Dev nD) : S2x1024.Idx → EReal := m ((c : Thread nD τ).loc main_arg48)
abbrev arg49 (c : Dev nD) : S2x8x128x128.Idx → EReal := m ((c : Thread nD τ).loc main_arg49)
abbrev arg50 (c : Dev nD) : S2x1024.Idx → EReal := m ((c : Thread nD τ).loc main_arg50)
abbrev arg51 (c : Dev nD) : S2x1024.Idx → EReal := m ((c : Thread nD τ).loc main_arg51)
abbrev arg52 (c : Dev nD) : S2x64.Idx → EReal := m ((c : Thread nD τ).loc main_arg52)
abbrev arg53 (c : Dev nD) : S2x64x64.Idx → EReal := m ((c : Thread nD τ).loc main_arg53)
abbrev arg54 (c : Dev nD) : S2x64x64.Idx → EReal := m ((c : Thread nD τ).loc main_arg54)
abbrev arg55 (c : Dev nD) : S2x64x64x16.Idx → EReal := m ((c : Thread nD τ).loc main_arg55)
abbrev arg56 (c : Dev nD) : S2x64x64x16.Idx → EReal := m ((c : Thread nD τ).loc main_arg56)
abbrev arg57 (c : Dev nD) : S2x64x16x64.Idx → EReal := m ((c : Thread nD τ).loc main_arg57)
abbrev arg58 (c : Dev nD) : S2x64x16x64.Idx → EReal := m ((c : Thread nD τ).loc main_arg58)
abbrev arg59 (c : Dev nD) : S2x64x16.Idx → EReal := m ((c : Thread nD τ).loc main_arg59)
abbrev arg60 (c : Dev nD) : S2x2048.Idx → EReal := m ((c : Thread nD τ).loc main_arg60)
abbrev arg61 (c : Dev nD) : S2x4096.Idx → EReal := m ((c : Thread nD τ).loc main_arg61)
abbrev arg62 (c : Dev nD) : S4096.Idx → EReal := m ((c : Thread nD τ).loc main_arg62)
abbrev arg63 (c : Dev nD) : S2x4096.Idx → EReal := m ((c : Thread nD τ).loc main_arg63)
abbrev arg64 (c : Dev nD) : S2x8.Idx → EReal := m ((c : Thread nD τ).loc main_arg64)
abbrev arg65 (c : Dev nD) : S2x8.Idx → EReal := m ((c : Thread nD τ).loc main_arg65)
abbrev arg66 (c : Dev nD) : S2x128.Idx → EReal := m ((c : Thread nD τ).loc main_arg66)
abbrev arg67 (c : Dev nD) : S2x1024.Idx → EReal := m ((c : Thread nD τ).loc main_arg67)
abbrev arg68 (c : Dev nD) : S2x8x128x128.Idx → EReal := m ((c : Thread nD τ).loc main_arg68)
abbrev arg69 (c : Dev nD) : S2x1024.Idx → EReal := m ((c : Thread nD τ).loc main_arg69)
abbrev arg70 (c : Dev nD) : S2x8x128x128.Idx → EReal := m ((c : Thread nD τ).loc main_arg70)
abbrev arg71 (c : Dev nD) : S2x1024.Idx → EReal := m ((c : Thread nD τ).loc main_arg71)
abbrev arg72 (c : Dev nD) : S2x1024.Idx → EReal := m ((c : Thread nD τ).loc main_arg72)
abbrev arg73 (c : Dev nD) : S2x64.Idx → EReal := m ((c : Thread nD τ).loc main_arg73)
abbrev arg74 (c : Dev nD) : S2x64x64.Idx → EReal := m ((c : Thread nD τ).loc main_arg74)
abbrev arg75 (c : Dev nD) : S2x64x64.Idx → EReal := m ((c : Thread nD τ).loc main_arg75)
abbrev arg76 (c : Dev nD) : S2x64x64x16.Idx → EReal := m ((c : Thread nD τ).loc main_arg76)
abbrev arg77 (c : Dev nD) : S2x64x64x16.Idx → EReal := m ((c : Thread nD τ).loc main_arg77)
abbrev arg78 (c : Dev nD) : S2x64x16x64.Idx → EReal := m ((c : Thread nD τ).loc main_arg78)
abbrev arg79 (c : Dev nD) : S2x64x16x64.Idx → EReal := m ((c : Thread nD τ).loc main_arg79)
abbrev arg80 (c : Dev nD) : S2x64x16.Idx → EReal := m ((c : Thread nD τ).loc main_arg80)
abbrev arg81 (c : Dev nD) : S2x2048.Idx → EReal := m ((c : Thread nD τ).loc main_arg81)
abbrev arg82 (c : Dev nD) : S2x4096.Idx → EReal := m ((c : Thread nD τ).loc main_arg82)
abbrev arg83 (c : Dev nD) : S4096.Idx → EReal := m ((c : Thread nD τ).loc main_arg83)

/-- The host's lines, up to the given one. -/
abbrev line (c : Dev nD) (n : ℕ) : Valuation τ sig (Elt Ideal) := StableHlo.upto (List.flatten [hostOps0, hostOps0_1, hostOps0_2, hostOps0_3, hostOps0_4, hostOps0_5, hostOps0_6, hostOps0_7, hostOps0_8]) (fun b => m (c, b)) n

/-- Sixteen vectors end to end. -/
def laid (p0 : S8192.Idx → EReal) (p1 p2 : S16.Idx → EReal) (p3 : S256.Idx → EReal) (p4 : S2048.Idx → EReal) (p5 : S262144.Idx → EReal) (p6 : S2048.Idx → EReal) (p7 : S262144.Idx → EReal) (p8 p9 : S2048.Idx → EReal) (p10 : S128.Idx → EReal) (p11 p12 : S8192.Idx → EReal) (p13 p14 p15 : S131072.Idx → EReal) : S950688.Idx → EReal :=
  concatenate S950688 0 [⟨S8192, p0⟩, ⟨S16, p1⟩, ⟨S16, p2⟩, ⟨S256, p3⟩, ⟨S2048, p4⟩, ⟨S262144, p5⟩, ⟨S2048, p6⟩, ⟨S262144, p7⟩, ⟨S2048, p8⟩, ⟨S2048, p9⟩, ⟨S128, p10⟩, ⟨S8192, p11⟩, ⟨S8192, p12⟩, ⟨S131072, p13⟩, ⟨S131072, p14⟩, ⟨S131072, p15⟩] concatenates_S8192_S16_S16_S256_S2048_S262144_S2048_S262144_S2048_S2048_S128_S8192_S8192_S131072_S131072_S131072_S950688_d0

/-- Five vectors end to end. -/
def laid' (p16 : S131072.Idx → EReal) (p17 : S2048.Idx → EReal) (p18 : S4096.Idx → EReal) (p19 : S8192.Idx → EReal) (p20 : S4096.Idx → EReal) : S149504.Idx → EReal :=
  concatenate S149504 0 [⟨S131072, p16⟩, ⟨S2048, p17⟩, ⟨S4096, p18⟩, ⟨S8192, p19⟩, ⟨S4096, p20⟩] concatenates_S131072_S2048_S4096_S8192_S4096_S149504_d0

/-- The weights, packed. -/
def W (c : Dev nD) : S2176x512.Idx → EReal := packed (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c)

/-- Weight 0's elements in one row. -/
theorem piecew0 (c : Dev nD) : line m c 20 (Proc.devRef .tc main_v0) = shapeCast S8192 (arg0 m c) shapeCasts_S2x4096_S8192 := by
  after_reads_simp
  rfl

/-- Weight 1's elements in one row. -/
theorem piecew1 (c : Dev nD) : line m c 20 (Proc.devRef .tc main_v1) = shapeCast S16 (arg1 m c) shapeCasts_S2x8_S16 := by
  after_reads_simp
  rfl

/-- Weight 2's elements in one row. -/
theorem piecew2 (c : Dev nD) : line m c 20 (Proc.devRef .tc main_v2) = shapeCast S16 (arg2 m c) shapeCasts_S2x8_S16 := by
  after_reads_simp
  rfl

/-- Weight 3's elements in one row. -/
theorem piecew3 (c : Dev nD) : line m c 20 (Proc.devRef .tc main_v3) = shapeCast S256 (arg3 m c) shapeCasts_S2x128_S256 := by
  after_reads_simp
  rfl

/-- Weight 4's elements in one row. -/
theorem piecew4 (c : Dev nD) : line m c 20 (Proc.devRef .tc main_v4) = shapeCast S2048 (arg4 m c) shapeCasts_S2x1024_S2048 := by
  after_reads_simp
  rfl

/-- Weight 5's elements in one row. -/
theorem piecew5 (c : Dev nD) : line m c 20 (Proc.devRef .tc main_v5) = shapeCast S262144 (arg5 m c) shapeCasts_S2x8x128x128_S262144 := by
  after_reads_simp
  rfl

/-- Weight 6's elements in one row. -/
theorem piecew6 (c : Dev nD) : line m c 20 (Proc.devRef .tc main_v6) = shapeCast S2048 (arg6 m c) shapeCasts_S2x1024_S2048 := by
  after_reads_simp
  rfl

/-- Weight 7's elements in one row. -/
theorem piecew7 (c : Dev nD) : line m c 20 (Proc.devRef .tc main_v7) = shapeCast S262144 (arg7 m c) shapeCasts_S2x8x128x128_S262144 := by
  after_reads_simp
  rfl

/-- Weight 8's elements in one row. -/
theorem piecew8 (c : Dev nD) : line m c 20 (Proc.devRef .tc main_v8) = shapeCast S2048 (arg8 m c) shapeCasts_S2x1024_S2048 := by
  after_reads_simp
  rfl

/-- Weight 9's elements in one row. -/
theorem piecew9 (c : Dev nD) : line m c 20 (Proc.devRef .tc main_v9) = shapeCast S2048 (arg9 m c) shapeCasts_S2x1024_S2048 := by
  after_reads_simp
  rfl

/-- Weight 10's elements in one row. -/
theorem piecew10 (c : Dev nD) : line m c 20 (Proc.devRef .tc main_v10) = shapeCast S128 (arg10 m c) shapeCasts_S2x64_S128 := by
  after_reads_simp
  rfl

/-- Weight 11's elements in one row. -/
theorem piecew11 (c : Dev nD) : line m c 20 (Proc.devRef .tc main_v11) = shapeCast S8192 (arg11 m c) shapeCasts_S2x64x64_S8192 := by
  after_reads_simp
  rfl

/-- Weight 12's elements in one row. -/
theorem piecew12 (c : Dev nD) : line m c 20 (Proc.devRef .tc main_v12) = shapeCast S8192 (arg12 m c) shapeCasts_S2x64x64_S8192 := by
  after_reads_simp
  rfl

/-- Weight 13's elements in one row. -/
theorem piecew13 (c : Dev nD) : line m c 20 (Proc.devRef .tc main_v13) = shapeCast S131072 (arg13 m c) shapeCasts_S2x64x64x16_S131072 := by
  after_reads_simp
  rfl

/-- Weight 14's elements in one row. -/
theorem piecew14 (c : Dev nD) : line m c 20 (Proc.devRef .tc main_v14) = shapeCast S131072 (arg14 m c) shapeCasts_S2x64x64x16_S131072 := by
  after_reads_simp
  rfl

/-- Weight 15's elements in one row. -/
theorem piecew15 (c : Dev nD) : line m c 20 (Proc.devRef .tc main_v15) = shapeCast S131072 (arg15 m c) shapeCasts_S2x64x16x64_S131072 := by
  after_reads_simp
  rfl

/-- Weight 16's elements in one row. -/
theorem piecew16 (c : Dev nD) : line m c 21 (Proc.devRef .tc main_v16) = shapeCast S131072 (arg16 m c) shapeCasts_S2x64x16x64_S131072 := by
  after_reads_simp
  rfl

/-- Weight 17's elements in one row. -/
theorem piecew17 (c : Dev nD) : line m c 21 (Proc.devRef .tc main_v17) = shapeCast S2048 (arg17 m c) shapeCasts_S2x64x16_S2048 := by
  after_reads_simp
  rfl

/-- Weight 18's elements in one row. -/
theorem piecew18 (c : Dev nD) : line m c 21 (Proc.devRef .tc main_v18) = shapeCast S4096 (arg18 m c) shapeCasts_S2x2048_S4096 := by
  after_reads_simp
  rfl

/-- Weight 19's elements in one row. -/
theorem piecew19 (c : Dev nD) : line m c 21 (Proc.devRef .tc main_v19) = shapeCast S8192 (arg19 m c) shapeCasts_S2x4096_S8192 := by
  after_reads_simp
  rfl

/-- The first sixteen weights end to end. -/
theorem headw (c : Dev nD) : line m c 22 (Proc.devRef .tc main_v20) = head (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) := by
  after_reads_simp
  show laid (line m c 20 (Proc.devRef .tc main_v0)) (line m c 20 (Proc.devRef .tc main_v1)) (line m c 20 (Proc.devRef .tc main_v2)) (line m c 20 (Proc.devRef .tc main_v3)) (line m c 20 (Proc.devRef .tc main_v4)) (line m c 20 (Proc.devRef .tc main_v5)) (line m c 20 (Proc.devRef .tc main_v6)) (line m c 20 (Proc.devRef .tc main_v7)) (line m c 20 (Proc.devRef .tc main_v8)) (line m c 20 (Proc.devRef .tc main_v9)) (line m c 20 (Proc.devRef .tc main_v10)) (line m c 20 (Proc.devRef .tc main_v11)) (line m c 20 (Proc.devRef .tc main_v12)) (line m c 20 (Proc.devRef .tc main_v13)) (line m c 20 (Proc.devRef .tc main_v14)) (line m c 20 (Proc.devRef .tc main_v15)) = _
  rw [piecew0, piecew1, piecew2, piecew3, piecew4, piecew5, piecew6, piecew7, piecew8, piecew9, piecew10, piecew11, piecew12, piecew13, piecew14, piecew15]
  rfl

/-- The other five. -/
theorem restw (c : Dev nD) : line m c 22 (Proc.devRef .tc main_v21) = rest (arg16 m c) (arg17 m c) (arg18 m c) (arg19 m c) (arg20 m c) := by
  after_reads_simp
  show laid' (line m c 21 (Proc.devRef .tc main_v16)) (line m c 21 (Proc.devRef .tc main_v17)) (line m c 21 (Proc.devRef .tc main_v18)) (line m c 21 (Proc.devRef .tc main_v19)) (arg20 m c) = _
  rw [piecew16, piecew17, piecew18, piecew19]
  rfl

/-- The program's packed weights. -/
theorem hostW (c : Dev nD) : V m c main_v24 = W m c := by
  show StableHlo.after (List.flatten [hostOps0, hostOps0_1, hostOps0_2, hostOps0_3, hostOps0_4, hostOps0_5, hostOps0_6, hostOps0_7, hostOps0_8]) (fun b => m (c, b)) (Proc.devRef .tc main_v24) = _
  after_reads_simp
  show shapeCast S2176x512 (pad S1114112 ![0] ![13920] ![0] (whole (line m c 22 (Proc.devRef .tc main_v20)) (line m c 22 (Proc.devRef .tc main_v21))) (sitofp (F := Ideal) .f32 (constantI S_ 32 0#32)) pads_S1100192_S1114112_0139200 h_S_) shapeCasts_S1114112_S2176x512 = _
  rw [tail, headw, restw]
  rfl

/-- The first moments, packed. -/
def M (c : Dev nD) : S2176x512.Idx → EReal := packed (arg21 m c) (arg22 m c) (arg23 m c) (arg24 m c) (arg25 m c) (arg26 m c) (arg27 m c) (arg28 m c) (arg29 m c) (arg30 m c) (arg31 m c) (arg32 m c) (arg33 m c) (arg34 m c) (arg35 m c) (arg36 m c) (arg37 m c) (arg38 m c) (arg39 m c) (arg40 m c) (arg41 m c)

/-- Weight 0's first moments in one row. -/
theorem piecem0 (c : Dev nD) : line m c 47 (Proc.devRef .tc main_v25) = shapeCast S8192 (arg21 m c) shapeCasts_S2x4096_S8192 := by
  after_reads_simp
  rfl

/-- Weight 1's first moments in one row. -/
theorem piecem1 (c : Dev nD) : line m c 47 (Proc.devRef .tc main_v26) = shapeCast S16 (arg22 m c) shapeCasts_S2x8_S16 := by
  after_reads_simp
  rfl

/-- Weight 2's first moments in one row. -/
theorem piecem2 (c : Dev nD) : line m c 47 (Proc.devRef .tc main_v27) = shapeCast S16 (arg23 m c) shapeCasts_S2x8_S16 := by
  after_reads_simp
  rfl

/-- Weight 3's first moments in one row. -/
theorem piecem3 (c : Dev nD) : line m c 47 (Proc.devRef .tc main_v28) = shapeCast S256 (arg24 m c) shapeCasts_S2x128_S256 := by
  after_reads_simp
  rfl

/-- Weight 4's first moments in one row. -/
theorem piecem4 (c : Dev nD) : line m c 47 (Proc.devRef .tc main_v29) = shapeCast S2048 (arg25 m c) shapeCasts_S2x1024_S2048 := by
  after_reads_simp
  rfl

/-- Weight 5's first moments in one row. -/
theorem piecem5 (c : Dev nD) : line m c 47 (Proc.devRef .tc main_v30) = shapeCast S262144 (arg26 m c) shapeCasts_S2x8x128x128_S262144 := by
  after_reads_simp
  rfl

/-- Weight 6's first moments in one row. -/
theorem piecem6 (c : Dev nD) : line m c 47 (Proc.devRef .tc main_v31) = shapeCast S2048 (arg27 m c) shapeCasts_S2x1024_S2048 := by
  after_reads_simp
  rfl

/-- Weight 7's first moments in one row. -/
theorem piecem7 (c : Dev nD) : line m c 47 (Proc.devRef .tc main_v32) = shapeCast S262144 (arg28 m c) shapeCasts_S2x8x128x128_S262144 := by
  after_reads_simp
  rfl

/-- Weight 8's first moments in one row. -/
theorem piecem8 (c : Dev nD) : line m c 47 (Proc.devRef .tc main_v33) = shapeCast S2048 (arg29 m c) shapeCasts_S2x1024_S2048 := by
  after_reads_simp
  rfl

/-- Weight 9's first moments in one row. -/
theorem piecem9 (c : Dev nD) : line m c 47 (Proc.devRef .tc main_v34) = shapeCast S2048 (arg30 m c) shapeCasts_S2x1024_S2048 := by
  after_reads_simp
  rfl

/-- Weight 10's first moments in one row. -/
theorem piecem10 (c : Dev nD) : line m c 47 (Proc.devRef .tc main_v35) = shapeCast S128 (arg31 m c) shapeCasts_S2x64_S128 := by
  after_reads_simp
  rfl

/-- Weight 11's first moments in one row. -/
theorem piecem11 (c : Dev nD) : line m c 47 (Proc.devRef .tc main_v36) = shapeCast S8192 (arg32 m c) shapeCasts_S2x64x64_S8192 := by
  after_reads_simp
  rfl

/-- Weight 12's first moments in one row. -/
theorem piecem12 (c : Dev nD) : line m c 47 (Proc.devRef .tc main_v37) = shapeCast S8192 (arg33 m c) shapeCasts_S2x64x64_S8192 := by
  after_reads_simp
  rfl

/-- Weight 13's first moments in one row. -/
theorem piecem13 (c : Dev nD) : line m c 47 (Proc.devRef .tc main_v38) = shapeCast S131072 (arg34 m c) shapeCasts_S2x64x64x16_S131072 := by
  after_reads_simp
  rfl

/-- Weight 14's first moments in one row. -/
theorem piecem14 (c : Dev nD) : line m c 47 (Proc.devRef .tc main_v39) = shapeCast S131072 (arg35 m c) shapeCasts_S2x64x64x16_S131072 := by
  after_reads_simp
  rfl

/-- Weight 15's first moments in one row. -/
theorem piecem15 (c : Dev nD) : line m c 47 (Proc.devRef .tc main_v40) = shapeCast S131072 (arg36 m c) shapeCasts_S2x64x16x64_S131072 := by
  after_reads_simp
  rfl

/-- Weight 16's first moments in one row. -/
theorem piecem16 (c : Dev nD) : line m c 48 (Proc.devRef .tc main_v41) = shapeCast S131072 (arg37 m c) shapeCasts_S2x64x16x64_S131072 := by
  after_reads_simp
  rfl

/-- Weight 17's first moments in one row. -/
theorem piecem17 (c : Dev nD) : line m c 48 (Proc.devRef .tc main_v42) = shapeCast S2048 (arg38 m c) shapeCasts_S2x64x16_S2048 := by
  after_reads_simp
  rfl

/-- Weight 18's first moments in one row. -/
theorem piecem18 (c : Dev nD) : line m c 48 (Proc.devRef .tc main_v43) = shapeCast S4096 (arg39 m c) shapeCasts_S2x2048_S4096 := by
  after_reads_simp
  rfl

/-- Weight 19's first moments in one row. -/
theorem piecem19 (c : Dev nD) : line m c 48 (Proc.devRef .tc main_v44) = shapeCast S8192 (arg40 m c) shapeCasts_S2x4096_S8192 := by
  after_reads_simp
  rfl

/-- The first sixteen first moments end to end. -/
theorem headm (c : Dev nD) : line m c 49 (Proc.devRef .tc main_v45) = head (arg21 m c) (arg22 m c) (arg23 m c) (arg24 m c) (arg25 m c) (arg26 m c) (arg27 m c) (arg28 m c) (arg29 m c) (arg30 m c) (arg31 m c) (arg32 m c) (arg33 m c) (arg34 m c) (arg35 m c) (arg36 m c) := by
  after_reads_simp
  show laid (line m c 47 (Proc.devRef .tc main_v25)) (line m c 47 (Proc.devRef .tc main_v26)) (line m c 47 (Proc.devRef .tc main_v27)) (line m c 47 (Proc.devRef .tc main_v28)) (line m c 47 (Proc.devRef .tc main_v29)) (line m c 47 (Proc.devRef .tc main_v30)) (line m c 47 (Proc.devRef .tc main_v31)) (line m c 47 (Proc.devRef .tc main_v32)) (line m c 47 (Proc.devRef .tc main_v33)) (line m c 47 (Proc.devRef .tc main_v34)) (line m c 47 (Proc.devRef .tc main_v35)) (line m c 47 (Proc.devRef .tc main_v36)) (line m c 47 (Proc.devRef .tc main_v37)) (line m c 47 (Proc.devRef .tc main_v38)) (line m c 47 (Proc.devRef .tc main_v39)) (line m c 47 (Proc.devRef .tc main_v40)) = _
  rw [piecem0, piecem1, piecem2, piecem3, piecem4, piecem5, piecem6, piecem7, piecem8, piecem9, piecem10, piecem11, piecem12, piecem13, piecem14, piecem15]
  rfl

/-- The other five. -/
theorem restm (c : Dev nD) : line m c 49 (Proc.devRef .tc main_v46) = rest (arg37 m c) (arg38 m c) (arg39 m c) (arg40 m c) (arg41 m c) := by
  after_reads_simp
  show laid' (line m c 48 (Proc.devRef .tc main_v41)) (line m c 48 (Proc.devRef .tc main_v42)) (line m c 48 (Proc.devRef .tc main_v43)) (line m c 48 (Proc.devRef .tc main_v44)) (arg41 m c) = _
  rw [piecem16, piecem17, piecem18, piecem19]
  rfl

/-- The program's packed first moments. -/
theorem hostM (c : Dev nD) : V m c main_v49 = M m c := by
  show StableHlo.after (List.flatten [hostOps0, hostOps0_1, hostOps0_2, hostOps0_3, hostOps0_4, hostOps0_5, hostOps0_6, hostOps0_7, hostOps0_8]) (fun b => m (c, b)) (Proc.devRef .tc main_v49) = _
  after_reads_simp
  show shapeCast S2176x512 (pad S1114112 ![0] ![13920] ![0] (whole (line m c 49 (Proc.devRef .tc main_v45)) (line m c 49 (Proc.devRef .tc main_v46))) (sitofp (F := Ideal) .f32 (constantI S_ 32 0#32)) pads_S1100192_S1114112_0139200 h_S_) shapeCasts_S1114112_S2176x512 = _
  rw [tail, headm, restm]
  rfl

/-- The second moments, packed. -/
def N (c : Dev nD) : S2176x512.Idx → EReal := packed (arg42 m c) (arg43 m c) (arg44 m c) (arg45 m c) (arg46 m c) (arg47 m c) (arg48 m c) (arg49 m c) (arg50 m c) (arg51 m c) (arg52 m c) (arg53 m c) (arg54 m c) (arg55 m c) (arg56 m c) (arg57 m c) (arg58 m c) (arg59 m c) (arg60 m c) (arg61 m c) (arg62 m c)

/-- Weight 0's second moments in one row. -/
theorem piecev0 (c : Dev nD) : line m c 74 (Proc.devRef .tc main_v50) = shapeCast S8192 (arg42 m c) shapeCasts_S2x4096_S8192 := by
  after_reads_simp
  rfl

/-- Weight 1's second moments in one row. -/
theorem piecev1 (c : Dev nD) : line m c 74 (Proc.devRef .tc main_v51) = shapeCast S16 (arg43 m c) shapeCasts_S2x8_S16 := by
  after_reads_simp
  rfl

/-- Weight 2's second moments in one row. -/
theorem piecev2 (c : Dev nD) : line m c 74 (Proc.devRef .tc main_v52) = shapeCast S16 (arg44 m c) shapeCasts_S2x8_S16 := by
  after_reads_simp
  rfl

/-- Weight 3's second moments in one row. -/
theorem piecev3 (c : Dev nD) : line m c 74 (Proc.devRef .tc main_v53) = shapeCast S256 (arg45 m c) shapeCasts_S2x128_S256 := by
  after_reads_simp
  rfl

/-- Weight 4's second moments in one row. -/
theorem piecev4 (c : Dev nD) : line m c 74 (Proc.devRef .tc main_v54) = shapeCast S2048 (arg46 m c) shapeCasts_S2x1024_S2048 := by
  after_reads_simp
  rfl

/-- Weight 5's second moments in one row. -/
theorem piecev5 (c : Dev nD) : line m c 74 (Proc.devRef .tc main_v55) = shapeCast S262144 (arg47 m c) shapeCasts_S2x8x128x128_S262144 := by
  after_reads_simp
  rfl

/-- Weight 6's second moments in one row. -/
theorem piecev6 (c : Dev nD) : line m c 74 (Proc.devRef .tc main_v56) = shapeCast S2048 (arg48 m c) shapeCasts_S2x1024_S2048 := by
  after_reads_simp
  rfl

/-- Weight 7's second moments in one row. -/
theorem piecev7 (c : Dev nD) : line m c 74 (Proc.devRef .tc main_v57) = shapeCast S262144 (arg49 m c) shapeCasts_S2x8x128x128_S262144 := by
  after_reads_simp
  rfl

/-- Weight 8's second moments in one row. -/
theorem piecev8 (c : Dev nD) : line m c 74 (Proc.devRef .tc main_v58) = shapeCast S2048 (arg50 m c) shapeCasts_S2x1024_S2048 := by
  after_reads_simp
  rfl

/-- Weight 9's second moments in one row. -/
theorem piecev9 (c : Dev nD) : line m c 74 (Proc.devRef .tc main_v59) = shapeCast S2048 (arg51 m c) shapeCasts_S2x1024_S2048 := by
  after_reads_simp
  rfl

/-- Weight 10's second moments in one row. -/
theorem piecev10 (c : Dev nD) : line m c 74 (Proc.devRef .tc main_v60) = shapeCast S128 (arg52 m c) shapeCasts_S2x64_S128 := by
  after_reads_simp
  rfl

/-- Weight 11's second moments in one row. -/
theorem piecev11 (c : Dev nD) : line m c 74 (Proc.devRef .tc main_v61) = shapeCast S8192 (arg53 m c) shapeCasts_S2x64x64_S8192 := by
  after_reads_simp
  rfl

/-- Weight 12's second moments in one row. -/
theorem piecev12 (c : Dev nD) : line m c 74 (Proc.devRef .tc main_v62) = shapeCast S8192 (arg54 m c) shapeCasts_S2x64x64_S8192 := by
  after_reads_simp
  rfl

/-- Weight 13's second moments in one row. -/
theorem piecev13 (c : Dev nD) : line m c 74 (Proc.devRef .tc main_v63) = shapeCast S131072 (arg55 m c) shapeCasts_S2x64x64x16_S131072 := by
  after_reads_simp
  rfl

/-- Weight 14's second moments in one row. -/
theorem piecev14 (c : Dev nD) : line m c 74 (Proc.devRef .tc main_v64) = shapeCast S131072 (arg56 m c) shapeCasts_S2x64x64x16_S131072 := by
  after_reads_simp
  rfl

/-- Weight 15's second moments in one row. -/
theorem piecev15 (c : Dev nD) : line m c 74 (Proc.devRef .tc main_v65) = shapeCast S131072 (arg57 m c) shapeCasts_S2x64x16x64_S131072 := by
  after_reads_simp
  rfl

/-- Weight 16's second moments in one row. -/
theorem piecev16 (c : Dev nD) : line m c 75 (Proc.devRef .tc main_v66) = shapeCast S131072 (arg58 m c) shapeCasts_S2x64x16x64_S131072 := by
  after_reads_simp
  rfl

/-- Weight 17's second moments in one row. -/
theorem piecev17 (c : Dev nD) : line m c 75 (Proc.devRef .tc main_v67) = shapeCast S2048 (arg59 m c) shapeCasts_S2x64x16_S2048 := by
  after_reads_simp
  rfl

/-- Weight 18's second moments in one row. -/
theorem piecev18 (c : Dev nD) : line m c 75 (Proc.devRef .tc main_v68) = shapeCast S4096 (arg60 m c) shapeCasts_S2x2048_S4096 := by
  after_reads_simp
  rfl

/-- Weight 19's second moments in one row. -/
theorem piecev19 (c : Dev nD) : line m c 75 (Proc.devRef .tc main_v69) = shapeCast S8192 (arg61 m c) shapeCasts_S2x4096_S8192 := by
  after_reads_simp
  rfl

/-- The first sixteen second moments end to end. -/
theorem headv (c : Dev nD) : line m c 76 (Proc.devRef .tc main_v70) = head (arg42 m c) (arg43 m c) (arg44 m c) (arg45 m c) (arg46 m c) (arg47 m c) (arg48 m c) (arg49 m c) (arg50 m c) (arg51 m c) (arg52 m c) (arg53 m c) (arg54 m c) (arg55 m c) (arg56 m c) (arg57 m c) := by
  after_reads_simp
  show laid (line m c 74 (Proc.devRef .tc main_v50)) (line m c 74 (Proc.devRef .tc main_v51)) (line m c 74 (Proc.devRef .tc main_v52)) (line m c 74 (Proc.devRef .tc main_v53)) (line m c 74 (Proc.devRef .tc main_v54)) (line m c 74 (Proc.devRef .tc main_v55)) (line m c 74 (Proc.devRef .tc main_v56)) (line m c 74 (Proc.devRef .tc main_v57)) (line m c 74 (Proc.devRef .tc main_v58)) (line m c 74 (Proc.devRef .tc main_v59)) (line m c 74 (Proc.devRef .tc main_v60)) (line m c 74 (Proc.devRef .tc main_v61)) (line m c 74 (Proc.devRef .tc main_v62)) (line m c 74 (Proc.devRef .tc main_v63)) (line m c 74 (Proc.devRef .tc main_v64)) (line m c 74 (Proc.devRef .tc main_v65)) = _
  rw [piecev0, piecev1, piecev2, piecev3, piecev4, piecev5, piecev6, piecev7, piecev8, piecev9, piecev10, piecev11, piecev12, piecev13, piecev14, piecev15]
  rfl

/-- The other five. -/
theorem restv (c : Dev nD) : line m c 76 (Proc.devRef .tc main_v71) = rest (arg58 m c) (arg59 m c) (arg60 m c) (arg61 m c) (arg62 m c) := by
  after_reads_simp
  show laid' (line m c 75 (Proc.devRef .tc main_v66)) (line m c 75 (Proc.devRef .tc main_v67)) (line m c 75 (Proc.devRef .tc main_v68)) (line m c 75 (Proc.devRef .tc main_v69)) (arg62 m c) = _
  rw [piecev16, piecev17, piecev18, piecev19]
  rfl

/-- The program's packed second moments. -/
theorem hostN (c : Dev nD) : V m c main_v74 = N m c := by
  show StableHlo.after (List.flatten [hostOps0, hostOps0_1, hostOps0_2, hostOps0_3, hostOps0_4, hostOps0_5, hostOps0_6, hostOps0_7, hostOps0_8]) (fun b => m (c, b)) (Proc.devRef .tc main_v74) = _
  after_reads_simp
  show shapeCast S2176x512 (pad S1114112 ![0] ![13920] ![0] (whole (line m c 76 (Proc.devRef .tc main_v70)) (line m c 76 (Proc.devRef .tc main_v71))) (sitofp (F := Ideal) .f32 (constantI S_ 32 0#32)) pads_S1100192_S1114112_0139200 h_S_) shapeCasts_S1114112_S2176x512 = _
  rw [tail, headv, restv]
  rfl

/-- The gradients, packed. -/
def G (c : Dev nD) : S2176x512.Idx → EReal := packed (arg63 m c) (arg64 m c) (arg65 m c) (arg66 m c) (arg67 m c) (arg68 m c) (arg69 m c) (arg70 m c) (arg71 m c) (arg72 m c) (arg73 m c) (arg74 m c) (arg75 m c) (arg76 m c) (arg77 m c) (arg78 m c) (arg79 m c) (arg80 m c) (arg81 m c) (arg82 m c) (arg83 m c)

/-- Weight 0's gradients in one row. -/
theorem pieceg0 (c : Dev nD) : line m c 101 (Proc.devRef .tc main_v75) = shapeCast S8192 (arg63 m c) shapeCasts_S2x4096_S8192 := by
  after_reads_simp
  rfl

/-- Weight 1's gradients in one row. -/
theorem pieceg1 (c : Dev nD) : line m c 101 (Proc.devRef .tc main_v76) = shapeCast S16 (arg64 m c) shapeCasts_S2x8_S16 := by
  after_reads_simp
  rfl

/-- Weight 2's gradients in one row. -/
theorem pieceg2 (c : Dev nD) : line m c 101 (Proc.devRef .tc main_v77) = shapeCast S16 (arg65 m c) shapeCasts_S2x8_S16 := by
  after_reads_simp
  rfl

/-- Weight 3's gradients in one row. -/
theorem pieceg3 (c : Dev nD) : line m c 101 (Proc.devRef .tc main_v78) = shapeCast S256 (arg66 m c) shapeCasts_S2x128_S256 := by
  after_reads_simp
  rfl

/-- Weight 4's gradients in one row. -/
theorem pieceg4 (c : Dev nD) : line m c 101 (Proc.devRef .tc main_v79) = shapeCast S2048 (arg67 m c) shapeCasts_S2x1024_S2048 := by
  after_reads_simp
  rfl

/-- Weight 5's gradients in one row. -/
theorem pieceg5 (c : Dev nD) : line m c 101 (Proc.devRef .tc main_v80) = shapeCast S262144 (arg68 m c) shapeCasts_S2x8x128x128_S262144 := by
  after_reads_simp
  rfl

/-- Weight 6's gradients in one row. -/
theorem pieceg6 (c : Dev nD) : line m c 101 (Proc.devRef .tc main_v81) = shapeCast S2048 (arg69 m c) shapeCasts_S2x1024_S2048 := by
  after_reads_simp
  rfl

/-- Weight 7's gradients in one row. -/
theorem pieceg7 (c : Dev nD) : line m c 101 (Proc.devRef .tc main_v82) = shapeCast S262144 (arg70 m c) shapeCasts_S2x8x128x128_S262144 := by
  after_reads_simp
  rfl

/-- Weight 8's gradients in one row. -/
theorem pieceg8 (c : Dev nD) : line m c 101 (Proc.devRef .tc main_v83) = shapeCast S2048 (arg71 m c) shapeCasts_S2x1024_S2048 := by
  after_reads_simp
  rfl

/-- Weight 9's gradients in one row. -/
theorem pieceg9 (c : Dev nD) : line m c 101 (Proc.devRef .tc main_v84) = shapeCast S2048 (arg72 m c) shapeCasts_S2x1024_S2048 := by
  after_reads_simp
  rfl

/-- Weight 10's gradients in one row. -/
theorem pieceg10 (c : Dev nD) : line m c 101 (Proc.devRef .tc main_v85) = shapeCast S128 (arg73 m c) shapeCasts_S2x64_S128 := by
  after_reads_simp
  rfl

/-- Weight 11's gradients in one row. -/
theorem pieceg11 (c : Dev nD) : line m c 101 (Proc.devRef .tc main_v86) = shapeCast S8192 (arg74 m c) shapeCasts_S2x64x64_S8192 := by
  after_reads_simp
  rfl

/-- Weight 12's gradients in one row. -/
theorem pieceg12 (c : Dev nD) : line m c 101 (Proc.devRef .tc main_v87) = shapeCast S8192 (arg75 m c) shapeCasts_S2x64x64_S8192 := by
  after_reads_simp
  rfl

/-- Weight 13's gradients in one row. -/
theorem pieceg13 (c : Dev nD) : line m c 101 (Proc.devRef .tc main_v88) = shapeCast S131072 (arg76 m c) shapeCasts_S2x64x64x16_S131072 := by
  after_reads_simp
  rfl

/-- Weight 14's gradients in one row. -/
theorem pieceg14 (c : Dev nD) : line m c 101 (Proc.devRef .tc main_v89) = shapeCast S131072 (arg77 m c) shapeCasts_S2x64x64x16_S131072 := by
  after_reads_simp
  rfl

/-- Weight 15's gradients in one row. -/
theorem pieceg15 (c : Dev nD) : line m c 101 (Proc.devRef .tc main_v90) = shapeCast S131072 (arg78 m c) shapeCasts_S2x64x16x64_S131072 := by
  after_reads_simp
  rfl

/-- Weight 16's gradients in one row. -/
theorem pieceg16 (c : Dev nD) : line m c 102 (Proc.devRef .tc main_v91) = shapeCast S131072 (arg79 m c) shapeCasts_S2x64x16x64_S131072 := by
  after_reads_simp
  rfl

/-- Weight 17's gradients in one row. -/
theorem pieceg17 (c : Dev nD) : line m c 102 (Proc.devRef .tc main_v92) = shapeCast S2048 (arg80 m c) shapeCasts_S2x64x16_S2048 := by
  after_reads_simp
  rfl

/-- Weight 18's gradients in one row. -/
theorem pieceg18 (c : Dev nD) : line m c 102 (Proc.devRef .tc main_v93) = shapeCast S4096 (arg81 m c) shapeCasts_S2x2048_S4096 := by
  after_reads_simp
  rfl

/-- Weight 19's gradients in one row. -/
theorem pieceg19 (c : Dev nD) : line m c 102 (Proc.devRef .tc main_v94) = shapeCast S8192 (arg82 m c) shapeCasts_S2x4096_S8192 := by
  after_reads_simp
  rfl

/-- The first sixteen gradients end to end. -/
theorem headg (c : Dev nD) : line m c 103 (Proc.devRef .tc main_v95) = head (arg63 m c) (arg64 m c) (arg65 m c) (arg66 m c) (arg67 m c) (arg68 m c) (arg69 m c) (arg70 m c) (arg71 m c) (arg72 m c) (arg73 m c) (arg74 m c) (arg75 m c) (arg76 m c) (arg77 m c) (arg78 m c) := by
  after_reads_simp
  show laid (line m c 101 (Proc.devRef .tc main_v75)) (line m c 101 (Proc.devRef .tc main_v76)) (line m c 101 (Proc.devRef .tc main_v77)) (line m c 101 (Proc.devRef .tc main_v78)) (line m c 101 (Proc.devRef .tc main_v79)) (line m c 101 (Proc.devRef .tc main_v80)) (line m c 101 (Proc.devRef .tc main_v81)) (line m c 101 (Proc.devRef .tc main_v82)) (line m c 101 (Proc.devRef .tc main_v83)) (line m c 101 (Proc.devRef .tc main_v84)) (line m c 101 (Proc.devRef .tc main_v85)) (line m c 101 (Proc.devRef .tc main_v86)) (line m c 101 (Proc.devRef .tc main_v87)) (line m c 101 (Proc.devRef .tc main_v88)) (line m c 101 (Proc.devRef .tc main_v89)) (line m c 101 (Proc.devRef .tc main_v90)) = _
  rw [pieceg0, pieceg1, pieceg2, pieceg3, pieceg4, pieceg5, pieceg6, pieceg7, pieceg8, pieceg9, pieceg10, pieceg11, pieceg12, pieceg13, pieceg14, pieceg15]
  rfl

/-- The other five. -/
theorem restg (c : Dev nD) : line m c 103 (Proc.devRef .tc main_v96) = rest (arg79 m c) (arg80 m c) (arg81 m c) (arg82 m c) (arg83 m c) := by
  after_reads_simp
  show laid' (line m c 102 (Proc.devRef .tc main_v91)) (line m c 102 (Proc.devRef .tc main_v92)) (line m c 102 (Proc.devRef .tc main_v93)) (line m c 102 (Proc.devRef .tc main_v94)) (arg83 m c) = _
  rw [pieceg16, pieceg17, pieceg18, pieceg19]
  rfl

/-- The program's packed gradients. -/
theorem hostG (c : Dev nD) : V m c main_v100 = shapeCast S1x2176x512 (G m c) shapeCasts_S2176x512_S1x2176x512 := by
  show StableHlo.after (List.flatten [hostOps0, hostOps0_1, hostOps0_2, hostOps0_3, hostOps0_4, hostOps0_5, hostOps0_6, hostOps0_7, hostOps0_8]) (fun b => m (c, b)) (Proc.devRef .tc main_v100) = _
  after_reads_simp
  show shapeCast S1x2176x512 (shapeCast S2176x512 (pad S1114112 ![0] ![13920] ![0] (whole (line m c 103 (Proc.devRef .tc main_v95)) (line m c 103 (Proc.devRef .tc main_v96))) (sitofp (F := Ideal) .f32 (constantI S_ 32 0#32)) pads_S1100192_S1114112_0139200 h_S_) shapeCasts_S1114112_S2176x512) shapeCasts_S2176x512_S1x2176x512 = _
  rw [tail, headg, restg]
  rfl

end Cert.AdamRestIdeal.Hand

end
-- ==== Proof.AdamRestKernel.lean ====
/- The AdamW step of the replicated weights, whose arrays the program lays end to end in rows of 512.

   The kernel takes the step element by element on blocks of 272 rows. -/
module

public import proofs.«01_k».proof.Proof.Gen.AdamRestIdeal.Value
public import Idealize.ShloMosaic.Lib.Pipeline.ValueKit
public import Idealize.ShloMosaic.Lib.Pipeline.ReadBack
public import Idealize.ShloMosaic.Lib.Pointwise
public import proofs.«01_k».proof.Proof.AdamStep
public import proofs.«01_k».proof.Proof.AdamRestReference
public import proofs.«01_k».proof.Proof.AdamRestHost
public import Idealize.ShloMosaic.Lib.StableHlo.RunRead

@[expose] public section

set_option maxRecDepth 16384

noncomputable section

namespace Cert.AdamRestIdeal.Hand

open Cert.AdamRestIdeal Cert.AdamRestIdeal.Gen Idealize.ShloMosaic Idealize.ShloMosaic.TcCoe Idealize.SL.Sem

variable (m : (ℓ : Loc nD τ sig) → Buf (Elt Ideal) ℓ)

/-- Every window's block index at a grid point. -/
theorem idx : ∀ t : Fin cfg0.N, win0_0.index t = ![t.val, 0]
    ∧ win0_1.index t = ![t.val, 0]
    ∧ win0_2.index t = ![t.val, 0]
    ∧ win0_3.index t = ![0, t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the whole array at row `r` of point `t`'s block. -/
def row (t : ℕ) (r : Fin 272) : Fin 2176 := ⟨t % 8 * 272 + r.val, by omega⟩

/-- Window 0's block. -/
theorem in0 (c : Dev nD) (t : Fin cfg0.N) (r : Fin 272) (q : Fin 512) :
    iblk m c 0 t (ix2 r q) = W m c (ix2 (row t.val r) q) := by
  have ht : t.val < 8 := t.isLt
  have h : iblk m c 0 t (ix2 r q) = V m c main_v24 (ix2 (row t.val r) q) := by
    blk_ext! [iblk, row, idx t]
  rw [h, hostW]

/-- Window 1's block. -/
theorem in1 (c : Dev nD) (t : Fin cfg0.N) (r : Fin 272) (q : Fin 512) :
    iblk m c 1 t (ix2 r q) = M m c (ix2 (row t.val r) q) := by
  have ht : t.val < 8 := t.isLt
  have h : iblk m c 1 t (ix2 r q) = V m c main_v49 (ix2 (row t.val r) q) := by
    blk_ext! [iblk, row, idx t]
  rw [h, hostM]

/-- Window 2's block. -/
theorem in2 (c : Dev nD) (t : Fin cfg0.N) (r : Fin 272) (q : Fin 512) :
    iblk m c 2 t (ix2 r q) = N m c (ix2 (row t.val r) q) := by
  have ht : t.val < 8 := t.isLt
  have h : iblk m c 2 t (ix2 r q) = V m c main_v74 (ix2 (row t.val r) q) := by
    blk_ext! [iblk, row, idx t]
  rw [h, hostN]

/-- Window 3's block. -/
theorem in3 (c : Dev nD) (t : Fin cfg0.N) (u : Fin 1) (r : Fin 272) (q : Fin 512) :
    iblk m c 3 t (ix3 u r q) = G m c (ix2 (row t.val r) q) := by
  have ht : t.val < 8 := t.isLt
  have h : iblk m c 3 t (ix3 u r q) = V m c main_v100 (ix3 0 (row t.val r) q) := by
    blk_ext! [iblk, row, idx t]
  rw [h, hostG]
  pointwise

/-- The packed gradients. -/
def grad (c : Dev nD) : S2176x512.Idx → EReal := fun j => G m c j

/-- What a point leaves in window 4's block. -/
theorem point4 (c : Dev nD) (t : Fin cfg0.N) (y : S272x512.Idx) :
    out0_4 (iblk m c 0 t) (iblk m c 1 t) (iblk m c 2 t) (iblk m c 3 t) y = grad m c (ix2 (row t.val (y 0)) (y 1)) := by
  idx_vars y
  frame_out
  unfold_payloads
  pointwise [grad, Adam.step, Adam.first, Adam.second, in0, in1, in2, in3]

/-- The result array of window 4. -/
theorem final4 (c : Dev nD) : (dats m 0 c).arrAt 4 (cfgs 0).N = grad m c := by
  refine (dats m 0 c).arrAt_eq_of_covers 4 _ (by decide +kernel) fun t hf y => ?_
  have ht : t.val < 8 := t.isLt
  blk_simp
  rw [after0_4, point4]
  blk_ext [row, idx t]

/-- The weights' steps. -/
def delta (c : Dev nD) : S2176x512.Idx → EReal := fun j => Adam.step (W m c j) (M m c j) (N m c j) (G m c j)

/-- What a point leaves in window 5's block. -/
theorem point5 (c : Dev nD) (t : Fin cfg0.N) (y : S272x512.Idx) :
    out0_5 (iblk m c 0 t) (iblk m c 1 t) (iblk m c 2 t) (iblk m c 3 t) y = delta m c (ix2 (row t.val (y 0)) (y 1)) := by
  idx_vars y
  frame_out
  unfold_payloads
  pointwise [delta, Adam.step, Adam.first, Adam.second, in0, in1, in2, in3]

/-- The result array of window 5. -/
theorem final5 (c : Dev nD) : (dats m 0 c).arrAt 5 (cfgs 0).N = delta m c := by
  refine (dats m 0 c).arrAt_eq_of_covers 5 _ (by decide +kernel) fun t hf y => ?_
  have ht : t.val < 8 := t.isLt
  blk_simp
  rw [after0_5, point5]
  blk_ext [row, idx t]

/-- The first moments after the step. -/
def moment1 (c : Dev nD) : S2176x512.Idx → EReal := fun j => Adam.first (M m c j) (G m c j)

/-- What a point leaves in window 6's block. -/
theorem point6 (c : Dev nD) (t : Fin cfg0.N) (y : S272x512.Idx) :
    out0_6 (iblk m c 0 t) (iblk m c 1 t) (iblk m c 2 t) (iblk m c 3 t) y = moment1 m c (ix2 (row t.val (y 0)) (y 1)) := by
  idx_vars y
  frame_out
  unfold_payloads
  pointwise [moment1, Adam.step, Adam.first, Adam.second, in0, in1, in2, in3]

/-- The result array of window 6. -/
theorem final6 (c : Dev nD) : (dats m 0 c).arrAt 6 (cfgs 0).N = moment1 m c := by
  refine (dats m 0 c).arrAt_eq_of_covers 6 _ (by decide +kernel) fun t hf y => ?_
  have ht : t.val < 8 := t.isLt
  blk_simp
  rw [after0_6, point6]
  blk_ext [row, idx t]

/-- The second moments after the step. -/
def moment2 (c : Dev nD) : S2176x512.Idx → EReal := fun j => Adam.second (N m c j) (G m c j)

/-- What a point leaves in window 7's block. -/
theorem point7 (c : Dev nD) (t : Fin cfg0.N) (y : S272x512.Idx) :
    out0_7 (iblk m c 0 t) (iblk m c 1 t) (iblk m c 2 t) (iblk m c 3 t) y = moment2 m c (ix2 (row t.val (y 0)) (y 1)) := by
  idx_vars y
  frame_out
  unfold_payloads
  pointwise [moment2, Adam.step, Adam.first, Adam.second, in0, in1, in2, in3]

/-- The result array of window 7. -/
theorem final7 (c : Dev nD) : (dats m 0 c).arrAt 7 (cfgs 0).N = moment2 m c := by
  refine (dats m 0 c).arrAt_eq_of_covers 7 _ (by decide +kernel) fun t hf y => ?_
  have ht : t.val < 8 := t.isLt
  blk_simp
  rw [after0_7, point7]
  blk_ext [row, idx t]

end Cert.AdamRestIdeal.Hand

end
-- ==== Proof.AdamRest.lean ====
/- The AdamW step of the replicated weights: the kernel on the packed rows and the reference weight by weight agree. -/
module

public import proofs.«01_k».proof.Defs
public import proofs.«01_k».proof.Proof.AdamRestKernel
public import proofs.«01_k».proof.Proof.Gen.AdamRestReferenceIdeal.Run
public import proofs.«01_k».proof.Proof.Gen.AdamRestReferenceIdeal.Read

@[expose] public section

set_option maxRecDepth 16384

noncomputable section

namespace Cert.AdamRestReferenceIdeal.Hand

open Idealize.ShloMosaic

/-- Equal weights, packed, are equal. -/
theorem packed_congr {a0 b0 : (⟨2, ![2, 4096]⟩ : Shape).Idx → EReal} {a1 b1 : (⟨2, ![2, 8]⟩ : Shape).Idx → EReal} {a2 b2 : (⟨2, ![2, 8]⟩ : Shape).Idx → EReal} {a3 b3 : (⟨2, ![2, 128]⟩ : Shape).Idx → EReal} {a4 b4 : (⟨2, ![2, 1024]⟩ : Shape).Idx → EReal} {a5 b5 : (⟨4, ![2, 8, 128, 128]⟩ : Shape).Idx → EReal} {a6 b6 : (⟨2, ![2, 1024]⟩ : Shape).Idx → EReal} {a7 b7 : (⟨4, ![2, 8, 128, 128]⟩ : Shape).Idx → EReal} {a8 b8 : (⟨2, ![2, 1024]⟩ : Shape).Idx → EReal} {a9 b9 : (⟨2, ![2, 1024]⟩ : Shape).Idx → EReal} {a10 b10 : (⟨2, ![2, 64]⟩ : Shape).Idx → EReal} {a11 b11 : (⟨3, ![2, 64, 64]⟩ : Shape).Idx → EReal} {a12 b12 : (⟨3, ![2, 64, 64]⟩ : Shape).Idx → EReal} {a13 b13 : (⟨4, ![2, 64, 64, 16]⟩ : Shape).Idx → EReal} {a14 b14 : (⟨4, ![2, 64, 64, 16]⟩ : Shape).Idx → EReal} {a15 b15 : (⟨4, ![2, 64, 16, 64]⟩ : Shape).Idx → EReal} {a16 b16 : (⟨4, ![2, 64, 16, 64]⟩ : Shape).Idx → EReal} {a17 b17 : (⟨3, ![2, 64, 16]⟩ : Shape).Idx → EReal} {a18 b18 : (⟨2, ![2, 2048]⟩ : Shape).Idx → EReal} {a19 b19 : (⟨2, ![2, 4096]⟩ : Shape).Idx → EReal} {a20 b20 : (⟨1, ![4096]⟩ : Shape).Idx → EReal} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) :
    packed a0 a1 a2 a3 a4 a5 a6 a7 a8 a9 a10 a11 a12 a13 a14 a15 a16 a17 a18 a19 a20 = packed b0 b1 b2 b3 b4 b5 b6 b7 b8 b9 b10 b11 b12 b13 b14 b15 b16 b17 b18 b19 b20 := by
  subst h0 h1 h2 h3 h4 h5 h6 h7 h8 h9 h10 h11 h12 h13 h14 h15 h16 h17 h18 h19 h20
  rfl

end Cert.AdamRestReferenceIdeal.Hand

namespace Cert.Proof

open Idealize.ShloMosaic Idealize.SL.Sem Cert.AdamRestIdeal.Hand Cert.AdamRestReferenceIdeal.Hand Cert.AdamRestReferenceIdeal.Read

/-- The AdamW step of the replicated weights: the program and its reference agree on the extended reals. -/
theorem adamRest_algebraic : Cert.algebraic_AdamRestIdeal_AdamRestReferenceIdeal := by
  intro m g m' g' _ hagree
  refine ⟨fun c => grad m c, fun c => delta m c, fun c => moment1 m c, fun c => moment2 m c, ?_, ?_⟩
  · refine (θ_run _ _ _).mono (fun r h c => ?_) (Cert.AdamRestIdeal.Value.run_blocks m g)
    have h := h c
    exact ⟨h.1.trans (final4 m c), h.2.1.trans (final5 m c), h.2.2.1.trans (final6 m c), h.2.2.2.1.trans (final7 m c), h.2.2.2.2⟩
  · refine (θ_run _ _ _).mono (fun r h c => ?_) (Cert.AdamRestReferenceIdeal.Value.run m' g')
    have h := h c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67, a68, a69, a70, a71, a72, a73, a74, a75, a76, a77, a78, a79, a80, a81, a82, a83⟩ := hagree c
    have ew : packed (m' ((c.tc : Thread Cert.AdamRestReferenceIdeal.nD Cert.AdamRestReferenceIdeal.τ).loc Cert.AdamRestReferenceIdeal.main_arg0)) (m' ((c.tc : Thread Cert.AdamRestReferenceIdeal.nD Cert.AdamRestReferenceIdeal.τ).loc Cert.AdamRestReferenceIdeal.main_arg1)) (m' ((c.tc : Thread Cert.AdamRestReferenceIdeal.nD Cert.AdamRestReferenceIdeal.τ).loc Cert.AdamRestReferenceIdeal.main_arg2)) (m' ((c.tc : Thread Cert.AdamRestReferenceIdeal.nD Cert.AdamRestReferenceIdeal.τ).loc Cert.AdamRestReferenceIdeal.main_arg3)) (m' ((c.tc : Thread Cert.AdamRestReferenceIdeal.nD Cert.AdamRestReferenceIdeal.τ).loc Cert.AdamRestReferenceIdeal.main_arg4)) (m' ((c.tc : Thread Cert.AdamRestReferenceIdeal.nD Cert.AdamRestReferenceIdeal.τ).loc Cert.AdamRestReferenceIdeal.main_arg5)) (m' ((c.tc : Thread Cert.AdamRestReferenceIdeal.nD Cert.AdamRestReferenceIdeal.τ).loc Cert.AdamRestReferenceIdeal.main_arg6)) (m' ((c.tc : Thread Cert.AdamRestReferenceIdeal.nD Cert.AdamRestReferenceIdeal.τ).loc Cert.AdamRestReferenceIdeal.main_arg7)) (m' ((c.tc : Thread Cert.AdamRestReferenceIdeal.nD Cert.AdamRestReferenceIdeal.τ).loc Cert.AdamRestReferenceIdeal.main_arg8)) (m' ((c.tc : Thread Cert.AdamRestReferenceIdeal.nD Cert.AdamRestReferenceIdeal.τ).loc Cert.AdamRestReferenceIdeal.main_arg9)) (m' ((c.tc : Thread Cert.AdamRestReferenceIdeal.nD Cert.AdamRestReferenceIdeal.τ).loc Cert.AdamRestReferenceIdeal.main_arg10)) (m' ((c.tc : Thread Cert.AdamRestReferenceIdeal.nD Cert.AdamRestReferenceIdeal.τ).loc Cert.AdamRestReferenceIdeal.main_arg11)) (m' ((c.tc : Thread Cert.AdamRestReferenceIdeal.nD Cert.AdamRestReferenceIdeal.τ).loc Cert.AdamRestReferenceIdeal.main_arg12)) (m' ((c.tc : Thread Cert.AdamRestReferenceIdeal.nD Cert.AdamRestReferenceIdeal.τ).loc Cert.AdamRestReferenceIdeal.main_arg13)) (m' ((c.tc : Thread Cert.AdamRestReferenceIdeal.nD Cert.AdamRestReferenceIdeal.τ).loc Cert.AdamRestReferenceIdeal.main_arg14)) (m' ((c.tc : Thread Cert.AdamRestReferenceIdeal.nD Cert.AdamRestReferenceIdeal.τ).loc Cert.AdamRestReferenceIdeal.main_arg15)) (m' ((c.tc : Thread Cert.AdamRestReferenceIdeal.nD Cert.AdamRestReferenceIdeal.τ).loc Cert.AdamRestReferenceIdeal.main_arg16)) (m' ((c.tc : Thread Cert.AdamRestReferenceIdeal.nD Cert.AdamRestReferenceIdeal.τ).loc Cert.AdamRestReferenceIdeal.main_arg17)) (m' ((c.tc : Thread Cert.AdamRestReferenceIdeal.nD Cert.AdamRestReferenceIdeal.τ).loc Cert.AdamRestReferenceIdeal.main_arg18)) (m' ((c.tc : Thread Cert.AdamRestReferenceIdeal.nD Cert.AdamRestReferenceIdeal.τ).loc Cert.AdamRestReferenceIdeal.main_arg19)) (m' ((c.tc : Thread Cert.AdamRestReferenceIdeal.nD Cert.AdamRestReferenceIdeal.τ).loc Cert.AdamRestReferenceIdeal.main_arg20)) = W m c := packed_congr a0 a1 a2 a3 a4 a5 a6 a7 a8 a9 a10 a11 a12 a13 a14 a15 a16 a17 a18 a19 a20
    have em : packed (m' ((c.tc : Thread Cert.AdamRestReferenceIdeal.nD Cert.AdamRestReferenceIdeal.τ).loc Cert.AdamRestReferenceIdeal.main_arg21)) (m' ((c.tc : Thread Cert.AdamRestReferenceIdeal.nD Cert.AdamRestReferenceIdeal.τ).loc Cert.AdamRestReferenceIdeal.main_arg22)) (m' ((c.tc : Thread Cert.AdamRestReferenceIdeal.nD Cert.AdamRestReferenceIdeal.τ).loc Cert.AdamRestReferenceIdeal.main_arg23)) (m' ((c.tc : Thread Cert.AdamRestReferenceIdeal.nD Cert.AdamRestReferenceIdeal.τ).loc Cert.AdamRestReferenceIdeal.main_arg24)) (m' ((c.tc : Thread Cert.AdamRestReferenceIdeal.nD Cert.AdamRestReferenceIdeal.τ).loc Cert.AdamRestReferenceIdeal.main_arg25)) (m' ((c.tc : Thread Cert.AdamRestReferenceIdeal.nD Cert.AdamRestReferenceIdeal.τ).loc Cert.AdamRestReferenceIdeal.main_arg26)) (m' ((c.tc : Thread Cert.AdamRestReferenceIdeal.nD Cert.AdamRestReferenceIdeal.τ).loc Cert.AdamRestReferenceIdeal.main_arg27)) (m' ((c.tc : Thread Cert.AdamRestReferenceIdeal.nD Cert.AdamRestReferenceIdeal.τ).loc Cert.AdamRestReferenceIdeal.main_arg28)) (m' ((c.tc : Thread Cert.AdamRestReferenceIdeal.nD Cert.AdamRestReferenceIdeal.τ).loc Cert.AdamRestReferenceIdeal.main_arg29)) (m' ((c.tc : Thread Cert.AdamRestReferenceIdeal.nD Cert.AdamRestReferenceIdeal.τ).loc Cert.AdamRestReferenceIdeal.main_arg30)) (m' ((c.tc : Thread Cert.AdamRestReferenceIdeal.nD Cert.AdamRestReferenceIdeal.τ).loc Cert.AdamRestReferenceIdeal.main_arg31)) (m' ((c.tc : Thread Cert.AdamRestReferenceIdeal.nD Cert.AdamRestReferenceIdeal.τ).loc Cert.AdamRestReferenceIdeal.main_arg32)) (m' ((c.tc : Thread Cert.AdamRestReferenceIdeal.nD Cert.AdamRestReferenceIdeal.τ).loc Cert.AdamRestReferenceIdeal.main_arg33)) (m' ((c.tc : Thread Cert.AdamRestReferenceIdeal.nD Cert.AdamRestReferenceIdeal.τ).loc Cert.AdamRestReferenceIdeal.main_arg34)) (m' ((c.tc : Thread Cert.AdamRestReferenceIdeal.nD Cert.AdamRestReferenceIdeal.τ).loc Cert.AdamRestReferenceIdeal.main_arg35)) (m' ((c.tc : Thread Cert.AdamRestReferenceIdeal.nD Cert.AdamRestReferenceIdeal.τ).loc Cert.AdamRestReferenceIdeal.main_arg36)) (m' ((c.tc : Thread Cert.AdamRestReferenceIdeal.nD Cert.AdamRestReferenceIdeal.τ).loc Cert.AdamRestReferenceIdeal.main_arg37)) (m' ((c.tc : Thread Cert.AdamRestReferenceIdeal.nD Cert.AdamRestReferenceIdeal.τ).loc Cert.AdamRestReferenceIdeal.main_arg38)) (m' ((c.tc : Thread Cert.AdamRestReferenceIdeal.nD Cert.AdamRestReferenceIdeal.τ).loc Cert.AdamRestReferenceIdeal.main_arg39)) (m' ((c.tc : Thread Cert.AdamRestReferenceIdeal.nD Cert.AdamRestReferenceIdeal.τ).loc Cert.AdamRestReferenceIdeal.main_arg40)) (m' ((c.tc : Thread Cert.AdamRestReferenceIdeal.nD Cert.AdamRestReferenceIdeal.τ).loc Cert.AdamRestReferenceIdeal.main_arg41)) = M m c := packed_congr a21 a22 a23 a24 a25 a26 a27 a28 a29 a30 a31 a32 a33 a34 a35 a36 a37 a38 a39 a40 a41
    have ev : packed (m' ((c.tc : Thread Cert.AdamRestReferenceIdeal.nD Cert.AdamRestReferenceIdeal.τ).loc Cert.AdamRestReferenceIdeal.main_arg42)) (m' ((c.tc : Thread Cert.AdamRestReferenceIdeal.nD Cert.AdamRestReferenceIdeal.τ).loc Cert.AdamRestReferenceIdeal.main_arg43)) (m' ((c.tc : Thread Cert.AdamRestReferenceIdeal.nD Cert.AdamRestReferenceIdeal.τ).loc Cert.AdamRestReferenceIdeal.main_arg44)) (m' ((c.tc : Thread Cert.AdamRestReferenceIdeal.nD Cert.AdamRestReferenceIdeal.τ).loc Cert.AdamRestReferenceIdeal.main_arg45)) (m' ((c.tc : Thread Cert.AdamRestReferenceIdeal.nD Cert.AdamRestReferenceIdeal.τ).loc Cert.AdamRestReferenceIdeal.main_arg46)) (m' ((c.tc : Thread Cert.AdamRestReferenceIdeal.nD Cert.AdamRestReferenceIdeal.τ).loc Cert.AdamRestReferenceIdeal.main_arg47)) (m' ((c.tc : Thread Cert.AdamRestReferenceIdeal.nD Cert.AdamRestReferenceIdeal.τ).loc Cert.AdamRestReferenceIdeal.main_arg48)) (m' ((c.tc : Thread Cert.AdamRestReferenceIdeal.nD Cert.AdamRestReferenceIdeal.τ).loc Cert.AdamRestReferenceIdeal.main_arg49)) (m' ((c.tc : Thread Cert.AdamRestReferenceIdeal.nD Cert.AdamRestReferenceIdeal.τ).loc Cert.AdamRestReferenceIdeal.main_arg50)) (m' ((c.tc : Thread Cert.AdamRestReferenceIdeal.nD Cert.AdamRestReferenceIdeal.τ).loc Cert.AdamRestReferenceIdeal.main_arg51)) (m' ((c.tc : Thread Cert.AdamRestReferenceIdeal.nD Cert.AdamRestReferenceIdeal.τ).loc Cert.AdamRestReferenceIdeal.main_arg52)) (m' ((c.tc : Thread Cert.AdamRestReferenceIdeal.nD Cert.AdamRestReferenceIdeal.τ).loc Cert.AdamRestReferenceIdeal.main_arg53)) (m' ((c.tc : Thread Cert.AdamRestReferenceIdeal.nD Cert.AdamRestReferenceIdeal.τ).loc Cert.AdamRestReferenceIdeal.main_arg54)) (m' ((c.tc : Thread Cert.AdamRestReferenceIdeal.nD Cert.AdamRestReferenceIdeal.τ).loc Cert.AdamRestReferenceIdeal.main_arg55)) (m' ((c.tc : Thread Cert.AdamRestReferenceIdeal.nD Cert.AdamRestReferenceIdeal.τ).loc Cert.AdamRestReferenceIdeal.main_arg56)) (m' ((c.tc : Thread Cert.AdamRestReferenceIdeal.nD Cert.AdamRestReferenceIdeal.τ).loc Cert.AdamRestReferenceIdeal.main_arg57)) (m' ((c.tc : Thread Cert.AdamRestReferenceIdeal.nD Cert.AdamRestReferenceIdeal.τ).loc Cert.AdamRestReferenceIdeal.main_arg58)) (m' ((c.tc : Thread Cert.AdamRestReferenceIdeal.nD Cert.AdamRestReferenceIdeal.τ).loc Cert.AdamRestReferenceIdeal.main_arg59)) (m' ((c.tc : Thread Cert.AdamRestReferenceIdeal.nD Cert.AdamRestReferenceIdeal.τ).loc Cert.AdamRestReferenceIdeal.main_arg60)) (m' ((c.tc : Thread Cert.AdamRestReferenceIdeal.nD Cert.AdamRestReferenceIdeal.τ).loc Cert.AdamRestReferenceIdeal.main_arg61)) (m' ((c.tc : Thread Cert.AdamRestReferenceIdeal.nD Cert.AdamRestReferenceIdeal.τ).loc Cert.AdamRestReferenceIdeal.main_arg62)) = N m c := packed_congr a42 a43 a44 a45 a46 a47 a48 a49 a50 a51 a52 a53 a54 a55 a56 a57 a58 a59 a60 a61 a62
    have eg : packed (m' ((c.tc : Thread Cert.AdamRestReferenceIdeal.nD Cert.AdamRestReferenceIdeal.τ).loc Cert.AdamRestReferenceIdeal.main_arg63)) (m' ((c.tc : Thread Cert.AdamRestReferenceIdeal.nD Cert.AdamRestReferenceIdeal.τ).loc Cert.AdamRestReferenceIdeal.main_arg64)) (m' ((c.tc : Thread Cert.AdamRestReferenceIdeal.nD Cert.AdamRestReferenceIdeal.τ).loc Cert.AdamRestReferenceIdeal.main_arg65)) (m' ((c.tc : Thread Cert.AdamRestReferenceIdeal.nD Cert.AdamRestReferenceIdeal.τ).loc Cert.AdamRestReferenceIdeal.main_arg66)) (m' ((c.tc : Thread Cert.AdamRestReferenceIdeal.nD Cert.AdamRestReferenceIdeal.τ).loc Cert.AdamRestReferenceIdeal.main_arg67)) (m' ((c.tc : Thread Cert.AdamRestReferenceIdeal.nD Cert.AdamRestReferenceIdeal.τ).loc Cert.AdamRestReferenceIdeal.main_arg68)) (m' ((c.tc : Thread Cert.AdamRestReferenceIdeal.nD Cert.AdamRestReferenceIdeal.τ).loc Cert.AdamRestReferenceIdeal.main_arg69)) (m' ((c.tc : Thread Cert.AdamRestReferenceIdeal.nD Cert.AdamRestReferenceIdeal.τ).loc Cert.AdamRestReferenceIdeal.main_arg70)) (m' ((c.tc : Thread Cert.AdamRestReferenceIdeal.nD Cert.AdamRestReferenceIdeal.τ).loc Cert.AdamRestReferenceIdeal.main_arg71)) (m' ((c.tc : Thread Cert.AdamRestReferenceIdeal.nD Cert.AdamRestReferenceIdeal.τ).loc Cert.AdamRestReferenceIdeal.main_arg72)) (m' ((c.tc : Thread Cert.AdamRestReferenceIdeal.nD Cert.AdamRestReferenceIdeal.τ).loc Cert.AdamRestReferenceIdeal.main_arg73)) (m' ((c.tc : Thread Cert.AdamRestReferenceIdeal.nD Cert.AdamRestReferenceIdeal.τ).loc Cert.AdamRestReferenceIdeal.main_arg74)) (m' ((c.tc : Thread Cert.AdamRestReferenceIdeal.nD Cert.AdamRestReferenceIdeal.τ).loc Cert.AdamRestReferenceIdeal.main_arg75)) (m' ((c.tc : Thread Cert.AdamRestReferenceIdeal.nD Cert.AdamRestReferenceIdeal.τ).loc Cert.AdamRestReferenceIdeal.main_arg76)) (m' ((c.tc : Thread Cert.AdamRestReferenceIdeal.nD Cert.AdamRestReferenceIdeal.τ).loc Cert.AdamRestReferenceIdeal.main_arg77)) (m' ((c.tc : Thread Cert.AdamRestReferenceIdeal.nD Cert.AdamRestReferenceIdeal.τ).loc Cert.AdamRestReferenceIdeal.main_arg78)) (m' ((c.tc : Thread Cert.AdamRestReferenceIdeal.nD Cert.AdamRestReferenceIdeal.τ).loc Cert.AdamRestReferenceIdeal.main_arg79)) (m' ((c.tc : Thread Cert.AdamRestReferenceIdeal.nD Cert.AdamRestReferenceIdeal.τ).loc Cert.AdamRestReferenceIdeal.main_arg80)) (m' ((c.tc : Thread Cert.AdamRestReferenceIdeal.nD Cert.AdamRestReferenceIdeal.τ).loc Cert.AdamRestReferenceIdeal.main_arg81)) (m' ((c.tc : Thread Cert.AdamRestReferenceIdeal.nD Cert.AdamRestReferenceIdeal.τ).loc Cert.AdamRestReferenceIdeal.main_arg82)) (m' ((c.tc : Thread Cert.AdamRestReferenceIdeal.nD Cert.AdamRestReferenceIdeal.τ).loc Cert.AdamRestReferenceIdeal.main_arg83)) = G m c := packed_congr a63 a64 a65 a66 a67 a68 a69 a70 a71 a72 a73 a74 a75 a76 a77 a78 a79 a80 a81 a82 a83
    clear a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83
    refine ⟨h.1.trans ?_, h.2.1.trans ?_, h.2.2.1.trans ?_, h.2.2.2.1.trans ?_, h.2.2.2.2⟩
    · refine (val_main_v597_eq (StableHlo.launchContents m' c)).trans ((grad_eq _ _ _ _ _ _ _ _ _ _ _ _ _ _ _ _ _ _ _ _ _).trans ?_)
      exact eg
    · refine (val_main_v599_eq (StableHlo.launchContents m' c)).trans ((step_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_)
      exact congr (congr (congr (congrArg (fun xw xm xv xg (j : (⟨2, ![2176, 512]⟩ : Shape).Idx) => Adam.step (xw j) (xm j) (xv j) (xg j)) ew) em) ev) eg
    · refine (val_main_v601_eq (StableHlo.launchContents m' c)).trans ((first_eq _ _ _ _ _ _ _ _ _ _ _ _ _ _ _ _ _ _ _ _ _ _ _ _ _ _ _ _ _ _ _ _ _ _ _ _ _ _ _ _ _ _).trans ?_)
      exact congr (congrArg (fun xm xg (j : (⟨2, ![2176, 512]⟩ : Shape).Idx) => Adam.first (xm j) (xg j)) em) eg
    · refine (val_main_v603_eq (StableHlo.launchContents m' c)).trans ((second_eq _ _ _ _ _ _ _ _ _ _ _ _ _ _ _ _ _ _ _ _ _ _ _ _ _ _ _ _ _ _ _ _ _ _ _ _ _ _ _ _ _ _).trans ?_)
      exact congr (congrArg (fun xv xg (j : (⟨2, ![2176, 512]⟩ : Shape).Idx) => Adam.second (xv j) (xg j)) ev) eg

/-- The reference runs to its end, keeps its arguments and uses no semaphore. -/
theorem adamRest_reference_frame : Cert.quiescent_AdamRestReferenceIdeal := fun m ρ _ =>
  (θ_run Cert.AdamRestReferenceIdeal.defs _ _).mono (fun r h => ⟨fun c => (h c).2.2.2.2, sem_eq_zero_of_no_sems (by decide) r.2⟩)
    (Cert.AdamRestReferenceIdeal.Value.run (F := Ideal) m ρ)

end Cert.Proof

end
-- ==== Proof.StateWeight.lean ====
/- The gradients of the state space layer's output matrix, real and imaginary parts.

   The kernel lays the real and imaginary parts of the states side by side, in chunks of 512 columns, and takes one product
   of their transpose with the gradient of the layer's output, accumulated in four quarters of the rows. The host keeps of
   the product the columns that belong to the rows' own group. -/
module

public import proofs.«01_k».proof.Defs
public import proofs.«01_k».proof.Proof.Gen.StateWeightIdeal.Frame
public import Idealize.ShloMosaic.Lib.Pipeline.Value
public import Idealize.ShloMosaic.Lib.StableHlo.RunRead
public import proofs.«01_k».proof.Proof.Gen.StateWeightReferenceIdeal.Run
public import proofs.«01_k».proof.Proof.Gen.StateWeightReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.StateWeightIdeal.Hand

open Cert.StateWeightIdeal Cert.StateWeightIdeal.Gen Idealize.ShloMosaic Idealize.ShloMosaic.TcCoe Idealize.SL.Sem

/-- The column of the layer's output at channel `h` of group `g`. -/
def lane (g : Fin 64) (h : Fin 16) : Fin 1024 := ⟨g.val * 16 + h.val, by omega⟩

/-- The column of the states laid side by side at state `n` of group `g`: the real part at `p = 0`, the imaginary at `p = 1`. -/
def spot (p : Fin 2) (g n : Fin 64) : Fin 8192 := ⟨g.val / 8 * 1024 + p.val * 512 + (g.val % 8 * 64 + n.val), by omega⟩

/-- The gradient with respect to the real part, as a function of the real parts of the states. -/
def valRe (a : S4096x64x64.Idx → EReal) (b : S4096x1024.Idx → EReal) : S64x16x64.Idx → EReal :=
  fun i => ∑ s : Fin 4096, a (ix3 s (i 0) (i 2)) * b (ix2 s (lane (i 0) (i 1)))

/-- The gradient with respect to the imaginary part, as a function of the imaginary parts of the states. -/
def valIm (a : S4096x64x64.Idx → EReal) (b : S4096x1024.Idx → EReal) : S64x16x64.Idx → EReal :=
  fun i => -valRe a b i

/-- The product of the transposed states with the gradient. -/
def prod (a : S4096x8192.Idx → EReal) (b : S4096x1024.Idx → EReal) : S8192x1024.Idx → EReal :=
  fun i => ∑ s : Fin 4096, a (ix2 s (i 0)) * b (ix2 s (i 1))

variable (m : (ℓ : Loc nD τ sig) → Buf (Elt Ideal) ℓ)

abbrev arg0 (c : Dev nD) : S4096x64x64.Idx → EReal := m ((c : Thread nD τ).loc main_arg0)
abbrev arg1 (c : Dev nD) : S4096x64x64.Idx → EReal := m ((c : Thread nD τ).loc main_arg1)
abbrev arg2 (c : Dev nD) : S4096x1024.Idx → EReal := m ((c : Thread nD τ).loc main_arg2)

/-- The states laid side by side. -/
abbrev both (c : Dev nD) : S4096x8192.Idx → EReal := V m c main_v5

/-- Every window's block index at a grid point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The row of the whole array at row `r` of point `t`'s block. -/
def row (t : ℕ) (r : Fin 1024) : Fin 8192 := ⟨(t / 4) % 8 * 1024 + r.val, by omega⟩

/-- The contracted index of the whole array at index `k` of point `t`'s block. -/
def con (t : ℕ) (k : Fin 1024) : Fin 4096 := ⟨(t % 4) % 4 * 1024 + k.val, by omega⟩

/-- The real part's columns of the states laid side by side. -/
theorem both_re (c : Dev nD) (s : Fin 4096) (g n : Fin 64) : both m c (ix2 s (spot 0 g n)) = arg0 m c (ix3 s g n) := by
  show StableHlo.after hostOps0 (fun b => m (c, b)) (Proc.devRef .tc main_v5) _ = _
  after_reads_simp
  pointwise [spot]
  rw [dif_pos (by omega)]
  after_reads_simp
  pointwise

/-- The imaginary part's columns of the states laid side by side. -/
theorem both_im (c : Dev nD) (s : Fin 4096) (g n : Fin 64) : both m c (ix2 s (spot 1 g n)) = arg1 m c (ix3 s g n) := by
  show StableHlo.after hostOps0 (fun b => m (c, b)) (Proc.devRef .tc main_v5) _ = _
  after_reads_simp
  pointwise [spot]
  rw [dif_neg (by omega)]
  after_reads_simp
  pointwise

/-- Window 0's block. -/
theorem in0 (c : Dev nD) (t : Fin cfg0.N) (r : Fin 1024) (k : Fin 1024) :
    iblk m c 0 t (ix2 k r) = both m c (ix2 (con t.val k) (row t.val r)) := by
  have ht : t.val < 32 := t.isLt
  blk_ext! [iblk, row, con, idx t]

/-- Window 1's block. -/
theorem in1 (c : Dev nD) (t : Fin cfg0.N) (r : Fin 1024) (k : Fin 1024) :
    iblk m c 1 t (ix2 k r) = arg2 m c (ix2 (con t.val k) r) := by
  have ht : t.val < 32 := t.isLt
  blk_ext! [iblk, V, con, idx t]

/-- One point's contribution to its block. -/
def part (c : Dev nD) (t : ℕ) (y : S1024x1024.Idx) : EReal :=
  ∑ k : Fin 1024, both m c (ix2 (con t k) (row t (y 0))) * arg2 m c (ix2 (con t k) (y 1))

/-- What the first point of a run leaves in the accumulator. -/
theorem acc_A (c : Dev nD) (t : Fin cfg0.N) (h0 : t.val % 4 = 0) (y : S1024x1024.Idx) :
    (outsAt0 m c t.val t.isLt).2 y = 0 + part m c t.val y := by
  rw [outsAt0_A m c t h0 (by omega)]
  frame_out
  unfold_payloads
  pointwise [part, in0, in1]

/-- What a later point of a run leaves in the accumulator. -/
theorem acc_B (c : Dev nD) (t : Fin cfg0.N) (h0 : ¬ t.val % 4 = 0) (y : S1024x1024.Idx) :
    (outsAt0 m c t.val t.isLt).2 y = (outsAt0 m c (t.val - 1) (by omega)).2 y + part m c t.val y := by
  by_cases h1 : t.val % 4 = 3
  · rw [outsAt0_C m c t h0 h1]
    frame_out
    unfold_payloads
    pointwise [part, in0, in1]
    rw [read_unread_whole]
  · rw [outsAt0_B m c t h0 h1]
    frame_out
    unfold_payloads
    pointwise [part, in0, in1]
    rw [read_unread_whole]

/-- The last point of a run writes its block from the accumulator. -/
theorem out_C (c : Dev nD) (t : Fin cfg0.N) (h1 : t.val % 4 = 3) (y : S1024x1024.Idx) :
    (outsAt0 m c t.val t.isLt).1 y = (outsAt0 m c t.val t.isLt).2 y := by
  rw [outsAt0_C m c t (by omega) h1]
  frame_out

/-- The block at the point that writes it back. -/
theorem run (c : Dev nD) (t : Fin cfg0.N) (h1 : t.val % 4 = 3) (y : S1024x1024.Idx) :
    (outsAt0 m c t.val t.isLt).1 y = prod (both m c) (arg2 m c) (ix2 (row t.val (y 0)) (y 1)) := by
  have ht : t.val < 32 := t.isLt
  have e := Pipeline.eq_sum_of_reset_step_apply_of_mod (M := EReal) (fun n h => (outsAt0 m c n h).2) 4 (fun _ => 0)
    (part m c) (acc_A m c) (acc_B m c) t h1 y
  rw [out_C m c t h1, e, zero_add, Finset.sum_range]
  refine Fin.sum_mul_add_congr (S := 4) (n := 1024) fun s k hl => ?_
  have hs : s.val < 4 := s.isLt
  have e_row : row (4 * (t.val / 4) + s.val) = row t.val := funext fun r => Fin.ext (by simp only [row] <;> omega)
  have e_con : con (4 * (t.val / 4) + s.val) k = ⟨s.val * 1024 + k.val, hl⟩ := Fin.ext (by simp only [con] <;> omega)
  simp only [e_row, e_con]
  rfl

/-- The product's array. -/
theorem final (c : Dev nD) : (dats m 0 c).arrAt 2 (cfgs 0).N = prod (both m c) (arg2 m c) := by
  refine (dats m 0 c).arrAt_eq_of_covers 2 _ (by decide +kernel) fun t hf y => ?_
  have ht : t.val < 32 := t.isLt
  blk_simp
  rw [after0_2, run m c t ((flush0_2 t).mp hf)]
  blk_ext [row, con, idx t]

/-- The mask of the rows' own group. -/
theorem mask (x g : Fin 64) : FloatOps.uitofp (F := Ideal) FTy.f32
    (IntOp.cmpi CmpIPredicate.eq (IntOp.addi (BitVec.ofNat 32 x.val) 0#32) (BitVec.ofNat 32 g.val)) = if x = g then 1 else 0 := by
  have e : ∀ x g : Fin 64, IntOp.cmpi CmpIPredicate.eq (IntOp.addi (BitVec.ofNat 32 x.val) 0#32) (BitVec.ofNat 32 g.val)
      = if x = g then 1#1 else 0#1 := by decide +kernel
  rw [e]
  split
  · show (((1#1).toNat : ℝ) : EReal) = 1
    norm_num
  · show (((0#1).toNat : ℝ) : EReal) = 0
    norm_num

/-- The product's array as the lines after the call find it. -/
abbrev found (W : Valuation τ sig (Elt Ideal)) : S8192x1024.Idx → EReal := W (Proc.devRef .tc main_v6)

/-- A masked sum is its own group's term. -/
theorem own (f : Fin 64 → EReal) (g : Fin 64) : ∑ x : Fin 64, f x * (if x = g then 1 else 0) = f g := by
  rw [Finset.sum_eq_single g (fun x _ hx => by rw [if_neg hx, mul_zero]) (fun hg => absurd (Finset.mem_univ _) hg), if_pos rfl, mul_one]

/-- What the host keeps of the product for the real part. -/
theorem tail_re (W : Valuation τ sig (Elt Ideal)) (g : Fin 64) (h : Fin 16) (n : Fin 64) :
    (StableHlo.after hostOps1 W (Proc.devRef .tc main_v25) : S64x16x64.Idx → EReal) (ix3 g h n)
      = found W (ix2 (spot 0 g n) (lane g h)) := by
  after_reads_simp
  pointwise [mask]
  refine (own (fun x => found W (ix2 (spot 0 x n) (lane g h))) g).symm.trans ?_ |>.symm
  pointwise [spot, lane]

/-- The imaginary half of the product's rows. -/
def half (x : S8192x1024.Idx → EReal) : S4096x1024.Idx → EReal :=
  (shapeCast S4096x1024 (shapeCast S8x512x1024 (extractStridedSlice S8x1x512x1024 ![0, 1, 0, 0]
    (shapeCast S8x2x512x1024 (x : Vec Ideal S8192x1024 .f32) shapeCasts_S8192x1024_S8x2x512x1024)
    slices_S8x2x512x1024_S8x1x512x1024_0_1_0_0) shapeCasts_S8x1x512x1024_S8x512x1024) shapeCasts_S8x512x1024_S4096x1024 :
    Vec Ideal S4096x1024 .f32)

theorem half_apply (x : S8192x1024.Idx → EReal) (r : Fin 4096) (l : Fin 1024) :
    half x (ix2 r l) = x (ix2 ⟨r.val / 512 * 1024 + 512 + r.val % 512, by omega⟩ l) := by
  unfold half
  pointwise

/-- Half a product, masked by the rows' own group. -/
def masked (x : FVec Ideal S4096x1024 .f32) : FVec Ideal S64x64x64x16 .f32 :=
  mulf (shapeCast S64x64x64x16 x shapeCasts_S4096x1024_S64x64x64x16)
    (broadcastInDim S64x64x64x16 ![0, 1, 2, 3] bcast_S64x1x64x1_S64x64x64x16_0_1_2_3
      (broadcastInDim S64x1x64x1 ![0, 2] bcast_S64x64_S64x1x64x1_0_2 (uitofp FTy.f32 (cmpi CmpIPredicate.eq
        (addi (iotaInDim S64x64 32 0) (broadcastInDim S64x64 ![] bcast_S_S64x64 (constantI S_ 32 0#32))) (iotaInDim S64x64 32 1)))))

/-- Its sum over the rows' groups. -/
def summed (x : FVec Ideal S4096x1024 .f32) : FVec Ideal S64x64x16 .f32 :=
  Host.reduceAdd (masked x) (constant S_ .f32 0x00000000#32) reducesTo_S64x64x64x16_S64x64x16_d0 h_S_

/-- The columns of the rows' own group of half a product. -/
def kept (x : S4096x1024.Idx → EReal) : S64x16x64.Idx → EReal :=
  transpose S64x16x64 [1, 2, 0] (summed x) transposes_S64x64x16_S64x16x64_1_2_0

theorem kept_apply (x : S4096x1024.Idx → EReal) (g : Fin 64) (h : Fin 16) (n : Fin 64) :
    kept x (ix3 g h n) = x (ix2 ⟨g.val * 64 + n.val, by omega⟩ (lane g h)) := by
  unfold kept summed masked
  pointwise [mask]
  exact own (fun j => x (ix2 ⟨j.val * 64 + n.val, by omega⟩ (lane g h))) g

/-- What the host keeps of the product for the imaginary part, before the sign. -/
theorem tail_pos (W : Valuation τ sig (Elt Ideal)) (g : Fin 64) (h : Fin 16) (n : Fin 64) :
    (StableHlo.after hostOps1 W (Proc.devRef .tc main_v31) : S64x16x64.Idx → EReal) (ix3 g h n)
      = found W (ix2 (spot 1 g n) (lane g h)) := by
  have e : StableHlo.after hostOps1 W (Proc.devRef .tc main_v31) = kept (half (found W)) := by
    after_reads_simp
    rfl
  rw [e, kept_apply, half_apply]
  exact congrArg (fun r => found W (ix2 r (lane g h))) (Fin.ext (by simp only [spot]; omega))

/-- What the host keeps of the product for the imaginary part. -/
theorem tail_im (W : Valuation τ sig (Elt Ideal)) (g : Fin 64) (h : Fin 16) (n : Fin 64) :
    (StableHlo.after hostOps1 W (Proc.devRef .tc main_v32) : S64x16x64.Idx → EReal) (ix3 g h n)
      = -found W (ix2 (spot 1 g n) (lane g h)) := by
  refine Eq.trans ?_ (congrArg (fun z : EReal => -z) (tail_pos W g h n))
  after_reads_simp
  rfl

/-- What the lines after the call find in the product's array. -/
theorem arrays (c : Dev nD) : found (Pipeline.withArrays (cfgs 0).spec c (V0 m c) fun w => (dats m 0 c).arrAt w (cfgs 0).N)
    = prod (both m c) (arg2 m c) :=
  (Pipeline.withArrays_arr spec0 (by decide) c _ _ 2).trans (final m c)

/-- The real part's entry of the product. -/
theorem prod_re (c : Dev nD) (g : Fin 64) (h : Fin 16) (n : Fin 64) :
    prod (both m c) (arg2 m c) (ix2 (spot 0 g n) (lane g h)) = valRe (arg0 m c) (arg2 m c) (ix3 g h n) :=
  Finset.sum_congr rfl fun s _ => congrArg (· * arg2 m c (ix2 s (lane g h))) (both_re m c s g n)

/-- The imaginary part's entry of the product. -/
theorem prod_im (c : Dev nD) (g : Fin 64) (h : Fin 16) (n : Fin 64) :
    prod (both m c) (arg2 m c) (ix2 (spot 1 g n) (lane g h)) = valRe (arg1 m c) (arg2 m c) (ix3 g h n) :=
  Finset.sum_congr rfl fun s _ => congrArg (· * arg2 m c (ix2 s (lane g h))) (both_im m c s g n)

/-- The first result after the whole program. -/
theorem res_re (c : Dev nD) : (Pipeline.afterTail₀ cfgs (dats m) 0 (V0 m) [hostOps1] c main_v25 : S64x16x64.Idx → EReal)
    = valRe (arg0 m c) (arg2 m c) := by
  funext i
  idx_vars i
  refine (tail_re _ _ _ _).trans ?_
  rw [arrays, prod_re]

/-- The second result after the whole program. -/
theorem res_im (c : Dev nD) : (Pipeline.afterTail₀ cfgs (dats m) 0 (V0 m) [hostOps1] c main_v32 : S64x16x64.Idx → EReal)
    = valIm (arg1 m c) (arg2 m c) := by
  funext i
  idx_vars i
  refine (tail_im _ _ _ _).trans ?_
  rw [arrays, prod_im]
  rfl

end Cert.StateWeightIdeal.Hand

namespace Cert.StateWeightReferenceIdeal.Hand

open Cert.StateWeightReferenceIdeal Cert.StateWeightReferenceIdeal.Read Idealize.ShloMosaic

/-- The reference's first result. -/
theorem re_eq (a : S4096x64x64.Idx → EReal) (b : S4096x1024.Idx → EReal) : val_main_v13 (F := Ideal) a b = Cert.StateWeightIdeal.Hand.valRe a b := by
  funext i
  idx_vars i
  rw [← val_main_v13_eq]
  pointwise [Cert.StateWeightIdeal.Hand.valRe, Cert.StateWeightIdeal.Hand.lane]
  exact Finset.sum_congr rfl fun _ _ => mul_comm _ _

/-- The reference's second result. -/
theorem im_eq (a : S4096x64x64.Idx → EReal) (b : S4096x1024.Idx → EReal) : val_main_v11 (F := Ideal) a b = Cert.StateWeightIdeal.Hand.valIm a b := by
  funext i
  idx_vars i
  rw [← val_main_v11_eq]
  pointwise [Cert.StateWeightIdeal.Hand.valIm, Cert.StateWeightIdeal.Hand.valRe, Cert.StateWeightIdeal.Hand.lane]
  exact congrArg _ (Finset.sum_congr rfl fun _ _ => mul_comm _ _)

end Cert.StateWeightReferenceIdeal.Hand

namespace Cert.Proof

open Idealize.ShloMosaic Idealize.SL.Sem Cert.StateWeightIdeal.Hand

/-- The gradients of the output matrix: the program and its reference agree on the extended reals. -/
theorem stateWeight_algebraic : Cert.algebraic_StateWeightIdeal_StateWeightReferenceIdeal := by
  intro m g m' g' _ hagree
  refine ⟨fun c => valRe (arg0 m c) (arg2 m c), fun c => valIm (arg1 m c) (arg2 m c), ?_, ?_⟩
  · refine (θ_run _ _ _).mono (fun r h c => ?_) (θ_run_and (Cert.StateWeightIdeal.Gen.unchanged m g) (Cert.StateWeightIdeal.Gen.run_main m g))
    exact ⟨((h.2 c).2 Cert.StateWeightIdeal.main_v25 (Pipeline.mem_restRefs_of _ (by decide) (by decide))).trans (res_re m c),
      ((h.2 c).2 Cert.StateWeightIdeal.main_v32 (Pipeline.mem_restRefs_of _ (by decide) (by decide))).trans (res_im m c), h.1 c⟩
  · refine (θ_run _ _ _).mono (fun r h c => ?_) (Cert.StateWeightReferenceIdeal.Value.run m' g')
    obtain ⟨h0, h1, hk⟩ := h c
    obtain ⟨a0, a1, a2⟩ := hagree c
    refine ⟨h0.trans ?_, h1.trans ?_, hk⟩
    · rw [Cert.StateWeightReferenceIdeal.Read.val_main_v13_eq, Cert.StateWeightReferenceIdeal.Hand.re_eq, a0, a2]
    · rw [Cert.StateWeightReferenceIdeal.Read.val_main_v11_eq, Cert.StateWeightReferenceIdeal.Hand.im_eq, a1, a2]

/-- The reference runs to its end, keeps its arguments and uses no semaphore. -/
theorem stateWeight_reference_frame : Cert.quiescent_StateWeightReferenceIdeal := fun m ρ _ =>
  (θ_run Cert.StateWeightReferenceIdeal.defs _ _).mono (fun r h => ⟨fun c => (h c).2.2, sem_eq_zero_of_no_sems (by decide) r.2⟩)
    (Cert.StateWeightReferenceIdeal.Value.run (F := Ideal) m ρ)

end Cert.Proof

end
-- ==== Proof.RecurrenceInput.lean ====
/- The gradients of the RG-LRU branch's input gate.

   The call recomputes the causal convolution of four taps and both gates, with one block of 128 columns of the gates'
   weights to a grid point; the root of one less the square of the decay is written with the hyperbolic tangent. -/
module

public import proofs.«01_k».proof.Defs
public import proofs.«01_k».proof.Proof.Gen.RecurrenceInputIdeal.Value
public import proofs.«01_k».proof.Proof.Gen.RecurrenceInputReferenceIdeal.Run
public import proofs.«01_k».proof.Proof.Gen.RecurrenceInputReferenceIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import proofs.«01_k».proof.Proof.Conv
public import proofs.«01_k».proof.Proof.Softplus

@[expose] public section

set_option maxRecDepth 16384

noncomputable section

namespace Cert.RecurrenceInputIdeal.Hand

open Cert.RecurrenceInputIdeal Cert.RecurrenceInputIdeal.Gen Idealize.ShloMosaic Idealize.ShloMosaic.TcCoe Idealize.SL.Sem

/-- The logistic function is nowhere negative. -/
theorem logistic_nonneg (x : EReal) : 0 ≤ Ideal.logistic x := by
  induction x using EReal.rec with
  | bot => rw [Softplus.logistic_bot]
  | top => rw [Softplus.logistic_top]; exact zero_le_one
  | coe r => rw [Softplus.logistic_coe]; exact EReal.coe_nonneg.mpr (by positivity)

/-- Softplus is nowhere negative. -/
theorem softplus_nonneg (x : EReal) : 0 ≤ Softplus.softplus x := by
  induction x using EReal.rec with
  | bot => rw [Softplus.softplus_bot]
  | top => rw [Softplus.softplus_top]; exact le_top
  | coe r =>
    rw [Softplus.softplus_coe]
    exact EReal.coe_nonneg.mpr (Real.log_nonneg (by linarith [Real.exp_pos r]))

/-- The logarithm of the decay. -/
def logDecay (r x : EReal) : EReal := Ideal.ofBits .f32 0xC1000000#32 * r * Softplus.softplus x

/-- The word of minus eight. -/
theorem eight : Ideal.ofBits .f32 0xC1000000#32 = ((-8 : ℝ) : EReal) := by
  simp [Ideal.ofBits, Ideal.ieee]
  rw [← EReal.coe_mul]
  norm_num

/-- The word of two. -/
theorem two : Ideal.ofBits .f32 0x40000000#32 = ((2 : ℝ) : EReal) := by
  simp [Ideal.ofBits, Ideal.ieee]
  rw [← EReal.coe_mul]
  norm_num

/-- The word of minus two. -/
theorem minus_two : Ideal.ofBits .f32 0xC0000000#32 = ((-2 : ℝ) : EReal) := by
  simp [Ideal.ofBits, Ideal.ieee]
  rw [← EReal.coe_mul]
  norm_num

/-- The logarithm of the decay is nowhere positive. -/
theorem logDecay_nonpos (z x : EReal) : logDecay (Ideal.logistic z) x ≤ 0 := by
  rw [logDecay, eight]
  have h : ((-8 : ℝ) : EReal) ≤ 0 := EReal.coe_nonpos.mpr (by norm_num)
  have a : ((-8 : ℝ) : EReal) * Ideal.logistic z ≤ 0 := mul_nonpos_of_nonpos_of_nonneg h (logistic_nonneg z)
  exact mul_nonpos_of_nonpos_of_nonneg a (softplus_nonneg x)

/-- One less the square of the decay, by the hyperbolic tangent. -/
theorem rest (l : EReal) (h : l ≤ 0) :
    Ideal.div (Ideal.ofBits .f32 0xC0000000#32 * Ideal.tanh l) (1 - Ideal.tanh l) = -Ideal.expm1 (Ideal.ofBits .f32 0x40000000#32 * l) := by
  rw [minus_two, two]
  induction l using EReal.rec with
  | bot =>
    have e : ((2 : ℝ) : EReal) * ⊥ = ⊥ := EReal.coe_mul_bot_of_pos (by norm_num)
    have d : (1 : EReal) - ((-1 : ℝ) : EReal) = ((2 : ℝ) : EReal) := by
      rw [← EReal.coe_one, ← EReal.coe_sub]; norm_num
    have t : Ideal.tanh ⊥ = ((-1 : ℝ) : EReal) := by
      show (-1 : EReal) = _
      rw [EReal.coe_neg, EReal.coe_one]
    rw [e, t, d, Ideal.expm1, Softplus.exp_bot, ← EReal.coe_mul, Ideal.div_coe (by norm_num), ← EReal.coe_mul, zero_sub, neg_neg, ← EReal.coe_one]
    norm_num
  | top => exact absurd h (by simp)
  | coe r =>
    have t : Ideal.tanh (r : EReal) = ((Real.tanh r : ℝ) : EReal) := rfl
    have hc : 0 < Real.cosh r := Real.cosh_pos r
    have e : 1 - Real.tanh r = Real.exp (-r) / Real.cosh r := by
      rw [Real.tanh_eq_sinh_div_cosh, ← Real.cosh_sub_sinh]
      field_simp
    have hne : 1 - Real.tanh r ≠ 0 := by rw [e]; positivity
    rw [t, Ideal.expm1, ← EReal.coe_mul, ← EReal.coe_mul, Softplus.exp_coe, ← EReal.coe_one, ← EReal.coe_sub, ← EReal.coe_sub, ← EReal.coe_neg,
      Ideal.div_coe hne, ← EReal.coe_mul]
    congr 1
    rw [e, Real.tanh_eq_sinh_div_cosh, Real.sinh_eq, two_mul, Real.exp_add]
    have hx : Real.exp r * Real.exp (-r) = 1 := by rw [← Real.exp_add, add_neg_cancel, Real.exp_zero]
    have hn := Real.exp_pos (-r)
    have hp := Real.exp_pos r
    field_simp
    linear_combination Real.exp r * hx

/-- A column of the input. -/
def xs (x : S4096x1024.Idx → EReal) (q : Fin 1024) : Fin 4096 → EReal := fun r => x (ix2 r q)

/-- A column of the convolution with its bias. -/
def xc (x : S4096x1024.Idx → EReal) (w : S4x1024.Idx → EReal) (b : S1024.Idx → EReal) (q : Fin 1024) (r : Fin 4096) : EReal :=
  Conv.conv (xs x q) (fun i => w (ix2 i q)) r + b (ix1 q)

/-- Column `j` of block `n`. -/
def col (n : Fin 8) (j : Fin 128) : Fin 1024 := ⟨128 * n.val + j.val, by omega⟩

/-- A column's number, with the product the other way round. -/
theorem col_eq (n : Fin 8) (j : Fin 128) (h) : (⟨n.val * 128 + j.val, h⟩ : Fin 1024) = col n j :=
  Fin.ext (by simp only [col]; omega)

/-- The block of a column. -/
theorem head_col (n : Fin 8) (j : Fin 128) (h) : (⟨(col n j).val / 128, h⟩ : Fin 8) = n :=
  Fin.ext (by simp only [col]; omega)

/-- The place of a column in its block. -/
theorem lane_col (n : Fin 8) (j : Fin 128) (h) : (⟨(col n j).val % 128, h⟩ : Fin 128) = j :=
  Fin.ext (by simp only [col]; omega)

/-- A gate: the logistic function of a block's product with its weights and a bias. -/
def gate (x : S4096x1024.Idx → EReal) (w : S4x1024.Idx → EReal) (b : S1024.Idx → EReal) (u : S8x128x128.Idx → EReal) (v : S1024.Idx → EReal)
    (n : Fin 8) (j : Fin 128) (r : Fin 4096) : EReal :=
  Ideal.logistic (∑ k : Fin 128, xc x w b (col n k) r * u (ix3 n k j) + v (ix1 (col n j)))

/-- The root of one less the square of the decay. -/
def root (r l : EReal) : EReal := Ideal.sqrt (-Ideal.expm1 (Ideal.ofBits .f32 0x40000000#32 * logDecay r (-l)))

/-- The gradient of the input gate's argument. -/
def gi (x : S4096x1024.Idx → EReal) (w : S4x1024.Idx → EReal) (b : S1024.Idx → EReal) (wr : S8x128x128.Idx → EReal) (br : S1024.Idx → EReal)
    (wi : S8x128x128.Idx → EReal) (bi l : S1024.Idx → EReal) (d : S4096x1024.Idx → EReal) (n : Fin 8) (j : Fin 128) (r : Fin 4096) : EReal :=
  root (gate x w b wr br n j r) (l (ix1 (col n j))) * d (ix2 r (col n j)) * xc x w b (col n j) r
    * (gate x w b wi bi n j r * (1 - gate x w b wi bi n j r))

/-- The gradient of the input gate's weights. -/
def dwi (x : S4096x1024.Idx → EReal) (w : S4x1024.Idx → EReal) (b : S1024.Idx → EReal) (wr : S8x128x128.Idx → EReal) (br : S1024.Idx → EReal)
    (wi : S8x128x128.Idx → EReal) (bi l : S1024.Idx → EReal) (d : S4096x1024.Idx → EReal) : S8x128x128.Idx → EReal :=
  fun i => ∑ r : Fin 4096, xc x w b (col (i 0) (i 1)) r * gi x w b wr br wi bi l d (i 0) (i 2) r

/-- The gradient of the input gate's bias. -/
def dbi (x : S4096x1024.Idx → EReal) (w : S4x1024.Idx → EReal) (b : S1024.Idx → EReal) (wr : S8x128x128.Idx → EReal) (br : S1024.Idx → EReal)
    (wi : S8x128x128.Idx → EReal) (bi l : S1024.Idx → EReal) (d : S4096x1024.Idx → EReal) : S1x1024.Idx → EReal :=
  fun i => ∑ r : Fin 4096, gi x w b wr br wi bi l d ⟨(i 1).val / 128, by have := (i 1).isLt; simp at this; omega⟩ ⟨(i 1).val % 128, by omega⟩ r

variable (m : (ℓ : Loc nD τ sig) → Buf (Elt Ideal) ℓ)

abbrev arg0 (c : Dev nD) : S4096x1024.Idx → EReal := m ((c : Thread nD τ).loc main_arg0)
abbrev arg1 (c : Dev nD) : S4x1024.Idx → EReal := m ((c : Thread nD τ).loc main_arg1)
abbrev arg2 (c : Dev nD) : S1024.Idx → EReal := m ((c : Thread nD τ).loc main_arg2)
abbrev arg3 (c : Dev nD) : S8x128x128.Idx → EReal := m ((c : Thread nD τ).loc main_arg3)
abbrev arg4 (c : Dev nD) : S1024.Idx → EReal := m ((c : Thread nD τ).loc main_arg4)
abbrev arg5 (c : Dev nD) : S8x128x128.Idx → EReal := m ((c : Thread nD τ).loc main_arg5)
abbrev arg6 (c : Dev nD) : S1024.Idx → EReal := m ((c : Thread nD τ).loc main_arg6)
abbrev arg7 (c : Dev nD) : S1024.Idx → EReal := m ((c : Thread nD τ).loc main_arg7)
abbrev arg9 (c : Dev nD) : S4096x1024.Idx → EReal := m ((c : Thread nD τ).loc main_arg9)

/-- Every window's block index at a grid point. -/
theorem idx : ∀ t : Fin cfg0.N, win0_0.index t = ![0, t.val]
    ∧ win0_1.index t = ![0, 0, t.val]
    ∧ win0_2.index t = ![0, t.val]
    ∧ win0_3.index t = ![t.val, 0, 0]
    ∧ win0_4.index t = ![0, t.val]
    ∧ win0_5.index t = ![t.val, 0, 0]
    ∧ win0_6.index t = ![0, t.val]
    ∧ win0_7.index t = ![0, t.val]
    ∧ win0_9.index t = ![0, t.val]
    ∧ win0_15.index t = ![t.val, 0, 0]
    ∧ win0_16.index t = ![0, t.val] :=
  (by decide +kernel : ∀ t : Fin grid0.N, _)

/-- The row numbers. -/
def rows : IVec S4096x128 32 := iota .tc S4096x128 32 [0] iota_S4096x128_d0_w32

/-- The input moved later by one row. -/
theorem p13 (x : Conv.Mat) (y : Fin 4096) (j : Fin 128) : k0_pay13 (F := Ideal) x (ix2 y j) = Conv.back 1 (fun r => x (ix2 r j)) y :=
  Conv.rotate_back 1 (by norm_num) x _ _ y j

/-- The input moved later by two rows. -/
theorem p16 (x : Conv.Mat) (y : Fin 4096) (j : Fin 128) :
    k0_pay16 (F := Ideal) x rows (ix2 y j) = Conv.back 2 (fun r => x (ix2 r j)) y :=
  Conv.rotate_back 2 (by norm_num) x _ _ y j

/-- The input moved later by three rows. -/
theorem p18 (x : Conv.Mat) (y : Fin 4096) (j : Fin 128) : k0_pay18 (F := Ideal) x (ix2 y j) = Conv.back 3 (fun r => x (ix2 r j)) y :=
  Conv.rotate_back 3 (by norm_num) x _ _ y j

/-- The convolution with its bias. -/
theorem p20 (x : Conv.Mat) (w : S4x1x128.Idx → EReal) (b : S1x128.Idx → EReal) (y : Fin 4096) (j : Fin 128) :
    k0_pay20 (F := Ideal) x (k0_pay5 (F := Ideal) w) (k0_pay6 (F := Ideal) b) (k0_pay15 (F := Ideal) x w)
      rows (ix2 y j)
      = Conv.conv (fun r => x (ix2 r j)) (fun i => w (ix3 i 0 j)) y + b (ix2 0 j) := by
  unfold k0_pay20 k0_pay15
  pointwise [p13, p16, p18, k0_pay12, k0_pay14, k0_pay17, k0_pay19, k0_pay5, k0_pay6, Conv.conv]

/-- The input gate. -/
theorem p23 (x : Conv.Mat) (w : S4x1x128.Idx → EReal) (b : S1x128.Idx → EReal) (u : S1x128x128.Idx → EReal) (v : S1x128.Idx → EReal)
    (y : Fin 4096) (j : Fin 128) :
    k0_pay23 (F := Ideal) x (k0_pay5 (F := Ideal) w) (k0_pay6 (F := Ideal) b) (k0_pay9 (F := Ideal) u) (k0_pay10 (F := Ideal) v) (k0_pay15 (F := Ideal) x w)
      rows (ix2 y j)
      = Ideal.logistic (∑ k : Fin 128, (Conv.conv (fun r => x (ix2 r k)) (fun i => w (ix3 i 0 k)) y + b (ix2 0 k)) * u (ix3 0 k j) + v (ix2 0 j)) := by
  unfold k0_pay23
  pointwise [p20, k0_pay9, k0_pay10]

/-- The recurrence gate. -/
theorem p21 (x : Conv.Mat) (w : S4x1x128.Idx → EReal) (b : S1x128.Idx → EReal) (u : S1x128x128.Idx → EReal) (v : S1x128.Idx → EReal)
    (y : Fin 4096) (j : Fin 128) :
    k0_pay21 (F := Ideal) x (k0_pay5 (F := Ideal) w) (k0_pay6 (F := Ideal) b) (k0_pay7 (F := Ideal) u) (k0_pay8 (F := Ideal) v) (k0_pay15 (F := Ideal) x w)
      rows (ix2 y j)
      = Ideal.logistic (∑ k : Fin 128, (Conv.conv (fun r => x (ix2 r k)) (fun i => w (ix3 i 0 k)) y + b (ix2 0 k)) * u (ix3 0 k j) + v (ix2 0 j)) := by
  unfold k0_pay21
  pointwise [p20, k0_pay7, k0_pay8]

/-- Softplus of the parameter's negative. -/
theorem p29 (l : S1x128.Idx → EReal) (j : Fin 128) :
    k0_pay29 (F := Ideal) (k0_pay26 (F := Ideal) (k0_pay11 (F := Ideal) l)) (k0_pay27 (F := Ideal) (k0_pay11 (F := Ideal) l)) (k0_pay28 (F := Ideal)) (ix2 0 j)
      = Softplus.softplus (-l (ix2 0 j)) := by
  unfold k0_pay29
  pointwise [k0_pay26, k0_pay27, k0_pay28, k0_pay11, zero_sub]
  simp only [Softplus.value_quot]

/-- The root, from the recurrence gate times minus eight. -/
theorem p36 (a : Conv.Mat) (l : S1x128.Idx → EReal) (z : EReal) (y : Fin 4096) (j : Fin 128)
    (h : a (ix2 y j) = Ideal.ofBits .f32 0xC1000000#32 * Ideal.logistic z) :
    k0_pay36 (F := Ideal) a (k0_pay26 (F := Ideal) (k0_pay11 (F := Ideal) l)) (k0_pay27 (F := Ideal) (k0_pay11 (F := Ideal) l)) (k0_pay28 (F := Ideal)) (ix2 y j)
      = root (Ideal.logistic z) (l (ix2 0 j)) := by
  unfold k0_pay36
  pointwise [k0_pay34, k0_pay35, k0_pay32, k0_pay30, p29, h]
  rw [root, ← rest _ (logDecay_nonpos z _), logDecay]

/-- Window 0's block. -/
theorem in0 (c : Dev nD) (t : Fin cfg0.N) (r : Fin 4096) (j : Fin 128) :
    iblk m c 0 t (ix2 r j) = arg0 m c (ix2 r (col t j)) := by
  have ht : t.val < 8 := t.isLt
  blk_ext! [iblk, V, col, idx t]

/-- What the host hands window 1. -/
theorem host1 (c : Dev nD) (i : Fin 4) (q : Fin 1024) : (V m c main_v0 : S4x1x1024.Idx → EReal) (ix3 i 0 q) = arg1 m c (ix2 i q) := by
  show StableHlo.after hostOps0 (fun b => m (c, b)) (Proc.devRef .tc main_v0) _ = _
  after_reads_simp
  pointwise

/-- Window 1's block. -/
theorem in1 (c : Dev nD) (t : Fin cfg0.N) (i : Fin 4) (j : Fin 128) :
    iblk m c 1 t (ix3 i 0 j) = arg1 m c (ix2 i (col t j)) := by
  have ht : t.val < 8 := t.isLt
  rw [← host1 m c i (col t j)]
  blk_ext! [iblk, col, idx t]

/-- What the host hands window 2. -/
theorem host2 (c : Dev nD) (q : Fin 1024) : (V m c main_v1 : S1x1024.Idx → EReal) (ix2 0 q) = arg2 m c (ix1 q) := by
  show StableHlo.after hostOps0 (fun b => m (c, b)) (Proc.devRef .tc main_v1) _ = _
  after_reads_simp
  pointwise

/-- Window 2's block. -/
theorem in2 (c : Dev nD) (t : Fin cfg0.N) (j : Fin 128) :
    iblk m c 2 t (ix2 0 j) = arg2 m c (ix1 (col t j)) := by
  have ht : t.val < 8 := t.isLt
  rw [← host2 m c (col t j)]
  blk_ext! [iblk, col, idx t]

/-- What the host hands window 4. -/
theorem host4 (c : Dev nD) (q : Fin 1024) : (V m c main_v2 : S1x1024.Idx → EReal) (ix2 0 q) = arg4 m c (ix1 q) := by
  show StableHlo.after hostOps0 (fun b => m (c, b)) (Proc.devRef .tc main_v2) _ = _
  after_reads_simp
  pointwise

/-- Window 4's block. -/
theorem in4 (c : Dev nD) (t : Fin cfg0.N) (j : Fin 128) :
    iblk m c 4 t (ix2 0 j) = arg4 m c (ix1 (col t j)) := by
  have ht : t.val < 8 := t.isLt
  rw [← host4 m c (col t j)]
  blk_ext! [iblk, col, idx t]

/-- What the host hands window 6. -/
theorem host6 (c : Dev nD) (q : Fin 1024) : (V m c main_v3 : S1x1024.Idx → EReal) (ix2 0 q) = arg6 m c (ix1 q) := by
  show StableHlo.after hostOps0 (fun b => m (c, b)) (Proc.devRef .tc main_v3) _ = _
  after_reads_simp
  pointwise

/-- Window 6's block. -/
theorem in6 (c : Dev nD) (t : Fin cfg0.N) (j : Fin 128) :
    iblk m c 6 t (ix2 0 j) = arg6 m c (ix1 (col t j)) := by
  have ht : t.val < 8 := t.isLt
  rw [← host6 m c (col t j)]
  blk_ext! [iblk, col, idx t]

/-- What the host hands window 7. -/
theorem host7 (c : Dev nD) (q : Fin 1024) : (V m c main_v4 : S1x1024.Idx → EReal) (ix2 0 q) = arg7 m c (ix1 q) := by
  show StableHlo.after hostOps0 (fun b => m (c, b)) (Proc.devRef .tc main_v4) _ = _
  after_reads_simp
  pointwise

/-- Window 7's block. -/
theorem in7 (c : Dev nD) (t : Fin cfg0.N) (j : Fin 128) :
    iblk m c 7 t (ix2 0 j) = arg7 m c (ix1 (col t j)) := by
  have ht : t.val < 8 := t.isLt
  rw [← host7 m c (col t j)]
  blk_ext! [iblk, col, idx t]

/-- Window 3's block. -/
theorem in3 (c : Dev nD) (t : Fin cfg0.N) (k j : Fin 128) :
    iblk m c 3 t (ix3 0 k j) = arg3 m c (ix3 (⟨t.val, t.isLt⟩ : Fin 8) k j) := by
  have ht : t.val < 8 := t.isLt
  blk_ext! [iblk, V, col, idx t]

/-- Window 5's block. -/
theorem in5 (c : Dev nD) (t : Fin cfg0.N) (k j : Fin 128) :
    iblk m c 5 t (ix3 0 k j) = arg5 m c (ix3 (⟨t.val, t.isLt⟩ : Fin 8) k j) := by
  have ht : t.val < 8 := t.isLt
  blk_ext! [iblk, V, col, idx t]

/-- Window 9's block. -/
theorem in9 (c : Dev nD) (t : Fin cfg0.N) (r : Fin 4096) (j : Fin 128) :
    iblk m c 9 t (ix2 r j) = arg9 m c (ix2 r (col t j)) := by
  have ht : t.val < 8 := t.isLt
  blk_ext! [iblk, V, col, idx t]

/-- The convolution at a point. -/
theorem q65 (c : Dev nD) (t : Fin cfg0.N) (r : Fin 4096) (j : Fin 128) :
    k0_pay65 (iblk m c 0 t) (iblk m c 1 t) (iblk m c 2 t) (iblk m c 3 t) (iblk m c 4 t) (iblk m c 5 t) (iblk m c 6 t) (iblk m c 7 t) (iblk m c 8 t) (iblk m c 9 t) (ix2 r j) = xc (arg0 m c) (arg1 m c) (arg2 m c) (col t j) r := by
  unfold k0_pay65 k0_pay64 k0_pay58 k0_pay57 k0_pay56
  frame_out
  refine (p20 _ _ _ r j).trans ?_
  pointwise [in0, in1, in2, xc]
  rfl

/-- The slope of the input gate at a point. -/
theorem q68 (c : Dev nD) (t : Fin cfg0.N) (r : Fin 4096) (j : Fin 128) :
    k0_pay68 (iblk m c 0 t) (iblk m c 1 t) (iblk m c 2 t) (iblk m c 3 t) (iblk m c 4 t) (iblk m c 5 t) (iblk m c 6 t) (iblk m c 7 t) (iblk m c 8 t) (iblk m c 9 t) (ix2 r j)
      = gate (arg0 m c) (arg1 m c) (arg2 m c) (arg5 m c) (arg6 m c) t j r * (1 - gate (arg0 m c) (arg1 m c) (arg2 m c) (arg5 m c) (arg6 m c) t j r) := by
  unfold k0_pay68 k0_pay64 k0_pay62 k0_pay61 k0_pay58 k0_pay57 k0_pay56 k0_pay24
  frame_out
  have h := p23 (iblk m c 0 t) (iblk m c 1 t) (iblk m c 2 t) (iblk m c 5 t) (iblk m c 6 t) r j
  simp only [in0, in1, in2, in5, in6] at h
  unfold rows at h
  pointwise [h]
  rfl

/-- The gradient of the gated input at a point, times the convolution. -/
theorem q78 (c : Dev nD) (t : Fin cfg0.N) (r : Fin 4096) (j : Fin 128) :
    k0_pay78 (iblk m c 0 t) (iblk m c 1 t) (iblk m c 2 t) (iblk m c 3 t) (iblk m c 4 t) (iblk m c 5 t) (iblk m c 6 t) (iblk m c 7 t) (iblk m c 8 t) (iblk m c 9 t) (ix2 r j)
      = root (gate (arg0 m c) (arg1 m c) (arg2 m c) (arg3 m c) (arg4 m c) t j r) (arg7 m c (ix1 (col t j))) * arg9 m c (ix2 r (col t j))
        * xc (arg0 m c) (arg1 m c) (arg2 m c) (col t j) r := by
  have h := p21 (iblk m c 0 t) (iblk m c 1 t) (iblk m c 2 t) (iblk m c 3 t) (iblk m c 4 t) r j
  simp only [in0, in1, in2, in3, in4] at h
  have a : k0_pay69 (iblk m c 0 t) (iblk m c 1 t) (iblk m c 2 t) (iblk m c 3 t) (iblk m c 4 t) (iblk m c 5 t) (iblk m c 6 t) (iblk m c 7 t) (iblk m c 8 t) (iblk m c 9 t) (ix2 r j)
      = Ideal.ofBits .f32 0xC1000000#32 * gate (arg0 m c) (arg1 m c) (arg2 m c) (arg3 m c) (arg4 m c) t j r := by
    unfold k0_pay69 k0_pay64 k0_pay60 k0_pay59 k0_pay58 k0_pay57 k0_pay56 k0_pay25
    frame_out
    unfold rows at h
    pointwise [h]
    rfl
  have e := p36 _ (iblk m c 7 t) _ r j a
  unfold k0_pay78 k0_pay72 k0_pay71 k0_pay70 k0_pay63 k0_pay39 k0_pay37
  frame_out
  pointwise [q65, e, in7, in9]
  rfl

/-- What a point leaves in window 15's block. -/
theorem point15 (c : Dev nD) (t : Fin cfg0.N) (y : S1x128x128.Idx) :
    out0_15 (iblk m c 0 t) (iblk m c 1 t) (iblk m c 2 t) (iblk m c 3 t) (iblk m c 4 t) (iblk m c 5 t) (iblk m c 6 t) (iblk m c 7 t) (iblk m c 8 t) (iblk m c 9 t) y = dwi (arg0 m c) (arg1 m c) (arg2 m c) (arg3 m c) (arg4 m c) (arg5 m c) (arg6 m c) (arg7 m c) (arg9 m c) (ix3 (⟨t.val, t.isLt⟩ : Fin 8) (y 1) (y 2)) := by
  idx_vars y
  obtain rfl : y0 = 0 := Subsingleton.elim _ _
  frame_out
  pointwise [k0_pay4, k0_pay46, k0_pay44, q65, q68, q78]
  rfl

/-- The result array of window 15. -/
theorem final15 (c : Dev nD) : (dats m 0 c).arrAt 15 (cfgs 0).N = dwi (arg0 m c) (arg1 m c) (arg2 m c) (arg3 m c) (arg4 m c) (arg5 m c) (arg6 m c) (arg7 m c) (arg9 m c) := by
  refine (dats m 0 c).arrAt_eq_of_covers 15 _ (by decide +kernel) fun t hf y => ?_
  have ht : t.val < 8 := t.isLt
  blk_simp
  rw [after0_15, point15]
  blk_ext [idx t]

/-- What a point leaves in window 16's block. -/
theorem point16 (c : Dev nD) (t : Fin cfg0.N) (y : S1x128.Idx) :
    out0_16 (iblk m c 0 t) (iblk m c 1 t) (iblk m c 2 t) (iblk m c 3 t) (iblk m c 4 t) (iblk m c 5 t) (iblk m c 6 t) (iblk m c 7 t) (iblk m c 8 t) (iblk m c 9 t) y = dbi (arg0 m c) (arg1 m c) (arg2 m c) (arg3 m c) (arg4 m c) (arg5 m c) (arg6 m c) (arg7 m c) (arg9 m c) (ix2 0 (col t (y 1))) := by
  idx_vars y
  obtain rfl : y0 = 0 := Subsingleton.elim _ _
  frame_out
  pointwise [k0_pay45, k0_pay44, q68, q78, dbi, gi, head_col, lane_col]

/-- The result array of window 16. -/
theorem final16 (c : Dev nD) : (dats m 0 c).arrAt 16 (cfgs 0).N = dbi (arg0 m c) (arg1 m c) (arg2 m c) (arg3 m c) (arg4 m c) (arg5 m c) (arg6 m c) (arg7 m c) (arg9 m c) := by
  refine (dats m 0 c).arrAt_eq_of_covers 16 _ (by decide +kernel) fun t hf y => ?_
  have ht : t.val < 8 := t.isLt
  blk_simp
  rw [after0_16, point16]
  blk_ext [col, idx t]

end Cert.RecurrenceInputIdeal.Hand

namespace Cert.RecurrenceInputReferenceIdeal.Hand

open Cert.RecurrenceInputReferenceIdeal Cert.RecurrenceInputReferenceIdeal.Read Idealize.ShloMosaic
open Cert.RecurrenceInputIdeal.Hand

/-- The first rows of the padded input. -/
theorem pad3 (x : S4096x1024.Idx → EReal) (r : Fin 4096) (q : Fin 1024) :
    val_main_v2 (F := Ideal) x (ix2 r q) = Conv.back 3 (xs x q) r := by
  pointwise [val_main_v2, val_main_v1, val_main_v0, val_main_cst]
  by_cases h : 3 ≤ r.val
  · simp only [Conv.back, xs, h, if_true, dif_neg (show ¬ r.val < 3 by omega)]
  · simp only [Conv.back, xs, h, if_false, dif_pos (show r.val < 3 by omega)]

/-- The padded input from its second row. -/
theorem pad2 (x : S4096x1024.Idx → EReal) (r : Fin 4096) (q : Fin 1024) :
    val_main_v8 (F := Ideal) x (ix2 r q) = Conv.back 2 (xs x q) r := by
  pointwise [val_main_v8, val_main_v1, val_main_v0, val_main_cst]
  exact Conv.behind 1 2 rfl (xs x q) r

/-- The padded input from its third row. -/
theorem pad1 (x : S4096x1024.Idx → EReal) (r : Fin 4096) (q : Fin 1024) :
    val_main_v15 (F := Ideal) x (ix2 r q) = Conv.back 1 (xs x q) r := by
  pointwise [val_main_v15, val_main_v1, val_main_v0, val_main_cst]
  exact Conv.behind 2 1 rfl (xs x q) r

/-- The padded input from its fourth row is the input. -/
theorem pad0 (x : S4096x1024.Idx → EReal) (r : Fin 4096) (q : Fin 1024) :
    val_main_v22 (F := Ideal) x (ix2 r q) = xs x q r := by
  pointwise [val_main_v22, val_main_v1, val_main_v0, val_main_cst, xs]

/-- The convolution with its bias. -/
theorem conv (x : S4096x1024.Idx → EReal) (w : S4x1024.Idx → EReal) (b : S1024.Idx → EReal) (r : Fin 4096) (q : Fin 1024) :
    val_main_v31 (F := Ideal) x w b (ix2 r q) = xc x w b q r := by
  pointwise [val_main_v31, val_main_v30, val_main_v29, val_main_v28, val_main_v27, val_main_v26, val_main_v25, val_main_v24, val_main_v23, val_main_v21, val_main_v20, val_main_v19, val_main_v18, val_main_v17, val_main_v16, val_main_v14, val_main_v13, val_main_v12, val_main_v11, val_main_v10, val_main_v9, val_main_v7, val_main_v6, val_main_v5, val_main_v4, val_main_v3, pad3, pad2, pad1, pad0, Conv.conv, xc]
  exact congrArg (· + _) (Conv.reversed _ _ _ _)

/-- The convolution by blocks. -/
theorem block (x : S4096x1024.Idx → EReal) (w : S4x1024.Idx → EReal) (b : S1024.Idx → EReal) (r : Fin 4096) (n : Fin 8) (k : Fin 128) :
    val_main_v32 (F := Ideal) x w b (ix3 r n k) = xc x w b (col n k) r := by
  pointwise [val_main_v32, col_eq, conv]

/-- The recurrence gate. -/
theorem rgate (x : S4096x1024.Idx → EReal) (w : S4x1024.Idx → EReal) (b : S1024.Idx → EReal) (u : S8x128x128.Idx → EReal) (v : S1024.Idx → EReal) (r : Fin 4096) (n : Fin 8) (j : Fin 128) :
    val_main_v44 (F := Ideal) x w b u v (ix2 r (col n j)) = gate x w b u v n j r := by
  pointwise [val_main_v44, val_main_v43, val_main_v42, val_main_v41, val_main_v40, val_main_v39, val_main_v38, val_main_v37, val_main_v36, val_main_v35, val_main_v34, val_main_v33, val_main_cst_0, val_main_cst_1, head_col, lane_col, block, gate, Ideal.logistic, mul_comm]

/-- The input gate. -/
theorem igate (x : S4096x1024.Idx → EReal) (w : S4x1024.Idx → EReal) (b : S1024.Idx → EReal) (u : S8x128x128.Idx → EReal) (v : S1024.Idx → EReal) (r : Fin 4096) (n : Fin 8) (j : Fin 128) :
    val_main_v56 (F := Ideal) x w b u v (ix2 r (col n j)) = gate x w b u v n j r := by
  pointwise [val_main_v56, val_main_v55, val_main_v54, val_main_v53, val_main_v52, val_main_v51, val_main_v50, val_main_v49, val_main_v48, val_main_v47, val_main_v46, val_main_v45, val_main_cst_2, val_main_cst_3, head_col, lane_col, block, gate, Ideal.logistic, mul_comm]

/-- Softplus of the parameter's negative. -/
theorem soft (l : S1024.Idx → EReal) (q : Fin 1024) : val_main_v63 (F := Ideal) l (ix1 q) = Softplus.softplus (-l (ix1 q)) := by
  pointwise [val_main_v63, val_main_v62, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, sub_zero]
  rw [if_neg (not_not.mpr rfl)]
  exact Softplus.value_ref _

variable (x : S4096x1024.Idx → EReal) (w : S4x1024.Idx → EReal) (b : S1024.Idx → EReal) (wr : S8x128x128.Idx → EReal) (br : S1024.Idx → EReal)
  (wi : S8x128x128.Idx → EReal) (bi l : S1024.Idx → EReal) (d : S4096x1024.Idx → EReal)

/-- The gradient of the input gate's argument. -/
theorem grad (r : Fin 4096) (n : Fin 8) (j : Fin 128) :
    val_main_v77 (F := Ideal) x w b wr br wi bi l d (ix2 r (col n j)) = gi x w b wr br wi bi l d n j r := by
  pointwise [val_main_v77, val_main_v76, val_main_v75, val_main_v72, val_main_v71, val_main_v70, val_main_v69, val_main_v68, val_main_v67, val_main_v66, val_main_v65, val_main_v64, val_main_cst_6, val_main_v61, val_main_v60, val_main_v59, val_main_v58, val_main_v57, val_main_cst_4, val_main_cst_5, rgate, igate, conv, soft, gi, root, logDecay, Ideal.expm1]

/-- The reference's gradient of the input gate's weights. -/
theorem eq84 : val_main_v84 (F := Ideal) x w b wr br wi bi l d = dwi x w b wr br wi bi l d := by
  funext i
  idx_vars i
  pointwise [val_main_v84, val_main_v83, val_main_v82, val_main_v81, col_eq, block, grad, dwi, mul_comm]

/-- The reference's gradient of the input gate's bias. -/
theorem eq85 : val_main_v85 (F := Ideal) x w b wr br wi bi l d = dbi x w b wr br wi bi l d := by
  funext i
  idx_vars i
  obtain rfl : i0 = 0 := Subsingleton.elim _ _
  have h : i1 = col ⟨i1.val / 128, by omega⟩ ⟨i1.val % 128, by omega⟩ := Fin.ext (by simp only [col]; omega)
  pointwise [val_main_v85, val_main_v80, val_main_v79, val_main_v78, val_main_cst_7, val_main_cst_8]
  rw [Finset.univ_unique, Finset.sum_singleton]
  refine Finset.sum_congr rfl fun r _ => ?_
  exact (congrArg (fun q => val_main_v77 (F := Ideal) x w b wr br wi bi l d (ix2 r q)) h).trans (grad ..)

end Cert.RecurrenceInputReferenceIdeal.Hand

namespace Cert.Proof

open Idealize.ShloMosaic Idealize.SL.Sem Cert.RecurrenceInputIdeal.Hand

/-- The gradients of the RG-LRU branch's input gate: the program and its reference agree on the extended reals. -/
theorem recurrenceInput_algebraic : Cert.algebraic_RecurrenceInputIdeal_RecurrenceInputReferenceIdeal := by
  intro m g m' g' _ hagree
  refine ⟨fun c => dwi (arg0 m c) (arg1 m c) (arg2 m c) (arg3 m c) (arg4 m c) (arg5 m c) (arg6 m c) (arg7 m c) (arg9 m c), fun c => dbi (arg0 m c) (arg1 m c) (arg2 m c) (arg3 m c) (arg4 m c) (arg5 m c) (arg6 m c) (arg7 m c) (arg9 m c), ?_, ?_⟩
  · refine (θ_run _ _ _).mono (fun r h c => ?_) (Cert.RecurrenceInputIdeal.Value.run_blocks m g)
    obtain ⟨_, _, _, _, _, h0, h1, _, hk⟩ := h c
    exact ⟨h0.trans (final15 m c), h1.trans (final16 m c), hk⟩
  · refine (θ_run _ _ _).mono (fun r h c => ?_) (Cert.RecurrenceInputReferenceIdeal.Value.run m' g')
    obtain ⟨h0, h1, hk⟩ := h c
    obtain ⟨a0, a1, a2, a3, a4, a5, a6, a7, _, a9⟩ := hagree c
    refine ⟨h0.trans ?_, h1.trans ?_, hk⟩
    · rw [Cert.RecurrenceInputReferenceIdeal.Read.val_main_v84_eq, Cert.RecurrenceInputReferenceIdeal.Hand.eq84, a0, a1, a2, a3, a4, a5, a6, a7, a9]
    · rw [Cert.RecurrenceInputReferenceIdeal.Read.val_main_v85_eq, Cert.RecurrenceInputReferenceIdeal.Hand.eq85, a0, a1, a2, a3, a4, a5, a6, a7, a9]

/-- The reference runs to its end, keeps its arguments and uses no semaphore. -/
theorem recurrenceInput_reference_frame : Cert.quiescent_RecurrenceInputReferenceIdeal := fun m ρ _ =>
  (θ_run Cert.RecurrenceInputReferenceIdeal.defs _ _).mono (fun r h => ⟨fun c => (h c).2.2, sem_eq_zero_of_no_sems (by decide) r.2⟩)
    (Cert.RecurrenceInputReferenceIdeal.Value.run (F := Ideal) m ρ)

end Cert.Proof

end
-- ==== Proof.lean ====
/- The proof of the claims of `proof/Defs.lean`. -/
module

public import proofs.«01_k».proof.Defs
public import proofs.«01_k».proof.Proof.Gen.Kernel.Frame
public import proofs.«01_k».proof.Proof.Gen.BranchOut.Frame
public import proofs.«01_k».proof.Proof.Gen.BranchWeight.Frame
public import proofs.«01_k».proof.Proof.Gen.GateWeight.Frame
public import proofs.«01_k».proof.Proof.Gen.GateInput.Frame
public import proofs.«01_k».proof.Proof.Gen.OutWeight.Frame
public import proofs.«01_k».proof.Proof.Gen.MergedGradient.Frame
public import proofs.«01_k».proof.Proof.Gen.OutProjection.Frame
public import proofs.«01_k».proof.Proof.Gen.InProjection.Frame
public import proofs.«01_k».proof.Proof.Gen.InWeight.Frame
public import proofs.«01_k».proof.Proof.Gen.HiddenGradient.Frame
public import proofs.«01_k».proof.Proof.Gen.MemoryKeys.Frame
public import proofs.«01_k».proof.Proof.Gen.MemoryWeight.Frame
public import proofs.«01_k».proof.Proof.Gen.MemoryGradient.Frame
public import proofs.«01_k».proof.Proof.Gen.Glu.Frame
public import proofs.«01_k».proof.Proof.Gen.GluWeight.Frame
public import proofs.«01_k».proof.Proof.Gen.GluInput.Frame
public import proofs.«01_k».proof.Proof.Gen.GluGate.Frame
public import proofs.«01_k».proof.Proof.Gen.SkipGelu.Frame
public import proofs.«01_k».proof.Proof.Gen.RecurrenceGate.Frame
public import proofs.«01_k».proof.Proof.Gen.DeltaOutput.Frame
public import proofs.«01_k».proof.Proof.Gen.NormGradient.Frame
public import proofs.«01_k».proof.Proof.Gen.MemoryNorm.Frame
public import proofs.«01_k».proof.Proof.Gen.MergeForward.Frame
public import proofs.«01_k».proof.Proof.Gen.LossHead.Frame
public import proofs.«01_k».proof.Proof.Gen.DeltaGates.Frame
public import proofs.«01_k».proof.Proof.Gen.DeltaKeys.Frame
public import proofs.«01_k».proof.Proof.Gen.DeltaValues.Frame
public import proofs.«01_k».proof.Proof.Gen.Discretise.Frame
public import proofs.«01_k».proof.Proof.Gen.AdamIn.Frame
public import proofs.«01_k».proof.Proof.Gen.AdamDeltaConv.Frame
public import proofs.«01_k».proof.Proof.Gen.AdamRecurrenceConv.Frame
public import proofs.«01_k».proof.Proof.Gen.AdamGlu.Frame
public import proofs.«01_k».proof.Proof.Gen.AdamMemory.Frame
public import proofs.«01_k».proof.Proof.Gen.AdamGate.Frame
public import proofs.«01_k».proof.Proof.Gen.AdamGateBias.Frame
public import proofs.«01_k».proof.Proof.Gen.AdamBranch.Frame
public import proofs.«01_k».proof.Proof.Gen.AdamOut.Frame
public import proofs.«01_k».proof.Proof.Gen.AdamRest.Frame
public import proofs.«01_k».proof.Proof.Gen.StateWeight.Frame
public import proofs.«01_k».proof.Proof.Gen.RecurrenceInput.Frame
public import proofs.«01_k».proof.Proof.MergeGradient
public import proofs.«01_k».proof.Proof.BranchOut
public import proofs.«01_k».proof.Proof.BranchWeight
public import proofs.«01_k».proof.Proof.GateWeight
public import proofs.«01_k».proof.Proof.GateInput
public import proofs.«01_k».proof.Proof.OutWeight
public import proofs.«01_k».proof.Proof.MergedGradient
public import proofs.«01_k».proof.Proof.OutProjection
public import proofs.«01_k».proof.Proof.InProjection
public import proofs.«01_k».proof.Proof.InWeight
public import proofs.«01_k».proof.Proof.HiddenGradient
public import proofs.«01_k».proof.Proof.MemoryKeys
public import proofs.«01_k».proof.Proof.MemoryWeight
public import proofs.«01_k».proof.Proof.MemoryGradient
public import proofs.«01_k».proof.Proof.Glu
public import proofs.«01_k».proof.Proof.GluWeight
public import proofs.«01_k».proof.Proof.GluInput
public import proofs.«01_k».proof.Proof.GluGate
public import proofs.«01_k».proof.Proof.SkipGelu
public import proofs.«01_k».proof.Proof.RecurrenceGate
public import proofs.«01_k».proof.Proof.DeltaOutput
public import proofs.«01_k».proof.Proof.NormGradient
public import proofs.«01_k».proof.Proof.MemoryNorm
public import proofs.«01_k».proof.Proof.MergeForward
public import proofs.«01_k».proof.Proof.LossHead
public import proofs.«01_k».proof.Proof.DeltaGates
public import proofs.«01_k».proof.Proof.DeltaKeys
public import proofs.«01_k».proof.Proof.DeltaValues
public import proofs.«01_k».proof.Proof.Discretise
public import proofs.«01_k».proof.Proof.AdamIn
public import proofs.«01_k».proof.Proof.AdamDeltaConv
public import proofs.«01_k».proof.Proof.AdamRecurrenceConv
public import proofs.«01_k».proof.Proof.AdamGlu
public import proofs.«01_k».proof.Proof.AdamMemory
public import proofs.«01_k».proof.Proof.AdamGate
public import proofs.«01_k».proof.Proof.AdamGateBias
public import proofs.«01_k».proof.Proof.AdamBranch
public import proofs.«01_k».proof.Proof.AdamOut
public import proofs.«01_k».proof.Proof.AdamRest
public import proofs.«01_k».proof.Proof.StateWeight
public import proofs.«01_k».proof.Proof.RecurrenceInput
public import Idealize.ShloMosaic.Adequacy
public import Idealize.ShloMosaic.Init

@[expose] public section

noncomputable section

namespace Cert.Proof

open Idealize.ShloMosaic Idealize.SL.Sem

/-- For each program: the frames of its three readings, its ideal reading, and the equality of the results. -/
theorem claim : Cert.Claim := ⟨
  Cert.Kernel.Gen.facts,
  Cert.KernelIdeal.Gen.facts,
  Cert.ReferenceIdeal.Gen.facts,
  Cert.BranchOut.Gen.facts,
  Cert.BranchOutIdeal.Gen.facts,
  Cert.BranchOutReferenceIdeal.Gen.facts,
  Cert.BranchWeight.Gen.facts,
  Cert.BranchWeightIdeal.Gen.facts,
  Cert.BranchWeightReferenceIdeal.Gen.facts,
  Cert.GateWeight.Gen.facts,
  Cert.GateWeightIdeal.Gen.facts,
  Cert.GateWeightReferenceIdeal.Gen.facts,
  Cert.GateInput.Gen.facts,
  Cert.GateInputIdeal.Gen.facts,
  Cert.GateInputReferenceIdeal.Gen.facts,
  Cert.OutWeight.Gen.facts,
  Cert.OutWeightIdeal.Gen.facts,
  Cert.OutWeightReferenceIdeal.Gen.facts,
  Cert.MergedGradient.Gen.facts,
  Cert.MergedGradientIdeal.Gen.facts,
  Cert.MergedGradientReferenceIdeal.Gen.facts,
  Cert.OutProjection.Gen.facts,
  Cert.OutProjectionIdeal.Gen.facts,
  Cert.OutProjectionReferenceIdeal.Gen.facts,
  Cert.InProjection.Gen.facts,
  Cert.InProjectionIdeal.Gen.facts,
  Cert.InProjectionReferenceIdeal.Gen.facts,
  Cert.InWeight.Gen.facts,
  Cert.InWeightIdeal.Gen.facts,
  Cert.InWeightReferenceIdeal.Gen.facts,
  Cert.HiddenGradient.Gen.facts,
  Cert.HiddenGradientIdeal.Gen.facts,
  Cert.HiddenGradientReferenceIdeal.Gen.facts,
  Cert.MemoryKeys.Gen.facts,
  Cert.MemoryKeysIdeal.Gen.facts,
  Cert.MemoryKeysReferenceIdeal.Gen.facts,
  Cert.MemoryWeight.Gen.facts,
  Cert.MemoryWeightIdeal.Gen.facts,
  Cert.MemoryWeightReferenceIdeal.Gen.facts,
  Cert.MemoryGradient.Gen.facts,
  Cert.MemoryGradientIdeal.Gen.facts,
  Cert.MemoryGradientReferenceIdeal.Gen.facts,
  Cert.Glu.Gen.facts,
  Cert.GluIdeal.Gen.facts,
  Cert.GluReferenceIdeal.Gen.facts,
  Cert.GluWeight.Gen.facts,
  Cert.GluWeightIdeal.Gen.facts,
  Cert.GluWeightReferenceIdeal.Gen.facts,
  Cert.GluInput.Gen.facts,
  Cert.GluInputIdeal.Gen.facts,
  Cert.GluInputReferenceIdeal.Gen.facts,
  Cert.GluGate.Gen.facts,
  Cert.GluGateIdeal.Gen.facts,
  Cert.GluGateReferenceIdeal.Gen.facts,
  Cert.SkipGelu.Gen.facts,
  Cert.SkipGeluIdeal.Gen.facts,
  Cert.SkipGeluReferenceIdeal.Gen.facts,
  Cert.RecurrenceGate.Gen.facts,
  Cert.RecurrenceGateIdeal.Gen.facts,
  Cert.RecurrenceGateReferenceIdeal.Gen.facts,
  Cert.DeltaOutput.Gen.facts,
  Cert.DeltaOutputIdeal.Gen.facts,
  Cert.DeltaOutputReferenceIdeal.Gen.facts,
  Cert.NormGradient.Gen.facts,
  Cert.NormGradientIdeal.Gen.facts,
  Cert.NormGradientReferenceIdeal.Gen.facts,
  Cert.MemoryNorm.Gen.facts,
  Cert.MemoryNormIdeal.Gen.facts,
  Cert.MemoryNormReferenceIdeal.Gen.facts,
  Cert.MergeForward.Gen.facts,
  Cert.MergeForwardIdeal.Gen.facts,
  Cert.MergeForwardReferenceIdeal.Gen.facts,
  Cert.LossHead.Gen.facts,
  Cert.LossHeadIdeal.Gen.facts,
  Cert.LossHeadReferenceIdeal.Gen.facts,
  Cert.DeltaGates.Gen.facts,
  Cert.DeltaGatesIdeal.Gen.facts,
  Cert.DeltaGatesReferenceIdeal.Gen.facts,
  Cert.DeltaKeys.Gen.facts,
  Cert.DeltaKeysIdeal.Gen.facts,
  Cert.DeltaKeysReferenceIdeal.Gen.facts,
  Cert.DeltaValues.Gen.facts,
  Cert.DeltaValuesIdeal.Gen.facts,
  Cert.DeltaValuesReferenceIdeal.Gen.facts,
  Cert.Discretise.Gen.facts,
  Cert.DiscretiseIdeal.Gen.facts,
  Cert.DiscretiseReferenceIdeal.Gen.facts,
  Cert.AdamIn.Gen.facts,
  Cert.AdamInIdeal.Gen.facts,
  Cert.AdamInReferenceIdeal.Gen.facts,
  Cert.AdamDeltaConv.Gen.facts,
  Cert.AdamDeltaConvIdeal.Gen.facts,
  Cert.AdamDeltaConvReferenceIdeal.Gen.facts,
  Cert.AdamRecurrenceConv.Gen.facts,
  Cert.AdamRecurrenceConvIdeal.Gen.facts,
  Cert.AdamRecurrenceConvReferenceIdeal.Gen.facts,
  Cert.AdamGlu.Gen.facts,
  Cert.AdamGluIdeal.Gen.facts,
  Cert.AdamGluReferenceIdeal.Gen.facts,
  Cert.AdamMemory.Gen.facts,
  Cert.AdamMemoryIdeal.Gen.facts,
  Cert.AdamMemoryReferenceIdeal.Gen.facts,
  Cert.AdamGate.Gen.facts,
  Cert.AdamGateIdeal.Gen.facts,
  Cert.AdamGateReferenceIdeal.Gen.facts,
  Cert.AdamGateBias.Gen.facts,
  Cert.AdamGateBiasIdeal.Gen.facts,
  Cert.AdamGateBiasReferenceIdeal.Gen.facts,
  Cert.AdamBranch.Gen.facts,
  Cert.AdamBranchIdeal.Gen.facts,
  Cert.AdamBranchReferenceIdeal.Gen.facts,
  Cert.AdamOut.Gen.facts,
  Cert.AdamOutIdeal.Gen.facts,
  Cert.AdamOutReferenceIdeal.Gen.facts,
  Cert.AdamRest.Gen.facts,
  Cert.AdamRestIdeal.Gen.facts,
  Cert.AdamRestReferenceIdeal.Gen.facts,
  Cert.StateWeight.Gen.facts,
  Cert.StateWeightIdeal.Gen.facts,
  Cert.StateWeightReferenceIdeal.Gen.facts,
  Cert.RecurrenceInput.Gen.facts,
  Cert.RecurrenceInputIdeal.Gen.facts,
  Cert.RecurrenceInputReferenceIdeal.Gen.facts,
  fun m ρ _ => Cert.Kernel.Gen.frame m ρ,
  fun m ρ _ => Cert.KernelIdeal.Gen.frame m ρ,
  merge_reference_frame,
  fun m ρ _ => Cert.BranchOut.Gen.frame m ρ,
  fun m ρ _ => Cert.BranchOutIdeal.Gen.frame m ρ,
  branchOut_reference_frame,
  fun m ρ _ => Cert.BranchWeight.Gen.frame m ρ,
  fun m ρ _ => Cert.BranchWeightIdeal.Gen.frame m ρ,
  branchWeight_reference_frame,
  fun m ρ _ => Cert.GateWeight.Gen.frame m ρ,
  fun m ρ _ => Cert.GateWeightIdeal.Gen.frame m ρ,
  gateWeight_reference_frame,
  fun m ρ _ => Cert.GateInput.Gen.frame m ρ,
  fun m ρ _ => Cert.GateInputIdeal.Gen.frame m ρ,
  gateInput_reference_frame,
  fun m ρ _ => Cert.OutWeight.Gen.frame m ρ,
  fun m ρ _ => Cert.OutWeightIdeal.Gen.frame m ρ,
  outWeight_reference_frame,
  fun m ρ _ => Cert.MergedGradient.Gen.frame m ρ,
  fun m ρ _ => Cert.MergedGradientIdeal.Gen.frame m ρ,
  mergedGradient_reference_frame,
  fun m ρ _ => Cert.OutProjection.Gen.frame m ρ,
  fun m ρ _ => Cert.OutProjectionIdeal.Gen.frame m ρ,
  outProjection_reference_frame,
  fun m ρ _ => Cert.InProjection.Gen.frame m ρ,
  fun m ρ _ => Cert.InProjectionIdeal.Gen.frame m ρ,
  inProjection_reference_frame,
  fun m ρ _ => Cert.InWeight.Gen.frame m ρ,
  fun m ρ _ => Cert.InWeightIdeal.Gen.frame m ρ,
  inWeight_reference_frame,
  fun m ρ _ => Cert.HiddenGradient.Gen.frame m ρ,
  fun m ρ _ => Cert.HiddenGradientIdeal.Gen.frame m ρ,
  hiddenGradient_reference_frame,
  fun m ρ _ => Cert.MemoryKeys.Gen.frame m ρ,
  fun m ρ _ => Cert.MemoryKeysIdeal.Gen.frame m ρ,
  memoryKeys_reference_frame,
  fun m ρ _ => Cert.MemoryWeight.Gen.frame m ρ,
  fun m ρ _ => Cert.MemoryWeightIdeal.Gen.frame m ρ,
  memoryWeight_reference_frame,
  fun m ρ _ => Cert.MemoryGradient.Gen.frame m ρ,
  fun m ρ _ => Cert.MemoryGradientIdeal.Gen.frame m ρ,
  memoryGradient_reference_frame,
  fun m ρ _ => Cert.Glu.Gen.frame m ρ,
  fun m ρ _ => Cert.GluIdeal.Gen.frame m ρ,
  glu_reference_frame,
  fun m ρ _ => Cert.GluWeight.Gen.frame m ρ,
  fun m ρ _ => Cert.GluWeightIdeal.Gen.frame m ρ,
  gluWeight_reference_frame,
  fun m ρ _ => Cert.GluInput.Gen.frame m ρ,
  fun m ρ _ => Cert.GluInputIdeal.Gen.frame m ρ,
  gluInput_reference_frame,
  fun m ρ _ => Cert.GluGate.Gen.frame m ρ,
  fun m ρ _ => Cert.GluGateIdeal.Gen.frame m ρ,
  gluGate_reference_frame,
  fun m ρ _ => Cert.SkipGelu.Gen.frame m ρ,
  fun m ρ _ => Cert.SkipGeluIdeal.Gen.frame m ρ,
  skipGelu_reference_frame,
  fun m ρ _ => Cert.RecurrenceGate.Gen.frame m ρ,
  fun m ρ _ => Cert.RecurrenceGateIdeal.Gen.frame m ρ,
  recurrenceGate_reference_frame,
  fun m ρ _ => Cert.DeltaOutput.Gen.frame m ρ,
  fun m ρ _ => Cert.DeltaOutputIdeal.Gen.frame m ρ,
  deltaOutput_reference_frame,
  fun m ρ _ => Cert.NormGradient.Gen.frame m ρ,
  fun m ρ _ => Cert.NormGradientIdeal.Gen.frame m ρ,
  normGradient_reference_frame,
  fun m ρ _ => Cert.MemoryNorm.Gen.frame m ρ,
  fun m ρ _ => Cert.MemoryNormIdeal.Gen.frame m ρ,
  memoryNorm_reference_frame,
  fun m ρ _ => Cert.MergeForward.Gen.frame m ρ,
  fun m ρ _ => Cert.MergeForwardIdeal.Gen.frame m ρ,
  mergeForward_reference_frame,
  fun m ρ _ => Cert.LossHead.Gen.frame m ρ,
  fun m ρ _ => Cert.LossHeadIdeal.Gen.frame m ρ,
  lossHead_reference_frame,
  fun m ρ _ => Cert.DeltaGates.Gen.frame m ρ,
  fun m ρ _ => Cert.DeltaGatesIdeal.Gen.frame m ρ,
  deltaGates_reference_frame,
  fun m ρ _ => Cert.DeltaKeys.Gen.frame m ρ,
  fun m ρ _ => Cert.DeltaKeysIdeal.Gen.frame m ρ,
  deltaKeys_reference_frame,
  fun m ρ _ => Cert.DeltaValues.Gen.frame m ρ,
  fun m ρ _ => Cert.DeltaValuesIdeal.Gen.frame m ρ,
  deltaValues_reference_frame,
  fun m ρ _ => Cert.Discretise.Gen.frame m ρ,
  fun m ρ _ => Cert.DiscretiseIdeal.Gen.frame m ρ,
  discretise_reference_frame,
  fun m ρ _ => Cert.AdamIn.Gen.frame m ρ,
  fun m ρ _ => Cert.AdamInIdeal.Gen.frame m ρ,
  adamIn_reference_frame,
  fun m ρ _ => Cert.AdamDeltaConv.Gen.frame m ρ,
  fun m ρ _ => Cert.AdamDeltaConvIdeal.Gen.frame m ρ,
  adamDeltaConv_reference_frame,
  fun m ρ _ => Cert.AdamRecurrenceConv.Gen.frame m ρ,
  fun m ρ _ => Cert.AdamRecurrenceConvIdeal.Gen.frame m ρ,
  adamRecurrenceConv_reference_frame,
  fun m ρ _ => Cert.AdamGlu.Gen.frame m ρ,
  fun m ρ _ => Cert.AdamGluIdeal.Gen.frame m ρ,
  adamGlu_reference_frame,
  fun m ρ _ => Cert.AdamMemory.Gen.frame m ρ,
  fun m ρ _ => Cert.AdamMemoryIdeal.Gen.frame m ρ,
  adamMemory_reference_frame,
  fun m ρ _ => Cert.AdamGate.Gen.frame m ρ,
  fun m ρ _ => Cert.AdamGateIdeal.Gen.frame m ρ,
  adamGate_reference_frame,
  fun m ρ _ => Cert.AdamGateBias.Gen.frame m ρ,
  fun m ρ _ => Cert.AdamGateBiasIdeal.Gen.frame m ρ,
  adamGateBias_reference_frame,
  fun m ρ _ => Cert.AdamBranch.Gen.frame m ρ,
  fun m ρ _ => Cert.AdamBranchIdeal.Gen.frame m ρ,
  adamBranch_reference_frame,
  fun m ρ _ => Cert.AdamOut.Gen.frame m ρ,
  fun m ρ _ => Cert.AdamOutIdeal.Gen.frame m ρ,
  adamOut_reference_frame,
  fun m ρ _ => Cert.AdamRest.Gen.frame m ρ,
  fun m ρ _ => Cert.AdamRestIdeal.Gen.frame m ρ,
  adamRest_reference_frame,
  fun m ρ _ => Cert.StateWeight.Gen.frame m ρ,
  fun m ρ _ => Cert.StateWeightIdeal.Gen.frame m ρ,
  stateWeight_reference_frame,
  fun m ρ _ => Cert.RecurrenceInput.Gen.frame m ρ,
  fun m ρ _ => Cert.RecurrenceInputIdeal.Gen.frame m ρ,
  recurrenceInput_reference_frame,
  trivial,
  merge_algebraic,
  trivial,
  branchOut_algebraic,
  trivial,
  branchWeight_algebraic,
  trivial,
  gateWeight_algebraic,
  trivial,
  gateInput_algebraic,
  trivial,
  outWeight_algebraic,
  trivial,
  mergedGradient_algebraic,
  trivial,
  outProjection_algebraic,
  trivial,
  inProjection_algebraic,
  trivial,
  inWeight_algebraic,
  trivial,
  hiddenGradient_algebraic,
  trivial,
  memoryKeys_algebraic,
  trivial,
  memoryWeight_algebraic,
  trivial,
  memoryGradient_algebraic,
  trivial,
  glu_algebraic,
  trivial,
  gluWeight_algebraic,
  trivial,
  gluInput_algebraic,
  trivial,
  gluGate_algebraic,
  trivial,
  skipGelu_algebraic,
  trivial,
  recurrenceGate_algebraic,
  trivial,
  deltaOutput_algebraic,
  trivial,
  normGradient_algebraic,
  trivial,
  memoryNorm_algebraic,
  trivial,
  mergeForward_algebraic,
  trivial,
  lossHead_algebraic,
  trivial,
  deltaGates_algebraic,
  trivial,
  deltaKeys_algebraic,
  trivial,
  deltaValues_algebraic,
  trivial,
  discretise_algebraic,
  trivial,
  adamIn_algebraic,
  trivial,
  adamDeltaConv_algebraic,
  trivial,
  adamRecurrenceConv_algebraic,
  trivial,
  adamGlu_algebraic,
  trivial,
  adamMemory_algebraic,
  trivial,
  adamGate_algebraic,
  trivial,
  adamGateBias_algebraic,
  trivial,
  adamBranch_algebraic,
  trivial,
  adamOut_algebraic,
  trivial,
  adamRest_algebraic,
  trivial,
  stateWeight_algebraic,
  trivial,
  recurrenceInput_algebraic⟩

end Cert.Proof

end
